-- ==== Defs.lean ====
def Pre_Kernel (m : (ℓ : Loc Cert.Kernel.nD Cert.Kernel.τ Cert.Kernel.sig) → Buf (Elt Bits) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11))
      ∧ r.2.sem = fun _ => 0)

def preserves_Proj_ProjIdeal : Prop :=
  IdealRules.bf16_pair.BufferStatement Cert.ProjIdeal.S32768x2x1024 Cert.ProjIdeal.S32768x1x1024
  ∧ IdealRules.bf16_pair.BufferStatement Cert.ProjIdeal.S32768x2x512 Cert.ProjIdeal.S32768x1x512
  ∧ IdealRules.bf16_pair.BufferStatement Cert.ProjIdeal.S512x2x1024 Cert.ProjIdeal.S512x1x1024
  ∧ IdealRules.bf16_pair.BufferStatement Cert.ProjIdeal.S512x2x512 Cert.ProjIdeal.S512x1x512
  ∧ IdealRules.bf16_pair.Statement Cert.ProjIdeal.S1024x1024 Cert.ProjIdeal.S512x1024
  ∧ IdealRules.bf16_pair.Statement Cert.ProjIdeal.S512x2x1024 Cert.ProjIdeal.S512x1x1024
  ∧ IdealRules.bf16_pair.Statement Cert.ProjIdeal.S1024x512 Cert.ProjIdeal.S512x512
  ∧ IdealRules.bf16_pair.Statement Cert.ProjIdeal.S512x2x512 Cert.ProjIdeal.S512x1x512

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v52)) (v1 : (c : Dev Cert.ProjIdeal.nD) → Buf (Elt Ideal) ((c.tc : Thread Cert.ProjIdeal.nD Cert.ProjIdeal.τ).loc Cert.ProjIdeal.main_v53)) (v2 : (c : Dev Cert.ProjIdeal.nD) → Buf (Elt Ideal) ((c.tc : Thread Cert.ProjIdeal.nD Cert.ProjIdeal.τ).loc Cert.ProjIdeal.main_v63)) (v3 : (c : Dev Cert.ProjIdeal.nD) → Buf (Elt Ideal) ((c.tc : Thread Cert.ProjIdeal.nD Cert.ProjIdeal.τ).loc Cert.ProjIdeal.main_v42_3)) (v4 : (c : Dev Cert.ProjIdeal.nD) → Buf (Elt Ideal) ((c.tc : Thread Cert.ProjIdeal.nD Cert.ProjIdeal.τ).loc Cert.ProjIdeal.main_v42_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v52) = v0 c
          ∧ r.2.mem ((c.tc : Thread Cert.ProjIdeal.nD Cert.ProjIdeal.τ).loc Cert.ProjIdeal.main_v53) = v1 c
          ∧ r.2.mem ((c.tc : Thread Cert.ProjIdeal.nD Cert.ProjIdeal.τ).loc Cert.ProjIdeal.main_v63) = v2 c
          ∧ r.2.mem ((c.tc : Thread Cert.ProjIdeal.nD Cert.ProjIdeal.τ).loc Cert.ProjIdeal.main_v42_3) = v3 c
          ∧ r.2.mem ((c.tc : Thread Cert.ProjIdeal.nD Cert.ProjIdeal.τ).loc Cert.ProjIdeal.main_v42_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v139) = v0 c
          ∧ r.2.mem ((c.tc : Thread Cert.ProjRefIdeal.nD Cert.ProjRefIdeal.τ).loc Cert.ProjRefIdeal.main_v141) = v1 c
          ∧ r.2.mem ((c.tc : Thread Cert.ProjRefIdeal.nD Cert.ProjRefIdeal.τ).loc Cert.ProjRefIdeal.main_v143) = v2 c
          ∧ r.2.mem ((c.tc : Thread Cert.ProjRefIdeal.nD Cert.ProjRefIdeal.τ).loc Cert.ProjRefIdeal.main_v145) = v3 c
          ∧ r.2.mem ((c.tc : Thread Cert.ProjRefIdeal.nD Cert.ProjRefIdeal.τ).loc Cert.ProjRefIdeal.main_v147) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Tail_TailIdeal : Prop :=
  IdealRules.bf16_pair.BufferStatement Cert.TailIdeal.S32768x2x512 Cert.TailIdeal.S32768x1x512
  ∧ IdealRules.bf16_pair.BufferStatement Cert.TailIdeal.S512x2x512 Cert.TailIdeal.S512x1x512
  ∧ IdealRules.bf16_pair.Statement Cert.TailIdeal.S1024x512 Cert.TailIdeal.S512x512
  ∧ IdealRules.bf16_pair.Statement Cert.TailIdeal.S512x2x512 Cert.TailIdeal.S512x1x512

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)) →
    ∃ (v0 : (c : Dev Cert.TailIdeal.nD) → Buf (Elt Ideal) ((c.tc : Thread Cert.TailIdeal.nD Cert.TailIdeal.τ).loc Cert.TailIdeal.main_v18)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v18) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v68) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11))

def Claim : Prop :=
  ∃ (hKernel : Cert.Kernel.Facts) (hProj : Cert.Proj.Facts) (hProjIdeal : Cert.ProjIdeal.Facts) (hProjRefIdeal : Cert.ProjRefIdeal.Facts) (hTail : Cert.Tail.Facts) (hTailIdeal : Cert.TailIdeal.Facts) (hTailRefIdeal : Cert.TailRefIdeal.Facts),
    quiescent_Kernel (hKernel := hKernel)
    ∧ quiescent_Proj (hProj := hProj)
    ∧ quiescent_ProjIdeal (hProjIdeal := hProjIdeal)
    ∧ quiescent_ProjRefIdeal (hProjRefIdeal := hProjRefIdeal)
    ∧ quiescent_Tail (hTail := hTail)
    ∧ quiescent_TailIdeal (hTailIdeal := hTailIdeal)
    ∧ quiescent_TailRefIdeal (hTailRefIdeal := hTailRefIdeal)
    ∧ preserves_Proj_ProjIdeal
    ∧ algebraic_ProjIdeal_ProjRefIdeal (hProjIdeal := hProjIdeal) (hProjRefIdeal := hProjRefIdeal)
    ∧ preserves_Tail_TailIdeal
    ∧ algebraic_TailIdeal_TailRefIdeal (hTailIdeal := hTailIdeal) (hTailRefIdeal := hTailRefIdeal)
-- ==== Kernel.lean ====
abbrev S32768x1024 : Shape := ⟨2, ![32768, 1024]⟩
abbrev S32768x512 : Shape := ⟨2, ![32768, 512]⟩
abbrev S1024x128 : Shape := ⟨2, ![1024, 128]⟩
abbrev S6x2048x128 : Shape := ⟨3, ![6, 2048, 128]⟩
abbrev S5x1024x128 : Shape := ⟨3, ![5, 1024, 128]⟩
abbrev S3x128x256 : Shape := ⟨3, ![3, 128, 256]⟩
abbrev S2x8x128x256 : Shape := ⟨4, ![2, 8, 128, 256]⟩
abbrev S2x4x128x128 : Shape := ⟨4, ![2, 4, 128, 128]⟩
abbrev S1x128 : Shape := ⟨2, ![1, 128]⟩
abbrev S128x256 : Shape := ⟨2, ![128, 256]⟩
abbrev S1x128x256 : Shape := ⟨3, ![1, 128, 256]⟩
abbrev S64x128 : Shape := ⟨2, ![64, 128]⟩
abbrev S128x128 : Shape := ⟨2, ![128, 128]⟩
abbrev S256x128 : Shape := ⟨2, ![256, 128]⟩
abbrev S256x256 : Shape := ⟨2, ![256, 256]⟩
abbrev S1x1x128x256 : Shape := ⟨4, ![1, 1, 128, 256]⟩
abbrev S128 : Shape := ⟨1, ![128]⟩
abbrev S128x1 : Shape := ⟨2, ![128, 1]⟩
abbrev S1x1x128x128 : Shape := ⟨4, ![1, 1, 128, 128]⟩
abbrev S1x64x128 : Shape := ⟨3, ![1, 64, 128]⟩
abbrev S1x128x128 : Shape := ⟨3, ![1, 128, 128]⟩

abbrev nBuf : Space → Nat
  | .hbm => 4
  | .vmem => 19
  | .smem => 0
  | _ => 0

abbrev bufTy : (tb : Table) → Fin (tcTables nBuf tb) → BufTy
  | .hbm, ⟨0, _⟩ => ⟨S32768x1024, .i32⟩
  | .hbm, ⟨1, _⟩ => ⟨S32768x512, .i32⟩
  | .hbm, ⟨2, _⟩ => ⟨S32768x1024, .i32⟩
  | .hbm, ⟨3, _⟩ => ⟨S32768x512, .i32⟩
  | .local _ .vmem, ⟨0, _⟩ => ⟨S1024x128, .i32⟩
  | .local _ .vmem, ⟨1, _⟩ => ⟨S1024x128, .i32⟩
  | .local _ .vmem, ⟨2, _⟩ => ⟨S1024x128, .i32⟩
  | .local _ .vmem, ⟨3, _⟩ => ⟨S1024x128, .i32⟩
  | .local _ .vmem, ⟨4, _⟩ => ⟨S1024x128, .i32⟩
  | .local _ .vmem, ⟨5, _⟩ => ⟨S1024x128, .i32⟩
  | .local _ .vmem, ⟨6, _⟩ => ⟨S1024x128, .i32⟩
  | .local _ .vmem, ⟨7, _⟩ => ⟨S1024x128, .i32⟩
  | .local _ .vmem, ⟨8, _⟩ => ⟨S1024x128, .i32⟩
  | .local _ .vmem, ⟨9, _⟩ => ⟨S1024x128, .i32⟩
  | .local _ .vmem, ⟨10, _⟩ => ⟨S1024x128, .i32⟩
  | .local _ .vmem, ⟨11, _⟩ => ⟨S1024x128, .i32⟩
  | .local _ .vmem, ⟨12, _⟩ => ⟨S6x2048x128, .f32⟩
  | .local _ .vmem, ⟨13, _⟩ => ⟨S5x1024x128, .i32⟩
  | .local _ .vmem, ⟨14, _⟩ => ⟨S5x1024x128, .i32⟩
  | .local _ .vmem, ⟨15, _⟩ => ⟨S3x128x256, .f32⟩
  | .local _ .vmem, ⟨16, _⟩ => ⟨S2x8x128x256, .f32⟩
  | .local _ .vmem, ⟨17, _⟩ => ⟨S2x8x128x256, .bf16⟩
  | .local _ .vmem, ⟨18, _⟩ => ⟨S2x4x128x128, .f32⟩
  | _, _ => ⟨S32768x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![32, 4], ![false, false]⟩

def k0_mult1 : BitVec 32 :=
  let c0_i32_15 : BitVec 32 := 0#32
  c0_i32_15
def k0_mult2 : BitVec 32 :=
  let c0_i32_17 : BitVec 32 := 0#32
  let c1792_i32 : BitVec 32 := 1792#32
  let c0_i32_16 : BitVec 32 := 0#32
  let c_m64_i32 : BitVec 32 := 4294967232#32
  let v40 : BitVec 32 := Scalar.maxsi c0_i32_16 c_m64_i32
  let v41 : BitVec 32 := Scalar.minsi c1792_i32 v40
  let v42 : BitVec 32 := Scalar.addi c0_i32_17 v41
  v42
def k0_off1 (c0_i32_18 : BitVec 32) (c1792_i32 : BitVec 32) (c_m64_i32 : BitVec 32) : Fin 3 → Nat :=
  let c0_i32_16 : BitVec 32 := 0#32
  let v40 : BitVec 32 := Scalar.maxsi c0_i32_16 c_m64_i32
  let v41 : BitVec 32 := Scalar.minsi c1792_i32 v40
  let v44 : BitVec 32 := Scalar.subi c0_i32_18 v41
  let c0_i32_20 : BitVec 32 := 0#32
  let v46 : BitVec 1 := Scalar.cmpi .sgt v44 c0_i32_20
  let v47 : BitVec 32 := Scalar.extui v46
  let c0_i32_21 : BitVec 32 := 0#32
  let v48 : BitVec 1 := Scalar.cmpi .slt v44 c0_i32_21
  let v49 : BitVec 32 := Scalar.extui v48
  let v50 : BitVec 32 := Scalar.subi v47 v49
  let c64_i32_19 : BitVec 32 := 64#32
  let c0_i32_22 : BitVec 32 := 0#32
  let v51 : BitVec 1 := Scalar.cmpi .sgt c64_i32_19 c0_i32_22
  let v52 : BitVec 32 := Scalar.extui v51
  let c0_i32_23 : BitVec 32 := 0#32
  let v53 : BitVec 1 := Scalar.cmpi .slt c64_i32_19 c0_i32_23
  let v54 : BitVec 32 := Scalar.extui v53
  let v55 : BitVec 32 := Scalar.subi v52 v54
  let v56 : BitVec 1 := Scalar.cmpi .ne v50 v55
  let v57 : BitVec 32 := Scalar.remsi v44 c64_i32_19
  let c0_i32_24 : BitVec 32 := 0#32
  let v58 : BitVec 1 := Scalar.cmpi .ne v57 c0_i32_24
  let v59 : BitVec 1 := Scalar.andi v56 v58
  let v45 : BitVec 32 := Scalar.divsi v44 c64_i32_19
  let c1_i32 : BitVec 32 := 1#32
  let v60 : BitVec 32 := Scalar.subi v45 c1_i32
  let v61 : BitVec 32 := Scalar.select v59 v60 v45
  let v62 : Index := Scalar.indexCast v61
  let c0_25 : Index := 0#32
  let c0_26 : Index := 0#32
  ![v62.toNat, 0, 0]
def k0_off1_at (r : Fin 12) : BitVec 32 × BitVec 32 × BitVec 32 :=
  if r.val < 6 then
    if r.val < 3 then
      if r.val < 1 then
        (0#32, 1792#32, 4294967232#32)
      else
        if r.val < 2 then
          (128#32, 1792#32, 64#32)
        else
          (256#32, 1792#32, 192#32)
    else
      if r.val < 4 then
        (384#32, 1792#32, 320#32)
      else
        if r.val < 5 then
          (512#32, 1792#32, 448#32)
        else
          (640#32, 1792#32, 576#32)
  else
    if r.val < 9 then
      if r.val < 7 then
        (768#32, 1792#32, 704#32)
      else
        if r.val < 8 then
          (896#32, 1792#32, 832#32)
        else
          (0#32, 256#32, 4294967232#32)
    else
      if r.val < 10 then
        (128#32, 256#32, 64#32)
      else
        if r.val < 11 then
          (256#32, 256#32, 192#32)
        else
          (384#32, 256#32, 320#32)
def k0_mult3 : BitVec 32 :=
  let c0_i32_15 : BitVec 32 := 0#32
  let v39 : BitVec 32 := c0_i32_15
  let c0_i32_27 : BitVec 32 := 0#32
  let v66 : BitVec 1 := Scalar.cmpi .sgt v39 c0_i32_27
  let v67 : BitVec 32 := Scalar.extui v66
  let c0_i32_28 : BitVec 32 := 0#32
  let v68 : BitVec 1 := Scalar.cmpi .slt v39 c0_i32_28
  let v69 : BitVec 32 := Scalar.extui v68
  let v70 : BitVec 32 := Scalar.subi v67 v69
  let c2_i32 : BitVec 32 := 2#32
  let c0_i32_29 : BitVec 32 := 0#32
  let v71 : BitVec 1 := Scalar.cmpi .sgt c2_i32 c0_i32_29
  let v72 : BitVec 32 := Scalar.extui v71
  let c0_i32_30 : BitVec 32 := 0#32
  let v73 : BitVec 1 := Scalar.cmpi .slt c2_i32 c0_i32_30
  let v74 : BitVec 32 := Scalar.extui v73
  let v75 : BitVec 32 := Scalar.subi v72 v74
  let v76 : BitVec 1 := Scalar.cmpi .ne v70 v75
  let v77 : BitVec 32 := Scalar.remsi v39 c2_i32
  let c0_i32_31 : BitVec 32 := 0#32
  let v78 : BitVec 1 := Scalar.cmpi .ne v77 c0_i32_31
  let v79 : BitVec 1 := Scalar.andi v76 v78
  let v65 : BitVec 32 := Scalar.divsi v39 c2_i32
  let c1_i32_32 : BitVec 32 := 1#32
  let v80 : BitVec 32 := Scalar.subi v65 c1_i32_32
  let v81 : BitVec 32 := Scalar.select v79 v80 v65
  v81
def k0_off2 (c0_i32_15 : BitVec 32) : Fin 2 → Nat :=
  let v39 : BitVec 32 := c0_i32_15
  let c0_i32_27 : BitVec 32 := 0#32
  let v66 : BitVec 1 := Scalar.cmpi .sgt v39 c0_i32_27
  let v67 : BitVec 32 := Scalar.extui v66
  let c0_i32_28 : BitVec 32 := 0#32
  let v68 : BitVec 1 := Scalar.cmpi .slt v39 c0_i32_28
  let v69 : BitVec 32 := Scalar.extui v68
  let v70 : BitVec 32 := Scalar.subi v67 v69
  let c2_i32 : BitVec 32 := 2#32
  let c0_i32_29 : BitVec 32 := 0#32
  let v71 : BitVec 1 := Scalar.cmpi .sgt c2_i32 c0_i32_29
  let v72 : BitVec 32 := Scalar.extui v71
  let c0_i32_30 : BitVec 32 := 0#32
  let v73 : BitVec 1 := Scalar.cmpi .slt c2_i32 c0_i32_30
  let v74 : BitVec 32 := Scalar.extui v73
  let v75 : BitVec 32 := Scalar.subi v72 v74
  let v76 : BitVec 1 := Scalar.cmpi .ne v70 v75
  let v77 : BitVec 32 := Scalar.remsi v39 c2_i32
  let c0_i32_31 : BitVec 32 := 0#32
  let v78 : BitVec 1 := Scalar.cmpi .ne v77 c0_i32_31
  let v79 : BitVec 1 := Scalar.andi v76 v78
  let v65 : BitVec 32 := Scalar.divsi v39 c2_i32
  let c1_i32_32 : BitVec 32 := 1#32
  let v80 : BitVec 32 := Scalar.subi v65 c1_i32_32
  let v81 : BitVec 32 := Scalar.select v79 v80 v65
  let v82 : BitVec 32 := v81
  let v83 : Index := Scalar.indexCast v82
  let c0_33 : Index := 0#32
  ![v83.toNat, 0]
def k0_mult4 : BitVec 32 :=
  let c0_i32_15 : BitVec 32 := 0#32
  let v39 : BitVec 32 := c0_i32_15
  let c0_i32_35 : BitVec 32 := 0#32
  let v87 : BitVec 1 := Scalar.cmpi .sgt v39 c0_i32_35
  let v88 : BitVec 32 := Scalar.extui v87
  let c0_i32_36 : BitVec 32 := 0#32
  let v89 : BitVec 1 := Scalar.cmpi .slt v39 c0_i32_36
  let v90 : BitVec 32 := Scalar.extui v89
  let v91 : BitVec 32 := Scalar.subi v88 v90
  let c2_i32_34 : BitVec 32 := 2#32
  let c0_i32_37 : BitVec 32 := 0#32
  let v92 : BitVec 1 := Scalar.cmpi .sgt c2_i32_34 c0_i32_37
  let v93 : BitVec 32 := Scalar.extui v92
  let c0_i32_38 : BitVec 32 := 0#32
  let v94 : BitVec 1 := Scalar.cmpi .slt c2_i32_34 c0_i32_38
  let v95 : BitVec 32 := Scalar.extui v94
  let v96 : BitVec 32 := Scalar.subi v93 v95
  let v97 : BitVec 1 := Scalar.cmpi .ne v91 v96
  let v98 : BitVec 32 := Scalar.remsi v39 c2_i32_34
  let c0_i32_39 : BitVec 32 := 0#32
  let v99 : BitVec 1 := Scalar.cmpi .ne v98 c0_i32_39
  let v100 : BitVec 1 := Scalar.andi v97 v99
  let v86 : BitVec 32 := Scalar.divsi v39 c2_i32_34
  let c1_i32_40 : BitVec 32 := 1#32
  let v101 : BitVec 32 := Scalar.subi v86 c1_i32_40
  let v102 : BitVec 32 := Scalar.select v100 v101 v86
  v102
def k0_mult5 : BitVec 32 :=
  let c0_i32_17 : BitVec 32 := 0#32
  let c1792_i32 : BitVec 32 := 1792#32
  let c0_i32_16 : BitVec 32 := 0#32
  let c_m64_i32 : BitVec 32 := 4294967232#32
  let v40 : BitVec 32 := Scalar.maxsi c0_i32_16 c_m64_i32
  let v41 : BitVec 32 := Scalar.minsi c1792_i32 v40
  let v42 : BitVec 32 := Scalar.addi c0_i32_17 v41
  let v43 : BitVec 32 := v42
  let c0_i32_43 : BitVec 32 := 0#32
  let v109 : BitVec 1 := Scalar.cmpi .sgt v43 c0_i32_43
  let v110 : BitVec 32 := Scalar.extui v109
  let c0_i32_44 : BitVec 32 := 0#32
  let v111 : BitVec 1 := Scalar.cmpi .slt v43 c0_i32_44
  let v112 : BitVec 32 := Scalar.extui v111
  let v113 : BitVec 32 := Scalar.subi v110 v112
  let c2_i32_42 : BitVec 32 := 2#32
  let c0_i32_45 : BitVec 32 := 0#32
  let v114 : BitVec 1 := Scalar.cmpi .sgt c2_i32_42 c0_i32_45
  let v115 : BitVec 32 := Scalar.extui v114
  let c0_i32_46 : BitVec 32 := 0#32
  let v116 : BitVec 1 := Scalar.cmpi .slt c2_i32_42 c0_i32_46
  let v117 : BitVec 32 := Scalar.extui v116
  let v118 : BitVec 32 := Scalar.subi v115 v117
  let v119 : BitVec 1 := Scalar.cmpi .ne v113 v118
  let v120 : BitVec 32 := Scalar.remsi v43 c2_i32_42
  let c0_i32_47 : BitVec 32 := 0#32
  let v121 : BitVec 1 := Scalar.cmpi .ne v120 c0_i32_47
  let v122 : BitVec 1 := Scalar.andi v119 v121
  let v108 : BitVec 32 := Scalar.divsi v43 c2_i32_42
  let c1_i32_48 : BitVec 32 := 1#32
  let v123 : BitVec 32 := Scalar.subi v108 c1_i32_48
  let v124 : BitVec 32 := Scalar.select v122 v123 v108
  v124
def k0_off3 (c_m64_i32 : BitVec 32) : Fin 2 → Nat :=
  let c0_i32_17 : BitVec 32 := 0#32
  let c1792_i32 : BitVec 32 := 1792#32
  let c0_i32_16 : BitVec 32 := 0#32
  let v40 : BitVec 32 := Scalar.maxsi c0_i32_16 c_m64_i32
  let v41 : BitVec 32 := Scalar.minsi c1792_i32 v40
  let v42 : BitVec 32 := Scalar.addi c0_i32_17 v41
  let v43 : BitVec 32 := v42
  let c0_i32_43 : BitVec 32 := 0#32
  let v109 : BitVec 1 := Scalar.cmpi .sgt v43 c0_i32_43
  let v110 : BitVec 32 := Scalar.extui v109
  let c0_i32_44 : BitVec 32 := 0#32
  let v111 : BitVec 1 := Scalar.cmpi .slt v43 c0_i32_44
  let v112 : BitVec 32 := Scalar.extui v111
  let v113 : BitVec 32 := Scalar.subi v110 v112
  let c2_i32_42 : BitVec 32 := 2#32
  let c0_i32_45 : BitVec 32 := 0#32
  let v114 : BitVec 1 := Scalar.cmpi .sgt c2_i32_42 c0_i32_45
  let v115 : BitVec 32 := Scalar.extui v114
  let c0_i32_46 : BitVec 32 := 0#32
  let v116 : BitVec 1 := Scalar.cmpi .slt c2_i32_42 c0_i32_46
  let v117 : BitVec 32 := Scalar.extui v116
  let v118 : BitVec 32 := Scalar.subi v115 v117
  let v119 : BitVec 1 := Scalar.cmpi .ne v113 v118
  let v120 : BitVec 32 := Scalar.remsi v43 c2_i32_42
  let c0_i32_47 : BitVec 32 := 0#32
  let v121 : BitVec 1 := Scalar.cmpi .ne v120 c0_i32_47
  let v122 : BitVec 1 := Scalar.andi v119 v121
  let v108 : BitVec 32 := Scalar.divsi v43 c2_i32_42
  let c1_i32_48 : BitVec 32 := 1#32
  let v123 : BitVec 32 := Scalar.subi v108 c1_i32_48
  let v124 : BitVec 32 := Scalar.select v122 v123 v108
  let v125 : BitVec 32 := v124
  let v126 : Index := Scalar.indexCast v125
  let c0_49 : Index := 0#32
  ![v126.toNat, 0]
def k0_off3_at (r : Fin 16) : BitVec 32 :=
  if r.val < 8 then
    if r.val < 4 then
      if r.val < 2 then
        if r.val < 1 then
          4294967232#32
        else
          64#32
      else
        if r.val < 3 then
          192#32
        else
          320#32
    else
      if r.val < 6 then
        if r.val < 5 then
          448#32
        else
          576#32
      else
        if r.val < 7 then
          704#32
        else
          832#32
  else
    if r.val < 12 then
      if r.val < 10 then
        if r.val < 9 then
          960#32
        else
          1088#32
      else
        if r.val < 11 then
          1216#32
        else
          1344#32
    else
      if r.val < 14 then
        if r.val < 13 then
          1472#32
        else
          1600#32
      else
        if r.val < 15 then
          1728#32
        else
          1856#32
def k0_mult6 : BitVec 32 :=
  let c128_i32_59 : BitVec 32 := 128#32
  c128_i32_59
def k0_mult7 : BitVec 32 :=
  let c0_i32_63 : BitVec 32 := 0#32
  let c1792_i32_62 : BitVec 32 := 1792#32
  let c0_i32_61 : BitVec 32 := 0#32
  let c64_i32_60 : BitVec 32 := 64#32
  let v141 : BitVec 32 := Scalar.maxsi c0_i32_61 c64_i32_60
  let v142 : BitVec 32 := Scalar.minsi c1792_i32_62 v141
  let v143 : BitVec 32 := Scalar.addi c0_i32_63 v142
  v143
def k0_mult8 : BitVec 32 :=
  let c128_i32_59 : BitVec 32 := 128#32
  let v140 : BitVec 32 := c128_i32_59
  let c0_i32_75 : BitVec 32 := 0#32
  let v167 : BitVec 1 := Scalar.cmpi .sgt v140 c0_i32_75
  let v168 : BitVec 32 := Scalar.extui v167
  let c0_i32_76 : BitVec 32 := 0#32
  let v169 : BitVec 1 := Scalar.cmpi .slt v140 c0_i32_76
  let v170 : BitVec 32 := Scalar.extui v169
  let v171 : BitVec 32 := Scalar.subi v168 v170
  let c2_i32_74 : BitVec 32 := 2#32
  let c0_i32_77 : BitVec 32 := 0#32
  let v172 : BitVec 1 := Scalar.cmpi .sgt c2_i32_74 c0_i32_77
  let v173 : BitVec 32 := Scalar.extui v172
  let c0_i32_78 : BitVec 32 := 0#32
  let v174 : BitVec 1 := Scalar.cmpi .slt c2_i32_74 c0_i32_78
  let v175 : BitVec 32 := Scalar.extui v174
  let v176 : BitVec 32 := Scalar.subi v173 v175
  let v177 : BitVec 1 := Scalar.cmpi .ne v171 v176
  let v178 : BitVec 32 := Scalar.remsi v140 c2_i32_74
  let c0_i32_79 : BitVec 32 := 0#32
  let v179 : BitVec 1 := Scalar.cmpi .ne v178 c0_i32_79
  let v180 : BitVec 1 := Scalar.andi v177 v179
  let v166 : BitVec 32 := Scalar.divsi v140 c2_i32_74
  let c1_i32_80 : BitVec 32 := 1#32
  let v181 : BitVec 32 := Scalar.subi v166 c1_i32_80
  let v182 : BitVec 32 := Scalar.select v180 v181 v166
  v182
def k0_mult9 : BitVec 32 :=
  let c128_i32_59 : BitVec 32 := 128#32
  let v140 : BitVec 32 := c128_i32_59
  let c0_i32_83 : BitVec 32 := 0#32
  let v188 : BitVec 1 := Scalar.cmpi .sgt v140 c0_i32_83
  let v189 : BitVec 32 := Scalar.extui v188
  let c0_i32_84 : BitVec 32 := 0#32
  let v190 : BitVec 1 := Scalar.cmpi .slt v140 c0_i32_84
  let v191 : BitVec 32 := Scalar.extui v190
  let v192 : BitVec 32 := Scalar.subi v189 v191
  let c2_i32_82 : BitVec 32 := 2#32
  let c0_i32_85 : BitVec 32 := 0#32
  let v193 : BitVec 1 := Scalar.cmpi .sgt c2_i32_82 c0_i32_85
  let v194 : BitVec 32 := Scalar.extui v193
  let c0_i32_86 : BitVec 32 := 0#32
  let v195 : BitVec 1 := Scalar.cmpi .slt c2_i32_82 c0_i32_86
  let v196 : BitVec 32 := Scalar.extui v195
  let v197 : BitVec 32 := Scalar.subi v194 v196
  let v198 : BitVec 1 := Scalar.cmpi .ne v192 v197
  let v199 : BitVec 32 := Scalar.remsi v140 c2_i32_82
  let c0_i32_87 : BitVec 32 := 0#32
  let v200 : BitVec 1 := Scalar.cmpi .ne v199 c0_i32_87
  let v201 : BitVec 1 := Scalar.andi v198 v200
  let v187 : BitVec 32 := Scalar.divsi v140 c2_i32_82
  let c1_i32_88 : BitVec 32 := 1#32
  let v202 : BitVec 32 := Scalar.subi v187 c1_i32_88
  let v203 : BitVec 32 := Scalar.select v201 v202 v187
  v203
def k0_mult10 : BitVec 32 :=
  let c0_i32_63 : BitVec 32 := 0#32
  let c1792_i32_62 : BitVec 32 := 1792#32
  let c0_i32_61 : BitVec 32 := 0#32
  let c64_i32_60 : BitVec 32 := 64#32
  let v141 : BitVec 32 := Scalar.maxsi c0_i32_61 c64_i32_60
  let v142 : BitVec 32 := Scalar.minsi c1792_i32_62 v141
  let v143 : BitVec 32 := Scalar.addi c0_i32_63 v142
  let v144 : BitVec 32 := v143
  let c0_i32_91 : BitVec 32 := 0#32
  let v210 : BitVec 1 := Scalar.cmpi .sgt v144 c0_i32_91
  let v211 : BitVec 32 := Scalar.extui v210
  let c0_i32_92 : BitVec 32 := 0#32
  let v212 : BitVec 1 := Scalar.cmpi .slt v144 c0_i32_92
  let v213 : BitVec 32 := Scalar.extui v212
  let v214 : BitVec 32 := Scalar.subi v211 v213
  let c2_i32_90 : BitVec 32 := 2#32
  let c0_i32_93 : BitVec 32 := 0#32
  let v215 : BitVec 1 := Scalar.cmpi .sgt c2_i32_90 c0_i32_93
  let v216 : BitVec 32 := Scalar.extui v215
  let c0_i32_94 : BitVec 32 := 0#32
  let v217 : BitVec 1 := Scalar.cmpi .slt c2_i32_90 c0_i32_94
  let v218 : BitVec 32 := Scalar.extui v217
  let v219 : BitVec 32 := Scalar.subi v216 v218
  let v220 : BitVec 1 := Scalar.cmpi .ne v214 v219
  let v221 : BitVec 32 := Scalar.remsi v144 c2_i32_90
  let c0_i32_95 : BitVec 32 := 0#32
  let v222 : BitVec 1 := Scalar.cmpi .ne v221 c0_i32_95
  let v223 : BitVec 1 := Scalar.andi v220 v222
  let v209 : BitVec 32 := Scalar.divsi v144 c2_i32_90
  let c1_i32_96 : BitVec 32 := 1#32
  let v224 : BitVec 32 := Scalar.subi v209 c1_i32_96
  let v225 : BitVec 32 := Scalar.select v223 v224 v209
  v225
def k0_mult11 : BitVec 32 :=
  let c256_i32 : BitVec 32 := 256#32
  c256_i32
def k0_mult12 : BitVec 32 :=
  let c0_i32_108 : BitVec 32 := 0#32
  let c1792_i32_107 : BitVec 32 := 1792#32
  let c0_i32_106 : BitVec 32 := 0#32
  let c192_i32 : BitVec 32 := 192#32
  let v242 : BitVec 32 := Scalar.maxsi c0_i32_106 c192_i32
  let v243 : BitVec 32 := Scalar.minsi c1792_i32_107 v242
  let v244 : BitVec 32 := Scalar.addi c0_i32_108 v243
  v244
def k0_mult13 : BitVec 32 :=
  let c256_i32 : BitVec 32 := 256#32
  let v241 : BitVec 32 := c256_i32
  let c0_i32_120 : BitVec 32 := 0#32
  let v268 : BitVec 1 := Scalar.cmpi .sgt v241 c0_i32_120
  let v269 : BitVec 32 := Scalar.extui v268
  let c0_i32_121 : BitVec 32 := 0#32
  let v270 : BitVec 1 := Scalar.cmpi .slt v241 c0_i32_121
  let v271 : BitVec 32 := Scalar.extui v270
  let v272 : BitVec 32 := Scalar.subi v269 v271
  let c2_i32_119 : BitVec 32 := 2#32
  let c0_i32_122 : BitVec 32 := 0#32
  let v273 : BitVec 1 := Scalar.cmpi .sgt c2_i32_119 c0_i32_122
  let v274 : BitVec 32 := Scalar.extui v273
  let c0_i32_123 : BitVec 32 := 0#32
  let v275 : BitVec 1 := Scalar.cmpi .slt c2_i32_119 c0_i32_123
  let v276 : BitVec 32 := Scalar.extui v275
  let v277 : BitVec 32 := Scalar.subi v274 v276
  let v278 : BitVec 1 := Scalar.cmpi .ne v272 v277
  let v279 : BitVec 32 := Scalar.remsi v241 c2_i32_119
  let c0_i32_124 : BitVec 32 := 0#32
  let v280 : BitVec 1 := Scalar.cmpi .ne v279 c0_i32_124
  let v281 : BitVec 1 := Scalar.andi v278 v280
  let v267 : BitVec 32 := Scalar.divsi v241 c2_i32_119
  let c1_i32_125 : BitVec 32 := 1#32
  let v282 : BitVec 32 := Scalar.subi v267 c1_i32_125
  let v283 : BitVec 32 := Scalar.select v281 v282 v267
  v283
def k0_mult14 : BitVec 32 :=
  let c256_i32 : BitVec 32 := 256#32
  let v241 : BitVec 32 := c256_i32
  let c0_i32_128 : BitVec 32 := 0#32
  let v289 : BitVec 1 := Scalar.cmpi .sgt v241 c0_i32_128
  let v290 : BitVec 32 := Scalar.extui v289
  let c0_i32_129 : BitVec 32 := 0#32
  let v291 : BitVec 1 := Scalar.cmpi .slt v241 c0_i32_129
  let v292 : BitVec 32 := Scalar.extui v291
  let v293 : BitVec 32 := Scalar.subi v290 v292
  let c2_i32_127 : BitVec 32 := 2#32
  let c0_i32_130 : BitVec 32 := 0#32
  let v294 : BitVec 1 := Scalar.cmpi .sgt c2_i32_127 c0_i32_130
  let v295 : BitVec 32 := Scalar.extui v294
  let c0_i32_131 : BitVec 32 := 0#32
  let v296 : BitVec 1 := Scalar.cmpi .slt c2_i32_127 c0_i32_131
  let v297 : BitVec 32 := Scalar.extui v296
  let v298 : BitVec 32 := Scalar.subi v295 v297
  let v299 : BitVec 1 := Scalar.cmpi .ne v293 v298
  let v300 : BitVec 32 := Scalar.remsi v241 c2_i32_127
  let c0_i32_132 : BitVec 32 := 0#32
  let v301 : BitVec 1 := Scalar.cmpi .ne v300 c0_i32_132
  let v302 : BitVec 1 := Scalar.andi v299 v301
  let v288 : BitVec 32 := Scalar.divsi v241 c2_i32_127
  let c1_i32_133 : BitVec 32 := 1#32
  let v303 : BitVec 32 := Scalar.subi v288 c1_i32_133
  let v304 : BitVec 32 := Scalar.select v302 v303 v288
  v304
def k0_mult15 : BitVec 32 :=
  let c0_i32_108 : BitVec 32 := 0#32
  let c1792_i32_107 : BitVec 32 := 1792#32
  let c0_i32_106 : BitVec 32 := 0#32
  let c192_i32 : BitVec 32 := 192#32
  let v242 : BitVec 32 := Scalar.maxsi c0_i32_106 c192_i32
  let v243 : BitVec 32 := Scalar.minsi c1792_i32_107 v242
  let v244 : BitVec 32 := Scalar.addi c0_i32_108 v243
  let v245 : BitVec 32 := v244
  let c0_i32_136 : BitVec 32 := 0#32
  let v311 : BitVec 1 := Scalar.cmpi .sgt v245 c0_i32_136
  let v312 : BitVec 32 := Scalar.extui v311
  let c0_i32_137 : BitVec 32 := 0#32
  let v313 : BitVec 1 := Scalar.cmpi .slt v245 c0_i32_137
  let v314 : BitVec 32 := Scalar.extui v313
  let v315 : BitVec 32 := Scalar.subi v312 v314
  let c2_i32_135 : BitVec 32 := 2#32
  let c0_i32_138 : BitVec 32 := 0#32
  let v316 : BitVec 1 := Scalar.cmpi .sgt c2_i32_135 c0_i32_138
  let v317 : BitVec 32 := Scalar.extui v316
  let c0_i32_139 : BitVec 32 := 0#32
  let v318 : BitVec 1 := Scalar.cmpi .slt c2_i32_135 c0_i32_139
  let v319 : BitVec 32 := Scalar.extui v318
  let v320 : BitVec 32 := Scalar.subi v317 v319
  let v321 : BitVec 1 := Scalar.cmpi .ne v315 v320
  let v322 : BitVec 32 := Scalar.remsi v245 c2_i32_135
  let c0_i32_140 : BitVec 32 := 0#32
  let v323 : BitVec 1 := Scalar.cmpi .ne v322 c0_i32_140
  let v324 : BitVec 1 := Scalar.andi v321 v323
  let v310 : BitVec 32 := Scalar.divsi v245 c2_i32_135
  let c1_i32_141 : BitVec 32 := 1#32
  let v325 : BitVec 32 := Scalar.subi v310 c1_i32_141
  let v326 : BitVec 32 := Scalar.select v324 v325 v310
  v326
def k0_mult16 : BitVec 32 :=
  let c384_i32 : BitVec 32 := 384#32
  c384_i32
def k0_mult17 : BitVec 32 :=
  let c0_i32_152 : BitVec 32 := 0#32
  let c1792_i32_151 : BitVec 32 := 1792#32
  let c0_i32_150 : BitVec 32 := 0#32
  let c320_i32 : BitVec 32 := 320#32
  let v343 : BitVec 32 := Scalar.maxsi c0_i32_150 c320_i32
  let v344 : BitVec 32 := Scalar.minsi c1792_i32_151 v343
  let v345 : BitVec 32 := Scalar.addi c0_i32_152 v344
  v345
def k0_mult18 : BitVec 32 :=
  let c384_i32 : BitVec 32 := 384#32
  let v342 : BitVec 32 := c384_i32
  let c0_i32_164 : BitVec 32 := 0#32
  let v369 : BitVec 1 := Scalar.cmpi .sgt v342 c0_i32_164
  let v370 : BitVec 32 := Scalar.extui v369
  let c0_i32_165 : BitVec 32 := 0#32
  let v371 : BitVec 1 := Scalar.cmpi .slt v342 c0_i32_165
  let v372 : BitVec 32 := Scalar.extui v371
  let v373 : BitVec 32 := Scalar.subi v370 v372
  let c2_i32_163 : BitVec 32 := 2#32
  let c0_i32_166 : BitVec 32 := 0#32
  let v374 : BitVec 1 := Scalar.cmpi .sgt c2_i32_163 c0_i32_166
  let v375 : BitVec 32 := Scalar.extui v374
  let c0_i32_167 : BitVec 32 := 0#32
  let v376 : BitVec 1 := Scalar.cmpi .slt c2_i32_163 c0_i32_167
  let v377 : BitVec 32 := Scalar.extui v376
  let v378 : BitVec 32 := Scalar.subi v375 v377
  let v379 : BitVec 1 := Scalar.cmpi .ne v373 v378
  let v380 : BitVec 32 := Scalar.remsi v342 c2_i32_163
  let c0_i32_168 : BitVec 32 := 0#32
  let v381 : BitVec 1 := Scalar.cmpi .ne v380 c0_i32_168
  let v382 : BitVec 1 := Scalar.andi v379 v381
  let v368 : BitVec 32 := Scalar.divsi v342 c2_i32_163
  let c1_i32_169 : BitVec 32 := 1#32
  let v383 : BitVec 32 := Scalar.subi v368 c1_i32_169
  let v384 : BitVec 32 := Scalar.select v382 v383 v368
  v384
def k0_mult19 : BitVec 32 :=
  let c384_i32 : BitVec 32 := 384#32
  let v342 : BitVec 32 := c384_i32
  let c0_i32_172 : BitVec 32 := 0#32
  let v390 : BitVec 1 := Scalar.cmpi .sgt v342 c0_i32_172
  let v391 : BitVec 32 := Scalar.extui v390
  let c0_i32_173 : BitVec 32 := 0#32
  let v392 : BitVec 1 := Scalar.cmpi .slt v342 c0_i32_173
  let v393 : BitVec 32 := Scalar.extui v392
  let v394 : BitVec 32 := Scalar.subi v391 v393
  let c2_i32_171 : BitVec 32 := 2#32
  let c0_i32_174 : BitVec 32 := 0#32
  let v395 : BitVec 1 := Scalar.cmpi .sgt c2_i32_171 c0_i32_174
  let v396 : BitVec 32 := Scalar.extui v395
  let c0_i32_175 : BitVec 32 := 0#32
  let v397 : BitVec 1 := Scalar.cmpi .slt c2_i32_171 c0_i32_175
  let v398 : BitVec 32 := Scalar.extui v397
  let v399 : BitVec 32 := Scalar.subi v396 v398
  let v400 : BitVec 1 := Scalar.cmpi .ne v394 v399
  let v401 : BitVec 32 := Scalar.remsi v342 c2_i32_171
  let c0_i32_176 : BitVec 32 := 0#32
  let v402 : BitVec 1 := Scalar.cmpi .ne v401 c0_i32_176
  let v403 : BitVec 1 := Scalar.andi v400 v402
  let v389 : BitVec 32 := Scalar.divsi v342 c2_i32_171
  let c1_i32_177 : BitVec 32 := 1#32
  let v404 : BitVec 32 := Scalar.subi v389 c1_i32_177
  let v405 : BitVec 32 := Scalar.select v403 v404 v389
  v405
def k0_mult20 : BitVec 32 :=
  let c0_i32_152 : BitVec 32 := 0#32
  let c1792_i32_151 : BitVec 32 := 1792#32
  let c0_i32_150 : BitVec 32 := 0#32
  let c320_i32 : BitVec 32 := 320#32
  let v343 : BitVec 32 := Scalar.maxsi c0_i32_150 c320_i32
  let v344 : BitVec 32 := Scalar.minsi c1792_i32_151 v343
  let v345 : BitVec 32 := Scalar.addi c0_i32_152 v344
  let v346 : BitVec 32 := v345
  let c0_i32_180 : BitVec 32 := 0#32
  let v412 : BitVec 1 := Scalar.cmpi .sgt v346 c0_i32_180
  let v413 : BitVec 32 := Scalar.extui v412
  let c0_i32_181 : BitVec 32 := 0#32
  let v414 : BitVec 1 := Scalar.cmpi .slt v346 c0_i32_181
  let v415 : BitVec 32 := Scalar.extui v414
  let v416 : BitVec 32 := Scalar.subi v413 v415
  let c2_i32_179 : BitVec 32 := 2#32
  let c0_i32_182 : BitVec 32 := 0#32
  let v417 : BitVec 1 := Scalar.cmpi .sgt c2_i32_179 c0_i32_182
  let v418 : BitVec 32 := Scalar.extui v417
  let c0_i32_183 : BitVec 32 := 0#32
  let v419 : BitVec 1 := Scalar.cmpi .slt c2_i32_179 c0_i32_183
  let v420 : BitVec 32 := Scalar.extui v419
  let v421 : BitVec 32 := Scalar.subi v418 v420
  let v422 : BitVec 1 := Scalar.cmpi .ne v416 v421
  let v423 : BitVec 32 := Scalar.remsi v346 c2_i32_179
  let c0_i32_184 : BitVec 32 := 0#32
  let v424 : BitVec 1 := Scalar.cmpi .ne v423 c0_i32_184
  let v425 : BitVec 1 := Scalar.andi v422 v424
  let v411 : BitVec 32 := Scalar.divsi v346 c2_i32_179
  let c1_i32_185 : BitVec 32 := 1#32
  let v426 : BitVec 32 := Scalar.subi v411 c1_i32_185
  let v427 : BitVec 32 := Scalar.select v425 v426 v411
  v427
def k0_mult21 : BitVec 32 :=
  let c512_i32 : BitVec 32 := 512#32
  c512_i32
def k0_mult22 : BitVec 32 :=
  let c0_i32_284 : BitVec 32 := 0#32
  let c1792_i32_283 : BitVec 32 := 1792#32
  let c0_i32_282 : BitVec 32 := 0#32
  let c448_i32 : BitVec 32 := 448#32
  let v572 : BitVec 32 := Scalar.maxsi c0_i32_282 c448_i32
  let v573 : BitVec 32 := Scalar.minsi c1792_i32_283 v572
  let v574 : BitVec 32 := Scalar.addi c0_i32_284 v573
  v574
def k0_mult23 : BitVec 32 :=
  let c512_i32 : BitVec 32 := 512#32
  let v571 : BitVec 32 := c512_i32
  let c0_i32_296 : BitVec 32 := 0#32
  let v598 : BitVec 1 := Scalar.cmpi .sgt v571 c0_i32_296
  let v599 : BitVec 32 := Scalar.extui v598
  let c0_i32_297 : BitVec 32 := 0#32
  let v600 : BitVec 1 := Scalar.cmpi .slt v571 c0_i32_297
  let v601 : BitVec 32 := Scalar.extui v600
  let v602 : BitVec 32 := Scalar.subi v599 v601
  let c2_i32_295 : BitVec 32 := 2#32
  let c0_i32_298 : BitVec 32 := 0#32
  let v603 : BitVec 1 := Scalar.cmpi .sgt c2_i32_295 c0_i32_298
  let v604 : BitVec 32 := Scalar.extui v603
  let c0_i32_299 : BitVec 32 := 0#32
  let v605 : BitVec 1 := Scalar.cmpi .slt c2_i32_295 c0_i32_299
  let v606 : BitVec 32 := Scalar.extui v605
  let v607 : BitVec 32 := Scalar.subi v604 v606
  let v608 : BitVec 1 := Scalar.cmpi .ne v602 v607
  let v609 : BitVec 32 := Scalar.remsi v571 c2_i32_295
  let c0_i32_300 : BitVec 32 := 0#32
  let v610 : BitVec 1 := Scalar.cmpi .ne v609 c0_i32_300
  let v611 : BitVec 1 := Scalar.andi v608 v610
  let v597 : BitVec 32 := Scalar.divsi v571 c2_i32_295
  let c1_i32_301 : BitVec 32 := 1#32
  let v612 : BitVec 32 := Scalar.subi v597 c1_i32_301
  let v613 : BitVec 32 := Scalar.select v611 v612 v597
  v613
def k0_mult24 : BitVec 32 :=
  let c512_i32 : BitVec 32 := 512#32
  let v571 : BitVec 32 := c512_i32
  let c0_i32_304 : BitVec 32 := 0#32
  let v619 : BitVec 1 := Scalar.cmpi .sgt v571 c0_i32_304
  let v620 : BitVec 32 := Scalar.extui v619
  let c0_i32_305 : BitVec 32 := 0#32
  let v621 : BitVec 1 := Scalar.cmpi .slt v571 c0_i32_305
  let v622 : BitVec 32 := Scalar.extui v621
  let v623 : BitVec 32 := Scalar.subi v620 v622
  let c2_i32_303 : BitVec 32 := 2#32
  let c0_i32_306 : BitVec 32 := 0#32
  let v624 : BitVec 1 := Scalar.cmpi .sgt c2_i32_303 c0_i32_306
  let v625 : BitVec 32 := Scalar.extui v624
  let c0_i32_307 : BitVec 32 := 0#32
  let v626 : BitVec 1 := Scalar.cmpi .slt c2_i32_303 c0_i32_307
  let v627 : BitVec 32 := Scalar.extui v626
  let v628 : BitVec 32 := Scalar.subi v625 v627
  let v629 : BitVec 1 := Scalar.cmpi .ne v623 v628
  let v630 : BitVec 32 := Scalar.remsi v571 c2_i32_303
  let c0_i32_308 : BitVec 32 := 0#32
  let v631 : BitVec 1 := Scalar.cmpi .ne v630 c0_i32_308
  let v632 : BitVec 1 := Scalar.andi v629 v631
  let v618 : BitVec 32 := Scalar.divsi v571 c2_i32_303
  let c1_i32_309 : BitVec 32 := 1#32
  let v633 : BitVec 32 := Scalar.subi v618 c1_i32_309
  let v634 : BitVec 32 := Scalar.select v632 v633 v618
  v634
def k0_mult25 : BitVec 32 :=
  let c0_i32_284 : BitVec 32 := 0#32
  let c1792_i32_283 : BitVec 32 := 1792#32
  let c0_i32_282 : BitVec 32 := 0#32
  let c448_i32 : BitVec 32 := 448#32
  let v572 : BitVec 32 := Scalar.maxsi c0_i32_282 c448_i32
  let v573 : BitVec 32 := Scalar.minsi c1792_i32_283 v572
  let v574 : BitVec 32 := Scalar.addi c0_i32_284 v573
  let v575 : BitVec 32 := v574
  let c0_i32_312 : BitVec 32 := 0#32
  let v641 : BitVec 1 := Scalar.cmpi .sgt v575 c0_i32_312
  let v642 : BitVec 32 := Scalar.extui v641
  let c0_i32_313 : BitVec 32 := 0#32
  let v643 : BitVec 1 := Scalar.cmpi .slt v575 c0_i32_313
  let v644 : BitVec 32 := Scalar.extui v643
  let v645 : BitVec 32 := Scalar.subi v642 v644
  let c2_i32_311 : BitVec 32 := 2#32
  let c0_i32_314 : BitVec 32 := 0#32
  let v646 : BitVec 1 := Scalar.cmpi .sgt c2_i32_311 c0_i32_314
  let v647 : BitVec 32 := Scalar.extui v646
  let c0_i32_315 : BitVec 32 := 0#32
  let v648 : BitVec 1 := Scalar.cmpi .slt c2_i32_311 c0_i32_315
  let v649 : BitVec 32 := Scalar.extui v648
  let v650 : BitVec 32 := Scalar.subi v647 v649
  let v651 : BitVec 1 := Scalar.cmpi .ne v645 v650
  let v652 : BitVec 32 := Scalar.remsi v575 c2_i32_311
  let c0_i32_316 : BitVec 32 := 0#32
  let v653 : BitVec 1 := Scalar.cmpi .ne v652 c0_i32_316
  let v654 : BitVec 1 := Scalar.andi v651 v653
  let v640 : BitVec 32 := Scalar.divsi v575 c2_i32_311
  let c1_i32_317 : BitVec 32 := 1#32
  let v655 : BitVec 32 := Scalar.subi v640 c1_i32_317
  let v656 : BitVec 32 := Scalar.select v654 v655 v640
  v656
def k0_mult26 : BitVec 32 :=
  let c640_i32 : BitVec 32 := 640#32
  c640_i32
def k0_mult27 : BitVec 32 :=
  let c0_i32_330 : BitVec 32 := 0#32
  let c1792_i32_329 : BitVec 32 := 1792#32
  let c0_i32_328 : BitVec 32 := 0#32
  let c576_i32 : BitVec 32 := 576#32
  let v673 : BitVec 32 := Scalar.maxsi c0_i32_328 c576_i32
  let v674 : BitVec 32 := Scalar.minsi c1792_i32_329 v673
  let v675 : BitVec 32 := Scalar.addi c0_i32_330 v674
  v675
def k0_mult28 : BitVec 32 :=
  let c640_i32 : BitVec 32 := 640#32
  let v672 : BitVec 32 := c640_i32
  let c0_i32_342 : BitVec 32 := 0#32
  let v699 : BitVec 1 := Scalar.cmpi .sgt v672 c0_i32_342
  let v700 : BitVec 32 := Scalar.extui v699
  let c0_i32_343 : BitVec 32 := 0#32
  let v701 : BitVec 1 := Scalar.cmpi .slt v672 c0_i32_343
  let v702 : BitVec 32 := Scalar.extui v701
  let v703 : BitVec 32 := Scalar.subi v700 v702
  let c2_i32_341 : BitVec 32 := 2#32
  let c0_i32_344 : BitVec 32 := 0#32
  let v704 : BitVec 1 := Scalar.cmpi .sgt c2_i32_341 c0_i32_344
  let v705 : BitVec 32 := Scalar.extui v704
  let c0_i32_345 : BitVec 32 := 0#32
  let v706 : BitVec 1 := Scalar.cmpi .slt c2_i32_341 c0_i32_345
  let v707 : BitVec 32 := Scalar.extui v706
  let v708 : BitVec 32 := Scalar.subi v705 v707
  let v709 : BitVec 1 := Scalar.cmpi .ne v703 v708
  let v710 : BitVec 32 := Scalar.remsi v672 c2_i32_341
  let c0_i32_346 : BitVec 32 := 0#32
  let v711 : BitVec 1 := Scalar.cmpi .ne v710 c0_i32_346
  let v712 : BitVec 1 := Scalar.andi v709 v711
  let v698 : BitVec 32 := Scalar.divsi v672 c2_i32_341
  let c1_i32_347 : BitVec 32 := 1#32
  let v713 : BitVec 32 := Scalar.subi v698 c1_i32_347
  let v714 : BitVec 32 := Scalar.select v712 v713 v698
  v714
def k0_mult29 : BitVec 32 :=
  let c640_i32 : BitVec 32 := 640#32
  let v672 : BitVec 32 := c640_i32
  let c0_i32_350 : BitVec 32 := 0#32
  let v720 : BitVec 1 := Scalar.cmpi .sgt v672 c0_i32_350
  let v721 : BitVec 32 := Scalar.extui v720
  let c0_i32_351 : BitVec 32 := 0#32
  let v722 : BitVec 1 := Scalar.cmpi .slt v672 c0_i32_351
  let v723 : BitVec 32 := Scalar.extui v722
  let v724 : BitVec 32 := Scalar.subi v721 v723
  let c2_i32_349 : BitVec 32 := 2#32
  let c0_i32_352 : BitVec 32 := 0#32
  let v725 : BitVec 1 := Scalar.cmpi .sgt c2_i32_349 c0_i32_352
  let v726 : BitVec 32 := Scalar.extui v725
  let c0_i32_353 : BitVec 32 := 0#32
  let v727 : BitVec 1 := Scalar.cmpi .slt c2_i32_349 c0_i32_353
  let v728 : BitVec 32 := Scalar.extui v727
  let v729 : BitVec 32 := Scalar.subi v726 v728
  let v730 : BitVec 1 := Scalar.cmpi .ne v724 v729
  let v731 : BitVec 32 := Scalar.remsi v672 c2_i32_349
  let c0_i32_354 : BitVec 32 := 0#32
  let v732 : BitVec 1 := Scalar.cmpi .ne v731 c0_i32_354
  let v733 : BitVec 1 := Scalar.andi v730 v732
  let v719 : BitVec 32 := Scalar.divsi v672 c2_i32_349
  let c1_i32_355 : BitVec 32 := 1#32
  let v734 : BitVec 32 := Scalar.subi v719 c1_i32_355
  let v735 : BitVec 32 := Scalar.select v733 v734 v719
  v735
def k0_mult30 : BitVec 32 :=
  let c0_i32_330 : BitVec 32 := 0#32
  let c1792_i32_329 : BitVec 32 := 1792#32
  let c0_i32_328 : BitVec 32 := 0#32
  let c576_i32 : BitVec 32 := 576#32
  let v673 : BitVec 32 := Scalar.maxsi c0_i32_328 c576_i32
  let v674 : BitVec 32 := Scalar.minsi c1792_i32_329 v673
  let v675 : BitVec 32 := Scalar.addi c0_i32_330 v674
  let v676 : BitVec 32 := v675
  let c0_i32_358 : BitVec 32 := 0#32
  let v742 : BitVec 1 := Scalar.cmpi .sgt v676 c0_i32_358
  let v743 : BitVec 32 := Scalar.extui v742
  let c0_i32_359 : BitVec 32 := 0#32
  let v744 : BitVec 1 := Scalar.cmpi .slt v676 c0_i32_359
  let v745 : BitVec 32 := Scalar.extui v744
  let v746 : BitVec 32 := Scalar.subi v743 v745
  let c2_i32_357 : BitVec 32 := 2#32
  let c0_i32_360 : BitVec 32 := 0#32
  let v747 : BitVec 1 := Scalar.cmpi .sgt c2_i32_357 c0_i32_360
  let v748 : BitVec 32 := Scalar.extui v747
  let c0_i32_361 : BitVec 32 := 0#32
  let v749 : BitVec 1 := Scalar.cmpi .slt c2_i32_357 c0_i32_361
  let v750 : BitVec 32 := Scalar.extui v749
  let v751 : BitVec 32 := Scalar.subi v748 v750
  let v752 : BitVec 1 := Scalar.cmpi .ne v746 v751
  let v753 : BitVec 32 := Scalar.remsi v676 c2_i32_357
  let c0_i32_362 : BitVec 32 := 0#32
  let v754 : BitVec 1 := Scalar.cmpi .ne v753 c0_i32_362
  let v755 : BitVec 1 := Scalar.andi v752 v754
  let v741 : BitVec 32 := Scalar.divsi v676 c2_i32_357
  let c1_i32_363 : BitVec 32 := 1#32
  let v756 : BitVec 32 := Scalar.subi v741 c1_i32_363
  let v757 : BitVec 32 := Scalar.select v755 v756 v741
  v757
def k0_mult31 : BitVec 32 :=
  let c768_i32 : BitVec 32 := 768#32
  c768_i32
def k0_mult32 : BitVec 32 :=
  let c0_i32_376 : BitVec 32 := 0#32
  let c1792_i32_375 : BitVec 32 := 1792#32
  let c0_i32_374 : BitVec 32 := 0#32
  let c704_i32 : BitVec 32 := 704#32
  let v774 : BitVec 32 := Scalar.maxsi c0_i32_374 c704_i32
  let v775 : BitVec 32 := Scalar.minsi c1792_i32_375 v774
  let v776 : BitVec 32 := Scalar.addi c0_i32_376 v775
  v776
def k0_mult33 : BitVec 32 :=
  let c768_i32 : BitVec 32 := 768#32
  let v773 : BitVec 32 := c768_i32
  let c0_i32_388 : BitVec 32 := 0#32
  let v800 : BitVec 1 := Scalar.cmpi .sgt v773 c0_i32_388
  let v801 : BitVec 32 := Scalar.extui v800
  let c0_i32_389 : BitVec 32 := 0#32
  let v802 : BitVec 1 := Scalar.cmpi .slt v773 c0_i32_389
  let v803 : BitVec 32 := Scalar.extui v802
  let v804 : BitVec 32 := Scalar.subi v801 v803
  let c2_i32_387 : BitVec 32 := 2#32
  let c0_i32_390 : BitVec 32 := 0#32
  let v805 : BitVec 1 := Scalar.cmpi .sgt c2_i32_387 c0_i32_390
  let v806 : BitVec 32 := Scalar.extui v805
  let c0_i32_391 : BitVec 32 := 0#32
  let v807 : BitVec 1 := Scalar.cmpi .slt c2_i32_387 c0_i32_391
  let v808 : BitVec 32 := Scalar.extui v807
  let v809 : BitVec 32 := Scalar.subi v806 v808
  let v810 : BitVec 1 := Scalar.cmpi .ne v804 v809
  let v811 : BitVec 32 := Scalar.remsi v773 c2_i32_387
  let c0_i32_392 : BitVec 32 := 0#32
  let v812 : BitVec 1 := Scalar.cmpi .ne v811 c0_i32_392
  let v813 : BitVec 1 := Scalar.andi v810 v812
  let v799 : BitVec 32 := Scalar.divsi v773 c2_i32_387
  let c1_i32_393 : BitVec 32 := 1#32
  let v814 : BitVec 32 := Scalar.subi v799 c1_i32_393
  let v815 : BitVec 32 := Scalar.select v813 v814 v799
  v815
def k0_mult34 : BitVec 32 :=
  let c768_i32 : BitVec 32 := 768#32
  let v773 : BitVec 32 := c768_i32
  let c0_i32_396 : BitVec 32 := 0#32
  let v821 : BitVec 1 := Scalar.cmpi .sgt v773 c0_i32_396
  let v822 : BitVec 32 := Scalar.extui v821
  let c0_i32_397 : BitVec 32 := 0#32
  let v823 : BitVec 1 := Scalar.cmpi .slt v773 c0_i32_397
  let v824 : BitVec 32 := Scalar.extui v823
  let v825 : BitVec 32 := Scalar.subi v822 v824
  let c2_i32_395 : BitVec 32 := 2#32
  let c0_i32_398 : BitVec 32 := 0#32
  let v826 : BitVec 1 := Scalar.cmpi .sgt c2_i32_395 c0_i32_398
  let v827 : BitVec 32 := Scalar.extui v826
  let c0_i32_399 : BitVec 32 := 0#32
  let v828 : BitVec 1 := Scalar.cmpi .slt c2_i32_395 c0_i32_399
  let v829 : BitVec 32 := Scalar.extui v828
  let v830 : BitVec 32 := Scalar.subi v827 v829
  let v831 : BitVec 1 := Scalar.cmpi .ne v825 v830
  let v832 : BitVec 32 := Scalar.remsi v773 c2_i32_395
  let c0_i32_400 : BitVec 32 := 0#32
  let v833 : BitVec 1 := Scalar.cmpi .ne v832 c0_i32_400
  let v834 : BitVec 1 := Scalar.andi v831 v833
  let v820 : BitVec 32 := Scalar.divsi v773 c2_i32_395
  let c1_i32_401 : BitVec 32 := 1#32
  let v835 : BitVec 32 := Scalar.subi v820 c1_i32_401
  let v836 : BitVec 32 := Scalar.select v834 v835 v820
  v836
def k0_mult35 : BitVec 32 :=
  let c0_i32_376 : BitVec 32 := 0#32
  let c1792_i32_375 : BitVec 32 := 1792#32
  let c0_i32_374 : BitVec 32 := 0#32
  let c704_i32 : BitVec 32 := 704#32
  let v774 : BitVec 32 := Scalar.maxsi c0_i32_374 c704_i32
  let v775 : BitVec 32 := Scalar.minsi c1792_i32_375 v774
  let v776 : BitVec 32 := Scalar.addi c0_i32_376 v775
  let v777 : BitVec 32 := v776
  let c0_i32_404 : BitVec 32 := 0#32
  let v843 : BitVec 1 := Scalar.cmpi .sgt v777 c0_i32_404
  let v844 : BitVec 32 := Scalar.extui v843
  let c0_i32_405 : BitVec 32 := 0#32
  let v845 : BitVec 1 := Scalar.cmpi .slt v777 c0_i32_405
  let v846 : BitVec 32 := Scalar.extui v845
  let v847 : BitVec 32 := Scalar.subi v844 v846
  let c2_i32_403 : BitVec 32 := 2#32
  let c0_i32_406 : BitVec 32 := 0#32
  let v848 : BitVec 1 := Scalar.cmpi .sgt c2_i32_403 c0_i32_406
  let v849 : BitVec 32 := Scalar.extui v848
  let c0_i32_407 : BitVec 32 := 0#32
  let v850 : BitVec 1 := Scalar.cmpi .slt c2_i32_403 c0_i32_407
  let v851 : BitVec 32 := Scalar.extui v850
  let v852 : BitVec 32 := Scalar.subi v849 v851
  let v853 : BitVec 1 := Scalar.cmpi .ne v847 v852
  let v854 : BitVec 32 := Scalar.remsi v777 c2_i32_403
  let c0_i32_408 : BitVec 32 := 0#32
  let v855 : BitVec 1 := Scalar.cmpi .ne v854 c0_i32_408
  let v856 : BitVec 1 := Scalar.andi v853 v855
  let v842 : BitVec 32 := Scalar.divsi v777 c2_i32_403
  let c1_i32_409 : BitVec 32 := 1#32
  let v857 : BitVec 32 := Scalar.subi v842 c1_i32_409
  let v858 : BitVec 32 := Scalar.select v856 v857 v842
  v858
def k0_mult36 : BitVec 32 :=
  let c896_i32 : BitVec 32 := 896#32
  c896_i32
def k0_mult37 : BitVec 32 :=
  let c0_i32_422 : BitVec 32 := 0#32
  let c1792_i32_421 : BitVec 32 := 1792#32
  let c0_i32_420 : BitVec 32 := 0#32
  let c832_i32 : BitVec 32 := 832#32
  let v875 : BitVec 32 := Scalar.maxsi c0_i32_420 c832_i32
  let v876 : BitVec 32 := Scalar.minsi c1792_i32_421 v875
  let v877 : BitVec 32 := Scalar.addi c0_i32_422 v876
  v877
def k0_mult38 : BitVec 32 :=
  let c896_i32 : BitVec 32 := 896#32
  let v874 : BitVec 32 := c896_i32
  let c0_i32_434 : BitVec 32 := 0#32
  let v901 : BitVec 1 := Scalar.cmpi .sgt v874 c0_i32_434
  let v902 : BitVec 32 := Scalar.extui v901
  let c0_i32_435 : BitVec 32 := 0#32
  let v903 : BitVec 1 := Scalar.cmpi .slt v874 c0_i32_435
  let v904 : BitVec 32 := Scalar.extui v903
  let v905 : BitVec 32 := Scalar.subi v902 v904
  let c2_i32_433 : BitVec 32 := 2#32
  let c0_i32_436 : BitVec 32 := 0#32
  let v906 : BitVec 1 := Scalar.cmpi .sgt c2_i32_433 c0_i32_436
  let v907 : BitVec 32 := Scalar.extui v906
  let c0_i32_437 : BitVec 32 := 0#32
  let v908 : BitVec 1 := Scalar.cmpi .slt c2_i32_433 c0_i32_437
  let v909 : BitVec 32 := Scalar.extui v908
  let v910 : BitVec 32 := Scalar.subi v907 v909
  let v911 : BitVec 1 := Scalar.cmpi .ne v905 v910
  let v912 : BitVec 32 := Scalar.remsi v874 c2_i32_433
  let c0_i32_438 : BitVec 32 := 0#32
  let v913 : BitVec 1 := Scalar.cmpi .ne v912 c0_i32_438
  let v914 : BitVec 1 := Scalar.andi v911 v913
  let v900 : BitVec 32 := Scalar.divsi v874 c2_i32_433
  let c1_i32_439 : BitVec 32 := 1#32
  let v915 : BitVec 32 := Scalar.subi v900 c1_i32_439
  let v916 : BitVec 32 := Scalar.select v914 v915 v900
  v916
def k0_mult39 : BitVec 32 :=
  let c896_i32 : BitVec 32 := 896#32
  let v874 : BitVec 32 := c896_i32
  let c0_i32_442 : BitVec 32 := 0#32
  let v922 : BitVec 1 := Scalar.cmpi .sgt v874 c0_i32_442
  let v923 : BitVec 32 := Scalar.extui v922
  let c0_i32_443 : BitVec 32 := 0#32
  let v924 : BitVec 1 := Scalar.cmpi .slt v874 c0_i32_443
  let v925 : BitVec 32 := Scalar.extui v924
  let v926 : BitVec 32 := Scalar.subi v923 v925
  let c2_i32_441 : BitVec 32 := 2#32
  let c0_i32_444 : BitVec 32 := 0#32
  let v927 : BitVec 1 := Scalar.cmpi .sgt c2_i32_441 c0_i32_444
  let v928 : BitVec 32 := Scalar.extui v927
  let c0_i32_445 : BitVec 32 := 0#32
  let v929 : BitVec 1 := Scalar.cmpi .slt c2_i32_441 c0_i32_445
  let v930 : BitVec 32 := Scalar.extui v929
  let v931 : BitVec 32 := Scalar.subi v928 v930
  let v932 : BitVec 1 := Scalar.cmpi .ne v926 v931
  let v933 : BitVec 32 := Scalar.remsi v874 c2_i32_441
  let c0_i32_446 : BitVec 32 := 0#32
  let v934 : BitVec 1 := Scalar.cmpi .ne v933 c0_i32_446
  let v935 : BitVec 1 := Scalar.andi v932 v934
  let v921 : BitVec 32 := Scalar.divsi v874 c2_i32_441
  let c1_i32_447 : BitVec 32 := 1#32
  let v936 : BitVec 32 := Scalar.subi v921 c1_i32_447
  let v937 : BitVec 32 := Scalar.select v935 v936 v921
  v937
def k0_mult40 : BitVec 32 :=
  let c0_i32_422 : BitVec 32 := 0#32
  let c1792_i32_421 : BitVec 32 := 1792#32
  let c0_i32_420 : BitVec 32 := 0#32
  let c832_i32 : BitVec 32 := 832#32
  let v875 : BitVec 32 := Scalar.maxsi c0_i32_420 c832_i32
  let v876 : BitVec 32 := Scalar.minsi c1792_i32_421 v875
  let v877 : BitVec 32 := Scalar.addi c0_i32_422 v876
  let v878 : BitVec 32 := v877
  let c0_i32_450 : BitVec 32 := 0#32
  let v944 : BitVec 1 := Scalar.cmpi .sgt v878 c0_i32_450
  let v945 : BitVec 32 := Scalar.extui v944
  let c0_i32_451 : BitVec 32 := 0#32
  let v946 : BitVec 1 := Scalar.cmpi .slt v878 c0_i32_451
  let v947 : BitVec 32 := Scalar.extui v946
  let v948 : BitVec 32 := Scalar.subi v945 v947
  let c2_i32_449 : BitVec 32 := 2#32
  let c0_i32_452 : BitVec 32 := 0#32
  let v949 : BitVec 1 := Scalar.cmpi .sgt c2_i32_449 c0_i32_452
  let v950 : BitVec 32 := Scalar.extui v949
  let c0_i32_453 : BitVec 32 := 0#32
  let v951 : BitVec 1 := Scalar.cmpi .slt c2_i32_449 c0_i32_453
  let v952 : BitVec 32 := Scalar.extui v951
  let v953 : BitVec 32 := Scalar.subi v950 v952
  let v954 : BitVec 1 := Scalar.cmpi .ne v948 v953
  let v955 : BitVec 32 := Scalar.remsi v878 c2_i32_449
  let c0_i32_454 : BitVec 32 := 0#32
  let v956 : BitVec 1 := Scalar.cmpi .ne v955 c0_i32_454
  let v957 : BitVec 1 := Scalar.andi v954 v956
  let v943 : BitVec 32 := Scalar.divsi v878 c2_i32_449
  let c1_i32_455 : BitVec 32 := 1#32
  let v958 : BitVec 32 := Scalar.subi v943 c1_i32_455
  let v959 : BitVec 32 := Scalar.select v957 v958 v943
  v959
def k0_mult41 : BitVec 32 :=
  let c0_i32_468 : BitVec 32 := 0#32
  c0_i32_468
def k0_mult42 : BitVec 32 :=
  let c256_i32_471 : BitVec 32 := 256#32
  c256_i32_471
def k0_mult43 : BitVec 32 :=
  let c0_i32_476 : BitVec 32 := 0#32
  c0_i32_476
def k0_mult44 : BitVec 32 :=
  let c256_i32_479 : BitVec 32 := 256#32
  c256_i32_479
def k0_mult45 : BitVec 32 :=
  let c0_i32_484 : BitVec 32 := 0#32
  c0_i32_484
def k0_mult46 : BitVec 32 :=
  let c256_i32_487 : BitVec 32 := 256#32
  c256_i32_487
def k0_mult47 : BitVec 32 :=
  let c0_i32_492 : BitVec 32 := 0#32
  c0_i32_492
def k0_mult48 : BitVec 32 :=
  let c256_i32_495 : BitVec 32 := 256#32
  c256_i32_495
def k0_mult49 : BitVec 32 :=
  let c0_i32_500 : BitVec 32 := 0#32
  c0_i32_500
def k0_mult50 : BitVec 32 :=
  let c256_i32_503 : BitVec 32 := 256#32
  c256_i32_503
def k0_mult51 : BitVec 32 :=
  let c64_i32_507 : BitVec 32 := 64#32
  c64_i32_507
def k0_mult52 : BitVec 32 :=
  let c320_i32_510 : BitVec 32 := 320#32
  c320_i32_510
def k0_mult53 : BitVec 32 :=
  let c64_i32_515 : BitVec 32 := 64#32
  c64_i32_515
def k0_mult54 : BitVec 32 :=
  let c320_i32_518 : BitVec 32 := 320#32
  c320_i32_518
def k0_mult55 : BitVec 32 :=
  let c64_i32_523 : BitVec 32 := 64#32
  c64_i32_523
def k0_mult56 : BitVec 32 :=
  let c320_i32_526 : BitVec 32 := 320#32
  c320_i32_526
def k0_mult57 : BitVec 32 :=
  let c64_i32_531 : BitVec 32 := 64#32
  c64_i32_531
def k0_mult58 : BitVec 32 :=
  let c320_i32_534 : BitVec 32 := 320#32
  c320_i32_534
def k0_mult59 : BitVec 32 :=
  let c64_i32_539 : BitVec 32 := 64#32
  c64_i32_539
def k0_mult60 : BitVec 32 :=
  let c320_i32_542 : BitVec 32 := 320#32
  c320_i32_542
def k0_mult61 : BitVec 32 :=
  let c2_i32_546 : BitVec 32 := 2#32
  let c0_i32_545 : BitVec 32 := 0#32
  let v1145 : BitVec 32 := Scalar.muli c2_i32_546 c0_i32_545
  let c4_i32 : BitVec 32 := 4#32
  let v1146 : BitVec 32 := Scalar.muli v1145 c4_i32
  let c0_i32_547 : BitVec 32 := 0#32
  let v1147 : BitVec 32 := Scalar.addi v1146 c0_i32_547
  let c128_i32_548 : BitVec 32 := 128#32
  let v1148 : BitVec 32 := Scalar.muli v1147 c128_i32_548
  v1148
def k0_mult62 : BitVec 32 :=
  let c2_i32_546 : BitVec 32 := 2#32
  let c0_i32_545 : BitVec 32 := 0#32
  let v1145 : BitVec 32 := Scalar.muli c2_i32_546 c0_i32_545
  let c4_i32 : BitVec 32 := 4#32
  let v1146 : BitVec 32 := Scalar.muli v1145 c4_i32
  let c0_i32_547 : BitVec 32 := 0#32
  let v1147 : BitVec 32 := Scalar.addi v1146 c0_i32_547
  let c0_i32_549 : BitVec 32 := 0#32
  let v1151 : BitVec 1 := Scalar.cmpi .sgt v1147 c0_i32_549
  let v1152 : BitVec 32 := Scalar.extui v1151
  let c0_i32_550 : BitVec 32 := 0#32
  let v1153 : BitVec 1 := Scalar.cmpi .slt v1147 c0_i32_550
  let v1154 : BitVec 32 := Scalar.extui v1153
  let v1155 : BitVec 32 := Scalar.subi v1152 v1154
  let c16_i32 : BitVec 32 := 16#32
  let c0_i32_551 : BitVec 32 := 0#32
  let v1156 : BitVec 1 := Scalar.cmpi .sgt c16_i32 c0_i32_551
  let v1157 : BitVec 32 := Scalar.extui v1156
  let c0_i32_552 : BitVec 32 := 0#32
  let v1158 : BitVec 1 := Scalar.cmpi .slt c16_i32 c0_i32_552
  let v1159 : BitVec 32 := Scalar.extui v1158
  let v1160 : BitVec 32 := Scalar.subi v1157 v1159
  let v1161 : BitVec 1 := Scalar.cmpi .ne v1155 v1160
  let v1162 : BitVec 32 := Scalar.remsi v1147 c16_i32
  let c0_i32_553 : BitVec 32 := 0#32
  let v1163 : BitVec 1 := Scalar.cmpi .ne v1162 c0_i32_553
  let v1164 : BitVec 1 := Scalar.andi v1161 v1163
  let v1150 : BitVec 32 := Scalar.divsi v1147 c16_i32
  let c1_i32_554 : BitVec 32 := 1#32
  let v1165 : BitVec 32 := Scalar.subi v1150 c1_i32_554
  let v1166 : BitVec 32 := Scalar.select v1164 v1165 v1150
  let c2048_i32 : BitVec 32 := 2048#32
  let v1181 : BitVec 32 := Scalar.muli v1166 c2048_i32
  let c1792_i32_564 : BitVec 32 := 1792#32
  let c0_i32_563 : BitVec 32 := 0#32
  let c16_i32_555 : BitVec 32 := 16#32
  let c0_i32_556 : BitVec 32 := 0#32
  let v1167 : BitVec 1 := Scalar.cmpi .eq c16_i32_555 c0_i32_556
  let c1_i32_557 : BitVec 32 := 1#32
  let v1168 : BitVec 32 := Scalar.select v1167 c1_i32_557 c16_i32_555
  let v1169 : BitVec 32 := Scalar.remsi v1147 v1168
  let c0_i32_559 : BitVec 32 := 0#32
  let v1171 : BitVec 1 := Scalar.cmpi .slt v1169 c0_i32_559
  let c0_i32_560 : BitVec 32 := 0#32
  let v1172 : BitVec 1 := Scalar.cmpi .slt v1168 c0_i32_560
  let v1173 : BitVec 1 := Scalar.xori v1171 v1172
  let c0_i32_558 : BitVec 32 := 0#32
  let v1170 : BitVec 1 := Scalar.cmpi .ne v1169 c0_i32_558
  let v1174 : BitVec 1 := Scalar.andi v1173 v1170
  let v1175 : BitVec 32 := Scalar.addi v1169 v1168
  let v1176 : BitVec 32 := Scalar.select v1174 v1175 v1169
  let c128_i32_561 : BitVec 32 := 128#32
  let v1177 : BitVec 32 := Scalar.muli v1176 c128_i32_561
  let c64_i32_562 : BitVec 32 := 64#32
  let v1178 : BitVec 32 := Scalar.subi v1177 c64_i32_562
  let v1179 : BitVec 32 := Scalar.maxsi c0_i32_563 v1178
  let v1180 : BitVec 32 := Scalar.minsi c1792_i32_564 v1179
  let v1182 : BitVec 32 := Scalar.addi v1181 v1180
  v1182
def k0_mult63 : BitVec 32 :=
  let c2_i32_546 : BitVec 32 := 2#32
  let c0_i32_545 : BitVec 32 := 0#32
  let v1145 : BitVec 32 := Scalar.muli c2_i32_546 c0_i32_545
  let c4_i32 : BitVec 32 := 4#32
  let v1146 : BitVec 32 := Scalar.muli v1145 c4_i32
  let c0_i32_547 : BitVec 32 := 0#32
  let v1147 : BitVec 32 := Scalar.addi v1146 c0_i32_547
  let c0_i32_549 : BitVec 32 := 0#32
  let v1151 : BitVec 1 := Scalar.cmpi .sgt v1147 c0_i32_549
  let v1152 : BitVec 32 := Scalar.extui v1151
  let c0_i32_550 : BitVec 32 := 0#32
  let v1153 : BitVec 1 := Scalar.cmpi .slt v1147 c0_i32_550
  let v1154 : BitVec 32 := Scalar.extui v1153
  let v1155 : BitVec 32 := Scalar.subi v1152 v1154
  let c16_i32 : BitVec 32 := 16#32
  let c0_i32_551 : BitVec 32 := 0#32
  let v1156 : BitVec 1 := Scalar.cmpi .sgt c16_i32 c0_i32_551
  let v1157 : BitVec 32 := Scalar.extui v1156
  let c0_i32_552 : BitVec 32 := 0#32
  let v1158 : BitVec 1 := Scalar.cmpi .slt c16_i32 c0_i32_552
  let v1159 : BitVec 32 := Scalar.extui v1158
  let v1160 : BitVec 32 := Scalar.subi v1157 v1159
  let v1161 : BitVec 1 := Scalar.cmpi .ne v1155 v1160
  let v1162 : BitVec 32 := Scalar.remsi v1147 c16_i32
  let c0_i32_553 : BitVec 32 := 0#32
  let v1163 : BitVec 1 := Scalar.cmpi .ne v1162 c0_i32_553
  let v1164 : BitVec 1 := Scalar.andi v1161 v1163
  let v1150 : BitVec 32 := Scalar.divsi v1147 c16_i32
  let c1_i32_554 : BitVec 32 := 1#32
  let v1165 : BitVec 32 := Scalar.subi v1150 c1_i32_554
  let v1166 : BitVec 32 := Scalar.select v1164 v1165 v1150
  let c2048_i32 : BitVec 32 := 2048#32
  let v1181 : BitVec 32 := Scalar.muli v1166 c2048_i32
  let c1792_i32_564 : BitVec 32 := 1792#32
  let c0_i32_563 : BitVec 32 := 0#32
  let c16_i32_555 : BitVec 32 := 16#32
  let c0_i32_556 : BitVec 32 := 0#32
  let v1167 : BitVec 1 := Scalar.cmpi .eq c16_i32_555 c0_i32_556
  let c1_i32_557 : BitVec 32 := 1#32
  let v1168 : BitVec 32 := Scalar.select v1167 c1_i32_557 c16_i32_555
  let v1169 : BitVec 32 := Scalar.remsi v1147 v1168
  let c0_i32_559 : BitVec 32 := 0#32
  let v1171 : BitVec 1 := Scalar.cmpi .slt v1169 c0_i32_559
  let c0_i32_560 : BitVec 32 := 0#32
  let v1172 : BitVec 1 := Scalar.cmpi .slt v1168 c0_i32_560
  let v1173 : BitVec 1 := Scalar.xori v1171 v1172
  let c0_i32_558 : BitVec 32 := 0#32
  let v1170 : BitVec 1 := Scalar.cmpi .ne v1169 c0_i32_558
  let v1174 : BitVec 1 := Scalar.andi v1173 v1170
  let v1175 : BitVec 32 := Scalar.addi v1169 v1168
  let v1176 : BitVec 32 := Scalar.select v1174 v1175 v1169
  let c128_i32_561 : BitVec 32 := 128#32
  let v1177 : BitVec 32 := Scalar.muli v1176 c128_i32_561
  let c64_i32_562 : BitVec 32 := 64#32
  let v1178 : BitVec 32 := Scalar.subi v1177 c64_i32_562
  let v1179 : BitVec 32 := Scalar.maxsi c0_i32_563 v1178
  let v1180 : BitVec 32 := Scalar.minsi c1792_i32_564 v1179
  let v1182 : BitVec 32 := Scalar.addi v1181 v1180
  let v1183 : BitVec 32 := v1182
  let c0_i32_570 : BitVec 32 := 0#32
  let v1187 : BitVec 1 := Scalar.cmpi .sgt v1183 c0_i32_570
  let v1188 : BitVec 32 := Scalar.extui v1187
  let c0_i32_571 : BitVec 32 := 0#32
  let v1189 : BitVec 1 := Scalar.cmpi .slt v1183 c0_i32_571
  let v1190 : BitVec 32 := Scalar.extui v1189
  let v1191 : BitVec 32 := Scalar.subi v1188 v1190
  let c2_i32_569 : BitVec 32 := 2#32
  let c0_i32_572 : BitVec 32 := 0#32
  let v1192 : BitVec 1 := Scalar.cmpi .sgt c2_i32_569 c0_i32_572
  let v1193 : BitVec 32 := Scalar.extui v1192
  let c0_i32_573 : BitVec 32 := 0#32
  let v1194 : BitVec 1 := Scalar.cmpi .slt c2_i32_569 c0_i32_573
  let v1195 : BitVec 32 := Scalar.extui v1194
  let v1196 : BitVec 32 := Scalar.subi v1193 v1195
  let v1197 : BitVec 1 := Scalar.cmpi .ne v1191 v1196
  let v1198 : BitVec 32 := Scalar.remsi v1183 c2_i32_569
  let c0_i32_574 : BitVec 32 := 0#32
  let v1199 : BitVec 1 := Scalar.cmpi .ne v1198 c0_i32_574
  let v1200 : BitVec 1 := Scalar.andi v1197 v1199
  let v1186 : BitVec 32 := Scalar.divsi v1183 c2_i32_569
  let c1_i32_575 : BitVec 32 := 1#32
  let v1201 : BitVec 32 := Scalar.subi v1186 c1_i32_575
  let v1202 : BitVec 32 := Scalar.select v1200 v1201 v1186
  v1202
def k0_off4 (c0_i32_547 : BitVec 32) : Fin 2 → Nat :=
  let c2_i32_546 : BitVec 32 := 2#32
  let c0_i32_545 : BitVec 32 := 0#32
  let v1145 : BitVec 32 := Scalar.muli c2_i32_546 c0_i32_545
  let c4_i32 : BitVec 32 := 4#32
  let v1146 : BitVec 32 := Scalar.muli v1145 c4_i32
  let v1147 : BitVec 32 := Scalar.addi v1146 c0_i32_547
  let c0_i32_549 : BitVec 32 := 0#32
  let v1151 : BitVec 1 := Scalar.cmpi .sgt v1147 c0_i32_549
  let v1152 : BitVec 32 := Scalar.extui v1151
  let c0_i32_550 : BitVec 32 := 0#32
  let v1153 : BitVec 1 := Scalar.cmpi .slt v1147 c0_i32_550
  let v1154 : BitVec 32 := Scalar.extui v1153
  let v1155 : BitVec 32 := Scalar.subi v1152 v1154
  let c16_i32 : BitVec 32 := 16#32
  let c0_i32_551 : BitVec 32 := 0#32
  let v1156 : BitVec 1 := Scalar.cmpi .sgt c16_i32 c0_i32_551
  let v1157 : BitVec 32 := Scalar.extui v1156
  let c0_i32_552 : BitVec 32 := 0#32
  let v1158 : BitVec 1 := Scalar.cmpi .slt c16_i32 c0_i32_552
  let v1159 : BitVec 32 := Scalar.extui v1158
  let v1160 : BitVec 32 := Scalar.subi v1157 v1159
  let v1161 : BitVec 1 := Scalar.cmpi .ne v1155 v1160
  let v1162 : BitVec 32 := Scalar.remsi v1147 c16_i32
  let c0_i32_553 : BitVec 32 := 0#32
  let v1163 : BitVec 1 := Scalar.cmpi .ne v1162 c0_i32_553
  let v1164 : BitVec 1 := Scalar.andi v1161 v1163
  let v1150 : BitVec 32 := Scalar.divsi v1147 c16_i32
  let c1_i32_554 : BitVec 32 := 1#32
  let v1165 : BitVec 32 := Scalar.subi v1150 c1_i32_554
  let v1166 : BitVec 32 := Scalar.select v1164 v1165 v1150
  let c2048_i32 : BitVec 32 := 2048#32
  let v1181 : BitVec 32 := Scalar.muli v1166 c2048_i32
  let c1792_i32_564 : BitVec 32 := 1792#32
  let c0_i32_563 : BitVec 32 := 0#32
  let c16_i32_555 : BitVec 32 := 16#32
  let c0_i32_556 : BitVec 32 := 0#32
  let v1167 : BitVec 1 := Scalar.cmpi .eq c16_i32_555 c0_i32_556
  let c1_i32_557 : BitVec 32 := 1#32
  let v1168 : BitVec 32 := Scalar.select v1167 c1_i32_557 c16_i32_555
  let v1169 : BitVec 32 := Scalar.remsi v1147 v1168
  let c0_i32_559 : BitVec 32 := 0#32
  let v1171 : BitVec 1 := Scalar.cmpi .slt v1169 c0_i32_559
  let c0_i32_560 : BitVec 32 := 0#32
  let v1172 : BitVec 1 := Scalar.cmpi .slt v1168 c0_i32_560
  let v1173 : BitVec 1 := Scalar.xori v1171 v1172
  let c0_i32_558 : BitVec 32 := 0#32
  let v1170 : BitVec 1 := Scalar.cmpi .ne v1169 c0_i32_558
  let v1174 : BitVec 1 := Scalar.andi v1173 v1170
  let v1175 : BitVec 32 := Scalar.addi v1169 v1168
  let v1176 : BitVec 32 := Scalar.select v1174 v1175 v1169
  let c128_i32_561 : BitVec 32 := 128#32
  let v1177 : BitVec 32 := Scalar.muli v1176 c128_i32_561
  let c64_i32_562 : BitVec 32 := 64#32
  let v1178 : BitVec 32 := Scalar.subi v1177 c64_i32_562
  let v1179 : BitVec 32 := Scalar.maxsi c0_i32_563 v1178
  let v1180 : BitVec 32 := Scalar.minsi c1792_i32_564 v1179
  let v1182 : BitVec 32 := Scalar.addi v1181 v1180
  let v1183 : BitVec 32 := v1182
  let c0_i32_570 : BitVec 32 := 0#32
  let v1187 : BitVec 1 := Scalar.cmpi .sgt v1183 c0_i32_570
  let v1188 : BitVec 32 := Scalar.extui v1187
  let c0_i32_571 : BitVec 32 := 0#32
  let v1189 : BitVec 1 := Scalar.cmpi .slt v1183 c0_i32_571
  let v1190 : BitVec 32 := Scalar.extui v1189
  let v1191 : BitVec 32 := Scalar.subi v1188 v1190
  let c2_i32_569 : BitVec 32 := 2#32
  let c0_i32_572 : BitVec 32 := 0#32
  let v1192 : BitVec 1 := Scalar.cmpi .sgt c2_i32_569 c0_i32_572
  let v1193 : BitVec 32 := Scalar.extui v1192
  let c0_i32_573 : BitVec 32 := 0#32
  let v1194 : BitVec 1 := Scalar.cmpi .slt c2_i32_569 c0_i32_573
  let v1195 : BitVec 32 := Scalar.extui v1194
  let v1196 : BitVec 32 := Scalar.subi v1193 v1195
  let v1197 : BitVec 1 := Scalar.cmpi .ne v1191 v1196
  let v1198 : BitVec 32 := Scalar.remsi v1183 c2_i32_569
  let c0_i32_574 : BitVec 32 := 0#32
  let v1199 : BitVec 1 := Scalar.cmpi .ne v1198 c0_i32_574
  let v1200 : BitVec 1 := Scalar.andi v1197 v1199
  let v1186 : BitVec 32 := Scalar.divsi v1183 c2_i32_569
  let c1_i32_575 : BitVec 32 := 1#32
  let v1201 : BitVec 32 := Scalar.subi v1186 c1_i32_575
  let v1202 : BitVec 32 := Scalar.select v1200 v1201 v1186
  let v1203 : BitVec 32 := v1202
  let v1204 : Index := Scalar.indexCast v1203
  let c0_576 : Index := 0#32
  ![v1204.toNat, 0]
def k0_mult64 : BitVec 32 :=
  let c2_i32_546 : BitVec 32 := 2#32
  let c0_i32_545 : BitVec 32 := 0#32
  let v1145 : BitVec 32 := Scalar.muli c2_i32_546 c0_i32_545
  let c4_i32 : BitVec 32 := 4#32
  let v1146 : BitVec 32 := Scalar.muli v1145 c4_i32
  let c0_i32_547 : BitVec 32 := 0#32
  let v1147 : BitVec 32 := Scalar.addi v1146 c0_i32_547
  let c0_i32_549 : BitVec 32 := 0#32
  let v1151 : BitVec 1 := Scalar.cmpi .sgt v1147 c0_i32_549
  let v1152 : BitVec 32 := Scalar.extui v1151
  let c0_i32_550 : BitVec 32 := 0#32
  let v1153 : BitVec 1 := Scalar.cmpi .slt v1147 c0_i32_550
  let v1154 : BitVec 32 := Scalar.extui v1153
  let v1155 : BitVec 32 := Scalar.subi v1152 v1154
  let c16_i32 : BitVec 32 := 16#32
  let c0_i32_551 : BitVec 32 := 0#32
  let v1156 : BitVec 1 := Scalar.cmpi .sgt c16_i32 c0_i32_551
  let v1157 : BitVec 32 := Scalar.extui v1156
  let c0_i32_552 : BitVec 32 := 0#32
  let v1158 : BitVec 1 := Scalar.cmpi .slt c16_i32 c0_i32_552
  let v1159 : BitVec 32 := Scalar.extui v1158
  let v1160 : BitVec 32 := Scalar.subi v1157 v1159
  let v1161 : BitVec 1 := Scalar.cmpi .ne v1155 v1160
  let v1162 : BitVec 32 := Scalar.remsi v1147 c16_i32
  let c0_i32_553 : BitVec 32 := 0#32
  let v1163 : BitVec 1 := Scalar.cmpi .ne v1162 c0_i32_553
  let v1164 : BitVec 1 := Scalar.andi v1161 v1163
  let v1150 : BitVec 32 := Scalar.divsi v1147 c16_i32
  let c1_i32_554 : BitVec 32 := 1#32
  let v1165 : BitVec 32 := Scalar.subi v1150 c1_i32_554
  let v1166 : BitVec 32 := Scalar.select v1164 v1165 v1150
  let c2048_i32 : BitVec 32 := 2048#32
  let v1181 : BitVec 32 := Scalar.muli v1166 c2048_i32
  let c1792_i32_564 : BitVec 32 := 1792#32
  let c0_i32_563 : BitVec 32 := 0#32
  let c16_i32_555 : BitVec 32 := 16#32
  let c0_i32_556 : BitVec 32 := 0#32
  let v1167 : BitVec 1 := Scalar.cmpi .eq c16_i32_555 c0_i32_556
  let c1_i32_557 : BitVec 32 := 1#32
  let v1168 : BitVec 32 := Scalar.select v1167 c1_i32_557 c16_i32_555
  let v1169 : BitVec 32 := Scalar.remsi v1147 v1168
  let c0_i32_559 : BitVec 32 := 0#32
  let v1171 : BitVec 1 := Scalar.cmpi .slt v1169 c0_i32_559
  let c0_i32_560 : BitVec 32 := 0#32
  let v1172 : BitVec 1 := Scalar.cmpi .slt v1168 c0_i32_560
  let v1173 : BitVec 1 := Scalar.xori v1171 v1172
  let c0_i32_558 : BitVec 32 := 0#32
  let v1170 : BitVec 1 := Scalar.cmpi .ne v1169 c0_i32_558
  let v1174 : BitVec 1 := Scalar.andi v1173 v1170
  let v1175 : BitVec 32 := Scalar.addi v1169 v1168
  let v1176 : BitVec 32 := Scalar.select v1174 v1175 v1169
  let c128_i32_561 : BitVec 32 := 128#32
  let v1177 : BitVec 32 := Scalar.muli v1176 c128_i32_561
  let c64_i32_562 : BitVec 32 := 64#32
  let v1178 : BitVec 32 := Scalar.subi v1177 c64_i32_562
  let v1179 : BitVec 32 := Scalar.maxsi c0_i32_563 v1178
  let v1180 : BitVec 32 := Scalar.minsi c1792_i32_564 v1179
  let v1182 : BitVec 32 := Scalar.addi v1181 v1180
  let v1183 : BitVec 32 := v1182
  let c0_i32_583 : BitVec 32 := 0#32
  let v1211 : BitVec 1 := Scalar.cmpi .sgt v1183 c0_i32_583
  let v1212 : BitVec 32 := Scalar.extui v1211
  let c0_i32_584 : BitVec 32 := 0#32
  let v1213 : BitVec 1 := Scalar.cmpi .slt v1183 c0_i32_584
  let v1214 : BitVec 32 := Scalar.extui v1213
  let v1215 : BitVec 32 := Scalar.subi v1212 v1214
  let c2_i32_582 : BitVec 32 := 2#32
  let c0_i32_585 : BitVec 32 := 0#32
  let v1216 : BitVec 1 := Scalar.cmpi .sgt c2_i32_582 c0_i32_585
  let v1217 : BitVec 32 := Scalar.extui v1216
  let c0_i32_586 : BitVec 32 := 0#32
  let v1218 : BitVec 1 := Scalar.cmpi .slt c2_i32_582 c0_i32_586
  let v1219 : BitVec 32 := Scalar.extui v1218
  let v1220 : BitVec 32 := Scalar.subi v1217 v1219
  let v1221 : BitVec 1 := Scalar.cmpi .ne v1215 v1220
  let v1222 : BitVec 32 := Scalar.remsi v1183 c2_i32_582
  let c0_i32_587 : BitVec 32 := 0#32
  let v1223 : BitVec 1 := Scalar.cmpi .ne v1222 c0_i32_587
  let v1224 : BitVec 1 := Scalar.andi v1221 v1223
  let v1210 : BitVec 32 := Scalar.divsi v1183 c2_i32_582
  let c1_i32_588 : BitVec 32 := 1#32
  let v1225 : BitVec 32 := Scalar.subi v1210 c1_i32_588
  let v1226 : BitVec 32 := Scalar.select v1224 v1225 v1210
  v1226
def k0_off5 (c0_i32_547 : BitVec 32) : Fin 3 → Nat :=
  let c4_592 : Index := 4#32
  let c2_i32_546 : BitVec 32 := 2#32
  let c0_i32_545 : BitVec 32 := 0#32
  let v1145 : BitVec 32 := Scalar.muli c2_i32_546 c0_i32_545
  let c4_i32 : BitVec 32 := 4#32
  let v1146 : BitVec 32 := Scalar.muli v1145 c4_i32
  let v1147 : BitVec 32 := Scalar.addi v1146 c0_i32_547
  let c128_i32_548 : BitVec 32 := 128#32
  let v1148 : BitVec 32 := Scalar.muli v1147 c128_i32_548
  let v1149 : BitVec 32 := v1148
  let v1240 : Index := Scalar.indexCast v1149
  let c0_593 : Index := 0#32
  ![4, v1240.toNat, 0]
def k0_off6 (c0_i32_547 : BitVec 32) : Fin 3 → Nat :=
  let c5_599 : Index := 5#32
  let c2_i32_546 : BitVec 32 := 2#32
  let c0_i32_545 : BitVec 32 := 0#32
  let v1145 : BitVec 32 := Scalar.muli c2_i32_546 c0_i32_545
  let c4_i32 : BitVec 32 := 4#32
  let v1146 : BitVec 32 := Scalar.muli v1145 c4_i32
  let v1147 : BitVec 32 := Scalar.addi v1146 c0_i32_547
  let c128_i32_548 : BitVec 32 := 128#32
  let v1148 : BitVec 32 := Scalar.muli v1147 c128_i32_548
  let v1149 : BitVec 32 := v1148
  let v1250 : Index := Scalar.indexCast v1149
  let c0_600 : Index := 0#32
  ![5, v1250.toNat, 0]
def k0_mult65 : BitVec 32 :=
  let c2_i32_546 : BitVec 32 := 2#32
  let c0_i32_545 : BitVec 32 := 0#32
  let v1145 : BitVec 32 := Scalar.muli c2_i32_546 c0_i32_545
  let c4_i32_601 : BitVec 32 := 4#32
  let v1254 : BitVec 32 := Scalar.muli v1145 c4_i32_601
  let c1_i32_602 : BitVec 32 := 1#32
  let v1255 : BitVec 32 := Scalar.addi v1254 c1_i32_602
  let c128_i32_603 : BitVec 32 := 128#32
  let v1256 : BitVec 32 := Scalar.muli v1255 c128_i32_603
  v1256
def k0_mult66 : BitVec 32 :=
  let c2_i32_546 : BitVec 32 := 2#32
  let c0_i32_545 : BitVec 32 := 0#32
  let v1145 : BitVec 32 := Scalar.muli c2_i32_546 c0_i32_545
  let c4_i32_601 : BitVec 32 := 4#32
  let v1254 : BitVec 32 := Scalar.muli v1145 c4_i32_601
  let c1_i32_602 : BitVec 32 := 1#32
  let v1255 : BitVec 32 := Scalar.addi v1254 c1_i32_602
  let c0_i32_605 : BitVec 32 := 0#32
  let v1259 : BitVec 1 := Scalar.cmpi .sgt v1255 c0_i32_605
  let v1260 : BitVec 32 := Scalar.extui v1259
  let c0_i32_606 : BitVec 32 := 0#32
  let v1261 : BitVec 1 := Scalar.cmpi .slt v1255 c0_i32_606
  let v1262 : BitVec 32 := Scalar.extui v1261
  let v1263 : BitVec 32 := Scalar.subi v1260 v1262
  let c16_i32_604 : BitVec 32 := 16#32
  let c0_i32_607 : BitVec 32 := 0#32
  let v1264 : BitVec 1 := Scalar.cmpi .sgt c16_i32_604 c0_i32_607
  let v1265 : BitVec 32 := Scalar.extui v1264
  let c0_i32_608 : BitVec 32 := 0#32
  let v1266 : BitVec 1 := Scalar.cmpi .slt c16_i32_604 c0_i32_608
  let v1267 : BitVec 32 := Scalar.extui v1266
  let v1268 : BitVec 32 := Scalar.subi v1265 v1267
  let v1269 : BitVec 1 := Scalar.cmpi .ne v1263 v1268
  let v1270 : BitVec 32 := Scalar.remsi v1255 c16_i32_604
  let c0_i32_609 : BitVec 32 := 0#32
  let v1271 : BitVec 1 := Scalar.cmpi .ne v1270 c0_i32_609
  let v1272 : BitVec 1 := Scalar.andi v1269 v1271
  let v1258 : BitVec 32 := Scalar.divsi v1255 c16_i32_604
  let c1_i32_610 : BitVec 32 := 1#32
  let v1273 : BitVec 32 := Scalar.subi v1258 c1_i32_610
  let v1274 : BitVec 32 := Scalar.select v1272 v1273 v1258
  let c2048_i32_621 : BitVec 32 := 2048#32
  let v1289 : BitVec 32 := Scalar.muli v1274 c2048_i32_621
  let c1792_i32_620 : BitVec 32 := 1792#32
  let c0_i32_619 : BitVec 32 := 0#32
  let c16_i32_611 : BitVec 32 := 16#32
  let c0_i32_612 : BitVec 32 := 0#32
  let v1275 : BitVec 1 := Scalar.cmpi .eq c16_i32_611 c0_i32_612
  let c1_i32_613 : BitVec 32 := 1#32
  let v1276 : BitVec 32 := Scalar.select v1275 c1_i32_613 c16_i32_611
  let v1277 : BitVec 32 := Scalar.remsi v1255 v1276
  let c0_i32_615 : BitVec 32 := 0#32
  let v1279 : BitVec 1 := Scalar.cmpi .slt v1277 c0_i32_615
  let c0_i32_616 : BitVec 32 := 0#32
  let v1280 : BitVec 1 := Scalar.cmpi .slt v1276 c0_i32_616
  let v1281 : BitVec 1 := Scalar.xori v1279 v1280
  let c0_i32_614 : BitVec 32 := 0#32
  let v1278 : BitVec 1 := Scalar.cmpi .ne v1277 c0_i32_614
  let v1282 : BitVec 1 := Scalar.andi v1281 v1278
  let v1283 : BitVec 32 := Scalar.addi v1277 v1276
  let v1284 : BitVec 32 := Scalar.select v1282 v1283 v1277
  let c128_i32_617 : BitVec 32 := 128#32
  let v1285 : BitVec 32 := Scalar.muli v1284 c128_i32_617
  let c64_i32_618 : BitVec 32 := 64#32
  let v1286 : BitVec 32 := Scalar.subi v1285 c64_i32_618
  let v1287 : BitVec 32 := Scalar.maxsi c0_i32_619 v1286
  let v1288 : BitVec 32 := Scalar.minsi c1792_i32_620 v1287
  let v1290 : BitVec 32 := Scalar.addi v1289 v1288
  v1290
def k0_mult67 : BitVec 32 :=
  let c2_i32_546 : BitVec 32 := 2#32
  let c0_i32_545 : BitVec 32 := 0#32
  let v1145 : BitVec 32 := Scalar.muli c2_i32_546 c0_i32_545
  let c4_i32_601 : BitVec 32 := 4#32
  let v1254 : BitVec 32 := Scalar.muli v1145 c4_i32_601
  let c1_i32_602 : BitVec 32 := 1#32
  let v1255 : BitVec 32 := Scalar.addi v1254 c1_i32_602
  let c0_i32_605 : BitVec 32 := 0#32
  let v1259 : BitVec 1 := Scalar.cmpi .sgt v1255 c0_i32_605
  let v1260 : BitVec 32 := Scalar.extui v1259
  let c0_i32_606 : BitVec 32 := 0#32
  let v1261 : BitVec 1 := Scalar.cmpi .slt v1255 c0_i32_606
  let v1262 : BitVec 32 := Scalar.extui v1261
  let v1263 : BitVec 32 := Scalar.subi v1260 v1262
  let c16_i32_604 : BitVec 32 := 16#32
  let c0_i32_607 : BitVec 32 := 0#32
  let v1264 : BitVec 1 := Scalar.cmpi .sgt c16_i32_604 c0_i32_607
  let v1265 : BitVec 32 := Scalar.extui v1264
  let c0_i32_608 : BitVec 32 := 0#32
  let v1266 : BitVec 1 := Scalar.cmpi .slt c16_i32_604 c0_i32_608
  let v1267 : BitVec 32 := Scalar.extui v1266
  let v1268 : BitVec 32 := Scalar.subi v1265 v1267
  let v1269 : BitVec 1 := Scalar.cmpi .ne v1263 v1268
  let v1270 : BitVec 32 := Scalar.remsi v1255 c16_i32_604
  let c0_i32_609 : BitVec 32 := 0#32
  let v1271 : BitVec 1 := Scalar.cmpi .ne v1270 c0_i32_609
  let v1272 : BitVec 1 := Scalar.andi v1269 v1271
  let v1258 : BitVec 32 := Scalar.divsi v1255 c16_i32_604
  let c1_i32_610 : BitVec 32 := 1#32
  let v1273 : BitVec 32 := Scalar.subi v1258 c1_i32_610
  let v1274 : BitVec 32 := Scalar.select v1272 v1273 v1258
  let c2048_i32_621 : BitVec 32 := 2048#32
  let v1289 : BitVec 32 := Scalar.muli v1274 c2048_i32_621
  let c1792_i32_620 : BitVec 32 := 1792#32
  let c0_i32_619 : BitVec 32 := 0#32
  let c16_i32_611 : BitVec 32 := 16#32
  let c0_i32_612 : BitVec 32 := 0#32
  let v1275 : BitVec 1 := Scalar.cmpi .eq c16_i32_611 c0_i32_612
  let c1_i32_613 : BitVec 32 := 1#32
  let v1276 : BitVec 32 := Scalar.select v1275 c1_i32_613 c16_i32_611
  let v1277 : BitVec 32 := Scalar.remsi v1255 v1276
  let c0_i32_615 : BitVec 32 := 0#32
  let v1279 : BitVec 1 := Scalar.cmpi .slt v1277 c0_i32_615
  let c0_i32_616 : BitVec 32 := 0#32
  let v1280 : BitVec 1 := Scalar.cmpi .slt v1276 c0_i32_616
  let v1281 : BitVec 1 := Scalar.xori v1279 v1280
  let c0_i32_614 : BitVec 32 := 0#32
  let v1278 : BitVec 1 := Scalar.cmpi .ne v1277 c0_i32_614
  let v1282 : BitVec 1 := Scalar.andi v1281 v1278
  let v1283 : BitVec 32 := Scalar.addi v1277 v1276
  let v1284 : BitVec 32 := Scalar.select v1282 v1283 v1277
  let c128_i32_617 : BitVec 32 := 128#32
  let v1285 : BitVec 32 := Scalar.muli v1284 c128_i32_617
  let c64_i32_618 : BitVec 32 := 64#32
  let v1286 : BitVec 32 := Scalar.subi v1285 c64_i32_618
  let v1287 : BitVec 32 := Scalar.maxsi c0_i32_619 v1286
  let v1288 : BitVec 32 := Scalar.minsi c1792_i32_620 v1287
  let v1290 : BitVec 32 := Scalar.addi v1289 v1288
  let v1291 : BitVec 32 := v1290
  let c0_i32_627 : BitVec 32 := 0#32
  let v1295 : BitVec 1 := Scalar.cmpi .sgt v1291 c0_i32_627
  let v1296 : BitVec 32 := Scalar.extui v1295
  let c0_i32_628 : BitVec 32 := 0#32
  let v1297 : BitVec 1 := Scalar.cmpi .slt v1291 c0_i32_628
  let v1298 : BitVec 32 := Scalar.extui v1297
  let v1299 : BitVec 32 := Scalar.subi v1296 v1298
  let c2_i32_626 : BitVec 32 := 2#32
  let c0_i32_629 : BitVec 32 := 0#32
  let v1300 : BitVec 1 := Scalar.cmpi .sgt c2_i32_626 c0_i32_629
  let v1301 : BitVec 32 := Scalar.extui v1300
  let c0_i32_630 : BitVec 32 := 0#32
  let v1302 : BitVec 1 := Scalar.cmpi .slt c2_i32_626 c0_i32_630
  let v1303 : BitVec 32 := Scalar.extui v1302
  let v1304 : BitVec 32 := Scalar.subi v1301 v1303
  let v1305 : BitVec 1 := Scalar.cmpi .ne v1299 v1304
  let v1306 : BitVec 32 := Scalar.remsi v1291 c2_i32_626
  let c0_i32_631 : BitVec 32 := 0#32
  let v1307 : BitVec 1 := Scalar.cmpi .ne v1306 c0_i32_631
  let v1308 : BitVec 1 := Scalar.andi v1305 v1307
  let v1294 : BitVec 32 := Scalar.divsi v1291 c2_i32_626
  let c1_i32_632 : BitVec 32 := 1#32
  let v1309 : BitVec 32 := Scalar.subi v1294 c1_i32_632
  let v1310 : BitVec 32 := Scalar.select v1308 v1309 v1294
  v1310
def k0_mult68 : BitVec 32 :=
  let c2_i32_546 : BitVec 32 := 2#32
  let c0_i32_545 : BitVec 32 := 0#32
  let v1145 : BitVec 32 := Scalar.muli c2_i32_546 c0_i32_545
  let c4_i32_601 : BitVec 32 := 4#32
  let v1254 : BitVec 32 := Scalar.muli v1145 c4_i32_601
  let c1_i32_602 : BitVec 32 := 1#32
  let v1255 : BitVec 32 := Scalar.addi v1254 c1_i32_602
  let c0_i32_605 : BitVec 32 := 0#32
  let v1259 : BitVec 1 := Scalar.cmpi .sgt v1255 c0_i32_605
  let v1260 : BitVec 32 := Scalar.extui v1259
  let c0_i32_606 : BitVec 32 := 0#32
  let v1261 : BitVec 1 := Scalar.cmpi .slt v1255 c0_i32_606
  let v1262 : BitVec 32 := Scalar.extui v1261
  let v1263 : BitVec 32 := Scalar.subi v1260 v1262
  let c16_i32_604 : BitVec 32 := 16#32
  let c0_i32_607 : BitVec 32 := 0#32
  let v1264 : BitVec 1 := Scalar.cmpi .sgt c16_i32_604 c0_i32_607
  let v1265 : BitVec 32 := Scalar.extui v1264
  let c0_i32_608 : BitVec 32 := 0#32
  let v1266 : BitVec 1 := Scalar.cmpi .slt c16_i32_604 c0_i32_608
  let v1267 : BitVec 32 := Scalar.extui v1266
  let v1268 : BitVec 32 := Scalar.subi v1265 v1267
  let v1269 : BitVec 1 := Scalar.cmpi .ne v1263 v1268
  let v1270 : BitVec 32 := Scalar.remsi v1255 c16_i32_604
  let c0_i32_609 : BitVec 32 := 0#32
  let v1271 : BitVec 1 := Scalar.cmpi .ne v1270 c0_i32_609
  let v1272 : BitVec 1 := Scalar.andi v1269 v1271
  let v1258 : BitVec 32 := Scalar.divsi v1255 c16_i32_604
  let c1_i32_610 : BitVec 32 := 1#32
  let v1273 : BitVec 32 := Scalar.subi v1258 c1_i32_610
  let v1274 : BitVec 32 := Scalar.select v1272 v1273 v1258
  let c2048_i32_621 : BitVec 32 := 2048#32
  let v1289 : BitVec 32 := Scalar.muli v1274 c2048_i32_621
  let c1792_i32_620 : BitVec 32 := 1792#32
  let c0_i32_619 : BitVec 32 := 0#32
  let c16_i32_611 : BitVec 32 := 16#32
  let c0_i32_612 : BitVec 32 := 0#32
  let v1275 : BitVec 1 := Scalar.cmpi .eq c16_i32_611 c0_i32_612
  let c1_i32_613 : BitVec 32 := 1#32
  let v1276 : BitVec 32 := Scalar.select v1275 c1_i32_613 c16_i32_611
  let v1277 : BitVec 32 := Scalar.remsi v1255 v1276
  let c0_i32_615 : BitVec 32 := 0#32
  let v1279 : BitVec 1 := Scalar.cmpi .slt v1277 c0_i32_615
  let c0_i32_616 : BitVec 32 := 0#32
  let v1280 : BitVec 1 := Scalar.cmpi .slt v1276 c0_i32_616
  let v1281 : BitVec 1 := Scalar.xori v1279 v1280
  let c0_i32_614 : BitVec 32 := 0#32
  let v1278 : BitVec 1 := Scalar.cmpi .ne v1277 c0_i32_614
  let v1282 : BitVec 1 := Scalar.andi v1281 v1278
  let v1283 : BitVec 32 := Scalar.addi v1277 v1276
  let v1284 : BitVec 32 := Scalar.select v1282 v1283 v1277
  let c128_i32_617 : BitVec 32 := 128#32
  let v1285 : BitVec 32 := Scalar.muli v1284 c128_i32_617
  let c64_i32_618 : BitVec 32 := 64#32
  let v1286 : BitVec 32 := Scalar.subi v1285 c64_i32_618
  let v1287 : BitVec 32 := Scalar.maxsi c0_i32_619 v1286
  let v1288 : BitVec 32 := Scalar.minsi c1792_i32_620 v1287
  let v1290 : BitVec 32 := Scalar.addi v1289 v1288
  let v1291 : BitVec 32 := v1290
  let c0_i32_640 : BitVec 32 := 0#32
  let v1319 : BitVec 1 := Scalar.cmpi .sgt v1291 c0_i32_640
  let v1320 : BitVec 32 := Scalar.extui v1319
  let c0_i32_641 : BitVec 32 := 0#32
  let v1321 : BitVec 1 := Scalar.cmpi .slt v1291 c0_i32_641
  let v1322 : BitVec 32 := Scalar.extui v1321
  let v1323 : BitVec 32 := Scalar.subi v1320 v1322
  let c2_i32_639 : BitVec 32 := 2#32
  let c0_i32_642 : BitVec 32 := 0#32
  let v1324 : BitVec 1 := Scalar.cmpi .sgt c2_i32_639 c0_i32_642
  let v1325 : BitVec 32 := Scalar.extui v1324
  let c0_i32_643 : BitVec 32 := 0#32
  let v1326 : BitVec 1 := Scalar.cmpi .slt c2_i32_639 c0_i32_643
  let v1327 : BitVec 32 := Scalar.extui v1326
  let v1328 : BitVec 32 := Scalar.subi v1325 v1327
  let v1329 : BitVec 1 := Scalar.cmpi .ne v1323 v1328
  let v1330 : BitVec 32 := Scalar.remsi v1291 c2_i32_639
  let c0_i32_644 : BitVec 32 := 0#32
  let v1331 : BitVec 1 := Scalar.cmpi .ne v1330 c0_i32_644
  let v1332 : BitVec 1 := Scalar.andi v1329 v1331
  let v1318 : BitVec 32 := Scalar.divsi v1291 c2_i32_639
  let c1_i32_645 : BitVec 32 := 1#32
  let v1333 : BitVec 32 := Scalar.subi v1318 c1_i32_645
  let v1334 : BitVec 32 := Scalar.select v1332 v1333 v1318
  v1334
def k0_mult69 : BitVec 32 :=
  let c2_i32_546 : BitVec 32 := 2#32
  let c0_i32_545 : BitVec 32 := 0#32
  let v1145 : BitVec 32 := Scalar.muli c2_i32_546 c0_i32_545
  let c4_i32_658 : BitVec 32 := 4#32
  let v1362 : BitVec 32 := Scalar.muli v1145 c4_i32_658
  let c2_i32_659 : BitVec 32 := 2#32
  let v1363 : BitVec 32 := Scalar.addi v1362 c2_i32_659
  let c128_i32_660 : BitVec 32 := 128#32
  let v1364 : BitVec 32 := Scalar.muli v1363 c128_i32_660
  v1364
def k0_mult70 : BitVec 32 :=
  let c2_i32_546 : BitVec 32 := 2#32
  let c0_i32_545 : BitVec 32 := 0#32
  let v1145 : BitVec 32 := Scalar.muli c2_i32_546 c0_i32_545
  let c4_i32_658 : BitVec 32 := 4#32
  let v1362 : BitVec 32 := Scalar.muli v1145 c4_i32_658
  let c2_i32_659 : BitVec 32 := 2#32
  let v1363 : BitVec 32 := Scalar.addi v1362 c2_i32_659
  let c0_i32_662 : BitVec 32 := 0#32
  let v1367 : BitVec 1 := Scalar.cmpi .sgt v1363 c0_i32_662
  let v1368 : BitVec 32 := Scalar.extui v1367
  let c0_i32_663 : BitVec 32 := 0#32
  let v1369 : BitVec 1 := Scalar.cmpi .slt v1363 c0_i32_663
  let v1370 : BitVec 32 := Scalar.extui v1369
  let v1371 : BitVec 32 := Scalar.subi v1368 v1370
  let c16_i32_661 : BitVec 32 := 16#32
  let c0_i32_664 : BitVec 32 := 0#32
  let v1372 : BitVec 1 := Scalar.cmpi .sgt c16_i32_661 c0_i32_664
  let v1373 : BitVec 32 := Scalar.extui v1372
  let c0_i32_665 : BitVec 32 := 0#32
  let v1374 : BitVec 1 := Scalar.cmpi .slt c16_i32_661 c0_i32_665
  let v1375 : BitVec 32 := Scalar.extui v1374
  let v1376 : BitVec 32 := Scalar.subi v1373 v1375
  let v1377 : BitVec 1 := Scalar.cmpi .ne v1371 v1376
  let v1378 : BitVec 32 := Scalar.remsi v1363 c16_i32_661
  let c0_i32_666 : BitVec 32 := 0#32
  let v1379 : BitVec 1 := Scalar.cmpi .ne v1378 c0_i32_666
  let v1380 : BitVec 1 := Scalar.andi v1377 v1379
  let v1366 : BitVec 32 := Scalar.divsi v1363 c16_i32_661
  let c1_i32_667 : BitVec 32 := 1#32
  let v1381 : BitVec 32 := Scalar.subi v1366 c1_i32_667
  let v1382 : BitVec 32 := Scalar.select v1380 v1381 v1366
  let c2048_i32_678 : BitVec 32 := 2048#32
  let v1397 : BitVec 32 := Scalar.muli v1382 c2048_i32_678
  let c1792_i32_677 : BitVec 32 := 1792#32
  let c0_i32_676 : BitVec 32 := 0#32
  let c16_i32_668 : BitVec 32 := 16#32
  let c0_i32_669 : BitVec 32 := 0#32
  let v1383 : BitVec 1 := Scalar.cmpi .eq c16_i32_668 c0_i32_669
  let c1_i32_670 : BitVec 32 := 1#32
  let v1384 : BitVec 32 := Scalar.select v1383 c1_i32_670 c16_i32_668
  let v1385 : BitVec 32 := Scalar.remsi v1363 v1384
  let c0_i32_672 : BitVec 32 := 0#32
  let v1387 : BitVec 1 := Scalar.cmpi .slt v1385 c0_i32_672
  let c0_i32_673 : BitVec 32 := 0#32
  let v1388 : BitVec 1 := Scalar.cmpi .slt v1384 c0_i32_673
  let v1389 : BitVec 1 := Scalar.xori v1387 v1388
  let c0_i32_671 : BitVec 32 := 0#32
  let v1386 : BitVec 1 := Scalar.cmpi .ne v1385 c0_i32_671
  let v1390 : BitVec 1 := Scalar.andi v1389 v1386
  let v1391 : BitVec 32 := Scalar.addi v1385 v1384
  let v1392 : BitVec 32 := Scalar.select v1390 v1391 v1385
  let c128_i32_674 : BitVec 32 := 128#32
  let v1393 : BitVec 32 := Scalar.muli v1392 c128_i32_674
  let c64_i32_675 : BitVec 32 := 64#32
  let v1394 : BitVec 32 := Scalar.subi v1393 c64_i32_675
  let v1395 : BitVec 32 := Scalar.maxsi c0_i32_676 v1394
  let v1396 : BitVec 32 := Scalar.minsi c1792_i32_677 v1395
  let v1398 : BitVec 32 := Scalar.addi v1397 v1396
  v1398
def k0_mult71 : BitVec 32 :=
  let c2_i32_546 : BitVec 32 := 2#32
  let c0_i32_545 : BitVec 32 := 0#32
  let v1145 : BitVec 32 := Scalar.muli c2_i32_546 c0_i32_545
  let c4_i32_658 : BitVec 32 := 4#32
  let v1362 : BitVec 32 := Scalar.muli v1145 c4_i32_658
  let c2_i32_659 : BitVec 32 := 2#32
  let v1363 : BitVec 32 := Scalar.addi v1362 c2_i32_659
  let c0_i32_662 : BitVec 32 := 0#32
  let v1367 : BitVec 1 := Scalar.cmpi .sgt v1363 c0_i32_662
  let v1368 : BitVec 32 := Scalar.extui v1367
  let c0_i32_663 : BitVec 32 := 0#32
  let v1369 : BitVec 1 := Scalar.cmpi .slt v1363 c0_i32_663
  let v1370 : BitVec 32 := Scalar.extui v1369
  let v1371 : BitVec 32 := Scalar.subi v1368 v1370
  let c16_i32_661 : BitVec 32 := 16#32
  let c0_i32_664 : BitVec 32 := 0#32
  let v1372 : BitVec 1 := Scalar.cmpi .sgt c16_i32_661 c0_i32_664
  let v1373 : BitVec 32 := Scalar.extui v1372
  let c0_i32_665 : BitVec 32 := 0#32
  let v1374 : BitVec 1 := Scalar.cmpi .slt c16_i32_661 c0_i32_665
  let v1375 : BitVec 32 := Scalar.extui v1374
  let v1376 : BitVec 32 := Scalar.subi v1373 v1375
  let v1377 : BitVec 1 := Scalar.cmpi .ne v1371 v1376
  let v1378 : BitVec 32 := Scalar.remsi v1363 c16_i32_661
  let c0_i32_666 : BitVec 32 := 0#32
  let v1379 : BitVec 1 := Scalar.cmpi .ne v1378 c0_i32_666
  let v1380 : BitVec 1 := Scalar.andi v1377 v1379
  let v1366 : BitVec 32 := Scalar.divsi v1363 c16_i32_661
  let c1_i32_667 : BitVec 32 := 1#32
  let v1381 : BitVec 32 := Scalar.subi v1366 c1_i32_667
  let v1382 : BitVec 32 := Scalar.select v1380 v1381 v1366
  let c2048_i32_678 : BitVec 32 := 2048#32
  let v1397 : BitVec 32 := Scalar.muli v1382 c2048_i32_678
  let c1792_i32_677 : BitVec 32 := 1792#32
  let c0_i32_676 : BitVec 32 := 0#32
  let c16_i32_668 : BitVec 32 := 16#32
  let c0_i32_669 : BitVec 32 := 0#32
  let v1383 : BitVec 1 := Scalar.cmpi .eq c16_i32_668 c0_i32_669
  let c1_i32_670 : BitVec 32 := 1#32
  let v1384 : BitVec 32 := Scalar.select v1383 c1_i32_670 c16_i32_668
  let v1385 : BitVec 32 := Scalar.remsi v1363 v1384
  let c0_i32_672 : BitVec 32 := 0#32
  let v1387 : BitVec 1 := Scalar.cmpi .slt v1385 c0_i32_672
  let c0_i32_673 : BitVec 32 := 0#32
  let v1388 : BitVec 1 := Scalar.cmpi .slt v1384 c0_i32_673
  let v1389 : BitVec 1 := Scalar.xori v1387 v1388
  let c0_i32_671 : BitVec 32 := 0#32
  let v1386 : BitVec 1 := Scalar.cmpi .ne v1385 c0_i32_671
  let v1390 : BitVec 1 := Scalar.andi v1389 v1386
  let v1391 : BitVec 32 := Scalar.addi v1385 v1384
  let v1392 : BitVec 32 := Scalar.select v1390 v1391 v1385
  let c128_i32_674 : BitVec 32 := 128#32
  let v1393 : BitVec 32 := Scalar.muli v1392 c128_i32_674
  let c64_i32_675 : BitVec 32 := 64#32
  let v1394 : BitVec 32 := Scalar.subi v1393 c64_i32_675
  let v1395 : BitVec 32 := Scalar.maxsi c0_i32_676 v1394
  let v1396 : BitVec 32 := Scalar.minsi c1792_i32_677 v1395
  let v1398 : BitVec 32 := Scalar.addi v1397 v1396
  let v1399 : BitVec 32 := v1398
  let c0_i32_684 : BitVec 32 := 0#32
  let v1403 : BitVec 1 := Scalar.cmpi .sgt v1399 c0_i32_684
  let v1404 : BitVec 32 := Scalar.extui v1403
  let c0_i32_685 : BitVec 32 := 0#32
  let v1405 : BitVec 1 := Scalar.cmpi .slt v1399 c0_i32_685
  let v1406 : BitVec 32 := Scalar.extui v1405
  let v1407 : BitVec 32 := Scalar.subi v1404 v1406
  let c2_i32_683 : BitVec 32 := 2#32
  let c0_i32_686 : BitVec 32 := 0#32
  let v1408 : BitVec 1 := Scalar.cmpi .sgt c2_i32_683 c0_i32_686
  let v1409 : BitVec 32 := Scalar.extui v1408
  let c0_i32_687 : BitVec 32 := 0#32
  let v1410 : BitVec 1 := Scalar.cmpi .slt c2_i32_683 c0_i32_687
  let v1411 : BitVec 32 := Scalar.extui v1410
  let v1412 : BitVec 32 := Scalar.subi v1409 v1411
  let v1413 : BitVec 1 := Scalar.cmpi .ne v1407 v1412
  let v1414 : BitVec 32 := Scalar.remsi v1399 c2_i32_683
  let c0_i32_688 : BitVec 32 := 0#32
  let v1415 : BitVec 1 := Scalar.cmpi .ne v1414 c0_i32_688
  let v1416 : BitVec 1 := Scalar.andi v1413 v1415
  let v1402 : BitVec 32 := Scalar.divsi v1399 c2_i32_683
  let c1_i32_689 : BitVec 32 := 1#32
  let v1417 : BitVec 32 := Scalar.subi v1402 c1_i32_689
  let v1418 : BitVec 32 := Scalar.select v1416 v1417 v1402
  v1418
def k0_mult72 : BitVec 32 :=
  let c2_i32_546 : BitVec 32 := 2#32
  let c0_i32_545 : BitVec 32 := 0#32
  let v1145 : BitVec 32 := Scalar.muli c2_i32_546 c0_i32_545
  let c4_i32_658 : BitVec 32 := 4#32
  let v1362 : BitVec 32 := Scalar.muli v1145 c4_i32_658
  let c2_i32_659 : BitVec 32 := 2#32
  let v1363 : BitVec 32 := Scalar.addi v1362 c2_i32_659
  let c0_i32_662 : BitVec 32 := 0#32
  let v1367 : BitVec 1 := Scalar.cmpi .sgt v1363 c0_i32_662
  let v1368 : BitVec 32 := Scalar.extui v1367
  let c0_i32_663 : BitVec 32 := 0#32
  let v1369 : BitVec 1 := Scalar.cmpi .slt v1363 c0_i32_663
  let v1370 : BitVec 32 := Scalar.extui v1369
  let v1371 : BitVec 32 := Scalar.subi v1368 v1370
  let c16_i32_661 : BitVec 32 := 16#32
  let c0_i32_664 : BitVec 32 := 0#32
  let v1372 : BitVec 1 := Scalar.cmpi .sgt c16_i32_661 c0_i32_664
  let v1373 : BitVec 32 := Scalar.extui v1372
  let c0_i32_665 : BitVec 32 := 0#32
  let v1374 : BitVec 1 := Scalar.cmpi .slt c16_i32_661 c0_i32_665
  let v1375 : BitVec 32 := Scalar.extui v1374
  let v1376 : BitVec 32 := Scalar.subi v1373 v1375
  let v1377 : BitVec 1 := Scalar.cmpi .ne v1371 v1376
  let v1378 : BitVec 32 := Scalar.remsi v1363 c16_i32_661
  let c0_i32_666 : BitVec 32 := 0#32
  let v1379 : BitVec 1 := Scalar.cmpi .ne v1378 c0_i32_666
  let v1380 : BitVec 1 := Scalar.andi v1377 v1379
  let v1366 : BitVec 32 := Scalar.divsi v1363 c16_i32_661
  let c1_i32_667 : BitVec 32 := 1#32
  let v1381 : BitVec 32 := Scalar.subi v1366 c1_i32_667
  let v1382 : BitVec 32 := Scalar.select v1380 v1381 v1366
  let c2048_i32_678 : BitVec 32 := 2048#32
  let v1397 : BitVec 32 := Scalar.muli v1382 c2048_i32_678
  let c1792_i32_677 : BitVec 32 := 1792#32
  let c0_i32_676 : BitVec 32 := 0#32
  let c16_i32_668 : BitVec 32 := 16#32
  let c0_i32_669 : BitVec 32 := 0#32
  let v1383 : BitVec 1 := Scalar.cmpi .eq c16_i32_668 c0_i32_669
  let c1_i32_670 : BitVec 32 := 1#32
  let v1384 : BitVec 32 := Scalar.select v1383 c1_i32_670 c16_i32_668
  let v1385 : BitVec 32 := Scalar.remsi v1363 v1384
  let c0_i32_672 : BitVec 32 := 0#32
  let v1387 : BitVec 1 := Scalar.cmpi .slt v1385 c0_i32_672
  let c0_i32_673 : BitVec 32 := 0#32
  let v1388 : BitVec 1 := Scalar.cmpi .slt v1384 c0_i32_673
  let v1389 : BitVec 1 := Scalar.xori v1387 v1388
  let c0_i32_671 : BitVec 32 := 0#32
  let v1386 : BitVec 1 := Scalar.cmpi .ne v1385 c0_i32_671
  let v1390 : BitVec 1 := Scalar.andi v1389 v1386
  let v1391 : BitVec 32 := Scalar.addi v1385 v1384
  let v1392 : BitVec 32 := Scalar.select v1390 v1391 v1385
  let c128_i32_674 : BitVec 32 := 128#32
  let v1393 : BitVec 32 := Scalar.muli v1392 c128_i32_674
  let c64_i32_675 : BitVec 32 := 64#32
  let v1394 : BitVec 32 := Scalar.subi v1393 c64_i32_675
  let v1395 : BitVec 32 := Scalar.maxsi c0_i32_676 v1394
  let v1396 : BitVec 32 := Scalar.minsi c1792_i32_677 v1395
  let v1398 : BitVec 32 := Scalar.addi v1397 v1396
  let v1399 : BitVec 32 := v1398
  let c0_i32_697 : BitVec 32 := 0#32
  let v1427 : BitVec 1 := Scalar.cmpi .sgt v1399 c0_i32_697
  let v1428 : BitVec 32 := Scalar.extui v1427
  let c0_i32_698 : BitVec 32 := 0#32
  let v1429 : BitVec 1 := Scalar.cmpi .slt v1399 c0_i32_698
  let v1430 : BitVec 32 := Scalar.extui v1429
  let v1431 : BitVec 32 := Scalar.subi v1428 v1430
  let c2_i32_696 : BitVec 32 := 2#32
  let c0_i32_699 : BitVec 32 := 0#32
  let v1432 : BitVec 1 := Scalar.cmpi .sgt c2_i32_696 c0_i32_699
  let v1433 : BitVec 32 := Scalar.extui v1432
  let c0_i32_700 : BitVec 32 := 0#32
  let v1434 : BitVec 1 := Scalar.cmpi .slt c2_i32_696 c0_i32_700
  let v1435 : BitVec 32 := Scalar.extui v1434
  let v1436 : BitVec 32 := Scalar.subi v1433 v1435
  let v1437 : BitVec 1 := Scalar.cmpi .ne v1431 v1436
  let v1438 : BitVec 32 := Scalar.remsi v1399 c2_i32_696
  let c0_i32_701 : BitVec 32 := 0#32
  let v1439 : BitVec 1 := Scalar.cmpi .ne v1438 c0_i32_701
  let v1440 : BitVec 1 := Scalar.andi v1437 v1439
  let v1426 : BitVec 32 := Scalar.divsi v1399 c2_i32_696
  let c1_i32_702 : BitVec 32 := 1#32
  let v1441 : BitVec 32 := Scalar.subi v1426 c1_i32_702
  let v1442 : BitVec 32 := Scalar.select v1440 v1441 v1426
  v1442
def k0_mult73 : BitVec 32 :=
  let c2_i32_546 : BitVec 32 := 2#32
  let c0_i32_545 : BitVec 32 := 0#32
  let v1145 : BitVec 32 := Scalar.muli c2_i32_546 c0_i32_545
  let c4_i32_715 : BitVec 32 := 4#32
  let v1470 : BitVec 32 := Scalar.muli v1145 c4_i32_715
  let c3_i32 : BitVec 32 := 3#32
  let v1471 : BitVec 32 := Scalar.addi v1470 c3_i32
  let c128_i32_716 : BitVec 32 := 128#32
  let v1472 : BitVec 32 := Scalar.muli v1471 c128_i32_716
  v1472
def k0_mult74 : BitVec 32 :=
  let c2_i32_546 : BitVec 32 := 2#32
  let c0_i32_545 : BitVec 32 := 0#32
  let v1145 : BitVec 32 := Scalar.muli c2_i32_546 c0_i32_545
  let c4_i32_715 : BitVec 32 := 4#32
  let v1470 : BitVec 32 := Scalar.muli v1145 c4_i32_715
  let c3_i32 : BitVec 32 := 3#32
  let v1471 : BitVec 32 := Scalar.addi v1470 c3_i32
  let c0_i32_718 : BitVec 32 := 0#32
  let v1475 : BitVec 1 := Scalar.cmpi .sgt v1471 c0_i32_718
  let v1476 : BitVec 32 := Scalar.extui v1475
  let c0_i32_719 : BitVec 32 := 0#32
  let v1477 : BitVec 1 := Scalar.cmpi .slt v1471 c0_i32_719
  let v1478 : BitVec 32 := Scalar.extui v1477
  let v1479 : BitVec 32 := Scalar.subi v1476 v1478
  let c16_i32_717 : BitVec 32 := 16#32
  let c0_i32_720 : BitVec 32 := 0#32
  let v1480 : BitVec 1 := Scalar.cmpi .sgt c16_i32_717 c0_i32_720
  let v1481 : BitVec 32 := Scalar.extui v1480
  let c0_i32_721 : BitVec 32 := 0#32
  let v1482 : BitVec 1 := Scalar.cmpi .slt c16_i32_717 c0_i32_721
  let v1483 : BitVec 32 := Scalar.extui v1482
  let v1484 : BitVec 32 := Scalar.subi v1481 v1483
  let v1485 : BitVec 1 := Scalar.cmpi .ne v1479 v1484
  let v1486 : BitVec 32 := Scalar.remsi v1471 c16_i32_717
  let c0_i32_722 : BitVec 32 := 0#32
  let v1487 : BitVec 1 := Scalar.cmpi .ne v1486 c0_i32_722
  let v1488 : BitVec 1 := Scalar.andi v1485 v1487
  let v1474 : BitVec 32 := Scalar.divsi v1471 c16_i32_717
  let c1_i32_723 : BitVec 32 := 1#32
  let v1489 : BitVec 32 := Scalar.subi v1474 c1_i32_723
  let v1490 : BitVec 32 := Scalar.select v1488 v1489 v1474
  let c2048_i32_734 : BitVec 32 := 2048#32
  let v1505 : BitVec 32 := Scalar.muli v1490 c2048_i32_734
  let c1792_i32_733 : BitVec 32 := 1792#32
  let c0_i32_732 : BitVec 32 := 0#32
  let c16_i32_724 : BitVec 32 := 16#32
  let c0_i32_725 : BitVec 32 := 0#32
  let v1491 : BitVec 1 := Scalar.cmpi .eq c16_i32_724 c0_i32_725
  let c1_i32_726 : BitVec 32 := 1#32
  let v1492 : BitVec 32 := Scalar.select v1491 c1_i32_726 c16_i32_724
  let v1493 : BitVec 32 := Scalar.remsi v1471 v1492
  let c0_i32_728 : BitVec 32 := 0#32
  let v1495 : BitVec 1 := Scalar.cmpi .slt v1493 c0_i32_728
  let c0_i32_729 : BitVec 32 := 0#32
  let v1496 : BitVec 1 := Scalar.cmpi .slt v1492 c0_i32_729
  let v1497 : BitVec 1 := Scalar.xori v1495 v1496
  let c0_i32_727 : BitVec 32 := 0#32
  let v1494 : BitVec 1 := Scalar.cmpi .ne v1493 c0_i32_727
  let v1498 : BitVec 1 := Scalar.andi v1497 v1494
  let v1499 : BitVec 32 := Scalar.addi v1493 v1492
  let v1500 : BitVec 32 := Scalar.select v1498 v1499 v1493
  let c128_i32_730 : BitVec 32 := 128#32
  let v1501 : BitVec 32 := Scalar.muli v1500 c128_i32_730
  let c64_i32_731 : BitVec 32 := 64#32
  let v1502 : BitVec 32 := Scalar.subi v1501 c64_i32_731
  let v1503 : BitVec 32 := Scalar.maxsi c0_i32_732 v1502
  let v1504 : BitVec 32 := Scalar.minsi c1792_i32_733 v1503
  let v1506 : BitVec 32 := Scalar.addi v1505 v1504
  v1506
def k0_mult75 : BitVec 32 :=
  let c2_i32_546 : BitVec 32 := 2#32
  let c0_i32_545 : BitVec 32 := 0#32
  let v1145 : BitVec 32 := Scalar.muli c2_i32_546 c0_i32_545
  let c4_i32_715 : BitVec 32 := 4#32
  let v1470 : BitVec 32 := Scalar.muli v1145 c4_i32_715
  let c3_i32 : BitVec 32 := 3#32
  let v1471 : BitVec 32 := Scalar.addi v1470 c3_i32
  let c0_i32_718 : BitVec 32 := 0#32
  let v1475 : BitVec 1 := Scalar.cmpi .sgt v1471 c0_i32_718
  let v1476 : BitVec 32 := Scalar.extui v1475
  let c0_i32_719 : BitVec 32 := 0#32
  let v1477 : BitVec 1 := Scalar.cmpi .slt v1471 c0_i32_719
  let v1478 : BitVec 32 := Scalar.extui v1477
  let v1479 : BitVec 32 := Scalar.subi v1476 v1478
  let c16_i32_717 : BitVec 32 := 16#32
  let c0_i32_720 : BitVec 32 := 0#32
  let v1480 : BitVec 1 := Scalar.cmpi .sgt c16_i32_717 c0_i32_720
  let v1481 : BitVec 32 := Scalar.extui v1480
  let c0_i32_721 : BitVec 32 := 0#32
  let v1482 : BitVec 1 := Scalar.cmpi .slt c16_i32_717 c0_i32_721
  let v1483 : BitVec 32 := Scalar.extui v1482
  let v1484 : BitVec 32 := Scalar.subi v1481 v1483
  let v1485 : BitVec 1 := Scalar.cmpi .ne v1479 v1484
  let v1486 : BitVec 32 := Scalar.remsi v1471 c16_i32_717
  let c0_i32_722 : BitVec 32 := 0#32
  let v1487 : BitVec 1 := Scalar.cmpi .ne v1486 c0_i32_722
  let v1488 : BitVec 1 := Scalar.andi v1485 v1487
  let v1474 : BitVec 32 := Scalar.divsi v1471 c16_i32_717
  let c1_i32_723 : BitVec 32 := 1#32
  let v1489 : BitVec 32 := Scalar.subi v1474 c1_i32_723
  let v1490 : BitVec 32 := Scalar.select v1488 v1489 v1474
  let c2048_i32_734 : BitVec 32 := 2048#32
  let v1505 : BitVec 32 := Scalar.muli v1490 c2048_i32_734
  let c1792_i32_733 : BitVec 32 := 1792#32
  let c0_i32_732 : BitVec 32 := 0#32
  let c16_i32_724 : BitVec 32 := 16#32
  let c0_i32_725 : BitVec 32 := 0#32
  let v1491 : BitVec 1 := Scalar.cmpi .eq c16_i32_724 c0_i32_725
  let c1_i32_726 : BitVec 32 := 1#32
  let v1492 : BitVec 32 := Scalar.select v1491 c1_i32_726 c16_i32_724
  let v1493 : BitVec 32 := Scalar.remsi v1471 v1492
  let c0_i32_728 : BitVec 32 := 0#32
  let v1495 : BitVec 1 := Scalar.cmpi .slt v1493 c0_i32_728
  let c0_i32_729 : BitVec 32 := 0#32
  let v1496 : BitVec 1 := Scalar.cmpi .slt v1492 c0_i32_729
  let v1497 : BitVec 1 := Scalar.xori v1495 v1496
  let c0_i32_727 : BitVec 32 := 0#32
  let v1494 : BitVec 1 := Scalar.cmpi .ne v1493 c0_i32_727
  let v1498 : BitVec 1 := Scalar.andi v1497 v1494
  let v1499 : BitVec 32 := Scalar.addi v1493 v1492
  let v1500 : BitVec 32 := Scalar.select v1498 v1499 v1493
  let c128_i32_730 : BitVec 32 := 128#32
  let v1501 : BitVec 32 := Scalar.muli v1500 c128_i32_730
  let c64_i32_731 : BitVec 32 := 64#32
  let v1502 : BitVec 32 := Scalar.subi v1501 c64_i32_731
  let v1503 : BitVec 32 := Scalar.maxsi c0_i32_732 v1502
  let v1504 : BitVec 32 := Scalar.minsi c1792_i32_733 v1503
  let v1506 : BitVec 32 := Scalar.addi v1505 v1504
  let v1507 : BitVec 32 := v1506
  let c0_i32_740 : BitVec 32 := 0#32
  let v1511 : BitVec 1 := Scalar.cmpi .sgt v1507 c0_i32_740
  let v1512 : BitVec 32 := Scalar.extui v1511
  let c0_i32_741 : BitVec 32 := 0#32
  let v1513 : BitVec 1 := Scalar.cmpi .slt v1507 c0_i32_741
  let v1514 : BitVec 32 := Scalar.extui v1513
  let v1515 : BitVec 32 := Scalar.subi v1512 v1514
  let c2_i32_739 : BitVec 32 := 2#32
  let c0_i32_742 : BitVec 32 := 0#32
  let v1516 : BitVec 1 := Scalar.cmpi .sgt c2_i32_739 c0_i32_742
  let v1517 : BitVec 32 := Scalar.extui v1516
  let c0_i32_743 : BitVec 32 := 0#32
  let v1518 : BitVec 1 := Scalar.cmpi .slt c2_i32_739 c0_i32_743
  let v1519 : BitVec 32 := Scalar.extui v1518
  let v1520 : BitVec 32 := Scalar.subi v1517 v1519
  let v1521 : BitVec 1 := Scalar.cmpi .ne v1515 v1520
  let v1522 : BitVec 32 := Scalar.remsi v1507 c2_i32_739
  let c0_i32_744 : BitVec 32 := 0#32
  let v1523 : BitVec 1 := Scalar.cmpi .ne v1522 c0_i32_744
  let v1524 : BitVec 1 := Scalar.andi v1521 v1523
  let v1510 : BitVec 32 := Scalar.divsi v1507 c2_i32_739
  let c1_i32_745 : BitVec 32 := 1#32
  let v1525 : BitVec 32 := Scalar.subi v1510 c1_i32_745
  let v1526 : BitVec 32 := Scalar.select v1524 v1525 v1510
  v1526
def k0_mult76 : BitVec 32 :=
  let c2_i32_546 : BitVec 32 := 2#32
  let c0_i32_545 : BitVec 32 := 0#32
  let v1145 : BitVec 32 := Scalar.muli c2_i32_546 c0_i32_545
  let c4_i32_715 : BitVec 32 := 4#32
  let v1470 : BitVec 32 := Scalar.muli v1145 c4_i32_715
  let c3_i32 : BitVec 32 := 3#32
  let v1471 : BitVec 32 := Scalar.addi v1470 c3_i32
  let c0_i32_718 : BitVec 32 := 0#32
  let v1475 : BitVec 1 := Scalar.cmpi .sgt v1471 c0_i32_718
  let v1476 : BitVec 32 := Scalar.extui v1475
  let c0_i32_719 : BitVec 32 := 0#32
  let v1477 : BitVec 1 := Scalar.cmpi .slt v1471 c0_i32_719
  let v1478 : BitVec 32 := Scalar.extui v1477
  let v1479 : BitVec 32 := Scalar.subi v1476 v1478
  let c16_i32_717 : BitVec 32 := 16#32
  let c0_i32_720 : BitVec 32 := 0#32
  let v1480 : BitVec 1 := Scalar.cmpi .sgt c16_i32_717 c0_i32_720
  let v1481 : BitVec 32 := Scalar.extui v1480
  let c0_i32_721 : BitVec 32 := 0#32
  let v1482 : BitVec 1 := Scalar.cmpi .slt c16_i32_717 c0_i32_721
  let v1483 : BitVec 32 := Scalar.extui v1482
  let v1484 : BitVec 32 := Scalar.subi v1481 v1483
  let v1485 : BitVec 1 := Scalar.cmpi .ne v1479 v1484
  let v1486 : BitVec 32 := Scalar.remsi v1471 c16_i32_717
  let c0_i32_722 : BitVec 32 := 0#32
  let v1487 : BitVec 1 := Scalar.cmpi .ne v1486 c0_i32_722
  let v1488 : BitVec 1 := Scalar.andi v1485 v1487
  let v1474 : BitVec 32 := Scalar.divsi v1471 c16_i32_717
  let c1_i32_723 : BitVec 32 := 1#32
  let v1489 : BitVec 32 := Scalar.subi v1474 c1_i32_723
  let v1490 : BitVec 32 := Scalar.select v1488 v1489 v1474
  let c2048_i32_734 : BitVec 32 := 2048#32
  let v1505 : BitVec 32 := Scalar.muli v1490 c2048_i32_734
  let c1792_i32_733 : BitVec 32 := 1792#32
  let c0_i32_732 : BitVec 32 := 0#32
  let c16_i32_724 : BitVec 32 := 16#32
  let c0_i32_725 : BitVec 32 := 0#32
  let v1491 : BitVec 1 := Scalar.cmpi .eq c16_i32_724 c0_i32_725
  let c1_i32_726 : BitVec 32 := 1#32
  let v1492 : BitVec 32 := Scalar.select v1491 c1_i32_726 c16_i32_724
  let v1493 : BitVec 32 := Scalar.remsi v1471 v1492
  let c0_i32_728 : BitVec 32 := 0#32
  let v1495 : BitVec 1 := Scalar.cmpi .slt v1493 c0_i32_728
  let c0_i32_729 : BitVec 32 := 0#32
  let v1496 : BitVec 1 := Scalar.cmpi .slt v1492 c0_i32_729
  let v1497 : BitVec 1 := Scalar.xori v1495 v1496
  let c0_i32_727 : BitVec 32 := 0#32
  let v1494 : BitVec 1 := Scalar.cmpi .ne v1493 c0_i32_727
  let v1498 : BitVec 1 := Scalar.andi v1497 v1494
  let v1499 : BitVec 32 := Scalar.addi v1493 v1492
  let v1500 : BitVec 32 := Scalar.select v1498 v1499 v1493
  let c128_i32_730 : BitVec 32 := 128#32
  let v1501 : BitVec 32 := Scalar.muli v1500 c128_i32_730
  let c64_i32_731 : BitVec 32 := 64#32
  let v1502 : BitVec 32 := Scalar.subi v1501 c64_i32_731
  let v1503 : BitVec 32 := Scalar.maxsi c0_i32_732 v1502
  let v1504 : BitVec 32 := Scalar.minsi c1792_i32_733 v1503
  let v1506 : BitVec 32 := Scalar.addi v1505 v1504
  let v1507 : BitVec 32 := v1506
  let c0_i32_753 : BitVec 32 := 0#32
  let v1535 : BitVec 1 := Scalar.cmpi .sgt v1507 c0_i32_753
  let v1536 : BitVec 32 := Scalar.extui v1535
  let c0_i32_754 : BitVec 32 := 0#32
  let v1537 : BitVec 1 := Scalar.cmpi .slt v1507 c0_i32_754
  let v1538 : BitVec 32 := Scalar.extui v1537
  let v1539 : BitVec 32 := Scalar.subi v1536 v1538
  let c2_i32_752 : BitVec 32 := 2#32
  let c0_i32_755 : BitVec 32 := 0#32
  let v1540 : BitVec 1 := Scalar.cmpi .sgt c2_i32_752 c0_i32_755
  let v1541 : BitVec 32 := Scalar.extui v1540
  let c0_i32_756 : BitVec 32 := 0#32
  let v1542 : BitVec 1 := Scalar.cmpi .slt c2_i32_752 c0_i32_756
  let v1543 : BitVec 32 := Scalar.extui v1542
  let v1544 : BitVec 32 := Scalar.subi v1541 v1543
  let v1545 : BitVec 1 := Scalar.cmpi .ne v1539 v1544
  let v1546 : BitVec 32 := Scalar.remsi v1507 c2_i32_752
  let c0_i32_757 : BitVec 32 := 0#32
  let v1547 : BitVec 1 := Scalar.cmpi .ne v1546 c0_i32_757
  let v1548 : BitVec 1 := Scalar.andi v1545 v1547
  let v1534 : BitVec 32 := Scalar.divsi v1507 c2_i32_752
  let c1_i32_758 : BitVec 32 := 1#32
  let v1549 : BitVec 32 := Scalar.subi v1534 c1_i32_758
  let v1550 : BitVec 32 := Scalar.select v1548 v1549 v1534
  v1550
def k0_mult77 : BitVec 32 :=
  let c2_i32_546 : BitVec 32 := 2#32
  let c0_i32_545 : BitVec 32 := 0#32
  let v1145 : BitVec 32 := Scalar.muli c2_i32_546 c0_i32_545
  let c2_i32_859 : BitVec 32 := 2#32
  let v1706 : BitVec 32 := Scalar.addi v1145 c2_i32_859
  let c4_i32_860 : BitVec 32 := 4#32
  let v1707 : BitVec 32 := Scalar.muli v1706 c4_i32_860
  let c0_i32_861 : BitVec 32 := 0#32
  let v1708 : BitVec 32 := Scalar.addi v1707 c0_i32_861
  let c128_i32_862 : BitVec 32 := 128#32
  let v1709 : BitVec 32 := Scalar.muli v1708 c128_i32_862
  v1709
def k0_mult78 : BitVec 32 :=
  let c2_i32_546 : BitVec 32 := 2#32
  let c0_i32_545 : BitVec 32 := 0#32
  let v1145 : BitVec 32 := Scalar.muli c2_i32_546 c0_i32_545
  let c2_i32_859 : BitVec 32 := 2#32
  let v1706 : BitVec 32 := Scalar.addi v1145 c2_i32_859
  let c4_i32_860 : BitVec 32 := 4#32
  let v1707 : BitVec 32 := Scalar.muli v1706 c4_i32_860
  let c0_i32_861 : BitVec 32 := 0#32
  let v1708 : BitVec 32 := Scalar.addi v1707 c0_i32_861
  let c0_i32_864 : BitVec 32 := 0#32
  let v1712 : BitVec 1 := Scalar.cmpi .sgt v1708 c0_i32_864
  let v1713 : BitVec 32 := Scalar.extui v1712
  let c0_i32_865 : BitVec 32 := 0#32
  let v1714 : BitVec 1 := Scalar.cmpi .slt v1708 c0_i32_865
  let v1715 : BitVec 32 := Scalar.extui v1714
  let v1716 : BitVec 32 := Scalar.subi v1713 v1715
  let c16_i32_863 : BitVec 32 := 16#32
  let c0_i32_866 : BitVec 32 := 0#32
  let v1717 : BitVec 1 := Scalar.cmpi .sgt c16_i32_863 c0_i32_866
  let v1718 : BitVec 32 := Scalar.extui v1717
  let c0_i32_867 : BitVec 32 := 0#32
  let v1719 : BitVec 1 := Scalar.cmpi .slt c16_i32_863 c0_i32_867
  let v1720 : BitVec 32 := Scalar.extui v1719
  let v1721 : BitVec 32 := Scalar.subi v1718 v1720
  let v1722 : BitVec 1 := Scalar.cmpi .ne v1716 v1721
  let v1723 : BitVec 32 := Scalar.remsi v1708 c16_i32_863
  let c0_i32_868 : BitVec 32 := 0#32
  let v1724 : BitVec 1 := Scalar.cmpi .ne v1723 c0_i32_868
  let v1725 : BitVec 1 := Scalar.andi v1722 v1724
  let v1711 : BitVec 32 := Scalar.divsi v1708 c16_i32_863
  let c1_i32_869 : BitVec 32 := 1#32
  let v1726 : BitVec 32 := Scalar.subi v1711 c1_i32_869
  let v1727 : BitVec 32 := Scalar.select v1725 v1726 v1711
  let c2048_i32_880 : BitVec 32 := 2048#32
  let v1742 : BitVec 32 := Scalar.muli v1727 c2048_i32_880
  let c1792_i32_879 : BitVec 32 := 1792#32
  let c0_i32_878 : BitVec 32 := 0#32
  let c16_i32_870 : BitVec 32 := 16#32
  let c0_i32_871 : BitVec 32 := 0#32
  let v1728 : BitVec 1 := Scalar.cmpi .eq c16_i32_870 c0_i32_871
  let c1_i32_872 : BitVec 32 := 1#32
  let v1729 : BitVec 32 := Scalar.select v1728 c1_i32_872 c16_i32_870
  let v1730 : BitVec 32 := Scalar.remsi v1708 v1729
  let c0_i32_874 : BitVec 32 := 0#32
  let v1732 : BitVec 1 := Scalar.cmpi .slt v1730 c0_i32_874
  let c0_i32_875 : BitVec 32 := 0#32
  let v1733 : BitVec 1 := Scalar.cmpi .slt v1729 c0_i32_875
  let v1734 : BitVec 1 := Scalar.xori v1732 v1733
  let c0_i32_873 : BitVec 32 := 0#32
  let v1731 : BitVec 1 := Scalar.cmpi .ne v1730 c0_i32_873
  let v1735 : BitVec 1 := Scalar.andi v1734 v1731
  let v1736 : BitVec 32 := Scalar.addi v1730 v1729
  let v1737 : BitVec 32 := Scalar.select v1735 v1736 v1730
  let c128_i32_876 : BitVec 32 := 128#32
  let v1738 : BitVec 32 := Scalar.muli v1737 c128_i32_876
  let c64_i32_877 : BitVec 32 := 64#32
  let v1739 : BitVec 32 := Scalar.subi v1738 c64_i32_877
  let v1740 : BitVec 32 := Scalar.maxsi c0_i32_878 v1739
  let v1741 : BitVec 32 := Scalar.minsi c1792_i32_879 v1740
  let v1743 : BitVec 32 := Scalar.addi v1742 v1741
  v1743
def k0_off7 (c2_i32_859 : BitVec 32) (c0_i32_861 : BitVec 32) (c16_i32_870 : BitVec 32) (c1792_i32_879 : BitVec 32) : Fin 3 → Nat :=
  let c2_i32_546 : BitVec 32 := 2#32
  let c0_i32_545 : BitVec 32 := 0#32
  let v1145 : BitVec 32 := Scalar.muli c2_i32_546 c0_i32_545
  let v1706 : BitVec 32 := Scalar.addi v1145 c2_i32_859
  let c4_i32_860 : BitVec 32 := 4#32
  let v1707 : BitVec 32 := Scalar.muli v1706 c4_i32_860
  let v1708 : BitVec 32 := Scalar.addi v1707 c0_i32_861
  let c0_i32_871 : BitVec 32 := 0#32
  let v1728 : BitVec 1 := Scalar.cmpi .eq c16_i32_870 c0_i32_871
  let c1_i32_872 : BitVec 32 := 1#32
  let v1729 : BitVec 32 := Scalar.select v1728 c1_i32_872 c16_i32_870
  let v1730 : BitVec 32 := Scalar.remsi v1708 v1729
  let c0_i32_874 : BitVec 32 := 0#32
  let v1732 : BitVec 1 := Scalar.cmpi .slt v1730 c0_i32_874
  let c0_i32_875 : BitVec 32 := 0#32
  let v1733 : BitVec 1 := Scalar.cmpi .slt v1729 c0_i32_875
  let v1734 : BitVec 1 := Scalar.xori v1732 v1733
  let c0_i32_873 : BitVec 32 := 0#32
  let v1731 : BitVec 1 := Scalar.cmpi .ne v1730 c0_i32_873
  let v1735 : BitVec 1 := Scalar.andi v1734 v1731
  let v1736 : BitVec 32 := Scalar.addi v1730 v1729
  let v1737 : BitVec 32 := Scalar.select v1735 v1736 v1730
  let c128_i32_876 : BitVec 32 := 128#32
  let v1738 : BitVec 32 := Scalar.muli v1737 c128_i32_876
  let c0_i32_878 : BitVec 32 := 0#32
  let c64_i32_877 : BitVec 32 := 64#32
  let v1739 : BitVec 32 := Scalar.subi v1738 c64_i32_877
  let v1740 : BitVec 32 := Scalar.maxsi c0_i32_878 v1739
  let v1741 : BitVec 32 := Scalar.minsi c1792_i32_879 v1740
  let v1745 : BitVec 32 := Scalar.subi v1738 v1741
  let c0_i32_882 : BitVec 32 := 0#32
  let v1747 : BitVec 1 := Scalar.cmpi .sgt v1745 c0_i32_882
  let v1748 : BitVec 32 := Scalar.extui v1747
  let c0_i32_883 : BitVec 32 := 0#32
  let v1749 : BitVec 1 := Scalar.cmpi .slt v1745 c0_i32_883
  let v1750 : BitVec 32 := Scalar.extui v1749
  let v1751 : BitVec 32 := Scalar.subi v1748 v1750
  let c64_i32_881 : BitVec 32 := 64#32
  let c0_i32_884 : BitVec 32 := 0#32
  let v1752 : BitVec 1 := Scalar.cmpi .sgt c64_i32_881 c0_i32_884
  let v1753 : BitVec 32 := Scalar.extui v1752
  let c0_i32_885 : BitVec 32 := 0#32
  let v1754 : BitVec 1 := Scalar.cmpi .slt c64_i32_881 c0_i32_885
  let v1755 : BitVec 32 := Scalar.extui v1754
  let v1756 : BitVec 32 := Scalar.subi v1753 v1755
  let v1757 : BitVec 1 := Scalar.cmpi .ne v1751 v1756
  let v1758 : BitVec 32 := Scalar.remsi v1745 c64_i32_881
  let c0_i32_886 : BitVec 32 := 0#32
  let v1759 : BitVec 1 := Scalar.cmpi .ne v1758 c0_i32_886
  let v1760 : BitVec 1 := Scalar.andi v1757 v1759
  let v1746 : BitVec 32 := Scalar.divsi v1745 c64_i32_881
  let c1_i32_887 : BitVec 32 := 1#32
  let v1761 : BitVec 32 := Scalar.subi v1746 c1_i32_887
  let v1762 : BitVec 32 := Scalar.select v1760 v1761 v1746
  let v1763 : Index := Scalar.indexCast v1762
  let c0_888 : Index := 0#32
  let c0_889 : Index := 0#32
  ![v1763.toNat, 0, 0]
def k0_off7_at (r : Fin 16) : BitVec 32 × BitVec 32 × BitVec 32 × BitVec 32 :=
  if r.val < 8 then
    if r.val < 4 then
      if r.val < 2 then
        if r.val < 1 then
          (2#32, 0#32, 16#32, 1792#32)
        else
          (2#32, 1#32, 16#32, 1792#32)
      else
        if r.val < 3 then
          (2#32, 2#32, 16#32, 1792#32)
        else
          (2#32, 3#32, 16#32, 1792#32)
    else
      if r.val < 6 then
        if r.val < 5 then
          (3#32, 0#32, 16#32, 1792#32)
        else
          (3#32, 1#32, 16#32, 1792#32)
      else
        if r.val < 7 then
          (3#32, 2#32, 16#32, 1792#32)
        else
          (3#32, 3#32, 16#32, 1792#32)
  else
    if r.val < 12 then
      if r.val < 10 then
        if r.val < 9 then
          (2#32, 0#32, 4#32, 256#32)
        else
          (2#32, 1#32, 4#32, 256#32)
      else
        if r.val < 11 then
          (2#32, 2#32, 4#32, 256#32)
        else
          (2#32, 3#32, 4#32, 256#32)
    else
      if r.val < 14 then
        if r.val < 13 then
          (3#32, 0#32, 4#32, 256#32)
        else
          (3#32, 1#32, 4#32, 256#32)
      else
        if r.val < 15 then
          (3#32, 2#32, 4#32, 256#32)
        else
          (3#32, 3#32, 4#32, 256#32)
def k0_mult79 : BitVec 32 :=
  let c2_i32_546 : BitVec 32 := 2#32
  let c0_i32_545 : BitVec 32 := 0#32
  let v1145 : BitVec 32 := Scalar.muli c2_i32_546 c0_i32_545
  let c2_i32_859 : BitVec 32 := 2#32
  let v1706 : BitVec 32 := Scalar.addi v1145 c2_i32_859
  let c4_i32_860 : BitVec 32 := 4#32
  let v1707 : BitVec 32 := Scalar.muli v1706 c4_i32_860
  let c0_i32_861 : BitVec 32 := 0#32
  let v1708 : BitVec 32 := Scalar.addi v1707 c0_i32_861
  let c128_i32_862 : BitVec 32 := 128#32
  let v1709 : BitVec 32 := Scalar.muli v1708 c128_i32_862
  let v1710 : BitVec 32 := v1709
  let c0_i32_891 : BitVec 32 := 0#32
  let v1767 : BitVec 1 := Scalar.cmpi .sgt v1710 c0_i32_891
  let v1768 : BitVec 32 := Scalar.extui v1767
  let c0_i32_892 : BitVec 32 := 0#32
  let v1769 : BitVec 1 := Scalar.cmpi .slt v1710 c0_i32_892
  let v1770 : BitVec 32 := Scalar.extui v1769
  let v1771 : BitVec 32 := Scalar.subi v1768 v1770
  let c2_i32_890 : BitVec 32 := 2#32
  let c0_i32_893 : BitVec 32 := 0#32
  let v1772 : BitVec 1 := Scalar.cmpi .sgt c2_i32_890 c0_i32_893
  let v1773 : BitVec 32 := Scalar.extui v1772
  let c0_i32_894 : BitVec 32 := 0#32
  let v1774 : BitVec 1 := Scalar.cmpi .slt c2_i32_890 c0_i32_894
  let v1775 : BitVec 32 := Scalar.extui v1774
  let v1776 : BitVec 32 := Scalar.subi v1773 v1775
  let v1777 : BitVec 1 := Scalar.cmpi .ne v1771 v1776
  let v1778 : BitVec 32 := Scalar.remsi v1710 c2_i32_890
  let c0_i32_895 : BitVec 32 := 0#32
  let v1779 : BitVec 1 := Scalar.cmpi .ne v1778 c0_i32_895
  let v1780 : BitVec 1 := Scalar.andi v1777 v1779
  let v1766 : BitVec 32 := Scalar.divsi v1710 c2_i32_890
  let c1_i32_896 : BitVec 32 := 1#32
  let v1781 : BitVec 32 := Scalar.subi v1766 c1_i32_896
  let v1782 : BitVec 32 := Scalar.select v1780 v1781 v1766
  v1782
def k0_off8 (c2_i32_859 : BitVec 32) (c0_i32_861 : BitVec 32) : Fin 2 → Nat :=
  let c2_i32_546 : BitVec 32 := 2#32
  let c0_i32_545 : BitVec 32 := 0#32
  let v1145 : BitVec 32 := Scalar.muli c2_i32_546 c0_i32_545
  let v1706 : BitVec 32 := Scalar.addi v1145 c2_i32_859
  let c4_i32_860 : BitVec 32 := 4#32
  let v1707 : BitVec 32 := Scalar.muli v1706 c4_i32_860
  let v1708 : BitVec 32 := Scalar.addi v1707 c0_i32_861
  let c128_i32_862 : BitVec 32 := 128#32
  let v1709 : BitVec 32 := Scalar.muli v1708 c128_i32_862
  let v1710 : BitVec 32 := v1709
  let c0_i32_891 : BitVec 32 := 0#32
  let v1767 : BitVec 1 := Scalar.cmpi .sgt v1710 c0_i32_891
  let v1768 : BitVec 32 := Scalar.extui v1767
  let c0_i32_892 : BitVec 32 := 0#32
  let v1769 : BitVec 1 := Scalar.cmpi .slt v1710 c0_i32_892
  let v1770 : BitVec 32 := Scalar.extui v1769
  let v1771 : BitVec 32 := Scalar.subi v1768 v1770
  let c2_i32_890 : BitVec 32 := 2#32
  let c0_i32_893 : BitVec 32 := 0#32
  let v1772 : BitVec 1 := Scalar.cmpi .sgt c2_i32_890 c0_i32_893
  let v1773 : BitVec 32 := Scalar.extui v1772
  let c0_i32_894 : BitVec 32 := 0#32
  let v1774 : BitVec 1 := Scalar.cmpi .slt c2_i32_890 c0_i32_894
  let v1775 : BitVec 32 := Scalar.extui v1774
  let v1776 : BitVec 32 := Scalar.subi v1773 v1775
  let v1777 : BitVec 1 := Scalar.cmpi .ne v1771 v1776
  let v1778 : BitVec 32 := Scalar.remsi v1710 c2_i32_890
  let c0_i32_895 : BitVec 32 := 0#32
  let v1779 : BitVec 1 := Scalar.cmpi .ne v1778 c0_i32_895
  let v1780 : BitVec 1 := Scalar.andi v1777 v1779
  let v1766 : BitVec 32 := Scalar.divsi v1710 c2_i32_890
  let c1_i32_896 : BitVec 32 := 1#32
  let v1781 : BitVec 32 := Scalar.subi v1766 c1_i32_896
  let v1782 : BitVec 32 := Scalar.select v1780 v1781 v1766
  let v1783 : BitVec 32 := v1782
  let v1784 : Index := Scalar.indexCast v1783
  let c0_897 : Index := 0#32
  ![v1784.toNat, 0]
def k0_mult80 : BitVec 32 :=
  let c2_i32_546 : BitVec 32 := 2#32
  let c0_i32_545 : BitVec 32 := 0#32
  let v1145 : BitVec 32 := Scalar.muli c2_i32_546 c0_i32_545
  let c2_i32_859 : BitVec 32 := 2#32
  let v1706 : BitVec 32 := Scalar.addi v1145 c2_i32_859
  let c4_i32_860 : BitVec 32 := 4#32
  let v1707 : BitVec 32 := Scalar.muli v1706 c4_i32_860
  let c0_i32_861 : BitVec 32 := 0#32
  let v1708 : BitVec 32 := Scalar.addi v1707 c0_i32_861
  let c128_i32_862 : BitVec 32 := 128#32
  let v1709 : BitVec 32 := Scalar.muli v1708 c128_i32_862
  let v1710 : BitVec 32 := v1709
  let c0_i32_899 : BitVec 32 := 0#32
  let v1788 : BitVec 1 := Scalar.cmpi .sgt v1710 c0_i32_899
  let v1789 : BitVec 32 := Scalar.extui v1788
  let c0_i32_900 : BitVec 32 := 0#32
  let v1790 : BitVec 1 := Scalar.cmpi .slt v1710 c0_i32_900
  let v1791 : BitVec 32 := Scalar.extui v1790
  let v1792 : BitVec 32 := Scalar.subi v1789 v1791
  let c2_i32_898 : BitVec 32 := 2#32
  let c0_i32_901 : BitVec 32 := 0#32
  let v1793 : BitVec 1 := Scalar.cmpi .sgt c2_i32_898 c0_i32_901
  let v1794 : BitVec 32 := Scalar.extui v1793
  let c0_i32_902 : BitVec 32 := 0#32
  let v1795 : BitVec 1 := Scalar.cmpi .slt c2_i32_898 c0_i32_902
  let v1796 : BitVec 32 := Scalar.extui v1795
  let v1797 : BitVec 32 := Scalar.subi v1794 v1796
  let v1798 : BitVec 1 := Scalar.cmpi .ne v1792 v1797
  let v1799 : BitVec 32 := Scalar.remsi v1710 c2_i32_898
  let c0_i32_903 : BitVec 32 := 0#32
  let v1800 : BitVec 1 := Scalar.cmpi .ne v1799 c0_i32_903
  let v1801 : BitVec 1 := Scalar.andi v1798 v1800
  let v1787 : BitVec 32 := Scalar.divsi v1710 c2_i32_898
  let c1_i32_904 : BitVec 32 := 1#32
  let v1802 : BitVec 32 := Scalar.subi v1787 c1_i32_904
  let v1803 : BitVec 32 := Scalar.select v1801 v1802 v1787
  v1803
def k0_mult81 : BitVec 32 :=
  let c2_i32_546 : BitVec 32 := 2#32
  let c0_i32_545 : BitVec 32 := 0#32
  let v1145 : BitVec 32 := Scalar.muli c2_i32_546 c0_i32_545
  let c2_i32_859 : BitVec 32 := 2#32
  let v1706 : BitVec 32 := Scalar.addi v1145 c2_i32_859
  let c4_i32_860 : BitVec 32 := 4#32
  let v1707 : BitVec 32 := Scalar.muli v1706 c4_i32_860
  let c0_i32_861 : BitVec 32 := 0#32
  let v1708 : BitVec 32 := Scalar.addi v1707 c0_i32_861
  let c0_i32_864 : BitVec 32 := 0#32
  let v1712 : BitVec 1 := Scalar.cmpi .sgt v1708 c0_i32_864
  let v1713 : BitVec 32 := Scalar.extui v1712
  let c0_i32_865 : BitVec 32 := 0#32
  let v1714 : BitVec 1 := Scalar.cmpi .slt v1708 c0_i32_865
  let v1715 : BitVec 32 := Scalar.extui v1714
  let v1716 : BitVec 32 := Scalar.subi v1713 v1715
  let c16_i32_863 : BitVec 32 := 16#32
  let c0_i32_866 : BitVec 32 := 0#32
  let v1717 : BitVec 1 := Scalar.cmpi .sgt c16_i32_863 c0_i32_866
  let v1718 : BitVec 32 := Scalar.extui v1717
  let c0_i32_867 : BitVec 32 := 0#32
  let v1719 : BitVec 1 := Scalar.cmpi .slt c16_i32_863 c0_i32_867
  let v1720 : BitVec 32 := Scalar.extui v1719
  let v1721 : BitVec 32 := Scalar.subi v1718 v1720
  let v1722 : BitVec 1 := Scalar.cmpi .ne v1716 v1721
  let v1723 : BitVec 32 := Scalar.remsi v1708 c16_i32_863
  let c0_i32_868 : BitVec 32 := 0#32
  let v1724 : BitVec 1 := Scalar.cmpi .ne v1723 c0_i32_868
  let v1725 : BitVec 1 := Scalar.andi v1722 v1724
  let v1711 : BitVec 32 := Scalar.divsi v1708 c16_i32_863
  let c1_i32_869 : BitVec 32 := 1#32
  let v1726 : BitVec 32 := Scalar.subi v1711 c1_i32_869
  let v1727 : BitVec 32 := Scalar.select v1725 v1726 v1711
  let c2048_i32_880 : BitVec 32 := 2048#32
  let v1742 : BitVec 32 := Scalar.muli v1727 c2048_i32_880
  let c1792_i32_879 : BitVec 32 := 1792#32
  let c0_i32_878 : BitVec 32 := 0#32
  let c16_i32_870 : BitVec 32 := 16#32
  let c0_i32_871 : BitVec 32 := 0#32
  let v1728 : BitVec 1 := Scalar.cmpi .eq c16_i32_870 c0_i32_871
  let c1_i32_872 : BitVec 32 := 1#32
  let v1729 : BitVec 32 := Scalar.select v1728 c1_i32_872 c16_i32_870
  let v1730 : BitVec 32 := Scalar.remsi v1708 v1729
  let c0_i32_874 : BitVec 32 := 0#32
  let v1732 : BitVec 1 := Scalar.cmpi .slt v1730 c0_i32_874
  let c0_i32_875 : BitVec 32 := 0#32
  let v1733 : BitVec 1 := Scalar.cmpi .slt v1729 c0_i32_875
  let v1734 : BitVec 1 := Scalar.xori v1732 v1733
  let c0_i32_873 : BitVec 32 := 0#32
  let v1731 : BitVec 1 := Scalar.cmpi .ne v1730 c0_i32_873
  let v1735 : BitVec 1 := Scalar.andi v1734 v1731
  let v1736 : BitVec 32 := Scalar.addi v1730 v1729
  let v1737 : BitVec 32 := Scalar.select v1735 v1736 v1730
  let c128_i32_876 : BitVec 32 := 128#32
  let v1738 : BitVec 32 := Scalar.muli v1737 c128_i32_876
  let c64_i32_877 : BitVec 32 := 64#32
  let v1739 : BitVec 32 := Scalar.subi v1738 c64_i32_877
  let v1740 : BitVec 32 := Scalar.maxsi c0_i32_878 v1739
  let v1741 : BitVec 32 := Scalar.minsi c1792_i32_879 v1740
  let v1743 : BitVec 32 := Scalar.addi v1742 v1741
  let v1744 : BitVec 32 := v1743
  let c0_i32_907 : BitVec 32 := 0#32
  let v1810 : BitVec 1 := Scalar.cmpi .sgt v1744 c0_i32_907
  let v1811 : BitVec 32 := Scalar.extui v1810
  let c0_i32_908 : BitVec 32 := 0#32
  let v1812 : BitVec 1 := Scalar.cmpi .slt v1744 c0_i32_908
  let v1813 : BitVec 32 := Scalar.extui v1812
  let v1814 : BitVec 32 := Scalar.subi v1811 v1813
  let c2_i32_906 : BitVec 32 := 2#32
  let c0_i32_909 : BitVec 32 := 0#32
  let v1815 : BitVec 1 := Scalar.cmpi .sgt c2_i32_906 c0_i32_909
  let v1816 : BitVec 32 := Scalar.extui v1815
  let c0_i32_910 : BitVec 32 := 0#32
  let v1817 : BitVec 1 := Scalar.cmpi .slt c2_i32_906 c0_i32_910
  let v1818 : BitVec 32 := Scalar.extui v1817
  let v1819 : BitVec 32 := Scalar.subi v1816 v1818
  let v1820 : BitVec 1 := Scalar.cmpi .ne v1814 v1819
  let v1821 : BitVec 32 := Scalar.remsi v1744 c2_i32_906
  let c0_i32_911 : BitVec 32 := 0#32
  let v1822 : BitVec 1 := Scalar.cmpi .ne v1821 c0_i32_911
  let v1823 : BitVec 1 := Scalar.andi v1820 v1822
  let v1809 : BitVec 32 := Scalar.divsi v1744 c2_i32_906
  let c1_i32_912 : BitVec 32 := 1#32
  let v1824 : BitVec 32 := Scalar.subi v1809 c1_i32_912
  let v1825 : BitVec 32 := Scalar.select v1823 v1824 v1809
  v1825
def k0_off9 (c2_i32_859 : BitVec 32) (c0_i32_861 : BitVec 32) : Fin 2 → Nat :=
  let c2_i32_546 : BitVec 32 := 2#32
  let c0_i32_545 : BitVec 32 := 0#32
  let v1145 : BitVec 32 := Scalar.muli c2_i32_546 c0_i32_545
  let v1706 : BitVec 32 := Scalar.addi v1145 c2_i32_859
  let c4_i32_860 : BitVec 32 := 4#32
  let v1707 : BitVec 32 := Scalar.muli v1706 c4_i32_860
  let v1708 : BitVec 32 := Scalar.addi v1707 c0_i32_861
  let c0_i32_864 : BitVec 32 := 0#32
  let v1712 : BitVec 1 := Scalar.cmpi .sgt v1708 c0_i32_864
  let v1713 : BitVec 32 := Scalar.extui v1712
  let c0_i32_865 : BitVec 32 := 0#32
  let v1714 : BitVec 1 := Scalar.cmpi .slt v1708 c0_i32_865
  let v1715 : BitVec 32 := Scalar.extui v1714
  let v1716 : BitVec 32 := Scalar.subi v1713 v1715
  let c16_i32_863 : BitVec 32 := 16#32
  let c0_i32_866 : BitVec 32 := 0#32
  let v1717 : BitVec 1 := Scalar.cmpi .sgt c16_i32_863 c0_i32_866
  let v1718 : BitVec 32 := Scalar.extui v1717
  let c0_i32_867 : BitVec 32 := 0#32
  let v1719 : BitVec 1 := Scalar.cmpi .slt c16_i32_863 c0_i32_867
  let v1720 : BitVec 32 := Scalar.extui v1719
  let v1721 : BitVec 32 := Scalar.subi v1718 v1720
  let v1722 : BitVec 1 := Scalar.cmpi .ne v1716 v1721
  let v1723 : BitVec 32 := Scalar.remsi v1708 c16_i32_863
  let c0_i32_868 : BitVec 32 := 0#32
  let v1724 : BitVec 1 := Scalar.cmpi .ne v1723 c0_i32_868
  let v1725 : BitVec 1 := Scalar.andi v1722 v1724
  let v1711 : BitVec 32 := Scalar.divsi v1708 c16_i32_863
  let c1_i32_869 : BitVec 32 := 1#32
  let v1726 : BitVec 32 := Scalar.subi v1711 c1_i32_869
  let v1727 : BitVec 32 := Scalar.select v1725 v1726 v1711
  let c2048_i32_880 : BitVec 32 := 2048#32
  let v1742 : BitVec 32 := Scalar.muli v1727 c2048_i32_880
  let c1792_i32_879 : BitVec 32 := 1792#32
  let c0_i32_878 : BitVec 32 := 0#32
  let c16_i32_870 : BitVec 32 := 16#32
  let c0_i32_871 : BitVec 32 := 0#32
  let v1728 : BitVec 1 := Scalar.cmpi .eq c16_i32_870 c0_i32_871
  let c1_i32_872 : BitVec 32 := 1#32
  let v1729 : BitVec 32 := Scalar.select v1728 c1_i32_872 c16_i32_870
  let v1730 : BitVec 32 := Scalar.remsi v1708 v1729
  let c0_i32_874 : BitVec 32 := 0#32
  let v1732 : BitVec 1 := Scalar.cmpi .slt v1730 c0_i32_874
  let c0_i32_875 : BitVec 32 := 0#32
  let v1733 : BitVec 1 := Scalar.cmpi .slt v1729 c0_i32_875
  let v1734 : BitVec 1 := Scalar.xori v1732 v1733
  let c0_i32_873 : BitVec 32 := 0#32
  let v1731 : BitVec 1 := Scalar.cmpi .ne v1730 c0_i32_873
  let v1735 : BitVec 1 := Scalar.andi v1734 v1731
  let v1736 : BitVec 32 := Scalar.addi v1730 v1729
  let v1737 : BitVec 32 := Scalar.select v1735 v1736 v1730
  let c128_i32_876 : BitVec 32 := 128#32
  let v1738 : BitVec 32 := Scalar.muli v1737 c128_i32_876
  let c64_i32_877 : BitVec 32 := 64#32
  let v1739 : BitVec 32 := Scalar.subi v1738 c64_i32_877
  let v1740 : BitVec 32 := Scalar.maxsi c0_i32_878 v1739
  let v1741 : BitVec 32 := Scalar.minsi c1792_i32_879 v1740
  let v1743 : BitVec 32 := Scalar.addi v1742 v1741
  let v1744 : BitVec 32 := v1743
  let c0_i32_907 : BitVec 32 := 0#32
  let v1810 : BitVec 1 := Scalar.cmpi .sgt v1744 c0_i32_907
  let v1811 : BitVec 32 := Scalar.extui v1810
  let c0_i32_908 : BitVec 32 := 0#32
  let v1812 : BitVec 1 := Scalar.cmpi .slt v1744 c0_i32_908
  let v1813 : BitVec 32 := Scalar.extui v1812
  let v1814 : BitVec 32 := Scalar.subi v1811 v1813
  let c2_i32_906 : BitVec 32 := 2#32
  let c0_i32_909 : BitVec 32 := 0#32
  let v1815 : BitVec 1 := Scalar.cmpi .sgt c2_i32_906 c0_i32_909
  let v1816 : BitVec 32 := Scalar.extui v1815
  let c0_i32_910 : BitVec 32 := 0#32
  let v1817 : BitVec 1 := Scalar.cmpi .slt c2_i32_906 c0_i32_910
  let v1818 : BitVec 32 := Scalar.extui v1817
  let v1819 : BitVec 32 := Scalar.subi v1816 v1818
  let v1820 : BitVec 1 := Scalar.cmpi .ne v1814 v1819
  let v1821 : BitVec 32 := Scalar.remsi v1744 c2_i32_906
  let c0_i32_911 : BitVec 32 := 0#32
  let v1822 : BitVec 1 := Scalar.cmpi .ne v1821 c0_i32_911
  let v1823 : BitVec 1 := Scalar.andi v1820 v1822
  let v1809 : BitVec 32 := Scalar.divsi v1744 c2_i32_906
  let c1_i32_912 : BitVec 32 := 1#32
  let v1824 : BitVec 32 := Scalar.subi v1809 c1_i32_912
  let v1825 : BitVec 32 := Scalar.select v1823 v1824 v1809
  let v1826 : BitVec 32 := v1825
  let v1827 : Index := Scalar.indexCast v1826
  let c0_913 : Index := 0#32
  ![v1827.toNat, 0]
def k0_mult82 : BitVec 32 :=
  let c2_i32_546 : BitVec 32 := 2#32
  let c0_i32_545 : BitVec 32 := 0#32
  let v1145 : BitVec 32 := Scalar.muli c2_i32_546 c0_i32_545
  let c2_i32_859 : BitVec 32 := 2#32
  let v1706 : BitVec 32 := Scalar.addi v1145 c2_i32_859
  let c4_i32_923 : BitVec 32 := 4#32
  let v1841 : BitVec 32 := Scalar.muli v1706 c4_i32_923
  let c1_i32_924 : BitVec 32 := 1#32
  let v1842 : BitVec 32 := Scalar.addi v1841 c1_i32_924
  let c128_i32_925 : BitVec 32 := 128#32
  let v1843 : BitVec 32 := Scalar.muli v1842 c128_i32_925
  v1843
def k0_mult83 : BitVec 32 :=
  let c2_i32_546 : BitVec 32 := 2#32
  let c0_i32_545 : BitVec 32 := 0#32
  let v1145 : BitVec 32 := Scalar.muli c2_i32_546 c0_i32_545
  let c2_i32_859 : BitVec 32 := 2#32
  let v1706 : BitVec 32 := Scalar.addi v1145 c2_i32_859
  let c4_i32_923 : BitVec 32 := 4#32
  let v1841 : BitVec 32 := Scalar.muli v1706 c4_i32_923
  let c1_i32_924 : BitVec 32 := 1#32
  let v1842 : BitVec 32 := Scalar.addi v1841 c1_i32_924
  let c0_i32_927 : BitVec 32 := 0#32
  let v1846 : BitVec 1 := Scalar.cmpi .sgt v1842 c0_i32_927
  let v1847 : BitVec 32 := Scalar.extui v1846
  let c0_i32_928 : BitVec 32 := 0#32
  let v1848 : BitVec 1 := Scalar.cmpi .slt v1842 c0_i32_928
  let v1849 : BitVec 32 := Scalar.extui v1848
  let v1850 : BitVec 32 := Scalar.subi v1847 v1849
  let c16_i32_926 : BitVec 32 := 16#32
  let c0_i32_929 : BitVec 32 := 0#32
  let v1851 : BitVec 1 := Scalar.cmpi .sgt c16_i32_926 c0_i32_929
  let v1852 : BitVec 32 := Scalar.extui v1851
  let c0_i32_930 : BitVec 32 := 0#32
  let v1853 : BitVec 1 := Scalar.cmpi .slt c16_i32_926 c0_i32_930
  let v1854 : BitVec 32 := Scalar.extui v1853
  let v1855 : BitVec 32 := Scalar.subi v1852 v1854
  let v1856 : BitVec 1 := Scalar.cmpi .ne v1850 v1855
  let v1857 : BitVec 32 := Scalar.remsi v1842 c16_i32_926
  let c0_i32_931 : BitVec 32 := 0#32
  let v1858 : BitVec 1 := Scalar.cmpi .ne v1857 c0_i32_931
  let v1859 : BitVec 1 := Scalar.andi v1856 v1858
  let v1845 : BitVec 32 := Scalar.divsi v1842 c16_i32_926
  let c1_i32_932 : BitVec 32 := 1#32
  let v1860 : BitVec 32 := Scalar.subi v1845 c1_i32_932
  let v1861 : BitVec 32 := Scalar.select v1859 v1860 v1845
  let c2048_i32_943 : BitVec 32 := 2048#32
  let v1876 : BitVec 32 := Scalar.muli v1861 c2048_i32_943
  let c1792_i32_942 : BitVec 32 := 1792#32
  let c0_i32_941 : BitVec 32 := 0#32
  let c16_i32_933 : BitVec 32 := 16#32
  let c0_i32_934 : BitVec 32 := 0#32
  let v1862 : BitVec 1 := Scalar.cmpi .eq c16_i32_933 c0_i32_934
  let c1_i32_935 : BitVec 32 := 1#32
  let v1863 : BitVec 32 := Scalar.select v1862 c1_i32_935 c16_i32_933
  let v1864 : BitVec 32 := Scalar.remsi v1842 v1863
  let c0_i32_937 : BitVec 32 := 0#32
  let v1866 : BitVec 1 := Scalar.cmpi .slt v1864 c0_i32_937
  let c0_i32_938 : BitVec 32 := 0#32
  let v1867 : BitVec 1 := Scalar.cmpi .slt v1863 c0_i32_938
  let v1868 : BitVec 1 := Scalar.xori v1866 v1867
  let c0_i32_936 : BitVec 32 := 0#32
  let v1865 : BitVec 1 := Scalar.cmpi .ne v1864 c0_i32_936
  let v1869 : BitVec 1 := Scalar.andi v1868 v1865
  let v1870 : BitVec 32 := Scalar.addi v1864 v1863
  let v1871 : BitVec 32 := Scalar.select v1869 v1870 v1864
  let c128_i32_939 : BitVec 32 := 128#32
  let v1872 : BitVec 32 := Scalar.muli v1871 c128_i32_939
  let c64_i32_940 : BitVec 32 := 64#32
  let v1873 : BitVec 32 := Scalar.subi v1872 c64_i32_940
  let v1874 : BitVec 32 := Scalar.maxsi c0_i32_941 v1873
  let v1875 : BitVec 32 := Scalar.minsi c1792_i32_942 v1874
  let v1877 : BitVec 32 := Scalar.addi v1876 v1875
  v1877
def k0_mult84 : BitVec 32 :=
  let c2_i32_546 : BitVec 32 := 2#32
  let c0_i32_545 : BitVec 32 := 0#32
  let v1145 : BitVec 32 := Scalar.muli c2_i32_546 c0_i32_545
  let c2_i32_859 : BitVec 32 := 2#32
  let v1706 : BitVec 32 := Scalar.addi v1145 c2_i32_859
  let c4_i32_923 : BitVec 32 := 4#32
  let v1841 : BitVec 32 := Scalar.muli v1706 c4_i32_923
  let c1_i32_924 : BitVec 32 := 1#32
  let v1842 : BitVec 32 := Scalar.addi v1841 c1_i32_924
  let c128_i32_925 : BitVec 32 := 128#32
  let v1843 : BitVec 32 := Scalar.muli v1842 c128_i32_925
  let v1844 : BitVec 32 := v1843
  let c0_i32_954 : BitVec 32 := 0#32
  let v1901 : BitVec 1 := Scalar.cmpi .sgt v1844 c0_i32_954
  let v1902 : BitVec 32 := Scalar.extui v1901
  let c0_i32_955 : BitVec 32 := 0#32
  let v1903 : BitVec 1 := Scalar.cmpi .slt v1844 c0_i32_955
  let v1904 : BitVec 32 := Scalar.extui v1903
  let v1905 : BitVec 32 := Scalar.subi v1902 v1904
  let c2_i32_953 : BitVec 32 := 2#32
  let c0_i32_956 : BitVec 32 := 0#32
  let v1906 : BitVec 1 := Scalar.cmpi .sgt c2_i32_953 c0_i32_956
  let v1907 : BitVec 32 := Scalar.extui v1906
  let c0_i32_957 : BitVec 32 := 0#32
  let v1908 : BitVec 1 := Scalar.cmpi .slt c2_i32_953 c0_i32_957
  let v1909 : BitVec 32 := Scalar.extui v1908
  let v1910 : BitVec 32 := Scalar.subi v1907 v1909
  let v1911 : BitVec 1 := Scalar.cmpi .ne v1905 v1910
  let v1912 : BitVec 32 := Scalar.remsi v1844 c2_i32_953
  let c0_i32_958 : BitVec 32 := 0#32
  let v1913 : BitVec 1 := Scalar.cmpi .ne v1912 c0_i32_958
  let v1914 : BitVec 1 := Scalar.andi v1911 v1913
  let v1900 : BitVec 32 := Scalar.divsi v1844 c2_i32_953
  let c1_i32_959 : BitVec 32 := 1#32
  let v1915 : BitVec 32 := Scalar.subi v1900 c1_i32_959
  let v1916 : BitVec 32 := Scalar.select v1914 v1915 v1900
  v1916
def k0_mult85 : BitVec 32 :=
  let c2_i32_546 : BitVec 32 := 2#32
  let c0_i32_545 : BitVec 32 := 0#32
  let v1145 : BitVec 32 := Scalar.muli c2_i32_546 c0_i32_545
  let c2_i32_859 : BitVec 32 := 2#32
  let v1706 : BitVec 32 := Scalar.addi v1145 c2_i32_859
  let c4_i32_923 : BitVec 32 := 4#32
  let v1841 : BitVec 32 := Scalar.muli v1706 c4_i32_923
  let c1_i32_924 : BitVec 32 := 1#32
  let v1842 : BitVec 32 := Scalar.addi v1841 c1_i32_924
  let c128_i32_925 : BitVec 32 := 128#32
  let v1843 : BitVec 32 := Scalar.muli v1842 c128_i32_925
  let v1844 : BitVec 32 := v1843
  let c0_i32_962 : BitVec 32 := 0#32
  let v1922 : BitVec 1 := Scalar.cmpi .sgt v1844 c0_i32_962
  let v1923 : BitVec 32 := Scalar.extui v1922
  let c0_i32_963 : BitVec 32 := 0#32
  let v1924 : BitVec 1 := Scalar.cmpi .slt v1844 c0_i32_963
  let v1925 : BitVec 32 := Scalar.extui v1924
  let v1926 : BitVec 32 := Scalar.subi v1923 v1925
  let c2_i32_961 : BitVec 32 := 2#32
  let c0_i32_964 : BitVec 32 := 0#32
  let v1927 : BitVec 1 := Scalar.cmpi .sgt c2_i32_961 c0_i32_964
  let v1928 : BitVec 32 := Scalar.extui v1927
  let c0_i32_965 : BitVec 32 := 0#32
  let v1929 : BitVec 1 := Scalar.cmpi .slt c2_i32_961 c0_i32_965
  let v1930 : BitVec 32 := Scalar.extui v1929
  let v1931 : BitVec 32 := Scalar.subi v1928 v1930
  let v1932 : BitVec 1 := Scalar.cmpi .ne v1926 v1931
  let v1933 : BitVec 32 := Scalar.remsi v1844 c2_i32_961
  let c0_i32_966 : BitVec 32 := 0#32
  let v1934 : BitVec 1 := Scalar.cmpi .ne v1933 c0_i32_966
  let v1935 : BitVec 1 := Scalar.andi v1932 v1934
  let v1921 : BitVec 32 := Scalar.divsi v1844 c2_i32_961
  let c1_i32_967 : BitVec 32 := 1#32
  let v1936 : BitVec 32 := Scalar.subi v1921 c1_i32_967
  let v1937 : BitVec 32 := Scalar.select v1935 v1936 v1921
  v1937
def k0_mult86 : BitVec 32 :=
  let c2_i32_546 : BitVec 32 := 2#32
  let c0_i32_545 : BitVec 32 := 0#32
  let v1145 : BitVec 32 := Scalar.muli c2_i32_546 c0_i32_545
  let c2_i32_859 : BitVec 32 := 2#32
  let v1706 : BitVec 32 := Scalar.addi v1145 c2_i32_859
  let c4_i32_923 : BitVec 32 := 4#32
  let v1841 : BitVec 32 := Scalar.muli v1706 c4_i32_923
  let c1_i32_924 : BitVec 32 := 1#32
  let v1842 : BitVec 32 := Scalar.addi v1841 c1_i32_924
  let c0_i32_927 : BitVec 32 := 0#32
  let v1846 : BitVec 1 := Scalar.cmpi .sgt v1842 c0_i32_927
  let v1847 : BitVec 32 := Scalar.extui v1846
  let c0_i32_928 : BitVec 32 := 0#32
  let v1848 : BitVec 1 := Scalar.cmpi .slt v1842 c0_i32_928
  let v1849 : BitVec 32 := Scalar.extui v1848
  let v1850 : BitVec 32 := Scalar.subi v1847 v1849
  let c16_i32_926 : BitVec 32 := 16#32
  let c0_i32_929 : BitVec 32 := 0#32
  let v1851 : BitVec 1 := Scalar.cmpi .sgt c16_i32_926 c0_i32_929
  let v1852 : BitVec 32 := Scalar.extui v1851
  let c0_i32_930 : BitVec 32 := 0#32
  let v1853 : BitVec 1 := Scalar.cmpi .slt c16_i32_926 c0_i32_930
  let v1854 : BitVec 32 := Scalar.extui v1853
  let v1855 : BitVec 32 := Scalar.subi v1852 v1854
  let v1856 : BitVec 1 := Scalar.cmpi .ne v1850 v1855
  let v1857 : BitVec 32 := Scalar.remsi v1842 c16_i32_926
  let c0_i32_931 : BitVec 32 := 0#32
  let v1858 : BitVec 1 := Scalar.cmpi .ne v1857 c0_i32_931
  let v1859 : BitVec 1 := Scalar.andi v1856 v1858
  let v1845 : BitVec 32 := Scalar.divsi v1842 c16_i32_926
  let c1_i32_932 : BitVec 32 := 1#32
  let v1860 : BitVec 32 := Scalar.subi v1845 c1_i32_932
  let v1861 : BitVec 32 := Scalar.select v1859 v1860 v1845
  let c2048_i32_943 : BitVec 32 := 2048#32
  let v1876 : BitVec 32 := Scalar.muli v1861 c2048_i32_943
  let c1792_i32_942 : BitVec 32 := 1792#32
  let c0_i32_941 : BitVec 32 := 0#32
  let c16_i32_933 : BitVec 32 := 16#32
  let c0_i32_934 : BitVec 32 := 0#32
  let v1862 : BitVec 1 := Scalar.cmpi .eq c16_i32_933 c0_i32_934
  let c1_i32_935 : BitVec 32 := 1#32
  let v1863 : BitVec 32 := Scalar.select v1862 c1_i32_935 c16_i32_933
  let v1864 : BitVec 32 := Scalar.remsi v1842 v1863
  let c0_i32_937 : BitVec 32 := 0#32
  let v1866 : BitVec 1 := Scalar.cmpi .slt v1864 c0_i32_937
  let c0_i32_938 : BitVec 32 := 0#32
  let v1867 : BitVec 1 := Scalar.cmpi .slt v1863 c0_i32_938
  let v1868 : BitVec 1 := Scalar.xori v1866 v1867
  let c0_i32_936 : BitVec 32 := 0#32
  let v1865 : BitVec 1 := Scalar.cmpi .ne v1864 c0_i32_936
  let v1869 : BitVec 1 := Scalar.andi v1868 v1865
  let v1870 : BitVec 32 := Scalar.addi v1864 v1863
  let v1871 : BitVec 32 := Scalar.select v1869 v1870 v1864
  let c128_i32_939 : BitVec 32 := 128#32
  let v1872 : BitVec 32 := Scalar.muli v1871 c128_i32_939
  let c64_i32_940 : BitVec 32 := 64#32
  let v1873 : BitVec 32 := Scalar.subi v1872 c64_i32_940
  let v1874 : BitVec 32 := Scalar.maxsi c0_i32_941 v1873
  let v1875 : BitVec 32 := Scalar.minsi c1792_i32_942 v1874
  let v1877 : BitVec 32 := Scalar.addi v1876 v1875
  let v1878 : BitVec 32 := v1877
  let c0_i32_970 : BitVec 32 := 0#32
  let v1944 : BitVec 1 := Scalar.cmpi .sgt v1878 c0_i32_970
  let v1945 : BitVec 32 := Scalar.extui v1944
  let c0_i32_971 : BitVec 32 := 0#32
  let v1946 : BitVec 1 := Scalar.cmpi .slt v1878 c0_i32_971
  let v1947 : BitVec 32 := Scalar.extui v1946
  let v1948 : BitVec 32 := Scalar.subi v1945 v1947
  let c2_i32_969 : BitVec 32 := 2#32
  let c0_i32_972 : BitVec 32 := 0#32
  let v1949 : BitVec 1 := Scalar.cmpi .sgt c2_i32_969 c0_i32_972
  let v1950 : BitVec 32 := Scalar.extui v1949
  let c0_i32_973 : BitVec 32 := 0#32
  let v1951 : BitVec 1 := Scalar.cmpi .slt c2_i32_969 c0_i32_973
  let v1952 : BitVec 32 := Scalar.extui v1951
  let v1953 : BitVec 32 := Scalar.subi v1950 v1952
  let v1954 : BitVec 1 := Scalar.cmpi .ne v1948 v1953
  let v1955 : BitVec 32 := Scalar.remsi v1878 c2_i32_969
  let c0_i32_974 : BitVec 32 := 0#32
  let v1956 : BitVec 1 := Scalar.cmpi .ne v1955 c0_i32_974
  let v1957 : BitVec 1 := Scalar.andi v1954 v1956
  let v1943 : BitVec 32 := Scalar.divsi v1878 c2_i32_969
  let c1_i32_975 : BitVec 32 := 1#32
  let v1958 : BitVec 32 := Scalar.subi v1943 c1_i32_975
  let v1959 : BitVec 32 := Scalar.select v1957 v1958 v1943
  v1959
def k0_mult87 : BitVec 32 :=
  let c2_i32_546 : BitVec 32 := 2#32
  let c0_i32_545 : BitVec 32 := 0#32
  let v1145 : BitVec 32 := Scalar.muli c2_i32_546 c0_i32_545
  let c2_i32_859 : BitVec 32 := 2#32
  let v1706 : BitVec 32 := Scalar.addi v1145 c2_i32_859
  let c4_i32_986 : BitVec 32 := 4#32
  let v1975 : BitVec 32 := Scalar.muli v1706 c4_i32_986
  let c2_i32_987 : BitVec 32 := 2#32
  let v1976 : BitVec 32 := Scalar.addi v1975 c2_i32_987
  let c128_i32_988 : BitVec 32 := 128#32
  let v1977 : BitVec 32 := Scalar.muli v1976 c128_i32_988
  v1977
def k0_mult88 : BitVec 32 :=
  let c2_i32_546 : BitVec 32 := 2#32
  let c0_i32_545 : BitVec 32 := 0#32
  let v1145 : BitVec 32 := Scalar.muli c2_i32_546 c0_i32_545
  let c2_i32_859 : BitVec 32 := 2#32
  let v1706 : BitVec 32 := Scalar.addi v1145 c2_i32_859
  let c4_i32_986 : BitVec 32 := 4#32
  let v1975 : BitVec 32 := Scalar.muli v1706 c4_i32_986
  let c2_i32_987 : BitVec 32 := 2#32
  let v1976 : BitVec 32 := Scalar.addi v1975 c2_i32_987
  let c0_i32_990 : BitVec 32 := 0#32
  let v1980 : BitVec 1 := Scalar.cmpi .sgt v1976 c0_i32_990
  let v1981 : BitVec 32 := Scalar.extui v1980
  let c0_i32_991 : BitVec 32 := 0#32
  let v1982 : BitVec 1 := Scalar.cmpi .slt v1976 c0_i32_991
  let v1983 : BitVec 32 := Scalar.extui v1982
  let v1984 : BitVec 32 := Scalar.subi v1981 v1983
  let c16_i32_989 : BitVec 32 := 16#32
  let c0_i32_992 : BitVec 32 := 0#32
  let v1985 : BitVec 1 := Scalar.cmpi .sgt c16_i32_989 c0_i32_992
  let v1986 : BitVec 32 := Scalar.extui v1985
  let c0_i32_993 : BitVec 32 := 0#32
  let v1987 : BitVec 1 := Scalar.cmpi .slt c16_i32_989 c0_i32_993
  let v1988 : BitVec 32 := Scalar.extui v1987
  let v1989 : BitVec 32 := Scalar.subi v1986 v1988
  let v1990 : BitVec 1 := Scalar.cmpi .ne v1984 v1989
  let v1991 : BitVec 32 := Scalar.remsi v1976 c16_i32_989
  let c0_i32_994 : BitVec 32 := 0#32
  let v1992 : BitVec 1 := Scalar.cmpi .ne v1991 c0_i32_994
  let v1993 : BitVec 1 := Scalar.andi v1990 v1992
  let v1979 : BitVec 32 := Scalar.divsi v1976 c16_i32_989
  let c1_i32_995 : BitVec 32 := 1#32
  let v1994 : BitVec 32 := Scalar.subi v1979 c1_i32_995
  let v1995 : BitVec 32 := Scalar.select v1993 v1994 v1979
  let c2048_i32_1006 : BitVec 32 := 2048#32
  let v2010 : BitVec 32 := Scalar.muli v1995 c2048_i32_1006
  let c1792_i32_1005 : BitVec 32 := 1792#32
  let c0_i32_1004 : BitVec 32 := 0#32
  let c16_i32_996 : BitVec 32 := 16#32
  let c0_i32_997 : BitVec 32 := 0#32
  let v1996 : BitVec 1 := Scalar.cmpi .eq c16_i32_996 c0_i32_997
  let c1_i32_998 : BitVec 32 := 1#32
  let v1997 : BitVec 32 := Scalar.select v1996 c1_i32_998 c16_i32_996
  let v1998 : BitVec 32 := Scalar.remsi v1976 v1997
  let c0_i32_1000 : BitVec 32 := 0#32
  let v2000 : BitVec 1 := Scalar.cmpi .slt v1998 c0_i32_1000
  let c0_i32_1001 : BitVec 32 := 0#32
  let v2001 : BitVec 1 := Scalar.cmpi .slt v1997 c0_i32_1001
  let v2002 : BitVec 1 := Scalar.xori v2000 v2001
  let c0_i32_999 : BitVec 32 := 0#32
  let v1999 : BitVec 1 := Scalar.cmpi .ne v1998 c0_i32_999
  let v2003 : BitVec 1 := Scalar.andi v2002 v1999
  let v2004 : BitVec 32 := Scalar.addi v1998 v1997
  let v2005 : BitVec 32 := Scalar.select v2003 v2004 v1998
  let c128_i32_1002 : BitVec 32 := 128#32
  let v2006 : BitVec 32 := Scalar.muli v2005 c128_i32_1002
  let c64_i32_1003 : BitVec 32 := 64#32
  let v2007 : BitVec 32 := Scalar.subi v2006 c64_i32_1003
  let v2008 : BitVec 32 := Scalar.maxsi c0_i32_1004 v2007
  let v2009 : BitVec 32 := Scalar.minsi c1792_i32_1005 v2008
  let v2011 : BitVec 32 := Scalar.addi v2010 v2009
  v2011
def k0_mult89 : BitVec 32 :=
  let c2_i32_546 : BitVec 32 := 2#32
  let c0_i32_545 : BitVec 32 := 0#32
  let v1145 : BitVec 32 := Scalar.muli c2_i32_546 c0_i32_545
  let c2_i32_859 : BitVec 32 := 2#32
  let v1706 : BitVec 32 := Scalar.addi v1145 c2_i32_859
  let c4_i32_986 : BitVec 32 := 4#32
  let v1975 : BitVec 32 := Scalar.muli v1706 c4_i32_986
  let c2_i32_987 : BitVec 32 := 2#32
  let v1976 : BitVec 32 := Scalar.addi v1975 c2_i32_987
  let c128_i32_988 : BitVec 32 := 128#32
  let v1977 : BitVec 32 := Scalar.muli v1976 c128_i32_988
  let v1978 : BitVec 32 := v1977
  let c0_i32_1017 : BitVec 32 := 0#32
  let v2035 : BitVec 1 := Scalar.cmpi .sgt v1978 c0_i32_1017
  let v2036 : BitVec 32 := Scalar.extui v2035
  let c0_i32_1018 : BitVec 32 := 0#32
  let v2037 : BitVec 1 := Scalar.cmpi .slt v1978 c0_i32_1018
  let v2038 : BitVec 32 := Scalar.extui v2037
  let v2039 : BitVec 32 := Scalar.subi v2036 v2038
  let c2_i32_1016 : BitVec 32 := 2#32
  let c0_i32_1019 : BitVec 32 := 0#32
  let v2040 : BitVec 1 := Scalar.cmpi .sgt c2_i32_1016 c0_i32_1019
  let v2041 : BitVec 32 := Scalar.extui v2040
  let c0_i32_1020 : BitVec 32 := 0#32
  let v2042 : BitVec 1 := Scalar.cmpi .slt c2_i32_1016 c0_i32_1020
  let v2043 : BitVec 32 := Scalar.extui v2042
  let v2044 : BitVec 32 := Scalar.subi v2041 v2043
  let v2045 : BitVec 1 := Scalar.cmpi .ne v2039 v2044
  let v2046 : BitVec 32 := Scalar.remsi v1978 c2_i32_1016
  let c0_i32_1021 : BitVec 32 := 0#32
  let v2047 : BitVec 1 := Scalar.cmpi .ne v2046 c0_i32_1021
  let v2048 : BitVec 1 := Scalar.andi v2045 v2047
  let v2034 : BitVec 32 := Scalar.divsi v1978 c2_i32_1016
  let c1_i32_1022 : BitVec 32 := 1#32
  let v2049 : BitVec 32 := Scalar.subi v2034 c1_i32_1022
  let v2050 : BitVec 32 := Scalar.select v2048 v2049 v2034
  v2050
def k0_mult90 : BitVec 32 :=
  let c2_i32_546 : BitVec 32 := 2#32
  let c0_i32_545 : BitVec 32 := 0#32
  let v1145 : BitVec 32 := Scalar.muli c2_i32_546 c0_i32_545
  let c2_i32_859 : BitVec 32 := 2#32
  let v1706 : BitVec 32 := Scalar.addi v1145 c2_i32_859
  let c4_i32_986 : BitVec 32 := 4#32
  let v1975 : BitVec 32 := Scalar.muli v1706 c4_i32_986
  let c2_i32_987 : BitVec 32 := 2#32
  let v1976 : BitVec 32 := Scalar.addi v1975 c2_i32_987
  let c128_i32_988 : BitVec 32 := 128#32
  let v1977 : BitVec 32 := Scalar.muli v1976 c128_i32_988
  let v1978 : BitVec 32 := v1977
  let c0_i32_1025 : BitVec 32 := 0#32
  let v2056 : BitVec 1 := Scalar.cmpi .sgt v1978 c0_i32_1025
  let v2057 : BitVec 32 := Scalar.extui v2056
  let c0_i32_1026 : BitVec 32 := 0#32
  let v2058 : BitVec 1 := Scalar.cmpi .slt v1978 c0_i32_1026
  let v2059 : BitVec 32 := Scalar.extui v2058
  let v2060 : BitVec 32 := Scalar.subi v2057 v2059
  let c2_i32_1024 : BitVec 32 := 2#32
  let c0_i32_1027 : BitVec 32 := 0#32
  let v2061 : BitVec 1 := Scalar.cmpi .sgt c2_i32_1024 c0_i32_1027
  let v2062 : BitVec 32 := Scalar.extui v2061
  let c0_i32_1028 : BitVec 32 := 0#32
  let v2063 : BitVec 1 := Scalar.cmpi .slt c2_i32_1024 c0_i32_1028
  let v2064 : BitVec 32 := Scalar.extui v2063
  let v2065 : BitVec 32 := Scalar.subi v2062 v2064
  let v2066 : BitVec 1 := Scalar.cmpi .ne v2060 v2065
  let v2067 : BitVec 32 := Scalar.remsi v1978 c2_i32_1024
  let c0_i32_1029 : BitVec 32 := 0#32
  let v2068 : BitVec 1 := Scalar.cmpi .ne v2067 c0_i32_1029
  let v2069 : BitVec 1 := Scalar.andi v2066 v2068
  let v2055 : BitVec 32 := Scalar.divsi v1978 c2_i32_1024
  let c1_i32_1030 : BitVec 32 := 1#32
  let v2070 : BitVec 32 := Scalar.subi v2055 c1_i32_1030
  let v2071 : BitVec 32 := Scalar.select v2069 v2070 v2055
  v2071
def k0_mult91 : BitVec 32 :=
  let c2_i32_546 : BitVec 32 := 2#32
  let c0_i32_545 : BitVec 32 := 0#32
  let v1145 : BitVec 32 := Scalar.muli c2_i32_546 c0_i32_545
  let c2_i32_859 : BitVec 32 := 2#32
  let v1706 : BitVec 32 := Scalar.addi v1145 c2_i32_859
  let c4_i32_986 : BitVec 32 := 4#32
  let v1975 : BitVec 32 := Scalar.muli v1706 c4_i32_986
  let c2_i32_987 : BitVec 32 := 2#32
  let v1976 : BitVec 32 := Scalar.addi v1975 c2_i32_987
  let c0_i32_990 : BitVec 32 := 0#32
  let v1980 : BitVec 1 := Scalar.cmpi .sgt v1976 c0_i32_990
  let v1981 : BitVec 32 := Scalar.extui v1980
  let c0_i32_991 : BitVec 32 := 0#32
  let v1982 : BitVec 1 := Scalar.cmpi .slt v1976 c0_i32_991
  let v1983 : BitVec 32 := Scalar.extui v1982
  let v1984 : BitVec 32 := Scalar.subi v1981 v1983
  let c16_i32_989 : BitVec 32 := 16#32
  let c0_i32_992 : BitVec 32 := 0#32
  let v1985 : BitVec 1 := Scalar.cmpi .sgt c16_i32_989 c0_i32_992
  let v1986 : BitVec 32 := Scalar.extui v1985
  let c0_i32_993 : BitVec 32 := 0#32
  let v1987 : BitVec 1 := Scalar.cmpi .slt c16_i32_989 c0_i32_993
  let v1988 : BitVec 32 := Scalar.extui v1987
  let v1989 : BitVec 32 := Scalar.subi v1986 v1988
  let v1990 : BitVec 1 := Scalar.cmpi .ne v1984 v1989
  let v1991 : BitVec 32 := Scalar.remsi v1976 c16_i32_989
  let c0_i32_994 : BitVec 32 := 0#32
  let v1992 : BitVec 1 := Scalar.cmpi .ne v1991 c0_i32_994
  let v1993 : BitVec 1 := Scalar.andi v1990 v1992
  let v1979 : BitVec 32 := Scalar.divsi v1976 c16_i32_989
  let c1_i32_995 : BitVec 32 := 1#32
  let v1994 : BitVec 32 := Scalar.subi v1979 c1_i32_995
  let v1995 : BitVec 32 := Scalar.select v1993 v1994 v1979
  let c2048_i32_1006 : BitVec 32 := 2048#32
  let v2010 : BitVec 32 := Scalar.muli v1995 c2048_i32_1006
  let c1792_i32_1005 : BitVec 32 := 1792#32
  let c0_i32_1004 : BitVec 32 := 0#32
  let c16_i32_996 : BitVec 32 := 16#32
  let c0_i32_997 : BitVec 32 := 0#32
  let v1996 : BitVec 1 := Scalar.cmpi .eq c16_i32_996 c0_i32_997
  let c1_i32_998 : BitVec 32 := 1#32
  let v1997 : BitVec 32 := Scalar.select v1996 c1_i32_998 c16_i32_996
  let v1998 : BitVec 32 := Scalar.remsi v1976 v1997
  let c0_i32_1000 : BitVec 32 := 0#32
  let v2000 : BitVec 1 := Scalar.cmpi .slt v1998 c0_i32_1000
  let c0_i32_1001 : BitVec 32 := 0#32
  let v2001 : BitVec 1 := Scalar.cmpi .slt v1997 c0_i32_1001
  let v2002 : BitVec 1 := Scalar.xori v2000 v2001
  let c0_i32_999 : BitVec 32 := 0#32
  let v1999 : BitVec 1 := Scalar.cmpi .ne v1998 c0_i32_999
  let v2003 : BitVec 1 := Scalar.andi v2002 v1999
  let v2004 : BitVec 32 := Scalar.addi v1998 v1997
  let v2005 : BitVec 32 := Scalar.select v2003 v2004 v1998
  let c128_i32_1002 : BitVec 32 := 128#32
  let v2006 : BitVec 32 := Scalar.muli v2005 c128_i32_1002
  let c64_i32_1003 : BitVec 32 := 64#32
  let v2007 : BitVec 32 := Scalar.subi v2006 c64_i32_1003
  let v2008 : BitVec 32 := Scalar.maxsi c0_i32_1004 v2007
  let v2009 : BitVec 32 := Scalar.minsi c1792_i32_1005 v2008
  let v2011 : BitVec 32 := Scalar.addi v2010 v2009
  let v2012 : BitVec 32 := v2011
  let c0_i32_1033 : BitVec 32 := 0#32
  let v2078 : BitVec 1 := Scalar.cmpi .sgt v2012 c0_i32_1033
  let v2079 : BitVec 32 := Scalar.extui v2078
  let c0_i32_1034 : BitVec 32 := 0#32
  let v2080 : BitVec 1 := Scalar.cmpi .slt v2012 c0_i32_1034
  let v2081 : BitVec 32 := Scalar.extui v2080
  let v2082 : BitVec 32 := Scalar.subi v2079 v2081
  let c2_i32_1032 : BitVec 32 := 2#32
  let c0_i32_1035 : BitVec 32 := 0#32
  let v2083 : BitVec 1 := Scalar.cmpi .sgt c2_i32_1032 c0_i32_1035
  let v2084 : BitVec 32 := Scalar.extui v2083
  let c0_i32_1036 : BitVec 32 := 0#32
  let v2085 : BitVec 1 := Scalar.cmpi .slt c2_i32_1032 c0_i32_1036
  let v2086 : BitVec 32 := Scalar.extui v2085
  let v2087 : BitVec 32 := Scalar.subi v2084 v2086
  let v2088 : BitVec 1 := Scalar.cmpi .ne v2082 v2087
  let v2089 : BitVec 32 := Scalar.remsi v2012 c2_i32_1032
  let c0_i32_1037 : BitVec 32 := 0#32
  let v2090 : BitVec 1 := Scalar.cmpi .ne v2089 c0_i32_1037
  let v2091 : BitVec 1 := Scalar.andi v2088 v2090
  let v2077 : BitVec 32 := Scalar.divsi v2012 c2_i32_1032
  let c1_i32_1038 : BitVec 32 := 1#32
  let v2092 : BitVec 32 := Scalar.subi v2077 c1_i32_1038
  let v2093 : BitVec 32 := Scalar.select v2091 v2092 v2077
  v2093
def k0_mult92 : BitVec 32 :=
  let c2_i32_546 : BitVec 32 := 2#32
  let c0_i32_545 : BitVec 32 := 0#32
  let v1145 : BitVec 32 := Scalar.muli c2_i32_546 c0_i32_545
  let c2_i32_859 : BitVec 32 := 2#32
  let v1706 : BitVec 32 := Scalar.addi v1145 c2_i32_859
  let c4_i32_1049 : BitVec 32 := 4#32
  let v2109 : BitVec 32 := Scalar.muli v1706 c4_i32_1049
  let c3_i32_1050 : BitVec 32 := 3#32
  let v2110 : BitVec 32 := Scalar.addi v2109 c3_i32_1050
  let c128_i32_1051 : BitVec 32 := 128#32
  let v2111 : BitVec 32 := Scalar.muli v2110 c128_i32_1051
  v2111
def k0_mult93 : BitVec 32 :=
  let c2_i32_546 : BitVec 32 := 2#32
  let c0_i32_545 : BitVec 32 := 0#32
  let v1145 : BitVec 32 := Scalar.muli c2_i32_546 c0_i32_545
  let c2_i32_859 : BitVec 32 := 2#32
  let v1706 : BitVec 32 := Scalar.addi v1145 c2_i32_859
  let c4_i32_1049 : BitVec 32 := 4#32
  let v2109 : BitVec 32 := Scalar.muli v1706 c4_i32_1049
  let c3_i32_1050 : BitVec 32 := 3#32
  let v2110 : BitVec 32 := Scalar.addi v2109 c3_i32_1050
  let c0_i32_1053 : BitVec 32 := 0#32
  let v2114 : BitVec 1 := Scalar.cmpi .sgt v2110 c0_i32_1053
  let v2115 : BitVec 32 := Scalar.extui v2114
  let c0_i32_1054 : BitVec 32 := 0#32
  let v2116 : BitVec 1 := Scalar.cmpi .slt v2110 c0_i32_1054
  let v2117 : BitVec 32 := Scalar.extui v2116
  let v2118 : BitVec 32 := Scalar.subi v2115 v2117
  let c16_i32_1052 : BitVec 32 := 16#32
  let c0_i32_1055 : BitVec 32 := 0#32
  let v2119 : BitVec 1 := Scalar.cmpi .sgt c16_i32_1052 c0_i32_1055
  let v2120 : BitVec 32 := Scalar.extui v2119
  let c0_i32_1056 : BitVec 32 := 0#32
  let v2121 : BitVec 1 := Scalar.cmpi .slt c16_i32_1052 c0_i32_1056
  let v2122 : BitVec 32 := Scalar.extui v2121
  let v2123 : BitVec 32 := Scalar.subi v2120 v2122
  let v2124 : BitVec 1 := Scalar.cmpi .ne v2118 v2123
  let v2125 : BitVec 32 := Scalar.remsi v2110 c16_i32_1052
  let c0_i32_1057 : BitVec 32 := 0#32
  let v2126 : BitVec 1 := Scalar.cmpi .ne v2125 c0_i32_1057
  let v2127 : BitVec 1 := Scalar.andi v2124 v2126
  let v2113 : BitVec 32 := Scalar.divsi v2110 c16_i32_1052
  let c1_i32_1058 : BitVec 32 := 1#32
  let v2128 : BitVec 32 := Scalar.subi v2113 c1_i32_1058
  let v2129 : BitVec 32 := Scalar.select v2127 v2128 v2113
  let c2048_i32_1069 : BitVec 32 := 2048#32
  let v2144 : BitVec 32 := Scalar.muli v2129 c2048_i32_1069
  let c1792_i32_1068 : BitVec 32 := 1792#32
  let c0_i32_1067 : BitVec 32 := 0#32
  let c16_i32_1059 : BitVec 32 := 16#32
  let c0_i32_1060 : BitVec 32 := 0#32
  let v2130 : BitVec 1 := Scalar.cmpi .eq c16_i32_1059 c0_i32_1060
  let c1_i32_1061 : BitVec 32 := 1#32
  let v2131 : BitVec 32 := Scalar.select v2130 c1_i32_1061 c16_i32_1059
  let v2132 : BitVec 32 := Scalar.remsi v2110 v2131
  let c0_i32_1063 : BitVec 32 := 0#32
  let v2134 : BitVec 1 := Scalar.cmpi .slt v2132 c0_i32_1063
  let c0_i32_1064 : BitVec 32 := 0#32
  let v2135 : BitVec 1 := Scalar.cmpi .slt v2131 c0_i32_1064
  let v2136 : BitVec 1 := Scalar.xori v2134 v2135
  let c0_i32_1062 : BitVec 32 := 0#32
  let v2133 : BitVec 1 := Scalar.cmpi .ne v2132 c0_i32_1062
  let v2137 : BitVec 1 := Scalar.andi v2136 v2133
  let v2138 : BitVec 32 := Scalar.addi v2132 v2131
  let v2139 : BitVec 32 := Scalar.select v2137 v2138 v2132
  let c128_i32_1065 : BitVec 32 := 128#32
  let v2140 : BitVec 32 := Scalar.muli v2139 c128_i32_1065
  let c64_i32_1066 : BitVec 32 := 64#32
  let v2141 : BitVec 32 := Scalar.subi v2140 c64_i32_1066
  let v2142 : BitVec 32 := Scalar.maxsi c0_i32_1067 v2141
  let v2143 : BitVec 32 := Scalar.minsi c1792_i32_1068 v2142
  let v2145 : BitVec 32 := Scalar.addi v2144 v2143
  v2145
def k0_mult94 : BitVec 32 :=
  let c2_i32_546 : BitVec 32 := 2#32
  let c0_i32_545 : BitVec 32 := 0#32
  let v1145 : BitVec 32 := Scalar.muli c2_i32_546 c0_i32_545
  let c2_i32_859 : BitVec 32 := 2#32
  let v1706 : BitVec 32 := Scalar.addi v1145 c2_i32_859
  let c4_i32_1049 : BitVec 32 := 4#32
  let v2109 : BitVec 32 := Scalar.muli v1706 c4_i32_1049
  let c3_i32_1050 : BitVec 32 := 3#32
  let v2110 : BitVec 32 := Scalar.addi v2109 c3_i32_1050
  let c128_i32_1051 : BitVec 32 := 128#32
  let v2111 : BitVec 32 := Scalar.muli v2110 c128_i32_1051
  let v2112 : BitVec 32 := v2111
  let c0_i32_1080 : BitVec 32 := 0#32
  let v2169 : BitVec 1 := Scalar.cmpi .sgt v2112 c0_i32_1080
  let v2170 : BitVec 32 := Scalar.extui v2169
  let c0_i32_1081 : BitVec 32 := 0#32
  let v2171 : BitVec 1 := Scalar.cmpi .slt v2112 c0_i32_1081
  let v2172 : BitVec 32 := Scalar.extui v2171
  let v2173 : BitVec 32 := Scalar.subi v2170 v2172
  let c2_i32_1079 : BitVec 32 := 2#32
  let c0_i32_1082 : BitVec 32 := 0#32
  let v2174 : BitVec 1 := Scalar.cmpi .sgt c2_i32_1079 c0_i32_1082
  let v2175 : BitVec 32 := Scalar.extui v2174
  let c0_i32_1083 : BitVec 32 := 0#32
  let v2176 : BitVec 1 := Scalar.cmpi .slt c2_i32_1079 c0_i32_1083
  let v2177 : BitVec 32 := Scalar.extui v2176
  let v2178 : BitVec 32 := Scalar.subi v2175 v2177
  let v2179 : BitVec 1 := Scalar.cmpi .ne v2173 v2178
  let v2180 : BitVec 32 := Scalar.remsi v2112 c2_i32_1079
  let c0_i32_1084 : BitVec 32 := 0#32
  let v2181 : BitVec 1 := Scalar.cmpi .ne v2180 c0_i32_1084
  let v2182 : BitVec 1 := Scalar.andi v2179 v2181
  let v2168 : BitVec 32 := Scalar.divsi v2112 c2_i32_1079
  let c1_i32_1085 : BitVec 32 := 1#32
  let v2183 : BitVec 32 := Scalar.subi v2168 c1_i32_1085
  let v2184 : BitVec 32 := Scalar.select v2182 v2183 v2168
  v2184
def k0_mult95 : BitVec 32 :=
  let c2_i32_546 : BitVec 32 := 2#32
  let c0_i32_545 : BitVec 32 := 0#32
  let v1145 : BitVec 32 := Scalar.muli c2_i32_546 c0_i32_545
  let c2_i32_859 : BitVec 32 := 2#32
  let v1706 : BitVec 32 := Scalar.addi v1145 c2_i32_859
  let c4_i32_1049 : BitVec 32 := 4#32
  let v2109 : BitVec 32 := Scalar.muli v1706 c4_i32_1049
  let c3_i32_1050 : BitVec 32 := 3#32
  let v2110 : BitVec 32 := Scalar.addi v2109 c3_i32_1050
  let c128_i32_1051 : BitVec 32 := 128#32
  let v2111 : BitVec 32 := Scalar.muli v2110 c128_i32_1051
  let v2112 : BitVec 32 := v2111
  let c0_i32_1088 : BitVec 32 := 0#32
  let v2190 : BitVec 1 := Scalar.cmpi .sgt v2112 c0_i32_1088
  let v2191 : BitVec 32 := Scalar.extui v2190
  let c0_i32_1089 : BitVec 32 := 0#32
  let v2192 : BitVec 1 := Scalar.cmpi .slt v2112 c0_i32_1089
  let v2193 : BitVec 32 := Scalar.extui v2192
  let v2194 : BitVec 32 := Scalar.subi v2191 v2193
  let c2_i32_1087 : BitVec 32 := 2#32
  let c0_i32_1090 : BitVec 32 := 0#32
  let v2195 : BitVec 1 := Scalar.cmpi .sgt c2_i32_1087 c0_i32_1090
  let v2196 : BitVec 32 := Scalar.extui v2195
  let c0_i32_1091 : BitVec 32 := 0#32
  let v2197 : BitVec 1 := Scalar.cmpi .slt c2_i32_1087 c0_i32_1091
  let v2198 : BitVec 32 := Scalar.extui v2197
  let v2199 : BitVec 32 := Scalar.subi v2196 v2198
  let v2200 : BitVec 1 := Scalar.cmpi .ne v2194 v2199
  let v2201 : BitVec 32 := Scalar.remsi v2112 c2_i32_1087
  let c0_i32_1092 : BitVec 32 := 0#32
  let v2202 : BitVec 1 := Scalar.cmpi .ne v2201 c0_i32_1092
  let v2203 : BitVec 1 := Scalar.andi v2200 v2202
  let v2189 : BitVec 32 := Scalar.divsi v2112 c2_i32_1087
  let c1_i32_1093 : BitVec 32 := 1#32
  let v2204 : BitVec 32 := Scalar.subi v2189 c1_i32_1093
  let v2205 : BitVec 32 := Scalar.select v2203 v2204 v2189
  v2205
def k0_mult96 : BitVec 32 :=
  let c2_i32_546 : BitVec 32 := 2#32
  let c0_i32_545 : BitVec 32 := 0#32
  let v1145 : BitVec 32 := Scalar.muli c2_i32_546 c0_i32_545
  let c2_i32_859 : BitVec 32 := 2#32
  let v1706 : BitVec 32 := Scalar.addi v1145 c2_i32_859
  let c4_i32_1049 : BitVec 32 := 4#32
  let v2109 : BitVec 32 := Scalar.muli v1706 c4_i32_1049
  let c3_i32_1050 : BitVec 32 := 3#32
  let v2110 : BitVec 32 := Scalar.addi v2109 c3_i32_1050
  let c0_i32_1053 : BitVec 32 := 0#32
  let v2114 : BitVec 1 := Scalar.cmpi .sgt v2110 c0_i32_1053
  let v2115 : BitVec 32 := Scalar.extui v2114
  let c0_i32_1054 : BitVec 32 := 0#32
  let v2116 : BitVec 1 := Scalar.cmpi .slt v2110 c0_i32_1054
  let v2117 : BitVec 32 := Scalar.extui v2116
  let v2118 : BitVec 32 := Scalar.subi v2115 v2117
  let c16_i32_1052 : BitVec 32 := 16#32
  let c0_i32_1055 : BitVec 32 := 0#32
  let v2119 : BitVec 1 := Scalar.cmpi .sgt c16_i32_1052 c0_i32_1055
  let v2120 : BitVec 32 := Scalar.extui v2119
  let c0_i32_1056 : BitVec 32 := 0#32
  let v2121 : BitVec 1 := Scalar.cmpi .slt c16_i32_1052 c0_i32_1056
  let v2122 : BitVec 32 := Scalar.extui v2121
  let v2123 : BitVec 32 := Scalar.subi v2120 v2122
  let v2124 : BitVec 1 := Scalar.cmpi .ne v2118 v2123
  let v2125 : BitVec 32 := Scalar.remsi v2110 c16_i32_1052
  let c0_i32_1057 : BitVec 32 := 0#32
  let v2126 : BitVec 1 := Scalar.cmpi .ne v2125 c0_i32_1057
  let v2127 : BitVec 1 := Scalar.andi v2124 v2126
  let v2113 : BitVec 32 := Scalar.divsi v2110 c16_i32_1052
  let c1_i32_1058 : BitVec 32 := 1#32
  let v2128 : BitVec 32 := Scalar.subi v2113 c1_i32_1058
  let v2129 : BitVec 32 := Scalar.select v2127 v2128 v2113
  let c2048_i32_1069 : BitVec 32 := 2048#32
  let v2144 : BitVec 32 := Scalar.muli v2129 c2048_i32_1069
  let c1792_i32_1068 : BitVec 32 := 1792#32
  let c0_i32_1067 : BitVec 32 := 0#32
  let c16_i32_1059 : BitVec 32 := 16#32
  let c0_i32_1060 : BitVec 32 := 0#32
  let v2130 : BitVec 1 := Scalar.cmpi .eq c16_i32_1059 c0_i32_1060
  let c1_i32_1061 : BitVec 32 := 1#32
  let v2131 : BitVec 32 := Scalar.select v2130 c1_i32_1061 c16_i32_1059
  let v2132 : BitVec 32 := Scalar.remsi v2110 v2131
  let c0_i32_1063 : BitVec 32 := 0#32
  let v2134 : BitVec 1 := Scalar.cmpi .slt v2132 c0_i32_1063
  let c0_i32_1064 : BitVec 32 := 0#32
  let v2135 : BitVec 1 := Scalar.cmpi .slt v2131 c0_i32_1064
  let v2136 : BitVec 1 := Scalar.xori v2134 v2135
  let c0_i32_1062 : BitVec 32 := 0#32
  let v2133 : BitVec 1 := Scalar.cmpi .ne v2132 c0_i32_1062
  let v2137 : BitVec 1 := Scalar.andi v2136 v2133
  let v2138 : BitVec 32 := Scalar.addi v2132 v2131
  let v2139 : BitVec 32 := Scalar.select v2137 v2138 v2132
  let c128_i32_1065 : BitVec 32 := 128#32
  let v2140 : BitVec 32 := Scalar.muli v2139 c128_i32_1065
  let c64_i32_1066 : BitVec 32 := 64#32
  let v2141 : BitVec 32 := Scalar.subi v2140 c64_i32_1066
  let v2142 : BitVec 32 := Scalar.maxsi c0_i32_1067 v2141
  let v2143 : BitVec 32 := Scalar.minsi c1792_i32_1068 v2142
  let v2145 : BitVec 32 := Scalar.addi v2144 v2143
  let v2146 : BitVec 32 := v2145
  let c0_i32_1096 : BitVec 32 := 0#32
  let v2212 : BitVec 1 := Scalar.cmpi .sgt v2146 c0_i32_1096
  let v2213 : BitVec 32 := Scalar.extui v2212
  let c0_i32_1097 : BitVec 32 := 0#32
  let v2214 : BitVec 1 := Scalar.cmpi .slt v2146 c0_i32_1097
  let v2215 : BitVec 32 := Scalar.extui v2214
  let v2216 : BitVec 32 := Scalar.subi v2213 v2215
  let c2_i32_1095 : BitVec 32 := 2#32
  let c0_i32_1098 : BitVec 32 := 0#32
  let v2217 : BitVec 1 := Scalar.cmpi .sgt c2_i32_1095 c0_i32_1098
  let v2218 : BitVec 32 := Scalar.extui v2217
  let c0_i32_1099 : BitVec 32 := 0#32
  let v2219 : BitVec 1 := Scalar.cmpi .slt c2_i32_1095 c0_i32_1099
  let v2220 : BitVec 32 := Scalar.extui v2219
  let v2221 : BitVec 32 := Scalar.subi v2218 v2220
  let v2222 : BitVec 1 := Scalar.cmpi .ne v2216 v2221
  let v2223 : BitVec 32 := Scalar.remsi v2146 c2_i32_1095
  let c0_i32_1100 : BitVec 32 := 0#32
  let v2224 : BitVec 1 := Scalar.cmpi .ne v2223 c0_i32_1100
  let v2225 : BitVec 1 := Scalar.andi v2222 v2224
  let v2211 : BitVec 32 := Scalar.divsi v2146 c2_i32_1095
  let c1_i32_1101 : BitVec 32 := 1#32
  let v2226 : BitVec 32 := Scalar.subi v2211 c1_i32_1101
  let v2227 : BitVec 32 := Scalar.select v2225 v2226 v2211
  v2227
def k0_off10 (c0_i32_1114 : BitVec 32) : Fin 2 → Nat :=
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let v2245 : BitVec 32 := Scalar.addi v2244 c0_i32_1114
  let c0_i32_1116 : BitVec 32 := 0#32
  let v2247 : BitVec 1 := Scalar.cmpi .sgt v2245 c0_i32_1116
  let v2248 : BitVec 32 := Scalar.extui v2247
  let c0_i32_1117 : BitVec 32 := 0#32
  let v2249 : BitVec 1 := Scalar.cmpi .slt v2245 c0_i32_1117
  let v2250 : BitVec 32 := Scalar.extui v2249
  let v2251 : BitVec 32 := Scalar.subi v2248 v2250
  let c4_i32_1115 : BitVec 32 := 4#32
  let c0_i32_1118 : BitVec 32 := 0#32
  let v2252 : BitVec 1 := Scalar.cmpi .sgt c4_i32_1115 c0_i32_1118
  let v2253 : BitVec 32 := Scalar.extui v2252
  let c0_i32_1119 : BitVec 32 := 0#32
  let v2254 : BitVec 1 := Scalar.cmpi .slt c4_i32_1115 c0_i32_1119
  let v2255 : BitVec 32 := Scalar.extui v2254
  let v2256 : BitVec 32 := Scalar.subi v2253 v2255
  let v2257 : BitVec 1 := Scalar.cmpi .ne v2251 v2256
  let v2258 : BitVec 32 := Scalar.remsi v2245 c4_i32_1115
  let c0_i32_1120 : BitVec 32 := 0#32
  let v2259 : BitVec 1 := Scalar.cmpi .ne v2258 c0_i32_1120
  let v2260 : BitVec 1 := Scalar.andi v2257 v2259
  let v2246 : BitVec 32 := Scalar.divsi v2245 c4_i32_1115
  let c1_i32_1121 : BitVec 32 := 1#32
  let v2261 : BitVec 32 := Scalar.subi v2246 c1_i32_1121
  let v2262 : BitVec 32 := Scalar.select v2260 v2261 v2246
  let c2_i32_1129 : BitVec 32 := 2#32
  let c4_i32_1122 : BitVec 32 := 4#32
  let c0_i32_1123 : BitVec 32 := 0#32
  let v2263 : BitVec 1 := Scalar.cmpi .eq c4_i32_1122 c0_i32_1123
  let c1_i32_1124 : BitVec 32 := 1#32
  let v2264 : BitVec 32 := Scalar.select v2263 c1_i32_1124 c4_i32_1122
  let v2265 : BitVec 32 := Scalar.remsi v2245 v2264
  let c0_i32_1126 : BitVec 32 := 0#32
  let v2267 : BitVec 1 := Scalar.cmpi .slt v2265 c0_i32_1126
  let c0_i32_1127 : BitVec 32 := 0#32
  let v2268 : BitVec 1 := Scalar.cmpi .slt v2264 c0_i32_1127
  let v2269 : BitVec 1 := Scalar.xori v2267 v2268
  let c0_i32_1125 : BitVec 32 := 0#32
  let v2266 : BitVec 1 := Scalar.cmpi .ne v2265 c0_i32_1125
  let v2270 : BitVec 1 := Scalar.andi v2269 v2266
  let v2271 : BitVec 32 := Scalar.addi v2265 v2264
  let v2272 : BitVec 32 := Scalar.select v2270 v2271 v2265
  let c128_i32_1128 : BitVec 32 := 128#32
  let v2273 : BitVec 32 := Scalar.muli v2272 c128_i32_1128
  let v2274 : BitVec 32 := Scalar.muli c2_i32_1129 v2273
  let v2275 : BitVec 32 := Scalar.addi v2262 v2274
  let v2283 : Index := Scalar.indexCast v2275
  let c0_1135 : Index := 0#32
  ![v2283.toNat, 0]
def k0_mult97 : BitVec 32 :=
  let c2_i32_1130 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let c0_i32_1114 : BitVec 32 := 0#32
  let v2245 : BitVec 32 := Scalar.addi v2244 c0_i32_1114
  let c0_i32_1116 : BitVec 32 := 0#32
  let v2247 : BitVec 1 := Scalar.cmpi .sgt v2245 c0_i32_1116
  let v2248 : BitVec 32 := Scalar.extui v2247
  let c0_i32_1117 : BitVec 32 := 0#32
  let v2249 : BitVec 1 := Scalar.cmpi .slt v2245 c0_i32_1117
  let v2250 : BitVec 32 := Scalar.extui v2249
  let v2251 : BitVec 32 := Scalar.subi v2248 v2250
  let c4_i32_1115 : BitVec 32 := 4#32
  let c0_i32_1118 : BitVec 32 := 0#32
  let v2252 : BitVec 1 := Scalar.cmpi .sgt c4_i32_1115 c0_i32_1118
  let v2253 : BitVec 32 := Scalar.extui v2252
  let c0_i32_1119 : BitVec 32 := 0#32
  let v2254 : BitVec 1 := Scalar.cmpi .slt c4_i32_1115 c0_i32_1119
  let v2255 : BitVec 32 := Scalar.extui v2254
  let v2256 : BitVec 32 := Scalar.subi v2253 v2255
  let v2257 : BitVec 1 := Scalar.cmpi .ne v2251 v2256
  let v2258 : BitVec 32 := Scalar.remsi v2245 c4_i32_1115
  let c0_i32_1120 : BitVec 32 := 0#32
  let v2259 : BitVec 1 := Scalar.cmpi .ne v2258 c0_i32_1120
  let v2260 : BitVec 1 := Scalar.andi v2257 v2259
  let v2246 : BitVec 32 := Scalar.divsi v2245 c4_i32_1115
  let c1_i32_1121 : BitVec 32 := 1#32
  let v2261 : BitVec 32 := Scalar.subi v2246 c1_i32_1121
  let v2262 : BitVec 32 := Scalar.select v2260 v2261 v2246
  let v2276 : BitVec 32 := Scalar.muli c2_i32_1130 v2262
  let c512_i32_1131 : BitVec 32 := 512#32
  let v2277 : BitVec 32 := Scalar.muli v2276 c512_i32_1131
  let c4_i32_1122 : BitVec 32 := 4#32
  let c0_i32_1123 : BitVec 32 := 0#32
  let v2263 : BitVec 1 := Scalar.cmpi .eq c4_i32_1122 c0_i32_1123
  let c1_i32_1124 : BitVec 32 := 1#32
  let v2264 : BitVec 32 := Scalar.select v2263 c1_i32_1124 c4_i32_1122
  let v2265 : BitVec 32 := Scalar.remsi v2245 v2264
  let c0_i32_1126 : BitVec 32 := 0#32
  let v2267 : BitVec 1 := Scalar.cmpi .slt v2265 c0_i32_1126
  let c0_i32_1127 : BitVec 32 := 0#32
  let v2268 : BitVec 1 := Scalar.cmpi .slt v2264 c0_i32_1127
  let v2269 : BitVec 1 := Scalar.xori v2267 v2268
  let c0_i32_1125 : BitVec 32 := 0#32
  let v2266 : BitVec 1 := Scalar.cmpi .ne v2265 c0_i32_1125
  let v2270 : BitVec 1 := Scalar.andi v2269 v2266
  let v2271 : BitVec 32 := Scalar.addi v2265 v2264
  let v2272 : BitVec 32 := Scalar.select v2270 v2271 v2265
  let c128_i32_1128 : BitVec 32 := 128#32
  let v2273 : BitVec 32 := Scalar.muli v2272 c128_i32_1128
  let v2278 : BitVec 32 := Scalar.addi v2277 v2273
  let c0_i32_1137 : BitVec 32 := 0#32
  let v2291 : BitVec 1 := Scalar.cmpi .sgt v2278 c0_i32_1137
  let v2292 : BitVec 32 := Scalar.extui v2291
  let c0_i32_1138 : BitVec 32 := 0#32
  let v2293 : BitVec 1 := Scalar.cmpi .slt v2278 c0_i32_1138
  let v2294 : BitVec 32 := Scalar.extui v2293
  let v2295 : BitVec 32 := Scalar.subi v2292 v2294
  let c2_i32_1136 : BitVec 32 := 2#32
  let c0_i32_1139 : BitVec 32 := 0#32
  let v2296 : BitVec 1 := Scalar.cmpi .sgt c2_i32_1136 c0_i32_1139
  let v2297 : BitVec 32 := Scalar.extui v2296
  let c0_i32_1140 : BitVec 32 := 0#32
  let v2298 : BitVec 1 := Scalar.cmpi .slt c2_i32_1136 c0_i32_1140
  let v2299 : BitVec 32 := Scalar.extui v2298
  let v2300 : BitVec 32 := Scalar.subi v2297 v2299
  let v2301 : BitVec 1 := Scalar.cmpi .ne v2295 v2300
  let v2302 : BitVec 32 := Scalar.remsi v2278 c2_i32_1136
  let c0_i32_1141 : BitVec 32 := 0#32
  let v2303 : BitVec 1 := Scalar.cmpi .ne v2302 c0_i32_1141
  let v2304 : BitVec 1 := Scalar.andi v2301 v2303
  let v2290 : BitVec 32 := Scalar.divsi v2278 c2_i32_1136
  let c1_i32_1142 : BitVec 32 := 1#32
  let v2305 : BitVec 32 := Scalar.subi v2290 c1_i32_1142
  let v2306 : BitVec 32 := Scalar.select v2304 v2305 v2290
  v2306
def k0_off11 (c0_i32_1114 : BitVec 32) : Fin 3 → Nat :=
  let c0_1143 : Index := 0#32
  let c2_i32_1130 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let v2245 : BitVec 32 := Scalar.addi v2244 c0_i32_1114
  let c0_i32_1116 : BitVec 32 := 0#32
  let v2247 : BitVec 1 := Scalar.cmpi .sgt v2245 c0_i32_1116
  let v2248 : BitVec 32 := Scalar.extui v2247
  let c0_i32_1117 : BitVec 32 := 0#32
  let v2249 : BitVec 1 := Scalar.cmpi .slt v2245 c0_i32_1117
  let v2250 : BitVec 32 := Scalar.extui v2249
  let v2251 : BitVec 32 := Scalar.subi v2248 v2250
  let c4_i32_1115 : BitVec 32 := 4#32
  let c0_i32_1118 : BitVec 32 := 0#32
  let v2252 : BitVec 1 := Scalar.cmpi .sgt c4_i32_1115 c0_i32_1118
  let v2253 : BitVec 32 := Scalar.extui v2252
  let c0_i32_1119 : BitVec 32 := 0#32
  let v2254 : BitVec 1 := Scalar.cmpi .slt c4_i32_1115 c0_i32_1119
  let v2255 : BitVec 32 := Scalar.extui v2254
  let v2256 : BitVec 32 := Scalar.subi v2253 v2255
  let v2257 : BitVec 1 := Scalar.cmpi .ne v2251 v2256
  let v2258 : BitVec 32 := Scalar.remsi v2245 c4_i32_1115
  let c0_i32_1120 : BitVec 32 := 0#32
  let v2259 : BitVec 1 := Scalar.cmpi .ne v2258 c0_i32_1120
  let v2260 : BitVec 1 := Scalar.andi v2257 v2259
  let v2246 : BitVec 32 := Scalar.divsi v2245 c4_i32_1115
  let c1_i32_1121 : BitVec 32 := 1#32
  let v2261 : BitVec 32 := Scalar.subi v2246 c1_i32_1121
  let v2262 : BitVec 32 := Scalar.select v2260 v2261 v2246
  let v2276 : BitVec 32 := Scalar.muli c2_i32_1130 v2262
  let c512_i32_1131 : BitVec 32 := 512#32
  let v2277 : BitVec 32 := Scalar.muli v2276 c512_i32_1131
  let c4_i32_1122 : BitVec 32 := 4#32
  let c0_i32_1123 : BitVec 32 := 0#32
  let v2263 : BitVec 1 := Scalar.cmpi .eq c4_i32_1122 c0_i32_1123
  let c1_i32_1124 : BitVec 32 := 1#32
  let v2264 : BitVec 32 := Scalar.select v2263 c1_i32_1124 c4_i32_1122
  let v2265 : BitVec 32 := Scalar.remsi v2245 v2264
  let c0_i32_1126 : BitVec 32 := 0#32
  let v2267 : BitVec 1 := Scalar.cmpi .slt v2265 c0_i32_1126
  let c0_i32_1127 : BitVec 32 := 0#32
  let v2268 : BitVec 1 := Scalar.cmpi .slt v2264 c0_i32_1127
  let v2269 : BitVec 1 := Scalar.xori v2267 v2268
  let c0_i32_1125 : BitVec 32 := 0#32
  let v2266 : BitVec 1 := Scalar.cmpi .ne v2265 c0_i32_1125
  let v2270 : BitVec 1 := Scalar.andi v2269 v2266
  let v2271 : BitVec 32 := Scalar.addi v2265 v2264
  let v2272 : BitVec 32 := Scalar.select v2270 v2271 v2265
  let c128_i32_1128 : BitVec 32 := 128#32
  let v2273 : BitVec 32 := Scalar.muli v2272 c128_i32_1128
  let v2278 : BitVec 32 := Scalar.addi v2277 v2273
  let c0_i32_1137 : BitVec 32 := 0#32
  let v2291 : BitVec 1 := Scalar.cmpi .sgt v2278 c0_i32_1137
  let v2292 : BitVec 32 := Scalar.extui v2291
  let c0_i32_1138 : BitVec 32 := 0#32
  let v2293 : BitVec 1 := Scalar.cmpi .slt v2278 c0_i32_1138
  let v2294 : BitVec 32 := Scalar.extui v2293
  let v2295 : BitVec 32 := Scalar.subi v2292 v2294
  let c2_i32_1136 : BitVec 32 := 2#32
  let c0_i32_1139 : BitVec 32 := 0#32
  let v2296 : BitVec 1 := Scalar.cmpi .sgt c2_i32_1136 c0_i32_1139
  let v2297 : BitVec 32 := Scalar.extui v2296
  let c0_i32_1140 : BitVec 32 := 0#32
  let v2298 : BitVec 1 := Scalar.cmpi .slt c2_i32_1136 c0_i32_1140
  let v2299 : BitVec 32 := Scalar.extui v2298
  let v2300 : BitVec 32 := Scalar.subi v2297 v2299
  let v2301 : BitVec 1 := Scalar.cmpi .ne v2295 v2300
  let v2302 : BitVec 32 := Scalar.remsi v2278 c2_i32_1136
  let c0_i32_1141 : BitVec 32 := 0#32
  let v2303 : BitVec 1 := Scalar.cmpi .ne v2302 c0_i32_1141
  let v2304 : BitVec 1 := Scalar.andi v2301 v2303
  let v2290 : BitVec 32 := Scalar.divsi v2278 c2_i32_1136
  let c1_i32_1142 : BitVec 32 := 1#32
  let v2305 : BitVec 32 := Scalar.subi v2290 c1_i32_1142
  let v2306 : BitVec 32 := Scalar.select v2304 v2305 v2290
  let v2307 : BitVec 32 := v2306
  let v2308 : Index := Scalar.indexCast v2307
  let c0_1144 : Index := 0#32
  ![0, v2308.toNat, 0]
def k0_mult98 : BitVec 32 :=
  let c2_i32_1132 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let c0_i32_1114 : BitVec 32 := 0#32
  let v2245 : BitVec 32 := Scalar.addi v2244 c0_i32_1114
  let c0_i32_1116 : BitVec 32 := 0#32
  let v2247 : BitVec 1 := Scalar.cmpi .sgt v2245 c0_i32_1116
  let v2248 : BitVec 32 := Scalar.extui v2247
  let c0_i32_1117 : BitVec 32 := 0#32
  let v2249 : BitVec 1 := Scalar.cmpi .slt v2245 c0_i32_1117
  let v2250 : BitVec 32 := Scalar.extui v2249
  let v2251 : BitVec 32 := Scalar.subi v2248 v2250
  let c4_i32_1115 : BitVec 32 := 4#32
  let c0_i32_1118 : BitVec 32 := 0#32
  let v2252 : BitVec 1 := Scalar.cmpi .sgt c4_i32_1115 c0_i32_1118
  let v2253 : BitVec 32 := Scalar.extui v2252
  let c0_i32_1119 : BitVec 32 := 0#32
  let v2254 : BitVec 1 := Scalar.cmpi .slt c4_i32_1115 c0_i32_1119
  let v2255 : BitVec 32 := Scalar.extui v2254
  let v2256 : BitVec 32 := Scalar.subi v2253 v2255
  let v2257 : BitVec 1 := Scalar.cmpi .ne v2251 v2256
  let v2258 : BitVec 32 := Scalar.remsi v2245 c4_i32_1115
  let c0_i32_1120 : BitVec 32 := 0#32
  let v2259 : BitVec 1 := Scalar.cmpi .ne v2258 c0_i32_1120
  let v2260 : BitVec 1 := Scalar.andi v2257 v2259
  let v2246 : BitVec 32 := Scalar.divsi v2245 c4_i32_1115
  let c1_i32_1121 : BitVec 32 := 1#32
  let v2261 : BitVec 32 := Scalar.subi v2246 c1_i32_1121
  let v2262 : BitVec 32 := Scalar.select v2260 v2261 v2246
  let v2279 : BitVec 32 := Scalar.muli c2_i32_1132 v2262
  let c1_i32_1133 : BitVec 32 := 1#32
  let v2280 : BitVec 32 := Scalar.addi v2279 c1_i32_1133
  let c512_i32_1134 : BitVec 32 := 512#32
  let v2281 : BitVec 32 := Scalar.muli v2280 c512_i32_1134
  let c4_i32_1122 : BitVec 32 := 4#32
  let c0_i32_1123 : BitVec 32 := 0#32
  let v2263 : BitVec 1 := Scalar.cmpi .eq c4_i32_1122 c0_i32_1123
  let c1_i32_1124 : BitVec 32 := 1#32
  let v2264 : BitVec 32 := Scalar.select v2263 c1_i32_1124 c4_i32_1122
  let v2265 : BitVec 32 := Scalar.remsi v2245 v2264
  let c0_i32_1126 : BitVec 32 := 0#32
  let v2267 : BitVec 1 := Scalar.cmpi .slt v2265 c0_i32_1126
  let c0_i32_1127 : BitVec 32 := 0#32
  let v2268 : BitVec 1 := Scalar.cmpi .slt v2264 c0_i32_1127
  let v2269 : BitVec 1 := Scalar.xori v2267 v2268
  let c0_i32_1125 : BitVec 32 := 0#32
  let v2266 : BitVec 1 := Scalar.cmpi .ne v2265 c0_i32_1125
  let v2270 : BitVec 1 := Scalar.andi v2269 v2266
  let v2271 : BitVec 32 := Scalar.addi v2265 v2264
  let v2272 : BitVec 32 := Scalar.select v2270 v2271 v2265
  let c128_i32_1128 : BitVec 32 := 128#32
  let v2273 : BitVec 32 := Scalar.muli v2272 c128_i32_1128
  let v2282 : BitVec 32 := Scalar.addi v2281 v2273
  let c0_i32_1146 : BitVec 32 := 0#32
  let v2314 : BitVec 1 := Scalar.cmpi .sgt v2282 c0_i32_1146
  let v2315 : BitVec 32 := Scalar.extui v2314
  let c0_i32_1147 : BitVec 32 := 0#32
  let v2316 : BitVec 1 := Scalar.cmpi .slt v2282 c0_i32_1147
  let v2317 : BitVec 32 := Scalar.extui v2316
  let v2318 : BitVec 32 := Scalar.subi v2315 v2317
  let c2_i32_1145 : BitVec 32 := 2#32
  let c0_i32_1148 : BitVec 32 := 0#32
  let v2319 : BitVec 1 := Scalar.cmpi .sgt c2_i32_1145 c0_i32_1148
  let v2320 : BitVec 32 := Scalar.extui v2319
  let c0_i32_1149 : BitVec 32 := 0#32
  let v2321 : BitVec 1 := Scalar.cmpi .slt c2_i32_1145 c0_i32_1149
  let v2322 : BitVec 32 := Scalar.extui v2321
  let v2323 : BitVec 32 := Scalar.subi v2320 v2322
  let v2324 : BitVec 1 := Scalar.cmpi .ne v2318 v2323
  let v2325 : BitVec 32 := Scalar.remsi v2282 c2_i32_1145
  let c0_i32_1150 : BitVec 32 := 0#32
  let v2326 : BitVec 1 := Scalar.cmpi .ne v2325 c0_i32_1150
  let v2327 : BitVec 1 := Scalar.andi v2324 v2326
  let v2313 : BitVec 32 := Scalar.divsi v2282 c2_i32_1145
  let c1_i32_1151 : BitVec 32 := 1#32
  let v2328 : BitVec 32 := Scalar.subi v2313 c1_i32_1151
  let v2329 : BitVec 32 := Scalar.select v2327 v2328 v2313
  v2329
def k0_off12 (c0_i32_1114 : BitVec 32) : Fin 3 → Nat :=
  let c0_1152 : Index := 0#32
  let c2_i32_1132 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let v2245 : BitVec 32 := Scalar.addi v2244 c0_i32_1114
  let c0_i32_1116 : BitVec 32 := 0#32
  let v2247 : BitVec 1 := Scalar.cmpi .sgt v2245 c0_i32_1116
  let v2248 : BitVec 32 := Scalar.extui v2247
  let c0_i32_1117 : BitVec 32 := 0#32
  let v2249 : BitVec 1 := Scalar.cmpi .slt v2245 c0_i32_1117
  let v2250 : BitVec 32 := Scalar.extui v2249
  let v2251 : BitVec 32 := Scalar.subi v2248 v2250
  let c4_i32_1115 : BitVec 32 := 4#32
  let c0_i32_1118 : BitVec 32 := 0#32
  let v2252 : BitVec 1 := Scalar.cmpi .sgt c4_i32_1115 c0_i32_1118
  let v2253 : BitVec 32 := Scalar.extui v2252
  let c0_i32_1119 : BitVec 32 := 0#32
  let v2254 : BitVec 1 := Scalar.cmpi .slt c4_i32_1115 c0_i32_1119
  let v2255 : BitVec 32 := Scalar.extui v2254
  let v2256 : BitVec 32 := Scalar.subi v2253 v2255
  let v2257 : BitVec 1 := Scalar.cmpi .ne v2251 v2256
  let v2258 : BitVec 32 := Scalar.remsi v2245 c4_i32_1115
  let c0_i32_1120 : BitVec 32 := 0#32
  let v2259 : BitVec 1 := Scalar.cmpi .ne v2258 c0_i32_1120
  let v2260 : BitVec 1 := Scalar.andi v2257 v2259
  let v2246 : BitVec 32 := Scalar.divsi v2245 c4_i32_1115
  let c1_i32_1121 : BitVec 32 := 1#32
  let v2261 : BitVec 32 := Scalar.subi v2246 c1_i32_1121
  let v2262 : BitVec 32 := Scalar.select v2260 v2261 v2246
  let v2279 : BitVec 32 := Scalar.muli c2_i32_1132 v2262
  let c1_i32_1133 : BitVec 32 := 1#32
  let v2280 : BitVec 32 := Scalar.addi v2279 c1_i32_1133
  let c512_i32_1134 : BitVec 32 := 512#32
  let v2281 : BitVec 32 := Scalar.muli v2280 c512_i32_1134
  let c4_i32_1122 : BitVec 32 := 4#32
  let c0_i32_1123 : BitVec 32 := 0#32
  let v2263 : BitVec 1 := Scalar.cmpi .eq c4_i32_1122 c0_i32_1123
  let c1_i32_1124 : BitVec 32 := 1#32
  let v2264 : BitVec 32 := Scalar.select v2263 c1_i32_1124 c4_i32_1122
  let v2265 : BitVec 32 := Scalar.remsi v2245 v2264
  let c0_i32_1126 : BitVec 32 := 0#32
  let v2267 : BitVec 1 := Scalar.cmpi .slt v2265 c0_i32_1126
  let c0_i32_1127 : BitVec 32 := 0#32
  let v2268 : BitVec 1 := Scalar.cmpi .slt v2264 c0_i32_1127
  let v2269 : BitVec 1 := Scalar.xori v2267 v2268
  let c0_i32_1125 : BitVec 32 := 0#32
  let v2266 : BitVec 1 := Scalar.cmpi .ne v2265 c0_i32_1125
  let v2270 : BitVec 1 := Scalar.andi v2269 v2266
  let v2271 : BitVec 32 := Scalar.addi v2265 v2264
  let v2272 : BitVec 32 := Scalar.select v2270 v2271 v2265
  let c128_i32_1128 : BitVec 32 := 128#32
  let v2273 : BitVec 32 := Scalar.muli v2272 c128_i32_1128
  let v2282 : BitVec 32 := Scalar.addi v2281 v2273
  let c0_i32_1146 : BitVec 32 := 0#32
  let v2314 : BitVec 1 := Scalar.cmpi .sgt v2282 c0_i32_1146
  let v2315 : BitVec 32 := Scalar.extui v2314
  let c0_i32_1147 : BitVec 32 := 0#32
  let v2316 : BitVec 1 := Scalar.cmpi .slt v2282 c0_i32_1147
  let v2317 : BitVec 32 := Scalar.extui v2316
  let v2318 : BitVec 32 := Scalar.subi v2315 v2317
  let c2_i32_1145 : BitVec 32 := 2#32
  let c0_i32_1148 : BitVec 32 := 0#32
  let v2319 : BitVec 1 := Scalar.cmpi .sgt c2_i32_1145 c0_i32_1148
  let v2320 : BitVec 32 := Scalar.extui v2319
  let c0_i32_1149 : BitVec 32 := 0#32
  let v2321 : BitVec 1 := Scalar.cmpi .slt c2_i32_1145 c0_i32_1149
  let v2322 : BitVec 32 := Scalar.extui v2321
  let v2323 : BitVec 32 := Scalar.subi v2320 v2322
  let v2324 : BitVec 1 := Scalar.cmpi .ne v2318 v2323
  let v2325 : BitVec 32 := Scalar.remsi v2282 c2_i32_1145
  let c0_i32_1150 : BitVec 32 := 0#32
  let v2326 : BitVec 1 := Scalar.cmpi .ne v2325 c0_i32_1150
  let v2327 : BitVec 1 := Scalar.andi v2324 v2326
  let v2313 : BitVec 32 := Scalar.divsi v2282 c2_i32_1145
  let c1_i32_1151 : BitVec 32 := 1#32
  let v2328 : BitVec 32 := Scalar.subi v2313 c1_i32_1151
  let v2329 : BitVec 32 := Scalar.select v2327 v2328 v2313
  let v2330 : BitVec 32 := v2329
  let v2331 : Index := Scalar.indexCast v2330
  let c0_1153 : Index := 0#32
  ![0, v2331.toNat, 0]
def k0_mult99 : BitVec 32 :=
  let c2_i32_1155 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let c0_i32_1114 : BitVec 32 := 0#32
  let v2245 : BitVec 32 := Scalar.addi v2244 c0_i32_1114
  let c0_i32_1116 : BitVec 32 := 0#32
  let v2247 : BitVec 1 := Scalar.cmpi .sgt v2245 c0_i32_1116
  let v2248 : BitVec 32 := Scalar.extui v2247
  let c0_i32_1117 : BitVec 32 := 0#32
  let v2249 : BitVec 1 := Scalar.cmpi .slt v2245 c0_i32_1117
  let v2250 : BitVec 32 := Scalar.extui v2249
  let v2251 : BitVec 32 := Scalar.subi v2248 v2250
  let c4_i32_1115 : BitVec 32 := 4#32
  let c0_i32_1118 : BitVec 32 := 0#32
  let v2252 : BitVec 1 := Scalar.cmpi .sgt c4_i32_1115 c0_i32_1118
  let v2253 : BitVec 32 := Scalar.extui v2252
  let c0_i32_1119 : BitVec 32 := 0#32
  let v2254 : BitVec 1 := Scalar.cmpi .slt c4_i32_1115 c0_i32_1119
  let v2255 : BitVec 32 := Scalar.extui v2254
  let v2256 : BitVec 32 := Scalar.subi v2253 v2255
  let v2257 : BitVec 1 := Scalar.cmpi .ne v2251 v2256
  let v2258 : BitVec 32 := Scalar.remsi v2245 c4_i32_1115
  let c0_i32_1120 : BitVec 32 := 0#32
  let v2259 : BitVec 1 := Scalar.cmpi .ne v2258 c0_i32_1120
  let v2260 : BitVec 1 := Scalar.andi v2257 v2259
  let v2246 : BitVec 32 := Scalar.divsi v2245 c4_i32_1115
  let c1_i32_1121 : BitVec 32 := 1#32
  let v2261 : BitVec 32 := Scalar.subi v2246 c1_i32_1121
  let v2262 : BitVec 32 := Scalar.select v2260 v2261 v2246
  let v2337 : BitVec 32 := Scalar.muli c2_i32_1155 v2262
  let c512_i32_1156 : BitVec 32 := 512#32
  let v2338 : BitVec 32 := Scalar.muli v2337 c512_i32_1156
  let c4_i32_1122 : BitVec 32 := 4#32
  let c0_i32_1123 : BitVec 32 := 0#32
  let v2263 : BitVec 1 := Scalar.cmpi .eq c4_i32_1122 c0_i32_1123
  let c1_i32_1124 : BitVec 32 := 1#32
  let v2264 : BitVec 32 := Scalar.select v2263 c1_i32_1124 c4_i32_1122
  let v2265 : BitVec 32 := Scalar.remsi v2245 v2264
  let c0_i32_1126 : BitVec 32 := 0#32
  let v2267 : BitVec 1 := Scalar.cmpi .slt v2265 c0_i32_1126
  let c0_i32_1127 : BitVec 32 := 0#32
  let v2268 : BitVec 1 := Scalar.cmpi .slt v2264 c0_i32_1127
  let v2269 : BitVec 1 := Scalar.xori v2267 v2268
  let c0_i32_1125 : BitVec 32 := 0#32
  let v2266 : BitVec 1 := Scalar.cmpi .ne v2265 c0_i32_1125
  let v2270 : BitVec 1 := Scalar.andi v2269 v2266
  let v2271 : BitVec 32 := Scalar.addi v2265 v2264
  let v2272 : BitVec 32 := Scalar.select v2270 v2271 v2265
  let c128_i32_1128 : BitVec 32 := 128#32
  let v2273 : BitVec 32 := Scalar.muli v2272 c128_i32_1128
  let v2339 : BitVec 32 := Scalar.addi v2338 v2273
  let c0_i32_1162 : BitVec 32 := 0#32
  let v2352 : BitVec 1 := Scalar.cmpi .sgt v2339 c0_i32_1162
  let v2353 : BitVec 32 := Scalar.extui v2352
  let c0_i32_1163 : BitVec 32 := 0#32
  let v2354 : BitVec 1 := Scalar.cmpi .slt v2339 c0_i32_1163
  let v2355 : BitVec 32 := Scalar.extui v2354
  let v2356 : BitVec 32 := Scalar.subi v2353 v2355
  let c2_i32_1161 : BitVec 32 := 2#32
  let c0_i32_1164 : BitVec 32 := 0#32
  let v2357 : BitVec 1 := Scalar.cmpi .sgt c2_i32_1161 c0_i32_1164
  let v2358 : BitVec 32 := Scalar.extui v2357
  let c0_i32_1165 : BitVec 32 := 0#32
  let v2359 : BitVec 1 := Scalar.cmpi .slt c2_i32_1161 c0_i32_1165
  let v2360 : BitVec 32 := Scalar.extui v2359
  let v2361 : BitVec 32 := Scalar.subi v2358 v2360
  let v2362 : BitVec 1 := Scalar.cmpi .ne v2356 v2361
  let v2363 : BitVec 32 := Scalar.remsi v2339 c2_i32_1161
  let c0_i32_1166 : BitVec 32 := 0#32
  let v2364 : BitVec 1 := Scalar.cmpi .ne v2363 c0_i32_1166
  let v2365 : BitVec 1 := Scalar.andi v2362 v2364
  let v2351 : BitVec 32 := Scalar.divsi v2339 c2_i32_1161
  let c1_i32_1167 : BitVec 32 := 1#32
  let v2366 : BitVec 32 := Scalar.subi v2351 c1_i32_1167
  let v2367 : BitVec 32 := Scalar.select v2365 v2366 v2351
  v2367
def k0_off13 (c0_i32_1114 : BitVec 32) : Fin 3 → Nat :=
  let c1_1168 : Index := 1#32
  let c2_i32_1155 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let v2245 : BitVec 32 := Scalar.addi v2244 c0_i32_1114
  let c0_i32_1116 : BitVec 32 := 0#32
  let v2247 : BitVec 1 := Scalar.cmpi .sgt v2245 c0_i32_1116
  let v2248 : BitVec 32 := Scalar.extui v2247
  let c0_i32_1117 : BitVec 32 := 0#32
  let v2249 : BitVec 1 := Scalar.cmpi .slt v2245 c0_i32_1117
  let v2250 : BitVec 32 := Scalar.extui v2249
  let v2251 : BitVec 32 := Scalar.subi v2248 v2250
  let c4_i32_1115 : BitVec 32 := 4#32
  let c0_i32_1118 : BitVec 32 := 0#32
  let v2252 : BitVec 1 := Scalar.cmpi .sgt c4_i32_1115 c0_i32_1118
  let v2253 : BitVec 32 := Scalar.extui v2252
  let c0_i32_1119 : BitVec 32 := 0#32
  let v2254 : BitVec 1 := Scalar.cmpi .slt c4_i32_1115 c0_i32_1119
  let v2255 : BitVec 32 := Scalar.extui v2254
  let v2256 : BitVec 32 := Scalar.subi v2253 v2255
  let v2257 : BitVec 1 := Scalar.cmpi .ne v2251 v2256
  let v2258 : BitVec 32 := Scalar.remsi v2245 c4_i32_1115
  let c0_i32_1120 : BitVec 32 := 0#32
  let v2259 : BitVec 1 := Scalar.cmpi .ne v2258 c0_i32_1120
  let v2260 : BitVec 1 := Scalar.andi v2257 v2259
  let v2246 : BitVec 32 := Scalar.divsi v2245 c4_i32_1115
  let c1_i32_1121 : BitVec 32 := 1#32
  let v2261 : BitVec 32 := Scalar.subi v2246 c1_i32_1121
  let v2262 : BitVec 32 := Scalar.select v2260 v2261 v2246
  let v2337 : BitVec 32 := Scalar.muli c2_i32_1155 v2262
  let c512_i32_1156 : BitVec 32 := 512#32
  let v2338 : BitVec 32 := Scalar.muli v2337 c512_i32_1156
  let c4_i32_1122 : BitVec 32 := 4#32
  let c0_i32_1123 : BitVec 32 := 0#32
  let v2263 : BitVec 1 := Scalar.cmpi .eq c4_i32_1122 c0_i32_1123
  let c1_i32_1124 : BitVec 32 := 1#32
  let v2264 : BitVec 32 := Scalar.select v2263 c1_i32_1124 c4_i32_1122
  let v2265 : BitVec 32 := Scalar.remsi v2245 v2264
  let c0_i32_1126 : BitVec 32 := 0#32
  let v2267 : BitVec 1 := Scalar.cmpi .slt v2265 c0_i32_1126
  let c0_i32_1127 : BitVec 32 := 0#32
  let v2268 : BitVec 1 := Scalar.cmpi .slt v2264 c0_i32_1127
  let v2269 : BitVec 1 := Scalar.xori v2267 v2268
  let c0_i32_1125 : BitVec 32 := 0#32
  let v2266 : BitVec 1 := Scalar.cmpi .ne v2265 c0_i32_1125
  let v2270 : BitVec 1 := Scalar.andi v2269 v2266
  let v2271 : BitVec 32 := Scalar.addi v2265 v2264
  let v2272 : BitVec 32 := Scalar.select v2270 v2271 v2265
  let c128_i32_1128 : BitVec 32 := 128#32
  let v2273 : BitVec 32 := Scalar.muli v2272 c128_i32_1128
  let v2339 : BitVec 32 := Scalar.addi v2338 v2273
  let c0_i32_1162 : BitVec 32 := 0#32
  let v2352 : BitVec 1 := Scalar.cmpi .sgt v2339 c0_i32_1162
  let v2353 : BitVec 32 := Scalar.extui v2352
  let c0_i32_1163 : BitVec 32 := 0#32
  let v2354 : BitVec 1 := Scalar.cmpi .slt v2339 c0_i32_1163
  let v2355 : BitVec 32 := Scalar.extui v2354
  let v2356 : BitVec 32 := Scalar.subi v2353 v2355
  let c2_i32_1161 : BitVec 32 := 2#32
  let c0_i32_1164 : BitVec 32 := 0#32
  let v2357 : BitVec 1 := Scalar.cmpi .sgt c2_i32_1161 c0_i32_1164
  let v2358 : BitVec 32 := Scalar.extui v2357
  let c0_i32_1165 : BitVec 32 := 0#32
  let v2359 : BitVec 1 := Scalar.cmpi .slt c2_i32_1161 c0_i32_1165
  let v2360 : BitVec 32 := Scalar.extui v2359
  let v2361 : BitVec 32 := Scalar.subi v2358 v2360
  let v2362 : BitVec 1 := Scalar.cmpi .ne v2356 v2361
  let v2363 : BitVec 32 := Scalar.remsi v2339 c2_i32_1161
  let c0_i32_1166 : BitVec 32 := 0#32
  let v2364 : BitVec 1 := Scalar.cmpi .ne v2363 c0_i32_1166
  let v2365 : BitVec 1 := Scalar.andi v2362 v2364
  let v2351 : BitVec 32 := Scalar.divsi v2339 c2_i32_1161
  let c1_i32_1167 : BitVec 32 := 1#32
  let v2366 : BitVec 32 := Scalar.subi v2351 c1_i32_1167
  let v2367 : BitVec 32 := Scalar.select v2365 v2366 v2351
  let v2368 : BitVec 32 := v2367
  let v2369 : Index := Scalar.indexCast v2368
  let c0_1169 : Index := 0#32
  ![1, v2369.toNat, 0]
def k0_mult100 : BitVec 32 :=
  let c2_i32_1157 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let c0_i32_1114 : BitVec 32 := 0#32
  let v2245 : BitVec 32 := Scalar.addi v2244 c0_i32_1114
  let c0_i32_1116 : BitVec 32 := 0#32
  let v2247 : BitVec 1 := Scalar.cmpi .sgt v2245 c0_i32_1116
  let v2248 : BitVec 32 := Scalar.extui v2247
  let c0_i32_1117 : BitVec 32 := 0#32
  let v2249 : BitVec 1 := Scalar.cmpi .slt v2245 c0_i32_1117
  let v2250 : BitVec 32 := Scalar.extui v2249
  let v2251 : BitVec 32 := Scalar.subi v2248 v2250
  let c4_i32_1115 : BitVec 32 := 4#32
  let c0_i32_1118 : BitVec 32 := 0#32
  let v2252 : BitVec 1 := Scalar.cmpi .sgt c4_i32_1115 c0_i32_1118
  let v2253 : BitVec 32 := Scalar.extui v2252
  let c0_i32_1119 : BitVec 32 := 0#32
  let v2254 : BitVec 1 := Scalar.cmpi .slt c4_i32_1115 c0_i32_1119
  let v2255 : BitVec 32 := Scalar.extui v2254
  let v2256 : BitVec 32 := Scalar.subi v2253 v2255
  let v2257 : BitVec 1 := Scalar.cmpi .ne v2251 v2256
  let v2258 : BitVec 32 := Scalar.remsi v2245 c4_i32_1115
  let c0_i32_1120 : BitVec 32 := 0#32
  let v2259 : BitVec 1 := Scalar.cmpi .ne v2258 c0_i32_1120
  let v2260 : BitVec 1 := Scalar.andi v2257 v2259
  let v2246 : BitVec 32 := Scalar.divsi v2245 c4_i32_1115
  let c1_i32_1121 : BitVec 32 := 1#32
  let v2261 : BitVec 32 := Scalar.subi v2246 c1_i32_1121
  let v2262 : BitVec 32 := Scalar.select v2260 v2261 v2246
  let v2340 : BitVec 32 := Scalar.muli c2_i32_1157 v2262
  let c1_i32_1158 : BitVec 32 := 1#32
  let v2341 : BitVec 32 := Scalar.addi v2340 c1_i32_1158
  let c512_i32_1159 : BitVec 32 := 512#32
  let v2342 : BitVec 32 := Scalar.muli v2341 c512_i32_1159
  let c4_i32_1122 : BitVec 32 := 4#32
  let c0_i32_1123 : BitVec 32 := 0#32
  let v2263 : BitVec 1 := Scalar.cmpi .eq c4_i32_1122 c0_i32_1123
  let c1_i32_1124 : BitVec 32 := 1#32
  let v2264 : BitVec 32 := Scalar.select v2263 c1_i32_1124 c4_i32_1122
  let v2265 : BitVec 32 := Scalar.remsi v2245 v2264
  let c0_i32_1126 : BitVec 32 := 0#32
  let v2267 : BitVec 1 := Scalar.cmpi .slt v2265 c0_i32_1126
  let c0_i32_1127 : BitVec 32 := 0#32
  let v2268 : BitVec 1 := Scalar.cmpi .slt v2264 c0_i32_1127
  let v2269 : BitVec 1 := Scalar.xori v2267 v2268
  let c0_i32_1125 : BitVec 32 := 0#32
  let v2266 : BitVec 1 := Scalar.cmpi .ne v2265 c0_i32_1125
  let v2270 : BitVec 1 := Scalar.andi v2269 v2266
  let v2271 : BitVec 32 := Scalar.addi v2265 v2264
  let v2272 : BitVec 32 := Scalar.select v2270 v2271 v2265
  let c128_i32_1128 : BitVec 32 := 128#32
  let v2273 : BitVec 32 := Scalar.muli v2272 c128_i32_1128
  let v2343 : BitVec 32 := Scalar.addi v2342 v2273
  let c0_i32_1171 : BitVec 32 := 0#32
  let v2375 : BitVec 1 := Scalar.cmpi .sgt v2343 c0_i32_1171
  let v2376 : BitVec 32 := Scalar.extui v2375
  let c0_i32_1172 : BitVec 32 := 0#32
  let v2377 : BitVec 1 := Scalar.cmpi .slt v2343 c0_i32_1172
  let v2378 : BitVec 32 := Scalar.extui v2377
  let v2379 : BitVec 32 := Scalar.subi v2376 v2378
  let c2_i32_1170 : BitVec 32 := 2#32
  let c0_i32_1173 : BitVec 32 := 0#32
  let v2380 : BitVec 1 := Scalar.cmpi .sgt c2_i32_1170 c0_i32_1173
  let v2381 : BitVec 32 := Scalar.extui v2380
  let c0_i32_1174 : BitVec 32 := 0#32
  let v2382 : BitVec 1 := Scalar.cmpi .slt c2_i32_1170 c0_i32_1174
  let v2383 : BitVec 32 := Scalar.extui v2382
  let v2384 : BitVec 32 := Scalar.subi v2381 v2383
  let v2385 : BitVec 1 := Scalar.cmpi .ne v2379 v2384
  let v2386 : BitVec 32 := Scalar.remsi v2343 c2_i32_1170
  let c0_i32_1175 : BitVec 32 := 0#32
  let v2387 : BitVec 1 := Scalar.cmpi .ne v2386 c0_i32_1175
  let v2388 : BitVec 1 := Scalar.andi v2385 v2387
  let v2374 : BitVec 32 := Scalar.divsi v2343 c2_i32_1170
  let c1_i32_1176 : BitVec 32 := 1#32
  let v2389 : BitVec 32 := Scalar.subi v2374 c1_i32_1176
  let v2390 : BitVec 32 := Scalar.select v2388 v2389 v2374
  v2390
def k0_off14 (c0_i32_1114 : BitVec 32) : Fin 3 → Nat :=
  let c1_1177 : Index := 1#32
  let c2_i32_1157 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let v2245 : BitVec 32 := Scalar.addi v2244 c0_i32_1114
  let c0_i32_1116 : BitVec 32 := 0#32
  let v2247 : BitVec 1 := Scalar.cmpi .sgt v2245 c0_i32_1116
  let v2248 : BitVec 32 := Scalar.extui v2247
  let c0_i32_1117 : BitVec 32 := 0#32
  let v2249 : BitVec 1 := Scalar.cmpi .slt v2245 c0_i32_1117
  let v2250 : BitVec 32 := Scalar.extui v2249
  let v2251 : BitVec 32 := Scalar.subi v2248 v2250
  let c4_i32_1115 : BitVec 32 := 4#32
  let c0_i32_1118 : BitVec 32 := 0#32
  let v2252 : BitVec 1 := Scalar.cmpi .sgt c4_i32_1115 c0_i32_1118
  let v2253 : BitVec 32 := Scalar.extui v2252
  let c0_i32_1119 : BitVec 32 := 0#32
  let v2254 : BitVec 1 := Scalar.cmpi .slt c4_i32_1115 c0_i32_1119
  let v2255 : BitVec 32 := Scalar.extui v2254
  let v2256 : BitVec 32 := Scalar.subi v2253 v2255
  let v2257 : BitVec 1 := Scalar.cmpi .ne v2251 v2256
  let v2258 : BitVec 32 := Scalar.remsi v2245 c4_i32_1115
  let c0_i32_1120 : BitVec 32 := 0#32
  let v2259 : BitVec 1 := Scalar.cmpi .ne v2258 c0_i32_1120
  let v2260 : BitVec 1 := Scalar.andi v2257 v2259
  let v2246 : BitVec 32 := Scalar.divsi v2245 c4_i32_1115
  let c1_i32_1121 : BitVec 32 := 1#32
  let v2261 : BitVec 32 := Scalar.subi v2246 c1_i32_1121
  let v2262 : BitVec 32 := Scalar.select v2260 v2261 v2246
  let v2340 : BitVec 32 := Scalar.muli c2_i32_1157 v2262
  let c1_i32_1158 : BitVec 32 := 1#32
  let v2341 : BitVec 32 := Scalar.addi v2340 c1_i32_1158
  let c512_i32_1159 : BitVec 32 := 512#32
  let v2342 : BitVec 32 := Scalar.muli v2341 c512_i32_1159
  let c4_i32_1122 : BitVec 32 := 4#32
  let c0_i32_1123 : BitVec 32 := 0#32
  let v2263 : BitVec 1 := Scalar.cmpi .eq c4_i32_1122 c0_i32_1123
  let c1_i32_1124 : BitVec 32 := 1#32
  let v2264 : BitVec 32 := Scalar.select v2263 c1_i32_1124 c4_i32_1122
  let v2265 : BitVec 32 := Scalar.remsi v2245 v2264
  let c0_i32_1126 : BitVec 32 := 0#32
  let v2267 : BitVec 1 := Scalar.cmpi .slt v2265 c0_i32_1126
  let c0_i32_1127 : BitVec 32 := 0#32
  let v2268 : BitVec 1 := Scalar.cmpi .slt v2264 c0_i32_1127
  let v2269 : BitVec 1 := Scalar.xori v2267 v2268
  let c0_i32_1125 : BitVec 32 := 0#32
  let v2266 : BitVec 1 := Scalar.cmpi .ne v2265 c0_i32_1125
  let v2270 : BitVec 1 := Scalar.andi v2269 v2266
  let v2271 : BitVec 32 := Scalar.addi v2265 v2264
  let v2272 : BitVec 32 := Scalar.select v2270 v2271 v2265
  let c128_i32_1128 : BitVec 32 := 128#32
  let v2273 : BitVec 32 := Scalar.muli v2272 c128_i32_1128
  let v2343 : BitVec 32 := Scalar.addi v2342 v2273
  let c0_i32_1171 : BitVec 32 := 0#32
  let v2375 : BitVec 1 := Scalar.cmpi .sgt v2343 c0_i32_1171
  let v2376 : BitVec 32 := Scalar.extui v2375
  let c0_i32_1172 : BitVec 32 := 0#32
  let v2377 : BitVec 1 := Scalar.cmpi .slt v2343 c0_i32_1172
  let v2378 : BitVec 32 := Scalar.extui v2377
  let v2379 : BitVec 32 := Scalar.subi v2376 v2378
  let c2_i32_1170 : BitVec 32 := 2#32
  let c0_i32_1173 : BitVec 32 := 0#32
  let v2380 : BitVec 1 := Scalar.cmpi .sgt c2_i32_1170 c0_i32_1173
  let v2381 : BitVec 32 := Scalar.extui v2380
  let c0_i32_1174 : BitVec 32 := 0#32
  let v2382 : BitVec 1 := Scalar.cmpi .slt c2_i32_1170 c0_i32_1174
  let v2383 : BitVec 32 := Scalar.extui v2382
  let v2384 : BitVec 32 := Scalar.subi v2381 v2383
  let v2385 : BitVec 1 := Scalar.cmpi .ne v2379 v2384
  let v2386 : BitVec 32 := Scalar.remsi v2343 c2_i32_1170
  let c0_i32_1175 : BitVec 32 := 0#32
  let v2387 : BitVec 1 := Scalar.cmpi .ne v2386 c0_i32_1175
  let v2388 : BitVec 1 := Scalar.andi v2385 v2387
  let v2374 : BitVec 32 := Scalar.divsi v2343 c2_i32_1170
  let c1_i32_1176 : BitVec 32 := 1#32
  let v2389 : BitVec 32 := Scalar.subi v2374 c1_i32_1176
  let v2390 : BitVec 32 := Scalar.select v2388 v2389 v2374
  let v2391 : BitVec 32 := v2390
  let v2392 : Index := Scalar.indexCast v2391
  let c0_1178 : Index := 0#32
  ![1, v2392.toNat, 0]
def k0_mult101 : BitVec 32 :=
  let c2_i32_1180 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let c0_i32_1114 : BitVec 32 := 0#32
  let v2245 : BitVec 32 := Scalar.addi v2244 c0_i32_1114
  let c0_i32_1116 : BitVec 32 := 0#32
  let v2247 : BitVec 1 := Scalar.cmpi .sgt v2245 c0_i32_1116
  let v2248 : BitVec 32 := Scalar.extui v2247
  let c0_i32_1117 : BitVec 32 := 0#32
  let v2249 : BitVec 1 := Scalar.cmpi .slt v2245 c0_i32_1117
  let v2250 : BitVec 32 := Scalar.extui v2249
  let v2251 : BitVec 32 := Scalar.subi v2248 v2250
  let c4_i32_1115 : BitVec 32 := 4#32
  let c0_i32_1118 : BitVec 32 := 0#32
  let v2252 : BitVec 1 := Scalar.cmpi .sgt c4_i32_1115 c0_i32_1118
  let v2253 : BitVec 32 := Scalar.extui v2252
  let c0_i32_1119 : BitVec 32 := 0#32
  let v2254 : BitVec 1 := Scalar.cmpi .slt c4_i32_1115 c0_i32_1119
  let v2255 : BitVec 32 := Scalar.extui v2254
  let v2256 : BitVec 32 := Scalar.subi v2253 v2255
  let v2257 : BitVec 1 := Scalar.cmpi .ne v2251 v2256
  let v2258 : BitVec 32 := Scalar.remsi v2245 c4_i32_1115
  let c0_i32_1120 : BitVec 32 := 0#32
  let v2259 : BitVec 1 := Scalar.cmpi .ne v2258 c0_i32_1120
  let v2260 : BitVec 1 := Scalar.andi v2257 v2259
  let v2246 : BitVec 32 := Scalar.divsi v2245 c4_i32_1115
  let c1_i32_1121 : BitVec 32 := 1#32
  let v2261 : BitVec 32 := Scalar.subi v2246 c1_i32_1121
  let v2262 : BitVec 32 := Scalar.select v2260 v2261 v2246
  let v2398 : BitVec 32 := Scalar.muli c2_i32_1180 v2262
  let c512_i32_1181 : BitVec 32 := 512#32
  let v2399 : BitVec 32 := Scalar.muli v2398 c512_i32_1181
  let c4_i32_1122 : BitVec 32 := 4#32
  let c0_i32_1123 : BitVec 32 := 0#32
  let v2263 : BitVec 1 := Scalar.cmpi .eq c4_i32_1122 c0_i32_1123
  let c1_i32_1124 : BitVec 32 := 1#32
  let v2264 : BitVec 32 := Scalar.select v2263 c1_i32_1124 c4_i32_1122
  let v2265 : BitVec 32 := Scalar.remsi v2245 v2264
  let c0_i32_1126 : BitVec 32 := 0#32
  let v2267 : BitVec 1 := Scalar.cmpi .slt v2265 c0_i32_1126
  let c0_i32_1127 : BitVec 32 := 0#32
  let v2268 : BitVec 1 := Scalar.cmpi .slt v2264 c0_i32_1127
  let v2269 : BitVec 1 := Scalar.xori v2267 v2268
  let c0_i32_1125 : BitVec 32 := 0#32
  let v2266 : BitVec 1 := Scalar.cmpi .ne v2265 c0_i32_1125
  let v2270 : BitVec 1 := Scalar.andi v2269 v2266
  let v2271 : BitVec 32 := Scalar.addi v2265 v2264
  let v2272 : BitVec 32 := Scalar.select v2270 v2271 v2265
  let c128_i32_1128 : BitVec 32 := 128#32
  let v2273 : BitVec 32 := Scalar.muli v2272 c128_i32_1128
  let v2400 : BitVec 32 := Scalar.addi v2399 v2273
  let c0_i32_1187 : BitVec 32 := 0#32
  let v2413 : BitVec 1 := Scalar.cmpi .sgt v2400 c0_i32_1187
  let v2414 : BitVec 32 := Scalar.extui v2413
  let c0_i32_1188 : BitVec 32 := 0#32
  let v2415 : BitVec 1 := Scalar.cmpi .slt v2400 c0_i32_1188
  let v2416 : BitVec 32 := Scalar.extui v2415
  let v2417 : BitVec 32 := Scalar.subi v2414 v2416
  let c2_i32_1186 : BitVec 32 := 2#32
  let c0_i32_1189 : BitVec 32 := 0#32
  let v2418 : BitVec 1 := Scalar.cmpi .sgt c2_i32_1186 c0_i32_1189
  let v2419 : BitVec 32 := Scalar.extui v2418
  let c0_i32_1190 : BitVec 32 := 0#32
  let v2420 : BitVec 1 := Scalar.cmpi .slt c2_i32_1186 c0_i32_1190
  let v2421 : BitVec 32 := Scalar.extui v2420
  let v2422 : BitVec 32 := Scalar.subi v2419 v2421
  let v2423 : BitVec 1 := Scalar.cmpi .ne v2417 v2422
  let v2424 : BitVec 32 := Scalar.remsi v2400 c2_i32_1186
  let c0_i32_1191 : BitVec 32 := 0#32
  let v2425 : BitVec 1 := Scalar.cmpi .ne v2424 c0_i32_1191
  let v2426 : BitVec 1 := Scalar.andi v2423 v2425
  let v2412 : BitVec 32 := Scalar.divsi v2400 c2_i32_1186
  let c1_i32_1192 : BitVec 32 := 1#32
  let v2427 : BitVec 32 := Scalar.subi v2412 c1_i32_1192
  let v2428 : BitVec 32 := Scalar.select v2426 v2427 v2412
  v2428
def k0_off15 (c0_i32_1114 : BitVec 32) : Fin 3 → Nat :=
  let c2_1193 : Index := 2#32
  let c2_i32_1180 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let v2245 : BitVec 32 := Scalar.addi v2244 c0_i32_1114
  let c0_i32_1116 : BitVec 32 := 0#32
  let v2247 : BitVec 1 := Scalar.cmpi .sgt v2245 c0_i32_1116
  let v2248 : BitVec 32 := Scalar.extui v2247
  let c0_i32_1117 : BitVec 32 := 0#32
  let v2249 : BitVec 1 := Scalar.cmpi .slt v2245 c0_i32_1117
  let v2250 : BitVec 32 := Scalar.extui v2249
  let v2251 : BitVec 32 := Scalar.subi v2248 v2250
  let c4_i32_1115 : BitVec 32 := 4#32
  let c0_i32_1118 : BitVec 32 := 0#32
  let v2252 : BitVec 1 := Scalar.cmpi .sgt c4_i32_1115 c0_i32_1118
  let v2253 : BitVec 32 := Scalar.extui v2252
  let c0_i32_1119 : BitVec 32 := 0#32
  let v2254 : BitVec 1 := Scalar.cmpi .slt c4_i32_1115 c0_i32_1119
  let v2255 : BitVec 32 := Scalar.extui v2254
  let v2256 : BitVec 32 := Scalar.subi v2253 v2255
  let v2257 : BitVec 1 := Scalar.cmpi .ne v2251 v2256
  let v2258 : BitVec 32 := Scalar.remsi v2245 c4_i32_1115
  let c0_i32_1120 : BitVec 32 := 0#32
  let v2259 : BitVec 1 := Scalar.cmpi .ne v2258 c0_i32_1120
  let v2260 : BitVec 1 := Scalar.andi v2257 v2259
  let v2246 : BitVec 32 := Scalar.divsi v2245 c4_i32_1115
  let c1_i32_1121 : BitVec 32 := 1#32
  let v2261 : BitVec 32 := Scalar.subi v2246 c1_i32_1121
  let v2262 : BitVec 32 := Scalar.select v2260 v2261 v2246
  let v2398 : BitVec 32 := Scalar.muli c2_i32_1180 v2262
  let c512_i32_1181 : BitVec 32 := 512#32
  let v2399 : BitVec 32 := Scalar.muli v2398 c512_i32_1181
  let c4_i32_1122 : BitVec 32 := 4#32
  let c0_i32_1123 : BitVec 32 := 0#32
  let v2263 : BitVec 1 := Scalar.cmpi .eq c4_i32_1122 c0_i32_1123
  let c1_i32_1124 : BitVec 32 := 1#32
  let v2264 : BitVec 32 := Scalar.select v2263 c1_i32_1124 c4_i32_1122
  let v2265 : BitVec 32 := Scalar.remsi v2245 v2264
  let c0_i32_1126 : BitVec 32 := 0#32
  let v2267 : BitVec 1 := Scalar.cmpi .slt v2265 c0_i32_1126
  let c0_i32_1127 : BitVec 32 := 0#32
  let v2268 : BitVec 1 := Scalar.cmpi .slt v2264 c0_i32_1127
  let v2269 : BitVec 1 := Scalar.xori v2267 v2268
  let c0_i32_1125 : BitVec 32 := 0#32
  let v2266 : BitVec 1 := Scalar.cmpi .ne v2265 c0_i32_1125
  let v2270 : BitVec 1 := Scalar.andi v2269 v2266
  let v2271 : BitVec 32 := Scalar.addi v2265 v2264
  let v2272 : BitVec 32 := Scalar.select v2270 v2271 v2265
  let c128_i32_1128 : BitVec 32 := 128#32
  let v2273 : BitVec 32 := Scalar.muli v2272 c128_i32_1128
  let v2400 : BitVec 32 := Scalar.addi v2399 v2273
  let c0_i32_1187 : BitVec 32 := 0#32
  let v2413 : BitVec 1 := Scalar.cmpi .sgt v2400 c0_i32_1187
  let v2414 : BitVec 32 := Scalar.extui v2413
  let c0_i32_1188 : BitVec 32 := 0#32
  let v2415 : BitVec 1 := Scalar.cmpi .slt v2400 c0_i32_1188
  let v2416 : BitVec 32 := Scalar.extui v2415
  let v2417 : BitVec 32 := Scalar.subi v2414 v2416
  let c2_i32_1186 : BitVec 32 := 2#32
  let c0_i32_1189 : BitVec 32 := 0#32
  let v2418 : BitVec 1 := Scalar.cmpi .sgt c2_i32_1186 c0_i32_1189
  let v2419 : BitVec 32 := Scalar.extui v2418
  let c0_i32_1190 : BitVec 32 := 0#32
  let v2420 : BitVec 1 := Scalar.cmpi .slt c2_i32_1186 c0_i32_1190
  let v2421 : BitVec 32 := Scalar.extui v2420
  let v2422 : BitVec 32 := Scalar.subi v2419 v2421
  let v2423 : BitVec 1 := Scalar.cmpi .ne v2417 v2422
  let v2424 : BitVec 32 := Scalar.remsi v2400 c2_i32_1186
  let c0_i32_1191 : BitVec 32 := 0#32
  let v2425 : BitVec 1 := Scalar.cmpi .ne v2424 c0_i32_1191
  let v2426 : BitVec 1 := Scalar.andi v2423 v2425
  let v2412 : BitVec 32 := Scalar.divsi v2400 c2_i32_1186
  let c1_i32_1192 : BitVec 32 := 1#32
  let v2427 : BitVec 32 := Scalar.subi v2412 c1_i32_1192
  let v2428 : BitVec 32 := Scalar.select v2426 v2427 v2412
  let v2429 : BitVec 32 := v2428
  let v2430 : Index := Scalar.indexCast v2429
  let c0_1194 : Index := 0#32
  ![2, v2430.toNat, 0]
def k0_mult102 : BitVec 32 :=
  let c2_i32_1182 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let c0_i32_1114 : BitVec 32 := 0#32
  let v2245 : BitVec 32 := Scalar.addi v2244 c0_i32_1114
  let c0_i32_1116 : BitVec 32 := 0#32
  let v2247 : BitVec 1 := Scalar.cmpi .sgt v2245 c0_i32_1116
  let v2248 : BitVec 32 := Scalar.extui v2247
  let c0_i32_1117 : BitVec 32 := 0#32
  let v2249 : BitVec 1 := Scalar.cmpi .slt v2245 c0_i32_1117
  let v2250 : BitVec 32 := Scalar.extui v2249
  let v2251 : BitVec 32 := Scalar.subi v2248 v2250
  let c4_i32_1115 : BitVec 32 := 4#32
  let c0_i32_1118 : BitVec 32 := 0#32
  let v2252 : BitVec 1 := Scalar.cmpi .sgt c4_i32_1115 c0_i32_1118
  let v2253 : BitVec 32 := Scalar.extui v2252
  let c0_i32_1119 : BitVec 32 := 0#32
  let v2254 : BitVec 1 := Scalar.cmpi .slt c4_i32_1115 c0_i32_1119
  let v2255 : BitVec 32 := Scalar.extui v2254
  let v2256 : BitVec 32 := Scalar.subi v2253 v2255
  let v2257 : BitVec 1 := Scalar.cmpi .ne v2251 v2256
  let v2258 : BitVec 32 := Scalar.remsi v2245 c4_i32_1115
  let c0_i32_1120 : BitVec 32 := 0#32
  let v2259 : BitVec 1 := Scalar.cmpi .ne v2258 c0_i32_1120
  let v2260 : BitVec 1 := Scalar.andi v2257 v2259
  let v2246 : BitVec 32 := Scalar.divsi v2245 c4_i32_1115
  let c1_i32_1121 : BitVec 32 := 1#32
  let v2261 : BitVec 32 := Scalar.subi v2246 c1_i32_1121
  let v2262 : BitVec 32 := Scalar.select v2260 v2261 v2246
  let v2401 : BitVec 32 := Scalar.muli c2_i32_1182 v2262
  let c1_i32_1183 : BitVec 32 := 1#32
  let v2402 : BitVec 32 := Scalar.addi v2401 c1_i32_1183
  let c512_i32_1184 : BitVec 32 := 512#32
  let v2403 : BitVec 32 := Scalar.muli v2402 c512_i32_1184
  let c4_i32_1122 : BitVec 32 := 4#32
  let c0_i32_1123 : BitVec 32 := 0#32
  let v2263 : BitVec 1 := Scalar.cmpi .eq c4_i32_1122 c0_i32_1123
  let c1_i32_1124 : BitVec 32 := 1#32
  let v2264 : BitVec 32 := Scalar.select v2263 c1_i32_1124 c4_i32_1122
  let v2265 : BitVec 32 := Scalar.remsi v2245 v2264
  let c0_i32_1126 : BitVec 32 := 0#32
  let v2267 : BitVec 1 := Scalar.cmpi .slt v2265 c0_i32_1126
  let c0_i32_1127 : BitVec 32 := 0#32
  let v2268 : BitVec 1 := Scalar.cmpi .slt v2264 c0_i32_1127
  let v2269 : BitVec 1 := Scalar.xori v2267 v2268
  let c0_i32_1125 : BitVec 32 := 0#32
  let v2266 : BitVec 1 := Scalar.cmpi .ne v2265 c0_i32_1125
  let v2270 : BitVec 1 := Scalar.andi v2269 v2266
  let v2271 : BitVec 32 := Scalar.addi v2265 v2264
  let v2272 : BitVec 32 := Scalar.select v2270 v2271 v2265
  let c128_i32_1128 : BitVec 32 := 128#32
  let v2273 : BitVec 32 := Scalar.muli v2272 c128_i32_1128
  let v2404 : BitVec 32 := Scalar.addi v2403 v2273
  let c0_i32_1196 : BitVec 32 := 0#32
  let v2436 : BitVec 1 := Scalar.cmpi .sgt v2404 c0_i32_1196
  let v2437 : BitVec 32 := Scalar.extui v2436
  let c0_i32_1197 : BitVec 32 := 0#32
  let v2438 : BitVec 1 := Scalar.cmpi .slt v2404 c0_i32_1197
  let v2439 : BitVec 32 := Scalar.extui v2438
  let v2440 : BitVec 32 := Scalar.subi v2437 v2439
  let c2_i32_1195 : BitVec 32 := 2#32
  let c0_i32_1198 : BitVec 32 := 0#32
  let v2441 : BitVec 1 := Scalar.cmpi .sgt c2_i32_1195 c0_i32_1198
  let v2442 : BitVec 32 := Scalar.extui v2441
  let c0_i32_1199 : BitVec 32 := 0#32
  let v2443 : BitVec 1 := Scalar.cmpi .slt c2_i32_1195 c0_i32_1199
  let v2444 : BitVec 32 := Scalar.extui v2443
  let v2445 : BitVec 32 := Scalar.subi v2442 v2444
  let v2446 : BitVec 1 := Scalar.cmpi .ne v2440 v2445
  let v2447 : BitVec 32 := Scalar.remsi v2404 c2_i32_1195
  let c0_i32_1200 : BitVec 32 := 0#32
  let v2448 : BitVec 1 := Scalar.cmpi .ne v2447 c0_i32_1200
  let v2449 : BitVec 1 := Scalar.andi v2446 v2448
  let v2435 : BitVec 32 := Scalar.divsi v2404 c2_i32_1195
  let c1_i32_1201 : BitVec 32 := 1#32
  let v2450 : BitVec 32 := Scalar.subi v2435 c1_i32_1201
  let v2451 : BitVec 32 := Scalar.select v2449 v2450 v2435
  v2451
def k0_off16 (c0_i32_1114 : BitVec 32) : Fin 3 → Nat :=
  let c2_1202 : Index := 2#32
  let c2_i32_1182 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let v2245 : BitVec 32 := Scalar.addi v2244 c0_i32_1114
  let c0_i32_1116 : BitVec 32 := 0#32
  let v2247 : BitVec 1 := Scalar.cmpi .sgt v2245 c0_i32_1116
  let v2248 : BitVec 32 := Scalar.extui v2247
  let c0_i32_1117 : BitVec 32 := 0#32
  let v2249 : BitVec 1 := Scalar.cmpi .slt v2245 c0_i32_1117
  let v2250 : BitVec 32 := Scalar.extui v2249
  let v2251 : BitVec 32 := Scalar.subi v2248 v2250
  let c4_i32_1115 : BitVec 32 := 4#32
  let c0_i32_1118 : BitVec 32 := 0#32
  let v2252 : BitVec 1 := Scalar.cmpi .sgt c4_i32_1115 c0_i32_1118
  let v2253 : BitVec 32 := Scalar.extui v2252
  let c0_i32_1119 : BitVec 32 := 0#32
  let v2254 : BitVec 1 := Scalar.cmpi .slt c4_i32_1115 c0_i32_1119
  let v2255 : BitVec 32 := Scalar.extui v2254
  let v2256 : BitVec 32 := Scalar.subi v2253 v2255
  let v2257 : BitVec 1 := Scalar.cmpi .ne v2251 v2256
  let v2258 : BitVec 32 := Scalar.remsi v2245 c4_i32_1115
  let c0_i32_1120 : BitVec 32 := 0#32
  let v2259 : BitVec 1 := Scalar.cmpi .ne v2258 c0_i32_1120
  let v2260 : BitVec 1 := Scalar.andi v2257 v2259
  let v2246 : BitVec 32 := Scalar.divsi v2245 c4_i32_1115
  let c1_i32_1121 : BitVec 32 := 1#32
  let v2261 : BitVec 32 := Scalar.subi v2246 c1_i32_1121
  let v2262 : BitVec 32 := Scalar.select v2260 v2261 v2246
  let v2401 : BitVec 32 := Scalar.muli c2_i32_1182 v2262
  let c1_i32_1183 : BitVec 32 := 1#32
  let v2402 : BitVec 32 := Scalar.addi v2401 c1_i32_1183
  let c512_i32_1184 : BitVec 32 := 512#32
  let v2403 : BitVec 32 := Scalar.muli v2402 c512_i32_1184
  let c4_i32_1122 : BitVec 32 := 4#32
  let c0_i32_1123 : BitVec 32 := 0#32
  let v2263 : BitVec 1 := Scalar.cmpi .eq c4_i32_1122 c0_i32_1123
  let c1_i32_1124 : BitVec 32 := 1#32
  let v2264 : BitVec 32 := Scalar.select v2263 c1_i32_1124 c4_i32_1122
  let v2265 : BitVec 32 := Scalar.remsi v2245 v2264
  let c0_i32_1126 : BitVec 32 := 0#32
  let v2267 : BitVec 1 := Scalar.cmpi .slt v2265 c0_i32_1126
  let c0_i32_1127 : BitVec 32 := 0#32
  let v2268 : BitVec 1 := Scalar.cmpi .slt v2264 c0_i32_1127
  let v2269 : BitVec 1 := Scalar.xori v2267 v2268
  let c0_i32_1125 : BitVec 32 := 0#32
  let v2266 : BitVec 1 := Scalar.cmpi .ne v2265 c0_i32_1125
  let v2270 : BitVec 1 := Scalar.andi v2269 v2266
  let v2271 : BitVec 32 := Scalar.addi v2265 v2264
  let v2272 : BitVec 32 := Scalar.select v2270 v2271 v2265
  let c128_i32_1128 : BitVec 32 := 128#32
  let v2273 : BitVec 32 := Scalar.muli v2272 c128_i32_1128
  let v2404 : BitVec 32 := Scalar.addi v2403 v2273
  let c0_i32_1196 : BitVec 32 := 0#32
  let v2436 : BitVec 1 := Scalar.cmpi .sgt v2404 c0_i32_1196
  let v2437 : BitVec 32 := Scalar.extui v2436
  let c0_i32_1197 : BitVec 32 := 0#32
  let v2438 : BitVec 1 := Scalar.cmpi .slt v2404 c0_i32_1197
  let v2439 : BitVec 32 := Scalar.extui v2438
  let v2440 : BitVec 32 := Scalar.subi v2437 v2439
  let c2_i32_1195 : BitVec 32 := 2#32
  let c0_i32_1198 : BitVec 32 := 0#32
  let v2441 : BitVec 1 := Scalar.cmpi .sgt c2_i32_1195 c0_i32_1198
  let v2442 : BitVec 32 := Scalar.extui v2441
  let c0_i32_1199 : BitVec 32 := 0#32
  let v2443 : BitVec 1 := Scalar.cmpi .slt c2_i32_1195 c0_i32_1199
  let v2444 : BitVec 32 := Scalar.extui v2443
  let v2445 : BitVec 32 := Scalar.subi v2442 v2444
  let v2446 : BitVec 1 := Scalar.cmpi .ne v2440 v2445
  let v2447 : BitVec 32 := Scalar.remsi v2404 c2_i32_1195
  let c0_i32_1200 : BitVec 32 := 0#32
  let v2448 : BitVec 1 := Scalar.cmpi .ne v2447 c0_i32_1200
  let v2449 : BitVec 1 := Scalar.andi v2446 v2448
  let v2435 : BitVec 32 := Scalar.divsi v2404 c2_i32_1195
  let c1_i32_1201 : BitVec 32 := 1#32
  let v2450 : BitVec 32 := Scalar.subi v2435 c1_i32_1201
  let v2451 : BitVec 32 := Scalar.select v2449 v2450 v2435
  let v2452 : BitVec 32 := v2451
  let v2453 : Index := Scalar.indexCast v2452
  let c0_1203 : Index := 0#32
  ![2, v2453.toNat, 0]
def k0_mult103 : BitVec 32 :=
  let c2_i32_1205 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let c0_i32_1114 : BitVec 32 := 0#32
  let v2245 : BitVec 32 := Scalar.addi v2244 c0_i32_1114
  let c0_i32_1116 : BitVec 32 := 0#32
  let v2247 : BitVec 1 := Scalar.cmpi .sgt v2245 c0_i32_1116
  let v2248 : BitVec 32 := Scalar.extui v2247
  let c0_i32_1117 : BitVec 32 := 0#32
  let v2249 : BitVec 1 := Scalar.cmpi .slt v2245 c0_i32_1117
  let v2250 : BitVec 32 := Scalar.extui v2249
  let v2251 : BitVec 32 := Scalar.subi v2248 v2250
  let c4_i32_1115 : BitVec 32 := 4#32
  let c0_i32_1118 : BitVec 32 := 0#32
  let v2252 : BitVec 1 := Scalar.cmpi .sgt c4_i32_1115 c0_i32_1118
  let v2253 : BitVec 32 := Scalar.extui v2252
  let c0_i32_1119 : BitVec 32 := 0#32
  let v2254 : BitVec 1 := Scalar.cmpi .slt c4_i32_1115 c0_i32_1119
  let v2255 : BitVec 32 := Scalar.extui v2254
  let v2256 : BitVec 32 := Scalar.subi v2253 v2255
  let v2257 : BitVec 1 := Scalar.cmpi .ne v2251 v2256
  let v2258 : BitVec 32 := Scalar.remsi v2245 c4_i32_1115
  let c0_i32_1120 : BitVec 32 := 0#32
  let v2259 : BitVec 1 := Scalar.cmpi .ne v2258 c0_i32_1120
  let v2260 : BitVec 1 := Scalar.andi v2257 v2259
  let v2246 : BitVec 32 := Scalar.divsi v2245 c4_i32_1115
  let c1_i32_1121 : BitVec 32 := 1#32
  let v2261 : BitVec 32 := Scalar.subi v2246 c1_i32_1121
  let v2262 : BitVec 32 := Scalar.select v2260 v2261 v2246
  let v2459 : BitVec 32 := Scalar.muli c2_i32_1205 v2262
  let c512_i32_1206 : BitVec 32 := 512#32
  let v2460 : BitVec 32 := Scalar.muli v2459 c512_i32_1206
  let c4_i32_1122 : BitVec 32 := 4#32
  let c0_i32_1123 : BitVec 32 := 0#32
  let v2263 : BitVec 1 := Scalar.cmpi .eq c4_i32_1122 c0_i32_1123
  let c1_i32_1124 : BitVec 32 := 1#32
  let v2264 : BitVec 32 := Scalar.select v2263 c1_i32_1124 c4_i32_1122
  let v2265 : BitVec 32 := Scalar.remsi v2245 v2264
  let c0_i32_1126 : BitVec 32 := 0#32
  let v2267 : BitVec 1 := Scalar.cmpi .slt v2265 c0_i32_1126
  let c0_i32_1127 : BitVec 32 := 0#32
  let v2268 : BitVec 1 := Scalar.cmpi .slt v2264 c0_i32_1127
  let v2269 : BitVec 1 := Scalar.xori v2267 v2268
  let c0_i32_1125 : BitVec 32 := 0#32
  let v2266 : BitVec 1 := Scalar.cmpi .ne v2265 c0_i32_1125
  let v2270 : BitVec 1 := Scalar.andi v2269 v2266
  let v2271 : BitVec 32 := Scalar.addi v2265 v2264
  let v2272 : BitVec 32 := Scalar.select v2270 v2271 v2265
  let c128_i32_1128 : BitVec 32 := 128#32
  let v2273 : BitVec 32 := Scalar.muli v2272 c128_i32_1128
  let v2461 : BitVec 32 := Scalar.addi v2460 v2273
  let c0_i32_1212 : BitVec 32 := 0#32
  let v2474 : BitVec 1 := Scalar.cmpi .sgt v2461 c0_i32_1212
  let v2475 : BitVec 32 := Scalar.extui v2474
  let c0_i32_1213 : BitVec 32 := 0#32
  let v2476 : BitVec 1 := Scalar.cmpi .slt v2461 c0_i32_1213
  let v2477 : BitVec 32 := Scalar.extui v2476
  let v2478 : BitVec 32 := Scalar.subi v2475 v2477
  let c2_i32_1211 : BitVec 32 := 2#32
  let c0_i32_1214 : BitVec 32 := 0#32
  let v2479 : BitVec 1 := Scalar.cmpi .sgt c2_i32_1211 c0_i32_1214
  let v2480 : BitVec 32 := Scalar.extui v2479
  let c0_i32_1215 : BitVec 32 := 0#32
  let v2481 : BitVec 1 := Scalar.cmpi .slt c2_i32_1211 c0_i32_1215
  let v2482 : BitVec 32 := Scalar.extui v2481
  let v2483 : BitVec 32 := Scalar.subi v2480 v2482
  let v2484 : BitVec 1 := Scalar.cmpi .ne v2478 v2483
  let v2485 : BitVec 32 := Scalar.remsi v2461 c2_i32_1211
  let c0_i32_1216 : BitVec 32 := 0#32
  let v2486 : BitVec 1 := Scalar.cmpi .ne v2485 c0_i32_1216
  let v2487 : BitVec 1 := Scalar.andi v2484 v2486
  let v2473 : BitVec 32 := Scalar.divsi v2461 c2_i32_1211
  let c1_i32_1217 : BitVec 32 := 1#32
  let v2488 : BitVec 32 := Scalar.subi v2473 c1_i32_1217
  let v2489 : BitVec 32 := Scalar.select v2487 v2488 v2473
  v2489
def k0_off17 (c0_i32_1114 : BitVec 32) : Fin 3 → Nat :=
  let c3_1218 : Index := 3#32
  let c2_i32_1205 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let v2245 : BitVec 32 := Scalar.addi v2244 c0_i32_1114
  let c0_i32_1116 : BitVec 32 := 0#32
  let v2247 : BitVec 1 := Scalar.cmpi .sgt v2245 c0_i32_1116
  let v2248 : BitVec 32 := Scalar.extui v2247
  let c0_i32_1117 : BitVec 32 := 0#32
  let v2249 : BitVec 1 := Scalar.cmpi .slt v2245 c0_i32_1117
  let v2250 : BitVec 32 := Scalar.extui v2249
  let v2251 : BitVec 32 := Scalar.subi v2248 v2250
  let c4_i32_1115 : BitVec 32 := 4#32
  let c0_i32_1118 : BitVec 32 := 0#32
  let v2252 : BitVec 1 := Scalar.cmpi .sgt c4_i32_1115 c0_i32_1118
  let v2253 : BitVec 32 := Scalar.extui v2252
  let c0_i32_1119 : BitVec 32 := 0#32
  let v2254 : BitVec 1 := Scalar.cmpi .slt c4_i32_1115 c0_i32_1119
  let v2255 : BitVec 32 := Scalar.extui v2254
  let v2256 : BitVec 32 := Scalar.subi v2253 v2255
  let v2257 : BitVec 1 := Scalar.cmpi .ne v2251 v2256
  let v2258 : BitVec 32 := Scalar.remsi v2245 c4_i32_1115
  let c0_i32_1120 : BitVec 32 := 0#32
  let v2259 : BitVec 1 := Scalar.cmpi .ne v2258 c0_i32_1120
  let v2260 : BitVec 1 := Scalar.andi v2257 v2259
  let v2246 : BitVec 32 := Scalar.divsi v2245 c4_i32_1115
  let c1_i32_1121 : BitVec 32 := 1#32
  let v2261 : BitVec 32 := Scalar.subi v2246 c1_i32_1121
  let v2262 : BitVec 32 := Scalar.select v2260 v2261 v2246
  let v2459 : BitVec 32 := Scalar.muli c2_i32_1205 v2262
  let c512_i32_1206 : BitVec 32 := 512#32
  let v2460 : BitVec 32 := Scalar.muli v2459 c512_i32_1206
  let c4_i32_1122 : BitVec 32 := 4#32
  let c0_i32_1123 : BitVec 32 := 0#32
  let v2263 : BitVec 1 := Scalar.cmpi .eq c4_i32_1122 c0_i32_1123
  let c1_i32_1124 : BitVec 32 := 1#32
  let v2264 : BitVec 32 := Scalar.select v2263 c1_i32_1124 c4_i32_1122
  let v2265 : BitVec 32 := Scalar.remsi v2245 v2264
  let c0_i32_1126 : BitVec 32 := 0#32
  let v2267 : BitVec 1 := Scalar.cmpi .slt v2265 c0_i32_1126
  let c0_i32_1127 : BitVec 32 := 0#32
  let v2268 : BitVec 1 := Scalar.cmpi .slt v2264 c0_i32_1127
  let v2269 : BitVec 1 := Scalar.xori v2267 v2268
  let c0_i32_1125 : BitVec 32 := 0#32
  let v2266 : BitVec 1 := Scalar.cmpi .ne v2265 c0_i32_1125
  let v2270 : BitVec 1 := Scalar.andi v2269 v2266
  let v2271 : BitVec 32 := Scalar.addi v2265 v2264
  let v2272 : BitVec 32 := Scalar.select v2270 v2271 v2265
  let c128_i32_1128 : BitVec 32 := 128#32
  let v2273 : BitVec 32 := Scalar.muli v2272 c128_i32_1128
  let v2461 : BitVec 32 := Scalar.addi v2460 v2273
  let c0_i32_1212 : BitVec 32 := 0#32
  let v2474 : BitVec 1 := Scalar.cmpi .sgt v2461 c0_i32_1212
  let v2475 : BitVec 32 := Scalar.extui v2474
  let c0_i32_1213 : BitVec 32 := 0#32
  let v2476 : BitVec 1 := Scalar.cmpi .slt v2461 c0_i32_1213
  let v2477 : BitVec 32 := Scalar.extui v2476
  let v2478 : BitVec 32 := Scalar.subi v2475 v2477
  let c2_i32_1211 : BitVec 32 := 2#32
  let c0_i32_1214 : BitVec 32 := 0#32
  let v2479 : BitVec 1 := Scalar.cmpi .sgt c2_i32_1211 c0_i32_1214
  let v2480 : BitVec 32 := Scalar.extui v2479
  let c0_i32_1215 : BitVec 32 := 0#32
  let v2481 : BitVec 1 := Scalar.cmpi .slt c2_i32_1211 c0_i32_1215
  let v2482 : BitVec 32 := Scalar.extui v2481
  let v2483 : BitVec 32 := Scalar.subi v2480 v2482
  let v2484 : BitVec 1 := Scalar.cmpi .ne v2478 v2483
  let v2485 : BitVec 32 := Scalar.remsi v2461 c2_i32_1211
  let c0_i32_1216 : BitVec 32 := 0#32
  let v2486 : BitVec 1 := Scalar.cmpi .ne v2485 c0_i32_1216
  let v2487 : BitVec 1 := Scalar.andi v2484 v2486
  let v2473 : BitVec 32 := Scalar.divsi v2461 c2_i32_1211
  let c1_i32_1217 : BitVec 32 := 1#32
  let v2488 : BitVec 32 := Scalar.subi v2473 c1_i32_1217
  let v2489 : BitVec 32 := Scalar.select v2487 v2488 v2473
  let v2490 : BitVec 32 := v2489
  let v2491 : Index := Scalar.indexCast v2490
  let c0_1219 : Index := 0#32
  ![3, v2491.toNat, 0]
def k0_mult104 : BitVec 32 :=
  let c2_i32_1207 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let c0_i32_1114 : BitVec 32 := 0#32
  let v2245 : BitVec 32 := Scalar.addi v2244 c0_i32_1114
  let c0_i32_1116 : BitVec 32 := 0#32
  let v2247 : BitVec 1 := Scalar.cmpi .sgt v2245 c0_i32_1116
  let v2248 : BitVec 32 := Scalar.extui v2247
  let c0_i32_1117 : BitVec 32 := 0#32
  let v2249 : BitVec 1 := Scalar.cmpi .slt v2245 c0_i32_1117
  let v2250 : BitVec 32 := Scalar.extui v2249
  let v2251 : BitVec 32 := Scalar.subi v2248 v2250
  let c4_i32_1115 : BitVec 32 := 4#32
  let c0_i32_1118 : BitVec 32 := 0#32
  let v2252 : BitVec 1 := Scalar.cmpi .sgt c4_i32_1115 c0_i32_1118
  let v2253 : BitVec 32 := Scalar.extui v2252
  let c0_i32_1119 : BitVec 32 := 0#32
  let v2254 : BitVec 1 := Scalar.cmpi .slt c4_i32_1115 c0_i32_1119
  let v2255 : BitVec 32 := Scalar.extui v2254
  let v2256 : BitVec 32 := Scalar.subi v2253 v2255
  let v2257 : BitVec 1 := Scalar.cmpi .ne v2251 v2256
  let v2258 : BitVec 32 := Scalar.remsi v2245 c4_i32_1115
  let c0_i32_1120 : BitVec 32 := 0#32
  let v2259 : BitVec 1 := Scalar.cmpi .ne v2258 c0_i32_1120
  let v2260 : BitVec 1 := Scalar.andi v2257 v2259
  let v2246 : BitVec 32 := Scalar.divsi v2245 c4_i32_1115
  let c1_i32_1121 : BitVec 32 := 1#32
  let v2261 : BitVec 32 := Scalar.subi v2246 c1_i32_1121
  let v2262 : BitVec 32 := Scalar.select v2260 v2261 v2246
  let v2462 : BitVec 32 := Scalar.muli c2_i32_1207 v2262
  let c1_i32_1208 : BitVec 32 := 1#32
  let v2463 : BitVec 32 := Scalar.addi v2462 c1_i32_1208
  let c512_i32_1209 : BitVec 32 := 512#32
  let v2464 : BitVec 32 := Scalar.muli v2463 c512_i32_1209
  let c4_i32_1122 : BitVec 32 := 4#32
  let c0_i32_1123 : BitVec 32 := 0#32
  let v2263 : BitVec 1 := Scalar.cmpi .eq c4_i32_1122 c0_i32_1123
  let c1_i32_1124 : BitVec 32 := 1#32
  let v2264 : BitVec 32 := Scalar.select v2263 c1_i32_1124 c4_i32_1122
  let v2265 : BitVec 32 := Scalar.remsi v2245 v2264
  let c0_i32_1126 : BitVec 32 := 0#32
  let v2267 : BitVec 1 := Scalar.cmpi .slt v2265 c0_i32_1126
  let c0_i32_1127 : BitVec 32 := 0#32
  let v2268 : BitVec 1 := Scalar.cmpi .slt v2264 c0_i32_1127
  let v2269 : BitVec 1 := Scalar.xori v2267 v2268
  let c0_i32_1125 : BitVec 32 := 0#32
  let v2266 : BitVec 1 := Scalar.cmpi .ne v2265 c0_i32_1125
  let v2270 : BitVec 1 := Scalar.andi v2269 v2266
  let v2271 : BitVec 32 := Scalar.addi v2265 v2264
  let v2272 : BitVec 32 := Scalar.select v2270 v2271 v2265
  let c128_i32_1128 : BitVec 32 := 128#32
  let v2273 : BitVec 32 := Scalar.muli v2272 c128_i32_1128
  let v2465 : BitVec 32 := Scalar.addi v2464 v2273
  let c0_i32_1221 : BitVec 32 := 0#32
  let v2497 : BitVec 1 := Scalar.cmpi .sgt v2465 c0_i32_1221
  let v2498 : BitVec 32 := Scalar.extui v2497
  let c0_i32_1222 : BitVec 32 := 0#32
  let v2499 : BitVec 1 := Scalar.cmpi .slt v2465 c0_i32_1222
  let v2500 : BitVec 32 := Scalar.extui v2499
  let v2501 : BitVec 32 := Scalar.subi v2498 v2500
  let c2_i32_1220 : BitVec 32 := 2#32
  let c0_i32_1223 : BitVec 32 := 0#32
  let v2502 : BitVec 1 := Scalar.cmpi .sgt c2_i32_1220 c0_i32_1223
  let v2503 : BitVec 32 := Scalar.extui v2502
  let c0_i32_1224 : BitVec 32 := 0#32
  let v2504 : BitVec 1 := Scalar.cmpi .slt c2_i32_1220 c0_i32_1224
  let v2505 : BitVec 32 := Scalar.extui v2504
  let v2506 : BitVec 32 := Scalar.subi v2503 v2505
  let v2507 : BitVec 1 := Scalar.cmpi .ne v2501 v2506
  let v2508 : BitVec 32 := Scalar.remsi v2465 c2_i32_1220
  let c0_i32_1225 : BitVec 32 := 0#32
  let v2509 : BitVec 1 := Scalar.cmpi .ne v2508 c0_i32_1225
  let v2510 : BitVec 1 := Scalar.andi v2507 v2509
  let v2496 : BitVec 32 := Scalar.divsi v2465 c2_i32_1220
  let c1_i32_1226 : BitVec 32 := 1#32
  let v2511 : BitVec 32 := Scalar.subi v2496 c1_i32_1226
  let v2512 : BitVec 32 := Scalar.select v2510 v2511 v2496
  v2512
def k0_off18 (c0_i32_1114 : BitVec 32) : Fin 3 → Nat :=
  let c3_1227 : Index := 3#32
  let c2_i32_1207 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let v2245 : BitVec 32 := Scalar.addi v2244 c0_i32_1114
  let c0_i32_1116 : BitVec 32 := 0#32
  let v2247 : BitVec 1 := Scalar.cmpi .sgt v2245 c0_i32_1116
  let v2248 : BitVec 32 := Scalar.extui v2247
  let c0_i32_1117 : BitVec 32 := 0#32
  let v2249 : BitVec 1 := Scalar.cmpi .slt v2245 c0_i32_1117
  let v2250 : BitVec 32 := Scalar.extui v2249
  let v2251 : BitVec 32 := Scalar.subi v2248 v2250
  let c4_i32_1115 : BitVec 32 := 4#32
  let c0_i32_1118 : BitVec 32 := 0#32
  let v2252 : BitVec 1 := Scalar.cmpi .sgt c4_i32_1115 c0_i32_1118
  let v2253 : BitVec 32 := Scalar.extui v2252
  let c0_i32_1119 : BitVec 32 := 0#32
  let v2254 : BitVec 1 := Scalar.cmpi .slt c4_i32_1115 c0_i32_1119
  let v2255 : BitVec 32 := Scalar.extui v2254
  let v2256 : BitVec 32 := Scalar.subi v2253 v2255
  let v2257 : BitVec 1 := Scalar.cmpi .ne v2251 v2256
  let v2258 : BitVec 32 := Scalar.remsi v2245 c4_i32_1115
  let c0_i32_1120 : BitVec 32 := 0#32
  let v2259 : BitVec 1 := Scalar.cmpi .ne v2258 c0_i32_1120
  let v2260 : BitVec 1 := Scalar.andi v2257 v2259
  let v2246 : BitVec 32 := Scalar.divsi v2245 c4_i32_1115
  let c1_i32_1121 : BitVec 32 := 1#32
  let v2261 : BitVec 32 := Scalar.subi v2246 c1_i32_1121
  let v2262 : BitVec 32 := Scalar.select v2260 v2261 v2246
  let v2462 : BitVec 32 := Scalar.muli c2_i32_1207 v2262
  let c1_i32_1208 : BitVec 32 := 1#32
  let v2463 : BitVec 32 := Scalar.addi v2462 c1_i32_1208
  let c512_i32_1209 : BitVec 32 := 512#32
  let v2464 : BitVec 32 := Scalar.muli v2463 c512_i32_1209
  let c4_i32_1122 : BitVec 32 := 4#32
  let c0_i32_1123 : BitVec 32 := 0#32
  let v2263 : BitVec 1 := Scalar.cmpi .eq c4_i32_1122 c0_i32_1123
  let c1_i32_1124 : BitVec 32 := 1#32
  let v2264 : BitVec 32 := Scalar.select v2263 c1_i32_1124 c4_i32_1122
  let v2265 : BitVec 32 := Scalar.remsi v2245 v2264
  let c0_i32_1126 : BitVec 32 := 0#32
  let v2267 : BitVec 1 := Scalar.cmpi .slt v2265 c0_i32_1126
  let c0_i32_1127 : BitVec 32 := 0#32
  let v2268 : BitVec 1 := Scalar.cmpi .slt v2264 c0_i32_1127
  let v2269 : BitVec 1 := Scalar.xori v2267 v2268
  let c0_i32_1125 : BitVec 32 := 0#32
  let v2266 : BitVec 1 := Scalar.cmpi .ne v2265 c0_i32_1125
  let v2270 : BitVec 1 := Scalar.andi v2269 v2266
  let v2271 : BitVec 32 := Scalar.addi v2265 v2264
  let v2272 : BitVec 32 := Scalar.select v2270 v2271 v2265
  let c128_i32_1128 : BitVec 32 := 128#32
  let v2273 : BitVec 32 := Scalar.muli v2272 c128_i32_1128
  let v2465 : BitVec 32 := Scalar.addi v2464 v2273
  let c0_i32_1221 : BitVec 32 := 0#32
  let v2497 : BitVec 1 := Scalar.cmpi .sgt v2465 c0_i32_1221
  let v2498 : BitVec 32 := Scalar.extui v2497
  let c0_i32_1222 : BitVec 32 := 0#32
  let v2499 : BitVec 1 := Scalar.cmpi .slt v2465 c0_i32_1222
  let v2500 : BitVec 32 := Scalar.extui v2499
  let v2501 : BitVec 32 := Scalar.subi v2498 v2500
  let c2_i32_1220 : BitVec 32 := 2#32
  let c0_i32_1223 : BitVec 32 := 0#32
  let v2502 : BitVec 1 := Scalar.cmpi .sgt c2_i32_1220 c0_i32_1223
  let v2503 : BitVec 32 := Scalar.extui v2502
  let c0_i32_1224 : BitVec 32 := 0#32
  let v2504 : BitVec 1 := Scalar.cmpi .slt c2_i32_1220 c0_i32_1224
  let v2505 : BitVec 32 := Scalar.extui v2504
  let v2506 : BitVec 32 := Scalar.subi v2503 v2505
  let v2507 : BitVec 1 := Scalar.cmpi .ne v2501 v2506
  let v2508 : BitVec 32 := Scalar.remsi v2465 c2_i32_1220
  let c0_i32_1225 : BitVec 32 := 0#32
  let v2509 : BitVec 1 := Scalar.cmpi .ne v2508 c0_i32_1225
  let v2510 : BitVec 1 := Scalar.andi v2507 v2509
  let v2496 : BitVec 32 := Scalar.divsi v2465 c2_i32_1220
  let c1_i32_1226 : BitVec 32 := 1#32
  let v2511 : BitVec 32 := Scalar.subi v2496 c1_i32_1226
  let v2512 : BitVec 32 := Scalar.select v2510 v2511 v2496
  let v2513 : BitVec 32 := v2512
  let v2514 : Index := Scalar.indexCast v2513
  let c0_1228 : Index := 0#32
  ![3, v2514.toNat, 0]
def k0_mult105 : BitVec 32 :=
  let c2_i32_1230 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let c0_i32_1114 : BitVec 32 := 0#32
  let v2245 : BitVec 32 := Scalar.addi v2244 c0_i32_1114
  let c0_i32_1116 : BitVec 32 := 0#32
  let v2247 : BitVec 1 := Scalar.cmpi .sgt v2245 c0_i32_1116
  let v2248 : BitVec 32 := Scalar.extui v2247
  let c0_i32_1117 : BitVec 32 := 0#32
  let v2249 : BitVec 1 := Scalar.cmpi .slt v2245 c0_i32_1117
  let v2250 : BitVec 32 := Scalar.extui v2249
  let v2251 : BitVec 32 := Scalar.subi v2248 v2250
  let c4_i32_1115 : BitVec 32 := 4#32
  let c0_i32_1118 : BitVec 32 := 0#32
  let v2252 : BitVec 1 := Scalar.cmpi .sgt c4_i32_1115 c0_i32_1118
  let v2253 : BitVec 32 := Scalar.extui v2252
  let c0_i32_1119 : BitVec 32 := 0#32
  let v2254 : BitVec 1 := Scalar.cmpi .slt c4_i32_1115 c0_i32_1119
  let v2255 : BitVec 32 := Scalar.extui v2254
  let v2256 : BitVec 32 := Scalar.subi v2253 v2255
  let v2257 : BitVec 1 := Scalar.cmpi .ne v2251 v2256
  let v2258 : BitVec 32 := Scalar.remsi v2245 c4_i32_1115
  let c0_i32_1120 : BitVec 32 := 0#32
  let v2259 : BitVec 1 := Scalar.cmpi .ne v2258 c0_i32_1120
  let v2260 : BitVec 1 := Scalar.andi v2257 v2259
  let v2246 : BitVec 32 := Scalar.divsi v2245 c4_i32_1115
  let c1_i32_1121 : BitVec 32 := 1#32
  let v2261 : BitVec 32 := Scalar.subi v2246 c1_i32_1121
  let v2262 : BitVec 32 := Scalar.select v2260 v2261 v2246
  let v2520 : BitVec 32 := Scalar.muli c2_i32_1230 v2262
  let c512_i32_1231 : BitVec 32 := 512#32
  let v2521 : BitVec 32 := Scalar.muli v2520 c512_i32_1231
  let c4_i32_1122 : BitVec 32 := 4#32
  let c0_i32_1123 : BitVec 32 := 0#32
  let v2263 : BitVec 1 := Scalar.cmpi .eq c4_i32_1122 c0_i32_1123
  let c1_i32_1124 : BitVec 32 := 1#32
  let v2264 : BitVec 32 := Scalar.select v2263 c1_i32_1124 c4_i32_1122
  let v2265 : BitVec 32 := Scalar.remsi v2245 v2264
  let c0_i32_1126 : BitVec 32 := 0#32
  let v2267 : BitVec 1 := Scalar.cmpi .slt v2265 c0_i32_1126
  let c0_i32_1127 : BitVec 32 := 0#32
  let v2268 : BitVec 1 := Scalar.cmpi .slt v2264 c0_i32_1127
  let v2269 : BitVec 1 := Scalar.xori v2267 v2268
  let c0_i32_1125 : BitVec 32 := 0#32
  let v2266 : BitVec 1 := Scalar.cmpi .ne v2265 c0_i32_1125
  let v2270 : BitVec 1 := Scalar.andi v2269 v2266
  let v2271 : BitVec 32 := Scalar.addi v2265 v2264
  let v2272 : BitVec 32 := Scalar.select v2270 v2271 v2265
  let c128_i32_1128 : BitVec 32 := 128#32
  let v2273 : BitVec 32 := Scalar.muli v2272 c128_i32_1128
  let v2522 : BitVec 32 := Scalar.addi v2521 v2273
  let c0_i32_1237 : BitVec 32 := 0#32
  let v2535 : BitVec 1 := Scalar.cmpi .sgt v2522 c0_i32_1237
  let v2536 : BitVec 32 := Scalar.extui v2535
  let c0_i32_1238 : BitVec 32 := 0#32
  let v2537 : BitVec 1 := Scalar.cmpi .slt v2522 c0_i32_1238
  let v2538 : BitVec 32 := Scalar.extui v2537
  let v2539 : BitVec 32 := Scalar.subi v2536 v2538
  let c2_i32_1236 : BitVec 32 := 2#32
  let c0_i32_1239 : BitVec 32 := 0#32
  let v2540 : BitVec 1 := Scalar.cmpi .sgt c2_i32_1236 c0_i32_1239
  let v2541 : BitVec 32 := Scalar.extui v2540
  let c0_i32_1240 : BitVec 32 := 0#32
  let v2542 : BitVec 1 := Scalar.cmpi .slt c2_i32_1236 c0_i32_1240
  let v2543 : BitVec 32 := Scalar.extui v2542
  let v2544 : BitVec 32 := Scalar.subi v2541 v2543
  let v2545 : BitVec 1 := Scalar.cmpi .ne v2539 v2544
  let v2546 : BitVec 32 := Scalar.remsi v2522 c2_i32_1236
  let c0_i32_1241 : BitVec 32 := 0#32
  let v2547 : BitVec 1 := Scalar.cmpi .ne v2546 c0_i32_1241
  let v2548 : BitVec 1 := Scalar.andi v2545 v2547
  let v2534 : BitVec 32 := Scalar.divsi v2522 c2_i32_1236
  let c1_i32_1242 : BitVec 32 := 1#32
  let v2549 : BitVec 32 := Scalar.subi v2534 c1_i32_1242
  let v2550 : BitVec 32 := Scalar.select v2548 v2549 v2534
  v2550
def k0_off19 (c0_i32_1114 : BitVec 32) : Fin 3 → Nat :=
  let c4_1243 : Index := 4#32
  let c2_i32_1230 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let v2245 : BitVec 32 := Scalar.addi v2244 c0_i32_1114
  let c0_i32_1116 : BitVec 32 := 0#32
  let v2247 : BitVec 1 := Scalar.cmpi .sgt v2245 c0_i32_1116
  let v2248 : BitVec 32 := Scalar.extui v2247
  let c0_i32_1117 : BitVec 32 := 0#32
  let v2249 : BitVec 1 := Scalar.cmpi .slt v2245 c0_i32_1117
  let v2250 : BitVec 32 := Scalar.extui v2249
  let v2251 : BitVec 32 := Scalar.subi v2248 v2250
  let c4_i32_1115 : BitVec 32 := 4#32
  let c0_i32_1118 : BitVec 32 := 0#32
  let v2252 : BitVec 1 := Scalar.cmpi .sgt c4_i32_1115 c0_i32_1118
  let v2253 : BitVec 32 := Scalar.extui v2252
  let c0_i32_1119 : BitVec 32 := 0#32
  let v2254 : BitVec 1 := Scalar.cmpi .slt c4_i32_1115 c0_i32_1119
  let v2255 : BitVec 32 := Scalar.extui v2254
  let v2256 : BitVec 32 := Scalar.subi v2253 v2255
  let v2257 : BitVec 1 := Scalar.cmpi .ne v2251 v2256
  let v2258 : BitVec 32 := Scalar.remsi v2245 c4_i32_1115
  let c0_i32_1120 : BitVec 32 := 0#32
  let v2259 : BitVec 1 := Scalar.cmpi .ne v2258 c0_i32_1120
  let v2260 : BitVec 1 := Scalar.andi v2257 v2259
  let v2246 : BitVec 32 := Scalar.divsi v2245 c4_i32_1115
  let c1_i32_1121 : BitVec 32 := 1#32
  let v2261 : BitVec 32 := Scalar.subi v2246 c1_i32_1121
  let v2262 : BitVec 32 := Scalar.select v2260 v2261 v2246
  let v2520 : BitVec 32 := Scalar.muli c2_i32_1230 v2262
  let c512_i32_1231 : BitVec 32 := 512#32
  let v2521 : BitVec 32 := Scalar.muli v2520 c512_i32_1231
  let c4_i32_1122 : BitVec 32 := 4#32
  let c0_i32_1123 : BitVec 32 := 0#32
  let v2263 : BitVec 1 := Scalar.cmpi .eq c4_i32_1122 c0_i32_1123
  let c1_i32_1124 : BitVec 32 := 1#32
  let v2264 : BitVec 32 := Scalar.select v2263 c1_i32_1124 c4_i32_1122
  let v2265 : BitVec 32 := Scalar.remsi v2245 v2264
  let c0_i32_1126 : BitVec 32 := 0#32
  let v2267 : BitVec 1 := Scalar.cmpi .slt v2265 c0_i32_1126
  let c0_i32_1127 : BitVec 32 := 0#32
  let v2268 : BitVec 1 := Scalar.cmpi .slt v2264 c0_i32_1127
  let v2269 : BitVec 1 := Scalar.xori v2267 v2268
  let c0_i32_1125 : BitVec 32 := 0#32
  let v2266 : BitVec 1 := Scalar.cmpi .ne v2265 c0_i32_1125
  let v2270 : BitVec 1 := Scalar.andi v2269 v2266
  let v2271 : BitVec 32 := Scalar.addi v2265 v2264
  let v2272 : BitVec 32 := Scalar.select v2270 v2271 v2265
  let c128_i32_1128 : BitVec 32 := 128#32
  let v2273 : BitVec 32 := Scalar.muli v2272 c128_i32_1128
  let v2522 : BitVec 32 := Scalar.addi v2521 v2273
  let c0_i32_1237 : BitVec 32 := 0#32
  let v2535 : BitVec 1 := Scalar.cmpi .sgt v2522 c0_i32_1237
  let v2536 : BitVec 32 := Scalar.extui v2535
  let c0_i32_1238 : BitVec 32 := 0#32
  let v2537 : BitVec 1 := Scalar.cmpi .slt v2522 c0_i32_1238
  let v2538 : BitVec 32 := Scalar.extui v2537
  let v2539 : BitVec 32 := Scalar.subi v2536 v2538
  let c2_i32_1236 : BitVec 32 := 2#32
  let c0_i32_1239 : BitVec 32 := 0#32
  let v2540 : BitVec 1 := Scalar.cmpi .sgt c2_i32_1236 c0_i32_1239
  let v2541 : BitVec 32 := Scalar.extui v2540
  let c0_i32_1240 : BitVec 32 := 0#32
  let v2542 : BitVec 1 := Scalar.cmpi .slt c2_i32_1236 c0_i32_1240
  let v2543 : BitVec 32 := Scalar.extui v2542
  let v2544 : BitVec 32 := Scalar.subi v2541 v2543
  let v2545 : BitVec 1 := Scalar.cmpi .ne v2539 v2544
  let v2546 : BitVec 32 := Scalar.remsi v2522 c2_i32_1236
  let c0_i32_1241 : BitVec 32 := 0#32
  let v2547 : BitVec 1 := Scalar.cmpi .ne v2546 c0_i32_1241
  let v2548 : BitVec 1 := Scalar.andi v2545 v2547
  let v2534 : BitVec 32 := Scalar.divsi v2522 c2_i32_1236
  let c1_i32_1242 : BitVec 32 := 1#32
  let v2549 : BitVec 32 := Scalar.subi v2534 c1_i32_1242
  let v2550 : BitVec 32 := Scalar.select v2548 v2549 v2534
  let v2551 : BitVec 32 := v2550
  let v2552 : Index := Scalar.indexCast v2551
  let c0_1244 : Index := 0#32
  ![4, v2552.toNat, 0]
def k0_mult106 : BitVec 32 :=
  let c2_i32_1232 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let c0_i32_1114 : BitVec 32 := 0#32
  let v2245 : BitVec 32 := Scalar.addi v2244 c0_i32_1114
  let c0_i32_1116 : BitVec 32 := 0#32
  let v2247 : BitVec 1 := Scalar.cmpi .sgt v2245 c0_i32_1116
  let v2248 : BitVec 32 := Scalar.extui v2247
  let c0_i32_1117 : BitVec 32 := 0#32
  let v2249 : BitVec 1 := Scalar.cmpi .slt v2245 c0_i32_1117
  let v2250 : BitVec 32 := Scalar.extui v2249
  let v2251 : BitVec 32 := Scalar.subi v2248 v2250
  let c4_i32_1115 : BitVec 32 := 4#32
  let c0_i32_1118 : BitVec 32 := 0#32
  let v2252 : BitVec 1 := Scalar.cmpi .sgt c4_i32_1115 c0_i32_1118
  let v2253 : BitVec 32 := Scalar.extui v2252
  let c0_i32_1119 : BitVec 32 := 0#32
  let v2254 : BitVec 1 := Scalar.cmpi .slt c4_i32_1115 c0_i32_1119
  let v2255 : BitVec 32 := Scalar.extui v2254
  let v2256 : BitVec 32 := Scalar.subi v2253 v2255
  let v2257 : BitVec 1 := Scalar.cmpi .ne v2251 v2256
  let v2258 : BitVec 32 := Scalar.remsi v2245 c4_i32_1115
  let c0_i32_1120 : BitVec 32 := 0#32
  let v2259 : BitVec 1 := Scalar.cmpi .ne v2258 c0_i32_1120
  let v2260 : BitVec 1 := Scalar.andi v2257 v2259
  let v2246 : BitVec 32 := Scalar.divsi v2245 c4_i32_1115
  let c1_i32_1121 : BitVec 32 := 1#32
  let v2261 : BitVec 32 := Scalar.subi v2246 c1_i32_1121
  let v2262 : BitVec 32 := Scalar.select v2260 v2261 v2246
  let v2523 : BitVec 32 := Scalar.muli c2_i32_1232 v2262
  let c1_i32_1233 : BitVec 32 := 1#32
  let v2524 : BitVec 32 := Scalar.addi v2523 c1_i32_1233
  let c512_i32_1234 : BitVec 32 := 512#32
  let v2525 : BitVec 32 := Scalar.muli v2524 c512_i32_1234
  let c4_i32_1122 : BitVec 32 := 4#32
  let c0_i32_1123 : BitVec 32 := 0#32
  let v2263 : BitVec 1 := Scalar.cmpi .eq c4_i32_1122 c0_i32_1123
  let c1_i32_1124 : BitVec 32 := 1#32
  let v2264 : BitVec 32 := Scalar.select v2263 c1_i32_1124 c4_i32_1122
  let v2265 : BitVec 32 := Scalar.remsi v2245 v2264
  let c0_i32_1126 : BitVec 32 := 0#32
  let v2267 : BitVec 1 := Scalar.cmpi .slt v2265 c0_i32_1126
  let c0_i32_1127 : BitVec 32 := 0#32
  let v2268 : BitVec 1 := Scalar.cmpi .slt v2264 c0_i32_1127
  let v2269 : BitVec 1 := Scalar.xori v2267 v2268
  let c0_i32_1125 : BitVec 32 := 0#32
  let v2266 : BitVec 1 := Scalar.cmpi .ne v2265 c0_i32_1125
  let v2270 : BitVec 1 := Scalar.andi v2269 v2266
  let v2271 : BitVec 32 := Scalar.addi v2265 v2264
  let v2272 : BitVec 32 := Scalar.select v2270 v2271 v2265
  let c128_i32_1128 : BitVec 32 := 128#32
  let v2273 : BitVec 32 := Scalar.muli v2272 c128_i32_1128
  let v2526 : BitVec 32 := Scalar.addi v2525 v2273
  let c0_i32_1246 : BitVec 32 := 0#32
  let v2558 : BitVec 1 := Scalar.cmpi .sgt v2526 c0_i32_1246
  let v2559 : BitVec 32 := Scalar.extui v2558
  let c0_i32_1247 : BitVec 32 := 0#32
  let v2560 : BitVec 1 := Scalar.cmpi .slt v2526 c0_i32_1247
  let v2561 : BitVec 32 := Scalar.extui v2560
  let v2562 : BitVec 32 := Scalar.subi v2559 v2561
  let c2_i32_1245 : BitVec 32 := 2#32
  let c0_i32_1248 : BitVec 32 := 0#32
  let v2563 : BitVec 1 := Scalar.cmpi .sgt c2_i32_1245 c0_i32_1248
  let v2564 : BitVec 32 := Scalar.extui v2563
  let c0_i32_1249 : BitVec 32 := 0#32
  let v2565 : BitVec 1 := Scalar.cmpi .slt c2_i32_1245 c0_i32_1249
  let v2566 : BitVec 32 := Scalar.extui v2565
  let v2567 : BitVec 32 := Scalar.subi v2564 v2566
  let v2568 : BitVec 1 := Scalar.cmpi .ne v2562 v2567
  let v2569 : BitVec 32 := Scalar.remsi v2526 c2_i32_1245
  let c0_i32_1250 : BitVec 32 := 0#32
  let v2570 : BitVec 1 := Scalar.cmpi .ne v2569 c0_i32_1250
  let v2571 : BitVec 1 := Scalar.andi v2568 v2570
  let v2557 : BitVec 32 := Scalar.divsi v2526 c2_i32_1245
  let c1_i32_1251 : BitVec 32 := 1#32
  let v2572 : BitVec 32 := Scalar.subi v2557 c1_i32_1251
  let v2573 : BitVec 32 := Scalar.select v2571 v2572 v2557
  v2573
def k0_off20 (c0_i32_1114 : BitVec 32) : Fin 3 → Nat :=
  let c4_1252 : Index := 4#32
  let c2_i32_1232 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let v2245 : BitVec 32 := Scalar.addi v2244 c0_i32_1114
  let c0_i32_1116 : BitVec 32 := 0#32
  let v2247 : BitVec 1 := Scalar.cmpi .sgt v2245 c0_i32_1116
  let v2248 : BitVec 32 := Scalar.extui v2247
  let c0_i32_1117 : BitVec 32 := 0#32
  let v2249 : BitVec 1 := Scalar.cmpi .slt v2245 c0_i32_1117
  let v2250 : BitVec 32 := Scalar.extui v2249
  let v2251 : BitVec 32 := Scalar.subi v2248 v2250
  let c4_i32_1115 : BitVec 32 := 4#32
  let c0_i32_1118 : BitVec 32 := 0#32
  let v2252 : BitVec 1 := Scalar.cmpi .sgt c4_i32_1115 c0_i32_1118
  let v2253 : BitVec 32 := Scalar.extui v2252
  let c0_i32_1119 : BitVec 32 := 0#32
  let v2254 : BitVec 1 := Scalar.cmpi .slt c4_i32_1115 c0_i32_1119
  let v2255 : BitVec 32 := Scalar.extui v2254
  let v2256 : BitVec 32 := Scalar.subi v2253 v2255
  let v2257 : BitVec 1 := Scalar.cmpi .ne v2251 v2256
  let v2258 : BitVec 32 := Scalar.remsi v2245 c4_i32_1115
  let c0_i32_1120 : BitVec 32 := 0#32
  let v2259 : BitVec 1 := Scalar.cmpi .ne v2258 c0_i32_1120
  let v2260 : BitVec 1 := Scalar.andi v2257 v2259
  let v2246 : BitVec 32 := Scalar.divsi v2245 c4_i32_1115
  let c1_i32_1121 : BitVec 32 := 1#32
  let v2261 : BitVec 32 := Scalar.subi v2246 c1_i32_1121
  let v2262 : BitVec 32 := Scalar.select v2260 v2261 v2246
  let v2523 : BitVec 32 := Scalar.muli c2_i32_1232 v2262
  let c1_i32_1233 : BitVec 32 := 1#32
  let v2524 : BitVec 32 := Scalar.addi v2523 c1_i32_1233
  let c512_i32_1234 : BitVec 32 := 512#32
  let v2525 : BitVec 32 := Scalar.muli v2524 c512_i32_1234
  let c4_i32_1122 : BitVec 32 := 4#32
  let c0_i32_1123 : BitVec 32 := 0#32
  let v2263 : BitVec 1 := Scalar.cmpi .eq c4_i32_1122 c0_i32_1123
  let c1_i32_1124 : BitVec 32 := 1#32
  let v2264 : BitVec 32 := Scalar.select v2263 c1_i32_1124 c4_i32_1122
  let v2265 : BitVec 32 := Scalar.remsi v2245 v2264
  let c0_i32_1126 : BitVec 32 := 0#32
  let v2267 : BitVec 1 := Scalar.cmpi .slt v2265 c0_i32_1126
  let c0_i32_1127 : BitVec 32 := 0#32
  let v2268 : BitVec 1 := Scalar.cmpi .slt v2264 c0_i32_1127
  let v2269 : BitVec 1 := Scalar.xori v2267 v2268
  let c0_i32_1125 : BitVec 32 := 0#32
  let v2266 : BitVec 1 := Scalar.cmpi .ne v2265 c0_i32_1125
  let v2270 : BitVec 1 := Scalar.andi v2269 v2266
  let v2271 : BitVec 32 := Scalar.addi v2265 v2264
  let v2272 : BitVec 32 := Scalar.select v2270 v2271 v2265
  let c128_i32_1128 : BitVec 32 := 128#32
  let v2273 : BitVec 32 := Scalar.muli v2272 c128_i32_1128
  let v2526 : BitVec 32 := Scalar.addi v2525 v2273
  let c0_i32_1246 : BitVec 32 := 0#32
  let v2558 : BitVec 1 := Scalar.cmpi .sgt v2526 c0_i32_1246
  let v2559 : BitVec 32 := Scalar.extui v2558
  let c0_i32_1247 : BitVec 32 := 0#32
  let v2560 : BitVec 1 := Scalar.cmpi .slt v2526 c0_i32_1247
  let v2561 : BitVec 32 := Scalar.extui v2560
  let v2562 : BitVec 32 := Scalar.subi v2559 v2561
  let c2_i32_1245 : BitVec 32 := 2#32
  let c0_i32_1248 : BitVec 32 := 0#32
  let v2563 : BitVec 1 := Scalar.cmpi .sgt c2_i32_1245 c0_i32_1248
  let v2564 : BitVec 32 := Scalar.extui v2563
  let c0_i32_1249 : BitVec 32 := 0#32
  let v2565 : BitVec 1 := Scalar.cmpi .slt c2_i32_1245 c0_i32_1249
  let v2566 : BitVec 32 := Scalar.extui v2565
  let v2567 : BitVec 32 := Scalar.subi v2564 v2566
  let v2568 : BitVec 1 := Scalar.cmpi .ne v2562 v2567
  let v2569 : BitVec 32 := Scalar.remsi v2526 c2_i32_1245
  let c0_i32_1250 : BitVec 32 := 0#32
  let v2570 : BitVec 1 := Scalar.cmpi .ne v2569 c0_i32_1250
  let v2571 : BitVec 1 := Scalar.andi v2568 v2570
  let v2557 : BitVec 32 := Scalar.divsi v2526 c2_i32_1245
  let c1_i32_1251 : BitVec 32 := 1#32
  let v2572 : BitVec 32 := Scalar.subi v2557 c1_i32_1251
  let v2573 : BitVec 32 := Scalar.select v2571 v2572 v2557
  let v2574 : BitVec 32 := v2573
  let v2575 : Index := Scalar.indexCast v2574
  let c0_1253 : Index := 0#32
  ![4, v2575.toNat, 0]
def k0_mult107 : BitVec 32 :=
  let c2_i32_1270 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let c1_i32_1254 : BitVec 32 := 1#32
  let v2579 : BitVec 32 := Scalar.addi v2244 c1_i32_1254
  let c0_i32_1256 : BitVec 32 := 0#32
  let v2581 : BitVec 1 := Scalar.cmpi .sgt v2579 c0_i32_1256
  let v2582 : BitVec 32 := Scalar.extui v2581
  let c0_i32_1257 : BitVec 32 := 0#32
  let v2583 : BitVec 1 := Scalar.cmpi .slt v2579 c0_i32_1257
  let v2584 : BitVec 32 := Scalar.extui v2583
  let v2585 : BitVec 32 := Scalar.subi v2582 v2584
  let c4_i32_1255 : BitVec 32 := 4#32
  let c0_i32_1258 : BitVec 32 := 0#32
  let v2586 : BitVec 1 := Scalar.cmpi .sgt c4_i32_1255 c0_i32_1258
  let v2587 : BitVec 32 := Scalar.extui v2586
  let c0_i32_1259 : BitVec 32 := 0#32
  let v2588 : BitVec 1 := Scalar.cmpi .slt c4_i32_1255 c0_i32_1259
  let v2589 : BitVec 32 := Scalar.extui v2588
  let v2590 : BitVec 32 := Scalar.subi v2587 v2589
  let v2591 : BitVec 1 := Scalar.cmpi .ne v2585 v2590
  let v2592 : BitVec 32 := Scalar.remsi v2579 c4_i32_1255
  let c0_i32_1260 : BitVec 32 := 0#32
  let v2593 : BitVec 1 := Scalar.cmpi .ne v2592 c0_i32_1260
  let v2594 : BitVec 1 := Scalar.andi v2591 v2593
  let v2580 : BitVec 32 := Scalar.divsi v2579 c4_i32_1255
  let c1_i32_1261 : BitVec 32 := 1#32
  let v2595 : BitVec 32 := Scalar.subi v2580 c1_i32_1261
  let v2596 : BitVec 32 := Scalar.select v2594 v2595 v2580
  let v2610 : BitVec 32 := Scalar.muli c2_i32_1270 v2596
  let c512_i32_1271 : BitVec 32 := 512#32
  let v2611 : BitVec 32 := Scalar.muli v2610 c512_i32_1271
  let c4_i32_1262 : BitVec 32 := 4#32
  let c0_i32_1263 : BitVec 32 := 0#32
  let v2597 : BitVec 1 := Scalar.cmpi .eq c4_i32_1262 c0_i32_1263
  let c1_i32_1264 : BitVec 32 := 1#32
  let v2598 : BitVec 32 := Scalar.select v2597 c1_i32_1264 c4_i32_1262
  let v2599 : BitVec 32 := Scalar.remsi v2579 v2598
  let c0_i32_1266 : BitVec 32 := 0#32
  let v2601 : BitVec 1 := Scalar.cmpi .slt v2599 c0_i32_1266
  let c0_i32_1267 : BitVec 32 := 0#32
  let v2602 : BitVec 1 := Scalar.cmpi .slt v2598 c0_i32_1267
  let v2603 : BitVec 1 := Scalar.xori v2601 v2602
  let c0_i32_1265 : BitVec 32 := 0#32
  let v2600 : BitVec 1 := Scalar.cmpi .ne v2599 c0_i32_1265
  let v2604 : BitVec 1 := Scalar.andi v2603 v2600
  let v2605 : BitVec 32 := Scalar.addi v2599 v2598
  let v2606 : BitVec 32 := Scalar.select v2604 v2605 v2599
  let c128_i32_1268 : BitVec 32 := 128#32
  let v2607 : BitVec 32 := Scalar.muli v2606 c128_i32_1268
  let v2612 : BitVec 32 := Scalar.addi v2611 v2607
  let c0_i32_1277 : BitVec 32 := 0#32
  let v2625 : BitVec 1 := Scalar.cmpi .sgt v2612 c0_i32_1277
  let v2626 : BitVec 32 := Scalar.extui v2625
  let c0_i32_1278 : BitVec 32 := 0#32
  let v2627 : BitVec 1 := Scalar.cmpi .slt v2612 c0_i32_1278
  let v2628 : BitVec 32 := Scalar.extui v2627
  let v2629 : BitVec 32 := Scalar.subi v2626 v2628
  let c2_i32_1276 : BitVec 32 := 2#32
  let c0_i32_1279 : BitVec 32 := 0#32
  let v2630 : BitVec 1 := Scalar.cmpi .sgt c2_i32_1276 c0_i32_1279
  let v2631 : BitVec 32 := Scalar.extui v2630
  let c0_i32_1280 : BitVec 32 := 0#32
  let v2632 : BitVec 1 := Scalar.cmpi .slt c2_i32_1276 c0_i32_1280
  let v2633 : BitVec 32 := Scalar.extui v2632
  let v2634 : BitVec 32 := Scalar.subi v2631 v2633
  let v2635 : BitVec 1 := Scalar.cmpi .ne v2629 v2634
  let v2636 : BitVec 32 := Scalar.remsi v2612 c2_i32_1276
  let c0_i32_1281 : BitVec 32 := 0#32
  let v2637 : BitVec 1 := Scalar.cmpi .ne v2636 c0_i32_1281
  let v2638 : BitVec 1 := Scalar.andi v2635 v2637
  let v2624 : BitVec 32 := Scalar.divsi v2612 c2_i32_1276
  let c1_i32_1282 : BitVec 32 := 1#32
  let v2639 : BitVec 32 := Scalar.subi v2624 c1_i32_1282
  let v2640 : BitVec 32 := Scalar.select v2638 v2639 v2624
  v2640
def k0_mult108 : BitVec 32 :=
  let c2_i32_1272 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let c1_i32_1254 : BitVec 32 := 1#32
  let v2579 : BitVec 32 := Scalar.addi v2244 c1_i32_1254
  let c0_i32_1256 : BitVec 32 := 0#32
  let v2581 : BitVec 1 := Scalar.cmpi .sgt v2579 c0_i32_1256
  let v2582 : BitVec 32 := Scalar.extui v2581
  let c0_i32_1257 : BitVec 32 := 0#32
  let v2583 : BitVec 1 := Scalar.cmpi .slt v2579 c0_i32_1257
  let v2584 : BitVec 32 := Scalar.extui v2583
  let v2585 : BitVec 32 := Scalar.subi v2582 v2584
  let c4_i32_1255 : BitVec 32 := 4#32
  let c0_i32_1258 : BitVec 32 := 0#32
  let v2586 : BitVec 1 := Scalar.cmpi .sgt c4_i32_1255 c0_i32_1258
  let v2587 : BitVec 32 := Scalar.extui v2586
  let c0_i32_1259 : BitVec 32 := 0#32
  let v2588 : BitVec 1 := Scalar.cmpi .slt c4_i32_1255 c0_i32_1259
  let v2589 : BitVec 32 := Scalar.extui v2588
  let v2590 : BitVec 32 := Scalar.subi v2587 v2589
  let v2591 : BitVec 1 := Scalar.cmpi .ne v2585 v2590
  let v2592 : BitVec 32 := Scalar.remsi v2579 c4_i32_1255
  let c0_i32_1260 : BitVec 32 := 0#32
  let v2593 : BitVec 1 := Scalar.cmpi .ne v2592 c0_i32_1260
  let v2594 : BitVec 1 := Scalar.andi v2591 v2593
  let v2580 : BitVec 32 := Scalar.divsi v2579 c4_i32_1255
  let c1_i32_1261 : BitVec 32 := 1#32
  let v2595 : BitVec 32 := Scalar.subi v2580 c1_i32_1261
  let v2596 : BitVec 32 := Scalar.select v2594 v2595 v2580
  let v2613 : BitVec 32 := Scalar.muli c2_i32_1272 v2596
  let c1_i32_1273 : BitVec 32 := 1#32
  let v2614 : BitVec 32 := Scalar.addi v2613 c1_i32_1273
  let c512_i32_1274 : BitVec 32 := 512#32
  let v2615 : BitVec 32 := Scalar.muli v2614 c512_i32_1274
  let c4_i32_1262 : BitVec 32 := 4#32
  let c0_i32_1263 : BitVec 32 := 0#32
  let v2597 : BitVec 1 := Scalar.cmpi .eq c4_i32_1262 c0_i32_1263
  let c1_i32_1264 : BitVec 32 := 1#32
  let v2598 : BitVec 32 := Scalar.select v2597 c1_i32_1264 c4_i32_1262
  let v2599 : BitVec 32 := Scalar.remsi v2579 v2598
  let c0_i32_1266 : BitVec 32 := 0#32
  let v2601 : BitVec 1 := Scalar.cmpi .slt v2599 c0_i32_1266
  let c0_i32_1267 : BitVec 32 := 0#32
  let v2602 : BitVec 1 := Scalar.cmpi .slt v2598 c0_i32_1267
  let v2603 : BitVec 1 := Scalar.xori v2601 v2602
  let c0_i32_1265 : BitVec 32 := 0#32
  let v2600 : BitVec 1 := Scalar.cmpi .ne v2599 c0_i32_1265
  let v2604 : BitVec 1 := Scalar.andi v2603 v2600
  let v2605 : BitVec 32 := Scalar.addi v2599 v2598
  let v2606 : BitVec 32 := Scalar.select v2604 v2605 v2599
  let c128_i32_1268 : BitVec 32 := 128#32
  let v2607 : BitVec 32 := Scalar.muli v2606 c128_i32_1268
  let v2616 : BitVec 32 := Scalar.addi v2615 v2607
  let c0_i32_1286 : BitVec 32 := 0#32
  let v2648 : BitVec 1 := Scalar.cmpi .sgt v2616 c0_i32_1286
  let v2649 : BitVec 32 := Scalar.extui v2648
  let c0_i32_1287 : BitVec 32 := 0#32
  let v2650 : BitVec 1 := Scalar.cmpi .slt v2616 c0_i32_1287
  let v2651 : BitVec 32 := Scalar.extui v2650
  let v2652 : BitVec 32 := Scalar.subi v2649 v2651
  let c2_i32_1285 : BitVec 32 := 2#32
  let c0_i32_1288 : BitVec 32 := 0#32
  let v2653 : BitVec 1 := Scalar.cmpi .sgt c2_i32_1285 c0_i32_1288
  let v2654 : BitVec 32 := Scalar.extui v2653
  let c0_i32_1289 : BitVec 32 := 0#32
  let v2655 : BitVec 1 := Scalar.cmpi .slt c2_i32_1285 c0_i32_1289
  let v2656 : BitVec 32 := Scalar.extui v2655
  let v2657 : BitVec 32 := Scalar.subi v2654 v2656
  let v2658 : BitVec 1 := Scalar.cmpi .ne v2652 v2657
  let v2659 : BitVec 32 := Scalar.remsi v2616 c2_i32_1285
  let c0_i32_1290 : BitVec 32 := 0#32
  let v2660 : BitVec 1 := Scalar.cmpi .ne v2659 c0_i32_1290
  let v2661 : BitVec 1 := Scalar.andi v2658 v2660
  let v2647 : BitVec 32 := Scalar.divsi v2616 c2_i32_1285
  let c1_i32_1291 : BitVec 32 := 1#32
  let v2662 : BitVec 32 := Scalar.subi v2647 c1_i32_1291
  let v2663 : BitVec 32 := Scalar.select v2661 v2662 v2647
  v2663
def k0_mult109 : BitVec 32 :=
  let c2_i32_1295 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let c1_i32_1254 : BitVec 32 := 1#32
  let v2579 : BitVec 32 := Scalar.addi v2244 c1_i32_1254
  let c0_i32_1256 : BitVec 32 := 0#32
  let v2581 : BitVec 1 := Scalar.cmpi .sgt v2579 c0_i32_1256
  let v2582 : BitVec 32 := Scalar.extui v2581
  let c0_i32_1257 : BitVec 32 := 0#32
  let v2583 : BitVec 1 := Scalar.cmpi .slt v2579 c0_i32_1257
  let v2584 : BitVec 32 := Scalar.extui v2583
  let v2585 : BitVec 32 := Scalar.subi v2582 v2584
  let c4_i32_1255 : BitVec 32 := 4#32
  let c0_i32_1258 : BitVec 32 := 0#32
  let v2586 : BitVec 1 := Scalar.cmpi .sgt c4_i32_1255 c0_i32_1258
  let v2587 : BitVec 32 := Scalar.extui v2586
  let c0_i32_1259 : BitVec 32 := 0#32
  let v2588 : BitVec 1 := Scalar.cmpi .slt c4_i32_1255 c0_i32_1259
  let v2589 : BitVec 32 := Scalar.extui v2588
  let v2590 : BitVec 32 := Scalar.subi v2587 v2589
  let v2591 : BitVec 1 := Scalar.cmpi .ne v2585 v2590
  let v2592 : BitVec 32 := Scalar.remsi v2579 c4_i32_1255
  let c0_i32_1260 : BitVec 32 := 0#32
  let v2593 : BitVec 1 := Scalar.cmpi .ne v2592 c0_i32_1260
  let v2594 : BitVec 1 := Scalar.andi v2591 v2593
  let v2580 : BitVec 32 := Scalar.divsi v2579 c4_i32_1255
  let c1_i32_1261 : BitVec 32 := 1#32
  let v2595 : BitVec 32 := Scalar.subi v2580 c1_i32_1261
  let v2596 : BitVec 32 := Scalar.select v2594 v2595 v2580
  let v2671 : BitVec 32 := Scalar.muli c2_i32_1295 v2596
  let c512_i32_1296 : BitVec 32 := 512#32
  let v2672 : BitVec 32 := Scalar.muli v2671 c512_i32_1296
  let c4_i32_1262 : BitVec 32 := 4#32
  let c0_i32_1263 : BitVec 32 := 0#32
  let v2597 : BitVec 1 := Scalar.cmpi .eq c4_i32_1262 c0_i32_1263
  let c1_i32_1264 : BitVec 32 := 1#32
  let v2598 : BitVec 32 := Scalar.select v2597 c1_i32_1264 c4_i32_1262
  let v2599 : BitVec 32 := Scalar.remsi v2579 v2598
  let c0_i32_1266 : BitVec 32 := 0#32
  let v2601 : BitVec 1 := Scalar.cmpi .slt v2599 c0_i32_1266
  let c0_i32_1267 : BitVec 32 := 0#32
  let v2602 : BitVec 1 := Scalar.cmpi .slt v2598 c0_i32_1267
  let v2603 : BitVec 1 := Scalar.xori v2601 v2602
  let c0_i32_1265 : BitVec 32 := 0#32
  let v2600 : BitVec 1 := Scalar.cmpi .ne v2599 c0_i32_1265
  let v2604 : BitVec 1 := Scalar.andi v2603 v2600
  let v2605 : BitVec 32 := Scalar.addi v2599 v2598
  let v2606 : BitVec 32 := Scalar.select v2604 v2605 v2599
  let c128_i32_1268 : BitVec 32 := 128#32
  let v2607 : BitVec 32 := Scalar.muli v2606 c128_i32_1268
  let v2673 : BitVec 32 := Scalar.addi v2672 v2607
  let c0_i32_1302 : BitVec 32 := 0#32
  let v2686 : BitVec 1 := Scalar.cmpi .sgt v2673 c0_i32_1302
  let v2687 : BitVec 32 := Scalar.extui v2686
  let c0_i32_1303 : BitVec 32 := 0#32
  let v2688 : BitVec 1 := Scalar.cmpi .slt v2673 c0_i32_1303
  let v2689 : BitVec 32 := Scalar.extui v2688
  let v2690 : BitVec 32 := Scalar.subi v2687 v2689
  let c2_i32_1301 : BitVec 32 := 2#32
  let c0_i32_1304 : BitVec 32 := 0#32
  let v2691 : BitVec 1 := Scalar.cmpi .sgt c2_i32_1301 c0_i32_1304
  let v2692 : BitVec 32 := Scalar.extui v2691
  let c0_i32_1305 : BitVec 32 := 0#32
  let v2693 : BitVec 1 := Scalar.cmpi .slt c2_i32_1301 c0_i32_1305
  let v2694 : BitVec 32 := Scalar.extui v2693
  let v2695 : BitVec 32 := Scalar.subi v2692 v2694
  let v2696 : BitVec 1 := Scalar.cmpi .ne v2690 v2695
  let v2697 : BitVec 32 := Scalar.remsi v2673 c2_i32_1301
  let c0_i32_1306 : BitVec 32 := 0#32
  let v2698 : BitVec 1 := Scalar.cmpi .ne v2697 c0_i32_1306
  let v2699 : BitVec 1 := Scalar.andi v2696 v2698
  let v2685 : BitVec 32 := Scalar.divsi v2673 c2_i32_1301
  let c1_i32_1307 : BitVec 32 := 1#32
  let v2700 : BitVec 32 := Scalar.subi v2685 c1_i32_1307
  let v2701 : BitVec 32 := Scalar.select v2699 v2700 v2685
  v2701
def k0_mult110 : BitVec 32 :=
  let c2_i32_1297 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let c1_i32_1254 : BitVec 32 := 1#32
  let v2579 : BitVec 32 := Scalar.addi v2244 c1_i32_1254
  let c0_i32_1256 : BitVec 32 := 0#32
  let v2581 : BitVec 1 := Scalar.cmpi .sgt v2579 c0_i32_1256
  let v2582 : BitVec 32 := Scalar.extui v2581
  let c0_i32_1257 : BitVec 32 := 0#32
  let v2583 : BitVec 1 := Scalar.cmpi .slt v2579 c0_i32_1257
  let v2584 : BitVec 32 := Scalar.extui v2583
  let v2585 : BitVec 32 := Scalar.subi v2582 v2584
  let c4_i32_1255 : BitVec 32 := 4#32
  let c0_i32_1258 : BitVec 32 := 0#32
  let v2586 : BitVec 1 := Scalar.cmpi .sgt c4_i32_1255 c0_i32_1258
  let v2587 : BitVec 32 := Scalar.extui v2586
  let c0_i32_1259 : BitVec 32 := 0#32
  let v2588 : BitVec 1 := Scalar.cmpi .slt c4_i32_1255 c0_i32_1259
  let v2589 : BitVec 32 := Scalar.extui v2588
  let v2590 : BitVec 32 := Scalar.subi v2587 v2589
  let v2591 : BitVec 1 := Scalar.cmpi .ne v2585 v2590
  let v2592 : BitVec 32 := Scalar.remsi v2579 c4_i32_1255
  let c0_i32_1260 : BitVec 32 := 0#32
  let v2593 : BitVec 1 := Scalar.cmpi .ne v2592 c0_i32_1260
  let v2594 : BitVec 1 := Scalar.andi v2591 v2593
  let v2580 : BitVec 32 := Scalar.divsi v2579 c4_i32_1255
  let c1_i32_1261 : BitVec 32 := 1#32
  let v2595 : BitVec 32 := Scalar.subi v2580 c1_i32_1261
  let v2596 : BitVec 32 := Scalar.select v2594 v2595 v2580
  let v2674 : BitVec 32 := Scalar.muli c2_i32_1297 v2596
  let c1_i32_1298 : BitVec 32 := 1#32
  let v2675 : BitVec 32 := Scalar.addi v2674 c1_i32_1298
  let c512_i32_1299 : BitVec 32 := 512#32
  let v2676 : BitVec 32 := Scalar.muli v2675 c512_i32_1299
  let c4_i32_1262 : BitVec 32 := 4#32
  let c0_i32_1263 : BitVec 32 := 0#32
  let v2597 : BitVec 1 := Scalar.cmpi .eq c4_i32_1262 c0_i32_1263
  let c1_i32_1264 : BitVec 32 := 1#32
  let v2598 : BitVec 32 := Scalar.select v2597 c1_i32_1264 c4_i32_1262
  let v2599 : BitVec 32 := Scalar.remsi v2579 v2598
  let c0_i32_1266 : BitVec 32 := 0#32
  let v2601 : BitVec 1 := Scalar.cmpi .slt v2599 c0_i32_1266
  let c0_i32_1267 : BitVec 32 := 0#32
  let v2602 : BitVec 1 := Scalar.cmpi .slt v2598 c0_i32_1267
  let v2603 : BitVec 1 := Scalar.xori v2601 v2602
  let c0_i32_1265 : BitVec 32 := 0#32
  let v2600 : BitVec 1 := Scalar.cmpi .ne v2599 c0_i32_1265
  let v2604 : BitVec 1 := Scalar.andi v2603 v2600
  let v2605 : BitVec 32 := Scalar.addi v2599 v2598
  let v2606 : BitVec 32 := Scalar.select v2604 v2605 v2599
  let c128_i32_1268 : BitVec 32 := 128#32
  let v2607 : BitVec 32 := Scalar.muli v2606 c128_i32_1268
  let v2677 : BitVec 32 := Scalar.addi v2676 v2607
  let c0_i32_1311 : BitVec 32 := 0#32
  let v2709 : BitVec 1 := Scalar.cmpi .sgt v2677 c0_i32_1311
  let v2710 : BitVec 32 := Scalar.extui v2709
  let c0_i32_1312 : BitVec 32 := 0#32
  let v2711 : BitVec 1 := Scalar.cmpi .slt v2677 c0_i32_1312
  let v2712 : BitVec 32 := Scalar.extui v2711
  let v2713 : BitVec 32 := Scalar.subi v2710 v2712
  let c2_i32_1310 : BitVec 32 := 2#32
  let c0_i32_1313 : BitVec 32 := 0#32
  let v2714 : BitVec 1 := Scalar.cmpi .sgt c2_i32_1310 c0_i32_1313
  let v2715 : BitVec 32 := Scalar.extui v2714
  let c0_i32_1314 : BitVec 32 := 0#32
  let v2716 : BitVec 1 := Scalar.cmpi .slt c2_i32_1310 c0_i32_1314
  let v2717 : BitVec 32 := Scalar.extui v2716
  let v2718 : BitVec 32 := Scalar.subi v2715 v2717
  let v2719 : BitVec 1 := Scalar.cmpi .ne v2713 v2718
  let v2720 : BitVec 32 := Scalar.remsi v2677 c2_i32_1310
  let c0_i32_1315 : BitVec 32 := 0#32
  let v2721 : BitVec 1 := Scalar.cmpi .ne v2720 c0_i32_1315
  let v2722 : BitVec 1 := Scalar.andi v2719 v2721
  let v2708 : BitVec 32 := Scalar.divsi v2677 c2_i32_1310
  let c1_i32_1316 : BitVec 32 := 1#32
  let v2723 : BitVec 32 := Scalar.subi v2708 c1_i32_1316
  let v2724 : BitVec 32 := Scalar.select v2722 v2723 v2708
  v2724
def k0_mult111 : BitVec 32 :=
  let c2_i32_1320 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let c1_i32_1254 : BitVec 32 := 1#32
  let v2579 : BitVec 32 := Scalar.addi v2244 c1_i32_1254
  let c0_i32_1256 : BitVec 32 := 0#32
  let v2581 : BitVec 1 := Scalar.cmpi .sgt v2579 c0_i32_1256
  let v2582 : BitVec 32 := Scalar.extui v2581
  let c0_i32_1257 : BitVec 32 := 0#32
  let v2583 : BitVec 1 := Scalar.cmpi .slt v2579 c0_i32_1257
  let v2584 : BitVec 32 := Scalar.extui v2583
  let v2585 : BitVec 32 := Scalar.subi v2582 v2584
  let c4_i32_1255 : BitVec 32 := 4#32
  let c0_i32_1258 : BitVec 32 := 0#32
  let v2586 : BitVec 1 := Scalar.cmpi .sgt c4_i32_1255 c0_i32_1258
  let v2587 : BitVec 32 := Scalar.extui v2586
  let c0_i32_1259 : BitVec 32 := 0#32
  let v2588 : BitVec 1 := Scalar.cmpi .slt c4_i32_1255 c0_i32_1259
  let v2589 : BitVec 32 := Scalar.extui v2588
  let v2590 : BitVec 32 := Scalar.subi v2587 v2589
  let v2591 : BitVec 1 := Scalar.cmpi .ne v2585 v2590
  let v2592 : BitVec 32 := Scalar.remsi v2579 c4_i32_1255
  let c0_i32_1260 : BitVec 32 := 0#32
  let v2593 : BitVec 1 := Scalar.cmpi .ne v2592 c0_i32_1260
  let v2594 : BitVec 1 := Scalar.andi v2591 v2593
  let v2580 : BitVec 32 := Scalar.divsi v2579 c4_i32_1255
  let c1_i32_1261 : BitVec 32 := 1#32
  let v2595 : BitVec 32 := Scalar.subi v2580 c1_i32_1261
  let v2596 : BitVec 32 := Scalar.select v2594 v2595 v2580
  let v2732 : BitVec 32 := Scalar.muli c2_i32_1320 v2596
  let c512_i32_1321 : BitVec 32 := 512#32
  let v2733 : BitVec 32 := Scalar.muli v2732 c512_i32_1321
  let c4_i32_1262 : BitVec 32 := 4#32
  let c0_i32_1263 : BitVec 32 := 0#32
  let v2597 : BitVec 1 := Scalar.cmpi .eq c4_i32_1262 c0_i32_1263
  let c1_i32_1264 : BitVec 32 := 1#32
  let v2598 : BitVec 32 := Scalar.select v2597 c1_i32_1264 c4_i32_1262
  let v2599 : BitVec 32 := Scalar.remsi v2579 v2598
  let c0_i32_1266 : BitVec 32 := 0#32
  let v2601 : BitVec 1 := Scalar.cmpi .slt v2599 c0_i32_1266
  let c0_i32_1267 : BitVec 32 := 0#32
  let v2602 : BitVec 1 := Scalar.cmpi .slt v2598 c0_i32_1267
  let v2603 : BitVec 1 := Scalar.xori v2601 v2602
  let c0_i32_1265 : BitVec 32 := 0#32
  let v2600 : BitVec 1 := Scalar.cmpi .ne v2599 c0_i32_1265
  let v2604 : BitVec 1 := Scalar.andi v2603 v2600
  let v2605 : BitVec 32 := Scalar.addi v2599 v2598
  let v2606 : BitVec 32 := Scalar.select v2604 v2605 v2599
  let c128_i32_1268 : BitVec 32 := 128#32
  let v2607 : BitVec 32 := Scalar.muli v2606 c128_i32_1268
  let v2734 : BitVec 32 := Scalar.addi v2733 v2607
  let c0_i32_1327 : BitVec 32 := 0#32
  let v2747 : BitVec 1 := Scalar.cmpi .sgt v2734 c0_i32_1327
  let v2748 : BitVec 32 := Scalar.extui v2747
  let c0_i32_1328 : BitVec 32 := 0#32
  let v2749 : BitVec 1 := Scalar.cmpi .slt v2734 c0_i32_1328
  let v2750 : BitVec 32 := Scalar.extui v2749
  let v2751 : BitVec 32 := Scalar.subi v2748 v2750
  let c2_i32_1326 : BitVec 32 := 2#32
  let c0_i32_1329 : BitVec 32 := 0#32
  let v2752 : BitVec 1 := Scalar.cmpi .sgt c2_i32_1326 c0_i32_1329
  let v2753 : BitVec 32 := Scalar.extui v2752
  let c0_i32_1330 : BitVec 32 := 0#32
  let v2754 : BitVec 1 := Scalar.cmpi .slt c2_i32_1326 c0_i32_1330
  let v2755 : BitVec 32 := Scalar.extui v2754
  let v2756 : BitVec 32 := Scalar.subi v2753 v2755
  let v2757 : BitVec 1 := Scalar.cmpi .ne v2751 v2756
  let v2758 : BitVec 32 := Scalar.remsi v2734 c2_i32_1326
  let c0_i32_1331 : BitVec 32 := 0#32
  let v2759 : BitVec 1 := Scalar.cmpi .ne v2758 c0_i32_1331
  let v2760 : BitVec 1 := Scalar.andi v2757 v2759
  let v2746 : BitVec 32 := Scalar.divsi v2734 c2_i32_1326
  let c1_i32_1332 : BitVec 32 := 1#32
  let v2761 : BitVec 32 := Scalar.subi v2746 c1_i32_1332
  let v2762 : BitVec 32 := Scalar.select v2760 v2761 v2746
  v2762
def k0_mult112 : BitVec 32 :=
  let c2_i32_1322 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let c1_i32_1254 : BitVec 32 := 1#32
  let v2579 : BitVec 32 := Scalar.addi v2244 c1_i32_1254
  let c0_i32_1256 : BitVec 32 := 0#32
  let v2581 : BitVec 1 := Scalar.cmpi .sgt v2579 c0_i32_1256
  let v2582 : BitVec 32 := Scalar.extui v2581
  let c0_i32_1257 : BitVec 32 := 0#32
  let v2583 : BitVec 1 := Scalar.cmpi .slt v2579 c0_i32_1257
  let v2584 : BitVec 32 := Scalar.extui v2583
  let v2585 : BitVec 32 := Scalar.subi v2582 v2584
  let c4_i32_1255 : BitVec 32 := 4#32
  let c0_i32_1258 : BitVec 32 := 0#32
  let v2586 : BitVec 1 := Scalar.cmpi .sgt c4_i32_1255 c0_i32_1258
  let v2587 : BitVec 32 := Scalar.extui v2586
  let c0_i32_1259 : BitVec 32 := 0#32
  let v2588 : BitVec 1 := Scalar.cmpi .slt c4_i32_1255 c0_i32_1259
  let v2589 : BitVec 32 := Scalar.extui v2588
  let v2590 : BitVec 32 := Scalar.subi v2587 v2589
  let v2591 : BitVec 1 := Scalar.cmpi .ne v2585 v2590
  let v2592 : BitVec 32 := Scalar.remsi v2579 c4_i32_1255
  let c0_i32_1260 : BitVec 32 := 0#32
  let v2593 : BitVec 1 := Scalar.cmpi .ne v2592 c0_i32_1260
  let v2594 : BitVec 1 := Scalar.andi v2591 v2593
  let v2580 : BitVec 32 := Scalar.divsi v2579 c4_i32_1255
  let c1_i32_1261 : BitVec 32 := 1#32
  let v2595 : BitVec 32 := Scalar.subi v2580 c1_i32_1261
  let v2596 : BitVec 32 := Scalar.select v2594 v2595 v2580
  let v2735 : BitVec 32 := Scalar.muli c2_i32_1322 v2596
  let c1_i32_1323 : BitVec 32 := 1#32
  let v2736 : BitVec 32 := Scalar.addi v2735 c1_i32_1323
  let c512_i32_1324 : BitVec 32 := 512#32
  let v2737 : BitVec 32 := Scalar.muli v2736 c512_i32_1324
  let c4_i32_1262 : BitVec 32 := 4#32
  let c0_i32_1263 : BitVec 32 := 0#32
  let v2597 : BitVec 1 := Scalar.cmpi .eq c4_i32_1262 c0_i32_1263
  let c1_i32_1264 : BitVec 32 := 1#32
  let v2598 : BitVec 32 := Scalar.select v2597 c1_i32_1264 c4_i32_1262
  let v2599 : BitVec 32 := Scalar.remsi v2579 v2598
  let c0_i32_1266 : BitVec 32 := 0#32
  let v2601 : BitVec 1 := Scalar.cmpi .slt v2599 c0_i32_1266
  let c0_i32_1267 : BitVec 32 := 0#32
  let v2602 : BitVec 1 := Scalar.cmpi .slt v2598 c0_i32_1267
  let v2603 : BitVec 1 := Scalar.xori v2601 v2602
  let c0_i32_1265 : BitVec 32 := 0#32
  let v2600 : BitVec 1 := Scalar.cmpi .ne v2599 c0_i32_1265
  let v2604 : BitVec 1 := Scalar.andi v2603 v2600
  let v2605 : BitVec 32 := Scalar.addi v2599 v2598
  let v2606 : BitVec 32 := Scalar.select v2604 v2605 v2599
  let c128_i32_1268 : BitVec 32 := 128#32
  let v2607 : BitVec 32 := Scalar.muli v2606 c128_i32_1268
  let v2738 : BitVec 32 := Scalar.addi v2737 v2607
  let c0_i32_1336 : BitVec 32 := 0#32
  let v2770 : BitVec 1 := Scalar.cmpi .sgt v2738 c0_i32_1336
  let v2771 : BitVec 32 := Scalar.extui v2770
  let c0_i32_1337 : BitVec 32 := 0#32
  let v2772 : BitVec 1 := Scalar.cmpi .slt v2738 c0_i32_1337
  let v2773 : BitVec 32 := Scalar.extui v2772
  let v2774 : BitVec 32 := Scalar.subi v2771 v2773
  let c2_i32_1335 : BitVec 32 := 2#32
  let c0_i32_1338 : BitVec 32 := 0#32
  let v2775 : BitVec 1 := Scalar.cmpi .sgt c2_i32_1335 c0_i32_1338
  let v2776 : BitVec 32 := Scalar.extui v2775
  let c0_i32_1339 : BitVec 32 := 0#32
  let v2777 : BitVec 1 := Scalar.cmpi .slt c2_i32_1335 c0_i32_1339
  let v2778 : BitVec 32 := Scalar.extui v2777
  let v2779 : BitVec 32 := Scalar.subi v2776 v2778
  let v2780 : BitVec 1 := Scalar.cmpi .ne v2774 v2779
  let v2781 : BitVec 32 := Scalar.remsi v2738 c2_i32_1335
  let c0_i32_1340 : BitVec 32 := 0#32
  let v2782 : BitVec 1 := Scalar.cmpi .ne v2781 c0_i32_1340
  let v2783 : BitVec 1 := Scalar.andi v2780 v2782
  let v2769 : BitVec 32 := Scalar.divsi v2738 c2_i32_1335
  let c1_i32_1341 : BitVec 32 := 1#32
  let v2784 : BitVec 32 := Scalar.subi v2769 c1_i32_1341
  let v2785 : BitVec 32 := Scalar.select v2783 v2784 v2769
  v2785
def k0_mult113 : BitVec 32 :=
  let c2_i32_1345 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let c1_i32_1254 : BitVec 32 := 1#32
  let v2579 : BitVec 32 := Scalar.addi v2244 c1_i32_1254
  let c0_i32_1256 : BitVec 32 := 0#32
  let v2581 : BitVec 1 := Scalar.cmpi .sgt v2579 c0_i32_1256
  let v2582 : BitVec 32 := Scalar.extui v2581
  let c0_i32_1257 : BitVec 32 := 0#32
  let v2583 : BitVec 1 := Scalar.cmpi .slt v2579 c0_i32_1257
  let v2584 : BitVec 32 := Scalar.extui v2583
  let v2585 : BitVec 32 := Scalar.subi v2582 v2584
  let c4_i32_1255 : BitVec 32 := 4#32
  let c0_i32_1258 : BitVec 32 := 0#32
  let v2586 : BitVec 1 := Scalar.cmpi .sgt c4_i32_1255 c0_i32_1258
  let v2587 : BitVec 32 := Scalar.extui v2586
  let c0_i32_1259 : BitVec 32 := 0#32
  let v2588 : BitVec 1 := Scalar.cmpi .slt c4_i32_1255 c0_i32_1259
  let v2589 : BitVec 32 := Scalar.extui v2588
  let v2590 : BitVec 32 := Scalar.subi v2587 v2589
  let v2591 : BitVec 1 := Scalar.cmpi .ne v2585 v2590
  let v2592 : BitVec 32 := Scalar.remsi v2579 c4_i32_1255
  let c0_i32_1260 : BitVec 32 := 0#32
  let v2593 : BitVec 1 := Scalar.cmpi .ne v2592 c0_i32_1260
  let v2594 : BitVec 1 := Scalar.andi v2591 v2593
  let v2580 : BitVec 32 := Scalar.divsi v2579 c4_i32_1255
  let c1_i32_1261 : BitVec 32 := 1#32
  let v2595 : BitVec 32 := Scalar.subi v2580 c1_i32_1261
  let v2596 : BitVec 32 := Scalar.select v2594 v2595 v2580
  let v2793 : BitVec 32 := Scalar.muli c2_i32_1345 v2596
  let c512_i32_1346 : BitVec 32 := 512#32
  let v2794 : BitVec 32 := Scalar.muli v2793 c512_i32_1346
  let c4_i32_1262 : BitVec 32 := 4#32
  let c0_i32_1263 : BitVec 32 := 0#32
  let v2597 : BitVec 1 := Scalar.cmpi .eq c4_i32_1262 c0_i32_1263
  let c1_i32_1264 : BitVec 32 := 1#32
  let v2598 : BitVec 32 := Scalar.select v2597 c1_i32_1264 c4_i32_1262
  let v2599 : BitVec 32 := Scalar.remsi v2579 v2598
  let c0_i32_1266 : BitVec 32 := 0#32
  let v2601 : BitVec 1 := Scalar.cmpi .slt v2599 c0_i32_1266
  let c0_i32_1267 : BitVec 32 := 0#32
  let v2602 : BitVec 1 := Scalar.cmpi .slt v2598 c0_i32_1267
  let v2603 : BitVec 1 := Scalar.xori v2601 v2602
  let c0_i32_1265 : BitVec 32 := 0#32
  let v2600 : BitVec 1 := Scalar.cmpi .ne v2599 c0_i32_1265
  let v2604 : BitVec 1 := Scalar.andi v2603 v2600
  let v2605 : BitVec 32 := Scalar.addi v2599 v2598
  let v2606 : BitVec 32 := Scalar.select v2604 v2605 v2599
  let c128_i32_1268 : BitVec 32 := 128#32
  let v2607 : BitVec 32 := Scalar.muli v2606 c128_i32_1268
  let v2795 : BitVec 32 := Scalar.addi v2794 v2607
  let c0_i32_1352 : BitVec 32 := 0#32
  let v2808 : BitVec 1 := Scalar.cmpi .sgt v2795 c0_i32_1352
  let v2809 : BitVec 32 := Scalar.extui v2808
  let c0_i32_1353 : BitVec 32 := 0#32
  let v2810 : BitVec 1 := Scalar.cmpi .slt v2795 c0_i32_1353
  let v2811 : BitVec 32 := Scalar.extui v2810
  let v2812 : BitVec 32 := Scalar.subi v2809 v2811
  let c2_i32_1351 : BitVec 32 := 2#32
  let c0_i32_1354 : BitVec 32 := 0#32
  let v2813 : BitVec 1 := Scalar.cmpi .sgt c2_i32_1351 c0_i32_1354
  let v2814 : BitVec 32 := Scalar.extui v2813
  let c0_i32_1355 : BitVec 32 := 0#32
  let v2815 : BitVec 1 := Scalar.cmpi .slt c2_i32_1351 c0_i32_1355
  let v2816 : BitVec 32 := Scalar.extui v2815
  let v2817 : BitVec 32 := Scalar.subi v2814 v2816
  let v2818 : BitVec 1 := Scalar.cmpi .ne v2812 v2817
  let v2819 : BitVec 32 := Scalar.remsi v2795 c2_i32_1351
  let c0_i32_1356 : BitVec 32 := 0#32
  let v2820 : BitVec 1 := Scalar.cmpi .ne v2819 c0_i32_1356
  let v2821 : BitVec 1 := Scalar.andi v2818 v2820
  let v2807 : BitVec 32 := Scalar.divsi v2795 c2_i32_1351
  let c1_i32_1357 : BitVec 32 := 1#32
  let v2822 : BitVec 32 := Scalar.subi v2807 c1_i32_1357
  let v2823 : BitVec 32 := Scalar.select v2821 v2822 v2807
  v2823
def k0_mult114 : BitVec 32 :=
  let c2_i32_1347 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let c1_i32_1254 : BitVec 32 := 1#32
  let v2579 : BitVec 32 := Scalar.addi v2244 c1_i32_1254
  let c0_i32_1256 : BitVec 32 := 0#32
  let v2581 : BitVec 1 := Scalar.cmpi .sgt v2579 c0_i32_1256
  let v2582 : BitVec 32 := Scalar.extui v2581
  let c0_i32_1257 : BitVec 32 := 0#32
  let v2583 : BitVec 1 := Scalar.cmpi .slt v2579 c0_i32_1257
  let v2584 : BitVec 32 := Scalar.extui v2583
  let v2585 : BitVec 32 := Scalar.subi v2582 v2584
  let c4_i32_1255 : BitVec 32 := 4#32
  let c0_i32_1258 : BitVec 32 := 0#32
  let v2586 : BitVec 1 := Scalar.cmpi .sgt c4_i32_1255 c0_i32_1258
  let v2587 : BitVec 32 := Scalar.extui v2586
  let c0_i32_1259 : BitVec 32 := 0#32
  let v2588 : BitVec 1 := Scalar.cmpi .slt c4_i32_1255 c0_i32_1259
  let v2589 : BitVec 32 := Scalar.extui v2588
  let v2590 : BitVec 32 := Scalar.subi v2587 v2589
  let v2591 : BitVec 1 := Scalar.cmpi .ne v2585 v2590
  let v2592 : BitVec 32 := Scalar.remsi v2579 c4_i32_1255
  let c0_i32_1260 : BitVec 32 := 0#32
  let v2593 : BitVec 1 := Scalar.cmpi .ne v2592 c0_i32_1260
  let v2594 : BitVec 1 := Scalar.andi v2591 v2593
  let v2580 : BitVec 32 := Scalar.divsi v2579 c4_i32_1255
  let c1_i32_1261 : BitVec 32 := 1#32
  let v2595 : BitVec 32 := Scalar.subi v2580 c1_i32_1261
  let v2596 : BitVec 32 := Scalar.select v2594 v2595 v2580
  let v2796 : BitVec 32 := Scalar.muli c2_i32_1347 v2596
  let c1_i32_1348 : BitVec 32 := 1#32
  let v2797 : BitVec 32 := Scalar.addi v2796 c1_i32_1348
  let c512_i32_1349 : BitVec 32 := 512#32
  let v2798 : BitVec 32 := Scalar.muli v2797 c512_i32_1349
  let c4_i32_1262 : BitVec 32 := 4#32
  let c0_i32_1263 : BitVec 32 := 0#32
  let v2597 : BitVec 1 := Scalar.cmpi .eq c4_i32_1262 c0_i32_1263
  let c1_i32_1264 : BitVec 32 := 1#32
  let v2598 : BitVec 32 := Scalar.select v2597 c1_i32_1264 c4_i32_1262
  let v2599 : BitVec 32 := Scalar.remsi v2579 v2598
  let c0_i32_1266 : BitVec 32 := 0#32
  let v2601 : BitVec 1 := Scalar.cmpi .slt v2599 c0_i32_1266
  let c0_i32_1267 : BitVec 32 := 0#32
  let v2602 : BitVec 1 := Scalar.cmpi .slt v2598 c0_i32_1267
  let v2603 : BitVec 1 := Scalar.xori v2601 v2602
  let c0_i32_1265 : BitVec 32 := 0#32
  let v2600 : BitVec 1 := Scalar.cmpi .ne v2599 c0_i32_1265
  let v2604 : BitVec 1 := Scalar.andi v2603 v2600
  let v2605 : BitVec 32 := Scalar.addi v2599 v2598
  let v2606 : BitVec 32 := Scalar.select v2604 v2605 v2599
  let c128_i32_1268 : BitVec 32 := 128#32
  let v2607 : BitVec 32 := Scalar.muli v2606 c128_i32_1268
  let v2799 : BitVec 32 := Scalar.addi v2798 v2607
  let c0_i32_1361 : BitVec 32 := 0#32
  let v2831 : BitVec 1 := Scalar.cmpi .sgt v2799 c0_i32_1361
  let v2832 : BitVec 32 := Scalar.extui v2831
  let c0_i32_1362 : BitVec 32 := 0#32
  let v2833 : BitVec 1 := Scalar.cmpi .slt v2799 c0_i32_1362
  let v2834 : BitVec 32 := Scalar.extui v2833
  let v2835 : BitVec 32 := Scalar.subi v2832 v2834
  let c2_i32_1360 : BitVec 32 := 2#32
  let c0_i32_1363 : BitVec 32 := 0#32
  let v2836 : BitVec 1 := Scalar.cmpi .sgt c2_i32_1360 c0_i32_1363
  let v2837 : BitVec 32 := Scalar.extui v2836
  let c0_i32_1364 : BitVec 32 := 0#32
  let v2838 : BitVec 1 := Scalar.cmpi .slt c2_i32_1360 c0_i32_1364
  let v2839 : BitVec 32 := Scalar.extui v2838
  let v2840 : BitVec 32 := Scalar.subi v2837 v2839
  let v2841 : BitVec 1 := Scalar.cmpi .ne v2835 v2840
  let v2842 : BitVec 32 := Scalar.remsi v2799 c2_i32_1360
  let c0_i32_1365 : BitVec 32 := 0#32
  let v2843 : BitVec 1 := Scalar.cmpi .ne v2842 c0_i32_1365
  let v2844 : BitVec 1 := Scalar.andi v2841 v2843
  let v2830 : BitVec 32 := Scalar.divsi v2799 c2_i32_1360
  let c1_i32_1366 : BitVec 32 := 1#32
  let v2845 : BitVec 32 := Scalar.subi v2830 c1_i32_1366
  let v2846 : BitVec 32 := Scalar.select v2844 v2845 v2830
  v2846
def k0_mult115 : BitVec 32 :=
  let c2_i32_1370 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let c1_i32_1254 : BitVec 32 := 1#32
  let v2579 : BitVec 32 := Scalar.addi v2244 c1_i32_1254
  let c0_i32_1256 : BitVec 32 := 0#32
  let v2581 : BitVec 1 := Scalar.cmpi .sgt v2579 c0_i32_1256
  let v2582 : BitVec 32 := Scalar.extui v2581
  let c0_i32_1257 : BitVec 32 := 0#32
  let v2583 : BitVec 1 := Scalar.cmpi .slt v2579 c0_i32_1257
  let v2584 : BitVec 32 := Scalar.extui v2583
  let v2585 : BitVec 32 := Scalar.subi v2582 v2584
  let c4_i32_1255 : BitVec 32 := 4#32
  let c0_i32_1258 : BitVec 32 := 0#32
  let v2586 : BitVec 1 := Scalar.cmpi .sgt c4_i32_1255 c0_i32_1258
  let v2587 : BitVec 32 := Scalar.extui v2586
  let c0_i32_1259 : BitVec 32 := 0#32
  let v2588 : BitVec 1 := Scalar.cmpi .slt c4_i32_1255 c0_i32_1259
  let v2589 : BitVec 32 := Scalar.extui v2588
  let v2590 : BitVec 32 := Scalar.subi v2587 v2589
  let v2591 : BitVec 1 := Scalar.cmpi .ne v2585 v2590
  let v2592 : BitVec 32 := Scalar.remsi v2579 c4_i32_1255
  let c0_i32_1260 : BitVec 32 := 0#32
  let v2593 : BitVec 1 := Scalar.cmpi .ne v2592 c0_i32_1260
  let v2594 : BitVec 1 := Scalar.andi v2591 v2593
  let v2580 : BitVec 32 := Scalar.divsi v2579 c4_i32_1255
  let c1_i32_1261 : BitVec 32 := 1#32
  let v2595 : BitVec 32 := Scalar.subi v2580 c1_i32_1261
  let v2596 : BitVec 32 := Scalar.select v2594 v2595 v2580
  let v2854 : BitVec 32 := Scalar.muli c2_i32_1370 v2596
  let c512_i32_1371 : BitVec 32 := 512#32
  let v2855 : BitVec 32 := Scalar.muli v2854 c512_i32_1371
  let c4_i32_1262 : BitVec 32 := 4#32
  let c0_i32_1263 : BitVec 32 := 0#32
  let v2597 : BitVec 1 := Scalar.cmpi .eq c4_i32_1262 c0_i32_1263
  let c1_i32_1264 : BitVec 32 := 1#32
  let v2598 : BitVec 32 := Scalar.select v2597 c1_i32_1264 c4_i32_1262
  let v2599 : BitVec 32 := Scalar.remsi v2579 v2598
  let c0_i32_1266 : BitVec 32 := 0#32
  let v2601 : BitVec 1 := Scalar.cmpi .slt v2599 c0_i32_1266
  let c0_i32_1267 : BitVec 32 := 0#32
  let v2602 : BitVec 1 := Scalar.cmpi .slt v2598 c0_i32_1267
  let v2603 : BitVec 1 := Scalar.xori v2601 v2602
  let c0_i32_1265 : BitVec 32 := 0#32
  let v2600 : BitVec 1 := Scalar.cmpi .ne v2599 c0_i32_1265
  let v2604 : BitVec 1 := Scalar.andi v2603 v2600
  let v2605 : BitVec 32 := Scalar.addi v2599 v2598
  let v2606 : BitVec 32 := Scalar.select v2604 v2605 v2599
  let c128_i32_1268 : BitVec 32 := 128#32
  let v2607 : BitVec 32 := Scalar.muli v2606 c128_i32_1268
  let v2856 : BitVec 32 := Scalar.addi v2855 v2607
  let c0_i32_1377 : BitVec 32 := 0#32
  let v2869 : BitVec 1 := Scalar.cmpi .sgt v2856 c0_i32_1377
  let v2870 : BitVec 32 := Scalar.extui v2869
  let c0_i32_1378 : BitVec 32 := 0#32
  let v2871 : BitVec 1 := Scalar.cmpi .slt v2856 c0_i32_1378
  let v2872 : BitVec 32 := Scalar.extui v2871
  let v2873 : BitVec 32 := Scalar.subi v2870 v2872
  let c2_i32_1376 : BitVec 32 := 2#32
  let c0_i32_1379 : BitVec 32 := 0#32
  let v2874 : BitVec 1 := Scalar.cmpi .sgt c2_i32_1376 c0_i32_1379
  let v2875 : BitVec 32 := Scalar.extui v2874
  let c0_i32_1380 : BitVec 32 := 0#32
  let v2876 : BitVec 1 := Scalar.cmpi .slt c2_i32_1376 c0_i32_1380
  let v2877 : BitVec 32 := Scalar.extui v2876
  let v2878 : BitVec 32 := Scalar.subi v2875 v2877
  let v2879 : BitVec 1 := Scalar.cmpi .ne v2873 v2878
  let v2880 : BitVec 32 := Scalar.remsi v2856 c2_i32_1376
  let c0_i32_1381 : BitVec 32 := 0#32
  let v2881 : BitVec 1 := Scalar.cmpi .ne v2880 c0_i32_1381
  let v2882 : BitVec 1 := Scalar.andi v2879 v2881
  let v2868 : BitVec 32 := Scalar.divsi v2856 c2_i32_1376
  let c1_i32_1382 : BitVec 32 := 1#32
  let v2883 : BitVec 32 := Scalar.subi v2868 c1_i32_1382
  let v2884 : BitVec 32 := Scalar.select v2882 v2883 v2868
  v2884
def k0_mult116 : BitVec 32 :=
  let c2_i32_1372 : BitVec 32 := 2#32
  let c0_i32_545 : BitVec 32 := 0#32
  let c1_i32_1112 : BitVec 32 := 1#32
  let v2243 : BitVec 32 := Scalar.addi c0_i32_545 c1_i32_1112
  let c2_i32_1113 : BitVec 32 := 2#32
  let v2244 : BitVec 32 := Scalar.muli v2243 c2_i32_1113
  let c1_i32_1254 : BitVec 32 := 1#32
  let v2579 : BitVec 32 := Scalar.addi v2244 c1_i32_1254
  let c0_i32_1256 : BitVec 32 := 0#32
  let v2581 : BitVec 1 := Scalar.cmpi .sgt v2579 c0_i32_1256
  let v2582 : BitVec 32 := Scalar.extui v2581
  let c0_i32_1257 : BitVec 32 := 0#32
  let v2583 : BitVec 1 := Scalar.cmpi .slt v2579 c0_i32_1257
  let v2584 : BitVec 32 := Scalar.extui v2583
  let v2585 : BitVec 32 := Scalar.subi v2582 v2584
  let c4_i32_1255 : BitVec 32 := 4#32
  let c0_i32_1258 : BitVec 32 := 0#32
  let v2586 : BitVec 1 := Scalar.cmpi .sgt c4_i32_1255 c0_i32_1258
  let v2587 : BitVec 32 := Scalar.extui v2586
  let c0_i32_1259 : BitVec 32 := 0#32
  let v2588 : BitVec 1 := Scalar.cmpi .slt c4_i32_1255 c0_i32_1259
  let v2589 : BitVec 32 := Scalar.extui v2588
  let v2590 : BitVec 32 := Scalar.subi v2587 v2589
  let v2591 : BitVec 1 := Scalar.cmpi .ne v2585 v2590
  let v2592 : BitVec 32 := Scalar.remsi v2579 c4_i32_1255
  let c0_i32_1260 : BitVec 32 := 0#32
  let v2593 : BitVec 1 := Scalar.cmpi .ne v2592 c0_i32_1260
  let v2594 : BitVec 1 := Scalar.andi v2591 v2593
  let v2580 : BitVec 32 := Scalar.divsi v2579 c4_i32_1255
  let c1_i32_1261 : BitVec 32 := 1#32
  let v2595 : BitVec 32 := Scalar.subi v2580 c1_i32_1261
  let v2596 : BitVec 32 := Scalar.select v2594 v2595 v2580
  let v2857 : BitVec 32 := Scalar.muli c2_i32_1372 v2596
  let c1_i32_1373 : BitVec 32 := 1#32
  let v2858 : BitVec 32 := Scalar.addi v2857 c1_i32_1373
  let c512_i32_1374 : BitVec 32 := 512#32
  let v2859 : BitVec 32 := Scalar.muli v2858 c512_i32_1374
  let c4_i32_1262 : BitVec 32 := 4#32
  let c0_i32_1263 : BitVec 32 := 0#32
  let v2597 : BitVec 1 := Scalar.cmpi .eq c4_i32_1262 c0_i32_1263
  let c1_i32_1264 : BitVec 32 := 1#32
  let v2598 : BitVec 32 := Scalar.select v2597 c1_i32_1264 c4_i32_1262
  let v2599 : BitVec 32 := Scalar.remsi v2579 v2598
  let c0_i32_1266 : BitVec 32 := 0#32
  let v2601 : BitVec 1 := Scalar.cmpi .slt v2599 c0_i32_1266
  let c0_i32_1267 : BitVec 32 := 0#32
  let v2602 : BitVec 1 := Scalar.cmpi .slt v2598 c0_i32_1267
  let v2603 : BitVec 1 := Scalar.xori v2601 v2602
  let c0_i32_1265 : BitVec 32 := 0#32
  let v2600 : BitVec 1 := Scalar.cmpi .ne v2599 c0_i32_1265
  let v2604 : BitVec 1 := Scalar.andi v2603 v2600
  let v2605 : BitVec 32 := Scalar.addi v2599 v2598
  let v2606 : BitVec 32 := Scalar.select v2604 v2605 v2599
  let c128_i32_1268 : BitVec 32 := 128#32
  let v2607 : BitVec 32 := Scalar.muli v2606 c128_i32_1268
  let v2860 : BitVec 32 := Scalar.addi v2859 v2607
  let c0_i32_1386 : BitVec 32 := 0#32
  let v2892 : BitVec 1 := Scalar.cmpi .sgt v2860 c0_i32_1386
  let v2893 : BitVec 32 := Scalar.extui v2892
  let c0_i32_1387 : BitVec 32 := 0#32
  let v2894 : BitVec 1 := Scalar.cmpi .slt v2860 c0_i32_1387
  let v2895 : BitVec 32 := Scalar.extui v2894
  let v2896 : BitVec 32 := Scalar.subi v2893 v2895
  let c2_i32_1385 : BitVec 32 := 2#32
  let c0_i32_1388 : BitVec 32 := 0#32
  let v2897 : BitVec 1 := Scalar.cmpi .sgt c2_i32_1385 c0_i32_1388
  let v2898 : BitVec 32 := Scalar.extui v2897
  let c0_i32_1389 : BitVec 32 := 0#32
  let v2899 : BitVec 1 := Scalar.cmpi .slt c2_i32_1385 c0_i32_1389
  let v2900 : BitVec 32 := Scalar.extui v2899
  let v2901 : BitVec 32 := Scalar.subi v2898 v2900
  let v2902 : BitVec 1 := Scalar.cmpi .ne v2896 v2901
  let v2903 : BitVec 32 := Scalar.remsi v2860 c2_i32_1385
  let c0_i32_1390 : BitVec 32 := 0#32
  let v2904 : BitVec 1 := Scalar.cmpi .ne v2903 c0_i32_1390
  let v2905 : BitVec 1 := Scalar.andi v2902 v2904
  let v2891 : BitVec 32 := Scalar.divsi v2860 c2_i32_1385
  let c1_i32_1391 : BitVec 32 := 1#32
  let v2906 : BitVec 32 := Scalar.subi v2891 c1_i32_1391
  let v2907 : BitVec 32 := Scalar.select v2905 v2906 v2891
  v2907
def k0_mult117 : BitVec 32 :=
  let c2_i32_546 : BitVec 32 := 2#32
  let c0_i32_545 : BitVec 32 := 0#32
  let v1145 : BitVec 32 := Scalar.muli c2_i32_546 c0_i32_545
  let c1_i32_1394 : BitVec 32 := 1#32
  let v2913 : BitVec 32 := Scalar.addi v1145 c1_i32_1394
  let c4_i32_1395 : BitVec 32 := 4#32
  let v2914 : BitVec 32 := Scalar.muli v2913 c4_i32_1395
  let c0_i32_1396 : BitVec 32 := 0#32
  let v2915 : BitVec 32 := Scalar.addi v2914 c0_i32_1396
  let c128_i32_1397 : BitVec 32 := 128#32
  let v2916 : BitVec 32 := Scalar.muli v2915 c128_i32_1397
  v2916
def k0_mult118 : BitVec 32 :=
  let c2_i32_546 : BitVec 32 := 2#32
  let c0_i32_545 : BitVec 32 := 0#32
  let v1145 : BitVec 32 := Scalar.muli c2_i32_546 c0_i32_545
  let c1_i32_1394 : BitVec 32 := 1#32
  let v2913 : BitVec 32 := Scalar.addi v1145 c1_i32_1394
  let c4_i32_1395 : BitVec 32 := 4#32
  let v2914 : BitVec 32 := Scalar.muli v2913 c4_i32_1395
  let c0_i32_1396 : BitVec 32 := 0#32
  let v2915 : BitVec 32 := Scalar.addi v2914 c0_i32_1396
  let c0_i32_1399 : BitVec 32 := 0#32
  let v2919 : BitVec 1 := Scalar.cmpi .sgt v2915 c0_i32_1399
  let v2920 : BitVec 32 := Scalar.extui v2919
  let c0_i32_1400 : BitVec 32 := 0#32
  let v2921 : BitVec 1 := Scalar.cmpi .slt v2915 c0_i32_1400
  let v2922 : BitVec 32 := Scalar.extui v2921
  let v2923 : BitVec 32 := Scalar.subi v2920 v2922
  let c16_i32_1398 : BitVec 32 := 16#32
  let c0_i32_1401 : BitVec 32 := 0#32
  let v2924 : BitVec 1 := Scalar.cmpi .sgt c16_i32_1398 c0_i32_1401
  let v2925 : BitVec 32 := Scalar.extui v2924
  let c0_i32_1402 : BitVec 32 := 0#32
  let v2926 : BitVec 1 := Scalar.cmpi .slt c16_i32_1398 c0_i32_1402
  let v2927 : BitVec 32 := Scalar.extui v2926
  let v2928 : BitVec 32 := Scalar.subi v2925 v2927
  let v2929 : BitVec 1 := Scalar.cmpi .ne v2923 v2928
  let v2930 : BitVec 32 := Scalar.remsi v2915 c16_i32_1398
  let c0_i32_1403 : BitVec 32 := 0#32
  let v2931 : BitVec 1 := Scalar.cmpi .ne v2930 c0_i32_1403
  let v2932 : BitVec 1 := Scalar.andi v2929 v2931
  let v2918 : BitVec 32 := Scalar.divsi v2915 c16_i32_1398
  let c1_i32_1404 : BitVec 32 := 1#32
  let v2933 : BitVec 32 := Scalar.subi v2918 c1_i32_1404
  let v2934 : BitVec 32 := Scalar.select v2932 v2933 v2918
  let c2048_i32_1415 : BitVec 32 := 2048#32
  let v2949 : BitVec 32 := Scalar.muli v2934 c2048_i32_1415
  let c1792_i32_1414 : BitVec 32 := 1792#32
  let c0_i32_1413 : BitVec 32 := 0#32
  let c16_i32_1405 : BitVec 32 := 16#32
  let c0_i32_1406 : BitVec 32 := 0#32
  let v2935 : BitVec 1 := Scalar.cmpi .eq c16_i32_1405 c0_i32_1406
  let c1_i32_1407 : BitVec 32 := 1#32
  let v2936 : BitVec 32 := Scalar.select v2935 c1_i32_1407 c16_i32_1405
  let v2937 : BitVec 32 := Scalar.remsi v2915 v2936
  let c0_i32_1409 : BitVec 32 := 0#32
  let v2939 : BitVec 1 := Scalar.cmpi .slt v2937 c0_i32_1409
  let c0_i32_1410 : BitVec 32 := 0#32
  let v2940 : BitVec 1 := Scalar.cmpi .slt v2936 c0_i32_1410
  let v2941 : BitVec 1 := Scalar.xori v2939 v2940
  let c0_i32_1408 : BitVec 32 := 0#32
  let v2938 : BitVec 1 := Scalar.cmpi .ne v2937 c0_i32_1408
  let v2942 : BitVec 1 := Scalar.andi v2941 v2938
  let v2943 : BitVec 32 := Scalar.addi v2937 v2936
  let v2944 : BitVec 32 := Scalar.select v2942 v2943 v2937
  let c128_i32_1411 : BitVec 32 := 128#32
  let v2945 : BitVec 32 := Scalar.muli v2944 c128_i32_1411
  let c64_i32_1412 : BitVec 32 := 64#32
  let v2946 : BitVec 32 := Scalar.subi v2945 c64_i32_1412
  let v2947 : BitVec 32 := Scalar.maxsi c0_i32_1413 v2946
  let v2948 : BitVec 32 := Scalar.minsi c1792_i32_1414 v2947
  let v2950 : BitVec 32 := Scalar.addi v2949 v2948
  v2950
def k0_mult119 : BitVec 32 :=
  let c2_i32_546 : BitVec 32 := 2#32
  let c0_i32_545 : BitVec 32 := 0#32
  let v1145 : BitVec 32 := Scalar.muli c2_i32_546 c0_i32_545
  let c1_i32_1394 : BitVec 32 := 1#32
  let v2913 : BitVec 32 := Scalar.addi v1145 c1_i32_1394
  let c4_i32_1395 : BitVec 32 := 4#32
  let v2914 : BitVec 32 := Scalar.muli v2913 c4_i32_1395
  let c0_i32_1396 : BitVec 32 := 0#32
  let v2915 : BitVec 32 := Scalar.addi v2914 c0_i32_1396
  let c0_i32_1399 : BitVec 32 := 0#32
  let v2919 : BitVec 1 := Scalar.cmpi .sgt v2915 c0_i32_1399
  let v2920 : BitVec 32 := Scalar.extui v2919
  let c0_i32_1400 : BitVec 32 := 0#32
  let v2921 : BitVec 1 := Scalar.cmpi .slt v2915 c0_i32_1400
  let v2922 : BitVec 32 := Scalar.extui v2921
  let v2923 : BitVec 32 := Scalar.subi v2920 v2922
  let c16_i32_1398 : BitVec 32 := 16#32
  let c0_i32_1401 : BitVec 32 := 0#32
  let v2924 : BitVec 1 := Scalar.cmpi .sgt c16_i32_1398 c0_i32_1401
  let v2925 : BitVec 32 := Scalar.extui v2924
  let c0_i32_1402 : BitVec 32 := 0#32
  let v2926 : BitVec 1 := Scalar.cmpi .slt c16_i32_1398 c0_i32_1402
  let v2927 : BitVec 32 := Scalar.extui v2926
  let v2928 : BitVec 32 := Scalar.subi v2925 v2927
  let v2929 : BitVec 1 := Scalar.cmpi .ne v2923 v2928
  let v2930 : BitVec 32 := Scalar.remsi v2915 c16_i32_1398
  let c0_i32_1403 : BitVec 32 := 0#32
  let v2931 : BitVec 1 := Scalar.cmpi .ne v2930 c0_i32_1403
  let v2932 : BitVec 1 := Scalar.andi v2929 v2931
  let v2918 : BitVec 32 := Scalar.divsi v2915 c16_i32_1398
  let c1_i32_1404 : BitVec 32 := 1#32
  let v2933 : BitVec 32 := Scalar.subi v2918 c1_i32_1404
  let v2934 : BitVec 32 := Scalar.select v2932 v2933 v2918
  let c2048_i32_1415 : BitVec 32 := 2048#32
  let v2949 : BitVec 32 := Scalar.muli v2934 c2048_i32_1415
  let c1792_i32_1414 : BitVec 32 := 1792#32
  let c0_i32_1413 : BitVec 32 := 0#32
  let c16_i32_1405 : BitVec 32 := 16#32
  let c0_i32_1406 : BitVec 32 := 0#32
  let v2935 : BitVec 1 := Scalar.cmpi .eq c16_i32_1405 c0_i32_1406
  let c1_i32_1407 : BitVec 32 := 1#32
  let v2936 : BitVec 32 := Scalar.select v2935 c1_i32_1407 c16_i32_1405
  let v2937 : BitVec 32 := Scalar.remsi v2915 v2936
  let c0_i32_1409 : BitVec 32 := 0#32
  let v2939 : BitVec 1 := Scalar.cmpi .slt v2937 c0_i32_1409
  let c0_i32_1410 : BitVec 32 := 0#32
  let v2940 : BitVec 1 := Scalar.cmpi .slt v2936 c0_i32_1410
  let v2941 : BitVec 1 := Scalar.xori v2939 v2940
  let c0_i32_1408 : BitVec 32 := 0#32
  let v2938 : BitVec 1 := Scalar.cmpi .ne v2937 c0_i32_1408
  let v2942 : BitVec 1 := Scalar.andi v2941 v2938
  let v2943 : BitVec 32 := Scalar.addi v2937 v2936
  let v2944 : BitVec 32 := Scalar.select v2942 v2943 v2937
  let c128_i32_1411 : BitVec 32 := 128#32
  let v2945 : BitVec 32 := Scalar.muli v2944 c128_i32_1411
  let c64_i32_1412 : BitVec 32 := 64#32
  let v2946 : BitVec 32 := Scalar.subi v2945 c64_i32_1412
  let v2947 : BitVec 32 := Scalar.maxsi c0_i32_1413 v2946
  let v2948 : BitVec 32 := Scalar.minsi c1792_i32_1414 v2947
  let v2950 : BitVec 32 := Scalar.addi v2949 v2948
  let v2951 : BitVec 32 := v2950
  let c0_i32_1421 : BitVec 32 := 0#32
  let v2955 : BitVec 1 := Scalar.cmpi .sgt v2951 c0_i32_1421
  let v2956 : BitVec 32 := Scalar.extui v2955
  let c0_i32_1422 : BitVec 32 := 0#32
  let v2957 : BitVec 1 := Scalar.cmpi .slt v2951 c0_i32_1422
  let v2958 : BitVec 32 := Scalar.extui v2957
  let v2959 : BitVec 32 := Scalar.subi v2956 v2958
  let c2_i32_1420 : BitVec 32 := 2#32
  let c0_i32_1423 : BitVec 32 := 0#32
  let v2960 : BitVec 1 := Scalar.cmpi .sgt c2_i32_1420 c0_i32_1423
  let v2961 : BitVec 32 := Scalar.extui v2960
  let c0_i32_1424 : BitVec 32 := 0#32
  let v2962 : BitVec 1 := Scalar.cmpi .slt c2_i32_1420 c0_i32_1424
  let v2963 : BitVec 32 := Scalar.extui v2962
  let v2964 : BitVec 32 := Scalar.subi v2961 v2963
  let v2965 : BitVec 1 := Scalar.cmpi .ne v2959 v2964
  let v2966 : BitVec 32 := Scalar.remsi v2951 c2_i32_1420
  let c0_i32_1425 : BitVec 32 := 0#32
  let v2967 : BitVec 1 := Scalar.cmpi .ne v2966 c0_i32_1425
  let v2968 : BitVec 1 := Scalar.andi v2965 v2967
  let v2954 : BitVec 32 := Scalar.divsi v2951 c2_i32_1420
  let c1_i32_1426 : BitVec 32 := 1#32
  let v2969 : BitVec 32 := Scalar.subi v2954 c1_i32_1426
  let v2970 : BitVec 32 := Scalar.select v2968 v2969 v2954
  v2970
def k0_mult120 : BitVec 32 :=
  let c2_i32_546 : BitVec 32 := 2#32
  let c0_i32_545 : BitVec 32 := 0#32
  let v1145 : BitVec 32 := Scalar.muli c2_i32_546 c0_i32_545
  let c1_i32_1394 : BitVec 32 := 1#32
  let v2913 : BitVec 32 := Scalar.addi v1145 c1_i32_1394
  let c4_i32_1395 : BitVec 32 := 4#32
  let v2914 : BitVec 32 := Scalar.muli v2913 c4_i32_1395
  let c0_i32_1396 : BitVec 32 := 0#32
  let v2915 : BitVec 32 := Scalar.addi v2914 c0_i32_1396
  let c0_i32_1399 : BitVec 32 := 0#32
  let v2919 : BitVec 1 := Scalar.cmpi .sgt v2915 c0_i32_1399
  let v2920 : BitVec 32 := Scalar.extui v2919
  let c0_i32_1400 : BitVec 32 := 0#32
  let v2921 : BitVec 1 := Scalar.cmpi .slt v2915 c0_i32_1400
  let v2922 : BitVec 32 := Scalar.extui v2921
  let v2923 : BitVec 32 := Scalar.subi v2920 v2922
  let c16_i32_1398 : BitVec 32 := 16#32
  let c0_i32_1401 : BitVec 32 := 0#32
  let v2924 : BitVec 1 := Scalar.cmpi .sgt c16_i32_1398 c0_i32_1401
  let v2925 : BitVec 32 := Scalar.extui v2924
  let c0_i32_1402 : BitVec 32 := 0#32
  let v2926 : BitVec 1 := Scalar.cmpi .slt c16_i32_1398 c0_i32_1402
  let v2927 : BitVec 32 := Scalar.extui v2926
  let v2928 : BitVec 32 := Scalar.subi v2925 v2927
  let v2929 : BitVec 1 := Scalar.cmpi .ne v2923 v2928
  let v2930 : BitVec 32 := Scalar.remsi v2915 c16_i32_1398
  let c0_i32_1403 : BitVec 32 := 0#32
  let v2931 : BitVec 1 := Scalar.cmpi .ne v2930 c0_i32_1403
  let v2932 : BitVec 1 := Scalar.andi v2929 v2931
  let v2918 : BitVec 32 := Scalar.divsi v2915 c16_i32_1398
  let c1_i32_1404 : BitVec 32 := 1#32
  let v2933 : BitVec 32 := Scalar.subi v2918 c1_i32_1404
  let v2934 : BitVec 32 := Scalar.select v2932 v2933 v2918
  let c2048_i32_1415 : BitVec 32 := 2048#32
  let v2949 : BitVec 32 := Scalar.muli v2934 c2048_i32_1415
  let c1792_i32_1414 : BitVec 32 := 1792#32
  let c0_i32_1413 : BitVec 32 := 0#32
  let c16_i32_1405 : BitVec 32 := 16#32
  let c0_i32_1406 : BitVec 32 := 0#32
  let v2935 : BitVec 1 := Scalar.cmpi .eq c16_i32_1405 c0_i32_1406
  let c1_i32_1407 : BitVec 32 := 1#32
  let v2936 : BitVec 32 := Scalar.select v2935 c1_i32_1407 c16_i32_1405
  let v2937 : BitVec 32 := Scalar.remsi v2915 v2936
  let c0_i32_1409 : BitVec 32 := 0#32
  let v2939 : BitVec 1 := Scalar.cmpi .slt v2937 c0_i32_1409
  let c0_i32_1410 : BitVec 32 := 0#32
  let v2940 : BitVec 1 := Scalar.cmpi .slt v2936 c0_i32_1410
  let v2941 : BitVec 1 := Scalar.xori v2939 v2940
  let c0_i32_1408 : BitVec 32 := 0#32
  let v2938 : BitVec 1 := Scalar.cmpi .ne v2937 c0_i32_1408
  let v2942 : BitVec 1 := Scalar.andi v2941 v2938
  let v2943 : BitVec 32 := Scalar.addi v2937 v2936
  let v2944 : BitVec 32 := Scalar.select v2942 v2943 v2937
  let c128_i32_1411 : BitVec 32 := 128#32
  let v2945 : BitVec 32 := Scalar.muli v2944 c128_i32_1411
  let c64_i32_1412 : BitVec 32 := 64#32
  let v2946 : BitVec 32 := Scalar.subi v2945 c64_i32_1412
  let v2947 : BitVec 32 := Scalar.maxsi c0_i32_1413 v2946
  let v2948 : BitVec 32 := Scalar.minsi c1792_i32_1414 v2947
  let v2950 : BitVec 32 := Scalar.addi v2949 v2948
  let v2951 : BitVec 32 := v2950
  let c0_i32_1434 : BitVec 32 := 0#32
  let v2979 : BitVec 1 := Scalar.cmpi .sgt v2951 c0_i32_1434
  let v2980 : BitVec 32 := Scalar.extui v2979
  let c0_i32_1435 : BitVec 32 := 0#32
  let v2981 : BitVec 1 := Scalar.cmpi .slt v2951 c0_i32_1435
  let v2982 : BitVec 32 := Scalar.extui v2981
  let v2983 : BitVec 32 := Scalar.subi v2980 v2982
  let c2_i32_1433 : BitVec 32 := 2#32
  let c0_i32_1436 : BitVec 32 := 0#32
  let v2984 : BitVec 1 := Scalar.cmpi .sgt c2_i32_1433 c0_i32_1436
  let v2985 : BitVec 32 := Scalar.extui v2984
  let c0_i32_1437 : BitVec 32 := 0#32
  let v2986 : BitVec 1 := Scalar.cmpi .slt c2_i32_1433 c0_i32_1437
  let v2987 : BitVec 32 := Scalar.extui v2986
  let v2988 : BitVec 32 := Scalar.subi v2985 v2987
  let v2989 : BitVec 1 := Scalar.cmpi .ne v2983 v2988
  let v2990 : BitVec 32 := Scalar.remsi v2951 c2_i32_1433
  let c0_i32_1438 : BitVec 32 := 0#32
  let v2991 : BitVec 1 := Scalar.cmpi .ne v2990 c0_i32_1438
  let v2992 : BitVec 1 := Scalar.andi v2989 v2991
  let v2978 : BitVec 32 := Scalar.divsi v2951 c2_i32_1433
  let c1_i32_1439 : BitVec 32 := 1#32
  let v2993 : BitVec 32 := Scalar.subi v2978 c1_i32_1439
  let v2994 : BitVec 32 := Scalar.select v2992 v2993 v2978
  v2994
def k0_off21 (c0_i32_1396 : BitVec 32) : Fin 3 → Nat :=
  let c4_1443 : Index := 4#32
  let c2_i32_546 : BitVec 32 := 2#32
  let c0_i32_545 : BitVec 32 := 0#32
  let v1145 : BitVec 32 := Scalar.muli c2_i32_546 c0_i32_545
  let c1_i32_1394 : BitVec 32 := 1#32
  let v2913 : BitVec 32 := Scalar.addi v1145 c1_i32_1394
  let c4_i32_1395 : BitVec 32 := 4#32
  let v2914 : BitVec 32 := Scalar.muli v2913 c4_i32_1395
  let v2915 : BitVec 32 := Scalar.addi v2914 c0_i32_1396
  let c128_i32_1397 : BitVec 32 := 128#32
  let v2916 : BitVec 32 := Scalar.muli v2915 c128_i32_1397
  let v2917 : BitVec 32 := v2916
  let v3008 : Index := Scalar.indexCast v2917
  let c0_1444 : Index := 0#32
  ![4, v3008.toNat, 0]
def k0_off22 (c0_i32_1396 : BitVec 32) : Fin 3 → Nat :=
  let c5_1450 : Index := 5#32
  let c2_i32_546 : BitVec 32 := 2#32
  let c0_i32_545 : BitVec 32 := 0#32
  let v1145 : BitVec 32 := Scalar.muli c2_i32_546 c0_i32_545
  let c1_i32_1394 : BitVec 32 := 1#32
  let v2913 : BitVec 32 := Scalar.addi v1145 c1_i32_1394
  let c4_i32_1395 : BitVec 32 := 4#32
  let v2914 : BitVec 32 := Scalar.muli v2913 c4_i32_1395
  let v2915 : BitVec 32 := Scalar.addi v2914 c0_i32_1396
  let c128_i32_1397 : BitVec 32 := 128#32
  let v2916 : BitVec 32 := Scalar.muli v2915 c128_i32_1397
  let v2917 : BitVec 32 := v2916
  let v3018 : Index := Scalar.indexCast v2917
  let c0_1451 : Index := 0#32
  ![5, v3018.toNat, 0]
def k0_mult121 : BitVec 32 :=
  let c2_i32_546 : BitVec 32 := 2#32
  let c0_i32_545 : BitVec 32 := 0#32
  let v1145 : BitVec 32 := Scalar.muli c2_i32_546 c0_i32_545
  let c1_i32_1394 : BitVec 32 := 1#32
  let v2913 : BitVec 32 := Scalar.addi v1145 c1_i32_1394
  let c4_i32_1452 : BitVec 32 := 4#32
  let v3022 : BitVec 32 := Scalar.muli v2913 c4_i32_1452
  let c1_i32_1453 : BitVec 32 := 1#32
  let v3023 : BitVec 32 := Scalar.addi v3022 c1_i32_1453
  let c128_i32_1454 : BitVec 32 := 128#32
  let v3024 : BitVec 32 := Scalar.muli v3023 c128_i32_1454
  v3024
def k0_mult122 : BitVec 32 :=
  let c2_i32_546 : BitVec 32 := 2#32
  let c0_i32_545 : BitVec 32 := 0#32
  let v1145 : BitVec 32 := Scalar.muli c2_i32_546 c0_i32_545
  let c1_i32_1394 : BitVec 32 := 1#32
  let v2913 : BitVec 32 := Scalar.addi v1145 c1_i32_1394
  let c4_i32_1452 : BitVec 32 := 4#32
  let v3022 : BitVec 32 := Scalar.muli v2913 c4_i32_1452
  let c1_i32_1453 : BitVec 32 := 1#32
  let v3023 : BitVec 32 := Scalar.addi v3022 c1_i32_1453
  let c0_i32_1456 : BitVec 32 := 0#32
  let v3027 : BitVec 1 := Scalar.cmpi .sgt v3023 c0_i32_1456
  let v3028 : BitVec 32 := Scalar.extui v3027
  let c0_i32_1457 : BitVec 32 := 0#32
  let v3029 : BitVec 1 := Scalar.cmpi .slt v3023 c0_i32_1457
  let v3030 : BitVec 32 := Scalar.extui v3029
  let v3031 : BitVec 32 := Scalar.subi v3028 v3030
  let c16_i32_1455 : BitVec 32 := 16#32
  let c0_i32_1458 : BitVec 32 := 0#32
  let v3032 : BitVec 1 := Scalar.cmpi .sgt c16_i32_1455 c0_i32_1458
  let v3033 : BitVec 32 := Scalar.extui v3032
  let c0_i32_1459 : BitVec 32 := 0#32
  let v3034 : BitVec 1 := Scalar.cmpi .slt c16_i32_1455 c0_i32_1459
  let v3035 : BitVec 32 := Scalar.extui v3034
  let v3036 : BitVec 32 := Scalar.subi v3033 v3035
  let v3037 : BitVec 1 := Scalar.cmpi .ne v3031 v3036
  let v3038 : BitVec 32 := Scalar.remsi v3023 c16_i32_1455
  let c0_i32_1460 : BitVec 32 := 0#32
  let v3039 : BitVec 1 := Scalar.cmpi .ne v3038 c0_i32_1460
  let v3040 : BitVec 1 := Scalar.andi v3037 v3039
  let v3026 : BitVec 32 := Scalar.divsi v3023 c16_i32_1455
  let c1_i32_1461 : BitVec 32 := 1#32
  let v3041 : BitVec 32 := Scalar.subi v3026 c1_i32_1461
  let v3042 : BitVec 32 := Scalar.select v3040 v3041 v3026
  let c2048_i32_1472 : BitVec 32 := 2048#32
  let v3057 : BitVec 32 := Scalar.muli v3042 c2048_i32_1472
  let c1792_i32_1471 : BitVec 32 := 1792#32
  let c0_i32_1470 : BitVec 32 := 0#32
  let c16_i32_1462 : BitVec 32 := 16#32
  let c0_i32_1463 : BitVec 32 := 0#32
  let v3043 : BitVec 1 := Scalar.cmpi .eq c16_i32_1462 c0_i32_1463
  let c1_i32_1464 : BitVec 32 := 1#32
  let v3044 : BitVec 32 := Scalar.select v3043 c1_i32_1464 c16_i32_1462
  let v3045 : BitVec 32 := Scalar.remsi v3023 v3044
  let c0_i32_1466 : BitVec 32 := 0#32
  let v3047 : BitVec 1 := Scalar.cmpi .slt v3045 c0_i32_1466
  let c0_i32_1467 : BitVec 32 := 0#32
  let v3048 : BitVec 1 := Scalar.cmpi .slt v3044 c0_i32_1467
  let v3049 : BitVec 1 := Scalar.xori v3047 v3048
  let c0_i32_1465 : BitVec 32 := 0#32
  let v3046 : BitVec 1 := Scalar.cmpi .ne v3045 c0_i32_1465
  let v3050 : BitVec 1 := Scalar.andi v3049 v3046
  let v3051 : BitVec 32 := Scalar.addi v3045 v3044
  let v3052 : BitVec 32 := Scalar.select v3050 v3051 v3045
  let c128_i32_1468 : BitVec 32 := 128#32
  let v3053 : BitVec 32 := Scalar.muli v3052 c128_i32_1468
  let c64_i32_1469 : BitVec 32 := 64#32
  let v3054 : BitVec 32 := Scalar.subi v3053 c64_i32_1469
  let v3055 : BitVec 32 := Scalar.maxsi c0_i32_1470 v3054
  let v3056 : BitVec 32 := Scalar.minsi c1792_i32_1471 v3055
  let v3058 : BitVec 32 := Scalar.addi v3057 v3056
  v3058
def k0_mult123 : BitVec 32 :=
  let c2_i32_546 : BitVec 32 := 2#32
  let c0_i32_545 : BitVec 32 := 0#32
  let v1145 : BitVec 32 := Scalar.muli c2_i32_546 c0_i32_545
  let c1_i32_1394 : BitVec 32 := 1#32
  let v2913 : BitVec 32 := Scalar.addi v1145 c1_i32_1394
  let c4_i32_1452 : BitVec 32 := 4#32
  let v3022 : BitVec 32 := Scalar.muli v2913 c4_i32_1452
  let c1_i32_1453 : BitVec 32 := 1#32
  let v3023 : BitVec 32 := Scalar.addi v3022 c1_i32_1453
  let c0_i32_1456 : BitVec 32 := 0#32
  let v3027 : BitVec 1 := Scalar.cmpi .sgt v3023 c0_i32_1456
  let v3028 : BitVec 32 := Scalar.extui v3027
  let c0_i32_1457 : BitVec 32 := 0#32
  let v3029 : BitVec 1 := Scalar.cmpi .slt v3023 c0_i32_1457
  let v3030 : BitVec 32 := Scalar.extui v3029
  let v3031 : BitVec 32 := Scalar.subi v3028 v3030
  let c16_i32_1455 : BitVec 32 := 16#32
  let c0_i32_1458 : BitVec 32 := 0#32
  let v3032 : BitVec 1 := Scalar.cmpi .sgt c16_i32_1455 c0_i32_1458
  let v3033 : BitVec 32 := Scalar.extui v3032
  let c0_i32_1459 : BitVec 32 := 0#32
  let v3034 : BitVec 1 := Scalar.cmpi .slt c16_i32_1455 c0_i32_1459
  let v3035 : BitVec 32 := Scalar.extui v3034
  let v3036 : BitVec 32 := Scalar.subi v3033 v3035
  let v3037 : BitVec 1 := Scalar.cmpi .ne v3031 v3036
  let v3038 : BitVec 32 := Scalar.remsi v3023 c16_i32_1455
  let c0_i32_1460 : BitVec 32 := 0#32
  let v3039 : BitVec 1 := Scalar.cmpi .ne v3038 c0_i32_1460
  let v3040 : BitVec 1 := Scalar.andi v3037 v3039
  let v3026 : BitVec 32 := Scalar.divsi v3023 c16_i32_1455
  let c1_i32_1461 : BitVec 32 := 1#32
  let v3041 : BitVec 32 := Scalar.subi v3026 c1_i32_1461
  let v3042 : BitVec 32 := Scalar.select v3040 v3041 v3026
  let c2048_i32_1472 : BitVec 32 := 2048#32
  let v3057 : BitVec 32 := Scalar.muli v3042 c2048_i32_1472
  let c1792_i32_1471 : BitVec 32 := 1792#32
  let c0_i32_1470 : BitVec 32 := 0#32
  let c16_i32_1462 : BitVec 32 := 16#32
  let c0_i32_1463 : BitVec 32 := 0#32
  let v3043 : BitVec 1 := Scalar.cmpi .eq c16_i32_1462 c0_i32_1463
  let c1_i32_1464 : BitVec 32 := 1#32
  let v3044 : BitVec 32 := Scalar.select v3043 c1_i32_1464 c16_i32_1462
  let v3045 : BitVec 32 := Scalar.remsi v3023 v3044
  let c0_i32_1466 : BitVec 32 := 0#32
  let v3047 : BitVec 1 := Scalar.cmpi .slt v3045 c0_i32_1466
  let c0_i32_1467 : BitVec 32 := 0#32
  let v3048 : BitVec 1 := Scalar.cmpi .slt v3044 c0_i32_1467
  let v3049 : BitVec 1 := Scalar.xori v3047 v3048
  let c0_i32_1465 : BitVec 32 := 0#32
  let v3046 : BitVec 1 := Scalar.cmpi .ne v3045 c0_i32_1465
  let v3050 : BitVec 1 := Scalar.andi v3049 v3046
  let v3051 : BitVec 32 := Scalar.addi v3045 v3044
  let v3052 : BitVec 32 := Scalar.select v3050 v3051 v3045
  let c128_i32_1468 : BitVec 32 := 128#32
  let v3053 : BitVec 32 := Scalar.muli v3052 c128_i32_1468
  let c64_i32_1469 : BitVec 32 := 64#32
  let v3054 : BitVec 32 := Scalar.subi v3053 c64_i32_1469
  let v3055 : BitVec 32 := Scalar.maxsi c0_i32_1470 v3054
  let v3056 : BitVec 32 := Scalar.minsi c1792_i32_1471 v3055
  let v3058 : BitVec 32 := Scalar.addi v3057 v3056
  let v3059 : BitVec 32 := v3058
  let c0_i32_1478 : BitVec 32 := 0#32
  let v3063 : BitVec 1 := Scalar.cmpi .sgt v3059 c0_i32_1478
  let v3064 : BitVec 32 := Scalar.extui v3063
  let c0_i32_1479 : BitVec 32 := 0#32
  let v3065 : BitVec 1 := Scalar.cmpi .slt v3059 c0_i32_1479
  let v3066 : BitVec 32 := Scalar.extui v3065
  let v3067 : BitVec 32 := Scalar.subi v3064 v3066
  let c2_i32_1477 : BitVec 32 := 2#32
  let c0_i32_1480 : BitVec 32 := 0#32
  let v3068 : BitVec 1 := Scalar.cmpi .sgt c2_i32_1477 c0_i32_1480
  let v3069 : BitVec 32 := Scalar.extui v3068
  let c0_i32_1481 : BitVec 32 := 0#32
  let v3070 : BitVec 1 := Scalar.cmpi .slt c2_i32_1477 c0_i32_1481
  let v3071 : BitVec 32 := Scalar.extui v3070
  let v3072 : BitVec 32 := Scalar.subi v3069 v3071
  let v3073 : BitVec 1 := Scalar.cmpi .ne v3067 v3072
  let v3074 : BitVec 32 := Scalar.remsi v3059 c2_i32_1477
  let c0_i32_1482 : BitVec 32 := 0#32
  let v3075 : BitVec 1 := Scalar.cmpi .ne v3074 c0_i32_1482
  let v3076 : BitVec 1 := Scalar.andi v3073 v3075
  let v3062 : BitVec 32 := Scalar.divsi v3059 c2_i32_1477
  let c1_i32_1483 : BitVec 32 := 1#32
  let v3077 : BitVec 32 := Scalar.subi v3062 c1_i32_1483
  let v3078 : BitVec 32 := Scalar.select v3076 v3077 v3062
  v3078
def k0_mult124 : BitVec 32 :=
  let c2_i32_546 : BitVec 32 := 2#32
  let c0_i32_545 : BitVec 32 := 0#32
  let v1145 : BitVec 32 := Scalar.muli c2_i32_546 c0_i32_545
  let c1_i32_1394 : BitVec 32 := 1#32
  let v2913 : BitVec 32 := Scalar.addi v1145 c1_i32_1394
  let c4_i32_1452 : BitVec 32 := 4#32
  let v3022 : BitVec 32 := Scalar.muli v2913 c4_i32_1452
  let c1_i32_1453 : BitVec 32 := 1#32
  let v3023 : BitVec 32 := Scalar.addi v3022 c1_i32_1453
  let c0_i32_1456 : BitVec 32 := 0#32
  let v3027 : BitVec 1 := Scalar.cmpi .sgt v3023 c0_i32_1456
  let v3028 : BitVec 32 := Scalar.extui v3027
  let c0_i32_1457 : BitVec 32 := 0#32
  let v3029 : BitVec 1 := Scalar.cmpi .slt v3023 c0_i32_1457
  let v3030 : BitVec 32 := Scalar.extui v3029
  let v3031 : BitVec 32 := Scalar.subi v3028 v3030
  let c16_i32_1455 : BitVec 32 := 16#32
  let c0_i32_1458 : BitVec 32 := 0#32
  let v3032 : BitVec 1 := Scalar.cmpi .sgt c16_i32_1455 c0_i32_1458
  let v3033 : BitVec 32 := Scalar.extui v3032
  let c0_i32_1459 : BitVec 32 := 0#32
  let v3034 : BitVec 1 := Scalar.cmpi .slt c16_i32_1455 c0_i32_1459
  let v3035 : BitVec 32 := Scalar.extui v3034
  let v3036 : BitVec 32 := Scalar.subi v3033 v3035
  let v3037 : BitVec 1 := Scalar.cmpi .ne v3031 v3036
  let v3038 : BitVec 32 := Scalar.remsi v3023 c16_i32_1455
  let c0_i32_1460 : BitVec 32 := 0#32
  let v3039 : BitVec 1 := Scalar.cmpi .ne v3038 c0_i32_1460
  let v3040 : BitVec 1 := Scalar.andi v3037 v3039
  let v3026 : BitVec 32 := Scalar.divsi v3023 c16_i32_1455
  let c1_i32_1461 : BitVec 32 := 1#32
  let v3041 : BitVec 32 := Scalar.subi v3026 c1_i32_1461
  let v3042 : BitVec 32 := Scalar.select v3040 v3041 v3026
  let c2048_i32_1472 : BitVec 32 := 2048#32
  let v3057 : BitVec 32 := Scalar.muli v3042 c2048_i32_1472
  let c1792_i32_1471 : BitVec 32 := 1792#32
  let c0_i32_1470 : BitVec 32 := 0#32
  let c16_i32_1462 : BitVec 32 := 16#32
  let c0_i32_1463 : BitVec 32 := 0#32
  let v3043 : BitVec 1 := Scalar.cmpi .eq c16_i32_1462 c0_i32_1463
  let c1_i32_1464 : BitVec 32 := 1#32
  let v3044 : BitVec 32 := Scalar.select v3043 c1_i32_1464 c16_i32_1462
  let v3045 : BitVec 32 := Scalar.remsi v3023 v3044
  let c0_i32_1466 : BitVec 32 := 0#32
  let v3047 : BitVec 1 := Scalar.cmpi .slt v3045 c0_i32_1466
  let c0_i32_1467 : BitVec 32 := 0#32
  let v3048 : BitVec 1 := Scalar.cmpi .slt v3044 c0_i32_1467
  let v3049 : BitVec 1 := Scalar.xori v3047 v3048
  let c0_i32_1465 : BitVec 32 := 0#32
  let v3046 : BitVec 1 := Scalar.cmpi .ne v3045 c0_i32_1465
  let v3050 : BitVec 1 := Scalar.andi v3049 v3046
  let v3051 : BitVec 32 := Scalar.addi v3045 v3044
  let v3052 : BitVec 32 := Scalar.select v3050 v3051 v3045
  let c128_i32_1468 : BitVec 32 := 128#32
  let v3053 : BitVec 32 := Scalar.muli v3052 c128_i32_1468
  let c64_i32_1469 : BitVec 32 := 64#32
  let v3054 : BitVec 32 := Scalar.subi v3053 c64_i32_1469
  let v3055 : BitVec 32 := Scalar.maxsi c0_i32_1470 v3054
  let v3056 : BitVec 32 := Scalar.minsi c1792_i32_1471 v3055
  let v3058 : BitVec 32 := Scalar.addi v3057 v3056
  let v3059 : BitVec 32 := v3058
  let c0_i32_1491 : BitVec 32 := 0#32
  let v3087 : BitVec 1 := Scalar.cmpi .sgt v3059 c0_i32_1491
  let v3088 : BitVec 32 := Scalar.extui v3087
  let c0_i32_1492 : BitVec 32 := 0#32
  let v3089 : BitVec 1 := Scalar.cmpi .slt v3059 c0_i32_1492
  let v3090 : BitVec 32 := Scalar.extui v3089
  let v3091 : BitVec 32 := Scalar.subi v3088 v3090
  let c2_i32_1490 : BitVec 32 := 2#32
  let c0_i32_1493 : BitVec 32 := 0#32
  let v3092 : BitVec 1 := Scalar.cmpi .sgt c2_i32_1490 c0_i32_1493
  let v3093 : BitVec 32 := Scalar.extui v3092
  let c0_i32_1494 : BitVec 32 := 0#32
  let v3094 : BitVec 1 := Scalar.cmpi .slt c2_i32_1490 c0_i32_1494
  let v3095 : BitVec 32 := Scalar.extui v3094
  let v3096 : BitVec 32 := Scalar.subi v3093 v3095
  let v3097 : BitVec 1 := Scalar.cmpi .ne v3091 v3096
  let v3098 : BitVec 32 := Scalar.remsi v3059 c2_i32_1490
  let c0_i32_1495 : BitVec 32 := 0#32
  let v3099 : BitVec 1 := Scalar.cmpi .ne v3098 c0_i32_1495
  let v3100 : BitVec 1 := Scalar.andi v3097 v3099
  let v3086 : BitVec 32 := Scalar.divsi v3059 c2_i32_1490
  let c1_i32_1496 : BitVec 32 := 1#32
  let v3101 : BitVec 32 := Scalar.subi v3086 c1_i32_1496
  let v3102 : BitVec 32 := Scalar.select v3100 v3101 v3086
  v3102
def k0_mult125 : BitVec 32 :=
  let c2_i32_546 : BitVec 32 := 2#32
  let c0_i32_545 : BitVec 32 := 0#32
  let v1145 : BitVec 32 := Scalar.muli c2_i32_546 c0_i32_545
  let c1_i32_1394 : BitVec 32 := 1#32
  let v2913 : BitVec 32 := Scalar.addi v1145 c1_i32_1394
  let c4_i32_1509 : BitVec 32 := 4#32
  let v3130 : BitVec 32 := Scalar.muli v2913 c4_i32_1509
  let c2_i32_1510 : BitVec 32 := 2#32
  let v3131 : BitVec 32 := Scalar.addi v3130 c2_i32_1510
  let c128_i32_1511 : BitVec 32 := 128#32
  let v3132 : BitVec 32 := Scalar.muli v3131 c128_i32_1511
  v3132
def k0_mult126 : BitVec 32 :=
  let c2_i32_546 : BitVec 32 := 2#32
  let c0_i32_545 : BitVec 32 := 0#32
  let v1145 : BitVec 32 := Scalar.muli c2_i32_546 c0_i32_545
  let c1_i32_1394 : BitVec 32 := 1#32
  let v2913 : BitVec 32 := Scalar.addi v1145 c1_i32_1394
  let c4_i32_1509 : BitVec 32 := 4#32
  let v3130 : BitVec 32 := Scalar.muli v2913 c4_i32_1509
  let c2_i32_1510 : BitVec 32 := 2#32
  let v3131 : BitVec 32 := Scalar.addi v3130 c2_i32_1510
  let c0_i32_1513 : BitVec 32 := 0#32
  let v3135 : BitVec 1 := Scalar.cmpi .sgt v3131 c0_i32_1513
  let v3136 : BitVec 32 := Scalar.extui v3135
  let c0_i32_1514 : BitVec 32 := 0#32
  let v3137 : BitVec 1 := Scalar.cmpi .slt v3131 c0_i32_1514
  let v3138 : BitVec 32 := Scalar.extui v3137
  let v3139 : BitVec 32 := Scalar.subi v3136 v3138
  let c16_i32_1512 : BitVec 32 := 16#32
  let c0_i32_1515 : BitVec 32 := 0#32
  let v3140 : BitVec 1 := Scalar.cmpi .sgt c16_i32_1512 c0_i32_1515
  let v3141 : BitVec 32 := Scalar.extui v3140
  let c0_i32_1516 : BitVec 32 := 0#32
  let v3142 : BitVec 1 := Scalar.cmpi .slt c16_i32_1512 c0_i32_1516
  let v3143 : BitVec 32 := Scalar.extui v3142
  let v3144 : BitVec 32 := Scalar.subi v3141 v3143
  let v3145 : BitVec 1 := Scalar.cmpi .ne v3139 v3144
  let v3146 : BitVec 32 := Scalar.remsi v3131 c16_i32_1512
  let c0_i32_1517 : BitVec 32 := 0#32
  let v3147 : BitVec 1 := Scalar.cmpi .ne v3146 c0_i32_1517
  let v3148 : BitVec 1 := Scalar.andi v3145 v3147
  let v3134 : BitVec 32 := Scalar.divsi v3131 c16_i32_1512
  let c1_i32_1518 : BitVec 32 := 1#32
  let v3149 : BitVec 32 := Scalar.subi v3134 c1_i32_1518
  let v3150 : BitVec 32 := Scalar.select v3148 v3149 v3134
  let c2048_i32_1529 : BitVec 32 := 2048#32
  let v3165 : BitVec 32 := Scalar.muli v3150 c2048_i32_1529
  let c1792_i32_1528 : BitVec 32 := 1792#32
  let c0_i32_1527 : BitVec 32 := 0#32
  let c16_i32_1519 : BitVec 32 := 16#32
  let c0_i32_1520 : BitVec 32 := 0#32
  let v3151 : BitVec 1 := Scalar.cmpi .eq c16_i32_1519 c0_i32_1520
  let c1_i32_1521 : BitVec 32 := 1#32
  let v3152 : BitVec 32 := Scalar.select v3151 c1_i32_1521 c16_i32_1519
  let v3153 : BitVec 32 := Scalar.remsi v3131 v3152
  let c0_i32_1523 : BitVec 32 := 0#32
  let v3155 : BitVec 1 := Scalar.cmpi .slt v3153 c0_i32_1523
  let c0_i32_1524 : BitVec 32 := 0#32
  let v3156 : BitVec 1 := Scalar.cmpi .slt v3152 c0_i32_1524
  let v3157 : BitVec 1 := Scalar.xori v3155 v3156
  let c0_i32_1522 : BitVec 32 := 0#32
  let v3154 : BitVec 1 := Scalar.cmpi .ne v3153 c0_i32_1522
  let v3158 : BitVec 1 := Scalar.andi v3157 v3154
  let v3159 : BitVec 32 := Scalar.addi v3153 v3152
  let v3160 : BitVec 32 := Scalar.select v3158 v3159 v3153
  let c128_i32_1525 : BitVec 32 := 128#32
  let v3161 : BitVec 32 := Scalar.muli v3160 c128_i32_1525
  let c64_i32_1526 : BitVec 32 := 64#32
  let v3162 : BitVec 32 := Scalar.subi v3161 c64_i32_1526
  let v3163 : BitVec 32 := Scalar.maxsi c0_i32_1527 v3162
  let v3164 : BitVec 32 := Scalar.minsi c1792_i32_1528 v3163
  let v3166 : BitVec 32 := Scalar.addi v3165 v3164
  v3166
def k0_mult127 : BitVec 32 :=
  let c2_i32_546 : BitVec 32 := 2#32
  let c0_i32_545 : BitVec 32 := 0#32
  let v1145 : BitVec 32 := Scalar.muli c2_i32_546 c0_i32_545
  let c1_i32_1394 : BitVec 32 := 1#32
  let v2913 : BitVec 32 := Scalar.addi v1145 c1_i32_1394
  let c4_i32_1509 : BitVec 32 := 4#32
  let v3130 : BitVec 32 := Scalar.muli v2913 c4_i32_1509
  let c2_i32_1510 : BitVec 32 := 2#32
  let v3131 : BitVec 32 := Scalar.addi v3130 c2_i32_1510
  let c0_i32_1513 : BitVec 32 := 0#32
  let v3135 : BitVec 1 := Scalar.cmpi .sgt v3131 c0_i32_1513
  let v3136 : BitVec 32 := Scalar.extui v3135
  let c0_i32_1514 : BitVec 32 := 0#32
  let v3137 : BitVec 1 := Scalar.cmpi .slt v3131 c0_i32_1514
  let v3138 : BitVec 32 := Scalar.extui v3137
  let v3139 : BitVec 32 := Scalar.subi v3136 v3138
  let c16_i32_1512 : BitVec 32 := 16#32
  let c0_i32_1515 : BitVec 32 := 0#32
  let v3140 : BitVec 1 := Scalar.cmpi .sgt c16_i32_1512 c0_i32_1515
  let v3141 : BitVec 32 := Scalar.extui v3140
  let c0_i32_1516 : BitVec 32 := 0#32
  let v3142 : BitVec 1 := Scalar.cmpi .slt c16_i32_1512 c0_i32_1516
  let v3143 : BitVec 32 := Scalar.extui v3142
  let v3144 : BitVec 32 := Scalar.subi v3141 v3143
  let v3145 : BitVec 1 := Scalar.cmpi .ne v3139 v3144
  let v3146 : BitVec 32 := Scalar.remsi v3131 c16_i32_1512
  let c0_i32_1517 : BitVec 32 := 0#32
  let v3147 : BitVec 1 := Scalar.cmpi .ne v3146 c0_i32_1517
  let v3148 : BitVec 1 := Scalar.andi v3145 v3147
  let v3134 : BitVec 32 := Scalar.divsi v3131 c16_i32_1512
  let c1_i32_1518 : BitVec 32 := 1#32
  let v3149 : BitVec 32 := Scalar.subi v3134 c1_i32_1518
  let v3150 : BitVec 32 := Scalar.select v3148 v3149 v3134
  let c2048_i32_1529 : BitVec 32 := 2048#32
  let v3165 : BitVec 32 := Scalar.muli v3150 c2048_i32_1529
  let c1792_i32_1528 : BitVec 32 := 1792#32
  let c0_i32_1527 : BitVec 32 := 0#32
  let c16_i32_1519 : BitVec 32 := 16#32
  let c0_i32_1520 : BitVec 32 := 0#32
  let v3151 : BitVec 1 := Scalar.cmpi .eq c16_i32_1519 c0_i32_1520
  let c1_i32_1521 : BitVec 32 := 1#32
  let v3152 : BitVec 32 := Scalar.select v3151 c1_i32_1521 c16_i32_1519
  let v3153 : BitVec 32 := Scalar.remsi v3131 v3152
  let c0_i32_1523 : BitVec 32 := 0#32
  let v3155 : BitVec 1 := Scalar.cmpi .slt v3153 c0_i32_1523
  let c0_i32_1524 : BitVec 32 := 0#32
  let v3156 : BitVec 1 := Scalar.cmpi .slt v3152 c0_i32_1524
  let v3157 : BitVec 1 := Scalar.xori v3155 v3156
  let c0_i32_1522 : BitVec 32 := 0#32
  let v3154 : BitVec 1 := Scalar.cmpi .ne v3153 c0_i32_1522
  let v3158 : BitVec 1 := Scalar.andi v3157 v3154
  let v3159 : BitVec 32 := Scalar.addi v3153 v3152
  let v3160 : BitVec 32 := Scalar.select v3158 v3159 v3153
  let c128_i32_1525 : BitVec 32 := 128#32
  let v3161 : BitVec 32 := Scalar.muli v3160 c128_i32_1525
  let c64_i32_1526 : BitVec 32 := 64#32
  let v3162 : BitVec 32 := Scalar.subi v3161 c64_i32_1526
  let v3163 : BitVec 32 := Scalar.maxsi c0_i32_1527 v3162
  let v3164 : BitVec 32 := Scalar.minsi c1792_i32_1528 v3163
  let v3166 : BitVec 32 := Scalar.addi v3165 v3164
  let v3167 : BitVec 32 := v3166
  let c0_i32_1535 : BitVec 32 := 0#32
  let v3171 : BitVec 1 := Scalar.cmpi .sgt v3167 c0_i32_1535
  let v3172 : BitVec 32 := Scalar.extui v3171
  let c0_i32_1536 : BitVec 32 := 0#32
  let v3173 : BitVec 1 := Scalar.cmpi .slt v3167 c0_i32_1536
  let v3174 : BitVec 32 := Scalar.extui v3173
  let v3175 : BitVec 32 := Scalar.subi v3172 v3174
  let c2_i32_1534 : BitVec 32 := 2#32
  let c0_i32_1537 : BitVec 32 := 0#32
  let v3176 : BitVec 1 := Scalar.cmpi .sgt c2_i32_1534 c0_i32_1537
  let v3177 : BitVec 32 := Scalar.extui v3176
  let c0_i32_1538 : BitVec 32 := 0#32
  let v3178 : BitVec 1 := Scalar.cmpi .slt c2_i32_1534 c0_i32_1538
  let v3179 : BitVec 32 := Scalar.extui v3178
  let v3180 : BitVec 32 := Scalar.subi v3177 v3179
  let v3181 : BitVec 1 := Scalar.cmpi .ne v3175 v3180
  let v3182 : BitVec 32 := Scalar.remsi v3167 c2_i32_1534
  let c0_i32_1539 : BitVec 32 := 0#32
  let v3183 : BitVec 1 := Scalar.cmpi .ne v3182 c0_i32_1539
  let v3184 : BitVec 1 := Scalar.andi v3181 v3183
  let v3170 : BitVec 32 := Scalar.divsi v3167 c2_i32_1534
  let c1_i32_1540 : BitVec 32 := 1#32
  let v3185 : BitVec 32 := Scalar.subi v3170 c1_i32_1540
  let v3186 : BitVec 32 := Scalar.select v3184 v3185 v3170
  v3186
def k0_mult128 : BitVec 32 :=
  let c2_i32_546 : BitVec 32 := 2#32
  let c0_i32_545 : BitVec 32 := 0#32
  let v1145 : BitVec 32 := Scalar.muli c2_i32_546 c0_i32_545
  let c1_i32_1394 : BitVec 32 := 1#32
  let v2913 : BitVec 32 := Scalar.addi v1145 c1_i32_1394
  let c4_i32_1509 : BitVec 32 := 4#32
  let v3130 : BitVec 32 := Scalar.muli v2913 c4_i32_1509
  let c2_i32_1510 : BitVec 32 := 2#32
  let v3131 : BitVec 32 := Scalar.addi v3130 c2_i32_1510
  let c0_i32_1513 : BitVec 32 := 0#32
  let v3135 : BitVec 1 := Scalar.cmpi .sgt v3131 c0_i32_1513
  let v3136 : BitVec 32 := Scalar.extui v3135
  let c0_i32_1514 : BitVec 32 := 0#32
  let v3137 : BitVec 1 := Scalar.cmpi .slt v3131 c0_i32_1514
  let v3138 : BitVec 32 := Scalar.extui v3137
  let v3139 : BitVec 32 := Scalar.subi v3136 v3138
  let c16_i32_1512 : BitVec 32 := 16#32
  let c0_i32_1515 : BitVec 32 := 0#32
  let v3140 : BitVec 1 := Scalar.cmpi .sgt c16_i32_1512 c0_i32_1515
  let v3141 : BitVec 32 := Scalar.extui v3140
  let c0_i32_1516 : BitVec 32 := 0#32
  let v3142 : BitVec 1 := Scalar.cmpi .slt c16_i32_1512 c0_i32_1516
  let v3143 : BitVec 32 := Scalar.extui v3142
  let v3144 : BitVec 32 := Scalar.subi v3141 v3143
  let v3145 : BitVec 1 := Scalar.cmpi .ne v3139 v3144
  let v3146 : BitVec 32 := Scalar.remsi v3131 c16_i32_1512
  let c0_i32_1517 : BitVec 32 := 0#32
  let v3147 : BitVec 1 := Scalar.cmpi .ne v3146 c0_i32_1517
  let v3148 : BitVec 1 := Scalar.andi v3145 v3147
  let v3134 : BitVec 32 := Scalar.divsi v3131 c16_i32_1512
  let c1_i32_1518 : BitVec 32 := 1#32
  let v3149 : BitVec 32 := Scalar.subi v3134 c1_i32_1518
  let v3150 : BitVec 32 := Scalar.select v3148 v3149 v3134
  let c2048_i32_1529 : BitVec 32 := 2048#32
  let v3165 : BitVec 32 := Scalar.muli v3150 c2048_i32_1529
  let c1792_i32_1528 : BitVec 32 := 1792#32
  let c0_i32_1527 : BitVec 32 := 0#32
  let c16_i32_1519 : BitVec 32 := 16#32
  let c0_i32_1520 : BitVec 32 := 0#32
  let v3151 : BitVec 1 := Scalar.cmpi .eq c16_i32_1519 c0_i32_1520
  let c1_i32_1521 : BitVec 32 := 1#32
  let v3152 : BitVec 32 := Scalar.select v3151 c1_i32_1521 c16_i32_1519
  let v3153 : BitVec 32 := Scalar.remsi v3131 v3152
  let c0_i32_1523 : BitVec 32 := 0#32
  let v3155 : BitVec 1 := Scalar.cmpi .slt v3153 c0_i32_1523
  let c0_i32_1524 : BitVec 32 := 0#32
  let v3156 : BitVec 1 := Scalar.cmpi .slt v3152 c0_i32_1524
  let v3157 : BitVec 1 := Scalar.xori v3155 v3156
  let c0_i32_1522 : BitVec 32 := 0#32
  let v3154 : BitVec 1 := Scalar.cmpi .ne v3153 c0_i32_1522
  let v3158 : BitVec 1 := Scalar.andi v3157 v3154
  let v3159 : BitVec 32 := Scalar.addi v3153 v3152
  let v3160 : BitVec 32 := Scalar.select v3158 v3159 v3153
  let c128_i32_1525 : BitVec 32 := 128#32
  let v3161 : BitVec 32 := Scalar.muli v3160 c128_i32_1525
  let c64_i32_1526 : BitVec 32 := 64#32
  let v3162 : BitVec 32 := Scalar.subi v3161 c64_i32_1526
  let v3163 : BitVec 32 := Scalar.maxsi c0_i32_1527 v3162
  let v3164 : BitVec 32 := Scalar.minsi c1792_i32_1528 v3163
  let v3166 : BitVec 32 := Scalar.addi v3165 v3164
  let v3167 : BitVec 32 := v3166
  let c0_i32_1548 : BitVec 32 := 0#32
  let v3195 : BitVec 1 := Scalar.cmpi .sgt v3167 c0_i32_1548
  let v3196 : BitVec 32 := Scalar.extui v3195
  let c0_i32_1549 : BitVec 32 := 0#32
  let v3197 : BitVec 1 := Scalar.cmpi .slt v3167 c0_i32_1549
  let v3198 : BitVec 32 := Scalar.extui v3197
  let v3199 : BitVec 32 := Scalar.subi v3196 v3198
  let c2_i32_1547 : BitVec 32 := 2#32
  let c0_i32_1550 : BitVec 32 := 0#32
  let v3200 : BitVec 1 := Scalar.cmpi .sgt c2_i32_1547 c0_i32_1550
  let v3201 : BitVec 32 := Scalar.extui v3200
  let c0_i32_1551 : BitVec 32 := 0#32
  let v3202 : BitVec 1 := Scalar.cmpi .slt c2_i32_1547 c0_i32_1551
  let v3203 : BitVec 32 := Scalar.extui v3202
  let v3204 : BitVec 32 := Scalar.subi v3201 v3203
  let v3205 : BitVec 1 := Scalar.cmpi .ne v3199 v3204
  let v3206 : BitVec 32 := Scalar.remsi v3167 c2_i32_1547
  let c0_i32_1552 : BitVec 32 := 0#32
  let v3207 : BitVec 1 := Scalar.cmpi .ne v3206 c0_i32_1552
  let v3208 : BitVec 1 := Scalar.andi v3205 v3207
  let v3194 : BitVec 32 := Scalar.divsi v3167 c2_i32_1547
  let c1_i32_1553 : BitVec 32 := 1#32
  let v3209 : BitVec 32 := Scalar.subi v3194 c1_i32_1553
  let v3210 : BitVec 32 := Scalar.select v3208 v3209 v3194
  v3210
def k0_mult129 : BitVec 32 :=
  let c2_i32_546 : BitVec 32 := 2#32
  let c0_i32_545 : BitVec 32 := 0#32
  let v1145 : BitVec 32 := Scalar.muli c2_i32_546 c0_i32_545
  let c1_i32_1394 : BitVec 32 := 1#32
  let v2913 : BitVec 32 := Scalar.addi v1145 c1_i32_1394
  let c4_i32_1566 : BitVec 32 := 4#32
  let v3238 : BitVec 32 := Scalar.muli v2913 c4_i32_1566
  let c3_i32_1567 : BitVec 32 := 3#32
  let v3239 : BitVec 32 := Scalar.addi v3238 c3_i32_1567
  let c128_i32_1568 : BitVec 32 := 128#32
  let v3240 : BitVec 32 := Scalar.muli v3239 c128_i32_1568
  v3240
def k0_mult130 : BitVec 32 :=
  let c2_i32_546 : BitVec 32 := 2#32
  let c0_i32_545 : BitVec 32 := 0#32
  let v1145 : BitVec 32 := Scalar.muli c2_i32_546 c0_i32_545
  let c1_i32_1394 : BitVec 32 := 1#32
  let v2913 : BitVec 32 := Scalar.addi v1145 c1_i32_1394
  let c4_i32_1566 : BitVec 32 := 4#32
  let v3238 : BitVec 32 := Scalar.muli v2913 c4_i32_1566
  let c3_i32_1567 : BitVec 32 := 3#32
  let v3239 : BitVec 32 := Scalar.addi v3238 c3_i32_1567
  let c0_i32_1570 : BitVec 32 := 0#32
  let v3243 : BitVec 1 := Scalar.cmpi .sgt v3239 c0_i32_1570
  let v3244 : BitVec 32 := Scalar.extui v3243
  let c0_i32_1571 : BitVec 32 := 0#32
  let v3245 : BitVec 1 := Scalar.cmpi .slt v3239 c0_i32_1571
  let v3246 : BitVec 32 := Scalar.extui v3245
  let v3247 : BitVec 32 := Scalar.subi v3244 v3246
  let c16_i32_1569 : BitVec 32 := 16#32
  let c0_i32_1572 : BitVec 32 := 0#32
  let v3248 : BitVec 1 := Scalar.cmpi .sgt c16_i32_1569 c0_i32_1572
  let v3249 : BitVec 32 := Scalar.extui v3248
  let c0_i32_1573 : BitVec 32 := 0#32
  let v3250 : BitVec 1 := Scalar.cmpi .slt c16_i32_1569 c0_i32_1573
  let v3251 : BitVec 32 := Scalar.extui v3250
  let v3252 : BitVec 32 := Scalar.subi v3249 v3251
  let v3253 : BitVec 1 := Scalar.cmpi .ne v3247 v3252
  let v3254 : BitVec 32 := Scalar.remsi v3239 c16_i32_1569
  let c0_i32_1574 : BitVec 32 := 0#32
  let v3255 : BitVec 1 := Scalar.cmpi .ne v3254 c0_i32_1574
  let v3256 : BitVec 1 := Scalar.andi v3253 v3255
  let v3242 : BitVec 32 := Scalar.divsi v3239 c16_i32_1569
  let c1_i32_1575 : BitVec 32 := 1#32
  let v3257 : BitVec 32 := Scalar.subi v3242 c1_i32_1575
  let v3258 : BitVec 32 := Scalar.select v3256 v3257 v3242
  let c2048_i32_1586 : BitVec 32 := 2048#32
  let v3273 : BitVec 32 := Scalar.muli v3258 c2048_i32_1586
  let c1792_i32_1585 : BitVec 32 := 1792#32
  let c0_i32_1584 : BitVec 32 := 0#32
  let c16_i32_1576 : BitVec 32 := 16#32
  let c0_i32_1577 : BitVec 32 := 0#32
  let v3259 : BitVec 1 := Scalar.cmpi .eq c16_i32_1576 c0_i32_1577
  let c1_i32_1578 : BitVec 32 := 1#32
  let v3260 : BitVec 32 := Scalar.select v3259 c1_i32_1578 c16_i32_1576
  let v3261 : BitVec 32 := Scalar.remsi v3239 v3260
  let c0_i32_1580 : BitVec 32 := 0#32
  let v3263 : BitVec 1 := Scalar.cmpi .slt v3261 c0_i32_1580
  let c0_i32_1581 : BitVec 32 := 0#32
  let v3264 : BitVec 1 := Scalar.cmpi .slt v3260 c0_i32_1581
  let v3265 : BitVec 1 := Scalar.xori v3263 v3264
  let c0_i32_1579 : BitVec 32 := 0#32
  let v3262 : BitVec 1 := Scalar.cmpi .ne v3261 c0_i32_1579
  let v3266 : BitVec 1 := Scalar.andi v3265 v3262
  let v3267 : BitVec 32 := Scalar.addi v3261 v3260
  let v3268 : BitVec 32 := Scalar.select v3266 v3267 v3261
  let c128_i32_1582 : BitVec 32 := 128#32
  let v3269 : BitVec 32 := Scalar.muli v3268 c128_i32_1582
  let c64_i32_1583 : BitVec 32 := 64#32
  let v3270 : BitVec 32 := Scalar.subi v3269 c64_i32_1583
  let v3271 : BitVec 32 := Scalar.maxsi c0_i32_1584 v3270
  let v3272 : BitVec 32 := Scalar.minsi c1792_i32_1585 v3271
  let v3274 : BitVec 32 := Scalar.addi v3273 v3272
  v3274
def k0_mult131 : BitVec 32 :=
  let c2_i32_546 : BitVec 32 := 2#32
  let c0_i32_545 : BitVec 32 := 0#32
  let v1145 : BitVec 32 := Scalar.muli c2_i32_546 c0_i32_545
  let c1_i32_1394 : BitVec 32 := 1#32
  let v2913 : BitVec 32 := Scalar.addi v1145 c1_i32_1394
  let c4_i32_1566 : BitVec 32 := 4#32
  let v3238 : BitVec 32 := Scalar.muli v2913 c4_i32_1566
  let c3_i32_1567 : BitVec 32 := 3#32
  let v3239 : BitVec 32 := Scalar.addi v3238 c3_i32_1567
  let c0_i32_1570 : BitVec 32 := 0#32
  let v3243 : BitVec 1 := Scalar.cmpi .sgt v3239 c0_i32_1570
  let v3244 : BitVec 32 := Scalar.extui v3243
  let c0_i32_1571 : BitVec 32 := 0#32
  let v3245 : BitVec 1 := Scalar.cmpi .slt v3239 c0_i32_1571
  let v3246 : BitVec 32 := Scalar.extui v3245
  let v3247 : BitVec 32 := Scalar.subi v3244 v3246
  let c16_i32_1569 : BitVec 32 := 16#32
  let c0_i32_1572 : BitVec 32 := 0#32
  let v3248 : BitVec 1 := Scalar.cmpi .sgt c16_i32_1569 c0_i32_1572
  let v3249 : BitVec 32 := Scalar.extui v3248
  let c0_i32_1573 : BitVec 32 := 0#32
  let v3250 : BitVec 1 := Scalar.cmpi .slt c16_i32_1569 c0_i32_1573
  let v3251 : BitVec 32 := Scalar.extui v3250
  let v3252 : BitVec 32 := Scalar.subi v3249 v3251
  let v3253 : BitVec 1 := Scalar.cmpi .ne v3247 v3252
  let v3254 : BitVec 32 := Scalar.remsi v3239 c16_i32_1569
  let c0_i32_1574 : BitVec 32 := 0#32
  let v3255 : BitVec 1 := Scalar.cmpi .ne v3254 c0_i32_1574
  let v3256 : BitVec 1 := Scalar.andi v3253 v3255
  let v3242 : BitVec 32 := Scalar.divsi v3239 c16_i32_1569
  let c1_i32_1575 : BitVec 32 := 1#32
  let v3257 : BitVec 32 := Scalar.subi v3242 c1_i32_1575
  let v3258 : BitVec 32 := Scalar.select v3256 v3257 v3242
  let c2048_i32_1586 : BitVec 32 := 2048#32
  let v3273 : BitVec 32 := Scalar.muli v3258 c2048_i32_1586
  let c1792_i32_1585 : BitVec 32 := 1792#32
  let c0_i32_1584 : BitVec 32 := 0#32
  let c16_i32_1576 : BitVec 32 := 16#32
  let c0_i32_1577 : BitVec 32 := 0#32
  let v3259 : BitVec 1 := Scalar.cmpi .eq c16_i32_1576 c0_i32_1577
  let c1_i32_1578 : BitVec 32 := 1#32
  let v3260 : BitVec 32 := Scalar.select v3259 c1_i32_1578 c16_i32_1576
  let v3261 : BitVec 32 := Scalar.remsi v3239 v3260
  let c0_i32_1580 : BitVec 32 := 0#32
  let v3263 : BitVec 1 := Scalar.cmpi .slt v3261 c0_i32_1580
  let c0_i32_1581 : BitVec 32 := 0#32
  let v3264 : BitVec 1 := Scalar.cmpi .slt v3260 c0_i32_1581
  let v3265 : BitVec 1 := Scalar.xori v3263 v3264
  let c0_i32_1579 : BitVec 32 := 0#32
  let v3262 : BitVec 1 := Scalar.cmpi .ne v3261 c0_i32_1579
  let v3266 : BitVec 1 := Scalar.andi v3265 v3262
  let v3267 : BitVec 32 := Scalar.addi v3261 v3260
  let v3268 : BitVec 32 := Scalar.select v3266 v3267 v3261
  let c128_i32_1582 : BitVec 32 := 128#32
  let v3269 : BitVec 32 := Scalar.muli v3268 c128_i32_1582
  let c64_i32_1583 : BitVec 32 := 64#32
  let v3270 : BitVec 32 := Scalar.subi v3269 c64_i32_1583
  let v3271 : BitVec 32 := Scalar.maxsi c0_i32_1584 v3270
  let v3272 : BitVec 32 := Scalar.minsi c1792_i32_1585 v3271
  let v3274 : BitVec 32 := Scalar.addi v3273 v3272
  let v3275 : BitVec 32 := v3274
  let c0_i32_1592 : BitVec 32 := 0#32
  let v3279 : BitVec 1 := Scalar.cmpi .sgt v3275 c0_i32_1592
  let v3280 : BitVec 32 := Scalar.extui v3279
  let c0_i32_1593 : BitVec 32 := 0#32
  let v3281 : BitVec 1 := Scalar.cmpi .slt v3275 c0_i32_1593
  let v3282 : BitVec 32 := Scalar.extui v3281
  let v3283 : BitVec 32 := Scalar.subi v3280 v3282
  let c2_i32_1591 : BitVec 32 := 2#32
  let c0_i32_1594 : BitVec 32 := 0#32
  let v3284 : BitVec 1 := Scalar.cmpi .sgt c2_i32_1591 c0_i32_1594
  let v3285 : BitVec 32 := Scalar.extui v3284
  let c0_i32_1595 : BitVec 32 := 0#32
  let v3286 : BitVec 1 := Scalar.cmpi .slt c2_i32_1591 c0_i32_1595
  let v3287 : BitVec 32 := Scalar.extui v3286
  let v3288 : BitVec 32 := Scalar.subi v3285 v3287
  let v3289 : BitVec 1 := Scalar.cmpi .ne v3283 v3288
  let v3290 : BitVec 32 := Scalar.remsi v3275 c2_i32_1591
  let c0_i32_1596 : BitVec 32 := 0#32
  let v3291 : BitVec 1 := Scalar.cmpi .ne v3290 c0_i32_1596
  let v3292 : BitVec 1 := Scalar.andi v3289 v3291
  let v3278 : BitVec 32 := Scalar.divsi v3275 c2_i32_1591
  let c1_i32_1597 : BitVec 32 := 1#32
  let v3293 : BitVec 32 := Scalar.subi v3278 c1_i32_1597
  let v3294 : BitVec 32 := Scalar.select v3292 v3293 v3278
  v3294
def k0_mult132 : BitVec 32 :=
  let c2_i32_546 : BitVec 32 := 2#32
  let c0_i32_545 : BitVec 32 := 0#32
  let v1145 : BitVec 32 := Scalar.muli c2_i32_546 c0_i32_545
  let c1_i32_1394 : BitVec 32 := 1#32
  let v2913 : BitVec 32 := Scalar.addi v1145 c1_i32_1394
  let c4_i32_1566 : BitVec 32 := 4#32
  let v3238 : BitVec 32 := Scalar.muli v2913 c4_i32_1566
  let c3_i32_1567 : BitVec 32 := 3#32
  let v3239 : BitVec 32 := Scalar.addi v3238 c3_i32_1567
  let c0_i32_1570 : BitVec 32 := 0#32
  let v3243 : BitVec 1 := Scalar.cmpi .sgt v3239 c0_i32_1570
  let v3244 : BitVec 32 := Scalar.extui v3243
  let c0_i32_1571 : BitVec 32 := 0#32
  let v3245 : BitVec 1 := Scalar.cmpi .slt v3239 c0_i32_1571
  let v3246 : BitVec 32 := Scalar.extui v3245
  let v3247 : BitVec 32 := Scalar.subi v3244 v3246
  let c16_i32_1569 : BitVec 32 := 16#32
  let c0_i32_1572 : BitVec 32 := 0#32
  let v3248 : BitVec 1 := Scalar.cmpi .sgt c16_i32_1569 c0_i32_1572
  let v3249 : BitVec 32 := Scalar.extui v3248
  let c0_i32_1573 : BitVec 32 := 0#32
  let v3250 : BitVec 1 := Scalar.cmpi .slt c16_i32_1569 c0_i32_1573
  let v3251 : BitVec 32 := Scalar.extui v3250
  let v3252 : BitVec 32 := Scalar.subi v3249 v3251
  let v3253 : BitVec 1 := Scalar.cmpi .ne v3247 v3252
  let v3254 : BitVec 32 := Scalar.remsi v3239 c16_i32_1569
  let c0_i32_1574 : BitVec 32 := 0#32
  let v3255 : BitVec 1 := Scalar.cmpi .ne v3254 c0_i32_1574
  let v3256 : BitVec 1 := Scalar.andi v3253 v3255
  let v3242 : BitVec 32 := Scalar.divsi v3239 c16_i32_1569
  let c1_i32_1575 : BitVec 32 := 1#32
  let v3257 : BitVec 32 := Scalar.subi v3242 c1_i32_1575
  let v3258 : BitVec 32 := Scalar.select v3256 v3257 v3242
  let c2048_i32_1586 : BitVec 32 := 2048#32
  let v3273 : BitVec 32 := Scalar.muli v3258 c2048_i32_1586
  let c1792_i32_1585 : BitVec 32 := 1792#32
  let c0_i32_1584 : BitVec 32 := 0#32
  let c16_i32_1576 : BitVec 32 := 16#32
  let c0_i32_1577 : BitVec 32 := 0#32
  let v3259 : BitVec 1 := Scalar.cmpi .eq c16_i32_1576 c0_i32_1577
  let c1_i32_1578 : BitVec 32 := 1#32
  let v3260 : BitVec 32 := Scalar.select v3259 c1_i32_1578 c16_i32_1576
  let v3261 : BitVec 32 := Scalar.remsi v3239 v3260
  let c0_i32_1580 : BitVec 32 := 0#32
  let v3263 : BitVec 1 := Scalar.cmpi .slt v3261 c0_i32_1580
  let c0_i32_1581 : BitVec 32 := 0#32
  let v3264 : BitVec 1 := Scalar.cmpi .slt v3260 c0_i32_1581
  let v3265 : BitVec 1 := Scalar.xori v3263 v3264
  let c0_i32_1579 : BitVec 32 := 0#32
  let v3262 : BitVec 1 := Scalar.cmpi .ne v3261 c0_i32_1579
  let v3266 : BitVec 1 := Scalar.andi v3265 v3262
  let v3267 : BitVec 32 := Scalar.addi v3261 v3260
  let v3268 : BitVec 32 := Scalar.select v3266 v3267 v3261
  let c128_i32_1582 : BitVec 32 := 128#32
  let v3269 : BitVec 32 := Scalar.muli v3268 c128_i32_1582
  let c64_i32_1583 : BitVec 32 := 64#32
  let v3270 : BitVec 32 := Scalar.subi v3269 c64_i32_1583
  let v3271 : BitVec 32 := Scalar.maxsi c0_i32_1584 v3270
  let v3272 : BitVec 32 := Scalar.minsi c1792_i32_1585 v3271
  let v3274 : BitVec 32 := Scalar.addi v3273 v3272
  let v3275 : BitVec 32 := v3274
  let c0_i32_1605 : BitVec 32 := 0#32
  let v3303 : BitVec 1 := Scalar.cmpi .sgt v3275 c0_i32_1605
  let v3304 : BitVec 32 := Scalar.extui v3303
  let c0_i32_1606 : BitVec 32 := 0#32
  let v3305 : BitVec 1 := Scalar.cmpi .slt v3275 c0_i32_1606
  let v3306 : BitVec 32 := Scalar.extui v3305
  let v3307 : BitVec 32 := Scalar.subi v3304 v3306
  let c2_i32_1604 : BitVec 32 := 2#32
  let c0_i32_1607 : BitVec 32 := 0#32
  let v3308 : BitVec 1 := Scalar.cmpi .sgt c2_i32_1604 c0_i32_1607
  let v3309 : BitVec 32 := Scalar.extui v3308
  let c0_i32_1608 : BitVec 32 := 0#32
  let v3310 : BitVec 1 := Scalar.cmpi .slt c2_i32_1604 c0_i32_1608
  let v3311 : BitVec 32 := Scalar.extui v3310
  let v3312 : BitVec 32 := Scalar.subi v3309 v3311
  let v3313 : BitVec 1 := Scalar.cmpi .ne v3307 v3312
  let v3314 : BitVec 32 := Scalar.remsi v3275 c2_i32_1604
  let c0_i32_1609 : BitVec 32 := 0#32
  let v3315 : BitVec 1 := Scalar.cmpi .ne v3314 c0_i32_1609
  let v3316 : BitVec 1 := Scalar.andi v3313 v3315
  let v3302 : BitVec 32 := Scalar.divsi v3275 c2_i32_1604
  let c1_i32_1610 : BitVec 32 := 1#32
  let v3317 : BitVec 32 := Scalar.subi v3302 c1_i32_1610
  let v3318 : BitVec 32 := Scalar.select v3316 v3317 v3302
  v3318
def k0_mult133 : BitVec 32 :=
  let c2_i32_546 : BitVec 32 := 2#32
  let c0_i32_545 : BitVec 32 := 0#32
  let v1145 : BitVec 32 := Scalar.muli c2_i32_546 c0_i32_545
  let c3_i32_1711 : BitVec 32 := 3#32
  let v3474 : BitVec 32 := Scalar.addi v1145 c3_i32_1711
  let c4_i32_1712 : BitVec 32 := 4#32
  let v3475 : BitVec 32 := Scalar.muli v3474 c4_i32_1712
  let c0_i32_1713 : BitVec 32 := 0#32
  let v3476 : BitVec 32 := Scalar.addi v3475 c0_i32_1713
  let c128_i32_1714 : BitVec 32 := 128#32
  let v3477 : BitVec 32 := Scalar.muli v3476 c128_i32_1714
  v3477
def k0_mult134 : BitVec 32 :=
  let c2_i32_546 : BitVec 32 := 2#32
  let c0_i32_545 : BitVec 32 := 0#32
  let v1145 : BitVec 32 := Scalar.muli c2_i32_546 c0_i32_545
  let c3_i32_1711 : BitVec 32 := 3#32
  let v3474 : BitVec 32 := Scalar.addi v1145 c3_i32_1711
  let c4_i32_1712 : BitVec 32 := 4#32
  let v3475 : BitVec 32 := Scalar.muli v3474 c4_i32_1712
  let c0_i32_1713 : BitVec 32 := 0#32
  let v3476 : BitVec 32 := Scalar.addi v3475 c0_i32_1713
  let c0_i32_1716 : BitVec 32 := 0#32
  let v3480 : BitVec 1 := Scalar.cmpi .sgt v3476 c0_i32_1716
  let v3481 : BitVec 32 := Scalar.extui v3480
  let c0_i32_1717 : BitVec 32 := 0#32
  let v3482 : BitVec 1 := Scalar.cmpi .slt v3476 c0_i32_1717
  let v3483 : BitVec 32 := Scalar.extui v3482
  let v3484 : BitVec 32 := Scalar.subi v3481 v3483
  let c16_i32_1715 : BitVec 32 := 16#32
  let c0_i32_1718 : BitVec 32 := 0#32
  let v3485 : BitVec 1 := Scalar.cmpi .sgt c16_i32_1715 c0_i32_1718
  let v3486 : BitVec 32 := Scalar.extui v3485
  let c0_i32_1719 : BitVec 32 := 0#32
  let v3487 : BitVec 1 := Scalar.cmpi .slt c16_i32_1715 c0_i32_1719
  let v3488 : BitVec 32 := Scalar.extui v3487
  let v3489 : BitVec 32 := Scalar.subi v3486 v3488
  let v3490 : BitVec 1 := Scalar.cmpi .ne v3484 v3489
  let v3491 : BitVec 32 := Scalar.remsi v3476 c16_i32_1715
  let c0_i32_1720 : BitVec 32 := 0#32
  let v3492 : BitVec 1 := Scalar.cmpi .ne v3491 c0_i32_1720
  let v3493 : BitVec 1 := Scalar.andi v3490 v3492
  let v3479 : BitVec 32 := Scalar.divsi v3476 c16_i32_1715
  let c1_i32_1721 : BitVec 32 := 1#32
  let v3494 : BitVec 32 := Scalar.subi v3479 c1_i32_1721
  let v3495 : BitVec 32 := Scalar.select v3493 v3494 v3479
  let c2048_i32_1732 : BitVec 32 := 2048#32
  let v3510 : BitVec 32 := Scalar.muli v3495 c2048_i32_1732
  let c1792_i32_1731 : BitVec 32 := 1792#32
  let c0_i32_1730 : BitVec 32 := 0#32
  let c16_i32_1722 : BitVec 32 := 16#32
  let c0_i32_1723 : BitVec 32 := 0#32
  let v3496 : BitVec 1 := Scalar.cmpi .eq c16_i32_1722 c0_i32_1723
  let c1_i32_1724 : BitVec 32 := 1#32
  let v3497 : BitVec 32 := Scalar.select v3496 c1_i32_1724 c16_i32_1722
  let v3498 : BitVec 32 := Scalar.remsi v3476 v3497
  let c0_i32_1726 : BitVec 32 := 0#32
  let v3500 : BitVec 1 := Scalar.cmpi .slt v3498 c0_i32_1726
  let c0_i32_1727 : BitVec 32 := 0#32
  let v3501 : BitVec 1 := Scalar.cmpi .slt v3497 c0_i32_1727
  let v3502 : BitVec 1 := Scalar.xori v3500 v3501
  let c0_i32_1725 : BitVec 32 := 0#32
  let v3499 : BitVec 1 := Scalar.cmpi .ne v3498 c0_i32_1725
  let v3503 : BitVec 1 := Scalar.andi v3502 v3499
  let v3504 : BitVec 32 := Scalar.addi v3498 v3497
  let v3505 : BitVec 32 := Scalar.select v3503 v3504 v3498
  let c128_i32_1728 : BitVec 32 := 128#32
  let v3506 : BitVec 32 := Scalar.muli v3505 c128_i32_1728
  let c64_i32_1729 : BitVec 32 := 64#32
  let v3507 : BitVec 32 := Scalar.subi v3506 c64_i32_1729
  let v3508 : BitVec 32 := Scalar.maxsi c0_i32_1730 v3507
  let v3509 : BitVec 32 := Scalar.minsi c1792_i32_1731 v3508
  let v3511 : BitVec 32 := Scalar.addi v3510 v3509
  v3511
def k0_mult135 : BitVec 32 :=
  let c2_i32_546 : BitVec 32 := 2#32
  let c0_i32_545 : BitVec 32 := 0#32
  let v1145 : BitVec 32 := Scalar.muli c2_i32_546 c0_i32_545
  let c3_i32_1711 : BitVec 32 := 3#32
  let v3474 : BitVec 32 := Scalar.addi v1145 c3_i32_1711
  let c4_i32_1712 : BitVec 32 := 4#32
  let v3475 : BitVec 32 := Scalar.muli v3474 c4_i32_1712
  let c0_i32_1713 : BitVec 32 := 0#32
  let v3476 : BitVec 32 := Scalar.addi v3475 c0_i32_1713
  let c128_i32_1714 : BitVec 32 := 128#32
  let v3477 : BitVec 32 := Scalar.muli v3476 c128_i32_1714
  let v3478 : BitVec 32 := v3477
  let c0_i32_1743 : BitVec 32 := 0#32
  let v3535 : BitVec 1 := Scalar.cmpi .sgt v3478 c0_i32_1743
  let v3536 : BitVec 32 := Scalar.extui v3535
  let c0_i32_1744 : BitVec 32 := 0#32
  let v3537 : BitVec 1 := Scalar.cmpi .slt v3478 c0_i32_1744
  let v3538 : BitVec 32 := Scalar.extui v3537
  let v3539 : BitVec 32 := Scalar.subi v3536 v3538
  let c2_i32_1742 : BitVec 32 := 2#32
  let c0_i32_1745 : BitVec 32 := 0#32
  let v3540 : BitVec 1 := Scalar.cmpi .sgt c2_i32_1742 c0_i32_1745
  let v3541 : BitVec 32 := Scalar.extui v3540
  let c0_i32_1746 : BitVec 32 := 0#32
  let v3542 : BitVec 1 := Scalar.cmpi .slt c2_i32_1742 c0_i32_1746
  let v3543 : BitVec 32 := Scalar.extui v3542
  let v3544 : BitVec 32 := Scalar.subi v3541 v3543
  let v3545 : BitVec 1 := Scalar.cmpi .ne v3539 v3544
  let v3546 : BitVec 32 := Scalar.remsi v3478 c2_i32_1742
  let c0_i32_1747 : BitVec 32 := 0#32
  let v3547 : BitVec 1 := Scalar.cmpi .ne v3546 c0_i32_1747
  let v3548 : BitVec 1 := Scalar.andi v3545 v3547
  let v3534 : BitVec 32 := Scalar.divsi v3478 c2_i32_1742
  let c1_i32_1748 : BitVec 32 := 1#32
  let v3549 : BitVec 32 := Scalar.subi v3534 c1_i32_1748
  let v3550 : BitVec 32 := Scalar.select v3548 v3549 v3534
  v3550
def k0_mult136 : BitVec 32 :=
  let c2_i32_546 : BitVec 32 := 2#32
  let c0_i32_545 : BitVec 32 := 0#32
  let v1145 : BitVec 32 := Scalar.muli c2_i32_546 c0_i32_545
  let c3_i32_1711 : BitVec 32 := 3#32
  let v3474 : BitVec 32 := Scalar.addi v1145 c3_i32_1711
  let c4_i32_1712 : BitVec 32 := 4#32
  let v3475 : BitVec 32 := Scalar.muli v3474 c4_i32_1712
  let c0_i32_1713 : BitVec 32 := 0#32
  let v3476 : BitVec 32 := Scalar.addi v3475 c0_i32_1713
  let c128_i32_1714 : BitVec 32 := 128#32
  let v3477 : BitVec 32 := Scalar.muli v3476 c128_i32_1714
  let v3478 : BitVec 32 := v3477
  let c0_i32_1751 : BitVec 32 := 0#32
  let v3556 : BitVec 1 := Scalar.cmpi .sgt v3478 c0_i32_1751
  let v3557 : BitVec 32 := Scalar.extui v3556
  let c0_i32_1752 : BitVec 32 := 0#32
  let v3558 : BitVec 1 := Scalar.cmpi .slt v3478 c0_i32_1752
  let v3559 : BitVec 32 := Scalar.extui v3558
  let v3560 : BitVec 32 := Scalar.subi v3557 v3559
  let c2_i32_1750 : BitVec 32 := 2#32
  let c0_i32_1753 : BitVec 32 := 0#32
  let v3561 : BitVec 1 := Scalar.cmpi .sgt c2_i32_1750 c0_i32_1753
  let v3562 : BitVec 32 := Scalar.extui v3561
  let c0_i32_1754 : BitVec 32 := 0#32
  let v3563 : BitVec 1 := Scalar.cmpi .slt c2_i32_1750 c0_i32_1754
  let v3564 : BitVec 32 := Scalar.extui v3563
  let v3565 : BitVec 32 := Scalar.subi v3562 v3564
  let v3566 : BitVec 1 := Scalar.cmpi .ne v3560 v3565
  let v3567 : BitVec 32 := Scalar.remsi v3478 c2_i32_1750
  let c0_i32_1755 : BitVec 32 := 0#32
  let v3568 : BitVec 1 := Scalar.cmpi .ne v3567 c0_i32_1755
  let v3569 : BitVec 1 := Scalar.andi v3566 v3568
  let v3555 : BitVec 32 := Scalar.divsi v3478 c2_i32_1750
  let c1_i32_1756 : BitVec 32 := 1#32
  let v3570 : BitVec 32 := Scalar.subi v3555 c1_i32_1756
  let v3571 : BitVec 32 := Scalar.select v3569 v3570 v3555
  v3571
def k0_mult137 : BitVec 32 :=
  let c2_i32_546 : BitVec 32 := 2#32
  let c0_i32_545 : BitVec 32 := 0#32
  let v1145 : BitVec 32 := Scalar.muli c2_i32_546 c0_i32_545
  let c3_i32_1711 : BitVec 32 := 3#32
  let v3474 : BitVec 32 := Scalar.addi v1145 c3_i32_1711
  let c4_i32_1712 : BitVec 32 := 4#32
  let v3475 : BitVec 32 := Scalar.muli v3474 c4_i32_1712
  let c0_i32_1713 : BitVec 32 := 0#32
  let v3476 : BitVec 32 := Scalar.addi v3475 c0_i32_1713
  let c0_i32_1716 : BitVec 32 := 0#32
  let v3480 : BitVec 1 := Scalar.cmpi .sgt v3476 c0_i32_1716
  let v3481 : BitVec 32 := Scalar.extui v3480
  let c0_i32_1717 : BitVec 32 := 0#32
  let v3482 : BitVec 1 := Scalar.cmpi .slt v3476 c0_i32_1717
  let v3483 : BitVec 32 := Scalar.extui v3482
  let v3484 : BitVec 32 := Scalar.subi v3481 v3483
  let c16_i32_1715 : BitVec 32 := 16#32
  let c0_i32_1718 : BitVec 32 := 0#32
  let v3485 : BitVec 1 := Scalar.cmpi .sgt c16_i32_1715 c0_i32_1718
  let v3486 : BitVec 32 := Scalar.extui v3485
  let c0_i32_1719 : BitVec 32 := 0#32
  let v3487 : BitVec 1 := Scalar.cmpi .slt c16_i32_1715 c0_i32_1719
  let v3488 : BitVec 32 := Scalar.extui v3487
  let v3489 : BitVec 32 := Scalar.subi v3486 v3488
  let v3490 : BitVec 1 := Scalar.cmpi .ne v3484 v3489
  let v3491 : BitVec 32 := Scalar.remsi v3476 c16_i32_1715
  let c0_i32_1720 : BitVec 32 := 0#32
  let v3492 : BitVec 1 := Scalar.cmpi .ne v3491 c0_i32_1720
  let v3493 : BitVec 1 := Scalar.andi v3490 v3492
  let v3479 : BitVec 32 := Scalar.divsi v3476 c16_i32_1715
  let c1_i32_1721 : BitVec 32 := 1#32
  let v3494 : BitVec 32 := Scalar.subi v3479 c1_i32_1721
  let v3495 : BitVec 32 := Scalar.select v3493 v3494 v3479
  let c2048_i32_1732 : BitVec 32 := 2048#32
  let v3510 : BitVec 32 := Scalar.muli v3495 c2048_i32_1732
  let c1792_i32_1731 : BitVec 32 := 1792#32
  let c0_i32_1730 : BitVec 32 := 0#32
  let c16_i32_1722 : BitVec 32 := 16#32
  let c0_i32_1723 : BitVec 32 := 0#32
  let v3496 : BitVec 1 := Scalar.cmpi .eq c16_i32_1722 c0_i32_1723
  let c1_i32_1724 : BitVec 32 := 1#32
  let v3497 : BitVec 32 := Scalar.select v3496 c1_i32_1724 c16_i32_1722
  let v3498 : BitVec 32 := Scalar.remsi v3476 v3497
  let c0_i32_1726 : BitVec 32 := 0#32
  let v3500 : BitVec 1 := Scalar.cmpi .slt v3498 c0_i32_1726
  let c0_i32_1727 : BitVec 32 := 0#32
  let v3501 : BitVec 1 := Scalar.cmpi .slt v3497 c0_i32_1727
  let v3502 : BitVec 1 := Scalar.xori v3500 v3501
  let c0_i32_1725 : BitVec 32 := 0#32
  let v3499 : BitVec 1 := Scalar.cmpi .ne v3498 c0_i32_1725
  let v3503 : BitVec 1 := Scalar.andi v3502 v3499
  let v3504 : BitVec 32 := Scalar.addi v3498 v3497
  let v3505 : BitVec 32 := Scalar.select v3503 v3504 v3498
  let c128_i32_1728 : BitVec 32 := 128#32
  let v3506 : BitVec 32 := Scalar.muli v3505 c128_i32_1728
  let c64_i32_1729 : BitVec 32 := 64#32
  let v3507 : BitVec 32 := Scalar.subi v3506 c64_i32_1729
  let v3508 : BitVec 32 := Scalar.maxsi c0_i32_1730 v3507
  let v3509 : BitVec 32 := Scalar.minsi c1792_i32_1731 v3508
  let v3511 : BitVec 32 := Scalar.addi v3510 v3509
  let v3512 : BitVec 32 := v3511
  let c0_i32_1759 : BitVec 32 := 0#32
  let v3578 : BitVec 1 := Scalar.cmpi .sgt v3512 c0_i32_1759
  let v3579 : BitVec 32 := Scalar.extui v3578
  let c0_i32_1760 : BitVec 32 := 0#32
  let v3580 : BitVec 1 := Scalar.cmpi .slt v3512 c0_i32_1760
  let v3581 : BitVec 32 := Scalar.extui v3580
  let v3582 : BitVec 32 := Scalar.subi v3579 v3581
  let c2_i32_1758 : BitVec 32 := 2#32
  let c0_i32_1761 : BitVec 32 := 0#32
  let v3583 : BitVec 1 := Scalar.cmpi .sgt c2_i32_1758 c0_i32_1761
  let v3584 : BitVec 32 := Scalar.extui v3583
  let c0_i32_1762 : BitVec 32 := 0#32
  let v3585 : BitVec 1 := Scalar.cmpi .slt c2_i32_1758 c0_i32_1762
  let v3586 : BitVec 32 := Scalar.extui v3585
  let v3587 : BitVec 32 := Scalar.subi v3584 v3586
  let v3588 : BitVec 1 := Scalar.cmpi .ne v3582 v3587
  let v3589 : BitVec 32 := Scalar.remsi v3512 c2_i32_1758
  let c0_i32_1763 : BitVec 32 := 0#32
  let v3590 : BitVec 1 := Scalar.cmpi .ne v3589 c0_i32_1763
  let v3591 : BitVec 1 := Scalar.andi v3588 v3590
  let v3577 : BitVec 32 := Scalar.divsi v3512 c2_i32_1758
  let c1_i32_1764 : BitVec 32 := 1#32
  let v3592 : BitVec 32 := Scalar.subi v3577 c1_i32_1764
  let v3593 : BitVec 32 := Scalar.select v3591 v3592 v3577
  v3593
def k0_mult138 : BitVec 32 :=
  let c2_i32_546 : BitVec 32 := 2#32
  let c0_i32_545 : BitVec 32 := 0#32
  let v1145 : BitVec 32 := Scalar.muli c2_i32_546 c0_i32_545
  let c3_i32_1711 : BitVec 32 := 3#32
  let v3474 : BitVec 32 := Scalar.addi v1145 c3_i32_1711
  let c4_i32_1775 : BitVec 32 := 4#32
  let v3609 : BitVec 32 := Scalar.muli v3474 c4_i32_1775
  let c1_i32_1776 : BitVec 32 := 1#32
  let v3610 : BitVec 32 := Scalar.addi v3609 c1_i32_1776
  let c128_i32_1777 : BitVec 32 := 128#32
  let v3611 : BitVec 32 := Scalar.muli v3610 c128_i32_1777
  v3611
def k0_mult139 : BitVec 32 :=
  let c2_i32_546 : BitVec 32 := 2#32
  let c0_i32_545 : BitVec 32 := 0#32
  let v1145 : BitVec 32 := Scalar.muli c2_i32_546 c0_i32_545
  let c3_i32_1711 : BitVec 32 := 3#32
  let v3474 : BitVec 32 := Scalar.addi v1145 c3_i32_1711
  let c4_i32_1775 : BitVec 32 := 4#32
  let v3609 : BitVec 32 := Scalar.muli v3474 c4_i32_1775
  let c1_i32_1776 : BitVec 32 := 1#32
  let v3610 : BitVec 32 := Scalar.addi v3609 c1_i32_1776
  let c0_i32_1779 : BitVec 32 := 0#32
  let v3614 : BitVec 1 := Scalar.cmpi .sgt v3610 c0_i32_1779
  let v3615 : BitVec 32 := Scalar.extui v3614
  let c0_i32_1780 : BitVec 32 := 0#32
  let v3616 : BitVec 1 := Scalar.cmpi .slt v3610 c0_i32_1780
  let v3617 : BitVec 32 := Scalar.extui v3616
  let v3618 : BitVec 32 := Scalar.subi v3615 v3617
  let c16_i32_1778 : BitVec 32 := 16#32
  let c0_i32_1781 : BitVec 32 := 0#32
  let v3619 : BitVec 1 := Scalar.cmpi .sgt c16_i32_1778 c0_i32_1781
  let v3620 : BitVec 32 := Scalar.extui v3619
  let c0_i32_1782 : BitVec 32 := 0#32
  let v3621 : BitVec 1 := Scalar.cmpi .slt c16_i32_1778 c0_i32_1782
  let v3622 : BitVec 32 := Scalar.extui v3621
  let v3623 : BitVec 32 := Scalar.subi v3620 v3622
  let v3624 : BitVec 1 := Scalar.cmpi .ne v3618 v3623
  let v3625 : BitVec 32 := Scalar.remsi v3610 c16_i32_1778
  let c0_i32_1783 : BitVec 32 := 0#32
  let v3626 : BitVec 1 := Scalar.cmpi .ne v3625 c0_i32_1783
  let v3627 : BitVec 1 := Scalar.andi v3624 v3626
  let v3613 : BitVec 32 := Scalar.divsi v3610 c16_i32_1778
  let c1_i32_1784 : BitVec 32 := 1#32
  let v3628 : BitVec 32 := Scalar.subi v3613 c1_i32_1784
  let v3629 : BitVec 32 := Scalar.select v3627 v3628 v3613
  let c2048_i32_1795 : BitVec 32 := 2048#32
  let v3644 : BitVec 32 := Scalar.muli v3629 c2048_i32_1795
  let c1792_i32_1794 : BitVec 32 := 1792#32
  let c0_i32_1793 : BitVec 32 := 0#32
  let c16_i32_1785 : BitVec 32 := 16#32
  let c0_i32_1786 : BitVec 32 := 0#32
  let v3630 : BitVec 1 := Scalar.cmpi .eq c16_i32_1785 c0_i32_1786
  let c1_i32_1787 : BitVec 32 := 1#32
  let v3631 : BitVec 32 := Scalar.select v3630 c1_i32_1787 c16_i32_1785
  let v3632 : BitVec 32 := Scalar.remsi v3610 v3631
  let c0_i32_1789 : BitVec 32 := 0#32
  let v3634 : BitVec 1 := Scalar.cmpi .slt v3632 c0_i32_1789
  let c0_i32_1790 : BitVec 32 := 0#32
  let v3635 : BitVec 1 := Scalar.cmpi .slt v3631 c0_i32_1790
  let v3636 : BitVec 1 := Scalar.xori v3634 v3635
  let c0_i32_1788 : BitVec 32 := 0#32
  let v3633 : BitVec 1 := Scalar.cmpi .ne v3632 c0_i32_1788
  let v3637 : BitVec 1 := Scalar.andi v3636 v3633
  let v3638 : BitVec 32 := Scalar.addi v3632 v3631
  let v3639 : BitVec 32 := Scalar.select v3637 v3638 v3632
  let c128_i32_1791 : BitVec 32 := 128#32
  let v3640 : BitVec 32 := Scalar.muli v3639 c128_i32_1791
  let c64_i32_1792 : BitVec 32 := 64#32
  let v3641 : BitVec 32 := Scalar.subi v3640 c64_i32_1792
  let v3642 : BitVec 32 := Scalar.maxsi c0_i32_1793 v3641
  let v3643 : BitVec 32 := Scalar.minsi c1792_i32_1794 v3642
  let v3645 : BitVec 32 := Scalar.addi v3644 v3643
  v3645
def k0_mult140 : BitVec 32 :=
  let c2_i32_546 : BitVec 32 := 2#32
  let c0_i32_545 : BitVec 32 := 0#32
  let v1145 : BitVec 32 := Scalar.muli c2_i32_546 c0_i32_545
  let c3_i32_1711 : BitVec 32 := 3#32
  let v3474 : BitVec 32 := Scalar.addi v1145 c3_i32_1711
  let c4_i32_1775 : BitVec 32 := 4#32
  let v3609 : BitVec 32 := Scalar.muli v3474 c4_i32_1775
  let c1_i32_1776 : BitVec 32 := 1#32
  let v3610 : BitVec 32 := Scalar.addi v3609 c1_i32_1776
  let c128_i32_1777 : BitVec 32 := 128#32
  let v3611 : BitVec 32 := Scalar.muli v3610 c128_i32_1777
  let v3612 : BitVec 32 := v3611
  let c0_i32_1806 : BitVec 32 := 0#32
  let v3669 : BitVec 1 := Scalar.cmpi .sgt v3612 c0_i32_1806
  let v3670 : BitVec 32 := Scalar.extui v3669
  let c0_i32_1807 : BitVec 32 := 0#32
  let v3671 : BitVec 1 := Scalar.cmpi .slt v3612 c0_i32_1807
  let v3672 : BitVec 32 := Scalar.extui v3671
  let v3673 : BitVec 32 := Scalar.subi v3670 v3672
  let c2_i32_1805 : BitVec 32 := 2#32
  let c0_i32_1808 : BitVec 32 := 0#32
  let v3674 : BitVec 1 := Scalar.cmpi .sgt c2_i32_1805 c0_i32_1808
  let v3675 : BitVec 32 := Scalar.extui v3674
  let c0_i32_1809 : BitVec 32 := 0#32
  let v3676 : BitVec 1 := Scalar.cmpi .slt c2_i32_1805 c0_i32_1809
  let v3677 : BitVec 32 := Scalar.extui v3676
  let v3678 : BitVec 32 := Scalar.subi v3675 v3677
  let v3679 : BitVec 1 := Scalar.cmpi .ne v3673 v3678
  let v3680 : BitVec 32 := Scalar.remsi v3612 c2_i32_1805
  let c0_i32_1810 : BitVec 32 := 0#32
  let v3681 : BitVec 1 := Scalar.cmpi .ne v3680 c0_i32_1810
  let v3682 : BitVec 1 := Scalar.andi v3679 v3681
  let v3668 : BitVec 32 := Scalar.divsi v3612 c2_i32_1805
  let c1_i32_1811 : BitVec 32 := 1#32
  let v3683 : BitVec 32 := Scalar.subi v3668 c1_i32_1811
  let v3684 : BitVec 32 := Scalar.select v3682 v3683 v3668
  v3684
def k0_mult141 : BitVec 32 :=
  let c2_i32_546 : BitVec 32 := 2#32
  let c0_i32_545 : BitVec 32 := 0#32
  let v1145 : BitVec 32 := Scalar.muli c2_i32_546 c0_i32_545
  let c3_i32_1711 : BitVec 32 := 3#32
  let v3474 : BitVec 32 := Scalar.addi v1145 c3_i32_1711
  let c4_i32_1775 : BitVec 32 := 4#32
  let v3609 : BitVec 32 := Scalar.muli v3474 c4_i32_1775
  let c1_i32_1776 : BitVec 32 := 1#32
  let v3610 : BitVec 32 := Scalar.addi v3609 c1_i32_1776
  let c128_i32_1777 : BitVec 32 := 128#32
  let v3611 : BitVec 32 := Scalar.muli v3610 c128_i32_1777
  let v3612 : BitVec 32 := v3611
  let c0_i32_1814 : BitVec 32 := 0#32
  let v3690 : BitVec 1 := Scalar.cmpi .sgt v3612 c0_i32_1814
  let v3691 : BitVec 32 := Scalar.extui v3690
  let c0_i32_1815 : BitVec 32 := 0#32
  let v3692 : BitVec 1 := Scalar.cmpi .slt v3612 c0_i32_1815
  let v3693 : BitVec 32 := Scalar.extui v3692
  let v3694 : BitVec 32 := Scalar.subi v3691 v3693
  let c2_i32_1813 : BitVec 32 := 2#32
  let c0_i32_1816 : BitVec 32 := 0#32
  let v3695 : BitVec 1 := Scalar.cmpi .sgt c2_i32_1813 c0_i32_1816
  let v3696 : BitVec 32 := Scalar.extui v3695
  let c0_i32_1817 : BitVec 32 := 0#32
  let v3697 : BitVec 1 := Scalar.cmpi .slt c2_i32_1813 c0_i32_1817
  let v3698 : BitVec 32 := Scalar.extui v3697
  let v3699 : BitVec 32 := Scalar.subi v3696 v3698
  let v3700 : BitVec 1 := Scalar.cmpi .ne v3694 v3699
  let v3701 : BitVec 32 := Scalar.remsi v3612 c2_i32_1813
  let c0_i32_1818 : BitVec 32 := 0#32
  let v3702 : BitVec 1 := Scalar.cmpi .ne v3701 c0_i32_1818
  let v3703 : BitVec 1 := Scalar.andi v3700 v3702
  let v3689 : BitVec 32 := Scalar.divsi v3612 c2_i32_1813
  let c1_i32_1819 : BitVec 32 := 1#32
  let v3704 : BitVec 32 := Scalar.subi v3689 c1_i32_1819
  let v3705 : BitVec 32 := Scalar.select v3703 v3704 v3689
  v3705
def k0_mult142 : BitVec 32 :=
  let c2_i32_546 : BitVec 32 := 2#32
  let c0_i32_545 : BitVec 32 := 0#32
  let v1145 : BitVec 32 := Scalar.muli c2_i32_546 c0_i32_545
  let c3_i32_1711 : BitVec 32 := 3#32
  let v3474 : BitVec 32 := Scalar.addi v1145 c3_i32_1711
  let c4_i32_1775 : BitVec 32 := 4#32
  let v3609 : BitVec 32 := Scalar.muli v3474 c4_i32_1775
  let c1_i32_1776 : BitVec 32 := 1#32
  let v3610 : BitVec 32 := Scalar.addi v3609 c1_i32_1776
  let c0_i32_1779 : BitVec 32 := 0#32
  let v3614 : BitVec 1 := Scalar.cmpi .sgt v3610 c0_i32_1779
  let v3615 : BitVec 32 := Scalar.extui v3614
  let c0_i32_1780 : BitVec 32 := 0#32
  let v3616 : BitVec 1 := Scalar.cmpi .slt v3610 c0_i32_1780
  let v3617 : BitVec 32 := Scalar.extui v3616
  let v3618 : BitVec 32 := Scalar.subi v3615 v3617
  let c16_i32_1778 : BitVec 32 := 16#32
  let c0_i32_1781 : BitVec 32 := 0#32
  let v3619 : BitVec 1 := Scalar.cmpi .sgt c16_i32_1778 c0_i32_1781
  let v3620 : BitVec 32 := Scalar.extui v3619
  let c0_i32_1782 : BitVec 32 := 0#32
  let v3621 : BitVec 1 := Scalar.cmpi .slt c16_i32_1778 c0_i32_1782
  let v3622 : BitVec 32 := Scalar.extui v3621
  let v3623 : BitVec 32 := Scalar.subi v3620 v3622
  let v3624 : BitVec 1 := Scalar.cmpi .ne v3618 v3623
  let v3625 : BitVec 32 := Scalar.remsi v3610 c16_i32_1778
  let c0_i32_1783 : BitVec 32 := 0#32
  let v3626 : BitVec 1 := Scalar.cmpi .ne v3625 c0_i32_1783
  let v3627 : BitVec 1 := Scalar.andi v3624 v3626
  let v3613 : BitVec 32 := Scalar.divsi v3610 c16_i32_1778
  let c1_i32_1784 : BitVec 32 := 1#32
  let v3628 : BitVec 32 := Scalar.subi v3613 c1_i32_1784
  let v3629 : BitVec 32 := Scalar.select v3627 v3628 v3613
  let c2048_i32_1795 : BitVec 32 := 2048#32
  let v3644 : BitVec 32 := Scalar.muli v3629 c2048_i32_1795
  let c1792_i32_1794 : BitVec 32 := 1792#32
  let c0_i32_1793 : BitVec 32 := 0#32
  let c16_i32_1785 : BitVec 32 := 16#32
  let c0_i32_1786 : BitVec 32 := 0#32
  let v3630 : BitVec 1 := Scalar.cmpi .eq c16_i32_1785 c0_i32_1786
  let c1_i32_1787 : BitVec 32 := 1#32
  let v3631 : BitVec 32 := Scalar.select v3630 c1_i32_1787 c16_i32_1785
  let v3632 : BitVec 32 := Scalar.remsi v3610 v3631
  let c0_i32_1789 : BitVec 32 := 0#32
  let v3634 : BitVec 1 := Scalar.cmpi .slt v3632 c0_i32_1789
  let c0_i32_1790 : BitVec 32 := 0#32
  let v3635 : BitVec 1 := Scalar.cmpi .slt v3631 c0_i32_1790
  let v3636 : BitVec 1 := Scalar.xori v3634 v3635
  let c0_i32_1788 : BitVec 32 := 0#32
  let v3633 : BitVec 1 := Scalar.cmpi .ne v3632 c0_i32_1788
  let v3637 : BitVec 1 := Scalar.andi v3636 v3633
  let v3638 : BitVec 32 := Scalar.addi v3632 v3631
  let v3639 : BitVec 32 := Scalar.select v3637 v3638 v3632
  let c128_i32_1791 : BitVec 32 := 128#32
  let v3640 : BitVec 32 := Scalar.muli v3639 c128_i32_1791
  let c64_i32_1792 : BitVec 32 := 64#32
  let v3641 : BitVec 32 := Scalar.subi v3640 c64_i32_1792
  let v3642 : BitVec 32 := Scalar.maxsi c0_i32_1793 v3641
  let v3643 : BitVec 32 := Scalar.minsi c1792_i32_1794 v3642
  let v3645 : BitVec 32 := Scalar.addi v3644 v3643
  let v3646 : BitVec 32 := v3645
  let c0_i32_1822 : BitVec 32 := 0#32
  let v3712 : BitVec 1 := Scalar.cmpi .sgt v3646 c0_i32_1822
  let v3713 : BitVec 32 := Scalar.extui v3712
  let c0_i32_1823 : BitVec 32 := 0#32
  let v3714 : BitVec 1 := Scalar.cmpi .slt v3646 c0_i32_1823
  let v3715 : BitVec 32 := Scalar.extui v3714
  let v3716 : BitVec 32 := Scalar.subi v3713 v3715
  let c2_i32_1821 : BitVec 32 := 2#32
  let c0_i32_1824 : BitVec 32 := 0#32
  let v3717 : BitVec 1 := Scalar.cmpi .sgt c2_i32_1821 c0_i32_1824
  let v3718 : BitVec 32 := Scalar.extui v3717
  let c0_i32_1825 : BitVec 32 := 0#32
  let v3719 : BitVec 1 := Scalar.cmpi .slt c2_i32_1821 c0_i32_1825
  let v3720 : BitVec 32 := Scalar.extui v3719
  let v3721 : BitVec 32 := Scalar.subi v3718 v3720
  let v3722 : BitVec 1 := Scalar.cmpi .ne v3716 v3721
  let v3723 : BitVec 32 := Scalar.remsi v3646 c2_i32_1821
  let c0_i32_1826 : BitVec 32 := 0#32
  let v3724 : BitVec 1 := Scalar.cmpi .ne v3723 c0_i32_1826
  let v3725 : BitVec 1 := Scalar.andi v3722 v3724
  let v3711 : BitVec 32 := Scalar.divsi v3646 c2_i32_1821
  let c1_i32_1827 : BitVec 32 := 1#32
  let v3726 : BitVec 32 := Scalar.subi v3711 c1_i32_1827
  let v3727 : BitVec 32 := Scalar.select v3725 v3726 v3711
  v3727
def k0_mult143 : BitVec 32 :=
  let c2_i32_546 : BitVec 32 := 2#32
  let c0_i32_545 : BitVec 32 := 0#32
  let v1145 : BitVec 32 := Scalar.muli c2_i32_546 c0_i32_545
  let c3_i32_1711 : BitVec 32 := 3#32
  let v3474 : BitVec 32 := Scalar.addi v1145 c3_i32_1711
  let c4_i32_1838 : BitVec 32 := 4#32
  let v3743 : BitVec 32 := Scalar.muli v3474 c4_i32_1838
  let c2_i32_1839 : BitVec 32 := 2#32
  let v3744 : BitVec 32 := Scalar.addi v3743 c2_i32_1839
  let c128_i32_1840 : BitVec 32 := 128#32
  let v3745 : BitVec 32 := Scalar.muli v3744 c128_i32_1840
  v3745
def k0_mult144 : BitVec 32 :=
  let c2_i32_546 : BitVec 32 := 2#32
  let c0_i32_545 : BitVec 32 := 0#32
  let v1145 : BitVec 32 := Scalar.muli c2_i32_546 c0_i32_545
  let c3_i32_1711 : BitVec 32 := 3#32
  let v3474 : BitVec 32 := Scalar.addi v1145 c3_i32_1711
  let c4_i32_1838 : BitVec 32 := 4#32
  let v3743 : BitVec 32 := Scalar.muli v3474 c4_i32_1838
  let c2_i32_1839 : BitVec 32 := 2#32
  let v3744 : BitVec 32 := Scalar.addi v3743 c2_i32_1839
  let c0_i32_1842 : BitVec 32 := 0#32
  let v3748 : BitVec 1 := Scalar.cmpi .sgt v3744 c0_i32_1842
  let v3749 : BitVec 32 := Scalar.extui v3748
  let c0_i32_1843 : BitVec 32 := 0#32
  let v3750 : BitVec 1 := Scalar.cmpi .slt v3744 c0_i32_1843
  let v3751 : BitVec 32 := Scalar.extui v3750
  let v3752 : BitVec 32 := Scalar.subi v3749 v3751
  let c16_i32_1841 : BitVec 32 := 16#32
  let c0_i32_1844 : BitVec 32 := 0#32
  let v3753 : BitVec 1 := Scalar.cmpi .sgt c16_i32_1841 c0_i32_1844
  let v3754 : BitVec 32 := Scalar.extui v3753
  let c0_i32_1845 : BitVec 32 := 0#32
  let v3755 : BitVec 1 := Scalar.cmpi .slt c16_i32_1841 c0_i32_1845
  let v3756 : BitVec 32 := Scalar.extui v3755
  let v3757 : BitVec 32 := Scalar.subi v3754 v3756
  let v3758 : BitVec 1 := Scalar.cmpi .ne v3752 v3757
  let v3759 : BitVec 32 := Scalar.remsi v3744 c16_i32_1841
  let c0_i32_1846 : BitVec 32 := 0#32
  let v3760 : BitVec 1 := Scalar.cmpi .ne v3759 c0_i32_1846
  let v3761 : BitVec 1 := Scalar.andi v3758 v3760
  let v3747 : BitVec 32 := Scalar.divsi v3744 c16_i32_1841
  let c1_i32_1847 : BitVec 32 := 1#32
  let v3762 : BitVec 32 := Scalar.subi v3747 c1_i32_1847
  let v3763 : BitVec 32 := Scalar.select v3761 v3762 v3747
  let c2048_i32_1858 : BitVec 32 := 2048#32
  let v3778 : BitVec 32 := Scalar.muli v3763 c2048_i32_1858
  let c1792_i32_1857 : BitVec 32 := 1792#32
  let c0_i32_1856 : BitVec 32 := 0#32
  let c16_i32_1848 : BitVec 32 := 16#32
  let c0_i32_1849 : BitVec 32 := 0#32
  let v3764 : BitVec 1 := Scalar.cmpi .eq c16_i32_1848 c0_i32_1849
  let c1_i32_1850 : BitVec 32 := 1#32
  let v3765 : BitVec 32 := Scalar.select v3764 c1_i32_1850 c16_i32_1848
  let v3766 : BitVec 32 := Scalar.remsi v3744 v3765
  let c0_i32_1852 : BitVec 32 := 0#32
  let v3768 : BitVec 1 := Scalar.cmpi .slt v3766 c0_i32_1852
  let c0_i32_1853 : BitVec 32 := 0#32
  let v3769 : BitVec 1 := Scalar.cmpi .slt v3765 c0_i32_1853
  let v3770 : BitVec 1 := Scalar.xori v3768 v3769
  let c0_i32_1851 : BitVec 32 := 0#32
  let v3767 : BitVec 1 := Scalar.cmpi .ne v3766 c0_i32_1851
  let v3771 : BitVec 1 := Scalar.andi v3770 v3767
  let v3772 : BitVec 32 := Scalar.addi v3766 v3765
  let v3773 : BitVec 32 := Scalar.select v3771 v3772 v3766
  let c128_i32_1854 : BitVec 32 := 128#32
  let v3774 : BitVec 32 := Scalar.muli v3773 c128_i32_1854
  let c64_i32_1855 : BitVec 32 := 64#32
  let v3775 : BitVec 32 := Scalar.subi v3774 c64_i32_1855
  let v3776 : BitVec 32 := Scalar.maxsi c0_i32_1856 v3775
  let v3777 : BitVec 32 := Scalar.minsi c1792_i32_1857 v3776
  let v3779 : BitVec 32 := Scalar.addi v3778 v3777
  v3779
def k0_mult145 : BitVec 32 :=
  let c2_i32_546 : BitVec 32 := 2#32
  let c0_i32_545 : BitVec 32 := 0#32
  let v1145 : BitVec 32 := Scalar.muli c2_i32_546 c0_i32_545
  let c3_i32_1711 : BitVec 32 := 3#32
  let v3474 : BitVec 32 := Scalar.addi v1145 c3_i32_1711
  let c4_i32_1838 : BitVec 32 := 4#32
  let v3743 : BitVec 32 := Scalar.muli v3474 c4_i32_1838
  let c2_i32_1839 : BitVec 32 := 2#32
  let v3744 : BitVec 32 := Scalar.addi v3743 c2_i32_1839
  let c128_i32_1840 : BitVec 32 := 128#32
  let v3745 : BitVec 32 := Scalar.muli v3744 c128_i32_1840
  let v3746 : BitVec 32 := v3745
  let c0_i32_1869 : BitVec 32 := 0#32
  let v3803 : BitVec 1 := Scalar.cmpi .sgt v3746 c0_i32_1869
  let v3804 : BitVec 32 := Scalar.extui v3803
  let c0_i32_1870 : BitVec 32 := 0#32
  let v3805 : BitVec 1 := Scalar.cmpi .slt v3746 c0_i32_1870
  let v3806 : BitVec 32 := Scalar.extui v3805
  let v3807 : BitVec 32 := Scalar.subi v3804 v3806
  let c2_i32_1868 : BitVec 32 := 2#32
  let c0_i32_1871 : BitVec 32 := 0#32
  let v3808 : BitVec 1 := Scalar.cmpi .sgt c2_i32_1868 c0_i32_1871
  let v3809 : BitVec 32 := Scalar.extui v3808
  let c0_i32_1872 : BitVec 32 := 0#32
  let v3810 : BitVec 1 := Scalar.cmpi .slt c2_i32_1868 c0_i32_1872
  let v3811 : BitVec 32 := Scalar.extui v3810
  let v3812 : BitVec 32 := Scalar.subi v3809 v3811
  let v3813 : BitVec 1 := Scalar.cmpi .ne v3807 v3812
  let v3814 : BitVec 32 := Scalar.remsi v3746 c2_i32_1868
  let c0_i32_1873 : BitVec 32 := 0#32
  let v3815 : BitVec 1 := Scalar.cmpi .ne v3814 c0_i32_1873
  let v3816 : BitVec 1 := Scalar.andi v3813 v3815
  let v3802 : BitVec 32 := Scalar.divsi v3746 c2_i32_1868
  let c1_i32_1874 : BitVec 32 := 1#32
  let v3817 : BitVec 32 := Scalar.subi v3802 c1_i32_1874
  let v3818 : BitVec 32 := Scalar.select v3816 v3817 v3802
  v3818
def k0_mult146 : BitVec 32 :=
  let c2_i32_546 : BitVec 32 := 2#32
  let c0_i32_545 : BitVec 32 := 0#32
  let v1145 : BitVec 32 := Scalar.muli c2_i32_546 c0_i32_545
  let c3_i32_1711 : BitVec 32 := 3#32
  let v3474 : BitVec 32 := Scalar.addi v1145 c3_i32_1711
  let c4_i32_1838 : BitVec 32 := 4#32
  let v3743 : BitVec 32 := Scalar.muli v3474 c4_i32_1838
  let c2_i32_1839 : BitVec 32 := 2#32
  let v3744 : BitVec 32 := Scalar.addi v3743 c2_i32_1839
  let c128_i32_1840 : BitVec 32 := 128#32
  let v3745 : BitVec 32 := Scalar.muli v3744 c128_i32_1840
  let v3746 : BitVec 32 := v3745
  let c0_i32_1877 : BitVec 32 := 0#32
  let v3824 : BitVec 1 := Scalar.cmpi .sgt v3746 c0_i32_1877
  let v3825 : BitVec 32 := Scalar.extui v3824
  let c0_i32_1878 : BitVec 32 := 0#32
  let v3826 : BitVec 1 := Scalar.cmpi .slt v3746 c0_i32_1878
  let v3827 : BitVec 32 := Scalar.extui v3826
  let v3828 : BitVec 32 := Scalar.subi v3825 v3827
  let c2_i32_1876 : BitVec 32 := 2#32
  let c0_i32_1879 : BitVec 32 := 0#32
  let v3829 : BitVec 1 := Scalar.cmpi .sgt c2_i32_1876 c0_i32_1879
  let v3830 : BitVec 32 := Scalar.extui v3829
  let c0_i32_1880 : BitVec 32 := 0#32
  let v3831 : BitVec 1 := Scalar.cmpi .slt c2_i32_1876 c0_i32_1880
  let v3832 : BitVec 32 := Scalar.extui v3831
  let v3833 : BitVec 32 := Scalar.subi v3830 v3832
  let v3834 : BitVec 1 := Scalar.cmpi .ne v3828 v3833
  let v3835 : BitVec 32 := Scalar.remsi v3746 c2_i32_1876
  let c0_i32_1881 : BitVec 32 := 0#32
  let v3836 : BitVec 1 := Scalar.cmpi .ne v3835 c0_i32_1881
  let v3837 : BitVec 1 := Scalar.andi v3834 v3836
  let v3823 : BitVec 32 := Scalar.divsi v3746 c2_i32_1876
  let c1_i32_1882 : BitVec 32 := 1#32
  let v3838 : BitVec 32 := Scalar.subi v3823 c1_i32_1882
  let v3839 : BitVec 32 := Scalar.select v3837 v3838 v3823
  v3839
def k0_mult147 : BitVec 32 :=
  let c2_i32_546 : BitVec 32 := 2#32
  let c0_i32_545 : BitVec 32 := 0#32
  let v1145 : BitVec 32 := Scalar.muli c2_i32_546 c0_i32_545
  let c3_i32_1711 : BitVec 32 := 3#32
  let v3474 : BitVec 32 := Scalar.addi v1145 c3_i32_1711
  let c4_i32_1838 : BitVec 32 := 4#32
  let v3743 : BitVec 32 := Scalar.muli v3474 c4_i32_1838
  let c2_i32_1839 : BitVec 32 := 2#32
  let v3744 : BitVec 32 := Scalar.addi v3743 c2_i32_1839
  let c0_i32_1842 : BitVec 32 := 0#32
  let v3748 : BitVec 1 := Scalar.cmpi .sgt v3744 c0_i32_1842
  let v3749 : BitVec 32 := Scalar.extui v3748
  let c0_i32_1843 : BitVec 32 := 0#32
  let v3750 : BitVec 1 := Scalar.cmpi .slt v3744 c0_i32_1843
  let v3751 : BitVec 32 := Scalar.extui v3750
  let v3752 : BitVec 32 := Scalar.subi v3749 v3751
  let c16_i32_1841 : BitVec 32 := 16#32
  let c0_i32_1844 : BitVec 32 := 0#32
  let v3753 : BitVec 1 := Scalar.cmpi .sgt c16_i32_1841 c0_i32_1844
  let v3754 : BitVec 32 := Scalar.extui v3753
  let c0_i32_1845 : BitVec 32 := 0#32
  let v3755 : BitVec 1 := Scalar.cmpi .slt c16_i32_1841 c0_i32_1845
  let v3756 : BitVec 32 := Scalar.extui v3755
  let v3757 : BitVec 32 := Scalar.subi v3754 v3756
  let v3758 : BitVec 1 := Scalar.cmpi .ne v3752 v3757
  let v3759 : BitVec 32 := Scalar.remsi v3744 c16_i32_1841
  let c0_i32_1846 : BitVec 32 := 0#32
  let v3760 : BitVec 1 := Scalar.cmpi .ne v3759 c0_i32_1846
  let v3761 : BitVec 1 := Scalar.andi v3758 v3760
  let v3747 : BitVec 32 := Scalar.divsi v3744 c16_i32_1841
  let c1_i32_1847 : BitVec 32 := 1#32
  let v3762 : BitVec 32 := Scalar.subi v3747 c1_i32_1847
  let v3763 : BitVec 32 := Scalar.select v3761 v3762 v3747
  let c2048_i32_1858 : BitVec 32 := 2048#32
  let v3778 : BitVec 32 := Scalar.muli v3763 c2048_i32_1858
  let c1792_i32_1857 : BitVec 32 := 1792#32
  let c0_i32_1856 : BitVec 32 := 0#32
  let c16_i32_1848 : BitVec 32 := 16#32
  let c0_i32_1849 : BitVec 32 := 0#32
  let v3764 : BitVec 1 := Scalar.cmpi .eq c16_i32_1848 c0_i32_1849
  let c1_i32_1850 : BitVec 32 := 1#32
  let v3765 : BitVec 32 := Scalar.select v3764 c1_i32_1850 c16_i32_1848
  let v3766 : BitVec 32 := Scalar.remsi v3744 v3765
  let c0_i32_1852 : BitVec 32 := 0#32
  let v3768 : BitVec 1 := Scalar.cmpi .slt v3766 c0_i32_1852
  let c0_i32_1853 : BitVec 32 := 0#32
  let v3769 : BitVec 1 := Scalar.cmpi .slt v3765 c0_i32_1853
  let v3770 : BitVec 1 := Scalar.xori v3768 v3769
  let c0_i32_1851 : BitVec 32 := 0#32
  let v3767 : BitVec 1 := Scalar.cmpi .ne v3766 c0_i32_1851
  let v3771 : BitVec 1 := Scalar.andi v3770 v3767
  let v3772 : BitVec 32 := Scalar.addi v3766 v3765
  let v3773 : BitVec 32 := Scalar.select v3771 v3772 v3766
  let c128_i32_1854 : BitVec 32 := 128#32
  let v3774 : BitVec 32 := Scalar.muli v3773 c128_i32_1854
  let c64_i32_1855 : BitVec 32 := 64#32
  let v3775 : BitVec 32 := Scalar.subi v3774 c64_i32_1855
  let v3776 : BitVec 32 := Scalar.maxsi c0_i32_1856 v3775
  let v3777 : BitVec 32 := Scalar.minsi c1792_i32_1857 v3776
  let v3779 : BitVec 32 := Scalar.addi v3778 v3777
  let v3780 : BitVec 32 := v3779
  let c0_i32_1885 : BitVec 32 := 0#32
  let v3846 : BitVec 1 := Scalar.cmpi .sgt v3780 c0_i32_1885
  let v3847 : BitVec 32 := Scalar.extui v3846
  let c0_i32_1886 : BitVec 32 := 0#32
  let v3848 : BitVec 1 := Scalar.cmpi .slt v3780 c0_i32_1886
  let v3849 : BitVec 32 := Scalar.extui v3848
  let v3850 : BitVec 32 := Scalar.subi v3847 v3849
  let c2_i32_1884 : BitVec 32 := 2#32
  let c0_i32_1887 : BitVec 32 := 0#32
  let v3851 : BitVec 1 := Scalar.cmpi .sgt c2_i32_1884 c0_i32_1887
  let v3852 : BitVec 32 := Scalar.extui v3851
  let c0_i32_1888 : BitVec 32 := 0#32
  let v3853 : BitVec 1 := Scalar.cmpi .slt c2_i32_1884 c0_i32_1888
  let v3854 : BitVec 32 := Scalar.extui v3853
  let v3855 : BitVec 32 := Scalar.subi v3852 v3854
  let v3856 : BitVec 1 := Scalar.cmpi .ne v3850 v3855
  let v3857 : BitVec 32 := Scalar.remsi v3780 c2_i32_1884
  let c0_i32_1889 : BitVec 32 := 0#32
  let v3858 : BitVec 1 := Scalar.cmpi .ne v3857 c0_i32_1889
  let v3859 : BitVec 1 := Scalar.andi v3856 v3858
  let v3845 : BitVec 32 := Scalar.divsi v3780 c2_i32_1884
  let c1_i32_1890 : BitVec 32 := 1#32
  let v3860 : BitVec 32 := Scalar.subi v3845 c1_i32_1890
  let v3861 : BitVec 32 := Scalar.select v3859 v3860 v3845
  v3861
def k0_mult148 : BitVec 32 :=
  let c2_i32_546 : BitVec 32 := 2#32
  let c0_i32_545 : BitVec 32 := 0#32
  let v1145 : BitVec 32 := Scalar.muli c2_i32_546 c0_i32_545
  let c3_i32_1711 : BitVec 32 := 3#32
  let v3474 : BitVec 32 := Scalar.addi v1145 c3_i32_1711
  let c4_i32_1901 : BitVec 32 := 4#32
  let v3877 : BitVec 32 := Scalar.muli v3474 c4_i32_1901
  let c3_i32_1902 : BitVec 32 := 3#32
  let v3878 : BitVec 32 := Scalar.addi v3877 c3_i32_1902
  let c128_i32_1903 : BitVec 32 := 128#32
  let v3879 : BitVec 32 := Scalar.muli v3878 c128_i32_1903
  v3879
def k0_mult149 : BitVec 32 :=
  let c2_i32_546 : BitVec 32 := 2#32
  let c0_i32_545 : BitVec 32 := 0#32
  let v1145 : BitVec 32 := Scalar.muli c2_i32_546 c0_i32_545
  let c3_i32_1711 : BitVec 32 := 3#32
  let v3474 : BitVec 32 := Scalar.addi v1145 c3_i32_1711
  let c4_i32_1901 : BitVec 32 := 4#32
  let v3877 : BitVec 32 := Scalar.muli v3474 c4_i32_1901
  let c3_i32_1902 : BitVec 32 := 3#32
  let v3878 : BitVec 32 := Scalar.addi v3877 c3_i32_1902
  let c0_i32_1905 : BitVec 32 := 0#32
  let v3882 : BitVec 1 := Scalar.cmpi .sgt v3878 c0_i32_1905
  let v3883 : BitVec 32 := Scalar.extui v3882
  let c0_i32_1906 : BitVec 32 := 0#32
  let v3884 : BitVec 1 := Scalar.cmpi .slt v3878 c0_i32_1906
  let v3885 : BitVec 32 := Scalar.extui v3884
  let v3886 : BitVec 32 := Scalar.subi v3883 v3885
  let c16_i32_1904 : BitVec 32 := 16#32
  let c0_i32_1907 : BitVec 32 := 0#32
  let v3887 : BitVec 1 := Scalar.cmpi .sgt c16_i32_1904 c0_i32_1907
  let v3888 : BitVec 32 := Scalar.extui v3887
  let c0_i32_1908 : BitVec 32 := 0#32
  let v3889 : BitVec 1 := Scalar.cmpi .slt c16_i32_1904 c0_i32_1908
  let v3890 : BitVec 32 := Scalar.extui v3889
  let v3891 : BitVec 32 := Scalar.subi v3888 v3890
  let v3892 : BitVec 1 := Scalar.cmpi .ne v3886 v3891
  let v3893 : BitVec 32 := Scalar.remsi v3878 c16_i32_1904
  let c0_i32_1909 : BitVec 32 := 0#32
  let v3894 : BitVec 1 := Scalar.cmpi .ne v3893 c0_i32_1909
  let v3895 : BitVec 1 := Scalar.andi v3892 v3894
  let v3881 : BitVec 32 := Scalar.divsi v3878 c16_i32_1904
  let c1_i32_1910 : BitVec 32 := 1#32
  let v3896 : BitVec 32 := Scalar.subi v3881 c1_i32_1910
  let v3897 : BitVec 32 := Scalar.select v3895 v3896 v3881
  let c2048_i32_1921 : BitVec 32 := 2048#32
  let v3912 : BitVec 32 := Scalar.muli v3897 c2048_i32_1921
  let c1792_i32_1920 : BitVec 32 := 1792#32
  let c0_i32_1919 : BitVec 32 := 0#32
  let c16_i32_1911 : BitVec 32 := 16#32
  let c0_i32_1912 : BitVec 32 := 0#32
  let v3898 : BitVec 1 := Scalar.cmpi .eq c16_i32_1911 c0_i32_1912
  let c1_i32_1913 : BitVec 32 := 1#32
  let v3899 : BitVec 32 := Scalar.select v3898 c1_i32_1913 c16_i32_1911
  let v3900 : BitVec 32 := Scalar.remsi v3878 v3899
  let c0_i32_1915 : BitVec 32 := 0#32
  let v3902 : BitVec 1 := Scalar.cmpi .slt v3900 c0_i32_1915
  let c0_i32_1916 : BitVec 32 := 0#32
  let v3903 : BitVec 1 := Scalar.cmpi .slt v3899 c0_i32_1916
  let v3904 : BitVec 1 := Scalar.xori v3902 v3903
  let c0_i32_1914 : BitVec 32 := 0#32
  let v3901 : BitVec 1 := Scalar.cmpi .ne v3900 c0_i32_1914
  let v3905 : BitVec 1 := Scalar.andi v3904 v3901
  let v3906 : BitVec 32 := Scalar.addi v3900 v3899
  let v3907 : BitVec 32 := Scalar.select v3905 v3906 v3900
  let c128_i32_1917 : BitVec 32 := 128#32
  let v3908 : BitVec 32 := Scalar.muli v3907 c128_i32_1917
  let c64_i32_1918 : BitVec 32 := 64#32
  let v3909 : BitVec 32 := Scalar.subi v3908 c64_i32_1918
  let v3910 : BitVec 32 := Scalar.maxsi c0_i32_1919 v3909
  let v3911 : BitVec 32 := Scalar.minsi c1792_i32_1920 v3910
  let v3913 : BitVec 32 := Scalar.addi v3912 v3911
  v3913
def k0_mult150 : BitVec 32 :=
  let c2_i32_546 : BitVec 32 := 2#32
  let c0_i32_545 : BitVec 32 := 0#32
  let v1145 : BitVec 32 := Scalar.muli c2_i32_546 c0_i32_545
  let c3_i32_1711 : BitVec 32 := 3#32
  let v3474 : BitVec 32 := Scalar.addi v1145 c3_i32_1711
  let c4_i32_1901 : BitVec 32 := 4#32
  let v3877 : BitVec 32 := Scalar.muli v3474 c4_i32_1901
  let c3_i32_1902 : BitVec 32 := 3#32
  let v3878 : BitVec 32 := Scalar.addi v3877 c3_i32_1902
  let c128_i32_1903 : BitVec 32 := 128#32
  let v3879 : BitVec 32 := Scalar.muli v3878 c128_i32_1903
  let v3880 : BitVec 32 := v3879
  let c0_i32_1932 : BitVec 32 := 0#32
  let v3937 : BitVec 1 := Scalar.cmpi .sgt v3880 c0_i32_1932
  let v3938 : BitVec 32 := Scalar.extui v3937
  let c0_i32_1933 : BitVec 32 := 0#32
  let v3939 : BitVec 1 := Scalar.cmpi .slt v3880 c0_i32_1933
  let v3940 : BitVec 32 := Scalar.extui v3939
  let v3941 : BitVec 32 := Scalar.subi v3938 v3940
  let c2_i32_1931 : BitVec 32 := 2#32
  let c0_i32_1934 : BitVec 32 := 0#32
  let v3942 : BitVec 1 := Scalar.cmpi .sgt c2_i32_1931 c0_i32_1934
  let v3943 : BitVec 32 := Scalar.extui v3942
  let c0_i32_1935 : BitVec 32 := 0#32
  let v3944 : BitVec 1 := Scalar.cmpi .slt c2_i32_1931 c0_i32_1935
  let v3945 : BitVec 32 := Scalar.extui v3944
  let v3946 : BitVec 32 := Scalar.subi v3943 v3945
  let v3947 : BitVec 1 := Scalar.cmpi .ne v3941 v3946
  let v3948 : BitVec 32 := Scalar.remsi v3880 c2_i32_1931
  let c0_i32_1936 : BitVec 32 := 0#32
  let v3949 : BitVec 1 := Scalar.cmpi .ne v3948 c0_i32_1936
  let v3950 : BitVec 1 := Scalar.andi v3947 v3949
  let v3936 : BitVec 32 := Scalar.divsi v3880 c2_i32_1931
  let c1_i32_1937 : BitVec 32 := 1#32
  let v3951 : BitVec 32 := Scalar.subi v3936 c1_i32_1937
  let v3952 : BitVec 32 := Scalar.select v3950 v3951 v3936
  v3952
def k0_mult151 : BitVec 32 :=
  let c2_i32_546 : BitVec 32 := 2#32
  let c0_i32_545 : BitVec 32 := 0#32
  let v1145 : BitVec 32 := Scalar.muli c2_i32_546 c0_i32_545
  let c3_i32_1711 : BitVec 32 := 3#32
  let v3474 : BitVec 32 := Scalar.addi v1145 c3_i32_1711
  let c4_i32_1901 : BitVec 32 := 4#32
  let v3877 : BitVec 32 := Scalar.muli v3474 c4_i32_1901
  let c3_i32_1902 : BitVec 32 := 3#32
  let v3878 : BitVec 32 := Scalar.addi v3877 c3_i32_1902
  let c128_i32_1903 : BitVec 32 := 128#32
  let v3879 : BitVec 32 := Scalar.muli v3878 c128_i32_1903
  let v3880 : BitVec 32 := v3879
  let c0_i32_1940 : BitVec 32 := 0#32
  let v3958 : BitVec 1 := Scalar.cmpi .sgt v3880 c0_i32_1940
  let v3959 : BitVec 32 := Scalar.extui v3958
  let c0_i32_1941 : BitVec 32 := 0#32
  let v3960 : BitVec 1 := Scalar.cmpi .slt v3880 c0_i32_1941
  let v3961 : BitVec 32 := Scalar.extui v3960
  let v3962 : BitVec 32 := Scalar.subi v3959 v3961
  let c2_i32_1939 : BitVec 32 := 2#32
  let c0_i32_1942 : BitVec 32 := 0#32
  let v3963 : BitVec 1 := Scalar.cmpi .sgt c2_i32_1939 c0_i32_1942
  let v3964 : BitVec 32 := Scalar.extui v3963
  let c0_i32_1943 : BitVec 32 := 0#32
  let v3965 : BitVec 1 := Scalar.cmpi .slt c2_i32_1939 c0_i32_1943
  let v3966 : BitVec 32 := Scalar.extui v3965
  let v3967 : BitVec 32 := Scalar.subi v3964 v3966
  let v3968 : BitVec 1 := Scalar.cmpi .ne v3962 v3967
  let v3969 : BitVec 32 := Scalar.remsi v3880 c2_i32_1939
  let c0_i32_1944 : BitVec 32 := 0#32
  let v3970 : BitVec 1 := Scalar.cmpi .ne v3969 c0_i32_1944
  let v3971 : BitVec 1 := Scalar.andi v3968 v3970
  let v3957 : BitVec 32 := Scalar.divsi v3880 c2_i32_1939
  let c1_i32_1945 : BitVec 32 := 1#32
  let v3972 : BitVec 32 := Scalar.subi v3957 c1_i32_1945
  let v3973 : BitVec 32 := Scalar.select v3971 v3972 v3957
  v3973
def k0_mult152 : BitVec 32 :=
  let c2_i32_546 : BitVec 32 := 2#32
  let c0_i32_545 : BitVec 32 := 0#32
  let v1145 : BitVec 32 := Scalar.muli c2_i32_546 c0_i32_545
  let c3_i32_1711 : BitVec 32 := 3#32
  let v3474 : BitVec 32 := Scalar.addi v1145 c3_i32_1711
  let c4_i32_1901 : BitVec 32 := 4#32
  let v3877 : BitVec 32 := Scalar.muli v3474 c4_i32_1901
  let c3_i32_1902 : BitVec 32 := 3#32
  let v3878 : BitVec 32 := Scalar.addi v3877 c3_i32_1902
  let c0_i32_1905 : BitVec 32 := 0#32
  let v3882 : BitVec 1 := Scalar.cmpi .sgt v3878 c0_i32_1905
  let v3883 : BitVec 32 := Scalar.extui v3882
  let c0_i32_1906 : BitVec 32 := 0#32
  let v3884 : BitVec 1 := Scalar.cmpi .slt v3878 c0_i32_1906
  let v3885 : BitVec 32 := Scalar.extui v3884
  let v3886 : BitVec 32 := Scalar.subi v3883 v3885
  let c16_i32_1904 : BitVec 32 := 16#32
  let c0_i32_1907 : BitVec 32 := 0#32
  let v3887 : BitVec 1 := Scalar.cmpi .sgt c16_i32_1904 c0_i32_1907
  let v3888 : BitVec 32 := Scalar.extui v3887
  let c0_i32_1908 : BitVec 32 := 0#32
  let v3889 : BitVec 1 := Scalar.cmpi .slt c16_i32_1904 c0_i32_1908
  let v3890 : BitVec 32 := Scalar.extui v3889
  let v3891 : BitVec 32 := Scalar.subi v3888 v3890
  let v3892 : BitVec 1 := Scalar.cmpi .ne v3886 v3891
  let v3893 : BitVec 32 := Scalar.remsi v3878 c16_i32_1904
  let c0_i32_1909 : BitVec 32 := 0#32
  let v3894 : BitVec 1 := Scalar.cmpi .ne v3893 c0_i32_1909
  let v3895 : BitVec 1 := Scalar.andi v3892 v3894
  let v3881 : BitVec 32 := Scalar.divsi v3878 c16_i32_1904
  let c1_i32_1910 : BitVec 32 := 1#32
  let v3896 : BitVec 32 := Scalar.subi v3881 c1_i32_1910
  let v3897 : BitVec 32 := Scalar.select v3895 v3896 v3881
  let c2048_i32_1921 : BitVec 32 := 2048#32
  let v3912 : BitVec 32 := Scalar.muli v3897 c2048_i32_1921
  let c1792_i32_1920 : BitVec 32 := 1792#32
  let c0_i32_1919 : BitVec 32 := 0#32
  let c16_i32_1911 : BitVec 32 := 16#32
  let c0_i32_1912 : BitVec 32 := 0#32
  let v3898 : BitVec 1 := Scalar.cmpi .eq c16_i32_1911 c0_i32_1912
  let c1_i32_1913 : BitVec 32 := 1#32
  let v3899 : BitVec 32 := Scalar.select v3898 c1_i32_1913 c16_i32_1911
  let v3900 : BitVec 32 := Scalar.remsi v3878 v3899
  let c0_i32_1915 : BitVec 32 := 0#32
  let v3902 : BitVec 1 := Scalar.cmpi .slt v3900 c0_i32_1915
  let c0_i32_1916 : BitVec 32 := 0#32
  let v3903 : BitVec 1 := Scalar.cmpi .slt v3899 c0_i32_1916
  let v3904 : BitVec 1 := Scalar.xori v3902 v3903
  let c0_i32_1914 : BitVec 32 := 0#32
  let v3901 : BitVec 1 := Scalar.cmpi .ne v3900 c0_i32_1914
  let v3905 : BitVec 1 := Scalar.andi v3904 v3901
  let v3906 : BitVec 32 := Scalar.addi v3900 v3899
  let v3907 : BitVec 32 := Scalar.select v3905 v3906 v3900
  let c128_i32_1917 : BitVec 32 := 128#32
  let v3908 : BitVec 32 := Scalar.muli v3907 c128_i32_1917
  let c64_i32_1918 : BitVec 32 := 64#32
  let v3909 : BitVec 32 := Scalar.subi v3908 c64_i32_1918
  let v3910 : BitVec 32 := Scalar.maxsi c0_i32_1919 v3909
  let v3911 : BitVec 32 := Scalar.minsi c1792_i32_1920 v3910
  let v3913 : BitVec 32 := Scalar.addi v3912 v3911
  let v3914 : BitVec 32 := v3913
  let c0_i32_1948 : BitVec 32 := 0#32
  let v3980 : BitVec 1 := Scalar.cmpi .sgt v3914 c0_i32_1948
  let v3981 : BitVec 32 := Scalar.extui v3980
  let c0_i32_1949 : BitVec 32 := 0#32
  let v3982 : BitVec 1 := Scalar.cmpi .slt v3914 c0_i32_1949
  let v3983 : BitVec 32 := Scalar.extui v3982
  let v3984 : BitVec 32 := Scalar.subi v3981 v3983
  let c2_i32_1947 : BitVec 32 := 2#32
  let c0_i32_1950 : BitVec 32 := 0#32
  let v3985 : BitVec 1 := Scalar.cmpi .sgt c2_i32_1947 c0_i32_1950
  let v3986 : BitVec 32 := Scalar.extui v3985
  let c0_i32_1951 : BitVec 32 := 0#32
  let v3987 : BitVec 1 := Scalar.cmpi .slt c2_i32_1947 c0_i32_1951
  let v3988 : BitVec 32 := Scalar.extui v3987
  let v3989 : BitVec 32 := Scalar.subi v3986 v3988
  let v3990 : BitVec 1 := Scalar.cmpi .ne v3984 v3989
  let v3991 : BitVec 32 := Scalar.remsi v3914 c2_i32_1947
  let c0_i32_1952 : BitVec 32 := 0#32
  let v3992 : BitVec 1 := Scalar.cmpi .ne v3991 c0_i32_1952
  let v3993 : BitVec 1 := Scalar.andi v3990 v3992
  let v3979 : BitVec 32 := Scalar.divsi v3914 c2_i32_1947
  let c1_i32_1953 : BitVec 32 := 1#32
  let v3994 : BitVec 32 := Scalar.subi v3979 c1_i32_1953
  let v3995 : BitVec 32 := Scalar.select v3993 v3994 v3979
  v3995
def k0_mult153 : BitVec 32 :=
  let c1024_i32 : BitVec 32 := 1024#32
  c1024_i32
def k0_mult154 : BitVec 32 :=
  let c0_i32_1967 : BitVec 32 := 0#32
  let c1792_i32_1966 : BitVec 32 := 1792#32
  let c0_i32_1965 : BitVec 32 := 0#32
  let c960_i32 : BitVec 32 := 960#32
  let v4012 : BitVec 32 := Scalar.maxsi c0_i32_1965 c960_i32
  let v4013 : BitVec 32 := Scalar.minsi c1792_i32_1966 v4012
  let v4014 : BitVec 32 := Scalar.addi c0_i32_1967 v4013
  v4014
def k0_mult155 : BitVec 32 :=
  let c0_i32_1967 : BitVec 32 := 0#32
  let c1792_i32_1966 : BitVec 32 := 1792#32
  let c0_i32_1965 : BitVec 32 := 0#32
  let c960_i32 : BitVec 32 := 960#32
  let v4012 : BitVec 32 := Scalar.maxsi c0_i32_1965 c960_i32
  let v4013 : BitVec 32 := Scalar.minsi c1792_i32_1966 v4012
  let v4014 : BitVec 32 := Scalar.addi c0_i32_1967 v4013
  let v4015 : BitVec 32 := v4014
  let c0_i32_1973 : BitVec 32 := 0#32
  let v4019 : BitVec 1 := Scalar.cmpi .sgt v4015 c0_i32_1973
  let v4020 : BitVec 32 := Scalar.extui v4019
  let c0_i32_1974 : BitVec 32 := 0#32
  let v4021 : BitVec 1 := Scalar.cmpi .slt v4015 c0_i32_1974
  let v4022 : BitVec 32 := Scalar.extui v4021
  let v4023 : BitVec 32 := Scalar.subi v4020 v4022
  let c2_i32_1972 : BitVec 32 := 2#32
  let c0_i32_1975 : BitVec 32 := 0#32
  let v4024 : BitVec 1 := Scalar.cmpi .sgt c2_i32_1972 c0_i32_1975
  let v4025 : BitVec 32 := Scalar.extui v4024
  let c0_i32_1976 : BitVec 32 := 0#32
  let v4026 : BitVec 1 := Scalar.cmpi .slt c2_i32_1972 c0_i32_1976
  let v4027 : BitVec 32 := Scalar.extui v4026
  let v4028 : BitVec 32 := Scalar.subi v4025 v4027
  let v4029 : BitVec 1 := Scalar.cmpi .ne v4023 v4028
  let v4030 : BitVec 32 := Scalar.remsi v4015 c2_i32_1972
  let c0_i32_1977 : BitVec 32 := 0#32
  let v4031 : BitVec 1 := Scalar.cmpi .ne v4030 c0_i32_1977
  let v4032 : BitVec 1 := Scalar.andi v4029 v4031
  let v4018 : BitVec 32 := Scalar.divsi v4015 c2_i32_1972
  let c1_i32_1978 : BitVec 32 := 1#32
  let v4033 : BitVec 32 := Scalar.subi v4018 c1_i32_1978
  let v4034 : BitVec 32 := Scalar.select v4032 v4033 v4018
  v4034
def k0_mult156 : BitVec 32 :=
  let c0_i32_1967 : BitVec 32 := 0#32
  let c1792_i32_1966 : BitVec 32 := 1792#32
  let c0_i32_1965 : BitVec 32 := 0#32
  let c960_i32 : BitVec 32 := 960#32
  let v4012 : BitVec 32 := Scalar.maxsi c0_i32_1965 c960_i32
  let v4013 : BitVec 32 := Scalar.minsi c1792_i32_1966 v4012
  let v4014 : BitVec 32 := Scalar.addi c0_i32_1967 v4013
  let v4015 : BitVec 32 := v4014
  let c0_i32_1986 : BitVec 32 := 0#32
  let v4043 : BitVec 1 := Scalar.cmpi .sgt v4015 c0_i32_1986
  let v4044 : BitVec 32 := Scalar.extui v4043
  let c0_i32_1987 : BitVec 32 := 0#32
  let v4045 : BitVec 1 := Scalar.cmpi .slt v4015 c0_i32_1987
  let v4046 : BitVec 32 := Scalar.extui v4045
  let v4047 : BitVec 32 := Scalar.subi v4044 v4046
  let c2_i32_1985 : BitVec 32 := 2#32
  let c0_i32_1988 : BitVec 32 := 0#32
  let v4048 : BitVec 1 := Scalar.cmpi .sgt c2_i32_1985 c0_i32_1988
  let v4049 : BitVec 32 := Scalar.extui v4048
  let c0_i32_1989 : BitVec 32 := 0#32
  let v4050 : BitVec 1 := Scalar.cmpi .slt c2_i32_1985 c0_i32_1989
  let v4051 : BitVec 32 := Scalar.extui v4050
  let v4052 : BitVec 32 := Scalar.subi v4049 v4051
  let v4053 : BitVec 1 := Scalar.cmpi .ne v4047 v4052
  let v4054 : BitVec 32 := Scalar.remsi v4015 c2_i32_1985
  let c0_i32_1990 : BitVec 32 := 0#32
  let v4055 : BitVec 1 := Scalar.cmpi .ne v4054 c0_i32_1990
  let v4056 : BitVec 1 := Scalar.andi v4053 v4055
  let v4042 : BitVec 32 := Scalar.divsi v4015 c2_i32_1985
  let c1_i32_1991 : BitVec 32 := 1#32
  let v4057 : BitVec 32 := Scalar.subi v4042 c1_i32_1991
  let v4058 : BitVec 32 := Scalar.select v4056 v4057 v4042
  v4058
def k0_mult157 : BitVec 32 :=
  let c1152_i32 : BitVec 32 := 1152#32
  c1152_i32
def k0_mult158 : BitVec 32 :=
  let c0_i32_2006 : BitVec 32 := 0#32
  let c1792_i32_2005 : BitVec 32 := 1792#32
  let c0_i32_2004 : BitVec 32 := 0#32
  let c1088_i32 : BitVec 32 := 1088#32
  let v4087 : BitVec 32 := Scalar.maxsi c0_i32_2004 c1088_i32
  let v4088 : BitVec 32 := Scalar.minsi c1792_i32_2005 v4087
  let v4089 : BitVec 32 := Scalar.addi c0_i32_2006 v4088
  v4089
def k0_mult159 : BitVec 32 :=
  let c0_i32_2006 : BitVec 32 := 0#32
  let c1792_i32_2005 : BitVec 32 := 1792#32
  let c0_i32_2004 : BitVec 32 := 0#32
  let c1088_i32 : BitVec 32 := 1088#32
  let v4087 : BitVec 32 := Scalar.maxsi c0_i32_2004 c1088_i32
  let v4088 : BitVec 32 := Scalar.minsi c1792_i32_2005 v4087
  let v4089 : BitVec 32 := Scalar.addi c0_i32_2006 v4088
  let v4090 : BitVec 32 := v4089
  let c0_i32_2012 : BitVec 32 := 0#32
  let v4094 : BitVec 1 := Scalar.cmpi .sgt v4090 c0_i32_2012
  let v4095 : BitVec 32 := Scalar.extui v4094
  let c0_i32_2013 : BitVec 32 := 0#32
  let v4096 : BitVec 1 := Scalar.cmpi .slt v4090 c0_i32_2013
  let v4097 : BitVec 32 := Scalar.extui v4096
  let v4098 : BitVec 32 := Scalar.subi v4095 v4097
  let c2_i32_2011 : BitVec 32 := 2#32
  let c0_i32_2014 : BitVec 32 := 0#32
  let v4099 : BitVec 1 := Scalar.cmpi .sgt c2_i32_2011 c0_i32_2014
  let v4100 : BitVec 32 := Scalar.extui v4099
  let c0_i32_2015 : BitVec 32 := 0#32
  let v4101 : BitVec 1 := Scalar.cmpi .slt c2_i32_2011 c0_i32_2015
  let v4102 : BitVec 32 := Scalar.extui v4101
  let v4103 : BitVec 32 := Scalar.subi v4100 v4102
  let v4104 : BitVec 1 := Scalar.cmpi .ne v4098 v4103
  let v4105 : BitVec 32 := Scalar.remsi v4090 c2_i32_2011
  let c0_i32_2016 : BitVec 32 := 0#32
  let v4106 : BitVec 1 := Scalar.cmpi .ne v4105 c0_i32_2016
  let v4107 : BitVec 1 := Scalar.andi v4104 v4106
  let v4093 : BitVec 32 := Scalar.divsi v4090 c2_i32_2011
  let c1_i32_2017 : BitVec 32 := 1#32
  let v4108 : BitVec 32 := Scalar.subi v4093 c1_i32_2017
  let v4109 : BitVec 32 := Scalar.select v4107 v4108 v4093
  v4109
def k0_mult160 : BitVec 32 :=
  let c0_i32_2006 : BitVec 32 := 0#32
  let c1792_i32_2005 : BitVec 32 := 1792#32
  let c0_i32_2004 : BitVec 32 := 0#32
  let c1088_i32 : BitVec 32 := 1088#32
  let v4087 : BitVec 32 := Scalar.maxsi c0_i32_2004 c1088_i32
  let v4088 : BitVec 32 := Scalar.minsi c1792_i32_2005 v4087
  let v4089 : BitVec 32 := Scalar.addi c0_i32_2006 v4088
  let v4090 : BitVec 32 := v4089
  let c0_i32_2025 : BitVec 32 := 0#32
  let v4118 : BitVec 1 := Scalar.cmpi .sgt v4090 c0_i32_2025
  let v4119 : BitVec 32 := Scalar.extui v4118
  let c0_i32_2026 : BitVec 32 := 0#32
  let v4120 : BitVec 1 := Scalar.cmpi .slt v4090 c0_i32_2026
  let v4121 : BitVec 32 := Scalar.extui v4120
  let v4122 : BitVec 32 := Scalar.subi v4119 v4121
  let c2_i32_2024 : BitVec 32 := 2#32
  let c0_i32_2027 : BitVec 32 := 0#32
  let v4123 : BitVec 1 := Scalar.cmpi .sgt c2_i32_2024 c0_i32_2027
  let v4124 : BitVec 32 := Scalar.extui v4123
  let c0_i32_2028 : BitVec 32 := 0#32
  let v4125 : BitVec 1 := Scalar.cmpi .slt c2_i32_2024 c0_i32_2028
  let v4126 : BitVec 32 := Scalar.extui v4125
  let v4127 : BitVec 32 := Scalar.subi v4124 v4126
  let v4128 : BitVec 1 := Scalar.cmpi .ne v4122 v4127
  let v4129 : BitVec 32 := Scalar.remsi v4090 c2_i32_2024
  let c0_i32_2029 : BitVec 32 := 0#32
  let v4130 : BitVec 1 := Scalar.cmpi .ne v4129 c0_i32_2029
  let v4131 : BitVec 1 := Scalar.andi v4128 v4130
  let v4117 : BitVec 32 := Scalar.divsi v4090 c2_i32_2024
  let c1_i32_2030 : BitVec 32 := 1#32
  let v4132 : BitVec 32 := Scalar.subi v4117 c1_i32_2030
  let v4133 : BitVec 32 := Scalar.select v4131 v4132 v4117
  v4133
def k0_mult161 : BitVec 32 :=
  let c1280_i32 : BitVec 32 := 1280#32
  c1280_i32
def k0_mult162 : BitVec 32 :=
  let c0_i32_2045 : BitVec 32 := 0#32
  let c1792_i32_2044 : BitVec 32 := 1792#32
  let c0_i32_2043 : BitVec 32 := 0#32
  let c1216_i32 : BitVec 32 := 1216#32
  let v4162 : BitVec 32 := Scalar.maxsi c0_i32_2043 c1216_i32
  let v4163 : BitVec 32 := Scalar.minsi c1792_i32_2044 v4162
  let v4164 : BitVec 32 := Scalar.addi c0_i32_2045 v4163
  v4164
def k0_mult163 : BitVec 32 :=
  let c0_i32_2045 : BitVec 32 := 0#32
  let c1792_i32_2044 : BitVec 32 := 1792#32
  let c0_i32_2043 : BitVec 32 := 0#32
  let c1216_i32 : BitVec 32 := 1216#32
  let v4162 : BitVec 32 := Scalar.maxsi c0_i32_2043 c1216_i32
  let v4163 : BitVec 32 := Scalar.minsi c1792_i32_2044 v4162
  let v4164 : BitVec 32 := Scalar.addi c0_i32_2045 v4163
  let v4165 : BitVec 32 := v4164
  let c0_i32_2051 : BitVec 32 := 0#32
  let v4169 : BitVec 1 := Scalar.cmpi .sgt v4165 c0_i32_2051
  let v4170 : BitVec 32 := Scalar.extui v4169
  let c0_i32_2052 : BitVec 32 := 0#32
  let v4171 : BitVec 1 := Scalar.cmpi .slt v4165 c0_i32_2052
  let v4172 : BitVec 32 := Scalar.extui v4171
  let v4173 : BitVec 32 := Scalar.subi v4170 v4172
  let c2_i32_2050 : BitVec 32 := 2#32
  let c0_i32_2053 : BitVec 32 := 0#32
  let v4174 : BitVec 1 := Scalar.cmpi .sgt c2_i32_2050 c0_i32_2053
  let v4175 : BitVec 32 := Scalar.extui v4174
  let c0_i32_2054 : BitVec 32 := 0#32
  let v4176 : BitVec 1 := Scalar.cmpi .slt c2_i32_2050 c0_i32_2054
  let v4177 : BitVec 32 := Scalar.extui v4176
  let v4178 : BitVec 32 := Scalar.subi v4175 v4177
  let v4179 : BitVec 1 := Scalar.cmpi .ne v4173 v4178
  let v4180 : BitVec 32 := Scalar.remsi v4165 c2_i32_2050
  let c0_i32_2055 : BitVec 32 := 0#32
  let v4181 : BitVec 1 := Scalar.cmpi .ne v4180 c0_i32_2055
  let v4182 : BitVec 1 := Scalar.andi v4179 v4181
  let v4168 : BitVec 32 := Scalar.divsi v4165 c2_i32_2050
  let c1_i32_2056 : BitVec 32 := 1#32
  let v4183 : BitVec 32 := Scalar.subi v4168 c1_i32_2056
  let v4184 : BitVec 32 := Scalar.select v4182 v4183 v4168
  v4184
def k0_mult164 : BitVec 32 :=
  let c0_i32_2045 : BitVec 32 := 0#32
  let c1792_i32_2044 : BitVec 32 := 1792#32
  let c0_i32_2043 : BitVec 32 := 0#32
  let c1216_i32 : BitVec 32 := 1216#32
  let v4162 : BitVec 32 := Scalar.maxsi c0_i32_2043 c1216_i32
  let v4163 : BitVec 32 := Scalar.minsi c1792_i32_2044 v4162
  let v4164 : BitVec 32 := Scalar.addi c0_i32_2045 v4163
  let v4165 : BitVec 32 := v4164
  let c0_i32_2064 : BitVec 32 := 0#32
  let v4193 : BitVec 1 := Scalar.cmpi .sgt v4165 c0_i32_2064
  let v4194 : BitVec 32 := Scalar.extui v4193
  let c0_i32_2065 : BitVec 32 := 0#32
  let v4195 : BitVec 1 := Scalar.cmpi .slt v4165 c0_i32_2065
  let v4196 : BitVec 32 := Scalar.extui v4195
  let v4197 : BitVec 32 := Scalar.subi v4194 v4196
  let c2_i32_2063 : BitVec 32 := 2#32
  let c0_i32_2066 : BitVec 32 := 0#32
  let v4198 : BitVec 1 := Scalar.cmpi .sgt c2_i32_2063 c0_i32_2066
  let v4199 : BitVec 32 := Scalar.extui v4198
  let c0_i32_2067 : BitVec 32 := 0#32
  let v4200 : BitVec 1 := Scalar.cmpi .slt c2_i32_2063 c0_i32_2067
  let v4201 : BitVec 32 := Scalar.extui v4200
  let v4202 : BitVec 32 := Scalar.subi v4199 v4201
  let v4203 : BitVec 1 := Scalar.cmpi .ne v4197 v4202
  let v4204 : BitVec 32 := Scalar.remsi v4165 c2_i32_2063
  let c0_i32_2068 : BitVec 32 := 0#32
  let v4205 : BitVec 1 := Scalar.cmpi .ne v4204 c0_i32_2068
  let v4206 : BitVec 1 := Scalar.andi v4203 v4205
  let v4192 : BitVec 32 := Scalar.divsi v4165 c2_i32_2063
  let c1_i32_2069 : BitVec 32 := 1#32
  let v4207 : BitVec 32 := Scalar.subi v4192 c1_i32_2069
  let v4208 : BitVec 32 := Scalar.select v4206 v4207 v4192
  v4208
def k0_mult165 : BitVec 32 :=
  let c1408_i32 : BitVec 32 := 1408#32
  c1408_i32
def k0_mult166 : BitVec 32 :=
  let c0_i32_2084 : BitVec 32 := 0#32
  let c1792_i32_2083 : BitVec 32 := 1792#32
  let c0_i32_2082 : BitVec 32 := 0#32
  let c1344_i32 : BitVec 32 := 1344#32
  let v4237 : BitVec 32 := Scalar.maxsi c0_i32_2082 c1344_i32
  let v4238 : BitVec 32 := Scalar.minsi c1792_i32_2083 v4237
  let v4239 : BitVec 32 := Scalar.addi c0_i32_2084 v4238
  v4239
def k0_mult167 : BitVec 32 :=
  let c0_i32_2084 : BitVec 32 := 0#32
  let c1792_i32_2083 : BitVec 32 := 1792#32
  let c0_i32_2082 : BitVec 32 := 0#32
  let c1344_i32 : BitVec 32 := 1344#32
  let v4237 : BitVec 32 := Scalar.maxsi c0_i32_2082 c1344_i32
  let v4238 : BitVec 32 := Scalar.minsi c1792_i32_2083 v4237
  let v4239 : BitVec 32 := Scalar.addi c0_i32_2084 v4238
  let v4240 : BitVec 32 := v4239
  let c0_i32_2090 : BitVec 32 := 0#32
  let v4244 : BitVec 1 := Scalar.cmpi .sgt v4240 c0_i32_2090
  let v4245 : BitVec 32 := Scalar.extui v4244
  let c0_i32_2091 : BitVec 32 := 0#32
  let v4246 : BitVec 1 := Scalar.cmpi .slt v4240 c0_i32_2091
  let v4247 : BitVec 32 := Scalar.extui v4246
  let v4248 : BitVec 32 := Scalar.subi v4245 v4247
  let c2_i32_2089 : BitVec 32 := 2#32
  let c0_i32_2092 : BitVec 32 := 0#32
  let v4249 : BitVec 1 := Scalar.cmpi .sgt c2_i32_2089 c0_i32_2092
  let v4250 : BitVec 32 := Scalar.extui v4249
  let c0_i32_2093 : BitVec 32 := 0#32
  let v4251 : BitVec 1 := Scalar.cmpi .slt c2_i32_2089 c0_i32_2093
  let v4252 : BitVec 32 := Scalar.extui v4251
  let v4253 : BitVec 32 := Scalar.subi v4250 v4252
  let v4254 : BitVec 1 := Scalar.cmpi .ne v4248 v4253
  let v4255 : BitVec 32 := Scalar.remsi v4240 c2_i32_2089
  let c0_i32_2094 : BitVec 32 := 0#32
  let v4256 : BitVec 1 := Scalar.cmpi .ne v4255 c0_i32_2094
  let v4257 : BitVec 1 := Scalar.andi v4254 v4256
  let v4243 : BitVec 32 := Scalar.divsi v4240 c2_i32_2089
  let c1_i32_2095 : BitVec 32 := 1#32
  let v4258 : BitVec 32 := Scalar.subi v4243 c1_i32_2095
  let v4259 : BitVec 32 := Scalar.select v4257 v4258 v4243
  v4259
def k0_mult168 : BitVec 32 :=
  let c0_i32_2084 : BitVec 32 := 0#32
  let c1792_i32_2083 : BitVec 32 := 1792#32
  let c0_i32_2082 : BitVec 32 := 0#32
  let c1344_i32 : BitVec 32 := 1344#32
  let v4237 : BitVec 32 := Scalar.maxsi c0_i32_2082 c1344_i32
  let v4238 : BitVec 32 := Scalar.minsi c1792_i32_2083 v4237
  let v4239 : BitVec 32 := Scalar.addi c0_i32_2084 v4238
  let v4240 : BitVec 32 := v4239
  let c0_i32_2103 : BitVec 32 := 0#32
  let v4268 : BitVec 1 := Scalar.cmpi .sgt v4240 c0_i32_2103
  let v4269 : BitVec 32 := Scalar.extui v4268
  let c0_i32_2104 : BitVec 32 := 0#32
  let v4270 : BitVec 1 := Scalar.cmpi .slt v4240 c0_i32_2104
  let v4271 : BitVec 32 := Scalar.extui v4270
  let v4272 : BitVec 32 := Scalar.subi v4269 v4271
  let c2_i32_2102 : BitVec 32 := 2#32
  let c0_i32_2105 : BitVec 32 := 0#32
  let v4273 : BitVec 1 := Scalar.cmpi .sgt c2_i32_2102 c0_i32_2105
  let v4274 : BitVec 32 := Scalar.extui v4273
  let c0_i32_2106 : BitVec 32 := 0#32
  let v4275 : BitVec 1 := Scalar.cmpi .slt c2_i32_2102 c0_i32_2106
  let v4276 : BitVec 32 := Scalar.extui v4275
  let v4277 : BitVec 32 := Scalar.subi v4274 v4276
  let v4278 : BitVec 1 := Scalar.cmpi .ne v4272 v4277
  let v4279 : BitVec 32 := Scalar.remsi v4240 c2_i32_2102
  let c0_i32_2107 : BitVec 32 := 0#32
  let v4280 : BitVec 1 := Scalar.cmpi .ne v4279 c0_i32_2107
  let v4281 : BitVec 1 := Scalar.andi v4278 v4280
  let v4267 : BitVec 32 := Scalar.divsi v4240 c2_i32_2102
  let c1_i32_2108 : BitVec 32 := 1#32
  let v4282 : BitVec 32 := Scalar.subi v4267 c1_i32_2108
  let v4283 : BitVec 32 := Scalar.select v4281 v4282 v4267
  v4283
def k0_mult169 : BitVec 32 :=
  let c512_i32_2211 : BitVec 32 := 512#32
  c512_i32_2211
def k0_mult170 : BitVec 32 :=
  let c768_i32_2214 : BitVec 32 := 768#32
  c768_i32_2214
def k0_mult171 : BitVec 32 :=
  let c512_i32_2219 : BitVec 32 := 512#32
  c512_i32_2219
def k0_mult172 : BitVec 32 :=
  let c768_i32_2222 : BitVec 32 := 768#32
  c768_i32_2222
def k0_mult173 : BitVec 32 :=
  let c512_i32_2227 : BitVec 32 := 512#32
  c512_i32_2227
def k0_mult174 : BitVec 32 :=
  let c768_i32_2230 : BitVec 32 := 768#32
  c768_i32_2230
def k0_mult175 : BitVec 32 :=
  let c512_i32_2235 : BitVec 32 := 512#32
  c512_i32_2235
def k0_mult176 : BitVec 32 :=
  let c768_i32_2238 : BitVec 32 := 768#32
  c768_i32_2238
def k0_mult177 : BitVec 32 :=
  let c512_i32_2243 : BitVec 32 := 512#32
  c512_i32_2243
def k0_mult178 : BitVec 32 :=
  let c768_i32_2246 : BitVec 32 := 768#32
  c768_i32_2246
def k0_mult179 : BitVec 32 :=
  let c576_i32_2250 : BitVec 32 := 576#32
  c576_i32_2250
def k0_mult180 : BitVec 32 :=
  let c832_i32_2253 : BitVec 32 := 832#32
  c832_i32_2253
def k0_mult181 : BitVec 32 :=
  let c576_i32_2258 : BitVec 32 := 576#32
  c576_i32_2258
def k0_mult182 : BitVec 32 :=
  let c832_i32_2261 : BitVec 32 := 832#32
  c832_i32_2261
def k0_mult183 : BitVec 32 :=
  let c576_i32_2266 : BitVec 32 := 576#32
  c576_i32_2266
def k0_mult184 : BitVec 32 :=
  let c832_i32_2269 : BitVec 32 := 832#32
  c832_i32_2269
def k0_mult185 : BitVec 32 :=
  let c576_i32_2274 : BitVec 32 := 576#32
  c576_i32_2274
def k0_mult186 : BitVec 32 :=
  let c832_i32_2277 : BitVec 32 := 832#32
  c832_i32_2277
def k0_mult187 : BitVec 32 :=
  let c576_i32_2282 : BitVec 32 := 576#32
  c576_i32_2282
def k0_mult188 : BitVec 32 :=
  let c832_i32_2285 : BitVec 32 := 832#32
  c832_i32_2285
def k0_mult189 : BitVec 32 :=
  let c640_i32_2289 : BitVec 32 := 640#32
  c640_i32_2289
def k0_mult190 : BitVec 32 :=
  let c896_i32_2292 : BitVec 32 := 896#32
  c896_i32_2292
def k0_mult191 : BitVec 32 :=
  let c640_i32_2297 : BitVec 32 := 640#32
  c640_i32_2297
def k0_mult192 : BitVec 32 :=
  let c896_i32_2300 : BitVec 32 := 896#32
  c896_i32_2300
def k0_mult193 : BitVec 32 :=
  let c640_i32_2305 : BitVec 32 := 640#32
  c640_i32_2305
def k0_mult194 : BitVec 32 :=
  let c896_i32_2308 : BitVec 32 := 896#32
  c896_i32_2308
def k0_mult195 : BitVec 32 :=
  let c640_i32_2313 : BitVec 32 := 640#32
  c640_i32_2313
def k0_mult196 : BitVec 32 :=
  let c896_i32_2316 : BitVec 32 := 896#32
  c896_i32_2316
def k0_mult197 : BitVec 32 :=
  let c640_i32_2321 : BitVec 32 := 640#32
  c640_i32_2321
def k0_mult198 : BitVec 32 :=
  let c896_i32_2324 : BitVec 32 := 896#32
  c896_i32_2324
def k0_mult199 : BitVec 32 :=
  let c704_i32_2328 : BitVec 32 := 704#32
  c704_i32_2328
def k0_mult200 : BitVec 32 :=
  let c960_i32_2331 : BitVec 32 := 960#32
  c960_i32_2331
def k0_mult201 : BitVec 32 :=
  let c704_i32_2336 : BitVec 32 := 704#32
  c704_i32_2336
def k0_mult202 : BitVec 32 :=
  let c960_i32_2339 : BitVec 32 := 960#32
  c960_i32_2339
def k0_mult203 : BitVec 32 :=
  let c704_i32_2344 : BitVec 32 := 704#32
  c704_i32_2344
def k0_mult204 : BitVec 32 :=
  let c960_i32_2347 : BitVec 32 := 960#32
  c960_i32_2347
def k0_mult205 : BitVec 32 :=
  let c704_i32_2352 : BitVec 32 := 704#32
  c704_i32_2352
def k0_mult206 : BitVec 32 :=
  let c960_i32_2355 : BitVec 32 := 960#32
  c960_i32_2355
def k0_mult207 : BitVec 32 :=
  let c704_i32_2360 : BitVec 32 := 704#32
  c704_i32_2360
def k0_mult208 : BitVec 32 :=
  let c960_i32_2363 : BitVec 32 := 960#32
  c960_i32_2363
def k0_mult209 : BitVec 32 :=
  let c1536_i32 : BitVec 32 := 1536#32
  c1536_i32
def k0_mult210 : BitVec 32 :=
  let c0_i32_2368 : BitVec 32 := 0#32
  let c1792_i32_2367 : BitVec 32 := 1792#32
  let c0_i32_2366 : BitVec 32 := 0#32
  let c1472_i32 : BitVec 32 := 1472#32
  let v4780 : BitVec 32 := Scalar.maxsi c0_i32_2366 c1472_i32
  let v4781 : BitVec 32 := Scalar.minsi c1792_i32_2367 v4780
  let v4782 : BitVec 32 := Scalar.addi c0_i32_2368 v4781
  v4782
def k0_mult211 : BitVec 32 :=
  let c0_i32_2368 : BitVec 32 := 0#32
  let c1792_i32_2367 : BitVec 32 := 1792#32
  let c0_i32_2366 : BitVec 32 := 0#32
  let c1472_i32 : BitVec 32 := 1472#32
  let v4780 : BitVec 32 := Scalar.maxsi c0_i32_2366 c1472_i32
  let v4781 : BitVec 32 := Scalar.minsi c1792_i32_2367 v4780
  let v4782 : BitVec 32 := Scalar.addi c0_i32_2368 v4781
  let v4783 : BitVec 32 := v4782
  let c0_i32_2374 : BitVec 32 := 0#32
  let v4787 : BitVec 1 := Scalar.cmpi .sgt v4783 c0_i32_2374
  let v4788 : BitVec 32 := Scalar.extui v4787
  let c0_i32_2375 : BitVec 32 := 0#32
  let v4789 : BitVec 1 := Scalar.cmpi .slt v4783 c0_i32_2375
  let v4790 : BitVec 32 := Scalar.extui v4789
  let v4791 : BitVec 32 := Scalar.subi v4788 v4790
  let c2_i32_2373 : BitVec 32 := 2#32
  let c0_i32_2376 : BitVec 32 := 0#32
  let v4792 : BitVec 1 := Scalar.cmpi .sgt c2_i32_2373 c0_i32_2376
  let v4793 : BitVec 32 := Scalar.extui v4792
  let c0_i32_2377 : BitVec 32 := 0#32
  let v4794 : BitVec 1 := Scalar.cmpi .slt c2_i32_2373 c0_i32_2377
  let v4795 : BitVec 32 := Scalar.extui v4794
  let v4796 : BitVec 32 := Scalar.subi v4793 v4795
  let v4797 : BitVec 1 := Scalar.cmpi .ne v4791 v4796
  let v4798 : BitVec 32 := Scalar.remsi v4783 c2_i32_2373
  let c0_i32_2378 : BitVec 32 := 0#32
  let v4799 : BitVec 1 := Scalar.cmpi .ne v4798 c0_i32_2378
  let v4800 : BitVec 1 := Scalar.andi v4797 v4799
  let v4786 : BitVec 32 := Scalar.divsi v4783 c2_i32_2373
  let c1_i32_2379 : BitVec 32 := 1#32
  let v4801 : BitVec 32 := Scalar.subi v4786 c1_i32_2379
  let v4802 : BitVec 32 := Scalar.select v4800 v4801 v4786
  v4802
def k0_mult212 : BitVec 32 :=
  let c0_i32_2368 : BitVec 32 := 0#32
  let c1792_i32_2367 : BitVec 32 := 1792#32
  let c0_i32_2366 : BitVec 32 := 0#32
  let c1472_i32 : BitVec 32 := 1472#32
  let v4780 : BitVec 32 := Scalar.maxsi c0_i32_2366 c1472_i32
  let v4781 : BitVec 32 := Scalar.minsi c1792_i32_2367 v4780
  let v4782 : BitVec 32 := Scalar.addi c0_i32_2368 v4781
  let v4783 : BitVec 32 := v4782
  let c0_i32_2387 : BitVec 32 := 0#32
  let v4811 : BitVec 1 := Scalar.cmpi .sgt v4783 c0_i32_2387
  let v4812 : BitVec 32 := Scalar.extui v4811
  let c0_i32_2388 : BitVec 32 := 0#32
  let v4813 : BitVec 1 := Scalar.cmpi .slt v4783 c0_i32_2388
  let v4814 : BitVec 32 := Scalar.extui v4813
  let v4815 : BitVec 32 := Scalar.subi v4812 v4814
  let c2_i32_2386 : BitVec 32 := 2#32
  let c0_i32_2389 : BitVec 32 := 0#32
  let v4816 : BitVec 1 := Scalar.cmpi .sgt c2_i32_2386 c0_i32_2389
  let v4817 : BitVec 32 := Scalar.extui v4816
  let c0_i32_2390 : BitVec 32 := 0#32
  let v4818 : BitVec 1 := Scalar.cmpi .slt c2_i32_2386 c0_i32_2390
  let v4819 : BitVec 32 := Scalar.extui v4818
  let v4820 : BitVec 32 := Scalar.subi v4817 v4819
  let v4821 : BitVec 1 := Scalar.cmpi .ne v4815 v4820
  let v4822 : BitVec 32 := Scalar.remsi v4783 c2_i32_2386
  let c0_i32_2391 : BitVec 32 := 0#32
  let v4823 : BitVec 1 := Scalar.cmpi .ne v4822 c0_i32_2391
  let v4824 : BitVec 1 := Scalar.andi v4821 v4823
  let v4810 : BitVec 32 := Scalar.divsi v4783 c2_i32_2386
  let c1_i32_2392 : BitVec 32 := 1#32
  let v4825 : BitVec 32 := Scalar.subi v4810 c1_i32_2392
  let v4826 : BitVec 32 := Scalar.select v4824 v4825 v4810
  v4826
def k0_mult213 : BitVec 32 :=
  let c1664_i32 : BitVec 32 := 1664#32
  c1664_i32
def k0_mult214 : BitVec 32 :=
  let c0_i32_2407 : BitVec 32 := 0#32
  let c1792_i32_2406 : BitVec 32 := 1792#32
  let c0_i32_2405 : BitVec 32 := 0#32
  let c1600_i32 : BitVec 32 := 1600#32
  let v4855 : BitVec 32 := Scalar.maxsi c0_i32_2405 c1600_i32
  let v4856 : BitVec 32 := Scalar.minsi c1792_i32_2406 v4855
  let v4857 : BitVec 32 := Scalar.addi c0_i32_2407 v4856
  v4857
def k0_mult215 : BitVec 32 :=
  let c0_i32_2407 : BitVec 32 := 0#32
  let c1792_i32_2406 : BitVec 32 := 1792#32
  let c0_i32_2405 : BitVec 32 := 0#32
  let c1600_i32 : BitVec 32 := 1600#32
  let v4855 : BitVec 32 := Scalar.maxsi c0_i32_2405 c1600_i32
  let v4856 : BitVec 32 := Scalar.minsi c1792_i32_2406 v4855
  let v4857 : BitVec 32 := Scalar.addi c0_i32_2407 v4856
  let v4858 : BitVec 32 := v4857
  let c0_i32_2413 : BitVec 32 := 0#32
  let v4862 : BitVec 1 := Scalar.cmpi .sgt v4858 c0_i32_2413
  let v4863 : BitVec 32 := Scalar.extui v4862
  let c0_i32_2414 : BitVec 32 := 0#32
  let v4864 : BitVec 1 := Scalar.cmpi .slt v4858 c0_i32_2414
  let v4865 : BitVec 32 := Scalar.extui v4864
  let v4866 : BitVec 32 := Scalar.subi v4863 v4865
  let c2_i32_2412 : BitVec 32 := 2#32
  let c0_i32_2415 : BitVec 32 := 0#32
  let v4867 : BitVec 1 := Scalar.cmpi .sgt c2_i32_2412 c0_i32_2415
  let v4868 : BitVec 32 := Scalar.extui v4867
  let c0_i32_2416 : BitVec 32 := 0#32
  let v4869 : BitVec 1 := Scalar.cmpi .slt c2_i32_2412 c0_i32_2416
  let v4870 : BitVec 32 := Scalar.extui v4869
  let v4871 : BitVec 32 := Scalar.subi v4868 v4870
  let v4872 : BitVec 1 := Scalar.cmpi .ne v4866 v4871
  let v4873 : BitVec 32 := Scalar.remsi v4858 c2_i32_2412
  let c0_i32_2417 : BitVec 32 := 0#32
  let v4874 : BitVec 1 := Scalar.cmpi .ne v4873 c0_i32_2417
  let v4875 : BitVec 1 := Scalar.andi v4872 v4874
  let v4861 : BitVec 32 := Scalar.divsi v4858 c2_i32_2412
  let c1_i32_2418 : BitVec 32 := 1#32
  let v4876 : BitVec 32 := Scalar.subi v4861 c1_i32_2418
  let v4877 : BitVec 32 := Scalar.select v4875 v4876 v4861
  v4877
def k0_mult216 : BitVec 32 :=
  let c0_i32_2407 : BitVec 32 := 0#32
  let c1792_i32_2406 : BitVec 32 := 1792#32
  let c0_i32_2405 : BitVec 32 := 0#32
  let c1600_i32 : BitVec 32 := 1600#32
  let v4855 : BitVec 32 := Scalar.maxsi c0_i32_2405 c1600_i32
  let v4856 : BitVec 32 := Scalar.minsi c1792_i32_2406 v4855
  let v4857 : BitVec 32 := Scalar.addi c0_i32_2407 v4856
  let v4858 : BitVec 32 := v4857
  let c0_i32_2426 : BitVec 32 := 0#32
  let v4886 : BitVec 1 := Scalar.cmpi .sgt v4858 c0_i32_2426
  let v4887 : BitVec 32 := Scalar.extui v4886
  let c0_i32_2427 : BitVec 32 := 0#32
  let v4888 : BitVec 1 := Scalar.cmpi .slt v4858 c0_i32_2427
  let v4889 : BitVec 32 := Scalar.extui v4888
  let v4890 : BitVec 32 := Scalar.subi v4887 v4889
  let c2_i32_2425 : BitVec 32 := 2#32
  let c0_i32_2428 : BitVec 32 := 0#32
  let v4891 : BitVec 1 := Scalar.cmpi .sgt c2_i32_2425 c0_i32_2428
  let v4892 : BitVec 32 := Scalar.extui v4891
  let c0_i32_2429 : BitVec 32 := 0#32
  let v4893 : BitVec 1 := Scalar.cmpi .slt c2_i32_2425 c0_i32_2429
  let v4894 : BitVec 32 := Scalar.extui v4893
  let v4895 : BitVec 32 := Scalar.subi v4892 v4894
  let v4896 : BitVec 1 := Scalar.cmpi .ne v4890 v4895
  let v4897 : BitVec 32 := Scalar.remsi v4858 c2_i32_2425
  let c0_i32_2430 : BitVec 32 := 0#32
  let v4898 : BitVec 1 := Scalar.cmpi .ne v4897 c0_i32_2430
  let v4899 : BitVec 1 := Scalar.andi v4896 v4898
  let v4885 : BitVec 32 := Scalar.divsi v4858 c2_i32_2425
  let c1_i32_2431 : BitVec 32 := 1#32
  let v4900 : BitVec 32 := Scalar.subi v4885 c1_i32_2431
  let v4901 : BitVec 32 := Scalar.select v4899 v4900 v4885
  v4901
def k0_mult217 : BitVec 32 :=
  let c1792_i32_2444 : BitVec 32 := 1792#32
  c1792_i32_2444
def k0_mult218 : BitVec 32 :=
  let c0_i32_2447 : BitVec 32 := 0#32
  let c1792_i32_2446 : BitVec 32 := 1792#32
  let c0_i32_2445 : BitVec 32 := 0#32
  let c1728_i32 : BitVec 32 := 1728#32
  let v4930 : BitVec 32 := Scalar.maxsi c0_i32_2445 c1728_i32
  let v4931 : BitVec 32 := Scalar.minsi c1792_i32_2446 v4930
  let v4932 : BitVec 32 := Scalar.addi c0_i32_2447 v4931
  v4932
def k0_mult219 : BitVec 32 :=
  let c0_i32_2447 : BitVec 32 := 0#32
  let c1792_i32_2446 : BitVec 32 := 1792#32
  let c0_i32_2445 : BitVec 32 := 0#32
  let c1728_i32 : BitVec 32 := 1728#32
  let v4930 : BitVec 32 := Scalar.maxsi c0_i32_2445 c1728_i32
  let v4931 : BitVec 32 := Scalar.minsi c1792_i32_2446 v4930
  let v4932 : BitVec 32 := Scalar.addi c0_i32_2447 v4931
  let v4933 : BitVec 32 := v4932
  let c0_i32_2453 : BitVec 32 := 0#32
  let v4937 : BitVec 1 := Scalar.cmpi .sgt v4933 c0_i32_2453
  let v4938 : BitVec 32 := Scalar.extui v4937
  let c0_i32_2454 : BitVec 32 := 0#32
  let v4939 : BitVec 1 := Scalar.cmpi .slt v4933 c0_i32_2454
  let v4940 : BitVec 32 := Scalar.extui v4939
  let v4941 : BitVec 32 := Scalar.subi v4938 v4940
  let c2_i32_2452 : BitVec 32 := 2#32
  let c0_i32_2455 : BitVec 32 := 0#32
  let v4942 : BitVec 1 := Scalar.cmpi .sgt c2_i32_2452 c0_i32_2455
  let v4943 : BitVec 32 := Scalar.extui v4942
  let c0_i32_2456 : BitVec 32 := 0#32
  let v4944 : BitVec 1 := Scalar.cmpi .slt c2_i32_2452 c0_i32_2456
  let v4945 : BitVec 32 := Scalar.extui v4944
  let v4946 : BitVec 32 := Scalar.subi v4943 v4945
  let v4947 : BitVec 1 := Scalar.cmpi .ne v4941 v4946
  let v4948 : BitVec 32 := Scalar.remsi v4933 c2_i32_2452
  let c0_i32_2457 : BitVec 32 := 0#32
  let v4949 : BitVec 1 := Scalar.cmpi .ne v4948 c0_i32_2457
  let v4950 : BitVec 1 := Scalar.andi v4947 v4949
  let v4936 : BitVec 32 := Scalar.divsi v4933 c2_i32_2452
  let c1_i32_2458 : BitVec 32 := 1#32
  let v4951 : BitVec 32 := Scalar.subi v4936 c1_i32_2458
  let v4952 : BitVec 32 := Scalar.select v4950 v4951 v4936
  v4952
def k0_mult220 : BitVec 32 :=
  let c0_i32_2447 : BitVec 32 := 0#32
  let c1792_i32_2446 : BitVec 32 := 1792#32
  let c0_i32_2445 : BitVec 32 := 0#32
  let c1728_i32 : BitVec 32 := 1728#32
  let v4930 : BitVec 32 := Scalar.maxsi c0_i32_2445 c1728_i32
  let v4931 : BitVec 32 := Scalar.minsi c1792_i32_2446 v4930
  let v4932 : BitVec 32 := Scalar.addi c0_i32_2447 v4931
  let v4933 : BitVec 32 := v4932
  let c0_i32_2466 : BitVec 32 := 0#32
  let v4961 : BitVec 1 := Scalar.cmpi .sgt v4933 c0_i32_2466
  let v4962 : BitVec 32 := Scalar.extui v4961
  let c0_i32_2467 : BitVec 32 := 0#32
  let v4963 : BitVec 1 := Scalar.cmpi .slt v4933 c0_i32_2467
  let v4964 : BitVec 32 := Scalar.extui v4963
  let v4965 : BitVec 32 := Scalar.subi v4962 v4964
  let c2_i32_2465 : BitVec 32 := 2#32
  let c0_i32_2468 : BitVec 32 := 0#32
  let v4966 : BitVec 1 := Scalar.cmpi .sgt c2_i32_2465 c0_i32_2468
  let v4967 : BitVec 32 := Scalar.extui v4966
  let c0_i32_2469 : BitVec 32 := 0#32
  let v4968 : BitVec 1 := Scalar.cmpi .slt c2_i32_2465 c0_i32_2469
  let v4969 : BitVec 32 := Scalar.extui v4968
  let v4970 : BitVec 32 := Scalar.subi v4967 v4969
  let v4971 : BitVec 1 := Scalar.cmpi .ne v4965 v4970
  let v4972 : BitVec 32 := Scalar.remsi v4933 c2_i32_2465
  let c0_i32_2470 : BitVec 32 := 0#32
  let v4973 : BitVec 1 := Scalar.cmpi .ne v4972 c0_i32_2470
  let v4974 : BitVec 1 := Scalar.andi v4971 v4973
  let v4960 : BitVec 32 := Scalar.divsi v4933 c2_i32_2465
  let c1_i32_2471 : BitVec 32 := 1#32
  let v4975 : BitVec 32 := Scalar.subi v4960 c1_i32_2471
  let v4976 : BitVec 32 := Scalar.select v4974 v4975 v4960
  v4976
def k0_mult221 : BitVec 32 :=
  let c1920_i32 : BitVec 32 := 1920#32
  c1920_i32
def k0_mult222 : BitVec 32 :=
  let c0_i32_2486 : BitVec 32 := 0#32
  let c1792_i32_2485 : BitVec 32 := 1792#32
  let c0_i32_2484 : BitVec 32 := 0#32
  let c1856_i32 : BitVec 32 := 1856#32
  let v5005 : BitVec 32 := Scalar.maxsi c0_i32_2484 c1856_i32
  let v5006 : BitVec 32 := Scalar.minsi c1792_i32_2485 v5005
  let v5007 : BitVec 32 := Scalar.addi c0_i32_2486 v5006
  v5007
def k0_mult223 : BitVec 32 :=
  let c0_i32_2486 : BitVec 32 := 0#32
  let c1792_i32_2485 : BitVec 32 := 1792#32
  let c0_i32_2484 : BitVec 32 := 0#32
  let c1856_i32 : BitVec 32 := 1856#32
  let v5005 : BitVec 32 := Scalar.maxsi c0_i32_2484 c1856_i32
  let v5006 : BitVec 32 := Scalar.minsi c1792_i32_2485 v5005
  let v5007 : BitVec 32 := Scalar.addi c0_i32_2486 v5006
  let v5008 : BitVec 32 := v5007
  let c0_i32_2492 : BitVec 32 := 0#32
  let v5012 : BitVec 1 := Scalar.cmpi .sgt v5008 c0_i32_2492
  let v5013 : BitVec 32 := Scalar.extui v5012
  let c0_i32_2493 : BitVec 32 := 0#32
  let v5014 : BitVec 1 := Scalar.cmpi .slt v5008 c0_i32_2493
  let v5015 : BitVec 32 := Scalar.extui v5014
  let v5016 : BitVec 32 := Scalar.subi v5013 v5015
  let c2_i32_2491 : BitVec 32 := 2#32
  let c0_i32_2494 : BitVec 32 := 0#32
  let v5017 : BitVec 1 := Scalar.cmpi .sgt c2_i32_2491 c0_i32_2494
  let v5018 : BitVec 32 := Scalar.extui v5017
  let c0_i32_2495 : BitVec 32 := 0#32
  let v5019 : BitVec 1 := Scalar.cmpi .slt c2_i32_2491 c0_i32_2495
  let v5020 : BitVec 32 := Scalar.extui v5019
  let v5021 : BitVec 32 := Scalar.subi v5018 v5020
  let v5022 : BitVec 1 := Scalar.cmpi .ne v5016 v5021
  let v5023 : BitVec 32 := Scalar.remsi v5008 c2_i32_2491
  let c0_i32_2496 : BitVec 32 := 0#32
  let v5024 : BitVec 1 := Scalar.cmpi .ne v5023 c0_i32_2496
  let v5025 : BitVec 1 := Scalar.andi v5022 v5024
  let v5011 : BitVec 32 := Scalar.divsi v5008 c2_i32_2491
  let c1_i32_2497 : BitVec 32 := 1#32
  let v5026 : BitVec 32 := Scalar.subi v5011 c1_i32_2497
  let v5027 : BitVec 32 := Scalar.select v5025 v5026 v5011
  v5027
def k0_mult224 : BitVec 32 :=
  let c0_i32_2486 : BitVec 32 := 0#32
  let c1792_i32_2485 : BitVec 32 := 1792#32
  let c0_i32_2484 : BitVec 32 := 0#32
  let c1856_i32 : BitVec 32 := 1856#32
  let v5005 : BitVec 32 := Scalar.maxsi c0_i32_2484 c1856_i32
  let v5006 : BitVec 32 := Scalar.minsi c1792_i32_2485 v5005
  let v5007 : BitVec 32 := Scalar.addi c0_i32_2486 v5006
  let v5008 : BitVec 32 := v5007
  let c0_i32_2505 : BitVec 32 := 0#32
  let v5036 : BitVec 1 := Scalar.cmpi .sgt v5008 c0_i32_2505
  let v5037 : BitVec 32 := Scalar.extui v5036
  let c0_i32_2506 : BitVec 32 := 0#32
  let v5038 : BitVec 1 := Scalar.cmpi .slt v5008 c0_i32_2506
  let v5039 : BitVec 32 := Scalar.extui v5038
  let v5040 : BitVec 32 := Scalar.subi v5037 v5039
  let c2_i32_2504 : BitVec 32 := 2#32
  let c0_i32_2507 : BitVec 32 := 0#32
  let v5041 : BitVec 1 := Scalar.cmpi .sgt c2_i32_2504 c0_i32_2507
  let v5042 : BitVec 32 := Scalar.extui v5041
  let c0_i32_2508 : BitVec 32 := 0#32
  let v5043 : BitVec 1 := Scalar.cmpi .slt c2_i32_2504 c0_i32_2508
  let v5044 : BitVec 32 := Scalar.extui v5043
  let v5045 : BitVec 32 := Scalar.subi v5042 v5044
  let v5046 : BitVec 1 := Scalar.cmpi .ne v5040 v5045
  let v5047 : BitVec 32 := Scalar.remsi v5008 c2_i32_2504
  let c0_i32_2509 : BitVec 32 := 0#32
  let v5048 : BitVec 1 := Scalar.cmpi .ne v5047 c0_i32_2509
  let v5049 : BitVec 1 := Scalar.andi v5046 v5048
  let v5035 : BitVec 32 := Scalar.divsi v5008 c2_i32_2504
  let c1_i32_2510 : BitVec 32 := 1#32
  let v5050 : BitVec 32 := Scalar.subi v5035 c1_i32_2510
  let v5051 : BitVec 32 := Scalar.select v5049 v5050 v5035
  v5051
def k0_mult225 : BitVec 32 :=
  let c0_i32_2523 : BitVec 32 := 0#32
  c0_i32_2523
def k0_mult226 : BitVec 32 :=
  let c0_i32_2527 : BitVec 32 := 0#32
  let c256_i32_2526 : BitVec 32 := 256#32
  let c0_i32_2525 : BitVec 32 := 0#32
  let c_m64_i32_2524 : BitVec 32 := 4294967232#32
  let v5080 : BitVec 32 := Scalar.maxsi c0_i32_2525 c_m64_i32_2524
  let v5081 : BitVec 32 := Scalar.minsi c256_i32_2526 v5080
  let v5082 : BitVec 32 := Scalar.addi c0_i32_2527 v5081
  v5082
def k0_mult227 : BitVec 32 :=
  let c0_i32_2523 : BitVec 32 := 0#32
  let v5079 : BitVec 32 := c0_i32_2523
  let c0_i32_2539 : BitVec 32 := 0#32
  let v5106 : BitVec 1 := Scalar.cmpi .sgt v5079 c0_i32_2539
  let v5107 : BitVec 32 := Scalar.extui v5106
  let c0_i32_2540 : BitVec 32 := 0#32
  let v5108 : BitVec 1 := Scalar.cmpi .slt v5079 c0_i32_2540
  let v5109 : BitVec 32 := Scalar.extui v5108
  let v5110 : BitVec 32 := Scalar.subi v5107 v5109
  let c2_i32_2538 : BitVec 32 := 2#32
  let c0_i32_2541 : BitVec 32 := 0#32
  let v5111 : BitVec 1 := Scalar.cmpi .sgt c2_i32_2538 c0_i32_2541
  let v5112 : BitVec 32 := Scalar.extui v5111
  let c0_i32_2542 : BitVec 32 := 0#32
  let v5113 : BitVec 1 := Scalar.cmpi .slt c2_i32_2538 c0_i32_2542
  let v5114 : BitVec 32 := Scalar.extui v5113
  let v5115 : BitVec 32 := Scalar.subi v5112 v5114
  let v5116 : BitVec 1 := Scalar.cmpi .ne v5110 v5115
  let v5117 : BitVec 32 := Scalar.remsi v5079 c2_i32_2538
  let c0_i32_2543 : BitVec 32 := 0#32
  let v5118 : BitVec 1 := Scalar.cmpi .ne v5117 c0_i32_2543
  let v5119 : BitVec 1 := Scalar.andi v5116 v5118
  let v5105 : BitVec 32 := Scalar.divsi v5079 c2_i32_2538
  let c1_i32_2544 : BitVec 32 := 1#32
  let v5120 : BitVec 32 := Scalar.subi v5105 c1_i32_2544
  let v5121 : BitVec 32 := Scalar.select v5119 v5120 v5105
  v5121
def k0_off23 (c0_i32_2523 : BitVec 32) : Fin 3 → Nat :=
  let c0_2545 : Index := 0#32
  let v5079 : BitVec 32 := c0_i32_2523
  let c0_i32_2539 : BitVec 32 := 0#32
  let v5106 : BitVec 1 := Scalar.cmpi .sgt v5079 c0_i32_2539
  let v5107 : BitVec 32 := Scalar.extui v5106
  let c0_i32_2540 : BitVec 32 := 0#32
  let v5108 : BitVec 1 := Scalar.cmpi .slt v5079 c0_i32_2540
  let v5109 : BitVec 32 := Scalar.extui v5108
  let v5110 : BitVec 32 := Scalar.subi v5107 v5109
  let c2_i32_2538 : BitVec 32 := 2#32
  let c0_i32_2541 : BitVec 32 := 0#32
  let v5111 : BitVec 1 := Scalar.cmpi .sgt c2_i32_2538 c0_i32_2541
  let v5112 : BitVec 32 := Scalar.extui v5111
  let c0_i32_2542 : BitVec 32 := 0#32
  let v5113 : BitVec 1 := Scalar.cmpi .slt c2_i32_2538 c0_i32_2542
  let v5114 : BitVec 32 := Scalar.extui v5113
  let v5115 : BitVec 32 := Scalar.subi v5112 v5114
  let v5116 : BitVec 1 := Scalar.cmpi .ne v5110 v5115
  let v5117 : BitVec 32 := Scalar.remsi v5079 c2_i32_2538
  let c0_i32_2543 : BitVec 32 := 0#32
  let v5118 : BitVec 1 := Scalar.cmpi .ne v5117 c0_i32_2543
  let v5119 : BitVec 1 := Scalar.andi v5116 v5118
  let v5105 : BitVec 32 := Scalar.divsi v5079 c2_i32_2538
  let c1_i32_2544 : BitVec 32 := 1#32
  let v5120 : BitVec 32 := Scalar.subi v5105 c1_i32_2544
  let v5121 : BitVec 32 := Scalar.select v5119 v5120 v5105
  let v5122 : BitVec 32 := v5121
  let v5123 : Index := Scalar.indexCast v5122
  let c0_2546 : Index := 0#32
  ![0, v5123.toNat, 0]
def k0_mult228 : BitVec 32 :=
  let c0_i32_2523 : BitVec 32 := 0#32
  let v5079 : BitVec 32 := c0_i32_2523
  let c0_i32_2548 : BitVec 32 := 0#32
  let v5128 : BitVec 1 := Scalar.cmpi .sgt v5079 c0_i32_2548
  let v5129 : BitVec 32 := Scalar.extui v5128
  let c0_i32_2549 : BitVec 32 := 0#32
  let v5130 : BitVec 1 := Scalar.cmpi .slt v5079 c0_i32_2549
  let v5131 : BitVec 32 := Scalar.extui v5130
  let v5132 : BitVec 32 := Scalar.subi v5129 v5131
  let c2_i32_2547 : BitVec 32 := 2#32
  let c0_i32_2550 : BitVec 32 := 0#32
  let v5133 : BitVec 1 := Scalar.cmpi .sgt c2_i32_2547 c0_i32_2550
  let v5134 : BitVec 32 := Scalar.extui v5133
  let c0_i32_2551 : BitVec 32 := 0#32
  let v5135 : BitVec 1 := Scalar.cmpi .slt c2_i32_2547 c0_i32_2551
  let v5136 : BitVec 32 := Scalar.extui v5135
  let v5137 : BitVec 32 := Scalar.subi v5134 v5136
  let v5138 : BitVec 1 := Scalar.cmpi .ne v5132 v5137
  let v5139 : BitVec 32 := Scalar.remsi v5079 c2_i32_2547
  let c0_i32_2552 : BitVec 32 := 0#32
  let v5140 : BitVec 1 := Scalar.cmpi .ne v5139 c0_i32_2552
  let v5141 : BitVec 1 := Scalar.andi v5138 v5140
  let v5127 : BitVec 32 := Scalar.divsi v5079 c2_i32_2547
  let c1_i32_2553 : BitVec 32 := 1#32
  let v5142 : BitVec 32 := Scalar.subi v5127 c1_i32_2553
  let v5143 : BitVec 32 := Scalar.select v5141 v5142 v5127
  v5143
def k0_off24 (c0_i32_2523 : BitVec 32) : Fin 3 → Nat :=
  let c1_2554 : Index := 1#32
  let v5079 : BitVec 32 := c0_i32_2523
  let c0_i32_2548 : BitVec 32 := 0#32
  let v5128 : BitVec 1 := Scalar.cmpi .sgt v5079 c0_i32_2548
  let v5129 : BitVec 32 := Scalar.extui v5128
  let c0_i32_2549 : BitVec 32 := 0#32
  let v5130 : BitVec 1 := Scalar.cmpi .slt v5079 c0_i32_2549
  let v5131 : BitVec 32 := Scalar.extui v5130
  let v5132 : BitVec 32 := Scalar.subi v5129 v5131
  let c2_i32_2547 : BitVec 32 := 2#32
  let c0_i32_2550 : BitVec 32 := 0#32
  let v5133 : BitVec 1 := Scalar.cmpi .sgt c2_i32_2547 c0_i32_2550
  let v5134 : BitVec 32 := Scalar.extui v5133
  let c0_i32_2551 : BitVec 32 := 0#32
  let v5135 : BitVec 1 := Scalar.cmpi .slt c2_i32_2547 c0_i32_2551
  let v5136 : BitVec 32 := Scalar.extui v5135
  let v5137 : BitVec 32 := Scalar.subi v5134 v5136
  let v5138 : BitVec 1 := Scalar.cmpi .ne v5132 v5137
  let v5139 : BitVec 32 := Scalar.remsi v5079 c2_i32_2547
  let c0_i32_2552 : BitVec 32 := 0#32
  let v5140 : BitVec 1 := Scalar.cmpi .ne v5139 c0_i32_2552
  let v5141 : BitVec 1 := Scalar.andi v5138 v5140
  let v5127 : BitVec 32 := Scalar.divsi v5079 c2_i32_2547
  let c1_i32_2553 : BitVec 32 := 1#32
  let v5142 : BitVec 32 := Scalar.subi v5127 c1_i32_2553
  let v5143 : BitVec 32 := Scalar.select v5141 v5142 v5127
  let v5144 : BitVec 32 := v5143
  let v5145 : Index := Scalar.indexCast v5144
  let c0_2555 : Index := 0#32
  ![1, v5145.toNat, 0]
def k0_mult229 : BitVec 32 :=
  let c0_i32_2527 : BitVec 32 := 0#32
  let c256_i32_2526 : BitVec 32 := 256#32
  let c0_i32_2525 : BitVec 32 := 0#32
  let c_m64_i32_2524 : BitVec 32 := 4294967232#32
  let v5080 : BitVec 32 := Scalar.maxsi c0_i32_2525 c_m64_i32_2524
  let v5081 : BitVec 32 := Scalar.minsi c256_i32_2526 v5080
  let v5082 : BitVec 32 := Scalar.addi c0_i32_2527 v5081
  let v5083 : BitVec 32 := v5082
  let c0_i32_2557 : BitVec 32 := 0#32
  let v5151 : BitVec 1 := Scalar.cmpi .sgt v5083 c0_i32_2557
  let v5152 : BitVec 32 := Scalar.extui v5151
  let c0_i32_2558 : BitVec 32 := 0#32
  let v5153 : BitVec 1 := Scalar.cmpi .slt v5083 c0_i32_2558
  let v5154 : BitVec 32 := Scalar.extui v5153
  let v5155 : BitVec 32 := Scalar.subi v5152 v5154
  let c2_i32_2556 : BitVec 32 := 2#32
  let c0_i32_2559 : BitVec 32 := 0#32
  let v5156 : BitVec 1 := Scalar.cmpi .sgt c2_i32_2556 c0_i32_2559
  let v5157 : BitVec 32 := Scalar.extui v5156
  let c0_i32_2560 : BitVec 32 := 0#32
  let v5158 : BitVec 1 := Scalar.cmpi .slt c2_i32_2556 c0_i32_2560
  let v5159 : BitVec 32 := Scalar.extui v5158
  let v5160 : BitVec 32 := Scalar.subi v5157 v5159
  let v5161 : BitVec 1 := Scalar.cmpi .ne v5155 v5160
  let v5162 : BitVec 32 := Scalar.remsi v5083 c2_i32_2556
  let c0_i32_2561 : BitVec 32 := 0#32
  let v5163 : BitVec 1 := Scalar.cmpi .ne v5162 c0_i32_2561
  let v5164 : BitVec 1 := Scalar.andi v5161 v5163
  let v5150 : BitVec 32 := Scalar.divsi v5083 c2_i32_2556
  let c1_i32_2562 : BitVec 32 := 1#32
  let v5165 : BitVec 32 := Scalar.subi v5150 c1_i32_2562
  let v5166 : BitVec 32 := Scalar.select v5164 v5165 v5150
  v5166
def k0_off25 (c0_i32_2527 : BitVec 32) (c_m64_i32_2524 : BitVec 32) : Fin 3 → Nat :=
  let c2_2563 : Index := 2#32
  let c256_i32_2526 : BitVec 32 := 256#32
  let c0_i32_2525 : BitVec 32 := 0#32
  let v5080 : BitVec 32 := Scalar.maxsi c0_i32_2525 c_m64_i32_2524
  let v5081 : BitVec 32 := Scalar.minsi c256_i32_2526 v5080
  let v5082 : BitVec 32 := Scalar.addi c0_i32_2527 v5081
  let v5083 : BitVec 32 := v5082
  let c0_i32_2557 : BitVec 32 := 0#32
  let v5151 : BitVec 1 := Scalar.cmpi .sgt v5083 c0_i32_2557
  let v5152 : BitVec 32 := Scalar.extui v5151
  let c0_i32_2558 : BitVec 32 := 0#32
  let v5153 : BitVec 1 := Scalar.cmpi .slt v5083 c0_i32_2558
  let v5154 : BitVec 32 := Scalar.extui v5153
  let v5155 : BitVec 32 := Scalar.subi v5152 v5154
  let c2_i32_2556 : BitVec 32 := 2#32
  let c0_i32_2559 : BitVec 32 := 0#32
  let v5156 : BitVec 1 := Scalar.cmpi .sgt c2_i32_2556 c0_i32_2559
  let v5157 : BitVec 32 := Scalar.extui v5156
  let c0_i32_2560 : BitVec 32 := 0#32
  let v5158 : BitVec 1 := Scalar.cmpi .slt c2_i32_2556 c0_i32_2560
  let v5159 : BitVec 32 := Scalar.extui v5158
  let v5160 : BitVec 32 := Scalar.subi v5157 v5159
  let v5161 : BitVec 1 := Scalar.cmpi .ne v5155 v5160
  let v5162 : BitVec 32 := Scalar.remsi v5083 c2_i32_2556
  let c0_i32_2561 : BitVec 32 := 0#32
  let v5163 : BitVec 1 := Scalar.cmpi .ne v5162 c0_i32_2561
  let v5164 : BitVec 1 := Scalar.andi v5161 v5163
  let v5150 : BitVec 32 := Scalar.divsi v5083 c2_i32_2556
  let c1_i32_2562 : BitVec 32 := 1#32
  let v5165 : BitVec 32 := Scalar.subi v5150 c1_i32_2562
  let v5166 : BitVec 32 := Scalar.select v5164 v5165 v5150
  let v5167 : BitVec 32 := v5166
  let v5168 : Index := Scalar.indexCast v5167
  let c0_2564 : Index := 0#32
  ![2, v5168.toNat, 0]
def k0_off25_at (r : Fin 8) : BitVec 32 × BitVec 32 :=
  if r.val < 4 then
    if r.val < 2 then
      if r.val < 1 then
        (0#32, 4294967232#32)
      else
        (0#32, 64#32)
    else
      if r.val < 3 then
        (0#32, 192#32)
      else
        (0#32, 320#32)
  else
    if r.val < 6 then
      if r.val < 5 then
        (512#32, 4294967232#32)
      else
        (512#32, 64#32)
    else
      if r.val < 7 then
        (512#32, 192#32)
      else
        (512#32, 320#32)
def k0_mult230 : BitVec 32 :=
  let c128_i32_2574 : BitVec 32 := 128#32
  c128_i32_2574
def k0_mult231 : BitVec 32 :=
  let c0_i32_2578 : BitVec 32 := 0#32
  let c256_i32_2577 : BitVec 32 := 256#32
  let c0_i32_2576 : BitVec 32 := 0#32
  let c64_i32_2575 : BitVec 32 := 64#32
  let v5184 : BitVec 32 := Scalar.maxsi c0_i32_2576 c64_i32_2575
  let v5185 : BitVec 32 := Scalar.minsi c256_i32_2577 v5184
  let v5186 : BitVec 32 := Scalar.addi c0_i32_2578 v5185
  v5186
def k0_mult232 : BitVec 32 :=
  let c128_i32_2574 : BitVec 32 := 128#32
  let v5183 : BitVec 32 := c128_i32_2574
  let c0_i32_2590 : BitVec 32 := 0#32
  let v5210 : BitVec 1 := Scalar.cmpi .sgt v5183 c0_i32_2590
  let v5211 : BitVec 32 := Scalar.extui v5210
  let c0_i32_2591 : BitVec 32 := 0#32
  let v5212 : BitVec 1 := Scalar.cmpi .slt v5183 c0_i32_2591
  let v5213 : BitVec 32 := Scalar.extui v5212
  let v5214 : BitVec 32 := Scalar.subi v5211 v5213
  let c2_i32_2589 : BitVec 32 := 2#32
  let c0_i32_2592 : BitVec 32 := 0#32
  let v5215 : BitVec 1 := Scalar.cmpi .sgt c2_i32_2589 c0_i32_2592
  let v5216 : BitVec 32 := Scalar.extui v5215
  let c0_i32_2593 : BitVec 32 := 0#32
  let v5217 : BitVec 1 := Scalar.cmpi .slt c2_i32_2589 c0_i32_2593
  let v5218 : BitVec 32 := Scalar.extui v5217
  let v5219 : BitVec 32 := Scalar.subi v5216 v5218
  let v5220 : BitVec 1 := Scalar.cmpi .ne v5214 v5219
  let v5221 : BitVec 32 := Scalar.remsi v5183 c2_i32_2589
  let c0_i32_2594 : BitVec 32 := 0#32
  let v5222 : BitVec 1 := Scalar.cmpi .ne v5221 c0_i32_2594
  let v5223 : BitVec 1 := Scalar.andi v5220 v5222
  let v5209 : BitVec 32 := Scalar.divsi v5183 c2_i32_2589
  let c1_i32_2595 : BitVec 32 := 1#32
  let v5224 : BitVec 32 := Scalar.subi v5209 c1_i32_2595
  let v5225 : BitVec 32 := Scalar.select v5223 v5224 v5209
  v5225
def k0_mult233 : BitVec 32 :=
  let c128_i32_2574 : BitVec 32 := 128#32
  let v5183 : BitVec 32 := c128_i32_2574
  let c0_i32_2599 : BitVec 32 := 0#32
  let v5232 : BitVec 1 := Scalar.cmpi .sgt v5183 c0_i32_2599
  let v5233 : BitVec 32 := Scalar.extui v5232
  let c0_i32_2600 : BitVec 32 := 0#32
  let v5234 : BitVec 1 := Scalar.cmpi .slt v5183 c0_i32_2600
  let v5235 : BitVec 32 := Scalar.extui v5234
  let v5236 : BitVec 32 := Scalar.subi v5233 v5235
  let c2_i32_2598 : BitVec 32 := 2#32
  let c0_i32_2601 : BitVec 32 := 0#32
  let v5237 : BitVec 1 := Scalar.cmpi .sgt c2_i32_2598 c0_i32_2601
  let v5238 : BitVec 32 := Scalar.extui v5237
  let c0_i32_2602 : BitVec 32 := 0#32
  let v5239 : BitVec 1 := Scalar.cmpi .slt c2_i32_2598 c0_i32_2602
  let v5240 : BitVec 32 := Scalar.extui v5239
  let v5241 : BitVec 32 := Scalar.subi v5238 v5240
  let v5242 : BitVec 1 := Scalar.cmpi .ne v5236 v5241
  let v5243 : BitVec 32 := Scalar.remsi v5183 c2_i32_2598
  let c0_i32_2603 : BitVec 32 := 0#32
  let v5244 : BitVec 1 := Scalar.cmpi .ne v5243 c0_i32_2603
  let v5245 : BitVec 1 := Scalar.andi v5242 v5244
  let v5231 : BitVec 32 := Scalar.divsi v5183 c2_i32_2598
  let c1_i32_2604 : BitVec 32 := 1#32
  let v5246 : BitVec 32 := Scalar.subi v5231 c1_i32_2604
  let v5247 : BitVec 32 := Scalar.select v5245 v5246 v5231
  v5247
def k0_mult234 : BitVec 32 :=
  let c0_i32_2578 : BitVec 32 := 0#32
  let c256_i32_2577 : BitVec 32 := 256#32
  let c0_i32_2576 : BitVec 32 := 0#32
  let c64_i32_2575 : BitVec 32 := 64#32
  let v5184 : BitVec 32 := Scalar.maxsi c0_i32_2576 c64_i32_2575
  let v5185 : BitVec 32 := Scalar.minsi c256_i32_2577 v5184
  let v5186 : BitVec 32 := Scalar.addi c0_i32_2578 v5185
  let v5187 : BitVec 32 := v5186
  let c0_i32_2608 : BitVec 32 := 0#32
  let v5255 : BitVec 1 := Scalar.cmpi .sgt v5187 c0_i32_2608
  let v5256 : BitVec 32 := Scalar.extui v5255
  let c0_i32_2609 : BitVec 32 := 0#32
  let v5257 : BitVec 1 := Scalar.cmpi .slt v5187 c0_i32_2609
  let v5258 : BitVec 32 := Scalar.extui v5257
  let v5259 : BitVec 32 := Scalar.subi v5256 v5258
  let c2_i32_2607 : BitVec 32 := 2#32
  let c0_i32_2610 : BitVec 32 := 0#32
  let v5260 : BitVec 1 := Scalar.cmpi .sgt c2_i32_2607 c0_i32_2610
  let v5261 : BitVec 32 := Scalar.extui v5260
  let c0_i32_2611 : BitVec 32 := 0#32
  let v5262 : BitVec 1 := Scalar.cmpi .slt c2_i32_2607 c0_i32_2611
  let v5263 : BitVec 32 := Scalar.extui v5262
  let v5264 : BitVec 32 := Scalar.subi v5261 v5263
  let v5265 : BitVec 1 := Scalar.cmpi .ne v5259 v5264
  let v5266 : BitVec 32 := Scalar.remsi v5187 c2_i32_2607
  let c0_i32_2612 : BitVec 32 := 0#32
  let v5267 : BitVec 1 := Scalar.cmpi .ne v5266 c0_i32_2612
  let v5268 : BitVec 1 := Scalar.andi v5265 v5267
  let v5254 : BitVec 32 := Scalar.divsi v5187 c2_i32_2607
  let c1_i32_2613 : BitVec 32 := 1#32
  let v5269 : BitVec 32 := Scalar.subi v5254 c1_i32_2613
  let v5270 : BitVec 32 := Scalar.select v5268 v5269 v5254
  v5270
def k0_mult235 : BitVec 32 :=
  let c256_i32_2625 : BitVec 32 := 256#32
  c256_i32_2625
def k0_mult236 : BitVec 32 :=
  let c0_i32_2629 : BitVec 32 := 0#32
  let c256_i32_2628 : BitVec 32 := 256#32
  let c0_i32_2627 : BitVec 32 := 0#32
  let c192_i32_2626 : BitVec 32 := 192#32
  let v5288 : BitVec 32 := Scalar.maxsi c0_i32_2627 c192_i32_2626
  let v5289 : BitVec 32 := Scalar.minsi c256_i32_2628 v5288
  let v5290 : BitVec 32 := Scalar.addi c0_i32_2629 v5289
  v5290
def k0_mult237 : BitVec 32 :=
  let c256_i32_2625 : BitVec 32 := 256#32
  let v5287 : BitVec 32 := c256_i32_2625
  let c0_i32_2641 : BitVec 32 := 0#32
  let v5314 : BitVec 1 := Scalar.cmpi .sgt v5287 c0_i32_2641
  let v5315 : BitVec 32 := Scalar.extui v5314
  let c0_i32_2642 : BitVec 32 := 0#32
  let v5316 : BitVec 1 := Scalar.cmpi .slt v5287 c0_i32_2642
  let v5317 : BitVec 32 := Scalar.extui v5316
  let v5318 : BitVec 32 := Scalar.subi v5315 v5317
  let c2_i32_2640 : BitVec 32 := 2#32
  let c0_i32_2643 : BitVec 32 := 0#32
  let v5319 : BitVec 1 := Scalar.cmpi .sgt c2_i32_2640 c0_i32_2643
  let v5320 : BitVec 32 := Scalar.extui v5319
  let c0_i32_2644 : BitVec 32 := 0#32
  let v5321 : BitVec 1 := Scalar.cmpi .slt c2_i32_2640 c0_i32_2644
  let v5322 : BitVec 32 := Scalar.extui v5321
  let v5323 : BitVec 32 := Scalar.subi v5320 v5322
  let v5324 : BitVec 1 := Scalar.cmpi .ne v5318 v5323
  let v5325 : BitVec 32 := Scalar.remsi v5287 c2_i32_2640
  let c0_i32_2645 : BitVec 32 := 0#32
  let v5326 : BitVec 1 := Scalar.cmpi .ne v5325 c0_i32_2645
  let v5327 : BitVec 1 := Scalar.andi v5324 v5326
  let v5313 : BitVec 32 := Scalar.divsi v5287 c2_i32_2640
  let c1_i32_2646 : BitVec 32 := 1#32
  let v5328 : BitVec 32 := Scalar.subi v5313 c1_i32_2646
  let v5329 : BitVec 32 := Scalar.select v5327 v5328 v5313
  v5329
def k0_mult238 : BitVec 32 :=
  let c256_i32_2625 : BitVec 32 := 256#32
  let v5287 : BitVec 32 := c256_i32_2625
  let c0_i32_2650 : BitVec 32 := 0#32
  let v5336 : BitVec 1 := Scalar.cmpi .sgt v5287 c0_i32_2650
  let v5337 : BitVec 32 := Scalar.extui v5336
  let c0_i32_2651 : BitVec 32 := 0#32
  let v5338 : BitVec 1 := Scalar.cmpi .slt v5287 c0_i32_2651
  let v5339 : BitVec 32 := Scalar.extui v5338
  let v5340 : BitVec 32 := Scalar.subi v5337 v5339
  let c2_i32_2649 : BitVec 32 := 2#32
  let c0_i32_2652 : BitVec 32 := 0#32
  let v5341 : BitVec 1 := Scalar.cmpi .sgt c2_i32_2649 c0_i32_2652
  let v5342 : BitVec 32 := Scalar.extui v5341
  let c0_i32_2653 : BitVec 32 := 0#32
  let v5343 : BitVec 1 := Scalar.cmpi .slt c2_i32_2649 c0_i32_2653
  let v5344 : BitVec 32 := Scalar.extui v5343
  let v5345 : BitVec 32 := Scalar.subi v5342 v5344
  let v5346 : BitVec 1 := Scalar.cmpi .ne v5340 v5345
  let v5347 : BitVec 32 := Scalar.remsi v5287 c2_i32_2649
  let c0_i32_2654 : BitVec 32 := 0#32
  let v5348 : BitVec 1 := Scalar.cmpi .ne v5347 c0_i32_2654
  let v5349 : BitVec 1 := Scalar.andi v5346 v5348
  let v5335 : BitVec 32 := Scalar.divsi v5287 c2_i32_2649
  let c1_i32_2655 : BitVec 32 := 1#32
  let v5350 : BitVec 32 := Scalar.subi v5335 c1_i32_2655
  let v5351 : BitVec 32 := Scalar.select v5349 v5350 v5335
  v5351
def k0_mult239 : BitVec 32 :=
  let c0_i32_2629 : BitVec 32 := 0#32
  let c256_i32_2628 : BitVec 32 := 256#32
  let c0_i32_2627 : BitVec 32 := 0#32
  let c192_i32_2626 : BitVec 32 := 192#32
  let v5288 : BitVec 32 := Scalar.maxsi c0_i32_2627 c192_i32_2626
  let v5289 : BitVec 32 := Scalar.minsi c256_i32_2628 v5288
  let v5290 : BitVec 32 := Scalar.addi c0_i32_2629 v5289
  let v5291 : BitVec 32 := v5290
  let c0_i32_2659 : BitVec 32 := 0#32
  let v5359 : BitVec 1 := Scalar.cmpi .sgt v5291 c0_i32_2659
  let v5360 : BitVec 32 := Scalar.extui v5359
  let c0_i32_2660 : BitVec 32 := 0#32
  let v5361 : BitVec 1 := Scalar.cmpi .slt v5291 c0_i32_2660
  let v5362 : BitVec 32 := Scalar.extui v5361
  let v5363 : BitVec 32 := Scalar.subi v5360 v5362
  let c2_i32_2658 : BitVec 32 := 2#32
  let c0_i32_2661 : BitVec 32 := 0#32
  let v5364 : BitVec 1 := Scalar.cmpi .sgt c2_i32_2658 c0_i32_2661
  let v5365 : BitVec 32 := Scalar.extui v5364
  let c0_i32_2662 : BitVec 32 := 0#32
  let v5366 : BitVec 1 := Scalar.cmpi .slt c2_i32_2658 c0_i32_2662
  let v5367 : BitVec 32 := Scalar.extui v5366
  let v5368 : BitVec 32 := Scalar.subi v5365 v5367
  let v5369 : BitVec 1 := Scalar.cmpi .ne v5363 v5368
  let v5370 : BitVec 32 := Scalar.remsi v5291 c2_i32_2658
  let c0_i32_2663 : BitVec 32 := 0#32
  let v5371 : BitVec 1 := Scalar.cmpi .ne v5370 c0_i32_2663
  let v5372 : BitVec 1 := Scalar.andi v5369 v5371
  let v5358 : BitVec 32 := Scalar.divsi v5291 c2_i32_2658
  let c1_i32_2664 : BitVec 32 := 1#32
  let v5373 : BitVec 32 := Scalar.subi v5358 c1_i32_2664
  let v5374 : BitVec 32 := Scalar.select v5372 v5373 v5358
  v5374
def k0_mult240 : BitVec 32 :=
  let c384_i32_2676 : BitVec 32 := 384#32
  c384_i32_2676
def k0_mult241 : BitVec 32 :=
  let c0_i32_2680 : BitVec 32 := 0#32
  let c256_i32_2679 : BitVec 32 := 256#32
  let c0_i32_2678 : BitVec 32 := 0#32
  let c320_i32_2677 : BitVec 32 := 320#32
  let v5392 : BitVec 32 := Scalar.maxsi c0_i32_2678 c320_i32_2677
  let v5393 : BitVec 32 := Scalar.minsi c256_i32_2679 v5392
  let v5394 : BitVec 32 := Scalar.addi c0_i32_2680 v5393
  v5394
def k0_mult242 : BitVec 32 :=
  let c384_i32_2676 : BitVec 32 := 384#32
  let v5391 : BitVec 32 := c384_i32_2676
  let c0_i32_2692 : BitVec 32 := 0#32
  let v5418 : BitVec 1 := Scalar.cmpi .sgt v5391 c0_i32_2692
  let v5419 : BitVec 32 := Scalar.extui v5418
  let c0_i32_2693 : BitVec 32 := 0#32
  let v5420 : BitVec 1 := Scalar.cmpi .slt v5391 c0_i32_2693
  let v5421 : BitVec 32 := Scalar.extui v5420
  let v5422 : BitVec 32 := Scalar.subi v5419 v5421
  let c2_i32_2691 : BitVec 32 := 2#32
  let c0_i32_2694 : BitVec 32 := 0#32
  let v5423 : BitVec 1 := Scalar.cmpi .sgt c2_i32_2691 c0_i32_2694
  let v5424 : BitVec 32 := Scalar.extui v5423
  let c0_i32_2695 : BitVec 32 := 0#32
  let v5425 : BitVec 1 := Scalar.cmpi .slt c2_i32_2691 c0_i32_2695
  let v5426 : BitVec 32 := Scalar.extui v5425
  let v5427 : BitVec 32 := Scalar.subi v5424 v5426
  let v5428 : BitVec 1 := Scalar.cmpi .ne v5422 v5427
  let v5429 : BitVec 32 := Scalar.remsi v5391 c2_i32_2691
  let c0_i32_2696 : BitVec 32 := 0#32
  let v5430 : BitVec 1 := Scalar.cmpi .ne v5429 c0_i32_2696
  let v5431 : BitVec 1 := Scalar.andi v5428 v5430
  let v5417 : BitVec 32 := Scalar.divsi v5391 c2_i32_2691
  let c1_i32_2697 : BitVec 32 := 1#32
  let v5432 : BitVec 32 := Scalar.subi v5417 c1_i32_2697
  let v5433 : BitVec 32 := Scalar.select v5431 v5432 v5417
  v5433
def k0_mult243 : BitVec 32 :=
  let c384_i32_2676 : BitVec 32 := 384#32
  let v5391 : BitVec 32 := c384_i32_2676
  let c0_i32_2701 : BitVec 32 := 0#32
  let v5440 : BitVec 1 := Scalar.cmpi .sgt v5391 c0_i32_2701
  let v5441 : BitVec 32 := Scalar.extui v5440
  let c0_i32_2702 : BitVec 32 := 0#32
  let v5442 : BitVec 1 := Scalar.cmpi .slt v5391 c0_i32_2702
  let v5443 : BitVec 32 := Scalar.extui v5442
  let v5444 : BitVec 32 := Scalar.subi v5441 v5443
  let c2_i32_2700 : BitVec 32 := 2#32
  let c0_i32_2703 : BitVec 32 := 0#32
  let v5445 : BitVec 1 := Scalar.cmpi .sgt c2_i32_2700 c0_i32_2703
  let v5446 : BitVec 32 := Scalar.extui v5445
  let c0_i32_2704 : BitVec 32 := 0#32
  let v5447 : BitVec 1 := Scalar.cmpi .slt c2_i32_2700 c0_i32_2704
  let v5448 : BitVec 32 := Scalar.extui v5447
  let v5449 : BitVec 32 := Scalar.subi v5446 v5448
  let v5450 : BitVec 1 := Scalar.cmpi .ne v5444 v5449
  let v5451 : BitVec 32 := Scalar.remsi v5391 c2_i32_2700
  let c0_i32_2705 : BitVec 32 := 0#32
  let v5452 : BitVec 1 := Scalar.cmpi .ne v5451 c0_i32_2705
  let v5453 : BitVec 1 := Scalar.andi v5450 v5452
  let v5439 : BitVec 32 := Scalar.divsi v5391 c2_i32_2700
  let c1_i32_2706 : BitVec 32 := 1#32
  let v5454 : BitVec 32 := Scalar.subi v5439 c1_i32_2706
  let v5455 : BitVec 32 := Scalar.select v5453 v5454 v5439
  v5455
def k0_mult244 : BitVec 32 :=
  let c0_i32_2680 : BitVec 32 := 0#32
  let c256_i32_2679 : BitVec 32 := 256#32
  let c0_i32_2678 : BitVec 32 := 0#32
  let c320_i32_2677 : BitVec 32 := 320#32
  let v5392 : BitVec 32 := Scalar.maxsi c0_i32_2678 c320_i32_2677
  let v5393 : BitVec 32 := Scalar.minsi c256_i32_2679 v5392
  let v5394 : BitVec 32 := Scalar.addi c0_i32_2680 v5393
  let v5395 : BitVec 32 := v5394
  let c0_i32_2710 : BitVec 32 := 0#32
  let v5463 : BitVec 1 := Scalar.cmpi .sgt v5395 c0_i32_2710
  let v5464 : BitVec 32 := Scalar.extui v5463
  let c0_i32_2711 : BitVec 32 := 0#32
  let v5465 : BitVec 1 := Scalar.cmpi .slt v5395 c0_i32_2711
  let v5466 : BitVec 32 := Scalar.extui v5465
  let v5467 : BitVec 32 := Scalar.subi v5464 v5466
  let c2_i32_2709 : BitVec 32 := 2#32
  let c0_i32_2712 : BitVec 32 := 0#32
  let v5468 : BitVec 1 := Scalar.cmpi .sgt c2_i32_2709 c0_i32_2712
  let v5469 : BitVec 32 := Scalar.extui v5468
  let c0_i32_2713 : BitVec 32 := 0#32
  let v5470 : BitVec 1 := Scalar.cmpi .slt c2_i32_2709 c0_i32_2713
  let v5471 : BitVec 32 := Scalar.extui v5470
  let v5472 : BitVec 32 := Scalar.subi v5469 v5471
  let v5473 : BitVec 1 := Scalar.cmpi .ne v5467 v5472
  let v5474 : BitVec 32 := Scalar.remsi v5395 c2_i32_2709
  let c0_i32_2714 : BitVec 32 := 0#32
  let v5475 : BitVec 1 := Scalar.cmpi .ne v5474 c0_i32_2714
  let v5476 : BitVec 1 := Scalar.andi v5473 v5475
  let v5462 : BitVec 32 := Scalar.divsi v5395 c2_i32_2709
  let c1_i32_2715 : BitVec 32 := 1#32
  let v5477 : BitVec 32 := Scalar.subi v5462 c1_i32_2715
  let v5478 : BitVec 32 := Scalar.select v5476 v5477 v5462
  v5478
def k0_mult245 : BitVec 32 :=
  let c512_i32_2815 : BitVec 32 := 512#32
  c512_i32_2815
def k0_mult246 : BitVec 32 :=
  let c512_i32_2819 : BitVec 32 := 512#32
  let c256_i32_2818 : BitVec 32 := 256#32
  let c0_i32_2817 : BitVec 32 := 0#32
  let c_m64_i32_2816 : BitVec 32 := 4294967232#32
  let v5624 : BitVec 32 := Scalar.maxsi c0_i32_2817 c_m64_i32_2816
  let v5625 : BitVec 32 := Scalar.minsi c256_i32_2818 v5624
  let v5626 : BitVec 32 := Scalar.addi c512_i32_2819 v5625
  v5626
def k0_mult247 : BitVec 32 :=
  let c512_i32_2815 : BitVec 32 := 512#32
  let v5623 : BitVec 32 := c512_i32_2815
  let c0_i32_2831 : BitVec 32 := 0#32
  let v5650 : BitVec 1 := Scalar.cmpi .sgt v5623 c0_i32_2831
  let v5651 : BitVec 32 := Scalar.extui v5650
  let c0_i32_2832 : BitVec 32 := 0#32
  let v5652 : BitVec 1 := Scalar.cmpi .slt v5623 c0_i32_2832
  let v5653 : BitVec 32 := Scalar.extui v5652
  let v5654 : BitVec 32 := Scalar.subi v5651 v5653
  let c2_i32_2830 : BitVec 32 := 2#32
  let c0_i32_2833 : BitVec 32 := 0#32
  let v5655 : BitVec 1 := Scalar.cmpi .sgt c2_i32_2830 c0_i32_2833
  let v5656 : BitVec 32 := Scalar.extui v5655
  let c0_i32_2834 : BitVec 32 := 0#32
  let v5657 : BitVec 1 := Scalar.cmpi .slt c2_i32_2830 c0_i32_2834
  let v5658 : BitVec 32 := Scalar.extui v5657
  let v5659 : BitVec 32 := Scalar.subi v5656 v5658
  let v5660 : BitVec 1 := Scalar.cmpi .ne v5654 v5659
  let v5661 : BitVec 32 := Scalar.remsi v5623 c2_i32_2830
  let c0_i32_2835 : BitVec 32 := 0#32
  let v5662 : BitVec 1 := Scalar.cmpi .ne v5661 c0_i32_2835
  let v5663 : BitVec 1 := Scalar.andi v5660 v5662
  let v5649 : BitVec 32 := Scalar.divsi v5623 c2_i32_2830
  let c1_i32_2836 : BitVec 32 := 1#32
  let v5664 : BitVec 32 := Scalar.subi v5649 c1_i32_2836
  let v5665 : BitVec 32 := Scalar.select v5663 v5664 v5649
  v5665
def k0_mult248 : BitVec 32 :=
  let c512_i32_2815 : BitVec 32 := 512#32
  let v5623 : BitVec 32 := c512_i32_2815
  let c0_i32_2840 : BitVec 32 := 0#32
  let v5672 : BitVec 1 := Scalar.cmpi .sgt v5623 c0_i32_2840
  let v5673 : BitVec 32 := Scalar.extui v5672
  let c0_i32_2841 : BitVec 32 := 0#32
  let v5674 : BitVec 1 := Scalar.cmpi .slt v5623 c0_i32_2841
  let v5675 : BitVec 32 := Scalar.extui v5674
  let v5676 : BitVec 32 := Scalar.subi v5673 v5675
  let c2_i32_2839 : BitVec 32 := 2#32
  let c0_i32_2842 : BitVec 32 := 0#32
  let v5677 : BitVec 1 := Scalar.cmpi .sgt c2_i32_2839 c0_i32_2842
  let v5678 : BitVec 32 := Scalar.extui v5677
  let c0_i32_2843 : BitVec 32 := 0#32
  let v5679 : BitVec 1 := Scalar.cmpi .slt c2_i32_2839 c0_i32_2843
  let v5680 : BitVec 32 := Scalar.extui v5679
  let v5681 : BitVec 32 := Scalar.subi v5678 v5680
  let v5682 : BitVec 1 := Scalar.cmpi .ne v5676 v5681
  let v5683 : BitVec 32 := Scalar.remsi v5623 c2_i32_2839
  let c0_i32_2844 : BitVec 32 := 0#32
  let v5684 : BitVec 1 := Scalar.cmpi .ne v5683 c0_i32_2844
  let v5685 : BitVec 1 := Scalar.andi v5682 v5684
  let v5671 : BitVec 32 := Scalar.divsi v5623 c2_i32_2839
  let c1_i32_2845 : BitVec 32 := 1#32
  let v5686 : BitVec 32 := Scalar.subi v5671 c1_i32_2845
  let v5687 : BitVec 32 := Scalar.select v5685 v5686 v5671
  v5687
def k0_mult249 : BitVec 32 :=
  let c512_i32_2819 : BitVec 32 := 512#32
  let c256_i32_2818 : BitVec 32 := 256#32
  let c0_i32_2817 : BitVec 32 := 0#32
  let c_m64_i32_2816 : BitVec 32 := 4294967232#32
  let v5624 : BitVec 32 := Scalar.maxsi c0_i32_2817 c_m64_i32_2816
  let v5625 : BitVec 32 := Scalar.minsi c256_i32_2818 v5624
  let v5626 : BitVec 32 := Scalar.addi c512_i32_2819 v5625
  let v5627 : BitVec 32 := v5626
  let c0_i32_2849 : BitVec 32 := 0#32
  let v5695 : BitVec 1 := Scalar.cmpi .sgt v5627 c0_i32_2849
  let v5696 : BitVec 32 := Scalar.extui v5695
  let c0_i32_2850 : BitVec 32 := 0#32
  let v5697 : BitVec 1 := Scalar.cmpi .slt v5627 c0_i32_2850
  let v5698 : BitVec 32 := Scalar.extui v5697
  let v5699 : BitVec 32 := Scalar.subi v5696 v5698
  let c2_i32_2848 : BitVec 32 := 2#32
  let c0_i32_2851 : BitVec 32 := 0#32
  let v5700 : BitVec 1 := Scalar.cmpi .sgt c2_i32_2848 c0_i32_2851
  let v5701 : BitVec 32 := Scalar.extui v5700
  let c0_i32_2852 : BitVec 32 := 0#32
  let v5702 : BitVec 1 := Scalar.cmpi .slt c2_i32_2848 c0_i32_2852
  let v5703 : BitVec 32 := Scalar.extui v5702
  let v5704 : BitVec 32 := Scalar.subi v5701 v5703
  let v5705 : BitVec 1 := Scalar.cmpi .ne v5699 v5704
  let v5706 : BitVec 32 := Scalar.remsi v5627 c2_i32_2848
  let c0_i32_2853 : BitVec 32 := 0#32
  let v5707 : BitVec 1 := Scalar.cmpi .ne v5706 c0_i32_2853
  let v5708 : BitVec 1 := Scalar.andi v5705 v5707
  let v5694 : BitVec 32 := Scalar.divsi v5627 c2_i32_2848
  let c1_i32_2854 : BitVec 32 := 1#32
  let v5709 : BitVec 32 := Scalar.subi v5694 c1_i32_2854
  let v5710 : BitVec 32 := Scalar.select v5708 v5709 v5694
  v5710
def k0_mult250 : BitVec 32 :=
  let c640_i32_2866 : BitVec 32 := 640#32
  c640_i32_2866
def k0_mult251 : BitVec 32 :=
  let c512_i32_2870 : BitVec 32 := 512#32
  let c256_i32_2869 : BitVec 32 := 256#32
  let c0_i32_2868 : BitVec 32 := 0#32
  let c64_i32_2867 : BitVec 32 := 64#32
  let v5728 : BitVec 32 := Scalar.maxsi c0_i32_2868 c64_i32_2867
  let v5729 : BitVec 32 := Scalar.minsi c256_i32_2869 v5728
  let v5730 : BitVec 32 := Scalar.addi c512_i32_2870 v5729
  v5730
def k0_mult252 : BitVec 32 :=
  let c640_i32_2866 : BitVec 32 := 640#32
  let v5727 : BitVec 32 := c640_i32_2866
  let c0_i32_2882 : BitVec 32 := 0#32
  let v5754 : BitVec 1 := Scalar.cmpi .sgt v5727 c0_i32_2882
  let v5755 : BitVec 32 := Scalar.extui v5754
  let c0_i32_2883 : BitVec 32 := 0#32
  let v5756 : BitVec 1 := Scalar.cmpi .slt v5727 c0_i32_2883
  let v5757 : BitVec 32 := Scalar.extui v5756
  let v5758 : BitVec 32 := Scalar.subi v5755 v5757
  let c2_i32_2881 : BitVec 32 := 2#32
  let c0_i32_2884 : BitVec 32 := 0#32
  let v5759 : BitVec 1 := Scalar.cmpi .sgt c2_i32_2881 c0_i32_2884
  let v5760 : BitVec 32 := Scalar.extui v5759
  let c0_i32_2885 : BitVec 32 := 0#32
  let v5761 : BitVec 1 := Scalar.cmpi .slt c2_i32_2881 c0_i32_2885
  let v5762 : BitVec 32 := Scalar.extui v5761
  let v5763 : BitVec 32 := Scalar.subi v5760 v5762
  let v5764 : BitVec 1 := Scalar.cmpi .ne v5758 v5763
  let v5765 : BitVec 32 := Scalar.remsi v5727 c2_i32_2881
  let c0_i32_2886 : BitVec 32 := 0#32
  let v5766 : BitVec 1 := Scalar.cmpi .ne v5765 c0_i32_2886
  let v5767 : BitVec 1 := Scalar.andi v5764 v5766
  let v5753 : BitVec 32 := Scalar.divsi v5727 c2_i32_2881
  let c1_i32_2887 : BitVec 32 := 1#32
  let v5768 : BitVec 32 := Scalar.subi v5753 c1_i32_2887
  let v5769 : BitVec 32 := Scalar.select v5767 v5768 v5753
  v5769
def k0_mult253 : BitVec 32 :=
  let c640_i32_2866 : BitVec 32 := 640#32
  let v5727 : BitVec 32 := c640_i32_2866
  let c0_i32_2891 : BitVec 32 := 0#32
  let v5776 : BitVec 1 := Scalar.cmpi .sgt v5727 c0_i32_2891
  let v5777 : BitVec 32 := Scalar.extui v5776
  let c0_i32_2892 : BitVec 32 := 0#32
  let v5778 : BitVec 1 := Scalar.cmpi .slt v5727 c0_i32_2892
  let v5779 : BitVec 32 := Scalar.extui v5778
  let v5780 : BitVec 32 := Scalar.subi v5777 v5779
  let c2_i32_2890 : BitVec 32 := 2#32
  let c0_i32_2893 : BitVec 32 := 0#32
  let v5781 : BitVec 1 := Scalar.cmpi .sgt c2_i32_2890 c0_i32_2893
  let v5782 : BitVec 32 := Scalar.extui v5781
  let c0_i32_2894 : BitVec 32 := 0#32
  let v5783 : BitVec 1 := Scalar.cmpi .slt c2_i32_2890 c0_i32_2894
  let v5784 : BitVec 32 := Scalar.extui v5783
  let v5785 : BitVec 32 := Scalar.subi v5782 v5784
  let v5786 : BitVec 1 := Scalar.cmpi .ne v5780 v5785
  let v5787 : BitVec 32 := Scalar.remsi v5727 c2_i32_2890
  let c0_i32_2895 : BitVec 32 := 0#32
  let v5788 : BitVec 1 := Scalar.cmpi .ne v5787 c0_i32_2895
  let v5789 : BitVec 1 := Scalar.andi v5786 v5788
  let v5775 : BitVec 32 := Scalar.divsi v5727 c2_i32_2890
  let c1_i32_2896 : BitVec 32 := 1#32
  let v5790 : BitVec 32 := Scalar.subi v5775 c1_i32_2896
  let v5791 : BitVec 32 := Scalar.select v5789 v5790 v5775
  v5791
def k0_mult254 : BitVec 32 :=
  let c512_i32_2870 : BitVec 32 := 512#32
  let c256_i32_2869 : BitVec 32 := 256#32
  let c0_i32_2868 : BitVec 32 := 0#32
  let c64_i32_2867 : BitVec 32 := 64#32
  let v5728 : BitVec 32 := Scalar.maxsi c0_i32_2868 c64_i32_2867
  let v5729 : BitVec 32 := Scalar.minsi c256_i32_2869 v5728
  let v5730 : BitVec 32 := Scalar.addi c512_i32_2870 v5729
  let v5731 : BitVec 32 := v5730
  let c0_i32_2900 : BitVec 32 := 0#32
  let v5799 : BitVec 1 := Scalar.cmpi .sgt v5731 c0_i32_2900
  let v5800 : BitVec 32 := Scalar.extui v5799
  let c0_i32_2901 : BitVec 32 := 0#32
  let v5801 : BitVec 1 := Scalar.cmpi .slt v5731 c0_i32_2901
  let v5802 : BitVec 32 := Scalar.extui v5801
  let v5803 : BitVec 32 := Scalar.subi v5800 v5802
  let c2_i32_2899 : BitVec 32 := 2#32
  let c0_i32_2902 : BitVec 32 := 0#32
  let v5804 : BitVec 1 := Scalar.cmpi .sgt c2_i32_2899 c0_i32_2902
  let v5805 : BitVec 32 := Scalar.extui v5804
  let c0_i32_2903 : BitVec 32 := 0#32
  let v5806 : BitVec 1 := Scalar.cmpi .slt c2_i32_2899 c0_i32_2903
  let v5807 : BitVec 32 := Scalar.extui v5806
  let v5808 : BitVec 32 := Scalar.subi v5805 v5807
  let v5809 : BitVec 1 := Scalar.cmpi .ne v5803 v5808
  let v5810 : BitVec 32 := Scalar.remsi v5731 c2_i32_2899
  let c0_i32_2904 : BitVec 32 := 0#32
  let v5811 : BitVec 1 := Scalar.cmpi .ne v5810 c0_i32_2904
  let v5812 : BitVec 1 := Scalar.andi v5809 v5811
  let v5798 : BitVec 32 := Scalar.divsi v5731 c2_i32_2899
  let c1_i32_2905 : BitVec 32 := 1#32
  let v5813 : BitVec 32 := Scalar.subi v5798 c1_i32_2905
  let v5814 : BitVec 32 := Scalar.select v5812 v5813 v5798
  v5814
def k0_mult255 : BitVec 32 :=
  let c768_i32_2917 : BitVec 32 := 768#32
  c768_i32_2917
def k0_mult256 : BitVec 32 :=
  let c512_i32_2921 : BitVec 32 := 512#32
  let c256_i32_2920 : BitVec 32 := 256#32
  let c0_i32_2919 : BitVec 32 := 0#32
  let c192_i32_2918 : BitVec 32 := 192#32
  let v5832 : BitVec 32 := Scalar.maxsi c0_i32_2919 c192_i32_2918
  let v5833 : BitVec 32 := Scalar.minsi c256_i32_2920 v5832
  let v5834 : BitVec 32 := Scalar.addi c512_i32_2921 v5833
  v5834
def k0_mult257 : BitVec 32 :=
  let c768_i32_2917 : BitVec 32 := 768#32
  let v5831 : BitVec 32 := c768_i32_2917
  let c0_i32_2933 : BitVec 32 := 0#32
  let v5858 : BitVec 1 := Scalar.cmpi .sgt v5831 c0_i32_2933
  let v5859 : BitVec 32 := Scalar.extui v5858
  let c0_i32_2934 : BitVec 32 := 0#32
  let v5860 : BitVec 1 := Scalar.cmpi .slt v5831 c0_i32_2934
  let v5861 : BitVec 32 := Scalar.extui v5860
  let v5862 : BitVec 32 := Scalar.subi v5859 v5861
  let c2_i32_2932 : BitVec 32 := 2#32
  let c0_i32_2935 : BitVec 32 := 0#32
  let v5863 : BitVec 1 := Scalar.cmpi .sgt c2_i32_2932 c0_i32_2935
  let v5864 : BitVec 32 := Scalar.extui v5863
  let c0_i32_2936 : BitVec 32 := 0#32
  let v5865 : BitVec 1 := Scalar.cmpi .slt c2_i32_2932 c0_i32_2936
  let v5866 : BitVec 32 := Scalar.extui v5865
  let v5867 : BitVec 32 := Scalar.subi v5864 v5866
  let v5868 : BitVec 1 := Scalar.cmpi .ne v5862 v5867
  let v5869 : BitVec 32 := Scalar.remsi v5831 c2_i32_2932
  let c0_i32_2937 : BitVec 32 := 0#32
  let v5870 : BitVec 1 := Scalar.cmpi .ne v5869 c0_i32_2937
  let v5871 : BitVec 1 := Scalar.andi v5868 v5870
  let v5857 : BitVec 32 := Scalar.divsi v5831 c2_i32_2932
  let c1_i32_2938 : BitVec 32 := 1#32
  let v5872 : BitVec 32 := Scalar.subi v5857 c1_i32_2938
  let v5873 : BitVec 32 := Scalar.select v5871 v5872 v5857
  v5873
def k0_mult258 : BitVec 32 :=
  let c768_i32_2917 : BitVec 32 := 768#32
  let v5831 : BitVec 32 := c768_i32_2917
  let c0_i32_2942 : BitVec 32 := 0#32
  let v5880 : BitVec 1 := Scalar.cmpi .sgt v5831 c0_i32_2942
  let v5881 : BitVec 32 := Scalar.extui v5880
  let c0_i32_2943 : BitVec 32 := 0#32
  let v5882 : BitVec 1 := Scalar.cmpi .slt v5831 c0_i32_2943
  let v5883 : BitVec 32 := Scalar.extui v5882
  let v5884 : BitVec 32 := Scalar.subi v5881 v5883
  let c2_i32_2941 : BitVec 32 := 2#32
  let c0_i32_2944 : BitVec 32 := 0#32
  let v5885 : BitVec 1 := Scalar.cmpi .sgt c2_i32_2941 c0_i32_2944
  let v5886 : BitVec 32 := Scalar.extui v5885
  let c0_i32_2945 : BitVec 32 := 0#32
  let v5887 : BitVec 1 := Scalar.cmpi .slt c2_i32_2941 c0_i32_2945
  let v5888 : BitVec 32 := Scalar.extui v5887
  let v5889 : BitVec 32 := Scalar.subi v5886 v5888
  let v5890 : BitVec 1 := Scalar.cmpi .ne v5884 v5889
  let v5891 : BitVec 32 := Scalar.remsi v5831 c2_i32_2941
  let c0_i32_2946 : BitVec 32 := 0#32
  let v5892 : BitVec 1 := Scalar.cmpi .ne v5891 c0_i32_2946
  let v5893 : BitVec 1 := Scalar.andi v5890 v5892
  let v5879 : BitVec 32 := Scalar.divsi v5831 c2_i32_2941
  let c1_i32_2947 : BitVec 32 := 1#32
  let v5894 : BitVec 32 := Scalar.subi v5879 c1_i32_2947
  let v5895 : BitVec 32 := Scalar.select v5893 v5894 v5879
  v5895
def k0_mult259 : BitVec 32 :=
  let c512_i32_2921 : BitVec 32 := 512#32
  let c256_i32_2920 : BitVec 32 := 256#32
  let c0_i32_2919 : BitVec 32 := 0#32
  let c192_i32_2918 : BitVec 32 := 192#32
  let v5832 : BitVec 32 := Scalar.maxsi c0_i32_2919 c192_i32_2918
  let v5833 : BitVec 32 := Scalar.minsi c256_i32_2920 v5832
  let v5834 : BitVec 32 := Scalar.addi c512_i32_2921 v5833
  let v5835 : BitVec 32 := v5834
  let c0_i32_2951 : BitVec 32 := 0#32
  let v5903 : BitVec 1 := Scalar.cmpi .sgt v5835 c0_i32_2951
  let v5904 : BitVec 32 := Scalar.extui v5903
  let c0_i32_2952 : BitVec 32 := 0#32
  let v5905 : BitVec 1 := Scalar.cmpi .slt v5835 c0_i32_2952
  let v5906 : BitVec 32 := Scalar.extui v5905
  let v5907 : BitVec 32 := Scalar.subi v5904 v5906
  let c2_i32_2950 : BitVec 32 := 2#32
  let c0_i32_2953 : BitVec 32 := 0#32
  let v5908 : BitVec 1 := Scalar.cmpi .sgt c2_i32_2950 c0_i32_2953
  let v5909 : BitVec 32 := Scalar.extui v5908
  let c0_i32_2954 : BitVec 32 := 0#32
  let v5910 : BitVec 1 := Scalar.cmpi .slt c2_i32_2950 c0_i32_2954
  let v5911 : BitVec 32 := Scalar.extui v5910
  let v5912 : BitVec 32 := Scalar.subi v5909 v5911
  let v5913 : BitVec 1 := Scalar.cmpi .ne v5907 v5912
  let v5914 : BitVec 32 := Scalar.remsi v5835 c2_i32_2950
  let c0_i32_2955 : BitVec 32 := 0#32
  let v5915 : BitVec 1 := Scalar.cmpi .ne v5914 c0_i32_2955
  let v5916 : BitVec 1 := Scalar.andi v5913 v5915
  let v5902 : BitVec 32 := Scalar.divsi v5835 c2_i32_2950
  let c1_i32_2956 : BitVec 32 := 1#32
  let v5917 : BitVec 32 := Scalar.subi v5902 c1_i32_2956
  let v5918 : BitVec 32 := Scalar.select v5916 v5917 v5902
  v5918
def k0_mult260 : BitVec 32 :=
  let c896_i32_2968 : BitVec 32 := 896#32
  c896_i32_2968
def k0_mult261 : BitVec 32 :=
  let c512_i32_2972 : BitVec 32 := 512#32
  let c256_i32_2971 : BitVec 32 := 256#32
  let c0_i32_2970 : BitVec 32 := 0#32
  let c320_i32_2969 : BitVec 32 := 320#32
  let v5936 : BitVec 32 := Scalar.maxsi c0_i32_2970 c320_i32_2969
  let v5937 : BitVec 32 := Scalar.minsi c256_i32_2971 v5936
  let v5938 : BitVec 32 := Scalar.addi c512_i32_2972 v5937
  v5938
def k0_mult262 : BitVec 32 :=
  let c896_i32_2968 : BitVec 32 := 896#32
  let v5935 : BitVec 32 := c896_i32_2968
  let c0_i32_2984 : BitVec 32 := 0#32
  let v5962 : BitVec 1 := Scalar.cmpi .sgt v5935 c0_i32_2984
  let v5963 : BitVec 32 := Scalar.extui v5962
  let c0_i32_2985 : BitVec 32 := 0#32
  let v5964 : BitVec 1 := Scalar.cmpi .slt v5935 c0_i32_2985
  let v5965 : BitVec 32 := Scalar.extui v5964
  let v5966 : BitVec 32 := Scalar.subi v5963 v5965
  let c2_i32_2983 : BitVec 32 := 2#32
  let c0_i32_2986 : BitVec 32 := 0#32
  let v5967 : BitVec 1 := Scalar.cmpi .sgt c2_i32_2983 c0_i32_2986
  let v5968 : BitVec 32 := Scalar.extui v5967
  let c0_i32_2987 : BitVec 32 := 0#32
  let v5969 : BitVec 1 := Scalar.cmpi .slt c2_i32_2983 c0_i32_2987
  let v5970 : BitVec 32 := Scalar.extui v5969
  let v5971 : BitVec 32 := Scalar.subi v5968 v5970
  let v5972 : BitVec 1 := Scalar.cmpi .ne v5966 v5971
  let v5973 : BitVec 32 := Scalar.remsi v5935 c2_i32_2983
  let c0_i32_2988 : BitVec 32 := 0#32
  let v5974 : BitVec 1 := Scalar.cmpi .ne v5973 c0_i32_2988
  let v5975 : BitVec 1 := Scalar.andi v5972 v5974
  let v5961 : BitVec 32 := Scalar.divsi v5935 c2_i32_2983
  let c1_i32_2989 : BitVec 32 := 1#32
  let v5976 : BitVec 32 := Scalar.subi v5961 c1_i32_2989
  let v5977 : BitVec 32 := Scalar.select v5975 v5976 v5961
  v5977
def k0_mult263 : BitVec 32 :=
  let c896_i32_2968 : BitVec 32 := 896#32
  let v5935 : BitVec 32 := c896_i32_2968
  let c0_i32_2993 : BitVec 32 := 0#32
  let v5984 : BitVec 1 := Scalar.cmpi .sgt v5935 c0_i32_2993
  let v5985 : BitVec 32 := Scalar.extui v5984
  let c0_i32_2994 : BitVec 32 := 0#32
  let v5986 : BitVec 1 := Scalar.cmpi .slt v5935 c0_i32_2994
  let v5987 : BitVec 32 := Scalar.extui v5986
  let v5988 : BitVec 32 := Scalar.subi v5985 v5987
  let c2_i32_2992 : BitVec 32 := 2#32
  let c0_i32_2995 : BitVec 32 := 0#32
  let v5989 : BitVec 1 := Scalar.cmpi .sgt c2_i32_2992 c0_i32_2995
  let v5990 : BitVec 32 := Scalar.extui v5989
  let c0_i32_2996 : BitVec 32 := 0#32
  let v5991 : BitVec 1 := Scalar.cmpi .slt c2_i32_2992 c0_i32_2996
  let v5992 : BitVec 32 := Scalar.extui v5991
  let v5993 : BitVec 32 := Scalar.subi v5990 v5992
  let v5994 : BitVec 1 := Scalar.cmpi .ne v5988 v5993
  let v5995 : BitVec 32 := Scalar.remsi v5935 c2_i32_2992
  let c0_i32_2997 : BitVec 32 := 0#32
  let v5996 : BitVec 1 := Scalar.cmpi .ne v5995 c0_i32_2997
  let v5997 : BitVec 1 := Scalar.andi v5994 v5996
  let v5983 : BitVec 32 := Scalar.divsi v5935 c2_i32_2992
  let c1_i32_2998 : BitVec 32 := 1#32
  let v5998 : BitVec 32 := Scalar.subi v5983 c1_i32_2998
  let v5999 : BitVec 32 := Scalar.select v5997 v5998 v5983
  v5999
def k0_mult264 : BitVec 32 :=
  let c512_i32_2972 : BitVec 32 := 512#32
  let c256_i32_2971 : BitVec 32 := 256#32
  let c0_i32_2970 : BitVec 32 := 0#32
  let c320_i32_2969 : BitVec 32 := 320#32
  let v5936 : BitVec 32 := Scalar.maxsi c0_i32_2970 c320_i32_2969
  let v5937 : BitVec 32 := Scalar.minsi c256_i32_2971 v5936
  let v5938 : BitVec 32 := Scalar.addi c512_i32_2972 v5937
  let v5939 : BitVec 32 := v5938
  let c0_i32_3002 : BitVec 32 := 0#32
  let v6007 : BitVec 1 := Scalar.cmpi .sgt v5939 c0_i32_3002
  let v6008 : BitVec 32 := Scalar.extui v6007
  let c0_i32_3003 : BitVec 32 := 0#32
  let v6009 : BitVec 1 := Scalar.cmpi .slt v5939 c0_i32_3003
  let v6010 : BitVec 32 := Scalar.extui v6009
  let v6011 : BitVec 32 := Scalar.subi v6008 v6010
  let c2_i32_3001 : BitVec 32 := 2#32
  let c0_i32_3004 : BitVec 32 := 0#32
  let v6012 : BitVec 1 := Scalar.cmpi .sgt c2_i32_3001 c0_i32_3004
  let v6013 : BitVec 32 := Scalar.extui v6012
  let c0_i32_3005 : BitVec 32 := 0#32
  let v6014 : BitVec 1 := Scalar.cmpi .slt c2_i32_3001 c0_i32_3005
  let v6015 : BitVec 32 := Scalar.extui v6014
  let v6016 : BitVec 32 := Scalar.subi v6013 v6015
  let v6017 : BitVec 1 := Scalar.cmpi .ne v6011 v6016
  let v6018 : BitVec 32 := Scalar.remsi v5939 c2_i32_3001
  let c0_i32_3006 : BitVec 32 := 0#32
  let v6019 : BitVec 1 := Scalar.cmpi .ne v6018 c0_i32_3006
  let v6020 : BitVec 1 := Scalar.andi v6017 v6019
  let v6006 : BitVec 32 := Scalar.divsi v5939 c2_i32_3001
  let c1_i32_3007 : BitVec 32 := 1#32
  let v6021 : BitVec 32 := Scalar.subi v6006 c1_i32_3007
  let v6022 : BitVec 32 := Scalar.select v6020 v6021 v6006
  v6022
def k0_mult265 : BitVec 32 :=
  let c0_i32_3022 : BitVec 32 := 0#32
  c0_i32_3022
def k0_mult266 : BitVec 32 :=
  let c256_i32_3025 : BitVec 32 := 256#32
  c256_i32_3025
def k0_mult267 : BitVec 32 :=
  let c0_i32_3031 : BitVec 32 := 0#32
  c0_i32_3031
def k0_mult268 : BitVec 32 :=
  let c256_i32_3034 : BitVec 32 := 256#32
  c256_i32_3034
def k0_mult269 : BitVec 32 :=
  let c0_i32_3040 : BitVec 32 := 0#32
  c0_i32_3040
def k0_mult270 : BitVec 32 :=
  let c256_i32_3043 : BitVec 32 := 256#32
  c256_i32_3043
def k0_mult271 : BitVec 32 :=
  let c0_i32_3049 : BitVec 32 := 0#32
  c0_i32_3049
def k0_mult272 : BitVec 32 :=
  let c256_i32_3052 : BitVec 32 := 256#32
  c256_i32_3052
def k0_mult273 : BitVec 32 :=
  let c0_i32_3058 : BitVec 32 := 0#32
  c0_i32_3058
def k0_mult274 : BitVec 32 :=
  let c256_i32_3061 : BitVec 32 := 256#32
  c256_i32_3061
def k0_mult275 : BitVec 32 :=
  let c512_i32_3067 : BitVec 32 := 512#32
  c512_i32_3067
def k0_mult276 : BitVec 32 :=
  let c768_i32_3070 : BitVec 32 := 768#32
  c768_i32_3070
def k0_mult277 : BitVec 32 :=
  let c512_i32_3076 : BitVec 32 := 512#32
  c512_i32_3076
def k0_mult278 : BitVec 32 :=
  let c768_i32_3079 : BitVec 32 := 768#32
  c768_i32_3079
def k0_mult279 : BitVec 32 :=
  let c512_i32_3085 : BitVec 32 := 512#32
  c512_i32_3085
def k0_mult280 : BitVec 32 :=
  let c768_i32_3088 : BitVec 32 := 768#32
  c768_i32_3088
def k0_mult281 : BitVec 32 :=
  let c512_i32_3094 : BitVec 32 := 512#32
  c512_i32_3094
def k0_mult282 : BitVec 32 :=
  let c768_i32_3097 : BitVec 32 := 768#32
  c768_i32_3097
def k0_mult283 : BitVec 32 :=
  let c512_i32_3103 : BitVec 32 := 512#32
  c512_i32_3103
def k0_mult284 : BitVec 32 :=
  let c768_i32_3106 : BitVec 32 := 768#32
  c768_i32_3106
def k0_mult285 : BitVec 32 :=
  let c2_i32_3110 : BitVec 32 := 2#32
  let c0_i32_3109 : BitVec 32 := 0#32
  let v6219 : BitVec 32 := Scalar.muli c2_i32_3110 c0_i32_3109
  let c4_i32_3111 : BitVec 32 := 4#32
  let v6220 : BitVec 32 := Scalar.muli v6219 c4_i32_3111
  let c0_i32_3112 : BitVec 32 := 0#32
  let v6221 : BitVec 32 := Scalar.addi v6220 c0_i32_3112
  let c128_i32_3113 : BitVec 32 := 128#32
  let v6222 : BitVec 32 := Scalar.muli v6221 c128_i32_3113
  v6222
def k0_mult286 : BitVec 32 :=
  let c2_i32_3110 : BitVec 32 := 2#32
  let c0_i32_3109 : BitVec 32 := 0#32
  let v6219 : BitVec 32 := Scalar.muli c2_i32_3110 c0_i32_3109
  let c4_i32_3111 : BitVec 32 := 4#32
  let v6220 : BitVec 32 := Scalar.muli v6219 c4_i32_3111
  let c0_i32_3112 : BitVec 32 := 0#32
  let v6221 : BitVec 32 := Scalar.addi v6220 c0_i32_3112
  let c0_i32_3115 : BitVec 32 := 0#32
  let v6225 : BitVec 1 := Scalar.cmpi .sgt v6221 c0_i32_3115
  let v6226 : BitVec 32 := Scalar.extui v6225
  let c0_i32_3116 : BitVec 32 := 0#32
  let v6227 : BitVec 1 := Scalar.cmpi .slt v6221 c0_i32_3116
  let v6228 : BitVec 32 := Scalar.extui v6227
  let v6229 : BitVec 32 := Scalar.subi v6226 v6228
  let c4_i32_3114 : BitVec 32 := 4#32
  let c0_i32_3117 : BitVec 32 := 0#32
  let v6230 : BitVec 1 := Scalar.cmpi .sgt c4_i32_3114 c0_i32_3117
  let v6231 : BitVec 32 := Scalar.extui v6230
  let c0_i32_3118 : BitVec 32 := 0#32
  let v6232 : BitVec 1 := Scalar.cmpi .slt c4_i32_3114 c0_i32_3118
  let v6233 : BitVec 32 := Scalar.extui v6232
  let v6234 : BitVec 32 := Scalar.subi v6231 v6233
  let v6235 : BitVec 1 := Scalar.cmpi .ne v6229 v6234
  let v6236 : BitVec 32 := Scalar.remsi v6221 c4_i32_3114
  let c0_i32_3119 : BitVec 32 := 0#32
  let v6237 : BitVec 1 := Scalar.cmpi .ne v6236 c0_i32_3119
  let v6238 : BitVec 1 := Scalar.andi v6235 v6237
  let v6224 : BitVec 32 := Scalar.divsi v6221 c4_i32_3114
  let c1_i32_3120 : BitVec 32 := 1#32
  let v6239 : BitVec 32 := Scalar.subi v6224 c1_i32_3120
  let v6240 : BitVec 32 := Scalar.select v6238 v6239 v6224
  let c512_i32_3131 : BitVec 32 := 512#32
  let v6255 : BitVec 32 := Scalar.muli v6240 c512_i32_3131
  let c256_i32_3130 : BitVec 32 := 256#32
  let c0_i32_3129 : BitVec 32 := 0#32
  let c4_i32_3121 : BitVec 32 := 4#32
  let c0_i32_3122 : BitVec 32 := 0#32
  let v6241 : BitVec 1 := Scalar.cmpi .eq c4_i32_3121 c0_i32_3122
  let c1_i32_3123 : BitVec 32 := 1#32
  let v6242 : BitVec 32 := Scalar.select v6241 c1_i32_3123 c4_i32_3121
  let v6243 : BitVec 32 := Scalar.remsi v6221 v6242
  let c0_i32_3125 : BitVec 32 := 0#32
  let v6245 : BitVec 1 := Scalar.cmpi .slt v6243 c0_i32_3125
  let c0_i32_3126 : BitVec 32 := 0#32
  let v6246 : BitVec 1 := Scalar.cmpi .slt v6242 c0_i32_3126
  let v6247 : BitVec 1 := Scalar.xori v6245 v6246
  let c0_i32_3124 : BitVec 32 := 0#32
  let v6244 : BitVec 1 := Scalar.cmpi .ne v6243 c0_i32_3124
  let v6248 : BitVec 1 := Scalar.andi v6247 v6244
  let v6249 : BitVec 32 := Scalar.addi v6243 v6242
  let v6250 : BitVec 32 := Scalar.select v6248 v6249 v6243
  let c128_i32_3127 : BitVec 32 := 128#32
  let v6251 : BitVec 32 := Scalar.muli v6250 c128_i32_3127
  let c64_i32_3128 : BitVec 32 := 64#32
  let v6252 : BitVec 32 := Scalar.subi v6251 c64_i32_3128
  let v6253 : BitVec 32 := Scalar.maxsi c0_i32_3129 v6252
  let v6254 : BitVec 32 := Scalar.minsi c256_i32_3130 v6253
  let v6256 : BitVec 32 := Scalar.addi v6255 v6254
  v6256
def k0_mult287 : BitVec 32 :=
  let c2_i32_3110 : BitVec 32 := 2#32
  let c0_i32_3109 : BitVec 32 := 0#32
  let v6219 : BitVec 32 := Scalar.muli c2_i32_3110 c0_i32_3109
  let c4_i32_3111 : BitVec 32 := 4#32
  let v6220 : BitVec 32 := Scalar.muli v6219 c4_i32_3111
  let c0_i32_3112 : BitVec 32 := 0#32
  let v6221 : BitVec 32 := Scalar.addi v6220 c0_i32_3112
  let c0_i32_3115 : BitVec 32 := 0#32
  let v6225 : BitVec 1 := Scalar.cmpi .sgt v6221 c0_i32_3115
  let v6226 : BitVec 32 := Scalar.extui v6225
  let c0_i32_3116 : BitVec 32 := 0#32
  let v6227 : BitVec 1 := Scalar.cmpi .slt v6221 c0_i32_3116
  let v6228 : BitVec 32 := Scalar.extui v6227
  let v6229 : BitVec 32 := Scalar.subi v6226 v6228
  let c4_i32_3114 : BitVec 32 := 4#32
  let c0_i32_3117 : BitVec 32 := 0#32
  let v6230 : BitVec 1 := Scalar.cmpi .sgt c4_i32_3114 c0_i32_3117
  let v6231 : BitVec 32 := Scalar.extui v6230
  let c0_i32_3118 : BitVec 32 := 0#32
  let v6232 : BitVec 1 := Scalar.cmpi .slt c4_i32_3114 c0_i32_3118
  let v6233 : BitVec 32 := Scalar.extui v6232
  let v6234 : BitVec 32 := Scalar.subi v6231 v6233
  let v6235 : BitVec 1 := Scalar.cmpi .ne v6229 v6234
  let v6236 : BitVec 32 := Scalar.remsi v6221 c4_i32_3114
  let c0_i32_3119 : BitVec 32 := 0#32
  let v6237 : BitVec 1 := Scalar.cmpi .ne v6236 c0_i32_3119
  let v6238 : BitVec 1 := Scalar.andi v6235 v6237
  let v6224 : BitVec 32 := Scalar.divsi v6221 c4_i32_3114
  let c1_i32_3120 : BitVec 32 := 1#32
  let v6239 : BitVec 32 := Scalar.subi v6224 c1_i32_3120
  let v6240 : BitVec 32 := Scalar.select v6238 v6239 v6224
  let c512_i32_3131 : BitVec 32 := 512#32
  let v6255 : BitVec 32 := Scalar.muli v6240 c512_i32_3131
  let c256_i32_3130 : BitVec 32 := 256#32
  let c0_i32_3129 : BitVec 32 := 0#32
  let c4_i32_3121 : BitVec 32 := 4#32
  let c0_i32_3122 : BitVec 32 := 0#32
  let v6241 : BitVec 1 := Scalar.cmpi .eq c4_i32_3121 c0_i32_3122
  let c1_i32_3123 : BitVec 32 := 1#32
  let v6242 : BitVec 32 := Scalar.select v6241 c1_i32_3123 c4_i32_3121
  let v6243 : BitVec 32 := Scalar.remsi v6221 v6242
  let c0_i32_3125 : BitVec 32 := 0#32
  let v6245 : BitVec 1 := Scalar.cmpi .slt v6243 c0_i32_3125
  let c0_i32_3126 : BitVec 32 := 0#32
  let v6246 : BitVec 1 := Scalar.cmpi .slt v6242 c0_i32_3126
  let v6247 : BitVec 1 := Scalar.xori v6245 v6246
  let c0_i32_3124 : BitVec 32 := 0#32
  let v6244 : BitVec 1 := Scalar.cmpi .ne v6243 c0_i32_3124
  let v6248 : BitVec 1 := Scalar.andi v6247 v6244
  let v6249 : BitVec 32 := Scalar.addi v6243 v6242
  let v6250 : BitVec 32 := Scalar.select v6248 v6249 v6243
  let c128_i32_3127 : BitVec 32 := 128#32
  let v6251 : BitVec 32 := Scalar.muli v6250 c128_i32_3127
  let c64_i32_3128 : BitVec 32 := 64#32
  let v6252 : BitVec 32 := Scalar.subi v6251 c64_i32_3128
  let v6253 : BitVec 32 := Scalar.maxsi c0_i32_3129 v6252
  let v6254 : BitVec 32 := Scalar.minsi c256_i32_3130 v6253
  let v6256 : BitVec 32 := Scalar.addi v6255 v6254
  let v6257 : BitVec 32 := v6256
  let c0_i32_3137 : BitVec 32 := 0#32
  let v6261 : BitVec 1 := Scalar.cmpi .sgt v6257 c0_i32_3137
  let v6262 : BitVec 32 := Scalar.extui v6261
  let c0_i32_3138 : BitVec 32 := 0#32
  let v6263 : BitVec 1 := Scalar.cmpi .slt v6257 c0_i32_3138
  let v6264 : BitVec 32 := Scalar.extui v6263
  let v6265 : BitVec 32 := Scalar.subi v6262 v6264
  let c2_i32_3136 : BitVec 32 := 2#32
  let c0_i32_3139 : BitVec 32 := 0#32
  let v6266 : BitVec 1 := Scalar.cmpi .sgt c2_i32_3136 c0_i32_3139
  let v6267 : BitVec 32 := Scalar.extui v6266
  let c0_i32_3140 : BitVec 32 := 0#32
  let v6268 : BitVec 1 := Scalar.cmpi .slt c2_i32_3136 c0_i32_3140
  let v6269 : BitVec 32 := Scalar.extui v6268
  let v6270 : BitVec 32 := Scalar.subi v6267 v6269
  let v6271 : BitVec 1 := Scalar.cmpi .ne v6265 v6270
  let v6272 : BitVec 32 := Scalar.remsi v6257 c2_i32_3136
  let c0_i32_3141 : BitVec 32 := 0#32
  let v6273 : BitVec 1 := Scalar.cmpi .ne v6272 c0_i32_3141
  let v6274 : BitVec 1 := Scalar.andi v6271 v6273
  let v6260 : BitVec 32 := Scalar.divsi v6257 c2_i32_3136
  let c1_i32_3142 : BitVec 32 := 1#32
  let v6275 : BitVec 32 := Scalar.subi v6260 c1_i32_3142
  let v6276 : BitVec 32 := Scalar.select v6274 v6275 v6260
  v6276
def k0_off26 (c0_i32_3112 : BitVec 32) : Fin 3 → Nat :=
  let c3_3143 : Index := 3#32
  let c2_i32_3110 : BitVec 32 := 2#32
  let c0_i32_3109 : BitVec 32 := 0#32
  let v6219 : BitVec 32 := Scalar.muli c2_i32_3110 c0_i32_3109
  let c4_i32_3111 : BitVec 32 := 4#32
  let v6220 : BitVec 32 := Scalar.muli v6219 c4_i32_3111
  let v6221 : BitVec 32 := Scalar.addi v6220 c0_i32_3112
  let c0_i32_3115 : BitVec 32 := 0#32
  let v6225 : BitVec 1 := Scalar.cmpi .sgt v6221 c0_i32_3115
  let v6226 : BitVec 32 := Scalar.extui v6225
  let c0_i32_3116 : BitVec 32 := 0#32
  let v6227 : BitVec 1 := Scalar.cmpi .slt v6221 c0_i32_3116
  let v6228 : BitVec 32 := Scalar.extui v6227
  let v6229 : BitVec 32 := Scalar.subi v6226 v6228
  let c4_i32_3114 : BitVec 32 := 4#32
  let c0_i32_3117 : BitVec 32 := 0#32
  let v6230 : BitVec 1 := Scalar.cmpi .sgt c4_i32_3114 c0_i32_3117
  let v6231 : BitVec 32 := Scalar.extui v6230
  let c0_i32_3118 : BitVec 32 := 0#32
  let v6232 : BitVec 1 := Scalar.cmpi .slt c4_i32_3114 c0_i32_3118
  let v6233 : BitVec 32 := Scalar.extui v6232
  let v6234 : BitVec 32 := Scalar.subi v6231 v6233
  let v6235 : BitVec 1 := Scalar.cmpi .ne v6229 v6234
  let v6236 : BitVec 32 := Scalar.remsi v6221 c4_i32_3114
  let c0_i32_3119 : BitVec 32 := 0#32
  let v6237 : BitVec 1 := Scalar.cmpi .ne v6236 c0_i32_3119
  let v6238 : BitVec 1 := Scalar.andi v6235 v6237
  let v6224 : BitVec 32 := Scalar.divsi v6221 c4_i32_3114
  let c1_i32_3120 : BitVec 32 := 1#32
  let v6239 : BitVec 32 := Scalar.subi v6224 c1_i32_3120
  let v6240 : BitVec 32 := Scalar.select v6238 v6239 v6224
  let c512_i32_3131 : BitVec 32 := 512#32
  let v6255 : BitVec 32 := Scalar.muli v6240 c512_i32_3131
  let c256_i32_3130 : BitVec 32 := 256#32
  let c0_i32_3129 : BitVec 32 := 0#32
  let c4_i32_3121 : BitVec 32 := 4#32
  let c0_i32_3122 : BitVec 32 := 0#32
  let v6241 : BitVec 1 := Scalar.cmpi .eq c4_i32_3121 c0_i32_3122
  let c1_i32_3123 : BitVec 32 := 1#32
  let v6242 : BitVec 32 := Scalar.select v6241 c1_i32_3123 c4_i32_3121
  let v6243 : BitVec 32 := Scalar.remsi v6221 v6242
  let c0_i32_3125 : BitVec 32 := 0#32
  let v6245 : BitVec 1 := Scalar.cmpi .slt v6243 c0_i32_3125
  let c0_i32_3126 : BitVec 32 := 0#32
  let v6246 : BitVec 1 := Scalar.cmpi .slt v6242 c0_i32_3126
  let v6247 : BitVec 1 := Scalar.xori v6245 v6246
  let c0_i32_3124 : BitVec 32 := 0#32
  let v6244 : BitVec 1 := Scalar.cmpi .ne v6243 c0_i32_3124
  let v6248 : BitVec 1 := Scalar.andi v6247 v6244
  let v6249 : BitVec 32 := Scalar.addi v6243 v6242
  let v6250 : BitVec 32 := Scalar.select v6248 v6249 v6243
  let c128_i32_3127 : BitVec 32 := 128#32
  let v6251 : BitVec 32 := Scalar.muli v6250 c128_i32_3127
  let c64_i32_3128 : BitVec 32 := 64#32
  let v6252 : BitVec 32 := Scalar.subi v6251 c64_i32_3128
  let v6253 : BitVec 32 := Scalar.maxsi c0_i32_3129 v6252
  let v6254 : BitVec 32 := Scalar.minsi c256_i32_3130 v6253
  let v6256 : BitVec 32 := Scalar.addi v6255 v6254
  let v6257 : BitVec 32 := v6256
  let c0_i32_3137 : BitVec 32 := 0#32
  let v6261 : BitVec 1 := Scalar.cmpi .sgt v6257 c0_i32_3137
  let v6262 : BitVec 32 := Scalar.extui v6261
  let c0_i32_3138 : BitVec 32 := 0#32
  let v6263 : BitVec 1 := Scalar.cmpi .slt v6257 c0_i32_3138
  let v6264 : BitVec 32 := Scalar.extui v6263
  let v6265 : BitVec 32 := Scalar.subi v6262 v6264
  let c2_i32_3136 : BitVec 32 := 2#32
  let c0_i32_3139 : BitVec 32 := 0#32
  let v6266 : BitVec 1 := Scalar.cmpi .sgt c2_i32_3136 c0_i32_3139
  let v6267 : BitVec 32 := Scalar.extui v6266
  let c0_i32_3140 : BitVec 32 := 0#32
  let v6268 : BitVec 1 := Scalar.cmpi .slt c2_i32_3136 c0_i32_3140
  let v6269 : BitVec 32 := Scalar.extui v6268
  let v6270 : BitVec 32 := Scalar.subi v6267 v6269
  let v6271 : BitVec 1 := Scalar.cmpi .ne v6265 v6270
  let v6272 : BitVec 32 := Scalar.remsi v6257 c2_i32_3136
  let c0_i32_3141 : BitVec 32 := 0#32
  let v6273 : BitVec 1 := Scalar.cmpi .ne v6272 c0_i32_3141
  let v6274 : BitVec 1 := Scalar.andi v6271 v6273
  let v6260 : BitVec 32 := Scalar.divsi v6257 c2_i32_3136
  let c1_i32_3142 : BitVec 32 := 1#32
  let v6275 : BitVec 32 := Scalar.subi v6260 c1_i32_3142
  let v6276 : BitVec 32 := Scalar.select v6274 v6275 v6260
  let v6277 : BitVec 32 := v6276
  let v6278 : Index := Scalar.indexCast v6277
  let c0_3144 : Index := 0#32
  ![3, v6278.toNat, 0]
def k0_mult288 : BitVec 32 :=
  let c2_i32_3110 : BitVec 32 := 2#32
  let c0_i32_3109 : BitVec 32 := 0#32
  let v6219 : BitVec 32 := Scalar.muli c2_i32_3110 c0_i32_3109
  let c4_i32_3111 : BitVec 32 := 4#32
  let v6220 : BitVec 32 := Scalar.muli v6219 c4_i32_3111
  let c0_i32_3112 : BitVec 32 := 0#32
  let v6221 : BitVec 32 := Scalar.addi v6220 c0_i32_3112
  let c0_i32_3115 : BitVec 32 := 0#32
  let v6225 : BitVec 1 := Scalar.cmpi .sgt v6221 c0_i32_3115
  let v6226 : BitVec 32 := Scalar.extui v6225
  let c0_i32_3116 : BitVec 32 := 0#32
  let v6227 : BitVec 1 := Scalar.cmpi .slt v6221 c0_i32_3116
  let v6228 : BitVec 32 := Scalar.extui v6227
  let v6229 : BitVec 32 := Scalar.subi v6226 v6228
  let c4_i32_3114 : BitVec 32 := 4#32
  let c0_i32_3117 : BitVec 32 := 0#32
  let v6230 : BitVec 1 := Scalar.cmpi .sgt c4_i32_3114 c0_i32_3117
  let v6231 : BitVec 32 := Scalar.extui v6230
  let c0_i32_3118 : BitVec 32 := 0#32
  let v6232 : BitVec 1 := Scalar.cmpi .slt c4_i32_3114 c0_i32_3118
  let v6233 : BitVec 32 := Scalar.extui v6232
  let v6234 : BitVec 32 := Scalar.subi v6231 v6233
  let v6235 : BitVec 1 := Scalar.cmpi .ne v6229 v6234
  let v6236 : BitVec 32 := Scalar.remsi v6221 c4_i32_3114
  let c0_i32_3119 : BitVec 32 := 0#32
  let v6237 : BitVec 1 := Scalar.cmpi .ne v6236 c0_i32_3119
  let v6238 : BitVec 1 := Scalar.andi v6235 v6237
  let v6224 : BitVec 32 := Scalar.divsi v6221 c4_i32_3114
  let c1_i32_3120 : BitVec 32 := 1#32
  let v6239 : BitVec 32 := Scalar.subi v6224 c1_i32_3120
  let v6240 : BitVec 32 := Scalar.select v6238 v6239 v6224
  let c512_i32_3131 : BitVec 32 := 512#32
  let v6255 : BitVec 32 := Scalar.muli v6240 c512_i32_3131
  let c256_i32_3130 : BitVec 32 := 256#32
  let c0_i32_3129 : BitVec 32 := 0#32
  let c4_i32_3121 : BitVec 32 := 4#32
  let c0_i32_3122 : BitVec 32 := 0#32
  let v6241 : BitVec 1 := Scalar.cmpi .eq c4_i32_3121 c0_i32_3122
  let c1_i32_3123 : BitVec 32 := 1#32
  let v6242 : BitVec 32 := Scalar.select v6241 c1_i32_3123 c4_i32_3121
  let v6243 : BitVec 32 := Scalar.remsi v6221 v6242
  let c0_i32_3125 : BitVec 32 := 0#32
  let v6245 : BitVec 1 := Scalar.cmpi .slt v6243 c0_i32_3125
  let c0_i32_3126 : BitVec 32 := 0#32
  let v6246 : BitVec 1 := Scalar.cmpi .slt v6242 c0_i32_3126
  let v6247 : BitVec 1 := Scalar.xori v6245 v6246
  let c0_i32_3124 : BitVec 32 := 0#32
  let v6244 : BitVec 1 := Scalar.cmpi .ne v6243 c0_i32_3124
  let v6248 : BitVec 1 := Scalar.andi v6247 v6244
  let v6249 : BitVec 32 := Scalar.addi v6243 v6242
  let v6250 : BitVec 32 := Scalar.select v6248 v6249 v6243
  let c128_i32_3127 : BitVec 32 := 128#32
  let v6251 : BitVec 32 := Scalar.muli v6250 c128_i32_3127
  let c64_i32_3128 : BitVec 32 := 64#32
  let v6252 : BitVec 32 := Scalar.subi v6251 c64_i32_3128
  let v6253 : BitVec 32 := Scalar.maxsi c0_i32_3129 v6252
  let v6254 : BitVec 32 := Scalar.minsi c256_i32_3130 v6253
  let v6256 : BitVec 32 := Scalar.addi v6255 v6254
  let v6257 : BitVec 32 := v6256
  let c0_i32_3151 : BitVec 32 := 0#32
  let v6286 : BitVec 1 := Scalar.cmpi .sgt v6257 c0_i32_3151
  let v6287 : BitVec 32 := Scalar.extui v6286
  let c0_i32_3152 : BitVec 32 := 0#32
  let v6288 : BitVec 1 := Scalar.cmpi .slt v6257 c0_i32_3152
  let v6289 : BitVec 32 := Scalar.extui v6288
  let v6290 : BitVec 32 := Scalar.subi v6287 v6289
  let c2_i32_3150 : BitVec 32 := 2#32
  let c0_i32_3153 : BitVec 32 := 0#32
  let v6291 : BitVec 1 := Scalar.cmpi .sgt c2_i32_3150 c0_i32_3153
  let v6292 : BitVec 32 := Scalar.extui v6291
  let c0_i32_3154 : BitVec 32 := 0#32
  let v6293 : BitVec 1 := Scalar.cmpi .slt c2_i32_3150 c0_i32_3154
  let v6294 : BitVec 32 := Scalar.extui v6293
  let v6295 : BitVec 32 := Scalar.subi v6292 v6294
  let v6296 : BitVec 1 := Scalar.cmpi .ne v6290 v6295
  let v6297 : BitVec 32 := Scalar.remsi v6257 c2_i32_3150
  let c0_i32_3155 : BitVec 32 := 0#32
  let v6298 : BitVec 1 := Scalar.cmpi .ne v6297 c0_i32_3155
  let v6299 : BitVec 1 := Scalar.andi v6296 v6298
  let v6285 : BitVec 32 := Scalar.divsi v6257 c2_i32_3150
  let c1_i32_3156 : BitVec 32 := 1#32
  let v6300 : BitVec 32 := Scalar.subi v6285 c1_i32_3156
  let v6301 : BitVec 32 := Scalar.select v6299 v6300 v6285
  v6301
def k0_off27 (c0_i32_3112 : BitVec 32) : Fin 3 → Nat :=
  let c4_3157 : Index := 4#32
  let c2_i32_3110 : BitVec 32 := 2#32
  let c0_i32_3109 : BitVec 32 := 0#32
  let v6219 : BitVec 32 := Scalar.muli c2_i32_3110 c0_i32_3109
  let c4_i32_3111 : BitVec 32 := 4#32
  let v6220 : BitVec 32 := Scalar.muli v6219 c4_i32_3111
  let v6221 : BitVec 32 := Scalar.addi v6220 c0_i32_3112
  let c0_i32_3115 : BitVec 32 := 0#32
  let v6225 : BitVec 1 := Scalar.cmpi .sgt v6221 c0_i32_3115
  let v6226 : BitVec 32 := Scalar.extui v6225
  let c0_i32_3116 : BitVec 32 := 0#32
  let v6227 : BitVec 1 := Scalar.cmpi .slt v6221 c0_i32_3116
  let v6228 : BitVec 32 := Scalar.extui v6227
  let v6229 : BitVec 32 := Scalar.subi v6226 v6228
  let c4_i32_3114 : BitVec 32 := 4#32
  let c0_i32_3117 : BitVec 32 := 0#32
  let v6230 : BitVec 1 := Scalar.cmpi .sgt c4_i32_3114 c0_i32_3117
  let v6231 : BitVec 32 := Scalar.extui v6230
  let c0_i32_3118 : BitVec 32 := 0#32
  let v6232 : BitVec 1 := Scalar.cmpi .slt c4_i32_3114 c0_i32_3118
  let v6233 : BitVec 32 := Scalar.extui v6232
  let v6234 : BitVec 32 := Scalar.subi v6231 v6233
  let v6235 : BitVec 1 := Scalar.cmpi .ne v6229 v6234
  let v6236 : BitVec 32 := Scalar.remsi v6221 c4_i32_3114
  let c0_i32_3119 : BitVec 32 := 0#32
  let v6237 : BitVec 1 := Scalar.cmpi .ne v6236 c0_i32_3119
  let v6238 : BitVec 1 := Scalar.andi v6235 v6237
  let v6224 : BitVec 32 := Scalar.divsi v6221 c4_i32_3114
  let c1_i32_3120 : BitVec 32 := 1#32
  let v6239 : BitVec 32 := Scalar.subi v6224 c1_i32_3120
  let v6240 : BitVec 32 := Scalar.select v6238 v6239 v6224
  let c512_i32_3131 : BitVec 32 := 512#32
  let v6255 : BitVec 32 := Scalar.muli v6240 c512_i32_3131
  let c256_i32_3130 : BitVec 32 := 256#32
  let c0_i32_3129 : BitVec 32 := 0#32
  let c4_i32_3121 : BitVec 32 := 4#32
  let c0_i32_3122 : BitVec 32 := 0#32
  let v6241 : BitVec 1 := Scalar.cmpi .eq c4_i32_3121 c0_i32_3122
  let c1_i32_3123 : BitVec 32 := 1#32
  let v6242 : BitVec 32 := Scalar.select v6241 c1_i32_3123 c4_i32_3121
  let v6243 : BitVec 32 := Scalar.remsi v6221 v6242
  let c0_i32_3125 : BitVec 32 := 0#32
  let v6245 : BitVec 1 := Scalar.cmpi .slt v6243 c0_i32_3125
  let c0_i32_3126 : BitVec 32 := 0#32
  let v6246 : BitVec 1 := Scalar.cmpi .slt v6242 c0_i32_3126
  let v6247 : BitVec 1 := Scalar.xori v6245 v6246
  let c0_i32_3124 : BitVec 32 := 0#32
  let v6244 : BitVec 1 := Scalar.cmpi .ne v6243 c0_i32_3124
  let v6248 : BitVec 1 := Scalar.andi v6247 v6244
  let v6249 : BitVec 32 := Scalar.addi v6243 v6242
  let v6250 : BitVec 32 := Scalar.select v6248 v6249 v6243
  let c128_i32_3127 : BitVec 32 := 128#32
  let v6251 : BitVec 32 := Scalar.muli v6250 c128_i32_3127
  let c64_i32_3128 : BitVec 32 := 64#32
  let v6252 : BitVec 32 := Scalar.subi v6251 c64_i32_3128
  let v6253 : BitVec 32 := Scalar.maxsi c0_i32_3129 v6252
  let v6254 : BitVec 32 := Scalar.minsi c256_i32_3130 v6253
  let v6256 : BitVec 32 := Scalar.addi v6255 v6254
  let v6257 : BitVec 32 := v6256
  let c0_i32_3151 : BitVec 32 := 0#32
  let v6286 : BitVec 1 := Scalar.cmpi .sgt v6257 c0_i32_3151
  let v6287 : BitVec 32 := Scalar.extui v6286
  let c0_i32_3152 : BitVec 32 := 0#32
  let v6288 : BitVec 1 := Scalar.cmpi .slt v6257 c0_i32_3152
  let v6289 : BitVec 32 := Scalar.extui v6288
  let v6290 : BitVec 32 := Scalar.subi v6287 v6289
  let c2_i32_3150 : BitVec 32 := 2#32
  let c0_i32_3153 : BitVec 32 := 0#32
  let v6291 : BitVec 1 := Scalar.cmpi .sgt c2_i32_3150 c0_i32_3153
  let v6292 : BitVec 32 := Scalar.extui v6291
  let c0_i32_3154 : BitVec 32 := 0#32
  let v6293 : BitVec 1 := Scalar.cmpi .slt c2_i32_3150 c0_i32_3154
  let v6294 : BitVec 32 := Scalar.extui v6293
  let v6295 : BitVec 32 := Scalar.subi v6292 v6294
  let v6296 : BitVec 1 := Scalar.cmpi .ne v6290 v6295
  let v6297 : BitVec 32 := Scalar.remsi v6257 c2_i32_3150
  let c0_i32_3155 : BitVec 32 := 0#32
  let v6298 : BitVec 1 := Scalar.cmpi .ne v6297 c0_i32_3155
  let v6299 : BitVec 1 := Scalar.andi v6296 v6298
  let v6285 : BitVec 32 := Scalar.divsi v6257 c2_i32_3150
  let c1_i32_3156 : BitVec 32 := 1#32
  let v6300 : BitVec 32 := Scalar.subi v6285 c1_i32_3156
  let v6301 : BitVec 32 := Scalar.select v6299 v6300 v6285
  let v6302 : BitVec 32 := v6301
  let v6303 : Index := Scalar.indexCast v6302
  let c0_3158 : Index := 0#32
  ![4, v6303.toNat, 0]
def k0_off28 (c0_i32_3112 : BitVec 32) : Fin 3 → Nat :=
  let c2_3161 : Index := 2#32
  let c2_i32_3110 : BitVec 32 := 2#32
  let c0_i32_3109 : BitVec 32 := 0#32
  let v6219 : BitVec 32 := Scalar.muli c2_i32_3110 c0_i32_3109
  let c4_i32_3111 : BitVec 32 := 4#32
  let v6220 : BitVec 32 := Scalar.muli v6219 c4_i32_3111
  let v6221 : BitVec 32 := Scalar.addi v6220 c0_i32_3112
  let c128_i32_3113 : BitVec 32 := 128#32
  let v6222 : BitVec 32 := Scalar.muli v6221 c128_i32_3113
  let v6223 : BitVec 32 := v6222
  let v6316 : Index := Scalar.indexCast v6223
  let c0_3162 : Index := 0#32
  ![2, v6316.toNat, 0]
def k0_off29 (c0_i32_3112 : BitVec 32) : Fin 3 → Nat :=
  let c3_3168 : Index := 3#32
  let c2_i32_3110 : BitVec 32 := 2#32
  let c0_i32_3109 : BitVec 32 := 0#32
  let v6219 : BitVec 32 := Scalar.muli c2_i32_3110 c0_i32_3109
  let c4_i32_3111 : BitVec 32 := 4#32
  let v6220 : BitVec 32 := Scalar.muli v6219 c4_i32_3111
  let v6221 : BitVec 32 := Scalar.addi v6220 c0_i32_3112
  let c128_i32_3113 : BitVec 32 := 128#32
  let v6222 : BitVec 32 := Scalar.muli v6221 c128_i32_3113
  let v6223 : BitVec 32 := v6222
  let v6326 : Index := Scalar.indexCast v6223
  let c0_3169 : Index := 0#32
  ![3, v6326.toNat, 0]
def k0_mult289 : BitVec 32 :=
  let c2_i32_3110 : BitVec 32 := 2#32
  let c0_i32_3109 : BitVec 32 := 0#32
  let v6219 : BitVec 32 := Scalar.muli c2_i32_3110 c0_i32_3109
  let c4_i32_3170 : BitVec 32 := 4#32
  let v6330 : BitVec 32 := Scalar.muli v6219 c4_i32_3170
  let c1_i32_3171 : BitVec 32 := 1#32
  let v6331 : BitVec 32 := Scalar.addi v6330 c1_i32_3171
  let c128_i32_3172 : BitVec 32 := 128#32
  let v6332 : BitVec 32 := Scalar.muli v6331 c128_i32_3172
  v6332
def k0_mult290 : BitVec 32 :=
  let c2_i32_3110 : BitVec 32 := 2#32
  let c0_i32_3109 : BitVec 32 := 0#32
  let v6219 : BitVec 32 := Scalar.muli c2_i32_3110 c0_i32_3109
  let c4_i32_3170 : BitVec 32 := 4#32
  let v6330 : BitVec 32 := Scalar.muli v6219 c4_i32_3170
  let c1_i32_3171 : BitVec 32 := 1#32
  let v6331 : BitVec 32 := Scalar.addi v6330 c1_i32_3171
  let c0_i32_3174 : BitVec 32 := 0#32
  let v6335 : BitVec 1 := Scalar.cmpi .sgt v6331 c0_i32_3174
  let v6336 : BitVec 32 := Scalar.extui v6335
  let c0_i32_3175 : BitVec 32 := 0#32
  let v6337 : BitVec 1 := Scalar.cmpi .slt v6331 c0_i32_3175
  let v6338 : BitVec 32 := Scalar.extui v6337
  let v6339 : BitVec 32 := Scalar.subi v6336 v6338
  let c4_i32_3173 : BitVec 32 := 4#32
  let c0_i32_3176 : BitVec 32 := 0#32
  let v6340 : BitVec 1 := Scalar.cmpi .sgt c4_i32_3173 c0_i32_3176
  let v6341 : BitVec 32 := Scalar.extui v6340
  let c0_i32_3177 : BitVec 32 := 0#32
  let v6342 : BitVec 1 := Scalar.cmpi .slt c4_i32_3173 c0_i32_3177
  let v6343 : BitVec 32 := Scalar.extui v6342
  let v6344 : BitVec 32 := Scalar.subi v6341 v6343
  let v6345 : BitVec 1 := Scalar.cmpi .ne v6339 v6344
  let v6346 : BitVec 32 := Scalar.remsi v6331 c4_i32_3173
  let c0_i32_3178 : BitVec 32 := 0#32
  let v6347 : BitVec 1 := Scalar.cmpi .ne v6346 c0_i32_3178
  let v6348 : BitVec 1 := Scalar.andi v6345 v6347
  let v6334 : BitVec 32 := Scalar.divsi v6331 c4_i32_3173
  let c1_i32_3179 : BitVec 32 := 1#32
  let v6349 : BitVec 32 := Scalar.subi v6334 c1_i32_3179
  let v6350 : BitVec 32 := Scalar.select v6348 v6349 v6334
  let c512_i32_3190 : BitVec 32 := 512#32
  let v6365 : BitVec 32 := Scalar.muli v6350 c512_i32_3190
  let c256_i32_3189 : BitVec 32 := 256#32
  let c0_i32_3188 : BitVec 32 := 0#32
  let c4_i32_3180 : BitVec 32 := 4#32
  let c0_i32_3181 : BitVec 32 := 0#32
  let v6351 : BitVec 1 := Scalar.cmpi .eq c4_i32_3180 c0_i32_3181
  let c1_i32_3182 : BitVec 32 := 1#32
  let v6352 : BitVec 32 := Scalar.select v6351 c1_i32_3182 c4_i32_3180
  let v6353 : BitVec 32 := Scalar.remsi v6331 v6352
  let c0_i32_3184 : BitVec 32 := 0#32
  let v6355 : BitVec 1 := Scalar.cmpi .slt v6353 c0_i32_3184
  let c0_i32_3185 : BitVec 32 := 0#32
  let v6356 : BitVec 1 := Scalar.cmpi .slt v6352 c0_i32_3185
  let v6357 : BitVec 1 := Scalar.xori v6355 v6356
  let c0_i32_3183 : BitVec 32 := 0#32
  let v6354 : BitVec 1 := Scalar.cmpi .ne v6353 c0_i32_3183
  let v6358 : BitVec 1 := Scalar.andi v6357 v6354
  let v6359 : BitVec 32 := Scalar.addi v6353 v6352
  let v6360 : BitVec 32 := Scalar.select v6358 v6359 v6353
  let c128_i32_3186 : BitVec 32 := 128#32
  let v6361 : BitVec 32 := Scalar.muli v6360 c128_i32_3186
  let c64_i32_3187 : BitVec 32 := 64#32
  let v6362 : BitVec 32 := Scalar.subi v6361 c64_i32_3187
  let v6363 : BitVec 32 := Scalar.maxsi c0_i32_3188 v6362
  let v6364 : BitVec 32 := Scalar.minsi c256_i32_3189 v6363
  let v6366 : BitVec 32 := Scalar.addi v6365 v6364
  v6366
def k0_mult291 : BitVec 32 :=
  let c2_i32_3110 : BitVec 32 := 2#32
  let c0_i32_3109 : BitVec 32 := 0#32
  let v6219 : BitVec 32 := Scalar.muli c2_i32_3110 c0_i32_3109
  let c4_i32_3170 : BitVec 32 := 4#32
  let v6330 : BitVec 32 := Scalar.muli v6219 c4_i32_3170
  let c1_i32_3171 : BitVec 32 := 1#32
  let v6331 : BitVec 32 := Scalar.addi v6330 c1_i32_3171
  let c0_i32_3174 : BitVec 32 := 0#32
  let v6335 : BitVec 1 := Scalar.cmpi .sgt v6331 c0_i32_3174
  let v6336 : BitVec 32 := Scalar.extui v6335
  let c0_i32_3175 : BitVec 32 := 0#32
  let v6337 : BitVec 1 := Scalar.cmpi .slt v6331 c0_i32_3175
  let v6338 : BitVec 32 := Scalar.extui v6337
  let v6339 : BitVec 32 := Scalar.subi v6336 v6338
  let c4_i32_3173 : BitVec 32 := 4#32
  let c0_i32_3176 : BitVec 32 := 0#32
  let v6340 : BitVec 1 := Scalar.cmpi .sgt c4_i32_3173 c0_i32_3176
  let v6341 : BitVec 32 := Scalar.extui v6340
  let c0_i32_3177 : BitVec 32 := 0#32
  let v6342 : BitVec 1 := Scalar.cmpi .slt c4_i32_3173 c0_i32_3177
  let v6343 : BitVec 32 := Scalar.extui v6342
  let v6344 : BitVec 32 := Scalar.subi v6341 v6343
  let v6345 : BitVec 1 := Scalar.cmpi .ne v6339 v6344
  let v6346 : BitVec 32 := Scalar.remsi v6331 c4_i32_3173
  let c0_i32_3178 : BitVec 32 := 0#32
  let v6347 : BitVec 1 := Scalar.cmpi .ne v6346 c0_i32_3178
  let v6348 : BitVec 1 := Scalar.andi v6345 v6347
  let v6334 : BitVec 32 := Scalar.divsi v6331 c4_i32_3173
  let c1_i32_3179 : BitVec 32 := 1#32
  let v6349 : BitVec 32 := Scalar.subi v6334 c1_i32_3179
  let v6350 : BitVec 32 := Scalar.select v6348 v6349 v6334
  let c512_i32_3190 : BitVec 32 := 512#32
  let v6365 : BitVec 32 := Scalar.muli v6350 c512_i32_3190
  let c256_i32_3189 : BitVec 32 := 256#32
  let c0_i32_3188 : BitVec 32 := 0#32
  let c4_i32_3180 : BitVec 32 := 4#32
  let c0_i32_3181 : BitVec 32 := 0#32
  let v6351 : BitVec 1 := Scalar.cmpi .eq c4_i32_3180 c0_i32_3181
  let c1_i32_3182 : BitVec 32 := 1#32
  let v6352 : BitVec 32 := Scalar.select v6351 c1_i32_3182 c4_i32_3180
  let v6353 : BitVec 32 := Scalar.remsi v6331 v6352
  let c0_i32_3184 : BitVec 32 := 0#32
  let v6355 : BitVec 1 := Scalar.cmpi .slt v6353 c0_i32_3184
  let c0_i32_3185 : BitVec 32 := 0#32
  let v6356 : BitVec 1 := Scalar.cmpi .slt v6352 c0_i32_3185
  let v6357 : BitVec 1 := Scalar.xori v6355 v6356
  let c0_i32_3183 : BitVec 32 := 0#32
  let v6354 : BitVec 1 := Scalar.cmpi .ne v6353 c0_i32_3183
  let v6358 : BitVec 1 := Scalar.andi v6357 v6354
  let v6359 : BitVec 32 := Scalar.addi v6353 v6352
  let v6360 : BitVec 32 := Scalar.select v6358 v6359 v6353
  let c128_i32_3186 : BitVec 32 := 128#32
  let v6361 : BitVec 32 := Scalar.muli v6360 c128_i32_3186
  let c64_i32_3187 : BitVec 32 := 64#32
  let v6362 : BitVec 32 := Scalar.subi v6361 c64_i32_3187
  let v6363 : BitVec 32 := Scalar.maxsi c0_i32_3188 v6362
  let v6364 : BitVec 32 := Scalar.minsi c256_i32_3189 v6363
  let v6366 : BitVec 32 := Scalar.addi v6365 v6364
  let v6367 : BitVec 32 := v6366
  let c0_i32_3196 : BitVec 32 := 0#32
  let v6371 : BitVec 1 := Scalar.cmpi .sgt v6367 c0_i32_3196
  let v6372 : BitVec 32 := Scalar.extui v6371
  let c0_i32_3197 : BitVec 32 := 0#32
  let v6373 : BitVec 1 := Scalar.cmpi .slt v6367 c0_i32_3197
  let v6374 : BitVec 32 := Scalar.extui v6373
  let v6375 : BitVec 32 := Scalar.subi v6372 v6374
  let c2_i32_3195 : BitVec 32 := 2#32
  let c0_i32_3198 : BitVec 32 := 0#32
  let v6376 : BitVec 1 := Scalar.cmpi .sgt c2_i32_3195 c0_i32_3198
  let v6377 : BitVec 32 := Scalar.extui v6376
  let c0_i32_3199 : BitVec 32 := 0#32
  let v6378 : BitVec 1 := Scalar.cmpi .slt c2_i32_3195 c0_i32_3199
  let v6379 : BitVec 32 := Scalar.extui v6378
  let v6380 : BitVec 32 := Scalar.subi v6377 v6379
  let v6381 : BitVec 1 := Scalar.cmpi .ne v6375 v6380
  let v6382 : BitVec 32 := Scalar.remsi v6367 c2_i32_3195
  let c0_i32_3200 : BitVec 32 := 0#32
  let v6383 : BitVec 1 := Scalar.cmpi .ne v6382 c0_i32_3200
  let v6384 : BitVec 1 := Scalar.andi v6381 v6383
  let v6370 : BitVec 32 := Scalar.divsi v6367 c2_i32_3195
  let c1_i32_3201 : BitVec 32 := 1#32
  let v6385 : BitVec 32 := Scalar.subi v6370 c1_i32_3201
  let v6386 : BitVec 32 := Scalar.select v6384 v6385 v6370
  v6386
def k0_mult292 : BitVec 32 :=
  let c2_i32_3110 : BitVec 32 := 2#32
  let c0_i32_3109 : BitVec 32 := 0#32
  let v6219 : BitVec 32 := Scalar.muli c2_i32_3110 c0_i32_3109
  let c4_i32_3170 : BitVec 32 := 4#32
  let v6330 : BitVec 32 := Scalar.muli v6219 c4_i32_3170
  let c1_i32_3171 : BitVec 32 := 1#32
  let v6331 : BitVec 32 := Scalar.addi v6330 c1_i32_3171
  let c0_i32_3174 : BitVec 32 := 0#32
  let v6335 : BitVec 1 := Scalar.cmpi .sgt v6331 c0_i32_3174
  let v6336 : BitVec 32 := Scalar.extui v6335
  let c0_i32_3175 : BitVec 32 := 0#32
  let v6337 : BitVec 1 := Scalar.cmpi .slt v6331 c0_i32_3175
  let v6338 : BitVec 32 := Scalar.extui v6337
  let v6339 : BitVec 32 := Scalar.subi v6336 v6338
  let c4_i32_3173 : BitVec 32 := 4#32
  let c0_i32_3176 : BitVec 32 := 0#32
  let v6340 : BitVec 1 := Scalar.cmpi .sgt c4_i32_3173 c0_i32_3176
  let v6341 : BitVec 32 := Scalar.extui v6340
  let c0_i32_3177 : BitVec 32 := 0#32
  let v6342 : BitVec 1 := Scalar.cmpi .slt c4_i32_3173 c0_i32_3177
  let v6343 : BitVec 32 := Scalar.extui v6342
  let v6344 : BitVec 32 := Scalar.subi v6341 v6343
  let v6345 : BitVec 1 := Scalar.cmpi .ne v6339 v6344
  let v6346 : BitVec 32 := Scalar.remsi v6331 c4_i32_3173
  let c0_i32_3178 : BitVec 32 := 0#32
  let v6347 : BitVec 1 := Scalar.cmpi .ne v6346 c0_i32_3178
  let v6348 : BitVec 1 := Scalar.andi v6345 v6347
  let v6334 : BitVec 32 := Scalar.divsi v6331 c4_i32_3173
  let c1_i32_3179 : BitVec 32 := 1#32
  let v6349 : BitVec 32 := Scalar.subi v6334 c1_i32_3179
  let v6350 : BitVec 32 := Scalar.select v6348 v6349 v6334
  let c512_i32_3190 : BitVec 32 := 512#32
  let v6365 : BitVec 32 := Scalar.muli v6350 c512_i32_3190
  let c256_i32_3189 : BitVec 32 := 256#32
  let c0_i32_3188 : BitVec 32 := 0#32
  let c4_i32_3180 : BitVec 32 := 4#32
  let c0_i32_3181 : BitVec 32 := 0#32
  let v6351 : BitVec 1 := Scalar.cmpi .eq c4_i32_3180 c0_i32_3181
  let c1_i32_3182 : BitVec 32 := 1#32
  let v6352 : BitVec 32 := Scalar.select v6351 c1_i32_3182 c4_i32_3180
  let v6353 : BitVec 32 := Scalar.remsi v6331 v6352
  let c0_i32_3184 : BitVec 32 := 0#32
  let v6355 : BitVec 1 := Scalar.cmpi .slt v6353 c0_i32_3184
  let c0_i32_3185 : BitVec 32 := 0#32
  let v6356 : BitVec 1 := Scalar.cmpi .slt v6352 c0_i32_3185
  let v6357 : BitVec 1 := Scalar.xori v6355 v6356
  let c0_i32_3183 : BitVec 32 := 0#32
  let v6354 : BitVec 1 := Scalar.cmpi .ne v6353 c0_i32_3183
  let v6358 : BitVec 1 := Scalar.andi v6357 v6354
  let v6359 : BitVec 32 := Scalar.addi v6353 v6352
  let v6360 : BitVec 32 := Scalar.select v6358 v6359 v6353
  let c128_i32_3186 : BitVec 32 := 128#32
  let v6361 : BitVec 32 := Scalar.muli v6360 c128_i32_3186
  let c64_i32_3187 : BitVec 32 := 64#32
  let v6362 : BitVec 32 := Scalar.subi v6361 c64_i32_3187
  let v6363 : BitVec 32 := Scalar.maxsi c0_i32_3188 v6362
  let v6364 : BitVec 32 := Scalar.minsi c256_i32_3189 v6363
  let v6366 : BitVec 32 := Scalar.addi v6365 v6364
  let v6367 : BitVec 32 := v6366
  let c0_i32_3210 : BitVec 32 := 0#32
  let v6396 : BitVec 1 := Scalar.cmpi .sgt v6367 c0_i32_3210
  let v6397 : BitVec 32 := Scalar.extui v6396
  let c0_i32_3211 : BitVec 32 := 0#32
  let v6398 : BitVec 1 := Scalar.cmpi .slt v6367 c0_i32_3211
  let v6399 : BitVec 32 := Scalar.extui v6398
  let v6400 : BitVec 32 := Scalar.subi v6397 v6399
  let c2_i32_3209 : BitVec 32 := 2#32
  let c0_i32_3212 : BitVec 32 := 0#32
  let v6401 : BitVec 1 := Scalar.cmpi .sgt c2_i32_3209 c0_i32_3212
  let v6402 : BitVec 32 := Scalar.extui v6401
  let c0_i32_3213 : BitVec 32 := 0#32
  let v6403 : BitVec 1 := Scalar.cmpi .slt c2_i32_3209 c0_i32_3213
  let v6404 : BitVec 32 := Scalar.extui v6403
  let v6405 : BitVec 32 := Scalar.subi v6402 v6404
  let v6406 : BitVec 1 := Scalar.cmpi .ne v6400 v6405
  let v6407 : BitVec 32 := Scalar.remsi v6367 c2_i32_3209
  let c0_i32_3214 : BitVec 32 := 0#32
  let v6408 : BitVec 1 := Scalar.cmpi .ne v6407 c0_i32_3214
  let v6409 : BitVec 1 := Scalar.andi v6406 v6408
  let v6395 : BitVec 32 := Scalar.divsi v6367 c2_i32_3209
  let c1_i32_3215 : BitVec 32 := 1#32
  let v6410 : BitVec 32 := Scalar.subi v6395 c1_i32_3215
  let v6411 : BitVec 32 := Scalar.select v6409 v6410 v6395
  v6411
def k0_mult293 : BitVec 32 :=
  let c2_i32_3110 : BitVec 32 := 2#32
  let c0_i32_3109 : BitVec 32 := 0#32
  let v6219 : BitVec 32 := Scalar.muli c2_i32_3110 c0_i32_3109
  let c4_i32_3229 : BitVec 32 := 4#32
  let v6440 : BitVec 32 := Scalar.muli v6219 c4_i32_3229
  let c2_i32_3230 : BitVec 32 := 2#32
  let v6441 : BitVec 32 := Scalar.addi v6440 c2_i32_3230
  let c128_i32_3231 : BitVec 32 := 128#32
  let v6442 : BitVec 32 := Scalar.muli v6441 c128_i32_3231
  v6442
def k0_mult294 : BitVec 32 :=
  let c2_i32_3110 : BitVec 32 := 2#32
  let c0_i32_3109 : BitVec 32 := 0#32
  let v6219 : BitVec 32 := Scalar.muli c2_i32_3110 c0_i32_3109
  let c4_i32_3229 : BitVec 32 := 4#32
  let v6440 : BitVec 32 := Scalar.muli v6219 c4_i32_3229
  let c2_i32_3230 : BitVec 32 := 2#32
  let v6441 : BitVec 32 := Scalar.addi v6440 c2_i32_3230
  let c0_i32_3233 : BitVec 32 := 0#32
  let v6445 : BitVec 1 := Scalar.cmpi .sgt v6441 c0_i32_3233
  let v6446 : BitVec 32 := Scalar.extui v6445
  let c0_i32_3234 : BitVec 32 := 0#32
  let v6447 : BitVec 1 := Scalar.cmpi .slt v6441 c0_i32_3234
  let v6448 : BitVec 32 := Scalar.extui v6447
  let v6449 : BitVec 32 := Scalar.subi v6446 v6448
  let c4_i32_3232 : BitVec 32 := 4#32
  let c0_i32_3235 : BitVec 32 := 0#32
  let v6450 : BitVec 1 := Scalar.cmpi .sgt c4_i32_3232 c0_i32_3235
  let v6451 : BitVec 32 := Scalar.extui v6450
  let c0_i32_3236 : BitVec 32 := 0#32
  let v6452 : BitVec 1 := Scalar.cmpi .slt c4_i32_3232 c0_i32_3236
  let v6453 : BitVec 32 := Scalar.extui v6452
  let v6454 : BitVec 32 := Scalar.subi v6451 v6453
  let v6455 : BitVec 1 := Scalar.cmpi .ne v6449 v6454
  let v6456 : BitVec 32 := Scalar.remsi v6441 c4_i32_3232
  let c0_i32_3237 : BitVec 32 := 0#32
  let v6457 : BitVec 1 := Scalar.cmpi .ne v6456 c0_i32_3237
  let v6458 : BitVec 1 := Scalar.andi v6455 v6457
  let v6444 : BitVec 32 := Scalar.divsi v6441 c4_i32_3232
  let c1_i32_3238 : BitVec 32 := 1#32
  let v6459 : BitVec 32 := Scalar.subi v6444 c1_i32_3238
  let v6460 : BitVec 32 := Scalar.select v6458 v6459 v6444
  let c512_i32_3249 : BitVec 32 := 512#32
  let v6475 : BitVec 32 := Scalar.muli v6460 c512_i32_3249
  let c256_i32_3248 : BitVec 32 := 256#32
  let c0_i32_3247 : BitVec 32 := 0#32
  let c4_i32_3239 : BitVec 32 := 4#32
  let c0_i32_3240 : BitVec 32 := 0#32
  let v6461 : BitVec 1 := Scalar.cmpi .eq c4_i32_3239 c0_i32_3240
  let c1_i32_3241 : BitVec 32 := 1#32
  let v6462 : BitVec 32 := Scalar.select v6461 c1_i32_3241 c4_i32_3239
  let v6463 : BitVec 32 := Scalar.remsi v6441 v6462
  let c0_i32_3243 : BitVec 32 := 0#32
  let v6465 : BitVec 1 := Scalar.cmpi .slt v6463 c0_i32_3243
  let c0_i32_3244 : BitVec 32 := 0#32
  let v6466 : BitVec 1 := Scalar.cmpi .slt v6462 c0_i32_3244
  let v6467 : BitVec 1 := Scalar.xori v6465 v6466
  let c0_i32_3242 : BitVec 32 := 0#32
  let v6464 : BitVec 1 := Scalar.cmpi .ne v6463 c0_i32_3242
  let v6468 : BitVec 1 := Scalar.andi v6467 v6464
  let v6469 : BitVec 32 := Scalar.addi v6463 v6462
  let v6470 : BitVec 32 := Scalar.select v6468 v6469 v6463
  let c128_i32_3245 : BitVec 32 := 128#32
  let v6471 : BitVec 32 := Scalar.muli v6470 c128_i32_3245
  let c64_i32_3246 : BitVec 32 := 64#32
  let v6472 : BitVec 32 := Scalar.subi v6471 c64_i32_3246
  let v6473 : BitVec 32 := Scalar.maxsi c0_i32_3247 v6472
  let v6474 : BitVec 32 := Scalar.minsi c256_i32_3248 v6473
  let v6476 : BitVec 32 := Scalar.addi v6475 v6474
  v6476
def k0_mult295 : BitVec 32 :=
  let c2_i32_3110 : BitVec 32 := 2#32
  let c0_i32_3109 : BitVec 32 := 0#32
  let v6219 : BitVec 32 := Scalar.muli c2_i32_3110 c0_i32_3109
  let c4_i32_3229 : BitVec 32 := 4#32
  let v6440 : BitVec 32 := Scalar.muli v6219 c4_i32_3229
  let c2_i32_3230 : BitVec 32 := 2#32
  let v6441 : BitVec 32 := Scalar.addi v6440 c2_i32_3230
  let c0_i32_3233 : BitVec 32 := 0#32
  let v6445 : BitVec 1 := Scalar.cmpi .sgt v6441 c0_i32_3233
  let v6446 : BitVec 32 := Scalar.extui v6445
  let c0_i32_3234 : BitVec 32 := 0#32
  let v6447 : BitVec 1 := Scalar.cmpi .slt v6441 c0_i32_3234
  let v6448 : BitVec 32 := Scalar.extui v6447
  let v6449 : BitVec 32 := Scalar.subi v6446 v6448
  let c4_i32_3232 : BitVec 32 := 4#32
  let c0_i32_3235 : BitVec 32 := 0#32
  let v6450 : BitVec 1 := Scalar.cmpi .sgt c4_i32_3232 c0_i32_3235
  let v6451 : BitVec 32 := Scalar.extui v6450
  let c0_i32_3236 : BitVec 32 := 0#32
  let v6452 : BitVec 1 := Scalar.cmpi .slt c4_i32_3232 c0_i32_3236
  let v6453 : BitVec 32 := Scalar.extui v6452
  let v6454 : BitVec 32 := Scalar.subi v6451 v6453
  let v6455 : BitVec 1 := Scalar.cmpi .ne v6449 v6454
  let v6456 : BitVec 32 := Scalar.remsi v6441 c4_i32_3232
  let c0_i32_3237 : BitVec 32 := 0#32
  let v6457 : BitVec 1 := Scalar.cmpi .ne v6456 c0_i32_3237
  let v6458 : BitVec 1 := Scalar.andi v6455 v6457
  let v6444 : BitVec 32 := Scalar.divsi v6441 c4_i32_3232
  let c1_i32_3238 : BitVec 32 := 1#32
  let v6459 : BitVec 32 := Scalar.subi v6444 c1_i32_3238
  let v6460 : BitVec 32 := Scalar.select v6458 v6459 v6444
  let c512_i32_3249 : BitVec 32 := 512#32
  let v6475 : BitVec 32 := Scalar.muli v6460 c512_i32_3249
  let c256_i32_3248 : BitVec 32 := 256#32
  let c0_i32_3247 : BitVec 32 := 0#32
  let c4_i32_3239 : BitVec 32 := 4#32
  let c0_i32_3240 : BitVec 32 := 0#32
  let v6461 : BitVec 1 := Scalar.cmpi .eq c4_i32_3239 c0_i32_3240
  let c1_i32_3241 : BitVec 32 := 1#32
  let v6462 : BitVec 32 := Scalar.select v6461 c1_i32_3241 c4_i32_3239
  let v6463 : BitVec 32 := Scalar.remsi v6441 v6462
  let c0_i32_3243 : BitVec 32 := 0#32
  let v6465 : BitVec 1 := Scalar.cmpi .slt v6463 c0_i32_3243
  let c0_i32_3244 : BitVec 32 := 0#32
  let v6466 : BitVec 1 := Scalar.cmpi .slt v6462 c0_i32_3244
  let v6467 : BitVec 1 := Scalar.xori v6465 v6466
  let c0_i32_3242 : BitVec 32 := 0#32
  let v6464 : BitVec 1 := Scalar.cmpi .ne v6463 c0_i32_3242
  let v6468 : BitVec 1 := Scalar.andi v6467 v6464
  let v6469 : BitVec 32 := Scalar.addi v6463 v6462
  let v6470 : BitVec 32 := Scalar.select v6468 v6469 v6463
  let c128_i32_3245 : BitVec 32 := 128#32
  let v6471 : BitVec 32 := Scalar.muli v6470 c128_i32_3245
  let c64_i32_3246 : BitVec 32 := 64#32
  let v6472 : BitVec 32 := Scalar.subi v6471 c64_i32_3246
  let v6473 : BitVec 32 := Scalar.maxsi c0_i32_3247 v6472
  let v6474 : BitVec 32 := Scalar.minsi c256_i32_3248 v6473
  let v6476 : BitVec 32 := Scalar.addi v6475 v6474
  let v6477 : BitVec 32 := v6476
  let c0_i32_3255 : BitVec 32 := 0#32
  let v6481 : BitVec 1 := Scalar.cmpi .sgt v6477 c0_i32_3255
  let v6482 : BitVec 32 := Scalar.extui v6481
  let c0_i32_3256 : BitVec 32 := 0#32
  let v6483 : BitVec 1 := Scalar.cmpi .slt v6477 c0_i32_3256
  let v6484 : BitVec 32 := Scalar.extui v6483
  let v6485 : BitVec 32 := Scalar.subi v6482 v6484
  let c2_i32_3254 : BitVec 32 := 2#32
  let c0_i32_3257 : BitVec 32 := 0#32
  let v6486 : BitVec 1 := Scalar.cmpi .sgt c2_i32_3254 c0_i32_3257
  let v6487 : BitVec 32 := Scalar.extui v6486
  let c0_i32_3258 : BitVec 32 := 0#32
  let v6488 : BitVec 1 := Scalar.cmpi .slt c2_i32_3254 c0_i32_3258
  let v6489 : BitVec 32 := Scalar.extui v6488
  let v6490 : BitVec 32 := Scalar.subi v6487 v6489
  let v6491 : BitVec 1 := Scalar.cmpi .ne v6485 v6490
  let v6492 : BitVec 32 := Scalar.remsi v6477 c2_i32_3254
  let c0_i32_3259 : BitVec 32 := 0#32
  let v6493 : BitVec 1 := Scalar.cmpi .ne v6492 c0_i32_3259
  let v6494 : BitVec 1 := Scalar.andi v6491 v6493
  let v6480 : BitVec 32 := Scalar.divsi v6477 c2_i32_3254
  let c1_i32_3260 : BitVec 32 := 1#32
  let v6495 : BitVec 32 := Scalar.subi v6480 c1_i32_3260
  let v6496 : BitVec 32 := Scalar.select v6494 v6495 v6480
  v6496
def k0_mult296 : BitVec 32 :=
  let c2_i32_3110 : BitVec 32 := 2#32
  let c0_i32_3109 : BitVec 32 := 0#32
  let v6219 : BitVec 32 := Scalar.muli c2_i32_3110 c0_i32_3109
  let c4_i32_3229 : BitVec 32 := 4#32
  let v6440 : BitVec 32 := Scalar.muli v6219 c4_i32_3229
  let c2_i32_3230 : BitVec 32 := 2#32
  let v6441 : BitVec 32 := Scalar.addi v6440 c2_i32_3230
  let c0_i32_3233 : BitVec 32 := 0#32
  let v6445 : BitVec 1 := Scalar.cmpi .sgt v6441 c0_i32_3233
  let v6446 : BitVec 32 := Scalar.extui v6445
  let c0_i32_3234 : BitVec 32 := 0#32
  let v6447 : BitVec 1 := Scalar.cmpi .slt v6441 c0_i32_3234
  let v6448 : BitVec 32 := Scalar.extui v6447
  let v6449 : BitVec 32 := Scalar.subi v6446 v6448
  let c4_i32_3232 : BitVec 32 := 4#32
  let c0_i32_3235 : BitVec 32 := 0#32
  let v6450 : BitVec 1 := Scalar.cmpi .sgt c4_i32_3232 c0_i32_3235
  let v6451 : BitVec 32 := Scalar.extui v6450
  let c0_i32_3236 : BitVec 32 := 0#32
  let v6452 : BitVec 1 := Scalar.cmpi .slt c4_i32_3232 c0_i32_3236
  let v6453 : BitVec 32 := Scalar.extui v6452
  let v6454 : BitVec 32 := Scalar.subi v6451 v6453
  let v6455 : BitVec 1 := Scalar.cmpi .ne v6449 v6454
  let v6456 : BitVec 32 := Scalar.remsi v6441 c4_i32_3232
  let c0_i32_3237 : BitVec 32 := 0#32
  let v6457 : BitVec 1 := Scalar.cmpi .ne v6456 c0_i32_3237
  let v6458 : BitVec 1 := Scalar.andi v6455 v6457
  let v6444 : BitVec 32 := Scalar.divsi v6441 c4_i32_3232
  let c1_i32_3238 : BitVec 32 := 1#32
  let v6459 : BitVec 32 := Scalar.subi v6444 c1_i32_3238
  let v6460 : BitVec 32 := Scalar.select v6458 v6459 v6444
  let c512_i32_3249 : BitVec 32 := 512#32
  let v6475 : BitVec 32 := Scalar.muli v6460 c512_i32_3249
  let c256_i32_3248 : BitVec 32 := 256#32
  let c0_i32_3247 : BitVec 32 := 0#32
  let c4_i32_3239 : BitVec 32 := 4#32
  let c0_i32_3240 : BitVec 32 := 0#32
  let v6461 : BitVec 1 := Scalar.cmpi .eq c4_i32_3239 c0_i32_3240
  let c1_i32_3241 : BitVec 32 := 1#32
  let v6462 : BitVec 32 := Scalar.select v6461 c1_i32_3241 c4_i32_3239
  let v6463 : BitVec 32 := Scalar.remsi v6441 v6462
  let c0_i32_3243 : BitVec 32 := 0#32
  let v6465 : BitVec 1 := Scalar.cmpi .slt v6463 c0_i32_3243
  let c0_i32_3244 : BitVec 32 := 0#32
  let v6466 : BitVec 1 := Scalar.cmpi .slt v6462 c0_i32_3244
  let v6467 : BitVec 1 := Scalar.xori v6465 v6466
  let c0_i32_3242 : BitVec 32 := 0#32
  let v6464 : BitVec 1 := Scalar.cmpi .ne v6463 c0_i32_3242
  let v6468 : BitVec 1 := Scalar.andi v6467 v6464
  let v6469 : BitVec 32 := Scalar.addi v6463 v6462
  let v6470 : BitVec 32 := Scalar.select v6468 v6469 v6463
  let c128_i32_3245 : BitVec 32 := 128#32
  let v6471 : BitVec 32 := Scalar.muli v6470 c128_i32_3245
  let c64_i32_3246 : BitVec 32 := 64#32
  let v6472 : BitVec 32 := Scalar.subi v6471 c64_i32_3246
  let v6473 : BitVec 32 := Scalar.maxsi c0_i32_3247 v6472
  let v6474 : BitVec 32 := Scalar.minsi c256_i32_3248 v6473
  let v6476 : BitVec 32 := Scalar.addi v6475 v6474
  let v6477 : BitVec 32 := v6476
  let c0_i32_3269 : BitVec 32 := 0#32
  let v6506 : BitVec 1 := Scalar.cmpi .sgt v6477 c0_i32_3269
  let v6507 : BitVec 32 := Scalar.extui v6506
  let c0_i32_3270 : BitVec 32 := 0#32
  let v6508 : BitVec 1 := Scalar.cmpi .slt v6477 c0_i32_3270
  let v6509 : BitVec 32 := Scalar.extui v6508
  let v6510 : BitVec 32 := Scalar.subi v6507 v6509
  let c2_i32_3268 : BitVec 32 := 2#32
  let c0_i32_3271 : BitVec 32 := 0#32
  let v6511 : BitVec 1 := Scalar.cmpi .sgt c2_i32_3268 c0_i32_3271
  let v6512 : BitVec 32 := Scalar.extui v6511
  let c0_i32_3272 : BitVec 32 := 0#32
  let v6513 : BitVec 1 := Scalar.cmpi .slt c2_i32_3268 c0_i32_3272
  let v6514 : BitVec 32 := Scalar.extui v6513
  let v6515 : BitVec 32 := Scalar.subi v6512 v6514
  let v6516 : BitVec 1 := Scalar.cmpi .ne v6510 v6515
  let v6517 : BitVec 32 := Scalar.remsi v6477 c2_i32_3268
  let c0_i32_3273 : BitVec 32 := 0#32
  let v6518 : BitVec 1 := Scalar.cmpi .ne v6517 c0_i32_3273
  let v6519 : BitVec 1 := Scalar.andi v6516 v6518
  let v6505 : BitVec 32 := Scalar.divsi v6477 c2_i32_3268
  let c1_i32_3274 : BitVec 32 := 1#32
  let v6520 : BitVec 32 := Scalar.subi v6505 c1_i32_3274
  let v6521 : BitVec 32 := Scalar.select v6519 v6520 v6505
  v6521
def k0_mult297 : BitVec 32 :=
  let c2_i32_3110 : BitVec 32 := 2#32
  let c0_i32_3109 : BitVec 32 := 0#32
  let v6219 : BitVec 32 := Scalar.muli c2_i32_3110 c0_i32_3109
  let c4_i32_3288 : BitVec 32 := 4#32
  let v6550 : BitVec 32 := Scalar.muli v6219 c4_i32_3288
  let c3_i32_3289 : BitVec 32 := 3#32
  let v6551 : BitVec 32 := Scalar.addi v6550 c3_i32_3289
  let c128_i32_3290 : BitVec 32 := 128#32
  let v6552 : BitVec 32 := Scalar.muli v6551 c128_i32_3290
  v6552
def k0_mult298 : BitVec 32 :=
  let c2_i32_3110 : BitVec 32 := 2#32
  let c0_i32_3109 : BitVec 32 := 0#32
  let v6219 : BitVec 32 := Scalar.muli c2_i32_3110 c0_i32_3109
  let c4_i32_3288 : BitVec 32 := 4#32
  let v6550 : BitVec 32 := Scalar.muli v6219 c4_i32_3288
  let c3_i32_3289 : BitVec 32 := 3#32
  let v6551 : BitVec 32 := Scalar.addi v6550 c3_i32_3289
  let c0_i32_3292 : BitVec 32 := 0#32
  let v6555 : BitVec 1 := Scalar.cmpi .sgt v6551 c0_i32_3292
  let v6556 : BitVec 32 := Scalar.extui v6555
  let c0_i32_3293 : BitVec 32 := 0#32
  let v6557 : BitVec 1 := Scalar.cmpi .slt v6551 c0_i32_3293
  let v6558 : BitVec 32 := Scalar.extui v6557
  let v6559 : BitVec 32 := Scalar.subi v6556 v6558
  let c4_i32_3291 : BitVec 32 := 4#32
  let c0_i32_3294 : BitVec 32 := 0#32
  let v6560 : BitVec 1 := Scalar.cmpi .sgt c4_i32_3291 c0_i32_3294
  let v6561 : BitVec 32 := Scalar.extui v6560
  let c0_i32_3295 : BitVec 32 := 0#32
  let v6562 : BitVec 1 := Scalar.cmpi .slt c4_i32_3291 c0_i32_3295
  let v6563 : BitVec 32 := Scalar.extui v6562
  let v6564 : BitVec 32 := Scalar.subi v6561 v6563
  let v6565 : BitVec 1 := Scalar.cmpi .ne v6559 v6564
  let v6566 : BitVec 32 := Scalar.remsi v6551 c4_i32_3291
  let c0_i32_3296 : BitVec 32 := 0#32
  let v6567 : BitVec 1 := Scalar.cmpi .ne v6566 c0_i32_3296
  let v6568 : BitVec 1 := Scalar.andi v6565 v6567
  let v6554 : BitVec 32 := Scalar.divsi v6551 c4_i32_3291
  let c1_i32_3297 : BitVec 32 := 1#32
  let v6569 : BitVec 32 := Scalar.subi v6554 c1_i32_3297
  let v6570 : BitVec 32 := Scalar.select v6568 v6569 v6554
  let c512_i32_3308 : BitVec 32 := 512#32
  let v6585 : BitVec 32 := Scalar.muli v6570 c512_i32_3308
  let c256_i32_3307 : BitVec 32 := 256#32
  let c0_i32_3306 : BitVec 32 := 0#32
  let c4_i32_3298 : BitVec 32 := 4#32
  let c0_i32_3299 : BitVec 32 := 0#32
  let v6571 : BitVec 1 := Scalar.cmpi .eq c4_i32_3298 c0_i32_3299
  let c1_i32_3300 : BitVec 32 := 1#32
  let v6572 : BitVec 32 := Scalar.select v6571 c1_i32_3300 c4_i32_3298
  let v6573 : BitVec 32 := Scalar.remsi v6551 v6572
  let c0_i32_3302 : BitVec 32 := 0#32
  let v6575 : BitVec 1 := Scalar.cmpi .slt v6573 c0_i32_3302
  let c0_i32_3303 : BitVec 32 := 0#32
  let v6576 : BitVec 1 := Scalar.cmpi .slt v6572 c0_i32_3303
  let v6577 : BitVec 1 := Scalar.xori v6575 v6576
  let c0_i32_3301 : BitVec 32 := 0#32
  let v6574 : BitVec 1 := Scalar.cmpi .ne v6573 c0_i32_3301
  let v6578 : BitVec 1 := Scalar.andi v6577 v6574
  let v6579 : BitVec 32 := Scalar.addi v6573 v6572
  let v6580 : BitVec 32 := Scalar.select v6578 v6579 v6573
  let c128_i32_3304 : BitVec 32 := 128#32
  let v6581 : BitVec 32 := Scalar.muli v6580 c128_i32_3304
  let c64_i32_3305 : BitVec 32 := 64#32
  let v6582 : BitVec 32 := Scalar.subi v6581 c64_i32_3305
  let v6583 : BitVec 32 := Scalar.maxsi c0_i32_3306 v6582
  let v6584 : BitVec 32 := Scalar.minsi c256_i32_3307 v6583
  let v6586 : BitVec 32 := Scalar.addi v6585 v6584
  v6586
def k0_mult299 : BitVec 32 :=
  let c2_i32_3110 : BitVec 32 := 2#32
  let c0_i32_3109 : BitVec 32 := 0#32
  let v6219 : BitVec 32 := Scalar.muli c2_i32_3110 c0_i32_3109
  let c4_i32_3288 : BitVec 32 := 4#32
  let v6550 : BitVec 32 := Scalar.muli v6219 c4_i32_3288
  let c3_i32_3289 : BitVec 32 := 3#32
  let v6551 : BitVec 32 := Scalar.addi v6550 c3_i32_3289
  let c0_i32_3292 : BitVec 32 := 0#32
  let v6555 : BitVec 1 := Scalar.cmpi .sgt v6551 c0_i32_3292
  let v6556 : BitVec 32 := Scalar.extui v6555
  let c0_i32_3293 : BitVec 32 := 0#32
  let v6557 : BitVec 1 := Scalar.cmpi .slt v6551 c0_i32_3293
  let v6558 : BitVec 32 := Scalar.extui v6557
  let v6559 : BitVec 32 := Scalar.subi v6556 v6558
  let c4_i32_3291 : BitVec 32 := 4#32
  let c0_i32_3294 : BitVec 32 := 0#32
  let v6560 : BitVec 1 := Scalar.cmpi .sgt c4_i32_3291 c0_i32_3294
  let v6561 : BitVec 32 := Scalar.extui v6560
  let c0_i32_3295 : BitVec 32 := 0#32
  let v6562 : BitVec 1 := Scalar.cmpi .slt c4_i32_3291 c0_i32_3295
  let v6563 : BitVec 32 := Scalar.extui v6562
  let v6564 : BitVec 32 := Scalar.subi v6561 v6563
  let v6565 : BitVec 1 := Scalar.cmpi .ne v6559 v6564
  let v6566 : BitVec 32 := Scalar.remsi v6551 c4_i32_3291
  let c0_i32_3296 : BitVec 32 := 0#32
  let v6567 : BitVec 1 := Scalar.cmpi .ne v6566 c0_i32_3296
  let v6568 : BitVec 1 := Scalar.andi v6565 v6567
  let v6554 : BitVec 32 := Scalar.divsi v6551 c4_i32_3291
  let c1_i32_3297 : BitVec 32 := 1#32
  let v6569 : BitVec 32 := Scalar.subi v6554 c1_i32_3297
  let v6570 : BitVec 32 := Scalar.select v6568 v6569 v6554
  let c512_i32_3308 : BitVec 32 := 512#32
  let v6585 : BitVec 32 := Scalar.muli v6570 c512_i32_3308
  let c256_i32_3307 : BitVec 32 := 256#32
  let c0_i32_3306 : BitVec 32 := 0#32
  let c4_i32_3298 : BitVec 32 := 4#32
  let c0_i32_3299 : BitVec 32 := 0#32
  let v6571 : BitVec 1 := Scalar.cmpi .eq c4_i32_3298 c0_i32_3299
  let c1_i32_3300 : BitVec 32 := 1#32
  let v6572 : BitVec 32 := Scalar.select v6571 c1_i32_3300 c4_i32_3298
  let v6573 : BitVec 32 := Scalar.remsi v6551 v6572
  let c0_i32_3302 : BitVec 32 := 0#32
  let v6575 : BitVec 1 := Scalar.cmpi .slt v6573 c0_i32_3302
  let c0_i32_3303 : BitVec 32 := 0#32
  let v6576 : BitVec 1 := Scalar.cmpi .slt v6572 c0_i32_3303
  let v6577 : BitVec 1 := Scalar.xori v6575 v6576
  let c0_i32_3301 : BitVec 32 := 0#32
  let v6574 : BitVec 1 := Scalar.cmpi .ne v6573 c0_i32_3301
  let v6578 : BitVec 1 := Scalar.andi v6577 v6574
  let v6579 : BitVec 32 := Scalar.addi v6573 v6572
  let v6580 : BitVec 32 := Scalar.select v6578 v6579 v6573
  let c128_i32_3304 : BitVec 32 := 128#32
  let v6581 : BitVec 32 := Scalar.muli v6580 c128_i32_3304
  let c64_i32_3305 : BitVec 32 := 64#32
  let v6582 : BitVec 32 := Scalar.subi v6581 c64_i32_3305
  let v6583 : BitVec 32 := Scalar.maxsi c0_i32_3306 v6582
  let v6584 : BitVec 32 := Scalar.minsi c256_i32_3307 v6583
  let v6586 : BitVec 32 := Scalar.addi v6585 v6584
  let v6587 : BitVec 32 := v6586
  let c0_i32_3314 : BitVec 32 := 0#32
  let v6591 : BitVec 1 := Scalar.cmpi .sgt v6587 c0_i32_3314
  let v6592 : BitVec 32 := Scalar.extui v6591
  let c0_i32_3315 : BitVec 32 := 0#32
  let v6593 : BitVec 1 := Scalar.cmpi .slt v6587 c0_i32_3315
  let v6594 : BitVec 32 := Scalar.extui v6593
  let v6595 : BitVec 32 := Scalar.subi v6592 v6594
  let c2_i32_3313 : BitVec 32 := 2#32
  let c0_i32_3316 : BitVec 32 := 0#32
  let v6596 : BitVec 1 := Scalar.cmpi .sgt c2_i32_3313 c0_i32_3316
  let v6597 : BitVec 32 := Scalar.extui v6596
  let c0_i32_3317 : BitVec 32 := 0#32
  let v6598 : BitVec 1 := Scalar.cmpi .slt c2_i32_3313 c0_i32_3317
  let v6599 : BitVec 32 := Scalar.extui v6598
  let v6600 : BitVec 32 := Scalar.subi v6597 v6599
  let v6601 : BitVec 1 := Scalar.cmpi .ne v6595 v6600
  let v6602 : BitVec 32 := Scalar.remsi v6587 c2_i32_3313
  let c0_i32_3318 : BitVec 32 := 0#32
  let v6603 : BitVec 1 := Scalar.cmpi .ne v6602 c0_i32_3318
  let v6604 : BitVec 1 := Scalar.andi v6601 v6603
  let v6590 : BitVec 32 := Scalar.divsi v6587 c2_i32_3313
  let c1_i32_3319 : BitVec 32 := 1#32
  let v6605 : BitVec 32 := Scalar.subi v6590 c1_i32_3319
  let v6606 : BitVec 32 := Scalar.select v6604 v6605 v6590
  v6606
def k0_mult300 : BitVec 32 :=
  let c2_i32_3110 : BitVec 32 := 2#32
  let c0_i32_3109 : BitVec 32 := 0#32
  let v6219 : BitVec 32 := Scalar.muli c2_i32_3110 c0_i32_3109
  let c4_i32_3288 : BitVec 32 := 4#32
  let v6550 : BitVec 32 := Scalar.muli v6219 c4_i32_3288
  let c3_i32_3289 : BitVec 32 := 3#32
  let v6551 : BitVec 32 := Scalar.addi v6550 c3_i32_3289
  let c0_i32_3292 : BitVec 32 := 0#32
  let v6555 : BitVec 1 := Scalar.cmpi .sgt v6551 c0_i32_3292
  let v6556 : BitVec 32 := Scalar.extui v6555
  let c0_i32_3293 : BitVec 32 := 0#32
  let v6557 : BitVec 1 := Scalar.cmpi .slt v6551 c0_i32_3293
  let v6558 : BitVec 32 := Scalar.extui v6557
  let v6559 : BitVec 32 := Scalar.subi v6556 v6558
  let c4_i32_3291 : BitVec 32 := 4#32
  let c0_i32_3294 : BitVec 32 := 0#32
  let v6560 : BitVec 1 := Scalar.cmpi .sgt c4_i32_3291 c0_i32_3294
  let v6561 : BitVec 32 := Scalar.extui v6560
  let c0_i32_3295 : BitVec 32 := 0#32
  let v6562 : BitVec 1 := Scalar.cmpi .slt c4_i32_3291 c0_i32_3295
  let v6563 : BitVec 32 := Scalar.extui v6562
  let v6564 : BitVec 32 := Scalar.subi v6561 v6563
  let v6565 : BitVec 1 := Scalar.cmpi .ne v6559 v6564
  let v6566 : BitVec 32 := Scalar.remsi v6551 c4_i32_3291
  let c0_i32_3296 : BitVec 32 := 0#32
  let v6567 : BitVec 1 := Scalar.cmpi .ne v6566 c0_i32_3296
  let v6568 : BitVec 1 := Scalar.andi v6565 v6567
  let v6554 : BitVec 32 := Scalar.divsi v6551 c4_i32_3291
  let c1_i32_3297 : BitVec 32 := 1#32
  let v6569 : BitVec 32 := Scalar.subi v6554 c1_i32_3297
  let v6570 : BitVec 32 := Scalar.select v6568 v6569 v6554
  let c512_i32_3308 : BitVec 32 := 512#32
  let v6585 : BitVec 32 := Scalar.muli v6570 c512_i32_3308
  let c256_i32_3307 : BitVec 32 := 256#32
  let c0_i32_3306 : BitVec 32 := 0#32
  let c4_i32_3298 : BitVec 32 := 4#32
  let c0_i32_3299 : BitVec 32 := 0#32
  let v6571 : BitVec 1 := Scalar.cmpi .eq c4_i32_3298 c0_i32_3299
  let c1_i32_3300 : BitVec 32 := 1#32
  let v6572 : BitVec 32 := Scalar.select v6571 c1_i32_3300 c4_i32_3298
  let v6573 : BitVec 32 := Scalar.remsi v6551 v6572
  let c0_i32_3302 : BitVec 32 := 0#32
  let v6575 : BitVec 1 := Scalar.cmpi .slt v6573 c0_i32_3302
  let c0_i32_3303 : BitVec 32 := 0#32
  let v6576 : BitVec 1 := Scalar.cmpi .slt v6572 c0_i32_3303
  let v6577 : BitVec 1 := Scalar.xori v6575 v6576
  let c0_i32_3301 : BitVec 32 := 0#32
  let v6574 : BitVec 1 := Scalar.cmpi .ne v6573 c0_i32_3301
  let v6578 : BitVec 1 := Scalar.andi v6577 v6574
  let v6579 : BitVec 32 := Scalar.addi v6573 v6572
  let v6580 : BitVec 32 := Scalar.select v6578 v6579 v6573
  let c128_i32_3304 : BitVec 32 := 128#32
  let v6581 : BitVec 32 := Scalar.muli v6580 c128_i32_3304
  let c64_i32_3305 : BitVec 32 := 64#32
  let v6582 : BitVec 32 := Scalar.subi v6581 c64_i32_3305
  let v6583 : BitVec 32 := Scalar.maxsi c0_i32_3306 v6582
  let v6584 : BitVec 32 := Scalar.minsi c256_i32_3307 v6583
  let v6586 : BitVec 32 := Scalar.addi v6585 v6584
  let v6587 : BitVec 32 := v6586
  let c0_i32_3328 : BitVec 32 := 0#32
  let v6616 : BitVec 1 := Scalar.cmpi .sgt v6587 c0_i32_3328
  let v6617 : BitVec 32 := Scalar.extui v6616
  let c0_i32_3329 : BitVec 32 := 0#32
  let v6618 : BitVec 1 := Scalar.cmpi .slt v6587 c0_i32_3329
  let v6619 : BitVec 32 := Scalar.extui v6618
  let v6620 : BitVec 32 := Scalar.subi v6617 v6619
  let c2_i32_3327 : BitVec 32 := 2#32
  let c0_i32_3330 : BitVec 32 := 0#32
  let v6621 : BitVec 1 := Scalar.cmpi .sgt c2_i32_3327 c0_i32_3330
  let v6622 : BitVec 32 := Scalar.extui v6621
  let c0_i32_3331 : BitVec 32 := 0#32
  let v6623 : BitVec 1 := Scalar.cmpi .slt c2_i32_3327 c0_i32_3331
  let v6624 : BitVec 32 := Scalar.extui v6623
  let v6625 : BitVec 32 := Scalar.subi v6622 v6624
  let v6626 : BitVec 1 := Scalar.cmpi .ne v6620 v6625
  let v6627 : BitVec 32 := Scalar.remsi v6587 c2_i32_3327
  let c0_i32_3332 : BitVec 32 := 0#32
  let v6628 : BitVec 1 := Scalar.cmpi .ne v6627 c0_i32_3332
  let v6629 : BitVec 1 := Scalar.andi v6626 v6628
  let v6615 : BitVec 32 := Scalar.divsi v6587 c2_i32_3327
  let c1_i32_3333 : BitVec 32 := 1#32
  let v6630 : BitVec 32 := Scalar.subi v6615 c1_i32_3333
  let v6631 : BitVec 32 := Scalar.select v6629 v6630 v6615
  v6631
def k0_mult301 : BitVec 32 :=
  let c2_i32_3110 : BitVec 32 := 2#32
  let c0_i32_3109 : BitVec 32 := 0#32
  let v6219 : BitVec 32 := Scalar.muli c2_i32_3110 c0_i32_3109
  let c2_i32_3435 : BitVec 32 := 2#32
  let v6788 : BitVec 32 := Scalar.addi v6219 c2_i32_3435
  let c4_i32_3436 : BitVec 32 := 4#32
  let v6789 : BitVec 32 := Scalar.muli v6788 c4_i32_3436
  let c0_i32_3437 : BitVec 32 := 0#32
  let v6790 : BitVec 32 := Scalar.addi v6789 c0_i32_3437
  let c128_i32_3438 : BitVec 32 := 128#32
  let v6791 : BitVec 32 := Scalar.muli v6790 c128_i32_3438
  v6791
def k0_mult302 : BitVec 32 :=
  let c2_i32_3110 : BitVec 32 := 2#32
  let c0_i32_3109 : BitVec 32 := 0#32
  let v6219 : BitVec 32 := Scalar.muli c2_i32_3110 c0_i32_3109
  let c2_i32_3435 : BitVec 32 := 2#32
  let v6788 : BitVec 32 := Scalar.addi v6219 c2_i32_3435
  let c4_i32_3436 : BitVec 32 := 4#32
  let v6789 : BitVec 32 := Scalar.muli v6788 c4_i32_3436
  let c0_i32_3437 : BitVec 32 := 0#32
  let v6790 : BitVec 32 := Scalar.addi v6789 c0_i32_3437
  let c0_i32_3440 : BitVec 32 := 0#32
  let v6794 : BitVec 1 := Scalar.cmpi .sgt v6790 c0_i32_3440
  let v6795 : BitVec 32 := Scalar.extui v6794
  let c0_i32_3441 : BitVec 32 := 0#32
  let v6796 : BitVec 1 := Scalar.cmpi .slt v6790 c0_i32_3441
  let v6797 : BitVec 32 := Scalar.extui v6796
  let v6798 : BitVec 32 := Scalar.subi v6795 v6797
  let c4_i32_3439 : BitVec 32 := 4#32
  let c0_i32_3442 : BitVec 32 := 0#32
  let v6799 : BitVec 1 := Scalar.cmpi .sgt c4_i32_3439 c0_i32_3442
  let v6800 : BitVec 32 := Scalar.extui v6799
  let c0_i32_3443 : BitVec 32 := 0#32
  let v6801 : BitVec 1 := Scalar.cmpi .slt c4_i32_3439 c0_i32_3443
  let v6802 : BitVec 32 := Scalar.extui v6801
  let v6803 : BitVec 32 := Scalar.subi v6800 v6802
  let v6804 : BitVec 1 := Scalar.cmpi .ne v6798 v6803
  let v6805 : BitVec 32 := Scalar.remsi v6790 c4_i32_3439
  let c0_i32_3444 : BitVec 32 := 0#32
  let v6806 : BitVec 1 := Scalar.cmpi .ne v6805 c0_i32_3444
  let v6807 : BitVec 1 := Scalar.andi v6804 v6806
  let v6793 : BitVec 32 := Scalar.divsi v6790 c4_i32_3439
  let c1_i32_3445 : BitVec 32 := 1#32
  let v6808 : BitVec 32 := Scalar.subi v6793 c1_i32_3445
  let v6809 : BitVec 32 := Scalar.select v6807 v6808 v6793
  let c512_i32_3456 : BitVec 32 := 512#32
  let v6824 : BitVec 32 := Scalar.muli v6809 c512_i32_3456
  let c256_i32_3455 : BitVec 32 := 256#32
  let c0_i32_3454 : BitVec 32 := 0#32
  let c4_i32_3446 : BitVec 32 := 4#32
  let c0_i32_3447 : BitVec 32 := 0#32
  let v6810 : BitVec 1 := Scalar.cmpi .eq c4_i32_3446 c0_i32_3447
  let c1_i32_3448 : BitVec 32 := 1#32
  let v6811 : BitVec 32 := Scalar.select v6810 c1_i32_3448 c4_i32_3446
  let v6812 : BitVec 32 := Scalar.remsi v6790 v6811
  let c0_i32_3450 : BitVec 32 := 0#32
  let v6814 : BitVec 1 := Scalar.cmpi .slt v6812 c0_i32_3450
  let c0_i32_3451 : BitVec 32 := 0#32
  let v6815 : BitVec 1 := Scalar.cmpi .slt v6811 c0_i32_3451
  let v6816 : BitVec 1 := Scalar.xori v6814 v6815
  let c0_i32_3449 : BitVec 32 := 0#32
  let v6813 : BitVec 1 := Scalar.cmpi .ne v6812 c0_i32_3449
  let v6817 : BitVec 1 := Scalar.andi v6816 v6813
  let v6818 : BitVec 32 := Scalar.addi v6812 v6811
  let v6819 : BitVec 32 := Scalar.select v6817 v6818 v6812
  let c128_i32_3452 : BitVec 32 := 128#32
  let v6820 : BitVec 32 := Scalar.muli v6819 c128_i32_3452
  let c64_i32_3453 : BitVec 32 := 64#32
  let v6821 : BitVec 32 := Scalar.subi v6820 c64_i32_3453
  let v6822 : BitVec 32 := Scalar.maxsi c0_i32_3454 v6821
  let v6823 : BitVec 32 := Scalar.minsi c256_i32_3455 v6822
  let v6825 : BitVec 32 := Scalar.addi v6824 v6823
  v6825
def k0_mult303 : BitVec 32 :=
  let c2_i32_3110 : BitVec 32 := 2#32
  let c0_i32_3109 : BitVec 32 := 0#32
  let v6219 : BitVec 32 := Scalar.muli c2_i32_3110 c0_i32_3109
  let c2_i32_3435 : BitVec 32 := 2#32
  let v6788 : BitVec 32 := Scalar.addi v6219 c2_i32_3435
  let c4_i32_3436 : BitVec 32 := 4#32
  let v6789 : BitVec 32 := Scalar.muli v6788 c4_i32_3436
  let c0_i32_3437 : BitVec 32 := 0#32
  let v6790 : BitVec 32 := Scalar.addi v6789 c0_i32_3437
  let c128_i32_3438 : BitVec 32 := 128#32
  let v6791 : BitVec 32 := Scalar.muli v6790 c128_i32_3438
  let v6792 : BitVec 32 := v6791
  let c0_i32_3467 : BitVec 32 := 0#32
  let v6849 : BitVec 1 := Scalar.cmpi .sgt v6792 c0_i32_3467
  let v6850 : BitVec 32 := Scalar.extui v6849
  let c0_i32_3468 : BitVec 32 := 0#32
  let v6851 : BitVec 1 := Scalar.cmpi .slt v6792 c0_i32_3468
  let v6852 : BitVec 32 := Scalar.extui v6851
  let v6853 : BitVec 32 := Scalar.subi v6850 v6852
  let c2_i32_3466 : BitVec 32 := 2#32
  let c0_i32_3469 : BitVec 32 := 0#32
  let v6854 : BitVec 1 := Scalar.cmpi .sgt c2_i32_3466 c0_i32_3469
  let v6855 : BitVec 32 := Scalar.extui v6854
  let c0_i32_3470 : BitVec 32 := 0#32
  let v6856 : BitVec 1 := Scalar.cmpi .slt c2_i32_3466 c0_i32_3470
  let v6857 : BitVec 32 := Scalar.extui v6856
  let v6858 : BitVec 32 := Scalar.subi v6855 v6857
  let v6859 : BitVec 1 := Scalar.cmpi .ne v6853 v6858
  let v6860 : BitVec 32 := Scalar.remsi v6792 c2_i32_3466
  let c0_i32_3471 : BitVec 32 := 0#32
  let v6861 : BitVec 1 := Scalar.cmpi .ne v6860 c0_i32_3471
  let v6862 : BitVec 1 := Scalar.andi v6859 v6861
  let v6848 : BitVec 32 := Scalar.divsi v6792 c2_i32_3466
  let c1_i32_3472 : BitVec 32 := 1#32
  let v6863 : BitVec 32 := Scalar.subi v6848 c1_i32_3472
  let v6864 : BitVec 32 := Scalar.select v6862 v6863 v6848
  v6864
def k0_off30 (c2_i32_3435 : BitVec 32) (c0_i32_3437 : BitVec 32) : Fin 3 → Nat :=
  let c0_3473 : Index := 0#32
  let c2_i32_3110 : BitVec 32 := 2#32
  let c0_i32_3109 : BitVec 32 := 0#32
  let v6219 : BitVec 32 := Scalar.muli c2_i32_3110 c0_i32_3109
  let v6788 : BitVec 32 := Scalar.addi v6219 c2_i32_3435
  let c4_i32_3436 : BitVec 32 := 4#32
  let v6789 : BitVec 32 := Scalar.muli v6788 c4_i32_3436
  let v6790 : BitVec 32 := Scalar.addi v6789 c0_i32_3437
  let c128_i32_3438 : BitVec 32 := 128#32
  let v6791 : BitVec 32 := Scalar.muli v6790 c128_i32_3438
  let v6792 : BitVec 32 := v6791
  let c0_i32_3467 : BitVec 32 := 0#32
  let v6849 : BitVec 1 := Scalar.cmpi .sgt v6792 c0_i32_3467
  let v6850 : BitVec 32 := Scalar.extui v6849
  let c0_i32_3468 : BitVec 32 := 0#32
  let v6851 : BitVec 1 := Scalar.cmpi .slt v6792 c0_i32_3468
  let v6852 : BitVec 32 := Scalar.extui v6851
  let v6853 : BitVec 32 := Scalar.subi v6850 v6852
  let c2_i32_3466 : BitVec 32 := 2#32
  let c0_i32_3469 : BitVec 32 := 0#32
  let v6854 : BitVec 1 := Scalar.cmpi .sgt c2_i32_3466 c0_i32_3469
  let v6855 : BitVec 32 := Scalar.extui v6854
  let c0_i32_3470 : BitVec 32 := 0#32
  let v6856 : BitVec 1 := Scalar.cmpi .slt c2_i32_3466 c0_i32_3470
  let v6857 : BitVec 32 := Scalar.extui v6856
  let v6858 : BitVec 32 := Scalar.subi v6855 v6857
  let v6859 : BitVec 1 := Scalar.cmpi .ne v6853 v6858
  let v6860 : BitVec 32 := Scalar.remsi v6792 c2_i32_3466
  let c0_i32_3471 : BitVec 32 := 0#32
  let v6861 : BitVec 1 := Scalar.cmpi .ne v6860 c0_i32_3471
  let v6862 : BitVec 1 := Scalar.andi v6859 v6861
  let v6848 : BitVec 32 := Scalar.divsi v6792 c2_i32_3466
  let c1_i32_3472 : BitVec 32 := 1#32
  let v6863 : BitVec 32 := Scalar.subi v6848 c1_i32_3472
  let v6864 : BitVec 32 := Scalar.select v6862 v6863 v6848
  let v6865 : BitVec 32 := v6864
  let v6866 : Index := Scalar.indexCast v6865
  let c0_3474 : Index := 0#32
  ![0, v6866.toNat, 0]
def k0_mult304 : BitVec 32 :=
  let c2_i32_3110 : BitVec 32 := 2#32
  let c0_i32_3109 : BitVec 32 := 0#32
  let v6219 : BitVec 32 := Scalar.muli c2_i32_3110 c0_i32_3109
  let c2_i32_3435 : BitVec 32 := 2#32
  let v6788 : BitVec 32 := Scalar.addi v6219 c2_i32_3435
  let c4_i32_3436 : BitVec 32 := 4#32
  let v6789 : BitVec 32 := Scalar.muli v6788 c4_i32_3436
  let c0_i32_3437 : BitVec 32 := 0#32
  let v6790 : BitVec 32 := Scalar.addi v6789 c0_i32_3437
  let c128_i32_3438 : BitVec 32 := 128#32
  let v6791 : BitVec 32 := Scalar.muli v6790 c128_i32_3438
  let v6792 : BitVec 32 := v6791
  let c0_i32_3476 : BitVec 32 := 0#32
  let v6871 : BitVec 1 := Scalar.cmpi .sgt v6792 c0_i32_3476
  let v6872 : BitVec 32 := Scalar.extui v6871
  let c0_i32_3477 : BitVec 32 := 0#32
  let v6873 : BitVec 1 := Scalar.cmpi .slt v6792 c0_i32_3477
  let v6874 : BitVec 32 := Scalar.extui v6873
  let v6875 : BitVec 32 := Scalar.subi v6872 v6874
  let c2_i32_3475 : BitVec 32 := 2#32
  let c0_i32_3478 : BitVec 32 := 0#32
  let v6876 : BitVec 1 := Scalar.cmpi .sgt c2_i32_3475 c0_i32_3478
  let v6877 : BitVec 32 := Scalar.extui v6876
  let c0_i32_3479 : BitVec 32 := 0#32
  let v6878 : BitVec 1 := Scalar.cmpi .slt c2_i32_3475 c0_i32_3479
  let v6879 : BitVec 32 := Scalar.extui v6878
  let v6880 : BitVec 32 := Scalar.subi v6877 v6879
  let v6881 : BitVec 1 := Scalar.cmpi .ne v6875 v6880
  let v6882 : BitVec 32 := Scalar.remsi v6792 c2_i32_3475
  let c0_i32_3480 : BitVec 32 := 0#32
  let v6883 : BitVec 1 := Scalar.cmpi .ne v6882 c0_i32_3480
  let v6884 : BitVec 1 := Scalar.andi v6881 v6883
  let v6870 : BitVec 32 := Scalar.divsi v6792 c2_i32_3475
  let c1_i32_3481 : BitVec 32 := 1#32
  let v6885 : BitVec 32 := Scalar.subi v6870 c1_i32_3481
  let v6886 : BitVec 32 := Scalar.select v6884 v6885 v6870
  v6886
def k0_off31 (c2_i32_3435 : BitVec 32) (c0_i32_3437 : BitVec 32) : Fin 3 → Nat :=
  let c1_3482 : Index := 1#32
  let c2_i32_3110 : BitVec 32 := 2#32
  let c0_i32_3109 : BitVec 32 := 0#32
  let v6219 : BitVec 32 := Scalar.muli c2_i32_3110 c0_i32_3109
  let v6788 : BitVec 32 := Scalar.addi v6219 c2_i32_3435
  let c4_i32_3436 : BitVec 32 := 4#32
  let v6789 : BitVec 32 := Scalar.muli v6788 c4_i32_3436
  let v6790 : BitVec 32 := Scalar.addi v6789 c0_i32_3437
  let c128_i32_3438 : BitVec 32 := 128#32
  let v6791 : BitVec 32 := Scalar.muli v6790 c128_i32_3438
  let v6792 : BitVec 32 := v6791
  let c0_i32_3476 : BitVec 32 := 0#32
  let v6871 : BitVec 1 := Scalar.cmpi .sgt v6792 c0_i32_3476
  let v6872 : BitVec 32 := Scalar.extui v6871
  let c0_i32_3477 : BitVec 32 := 0#32
  let v6873 : BitVec 1 := Scalar.cmpi .slt v6792 c0_i32_3477
  let v6874 : BitVec 32 := Scalar.extui v6873
  let v6875 : BitVec 32 := Scalar.subi v6872 v6874
  let c2_i32_3475 : BitVec 32 := 2#32
  let c0_i32_3478 : BitVec 32 := 0#32
  let v6876 : BitVec 1 := Scalar.cmpi .sgt c2_i32_3475 c0_i32_3478
  let v6877 : BitVec 32 := Scalar.extui v6876
  let c0_i32_3479 : BitVec 32 := 0#32
  let v6878 : BitVec 1 := Scalar.cmpi .slt c2_i32_3475 c0_i32_3479
  let v6879 : BitVec 32 := Scalar.extui v6878
  let v6880 : BitVec 32 := Scalar.subi v6877 v6879
  let v6881 : BitVec 1 := Scalar.cmpi .ne v6875 v6880
  let v6882 : BitVec 32 := Scalar.remsi v6792 c2_i32_3475
  let c0_i32_3480 : BitVec 32 := 0#32
  let v6883 : BitVec 1 := Scalar.cmpi .ne v6882 c0_i32_3480
  let v6884 : BitVec 1 := Scalar.andi v6881 v6883
  let v6870 : BitVec 32 := Scalar.divsi v6792 c2_i32_3475
  let c1_i32_3481 : BitVec 32 := 1#32
  let v6885 : BitVec 32 := Scalar.subi v6870 c1_i32_3481
  let v6886 : BitVec 32 := Scalar.select v6884 v6885 v6870
  let v6887 : BitVec 32 := v6886
  let v6888 : Index := Scalar.indexCast v6887
  let c0_3483 : Index := 0#32
  ![1, v6888.toNat, 0]
def k0_mult305 : BitVec 32 :=
  let c2_i32_3110 : BitVec 32 := 2#32
  let c0_i32_3109 : BitVec 32 := 0#32
  let v6219 : BitVec 32 := Scalar.muli c2_i32_3110 c0_i32_3109
  let c2_i32_3435 : BitVec 32 := 2#32
  let v6788 : BitVec 32 := Scalar.addi v6219 c2_i32_3435
  let c4_i32_3436 : BitVec 32 := 4#32
  let v6789 : BitVec 32 := Scalar.muli v6788 c4_i32_3436
  let c0_i32_3437 : BitVec 32 := 0#32
  let v6790 : BitVec 32 := Scalar.addi v6789 c0_i32_3437
  let c0_i32_3440 : BitVec 32 := 0#32
  let v6794 : BitVec 1 := Scalar.cmpi .sgt v6790 c0_i32_3440
  let v6795 : BitVec 32 := Scalar.extui v6794
  let c0_i32_3441 : BitVec 32 := 0#32
  let v6796 : BitVec 1 := Scalar.cmpi .slt v6790 c0_i32_3441
  let v6797 : BitVec 32 := Scalar.extui v6796
  let v6798 : BitVec 32 := Scalar.subi v6795 v6797
  let c4_i32_3439 : BitVec 32 := 4#32
  let c0_i32_3442 : BitVec 32 := 0#32
  let v6799 : BitVec 1 := Scalar.cmpi .sgt c4_i32_3439 c0_i32_3442
  let v6800 : BitVec 32 := Scalar.extui v6799
  let c0_i32_3443 : BitVec 32 := 0#32
  let v6801 : BitVec 1 := Scalar.cmpi .slt c4_i32_3439 c0_i32_3443
  let v6802 : BitVec 32 := Scalar.extui v6801
  let v6803 : BitVec 32 := Scalar.subi v6800 v6802
  let v6804 : BitVec 1 := Scalar.cmpi .ne v6798 v6803
  let v6805 : BitVec 32 := Scalar.remsi v6790 c4_i32_3439
  let c0_i32_3444 : BitVec 32 := 0#32
  let v6806 : BitVec 1 := Scalar.cmpi .ne v6805 c0_i32_3444
  let v6807 : BitVec 1 := Scalar.andi v6804 v6806
  let v6793 : BitVec 32 := Scalar.divsi v6790 c4_i32_3439
  let c1_i32_3445 : BitVec 32 := 1#32
  let v6808 : BitVec 32 := Scalar.subi v6793 c1_i32_3445
  let v6809 : BitVec 32 := Scalar.select v6807 v6808 v6793
  let c512_i32_3456 : BitVec 32 := 512#32
  let v6824 : BitVec 32 := Scalar.muli v6809 c512_i32_3456
  let c256_i32_3455 : BitVec 32 := 256#32
  let c0_i32_3454 : BitVec 32 := 0#32
  let c4_i32_3446 : BitVec 32 := 4#32
  let c0_i32_3447 : BitVec 32 := 0#32
  let v6810 : BitVec 1 := Scalar.cmpi .eq c4_i32_3446 c0_i32_3447
  let c1_i32_3448 : BitVec 32 := 1#32
  let v6811 : BitVec 32 := Scalar.select v6810 c1_i32_3448 c4_i32_3446
  let v6812 : BitVec 32 := Scalar.remsi v6790 v6811
  let c0_i32_3450 : BitVec 32 := 0#32
  let v6814 : BitVec 1 := Scalar.cmpi .slt v6812 c0_i32_3450
  let c0_i32_3451 : BitVec 32 := 0#32
  let v6815 : BitVec 1 := Scalar.cmpi .slt v6811 c0_i32_3451
  let v6816 : BitVec 1 := Scalar.xori v6814 v6815
  let c0_i32_3449 : BitVec 32 := 0#32
  let v6813 : BitVec 1 := Scalar.cmpi .ne v6812 c0_i32_3449
  let v6817 : BitVec 1 := Scalar.andi v6816 v6813
  let v6818 : BitVec 32 := Scalar.addi v6812 v6811
  let v6819 : BitVec 32 := Scalar.select v6817 v6818 v6812
  let c128_i32_3452 : BitVec 32 := 128#32
  let v6820 : BitVec 32 := Scalar.muli v6819 c128_i32_3452
  let c64_i32_3453 : BitVec 32 := 64#32
  let v6821 : BitVec 32 := Scalar.subi v6820 c64_i32_3453
  let v6822 : BitVec 32 := Scalar.maxsi c0_i32_3454 v6821
  let v6823 : BitVec 32 := Scalar.minsi c256_i32_3455 v6822
  let v6825 : BitVec 32 := Scalar.addi v6824 v6823
  let v6826 : BitVec 32 := v6825
  let c0_i32_3485 : BitVec 32 := 0#32
  let v6894 : BitVec 1 := Scalar.cmpi .sgt v6826 c0_i32_3485
  let v6895 : BitVec 32 := Scalar.extui v6894
  let c0_i32_3486 : BitVec 32 := 0#32
  let v6896 : BitVec 1 := Scalar.cmpi .slt v6826 c0_i32_3486
  let v6897 : BitVec 32 := Scalar.extui v6896
  let v6898 : BitVec 32 := Scalar.subi v6895 v6897
  let c2_i32_3484 : BitVec 32 := 2#32
  let c0_i32_3487 : BitVec 32 := 0#32
  let v6899 : BitVec 1 := Scalar.cmpi .sgt c2_i32_3484 c0_i32_3487
  let v6900 : BitVec 32 := Scalar.extui v6899
  let c0_i32_3488 : BitVec 32 := 0#32
  let v6901 : BitVec 1 := Scalar.cmpi .slt c2_i32_3484 c0_i32_3488
  let v6902 : BitVec 32 := Scalar.extui v6901
  let v6903 : BitVec 32 := Scalar.subi v6900 v6902
  let v6904 : BitVec 1 := Scalar.cmpi .ne v6898 v6903
  let v6905 : BitVec 32 := Scalar.remsi v6826 c2_i32_3484
  let c0_i32_3489 : BitVec 32 := 0#32
  let v6906 : BitVec 1 := Scalar.cmpi .ne v6905 c0_i32_3489
  let v6907 : BitVec 1 := Scalar.andi v6904 v6906
  let v6893 : BitVec 32 := Scalar.divsi v6826 c2_i32_3484
  let c1_i32_3490 : BitVec 32 := 1#32
  let v6908 : BitVec 32 := Scalar.subi v6893 c1_i32_3490
  let v6909 : BitVec 32 := Scalar.select v6907 v6908 v6893
  v6909
def k0_off32 (c2_i32_3435 : BitVec 32) (c0_i32_3437 : BitVec 32) : Fin 3 → Nat :=
  let c2_3491 : Index := 2#32
  let c2_i32_3110 : BitVec 32 := 2#32
  let c0_i32_3109 : BitVec 32 := 0#32
  let v6219 : BitVec 32 := Scalar.muli c2_i32_3110 c0_i32_3109
  let v6788 : BitVec 32 := Scalar.addi v6219 c2_i32_3435
  let c4_i32_3436 : BitVec 32 := 4#32
  let v6789 : BitVec 32 := Scalar.muli v6788 c4_i32_3436
  let v6790 : BitVec 32 := Scalar.addi v6789 c0_i32_3437
  let c0_i32_3440 : BitVec 32 := 0#32
  let v6794 : BitVec 1 := Scalar.cmpi .sgt v6790 c0_i32_3440
  let v6795 : BitVec 32 := Scalar.extui v6794
  let c0_i32_3441 : BitVec 32 := 0#32
  let v6796 : BitVec 1 := Scalar.cmpi .slt v6790 c0_i32_3441
  let v6797 : BitVec 32 := Scalar.extui v6796
  let v6798 : BitVec 32 := Scalar.subi v6795 v6797
  let c4_i32_3439 : BitVec 32 := 4#32
  let c0_i32_3442 : BitVec 32 := 0#32
  let v6799 : BitVec 1 := Scalar.cmpi .sgt c4_i32_3439 c0_i32_3442
  let v6800 : BitVec 32 := Scalar.extui v6799
  let c0_i32_3443 : BitVec 32 := 0#32
  let v6801 : BitVec 1 := Scalar.cmpi .slt c4_i32_3439 c0_i32_3443
  let v6802 : BitVec 32 := Scalar.extui v6801
  let v6803 : BitVec 32 := Scalar.subi v6800 v6802
  let v6804 : BitVec 1 := Scalar.cmpi .ne v6798 v6803
  let v6805 : BitVec 32 := Scalar.remsi v6790 c4_i32_3439
  let c0_i32_3444 : BitVec 32 := 0#32
  let v6806 : BitVec 1 := Scalar.cmpi .ne v6805 c0_i32_3444
  let v6807 : BitVec 1 := Scalar.andi v6804 v6806
  let v6793 : BitVec 32 := Scalar.divsi v6790 c4_i32_3439
  let c1_i32_3445 : BitVec 32 := 1#32
  let v6808 : BitVec 32 := Scalar.subi v6793 c1_i32_3445
  let v6809 : BitVec 32 := Scalar.select v6807 v6808 v6793
  let c512_i32_3456 : BitVec 32 := 512#32
  let v6824 : BitVec 32 := Scalar.muli v6809 c512_i32_3456
  let c256_i32_3455 : BitVec 32 := 256#32
  let c0_i32_3454 : BitVec 32 := 0#32
  let c4_i32_3446 : BitVec 32 := 4#32
  let c0_i32_3447 : BitVec 32 := 0#32
  let v6810 : BitVec 1 := Scalar.cmpi .eq c4_i32_3446 c0_i32_3447
  let c1_i32_3448 : BitVec 32 := 1#32
  let v6811 : BitVec 32 := Scalar.select v6810 c1_i32_3448 c4_i32_3446
  let v6812 : BitVec 32 := Scalar.remsi v6790 v6811
  let c0_i32_3450 : BitVec 32 := 0#32
  let v6814 : BitVec 1 := Scalar.cmpi .slt v6812 c0_i32_3450
  let c0_i32_3451 : BitVec 32 := 0#32
  let v6815 : BitVec 1 := Scalar.cmpi .slt v6811 c0_i32_3451
  let v6816 : BitVec 1 := Scalar.xori v6814 v6815
  let c0_i32_3449 : BitVec 32 := 0#32
  let v6813 : BitVec 1 := Scalar.cmpi .ne v6812 c0_i32_3449
  let v6817 : BitVec 1 := Scalar.andi v6816 v6813
  let v6818 : BitVec 32 := Scalar.addi v6812 v6811
  let v6819 : BitVec 32 := Scalar.select v6817 v6818 v6812
  let c128_i32_3452 : BitVec 32 := 128#32
  let v6820 : BitVec 32 := Scalar.muli v6819 c128_i32_3452
  let c64_i32_3453 : BitVec 32 := 64#32
  let v6821 : BitVec 32 := Scalar.subi v6820 c64_i32_3453
  let v6822 : BitVec 32 := Scalar.maxsi c0_i32_3454 v6821
  let v6823 : BitVec 32 := Scalar.minsi c256_i32_3455 v6822
  let v6825 : BitVec 32 := Scalar.addi v6824 v6823
  let v6826 : BitVec 32 := v6825
  let c0_i32_3485 : BitVec 32 := 0#32
  let v6894 : BitVec 1 := Scalar.cmpi .sgt v6826 c0_i32_3485
  let v6895 : BitVec 32 := Scalar.extui v6894
  let c0_i32_3486 : BitVec 32 := 0#32
  let v6896 : BitVec 1 := Scalar.cmpi .slt v6826 c0_i32_3486
  let v6897 : BitVec 32 := Scalar.extui v6896
  let v6898 : BitVec 32 := Scalar.subi v6895 v6897
  let c2_i32_3484 : BitVec 32 := 2#32
  let c0_i32_3487 : BitVec 32 := 0#32
  let v6899 : BitVec 1 := Scalar.cmpi .sgt c2_i32_3484 c0_i32_3487
  let v6900 : BitVec 32 := Scalar.extui v6899
  let c0_i32_3488 : BitVec 32 := 0#32
  let v6901 : BitVec 1 := Scalar.cmpi .slt c2_i32_3484 c0_i32_3488
  let v6902 : BitVec 32 := Scalar.extui v6901
  let v6903 : BitVec 32 := Scalar.subi v6900 v6902
  let v6904 : BitVec 1 := Scalar.cmpi .ne v6898 v6903
  let v6905 : BitVec 32 := Scalar.remsi v6826 c2_i32_3484
  let c0_i32_3489 : BitVec 32 := 0#32
  let v6906 : BitVec 1 := Scalar.cmpi .ne v6905 c0_i32_3489
  let v6907 : BitVec 1 := Scalar.andi v6904 v6906
  let v6893 : BitVec 32 := Scalar.divsi v6826 c2_i32_3484
  let c1_i32_3490 : BitVec 32 := 1#32
  let v6908 : BitVec 32 := Scalar.subi v6893 c1_i32_3490
  let v6909 : BitVec 32 := Scalar.select v6907 v6908 v6893
  let v6910 : BitVec 32 := v6909
  let v6911 : Index := Scalar.indexCast v6910
  let c0_3492 : Index := 0#32
  ![2, v6911.toNat, 0]
def k0_mult306 : BitVec 32 :=
  let c2_i32_3110 : BitVec 32 := 2#32
  let c0_i32_3109 : BitVec 32 := 0#32
  let v6219 : BitVec 32 := Scalar.muli c2_i32_3110 c0_i32_3109
  let c2_i32_3435 : BitVec 32 := 2#32
  let v6788 : BitVec 32 := Scalar.addi v6219 c2_i32_3435
  let c4_i32_3502 : BitVec 32 := 4#32
  let v6926 : BitVec 32 := Scalar.muli v6788 c4_i32_3502
  let c1_i32_3503 : BitVec 32 := 1#32
  let v6927 : BitVec 32 := Scalar.addi v6926 c1_i32_3503
  let c128_i32_3504 : BitVec 32 := 128#32
  let v6928 : BitVec 32 := Scalar.muli v6927 c128_i32_3504
  v6928
def k0_mult307 : BitVec 32 :=
  let c2_i32_3110 : BitVec 32 := 2#32
  let c0_i32_3109 : BitVec 32 := 0#32
  let v6219 : BitVec 32 := Scalar.muli c2_i32_3110 c0_i32_3109
  let c2_i32_3435 : BitVec 32 := 2#32
  let v6788 : BitVec 32 := Scalar.addi v6219 c2_i32_3435
  let c4_i32_3502 : BitVec 32 := 4#32
  let v6926 : BitVec 32 := Scalar.muli v6788 c4_i32_3502
  let c1_i32_3503 : BitVec 32 := 1#32
  let v6927 : BitVec 32 := Scalar.addi v6926 c1_i32_3503
  let c0_i32_3506 : BitVec 32 := 0#32
  let v6931 : BitVec 1 := Scalar.cmpi .sgt v6927 c0_i32_3506
  let v6932 : BitVec 32 := Scalar.extui v6931
  let c0_i32_3507 : BitVec 32 := 0#32
  let v6933 : BitVec 1 := Scalar.cmpi .slt v6927 c0_i32_3507
  let v6934 : BitVec 32 := Scalar.extui v6933
  let v6935 : BitVec 32 := Scalar.subi v6932 v6934
  let c4_i32_3505 : BitVec 32 := 4#32
  let c0_i32_3508 : BitVec 32 := 0#32
  let v6936 : BitVec 1 := Scalar.cmpi .sgt c4_i32_3505 c0_i32_3508
  let v6937 : BitVec 32 := Scalar.extui v6936
  let c0_i32_3509 : BitVec 32 := 0#32
  let v6938 : BitVec 1 := Scalar.cmpi .slt c4_i32_3505 c0_i32_3509
  let v6939 : BitVec 32 := Scalar.extui v6938
  let v6940 : BitVec 32 := Scalar.subi v6937 v6939
  let v6941 : BitVec 1 := Scalar.cmpi .ne v6935 v6940
  let v6942 : BitVec 32 := Scalar.remsi v6927 c4_i32_3505
  let c0_i32_3510 : BitVec 32 := 0#32
  let v6943 : BitVec 1 := Scalar.cmpi .ne v6942 c0_i32_3510
  let v6944 : BitVec 1 := Scalar.andi v6941 v6943
  let v6930 : BitVec 32 := Scalar.divsi v6927 c4_i32_3505
  let c1_i32_3511 : BitVec 32 := 1#32
  let v6945 : BitVec 32 := Scalar.subi v6930 c1_i32_3511
  let v6946 : BitVec 32 := Scalar.select v6944 v6945 v6930
  let c512_i32_3522 : BitVec 32 := 512#32
  let v6961 : BitVec 32 := Scalar.muli v6946 c512_i32_3522
  let c256_i32_3521 : BitVec 32 := 256#32
  let c0_i32_3520 : BitVec 32 := 0#32
  let c4_i32_3512 : BitVec 32 := 4#32
  let c0_i32_3513 : BitVec 32 := 0#32
  let v6947 : BitVec 1 := Scalar.cmpi .eq c4_i32_3512 c0_i32_3513
  let c1_i32_3514 : BitVec 32 := 1#32
  let v6948 : BitVec 32 := Scalar.select v6947 c1_i32_3514 c4_i32_3512
  let v6949 : BitVec 32 := Scalar.remsi v6927 v6948
  let c0_i32_3516 : BitVec 32 := 0#32
  let v6951 : BitVec 1 := Scalar.cmpi .slt v6949 c0_i32_3516
  let c0_i32_3517 : BitVec 32 := 0#32
  let v6952 : BitVec 1 := Scalar.cmpi .slt v6948 c0_i32_3517
  let v6953 : BitVec 1 := Scalar.xori v6951 v6952
  let c0_i32_3515 : BitVec 32 := 0#32
  let v6950 : BitVec 1 := Scalar.cmpi .ne v6949 c0_i32_3515
  let v6954 : BitVec 1 := Scalar.andi v6953 v6950
  let v6955 : BitVec 32 := Scalar.addi v6949 v6948
  let v6956 : BitVec 32 := Scalar.select v6954 v6955 v6949
  let c128_i32_3518 : BitVec 32 := 128#32
  let v6957 : BitVec 32 := Scalar.muli v6956 c128_i32_3518
  let c64_i32_3519 : BitVec 32 := 64#32
  let v6958 : BitVec 32 := Scalar.subi v6957 c64_i32_3519
  let v6959 : BitVec 32 := Scalar.maxsi c0_i32_3520 v6958
  let v6960 : BitVec 32 := Scalar.minsi c256_i32_3521 v6959
  let v6962 : BitVec 32 := Scalar.addi v6961 v6960
  v6962
def k0_mult308 : BitVec 32 :=
  let c2_i32_3110 : BitVec 32 := 2#32
  let c0_i32_3109 : BitVec 32 := 0#32
  let v6219 : BitVec 32 := Scalar.muli c2_i32_3110 c0_i32_3109
  let c2_i32_3435 : BitVec 32 := 2#32
  let v6788 : BitVec 32 := Scalar.addi v6219 c2_i32_3435
  let c4_i32_3502 : BitVec 32 := 4#32
  let v6926 : BitVec 32 := Scalar.muli v6788 c4_i32_3502
  let c1_i32_3503 : BitVec 32 := 1#32
  let v6927 : BitVec 32 := Scalar.addi v6926 c1_i32_3503
  let c128_i32_3504 : BitVec 32 := 128#32
  let v6928 : BitVec 32 := Scalar.muli v6927 c128_i32_3504
  let v6929 : BitVec 32 := v6928
  let c0_i32_3533 : BitVec 32 := 0#32
  let v6986 : BitVec 1 := Scalar.cmpi .sgt v6929 c0_i32_3533
  let v6987 : BitVec 32 := Scalar.extui v6986
  let c0_i32_3534 : BitVec 32 := 0#32
  let v6988 : BitVec 1 := Scalar.cmpi .slt v6929 c0_i32_3534
  let v6989 : BitVec 32 := Scalar.extui v6988
  let v6990 : BitVec 32 := Scalar.subi v6987 v6989
  let c2_i32_3532 : BitVec 32 := 2#32
  let c0_i32_3535 : BitVec 32 := 0#32
  let v6991 : BitVec 1 := Scalar.cmpi .sgt c2_i32_3532 c0_i32_3535
  let v6992 : BitVec 32 := Scalar.extui v6991
  let c0_i32_3536 : BitVec 32 := 0#32
  let v6993 : BitVec 1 := Scalar.cmpi .slt c2_i32_3532 c0_i32_3536
  let v6994 : BitVec 32 := Scalar.extui v6993
  let v6995 : BitVec 32 := Scalar.subi v6992 v6994
  let v6996 : BitVec 1 := Scalar.cmpi .ne v6990 v6995
  let v6997 : BitVec 32 := Scalar.remsi v6929 c2_i32_3532
  let c0_i32_3537 : BitVec 32 := 0#32
  let v6998 : BitVec 1 := Scalar.cmpi .ne v6997 c0_i32_3537
  let v6999 : BitVec 1 := Scalar.andi v6996 v6998
  let v6985 : BitVec 32 := Scalar.divsi v6929 c2_i32_3532
  let c1_i32_3538 : BitVec 32 := 1#32
  let v7000 : BitVec 32 := Scalar.subi v6985 c1_i32_3538
  let v7001 : BitVec 32 := Scalar.select v6999 v7000 v6985
  v7001
def k0_mult309 : BitVec 32 :=
  let c2_i32_3110 : BitVec 32 := 2#32
  let c0_i32_3109 : BitVec 32 := 0#32
  let v6219 : BitVec 32 := Scalar.muli c2_i32_3110 c0_i32_3109
  let c2_i32_3435 : BitVec 32 := 2#32
  let v6788 : BitVec 32 := Scalar.addi v6219 c2_i32_3435
  let c4_i32_3502 : BitVec 32 := 4#32
  let v6926 : BitVec 32 := Scalar.muli v6788 c4_i32_3502
  let c1_i32_3503 : BitVec 32 := 1#32
  let v6927 : BitVec 32 := Scalar.addi v6926 c1_i32_3503
  let c128_i32_3504 : BitVec 32 := 128#32
  let v6928 : BitVec 32 := Scalar.muli v6927 c128_i32_3504
  let v6929 : BitVec 32 := v6928
  let c0_i32_3542 : BitVec 32 := 0#32
  let v7008 : BitVec 1 := Scalar.cmpi .sgt v6929 c0_i32_3542
  let v7009 : BitVec 32 := Scalar.extui v7008
  let c0_i32_3543 : BitVec 32 := 0#32
  let v7010 : BitVec 1 := Scalar.cmpi .slt v6929 c0_i32_3543
  let v7011 : BitVec 32 := Scalar.extui v7010
  let v7012 : BitVec 32 := Scalar.subi v7009 v7011
  let c2_i32_3541 : BitVec 32 := 2#32
  let c0_i32_3544 : BitVec 32 := 0#32
  let v7013 : BitVec 1 := Scalar.cmpi .sgt c2_i32_3541 c0_i32_3544
  let v7014 : BitVec 32 := Scalar.extui v7013
  let c0_i32_3545 : BitVec 32 := 0#32
  let v7015 : BitVec 1 := Scalar.cmpi .slt c2_i32_3541 c0_i32_3545
  let v7016 : BitVec 32 := Scalar.extui v7015
  let v7017 : BitVec 32 := Scalar.subi v7014 v7016
  let v7018 : BitVec 1 := Scalar.cmpi .ne v7012 v7017
  let v7019 : BitVec 32 := Scalar.remsi v6929 c2_i32_3541
  let c0_i32_3546 : BitVec 32 := 0#32
  let v7020 : BitVec 1 := Scalar.cmpi .ne v7019 c0_i32_3546
  let v7021 : BitVec 1 := Scalar.andi v7018 v7020
  let v7007 : BitVec 32 := Scalar.divsi v6929 c2_i32_3541
  let c1_i32_3547 : BitVec 32 := 1#32
  let v7022 : BitVec 32 := Scalar.subi v7007 c1_i32_3547
  let v7023 : BitVec 32 := Scalar.select v7021 v7022 v7007
  v7023
def k0_mult310 : BitVec 32 :=
  let c2_i32_3110 : BitVec 32 := 2#32
  let c0_i32_3109 : BitVec 32 := 0#32
  let v6219 : BitVec 32 := Scalar.muli c2_i32_3110 c0_i32_3109
  let c2_i32_3435 : BitVec 32 := 2#32
  let v6788 : BitVec 32 := Scalar.addi v6219 c2_i32_3435
  let c4_i32_3502 : BitVec 32 := 4#32
  let v6926 : BitVec 32 := Scalar.muli v6788 c4_i32_3502
  let c1_i32_3503 : BitVec 32 := 1#32
  let v6927 : BitVec 32 := Scalar.addi v6926 c1_i32_3503
  let c0_i32_3506 : BitVec 32 := 0#32
  let v6931 : BitVec 1 := Scalar.cmpi .sgt v6927 c0_i32_3506
  let v6932 : BitVec 32 := Scalar.extui v6931
  let c0_i32_3507 : BitVec 32 := 0#32
  let v6933 : BitVec 1 := Scalar.cmpi .slt v6927 c0_i32_3507
  let v6934 : BitVec 32 := Scalar.extui v6933
  let v6935 : BitVec 32 := Scalar.subi v6932 v6934
  let c4_i32_3505 : BitVec 32 := 4#32
  let c0_i32_3508 : BitVec 32 := 0#32
  let v6936 : BitVec 1 := Scalar.cmpi .sgt c4_i32_3505 c0_i32_3508
  let v6937 : BitVec 32 := Scalar.extui v6936
  let c0_i32_3509 : BitVec 32 := 0#32
  let v6938 : BitVec 1 := Scalar.cmpi .slt c4_i32_3505 c0_i32_3509
  let v6939 : BitVec 32 := Scalar.extui v6938
  let v6940 : BitVec 32 := Scalar.subi v6937 v6939
  let v6941 : BitVec 1 := Scalar.cmpi .ne v6935 v6940
  let v6942 : BitVec 32 := Scalar.remsi v6927 c4_i32_3505
  let c0_i32_3510 : BitVec 32 := 0#32
  let v6943 : BitVec 1 := Scalar.cmpi .ne v6942 c0_i32_3510
  let v6944 : BitVec 1 := Scalar.andi v6941 v6943
  let v6930 : BitVec 32 := Scalar.divsi v6927 c4_i32_3505
  let c1_i32_3511 : BitVec 32 := 1#32
  let v6945 : BitVec 32 := Scalar.subi v6930 c1_i32_3511
  let v6946 : BitVec 32 := Scalar.select v6944 v6945 v6930
  let c512_i32_3522 : BitVec 32 := 512#32
  let v6961 : BitVec 32 := Scalar.muli v6946 c512_i32_3522
  let c256_i32_3521 : BitVec 32 := 256#32
  let c0_i32_3520 : BitVec 32 := 0#32
  let c4_i32_3512 : BitVec 32 := 4#32
  let c0_i32_3513 : BitVec 32 := 0#32
  let v6947 : BitVec 1 := Scalar.cmpi .eq c4_i32_3512 c0_i32_3513
  let c1_i32_3514 : BitVec 32 := 1#32
  let v6948 : BitVec 32 := Scalar.select v6947 c1_i32_3514 c4_i32_3512
  let v6949 : BitVec 32 := Scalar.remsi v6927 v6948
  let c0_i32_3516 : BitVec 32 := 0#32
  let v6951 : BitVec 1 := Scalar.cmpi .slt v6949 c0_i32_3516
  let c0_i32_3517 : BitVec 32 := 0#32
  let v6952 : BitVec 1 := Scalar.cmpi .slt v6948 c0_i32_3517
  let v6953 : BitVec 1 := Scalar.xori v6951 v6952
  let c0_i32_3515 : BitVec 32 := 0#32
  let v6950 : BitVec 1 := Scalar.cmpi .ne v6949 c0_i32_3515
  let v6954 : BitVec 1 := Scalar.andi v6953 v6950
  let v6955 : BitVec 32 := Scalar.addi v6949 v6948
  let v6956 : BitVec 32 := Scalar.select v6954 v6955 v6949
  let c128_i32_3518 : BitVec 32 := 128#32
  let v6957 : BitVec 32 := Scalar.muli v6956 c128_i32_3518
  let c64_i32_3519 : BitVec 32 := 64#32
  let v6958 : BitVec 32 := Scalar.subi v6957 c64_i32_3519
  let v6959 : BitVec 32 := Scalar.maxsi c0_i32_3520 v6958
  let v6960 : BitVec 32 := Scalar.minsi c256_i32_3521 v6959
  let v6962 : BitVec 32 := Scalar.addi v6961 v6960
  let v6963 : BitVec 32 := v6962
  let c0_i32_3551 : BitVec 32 := 0#32
  let v7031 : BitVec 1 := Scalar.cmpi .sgt v6963 c0_i32_3551
  let v7032 : BitVec 32 := Scalar.extui v7031
  let c0_i32_3552 : BitVec 32 := 0#32
  let v7033 : BitVec 1 := Scalar.cmpi .slt v6963 c0_i32_3552
  let v7034 : BitVec 32 := Scalar.extui v7033
  let v7035 : BitVec 32 := Scalar.subi v7032 v7034
  let c2_i32_3550 : BitVec 32 := 2#32
  let c0_i32_3553 : BitVec 32 := 0#32
  let v7036 : BitVec 1 := Scalar.cmpi .sgt c2_i32_3550 c0_i32_3553
  let v7037 : BitVec 32 := Scalar.extui v7036
  let c0_i32_3554 : BitVec 32 := 0#32
  let v7038 : BitVec 1 := Scalar.cmpi .slt c2_i32_3550 c0_i32_3554
  let v7039 : BitVec 32 := Scalar.extui v7038
  let v7040 : BitVec 32 := Scalar.subi v7037 v7039
  let v7041 : BitVec 1 := Scalar.cmpi .ne v7035 v7040
  let v7042 : BitVec 32 := Scalar.remsi v6963 c2_i32_3550
  let c0_i32_3555 : BitVec 32 := 0#32
  let v7043 : BitVec 1 := Scalar.cmpi .ne v7042 c0_i32_3555
  let v7044 : BitVec 1 := Scalar.andi v7041 v7043
  let v7030 : BitVec 32 := Scalar.divsi v6963 c2_i32_3550
  let c1_i32_3556 : BitVec 32 := 1#32
  let v7045 : BitVec 32 := Scalar.subi v7030 c1_i32_3556
  let v7046 : BitVec 32 := Scalar.select v7044 v7045 v7030
  v7046
def k0_mult311 : BitVec 32 :=
  let c2_i32_3110 : BitVec 32 := 2#32
  let c0_i32_3109 : BitVec 32 := 0#32
  let v6219 : BitVec 32 := Scalar.muli c2_i32_3110 c0_i32_3109
  let c2_i32_3435 : BitVec 32 := 2#32
  let v6788 : BitVec 32 := Scalar.addi v6219 c2_i32_3435
  let c4_i32_3568 : BitVec 32 := 4#32
  let v7063 : BitVec 32 := Scalar.muli v6788 c4_i32_3568
  let c2_i32_3569 : BitVec 32 := 2#32
  let v7064 : BitVec 32 := Scalar.addi v7063 c2_i32_3569
  let c128_i32_3570 : BitVec 32 := 128#32
  let v7065 : BitVec 32 := Scalar.muli v7064 c128_i32_3570
  v7065
def k0_mult312 : BitVec 32 :=
  let c2_i32_3110 : BitVec 32 := 2#32
  let c0_i32_3109 : BitVec 32 := 0#32
  let v6219 : BitVec 32 := Scalar.muli c2_i32_3110 c0_i32_3109
  let c2_i32_3435 : BitVec 32 := 2#32
  let v6788 : BitVec 32 := Scalar.addi v6219 c2_i32_3435
  let c4_i32_3568 : BitVec 32 := 4#32
  let v7063 : BitVec 32 := Scalar.muli v6788 c4_i32_3568
  let c2_i32_3569 : BitVec 32 := 2#32
  let v7064 : BitVec 32 := Scalar.addi v7063 c2_i32_3569
  let c0_i32_3572 : BitVec 32 := 0#32
  let v7068 : BitVec 1 := Scalar.cmpi .sgt v7064 c0_i32_3572
  let v7069 : BitVec 32 := Scalar.extui v7068
  let c0_i32_3573 : BitVec 32 := 0#32
  let v7070 : BitVec 1 := Scalar.cmpi .slt v7064 c0_i32_3573
  let v7071 : BitVec 32 := Scalar.extui v7070
  let v7072 : BitVec 32 := Scalar.subi v7069 v7071
  let c4_i32_3571 : BitVec 32 := 4#32
  let c0_i32_3574 : BitVec 32 := 0#32
  let v7073 : BitVec 1 := Scalar.cmpi .sgt c4_i32_3571 c0_i32_3574
  let v7074 : BitVec 32 := Scalar.extui v7073
  let c0_i32_3575 : BitVec 32 := 0#32
  let v7075 : BitVec 1 := Scalar.cmpi .slt c4_i32_3571 c0_i32_3575
  let v7076 : BitVec 32 := Scalar.extui v7075
  let v7077 : BitVec 32 := Scalar.subi v7074 v7076
  let v7078 : BitVec 1 := Scalar.cmpi .ne v7072 v7077
  let v7079 : BitVec 32 := Scalar.remsi v7064 c4_i32_3571
  let c0_i32_3576 : BitVec 32 := 0#32
  let v7080 : BitVec 1 := Scalar.cmpi .ne v7079 c0_i32_3576
  let v7081 : BitVec 1 := Scalar.andi v7078 v7080
  let v7067 : BitVec 32 := Scalar.divsi v7064 c4_i32_3571
  let c1_i32_3577 : BitVec 32 := 1#32
  let v7082 : BitVec 32 := Scalar.subi v7067 c1_i32_3577
  let v7083 : BitVec 32 := Scalar.select v7081 v7082 v7067
  let c512_i32_3588 : BitVec 32 := 512#32
  let v7098 : BitVec 32 := Scalar.muli v7083 c512_i32_3588
  let c256_i32_3587 : BitVec 32 := 256#32
  let c0_i32_3586 : BitVec 32 := 0#32
  let c4_i32_3578 : BitVec 32 := 4#32
  let c0_i32_3579 : BitVec 32 := 0#32
  let v7084 : BitVec 1 := Scalar.cmpi .eq c4_i32_3578 c0_i32_3579
  let c1_i32_3580 : BitVec 32 := 1#32
  let v7085 : BitVec 32 := Scalar.select v7084 c1_i32_3580 c4_i32_3578
  let v7086 : BitVec 32 := Scalar.remsi v7064 v7085
  let c0_i32_3582 : BitVec 32 := 0#32
  let v7088 : BitVec 1 := Scalar.cmpi .slt v7086 c0_i32_3582
  let c0_i32_3583 : BitVec 32 := 0#32
  let v7089 : BitVec 1 := Scalar.cmpi .slt v7085 c0_i32_3583
  let v7090 : BitVec 1 := Scalar.xori v7088 v7089
  let c0_i32_3581 : BitVec 32 := 0#32
  let v7087 : BitVec 1 := Scalar.cmpi .ne v7086 c0_i32_3581
  let v7091 : BitVec 1 := Scalar.andi v7090 v7087
  let v7092 : BitVec 32 := Scalar.addi v7086 v7085
  let v7093 : BitVec 32 := Scalar.select v7091 v7092 v7086
  let c128_i32_3584 : BitVec 32 := 128#32
  let v7094 : BitVec 32 := Scalar.muli v7093 c128_i32_3584
  let c64_i32_3585 : BitVec 32 := 64#32
  let v7095 : BitVec 32 := Scalar.subi v7094 c64_i32_3585
  let v7096 : BitVec 32 := Scalar.maxsi c0_i32_3586 v7095
  let v7097 : BitVec 32 := Scalar.minsi c256_i32_3587 v7096
  let v7099 : BitVec 32 := Scalar.addi v7098 v7097
  v7099
def k0_mult313 : BitVec 32 :=
  let c2_i32_3110 : BitVec 32 := 2#32
  let c0_i32_3109 : BitVec 32 := 0#32
  let v6219 : BitVec 32 := Scalar.muli c2_i32_3110 c0_i32_3109
  let c2_i32_3435 : BitVec 32 := 2#32
  let v6788 : BitVec 32 := Scalar.addi v6219 c2_i32_3435
  let c4_i32_3568 : BitVec 32 := 4#32
  let v7063 : BitVec 32 := Scalar.muli v6788 c4_i32_3568
  let c2_i32_3569 : BitVec 32 := 2#32
  let v7064 : BitVec 32 := Scalar.addi v7063 c2_i32_3569
  let c128_i32_3570 : BitVec 32 := 128#32
  let v7065 : BitVec 32 := Scalar.muli v7064 c128_i32_3570
  let v7066 : BitVec 32 := v7065
  let c0_i32_3599 : BitVec 32 := 0#32
  let v7123 : BitVec 1 := Scalar.cmpi .sgt v7066 c0_i32_3599
  let v7124 : BitVec 32 := Scalar.extui v7123
  let c0_i32_3600 : BitVec 32 := 0#32
  let v7125 : BitVec 1 := Scalar.cmpi .slt v7066 c0_i32_3600
  let v7126 : BitVec 32 := Scalar.extui v7125
  let v7127 : BitVec 32 := Scalar.subi v7124 v7126
  let c2_i32_3598 : BitVec 32 := 2#32
  let c0_i32_3601 : BitVec 32 := 0#32
  let v7128 : BitVec 1 := Scalar.cmpi .sgt c2_i32_3598 c0_i32_3601
  let v7129 : BitVec 32 := Scalar.extui v7128
  let c0_i32_3602 : BitVec 32 := 0#32
  let v7130 : BitVec 1 := Scalar.cmpi .slt c2_i32_3598 c0_i32_3602
  let v7131 : BitVec 32 := Scalar.extui v7130
  let v7132 : BitVec 32 := Scalar.subi v7129 v7131
  let v7133 : BitVec 1 := Scalar.cmpi .ne v7127 v7132
  let v7134 : BitVec 32 := Scalar.remsi v7066 c2_i32_3598
  let c0_i32_3603 : BitVec 32 := 0#32
  let v7135 : BitVec 1 := Scalar.cmpi .ne v7134 c0_i32_3603
  let v7136 : BitVec 1 := Scalar.andi v7133 v7135
  let v7122 : BitVec 32 := Scalar.divsi v7066 c2_i32_3598
  let c1_i32_3604 : BitVec 32 := 1#32
  let v7137 : BitVec 32 := Scalar.subi v7122 c1_i32_3604
  let v7138 : BitVec 32 := Scalar.select v7136 v7137 v7122
  v7138
def k0_mult314 : BitVec 32 :=
  let c2_i32_3110 : BitVec 32 := 2#32
  let c0_i32_3109 : BitVec 32 := 0#32
  let v6219 : BitVec 32 := Scalar.muli c2_i32_3110 c0_i32_3109
  let c2_i32_3435 : BitVec 32 := 2#32
  let v6788 : BitVec 32 := Scalar.addi v6219 c2_i32_3435
  let c4_i32_3568 : BitVec 32 := 4#32
  let v7063 : BitVec 32 := Scalar.muli v6788 c4_i32_3568
  let c2_i32_3569 : BitVec 32 := 2#32
  let v7064 : BitVec 32 := Scalar.addi v7063 c2_i32_3569
  let c128_i32_3570 : BitVec 32 := 128#32
  let v7065 : BitVec 32 := Scalar.muli v7064 c128_i32_3570
  let v7066 : BitVec 32 := v7065
  let c0_i32_3608 : BitVec 32 := 0#32
  let v7145 : BitVec 1 := Scalar.cmpi .sgt v7066 c0_i32_3608
  let v7146 : BitVec 32 := Scalar.extui v7145
  let c0_i32_3609 : BitVec 32 := 0#32
  let v7147 : BitVec 1 := Scalar.cmpi .slt v7066 c0_i32_3609
  let v7148 : BitVec 32 := Scalar.extui v7147
  let v7149 : BitVec 32 := Scalar.subi v7146 v7148
  let c2_i32_3607 : BitVec 32 := 2#32
  let c0_i32_3610 : BitVec 32 := 0#32
  let v7150 : BitVec 1 := Scalar.cmpi .sgt c2_i32_3607 c0_i32_3610
  let v7151 : BitVec 32 := Scalar.extui v7150
  let c0_i32_3611 : BitVec 32 := 0#32
  let v7152 : BitVec 1 := Scalar.cmpi .slt c2_i32_3607 c0_i32_3611
  let v7153 : BitVec 32 := Scalar.extui v7152
  let v7154 : BitVec 32 := Scalar.subi v7151 v7153
  let v7155 : BitVec 1 := Scalar.cmpi .ne v7149 v7154
  let v7156 : BitVec 32 := Scalar.remsi v7066 c2_i32_3607
  let c0_i32_3612 : BitVec 32 := 0#32
  let v7157 : BitVec 1 := Scalar.cmpi .ne v7156 c0_i32_3612
  let v7158 : BitVec 1 := Scalar.andi v7155 v7157
  let v7144 : BitVec 32 := Scalar.divsi v7066 c2_i32_3607
  let c1_i32_3613 : BitVec 32 := 1#32
  let v7159 : BitVec 32 := Scalar.subi v7144 c1_i32_3613
  let v7160 : BitVec 32 := Scalar.select v7158 v7159 v7144
  v7160
def k0_mult315 : BitVec 32 :=
  let c2_i32_3110 : BitVec 32 := 2#32
  let c0_i32_3109 : BitVec 32 := 0#32
  let v6219 : BitVec 32 := Scalar.muli c2_i32_3110 c0_i32_3109
  let c2_i32_3435 : BitVec 32 := 2#32
  let v6788 : BitVec 32 := Scalar.addi v6219 c2_i32_3435
  let c4_i32_3568 : BitVec 32 := 4#32
  let v7063 : BitVec 32 := Scalar.muli v6788 c4_i32_3568
  let c2_i32_3569 : BitVec 32 := 2#32
  let v7064 : BitVec 32 := Scalar.addi v7063 c2_i32_3569
  let c0_i32_3572 : BitVec 32 := 0#32
  let v7068 : BitVec 1 := Scalar.cmpi .sgt v7064 c0_i32_3572
  let v7069 : BitVec 32 := Scalar.extui v7068
  let c0_i32_3573 : BitVec 32 := 0#32
  let v7070 : BitVec 1 := Scalar.cmpi .slt v7064 c0_i32_3573
  let v7071 : BitVec 32 := Scalar.extui v7070
  let v7072 : BitVec 32 := Scalar.subi v7069 v7071
  let c4_i32_3571 : BitVec 32 := 4#32
  let c0_i32_3574 : BitVec 32 := 0#32
  let v7073 : BitVec 1 := Scalar.cmpi .sgt c4_i32_3571 c0_i32_3574
  let v7074 : BitVec 32 := Scalar.extui v7073
  let c0_i32_3575 : BitVec 32 := 0#32
  let v7075 : BitVec 1 := Scalar.cmpi .slt c4_i32_3571 c0_i32_3575
  let v7076 : BitVec 32 := Scalar.extui v7075
  let v7077 : BitVec 32 := Scalar.subi v7074 v7076
  let v7078 : BitVec 1 := Scalar.cmpi .ne v7072 v7077
  let v7079 : BitVec 32 := Scalar.remsi v7064 c4_i32_3571
  let c0_i32_3576 : BitVec 32 := 0#32
  let v7080 : BitVec 1 := Scalar.cmpi .ne v7079 c0_i32_3576
  let v7081 : BitVec 1 := Scalar.andi v7078 v7080
  let v7067 : BitVec 32 := Scalar.divsi v7064 c4_i32_3571
  let c1_i32_3577 : BitVec 32 := 1#32
  let v7082 : BitVec 32 := Scalar.subi v7067 c1_i32_3577
  let v7083 : BitVec 32 := Scalar.select v7081 v7082 v7067
  let c512_i32_3588 : BitVec 32 := 512#32
  let v7098 : BitVec 32 := Scalar.muli v7083 c512_i32_3588
  let c256_i32_3587 : BitVec 32 := 256#32
  let c0_i32_3586 : BitVec 32 := 0#32
  let c4_i32_3578 : BitVec 32 := 4#32
  let c0_i32_3579 : BitVec 32 := 0#32
  let v7084 : BitVec 1 := Scalar.cmpi .eq c4_i32_3578 c0_i32_3579
  let c1_i32_3580 : BitVec 32 := 1#32
  let v7085 : BitVec 32 := Scalar.select v7084 c1_i32_3580 c4_i32_3578
  let v7086 : BitVec 32 := Scalar.remsi v7064 v7085
  let c0_i32_3582 : BitVec 32 := 0#32
  let v7088 : BitVec 1 := Scalar.cmpi .slt v7086 c0_i32_3582
  let c0_i32_3583 : BitVec 32 := 0#32
  let v7089 : BitVec 1 := Scalar.cmpi .slt v7085 c0_i32_3583
  let v7090 : BitVec 1 := Scalar.xori v7088 v7089
  let c0_i32_3581 : BitVec 32 := 0#32
  let v7087 : BitVec 1 := Scalar.cmpi .ne v7086 c0_i32_3581
  let v7091 : BitVec 1 := Scalar.andi v7090 v7087
  let v7092 : BitVec 32 := Scalar.addi v7086 v7085
  let v7093 : BitVec 32 := Scalar.select v7091 v7092 v7086
  let c128_i32_3584 : BitVec 32 := 128#32
  let v7094 : BitVec 32 := Scalar.muli v7093 c128_i32_3584
  let c64_i32_3585 : BitVec 32 := 64#32
  let v7095 : BitVec 32 := Scalar.subi v7094 c64_i32_3585
  let v7096 : BitVec 32 := Scalar.maxsi c0_i32_3586 v7095
  let v7097 : BitVec 32 := Scalar.minsi c256_i32_3587 v7096
  let v7099 : BitVec 32 := Scalar.addi v7098 v7097
  let v7100 : BitVec 32 := v7099
  let c0_i32_3617 : BitVec 32 := 0#32
  let v7168 : BitVec 1 := Scalar.cmpi .sgt v7100 c0_i32_3617
  let v7169 : BitVec 32 := Scalar.extui v7168
  let c0_i32_3618 : BitVec 32 := 0#32
  let v7170 : BitVec 1 := Scalar.cmpi .slt v7100 c0_i32_3618
  let v7171 : BitVec 32 := Scalar.extui v7170
  let v7172 : BitVec 32 := Scalar.subi v7169 v7171
  let c2_i32_3616 : BitVec 32 := 2#32
  let c0_i32_3619 : BitVec 32 := 0#32
  let v7173 : BitVec 1 := Scalar.cmpi .sgt c2_i32_3616 c0_i32_3619
  let v7174 : BitVec 32 := Scalar.extui v7173
  let c0_i32_3620 : BitVec 32 := 0#32
  let v7175 : BitVec 1 := Scalar.cmpi .slt c2_i32_3616 c0_i32_3620
  let v7176 : BitVec 32 := Scalar.extui v7175
  let v7177 : BitVec 32 := Scalar.subi v7174 v7176
  let v7178 : BitVec 1 := Scalar.cmpi .ne v7172 v7177
  let v7179 : BitVec 32 := Scalar.remsi v7100 c2_i32_3616
  let c0_i32_3621 : BitVec 32 := 0#32
  let v7180 : BitVec 1 := Scalar.cmpi .ne v7179 c0_i32_3621
  let v7181 : BitVec 1 := Scalar.andi v7178 v7180
  let v7167 : BitVec 32 := Scalar.divsi v7100 c2_i32_3616
  let c1_i32_3622 : BitVec 32 := 1#32
  let v7182 : BitVec 32 := Scalar.subi v7167 c1_i32_3622
  let v7183 : BitVec 32 := Scalar.select v7181 v7182 v7167
  v7183
def k0_mult316 : BitVec 32 :=
  let c2_i32_3110 : BitVec 32 := 2#32
  let c0_i32_3109 : BitVec 32 := 0#32
  let v6219 : BitVec 32 := Scalar.muli c2_i32_3110 c0_i32_3109
  let c2_i32_3435 : BitVec 32 := 2#32
  let v6788 : BitVec 32 := Scalar.addi v6219 c2_i32_3435
  let c4_i32_3634 : BitVec 32 := 4#32
  let v7200 : BitVec 32 := Scalar.muli v6788 c4_i32_3634
  let c3_i32_3635 : BitVec 32 := 3#32
  let v7201 : BitVec 32 := Scalar.addi v7200 c3_i32_3635
  let c128_i32_3636 : BitVec 32 := 128#32
  let v7202 : BitVec 32 := Scalar.muli v7201 c128_i32_3636
  v7202
def k0_mult317 : BitVec 32 :=
  let c2_i32_3110 : BitVec 32 := 2#32
  let c0_i32_3109 : BitVec 32 := 0#32
  let v6219 : BitVec 32 := Scalar.muli c2_i32_3110 c0_i32_3109
  let c2_i32_3435 : BitVec 32 := 2#32
  let v6788 : BitVec 32 := Scalar.addi v6219 c2_i32_3435
  let c4_i32_3634 : BitVec 32 := 4#32
  let v7200 : BitVec 32 := Scalar.muli v6788 c4_i32_3634
  let c3_i32_3635 : BitVec 32 := 3#32
  let v7201 : BitVec 32 := Scalar.addi v7200 c3_i32_3635
  let c0_i32_3638 : BitVec 32 := 0#32
  let v7205 : BitVec 1 := Scalar.cmpi .sgt v7201 c0_i32_3638
  let v7206 : BitVec 32 := Scalar.extui v7205
  let c0_i32_3639 : BitVec 32 := 0#32
  let v7207 : BitVec 1 := Scalar.cmpi .slt v7201 c0_i32_3639
  let v7208 : BitVec 32 := Scalar.extui v7207
  let v7209 : BitVec 32 := Scalar.subi v7206 v7208
  let c4_i32_3637 : BitVec 32 := 4#32
  let c0_i32_3640 : BitVec 32 := 0#32
  let v7210 : BitVec 1 := Scalar.cmpi .sgt c4_i32_3637 c0_i32_3640
  let v7211 : BitVec 32 := Scalar.extui v7210
  let c0_i32_3641 : BitVec 32 := 0#32
  let v7212 : BitVec 1 := Scalar.cmpi .slt c4_i32_3637 c0_i32_3641
  let v7213 : BitVec 32 := Scalar.extui v7212
  let v7214 : BitVec 32 := Scalar.subi v7211 v7213
  let v7215 : BitVec 1 := Scalar.cmpi .ne v7209 v7214
  let v7216 : BitVec 32 := Scalar.remsi v7201 c4_i32_3637
  let c0_i32_3642 : BitVec 32 := 0#32
  let v7217 : BitVec 1 := Scalar.cmpi .ne v7216 c0_i32_3642
  let v7218 : BitVec 1 := Scalar.andi v7215 v7217
  let v7204 : BitVec 32 := Scalar.divsi v7201 c4_i32_3637
  let c1_i32_3643 : BitVec 32 := 1#32
  let v7219 : BitVec 32 := Scalar.subi v7204 c1_i32_3643
  let v7220 : BitVec 32 := Scalar.select v7218 v7219 v7204
  let c512_i32_3654 : BitVec 32 := 512#32
  let v7235 : BitVec 32 := Scalar.muli v7220 c512_i32_3654
  let c256_i32_3653 : BitVec 32 := 256#32
  let c0_i32_3652 : BitVec 32 := 0#32
  let c4_i32_3644 : BitVec 32 := 4#32
  let c0_i32_3645 : BitVec 32 := 0#32
  let v7221 : BitVec 1 := Scalar.cmpi .eq c4_i32_3644 c0_i32_3645
  let c1_i32_3646 : BitVec 32 := 1#32
  let v7222 : BitVec 32 := Scalar.select v7221 c1_i32_3646 c4_i32_3644
  let v7223 : BitVec 32 := Scalar.remsi v7201 v7222
  let c0_i32_3648 : BitVec 32 := 0#32
  let v7225 : BitVec 1 := Scalar.cmpi .slt v7223 c0_i32_3648
  let c0_i32_3649 : BitVec 32 := 0#32
  let v7226 : BitVec 1 := Scalar.cmpi .slt v7222 c0_i32_3649
  let v7227 : BitVec 1 := Scalar.xori v7225 v7226
  let c0_i32_3647 : BitVec 32 := 0#32
  let v7224 : BitVec 1 := Scalar.cmpi .ne v7223 c0_i32_3647
  let v7228 : BitVec 1 := Scalar.andi v7227 v7224
  let v7229 : BitVec 32 := Scalar.addi v7223 v7222
  let v7230 : BitVec 32 := Scalar.select v7228 v7229 v7223
  let c128_i32_3650 : BitVec 32 := 128#32
  let v7231 : BitVec 32 := Scalar.muli v7230 c128_i32_3650
  let c64_i32_3651 : BitVec 32 := 64#32
  let v7232 : BitVec 32 := Scalar.subi v7231 c64_i32_3651
  let v7233 : BitVec 32 := Scalar.maxsi c0_i32_3652 v7232
  let v7234 : BitVec 32 := Scalar.minsi c256_i32_3653 v7233
  let v7236 : BitVec 32 := Scalar.addi v7235 v7234
  v7236
def k0_mult318 : BitVec 32 :=
  let c2_i32_3110 : BitVec 32 := 2#32
  let c0_i32_3109 : BitVec 32 := 0#32
  let v6219 : BitVec 32 := Scalar.muli c2_i32_3110 c0_i32_3109
  let c2_i32_3435 : BitVec 32 := 2#32
  let v6788 : BitVec 32 := Scalar.addi v6219 c2_i32_3435
  let c4_i32_3634 : BitVec 32 := 4#32
  let v7200 : BitVec 32 := Scalar.muli v6788 c4_i32_3634
  let c3_i32_3635 : BitVec 32 := 3#32
  let v7201 : BitVec 32 := Scalar.addi v7200 c3_i32_3635
  let c128_i32_3636 : BitVec 32 := 128#32
  let v7202 : BitVec 32 := Scalar.muli v7201 c128_i32_3636
  let v7203 : BitVec 32 := v7202
  let c0_i32_3665 : BitVec 32 := 0#32
  let v7260 : BitVec 1 := Scalar.cmpi .sgt v7203 c0_i32_3665
  let v7261 : BitVec 32 := Scalar.extui v7260
  let c0_i32_3666 : BitVec 32 := 0#32
  let v7262 : BitVec 1 := Scalar.cmpi .slt v7203 c0_i32_3666
  let v7263 : BitVec 32 := Scalar.extui v7262
  let v7264 : BitVec 32 := Scalar.subi v7261 v7263
  let c2_i32_3664 : BitVec 32 := 2#32
  let c0_i32_3667 : BitVec 32 := 0#32
  let v7265 : BitVec 1 := Scalar.cmpi .sgt c2_i32_3664 c0_i32_3667
  let v7266 : BitVec 32 := Scalar.extui v7265
  let c0_i32_3668 : BitVec 32 := 0#32
  let v7267 : BitVec 1 := Scalar.cmpi .slt c2_i32_3664 c0_i32_3668
  let v7268 : BitVec 32 := Scalar.extui v7267
  let v7269 : BitVec 32 := Scalar.subi v7266 v7268
  let v7270 : BitVec 1 := Scalar.cmpi .ne v7264 v7269
  let v7271 : BitVec 32 := Scalar.remsi v7203 c2_i32_3664
  let c0_i32_3669 : BitVec 32 := 0#32
  let v7272 : BitVec 1 := Scalar.cmpi .ne v7271 c0_i32_3669
  let v7273 : BitVec 1 := Scalar.andi v7270 v7272
  let v7259 : BitVec 32 := Scalar.divsi v7203 c2_i32_3664
  let c1_i32_3670 : BitVec 32 := 1#32
  let v7274 : BitVec 32 := Scalar.subi v7259 c1_i32_3670
  let v7275 : BitVec 32 := Scalar.select v7273 v7274 v7259
  v7275
def k0_mult319 : BitVec 32 :=
  let c2_i32_3110 : BitVec 32 := 2#32
  let c0_i32_3109 : BitVec 32 := 0#32
  let v6219 : BitVec 32 := Scalar.muli c2_i32_3110 c0_i32_3109
  let c2_i32_3435 : BitVec 32 := 2#32
  let v6788 : BitVec 32 := Scalar.addi v6219 c2_i32_3435
  let c4_i32_3634 : BitVec 32 := 4#32
  let v7200 : BitVec 32 := Scalar.muli v6788 c4_i32_3634
  let c3_i32_3635 : BitVec 32 := 3#32
  let v7201 : BitVec 32 := Scalar.addi v7200 c3_i32_3635
  let c128_i32_3636 : BitVec 32 := 128#32
  let v7202 : BitVec 32 := Scalar.muli v7201 c128_i32_3636
  let v7203 : BitVec 32 := v7202
  let c0_i32_3674 : BitVec 32 := 0#32
  let v7282 : BitVec 1 := Scalar.cmpi .sgt v7203 c0_i32_3674
  let v7283 : BitVec 32 := Scalar.extui v7282
  let c0_i32_3675 : BitVec 32 := 0#32
  let v7284 : BitVec 1 := Scalar.cmpi .slt v7203 c0_i32_3675
  let v7285 : BitVec 32 := Scalar.extui v7284
  let v7286 : BitVec 32 := Scalar.subi v7283 v7285
  let c2_i32_3673 : BitVec 32 := 2#32
  let c0_i32_3676 : BitVec 32 := 0#32
  let v7287 : BitVec 1 := Scalar.cmpi .sgt c2_i32_3673 c0_i32_3676
  let v7288 : BitVec 32 := Scalar.extui v7287
  let c0_i32_3677 : BitVec 32 := 0#32
  let v7289 : BitVec 1 := Scalar.cmpi .slt c2_i32_3673 c0_i32_3677
  let v7290 : BitVec 32 := Scalar.extui v7289
  let v7291 : BitVec 32 := Scalar.subi v7288 v7290
  let v7292 : BitVec 1 := Scalar.cmpi .ne v7286 v7291
  let v7293 : BitVec 32 := Scalar.remsi v7203 c2_i32_3673
  let c0_i32_3678 : BitVec 32 := 0#32
  let v7294 : BitVec 1 := Scalar.cmpi .ne v7293 c0_i32_3678
  let v7295 : BitVec 1 := Scalar.andi v7292 v7294
  let v7281 : BitVec 32 := Scalar.divsi v7203 c2_i32_3673
  let c1_i32_3679 : BitVec 32 := 1#32
  let v7296 : BitVec 32 := Scalar.subi v7281 c1_i32_3679
  let v7297 : BitVec 32 := Scalar.select v7295 v7296 v7281
  v7297
def k0_mult320 : BitVec 32 :=
  let c2_i32_3110 : BitVec 32 := 2#32
  let c0_i32_3109 : BitVec 32 := 0#32
  let v6219 : BitVec 32 := Scalar.muli c2_i32_3110 c0_i32_3109
  let c2_i32_3435 : BitVec 32 := 2#32
  let v6788 : BitVec 32 := Scalar.addi v6219 c2_i32_3435
  let c4_i32_3634 : BitVec 32 := 4#32
  let v7200 : BitVec 32 := Scalar.muli v6788 c4_i32_3634
  let c3_i32_3635 : BitVec 32 := 3#32
  let v7201 : BitVec 32 := Scalar.addi v7200 c3_i32_3635
  let c0_i32_3638 : BitVec 32 := 0#32
  let v7205 : BitVec 1 := Scalar.cmpi .sgt v7201 c0_i32_3638
  let v7206 : BitVec 32 := Scalar.extui v7205
  let c0_i32_3639 : BitVec 32 := 0#32
  let v7207 : BitVec 1 := Scalar.cmpi .slt v7201 c0_i32_3639
  let v7208 : BitVec 32 := Scalar.extui v7207
  let v7209 : BitVec 32 := Scalar.subi v7206 v7208
  let c4_i32_3637 : BitVec 32 := 4#32
  let c0_i32_3640 : BitVec 32 := 0#32
  let v7210 : BitVec 1 := Scalar.cmpi .sgt c4_i32_3637 c0_i32_3640
  let v7211 : BitVec 32 := Scalar.extui v7210
  let c0_i32_3641 : BitVec 32 := 0#32
  let v7212 : BitVec 1 := Scalar.cmpi .slt c4_i32_3637 c0_i32_3641
  let v7213 : BitVec 32 := Scalar.extui v7212
  let v7214 : BitVec 32 := Scalar.subi v7211 v7213
  let v7215 : BitVec 1 := Scalar.cmpi .ne v7209 v7214
  let v7216 : BitVec 32 := Scalar.remsi v7201 c4_i32_3637
  let c0_i32_3642 : BitVec 32 := 0#32
  let v7217 : BitVec 1 := Scalar.cmpi .ne v7216 c0_i32_3642
  let v7218 : BitVec 1 := Scalar.andi v7215 v7217
  let v7204 : BitVec 32 := Scalar.divsi v7201 c4_i32_3637
  let c1_i32_3643 : BitVec 32 := 1#32
  let v7219 : BitVec 32 := Scalar.subi v7204 c1_i32_3643
  let v7220 : BitVec 32 := Scalar.select v7218 v7219 v7204
  let c512_i32_3654 : BitVec 32 := 512#32
  let v7235 : BitVec 32 := Scalar.muli v7220 c512_i32_3654
  let c256_i32_3653 : BitVec 32 := 256#32
  let c0_i32_3652 : BitVec 32 := 0#32
  let c4_i32_3644 : BitVec 32 := 4#32
  let c0_i32_3645 : BitVec 32 := 0#32
  let v7221 : BitVec 1 := Scalar.cmpi .eq c4_i32_3644 c0_i32_3645
  let c1_i32_3646 : BitVec 32 := 1#32
  let v7222 : BitVec 32 := Scalar.select v7221 c1_i32_3646 c4_i32_3644
  let v7223 : BitVec 32 := Scalar.remsi v7201 v7222
  let c0_i32_3648 : BitVec 32 := 0#32
  let v7225 : BitVec 1 := Scalar.cmpi .slt v7223 c0_i32_3648
  let c0_i32_3649 : BitVec 32 := 0#32
  let v7226 : BitVec 1 := Scalar.cmpi .slt v7222 c0_i32_3649
  let v7227 : BitVec 1 := Scalar.xori v7225 v7226
  let c0_i32_3647 : BitVec 32 := 0#32
  let v7224 : BitVec 1 := Scalar.cmpi .ne v7223 c0_i32_3647
  let v7228 : BitVec 1 := Scalar.andi v7227 v7224
  let v7229 : BitVec 32 := Scalar.addi v7223 v7222
  let v7230 : BitVec 32 := Scalar.select v7228 v7229 v7223
  let c128_i32_3650 : BitVec 32 := 128#32
  let v7231 : BitVec 32 := Scalar.muli v7230 c128_i32_3650
  let c64_i32_3651 : BitVec 32 := 64#32
  let v7232 : BitVec 32 := Scalar.subi v7231 c64_i32_3651
  let v7233 : BitVec 32 := Scalar.maxsi c0_i32_3652 v7232
  let v7234 : BitVec 32 := Scalar.minsi c256_i32_3653 v7233
  let v7236 : BitVec 32 := Scalar.addi v7235 v7234
  let v7237 : BitVec 32 := v7236
  let c0_i32_3683 : BitVec 32 := 0#32
  let v7305 : BitVec 1 := Scalar.cmpi .sgt v7237 c0_i32_3683
  let v7306 : BitVec 32 := Scalar.extui v7305
  let c0_i32_3684 : BitVec 32 := 0#32
  let v7307 : BitVec 1 := Scalar.cmpi .slt v7237 c0_i32_3684
  let v7308 : BitVec 32 := Scalar.extui v7307
  let v7309 : BitVec 32 := Scalar.subi v7306 v7308
  let c2_i32_3682 : BitVec 32 := 2#32
  let c0_i32_3685 : BitVec 32 := 0#32
  let v7310 : BitVec 1 := Scalar.cmpi .sgt c2_i32_3682 c0_i32_3685
  let v7311 : BitVec 32 := Scalar.extui v7310
  let c0_i32_3686 : BitVec 32 := 0#32
  let v7312 : BitVec 1 := Scalar.cmpi .slt c2_i32_3682 c0_i32_3686
  let v7313 : BitVec 32 := Scalar.extui v7312
  let v7314 : BitVec 32 := Scalar.subi v7311 v7313
  let v7315 : BitVec 1 := Scalar.cmpi .ne v7309 v7314
  let v7316 : BitVec 32 := Scalar.remsi v7237 c2_i32_3682
  let c0_i32_3687 : BitVec 32 := 0#32
  let v7317 : BitVec 1 := Scalar.cmpi .ne v7316 c0_i32_3687
  let v7318 : BitVec 1 := Scalar.andi v7315 v7317
  let v7304 : BitVec 32 := Scalar.divsi v7237 c2_i32_3682
  let c1_i32_3688 : BitVec 32 := 1#32
  let v7319 : BitVec 32 := Scalar.subi v7304 c1_i32_3688
  let v7320 : BitVec 32 := Scalar.select v7318 v7319 v7304
  v7320
def k0_off33 (c0_i32_3702 : BitVec 32) : Fin 3 → Nat :=
  let c0_3736 : Index := 0#32
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let v7339 : BitVec 32 := Scalar.addi v7338 c0_i32_3702
  let c0_i32_3724 : BitVec 32 := 0#32
  let v7379 : BitVec 1 := Scalar.cmpi .sgt v7339 c0_i32_3724
  let v7380 : BitVec 32 := Scalar.extui v7379
  let c0_i32_3725 : BitVec 32 := 0#32
  let v7381 : BitVec 1 := Scalar.cmpi .slt v7339 c0_i32_3725
  let v7382 : BitVec 32 := Scalar.extui v7381
  let v7383 : BitVec 32 := Scalar.subi v7380 v7382
  let c2_i32_3723 : BitVec 32 := 2#32
  let c0_i32_3726 : BitVec 32 := 0#32
  let v7384 : BitVec 1 := Scalar.cmpi .sgt c2_i32_3723 c0_i32_3726
  let v7385 : BitVec 32 := Scalar.extui v7384
  let c0_i32_3727 : BitVec 32 := 0#32
  let v7386 : BitVec 1 := Scalar.cmpi .slt c2_i32_3723 c0_i32_3727
  let v7387 : BitVec 32 := Scalar.extui v7386
  let v7388 : BitVec 32 := Scalar.subi v7385 v7387
  let v7389 : BitVec 1 := Scalar.cmpi .ne v7383 v7388
  let v7390 : BitVec 32 := Scalar.remsi v7339 c2_i32_3723
  let c0_i32_3728 : BitVec 32 := 0#32
  let v7391 : BitVec 1 := Scalar.cmpi .ne v7390 c0_i32_3728
  let v7392 : BitVec 1 := Scalar.andi v7389 v7391
  let v7378 : BitVec 32 := Scalar.divsi v7339 c2_i32_3723
  let c1_i32_3729 : BitVec 32 := 1#32
  let v7393 : BitVec 32 := Scalar.subi v7378 c1_i32_3729
  let v7394 : BitVec 32 := Scalar.select v7392 v7393 v7378
  let c256_i32_3730 : BitVec 32 := 256#32
  let v7395 : BitVec 32 := Scalar.muli v7394 c256_i32_3730
  let c0_i32_3711 : BitVec 32 := 0#32
  let v7352 : BitVec 1 := Scalar.cmpi .sgt v7339 c0_i32_3711
  let v7353 : BitVec 32 := Scalar.extui v7352
  let c0_i32_3712 : BitVec 32 := 0#32
  let v7354 : BitVec 1 := Scalar.cmpi .slt v7339 c0_i32_3712
  let v7355 : BitVec 32 := Scalar.extui v7354
  let v7356 : BitVec 32 := Scalar.subi v7353 v7355
  let c1_i32_3710 : BitVec 32 := 1#32
  let c0_i32_3713 : BitVec 32 := 0#32
  let v7357 : BitVec 1 := Scalar.cmpi .sgt c1_i32_3710 c0_i32_3713
  let v7358 : BitVec 32 := Scalar.extui v7357
  let c0_i32_3714 : BitVec 32 := 0#32
  let v7359 : BitVec 1 := Scalar.cmpi .slt c1_i32_3710 c0_i32_3714
  let v7360 : BitVec 32 := Scalar.extui v7359
  let v7361 : BitVec 32 := Scalar.subi v7358 v7360
  let v7362 : BitVec 1 := Scalar.cmpi .ne v7356 v7361
  let v7363 : BitVec 32 := Scalar.remsi v7339 c1_i32_3710
  let c0_i32_3715 : BitVec 32 := 0#32
  let v7364 : BitVec 1 := Scalar.cmpi .ne v7363 c0_i32_3715
  let v7365 : BitVec 1 := Scalar.andi v7362 v7364
  let v7351 : BitVec 32 := Scalar.divsi v7339 c1_i32_3710
  let c1_i32_3716 : BitVec 32 := 1#32
  let v7366 : BitVec 32 := Scalar.subi v7351 c1_i32_3716
  let v7367 : BitVec 32 := Scalar.select v7365 v7366 v7351
  let c2_i32_3717 : BitVec 32 := 2#32
  let c0_i32_3718 : BitVec 32 := 0#32
  let v7368 : BitVec 1 := Scalar.cmpi .eq c2_i32_3717 c0_i32_3718
  let c1_i32_3719 : BitVec 32 := 1#32
  let v7369 : BitVec 32 := Scalar.select v7368 c1_i32_3719 c2_i32_3717
  let v7370 : BitVec 32 := Scalar.remsi v7367 v7369
  let c0_i32_3721 : BitVec 32 := 0#32
  let v7372 : BitVec 1 := Scalar.cmpi .slt v7370 c0_i32_3721
  let c0_i32_3722 : BitVec 32 := 0#32
  let v7373 : BitVec 1 := Scalar.cmpi .slt v7369 c0_i32_3722
  let v7374 : BitVec 1 := Scalar.xori v7372 v7373
  let c0_i32_3720 : BitVec 32 := 0#32
  let v7371 : BitVec 1 := Scalar.cmpi .ne v7370 c0_i32_3720
  let v7375 : BitVec 1 := Scalar.andi v7374 v7371
  let v7376 : BitVec 32 := Scalar.addi v7370 v7369
  let v7377 : BitVec 32 := Scalar.select v7375 v7376 v7370
  let v7396 : BitVec 32 := Scalar.addi v7395 v7377
  let c2_i32_3731 : BitVec 32 := 2#32
  let c1_i32_3703 : BitVec 32 := 1#32
  let c0_i32_3704 : BitVec 32 := 0#32
  let v7340 : BitVec 1 := Scalar.cmpi .eq c1_i32_3703 c0_i32_3704
  let c1_i32_3705 : BitVec 32 := 1#32
  let v7341 : BitVec 32 := Scalar.select v7340 c1_i32_3705 c1_i32_3703
  let v7342 : BitVec 32 := Scalar.remsi v7339 v7341
  let c0_i32_3707 : BitVec 32 := 0#32
  let v7344 : BitVec 1 := Scalar.cmpi .slt v7342 c0_i32_3707
  let c0_i32_3708 : BitVec 32 := 0#32
  let v7345 : BitVec 1 := Scalar.cmpi .slt v7341 c0_i32_3708
  let v7346 : BitVec 1 := Scalar.xori v7344 v7345
  let c0_i32_3706 : BitVec 32 := 0#32
  let v7343 : BitVec 1 := Scalar.cmpi .ne v7342 c0_i32_3706
  let v7347 : BitVec 1 := Scalar.andi v7346 v7343
  let v7348 : BitVec 32 := Scalar.addi v7342 v7341
  let v7349 : BitVec 32 := Scalar.select v7347 v7348 v7342
  let c128_i32_3709 : BitVec 32 := 128#32
  let v7350 : BitVec 32 := Scalar.muli v7349 c128_i32_3709
  let v7397 : BitVec 32 := Scalar.muli c2_i32_3731 v7350
  let v7398 : BitVec 32 := Scalar.addi v7396 v7397
  let v7408 : Index := Scalar.indexCast v7398
  let c0_3737 : Index := 0#32
  ![0, v7408.toNat, 0]
def k0_mult321 : BitVec 32 :=
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let c0_i32_3702 : BitVec 32 := 0#32
  let v7339 : BitVec 32 := Scalar.addi v7338 c0_i32_3702
  let c0_i32_3724 : BitVec 32 := 0#32
  let v7379 : BitVec 1 := Scalar.cmpi .sgt v7339 c0_i32_3724
  let v7380 : BitVec 32 := Scalar.extui v7379
  let c0_i32_3725 : BitVec 32 := 0#32
  let v7381 : BitVec 1 := Scalar.cmpi .slt v7339 c0_i32_3725
  let v7382 : BitVec 32 := Scalar.extui v7381
  let v7383 : BitVec 32 := Scalar.subi v7380 v7382
  let c2_i32_3723 : BitVec 32 := 2#32
  let c0_i32_3726 : BitVec 32 := 0#32
  let v7384 : BitVec 1 := Scalar.cmpi .sgt c2_i32_3723 c0_i32_3726
  let v7385 : BitVec 32 := Scalar.extui v7384
  let c0_i32_3727 : BitVec 32 := 0#32
  let v7386 : BitVec 1 := Scalar.cmpi .slt c2_i32_3723 c0_i32_3727
  let v7387 : BitVec 32 := Scalar.extui v7386
  let v7388 : BitVec 32 := Scalar.subi v7385 v7387
  let v7389 : BitVec 1 := Scalar.cmpi .ne v7383 v7388
  let v7390 : BitVec 32 := Scalar.remsi v7339 c2_i32_3723
  let c0_i32_3728 : BitVec 32 := 0#32
  let v7391 : BitVec 1 := Scalar.cmpi .ne v7390 c0_i32_3728
  let v7392 : BitVec 1 := Scalar.andi v7389 v7391
  let v7378 : BitVec 32 := Scalar.divsi v7339 c2_i32_3723
  let c1_i32_3729 : BitVec 32 := 1#32
  let v7393 : BitVec 32 := Scalar.subi v7378 c1_i32_3729
  let v7394 : BitVec 32 := Scalar.select v7392 v7393 v7378
  let c8_i32 : BitVec 32 := 8#32
  let c0_i32_3711 : BitVec 32 := 0#32
  let v7352 : BitVec 1 := Scalar.cmpi .sgt v7339 c0_i32_3711
  let v7353 : BitVec 32 := Scalar.extui v7352
  let c0_i32_3712 : BitVec 32 := 0#32
  let v7354 : BitVec 1 := Scalar.cmpi .slt v7339 c0_i32_3712
  let v7355 : BitVec 32 := Scalar.extui v7354
  let v7356 : BitVec 32 := Scalar.subi v7353 v7355
  let c1_i32_3710 : BitVec 32 := 1#32
  let c0_i32_3713 : BitVec 32 := 0#32
  let v7357 : BitVec 1 := Scalar.cmpi .sgt c1_i32_3710 c0_i32_3713
  let v7358 : BitVec 32 := Scalar.extui v7357
  let c0_i32_3714 : BitVec 32 := 0#32
  let v7359 : BitVec 1 := Scalar.cmpi .slt c1_i32_3710 c0_i32_3714
  let v7360 : BitVec 32 := Scalar.extui v7359
  let v7361 : BitVec 32 := Scalar.subi v7358 v7360
  let v7362 : BitVec 1 := Scalar.cmpi .ne v7356 v7361
  let v7363 : BitVec 32 := Scalar.remsi v7339 c1_i32_3710
  let c0_i32_3715 : BitVec 32 := 0#32
  let v7364 : BitVec 1 := Scalar.cmpi .ne v7363 c0_i32_3715
  let v7365 : BitVec 1 := Scalar.andi v7362 v7364
  let v7351 : BitVec 32 := Scalar.divsi v7339 c1_i32_3710
  let c1_i32_3716 : BitVec 32 := 1#32
  let v7366 : BitVec 32 := Scalar.subi v7351 c1_i32_3716
  let v7367 : BitVec 32 := Scalar.select v7365 v7366 v7351
  let c2_i32_3717 : BitVec 32 := 2#32
  let c0_i32_3718 : BitVec 32 := 0#32
  let v7368 : BitVec 1 := Scalar.cmpi .eq c2_i32_3717 c0_i32_3718
  let c1_i32_3719 : BitVec 32 := 1#32
  let v7369 : BitVec 32 := Scalar.select v7368 c1_i32_3719 c2_i32_3717
  let v7370 : BitVec 32 := Scalar.remsi v7367 v7369
  let c0_i32_3721 : BitVec 32 := 0#32
  let v7372 : BitVec 1 := Scalar.cmpi .slt v7370 c0_i32_3721
  let c0_i32_3722 : BitVec 32 := 0#32
  let v7373 : BitVec 1 := Scalar.cmpi .slt v7369 c0_i32_3722
  let v7374 : BitVec 1 := Scalar.xori v7372 v7373
  let c0_i32_3720 : BitVec 32 := 0#32
  let v7371 : BitVec 1 := Scalar.cmpi .ne v7370 c0_i32_3720
  let v7375 : BitVec 1 := Scalar.andi v7374 v7371
  let v7376 : BitVec 32 := Scalar.addi v7370 v7369
  let v7377 : BitVec 32 := Scalar.select v7375 v7376 v7370
  let v7399 : BitVec 32 := Scalar.muli c8_i32 v7377
  let v7400 : BitVec 32 := Scalar.addi v7394 v7399
  let c128_i32_3732 : BitVec 32 := 128#32
  let v7401 : BitVec 32 := Scalar.muli v7400 c128_i32_3732
  let c1_i32_3703 : BitVec 32 := 1#32
  let c0_i32_3704 : BitVec 32 := 0#32
  let v7340 : BitVec 1 := Scalar.cmpi .eq c1_i32_3703 c0_i32_3704
  let c1_i32_3705 : BitVec 32 := 1#32
  let v7341 : BitVec 32 := Scalar.select v7340 c1_i32_3705 c1_i32_3703
  let v7342 : BitVec 32 := Scalar.remsi v7339 v7341
  let c0_i32_3707 : BitVec 32 := 0#32
  let v7344 : BitVec 1 := Scalar.cmpi .slt v7342 c0_i32_3707
  let c0_i32_3708 : BitVec 32 := 0#32
  let v7345 : BitVec 1 := Scalar.cmpi .slt v7341 c0_i32_3708
  let v7346 : BitVec 1 := Scalar.xori v7344 v7345
  let c0_i32_3706 : BitVec 32 := 0#32
  let v7343 : BitVec 1 := Scalar.cmpi .ne v7342 c0_i32_3706
  let v7347 : BitVec 1 := Scalar.andi v7346 v7343
  let v7348 : BitVec 32 := Scalar.addi v7342 v7341
  let v7349 : BitVec 32 := Scalar.select v7347 v7348 v7342
  let c128_i32_3709 : BitVec 32 := 128#32
  let v7350 : BitVec 32 := Scalar.muli v7349 c128_i32_3709
  let v7402 : BitVec 32 := Scalar.addi v7401 v7350
  let c0_i32_3739 : BitVec 32 := 0#32
  let v7417 : BitVec 1 := Scalar.cmpi .sgt v7402 c0_i32_3739
  let v7418 : BitVec 32 := Scalar.extui v7417
  let c0_i32_3740 : BitVec 32 := 0#32
  let v7419 : BitVec 1 := Scalar.cmpi .slt v7402 c0_i32_3740
  let v7420 : BitVec 32 := Scalar.extui v7419
  let v7421 : BitVec 32 := Scalar.subi v7418 v7420
  let c2_i32_3738 : BitVec 32 := 2#32
  let c0_i32_3741 : BitVec 32 := 0#32
  let v7422 : BitVec 1 := Scalar.cmpi .sgt c2_i32_3738 c0_i32_3741
  let v7423 : BitVec 32 := Scalar.extui v7422
  let c0_i32_3742 : BitVec 32 := 0#32
  let v7424 : BitVec 1 := Scalar.cmpi .slt c2_i32_3738 c0_i32_3742
  let v7425 : BitVec 32 := Scalar.extui v7424
  let v7426 : BitVec 32 := Scalar.subi v7423 v7425
  let v7427 : BitVec 1 := Scalar.cmpi .ne v7421 v7426
  let v7428 : BitVec 32 := Scalar.remsi v7402 c2_i32_3738
  let c0_i32_3743 : BitVec 32 := 0#32
  let v7429 : BitVec 1 := Scalar.cmpi .ne v7428 c0_i32_3743
  let v7430 : BitVec 1 := Scalar.andi v7427 v7429
  let v7416 : BitVec 32 := Scalar.divsi v7402 c2_i32_3738
  let c1_i32_3744 : BitVec 32 := 1#32
  let v7431 : BitVec 32 := Scalar.subi v7416 c1_i32_3744
  let v7432 : BitVec 32 := Scalar.select v7430 v7431 v7416
  v7432
def k0_off34 (c0_i32_3702 : BitVec 32) : Fin 3 → Nat :=
  let c0_3745 : Index := 0#32
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let v7339 : BitVec 32 := Scalar.addi v7338 c0_i32_3702
  let c0_i32_3724 : BitVec 32 := 0#32
  let v7379 : BitVec 1 := Scalar.cmpi .sgt v7339 c0_i32_3724
  let v7380 : BitVec 32 := Scalar.extui v7379
  let c0_i32_3725 : BitVec 32 := 0#32
  let v7381 : BitVec 1 := Scalar.cmpi .slt v7339 c0_i32_3725
  let v7382 : BitVec 32 := Scalar.extui v7381
  let v7383 : BitVec 32 := Scalar.subi v7380 v7382
  let c2_i32_3723 : BitVec 32 := 2#32
  let c0_i32_3726 : BitVec 32 := 0#32
  let v7384 : BitVec 1 := Scalar.cmpi .sgt c2_i32_3723 c0_i32_3726
  let v7385 : BitVec 32 := Scalar.extui v7384
  let c0_i32_3727 : BitVec 32 := 0#32
  let v7386 : BitVec 1 := Scalar.cmpi .slt c2_i32_3723 c0_i32_3727
  let v7387 : BitVec 32 := Scalar.extui v7386
  let v7388 : BitVec 32 := Scalar.subi v7385 v7387
  let v7389 : BitVec 1 := Scalar.cmpi .ne v7383 v7388
  let v7390 : BitVec 32 := Scalar.remsi v7339 c2_i32_3723
  let c0_i32_3728 : BitVec 32 := 0#32
  let v7391 : BitVec 1 := Scalar.cmpi .ne v7390 c0_i32_3728
  let v7392 : BitVec 1 := Scalar.andi v7389 v7391
  let v7378 : BitVec 32 := Scalar.divsi v7339 c2_i32_3723
  let c1_i32_3729 : BitVec 32 := 1#32
  let v7393 : BitVec 32 := Scalar.subi v7378 c1_i32_3729
  let v7394 : BitVec 32 := Scalar.select v7392 v7393 v7378
  let c8_i32 : BitVec 32 := 8#32
  let c0_i32_3711 : BitVec 32 := 0#32
  let v7352 : BitVec 1 := Scalar.cmpi .sgt v7339 c0_i32_3711
  let v7353 : BitVec 32 := Scalar.extui v7352
  let c0_i32_3712 : BitVec 32 := 0#32
  let v7354 : BitVec 1 := Scalar.cmpi .slt v7339 c0_i32_3712
  let v7355 : BitVec 32 := Scalar.extui v7354
  let v7356 : BitVec 32 := Scalar.subi v7353 v7355
  let c1_i32_3710 : BitVec 32 := 1#32
  let c0_i32_3713 : BitVec 32 := 0#32
  let v7357 : BitVec 1 := Scalar.cmpi .sgt c1_i32_3710 c0_i32_3713
  let v7358 : BitVec 32 := Scalar.extui v7357
  let c0_i32_3714 : BitVec 32 := 0#32
  let v7359 : BitVec 1 := Scalar.cmpi .slt c1_i32_3710 c0_i32_3714
  let v7360 : BitVec 32 := Scalar.extui v7359
  let v7361 : BitVec 32 := Scalar.subi v7358 v7360
  let v7362 : BitVec 1 := Scalar.cmpi .ne v7356 v7361
  let v7363 : BitVec 32 := Scalar.remsi v7339 c1_i32_3710
  let c0_i32_3715 : BitVec 32 := 0#32
  let v7364 : BitVec 1 := Scalar.cmpi .ne v7363 c0_i32_3715
  let v7365 : BitVec 1 := Scalar.andi v7362 v7364
  let v7351 : BitVec 32 := Scalar.divsi v7339 c1_i32_3710
  let c1_i32_3716 : BitVec 32 := 1#32
  let v7366 : BitVec 32 := Scalar.subi v7351 c1_i32_3716
  let v7367 : BitVec 32 := Scalar.select v7365 v7366 v7351
  let c2_i32_3717 : BitVec 32 := 2#32
  let c0_i32_3718 : BitVec 32 := 0#32
  let v7368 : BitVec 1 := Scalar.cmpi .eq c2_i32_3717 c0_i32_3718
  let c1_i32_3719 : BitVec 32 := 1#32
  let v7369 : BitVec 32 := Scalar.select v7368 c1_i32_3719 c2_i32_3717
  let v7370 : BitVec 32 := Scalar.remsi v7367 v7369
  let c0_i32_3721 : BitVec 32 := 0#32
  let v7372 : BitVec 1 := Scalar.cmpi .slt v7370 c0_i32_3721
  let c0_i32_3722 : BitVec 32 := 0#32
  let v7373 : BitVec 1 := Scalar.cmpi .slt v7369 c0_i32_3722
  let v7374 : BitVec 1 := Scalar.xori v7372 v7373
  let c0_i32_3720 : BitVec 32 := 0#32
  let v7371 : BitVec 1 := Scalar.cmpi .ne v7370 c0_i32_3720
  let v7375 : BitVec 1 := Scalar.andi v7374 v7371
  let v7376 : BitVec 32 := Scalar.addi v7370 v7369
  let v7377 : BitVec 32 := Scalar.select v7375 v7376 v7370
  let v7399 : BitVec 32 := Scalar.muli c8_i32 v7377
  let v7400 : BitVec 32 := Scalar.addi v7394 v7399
  let c128_i32_3732 : BitVec 32 := 128#32
  let v7401 : BitVec 32 := Scalar.muli v7400 c128_i32_3732
  let c1_i32_3703 : BitVec 32 := 1#32
  let c0_i32_3704 : BitVec 32 := 0#32
  let v7340 : BitVec 1 := Scalar.cmpi .eq c1_i32_3703 c0_i32_3704
  let c1_i32_3705 : BitVec 32 := 1#32
  let v7341 : BitVec 32 := Scalar.select v7340 c1_i32_3705 c1_i32_3703
  let v7342 : BitVec 32 := Scalar.remsi v7339 v7341
  let c0_i32_3707 : BitVec 32 := 0#32
  let v7344 : BitVec 1 := Scalar.cmpi .slt v7342 c0_i32_3707
  let c0_i32_3708 : BitVec 32 := 0#32
  let v7345 : BitVec 1 := Scalar.cmpi .slt v7341 c0_i32_3708
  let v7346 : BitVec 1 := Scalar.xori v7344 v7345
  let c0_i32_3706 : BitVec 32 := 0#32
  let v7343 : BitVec 1 := Scalar.cmpi .ne v7342 c0_i32_3706
  let v7347 : BitVec 1 := Scalar.andi v7346 v7343
  let v7348 : BitVec 32 := Scalar.addi v7342 v7341
  let v7349 : BitVec 32 := Scalar.select v7347 v7348 v7342
  let c128_i32_3709 : BitVec 32 := 128#32
  let v7350 : BitVec 32 := Scalar.muli v7349 c128_i32_3709
  let v7402 : BitVec 32 := Scalar.addi v7401 v7350
  let c0_i32_3739 : BitVec 32 := 0#32
  let v7417 : BitVec 1 := Scalar.cmpi .sgt v7402 c0_i32_3739
  let v7418 : BitVec 32 := Scalar.extui v7417
  let c0_i32_3740 : BitVec 32 := 0#32
  let v7419 : BitVec 1 := Scalar.cmpi .slt v7402 c0_i32_3740
  let v7420 : BitVec 32 := Scalar.extui v7419
  let v7421 : BitVec 32 := Scalar.subi v7418 v7420
  let c2_i32_3738 : BitVec 32 := 2#32
  let c0_i32_3741 : BitVec 32 := 0#32
  let v7422 : BitVec 1 := Scalar.cmpi .sgt c2_i32_3738 c0_i32_3741
  let v7423 : BitVec 32 := Scalar.extui v7422
  let c0_i32_3742 : BitVec 32 := 0#32
  let v7424 : BitVec 1 := Scalar.cmpi .slt c2_i32_3738 c0_i32_3742
  let v7425 : BitVec 32 := Scalar.extui v7424
  let v7426 : BitVec 32 := Scalar.subi v7423 v7425
  let v7427 : BitVec 1 := Scalar.cmpi .ne v7421 v7426
  let v7428 : BitVec 32 := Scalar.remsi v7402 c2_i32_3738
  let c0_i32_3743 : BitVec 32 := 0#32
  let v7429 : BitVec 1 := Scalar.cmpi .ne v7428 c0_i32_3743
  let v7430 : BitVec 1 := Scalar.andi v7427 v7429
  let v7416 : BitVec 32 := Scalar.divsi v7402 c2_i32_3738
  let c1_i32_3744 : BitVec 32 := 1#32
  let v7431 : BitVec 32 := Scalar.subi v7416 c1_i32_3744
  let v7432 : BitVec 32 := Scalar.select v7430 v7431 v7416
  let v7433 : BitVec 32 := v7432
  let v7434 : Index := Scalar.indexCast v7433
  let c0_3746 : Index := 0#32
  ![0, v7434.toNat, 0]
def k0_mult322 : BitVec 32 :=
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let c0_i32_3702 : BitVec 32 := 0#32
  let v7339 : BitVec 32 := Scalar.addi v7338 c0_i32_3702
  let c0_i32_3724 : BitVec 32 := 0#32
  let v7379 : BitVec 1 := Scalar.cmpi .sgt v7339 c0_i32_3724
  let v7380 : BitVec 32 := Scalar.extui v7379
  let c0_i32_3725 : BitVec 32 := 0#32
  let v7381 : BitVec 1 := Scalar.cmpi .slt v7339 c0_i32_3725
  let v7382 : BitVec 32 := Scalar.extui v7381
  let v7383 : BitVec 32 := Scalar.subi v7380 v7382
  let c2_i32_3723 : BitVec 32 := 2#32
  let c0_i32_3726 : BitVec 32 := 0#32
  let v7384 : BitVec 1 := Scalar.cmpi .sgt c2_i32_3723 c0_i32_3726
  let v7385 : BitVec 32 := Scalar.extui v7384
  let c0_i32_3727 : BitVec 32 := 0#32
  let v7386 : BitVec 1 := Scalar.cmpi .slt c2_i32_3723 c0_i32_3727
  let v7387 : BitVec 32 := Scalar.extui v7386
  let v7388 : BitVec 32 := Scalar.subi v7385 v7387
  let v7389 : BitVec 1 := Scalar.cmpi .ne v7383 v7388
  let v7390 : BitVec 32 := Scalar.remsi v7339 c2_i32_3723
  let c0_i32_3728 : BitVec 32 := 0#32
  let v7391 : BitVec 1 := Scalar.cmpi .ne v7390 c0_i32_3728
  let v7392 : BitVec 1 := Scalar.andi v7389 v7391
  let v7378 : BitVec 32 := Scalar.divsi v7339 c2_i32_3723
  let c1_i32_3729 : BitVec 32 := 1#32
  let v7393 : BitVec 32 := Scalar.subi v7378 c1_i32_3729
  let v7394 : BitVec 32 := Scalar.select v7392 v7393 v7378
  let c8_i32_3733 : BitVec 32 := 8#32
  let c0_i32_3711 : BitVec 32 := 0#32
  let v7352 : BitVec 1 := Scalar.cmpi .sgt v7339 c0_i32_3711
  let v7353 : BitVec 32 := Scalar.extui v7352
  let c0_i32_3712 : BitVec 32 := 0#32
  let v7354 : BitVec 1 := Scalar.cmpi .slt v7339 c0_i32_3712
  let v7355 : BitVec 32 := Scalar.extui v7354
  let v7356 : BitVec 32 := Scalar.subi v7353 v7355
  let c1_i32_3710 : BitVec 32 := 1#32
  let c0_i32_3713 : BitVec 32 := 0#32
  let v7357 : BitVec 1 := Scalar.cmpi .sgt c1_i32_3710 c0_i32_3713
  let v7358 : BitVec 32 := Scalar.extui v7357
  let c0_i32_3714 : BitVec 32 := 0#32
  let v7359 : BitVec 1 := Scalar.cmpi .slt c1_i32_3710 c0_i32_3714
  let v7360 : BitVec 32 := Scalar.extui v7359
  let v7361 : BitVec 32 := Scalar.subi v7358 v7360
  let v7362 : BitVec 1 := Scalar.cmpi .ne v7356 v7361
  let v7363 : BitVec 32 := Scalar.remsi v7339 c1_i32_3710
  let c0_i32_3715 : BitVec 32 := 0#32
  let v7364 : BitVec 1 := Scalar.cmpi .ne v7363 c0_i32_3715
  let v7365 : BitVec 1 := Scalar.andi v7362 v7364
  let v7351 : BitVec 32 := Scalar.divsi v7339 c1_i32_3710
  let c1_i32_3716 : BitVec 32 := 1#32
  let v7366 : BitVec 32 := Scalar.subi v7351 c1_i32_3716
  let v7367 : BitVec 32 := Scalar.select v7365 v7366 v7351
  let c2_i32_3717 : BitVec 32 := 2#32
  let c0_i32_3718 : BitVec 32 := 0#32
  let v7368 : BitVec 1 := Scalar.cmpi .eq c2_i32_3717 c0_i32_3718
  let c1_i32_3719 : BitVec 32 := 1#32
  let v7369 : BitVec 32 := Scalar.select v7368 c1_i32_3719 c2_i32_3717
  let v7370 : BitVec 32 := Scalar.remsi v7367 v7369
  let c0_i32_3721 : BitVec 32 := 0#32
  let v7372 : BitVec 1 := Scalar.cmpi .slt v7370 c0_i32_3721
  let c0_i32_3722 : BitVec 32 := 0#32
  let v7373 : BitVec 1 := Scalar.cmpi .slt v7369 c0_i32_3722
  let v7374 : BitVec 1 := Scalar.xori v7372 v7373
  let c0_i32_3720 : BitVec 32 := 0#32
  let v7371 : BitVec 1 := Scalar.cmpi .ne v7370 c0_i32_3720
  let v7375 : BitVec 1 := Scalar.andi v7374 v7371
  let v7376 : BitVec 32 := Scalar.addi v7370 v7369
  let v7377 : BitVec 32 := Scalar.select v7375 v7376 v7370
  let v7403 : BitVec 32 := Scalar.muli c8_i32_3733 v7377
  let v7404 : BitVec 32 := Scalar.addi v7394 v7403
  let c4_i32_3734 : BitVec 32 := 4#32
  let v7405 : BitVec 32 := Scalar.addi v7404 c4_i32_3734
  let c128_i32_3735 : BitVec 32 := 128#32
  let v7406 : BitVec 32 := Scalar.muli v7405 c128_i32_3735
  let c1_i32_3703 : BitVec 32 := 1#32
  let c0_i32_3704 : BitVec 32 := 0#32
  let v7340 : BitVec 1 := Scalar.cmpi .eq c1_i32_3703 c0_i32_3704
  let c1_i32_3705 : BitVec 32 := 1#32
  let v7341 : BitVec 32 := Scalar.select v7340 c1_i32_3705 c1_i32_3703
  let v7342 : BitVec 32 := Scalar.remsi v7339 v7341
  let c0_i32_3707 : BitVec 32 := 0#32
  let v7344 : BitVec 1 := Scalar.cmpi .slt v7342 c0_i32_3707
  let c0_i32_3708 : BitVec 32 := 0#32
  let v7345 : BitVec 1 := Scalar.cmpi .slt v7341 c0_i32_3708
  let v7346 : BitVec 1 := Scalar.xori v7344 v7345
  let c0_i32_3706 : BitVec 32 := 0#32
  let v7343 : BitVec 1 := Scalar.cmpi .ne v7342 c0_i32_3706
  let v7347 : BitVec 1 := Scalar.andi v7346 v7343
  let v7348 : BitVec 32 := Scalar.addi v7342 v7341
  let v7349 : BitVec 32 := Scalar.select v7347 v7348 v7342
  let c128_i32_3709 : BitVec 32 := 128#32
  let v7350 : BitVec 32 := Scalar.muli v7349 c128_i32_3709
  let v7407 : BitVec 32 := Scalar.addi v7406 v7350
  let c0_i32_3748 : BitVec 32 := 0#32
  let v7440 : BitVec 1 := Scalar.cmpi .sgt v7407 c0_i32_3748
  let v7441 : BitVec 32 := Scalar.extui v7440
  let c0_i32_3749 : BitVec 32 := 0#32
  let v7442 : BitVec 1 := Scalar.cmpi .slt v7407 c0_i32_3749
  let v7443 : BitVec 32 := Scalar.extui v7442
  let v7444 : BitVec 32 := Scalar.subi v7441 v7443
  let c2_i32_3747 : BitVec 32 := 2#32
  let c0_i32_3750 : BitVec 32 := 0#32
  let v7445 : BitVec 1 := Scalar.cmpi .sgt c2_i32_3747 c0_i32_3750
  let v7446 : BitVec 32 := Scalar.extui v7445
  let c0_i32_3751 : BitVec 32 := 0#32
  let v7447 : BitVec 1 := Scalar.cmpi .slt c2_i32_3747 c0_i32_3751
  let v7448 : BitVec 32 := Scalar.extui v7447
  let v7449 : BitVec 32 := Scalar.subi v7446 v7448
  let v7450 : BitVec 1 := Scalar.cmpi .ne v7444 v7449
  let v7451 : BitVec 32 := Scalar.remsi v7407 c2_i32_3747
  let c0_i32_3752 : BitVec 32 := 0#32
  let v7452 : BitVec 1 := Scalar.cmpi .ne v7451 c0_i32_3752
  let v7453 : BitVec 1 := Scalar.andi v7450 v7452
  let v7439 : BitVec 32 := Scalar.divsi v7407 c2_i32_3747
  let c1_i32_3753 : BitVec 32 := 1#32
  let v7454 : BitVec 32 := Scalar.subi v7439 c1_i32_3753
  let v7455 : BitVec 32 := Scalar.select v7453 v7454 v7439
  v7455
def k0_off35 (c0_i32_3702 : BitVec 32) : Fin 3 → Nat :=
  let c0_3754 : Index := 0#32
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let v7339 : BitVec 32 := Scalar.addi v7338 c0_i32_3702
  let c0_i32_3724 : BitVec 32 := 0#32
  let v7379 : BitVec 1 := Scalar.cmpi .sgt v7339 c0_i32_3724
  let v7380 : BitVec 32 := Scalar.extui v7379
  let c0_i32_3725 : BitVec 32 := 0#32
  let v7381 : BitVec 1 := Scalar.cmpi .slt v7339 c0_i32_3725
  let v7382 : BitVec 32 := Scalar.extui v7381
  let v7383 : BitVec 32 := Scalar.subi v7380 v7382
  let c2_i32_3723 : BitVec 32 := 2#32
  let c0_i32_3726 : BitVec 32 := 0#32
  let v7384 : BitVec 1 := Scalar.cmpi .sgt c2_i32_3723 c0_i32_3726
  let v7385 : BitVec 32 := Scalar.extui v7384
  let c0_i32_3727 : BitVec 32 := 0#32
  let v7386 : BitVec 1 := Scalar.cmpi .slt c2_i32_3723 c0_i32_3727
  let v7387 : BitVec 32 := Scalar.extui v7386
  let v7388 : BitVec 32 := Scalar.subi v7385 v7387
  let v7389 : BitVec 1 := Scalar.cmpi .ne v7383 v7388
  let v7390 : BitVec 32 := Scalar.remsi v7339 c2_i32_3723
  let c0_i32_3728 : BitVec 32 := 0#32
  let v7391 : BitVec 1 := Scalar.cmpi .ne v7390 c0_i32_3728
  let v7392 : BitVec 1 := Scalar.andi v7389 v7391
  let v7378 : BitVec 32 := Scalar.divsi v7339 c2_i32_3723
  let c1_i32_3729 : BitVec 32 := 1#32
  let v7393 : BitVec 32 := Scalar.subi v7378 c1_i32_3729
  let v7394 : BitVec 32 := Scalar.select v7392 v7393 v7378
  let c8_i32_3733 : BitVec 32 := 8#32
  let c0_i32_3711 : BitVec 32 := 0#32
  let v7352 : BitVec 1 := Scalar.cmpi .sgt v7339 c0_i32_3711
  let v7353 : BitVec 32 := Scalar.extui v7352
  let c0_i32_3712 : BitVec 32 := 0#32
  let v7354 : BitVec 1 := Scalar.cmpi .slt v7339 c0_i32_3712
  let v7355 : BitVec 32 := Scalar.extui v7354
  let v7356 : BitVec 32 := Scalar.subi v7353 v7355
  let c1_i32_3710 : BitVec 32 := 1#32
  let c0_i32_3713 : BitVec 32 := 0#32
  let v7357 : BitVec 1 := Scalar.cmpi .sgt c1_i32_3710 c0_i32_3713
  let v7358 : BitVec 32 := Scalar.extui v7357
  let c0_i32_3714 : BitVec 32 := 0#32
  let v7359 : BitVec 1 := Scalar.cmpi .slt c1_i32_3710 c0_i32_3714
  let v7360 : BitVec 32 := Scalar.extui v7359
  let v7361 : BitVec 32 := Scalar.subi v7358 v7360
  let v7362 : BitVec 1 := Scalar.cmpi .ne v7356 v7361
  let v7363 : BitVec 32 := Scalar.remsi v7339 c1_i32_3710
  let c0_i32_3715 : BitVec 32 := 0#32
  let v7364 : BitVec 1 := Scalar.cmpi .ne v7363 c0_i32_3715
  let v7365 : BitVec 1 := Scalar.andi v7362 v7364
  let v7351 : BitVec 32 := Scalar.divsi v7339 c1_i32_3710
  let c1_i32_3716 : BitVec 32 := 1#32
  let v7366 : BitVec 32 := Scalar.subi v7351 c1_i32_3716
  let v7367 : BitVec 32 := Scalar.select v7365 v7366 v7351
  let c2_i32_3717 : BitVec 32 := 2#32
  let c0_i32_3718 : BitVec 32 := 0#32
  let v7368 : BitVec 1 := Scalar.cmpi .eq c2_i32_3717 c0_i32_3718
  let c1_i32_3719 : BitVec 32 := 1#32
  let v7369 : BitVec 32 := Scalar.select v7368 c1_i32_3719 c2_i32_3717
  let v7370 : BitVec 32 := Scalar.remsi v7367 v7369
  let c0_i32_3721 : BitVec 32 := 0#32
  let v7372 : BitVec 1 := Scalar.cmpi .slt v7370 c0_i32_3721
  let c0_i32_3722 : BitVec 32 := 0#32
  let v7373 : BitVec 1 := Scalar.cmpi .slt v7369 c0_i32_3722
  let v7374 : BitVec 1 := Scalar.xori v7372 v7373
  let c0_i32_3720 : BitVec 32 := 0#32
  let v7371 : BitVec 1 := Scalar.cmpi .ne v7370 c0_i32_3720
  let v7375 : BitVec 1 := Scalar.andi v7374 v7371
  let v7376 : BitVec 32 := Scalar.addi v7370 v7369
  let v7377 : BitVec 32 := Scalar.select v7375 v7376 v7370
  let v7403 : BitVec 32 := Scalar.muli c8_i32_3733 v7377
  let v7404 : BitVec 32 := Scalar.addi v7394 v7403
  let c4_i32_3734 : BitVec 32 := 4#32
  let v7405 : BitVec 32 := Scalar.addi v7404 c4_i32_3734
  let c128_i32_3735 : BitVec 32 := 128#32
  let v7406 : BitVec 32 := Scalar.muli v7405 c128_i32_3735
  let c1_i32_3703 : BitVec 32 := 1#32
  let c0_i32_3704 : BitVec 32 := 0#32
  let v7340 : BitVec 1 := Scalar.cmpi .eq c1_i32_3703 c0_i32_3704
  let c1_i32_3705 : BitVec 32 := 1#32
  let v7341 : BitVec 32 := Scalar.select v7340 c1_i32_3705 c1_i32_3703
  let v7342 : BitVec 32 := Scalar.remsi v7339 v7341
  let c0_i32_3707 : BitVec 32 := 0#32
  let v7344 : BitVec 1 := Scalar.cmpi .slt v7342 c0_i32_3707
  let c0_i32_3708 : BitVec 32 := 0#32
  let v7345 : BitVec 1 := Scalar.cmpi .slt v7341 c0_i32_3708
  let v7346 : BitVec 1 := Scalar.xori v7344 v7345
  let c0_i32_3706 : BitVec 32 := 0#32
  let v7343 : BitVec 1 := Scalar.cmpi .ne v7342 c0_i32_3706
  let v7347 : BitVec 1 := Scalar.andi v7346 v7343
  let v7348 : BitVec 32 := Scalar.addi v7342 v7341
  let v7349 : BitVec 32 := Scalar.select v7347 v7348 v7342
  let c128_i32_3709 : BitVec 32 := 128#32
  let v7350 : BitVec 32 := Scalar.muli v7349 c128_i32_3709
  let v7407 : BitVec 32 := Scalar.addi v7406 v7350
  let c0_i32_3748 : BitVec 32 := 0#32
  let v7440 : BitVec 1 := Scalar.cmpi .sgt v7407 c0_i32_3748
  let v7441 : BitVec 32 := Scalar.extui v7440
  let c0_i32_3749 : BitVec 32 := 0#32
  let v7442 : BitVec 1 := Scalar.cmpi .slt v7407 c0_i32_3749
  let v7443 : BitVec 32 := Scalar.extui v7442
  let v7444 : BitVec 32 := Scalar.subi v7441 v7443
  let c2_i32_3747 : BitVec 32 := 2#32
  let c0_i32_3750 : BitVec 32 := 0#32
  let v7445 : BitVec 1 := Scalar.cmpi .sgt c2_i32_3747 c0_i32_3750
  let v7446 : BitVec 32 := Scalar.extui v7445
  let c0_i32_3751 : BitVec 32 := 0#32
  let v7447 : BitVec 1 := Scalar.cmpi .slt c2_i32_3747 c0_i32_3751
  let v7448 : BitVec 32 := Scalar.extui v7447
  let v7449 : BitVec 32 := Scalar.subi v7446 v7448
  let v7450 : BitVec 1 := Scalar.cmpi .ne v7444 v7449
  let v7451 : BitVec 32 := Scalar.remsi v7407 c2_i32_3747
  let c0_i32_3752 : BitVec 32 := 0#32
  let v7452 : BitVec 1 := Scalar.cmpi .ne v7451 c0_i32_3752
  let v7453 : BitVec 1 := Scalar.andi v7450 v7452
  let v7439 : BitVec 32 := Scalar.divsi v7407 c2_i32_3747
  let c1_i32_3753 : BitVec 32 := 1#32
  let v7454 : BitVec 32 := Scalar.subi v7439 c1_i32_3753
  let v7455 : BitVec 32 := Scalar.select v7453 v7454 v7439
  let v7456 : BitVec 32 := v7455
  let v7457 : Index := Scalar.indexCast v7456
  let c0_3755 : Index := 0#32
  ![0, v7457.toNat, 0]
def k0_off36 (c0_i32_3702 : BitVec 32) : Fin 3 → Nat :=
  let c1_3763 : Index := 1#32
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let v7339 : BitVec 32 := Scalar.addi v7338 c0_i32_3702
  let c0_i32_3724 : BitVec 32 := 0#32
  let v7379 : BitVec 1 := Scalar.cmpi .sgt v7339 c0_i32_3724
  let v7380 : BitVec 32 := Scalar.extui v7379
  let c0_i32_3725 : BitVec 32 := 0#32
  let v7381 : BitVec 1 := Scalar.cmpi .slt v7339 c0_i32_3725
  let v7382 : BitVec 32 := Scalar.extui v7381
  let v7383 : BitVec 32 := Scalar.subi v7380 v7382
  let c2_i32_3723 : BitVec 32 := 2#32
  let c0_i32_3726 : BitVec 32 := 0#32
  let v7384 : BitVec 1 := Scalar.cmpi .sgt c2_i32_3723 c0_i32_3726
  let v7385 : BitVec 32 := Scalar.extui v7384
  let c0_i32_3727 : BitVec 32 := 0#32
  let v7386 : BitVec 1 := Scalar.cmpi .slt c2_i32_3723 c0_i32_3727
  let v7387 : BitVec 32 := Scalar.extui v7386
  let v7388 : BitVec 32 := Scalar.subi v7385 v7387
  let v7389 : BitVec 1 := Scalar.cmpi .ne v7383 v7388
  let v7390 : BitVec 32 := Scalar.remsi v7339 c2_i32_3723
  let c0_i32_3728 : BitVec 32 := 0#32
  let v7391 : BitVec 1 := Scalar.cmpi .ne v7390 c0_i32_3728
  let v7392 : BitVec 1 := Scalar.andi v7389 v7391
  let v7378 : BitVec 32 := Scalar.divsi v7339 c2_i32_3723
  let c1_i32_3729 : BitVec 32 := 1#32
  let v7393 : BitVec 32 := Scalar.subi v7378 c1_i32_3729
  let v7394 : BitVec 32 := Scalar.select v7392 v7393 v7378
  let c256_i32_3756 : BitVec 32 := 256#32
  let v7461 : BitVec 32 := Scalar.muli v7394 c256_i32_3756
  let c0_i32_3711 : BitVec 32 := 0#32
  let v7352 : BitVec 1 := Scalar.cmpi .sgt v7339 c0_i32_3711
  let v7353 : BitVec 32 := Scalar.extui v7352
  let c0_i32_3712 : BitVec 32 := 0#32
  let v7354 : BitVec 1 := Scalar.cmpi .slt v7339 c0_i32_3712
  let v7355 : BitVec 32 := Scalar.extui v7354
  let v7356 : BitVec 32 := Scalar.subi v7353 v7355
  let c1_i32_3710 : BitVec 32 := 1#32
  let c0_i32_3713 : BitVec 32 := 0#32
  let v7357 : BitVec 1 := Scalar.cmpi .sgt c1_i32_3710 c0_i32_3713
  let v7358 : BitVec 32 := Scalar.extui v7357
  let c0_i32_3714 : BitVec 32 := 0#32
  let v7359 : BitVec 1 := Scalar.cmpi .slt c1_i32_3710 c0_i32_3714
  let v7360 : BitVec 32 := Scalar.extui v7359
  let v7361 : BitVec 32 := Scalar.subi v7358 v7360
  let v7362 : BitVec 1 := Scalar.cmpi .ne v7356 v7361
  let v7363 : BitVec 32 := Scalar.remsi v7339 c1_i32_3710
  let c0_i32_3715 : BitVec 32 := 0#32
  let v7364 : BitVec 1 := Scalar.cmpi .ne v7363 c0_i32_3715
  let v7365 : BitVec 1 := Scalar.andi v7362 v7364
  let v7351 : BitVec 32 := Scalar.divsi v7339 c1_i32_3710
  let c1_i32_3716 : BitVec 32 := 1#32
  let v7366 : BitVec 32 := Scalar.subi v7351 c1_i32_3716
  let v7367 : BitVec 32 := Scalar.select v7365 v7366 v7351
  let c2_i32_3717 : BitVec 32 := 2#32
  let c0_i32_3718 : BitVec 32 := 0#32
  let v7368 : BitVec 1 := Scalar.cmpi .eq c2_i32_3717 c0_i32_3718
  let c1_i32_3719 : BitVec 32 := 1#32
  let v7369 : BitVec 32 := Scalar.select v7368 c1_i32_3719 c2_i32_3717
  let v7370 : BitVec 32 := Scalar.remsi v7367 v7369
  let c0_i32_3721 : BitVec 32 := 0#32
  let v7372 : BitVec 1 := Scalar.cmpi .slt v7370 c0_i32_3721
  let c0_i32_3722 : BitVec 32 := 0#32
  let v7373 : BitVec 1 := Scalar.cmpi .slt v7369 c0_i32_3722
  let v7374 : BitVec 1 := Scalar.xori v7372 v7373
  let c0_i32_3720 : BitVec 32 := 0#32
  let v7371 : BitVec 1 := Scalar.cmpi .ne v7370 c0_i32_3720
  let v7375 : BitVec 1 := Scalar.andi v7374 v7371
  let v7376 : BitVec 32 := Scalar.addi v7370 v7369
  let v7377 : BitVec 32 := Scalar.select v7375 v7376 v7370
  let v7462 : BitVec 32 := Scalar.addi v7461 v7377
  let c2_i32_3757 : BitVec 32 := 2#32
  let c1_i32_3703 : BitVec 32 := 1#32
  let c0_i32_3704 : BitVec 32 := 0#32
  let v7340 : BitVec 1 := Scalar.cmpi .eq c1_i32_3703 c0_i32_3704
  let c1_i32_3705 : BitVec 32 := 1#32
  let v7341 : BitVec 32 := Scalar.select v7340 c1_i32_3705 c1_i32_3703
  let v7342 : BitVec 32 := Scalar.remsi v7339 v7341
  let c0_i32_3707 : BitVec 32 := 0#32
  let v7344 : BitVec 1 := Scalar.cmpi .slt v7342 c0_i32_3707
  let c0_i32_3708 : BitVec 32 := 0#32
  let v7345 : BitVec 1 := Scalar.cmpi .slt v7341 c0_i32_3708
  let v7346 : BitVec 1 := Scalar.xori v7344 v7345
  let c0_i32_3706 : BitVec 32 := 0#32
  let v7343 : BitVec 1 := Scalar.cmpi .ne v7342 c0_i32_3706
  let v7347 : BitVec 1 := Scalar.andi v7346 v7343
  let v7348 : BitVec 32 := Scalar.addi v7342 v7341
  let v7349 : BitVec 32 := Scalar.select v7347 v7348 v7342
  let c128_i32_3709 : BitVec 32 := 128#32
  let v7350 : BitVec 32 := Scalar.muli v7349 c128_i32_3709
  let v7463 : BitVec 32 := Scalar.muli c2_i32_3757 v7350
  let v7464 : BitVec 32 := Scalar.addi v7462 v7463
  let v7474 : Index := Scalar.indexCast v7464
  let c0_3764 : Index := 0#32
  ![1, v7474.toNat, 0]
def k0_mult323 : BitVec 32 :=
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let c0_i32_3702 : BitVec 32 := 0#32
  let v7339 : BitVec 32 := Scalar.addi v7338 c0_i32_3702
  let c0_i32_3724 : BitVec 32 := 0#32
  let v7379 : BitVec 1 := Scalar.cmpi .sgt v7339 c0_i32_3724
  let v7380 : BitVec 32 := Scalar.extui v7379
  let c0_i32_3725 : BitVec 32 := 0#32
  let v7381 : BitVec 1 := Scalar.cmpi .slt v7339 c0_i32_3725
  let v7382 : BitVec 32 := Scalar.extui v7381
  let v7383 : BitVec 32 := Scalar.subi v7380 v7382
  let c2_i32_3723 : BitVec 32 := 2#32
  let c0_i32_3726 : BitVec 32 := 0#32
  let v7384 : BitVec 1 := Scalar.cmpi .sgt c2_i32_3723 c0_i32_3726
  let v7385 : BitVec 32 := Scalar.extui v7384
  let c0_i32_3727 : BitVec 32 := 0#32
  let v7386 : BitVec 1 := Scalar.cmpi .slt c2_i32_3723 c0_i32_3727
  let v7387 : BitVec 32 := Scalar.extui v7386
  let v7388 : BitVec 32 := Scalar.subi v7385 v7387
  let v7389 : BitVec 1 := Scalar.cmpi .ne v7383 v7388
  let v7390 : BitVec 32 := Scalar.remsi v7339 c2_i32_3723
  let c0_i32_3728 : BitVec 32 := 0#32
  let v7391 : BitVec 1 := Scalar.cmpi .ne v7390 c0_i32_3728
  let v7392 : BitVec 1 := Scalar.andi v7389 v7391
  let v7378 : BitVec 32 := Scalar.divsi v7339 c2_i32_3723
  let c1_i32_3729 : BitVec 32 := 1#32
  let v7393 : BitVec 32 := Scalar.subi v7378 c1_i32_3729
  let v7394 : BitVec 32 := Scalar.select v7392 v7393 v7378
  let c8_i32_3758 : BitVec 32 := 8#32
  let c0_i32_3711 : BitVec 32 := 0#32
  let v7352 : BitVec 1 := Scalar.cmpi .sgt v7339 c0_i32_3711
  let v7353 : BitVec 32 := Scalar.extui v7352
  let c0_i32_3712 : BitVec 32 := 0#32
  let v7354 : BitVec 1 := Scalar.cmpi .slt v7339 c0_i32_3712
  let v7355 : BitVec 32 := Scalar.extui v7354
  let v7356 : BitVec 32 := Scalar.subi v7353 v7355
  let c1_i32_3710 : BitVec 32 := 1#32
  let c0_i32_3713 : BitVec 32 := 0#32
  let v7357 : BitVec 1 := Scalar.cmpi .sgt c1_i32_3710 c0_i32_3713
  let v7358 : BitVec 32 := Scalar.extui v7357
  let c0_i32_3714 : BitVec 32 := 0#32
  let v7359 : BitVec 1 := Scalar.cmpi .slt c1_i32_3710 c0_i32_3714
  let v7360 : BitVec 32 := Scalar.extui v7359
  let v7361 : BitVec 32 := Scalar.subi v7358 v7360
  let v7362 : BitVec 1 := Scalar.cmpi .ne v7356 v7361
  let v7363 : BitVec 32 := Scalar.remsi v7339 c1_i32_3710
  let c0_i32_3715 : BitVec 32 := 0#32
  let v7364 : BitVec 1 := Scalar.cmpi .ne v7363 c0_i32_3715
  let v7365 : BitVec 1 := Scalar.andi v7362 v7364
  let v7351 : BitVec 32 := Scalar.divsi v7339 c1_i32_3710
  let c1_i32_3716 : BitVec 32 := 1#32
  let v7366 : BitVec 32 := Scalar.subi v7351 c1_i32_3716
  let v7367 : BitVec 32 := Scalar.select v7365 v7366 v7351
  let c2_i32_3717 : BitVec 32 := 2#32
  let c0_i32_3718 : BitVec 32 := 0#32
  let v7368 : BitVec 1 := Scalar.cmpi .eq c2_i32_3717 c0_i32_3718
  let c1_i32_3719 : BitVec 32 := 1#32
  let v7369 : BitVec 32 := Scalar.select v7368 c1_i32_3719 c2_i32_3717
  let v7370 : BitVec 32 := Scalar.remsi v7367 v7369
  let c0_i32_3721 : BitVec 32 := 0#32
  let v7372 : BitVec 1 := Scalar.cmpi .slt v7370 c0_i32_3721
  let c0_i32_3722 : BitVec 32 := 0#32
  let v7373 : BitVec 1 := Scalar.cmpi .slt v7369 c0_i32_3722
  let v7374 : BitVec 1 := Scalar.xori v7372 v7373
  let c0_i32_3720 : BitVec 32 := 0#32
  let v7371 : BitVec 1 := Scalar.cmpi .ne v7370 c0_i32_3720
  let v7375 : BitVec 1 := Scalar.andi v7374 v7371
  let v7376 : BitVec 32 := Scalar.addi v7370 v7369
  let v7377 : BitVec 32 := Scalar.select v7375 v7376 v7370
  let v7465 : BitVec 32 := Scalar.muli c8_i32_3758 v7377
  let v7466 : BitVec 32 := Scalar.addi v7394 v7465
  let c128_i32_3759 : BitVec 32 := 128#32
  let v7467 : BitVec 32 := Scalar.muli v7466 c128_i32_3759
  let c1_i32_3703 : BitVec 32 := 1#32
  let c0_i32_3704 : BitVec 32 := 0#32
  let v7340 : BitVec 1 := Scalar.cmpi .eq c1_i32_3703 c0_i32_3704
  let c1_i32_3705 : BitVec 32 := 1#32
  let v7341 : BitVec 32 := Scalar.select v7340 c1_i32_3705 c1_i32_3703
  let v7342 : BitVec 32 := Scalar.remsi v7339 v7341
  let c0_i32_3707 : BitVec 32 := 0#32
  let v7344 : BitVec 1 := Scalar.cmpi .slt v7342 c0_i32_3707
  let c0_i32_3708 : BitVec 32 := 0#32
  let v7345 : BitVec 1 := Scalar.cmpi .slt v7341 c0_i32_3708
  let v7346 : BitVec 1 := Scalar.xori v7344 v7345
  let c0_i32_3706 : BitVec 32 := 0#32
  let v7343 : BitVec 1 := Scalar.cmpi .ne v7342 c0_i32_3706
  let v7347 : BitVec 1 := Scalar.andi v7346 v7343
  let v7348 : BitVec 32 := Scalar.addi v7342 v7341
  let v7349 : BitVec 32 := Scalar.select v7347 v7348 v7342
  let c128_i32_3709 : BitVec 32 := 128#32
  let v7350 : BitVec 32 := Scalar.muli v7349 c128_i32_3709
  let v7468 : BitVec 32 := Scalar.addi v7467 v7350
  let c0_i32_3766 : BitVec 32 := 0#32
  let v7483 : BitVec 1 := Scalar.cmpi .sgt v7468 c0_i32_3766
  let v7484 : BitVec 32 := Scalar.extui v7483
  let c0_i32_3767 : BitVec 32 := 0#32
  let v7485 : BitVec 1 := Scalar.cmpi .slt v7468 c0_i32_3767
  let v7486 : BitVec 32 := Scalar.extui v7485
  let v7487 : BitVec 32 := Scalar.subi v7484 v7486
  let c2_i32_3765 : BitVec 32 := 2#32
  let c0_i32_3768 : BitVec 32 := 0#32
  let v7488 : BitVec 1 := Scalar.cmpi .sgt c2_i32_3765 c0_i32_3768
  let v7489 : BitVec 32 := Scalar.extui v7488
  let c0_i32_3769 : BitVec 32 := 0#32
  let v7490 : BitVec 1 := Scalar.cmpi .slt c2_i32_3765 c0_i32_3769
  let v7491 : BitVec 32 := Scalar.extui v7490
  let v7492 : BitVec 32 := Scalar.subi v7489 v7491
  let v7493 : BitVec 1 := Scalar.cmpi .ne v7487 v7492
  let v7494 : BitVec 32 := Scalar.remsi v7468 c2_i32_3765
  let c0_i32_3770 : BitVec 32 := 0#32
  let v7495 : BitVec 1 := Scalar.cmpi .ne v7494 c0_i32_3770
  let v7496 : BitVec 1 := Scalar.andi v7493 v7495
  let v7482 : BitVec 32 := Scalar.divsi v7468 c2_i32_3765
  let c1_i32_3771 : BitVec 32 := 1#32
  let v7497 : BitVec 32 := Scalar.subi v7482 c1_i32_3771
  let v7498 : BitVec 32 := Scalar.select v7496 v7497 v7482
  v7498
def k0_off37 (c0_i32_3702 : BitVec 32) : Fin 3 → Nat :=
  let c1_3772 : Index := 1#32
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let v7339 : BitVec 32 := Scalar.addi v7338 c0_i32_3702
  let c0_i32_3724 : BitVec 32 := 0#32
  let v7379 : BitVec 1 := Scalar.cmpi .sgt v7339 c0_i32_3724
  let v7380 : BitVec 32 := Scalar.extui v7379
  let c0_i32_3725 : BitVec 32 := 0#32
  let v7381 : BitVec 1 := Scalar.cmpi .slt v7339 c0_i32_3725
  let v7382 : BitVec 32 := Scalar.extui v7381
  let v7383 : BitVec 32 := Scalar.subi v7380 v7382
  let c2_i32_3723 : BitVec 32 := 2#32
  let c0_i32_3726 : BitVec 32 := 0#32
  let v7384 : BitVec 1 := Scalar.cmpi .sgt c2_i32_3723 c0_i32_3726
  let v7385 : BitVec 32 := Scalar.extui v7384
  let c0_i32_3727 : BitVec 32 := 0#32
  let v7386 : BitVec 1 := Scalar.cmpi .slt c2_i32_3723 c0_i32_3727
  let v7387 : BitVec 32 := Scalar.extui v7386
  let v7388 : BitVec 32 := Scalar.subi v7385 v7387
  let v7389 : BitVec 1 := Scalar.cmpi .ne v7383 v7388
  let v7390 : BitVec 32 := Scalar.remsi v7339 c2_i32_3723
  let c0_i32_3728 : BitVec 32 := 0#32
  let v7391 : BitVec 1 := Scalar.cmpi .ne v7390 c0_i32_3728
  let v7392 : BitVec 1 := Scalar.andi v7389 v7391
  let v7378 : BitVec 32 := Scalar.divsi v7339 c2_i32_3723
  let c1_i32_3729 : BitVec 32 := 1#32
  let v7393 : BitVec 32 := Scalar.subi v7378 c1_i32_3729
  let v7394 : BitVec 32 := Scalar.select v7392 v7393 v7378
  let c8_i32_3758 : BitVec 32 := 8#32
  let c0_i32_3711 : BitVec 32 := 0#32
  let v7352 : BitVec 1 := Scalar.cmpi .sgt v7339 c0_i32_3711
  let v7353 : BitVec 32 := Scalar.extui v7352
  let c0_i32_3712 : BitVec 32 := 0#32
  let v7354 : BitVec 1 := Scalar.cmpi .slt v7339 c0_i32_3712
  let v7355 : BitVec 32 := Scalar.extui v7354
  let v7356 : BitVec 32 := Scalar.subi v7353 v7355
  let c1_i32_3710 : BitVec 32 := 1#32
  let c0_i32_3713 : BitVec 32 := 0#32
  let v7357 : BitVec 1 := Scalar.cmpi .sgt c1_i32_3710 c0_i32_3713
  let v7358 : BitVec 32 := Scalar.extui v7357
  let c0_i32_3714 : BitVec 32 := 0#32
  let v7359 : BitVec 1 := Scalar.cmpi .slt c1_i32_3710 c0_i32_3714
  let v7360 : BitVec 32 := Scalar.extui v7359
  let v7361 : BitVec 32 := Scalar.subi v7358 v7360
  let v7362 : BitVec 1 := Scalar.cmpi .ne v7356 v7361
  let v7363 : BitVec 32 := Scalar.remsi v7339 c1_i32_3710
  let c0_i32_3715 : BitVec 32 := 0#32
  let v7364 : BitVec 1 := Scalar.cmpi .ne v7363 c0_i32_3715
  let v7365 : BitVec 1 := Scalar.andi v7362 v7364
  let v7351 : BitVec 32 := Scalar.divsi v7339 c1_i32_3710
  let c1_i32_3716 : BitVec 32 := 1#32
  let v7366 : BitVec 32 := Scalar.subi v7351 c1_i32_3716
  let v7367 : BitVec 32 := Scalar.select v7365 v7366 v7351
  let c2_i32_3717 : BitVec 32 := 2#32
  let c0_i32_3718 : BitVec 32 := 0#32
  let v7368 : BitVec 1 := Scalar.cmpi .eq c2_i32_3717 c0_i32_3718
  let c1_i32_3719 : BitVec 32 := 1#32
  let v7369 : BitVec 32 := Scalar.select v7368 c1_i32_3719 c2_i32_3717
  let v7370 : BitVec 32 := Scalar.remsi v7367 v7369
  let c0_i32_3721 : BitVec 32 := 0#32
  let v7372 : BitVec 1 := Scalar.cmpi .slt v7370 c0_i32_3721
  let c0_i32_3722 : BitVec 32 := 0#32
  let v7373 : BitVec 1 := Scalar.cmpi .slt v7369 c0_i32_3722
  let v7374 : BitVec 1 := Scalar.xori v7372 v7373
  let c0_i32_3720 : BitVec 32 := 0#32
  let v7371 : BitVec 1 := Scalar.cmpi .ne v7370 c0_i32_3720
  let v7375 : BitVec 1 := Scalar.andi v7374 v7371
  let v7376 : BitVec 32 := Scalar.addi v7370 v7369
  let v7377 : BitVec 32 := Scalar.select v7375 v7376 v7370
  let v7465 : BitVec 32 := Scalar.muli c8_i32_3758 v7377
  let v7466 : BitVec 32 := Scalar.addi v7394 v7465
  let c128_i32_3759 : BitVec 32 := 128#32
  let v7467 : BitVec 32 := Scalar.muli v7466 c128_i32_3759
  let c1_i32_3703 : BitVec 32 := 1#32
  let c0_i32_3704 : BitVec 32 := 0#32
  let v7340 : BitVec 1 := Scalar.cmpi .eq c1_i32_3703 c0_i32_3704
  let c1_i32_3705 : BitVec 32 := 1#32
  let v7341 : BitVec 32 := Scalar.select v7340 c1_i32_3705 c1_i32_3703
  let v7342 : BitVec 32 := Scalar.remsi v7339 v7341
  let c0_i32_3707 : BitVec 32 := 0#32
  let v7344 : BitVec 1 := Scalar.cmpi .slt v7342 c0_i32_3707
  let c0_i32_3708 : BitVec 32 := 0#32
  let v7345 : BitVec 1 := Scalar.cmpi .slt v7341 c0_i32_3708
  let v7346 : BitVec 1 := Scalar.xori v7344 v7345
  let c0_i32_3706 : BitVec 32 := 0#32
  let v7343 : BitVec 1 := Scalar.cmpi .ne v7342 c0_i32_3706
  let v7347 : BitVec 1 := Scalar.andi v7346 v7343
  let v7348 : BitVec 32 := Scalar.addi v7342 v7341
  let v7349 : BitVec 32 := Scalar.select v7347 v7348 v7342
  let c128_i32_3709 : BitVec 32 := 128#32
  let v7350 : BitVec 32 := Scalar.muli v7349 c128_i32_3709
  let v7468 : BitVec 32 := Scalar.addi v7467 v7350
  let c0_i32_3766 : BitVec 32 := 0#32
  let v7483 : BitVec 1 := Scalar.cmpi .sgt v7468 c0_i32_3766
  let v7484 : BitVec 32 := Scalar.extui v7483
  let c0_i32_3767 : BitVec 32 := 0#32
  let v7485 : BitVec 1 := Scalar.cmpi .slt v7468 c0_i32_3767
  let v7486 : BitVec 32 := Scalar.extui v7485
  let v7487 : BitVec 32 := Scalar.subi v7484 v7486
  let c2_i32_3765 : BitVec 32 := 2#32
  let c0_i32_3768 : BitVec 32 := 0#32
  let v7488 : BitVec 1 := Scalar.cmpi .sgt c2_i32_3765 c0_i32_3768
  let v7489 : BitVec 32 := Scalar.extui v7488
  let c0_i32_3769 : BitVec 32 := 0#32
  let v7490 : BitVec 1 := Scalar.cmpi .slt c2_i32_3765 c0_i32_3769
  let v7491 : BitVec 32 := Scalar.extui v7490
  let v7492 : BitVec 32 := Scalar.subi v7489 v7491
  let v7493 : BitVec 1 := Scalar.cmpi .ne v7487 v7492
  let v7494 : BitVec 32 := Scalar.remsi v7468 c2_i32_3765
  let c0_i32_3770 : BitVec 32 := 0#32
  let v7495 : BitVec 1 := Scalar.cmpi .ne v7494 c0_i32_3770
  let v7496 : BitVec 1 := Scalar.andi v7493 v7495
  let v7482 : BitVec 32 := Scalar.divsi v7468 c2_i32_3765
  let c1_i32_3771 : BitVec 32 := 1#32
  let v7497 : BitVec 32 := Scalar.subi v7482 c1_i32_3771
  let v7498 : BitVec 32 := Scalar.select v7496 v7497 v7482
  let v7499 : BitVec 32 := v7498
  let v7500 : Index := Scalar.indexCast v7499
  let c0_3773 : Index := 0#32
  ![1, v7500.toNat, 0]
def k0_mult324 : BitVec 32 :=
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let c0_i32_3702 : BitVec 32 := 0#32
  let v7339 : BitVec 32 := Scalar.addi v7338 c0_i32_3702
  let c0_i32_3724 : BitVec 32 := 0#32
  let v7379 : BitVec 1 := Scalar.cmpi .sgt v7339 c0_i32_3724
  let v7380 : BitVec 32 := Scalar.extui v7379
  let c0_i32_3725 : BitVec 32 := 0#32
  let v7381 : BitVec 1 := Scalar.cmpi .slt v7339 c0_i32_3725
  let v7382 : BitVec 32 := Scalar.extui v7381
  let v7383 : BitVec 32 := Scalar.subi v7380 v7382
  let c2_i32_3723 : BitVec 32 := 2#32
  let c0_i32_3726 : BitVec 32 := 0#32
  let v7384 : BitVec 1 := Scalar.cmpi .sgt c2_i32_3723 c0_i32_3726
  let v7385 : BitVec 32 := Scalar.extui v7384
  let c0_i32_3727 : BitVec 32 := 0#32
  let v7386 : BitVec 1 := Scalar.cmpi .slt c2_i32_3723 c0_i32_3727
  let v7387 : BitVec 32 := Scalar.extui v7386
  let v7388 : BitVec 32 := Scalar.subi v7385 v7387
  let v7389 : BitVec 1 := Scalar.cmpi .ne v7383 v7388
  let v7390 : BitVec 32 := Scalar.remsi v7339 c2_i32_3723
  let c0_i32_3728 : BitVec 32 := 0#32
  let v7391 : BitVec 1 := Scalar.cmpi .ne v7390 c0_i32_3728
  let v7392 : BitVec 1 := Scalar.andi v7389 v7391
  let v7378 : BitVec 32 := Scalar.divsi v7339 c2_i32_3723
  let c1_i32_3729 : BitVec 32 := 1#32
  let v7393 : BitVec 32 := Scalar.subi v7378 c1_i32_3729
  let v7394 : BitVec 32 := Scalar.select v7392 v7393 v7378
  let c8_i32_3760 : BitVec 32 := 8#32
  let c0_i32_3711 : BitVec 32 := 0#32
  let v7352 : BitVec 1 := Scalar.cmpi .sgt v7339 c0_i32_3711
  let v7353 : BitVec 32 := Scalar.extui v7352
  let c0_i32_3712 : BitVec 32 := 0#32
  let v7354 : BitVec 1 := Scalar.cmpi .slt v7339 c0_i32_3712
  let v7355 : BitVec 32 := Scalar.extui v7354
  let v7356 : BitVec 32 := Scalar.subi v7353 v7355
  let c1_i32_3710 : BitVec 32 := 1#32
  let c0_i32_3713 : BitVec 32 := 0#32
  let v7357 : BitVec 1 := Scalar.cmpi .sgt c1_i32_3710 c0_i32_3713
  let v7358 : BitVec 32 := Scalar.extui v7357
  let c0_i32_3714 : BitVec 32 := 0#32
  let v7359 : BitVec 1 := Scalar.cmpi .slt c1_i32_3710 c0_i32_3714
  let v7360 : BitVec 32 := Scalar.extui v7359
  let v7361 : BitVec 32 := Scalar.subi v7358 v7360
  let v7362 : BitVec 1 := Scalar.cmpi .ne v7356 v7361
  let v7363 : BitVec 32 := Scalar.remsi v7339 c1_i32_3710
  let c0_i32_3715 : BitVec 32 := 0#32
  let v7364 : BitVec 1 := Scalar.cmpi .ne v7363 c0_i32_3715
  let v7365 : BitVec 1 := Scalar.andi v7362 v7364
  let v7351 : BitVec 32 := Scalar.divsi v7339 c1_i32_3710
  let c1_i32_3716 : BitVec 32 := 1#32
  let v7366 : BitVec 32 := Scalar.subi v7351 c1_i32_3716
  let v7367 : BitVec 32 := Scalar.select v7365 v7366 v7351
  let c2_i32_3717 : BitVec 32 := 2#32
  let c0_i32_3718 : BitVec 32 := 0#32
  let v7368 : BitVec 1 := Scalar.cmpi .eq c2_i32_3717 c0_i32_3718
  let c1_i32_3719 : BitVec 32 := 1#32
  let v7369 : BitVec 32 := Scalar.select v7368 c1_i32_3719 c2_i32_3717
  let v7370 : BitVec 32 := Scalar.remsi v7367 v7369
  let c0_i32_3721 : BitVec 32 := 0#32
  let v7372 : BitVec 1 := Scalar.cmpi .slt v7370 c0_i32_3721
  let c0_i32_3722 : BitVec 32 := 0#32
  let v7373 : BitVec 1 := Scalar.cmpi .slt v7369 c0_i32_3722
  let v7374 : BitVec 1 := Scalar.xori v7372 v7373
  let c0_i32_3720 : BitVec 32 := 0#32
  let v7371 : BitVec 1 := Scalar.cmpi .ne v7370 c0_i32_3720
  let v7375 : BitVec 1 := Scalar.andi v7374 v7371
  let v7376 : BitVec 32 := Scalar.addi v7370 v7369
  let v7377 : BitVec 32 := Scalar.select v7375 v7376 v7370
  let v7469 : BitVec 32 := Scalar.muli c8_i32_3760 v7377
  let v7470 : BitVec 32 := Scalar.addi v7394 v7469
  let c4_i32_3761 : BitVec 32 := 4#32
  let v7471 : BitVec 32 := Scalar.addi v7470 c4_i32_3761
  let c128_i32_3762 : BitVec 32 := 128#32
  let v7472 : BitVec 32 := Scalar.muli v7471 c128_i32_3762
  let c1_i32_3703 : BitVec 32 := 1#32
  let c0_i32_3704 : BitVec 32 := 0#32
  let v7340 : BitVec 1 := Scalar.cmpi .eq c1_i32_3703 c0_i32_3704
  let c1_i32_3705 : BitVec 32 := 1#32
  let v7341 : BitVec 32 := Scalar.select v7340 c1_i32_3705 c1_i32_3703
  let v7342 : BitVec 32 := Scalar.remsi v7339 v7341
  let c0_i32_3707 : BitVec 32 := 0#32
  let v7344 : BitVec 1 := Scalar.cmpi .slt v7342 c0_i32_3707
  let c0_i32_3708 : BitVec 32 := 0#32
  let v7345 : BitVec 1 := Scalar.cmpi .slt v7341 c0_i32_3708
  let v7346 : BitVec 1 := Scalar.xori v7344 v7345
  let c0_i32_3706 : BitVec 32 := 0#32
  let v7343 : BitVec 1 := Scalar.cmpi .ne v7342 c0_i32_3706
  let v7347 : BitVec 1 := Scalar.andi v7346 v7343
  let v7348 : BitVec 32 := Scalar.addi v7342 v7341
  let v7349 : BitVec 32 := Scalar.select v7347 v7348 v7342
  let c128_i32_3709 : BitVec 32 := 128#32
  let v7350 : BitVec 32 := Scalar.muli v7349 c128_i32_3709
  let v7473 : BitVec 32 := Scalar.addi v7472 v7350
  let c0_i32_3775 : BitVec 32 := 0#32
  let v7506 : BitVec 1 := Scalar.cmpi .sgt v7473 c0_i32_3775
  let v7507 : BitVec 32 := Scalar.extui v7506
  let c0_i32_3776 : BitVec 32 := 0#32
  let v7508 : BitVec 1 := Scalar.cmpi .slt v7473 c0_i32_3776
  let v7509 : BitVec 32 := Scalar.extui v7508
  let v7510 : BitVec 32 := Scalar.subi v7507 v7509
  let c2_i32_3774 : BitVec 32 := 2#32
  let c0_i32_3777 : BitVec 32 := 0#32
  let v7511 : BitVec 1 := Scalar.cmpi .sgt c2_i32_3774 c0_i32_3777
  let v7512 : BitVec 32 := Scalar.extui v7511
  let c0_i32_3778 : BitVec 32 := 0#32
  let v7513 : BitVec 1 := Scalar.cmpi .slt c2_i32_3774 c0_i32_3778
  let v7514 : BitVec 32 := Scalar.extui v7513
  let v7515 : BitVec 32 := Scalar.subi v7512 v7514
  let v7516 : BitVec 1 := Scalar.cmpi .ne v7510 v7515
  let v7517 : BitVec 32 := Scalar.remsi v7473 c2_i32_3774
  let c0_i32_3779 : BitVec 32 := 0#32
  let v7518 : BitVec 1 := Scalar.cmpi .ne v7517 c0_i32_3779
  let v7519 : BitVec 1 := Scalar.andi v7516 v7518
  let v7505 : BitVec 32 := Scalar.divsi v7473 c2_i32_3774
  let c1_i32_3780 : BitVec 32 := 1#32
  let v7520 : BitVec 32 := Scalar.subi v7505 c1_i32_3780
  let v7521 : BitVec 32 := Scalar.select v7519 v7520 v7505
  v7521
def k0_off38 (c0_i32_3702 : BitVec 32) : Fin 3 → Nat :=
  let c1_3781 : Index := 1#32
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let v7339 : BitVec 32 := Scalar.addi v7338 c0_i32_3702
  let c0_i32_3724 : BitVec 32 := 0#32
  let v7379 : BitVec 1 := Scalar.cmpi .sgt v7339 c0_i32_3724
  let v7380 : BitVec 32 := Scalar.extui v7379
  let c0_i32_3725 : BitVec 32 := 0#32
  let v7381 : BitVec 1 := Scalar.cmpi .slt v7339 c0_i32_3725
  let v7382 : BitVec 32 := Scalar.extui v7381
  let v7383 : BitVec 32 := Scalar.subi v7380 v7382
  let c2_i32_3723 : BitVec 32 := 2#32
  let c0_i32_3726 : BitVec 32 := 0#32
  let v7384 : BitVec 1 := Scalar.cmpi .sgt c2_i32_3723 c0_i32_3726
  let v7385 : BitVec 32 := Scalar.extui v7384
  let c0_i32_3727 : BitVec 32 := 0#32
  let v7386 : BitVec 1 := Scalar.cmpi .slt c2_i32_3723 c0_i32_3727
  let v7387 : BitVec 32 := Scalar.extui v7386
  let v7388 : BitVec 32 := Scalar.subi v7385 v7387
  let v7389 : BitVec 1 := Scalar.cmpi .ne v7383 v7388
  let v7390 : BitVec 32 := Scalar.remsi v7339 c2_i32_3723
  let c0_i32_3728 : BitVec 32 := 0#32
  let v7391 : BitVec 1 := Scalar.cmpi .ne v7390 c0_i32_3728
  let v7392 : BitVec 1 := Scalar.andi v7389 v7391
  let v7378 : BitVec 32 := Scalar.divsi v7339 c2_i32_3723
  let c1_i32_3729 : BitVec 32 := 1#32
  let v7393 : BitVec 32 := Scalar.subi v7378 c1_i32_3729
  let v7394 : BitVec 32 := Scalar.select v7392 v7393 v7378
  let c8_i32_3760 : BitVec 32 := 8#32
  let c0_i32_3711 : BitVec 32 := 0#32
  let v7352 : BitVec 1 := Scalar.cmpi .sgt v7339 c0_i32_3711
  let v7353 : BitVec 32 := Scalar.extui v7352
  let c0_i32_3712 : BitVec 32 := 0#32
  let v7354 : BitVec 1 := Scalar.cmpi .slt v7339 c0_i32_3712
  let v7355 : BitVec 32 := Scalar.extui v7354
  let v7356 : BitVec 32 := Scalar.subi v7353 v7355
  let c1_i32_3710 : BitVec 32 := 1#32
  let c0_i32_3713 : BitVec 32 := 0#32
  let v7357 : BitVec 1 := Scalar.cmpi .sgt c1_i32_3710 c0_i32_3713
  let v7358 : BitVec 32 := Scalar.extui v7357
  let c0_i32_3714 : BitVec 32 := 0#32
  let v7359 : BitVec 1 := Scalar.cmpi .slt c1_i32_3710 c0_i32_3714
  let v7360 : BitVec 32 := Scalar.extui v7359
  let v7361 : BitVec 32 := Scalar.subi v7358 v7360
  let v7362 : BitVec 1 := Scalar.cmpi .ne v7356 v7361
  let v7363 : BitVec 32 := Scalar.remsi v7339 c1_i32_3710
  let c0_i32_3715 : BitVec 32 := 0#32
  let v7364 : BitVec 1 := Scalar.cmpi .ne v7363 c0_i32_3715
  let v7365 : BitVec 1 := Scalar.andi v7362 v7364
  let v7351 : BitVec 32 := Scalar.divsi v7339 c1_i32_3710
  let c1_i32_3716 : BitVec 32 := 1#32
  let v7366 : BitVec 32 := Scalar.subi v7351 c1_i32_3716
  let v7367 : BitVec 32 := Scalar.select v7365 v7366 v7351
  let c2_i32_3717 : BitVec 32 := 2#32
  let c0_i32_3718 : BitVec 32 := 0#32
  let v7368 : BitVec 1 := Scalar.cmpi .eq c2_i32_3717 c0_i32_3718
  let c1_i32_3719 : BitVec 32 := 1#32
  let v7369 : BitVec 32 := Scalar.select v7368 c1_i32_3719 c2_i32_3717
  let v7370 : BitVec 32 := Scalar.remsi v7367 v7369
  let c0_i32_3721 : BitVec 32 := 0#32
  let v7372 : BitVec 1 := Scalar.cmpi .slt v7370 c0_i32_3721
  let c0_i32_3722 : BitVec 32 := 0#32
  let v7373 : BitVec 1 := Scalar.cmpi .slt v7369 c0_i32_3722
  let v7374 : BitVec 1 := Scalar.xori v7372 v7373
  let c0_i32_3720 : BitVec 32 := 0#32
  let v7371 : BitVec 1 := Scalar.cmpi .ne v7370 c0_i32_3720
  let v7375 : BitVec 1 := Scalar.andi v7374 v7371
  let v7376 : BitVec 32 := Scalar.addi v7370 v7369
  let v7377 : BitVec 32 := Scalar.select v7375 v7376 v7370
  let v7469 : BitVec 32 := Scalar.muli c8_i32_3760 v7377
  let v7470 : BitVec 32 := Scalar.addi v7394 v7469
  let c4_i32_3761 : BitVec 32 := 4#32
  let v7471 : BitVec 32 := Scalar.addi v7470 c4_i32_3761
  let c128_i32_3762 : BitVec 32 := 128#32
  let v7472 : BitVec 32 := Scalar.muli v7471 c128_i32_3762
  let c1_i32_3703 : BitVec 32 := 1#32
  let c0_i32_3704 : BitVec 32 := 0#32
  let v7340 : BitVec 1 := Scalar.cmpi .eq c1_i32_3703 c0_i32_3704
  let c1_i32_3705 : BitVec 32 := 1#32
  let v7341 : BitVec 32 := Scalar.select v7340 c1_i32_3705 c1_i32_3703
  let v7342 : BitVec 32 := Scalar.remsi v7339 v7341
  let c0_i32_3707 : BitVec 32 := 0#32
  let v7344 : BitVec 1 := Scalar.cmpi .slt v7342 c0_i32_3707
  let c0_i32_3708 : BitVec 32 := 0#32
  let v7345 : BitVec 1 := Scalar.cmpi .slt v7341 c0_i32_3708
  let v7346 : BitVec 1 := Scalar.xori v7344 v7345
  let c0_i32_3706 : BitVec 32 := 0#32
  let v7343 : BitVec 1 := Scalar.cmpi .ne v7342 c0_i32_3706
  let v7347 : BitVec 1 := Scalar.andi v7346 v7343
  let v7348 : BitVec 32 := Scalar.addi v7342 v7341
  let v7349 : BitVec 32 := Scalar.select v7347 v7348 v7342
  let c128_i32_3709 : BitVec 32 := 128#32
  let v7350 : BitVec 32 := Scalar.muli v7349 c128_i32_3709
  let v7473 : BitVec 32 := Scalar.addi v7472 v7350
  let c0_i32_3775 : BitVec 32 := 0#32
  let v7506 : BitVec 1 := Scalar.cmpi .sgt v7473 c0_i32_3775
  let v7507 : BitVec 32 := Scalar.extui v7506
  let c0_i32_3776 : BitVec 32 := 0#32
  let v7508 : BitVec 1 := Scalar.cmpi .slt v7473 c0_i32_3776
  let v7509 : BitVec 32 := Scalar.extui v7508
  let v7510 : BitVec 32 := Scalar.subi v7507 v7509
  let c2_i32_3774 : BitVec 32 := 2#32
  let c0_i32_3777 : BitVec 32 := 0#32
  let v7511 : BitVec 1 := Scalar.cmpi .sgt c2_i32_3774 c0_i32_3777
  let v7512 : BitVec 32 := Scalar.extui v7511
  let c0_i32_3778 : BitVec 32 := 0#32
  let v7513 : BitVec 1 := Scalar.cmpi .slt c2_i32_3774 c0_i32_3778
  let v7514 : BitVec 32 := Scalar.extui v7513
  let v7515 : BitVec 32 := Scalar.subi v7512 v7514
  let v7516 : BitVec 1 := Scalar.cmpi .ne v7510 v7515
  let v7517 : BitVec 32 := Scalar.remsi v7473 c2_i32_3774
  let c0_i32_3779 : BitVec 32 := 0#32
  let v7518 : BitVec 1 := Scalar.cmpi .ne v7517 c0_i32_3779
  let v7519 : BitVec 1 := Scalar.andi v7516 v7518
  let v7505 : BitVec 32 := Scalar.divsi v7473 c2_i32_3774
  let c1_i32_3780 : BitVec 32 := 1#32
  let v7520 : BitVec 32 := Scalar.subi v7505 c1_i32_3780
  let v7521 : BitVec 32 := Scalar.select v7519 v7520 v7505
  let v7522 : BitVec 32 := v7521
  let v7523 : Index := Scalar.indexCast v7522
  let c0_3782 : Index := 0#32
  ![1, v7523.toNat, 0]
def k0_off39 (c0_i32_3702 : BitVec 32) : Fin 3 → Nat :=
  let c2_3790 : Index := 2#32
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let v7339 : BitVec 32 := Scalar.addi v7338 c0_i32_3702
  let c0_i32_3724 : BitVec 32 := 0#32
  let v7379 : BitVec 1 := Scalar.cmpi .sgt v7339 c0_i32_3724
  let v7380 : BitVec 32 := Scalar.extui v7379
  let c0_i32_3725 : BitVec 32 := 0#32
  let v7381 : BitVec 1 := Scalar.cmpi .slt v7339 c0_i32_3725
  let v7382 : BitVec 32 := Scalar.extui v7381
  let v7383 : BitVec 32 := Scalar.subi v7380 v7382
  let c2_i32_3723 : BitVec 32 := 2#32
  let c0_i32_3726 : BitVec 32 := 0#32
  let v7384 : BitVec 1 := Scalar.cmpi .sgt c2_i32_3723 c0_i32_3726
  let v7385 : BitVec 32 := Scalar.extui v7384
  let c0_i32_3727 : BitVec 32 := 0#32
  let v7386 : BitVec 1 := Scalar.cmpi .slt c2_i32_3723 c0_i32_3727
  let v7387 : BitVec 32 := Scalar.extui v7386
  let v7388 : BitVec 32 := Scalar.subi v7385 v7387
  let v7389 : BitVec 1 := Scalar.cmpi .ne v7383 v7388
  let v7390 : BitVec 32 := Scalar.remsi v7339 c2_i32_3723
  let c0_i32_3728 : BitVec 32 := 0#32
  let v7391 : BitVec 1 := Scalar.cmpi .ne v7390 c0_i32_3728
  let v7392 : BitVec 1 := Scalar.andi v7389 v7391
  let v7378 : BitVec 32 := Scalar.divsi v7339 c2_i32_3723
  let c1_i32_3729 : BitVec 32 := 1#32
  let v7393 : BitVec 32 := Scalar.subi v7378 c1_i32_3729
  let v7394 : BitVec 32 := Scalar.select v7392 v7393 v7378
  let c256_i32_3783 : BitVec 32 := 256#32
  let v7527 : BitVec 32 := Scalar.muli v7394 c256_i32_3783
  let c0_i32_3711 : BitVec 32 := 0#32
  let v7352 : BitVec 1 := Scalar.cmpi .sgt v7339 c0_i32_3711
  let v7353 : BitVec 32 := Scalar.extui v7352
  let c0_i32_3712 : BitVec 32 := 0#32
  let v7354 : BitVec 1 := Scalar.cmpi .slt v7339 c0_i32_3712
  let v7355 : BitVec 32 := Scalar.extui v7354
  let v7356 : BitVec 32 := Scalar.subi v7353 v7355
  let c1_i32_3710 : BitVec 32 := 1#32
  let c0_i32_3713 : BitVec 32 := 0#32
  let v7357 : BitVec 1 := Scalar.cmpi .sgt c1_i32_3710 c0_i32_3713
  let v7358 : BitVec 32 := Scalar.extui v7357
  let c0_i32_3714 : BitVec 32 := 0#32
  let v7359 : BitVec 1 := Scalar.cmpi .slt c1_i32_3710 c0_i32_3714
  let v7360 : BitVec 32 := Scalar.extui v7359
  let v7361 : BitVec 32 := Scalar.subi v7358 v7360
  let v7362 : BitVec 1 := Scalar.cmpi .ne v7356 v7361
  let v7363 : BitVec 32 := Scalar.remsi v7339 c1_i32_3710
  let c0_i32_3715 : BitVec 32 := 0#32
  let v7364 : BitVec 1 := Scalar.cmpi .ne v7363 c0_i32_3715
  let v7365 : BitVec 1 := Scalar.andi v7362 v7364
  let v7351 : BitVec 32 := Scalar.divsi v7339 c1_i32_3710
  let c1_i32_3716 : BitVec 32 := 1#32
  let v7366 : BitVec 32 := Scalar.subi v7351 c1_i32_3716
  let v7367 : BitVec 32 := Scalar.select v7365 v7366 v7351
  let c2_i32_3717 : BitVec 32 := 2#32
  let c0_i32_3718 : BitVec 32 := 0#32
  let v7368 : BitVec 1 := Scalar.cmpi .eq c2_i32_3717 c0_i32_3718
  let c1_i32_3719 : BitVec 32 := 1#32
  let v7369 : BitVec 32 := Scalar.select v7368 c1_i32_3719 c2_i32_3717
  let v7370 : BitVec 32 := Scalar.remsi v7367 v7369
  let c0_i32_3721 : BitVec 32 := 0#32
  let v7372 : BitVec 1 := Scalar.cmpi .slt v7370 c0_i32_3721
  let c0_i32_3722 : BitVec 32 := 0#32
  let v7373 : BitVec 1 := Scalar.cmpi .slt v7369 c0_i32_3722
  let v7374 : BitVec 1 := Scalar.xori v7372 v7373
  let c0_i32_3720 : BitVec 32 := 0#32
  let v7371 : BitVec 1 := Scalar.cmpi .ne v7370 c0_i32_3720
  let v7375 : BitVec 1 := Scalar.andi v7374 v7371
  let v7376 : BitVec 32 := Scalar.addi v7370 v7369
  let v7377 : BitVec 32 := Scalar.select v7375 v7376 v7370
  let v7528 : BitVec 32 := Scalar.addi v7527 v7377
  let c2_i32_3784 : BitVec 32 := 2#32
  let c1_i32_3703 : BitVec 32 := 1#32
  let c0_i32_3704 : BitVec 32 := 0#32
  let v7340 : BitVec 1 := Scalar.cmpi .eq c1_i32_3703 c0_i32_3704
  let c1_i32_3705 : BitVec 32 := 1#32
  let v7341 : BitVec 32 := Scalar.select v7340 c1_i32_3705 c1_i32_3703
  let v7342 : BitVec 32 := Scalar.remsi v7339 v7341
  let c0_i32_3707 : BitVec 32 := 0#32
  let v7344 : BitVec 1 := Scalar.cmpi .slt v7342 c0_i32_3707
  let c0_i32_3708 : BitVec 32 := 0#32
  let v7345 : BitVec 1 := Scalar.cmpi .slt v7341 c0_i32_3708
  let v7346 : BitVec 1 := Scalar.xori v7344 v7345
  let c0_i32_3706 : BitVec 32 := 0#32
  let v7343 : BitVec 1 := Scalar.cmpi .ne v7342 c0_i32_3706
  let v7347 : BitVec 1 := Scalar.andi v7346 v7343
  let v7348 : BitVec 32 := Scalar.addi v7342 v7341
  let v7349 : BitVec 32 := Scalar.select v7347 v7348 v7342
  let c128_i32_3709 : BitVec 32 := 128#32
  let v7350 : BitVec 32 := Scalar.muli v7349 c128_i32_3709
  let v7529 : BitVec 32 := Scalar.muli c2_i32_3784 v7350
  let v7530 : BitVec 32 := Scalar.addi v7528 v7529
  let v7540 : Index := Scalar.indexCast v7530
  let c0_3791 : Index := 0#32
  ![2, v7540.toNat, 0]
def k0_mult325 : BitVec 32 :=
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let c0_i32_3702 : BitVec 32 := 0#32
  let v7339 : BitVec 32 := Scalar.addi v7338 c0_i32_3702
  let c0_i32_3724 : BitVec 32 := 0#32
  let v7379 : BitVec 1 := Scalar.cmpi .sgt v7339 c0_i32_3724
  let v7380 : BitVec 32 := Scalar.extui v7379
  let c0_i32_3725 : BitVec 32 := 0#32
  let v7381 : BitVec 1 := Scalar.cmpi .slt v7339 c0_i32_3725
  let v7382 : BitVec 32 := Scalar.extui v7381
  let v7383 : BitVec 32 := Scalar.subi v7380 v7382
  let c2_i32_3723 : BitVec 32 := 2#32
  let c0_i32_3726 : BitVec 32 := 0#32
  let v7384 : BitVec 1 := Scalar.cmpi .sgt c2_i32_3723 c0_i32_3726
  let v7385 : BitVec 32 := Scalar.extui v7384
  let c0_i32_3727 : BitVec 32 := 0#32
  let v7386 : BitVec 1 := Scalar.cmpi .slt c2_i32_3723 c0_i32_3727
  let v7387 : BitVec 32 := Scalar.extui v7386
  let v7388 : BitVec 32 := Scalar.subi v7385 v7387
  let v7389 : BitVec 1 := Scalar.cmpi .ne v7383 v7388
  let v7390 : BitVec 32 := Scalar.remsi v7339 c2_i32_3723
  let c0_i32_3728 : BitVec 32 := 0#32
  let v7391 : BitVec 1 := Scalar.cmpi .ne v7390 c0_i32_3728
  let v7392 : BitVec 1 := Scalar.andi v7389 v7391
  let v7378 : BitVec 32 := Scalar.divsi v7339 c2_i32_3723
  let c1_i32_3729 : BitVec 32 := 1#32
  let v7393 : BitVec 32 := Scalar.subi v7378 c1_i32_3729
  let v7394 : BitVec 32 := Scalar.select v7392 v7393 v7378
  let c8_i32_3785 : BitVec 32 := 8#32
  let c0_i32_3711 : BitVec 32 := 0#32
  let v7352 : BitVec 1 := Scalar.cmpi .sgt v7339 c0_i32_3711
  let v7353 : BitVec 32 := Scalar.extui v7352
  let c0_i32_3712 : BitVec 32 := 0#32
  let v7354 : BitVec 1 := Scalar.cmpi .slt v7339 c0_i32_3712
  let v7355 : BitVec 32 := Scalar.extui v7354
  let v7356 : BitVec 32 := Scalar.subi v7353 v7355
  let c1_i32_3710 : BitVec 32 := 1#32
  let c0_i32_3713 : BitVec 32 := 0#32
  let v7357 : BitVec 1 := Scalar.cmpi .sgt c1_i32_3710 c0_i32_3713
  let v7358 : BitVec 32 := Scalar.extui v7357
  let c0_i32_3714 : BitVec 32 := 0#32
  let v7359 : BitVec 1 := Scalar.cmpi .slt c1_i32_3710 c0_i32_3714
  let v7360 : BitVec 32 := Scalar.extui v7359
  let v7361 : BitVec 32 := Scalar.subi v7358 v7360
  let v7362 : BitVec 1 := Scalar.cmpi .ne v7356 v7361
  let v7363 : BitVec 32 := Scalar.remsi v7339 c1_i32_3710
  let c0_i32_3715 : BitVec 32 := 0#32
  let v7364 : BitVec 1 := Scalar.cmpi .ne v7363 c0_i32_3715
  let v7365 : BitVec 1 := Scalar.andi v7362 v7364
  let v7351 : BitVec 32 := Scalar.divsi v7339 c1_i32_3710
  let c1_i32_3716 : BitVec 32 := 1#32
  let v7366 : BitVec 32 := Scalar.subi v7351 c1_i32_3716
  let v7367 : BitVec 32 := Scalar.select v7365 v7366 v7351
  let c2_i32_3717 : BitVec 32 := 2#32
  let c0_i32_3718 : BitVec 32 := 0#32
  let v7368 : BitVec 1 := Scalar.cmpi .eq c2_i32_3717 c0_i32_3718
  let c1_i32_3719 : BitVec 32 := 1#32
  let v7369 : BitVec 32 := Scalar.select v7368 c1_i32_3719 c2_i32_3717
  let v7370 : BitVec 32 := Scalar.remsi v7367 v7369
  let c0_i32_3721 : BitVec 32 := 0#32
  let v7372 : BitVec 1 := Scalar.cmpi .slt v7370 c0_i32_3721
  let c0_i32_3722 : BitVec 32 := 0#32
  let v7373 : BitVec 1 := Scalar.cmpi .slt v7369 c0_i32_3722
  let v7374 : BitVec 1 := Scalar.xori v7372 v7373
  let c0_i32_3720 : BitVec 32 := 0#32
  let v7371 : BitVec 1 := Scalar.cmpi .ne v7370 c0_i32_3720
  let v7375 : BitVec 1 := Scalar.andi v7374 v7371
  let v7376 : BitVec 32 := Scalar.addi v7370 v7369
  let v7377 : BitVec 32 := Scalar.select v7375 v7376 v7370
  let v7531 : BitVec 32 := Scalar.muli c8_i32_3785 v7377
  let v7532 : BitVec 32 := Scalar.addi v7394 v7531
  let c128_i32_3786 : BitVec 32 := 128#32
  let v7533 : BitVec 32 := Scalar.muli v7532 c128_i32_3786
  let c1_i32_3703 : BitVec 32 := 1#32
  let c0_i32_3704 : BitVec 32 := 0#32
  let v7340 : BitVec 1 := Scalar.cmpi .eq c1_i32_3703 c0_i32_3704
  let c1_i32_3705 : BitVec 32 := 1#32
  let v7341 : BitVec 32 := Scalar.select v7340 c1_i32_3705 c1_i32_3703
  let v7342 : BitVec 32 := Scalar.remsi v7339 v7341
  let c0_i32_3707 : BitVec 32 := 0#32
  let v7344 : BitVec 1 := Scalar.cmpi .slt v7342 c0_i32_3707
  let c0_i32_3708 : BitVec 32 := 0#32
  let v7345 : BitVec 1 := Scalar.cmpi .slt v7341 c0_i32_3708
  let v7346 : BitVec 1 := Scalar.xori v7344 v7345
  let c0_i32_3706 : BitVec 32 := 0#32
  let v7343 : BitVec 1 := Scalar.cmpi .ne v7342 c0_i32_3706
  let v7347 : BitVec 1 := Scalar.andi v7346 v7343
  let v7348 : BitVec 32 := Scalar.addi v7342 v7341
  let v7349 : BitVec 32 := Scalar.select v7347 v7348 v7342
  let c128_i32_3709 : BitVec 32 := 128#32
  let v7350 : BitVec 32 := Scalar.muli v7349 c128_i32_3709
  let v7534 : BitVec 32 := Scalar.addi v7533 v7350
  let c0_i32_3793 : BitVec 32 := 0#32
  let v7549 : BitVec 1 := Scalar.cmpi .sgt v7534 c0_i32_3793
  let v7550 : BitVec 32 := Scalar.extui v7549
  let c0_i32_3794 : BitVec 32 := 0#32
  let v7551 : BitVec 1 := Scalar.cmpi .slt v7534 c0_i32_3794
  let v7552 : BitVec 32 := Scalar.extui v7551
  let v7553 : BitVec 32 := Scalar.subi v7550 v7552
  let c2_i32_3792 : BitVec 32 := 2#32
  let c0_i32_3795 : BitVec 32 := 0#32
  let v7554 : BitVec 1 := Scalar.cmpi .sgt c2_i32_3792 c0_i32_3795
  let v7555 : BitVec 32 := Scalar.extui v7554
  let c0_i32_3796 : BitVec 32 := 0#32
  let v7556 : BitVec 1 := Scalar.cmpi .slt c2_i32_3792 c0_i32_3796
  let v7557 : BitVec 32 := Scalar.extui v7556
  let v7558 : BitVec 32 := Scalar.subi v7555 v7557
  let v7559 : BitVec 1 := Scalar.cmpi .ne v7553 v7558
  let v7560 : BitVec 32 := Scalar.remsi v7534 c2_i32_3792
  let c0_i32_3797 : BitVec 32 := 0#32
  let v7561 : BitVec 1 := Scalar.cmpi .ne v7560 c0_i32_3797
  let v7562 : BitVec 1 := Scalar.andi v7559 v7561
  let v7548 : BitVec 32 := Scalar.divsi v7534 c2_i32_3792
  let c1_i32_3798 : BitVec 32 := 1#32
  let v7563 : BitVec 32 := Scalar.subi v7548 c1_i32_3798
  let v7564 : BitVec 32 := Scalar.select v7562 v7563 v7548
  v7564
def k0_off40 (c0_i32_3702 : BitVec 32) : Fin 3 → Nat :=
  let c2_3799 : Index := 2#32
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let v7339 : BitVec 32 := Scalar.addi v7338 c0_i32_3702
  let c0_i32_3724 : BitVec 32 := 0#32
  let v7379 : BitVec 1 := Scalar.cmpi .sgt v7339 c0_i32_3724
  let v7380 : BitVec 32 := Scalar.extui v7379
  let c0_i32_3725 : BitVec 32 := 0#32
  let v7381 : BitVec 1 := Scalar.cmpi .slt v7339 c0_i32_3725
  let v7382 : BitVec 32 := Scalar.extui v7381
  let v7383 : BitVec 32 := Scalar.subi v7380 v7382
  let c2_i32_3723 : BitVec 32 := 2#32
  let c0_i32_3726 : BitVec 32 := 0#32
  let v7384 : BitVec 1 := Scalar.cmpi .sgt c2_i32_3723 c0_i32_3726
  let v7385 : BitVec 32 := Scalar.extui v7384
  let c0_i32_3727 : BitVec 32 := 0#32
  let v7386 : BitVec 1 := Scalar.cmpi .slt c2_i32_3723 c0_i32_3727
  let v7387 : BitVec 32 := Scalar.extui v7386
  let v7388 : BitVec 32 := Scalar.subi v7385 v7387
  let v7389 : BitVec 1 := Scalar.cmpi .ne v7383 v7388
  let v7390 : BitVec 32 := Scalar.remsi v7339 c2_i32_3723
  let c0_i32_3728 : BitVec 32 := 0#32
  let v7391 : BitVec 1 := Scalar.cmpi .ne v7390 c0_i32_3728
  let v7392 : BitVec 1 := Scalar.andi v7389 v7391
  let v7378 : BitVec 32 := Scalar.divsi v7339 c2_i32_3723
  let c1_i32_3729 : BitVec 32 := 1#32
  let v7393 : BitVec 32 := Scalar.subi v7378 c1_i32_3729
  let v7394 : BitVec 32 := Scalar.select v7392 v7393 v7378
  let c8_i32_3785 : BitVec 32 := 8#32
  let c0_i32_3711 : BitVec 32 := 0#32
  let v7352 : BitVec 1 := Scalar.cmpi .sgt v7339 c0_i32_3711
  let v7353 : BitVec 32 := Scalar.extui v7352
  let c0_i32_3712 : BitVec 32 := 0#32
  let v7354 : BitVec 1 := Scalar.cmpi .slt v7339 c0_i32_3712
  let v7355 : BitVec 32 := Scalar.extui v7354
  let v7356 : BitVec 32 := Scalar.subi v7353 v7355
  let c1_i32_3710 : BitVec 32 := 1#32
  let c0_i32_3713 : BitVec 32 := 0#32
  let v7357 : BitVec 1 := Scalar.cmpi .sgt c1_i32_3710 c0_i32_3713
  let v7358 : BitVec 32 := Scalar.extui v7357
  let c0_i32_3714 : BitVec 32 := 0#32
  let v7359 : BitVec 1 := Scalar.cmpi .slt c1_i32_3710 c0_i32_3714
  let v7360 : BitVec 32 := Scalar.extui v7359
  let v7361 : BitVec 32 := Scalar.subi v7358 v7360
  let v7362 : BitVec 1 := Scalar.cmpi .ne v7356 v7361
  let v7363 : BitVec 32 := Scalar.remsi v7339 c1_i32_3710
  let c0_i32_3715 : BitVec 32 := 0#32
  let v7364 : BitVec 1 := Scalar.cmpi .ne v7363 c0_i32_3715
  let v7365 : BitVec 1 := Scalar.andi v7362 v7364
  let v7351 : BitVec 32 := Scalar.divsi v7339 c1_i32_3710
  let c1_i32_3716 : BitVec 32 := 1#32
  let v7366 : BitVec 32 := Scalar.subi v7351 c1_i32_3716
  let v7367 : BitVec 32 := Scalar.select v7365 v7366 v7351
  let c2_i32_3717 : BitVec 32 := 2#32
  let c0_i32_3718 : BitVec 32 := 0#32
  let v7368 : BitVec 1 := Scalar.cmpi .eq c2_i32_3717 c0_i32_3718
  let c1_i32_3719 : BitVec 32 := 1#32
  let v7369 : BitVec 32 := Scalar.select v7368 c1_i32_3719 c2_i32_3717
  let v7370 : BitVec 32 := Scalar.remsi v7367 v7369
  let c0_i32_3721 : BitVec 32 := 0#32
  let v7372 : BitVec 1 := Scalar.cmpi .slt v7370 c0_i32_3721
  let c0_i32_3722 : BitVec 32 := 0#32
  let v7373 : BitVec 1 := Scalar.cmpi .slt v7369 c0_i32_3722
  let v7374 : BitVec 1 := Scalar.xori v7372 v7373
  let c0_i32_3720 : BitVec 32 := 0#32
  let v7371 : BitVec 1 := Scalar.cmpi .ne v7370 c0_i32_3720
  let v7375 : BitVec 1 := Scalar.andi v7374 v7371
  let v7376 : BitVec 32 := Scalar.addi v7370 v7369
  let v7377 : BitVec 32 := Scalar.select v7375 v7376 v7370
  let v7531 : BitVec 32 := Scalar.muli c8_i32_3785 v7377
  let v7532 : BitVec 32 := Scalar.addi v7394 v7531
  let c128_i32_3786 : BitVec 32 := 128#32
  let v7533 : BitVec 32 := Scalar.muli v7532 c128_i32_3786
  let c1_i32_3703 : BitVec 32 := 1#32
  let c0_i32_3704 : BitVec 32 := 0#32
  let v7340 : BitVec 1 := Scalar.cmpi .eq c1_i32_3703 c0_i32_3704
  let c1_i32_3705 : BitVec 32 := 1#32
  let v7341 : BitVec 32 := Scalar.select v7340 c1_i32_3705 c1_i32_3703
  let v7342 : BitVec 32 := Scalar.remsi v7339 v7341
  let c0_i32_3707 : BitVec 32 := 0#32
  let v7344 : BitVec 1 := Scalar.cmpi .slt v7342 c0_i32_3707
  let c0_i32_3708 : BitVec 32 := 0#32
  let v7345 : BitVec 1 := Scalar.cmpi .slt v7341 c0_i32_3708
  let v7346 : BitVec 1 := Scalar.xori v7344 v7345
  let c0_i32_3706 : BitVec 32 := 0#32
  let v7343 : BitVec 1 := Scalar.cmpi .ne v7342 c0_i32_3706
  let v7347 : BitVec 1 := Scalar.andi v7346 v7343
  let v7348 : BitVec 32 := Scalar.addi v7342 v7341
  let v7349 : BitVec 32 := Scalar.select v7347 v7348 v7342
  let c128_i32_3709 : BitVec 32 := 128#32
  let v7350 : BitVec 32 := Scalar.muli v7349 c128_i32_3709
  let v7534 : BitVec 32 := Scalar.addi v7533 v7350
  let c0_i32_3793 : BitVec 32 := 0#32
  let v7549 : BitVec 1 := Scalar.cmpi .sgt v7534 c0_i32_3793
  let v7550 : BitVec 32 := Scalar.extui v7549
  let c0_i32_3794 : BitVec 32 := 0#32
  let v7551 : BitVec 1 := Scalar.cmpi .slt v7534 c0_i32_3794
  let v7552 : BitVec 32 := Scalar.extui v7551
  let v7553 : BitVec 32 := Scalar.subi v7550 v7552
  let c2_i32_3792 : BitVec 32 := 2#32
  let c0_i32_3795 : BitVec 32 := 0#32
  let v7554 : BitVec 1 := Scalar.cmpi .sgt c2_i32_3792 c0_i32_3795
  let v7555 : BitVec 32 := Scalar.extui v7554
  let c0_i32_3796 : BitVec 32 := 0#32
  let v7556 : BitVec 1 := Scalar.cmpi .slt c2_i32_3792 c0_i32_3796
  let v7557 : BitVec 32 := Scalar.extui v7556
  let v7558 : BitVec 32 := Scalar.subi v7555 v7557
  let v7559 : BitVec 1 := Scalar.cmpi .ne v7553 v7558
  let v7560 : BitVec 32 := Scalar.remsi v7534 c2_i32_3792
  let c0_i32_3797 : BitVec 32 := 0#32
  let v7561 : BitVec 1 := Scalar.cmpi .ne v7560 c0_i32_3797
  let v7562 : BitVec 1 := Scalar.andi v7559 v7561
  let v7548 : BitVec 32 := Scalar.divsi v7534 c2_i32_3792
  let c1_i32_3798 : BitVec 32 := 1#32
  let v7563 : BitVec 32 := Scalar.subi v7548 c1_i32_3798
  let v7564 : BitVec 32 := Scalar.select v7562 v7563 v7548
  let v7565 : BitVec 32 := v7564
  let v7566 : Index := Scalar.indexCast v7565
  let c0_3800 : Index := 0#32
  ![2, v7566.toNat, 0]
def k0_mult326 : BitVec 32 :=
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let c0_i32_3702 : BitVec 32 := 0#32
  let v7339 : BitVec 32 := Scalar.addi v7338 c0_i32_3702
  let c0_i32_3724 : BitVec 32 := 0#32
  let v7379 : BitVec 1 := Scalar.cmpi .sgt v7339 c0_i32_3724
  let v7380 : BitVec 32 := Scalar.extui v7379
  let c0_i32_3725 : BitVec 32 := 0#32
  let v7381 : BitVec 1 := Scalar.cmpi .slt v7339 c0_i32_3725
  let v7382 : BitVec 32 := Scalar.extui v7381
  let v7383 : BitVec 32 := Scalar.subi v7380 v7382
  let c2_i32_3723 : BitVec 32 := 2#32
  let c0_i32_3726 : BitVec 32 := 0#32
  let v7384 : BitVec 1 := Scalar.cmpi .sgt c2_i32_3723 c0_i32_3726
  let v7385 : BitVec 32 := Scalar.extui v7384
  let c0_i32_3727 : BitVec 32 := 0#32
  let v7386 : BitVec 1 := Scalar.cmpi .slt c2_i32_3723 c0_i32_3727
  let v7387 : BitVec 32 := Scalar.extui v7386
  let v7388 : BitVec 32 := Scalar.subi v7385 v7387
  let v7389 : BitVec 1 := Scalar.cmpi .ne v7383 v7388
  let v7390 : BitVec 32 := Scalar.remsi v7339 c2_i32_3723
  let c0_i32_3728 : BitVec 32 := 0#32
  let v7391 : BitVec 1 := Scalar.cmpi .ne v7390 c0_i32_3728
  let v7392 : BitVec 1 := Scalar.andi v7389 v7391
  let v7378 : BitVec 32 := Scalar.divsi v7339 c2_i32_3723
  let c1_i32_3729 : BitVec 32 := 1#32
  let v7393 : BitVec 32 := Scalar.subi v7378 c1_i32_3729
  let v7394 : BitVec 32 := Scalar.select v7392 v7393 v7378
  let c8_i32_3787 : BitVec 32 := 8#32
  let c0_i32_3711 : BitVec 32 := 0#32
  let v7352 : BitVec 1 := Scalar.cmpi .sgt v7339 c0_i32_3711
  let v7353 : BitVec 32 := Scalar.extui v7352
  let c0_i32_3712 : BitVec 32 := 0#32
  let v7354 : BitVec 1 := Scalar.cmpi .slt v7339 c0_i32_3712
  let v7355 : BitVec 32 := Scalar.extui v7354
  let v7356 : BitVec 32 := Scalar.subi v7353 v7355
  let c1_i32_3710 : BitVec 32 := 1#32
  let c0_i32_3713 : BitVec 32 := 0#32
  let v7357 : BitVec 1 := Scalar.cmpi .sgt c1_i32_3710 c0_i32_3713
  let v7358 : BitVec 32 := Scalar.extui v7357
  let c0_i32_3714 : BitVec 32 := 0#32
  let v7359 : BitVec 1 := Scalar.cmpi .slt c1_i32_3710 c0_i32_3714
  let v7360 : BitVec 32 := Scalar.extui v7359
  let v7361 : BitVec 32 := Scalar.subi v7358 v7360
  let v7362 : BitVec 1 := Scalar.cmpi .ne v7356 v7361
  let v7363 : BitVec 32 := Scalar.remsi v7339 c1_i32_3710
  let c0_i32_3715 : BitVec 32 := 0#32
  let v7364 : BitVec 1 := Scalar.cmpi .ne v7363 c0_i32_3715
  let v7365 : BitVec 1 := Scalar.andi v7362 v7364
  let v7351 : BitVec 32 := Scalar.divsi v7339 c1_i32_3710
  let c1_i32_3716 : BitVec 32 := 1#32
  let v7366 : BitVec 32 := Scalar.subi v7351 c1_i32_3716
  let v7367 : BitVec 32 := Scalar.select v7365 v7366 v7351
  let c2_i32_3717 : BitVec 32 := 2#32
  let c0_i32_3718 : BitVec 32 := 0#32
  let v7368 : BitVec 1 := Scalar.cmpi .eq c2_i32_3717 c0_i32_3718
  let c1_i32_3719 : BitVec 32 := 1#32
  let v7369 : BitVec 32 := Scalar.select v7368 c1_i32_3719 c2_i32_3717
  let v7370 : BitVec 32 := Scalar.remsi v7367 v7369
  let c0_i32_3721 : BitVec 32 := 0#32
  let v7372 : BitVec 1 := Scalar.cmpi .slt v7370 c0_i32_3721
  let c0_i32_3722 : BitVec 32 := 0#32
  let v7373 : BitVec 1 := Scalar.cmpi .slt v7369 c0_i32_3722
  let v7374 : BitVec 1 := Scalar.xori v7372 v7373
  let c0_i32_3720 : BitVec 32 := 0#32
  let v7371 : BitVec 1 := Scalar.cmpi .ne v7370 c0_i32_3720
  let v7375 : BitVec 1 := Scalar.andi v7374 v7371
  let v7376 : BitVec 32 := Scalar.addi v7370 v7369
  let v7377 : BitVec 32 := Scalar.select v7375 v7376 v7370
  let v7535 : BitVec 32 := Scalar.muli c8_i32_3787 v7377
  let v7536 : BitVec 32 := Scalar.addi v7394 v7535
  let c4_i32_3788 : BitVec 32 := 4#32
  let v7537 : BitVec 32 := Scalar.addi v7536 c4_i32_3788
  let c128_i32_3789 : BitVec 32 := 128#32
  let v7538 : BitVec 32 := Scalar.muli v7537 c128_i32_3789
  let c1_i32_3703 : BitVec 32 := 1#32
  let c0_i32_3704 : BitVec 32 := 0#32
  let v7340 : BitVec 1 := Scalar.cmpi .eq c1_i32_3703 c0_i32_3704
  let c1_i32_3705 : BitVec 32 := 1#32
  let v7341 : BitVec 32 := Scalar.select v7340 c1_i32_3705 c1_i32_3703
  let v7342 : BitVec 32 := Scalar.remsi v7339 v7341
  let c0_i32_3707 : BitVec 32 := 0#32
  let v7344 : BitVec 1 := Scalar.cmpi .slt v7342 c0_i32_3707
  let c0_i32_3708 : BitVec 32 := 0#32
  let v7345 : BitVec 1 := Scalar.cmpi .slt v7341 c0_i32_3708
  let v7346 : BitVec 1 := Scalar.xori v7344 v7345
  let c0_i32_3706 : BitVec 32 := 0#32
  let v7343 : BitVec 1 := Scalar.cmpi .ne v7342 c0_i32_3706
  let v7347 : BitVec 1 := Scalar.andi v7346 v7343
  let v7348 : BitVec 32 := Scalar.addi v7342 v7341
  let v7349 : BitVec 32 := Scalar.select v7347 v7348 v7342
  let c128_i32_3709 : BitVec 32 := 128#32
  let v7350 : BitVec 32 := Scalar.muli v7349 c128_i32_3709
  let v7539 : BitVec 32 := Scalar.addi v7538 v7350
  let c0_i32_3802 : BitVec 32 := 0#32
  let v7572 : BitVec 1 := Scalar.cmpi .sgt v7539 c0_i32_3802
  let v7573 : BitVec 32 := Scalar.extui v7572
  let c0_i32_3803 : BitVec 32 := 0#32
  let v7574 : BitVec 1 := Scalar.cmpi .slt v7539 c0_i32_3803
  let v7575 : BitVec 32 := Scalar.extui v7574
  let v7576 : BitVec 32 := Scalar.subi v7573 v7575
  let c2_i32_3801 : BitVec 32 := 2#32
  let c0_i32_3804 : BitVec 32 := 0#32
  let v7577 : BitVec 1 := Scalar.cmpi .sgt c2_i32_3801 c0_i32_3804
  let v7578 : BitVec 32 := Scalar.extui v7577
  let c0_i32_3805 : BitVec 32 := 0#32
  let v7579 : BitVec 1 := Scalar.cmpi .slt c2_i32_3801 c0_i32_3805
  let v7580 : BitVec 32 := Scalar.extui v7579
  let v7581 : BitVec 32 := Scalar.subi v7578 v7580
  let v7582 : BitVec 1 := Scalar.cmpi .ne v7576 v7581
  let v7583 : BitVec 32 := Scalar.remsi v7539 c2_i32_3801
  let c0_i32_3806 : BitVec 32 := 0#32
  let v7584 : BitVec 1 := Scalar.cmpi .ne v7583 c0_i32_3806
  let v7585 : BitVec 1 := Scalar.andi v7582 v7584
  let v7571 : BitVec 32 := Scalar.divsi v7539 c2_i32_3801
  let c1_i32_3807 : BitVec 32 := 1#32
  let v7586 : BitVec 32 := Scalar.subi v7571 c1_i32_3807
  let v7587 : BitVec 32 := Scalar.select v7585 v7586 v7571
  v7587
def k0_off41 (c0_i32_3702 : BitVec 32) : Fin 3 → Nat :=
  let c2_3808 : Index := 2#32
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let v7339 : BitVec 32 := Scalar.addi v7338 c0_i32_3702
  let c0_i32_3724 : BitVec 32 := 0#32
  let v7379 : BitVec 1 := Scalar.cmpi .sgt v7339 c0_i32_3724
  let v7380 : BitVec 32 := Scalar.extui v7379
  let c0_i32_3725 : BitVec 32 := 0#32
  let v7381 : BitVec 1 := Scalar.cmpi .slt v7339 c0_i32_3725
  let v7382 : BitVec 32 := Scalar.extui v7381
  let v7383 : BitVec 32 := Scalar.subi v7380 v7382
  let c2_i32_3723 : BitVec 32 := 2#32
  let c0_i32_3726 : BitVec 32 := 0#32
  let v7384 : BitVec 1 := Scalar.cmpi .sgt c2_i32_3723 c0_i32_3726
  let v7385 : BitVec 32 := Scalar.extui v7384
  let c0_i32_3727 : BitVec 32 := 0#32
  let v7386 : BitVec 1 := Scalar.cmpi .slt c2_i32_3723 c0_i32_3727
  let v7387 : BitVec 32 := Scalar.extui v7386
  let v7388 : BitVec 32 := Scalar.subi v7385 v7387
  let v7389 : BitVec 1 := Scalar.cmpi .ne v7383 v7388
  let v7390 : BitVec 32 := Scalar.remsi v7339 c2_i32_3723
  let c0_i32_3728 : BitVec 32 := 0#32
  let v7391 : BitVec 1 := Scalar.cmpi .ne v7390 c0_i32_3728
  let v7392 : BitVec 1 := Scalar.andi v7389 v7391
  let v7378 : BitVec 32 := Scalar.divsi v7339 c2_i32_3723
  let c1_i32_3729 : BitVec 32 := 1#32
  let v7393 : BitVec 32 := Scalar.subi v7378 c1_i32_3729
  let v7394 : BitVec 32 := Scalar.select v7392 v7393 v7378
  let c8_i32_3787 : BitVec 32 := 8#32
  let c0_i32_3711 : BitVec 32 := 0#32
  let v7352 : BitVec 1 := Scalar.cmpi .sgt v7339 c0_i32_3711
  let v7353 : BitVec 32 := Scalar.extui v7352
  let c0_i32_3712 : BitVec 32 := 0#32
  let v7354 : BitVec 1 := Scalar.cmpi .slt v7339 c0_i32_3712
  let v7355 : BitVec 32 := Scalar.extui v7354
  let v7356 : BitVec 32 := Scalar.subi v7353 v7355
  let c1_i32_3710 : BitVec 32 := 1#32
  let c0_i32_3713 : BitVec 32 := 0#32
  let v7357 : BitVec 1 := Scalar.cmpi .sgt c1_i32_3710 c0_i32_3713
  let v7358 : BitVec 32 := Scalar.extui v7357
  let c0_i32_3714 : BitVec 32 := 0#32
  let v7359 : BitVec 1 := Scalar.cmpi .slt c1_i32_3710 c0_i32_3714
  let v7360 : BitVec 32 := Scalar.extui v7359
  let v7361 : BitVec 32 := Scalar.subi v7358 v7360
  let v7362 : BitVec 1 := Scalar.cmpi .ne v7356 v7361
  let v7363 : BitVec 32 := Scalar.remsi v7339 c1_i32_3710
  let c0_i32_3715 : BitVec 32 := 0#32
  let v7364 : BitVec 1 := Scalar.cmpi .ne v7363 c0_i32_3715
  let v7365 : BitVec 1 := Scalar.andi v7362 v7364
  let v7351 : BitVec 32 := Scalar.divsi v7339 c1_i32_3710
  let c1_i32_3716 : BitVec 32 := 1#32
  let v7366 : BitVec 32 := Scalar.subi v7351 c1_i32_3716
  let v7367 : BitVec 32 := Scalar.select v7365 v7366 v7351
  let c2_i32_3717 : BitVec 32 := 2#32
  let c0_i32_3718 : BitVec 32 := 0#32
  let v7368 : BitVec 1 := Scalar.cmpi .eq c2_i32_3717 c0_i32_3718
  let c1_i32_3719 : BitVec 32 := 1#32
  let v7369 : BitVec 32 := Scalar.select v7368 c1_i32_3719 c2_i32_3717
  let v7370 : BitVec 32 := Scalar.remsi v7367 v7369
  let c0_i32_3721 : BitVec 32 := 0#32
  let v7372 : BitVec 1 := Scalar.cmpi .slt v7370 c0_i32_3721
  let c0_i32_3722 : BitVec 32 := 0#32
  let v7373 : BitVec 1 := Scalar.cmpi .slt v7369 c0_i32_3722
  let v7374 : BitVec 1 := Scalar.xori v7372 v7373
  let c0_i32_3720 : BitVec 32 := 0#32
  let v7371 : BitVec 1 := Scalar.cmpi .ne v7370 c0_i32_3720
  let v7375 : BitVec 1 := Scalar.andi v7374 v7371
  let v7376 : BitVec 32 := Scalar.addi v7370 v7369
  let v7377 : BitVec 32 := Scalar.select v7375 v7376 v7370
  let v7535 : BitVec 32 := Scalar.muli c8_i32_3787 v7377
  let v7536 : BitVec 32 := Scalar.addi v7394 v7535
  let c4_i32_3788 : BitVec 32 := 4#32
  let v7537 : BitVec 32 := Scalar.addi v7536 c4_i32_3788
  let c128_i32_3789 : BitVec 32 := 128#32
  let v7538 : BitVec 32 := Scalar.muli v7537 c128_i32_3789
  let c1_i32_3703 : BitVec 32 := 1#32
  let c0_i32_3704 : BitVec 32 := 0#32
  let v7340 : BitVec 1 := Scalar.cmpi .eq c1_i32_3703 c0_i32_3704
  let c1_i32_3705 : BitVec 32 := 1#32
  let v7341 : BitVec 32 := Scalar.select v7340 c1_i32_3705 c1_i32_3703
  let v7342 : BitVec 32 := Scalar.remsi v7339 v7341
  let c0_i32_3707 : BitVec 32 := 0#32
  let v7344 : BitVec 1 := Scalar.cmpi .slt v7342 c0_i32_3707
  let c0_i32_3708 : BitVec 32 := 0#32
  let v7345 : BitVec 1 := Scalar.cmpi .slt v7341 c0_i32_3708
  let v7346 : BitVec 1 := Scalar.xori v7344 v7345
  let c0_i32_3706 : BitVec 32 := 0#32
  let v7343 : BitVec 1 := Scalar.cmpi .ne v7342 c0_i32_3706
  let v7347 : BitVec 1 := Scalar.andi v7346 v7343
  let v7348 : BitVec 32 := Scalar.addi v7342 v7341
  let v7349 : BitVec 32 := Scalar.select v7347 v7348 v7342
  let c128_i32_3709 : BitVec 32 := 128#32
  let v7350 : BitVec 32 := Scalar.muli v7349 c128_i32_3709
  let v7539 : BitVec 32 := Scalar.addi v7538 v7350
  let c0_i32_3802 : BitVec 32 := 0#32
  let v7572 : BitVec 1 := Scalar.cmpi .sgt v7539 c0_i32_3802
  let v7573 : BitVec 32 := Scalar.extui v7572
  let c0_i32_3803 : BitVec 32 := 0#32
  let v7574 : BitVec 1 := Scalar.cmpi .slt v7539 c0_i32_3803
  let v7575 : BitVec 32 := Scalar.extui v7574
  let v7576 : BitVec 32 := Scalar.subi v7573 v7575
  let c2_i32_3801 : BitVec 32 := 2#32
  let c0_i32_3804 : BitVec 32 := 0#32
  let v7577 : BitVec 1 := Scalar.cmpi .sgt c2_i32_3801 c0_i32_3804
  let v7578 : BitVec 32 := Scalar.extui v7577
  let c0_i32_3805 : BitVec 32 := 0#32
  let v7579 : BitVec 1 := Scalar.cmpi .slt c2_i32_3801 c0_i32_3805
  let v7580 : BitVec 32 := Scalar.extui v7579
  let v7581 : BitVec 32 := Scalar.subi v7578 v7580
  let v7582 : BitVec 1 := Scalar.cmpi .ne v7576 v7581
  let v7583 : BitVec 32 := Scalar.remsi v7539 c2_i32_3801
  let c0_i32_3806 : BitVec 32 := 0#32
  let v7584 : BitVec 1 := Scalar.cmpi .ne v7583 c0_i32_3806
  let v7585 : BitVec 1 := Scalar.andi v7582 v7584
  let v7571 : BitVec 32 := Scalar.divsi v7539 c2_i32_3801
  let c1_i32_3807 : BitVec 32 := 1#32
  let v7586 : BitVec 32 := Scalar.subi v7571 c1_i32_3807
  let v7587 : BitVec 32 := Scalar.select v7585 v7586 v7571
  let v7588 : BitVec 32 := v7587
  let v7589 : Index := Scalar.indexCast v7588
  let c0_3809 : Index := 0#32
  ![2, v7589.toNat, 0]
def k0_off42 (c0_i32_3702 : BitVec 32) : Fin 3 → Nat :=
  let c3_3817 : Index := 3#32
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let v7339 : BitVec 32 := Scalar.addi v7338 c0_i32_3702
  let c0_i32_3724 : BitVec 32 := 0#32
  let v7379 : BitVec 1 := Scalar.cmpi .sgt v7339 c0_i32_3724
  let v7380 : BitVec 32 := Scalar.extui v7379
  let c0_i32_3725 : BitVec 32 := 0#32
  let v7381 : BitVec 1 := Scalar.cmpi .slt v7339 c0_i32_3725
  let v7382 : BitVec 32 := Scalar.extui v7381
  let v7383 : BitVec 32 := Scalar.subi v7380 v7382
  let c2_i32_3723 : BitVec 32 := 2#32
  let c0_i32_3726 : BitVec 32 := 0#32
  let v7384 : BitVec 1 := Scalar.cmpi .sgt c2_i32_3723 c0_i32_3726
  let v7385 : BitVec 32 := Scalar.extui v7384
  let c0_i32_3727 : BitVec 32 := 0#32
  let v7386 : BitVec 1 := Scalar.cmpi .slt c2_i32_3723 c0_i32_3727
  let v7387 : BitVec 32 := Scalar.extui v7386
  let v7388 : BitVec 32 := Scalar.subi v7385 v7387
  let v7389 : BitVec 1 := Scalar.cmpi .ne v7383 v7388
  let v7390 : BitVec 32 := Scalar.remsi v7339 c2_i32_3723
  let c0_i32_3728 : BitVec 32 := 0#32
  let v7391 : BitVec 1 := Scalar.cmpi .ne v7390 c0_i32_3728
  let v7392 : BitVec 1 := Scalar.andi v7389 v7391
  let v7378 : BitVec 32 := Scalar.divsi v7339 c2_i32_3723
  let c1_i32_3729 : BitVec 32 := 1#32
  let v7393 : BitVec 32 := Scalar.subi v7378 c1_i32_3729
  let v7394 : BitVec 32 := Scalar.select v7392 v7393 v7378
  let c256_i32_3810 : BitVec 32 := 256#32
  let v7593 : BitVec 32 := Scalar.muli v7394 c256_i32_3810
  let c0_i32_3711 : BitVec 32 := 0#32
  let v7352 : BitVec 1 := Scalar.cmpi .sgt v7339 c0_i32_3711
  let v7353 : BitVec 32 := Scalar.extui v7352
  let c0_i32_3712 : BitVec 32 := 0#32
  let v7354 : BitVec 1 := Scalar.cmpi .slt v7339 c0_i32_3712
  let v7355 : BitVec 32 := Scalar.extui v7354
  let v7356 : BitVec 32 := Scalar.subi v7353 v7355
  let c1_i32_3710 : BitVec 32 := 1#32
  let c0_i32_3713 : BitVec 32 := 0#32
  let v7357 : BitVec 1 := Scalar.cmpi .sgt c1_i32_3710 c0_i32_3713
  let v7358 : BitVec 32 := Scalar.extui v7357
  let c0_i32_3714 : BitVec 32 := 0#32
  let v7359 : BitVec 1 := Scalar.cmpi .slt c1_i32_3710 c0_i32_3714
  let v7360 : BitVec 32 := Scalar.extui v7359
  let v7361 : BitVec 32 := Scalar.subi v7358 v7360
  let v7362 : BitVec 1 := Scalar.cmpi .ne v7356 v7361
  let v7363 : BitVec 32 := Scalar.remsi v7339 c1_i32_3710
  let c0_i32_3715 : BitVec 32 := 0#32
  let v7364 : BitVec 1 := Scalar.cmpi .ne v7363 c0_i32_3715
  let v7365 : BitVec 1 := Scalar.andi v7362 v7364
  let v7351 : BitVec 32 := Scalar.divsi v7339 c1_i32_3710
  let c1_i32_3716 : BitVec 32 := 1#32
  let v7366 : BitVec 32 := Scalar.subi v7351 c1_i32_3716
  let v7367 : BitVec 32 := Scalar.select v7365 v7366 v7351
  let c2_i32_3717 : BitVec 32 := 2#32
  let c0_i32_3718 : BitVec 32 := 0#32
  let v7368 : BitVec 1 := Scalar.cmpi .eq c2_i32_3717 c0_i32_3718
  let c1_i32_3719 : BitVec 32 := 1#32
  let v7369 : BitVec 32 := Scalar.select v7368 c1_i32_3719 c2_i32_3717
  let v7370 : BitVec 32 := Scalar.remsi v7367 v7369
  let c0_i32_3721 : BitVec 32 := 0#32
  let v7372 : BitVec 1 := Scalar.cmpi .slt v7370 c0_i32_3721
  let c0_i32_3722 : BitVec 32 := 0#32
  let v7373 : BitVec 1 := Scalar.cmpi .slt v7369 c0_i32_3722
  let v7374 : BitVec 1 := Scalar.xori v7372 v7373
  let c0_i32_3720 : BitVec 32 := 0#32
  let v7371 : BitVec 1 := Scalar.cmpi .ne v7370 c0_i32_3720
  let v7375 : BitVec 1 := Scalar.andi v7374 v7371
  let v7376 : BitVec 32 := Scalar.addi v7370 v7369
  let v7377 : BitVec 32 := Scalar.select v7375 v7376 v7370
  let v7594 : BitVec 32 := Scalar.addi v7593 v7377
  let c2_i32_3811 : BitVec 32 := 2#32
  let c1_i32_3703 : BitVec 32 := 1#32
  let c0_i32_3704 : BitVec 32 := 0#32
  let v7340 : BitVec 1 := Scalar.cmpi .eq c1_i32_3703 c0_i32_3704
  let c1_i32_3705 : BitVec 32 := 1#32
  let v7341 : BitVec 32 := Scalar.select v7340 c1_i32_3705 c1_i32_3703
  let v7342 : BitVec 32 := Scalar.remsi v7339 v7341
  let c0_i32_3707 : BitVec 32 := 0#32
  let v7344 : BitVec 1 := Scalar.cmpi .slt v7342 c0_i32_3707
  let c0_i32_3708 : BitVec 32 := 0#32
  let v7345 : BitVec 1 := Scalar.cmpi .slt v7341 c0_i32_3708
  let v7346 : BitVec 1 := Scalar.xori v7344 v7345
  let c0_i32_3706 : BitVec 32 := 0#32
  let v7343 : BitVec 1 := Scalar.cmpi .ne v7342 c0_i32_3706
  let v7347 : BitVec 1 := Scalar.andi v7346 v7343
  let v7348 : BitVec 32 := Scalar.addi v7342 v7341
  let v7349 : BitVec 32 := Scalar.select v7347 v7348 v7342
  let c128_i32_3709 : BitVec 32 := 128#32
  let v7350 : BitVec 32 := Scalar.muli v7349 c128_i32_3709
  let v7595 : BitVec 32 := Scalar.muli c2_i32_3811 v7350
  let v7596 : BitVec 32 := Scalar.addi v7594 v7595
  let v7606 : Index := Scalar.indexCast v7596
  let c0_3818 : Index := 0#32
  ![3, v7606.toNat, 0]
def k0_mult327 : BitVec 32 :=
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let c0_i32_3702 : BitVec 32 := 0#32
  let v7339 : BitVec 32 := Scalar.addi v7338 c0_i32_3702
  let c0_i32_3724 : BitVec 32 := 0#32
  let v7379 : BitVec 1 := Scalar.cmpi .sgt v7339 c0_i32_3724
  let v7380 : BitVec 32 := Scalar.extui v7379
  let c0_i32_3725 : BitVec 32 := 0#32
  let v7381 : BitVec 1 := Scalar.cmpi .slt v7339 c0_i32_3725
  let v7382 : BitVec 32 := Scalar.extui v7381
  let v7383 : BitVec 32 := Scalar.subi v7380 v7382
  let c2_i32_3723 : BitVec 32 := 2#32
  let c0_i32_3726 : BitVec 32 := 0#32
  let v7384 : BitVec 1 := Scalar.cmpi .sgt c2_i32_3723 c0_i32_3726
  let v7385 : BitVec 32 := Scalar.extui v7384
  let c0_i32_3727 : BitVec 32 := 0#32
  let v7386 : BitVec 1 := Scalar.cmpi .slt c2_i32_3723 c0_i32_3727
  let v7387 : BitVec 32 := Scalar.extui v7386
  let v7388 : BitVec 32 := Scalar.subi v7385 v7387
  let v7389 : BitVec 1 := Scalar.cmpi .ne v7383 v7388
  let v7390 : BitVec 32 := Scalar.remsi v7339 c2_i32_3723
  let c0_i32_3728 : BitVec 32 := 0#32
  let v7391 : BitVec 1 := Scalar.cmpi .ne v7390 c0_i32_3728
  let v7392 : BitVec 1 := Scalar.andi v7389 v7391
  let v7378 : BitVec 32 := Scalar.divsi v7339 c2_i32_3723
  let c1_i32_3729 : BitVec 32 := 1#32
  let v7393 : BitVec 32 := Scalar.subi v7378 c1_i32_3729
  let v7394 : BitVec 32 := Scalar.select v7392 v7393 v7378
  let c8_i32_3812 : BitVec 32 := 8#32
  let c0_i32_3711 : BitVec 32 := 0#32
  let v7352 : BitVec 1 := Scalar.cmpi .sgt v7339 c0_i32_3711
  let v7353 : BitVec 32 := Scalar.extui v7352
  let c0_i32_3712 : BitVec 32 := 0#32
  let v7354 : BitVec 1 := Scalar.cmpi .slt v7339 c0_i32_3712
  let v7355 : BitVec 32 := Scalar.extui v7354
  let v7356 : BitVec 32 := Scalar.subi v7353 v7355
  let c1_i32_3710 : BitVec 32 := 1#32
  let c0_i32_3713 : BitVec 32 := 0#32
  let v7357 : BitVec 1 := Scalar.cmpi .sgt c1_i32_3710 c0_i32_3713
  let v7358 : BitVec 32 := Scalar.extui v7357
  let c0_i32_3714 : BitVec 32 := 0#32
  let v7359 : BitVec 1 := Scalar.cmpi .slt c1_i32_3710 c0_i32_3714
  let v7360 : BitVec 32 := Scalar.extui v7359
  let v7361 : BitVec 32 := Scalar.subi v7358 v7360
  let v7362 : BitVec 1 := Scalar.cmpi .ne v7356 v7361
  let v7363 : BitVec 32 := Scalar.remsi v7339 c1_i32_3710
  let c0_i32_3715 : BitVec 32 := 0#32
  let v7364 : BitVec 1 := Scalar.cmpi .ne v7363 c0_i32_3715
  let v7365 : BitVec 1 := Scalar.andi v7362 v7364
  let v7351 : BitVec 32 := Scalar.divsi v7339 c1_i32_3710
  let c1_i32_3716 : BitVec 32 := 1#32
  let v7366 : BitVec 32 := Scalar.subi v7351 c1_i32_3716
  let v7367 : BitVec 32 := Scalar.select v7365 v7366 v7351
  let c2_i32_3717 : BitVec 32 := 2#32
  let c0_i32_3718 : BitVec 32 := 0#32
  let v7368 : BitVec 1 := Scalar.cmpi .eq c2_i32_3717 c0_i32_3718
  let c1_i32_3719 : BitVec 32 := 1#32
  let v7369 : BitVec 32 := Scalar.select v7368 c1_i32_3719 c2_i32_3717
  let v7370 : BitVec 32 := Scalar.remsi v7367 v7369
  let c0_i32_3721 : BitVec 32 := 0#32
  let v7372 : BitVec 1 := Scalar.cmpi .slt v7370 c0_i32_3721
  let c0_i32_3722 : BitVec 32 := 0#32
  let v7373 : BitVec 1 := Scalar.cmpi .slt v7369 c0_i32_3722
  let v7374 : BitVec 1 := Scalar.xori v7372 v7373
  let c0_i32_3720 : BitVec 32 := 0#32
  let v7371 : BitVec 1 := Scalar.cmpi .ne v7370 c0_i32_3720
  let v7375 : BitVec 1 := Scalar.andi v7374 v7371
  let v7376 : BitVec 32 := Scalar.addi v7370 v7369
  let v7377 : BitVec 32 := Scalar.select v7375 v7376 v7370
  let v7597 : BitVec 32 := Scalar.muli c8_i32_3812 v7377
  let v7598 : BitVec 32 := Scalar.addi v7394 v7597
  let c128_i32_3813 : BitVec 32 := 128#32
  let v7599 : BitVec 32 := Scalar.muli v7598 c128_i32_3813
  let c1_i32_3703 : BitVec 32 := 1#32
  let c0_i32_3704 : BitVec 32 := 0#32
  let v7340 : BitVec 1 := Scalar.cmpi .eq c1_i32_3703 c0_i32_3704
  let c1_i32_3705 : BitVec 32 := 1#32
  let v7341 : BitVec 32 := Scalar.select v7340 c1_i32_3705 c1_i32_3703
  let v7342 : BitVec 32 := Scalar.remsi v7339 v7341
  let c0_i32_3707 : BitVec 32 := 0#32
  let v7344 : BitVec 1 := Scalar.cmpi .slt v7342 c0_i32_3707
  let c0_i32_3708 : BitVec 32 := 0#32
  let v7345 : BitVec 1 := Scalar.cmpi .slt v7341 c0_i32_3708
  let v7346 : BitVec 1 := Scalar.xori v7344 v7345
  let c0_i32_3706 : BitVec 32 := 0#32
  let v7343 : BitVec 1 := Scalar.cmpi .ne v7342 c0_i32_3706
  let v7347 : BitVec 1 := Scalar.andi v7346 v7343
  let v7348 : BitVec 32 := Scalar.addi v7342 v7341
  let v7349 : BitVec 32 := Scalar.select v7347 v7348 v7342
  let c128_i32_3709 : BitVec 32 := 128#32
  let v7350 : BitVec 32 := Scalar.muli v7349 c128_i32_3709
  let v7600 : BitVec 32 := Scalar.addi v7599 v7350
  let c0_i32_3820 : BitVec 32 := 0#32
  let v7615 : BitVec 1 := Scalar.cmpi .sgt v7600 c0_i32_3820
  let v7616 : BitVec 32 := Scalar.extui v7615
  let c0_i32_3821 : BitVec 32 := 0#32
  let v7617 : BitVec 1 := Scalar.cmpi .slt v7600 c0_i32_3821
  let v7618 : BitVec 32 := Scalar.extui v7617
  let v7619 : BitVec 32 := Scalar.subi v7616 v7618
  let c2_i32_3819 : BitVec 32 := 2#32
  let c0_i32_3822 : BitVec 32 := 0#32
  let v7620 : BitVec 1 := Scalar.cmpi .sgt c2_i32_3819 c0_i32_3822
  let v7621 : BitVec 32 := Scalar.extui v7620
  let c0_i32_3823 : BitVec 32 := 0#32
  let v7622 : BitVec 1 := Scalar.cmpi .slt c2_i32_3819 c0_i32_3823
  let v7623 : BitVec 32 := Scalar.extui v7622
  let v7624 : BitVec 32 := Scalar.subi v7621 v7623
  let v7625 : BitVec 1 := Scalar.cmpi .ne v7619 v7624
  let v7626 : BitVec 32 := Scalar.remsi v7600 c2_i32_3819
  let c0_i32_3824 : BitVec 32 := 0#32
  let v7627 : BitVec 1 := Scalar.cmpi .ne v7626 c0_i32_3824
  let v7628 : BitVec 1 := Scalar.andi v7625 v7627
  let v7614 : BitVec 32 := Scalar.divsi v7600 c2_i32_3819
  let c1_i32_3825 : BitVec 32 := 1#32
  let v7629 : BitVec 32 := Scalar.subi v7614 c1_i32_3825
  let v7630 : BitVec 32 := Scalar.select v7628 v7629 v7614
  v7630
def k0_off43 (c0_i32_3702 : BitVec 32) : Fin 3 → Nat :=
  let c3_3826 : Index := 3#32
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let v7339 : BitVec 32 := Scalar.addi v7338 c0_i32_3702
  let c0_i32_3724 : BitVec 32 := 0#32
  let v7379 : BitVec 1 := Scalar.cmpi .sgt v7339 c0_i32_3724
  let v7380 : BitVec 32 := Scalar.extui v7379
  let c0_i32_3725 : BitVec 32 := 0#32
  let v7381 : BitVec 1 := Scalar.cmpi .slt v7339 c0_i32_3725
  let v7382 : BitVec 32 := Scalar.extui v7381
  let v7383 : BitVec 32 := Scalar.subi v7380 v7382
  let c2_i32_3723 : BitVec 32 := 2#32
  let c0_i32_3726 : BitVec 32 := 0#32
  let v7384 : BitVec 1 := Scalar.cmpi .sgt c2_i32_3723 c0_i32_3726
  let v7385 : BitVec 32 := Scalar.extui v7384
  let c0_i32_3727 : BitVec 32 := 0#32
  let v7386 : BitVec 1 := Scalar.cmpi .slt c2_i32_3723 c0_i32_3727
  let v7387 : BitVec 32 := Scalar.extui v7386
  let v7388 : BitVec 32 := Scalar.subi v7385 v7387
  let v7389 : BitVec 1 := Scalar.cmpi .ne v7383 v7388
  let v7390 : BitVec 32 := Scalar.remsi v7339 c2_i32_3723
  let c0_i32_3728 : BitVec 32 := 0#32
  let v7391 : BitVec 1 := Scalar.cmpi .ne v7390 c0_i32_3728
  let v7392 : BitVec 1 := Scalar.andi v7389 v7391
  let v7378 : BitVec 32 := Scalar.divsi v7339 c2_i32_3723
  let c1_i32_3729 : BitVec 32 := 1#32
  let v7393 : BitVec 32 := Scalar.subi v7378 c1_i32_3729
  let v7394 : BitVec 32 := Scalar.select v7392 v7393 v7378
  let c8_i32_3812 : BitVec 32 := 8#32
  let c0_i32_3711 : BitVec 32 := 0#32
  let v7352 : BitVec 1 := Scalar.cmpi .sgt v7339 c0_i32_3711
  let v7353 : BitVec 32 := Scalar.extui v7352
  let c0_i32_3712 : BitVec 32 := 0#32
  let v7354 : BitVec 1 := Scalar.cmpi .slt v7339 c0_i32_3712
  let v7355 : BitVec 32 := Scalar.extui v7354
  let v7356 : BitVec 32 := Scalar.subi v7353 v7355
  let c1_i32_3710 : BitVec 32 := 1#32
  let c0_i32_3713 : BitVec 32 := 0#32
  let v7357 : BitVec 1 := Scalar.cmpi .sgt c1_i32_3710 c0_i32_3713
  let v7358 : BitVec 32 := Scalar.extui v7357
  let c0_i32_3714 : BitVec 32 := 0#32
  let v7359 : BitVec 1 := Scalar.cmpi .slt c1_i32_3710 c0_i32_3714
  let v7360 : BitVec 32 := Scalar.extui v7359
  let v7361 : BitVec 32 := Scalar.subi v7358 v7360
  let v7362 : BitVec 1 := Scalar.cmpi .ne v7356 v7361
  let v7363 : BitVec 32 := Scalar.remsi v7339 c1_i32_3710
  let c0_i32_3715 : BitVec 32 := 0#32
  let v7364 : BitVec 1 := Scalar.cmpi .ne v7363 c0_i32_3715
  let v7365 : BitVec 1 := Scalar.andi v7362 v7364
  let v7351 : BitVec 32 := Scalar.divsi v7339 c1_i32_3710
  let c1_i32_3716 : BitVec 32 := 1#32
  let v7366 : BitVec 32 := Scalar.subi v7351 c1_i32_3716
  let v7367 : BitVec 32 := Scalar.select v7365 v7366 v7351
  let c2_i32_3717 : BitVec 32 := 2#32
  let c0_i32_3718 : BitVec 32 := 0#32
  let v7368 : BitVec 1 := Scalar.cmpi .eq c2_i32_3717 c0_i32_3718
  let c1_i32_3719 : BitVec 32 := 1#32
  let v7369 : BitVec 32 := Scalar.select v7368 c1_i32_3719 c2_i32_3717
  let v7370 : BitVec 32 := Scalar.remsi v7367 v7369
  let c0_i32_3721 : BitVec 32 := 0#32
  let v7372 : BitVec 1 := Scalar.cmpi .slt v7370 c0_i32_3721
  let c0_i32_3722 : BitVec 32 := 0#32
  let v7373 : BitVec 1 := Scalar.cmpi .slt v7369 c0_i32_3722
  let v7374 : BitVec 1 := Scalar.xori v7372 v7373
  let c0_i32_3720 : BitVec 32 := 0#32
  let v7371 : BitVec 1 := Scalar.cmpi .ne v7370 c0_i32_3720
  let v7375 : BitVec 1 := Scalar.andi v7374 v7371
  let v7376 : BitVec 32 := Scalar.addi v7370 v7369
  let v7377 : BitVec 32 := Scalar.select v7375 v7376 v7370
  let v7597 : BitVec 32 := Scalar.muli c8_i32_3812 v7377
  let v7598 : BitVec 32 := Scalar.addi v7394 v7597
  let c128_i32_3813 : BitVec 32 := 128#32
  let v7599 : BitVec 32 := Scalar.muli v7598 c128_i32_3813
  let c1_i32_3703 : BitVec 32 := 1#32
  let c0_i32_3704 : BitVec 32 := 0#32
  let v7340 : BitVec 1 := Scalar.cmpi .eq c1_i32_3703 c0_i32_3704
  let c1_i32_3705 : BitVec 32 := 1#32
  let v7341 : BitVec 32 := Scalar.select v7340 c1_i32_3705 c1_i32_3703
  let v7342 : BitVec 32 := Scalar.remsi v7339 v7341
  let c0_i32_3707 : BitVec 32 := 0#32
  let v7344 : BitVec 1 := Scalar.cmpi .slt v7342 c0_i32_3707
  let c0_i32_3708 : BitVec 32 := 0#32
  let v7345 : BitVec 1 := Scalar.cmpi .slt v7341 c0_i32_3708
  let v7346 : BitVec 1 := Scalar.xori v7344 v7345
  let c0_i32_3706 : BitVec 32 := 0#32
  let v7343 : BitVec 1 := Scalar.cmpi .ne v7342 c0_i32_3706
  let v7347 : BitVec 1 := Scalar.andi v7346 v7343
  let v7348 : BitVec 32 := Scalar.addi v7342 v7341
  let v7349 : BitVec 32 := Scalar.select v7347 v7348 v7342
  let c128_i32_3709 : BitVec 32 := 128#32
  let v7350 : BitVec 32 := Scalar.muli v7349 c128_i32_3709
  let v7600 : BitVec 32 := Scalar.addi v7599 v7350
  let c0_i32_3820 : BitVec 32 := 0#32
  let v7615 : BitVec 1 := Scalar.cmpi .sgt v7600 c0_i32_3820
  let v7616 : BitVec 32 := Scalar.extui v7615
  let c0_i32_3821 : BitVec 32 := 0#32
  let v7617 : BitVec 1 := Scalar.cmpi .slt v7600 c0_i32_3821
  let v7618 : BitVec 32 := Scalar.extui v7617
  let v7619 : BitVec 32 := Scalar.subi v7616 v7618
  let c2_i32_3819 : BitVec 32 := 2#32
  let c0_i32_3822 : BitVec 32 := 0#32
  let v7620 : BitVec 1 := Scalar.cmpi .sgt c2_i32_3819 c0_i32_3822
  let v7621 : BitVec 32 := Scalar.extui v7620
  let c0_i32_3823 : BitVec 32 := 0#32
  let v7622 : BitVec 1 := Scalar.cmpi .slt c2_i32_3819 c0_i32_3823
  let v7623 : BitVec 32 := Scalar.extui v7622
  let v7624 : BitVec 32 := Scalar.subi v7621 v7623
  let v7625 : BitVec 1 := Scalar.cmpi .ne v7619 v7624
  let v7626 : BitVec 32 := Scalar.remsi v7600 c2_i32_3819
  let c0_i32_3824 : BitVec 32 := 0#32
  let v7627 : BitVec 1 := Scalar.cmpi .ne v7626 c0_i32_3824
  let v7628 : BitVec 1 := Scalar.andi v7625 v7627
  let v7614 : BitVec 32 := Scalar.divsi v7600 c2_i32_3819
  let c1_i32_3825 : BitVec 32 := 1#32
  let v7629 : BitVec 32 := Scalar.subi v7614 c1_i32_3825
  let v7630 : BitVec 32 := Scalar.select v7628 v7629 v7614
  let v7631 : BitVec 32 := v7630
  let v7632 : Index := Scalar.indexCast v7631
  let c0_3827 : Index := 0#32
  ![3, v7632.toNat, 0]
def k0_mult328 : BitVec 32 :=
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let c0_i32_3702 : BitVec 32 := 0#32
  let v7339 : BitVec 32 := Scalar.addi v7338 c0_i32_3702
  let c0_i32_3724 : BitVec 32 := 0#32
  let v7379 : BitVec 1 := Scalar.cmpi .sgt v7339 c0_i32_3724
  let v7380 : BitVec 32 := Scalar.extui v7379
  let c0_i32_3725 : BitVec 32 := 0#32
  let v7381 : BitVec 1 := Scalar.cmpi .slt v7339 c0_i32_3725
  let v7382 : BitVec 32 := Scalar.extui v7381
  let v7383 : BitVec 32 := Scalar.subi v7380 v7382
  let c2_i32_3723 : BitVec 32 := 2#32
  let c0_i32_3726 : BitVec 32 := 0#32
  let v7384 : BitVec 1 := Scalar.cmpi .sgt c2_i32_3723 c0_i32_3726
  let v7385 : BitVec 32 := Scalar.extui v7384
  let c0_i32_3727 : BitVec 32 := 0#32
  let v7386 : BitVec 1 := Scalar.cmpi .slt c2_i32_3723 c0_i32_3727
  let v7387 : BitVec 32 := Scalar.extui v7386
  let v7388 : BitVec 32 := Scalar.subi v7385 v7387
  let v7389 : BitVec 1 := Scalar.cmpi .ne v7383 v7388
  let v7390 : BitVec 32 := Scalar.remsi v7339 c2_i32_3723
  let c0_i32_3728 : BitVec 32 := 0#32
  let v7391 : BitVec 1 := Scalar.cmpi .ne v7390 c0_i32_3728
  let v7392 : BitVec 1 := Scalar.andi v7389 v7391
  let v7378 : BitVec 32 := Scalar.divsi v7339 c2_i32_3723
  let c1_i32_3729 : BitVec 32 := 1#32
  let v7393 : BitVec 32 := Scalar.subi v7378 c1_i32_3729
  let v7394 : BitVec 32 := Scalar.select v7392 v7393 v7378
  let c8_i32_3814 : BitVec 32 := 8#32
  let c0_i32_3711 : BitVec 32 := 0#32
  let v7352 : BitVec 1 := Scalar.cmpi .sgt v7339 c0_i32_3711
  let v7353 : BitVec 32 := Scalar.extui v7352
  let c0_i32_3712 : BitVec 32 := 0#32
  let v7354 : BitVec 1 := Scalar.cmpi .slt v7339 c0_i32_3712
  let v7355 : BitVec 32 := Scalar.extui v7354
  let v7356 : BitVec 32 := Scalar.subi v7353 v7355
  let c1_i32_3710 : BitVec 32 := 1#32
  let c0_i32_3713 : BitVec 32 := 0#32
  let v7357 : BitVec 1 := Scalar.cmpi .sgt c1_i32_3710 c0_i32_3713
  let v7358 : BitVec 32 := Scalar.extui v7357
  let c0_i32_3714 : BitVec 32 := 0#32
  let v7359 : BitVec 1 := Scalar.cmpi .slt c1_i32_3710 c0_i32_3714
  let v7360 : BitVec 32 := Scalar.extui v7359
  let v7361 : BitVec 32 := Scalar.subi v7358 v7360
  let v7362 : BitVec 1 := Scalar.cmpi .ne v7356 v7361
  let v7363 : BitVec 32 := Scalar.remsi v7339 c1_i32_3710
  let c0_i32_3715 : BitVec 32 := 0#32
  let v7364 : BitVec 1 := Scalar.cmpi .ne v7363 c0_i32_3715
  let v7365 : BitVec 1 := Scalar.andi v7362 v7364
  let v7351 : BitVec 32 := Scalar.divsi v7339 c1_i32_3710
  let c1_i32_3716 : BitVec 32 := 1#32
  let v7366 : BitVec 32 := Scalar.subi v7351 c1_i32_3716
  let v7367 : BitVec 32 := Scalar.select v7365 v7366 v7351
  let c2_i32_3717 : BitVec 32 := 2#32
  let c0_i32_3718 : BitVec 32 := 0#32
  let v7368 : BitVec 1 := Scalar.cmpi .eq c2_i32_3717 c0_i32_3718
  let c1_i32_3719 : BitVec 32 := 1#32
  let v7369 : BitVec 32 := Scalar.select v7368 c1_i32_3719 c2_i32_3717
  let v7370 : BitVec 32 := Scalar.remsi v7367 v7369
  let c0_i32_3721 : BitVec 32 := 0#32
  let v7372 : BitVec 1 := Scalar.cmpi .slt v7370 c0_i32_3721
  let c0_i32_3722 : BitVec 32 := 0#32
  let v7373 : BitVec 1 := Scalar.cmpi .slt v7369 c0_i32_3722
  let v7374 : BitVec 1 := Scalar.xori v7372 v7373
  let c0_i32_3720 : BitVec 32 := 0#32
  let v7371 : BitVec 1 := Scalar.cmpi .ne v7370 c0_i32_3720
  let v7375 : BitVec 1 := Scalar.andi v7374 v7371
  let v7376 : BitVec 32 := Scalar.addi v7370 v7369
  let v7377 : BitVec 32 := Scalar.select v7375 v7376 v7370
  let v7601 : BitVec 32 := Scalar.muli c8_i32_3814 v7377
  let v7602 : BitVec 32 := Scalar.addi v7394 v7601
  let c4_i32_3815 : BitVec 32 := 4#32
  let v7603 : BitVec 32 := Scalar.addi v7602 c4_i32_3815
  let c128_i32_3816 : BitVec 32 := 128#32
  let v7604 : BitVec 32 := Scalar.muli v7603 c128_i32_3816
  let c1_i32_3703 : BitVec 32 := 1#32
  let c0_i32_3704 : BitVec 32 := 0#32
  let v7340 : BitVec 1 := Scalar.cmpi .eq c1_i32_3703 c0_i32_3704
  let c1_i32_3705 : BitVec 32 := 1#32
  let v7341 : BitVec 32 := Scalar.select v7340 c1_i32_3705 c1_i32_3703
  let v7342 : BitVec 32 := Scalar.remsi v7339 v7341
  let c0_i32_3707 : BitVec 32 := 0#32
  let v7344 : BitVec 1 := Scalar.cmpi .slt v7342 c0_i32_3707
  let c0_i32_3708 : BitVec 32 := 0#32
  let v7345 : BitVec 1 := Scalar.cmpi .slt v7341 c0_i32_3708
  let v7346 : BitVec 1 := Scalar.xori v7344 v7345
  let c0_i32_3706 : BitVec 32 := 0#32
  let v7343 : BitVec 1 := Scalar.cmpi .ne v7342 c0_i32_3706
  let v7347 : BitVec 1 := Scalar.andi v7346 v7343
  let v7348 : BitVec 32 := Scalar.addi v7342 v7341
  let v7349 : BitVec 32 := Scalar.select v7347 v7348 v7342
  let c128_i32_3709 : BitVec 32 := 128#32
  let v7350 : BitVec 32 := Scalar.muli v7349 c128_i32_3709
  let v7605 : BitVec 32 := Scalar.addi v7604 v7350
  let c0_i32_3829 : BitVec 32 := 0#32
  let v7638 : BitVec 1 := Scalar.cmpi .sgt v7605 c0_i32_3829
  let v7639 : BitVec 32 := Scalar.extui v7638
  let c0_i32_3830 : BitVec 32 := 0#32
  let v7640 : BitVec 1 := Scalar.cmpi .slt v7605 c0_i32_3830
  let v7641 : BitVec 32 := Scalar.extui v7640
  let v7642 : BitVec 32 := Scalar.subi v7639 v7641
  let c2_i32_3828 : BitVec 32 := 2#32
  let c0_i32_3831 : BitVec 32 := 0#32
  let v7643 : BitVec 1 := Scalar.cmpi .sgt c2_i32_3828 c0_i32_3831
  let v7644 : BitVec 32 := Scalar.extui v7643
  let c0_i32_3832 : BitVec 32 := 0#32
  let v7645 : BitVec 1 := Scalar.cmpi .slt c2_i32_3828 c0_i32_3832
  let v7646 : BitVec 32 := Scalar.extui v7645
  let v7647 : BitVec 32 := Scalar.subi v7644 v7646
  let v7648 : BitVec 1 := Scalar.cmpi .ne v7642 v7647
  let v7649 : BitVec 32 := Scalar.remsi v7605 c2_i32_3828
  let c0_i32_3833 : BitVec 32 := 0#32
  let v7650 : BitVec 1 := Scalar.cmpi .ne v7649 c0_i32_3833
  let v7651 : BitVec 1 := Scalar.andi v7648 v7650
  let v7637 : BitVec 32 := Scalar.divsi v7605 c2_i32_3828
  let c1_i32_3834 : BitVec 32 := 1#32
  let v7652 : BitVec 32 := Scalar.subi v7637 c1_i32_3834
  let v7653 : BitVec 32 := Scalar.select v7651 v7652 v7637
  v7653
def k0_off44 (c0_i32_3702 : BitVec 32) : Fin 3 → Nat :=
  let c3_3835 : Index := 3#32
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let v7339 : BitVec 32 := Scalar.addi v7338 c0_i32_3702
  let c0_i32_3724 : BitVec 32 := 0#32
  let v7379 : BitVec 1 := Scalar.cmpi .sgt v7339 c0_i32_3724
  let v7380 : BitVec 32 := Scalar.extui v7379
  let c0_i32_3725 : BitVec 32 := 0#32
  let v7381 : BitVec 1 := Scalar.cmpi .slt v7339 c0_i32_3725
  let v7382 : BitVec 32 := Scalar.extui v7381
  let v7383 : BitVec 32 := Scalar.subi v7380 v7382
  let c2_i32_3723 : BitVec 32 := 2#32
  let c0_i32_3726 : BitVec 32 := 0#32
  let v7384 : BitVec 1 := Scalar.cmpi .sgt c2_i32_3723 c0_i32_3726
  let v7385 : BitVec 32 := Scalar.extui v7384
  let c0_i32_3727 : BitVec 32 := 0#32
  let v7386 : BitVec 1 := Scalar.cmpi .slt c2_i32_3723 c0_i32_3727
  let v7387 : BitVec 32 := Scalar.extui v7386
  let v7388 : BitVec 32 := Scalar.subi v7385 v7387
  let v7389 : BitVec 1 := Scalar.cmpi .ne v7383 v7388
  let v7390 : BitVec 32 := Scalar.remsi v7339 c2_i32_3723
  let c0_i32_3728 : BitVec 32 := 0#32
  let v7391 : BitVec 1 := Scalar.cmpi .ne v7390 c0_i32_3728
  let v7392 : BitVec 1 := Scalar.andi v7389 v7391
  let v7378 : BitVec 32 := Scalar.divsi v7339 c2_i32_3723
  let c1_i32_3729 : BitVec 32 := 1#32
  let v7393 : BitVec 32 := Scalar.subi v7378 c1_i32_3729
  let v7394 : BitVec 32 := Scalar.select v7392 v7393 v7378
  let c8_i32_3814 : BitVec 32 := 8#32
  let c0_i32_3711 : BitVec 32 := 0#32
  let v7352 : BitVec 1 := Scalar.cmpi .sgt v7339 c0_i32_3711
  let v7353 : BitVec 32 := Scalar.extui v7352
  let c0_i32_3712 : BitVec 32 := 0#32
  let v7354 : BitVec 1 := Scalar.cmpi .slt v7339 c0_i32_3712
  let v7355 : BitVec 32 := Scalar.extui v7354
  let v7356 : BitVec 32 := Scalar.subi v7353 v7355
  let c1_i32_3710 : BitVec 32 := 1#32
  let c0_i32_3713 : BitVec 32 := 0#32
  let v7357 : BitVec 1 := Scalar.cmpi .sgt c1_i32_3710 c0_i32_3713
  let v7358 : BitVec 32 := Scalar.extui v7357
  let c0_i32_3714 : BitVec 32 := 0#32
  let v7359 : BitVec 1 := Scalar.cmpi .slt c1_i32_3710 c0_i32_3714
  let v7360 : BitVec 32 := Scalar.extui v7359
  let v7361 : BitVec 32 := Scalar.subi v7358 v7360
  let v7362 : BitVec 1 := Scalar.cmpi .ne v7356 v7361
  let v7363 : BitVec 32 := Scalar.remsi v7339 c1_i32_3710
  let c0_i32_3715 : BitVec 32 := 0#32
  let v7364 : BitVec 1 := Scalar.cmpi .ne v7363 c0_i32_3715
  let v7365 : BitVec 1 := Scalar.andi v7362 v7364
  let v7351 : BitVec 32 := Scalar.divsi v7339 c1_i32_3710
  let c1_i32_3716 : BitVec 32 := 1#32
  let v7366 : BitVec 32 := Scalar.subi v7351 c1_i32_3716
  let v7367 : BitVec 32 := Scalar.select v7365 v7366 v7351
  let c2_i32_3717 : BitVec 32 := 2#32
  let c0_i32_3718 : BitVec 32 := 0#32
  let v7368 : BitVec 1 := Scalar.cmpi .eq c2_i32_3717 c0_i32_3718
  let c1_i32_3719 : BitVec 32 := 1#32
  let v7369 : BitVec 32 := Scalar.select v7368 c1_i32_3719 c2_i32_3717
  let v7370 : BitVec 32 := Scalar.remsi v7367 v7369
  let c0_i32_3721 : BitVec 32 := 0#32
  let v7372 : BitVec 1 := Scalar.cmpi .slt v7370 c0_i32_3721
  let c0_i32_3722 : BitVec 32 := 0#32
  let v7373 : BitVec 1 := Scalar.cmpi .slt v7369 c0_i32_3722
  let v7374 : BitVec 1 := Scalar.xori v7372 v7373
  let c0_i32_3720 : BitVec 32 := 0#32
  let v7371 : BitVec 1 := Scalar.cmpi .ne v7370 c0_i32_3720
  let v7375 : BitVec 1 := Scalar.andi v7374 v7371
  let v7376 : BitVec 32 := Scalar.addi v7370 v7369
  let v7377 : BitVec 32 := Scalar.select v7375 v7376 v7370
  let v7601 : BitVec 32 := Scalar.muli c8_i32_3814 v7377
  let v7602 : BitVec 32 := Scalar.addi v7394 v7601
  let c4_i32_3815 : BitVec 32 := 4#32
  let v7603 : BitVec 32 := Scalar.addi v7602 c4_i32_3815
  let c128_i32_3816 : BitVec 32 := 128#32
  let v7604 : BitVec 32 := Scalar.muli v7603 c128_i32_3816
  let c1_i32_3703 : BitVec 32 := 1#32
  let c0_i32_3704 : BitVec 32 := 0#32
  let v7340 : BitVec 1 := Scalar.cmpi .eq c1_i32_3703 c0_i32_3704
  let c1_i32_3705 : BitVec 32 := 1#32
  let v7341 : BitVec 32 := Scalar.select v7340 c1_i32_3705 c1_i32_3703
  let v7342 : BitVec 32 := Scalar.remsi v7339 v7341
  let c0_i32_3707 : BitVec 32 := 0#32
  let v7344 : BitVec 1 := Scalar.cmpi .slt v7342 c0_i32_3707
  let c0_i32_3708 : BitVec 32 := 0#32
  let v7345 : BitVec 1 := Scalar.cmpi .slt v7341 c0_i32_3708
  let v7346 : BitVec 1 := Scalar.xori v7344 v7345
  let c0_i32_3706 : BitVec 32 := 0#32
  let v7343 : BitVec 1 := Scalar.cmpi .ne v7342 c0_i32_3706
  let v7347 : BitVec 1 := Scalar.andi v7346 v7343
  let v7348 : BitVec 32 := Scalar.addi v7342 v7341
  let v7349 : BitVec 32 := Scalar.select v7347 v7348 v7342
  let c128_i32_3709 : BitVec 32 := 128#32
  let v7350 : BitVec 32 := Scalar.muli v7349 c128_i32_3709
  let v7605 : BitVec 32 := Scalar.addi v7604 v7350
  let c0_i32_3829 : BitVec 32 := 0#32
  let v7638 : BitVec 1 := Scalar.cmpi .sgt v7605 c0_i32_3829
  let v7639 : BitVec 32 := Scalar.extui v7638
  let c0_i32_3830 : BitVec 32 := 0#32
  let v7640 : BitVec 1 := Scalar.cmpi .slt v7605 c0_i32_3830
  let v7641 : BitVec 32 := Scalar.extui v7640
  let v7642 : BitVec 32 := Scalar.subi v7639 v7641
  let c2_i32_3828 : BitVec 32 := 2#32
  let c0_i32_3831 : BitVec 32 := 0#32
  let v7643 : BitVec 1 := Scalar.cmpi .sgt c2_i32_3828 c0_i32_3831
  let v7644 : BitVec 32 := Scalar.extui v7643
  let c0_i32_3832 : BitVec 32 := 0#32
  let v7645 : BitVec 1 := Scalar.cmpi .slt c2_i32_3828 c0_i32_3832
  let v7646 : BitVec 32 := Scalar.extui v7645
  let v7647 : BitVec 32 := Scalar.subi v7644 v7646
  let v7648 : BitVec 1 := Scalar.cmpi .ne v7642 v7647
  let v7649 : BitVec 32 := Scalar.remsi v7605 c2_i32_3828
  let c0_i32_3833 : BitVec 32 := 0#32
  let v7650 : BitVec 1 := Scalar.cmpi .ne v7649 c0_i32_3833
  let v7651 : BitVec 1 := Scalar.andi v7648 v7650
  let v7637 : BitVec 32 := Scalar.divsi v7605 c2_i32_3828
  let c1_i32_3834 : BitVec 32 := 1#32
  let v7652 : BitVec 32 := Scalar.subi v7637 c1_i32_3834
  let v7653 : BitVec 32 := Scalar.select v7651 v7652 v7637
  let v7654 : BitVec 32 := v7653
  let v7655 : Index := Scalar.indexCast v7654
  let c0_3836 : Index := 0#32
  ![3, v7655.toNat, 0]
def k0_off45 (c0_i32_3702 : BitVec 32) : Fin 3 → Nat :=
  let c4_3844 : Index := 4#32
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let v7339 : BitVec 32 := Scalar.addi v7338 c0_i32_3702
  let c0_i32_3724 : BitVec 32 := 0#32
  let v7379 : BitVec 1 := Scalar.cmpi .sgt v7339 c0_i32_3724
  let v7380 : BitVec 32 := Scalar.extui v7379
  let c0_i32_3725 : BitVec 32 := 0#32
  let v7381 : BitVec 1 := Scalar.cmpi .slt v7339 c0_i32_3725
  let v7382 : BitVec 32 := Scalar.extui v7381
  let v7383 : BitVec 32 := Scalar.subi v7380 v7382
  let c2_i32_3723 : BitVec 32 := 2#32
  let c0_i32_3726 : BitVec 32 := 0#32
  let v7384 : BitVec 1 := Scalar.cmpi .sgt c2_i32_3723 c0_i32_3726
  let v7385 : BitVec 32 := Scalar.extui v7384
  let c0_i32_3727 : BitVec 32 := 0#32
  let v7386 : BitVec 1 := Scalar.cmpi .slt c2_i32_3723 c0_i32_3727
  let v7387 : BitVec 32 := Scalar.extui v7386
  let v7388 : BitVec 32 := Scalar.subi v7385 v7387
  let v7389 : BitVec 1 := Scalar.cmpi .ne v7383 v7388
  let v7390 : BitVec 32 := Scalar.remsi v7339 c2_i32_3723
  let c0_i32_3728 : BitVec 32 := 0#32
  let v7391 : BitVec 1 := Scalar.cmpi .ne v7390 c0_i32_3728
  let v7392 : BitVec 1 := Scalar.andi v7389 v7391
  let v7378 : BitVec 32 := Scalar.divsi v7339 c2_i32_3723
  let c1_i32_3729 : BitVec 32 := 1#32
  let v7393 : BitVec 32 := Scalar.subi v7378 c1_i32_3729
  let v7394 : BitVec 32 := Scalar.select v7392 v7393 v7378
  let c256_i32_3837 : BitVec 32 := 256#32
  let v7659 : BitVec 32 := Scalar.muli v7394 c256_i32_3837
  let c0_i32_3711 : BitVec 32 := 0#32
  let v7352 : BitVec 1 := Scalar.cmpi .sgt v7339 c0_i32_3711
  let v7353 : BitVec 32 := Scalar.extui v7352
  let c0_i32_3712 : BitVec 32 := 0#32
  let v7354 : BitVec 1 := Scalar.cmpi .slt v7339 c0_i32_3712
  let v7355 : BitVec 32 := Scalar.extui v7354
  let v7356 : BitVec 32 := Scalar.subi v7353 v7355
  let c1_i32_3710 : BitVec 32 := 1#32
  let c0_i32_3713 : BitVec 32 := 0#32
  let v7357 : BitVec 1 := Scalar.cmpi .sgt c1_i32_3710 c0_i32_3713
  let v7358 : BitVec 32 := Scalar.extui v7357
  let c0_i32_3714 : BitVec 32 := 0#32
  let v7359 : BitVec 1 := Scalar.cmpi .slt c1_i32_3710 c0_i32_3714
  let v7360 : BitVec 32 := Scalar.extui v7359
  let v7361 : BitVec 32 := Scalar.subi v7358 v7360
  let v7362 : BitVec 1 := Scalar.cmpi .ne v7356 v7361
  let v7363 : BitVec 32 := Scalar.remsi v7339 c1_i32_3710
  let c0_i32_3715 : BitVec 32 := 0#32
  let v7364 : BitVec 1 := Scalar.cmpi .ne v7363 c0_i32_3715
  let v7365 : BitVec 1 := Scalar.andi v7362 v7364
  let v7351 : BitVec 32 := Scalar.divsi v7339 c1_i32_3710
  let c1_i32_3716 : BitVec 32 := 1#32
  let v7366 : BitVec 32 := Scalar.subi v7351 c1_i32_3716
  let v7367 : BitVec 32 := Scalar.select v7365 v7366 v7351
  let c2_i32_3717 : BitVec 32 := 2#32
  let c0_i32_3718 : BitVec 32 := 0#32
  let v7368 : BitVec 1 := Scalar.cmpi .eq c2_i32_3717 c0_i32_3718
  let c1_i32_3719 : BitVec 32 := 1#32
  let v7369 : BitVec 32 := Scalar.select v7368 c1_i32_3719 c2_i32_3717
  let v7370 : BitVec 32 := Scalar.remsi v7367 v7369
  let c0_i32_3721 : BitVec 32 := 0#32
  let v7372 : BitVec 1 := Scalar.cmpi .slt v7370 c0_i32_3721
  let c0_i32_3722 : BitVec 32 := 0#32
  let v7373 : BitVec 1 := Scalar.cmpi .slt v7369 c0_i32_3722
  let v7374 : BitVec 1 := Scalar.xori v7372 v7373
  let c0_i32_3720 : BitVec 32 := 0#32
  let v7371 : BitVec 1 := Scalar.cmpi .ne v7370 c0_i32_3720
  let v7375 : BitVec 1 := Scalar.andi v7374 v7371
  let v7376 : BitVec 32 := Scalar.addi v7370 v7369
  let v7377 : BitVec 32 := Scalar.select v7375 v7376 v7370
  let v7660 : BitVec 32 := Scalar.addi v7659 v7377
  let c2_i32_3838 : BitVec 32 := 2#32
  let c1_i32_3703 : BitVec 32 := 1#32
  let c0_i32_3704 : BitVec 32 := 0#32
  let v7340 : BitVec 1 := Scalar.cmpi .eq c1_i32_3703 c0_i32_3704
  let c1_i32_3705 : BitVec 32 := 1#32
  let v7341 : BitVec 32 := Scalar.select v7340 c1_i32_3705 c1_i32_3703
  let v7342 : BitVec 32 := Scalar.remsi v7339 v7341
  let c0_i32_3707 : BitVec 32 := 0#32
  let v7344 : BitVec 1 := Scalar.cmpi .slt v7342 c0_i32_3707
  let c0_i32_3708 : BitVec 32 := 0#32
  let v7345 : BitVec 1 := Scalar.cmpi .slt v7341 c0_i32_3708
  let v7346 : BitVec 1 := Scalar.xori v7344 v7345
  let c0_i32_3706 : BitVec 32 := 0#32
  let v7343 : BitVec 1 := Scalar.cmpi .ne v7342 c0_i32_3706
  let v7347 : BitVec 1 := Scalar.andi v7346 v7343
  let v7348 : BitVec 32 := Scalar.addi v7342 v7341
  let v7349 : BitVec 32 := Scalar.select v7347 v7348 v7342
  let c128_i32_3709 : BitVec 32 := 128#32
  let v7350 : BitVec 32 := Scalar.muli v7349 c128_i32_3709
  let v7661 : BitVec 32 := Scalar.muli c2_i32_3838 v7350
  let v7662 : BitVec 32 := Scalar.addi v7660 v7661
  let v7672 : Index := Scalar.indexCast v7662
  let c0_3845 : Index := 0#32
  ![4, v7672.toNat, 0]
def k0_mult329 : BitVec 32 :=
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let c0_i32_3702 : BitVec 32 := 0#32
  let v7339 : BitVec 32 := Scalar.addi v7338 c0_i32_3702
  let c0_i32_3724 : BitVec 32 := 0#32
  let v7379 : BitVec 1 := Scalar.cmpi .sgt v7339 c0_i32_3724
  let v7380 : BitVec 32 := Scalar.extui v7379
  let c0_i32_3725 : BitVec 32 := 0#32
  let v7381 : BitVec 1 := Scalar.cmpi .slt v7339 c0_i32_3725
  let v7382 : BitVec 32 := Scalar.extui v7381
  let v7383 : BitVec 32 := Scalar.subi v7380 v7382
  let c2_i32_3723 : BitVec 32 := 2#32
  let c0_i32_3726 : BitVec 32 := 0#32
  let v7384 : BitVec 1 := Scalar.cmpi .sgt c2_i32_3723 c0_i32_3726
  let v7385 : BitVec 32 := Scalar.extui v7384
  let c0_i32_3727 : BitVec 32 := 0#32
  let v7386 : BitVec 1 := Scalar.cmpi .slt c2_i32_3723 c0_i32_3727
  let v7387 : BitVec 32 := Scalar.extui v7386
  let v7388 : BitVec 32 := Scalar.subi v7385 v7387
  let v7389 : BitVec 1 := Scalar.cmpi .ne v7383 v7388
  let v7390 : BitVec 32 := Scalar.remsi v7339 c2_i32_3723
  let c0_i32_3728 : BitVec 32 := 0#32
  let v7391 : BitVec 1 := Scalar.cmpi .ne v7390 c0_i32_3728
  let v7392 : BitVec 1 := Scalar.andi v7389 v7391
  let v7378 : BitVec 32 := Scalar.divsi v7339 c2_i32_3723
  let c1_i32_3729 : BitVec 32 := 1#32
  let v7393 : BitVec 32 := Scalar.subi v7378 c1_i32_3729
  let v7394 : BitVec 32 := Scalar.select v7392 v7393 v7378
  let c8_i32_3839 : BitVec 32 := 8#32
  let c0_i32_3711 : BitVec 32 := 0#32
  let v7352 : BitVec 1 := Scalar.cmpi .sgt v7339 c0_i32_3711
  let v7353 : BitVec 32 := Scalar.extui v7352
  let c0_i32_3712 : BitVec 32 := 0#32
  let v7354 : BitVec 1 := Scalar.cmpi .slt v7339 c0_i32_3712
  let v7355 : BitVec 32 := Scalar.extui v7354
  let v7356 : BitVec 32 := Scalar.subi v7353 v7355
  let c1_i32_3710 : BitVec 32 := 1#32
  let c0_i32_3713 : BitVec 32 := 0#32
  let v7357 : BitVec 1 := Scalar.cmpi .sgt c1_i32_3710 c0_i32_3713
  let v7358 : BitVec 32 := Scalar.extui v7357
  let c0_i32_3714 : BitVec 32 := 0#32
  let v7359 : BitVec 1 := Scalar.cmpi .slt c1_i32_3710 c0_i32_3714
  let v7360 : BitVec 32 := Scalar.extui v7359
  let v7361 : BitVec 32 := Scalar.subi v7358 v7360
  let v7362 : BitVec 1 := Scalar.cmpi .ne v7356 v7361
  let v7363 : BitVec 32 := Scalar.remsi v7339 c1_i32_3710
  let c0_i32_3715 : BitVec 32 := 0#32
  let v7364 : BitVec 1 := Scalar.cmpi .ne v7363 c0_i32_3715
  let v7365 : BitVec 1 := Scalar.andi v7362 v7364
  let v7351 : BitVec 32 := Scalar.divsi v7339 c1_i32_3710
  let c1_i32_3716 : BitVec 32 := 1#32
  let v7366 : BitVec 32 := Scalar.subi v7351 c1_i32_3716
  let v7367 : BitVec 32 := Scalar.select v7365 v7366 v7351
  let c2_i32_3717 : BitVec 32 := 2#32
  let c0_i32_3718 : BitVec 32 := 0#32
  let v7368 : BitVec 1 := Scalar.cmpi .eq c2_i32_3717 c0_i32_3718
  let c1_i32_3719 : BitVec 32 := 1#32
  let v7369 : BitVec 32 := Scalar.select v7368 c1_i32_3719 c2_i32_3717
  let v7370 : BitVec 32 := Scalar.remsi v7367 v7369
  let c0_i32_3721 : BitVec 32 := 0#32
  let v7372 : BitVec 1 := Scalar.cmpi .slt v7370 c0_i32_3721
  let c0_i32_3722 : BitVec 32 := 0#32
  let v7373 : BitVec 1 := Scalar.cmpi .slt v7369 c0_i32_3722
  let v7374 : BitVec 1 := Scalar.xori v7372 v7373
  let c0_i32_3720 : BitVec 32 := 0#32
  let v7371 : BitVec 1 := Scalar.cmpi .ne v7370 c0_i32_3720
  let v7375 : BitVec 1 := Scalar.andi v7374 v7371
  let v7376 : BitVec 32 := Scalar.addi v7370 v7369
  let v7377 : BitVec 32 := Scalar.select v7375 v7376 v7370
  let v7663 : BitVec 32 := Scalar.muli c8_i32_3839 v7377
  let v7664 : BitVec 32 := Scalar.addi v7394 v7663
  let c128_i32_3840 : BitVec 32 := 128#32
  let v7665 : BitVec 32 := Scalar.muli v7664 c128_i32_3840
  let c1_i32_3703 : BitVec 32 := 1#32
  let c0_i32_3704 : BitVec 32 := 0#32
  let v7340 : BitVec 1 := Scalar.cmpi .eq c1_i32_3703 c0_i32_3704
  let c1_i32_3705 : BitVec 32 := 1#32
  let v7341 : BitVec 32 := Scalar.select v7340 c1_i32_3705 c1_i32_3703
  let v7342 : BitVec 32 := Scalar.remsi v7339 v7341
  let c0_i32_3707 : BitVec 32 := 0#32
  let v7344 : BitVec 1 := Scalar.cmpi .slt v7342 c0_i32_3707
  let c0_i32_3708 : BitVec 32 := 0#32
  let v7345 : BitVec 1 := Scalar.cmpi .slt v7341 c0_i32_3708
  let v7346 : BitVec 1 := Scalar.xori v7344 v7345
  let c0_i32_3706 : BitVec 32 := 0#32
  let v7343 : BitVec 1 := Scalar.cmpi .ne v7342 c0_i32_3706
  let v7347 : BitVec 1 := Scalar.andi v7346 v7343
  let v7348 : BitVec 32 := Scalar.addi v7342 v7341
  let v7349 : BitVec 32 := Scalar.select v7347 v7348 v7342
  let c128_i32_3709 : BitVec 32 := 128#32
  let v7350 : BitVec 32 := Scalar.muli v7349 c128_i32_3709
  let v7666 : BitVec 32 := Scalar.addi v7665 v7350
  let c0_i32_3847 : BitVec 32 := 0#32
  let v7681 : BitVec 1 := Scalar.cmpi .sgt v7666 c0_i32_3847
  let v7682 : BitVec 32 := Scalar.extui v7681
  let c0_i32_3848 : BitVec 32 := 0#32
  let v7683 : BitVec 1 := Scalar.cmpi .slt v7666 c0_i32_3848
  let v7684 : BitVec 32 := Scalar.extui v7683
  let v7685 : BitVec 32 := Scalar.subi v7682 v7684
  let c2_i32_3846 : BitVec 32 := 2#32
  let c0_i32_3849 : BitVec 32 := 0#32
  let v7686 : BitVec 1 := Scalar.cmpi .sgt c2_i32_3846 c0_i32_3849
  let v7687 : BitVec 32 := Scalar.extui v7686
  let c0_i32_3850 : BitVec 32 := 0#32
  let v7688 : BitVec 1 := Scalar.cmpi .slt c2_i32_3846 c0_i32_3850
  let v7689 : BitVec 32 := Scalar.extui v7688
  let v7690 : BitVec 32 := Scalar.subi v7687 v7689
  let v7691 : BitVec 1 := Scalar.cmpi .ne v7685 v7690
  let v7692 : BitVec 32 := Scalar.remsi v7666 c2_i32_3846
  let c0_i32_3851 : BitVec 32 := 0#32
  let v7693 : BitVec 1 := Scalar.cmpi .ne v7692 c0_i32_3851
  let v7694 : BitVec 1 := Scalar.andi v7691 v7693
  let v7680 : BitVec 32 := Scalar.divsi v7666 c2_i32_3846
  let c1_i32_3852 : BitVec 32 := 1#32
  let v7695 : BitVec 32 := Scalar.subi v7680 c1_i32_3852
  let v7696 : BitVec 32 := Scalar.select v7694 v7695 v7680
  v7696
def k0_off46 (c0_i32_3702 : BitVec 32) : Fin 3 → Nat :=
  let c4_3853 : Index := 4#32
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let v7339 : BitVec 32 := Scalar.addi v7338 c0_i32_3702
  let c0_i32_3724 : BitVec 32 := 0#32
  let v7379 : BitVec 1 := Scalar.cmpi .sgt v7339 c0_i32_3724
  let v7380 : BitVec 32 := Scalar.extui v7379
  let c0_i32_3725 : BitVec 32 := 0#32
  let v7381 : BitVec 1 := Scalar.cmpi .slt v7339 c0_i32_3725
  let v7382 : BitVec 32 := Scalar.extui v7381
  let v7383 : BitVec 32 := Scalar.subi v7380 v7382
  let c2_i32_3723 : BitVec 32 := 2#32
  let c0_i32_3726 : BitVec 32 := 0#32
  let v7384 : BitVec 1 := Scalar.cmpi .sgt c2_i32_3723 c0_i32_3726
  let v7385 : BitVec 32 := Scalar.extui v7384
  let c0_i32_3727 : BitVec 32 := 0#32
  let v7386 : BitVec 1 := Scalar.cmpi .slt c2_i32_3723 c0_i32_3727
  let v7387 : BitVec 32 := Scalar.extui v7386
  let v7388 : BitVec 32 := Scalar.subi v7385 v7387
  let v7389 : BitVec 1 := Scalar.cmpi .ne v7383 v7388
  let v7390 : BitVec 32 := Scalar.remsi v7339 c2_i32_3723
  let c0_i32_3728 : BitVec 32 := 0#32
  let v7391 : BitVec 1 := Scalar.cmpi .ne v7390 c0_i32_3728
  let v7392 : BitVec 1 := Scalar.andi v7389 v7391
  let v7378 : BitVec 32 := Scalar.divsi v7339 c2_i32_3723
  let c1_i32_3729 : BitVec 32 := 1#32
  let v7393 : BitVec 32 := Scalar.subi v7378 c1_i32_3729
  let v7394 : BitVec 32 := Scalar.select v7392 v7393 v7378
  let c8_i32_3839 : BitVec 32 := 8#32
  let c0_i32_3711 : BitVec 32 := 0#32
  let v7352 : BitVec 1 := Scalar.cmpi .sgt v7339 c0_i32_3711
  let v7353 : BitVec 32 := Scalar.extui v7352
  let c0_i32_3712 : BitVec 32 := 0#32
  let v7354 : BitVec 1 := Scalar.cmpi .slt v7339 c0_i32_3712
  let v7355 : BitVec 32 := Scalar.extui v7354
  let v7356 : BitVec 32 := Scalar.subi v7353 v7355
  let c1_i32_3710 : BitVec 32 := 1#32
  let c0_i32_3713 : BitVec 32 := 0#32
  let v7357 : BitVec 1 := Scalar.cmpi .sgt c1_i32_3710 c0_i32_3713
  let v7358 : BitVec 32 := Scalar.extui v7357
  let c0_i32_3714 : BitVec 32 := 0#32
  let v7359 : BitVec 1 := Scalar.cmpi .slt c1_i32_3710 c0_i32_3714
  let v7360 : BitVec 32 := Scalar.extui v7359
  let v7361 : BitVec 32 := Scalar.subi v7358 v7360
  let v7362 : BitVec 1 := Scalar.cmpi .ne v7356 v7361
  let v7363 : BitVec 32 := Scalar.remsi v7339 c1_i32_3710
  let c0_i32_3715 : BitVec 32 := 0#32
  let v7364 : BitVec 1 := Scalar.cmpi .ne v7363 c0_i32_3715
  let v7365 : BitVec 1 := Scalar.andi v7362 v7364
  let v7351 : BitVec 32 := Scalar.divsi v7339 c1_i32_3710
  let c1_i32_3716 : BitVec 32 := 1#32
  let v7366 : BitVec 32 := Scalar.subi v7351 c1_i32_3716
  let v7367 : BitVec 32 := Scalar.select v7365 v7366 v7351
  let c2_i32_3717 : BitVec 32 := 2#32
  let c0_i32_3718 : BitVec 32 := 0#32
  let v7368 : BitVec 1 := Scalar.cmpi .eq c2_i32_3717 c0_i32_3718
  let c1_i32_3719 : BitVec 32 := 1#32
  let v7369 : BitVec 32 := Scalar.select v7368 c1_i32_3719 c2_i32_3717
  let v7370 : BitVec 32 := Scalar.remsi v7367 v7369
  let c0_i32_3721 : BitVec 32 := 0#32
  let v7372 : BitVec 1 := Scalar.cmpi .slt v7370 c0_i32_3721
  let c0_i32_3722 : BitVec 32 := 0#32
  let v7373 : BitVec 1 := Scalar.cmpi .slt v7369 c0_i32_3722
  let v7374 : BitVec 1 := Scalar.xori v7372 v7373
  let c0_i32_3720 : BitVec 32 := 0#32
  let v7371 : BitVec 1 := Scalar.cmpi .ne v7370 c0_i32_3720
  let v7375 : BitVec 1 := Scalar.andi v7374 v7371
  let v7376 : BitVec 32 := Scalar.addi v7370 v7369
  let v7377 : BitVec 32 := Scalar.select v7375 v7376 v7370
  let v7663 : BitVec 32 := Scalar.muli c8_i32_3839 v7377
  let v7664 : BitVec 32 := Scalar.addi v7394 v7663
  let c128_i32_3840 : BitVec 32 := 128#32
  let v7665 : BitVec 32 := Scalar.muli v7664 c128_i32_3840
  let c1_i32_3703 : BitVec 32 := 1#32
  let c0_i32_3704 : BitVec 32 := 0#32
  let v7340 : BitVec 1 := Scalar.cmpi .eq c1_i32_3703 c0_i32_3704
  let c1_i32_3705 : BitVec 32 := 1#32
  let v7341 : BitVec 32 := Scalar.select v7340 c1_i32_3705 c1_i32_3703
  let v7342 : BitVec 32 := Scalar.remsi v7339 v7341
  let c0_i32_3707 : BitVec 32 := 0#32
  let v7344 : BitVec 1 := Scalar.cmpi .slt v7342 c0_i32_3707
  let c0_i32_3708 : BitVec 32 := 0#32
  let v7345 : BitVec 1 := Scalar.cmpi .slt v7341 c0_i32_3708
  let v7346 : BitVec 1 := Scalar.xori v7344 v7345
  let c0_i32_3706 : BitVec 32 := 0#32
  let v7343 : BitVec 1 := Scalar.cmpi .ne v7342 c0_i32_3706
  let v7347 : BitVec 1 := Scalar.andi v7346 v7343
  let v7348 : BitVec 32 := Scalar.addi v7342 v7341
  let v7349 : BitVec 32 := Scalar.select v7347 v7348 v7342
  let c128_i32_3709 : BitVec 32 := 128#32
  let v7350 : BitVec 32 := Scalar.muli v7349 c128_i32_3709
  let v7666 : BitVec 32 := Scalar.addi v7665 v7350
  let c0_i32_3847 : BitVec 32 := 0#32
  let v7681 : BitVec 1 := Scalar.cmpi .sgt v7666 c0_i32_3847
  let v7682 : BitVec 32 := Scalar.extui v7681
  let c0_i32_3848 : BitVec 32 := 0#32
  let v7683 : BitVec 1 := Scalar.cmpi .slt v7666 c0_i32_3848
  let v7684 : BitVec 32 := Scalar.extui v7683
  let v7685 : BitVec 32 := Scalar.subi v7682 v7684
  let c2_i32_3846 : BitVec 32 := 2#32
  let c0_i32_3849 : BitVec 32 := 0#32
  let v7686 : BitVec 1 := Scalar.cmpi .sgt c2_i32_3846 c0_i32_3849
  let v7687 : BitVec 32 := Scalar.extui v7686
  let c0_i32_3850 : BitVec 32 := 0#32
  let v7688 : BitVec 1 := Scalar.cmpi .slt c2_i32_3846 c0_i32_3850
  let v7689 : BitVec 32 := Scalar.extui v7688
  let v7690 : BitVec 32 := Scalar.subi v7687 v7689
  let v7691 : BitVec 1 := Scalar.cmpi .ne v7685 v7690
  let v7692 : BitVec 32 := Scalar.remsi v7666 c2_i32_3846
  let c0_i32_3851 : BitVec 32 := 0#32
  let v7693 : BitVec 1 := Scalar.cmpi .ne v7692 c0_i32_3851
  let v7694 : BitVec 1 := Scalar.andi v7691 v7693
  let v7680 : BitVec 32 := Scalar.divsi v7666 c2_i32_3846
  let c1_i32_3852 : BitVec 32 := 1#32
  let v7695 : BitVec 32 := Scalar.subi v7680 c1_i32_3852
  let v7696 : BitVec 32 := Scalar.select v7694 v7695 v7680
  let v7697 : BitVec 32 := v7696
  let v7698 : Index := Scalar.indexCast v7697
  let c0_3854 : Index := 0#32
  ![4, v7698.toNat, 0]
def k0_mult330 : BitVec 32 :=
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let c0_i32_3702 : BitVec 32 := 0#32
  let v7339 : BitVec 32 := Scalar.addi v7338 c0_i32_3702
  let c0_i32_3724 : BitVec 32 := 0#32
  let v7379 : BitVec 1 := Scalar.cmpi .sgt v7339 c0_i32_3724
  let v7380 : BitVec 32 := Scalar.extui v7379
  let c0_i32_3725 : BitVec 32 := 0#32
  let v7381 : BitVec 1 := Scalar.cmpi .slt v7339 c0_i32_3725
  let v7382 : BitVec 32 := Scalar.extui v7381
  let v7383 : BitVec 32 := Scalar.subi v7380 v7382
  let c2_i32_3723 : BitVec 32 := 2#32
  let c0_i32_3726 : BitVec 32 := 0#32
  let v7384 : BitVec 1 := Scalar.cmpi .sgt c2_i32_3723 c0_i32_3726
  let v7385 : BitVec 32 := Scalar.extui v7384
  let c0_i32_3727 : BitVec 32 := 0#32
  let v7386 : BitVec 1 := Scalar.cmpi .slt c2_i32_3723 c0_i32_3727
  let v7387 : BitVec 32 := Scalar.extui v7386
  let v7388 : BitVec 32 := Scalar.subi v7385 v7387
  let v7389 : BitVec 1 := Scalar.cmpi .ne v7383 v7388
  let v7390 : BitVec 32 := Scalar.remsi v7339 c2_i32_3723
  let c0_i32_3728 : BitVec 32 := 0#32
  let v7391 : BitVec 1 := Scalar.cmpi .ne v7390 c0_i32_3728
  let v7392 : BitVec 1 := Scalar.andi v7389 v7391
  let v7378 : BitVec 32 := Scalar.divsi v7339 c2_i32_3723
  let c1_i32_3729 : BitVec 32 := 1#32
  let v7393 : BitVec 32 := Scalar.subi v7378 c1_i32_3729
  let v7394 : BitVec 32 := Scalar.select v7392 v7393 v7378
  let c8_i32_3841 : BitVec 32 := 8#32
  let c0_i32_3711 : BitVec 32 := 0#32
  let v7352 : BitVec 1 := Scalar.cmpi .sgt v7339 c0_i32_3711
  let v7353 : BitVec 32 := Scalar.extui v7352
  let c0_i32_3712 : BitVec 32 := 0#32
  let v7354 : BitVec 1 := Scalar.cmpi .slt v7339 c0_i32_3712
  let v7355 : BitVec 32 := Scalar.extui v7354
  let v7356 : BitVec 32 := Scalar.subi v7353 v7355
  let c1_i32_3710 : BitVec 32 := 1#32
  let c0_i32_3713 : BitVec 32 := 0#32
  let v7357 : BitVec 1 := Scalar.cmpi .sgt c1_i32_3710 c0_i32_3713
  let v7358 : BitVec 32 := Scalar.extui v7357
  let c0_i32_3714 : BitVec 32 := 0#32
  let v7359 : BitVec 1 := Scalar.cmpi .slt c1_i32_3710 c0_i32_3714
  let v7360 : BitVec 32 := Scalar.extui v7359
  let v7361 : BitVec 32 := Scalar.subi v7358 v7360
  let v7362 : BitVec 1 := Scalar.cmpi .ne v7356 v7361
  let v7363 : BitVec 32 := Scalar.remsi v7339 c1_i32_3710
  let c0_i32_3715 : BitVec 32 := 0#32
  let v7364 : BitVec 1 := Scalar.cmpi .ne v7363 c0_i32_3715
  let v7365 : BitVec 1 := Scalar.andi v7362 v7364
  let v7351 : BitVec 32 := Scalar.divsi v7339 c1_i32_3710
  let c1_i32_3716 : BitVec 32 := 1#32
  let v7366 : BitVec 32 := Scalar.subi v7351 c1_i32_3716
  let v7367 : BitVec 32 := Scalar.select v7365 v7366 v7351
  let c2_i32_3717 : BitVec 32 := 2#32
  let c0_i32_3718 : BitVec 32 := 0#32
  let v7368 : BitVec 1 := Scalar.cmpi .eq c2_i32_3717 c0_i32_3718
  let c1_i32_3719 : BitVec 32 := 1#32
  let v7369 : BitVec 32 := Scalar.select v7368 c1_i32_3719 c2_i32_3717
  let v7370 : BitVec 32 := Scalar.remsi v7367 v7369
  let c0_i32_3721 : BitVec 32 := 0#32
  let v7372 : BitVec 1 := Scalar.cmpi .slt v7370 c0_i32_3721
  let c0_i32_3722 : BitVec 32 := 0#32
  let v7373 : BitVec 1 := Scalar.cmpi .slt v7369 c0_i32_3722
  let v7374 : BitVec 1 := Scalar.xori v7372 v7373
  let c0_i32_3720 : BitVec 32 := 0#32
  let v7371 : BitVec 1 := Scalar.cmpi .ne v7370 c0_i32_3720
  let v7375 : BitVec 1 := Scalar.andi v7374 v7371
  let v7376 : BitVec 32 := Scalar.addi v7370 v7369
  let v7377 : BitVec 32 := Scalar.select v7375 v7376 v7370
  let v7667 : BitVec 32 := Scalar.muli c8_i32_3841 v7377
  let v7668 : BitVec 32 := Scalar.addi v7394 v7667
  let c4_i32_3842 : BitVec 32 := 4#32
  let v7669 : BitVec 32 := Scalar.addi v7668 c4_i32_3842
  let c128_i32_3843 : BitVec 32 := 128#32
  let v7670 : BitVec 32 := Scalar.muli v7669 c128_i32_3843
  let c1_i32_3703 : BitVec 32 := 1#32
  let c0_i32_3704 : BitVec 32 := 0#32
  let v7340 : BitVec 1 := Scalar.cmpi .eq c1_i32_3703 c0_i32_3704
  let c1_i32_3705 : BitVec 32 := 1#32
  let v7341 : BitVec 32 := Scalar.select v7340 c1_i32_3705 c1_i32_3703
  let v7342 : BitVec 32 := Scalar.remsi v7339 v7341
  let c0_i32_3707 : BitVec 32 := 0#32
  let v7344 : BitVec 1 := Scalar.cmpi .slt v7342 c0_i32_3707
  let c0_i32_3708 : BitVec 32 := 0#32
  let v7345 : BitVec 1 := Scalar.cmpi .slt v7341 c0_i32_3708
  let v7346 : BitVec 1 := Scalar.xori v7344 v7345
  let c0_i32_3706 : BitVec 32 := 0#32
  let v7343 : BitVec 1 := Scalar.cmpi .ne v7342 c0_i32_3706
  let v7347 : BitVec 1 := Scalar.andi v7346 v7343
  let v7348 : BitVec 32 := Scalar.addi v7342 v7341
  let v7349 : BitVec 32 := Scalar.select v7347 v7348 v7342
  let c128_i32_3709 : BitVec 32 := 128#32
  let v7350 : BitVec 32 := Scalar.muli v7349 c128_i32_3709
  let v7671 : BitVec 32 := Scalar.addi v7670 v7350
  let c0_i32_3856 : BitVec 32 := 0#32
  let v7704 : BitVec 1 := Scalar.cmpi .sgt v7671 c0_i32_3856
  let v7705 : BitVec 32 := Scalar.extui v7704
  let c0_i32_3857 : BitVec 32 := 0#32
  let v7706 : BitVec 1 := Scalar.cmpi .slt v7671 c0_i32_3857
  let v7707 : BitVec 32 := Scalar.extui v7706
  let v7708 : BitVec 32 := Scalar.subi v7705 v7707
  let c2_i32_3855 : BitVec 32 := 2#32
  let c0_i32_3858 : BitVec 32 := 0#32
  let v7709 : BitVec 1 := Scalar.cmpi .sgt c2_i32_3855 c0_i32_3858
  let v7710 : BitVec 32 := Scalar.extui v7709
  let c0_i32_3859 : BitVec 32 := 0#32
  let v7711 : BitVec 1 := Scalar.cmpi .slt c2_i32_3855 c0_i32_3859
  let v7712 : BitVec 32 := Scalar.extui v7711
  let v7713 : BitVec 32 := Scalar.subi v7710 v7712
  let v7714 : BitVec 1 := Scalar.cmpi .ne v7708 v7713
  let v7715 : BitVec 32 := Scalar.remsi v7671 c2_i32_3855
  let c0_i32_3860 : BitVec 32 := 0#32
  let v7716 : BitVec 1 := Scalar.cmpi .ne v7715 c0_i32_3860
  let v7717 : BitVec 1 := Scalar.andi v7714 v7716
  let v7703 : BitVec 32 := Scalar.divsi v7671 c2_i32_3855
  let c1_i32_3861 : BitVec 32 := 1#32
  let v7718 : BitVec 32 := Scalar.subi v7703 c1_i32_3861
  let v7719 : BitVec 32 := Scalar.select v7717 v7718 v7703
  v7719
def k0_off47 (c0_i32_3702 : BitVec 32) : Fin 3 → Nat :=
  let c4_3862 : Index := 4#32
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let v7339 : BitVec 32 := Scalar.addi v7338 c0_i32_3702
  let c0_i32_3724 : BitVec 32 := 0#32
  let v7379 : BitVec 1 := Scalar.cmpi .sgt v7339 c0_i32_3724
  let v7380 : BitVec 32 := Scalar.extui v7379
  let c0_i32_3725 : BitVec 32 := 0#32
  let v7381 : BitVec 1 := Scalar.cmpi .slt v7339 c0_i32_3725
  let v7382 : BitVec 32 := Scalar.extui v7381
  let v7383 : BitVec 32 := Scalar.subi v7380 v7382
  let c2_i32_3723 : BitVec 32 := 2#32
  let c0_i32_3726 : BitVec 32 := 0#32
  let v7384 : BitVec 1 := Scalar.cmpi .sgt c2_i32_3723 c0_i32_3726
  let v7385 : BitVec 32 := Scalar.extui v7384
  let c0_i32_3727 : BitVec 32 := 0#32
  let v7386 : BitVec 1 := Scalar.cmpi .slt c2_i32_3723 c0_i32_3727
  let v7387 : BitVec 32 := Scalar.extui v7386
  let v7388 : BitVec 32 := Scalar.subi v7385 v7387
  let v7389 : BitVec 1 := Scalar.cmpi .ne v7383 v7388
  let v7390 : BitVec 32 := Scalar.remsi v7339 c2_i32_3723
  let c0_i32_3728 : BitVec 32 := 0#32
  let v7391 : BitVec 1 := Scalar.cmpi .ne v7390 c0_i32_3728
  let v7392 : BitVec 1 := Scalar.andi v7389 v7391
  let v7378 : BitVec 32 := Scalar.divsi v7339 c2_i32_3723
  let c1_i32_3729 : BitVec 32 := 1#32
  let v7393 : BitVec 32 := Scalar.subi v7378 c1_i32_3729
  let v7394 : BitVec 32 := Scalar.select v7392 v7393 v7378
  let c8_i32_3841 : BitVec 32 := 8#32
  let c0_i32_3711 : BitVec 32 := 0#32
  let v7352 : BitVec 1 := Scalar.cmpi .sgt v7339 c0_i32_3711
  let v7353 : BitVec 32 := Scalar.extui v7352
  let c0_i32_3712 : BitVec 32 := 0#32
  let v7354 : BitVec 1 := Scalar.cmpi .slt v7339 c0_i32_3712
  let v7355 : BitVec 32 := Scalar.extui v7354
  let v7356 : BitVec 32 := Scalar.subi v7353 v7355
  let c1_i32_3710 : BitVec 32 := 1#32
  let c0_i32_3713 : BitVec 32 := 0#32
  let v7357 : BitVec 1 := Scalar.cmpi .sgt c1_i32_3710 c0_i32_3713
  let v7358 : BitVec 32 := Scalar.extui v7357
  let c0_i32_3714 : BitVec 32 := 0#32
  let v7359 : BitVec 1 := Scalar.cmpi .slt c1_i32_3710 c0_i32_3714
  let v7360 : BitVec 32 := Scalar.extui v7359
  let v7361 : BitVec 32 := Scalar.subi v7358 v7360
  let v7362 : BitVec 1 := Scalar.cmpi .ne v7356 v7361
  let v7363 : BitVec 32 := Scalar.remsi v7339 c1_i32_3710
  let c0_i32_3715 : BitVec 32 := 0#32
  let v7364 : BitVec 1 := Scalar.cmpi .ne v7363 c0_i32_3715
  let v7365 : BitVec 1 := Scalar.andi v7362 v7364
  let v7351 : BitVec 32 := Scalar.divsi v7339 c1_i32_3710
  let c1_i32_3716 : BitVec 32 := 1#32
  let v7366 : BitVec 32 := Scalar.subi v7351 c1_i32_3716
  let v7367 : BitVec 32 := Scalar.select v7365 v7366 v7351
  let c2_i32_3717 : BitVec 32 := 2#32
  let c0_i32_3718 : BitVec 32 := 0#32
  let v7368 : BitVec 1 := Scalar.cmpi .eq c2_i32_3717 c0_i32_3718
  let c1_i32_3719 : BitVec 32 := 1#32
  let v7369 : BitVec 32 := Scalar.select v7368 c1_i32_3719 c2_i32_3717
  let v7370 : BitVec 32 := Scalar.remsi v7367 v7369
  let c0_i32_3721 : BitVec 32 := 0#32
  let v7372 : BitVec 1 := Scalar.cmpi .slt v7370 c0_i32_3721
  let c0_i32_3722 : BitVec 32 := 0#32
  let v7373 : BitVec 1 := Scalar.cmpi .slt v7369 c0_i32_3722
  let v7374 : BitVec 1 := Scalar.xori v7372 v7373
  let c0_i32_3720 : BitVec 32 := 0#32
  let v7371 : BitVec 1 := Scalar.cmpi .ne v7370 c0_i32_3720
  let v7375 : BitVec 1 := Scalar.andi v7374 v7371
  let v7376 : BitVec 32 := Scalar.addi v7370 v7369
  let v7377 : BitVec 32 := Scalar.select v7375 v7376 v7370
  let v7667 : BitVec 32 := Scalar.muli c8_i32_3841 v7377
  let v7668 : BitVec 32 := Scalar.addi v7394 v7667
  let c4_i32_3842 : BitVec 32 := 4#32
  let v7669 : BitVec 32 := Scalar.addi v7668 c4_i32_3842
  let c128_i32_3843 : BitVec 32 := 128#32
  let v7670 : BitVec 32 := Scalar.muli v7669 c128_i32_3843
  let c1_i32_3703 : BitVec 32 := 1#32
  let c0_i32_3704 : BitVec 32 := 0#32
  let v7340 : BitVec 1 := Scalar.cmpi .eq c1_i32_3703 c0_i32_3704
  let c1_i32_3705 : BitVec 32 := 1#32
  let v7341 : BitVec 32 := Scalar.select v7340 c1_i32_3705 c1_i32_3703
  let v7342 : BitVec 32 := Scalar.remsi v7339 v7341
  let c0_i32_3707 : BitVec 32 := 0#32
  let v7344 : BitVec 1 := Scalar.cmpi .slt v7342 c0_i32_3707
  let c0_i32_3708 : BitVec 32 := 0#32
  let v7345 : BitVec 1 := Scalar.cmpi .slt v7341 c0_i32_3708
  let v7346 : BitVec 1 := Scalar.xori v7344 v7345
  let c0_i32_3706 : BitVec 32 := 0#32
  let v7343 : BitVec 1 := Scalar.cmpi .ne v7342 c0_i32_3706
  let v7347 : BitVec 1 := Scalar.andi v7346 v7343
  let v7348 : BitVec 32 := Scalar.addi v7342 v7341
  let v7349 : BitVec 32 := Scalar.select v7347 v7348 v7342
  let c128_i32_3709 : BitVec 32 := 128#32
  let v7350 : BitVec 32 := Scalar.muli v7349 c128_i32_3709
  let v7671 : BitVec 32 := Scalar.addi v7670 v7350
  let c0_i32_3856 : BitVec 32 := 0#32
  let v7704 : BitVec 1 := Scalar.cmpi .sgt v7671 c0_i32_3856
  let v7705 : BitVec 32 := Scalar.extui v7704
  let c0_i32_3857 : BitVec 32 := 0#32
  let v7706 : BitVec 1 := Scalar.cmpi .slt v7671 c0_i32_3857
  let v7707 : BitVec 32 := Scalar.extui v7706
  let v7708 : BitVec 32 := Scalar.subi v7705 v7707
  let c2_i32_3855 : BitVec 32 := 2#32
  let c0_i32_3858 : BitVec 32 := 0#32
  let v7709 : BitVec 1 := Scalar.cmpi .sgt c2_i32_3855 c0_i32_3858
  let v7710 : BitVec 32 := Scalar.extui v7709
  let c0_i32_3859 : BitVec 32 := 0#32
  let v7711 : BitVec 1 := Scalar.cmpi .slt c2_i32_3855 c0_i32_3859
  let v7712 : BitVec 32 := Scalar.extui v7711
  let v7713 : BitVec 32 := Scalar.subi v7710 v7712
  let v7714 : BitVec 1 := Scalar.cmpi .ne v7708 v7713
  let v7715 : BitVec 32 := Scalar.remsi v7671 c2_i32_3855
  let c0_i32_3860 : BitVec 32 := 0#32
  let v7716 : BitVec 1 := Scalar.cmpi .ne v7715 c0_i32_3860
  let v7717 : BitVec 1 := Scalar.andi v7714 v7716
  let v7703 : BitVec 32 := Scalar.divsi v7671 c2_i32_3855
  let c1_i32_3861 : BitVec 32 := 1#32
  let v7718 : BitVec 32 := Scalar.subi v7703 c1_i32_3861
  let v7719 : BitVec 32 := Scalar.select v7717 v7718 v7703
  let v7720 : BitVec 32 := v7719
  let v7721 : Index := Scalar.indexCast v7720
  let c0_3863 : Index := 0#32
  ![4, v7721.toNat, 0]
def k0_mult331 : BitVec 32 :=
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let c1_i32_3864 : BitVec 32 := 1#32
  let v7725 : BitVec 32 := Scalar.addi v7338 c1_i32_3864
  let c0_i32_3886 : BitVec 32 := 0#32
  let v7765 : BitVec 1 := Scalar.cmpi .sgt v7725 c0_i32_3886
  let v7766 : BitVec 32 := Scalar.extui v7765
  let c0_i32_3887 : BitVec 32 := 0#32
  let v7767 : BitVec 1 := Scalar.cmpi .slt v7725 c0_i32_3887
  let v7768 : BitVec 32 := Scalar.extui v7767
  let v7769 : BitVec 32 := Scalar.subi v7766 v7768
  let c2_i32_3885 : BitVec 32 := 2#32
  let c0_i32_3888 : BitVec 32 := 0#32
  let v7770 : BitVec 1 := Scalar.cmpi .sgt c2_i32_3885 c0_i32_3888
  let v7771 : BitVec 32 := Scalar.extui v7770
  let c0_i32_3889 : BitVec 32 := 0#32
  let v7772 : BitVec 1 := Scalar.cmpi .slt c2_i32_3885 c0_i32_3889
  let v7773 : BitVec 32 := Scalar.extui v7772
  let v7774 : BitVec 32 := Scalar.subi v7771 v7773
  let v7775 : BitVec 1 := Scalar.cmpi .ne v7769 v7774
  let v7776 : BitVec 32 := Scalar.remsi v7725 c2_i32_3885
  let c0_i32_3890 : BitVec 32 := 0#32
  let v7777 : BitVec 1 := Scalar.cmpi .ne v7776 c0_i32_3890
  let v7778 : BitVec 1 := Scalar.andi v7775 v7777
  let v7764 : BitVec 32 := Scalar.divsi v7725 c2_i32_3885
  let c1_i32_3891 : BitVec 32 := 1#32
  let v7779 : BitVec 32 := Scalar.subi v7764 c1_i32_3891
  let v7780 : BitVec 32 := Scalar.select v7778 v7779 v7764
  let c8_i32_3894 : BitVec 32 := 8#32
  let c0_i32_3873 : BitVec 32 := 0#32
  let v7738 : BitVec 1 := Scalar.cmpi .sgt v7725 c0_i32_3873
  let v7739 : BitVec 32 := Scalar.extui v7738
  let c0_i32_3874 : BitVec 32 := 0#32
  let v7740 : BitVec 1 := Scalar.cmpi .slt v7725 c0_i32_3874
  let v7741 : BitVec 32 := Scalar.extui v7740
  let v7742 : BitVec 32 := Scalar.subi v7739 v7741
  let c1_i32_3872 : BitVec 32 := 1#32
  let c0_i32_3875 : BitVec 32 := 0#32
  let v7743 : BitVec 1 := Scalar.cmpi .sgt c1_i32_3872 c0_i32_3875
  let v7744 : BitVec 32 := Scalar.extui v7743
  let c0_i32_3876 : BitVec 32 := 0#32
  let v7745 : BitVec 1 := Scalar.cmpi .slt c1_i32_3872 c0_i32_3876
  let v7746 : BitVec 32 := Scalar.extui v7745
  let v7747 : BitVec 32 := Scalar.subi v7744 v7746
  let v7748 : BitVec 1 := Scalar.cmpi .ne v7742 v7747
  let v7749 : BitVec 32 := Scalar.remsi v7725 c1_i32_3872
  let c0_i32_3877 : BitVec 32 := 0#32
  let v7750 : BitVec 1 := Scalar.cmpi .ne v7749 c0_i32_3877
  let v7751 : BitVec 1 := Scalar.andi v7748 v7750
  let v7737 : BitVec 32 := Scalar.divsi v7725 c1_i32_3872
  let c1_i32_3878 : BitVec 32 := 1#32
  let v7752 : BitVec 32 := Scalar.subi v7737 c1_i32_3878
  let v7753 : BitVec 32 := Scalar.select v7751 v7752 v7737
  let c2_i32_3879 : BitVec 32 := 2#32
  let c0_i32_3880 : BitVec 32 := 0#32
  let v7754 : BitVec 1 := Scalar.cmpi .eq c2_i32_3879 c0_i32_3880
  let c1_i32_3881 : BitVec 32 := 1#32
  let v7755 : BitVec 32 := Scalar.select v7754 c1_i32_3881 c2_i32_3879
  let v7756 : BitVec 32 := Scalar.remsi v7753 v7755
  let c0_i32_3883 : BitVec 32 := 0#32
  let v7758 : BitVec 1 := Scalar.cmpi .slt v7756 c0_i32_3883
  let c0_i32_3884 : BitVec 32 := 0#32
  let v7759 : BitVec 1 := Scalar.cmpi .slt v7755 c0_i32_3884
  let v7760 : BitVec 1 := Scalar.xori v7758 v7759
  let c0_i32_3882 : BitVec 32 := 0#32
  let v7757 : BitVec 1 := Scalar.cmpi .ne v7756 c0_i32_3882
  let v7761 : BitVec 1 := Scalar.andi v7760 v7757
  let v7762 : BitVec 32 := Scalar.addi v7756 v7755
  let v7763 : BitVec 32 := Scalar.select v7761 v7762 v7756
  let v7785 : BitVec 32 := Scalar.muli c8_i32_3894 v7763
  let v7786 : BitVec 32 := Scalar.addi v7780 v7785
  let c128_i32_3895 : BitVec 32 := 128#32
  let v7787 : BitVec 32 := Scalar.muli v7786 c128_i32_3895
  let c1_i32_3865 : BitVec 32 := 1#32
  let c0_i32_3866 : BitVec 32 := 0#32
  let v7726 : BitVec 1 := Scalar.cmpi .eq c1_i32_3865 c0_i32_3866
  let c1_i32_3867 : BitVec 32 := 1#32
  let v7727 : BitVec 32 := Scalar.select v7726 c1_i32_3867 c1_i32_3865
  let v7728 : BitVec 32 := Scalar.remsi v7725 v7727
  let c0_i32_3869 : BitVec 32 := 0#32
  let v7730 : BitVec 1 := Scalar.cmpi .slt v7728 c0_i32_3869
  let c0_i32_3870 : BitVec 32 := 0#32
  let v7731 : BitVec 1 := Scalar.cmpi .slt v7727 c0_i32_3870
  let v7732 : BitVec 1 := Scalar.xori v7730 v7731
  let c0_i32_3868 : BitVec 32 := 0#32
  let v7729 : BitVec 1 := Scalar.cmpi .ne v7728 c0_i32_3868
  let v7733 : BitVec 1 := Scalar.andi v7732 v7729
  let v7734 : BitVec 32 := Scalar.addi v7728 v7727
  let v7735 : BitVec 32 := Scalar.select v7733 v7734 v7728
  let c128_i32_3871 : BitVec 32 := 128#32
  let v7736 : BitVec 32 := Scalar.muli v7735 c128_i32_3871
  let v7788 : BitVec 32 := Scalar.addi v7787 v7736
  let c0_i32_3902 : BitVec 32 := 0#32
  let v7803 : BitVec 1 := Scalar.cmpi .sgt v7788 c0_i32_3902
  let v7804 : BitVec 32 := Scalar.extui v7803
  let c0_i32_3903 : BitVec 32 := 0#32
  let v7805 : BitVec 1 := Scalar.cmpi .slt v7788 c0_i32_3903
  let v7806 : BitVec 32 := Scalar.extui v7805
  let v7807 : BitVec 32 := Scalar.subi v7804 v7806
  let c2_i32_3901 : BitVec 32 := 2#32
  let c0_i32_3904 : BitVec 32 := 0#32
  let v7808 : BitVec 1 := Scalar.cmpi .sgt c2_i32_3901 c0_i32_3904
  let v7809 : BitVec 32 := Scalar.extui v7808
  let c0_i32_3905 : BitVec 32 := 0#32
  let v7810 : BitVec 1 := Scalar.cmpi .slt c2_i32_3901 c0_i32_3905
  let v7811 : BitVec 32 := Scalar.extui v7810
  let v7812 : BitVec 32 := Scalar.subi v7809 v7811
  let v7813 : BitVec 1 := Scalar.cmpi .ne v7807 v7812
  let v7814 : BitVec 32 := Scalar.remsi v7788 c2_i32_3901
  let c0_i32_3906 : BitVec 32 := 0#32
  let v7815 : BitVec 1 := Scalar.cmpi .ne v7814 c0_i32_3906
  let v7816 : BitVec 1 := Scalar.andi v7813 v7815
  let v7802 : BitVec 32 := Scalar.divsi v7788 c2_i32_3901
  let c1_i32_3907 : BitVec 32 := 1#32
  let v7817 : BitVec 32 := Scalar.subi v7802 c1_i32_3907
  let v7818 : BitVec 32 := Scalar.select v7816 v7817 v7802
  v7818
def k0_mult332 : BitVec 32 :=
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let c1_i32_3864 : BitVec 32 := 1#32
  let v7725 : BitVec 32 := Scalar.addi v7338 c1_i32_3864
  let c0_i32_3886 : BitVec 32 := 0#32
  let v7765 : BitVec 1 := Scalar.cmpi .sgt v7725 c0_i32_3886
  let v7766 : BitVec 32 := Scalar.extui v7765
  let c0_i32_3887 : BitVec 32 := 0#32
  let v7767 : BitVec 1 := Scalar.cmpi .slt v7725 c0_i32_3887
  let v7768 : BitVec 32 := Scalar.extui v7767
  let v7769 : BitVec 32 := Scalar.subi v7766 v7768
  let c2_i32_3885 : BitVec 32 := 2#32
  let c0_i32_3888 : BitVec 32 := 0#32
  let v7770 : BitVec 1 := Scalar.cmpi .sgt c2_i32_3885 c0_i32_3888
  let v7771 : BitVec 32 := Scalar.extui v7770
  let c0_i32_3889 : BitVec 32 := 0#32
  let v7772 : BitVec 1 := Scalar.cmpi .slt c2_i32_3885 c0_i32_3889
  let v7773 : BitVec 32 := Scalar.extui v7772
  let v7774 : BitVec 32 := Scalar.subi v7771 v7773
  let v7775 : BitVec 1 := Scalar.cmpi .ne v7769 v7774
  let v7776 : BitVec 32 := Scalar.remsi v7725 c2_i32_3885
  let c0_i32_3890 : BitVec 32 := 0#32
  let v7777 : BitVec 1 := Scalar.cmpi .ne v7776 c0_i32_3890
  let v7778 : BitVec 1 := Scalar.andi v7775 v7777
  let v7764 : BitVec 32 := Scalar.divsi v7725 c2_i32_3885
  let c1_i32_3891 : BitVec 32 := 1#32
  let v7779 : BitVec 32 := Scalar.subi v7764 c1_i32_3891
  let v7780 : BitVec 32 := Scalar.select v7778 v7779 v7764
  let c8_i32_3896 : BitVec 32 := 8#32
  let c0_i32_3873 : BitVec 32 := 0#32
  let v7738 : BitVec 1 := Scalar.cmpi .sgt v7725 c0_i32_3873
  let v7739 : BitVec 32 := Scalar.extui v7738
  let c0_i32_3874 : BitVec 32 := 0#32
  let v7740 : BitVec 1 := Scalar.cmpi .slt v7725 c0_i32_3874
  let v7741 : BitVec 32 := Scalar.extui v7740
  let v7742 : BitVec 32 := Scalar.subi v7739 v7741
  let c1_i32_3872 : BitVec 32 := 1#32
  let c0_i32_3875 : BitVec 32 := 0#32
  let v7743 : BitVec 1 := Scalar.cmpi .sgt c1_i32_3872 c0_i32_3875
  let v7744 : BitVec 32 := Scalar.extui v7743
  let c0_i32_3876 : BitVec 32 := 0#32
  let v7745 : BitVec 1 := Scalar.cmpi .slt c1_i32_3872 c0_i32_3876
  let v7746 : BitVec 32 := Scalar.extui v7745
  let v7747 : BitVec 32 := Scalar.subi v7744 v7746
  let v7748 : BitVec 1 := Scalar.cmpi .ne v7742 v7747
  let v7749 : BitVec 32 := Scalar.remsi v7725 c1_i32_3872
  let c0_i32_3877 : BitVec 32 := 0#32
  let v7750 : BitVec 1 := Scalar.cmpi .ne v7749 c0_i32_3877
  let v7751 : BitVec 1 := Scalar.andi v7748 v7750
  let v7737 : BitVec 32 := Scalar.divsi v7725 c1_i32_3872
  let c1_i32_3878 : BitVec 32 := 1#32
  let v7752 : BitVec 32 := Scalar.subi v7737 c1_i32_3878
  let v7753 : BitVec 32 := Scalar.select v7751 v7752 v7737
  let c2_i32_3879 : BitVec 32 := 2#32
  let c0_i32_3880 : BitVec 32 := 0#32
  let v7754 : BitVec 1 := Scalar.cmpi .eq c2_i32_3879 c0_i32_3880
  let c1_i32_3881 : BitVec 32 := 1#32
  let v7755 : BitVec 32 := Scalar.select v7754 c1_i32_3881 c2_i32_3879
  let v7756 : BitVec 32 := Scalar.remsi v7753 v7755
  let c0_i32_3883 : BitVec 32 := 0#32
  let v7758 : BitVec 1 := Scalar.cmpi .slt v7756 c0_i32_3883
  let c0_i32_3884 : BitVec 32 := 0#32
  let v7759 : BitVec 1 := Scalar.cmpi .slt v7755 c0_i32_3884
  let v7760 : BitVec 1 := Scalar.xori v7758 v7759
  let c0_i32_3882 : BitVec 32 := 0#32
  let v7757 : BitVec 1 := Scalar.cmpi .ne v7756 c0_i32_3882
  let v7761 : BitVec 1 := Scalar.andi v7760 v7757
  let v7762 : BitVec 32 := Scalar.addi v7756 v7755
  let v7763 : BitVec 32 := Scalar.select v7761 v7762 v7756
  let v7789 : BitVec 32 := Scalar.muli c8_i32_3896 v7763
  let v7790 : BitVec 32 := Scalar.addi v7780 v7789
  let c4_i32_3897 : BitVec 32 := 4#32
  let v7791 : BitVec 32 := Scalar.addi v7790 c4_i32_3897
  let c128_i32_3898 : BitVec 32 := 128#32
  let v7792 : BitVec 32 := Scalar.muli v7791 c128_i32_3898
  let c1_i32_3865 : BitVec 32 := 1#32
  let c0_i32_3866 : BitVec 32 := 0#32
  let v7726 : BitVec 1 := Scalar.cmpi .eq c1_i32_3865 c0_i32_3866
  let c1_i32_3867 : BitVec 32 := 1#32
  let v7727 : BitVec 32 := Scalar.select v7726 c1_i32_3867 c1_i32_3865
  let v7728 : BitVec 32 := Scalar.remsi v7725 v7727
  let c0_i32_3869 : BitVec 32 := 0#32
  let v7730 : BitVec 1 := Scalar.cmpi .slt v7728 c0_i32_3869
  let c0_i32_3870 : BitVec 32 := 0#32
  let v7731 : BitVec 1 := Scalar.cmpi .slt v7727 c0_i32_3870
  let v7732 : BitVec 1 := Scalar.xori v7730 v7731
  let c0_i32_3868 : BitVec 32 := 0#32
  let v7729 : BitVec 1 := Scalar.cmpi .ne v7728 c0_i32_3868
  let v7733 : BitVec 1 := Scalar.andi v7732 v7729
  let v7734 : BitVec 32 := Scalar.addi v7728 v7727
  let v7735 : BitVec 32 := Scalar.select v7733 v7734 v7728
  let c128_i32_3871 : BitVec 32 := 128#32
  let v7736 : BitVec 32 := Scalar.muli v7735 c128_i32_3871
  let v7793 : BitVec 32 := Scalar.addi v7792 v7736
  let c0_i32_3911 : BitVec 32 := 0#32
  let v7826 : BitVec 1 := Scalar.cmpi .sgt v7793 c0_i32_3911
  let v7827 : BitVec 32 := Scalar.extui v7826
  let c0_i32_3912 : BitVec 32 := 0#32
  let v7828 : BitVec 1 := Scalar.cmpi .slt v7793 c0_i32_3912
  let v7829 : BitVec 32 := Scalar.extui v7828
  let v7830 : BitVec 32 := Scalar.subi v7827 v7829
  let c2_i32_3910 : BitVec 32 := 2#32
  let c0_i32_3913 : BitVec 32 := 0#32
  let v7831 : BitVec 1 := Scalar.cmpi .sgt c2_i32_3910 c0_i32_3913
  let v7832 : BitVec 32 := Scalar.extui v7831
  let c0_i32_3914 : BitVec 32 := 0#32
  let v7833 : BitVec 1 := Scalar.cmpi .slt c2_i32_3910 c0_i32_3914
  let v7834 : BitVec 32 := Scalar.extui v7833
  let v7835 : BitVec 32 := Scalar.subi v7832 v7834
  let v7836 : BitVec 1 := Scalar.cmpi .ne v7830 v7835
  let v7837 : BitVec 32 := Scalar.remsi v7793 c2_i32_3910
  let c0_i32_3915 : BitVec 32 := 0#32
  let v7838 : BitVec 1 := Scalar.cmpi .ne v7837 c0_i32_3915
  let v7839 : BitVec 1 := Scalar.andi v7836 v7838
  let v7825 : BitVec 32 := Scalar.divsi v7793 c2_i32_3910
  let c1_i32_3916 : BitVec 32 := 1#32
  let v7840 : BitVec 32 := Scalar.subi v7825 c1_i32_3916
  let v7841 : BitVec 32 := Scalar.select v7839 v7840 v7825
  v7841
def k0_mult333 : BitVec 32 :=
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let c1_i32_3864 : BitVec 32 := 1#32
  let v7725 : BitVec 32 := Scalar.addi v7338 c1_i32_3864
  let c0_i32_3886 : BitVec 32 := 0#32
  let v7765 : BitVec 1 := Scalar.cmpi .sgt v7725 c0_i32_3886
  let v7766 : BitVec 32 := Scalar.extui v7765
  let c0_i32_3887 : BitVec 32 := 0#32
  let v7767 : BitVec 1 := Scalar.cmpi .slt v7725 c0_i32_3887
  let v7768 : BitVec 32 := Scalar.extui v7767
  let v7769 : BitVec 32 := Scalar.subi v7766 v7768
  let c2_i32_3885 : BitVec 32 := 2#32
  let c0_i32_3888 : BitVec 32 := 0#32
  let v7770 : BitVec 1 := Scalar.cmpi .sgt c2_i32_3885 c0_i32_3888
  let v7771 : BitVec 32 := Scalar.extui v7770
  let c0_i32_3889 : BitVec 32 := 0#32
  let v7772 : BitVec 1 := Scalar.cmpi .slt c2_i32_3885 c0_i32_3889
  let v7773 : BitVec 32 := Scalar.extui v7772
  let v7774 : BitVec 32 := Scalar.subi v7771 v7773
  let v7775 : BitVec 1 := Scalar.cmpi .ne v7769 v7774
  let v7776 : BitVec 32 := Scalar.remsi v7725 c2_i32_3885
  let c0_i32_3890 : BitVec 32 := 0#32
  let v7777 : BitVec 1 := Scalar.cmpi .ne v7776 c0_i32_3890
  let v7778 : BitVec 1 := Scalar.andi v7775 v7777
  let v7764 : BitVec 32 := Scalar.divsi v7725 c2_i32_3885
  let c1_i32_3891 : BitVec 32 := 1#32
  let v7779 : BitVec 32 := Scalar.subi v7764 c1_i32_3891
  let v7780 : BitVec 32 := Scalar.select v7778 v7779 v7764
  let c8_i32_3921 : BitVec 32 := 8#32
  let c0_i32_3873 : BitVec 32 := 0#32
  let v7738 : BitVec 1 := Scalar.cmpi .sgt v7725 c0_i32_3873
  let v7739 : BitVec 32 := Scalar.extui v7738
  let c0_i32_3874 : BitVec 32 := 0#32
  let v7740 : BitVec 1 := Scalar.cmpi .slt v7725 c0_i32_3874
  let v7741 : BitVec 32 := Scalar.extui v7740
  let v7742 : BitVec 32 := Scalar.subi v7739 v7741
  let c1_i32_3872 : BitVec 32 := 1#32
  let c0_i32_3875 : BitVec 32 := 0#32
  let v7743 : BitVec 1 := Scalar.cmpi .sgt c1_i32_3872 c0_i32_3875
  let v7744 : BitVec 32 := Scalar.extui v7743
  let c0_i32_3876 : BitVec 32 := 0#32
  let v7745 : BitVec 1 := Scalar.cmpi .slt c1_i32_3872 c0_i32_3876
  let v7746 : BitVec 32 := Scalar.extui v7745
  let v7747 : BitVec 32 := Scalar.subi v7744 v7746
  let v7748 : BitVec 1 := Scalar.cmpi .ne v7742 v7747
  let v7749 : BitVec 32 := Scalar.remsi v7725 c1_i32_3872
  let c0_i32_3877 : BitVec 32 := 0#32
  let v7750 : BitVec 1 := Scalar.cmpi .ne v7749 c0_i32_3877
  let v7751 : BitVec 1 := Scalar.andi v7748 v7750
  let v7737 : BitVec 32 := Scalar.divsi v7725 c1_i32_3872
  let c1_i32_3878 : BitVec 32 := 1#32
  let v7752 : BitVec 32 := Scalar.subi v7737 c1_i32_3878
  let v7753 : BitVec 32 := Scalar.select v7751 v7752 v7737
  let c2_i32_3879 : BitVec 32 := 2#32
  let c0_i32_3880 : BitVec 32 := 0#32
  let v7754 : BitVec 1 := Scalar.cmpi .eq c2_i32_3879 c0_i32_3880
  let c1_i32_3881 : BitVec 32 := 1#32
  let v7755 : BitVec 32 := Scalar.select v7754 c1_i32_3881 c2_i32_3879
  let v7756 : BitVec 32 := Scalar.remsi v7753 v7755
  let c0_i32_3883 : BitVec 32 := 0#32
  let v7758 : BitVec 1 := Scalar.cmpi .slt v7756 c0_i32_3883
  let c0_i32_3884 : BitVec 32 := 0#32
  let v7759 : BitVec 1 := Scalar.cmpi .slt v7755 c0_i32_3884
  let v7760 : BitVec 1 := Scalar.xori v7758 v7759
  let c0_i32_3882 : BitVec 32 := 0#32
  let v7757 : BitVec 1 := Scalar.cmpi .ne v7756 c0_i32_3882
  let v7761 : BitVec 1 := Scalar.andi v7760 v7757
  let v7762 : BitVec 32 := Scalar.addi v7756 v7755
  let v7763 : BitVec 32 := Scalar.select v7761 v7762 v7756
  let v7851 : BitVec 32 := Scalar.muli c8_i32_3921 v7763
  let v7852 : BitVec 32 := Scalar.addi v7780 v7851
  let c128_i32_3922 : BitVec 32 := 128#32
  let v7853 : BitVec 32 := Scalar.muli v7852 c128_i32_3922
  let c1_i32_3865 : BitVec 32 := 1#32
  let c0_i32_3866 : BitVec 32 := 0#32
  let v7726 : BitVec 1 := Scalar.cmpi .eq c1_i32_3865 c0_i32_3866
  let c1_i32_3867 : BitVec 32 := 1#32
  let v7727 : BitVec 32 := Scalar.select v7726 c1_i32_3867 c1_i32_3865
  let v7728 : BitVec 32 := Scalar.remsi v7725 v7727
  let c0_i32_3869 : BitVec 32 := 0#32
  let v7730 : BitVec 1 := Scalar.cmpi .slt v7728 c0_i32_3869
  let c0_i32_3870 : BitVec 32 := 0#32
  let v7731 : BitVec 1 := Scalar.cmpi .slt v7727 c0_i32_3870
  let v7732 : BitVec 1 := Scalar.xori v7730 v7731
  let c0_i32_3868 : BitVec 32 := 0#32
  let v7729 : BitVec 1 := Scalar.cmpi .ne v7728 c0_i32_3868
  let v7733 : BitVec 1 := Scalar.andi v7732 v7729
  let v7734 : BitVec 32 := Scalar.addi v7728 v7727
  let v7735 : BitVec 32 := Scalar.select v7733 v7734 v7728
  let c128_i32_3871 : BitVec 32 := 128#32
  let v7736 : BitVec 32 := Scalar.muli v7735 c128_i32_3871
  let v7854 : BitVec 32 := Scalar.addi v7853 v7736
  let c0_i32_3929 : BitVec 32 := 0#32
  let v7869 : BitVec 1 := Scalar.cmpi .sgt v7854 c0_i32_3929
  let v7870 : BitVec 32 := Scalar.extui v7869
  let c0_i32_3930 : BitVec 32 := 0#32
  let v7871 : BitVec 1 := Scalar.cmpi .slt v7854 c0_i32_3930
  let v7872 : BitVec 32 := Scalar.extui v7871
  let v7873 : BitVec 32 := Scalar.subi v7870 v7872
  let c2_i32_3928 : BitVec 32 := 2#32
  let c0_i32_3931 : BitVec 32 := 0#32
  let v7874 : BitVec 1 := Scalar.cmpi .sgt c2_i32_3928 c0_i32_3931
  let v7875 : BitVec 32 := Scalar.extui v7874
  let c0_i32_3932 : BitVec 32 := 0#32
  let v7876 : BitVec 1 := Scalar.cmpi .slt c2_i32_3928 c0_i32_3932
  let v7877 : BitVec 32 := Scalar.extui v7876
  let v7878 : BitVec 32 := Scalar.subi v7875 v7877
  let v7879 : BitVec 1 := Scalar.cmpi .ne v7873 v7878
  let v7880 : BitVec 32 := Scalar.remsi v7854 c2_i32_3928
  let c0_i32_3933 : BitVec 32 := 0#32
  let v7881 : BitVec 1 := Scalar.cmpi .ne v7880 c0_i32_3933
  let v7882 : BitVec 1 := Scalar.andi v7879 v7881
  let v7868 : BitVec 32 := Scalar.divsi v7854 c2_i32_3928
  let c1_i32_3934 : BitVec 32 := 1#32
  let v7883 : BitVec 32 := Scalar.subi v7868 c1_i32_3934
  let v7884 : BitVec 32 := Scalar.select v7882 v7883 v7868
  v7884
def k0_mult334 : BitVec 32 :=
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let c1_i32_3864 : BitVec 32 := 1#32
  let v7725 : BitVec 32 := Scalar.addi v7338 c1_i32_3864
  let c0_i32_3886 : BitVec 32 := 0#32
  let v7765 : BitVec 1 := Scalar.cmpi .sgt v7725 c0_i32_3886
  let v7766 : BitVec 32 := Scalar.extui v7765
  let c0_i32_3887 : BitVec 32 := 0#32
  let v7767 : BitVec 1 := Scalar.cmpi .slt v7725 c0_i32_3887
  let v7768 : BitVec 32 := Scalar.extui v7767
  let v7769 : BitVec 32 := Scalar.subi v7766 v7768
  let c2_i32_3885 : BitVec 32 := 2#32
  let c0_i32_3888 : BitVec 32 := 0#32
  let v7770 : BitVec 1 := Scalar.cmpi .sgt c2_i32_3885 c0_i32_3888
  let v7771 : BitVec 32 := Scalar.extui v7770
  let c0_i32_3889 : BitVec 32 := 0#32
  let v7772 : BitVec 1 := Scalar.cmpi .slt c2_i32_3885 c0_i32_3889
  let v7773 : BitVec 32 := Scalar.extui v7772
  let v7774 : BitVec 32 := Scalar.subi v7771 v7773
  let v7775 : BitVec 1 := Scalar.cmpi .ne v7769 v7774
  let v7776 : BitVec 32 := Scalar.remsi v7725 c2_i32_3885
  let c0_i32_3890 : BitVec 32 := 0#32
  let v7777 : BitVec 1 := Scalar.cmpi .ne v7776 c0_i32_3890
  let v7778 : BitVec 1 := Scalar.andi v7775 v7777
  let v7764 : BitVec 32 := Scalar.divsi v7725 c2_i32_3885
  let c1_i32_3891 : BitVec 32 := 1#32
  let v7779 : BitVec 32 := Scalar.subi v7764 c1_i32_3891
  let v7780 : BitVec 32 := Scalar.select v7778 v7779 v7764
  let c8_i32_3923 : BitVec 32 := 8#32
  let c0_i32_3873 : BitVec 32 := 0#32
  let v7738 : BitVec 1 := Scalar.cmpi .sgt v7725 c0_i32_3873
  let v7739 : BitVec 32 := Scalar.extui v7738
  let c0_i32_3874 : BitVec 32 := 0#32
  let v7740 : BitVec 1 := Scalar.cmpi .slt v7725 c0_i32_3874
  let v7741 : BitVec 32 := Scalar.extui v7740
  let v7742 : BitVec 32 := Scalar.subi v7739 v7741
  let c1_i32_3872 : BitVec 32 := 1#32
  let c0_i32_3875 : BitVec 32 := 0#32
  let v7743 : BitVec 1 := Scalar.cmpi .sgt c1_i32_3872 c0_i32_3875
  let v7744 : BitVec 32 := Scalar.extui v7743
  let c0_i32_3876 : BitVec 32 := 0#32
  let v7745 : BitVec 1 := Scalar.cmpi .slt c1_i32_3872 c0_i32_3876
  let v7746 : BitVec 32 := Scalar.extui v7745
  let v7747 : BitVec 32 := Scalar.subi v7744 v7746
  let v7748 : BitVec 1 := Scalar.cmpi .ne v7742 v7747
  let v7749 : BitVec 32 := Scalar.remsi v7725 c1_i32_3872
  let c0_i32_3877 : BitVec 32 := 0#32
  let v7750 : BitVec 1 := Scalar.cmpi .ne v7749 c0_i32_3877
  let v7751 : BitVec 1 := Scalar.andi v7748 v7750
  let v7737 : BitVec 32 := Scalar.divsi v7725 c1_i32_3872
  let c1_i32_3878 : BitVec 32 := 1#32
  let v7752 : BitVec 32 := Scalar.subi v7737 c1_i32_3878
  let v7753 : BitVec 32 := Scalar.select v7751 v7752 v7737
  let c2_i32_3879 : BitVec 32 := 2#32
  let c0_i32_3880 : BitVec 32 := 0#32
  let v7754 : BitVec 1 := Scalar.cmpi .eq c2_i32_3879 c0_i32_3880
  let c1_i32_3881 : BitVec 32 := 1#32
  let v7755 : BitVec 32 := Scalar.select v7754 c1_i32_3881 c2_i32_3879
  let v7756 : BitVec 32 := Scalar.remsi v7753 v7755
  let c0_i32_3883 : BitVec 32 := 0#32
  let v7758 : BitVec 1 := Scalar.cmpi .slt v7756 c0_i32_3883
  let c0_i32_3884 : BitVec 32 := 0#32
  let v7759 : BitVec 1 := Scalar.cmpi .slt v7755 c0_i32_3884
  let v7760 : BitVec 1 := Scalar.xori v7758 v7759
  let c0_i32_3882 : BitVec 32 := 0#32
  let v7757 : BitVec 1 := Scalar.cmpi .ne v7756 c0_i32_3882
  let v7761 : BitVec 1 := Scalar.andi v7760 v7757
  let v7762 : BitVec 32 := Scalar.addi v7756 v7755
  let v7763 : BitVec 32 := Scalar.select v7761 v7762 v7756
  let v7855 : BitVec 32 := Scalar.muli c8_i32_3923 v7763
  let v7856 : BitVec 32 := Scalar.addi v7780 v7855
  let c4_i32_3924 : BitVec 32 := 4#32
  let v7857 : BitVec 32 := Scalar.addi v7856 c4_i32_3924
  let c128_i32_3925 : BitVec 32 := 128#32
  let v7858 : BitVec 32 := Scalar.muli v7857 c128_i32_3925
  let c1_i32_3865 : BitVec 32 := 1#32
  let c0_i32_3866 : BitVec 32 := 0#32
  let v7726 : BitVec 1 := Scalar.cmpi .eq c1_i32_3865 c0_i32_3866
  let c1_i32_3867 : BitVec 32 := 1#32
  let v7727 : BitVec 32 := Scalar.select v7726 c1_i32_3867 c1_i32_3865
  let v7728 : BitVec 32 := Scalar.remsi v7725 v7727
  let c0_i32_3869 : BitVec 32 := 0#32
  let v7730 : BitVec 1 := Scalar.cmpi .slt v7728 c0_i32_3869
  let c0_i32_3870 : BitVec 32 := 0#32
  let v7731 : BitVec 1 := Scalar.cmpi .slt v7727 c0_i32_3870
  let v7732 : BitVec 1 := Scalar.xori v7730 v7731
  let c0_i32_3868 : BitVec 32 := 0#32
  let v7729 : BitVec 1 := Scalar.cmpi .ne v7728 c0_i32_3868
  let v7733 : BitVec 1 := Scalar.andi v7732 v7729
  let v7734 : BitVec 32 := Scalar.addi v7728 v7727
  let v7735 : BitVec 32 := Scalar.select v7733 v7734 v7728
  let c128_i32_3871 : BitVec 32 := 128#32
  let v7736 : BitVec 32 := Scalar.muli v7735 c128_i32_3871
  let v7859 : BitVec 32 := Scalar.addi v7858 v7736
  let c0_i32_3938 : BitVec 32 := 0#32
  let v7892 : BitVec 1 := Scalar.cmpi .sgt v7859 c0_i32_3938
  let v7893 : BitVec 32 := Scalar.extui v7892
  let c0_i32_3939 : BitVec 32 := 0#32
  let v7894 : BitVec 1 := Scalar.cmpi .slt v7859 c0_i32_3939
  let v7895 : BitVec 32 := Scalar.extui v7894
  let v7896 : BitVec 32 := Scalar.subi v7893 v7895
  let c2_i32_3937 : BitVec 32 := 2#32
  let c0_i32_3940 : BitVec 32 := 0#32
  let v7897 : BitVec 1 := Scalar.cmpi .sgt c2_i32_3937 c0_i32_3940
  let v7898 : BitVec 32 := Scalar.extui v7897
  let c0_i32_3941 : BitVec 32 := 0#32
  let v7899 : BitVec 1 := Scalar.cmpi .slt c2_i32_3937 c0_i32_3941
  let v7900 : BitVec 32 := Scalar.extui v7899
  let v7901 : BitVec 32 := Scalar.subi v7898 v7900
  let v7902 : BitVec 1 := Scalar.cmpi .ne v7896 v7901
  let v7903 : BitVec 32 := Scalar.remsi v7859 c2_i32_3937
  let c0_i32_3942 : BitVec 32 := 0#32
  let v7904 : BitVec 1 := Scalar.cmpi .ne v7903 c0_i32_3942
  let v7905 : BitVec 1 := Scalar.andi v7902 v7904
  let v7891 : BitVec 32 := Scalar.divsi v7859 c2_i32_3937
  let c1_i32_3943 : BitVec 32 := 1#32
  let v7906 : BitVec 32 := Scalar.subi v7891 c1_i32_3943
  let v7907 : BitVec 32 := Scalar.select v7905 v7906 v7891
  v7907
def k0_mult335 : BitVec 32 :=
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let c1_i32_3864 : BitVec 32 := 1#32
  let v7725 : BitVec 32 := Scalar.addi v7338 c1_i32_3864
  let c0_i32_3886 : BitVec 32 := 0#32
  let v7765 : BitVec 1 := Scalar.cmpi .sgt v7725 c0_i32_3886
  let v7766 : BitVec 32 := Scalar.extui v7765
  let c0_i32_3887 : BitVec 32 := 0#32
  let v7767 : BitVec 1 := Scalar.cmpi .slt v7725 c0_i32_3887
  let v7768 : BitVec 32 := Scalar.extui v7767
  let v7769 : BitVec 32 := Scalar.subi v7766 v7768
  let c2_i32_3885 : BitVec 32 := 2#32
  let c0_i32_3888 : BitVec 32 := 0#32
  let v7770 : BitVec 1 := Scalar.cmpi .sgt c2_i32_3885 c0_i32_3888
  let v7771 : BitVec 32 := Scalar.extui v7770
  let c0_i32_3889 : BitVec 32 := 0#32
  let v7772 : BitVec 1 := Scalar.cmpi .slt c2_i32_3885 c0_i32_3889
  let v7773 : BitVec 32 := Scalar.extui v7772
  let v7774 : BitVec 32 := Scalar.subi v7771 v7773
  let v7775 : BitVec 1 := Scalar.cmpi .ne v7769 v7774
  let v7776 : BitVec 32 := Scalar.remsi v7725 c2_i32_3885
  let c0_i32_3890 : BitVec 32 := 0#32
  let v7777 : BitVec 1 := Scalar.cmpi .ne v7776 c0_i32_3890
  let v7778 : BitVec 1 := Scalar.andi v7775 v7777
  let v7764 : BitVec 32 := Scalar.divsi v7725 c2_i32_3885
  let c1_i32_3891 : BitVec 32 := 1#32
  let v7779 : BitVec 32 := Scalar.subi v7764 c1_i32_3891
  let v7780 : BitVec 32 := Scalar.select v7778 v7779 v7764
  let c8_i32_3948 : BitVec 32 := 8#32
  let c0_i32_3873 : BitVec 32 := 0#32
  let v7738 : BitVec 1 := Scalar.cmpi .sgt v7725 c0_i32_3873
  let v7739 : BitVec 32 := Scalar.extui v7738
  let c0_i32_3874 : BitVec 32 := 0#32
  let v7740 : BitVec 1 := Scalar.cmpi .slt v7725 c0_i32_3874
  let v7741 : BitVec 32 := Scalar.extui v7740
  let v7742 : BitVec 32 := Scalar.subi v7739 v7741
  let c1_i32_3872 : BitVec 32 := 1#32
  let c0_i32_3875 : BitVec 32 := 0#32
  let v7743 : BitVec 1 := Scalar.cmpi .sgt c1_i32_3872 c0_i32_3875
  let v7744 : BitVec 32 := Scalar.extui v7743
  let c0_i32_3876 : BitVec 32 := 0#32
  let v7745 : BitVec 1 := Scalar.cmpi .slt c1_i32_3872 c0_i32_3876
  let v7746 : BitVec 32 := Scalar.extui v7745
  let v7747 : BitVec 32 := Scalar.subi v7744 v7746
  let v7748 : BitVec 1 := Scalar.cmpi .ne v7742 v7747
  let v7749 : BitVec 32 := Scalar.remsi v7725 c1_i32_3872
  let c0_i32_3877 : BitVec 32 := 0#32
  let v7750 : BitVec 1 := Scalar.cmpi .ne v7749 c0_i32_3877
  let v7751 : BitVec 1 := Scalar.andi v7748 v7750
  let v7737 : BitVec 32 := Scalar.divsi v7725 c1_i32_3872
  let c1_i32_3878 : BitVec 32 := 1#32
  let v7752 : BitVec 32 := Scalar.subi v7737 c1_i32_3878
  let v7753 : BitVec 32 := Scalar.select v7751 v7752 v7737
  let c2_i32_3879 : BitVec 32 := 2#32
  let c0_i32_3880 : BitVec 32 := 0#32
  let v7754 : BitVec 1 := Scalar.cmpi .eq c2_i32_3879 c0_i32_3880
  let c1_i32_3881 : BitVec 32 := 1#32
  let v7755 : BitVec 32 := Scalar.select v7754 c1_i32_3881 c2_i32_3879
  let v7756 : BitVec 32 := Scalar.remsi v7753 v7755
  let c0_i32_3883 : BitVec 32 := 0#32
  let v7758 : BitVec 1 := Scalar.cmpi .slt v7756 c0_i32_3883
  let c0_i32_3884 : BitVec 32 := 0#32
  let v7759 : BitVec 1 := Scalar.cmpi .slt v7755 c0_i32_3884
  let v7760 : BitVec 1 := Scalar.xori v7758 v7759
  let c0_i32_3882 : BitVec 32 := 0#32
  let v7757 : BitVec 1 := Scalar.cmpi .ne v7756 c0_i32_3882
  let v7761 : BitVec 1 := Scalar.andi v7760 v7757
  let v7762 : BitVec 32 := Scalar.addi v7756 v7755
  let v7763 : BitVec 32 := Scalar.select v7761 v7762 v7756
  let v7917 : BitVec 32 := Scalar.muli c8_i32_3948 v7763
  let v7918 : BitVec 32 := Scalar.addi v7780 v7917
  let c128_i32_3949 : BitVec 32 := 128#32
  let v7919 : BitVec 32 := Scalar.muli v7918 c128_i32_3949
  let c1_i32_3865 : BitVec 32 := 1#32
  let c0_i32_3866 : BitVec 32 := 0#32
  let v7726 : BitVec 1 := Scalar.cmpi .eq c1_i32_3865 c0_i32_3866
  let c1_i32_3867 : BitVec 32 := 1#32
  let v7727 : BitVec 32 := Scalar.select v7726 c1_i32_3867 c1_i32_3865
  let v7728 : BitVec 32 := Scalar.remsi v7725 v7727
  let c0_i32_3869 : BitVec 32 := 0#32
  let v7730 : BitVec 1 := Scalar.cmpi .slt v7728 c0_i32_3869
  let c0_i32_3870 : BitVec 32 := 0#32
  let v7731 : BitVec 1 := Scalar.cmpi .slt v7727 c0_i32_3870
  let v7732 : BitVec 1 := Scalar.xori v7730 v7731
  let c0_i32_3868 : BitVec 32 := 0#32
  let v7729 : BitVec 1 := Scalar.cmpi .ne v7728 c0_i32_3868
  let v7733 : BitVec 1 := Scalar.andi v7732 v7729
  let v7734 : BitVec 32 := Scalar.addi v7728 v7727
  let v7735 : BitVec 32 := Scalar.select v7733 v7734 v7728
  let c128_i32_3871 : BitVec 32 := 128#32
  let v7736 : BitVec 32 := Scalar.muli v7735 c128_i32_3871
  let v7920 : BitVec 32 := Scalar.addi v7919 v7736
  let c0_i32_3956 : BitVec 32 := 0#32
  let v7935 : BitVec 1 := Scalar.cmpi .sgt v7920 c0_i32_3956
  let v7936 : BitVec 32 := Scalar.extui v7935
  let c0_i32_3957 : BitVec 32 := 0#32
  let v7937 : BitVec 1 := Scalar.cmpi .slt v7920 c0_i32_3957
  let v7938 : BitVec 32 := Scalar.extui v7937
  let v7939 : BitVec 32 := Scalar.subi v7936 v7938
  let c2_i32_3955 : BitVec 32 := 2#32
  let c0_i32_3958 : BitVec 32 := 0#32
  let v7940 : BitVec 1 := Scalar.cmpi .sgt c2_i32_3955 c0_i32_3958
  let v7941 : BitVec 32 := Scalar.extui v7940
  let c0_i32_3959 : BitVec 32 := 0#32
  let v7942 : BitVec 1 := Scalar.cmpi .slt c2_i32_3955 c0_i32_3959
  let v7943 : BitVec 32 := Scalar.extui v7942
  let v7944 : BitVec 32 := Scalar.subi v7941 v7943
  let v7945 : BitVec 1 := Scalar.cmpi .ne v7939 v7944
  let v7946 : BitVec 32 := Scalar.remsi v7920 c2_i32_3955
  let c0_i32_3960 : BitVec 32 := 0#32
  let v7947 : BitVec 1 := Scalar.cmpi .ne v7946 c0_i32_3960
  let v7948 : BitVec 1 := Scalar.andi v7945 v7947
  let v7934 : BitVec 32 := Scalar.divsi v7920 c2_i32_3955
  let c1_i32_3961 : BitVec 32 := 1#32
  let v7949 : BitVec 32 := Scalar.subi v7934 c1_i32_3961
  let v7950 : BitVec 32 := Scalar.select v7948 v7949 v7934
  v7950
def k0_mult336 : BitVec 32 :=
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let c1_i32_3864 : BitVec 32 := 1#32
  let v7725 : BitVec 32 := Scalar.addi v7338 c1_i32_3864
  let c0_i32_3886 : BitVec 32 := 0#32
  let v7765 : BitVec 1 := Scalar.cmpi .sgt v7725 c0_i32_3886
  let v7766 : BitVec 32 := Scalar.extui v7765
  let c0_i32_3887 : BitVec 32 := 0#32
  let v7767 : BitVec 1 := Scalar.cmpi .slt v7725 c0_i32_3887
  let v7768 : BitVec 32 := Scalar.extui v7767
  let v7769 : BitVec 32 := Scalar.subi v7766 v7768
  let c2_i32_3885 : BitVec 32 := 2#32
  let c0_i32_3888 : BitVec 32 := 0#32
  let v7770 : BitVec 1 := Scalar.cmpi .sgt c2_i32_3885 c0_i32_3888
  let v7771 : BitVec 32 := Scalar.extui v7770
  let c0_i32_3889 : BitVec 32 := 0#32
  let v7772 : BitVec 1 := Scalar.cmpi .slt c2_i32_3885 c0_i32_3889
  let v7773 : BitVec 32 := Scalar.extui v7772
  let v7774 : BitVec 32 := Scalar.subi v7771 v7773
  let v7775 : BitVec 1 := Scalar.cmpi .ne v7769 v7774
  let v7776 : BitVec 32 := Scalar.remsi v7725 c2_i32_3885
  let c0_i32_3890 : BitVec 32 := 0#32
  let v7777 : BitVec 1 := Scalar.cmpi .ne v7776 c0_i32_3890
  let v7778 : BitVec 1 := Scalar.andi v7775 v7777
  let v7764 : BitVec 32 := Scalar.divsi v7725 c2_i32_3885
  let c1_i32_3891 : BitVec 32 := 1#32
  let v7779 : BitVec 32 := Scalar.subi v7764 c1_i32_3891
  let v7780 : BitVec 32 := Scalar.select v7778 v7779 v7764
  let c8_i32_3950 : BitVec 32 := 8#32
  let c0_i32_3873 : BitVec 32 := 0#32
  let v7738 : BitVec 1 := Scalar.cmpi .sgt v7725 c0_i32_3873
  let v7739 : BitVec 32 := Scalar.extui v7738
  let c0_i32_3874 : BitVec 32 := 0#32
  let v7740 : BitVec 1 := Scalar.cmpi .slt v7725 c0_i32_3874
  let v7741 : BitVec 32 := Scalar.extui v7740
  let v7742 : BitVec 32 := Scalar.subi v7739 v7741
  let c1_i32_3872 : BitVec 32 := 1#32
  let c0_i32_3875 : BitVec 32 := 0#32
  let v7743 : BitVec 1 := Scalar.cmpi .sgt c1_i32_3872 c0_i32_3875
  let v7744 : BitVec 32 := Scalar.extui v7743
  let c0_i32_3876 : BitVec 32 := 0#32
  let v7745 : BitVec 1 := Scalar.cmpi .slt c1_i32_3872 c0_i32_3876
  let v7746 : BitVec 32 := Scalar.extui v7745
  let v7747 : BitVec 32 := Scalar.subi v7744 v7746
  let v7748 : BitVec 1 := Scalar.cmpi .ne v7742 v7747
  let v7749 : BitVec 32 := Scalar.remsi v7725 c1_i32_3872
  let c0_i32_3877 : BitVec 32 := 0#32
  let v7750 : BitVec 1 := Scalar.cmpi .ne v7749 c0_i32_3877
  let v7751 : BitVec 1 := Scalar.andi v7748 v7750
  let v7737 : BitVec 32 := Scalar.divsi v7725 c1_i32_3872
  let c1_i32_3878 : BitVec 32 := 1#32
  let v7752 : BitVec 32 := Scalar.subi v7737 c1_i32_3878
  let v7753 : BitVec 32 := Scalar.select v7751 v7752 v7737
  let c2_i32_3879 : BitVec 32 := 2#32
  let c0_i32_3880 : BitVec 32 := 0#32
  let v7754 : BitVec 1 := Scalar.cmpi .eq c2_i32_3879 c0_i32_3880
  let c1_i32_3881 : BitVec 32 := 1#32
  let v7755 : BitVec 32 := Scalar.select v7754 c1_i32_3881 c2_i32_3879
  let v7756 : BitVec 32 := Scalar.remsi v7753 v7755
  let c0_i32_3883 : BitVec 32 := 0#32
  let v7758 : BitVec 1 := Scalar.cmpi .slt v7756 c0_i32_3883
  let c0_i32_3884 : BitVec 32 := 0#32
  let v7759 : BitVec 1 := Scalar.cmpi .slt v7755 c0_i32_3884
  let v7760 : BitVec 1 := Scalar.xori v7758 v7759
  let c0_i32_3882 : BitVec 32 := 0#32
  let v7757 : BitVec 1 := Scalar.cmpi .ne v7756 c0_i32_3882
  let v7761 : BitVec 1 := Scalar.andi v7760 v7757
  let v7762 : BitVec 32 := Scalar.addi v7756 v7755
  let v7763 : BitVec 32 := Scalar.select v7761 v7762 v7756
  let v7921 : BitVec 32 := Scalar.muli c8_i32_3950 v7763
  let v7922 : BitVec 32 := Scalar.addi v7780 v7921
  let c4_i32_3951 : BitVec 32 := 4#32
  let v7923 : BitVec 32 := Scalar.addi v7922 c4_i32_3951
  let c128_i32_3952 : BitVec 32 := 128#32
  let v7924 : BitVec 32 := Scalar.muli v7923 c128_i32_3952
  let c1_i32_3865 : BitVec 32 := 1#32
  let c0_i32_3866 : BitVec 32 := 0#32
  let v7726 : BitVec 1 := Scalar.cmpi .eq c1_i32_3865 c0_i32_3866
  let c1_i32_3867 : BitVec 32 := 1#32
  let v7727 : BitVec 32 := Scalar.select v7726 c1_i32_3867 c1_i32_3865
  let v7728 : BitVec 32 := Scalar.remsi v7725 v7727
  let c0_i32_3869 : BitVec 32 := 0#32
  let v7730 : BitVec 1 := Scalar.cmpi .slt v7728 c0_i32_3869
  let c0_i32_3870 : BitVec 32 := 0#32
  let v7731 : BitVec 1 := Scalar.cmpi .slt v7727 c0_i32_3870
  let v7732 : BitVec 1 := Scalar.xori v7730 v7731
  let c0_i32_3868 : BitVec 32 := 0#32
  let v7729 : BitVec 1 := Scalar.cmpi .ne v7728 c0_i32_3868
  let v7733 : BitVec 1 := Scalar.andi v7732 v7729
  let v7734 : BitVec 32 := Scalar.addi v7728 v7727
  let v7735 : BitVec 32 := Scalar.select v7733 v7734 v7728
  let c128_i32_3871 : BitVec 32 := 128#32
  let v7736 : BitVec 32 := Scalar.muli v7735 c128_i32_3871
  let v7925 : BitVec 32 := Scalar.addi v7924 v7736
  let c0_i32_3965 : BitVec 32 := 0#32
  let v7958 : BitVec 1 := Scalar.cmpi .sgt v7925 c0_i32_3965
  let v7959 : BitVec 32 := Scalar.extui v7958
  let c0_i32_3966 : BitVec 32 := 0#32
  let v7960 : BitVec 1 := Scalar.cmpi .slt v7925 c0_i32_3966
  let v7961 : BitVec 32 := Scalar.extui v7960
  let v7962 : BitVec 32 := Scalar.subi v7959 v7961
  let c2_i32_3964 : BitVec 32 := 2#32
  let c0_i32_3967 : BitVec 32 := 0#32
  let v7963 : BitVec 1 := Scalar.cmpi .sgt c2_i32_3964 c0_i32_3967
  let v7964 : BitVec 32 := Scalar.extui v7963
  let c0_i32_3968 : BitVec 32 := 0#32
  let v7965 : BitVec 1 := Scalar.cmpi .slt c2_i32_3964 c0_i32_3968
  let v7966 : BitVec 32 := Scalar.extui v7965
  let v7967 : BitVec 32 := Scalar.subi v7964 v7966
  let v7968 : BitVec 1 := Scalar.cmpi .ne v7962 v7967
  let v7969 : BitVec 32 := Scalar.remsi v7925 c2_i32_3964
  let c0_i32_3969 : BitVec 32 := 0#32
  let v7970 : BitVec 1 := Scalar.cmpi .ne v7969 c0_i32_3969
  let v7971 : BitVec 1 := Scalar.andi v7968 v7970
  let v7957 : BitVec 32 := Scalar.divsi v7925 c2_i32_3964
  let c1_i32_3970 : BitVec 32 := 1#32
  let v7972 : BitVec 32 := Scalar.subi v7957 c1_i32_3970
  let v7973 : BitVec 32 := Scalar.select v7971 v7972 v7957
  v7973
def k0_mult337 : BitVec 32 :=
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let c1_i32_3864 : BitVec 32 := 1#32
  let v7725 : BitVec 32 := Scalar.addi v7338 c1_i32_3864
  let c0_i32_3886 : BitVec 32 := 0#32
  let v7765 : BitVec 1 := Scalar.cmpi .sgt v7725 c0_i32_3886
  let v7766 : BitVec 32 := Scalar.extui v7765
  let c0_i32_3887 : BitVec 32 := 0#32
  let v7767 : BitVec 1 := Scalar.cmpi .slt v7725 c0_i32_3887
  let v7768 : BitVec 32 := Scalar.extui v7767
  let v7769 : BitVec 32 := Scalar.subi v7766 v7768
  let c2_i32_3885 : BitVec 32 := 2#32
  let c0_i32_3888 : BitVec 32 := 0#32
  let v7770 : BitVec 1 := Scalar.cmpi .sgt c2_i32_3885 c0_i32_3888
  let v7771 : BitVec 32 := Scalar.extui v7770
  let c0_i32_3889 : BitVec 32 := 0#32
  let v7772 : BitVec 1 := Scalar.cmpi .slt c2_i32_3885 c0_i32_3889
  let v7773 : BitVec 32 := Scalar.extui v7772
  let v7774 : BitVec 32 := Scalar.subi v7771 v7773
  let v7775 : BitVec 1 := Scalar.cmpi .ne v7769 v7774
  let v7776 : BitVec 32 := Scalar.remsi v7725 c2_i32_3885
  let c0_i32_3890 : BitVec 32 := 0#32
  let v7777 : BitVec 1 := Scalar.cmpi .ne v7776 c0_i32_3890
  let v7778 : BitVec 1 := Scalar.andi v7775 v7777
  let v7764 : BitVec 32 := Scalar.divsi v7725 c2_i32_3885
  let c1_i32_3891 : BitVec 32 := 1#32
  let v7779 : BitVec 32 := Scalar.subi v7764 c1_i32_3891
  let v7780 : BitVec 32 := Scalar.select v7778 v7779 v7764
  let c8_i32_3975 : BitVec 32 := 8#32
  let c0_i32_3873 : BitVec 32 := 0#32
  let v7738 : BitVec 1 := Scalar.cmpi .sgt v7725 c0_i32_3873
  let v7739 : BitVec 32 := Scalar.extui v7738
  let c0_i32_3874 : BitVec 32 := 0#32
  let v7740 : BitVec 1 := Scalar.cmpi .slt v7725 c0_i32_3874
  let v7741 : BitVec 32 := Scalar.extui v7740
  let v7742 : BitVec 32 := Scalar.subi v7739 v7741
  let c1_i32_3872 : BitVec 32 := 1#32
  let c0_i32_3875 : BitVec 32 := 0#32
  let v7743 : BitVec 1 := Scalar.cmpi .sgt c1_i32_3872 c0_i32_3875
  let v7744 : BitVec 32 := Scalar.extui v7743
  let c0_i32_3876 : BitVec 32 := 0#32
  let v7745 : BitVec 1 := Scalar.cmpi .slt c1_i32_3872 c0_i32_3876
  let v7746 : BitVec 32 := Scalar.extui v7745
  let v7747 : BitVec 32 := Scalar.subi v7744 v7746
  let v7748 : BitVec 1 := Scalar.cmpi .ne v7742 v7747
  let v7749 : BitVec 32 := Scalar.remsi v7725 c1_i32_3872
  let c0_i32_3877 : BitVec 32 := 0#32
  let v7750 : BitVec 1 := Scalar.cmpi .ne v7749 c0_i32_3877
  let v7751 : BitVec 1 := Scalar.andi v7748 v7750
  let v7737 : BitVec 32 := Scalar.divsi v7725 c1_i32_3872
  let c1_i32_3878 : BitVec 32 := 1#32
  let v7752 : BitVec 32 := Scalar.subi v7737 c1_i32_3878
  let v7753 : BitVec 32 := Scalar.select v7751 v7752 v7737
  let c2_i32_3879 : BitVec 32 := 2#32
  let c0_i32_3880 : BitVec 32 := 0#32
  let v7754 : BitVec 1 := Scalar.cmpi .eq c2_i32_3879 c0_i32_3880
  let c1_i32_3881 : BitVec 32 := 1#32
  let v7755 : BitVec 32 := Scalar.select v7754 c1_i32_3881 c2_i32_3879
  let v7756 : BitVec 32 := Scalar.remsi v7753 v7755
  let c0_i32_3883 : BitVec 32 := 0#32
  let v7758 : BitVec 1 := Scalar.cmpi .slt v7756 c0_i32_3883
  let c0_i32_3884 : BitVec 32 := 0#32
  let v7759 : BitVec 1 := Scalar.cmpi .slt v7755 c0_i32_3884
  let v7760 : BitVec 1 := Scalar.xori v7758 v7759
  let c0_i32_3882 : BitVec 32 := 0#32
  let v7757 : BitVec 1 := Scalar.cmpi .ne v7756 c0_i32_3882
  let v7761 : BitVec 1 := Scalar.andi v7760 v7757
  let v7762 : BitVec 32 := Scalar.addi v7756 v7755
  let v7763 : BitVec 32 := Scalar.select v7761 v7762 v7756
  let v7983 : BitVec 32 := Scalar.muli c8_i32_3975 v7763
  let v7984 : BitVec 32 := Scalar.addi v7780 v7983
  let c128_i32_3976 : BitVec 32 := 128#32
  let v7985 : BitVec 32 := Scalar.muli v7984 c128_i32_3976
  let c1_i32_3865 : BitVec 32 := 1#32
  let c0_i32_3866 : BitVec 32 := 0#32
  let v7726 : BitVec 1 := Scalar.cmpi .eq c1_i32_3865 c0_i32_3866
  let c1_i32_3867 : BitVec 32 := 1#32
  let v7727 : BitVec 32 := Scalar.select v7726 c1_i32_3867 c1_i32_3865
  let v7728 : BitVec 32 := Scalar.remsi v7725 v7727
  let c0_i32_3869 : BitVec 32 := 0#32
  let v7730 : BitVec 1 := Scalar.cmpi .slt v7728 c0_i32_3869
  let c0_i32_3870 : BitVec 32 := 0#32
  let v7731 : BitVec 1 := Scalar.cmpi .slt v7727 c0_i32_3870
  let v7732 : BitVec 1 := Scalar.xori v7730 v7731
  let c0_i32_3868 : BitVec 32 := 0#32
  let v7729 : BitVec 1 := Scalar.cmpi .ne v7728 c0_i32_3868
  let v7733 : BitVec 1 := Scalar.andi v7732 v7729
  let v7734 : BitVec 32 := Scalar.addi v7728 v7727
  let v7735 : BitVec 32 := Scalar.select v7733 v7734 v7728
  let c128_i32_3871 : BitVec 32 := 128#32
  let v7736 : BitVec 32 := Scalar.muli v7735 c128_i32_3871
  let v7986 : BitVec 32 := Scalar.addi v7985 v7736
  let c0_i32_3983 : BitVec 32 := 0#32
  let v8001 : BitVec 1 := Scalar.cmpi .sgt v7986 c0_i32_3983
  let v8002 : BitVec 32 := Scalar.extui v8001
  let c0_i32_3984 : BitVec 32 := 0#32
  let v8003 : BitVec 1 := Scalar.cmpi .slt v7986 c0_i32_3984
  let v8004 : BitVec 32 := Scalar.extui v8003
  let v8005 : BitVec 32 := Scalar.subi v8002 v8004
  let c2_i32_3982 : BitVec 32 := 2#32
  let c0_i32_3985 : BitVec 32 := 0#32
  let v8006 : BitVec 1 := Scalar.cmpi .sgt c2_i32_3982 c0_i32_3985
  let v8007 : BitVec 32 := Scalar.extui v8006
  let c0_i32_3986 : BitVec 32 := 0#32
  let v8008 : BitVec 1 := Scalar.cmpi .slt c2_i32_3982 c0_i32_3986
  let v8009 : BitVec 32 := Scalar.extui v8008
  let v8010 : BitVec 32 := Scalar.subi v8007 v8009
  let v8011 : BitVec 1 := Scalar.cmpi .ne v8005 v8010
  let v8012 : BitVec 32 := Scalar.remsi v7986 c2_i32_3982
  let c0_i32_3987 : BitVec 32 := 0#32
  let v8013 : BitVec 1 := Scalar.cmpi .ne v8012 c0_i32_3987
  let v8014 : BitVec 1 := Scalar.andi v8011 v8013
  let v8000 : BitVec 32 := Scalar.divsi v7986 c2_i32_3982
  let c1_i32_3988 : BitVec 32 := 1#32
  let v8015 : BitVec 32 := Scalar.subi v8000 c1_i32_3988
  let v8016 : BitVec 32 := Scalar.select v8014 v8015 v8000
  v8016
def k0_mult338 : BitVec 32 :=
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let c1_i32_3864 : BitVec 32 := 1#32
  let v7725 : BitVec 32 := Scalar.addi v7338 c1_i32_3864
  let c0_i32_3886 : BitVec 32 := 0#32
  let v7765 : BitVec 1 := Scalar.cmpi .sgt v7725 c0_i32_3886
  let v7766 : BitVec 32 := Scalar.extui v7765
  let c0_i32_3887 : BitVec 32 := 0#32
  let v7767 : BitVec 1 := Scalar.cmpi .slt v7725 c0_i32_3887
  let v7768 : BitVec 32 := Scalar.extui v7767
  let v7769 : BitVec 32 := Scalar.subi v7766 v7768
  let c2_i32_3885 : BitVec 32 := 2#32
  let c0_i32_3888 : BitVec 32 := 0#32
  let v7770 : BitVec 1 := Scalar.cmpi .sgt c2_i32_3885 c0_i32_3888
  let v7771 : BitVec 32 := Scalar.extui v7770
  let c0_i32_3889 : BitVec 32 := 0#32
  let v7772 : BitVec 1 := Scalar.cmpi .slt c2_i32_3885 c0_i32_3889
  let v7773 : BitVec 32 := Scalar.extui v7772
  let v7774 : BitVec 32 := Scalar.subi v7771 v7773
  let v7775 : BitVec 1 := Scalar.cmpi .ne v7769 v7774
  let v7776 : BitVec 32 := Scalar.remsi v7725 c2_i32_3885
  let c0_i32_3890 : BitVec 32 := 0#32
  let v7777 : BitVec 1 := Scalar.cmpi .ne v7776 c0_i32_3890
  let v7778 : BitVec 1 := Scalar.andi v7775 v7777
  let v7764 : BitVec 32 := Scalar.divsi v7725 c2_i32_3885
  let c1_i32_3891 : BitVec 32 := 1#32
  let v7779 : BitVec 32 := Scalar.subi v7764 c1_i32_3891
  let v7780 : BitVec 32 := Scalar.select v7778 v7779 v7764
  let c8_i32_3977 : BitVec 32 := 8#32
  let c0_i32_3873 : BitVec 32 := 0#32
  let v7738 : BitVec 1 := Scalar.cmpi .sgt v7725 c0_i32_3873
  let v7739 : BitVec 32 := Scalar.extui v7738
  let c0_i32_3874 : BitVec 32 := 0#32
  let v7740 : BitVec 1 := Scalar.cmpi .slt v7725 c0_i32_3874
  let v7741 : BitVec 32 := Scalar.extui v7740
  let v7742 : BitVec 32 := Scalar.subi v7739 v7741
  let c1_i32_3872 : BitVec 32 := 1#32
  let c0_i32_3875 : BitVec 32 := 0#32
  let v7743 : BitVec 1 := Scalar.cmpi .sgt c1_i32_3872 c0_i32_3875
  let v7744 : BitVec 32 := Scalar.extui v7743
  let c0_i32_3876 : BitVec 32 := 0#32
  let v7745 : BitVec 1 := Scalar.cmpi .slt c1_i32_3872 c0_i32_3876
  let v7746 : BitVec 32 := Scalar.extui v7745
  let v7747 : BitVec 32 := Scalar.subi v7744 v7746
  let v7748 : BitVec 1 := Scalar.cmpi .ne v7742 v7747
  let v7749 : BitVec 32 := Scalar.remsi v7725 c1_i32_3872
  let c0_i32_3877 : BitVec 32 := 0#32
  let v7750 : BitVec 1 := Scalar.cmpi .ne v7749 c0_i32_3877
  let v7751 : BitVec 1 := Scalar.andi v7748 v7750
  let v7737 : BitVec 32 := Scalar.divsi v7725 c1_i32_3872
  let c1_i32_3878 : BitVec 32 := 1#32
  let v7752 : BitVec 32 := Scalar.subi v7737 c1_i32_3878
  let v7753 : BitVec 32 := Scalar.select v7751 v7752 v7737
  let c2_i32_3879 : BitVec 32 := 2#32
  let c0_i32_3880 : BitVec 32 := 0#32
  let v7754 : BitVec 1 := Scalar.cmpi .eq c2_i32_3879 c0_i32_3880
  let c1_i32_3881 : BitVec 32 := 1#32
  let v7755 : BitVec 32 := Scalar.select v7754 c1_i32_3881 c2_i32_3879
  let v7756 : BitVec 32 := Scalar.remsi v7753 v7755
  let c0_i32_3883 : BitVec 32 := 0#32
  let v7758 : BitVec 1 := Scalar.cmpi .slt v7756 c0_i32_3883
  let c0_i32_3884 : BitVec 32 := 0#32
  let v7759 : BitVec 1 := Scalar.cmpi .slt v7755 c0_i32_3884
  let v7760 : BitVec 1 := Scalar.xori v7758 v7759
  let c0_i32_3882 : BitVec 32 := 0#32
  let v7757 : BitVec 1 := Scalar.cmpi .ne v7756 c0_i32_3882
  let v7761 : BitVec 1 := Scalar.andi v7760 v7757
  let v7762 : BitVec 32 := Scalar.addi v7756 v7755
  let v7763 : BitVec 32 := Scalar.select v7761 v7762 v7756
  let v7987 : BitVec 32 := Scalar.muli c8_i32_3977 v7763
  let v7988 : BitVec 32 := Scalar.addi v7780 v7987
  let c4_i32_3978 : BitVec 32 := 4#32
  let v7989 : BitVec 32 := Scalar.addi v7988 c4_i32_3978
  let c128_i32_3979 : BitVec 32 := 128#32
  let v7990 : BitVec 32 := Scalar.muli v7989 c128_i32_3979
  let c1_i32_3865 : BitVec 32 := 1#32
  let c0_i32_3866 : BitVec 32 := 0#32
  let v7726 : BitVec 1 := Scalar.cmpi .eq c1_i32_3865 c0_i32_3866
  let c1_i32_3867 : BitVec 32 := 1#32
  let v7727 : BitVec 32 := Scalar.select v7726 c1_i32_3867 c1_i32_3865
  let v7728 : BitVec 32 := Scalar.remsi v7725 v7727
  let c0_i32_3869 : BitVec 32 := 0#32
  let v7730 : BitVec 1 := Scalar.cmpi .slt v7728 c0_i32_3869
  let c0_i32_3870 : BitVec 32 := 0#32
  let v7731 : BitVec 1 := Scalar.cmpi .slt v7727 c0_i32_3870
  let v7732 : BitVec 1 := Scalar.xori v7730 v7731
  let c0_i32_3868 : BitVec 32 := 0#32
  let v7729 : BitVec 1 := Scalar.cmpi .ne v7728 c0_i32_3868
  let v7733 : BitVec 1 := Scalar.andi v7732 v7729
  let v7734 : BitVec 32 := Scalar.addi v7728 v7727
  let v7735 : BitVec 32 := Scalar.select v7733 v7734 v7728
  let c128_i32_3871 : BitVec 32 := 128#32
  let v7736 : BitVec 32 := Scalar.muli v7735 c128_i32_3871
  let v7991 : BitVec 32 := Scalar.addi v7990 v7736
  let c0_i32_3992 : BitVec 32 := 0#32
  let v8024 : BitVec 1 := Scalar.cmpi .sgt v7991 c0_i32_3992
  let v8025 : BitVec 32 := Scalar.extui v8024
  let c0_i32_3993 : BitVec 32 := 0#32
  let v8026 : BitVec 1 := Scalar.cmpi .slt v7991 c0_i32_3993
  let v8027 : BitVec 32 := Scalar.extui v8026
  let v8028 : BitVec 32 := Scalar.subi v8025 v8027
  let c2_i32_3991 : BitVec 32 := 2#32
  let c0_i32_3994 : BitVec 32 := 0#32
  let v8029 : BitVec 1 := Scalar.cmpi .sgt c2_i32_3991 c0_i32_3994
  let v8030 : BitVec 32 := Scalar.extui v8029
  let c0_i32_3995 : BitVec 32 := 0#32
  let v8031 : BitVec 1 := Scalar.cmpi .slt c2_i32_3991 c0_i32_3995
  let v8032 : BitVec 32 := Scalar.extui v8031
  let v8033 : BitVec 32 := Scalar.subi v8030 v8032
  let v8034 : BitVec 1 := Scalar.cmpi .ne v8028 v8033
  let v8035 : BitVec 32 := Scalar.remsi v7991 c2_i32_3991
  let c0_i32_3996 : BitVec 32 := 0#32
  let v8036 : BitVec 1 := Scalar.cmpi .ne v8035 c0_i32_3996
  let v8037 : BitVec 1 := Scalar.andi v8034 v8036
  let v8023 : BitVec 32 := Scalar.divsi v7991 c2_i32_3991
  let c1_i32_3997 : BitVec 32 := 1#32
  let v8038 : BitVec 32 := Scalar.subi v8023 c1_i32_3997
  let v8039 : BitVec 32 := Scalar.select v8037 v8038 v8023
  v8039
def k0_mult339 : BitVec 32 :=
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let c1_i32_3864 : BitVec 32 := 1#32
  let v7725 : BitVec 32 := Scalar.addi v7338 c1_i32_3864
  let c0_i32_3886 : BitVec 32 := 0#32
  let v7765 : BitVec 1 := Scalar.cmpi .sgt v7725 c0_i32_3886
  let v7766 : BitVec 32 := Scalar.extui v7765
  let c0_i32_3887 : BitVec 32 := 0#32
  let v7767 : BitVec 1 := Scalar.cmpi .slt v7725 c0_i32_3887
  let v7768 : BitVec 32 := Scalar.extui v7767
  let v7769 : BitVec 32 := Scalar.subi v7766 v7768
  let c2_i32_3885 : BitVec 32 := 2#32
  let c0_i32_3888 : BitVec 32 := 0#32
  let v7770 : BitVec 1 := Scalar.cmpi .sgt c2_i32_3885 c0_i32_3888
  let v7771 : BitVec 32 := Scalar.extui v7770
  let c0_i32_3889 : BitVec 32 := 0#32
  let v7772 : BitVec 1 := Scalar.cmpi .slt c2_i32_3885 c0_i32_3889
  let v7773 : BitVec 32 := Scalar.extui v7772
  let v7774 : BitVec 32 := Scalar.subi v7771 v7773
  let v7775 : BitVec 1 := Scalar.cmpi .ne v7769 v7774
  let v7776 : BitVec 32 := Scalar.remsi v7725 c2_i32_3885
  let c0_i32_3890 : BitVec 32 := 0#32
  let v7777 : BitVec 1 := Scalar.cmpi .ne v7776 c0_i32_3890
  let v7778 : BitVec 1 := Scalar.andi v7775 v7777
  let v7764 : BitVec 32 := Scalar.divsi v7725 c2_i32_3885
  let c1_i32_3891 : BitVec 32 := 1#32
  let v7779 : BitVec 32 := Scalar.subi v7764 c1_i32_3891
  let v7780 : BitVec 32 := Scalar.select v7778 v7779 v7764
  let c8_i32_4002 : BitVec 32 := 8#32
  let c0_i32_3873 : BitVec 32 := 0#32
  let v7738 : BitVec 1 := Scalar.cmpi .sgt v7725 c0_i32_3873
  let v7739 : BitVec 32 := Scalar.extui v7738
  let c0_i32_3874 : BitVec 32 := 0#32
  let v7740 : BitVec 1 := Scalar.cmpi .slt v7725 c0_i32_3874
  let v7741 : BitVec 32 := Scalar.extui v7740
  let v7742 : BitVec 32 := Scalar.subi v7739 v7741
  let c1_i32_3872 : BitVec 32 := 1#32
  let c0_i32_3875 : BitVec 32 := 0#32
  let v7743 : BitVec 1 := Scalar.cmpi .sgt c1_i32_3872 c0_i32_3875
  let v7744 : BitVec 32 := Scalar.extui v7743
  let c0_i32_3876 : BitVec 32 := 0#32
  let v7745 : BitVec 1 := Scalar.cmpi .slt c1_i32_3872 c0_i32_3876
  let v7746 : BitVec 32 := Scalar.extui v7745
  let v7747 : BitVec 32 := Scalar.subi v7744 v7746
  let v7748 : BitVec 1 := Scalar.cmpi .ne v7742 v7747
  let v7749 : BitVec 32 := Scalar.remsi v7725 c1_i32_3872
  let c0_i32_3877 : BitVec 32 := 0#32
  let v7750 : BitVec 1 := Scalar.cmpi .ne v7749 c0_i32_3877
  let v7751 : BitVec 1 := Scalar.andi v7748 v7750
  let v7737 : BitVec 32 := Scalar.divsi v7725 c1_i32_3872
  let c1_i32_3878 : BitVec 32 := 1#32
  let v7752 : BitVec 32 := Scalar.subi v7737 c1_i32_3878
  let v7753 : BitVec 32 := Scalar.select v7751 v7752 v7737
  let c2_i32_3879 : BitVec 32 := 2#32
  let c0_i32_3880 : BitVec 32 := 0#32
  let v7754 : BitVec 1 := Scalar.cmpi .eq c2_i32_3879 c0_i32_3880
  let c1_i32_3881 : BitVec 32 := 1#32
  let v7755 : BitVec 32 := Scalar.select v7754 c1_i32_3881 c2_i32_3879
  let v7756 : BitVec 32 := Scalar.remsi v7753 v7755
  let c0_i32_3883 : BitVec 32 := 0#32
  let v7758 : BitVec 1 := Scalar.cmpi .slt v7756 c0_i32_3883
  let c0_i32_3884 : BitVec 32 := 0#32
  let v7759 : BitVec 1 := Scalar.cmpi .slt v7755 c0_i32_3884
  let v7760 : BitVec 1 := Scalar.xori v7758 v7759
  let c0_i32_3882 : BitVec 32 := 0#32
  let v7757 : BitVec 1 := Scalar.cmpi .ne v7756 c0_i32_3882
  let v7761 : BitVec 1 := Scalar.andi v7760 v7757
  let v7762 : BitVec 32 := Scalar.addi v7756 v7755
  let v7763 : BitVec 32 := Scalar.select v7761 v7762 v7756
  let v8049 : BitVec 32 := Scalar.muli c8_i32_4002 v7763
  let v8050 : BitVec 32 := Scalar.addi v7780 v8049
  let c128_i32_4003 : BitVec 32 := 128#32
  let v8051 : BitVec 32 := Scalar.muli v8050 c128_i32_4003
  let c1_i32_3865 : BitVec 32 := 1#32
  let c0_i32_3866 : BitVec 32 := 0#32
  let v7726 : BitVec 1 := Scalar.cmpi .eq c1_i32_3865 c0_i32_3866
  let c1_i32_3867 : BitVec 32 := 1#32
  let v7727 : BitVec 32 := Scalar.select v7726 c1_i32_3867 c1_i32_3865
  let v7728 : BitVec 32 := Scalar.remsi v7725 v7727
  let c0_i32_3869 : BitVec 32 := 0#32
  let v7730 : BitVec 1 := Scalar.cmpi .slt v7728 c0_i32_3869
  let c0_i32_3870 : BitVec 32 := 0#32
  let v7731 : BitVec 1 := Scalar.cmpi .slt v7727 c0_i32_3870
  let v7732 : BitVec 1 := Scalar.xori v7730 v7731
  let c0_i32_3868 : BitVec 32 := 0#32
  let v7729 : BitVec 1 := Scalar.cmpi .ne v7728 c0_i32_3868
  let v7733 : BitVec 1 := Scalar.andi v7732 v7729
  let v7734 : BitVec 32 := Scalar.addi v7728 v7727
  let v7735 : BitVec 32 := Scalar.select v7733 v7734 v7728
  let c128_i32_3871 : BitVec 32 := 128#32
  let v7736 : BitVec 32 := Scalar.muli v7735 c128_i32_3871
  let v8052 : BitVec 32 := Scalar.addi v8051 v7736
  let c0_i32_4010 : BitVec 32 := 0#32
  let v8067 : BitVec 1 := Scalar.cmpi .sgt v8052 c0_i32_4010
  let v8068 : BitVec 32 := Scalar.extui v8067
  let c0_i32_4011 : BitVec 32 := 0#32
  let v8069 : BitVec 1 := Scalar.cmpi .slt v8052 c0_i32_4011
  let v8070 : BitVec 32 := Scalar.extui v8069
  let v8071 : BitVec 32 := Scalar.subi v8068 v8070
  let c2_i32_4009 : BitVec 32 := 2#32
  let c0_i32_4012 : BitVec 32 := 0#32
  let v8072 : BitVec 1 := Scalar.cmpi .sgt c2_i32_4009 c0_i32_4012
  let v8073 : BitVec 32 := Scalar.extui v8072
  let c0_i32_4013 : BitVec 32 := 0#32
  let v8074 : BitVec 1 := Scalar.cmpi .slt c2_i32_4009 c0_i32_4013
  let v8075 : BitVec 32 := Scalar.extui v8074
  let v8076 : BitVec 32 := Scalar.subi v8073 v8075
  let v8077 : BitVec 1 := Scalar.cmpi .ne v8071 v8076
  let v8078 : BitVec 32 := Scalar.remsi v8052 c2_i32_4009
  let c0_i32_4014 : BitVec 32 := 0#32
  let v8079 : BitVec 1 := Scalar.cmpi .ne v8078 c0_i32_4014
  let v8080 : BitVec 1 := Scalar.andi v8077 v8079
  let v8066 : BitVec 32 := Scalar.divsi v8052 c2_i32_4009
  let c1_i32_4015 : BitVec 32 := 1#32
  let v8081 : BitVec 32 := Scalar.subi v8066 c1_i32_4015
  let v8082 : BitVec 32 := Scalar.select v8080 v8081 v8066
  v8082
def k0_mult340 : BitVec 32 :=
  let c0_i32_3109 : BitVec 32 := 0#32
  let c1_i32_3700 : BitVec 32 := 1#32
  let v7337 : BitVec 32 := Scalar.addi c0_i32_3109 c1_i32_3700
  let c2_i32_3701 : BitVec 32 := 2#32
  let v7338 : BitVec 32 := Scalar.muli v7337 c2_i32_3701
  let c1_i32_3864 : BitVec 32 := 1#32
  let v7725 : BitVec 32 := Scalar.addi v7338 c1_i32_3864
  let c0_i32_3886 : BitVec 32 := 0#32
  let v7765 : BitVec 1 := Scalar.cmpi .sgt v7725 c0_i32_3886
  let v7766 : BitVec 32 := Scalar.extui v7765
  let c0_i32_3887 : BitVec 32 := 0#32
  let v7767 : BitVec 1 := Scalar.cmpi .slt v7725 c0_i32_3887
  let v7768 : BitVec 32 := Scalar.extui v7767
  let v7769 : BitVec 32 := Scalar.subi v7766 v7768
  let c2_i32_3885 : BitVec 32 := 2#32
  let c0_i32_3888 : BitVec 32 := 0#32
  let v7770 : BitVec 1 := Scalar.cmpi .sgt c2_i32_3885 c0_i32_3888
  let v7771 : BitVec 32 := Scalar.extui v7770
  let c0_i32_3889 : BitVec 32 := 0#32
  let v7772 : BitVec 1 := Scalar.cmpi .slt c2_i32_3885 c0_i32_3889
  let v7773 : BitVec 32 := Scalar.extui v7772
  let v7774 : BitVec 32 := Scalar.subi v7771 v7773
  let v7775 : BitVec 1 := Scalar.cmpi .ne v7769 v7774
  let v7776 : BitVec 32 := Scalar.remsi v7725 c2_i32_3885
  let c0_i32_3890 : BitVec 32 := 0#32
  let v7777 : BitVec 1 := Scalar.cmpi .ne v7776 c0_i32_3890
  let v7778 : BitVec 1 := Scalar.andi v7775 v7777
  let v7764 : BitVec 32 := Scalar.divsi v7725 c2_i32_3885
  let c1_i32_3891 : BitVec 32 := 1#32
  let v7779 : BitVec 32 := Scalar.subi v7764 c1_i32_3891
  let v7780 : BitVec 32 := Scalar.select v7778 v7779 v7764
  let c8_i32_4004 : BitVec 32 := 8#32
  let c0_i32_3873 : BitVec 32 := 0#32
  let v7738 : BitVec 1 := Scalar.cmpi .sgt v7725 c0_i32_3873
  let v7739 : BitVec 32 := Scalar.extui v7738
  let c0_i32_3874 : BitVec 32 := 0#32
  let v7740 : BitVec 1 := Scalar.cmpi .slt v7725 c0_i32_3874
  let v7741 : BitVec 32 := Scalar.extui v7740
  let v7742 : BitVec 32 := Scalar.subi v7739 v7741
  let c1_i32_3872 : BitVec 32 := 1#32
  let c0_i32_3875 : BitVec 32 := 0#32
  let v7743 : BitVec 1 := Scalar.cmpi .sgt c1_i32_3872 c0_i32_3875
  let v7744 : BitVec 32 := Scalar.extui v7743
  let c0_i32_3876 : BitVec 32 := 0#32
  let v7745 : BitVec 1 := Scalar.cmpi .slt c1_i32_3872 c0_i32_3876
  let v7746 : BitVec 32 := Scalar.extui v7745
  let v7747 : BitVec 32 := Scalar.subi v7744 v7746
  let v7748 : BitVec 1 := Scalar.cmpi .ne v7742 v7747
  let v7749 : BitVec 32 := Scalar.remsi v7725 c1_i32_3872
  let c0_i32_3877 : BitVec 32 := 0#32
  let v7750 : BitVec 1 := Scalar.cmpi .ne v7749 c0_i32_3877
  let v7751 : BitVec 1 := Scalar.andi v7748 v7750
  let v7737 : BitVec 32 := Scalar.divsi v7725 c1_i32_3872
  let c1_i32_3878 : BitVec 32 := 1#32
  let v7752 : BitVec 32 := Scalar.subi v7737 c1_i32_3878
  let v7753 : BitVec 32 := Scalar.select v7751 v7752 v7737
  let c2_i32_3879 : BitVec 32 := 2#32
  let c0_i32_3880 : BitVec 32 := 0#32
  let v7754 : BitVec 1 := Scalar.cmpi .eq c2_i32_3879 c0_i32_3880
  let c1_i32_3881 : BitVec 32 := 1#32
  let v7755 : BitVec 32 := Scalar.select v7754 c1_i32_3881 c2_i32_3879
  let v7756 : BitVec 32 := Scalar.remsi v7753 v7755
  let c0_i32_3883 : BitVec 32 := 0#32
  let v7758 : BitVec 1 := Scalar.cmpi .slt v7756 c0_i32_3883
  let c0_i32_3884 : BitVec 32 := 0#32
  let v7759 : BitVec 1 := Scalar.cmpi .slt v7755 c0_i32_3884
  let v7760 : BitVec 1 := Scalar.xori v7758 v7759
  let c0_i32_3882 : BitVec 32 := 0#32
  let v7757 : BitVec 1 := Scalar.cmpi .ne v7756 c0_i32_3882
  let v7761 : BitVec 1 := Scalar.andi v7760 v7757
  let v7762 : BitVec 32 := Scalar.addi v7756 v7755
  let v7763 : BitVec 32 := Scalar.select v7761 v7762 v7756
  let v8053 : BitVec 32 := Scalar.muli c8_i32_4004 v7763
  let v8054 : BitVec 32 := Scalar.addi v7780 v8053
  let c4_i32_4005 : BitVec 32 := 4#32
  let v8055 : BitVec 32 := Scalar.addi v8054 c4_i32_4005
  let c128_i32_4006 : BitVec 32 := 128#32
  let v8056 : BitVec 32 := Scalar.muli v8055 c128_i32_4006
  let c1_i32_3865 : BitVec 32 := 1#32
  let c0_i32_3866 : BitVec 32 := 0#32
  let v7726 : BitVec 1 := Scalar.cmpi .eq c1_i32_3865 c0_i32_3866
  let c1_i32_3867 : BitVec 32 := 1#32
  let v7727 : BitVec 32 := Scalar.select v7726 c1_i32_3867 c1_i32_3865
  let v7728 : BitVec 32 := Scalar.remsi v7725 v7727
  let c0_i32_3869 : BitVec 32 := 0#32
  let v7730 : BitVec 1 := Scalar.cmpi .slt v7728 c0_i32_3869
  let c0_i32_3870 : BitVec 32 := 0#32
  let v7731 : BitVec 1 := Scalar.cmpi .slt v7727 c0_i32_3870
  let v7732 : BitVec 1 := Scalar.xori v7730 v7731
  let c0_i32_3868 : BitVec 32 := 0#32
  let v7729 : BitVec 1 := Scalar.cmpi .ne v7728 c0_i32_3868
  let v7733 : BitVec 1 := Scalar.andi v7732 v7729
  let v7734 : BitVec 32 := Scalar.addi v7728 v7727
  let v7735 : BitVec 32 := Scalar.select v7733 v7734 v7728
  let c128_i32_3871 : BitVec 32 := 128#32
  let v7736 : BitVec 32 := Scalar.muli v7735 c128_i32_3871
  let v8057 : BitVec 32 := Scalar.addi v8056 v7736
  let c0_i32_4019 : BitVec 32 := 0#32
  let v8090 : BitVec 1 := Scalar.cmpi .sgt v8057 c0_i32_4019
  let v8091 : BitVec 32 := Scalar.extui v8090
  let c0_i32_4020 : BitVec 32 := 0#32
  let v8092 : BitVec 1 := Scalar.cmpi .slt v8057 c0_i32_4020
  let v8093 : BitVec 32 := Scalar.extui v8092
  let v8094 : BitVec 32 := Scalar.subi v8091 v8093
  let c2_i32_4018 : BitVec 32 := 2#32
  let c0_i32_4021 : BitVec 32 := 0#32
  let v8095 : BitVec 1 := Scalar.cmpi .sgt c2_i32_4018 c0_i32_4021
  let v8096 : BitVec 32 := Scalar.extui v8095
  let c0_i32_4022 : BitVec 32 := 0#32
  let v8097 : BitVec 1 := Scalar.cmpi .slt c2_i32_4018 c0_i32_4022
  let v8098 : BitVec 32 := Scalar.extui v8097
  let v8099 : BitVec 32 := Scalar.subi v8096 v8098
  let v8100 : BitVec 1 := Scalar.cmpi .ne v8094 v8099
  let v8101 : BitVec 32 := Scalar.remsi v8057 c2_i32_4018
  let c0_i32_4023 : BitVec 32 := 0#32
  let v8102 : BitVec 1 := Scalar.cmpi .ne v8101 c0_i32_4023
  let v8103 : BitVec 1 := Scalar.andi v8100 v8102
  let v8089 : BitVec 32 := Scalar.divsi v8057 c2_i32_4018
  let c1_i32_4024 : BitVec 32 := 1#32
  let v8104 : BitVec 32 := Scalar.subi v8089 c1_i32_4024
  let v8105 : BitVec 32 := Scalar.select v8103 v8104 v8089
  v8105
def k0_mult341 : BitVec 32 :=
  let c2_i32_3110 : BitVec 32 := 2#32
  let c0_i32_3109 : BitVec 32 := 0#32
  let v6219 : BitVec 32 := Scalar.muli c2_i32_3110 c0_i32_3109
  let c1_i32_4027 : BitVec 32 := 1#32
  let v8111 : BitVec 32 := Scalar.addi v6219 c1_i32_4027
  let c4_i32_4028 : BitVec 32 := 4#32
  let v8112 : BitVec 32 := Scalar.muli v8111 c4_i32_4028
  let c0_i32_4029 : BitVec 32 := 0#32
  let v8113 : BitVec 32 := Scalar.addi v8112 c0_i32_4029
  let c128_i32_4030 : BitVec 32 := 128#32
  let v8114 : BitVec 32 := Scalar.muli v8113 c128_i32_4030
  v8114
def k0_mult342 : BitVec 32 :=
  let c2_i32_3110 : BitVec 32 := 2#32
  let c0_i32_3109 : BitVec 32 := 0#32
  let v6219 : BitVec 32 := Scalar.muli c2_i32_3110 c0_i32_3109
  let c1_i32_4027 : BitVec 32 := 1#32
  let v8111 : BitVec 32 := Scalar.addi v6219 c1_i32_4027
  let c4_i32_4028 : BitVec 32 := 4#32
  let v8112 : BitVec 32 := Scalar.muli v8111 c4_i32_4028
  let c0_i32_4029 : BitVec 32 := 0#32
  let v8113 : BitVec 32 := Scalar.addi v8112 c0_i32_4029
  let c0_i32_4032 : BitVec 32 := 0#32
  let v8117 : BitVec 1 := Scalar.cmpi .sgt v8113 c0_i32_4032
  let v8118 : BitVec 32 := Scalar.extui v8117
  let c0_i32_4033 : BitVec 32 := 0#32
  let v8119 : BitVec 1 := Scalar.cmpi .slt v8113 c0_i32_4033
  let v8120 : BitVec 32 := Scalar.extui v8119
  let v8121 : BitVec 32 := Scalar.subi v8118 v8120
  let c4_i32_4031 : BitVec 32 := 4#32
  let c0_i32_4034 : BitVec 32 := 0#32
  let v8122 : BitVec 1 := Scalar.cmpi .sgt c4_i32_4031 c0_i32_4034
  let v8123 : BitVec 32 := Scalar.extui v8122
  let c0_i32_4035 : BitVec 32 := 0#32
  let v8124 : BitVec 1 := Scalar.cmpi .slt c4_i32_4031 c0_i32_4035
  let v8125 : BitVec 32 := Scalar.extui v8124
  let v8126 : BitVec 32 := Scalar.subi v8123 v8125
  let v8127 : BitVec 1 := Scalar.cmpi .ne v8121 v8126
  let v8128 : BitVec 32 := Scalar.remsi v8113 c4_i32_4031
  let c0_i32_4036 : BitVec 32 := 0#32
  let v8129 : BitVec 1 := Scalar.cmpi .ne v8128 c0_i32_4036
  let v8130 : BitVec 1 := Scalar.andi v8127 v8129
  let v8116 : BitVec 32 := Scalar.divsi v8113 c4_i32_4031
  let c1_i32_4037 : BitVec 32 := 1#32
  let v8131 : BitVec 32 := Scalar.subi v8116 c1_i32_4037
  let v8132 : BitVec 32 := Scalar.select v8130 v8131 v8116
  let c512_i32_4048 : BitVec 32 := 512#32
  let v8147 : BitVec 32 := Scalar.muli v8132 c512_i32_4048
  let c256_i32_4047 : BitVec 32 := 256#32
  let c0_i32_4046 : BitVec 32 := 0#32
  let c4_i32_4038 : BitVec 32 := 4#32
  let c0_i32_4039 : BitVec 32 := 0#32
  let v8133 : BitVec 1 := Scalar.cmpi .eq c4_i32_4038 c0_i32_4039
  let c1_i32_4040 : BitVec 32 := 1#32
  let v8134 : BitVec 32 := Scalar.select v8133 c1_i32_4040 c4_i32_4038
  let v8135 : BitVec 32 := Scalar.remsi v8113 v8134
  let c0_i32_4042 : BitVec 32 := 0#32
  let v8137 : BitVec 1 := Scalar.cmpi .slt v8135 c0_i32_4042
  let c0_i32_4043 : BitVec 32 := 0#32
  let v8138 : BitVec 1 := Scalar.cmpi .slt v8134 c0_i32_4043
  let v8139 : BitVec 1 := Scalar.xori v8137 v8138
  let c0_i32_4041 : BitVec 32 := 0#32
  let v8136 : BitVec 1 := Scalar.cmpi .ne v8135 c0_i32_4041
  let v8140 : BitVec 1 := Scalar.andi v8139 v8136
  let v8141 : BitVec 32 := Scalar.addi v8135 v8134
  let v8142 : BitVec 32 := Scalar.select v8140 v8141 v8135
  let c128_i32_4044 : BitVec 32 := 128#32
  let v8143 : BitVec 32 := Scalar.muli v8142 c128_i32_4044
  let c64_i32_4045 : BitVec 32 := 64#32
  let v8144 : BitVec 32 := Scalar.subi v8143 c64_i32_4045
  let v8145 : BitVec 32 := Scalar.maxsi c0_i32_4046 v8144
  let v8146 : BitVec 32 := Scalar.minsi c256_i32_4047 v8145
  let v8148 : BitVec 32 := Scalar.addi v8147 v8146
  v8148
def k0_mult343 : BitVec 32 :=
  let c2_i32_3110 : BitVec 32 := 2#32
  let c0_i32_3109 : BitVec 32 := 0#32
  let v6219 : BitVec 32 := Scalar.muli c2_i32_3110 c0_i32_3109
  let c1_i32_4027 : BitVec 32 := 1#32
  let v8111 : BitVec 32 := Scalar.addi v6219 c1_i32_4027
  let c4_i32_4028 : BitVec 32 := 4#32
  let v8112 : BitVec 32 := Scalar.muli v8111 c4_i32_4028
  let c0_i32_4029 : BitVec 32 := 0#32
  let v8113 : BitVec 32 := Scalar.addi v8112 c0_i32_4029
  let c0_i32_4032 : BitVec 32 := 0#32
  let v8117 : BitVec 1 := Scalar.cmpi .sgt v8113 c0_i32_4032
  let v8118 : BitVec 32 := Scalar.extui v8117
  let c0_i32_4033 : BitVec 32 := 0#32
  let v8119 : BitVec 1 := Scalar.cmpi .slt v8113 c0_i32_4033
  let v8120 : BitVec 32 := Scalar.extui v8119
  let v8121 : BitVec 32 := Scalar.subi v8118 v8120
  let c4_i32_4031 : BitVec 32 := 4#32
  let c0_i32_4034 : BitVec 32 := 0#32
  let v8122 : BitVec 1 := Scalar.cmpi .sgt c4_i32_4031 c0_i32_4034
  let v8123 : BitVec 32 := Scalar.extui v8122
  let c0_i32_4035 : BitVec 32 := 0#32
  let v8124 : BitVec 1 := Scalar.cmpi .slt c4_i32_4031 c0_i32_4035
  let v8125 : BitVec 32 := Scalar.extui v8124
  let v8126 : BitVec 32 := Scalar.subi v8123 v8125
  let v8127 : BitVec 1 := Scalar.cmpi .ne v8121 v8126
  let v8128 : BitVec 32 := Scalar.remsi v8113 c4_i32_4031
  let c0_i32_4036 : BitVec 32 := 0#32
  let v8129 : BitVec 1 := Scalar.cmpi .ne v8128 c0_i32_4036
  let v8130 : BitVec 1 := Scalar.andi v8127 v8129
  let v8116 : BitVec 32 := Scalar.divsi v8113 c4_i32_4031
  let c1_i32_4037 : BitVec 32 := 1#32
  let v8131 : BitVec 32 := Scalar.subi v8116 c1_i32_4037
  let v8132 : BitVec 32 := Scalar.select v8130 v8131 v8116
  let c512_i32_4048 : BitVec 32 := 512#32
  let v8147 : BitVec 32 := Scalar.muli v8132 c512_i32_4048
  let c256_i32_4047 : BitVec 32 := 256#32
  let c0_i32_4046 : BitVec 32 := 0#32
  let c4_i32_4038 : BitVec 32 := 4#32
  let c0_i32_4039 : BitVec 32 := 0#32
  let v8133 : BitVec 1 := Scalar.cmpi .eq c4_i32_4038 c0_i32_4039
  let c1_i32_4040 : BitVec 32 := 1#32
  let v8134 : BitVec 32 := Scalar.select v8133 c1_i32_4040 c4_i32_4038
  let v8135 : BitVec 32 := Scalar.remsi v8113 v8134
  let c0_i32_4042 : BitVec 32 := 0#32
  let v8137 : BitVec 1 := Scalar.cmpi .slt v8135 c0_i32_4042
  let c0_i32_4043 : BitVec 32 := 0#32
  let v8138 : BitVec 1 := Scalar.cmpi .slt v8134 c0_i32_4043
  let v8139 : BitVec 1 := Scalar.xori v8137 v8138
  let c0_i32_4041 : BitVec 32 := 0#32
  let v8136 : BitVec 1 := Scalar.cmpi .ne v8135 c0_i32_4041
  let v8140 : BitVec 1 := Scalar.andi v8139 v8136
  let v8141 : BitVec 32 := Scalar.addi v8135 v8134
  let v8142 : BitVec 32 := Scalar.select v8140 v8141 v8135
  let c128_i32_4044 : BitVec 32 := 128#32
  let v8143 : BitVec 32 := Scalar.muli v8142 c128_i32_4044
  let c64_i32_4045 : BitVec 32 := 64#32
  let v8144 : BitVec 32 := Scalar.subi v8143 c64_i32_4045
  let v8145 : BitVec 32 := Scalar.maxsi c0_i32_4046 v8144
  let v8146 : BitVec 32 := Scalar.minsi c256_i32_4047 v8145
  let v8148 : BitVec 32 := Scalar.addi v8147 v8146
  let v8149 : BitVec 32 := v8148
  let c0_i32_4054 : BitVec 32 := 0#32
  let v8153 : BitVec 1 := Scalar.cmpi .sgt v8149 c0_i32_4054
  let v8154 : BitVec 32 := Scalar.extui v8153
  let c0_i32_4055 : BitVec 32 := 0#32
  let v8155 : BitVec 1 := Scalar.cmpi .slt v8149 c0_i32_4055
  let v8156 : BitVec 32 := Scalar.extui v8155
  let v8157 : BitVec 32 := Scalar.subi v8154 v8156
  let c2_i32_4053 : BitVec 32 := 2#32
  let c0_i32_4056 : BitVec 32 := 0#32
  let v8158 : BitVec 1 := Scalar.cmpi .sgt c2_i32_4053 c0_i32_4056
  let v8159 : BitVec 32 := Scalar.extui v8158
  let c0_i32_4057 : BitVec 32 := 0#32
  let v8160 : BitVec 1 := Scalar.cmpi .slt c2_i32_4053 c0_i32_4057
  let v8161 : BitVec 32 := Scalar.extui v8160
  let v8162 : BitVec 32 := Scalar.subi v8159 v8161
  let v8163 : BitVec 1 := Scalar.cmpi .ne v8157 v8162
  let v8164 : BitVec 32 := Scalar.remsi v8149 c2_i32_4053
  let c0_i32_4058 : BitVec 32 := 0#32
  let v8165 : BitVec 1 := Scalar.cmpi .ne v8164 c0_i32_4058
  let v8166 : BitVec 1 := Scalar.andi v8163 v8165
  let v8152 : BitVec 32 := Scalar.divsi v8149 c2_i32_4053
  let c1_i32_4059 : BitVec 32 := 1#32
  let v8167 : BitVec 32 := Scalar.subi v8152 c1_i32_4059
  let v8168 : BitVec 32 := Scalar.select v8166 v8167 v8152
  v8168
def k0_off48 (c0_i32_4029 : BitVec 32) : Fin 3 → Nat :=
  let c3_4060 : Index := 3#32
  let c2_i32_3110 : BitVec 32 := 2#32
  let c0_i32_3109 : BitVec 32 := 0#32
  let v6219 : BitVec 32 := Scalar.muli c2_i32_3110 c0_i32_3109
  let c1_i32_4027 : BitVec 32 := 1#32
  let v8111 : BitVec 32 := Scalar.addi v6219 c1_i32_4027
  let c4_i32_4028 : BitVec 32 := 4#32
  let v8112 : BitVec 32 := Scalar.muli v8111 c4_i32_4028
  let v8113 : BitVec 32 := Scalar.addi v8112 c0_i32_4029
  let c0_i32_4032 : BitVec 32 := 0#32
  let v8117 : BitVec 1 := Scalar.cmpi .sgt v8113 c0_i32_4032
  let v8118 : BitVec 32 := Scalar.extui v8117
  let c0_i32_4033 : BitVec 32 := 0#32
  let v8119 : BitVec 1 := Scalar.cmpi .slt v8113 c0_i32_4033
  let v8120 : BitVec 32 := Scalar.extui v8119
  let v8121 : BitVec 32 := Scalar.subi v8118 v8120
  let c4_i32_4031 : BitVec 32 := 4#32
  let c0_i32_4034 : BitVec 32 := 0#32
  let v8122 : BitVec 1 := Scalar.cmpi .sgt c4_i32_4031 c0_i32_4034
  let v8123 : BitVec 32 := Scalar.extui v8122
  let c0_i32_4035 : BitVec 32 := 0#32
  let v8124 : BitVec 1 := Scalar.cmpi .slt c4_i32_4031 c0_i32_4035
  let v8125 : BitVec 32 := Scalar.extui v8124
  let v8126 : BitVec 32 := Scalar.subi v8123 v8125
  let v8127 : BitVec 1 := Scalar.cmpi .ne v8121 v8126
  let v8128 : BitVec 32 := Scalar.remsi v8113 c4_i32_4031
  let c0_i32_4036 : BitVec 32 := 0#32
  let v8129 : BitVec 1 := Scalar.cmpi .ne v8128 c0_i32_4036
  let v8130 : BitVec 1 := Scalar.andi v8127 v8129
  let v8116 : BitVec 32 := Scalar.divsi v8113 c4_i32_4031
  let c1_i32_4037 : BitVec 32 := 1#32
  let v8131 : BitVec 32 := Scalar.subi v8116 c1_i32_4037
  let v8132 : BitVec 32 := Scalar.select v8130 v8131 v8116
  let c512_i32_4048 : BitVec 32 := 512#32
  let v8147 : BitVec 32 := Scalar.muli v8132 c512_i32_4048
  let c256_i32_4047 : BitVec 32 := 256#32
  let c0_i32_4046 : BitVec 32 := 0#32
  let c4_i32_4038 : BitVec 32 := 4#32
  let c0_i32_4039 : BitVec 32 := 0#32
  let v8133 : BitVec 1 := Scalar.cmpi .eq c4_i32_4038 c0_i32_4039
  let c1_i32_4040 : BitVec 32 := 1#32
  let v8134 : BitVec 32 := Scalar.select v8133 c1_i32_4040 c4_i32_4038
  let v8135 : BitVec 32 := Scalar.remsi v8113 v8134
  let c0_i32_4042 : BitVec 32 := 0#32
  let v8137 : BitVec 1 := Scalar.cmpi .slt v8135 c0_i32_4042
  let c0_i32_4043 : BitVec 32 := 0#32
  let v8138 : BitVec 1 := Scalar.cmpi .slt v8134 c0_i32_4043
  let v8139 : BitVec 1 := Scalar.xori v8137 v8138
  let c0_i32_4041 : BitVec 32 := 0#32
  let v8136 : BitVec 1 := Scalar.cmpi .ne v8135 c0_i32_4041
  let v8140 : BitVec 1 := Scalar.andi v8139 v8136
  let v8141 : BitVec 32 := Scalar.addi v8135 v8134
  let v8142 : BitVec 32 := Scalar.select v8140 v8141 v8135
  let c128_i32_4044 : BitVec 32 := 128#32
  let v8143 : BitVec 32 := Scalar.muli v8142 c128_i32_4044
  let c64_i32_4045 : BitVec 32 := 64#32
  let v8144 : BitVec 32 := Scalar.subi v8143 c64_i32_4045
  let v8145 : BitVec 32 := Scalar.maxsi c0_i32_4046 v8144
  let v8146 : BitVec 32 := Scalar.minsi c256_i32_4047 v8145
  let v8148 : BitVec 32 := Scalar.addi v8147 v8146
  let v8149 : BitVec 32 := v8148
  let c0_i32_4054 : BitVec 32 := 0#32
  let v8153 : BitVec 1 := Scalar.cmpi .sgt v8149 c0_i32_4054
  let v8154 : BitVec 32 := Scalar.extui v8153
  let c0_i32_4055 : BitVec 32 := 0#32
  let v8155 : BitVec 1 := Scalar.cmpi .slt v8149 c0_i32_4055
  let v8156 : BitVec 32 := Scalar.extui v8155
  let v8157 : BitVec 32 := Scalar.subi v8154 v8156
  let c2_i32_4053 : BitVec 32 := 2#32
  let c0_i32_4056 : BitVec 32 := 0#32
  let v8158 : BitVec 1 := Scalar.cmpi .sgt c2_i32_4053 c0_i32_4056
  let v8159 : BitVec 32 := Scalar.extui v8158
  let c0_i32_4057 : BitVec 32 := 0#32
  let v8160 : BitVec 1 := Scalar.cmpi .slt c2_i32_4053 c0_i32_4057
  let v8161 : BitVec 32 := Scalar.extui v8160
  let v8162 : BitVec 32 := Scalar.subi v8159 v8161
  let v8163 : BitVec 1 := Scalar.cmpi .ne v8157 v8162
  let v8164 : BitVec 32 := Scalar.remsi v8149 c2_i32_4053
  let c0_i32_4058 : BitVec 32 := 0#32
  let v8165 : BitVec 1 := Scalar.cmpi .ne v8164 c0_i32_4058
  let v8166 : BitVec 1 := Scalar.andi v8163 v8165
  let v8152 : BitVec 32 := Scalar.divsi v8149 c2_i32_4053
  let c1_i32_4059 : BitVec 32 := 1#32
  let v8167 : BitVec 32 := Scalar.subi v8152 c1_i32_4059
  let v8168 : BitVec 32 := Scalar.select v8166 v8167 v8152
  let v8169 : BitVec 32 := v8168
  let v8170 : Index := Scalar.indexCast v8169
  let c0_4061 : Index := 0#32
  ![3, v8170.toNat, 0]
def k0_mult344 : BitVec 32 :=
  let c2_i32_3110 : BitVec 32 := 2#32
  let c0_i32_3109 : BitVec 32 := 0#32
  let v6219 : BitVec 32 := Scalar.muli c2_i32_3110 c0_i32_3109
  let c1_i32_4027 : BitVec 32 := 1#32
  let v8111 : BitVec 32 := Scalar.addi v6219 c1_i32_4027
  let c4_i32_4028 : BitVec 32 := 4#32
  let v8112 : BitVec 32 := Scalar.muli v8111 c4_i32_4028
  let c0_i32_4029 : BitVec 32 := 0#32
  let v8113 : BitVec 32 := Scalar.addi v8112 c0_i32_4029
  let c0_i32_4032 : BitVec 32 := 0#32
  let v8117 : BitVec 1 := Scalar.cmpi .sgt v8113 c0_i32_4032
  let v8118 : BitVec 32 := Scalar.extui v8117
  let c0_i32_4033 : BitVec 32 := 0#32
  let v8119 : BitVec 1 := Scalar.cmpi .slt v8113 c0_i32_4033
  let v8120 : BitVec 32 := Scalar.extui v8119
  let v8121 : BitVec 32 := Scalar.subi v8118 v8120
  let c4_i32_4031 : BitVec 32 := 4#32
  let c0_i32_4034 : BitVec 32 := 0#32
  let v8122 : BitVec 1 := Scalar.cmpi .sgt c4_i32_4031 c0_i32_4034
  let v8123 : BitVec 32 := Scalar.extui v8122
  let c0_i32_4035 : BitVec 32 := 0#32
  let v8124 : BitVec 1 := Scalar.cmpi .slt c4_i32_4031 c0_i32_4035
  let v8125 : BitVec 32 := Scalar.extui v8124
  let v8126 : BitVec 32 := Scalar.subi v8123 v8125
  let v8127 : BitVec 1 := Scalar.cmpi .ne v8121 v8126
  let v8128 : BitVec 32 := Scalar.remsi v8113 c4_i32_4031
  let c0_i32_4036 : BitVec 32 := 0#32
  let v8129 : BitVec 1 := Scalar.cmpi .ne v8128 c0_i32_4036
  let v8130 : BitVec 1 := Scalar.andi v8127 v8129
  let v8116 : BitVec 32 := Scalar.divsi v8113 c4_i32_4031
  let c1_i32_4037 : BitVec 32 := 1#32
  let v8131 : BitVec 32 := Scalar.subi v8116 c1_i32_4037
  let v8132 : BitVec 32 := Scalar.select v8130 v8131 v8116
  let c512_i32_4048 : BitVec 32 := 512#32
  let v8147 : BitVec 32 := Scalar.muli v8132 c512_i32_4048
  let c256_i32_4047 : BitVec 32 := 256#32
  let c0_i32_4046 : BitVec 32 := 0#32
  let c4_i32_4038 : BitVec 32 := 4#32
  let c0_i32_4039 : BitVec 32 := 0#32
  let v8133 : BitVec 1 := Scalar.cmpi .eq c4_i32_4038 c0_i32_4039
  let c1_i32_4040 : BitVec 32 := 1#32
  let v8134 : BitVec 32 := Scalar.select v8133 c1_i32_4040 c4_i32_4038
  let v8135 : BitVec 32 := Scalar.remsi v8113 v8134
  let c0_i32_4042 : BitVec 32 := 0#32
  let v8137 : BitVec 1 := Scalar.cmpi .slt v8135 c0_i32_4042
  let c0_i32_4043 : BitVec 32 := 0#32
  let v8138 : BitVec 1 := Scalar.cmpi .slt v8134 c0_i32_4043
  let v8139 : BitVec 1 := Scalar.xori v8137 v8138
  let c0_i32_4041 : BitVec 32 := 0#32
  let v8136 : BitVec 1 := Scalar.cmpi .ne v8135 c0_i32_4041
  let v8140 : BitVec 1 := Scalar.andi v8139 v8136
  let v8141 : BitVec 32 := Scalar.addi v8135 v8134
  let v8142 : BitVec 32 := Scalar.select v8140 v8141 v8135
  let c128_i32_4044 : BitVec 32 := 128#32
  let v8143 : BitVec 32 := Scalar.muli v8142 c128_i32_4044
  let c64_i32_4045 : BitVec 32 := 64#32
  let v8144 : BitVec 32 := Scalar.subi v8143 c64_i32_4045
  let v8145 : BitVec 32 := Scalar.maxsi c0_i32_4046 v8144
  let v8146 : BitVec 32 := Scalar.minsi c256_i32_4047 v8145
  let v8148 : BitVec 32 := Scalar.addi v8147 v8146
  let v8149 : BitVec 32 := v8148
  let c0_i32_4068 : BitVec 32 := 0#32
  let v8178 : BitVec 1 := Scalar.cmpi .sgt v8149 c0_i32_4068
  let v8179 : BitVec 32 := Scalar.extui v8178
  let c0_i32_4069 : BitVec 32 := 0#32
  let v8180 : BitVec 1 := Scalar.cmpi .slt v8149 c0_i32_4069
  let v8181 : BitVec 32 := Scalar.extui v8180
  let v8182 : BitVec 32 := Scalar.subi v8179 v8181
  let c2_i32_4067 : BitVec 32 := 2#32
  let c0_i32_4070 : BitVec 32 := 0#32
  let v8183 : BitVec 1 := Scalar.cmpi .sgt c2_i32_4067 c0_i32_4070
  let v8184 : BitVec 32 := Scalar.extui v8183
  let c0_i32_4071 : BitVec 32 := 0#32
  let v8185 : BitVec 1 := Scalar.cmpi .slt c2_i32_4067 c0_i32_4071
  let v8186 : BitVec 32 := Scalar.extui v8185
  let v8187 : BitVec 32 := Scalar.subi v8184 v8186
  let v8188 : BitVec 1 := Scalar.cmpi .ne v8182 v8187
  let v8189 : BitVec 32 := Scalar.remsi v8149 c2_i32_4067
  let c0_i32_4072 : BitVec 32 := 0#32
  let v8190 : BitVec 1 := Scalar.cmpi .ne v8189 c0_i32_4072
  let v8191 : BitVec 1 := Scalar.andi v8188 v8190
  let v8177 : BitVec 32 := Scalar.divsi v8149 c2_i32_4067
  let c1_i32_4073 : BitVec 32 := 1#32
  let v8192 : BitVec 32 := Scalar.subi v8177 c1_i32_4073
  let v8193 : BitVec 32 := Scalar.select v8191 v8192 v8177
  v8193
def k0_off49 (c0_i32_4029 : BitVec 32) : Fin 3 → Nat :=
  let c4_4074 : Index := 4#32
  let c2_i32_3110 : BitVec 32 := 2#32
  let c0_i32_3109 : BitVec 32 := 0#32
  let v6219 : BitVec 32 := Scalar.muli c2_i32_3110 c0_i32_3109
  let c1_i32_4027 : BitVec 32 := 1#32
  let v8111 : BitVec 32 := Scalar.addi v6219 c1_i32_4027
  let c4_i32_4028 : BitVec 32 := 4#32
  let v8112 : BitVec 32 := Scalar.muli v8111 c4_i32_4028
  let v8113 : BitVec 32 := Scalar.addi v8112 c0_i32_4029
  let c0_i32_4032 : BitVec 32 := 0#32
  let v8117 : BitVec 1 := Scalar.cmpi .sgt v8113 c0_i32_4032
  let v8118 : BitVec 32 := Scalar.extui v8117
  let c0_i32_4033 : BitVec 32 := 0#32
  let v8119 : BitVec 1 := Scalar.cmpi .slt v8113 c0_i32_4033
  let v8120 : BitVec 32 := Scalar.extui v8119
  let v8121 : BitVec 32 := Scalar.subi v8118 v8120
  let c4_i32_4031 : BitVec 32 := 4#32
  let c0_i32_4034 : BitVec 32 := 0#32
  let v8122 : BitVec 1 := Scalar.cmpi .sgt c4_i32_4031 c0_i32_4034
  let v8123 : BitVec 32 := Scalar.extui v8122
  let c0_i32_4035 : BitVec 32 := 0#32
  let v8124 : BitVec 1 := Scalar.cmpi .slt c4_i32_4031 c0_i32_4035
  let v8125 : BitVec 32 := Scalar.extui v8124
  let v8126 : BitVec 32 := Scalar.subi v8123 v8125
  let v8127 : BitVec 1 := Scalar.cmpi .ne v8121 v8126
  let v8128 : BitVec 32 := Scalar.remsi v8113 c4_i32_4031
  let c0_i32_4036 : BitVec 32 := 0#32
  let v8129 : BitVec 1 := Scalar.cmpi .ne v8128 c0_i32_4036
  let v8130 : BitVec 1 := Scalar.andi v8127 v8129
  let v8116 : BitVec 32 := Scalar.divsi v8113 c4_i32_4031
  let c1_i32_4037 : BitVec 32 := 1#32
  let v8131 : BitVec 32 := Scalar.subi v8116 c1_i32_4037
  let v8132 : BitVec 32 := Scalar.select v8130 v8131 v8116
  let c512_i32_4048 : BitVec 32 := 512#32
  let v8147 : BitVec 32 := Scalar.muli v8132 c512_i32_4048
  let c256_i32_4047 : BitVec 32 := 256#32
  let c0_i32_4046 : BitVec 32 := 0#32
  let c4_i32_4038 : BitVec 32 := 4#32
  let c0_i32_4039 : BitVec 32 := 0#32
  let v8133 : BitVec 1 := Scalar.cmpi .eq c4_i32_4038 c0_i32_4039
  let c1_i32_4040 : BitVec 32 := 1#32
  let v8134 : BitVec 32 := Scalar.select v8133 c1_i32_4040 c4_i32_4038
  let v8135 : BitVec 32 := Scalar.remsi v8113 v8134
  let c0_i32_4042 : BitVec 32 := 0#32
  let v8137 : BitVec 1 := Scalar.cmpi .slt v8135 c0_i32_4042
  let c0_i32_4043 : BitVec 32 := 0#32
  let v8138 : BitVec 1 := Scalar.cmpi .slt v8134 c0_i32_4043
  let v8139 : BitVec 1 := Scalar.xori v8137 v8138
  let c0_i32_4041 : BitVec 32 := 0#32
  let v8136 : BitVec 1 := Scalar.cmpi .ne v8135 c0_i32_4041
  let v8140 : BitVec 1 := Scalar.andi v8139 v8136
  let v8141 : BitVec 32 := Scalar.addi v8135 v8134
  let v8142 : BitVec 32 := Scalar.select v8140 v8141 v8135
  let c128_i32_4044 : BitVec 32 := 128#32
  let v8143 : BitVec 32 := Scalar.muli v8142 c128_i32_4044
  let c64_i32_4045 : BitVec 32 := 64#32
  let v8144 : BitVec 32 := Scalar.subi v8143 c64_i32_4045
  let v8145 : BitVec 32 := Scalar.maxsi c0_i32_4046 v8144
  let v8146 : BitVec 32 := Scalar.minsi c256_i32_4047 v8145
  let v8148 : BitVec 32 := Scalar.addi v8147 v8146
  let v8149 : BitVec 32 := v8148
  let c0_i32_4068 : BitVec 32 := 0#32
  let v8178 : BitVec 1 := Scalar.cmpi .sgt v8149 c0_i32_4068
  let v8179 : BitVec 32 := Scalar.extui v8178
  let c0_i32_4069 : BitVec 32 := 0#32
  let v8180 : BitVec 1 := Scalar.cmpi .slt v8149 c0_i32_4069
  let v8181 : BitVec 32 := Scalar.extui v8180
  let v8182 : BitVec 32 := Scalar.subi v8179 v8181
  let c2_i32_4067 : BitVec 32 := 2#32
  let c0_i32_4070 : BitVec 32 := 0#32
  let v8183 : BitVec 1 := Scalar.cmpi .sgt c2_i32_4067 c0_i32_4070
  let v8184 : BitVec 32 := Scalar.extui v8183
  let c0_i32_4071 : BitVec 32 := 0#32
  let v8185 : BitVec 1 := Scalar.cmpi .slt c2_i32_4067 c0_i32_4071
  let v8186 : BitVec 32 := Scalar.extui v8185
  let v8187 : BitVec 32 := Scalar.subi v8184 v8186
  let v8188 : BitVec 1 := Scalar.cmpi .ne v8182 v8187
  let v8189 : BitVec 32 := Scalar.remsi v8149 c2_i32_4067
  let c0_i32_4072 : BitVec 32 := 0#32
  let v8190 : BitVec 1 := Scalar.cmpi .ne v8189 c0_i32_4072
  let v8191 : BitVec 1 := Scalar.andi v8188 v8190
  let v8177 : BitVec 32 := Scalar.divsi v8149 c2_i32_4067
  let c1_i32_4073 : BitVec 32 := 1#32
  let v8192 : BitVec 32 := Scalar.subi v8177 c1_i32_4073
  let v8193 : BitVec 32 := Scalar.select v8191 v8192 v8177
  let v8194 : BitVec 32 := v8193
  let v8195 : Index := Scalar.indexCast v8194
  let c0_4075 : Index := 0#32
  ![4, v8195.toNat, 0]
def k0_off50 (c0_i32_4029 : BitVec 32) : Fin 3 → Nat :=
  let c2_4078 : Index := 2#32
  let c2_i32_3110 : BitVec 32 := 2#32
  let c0_i32_3109 : BitVec 32 := 0#32
  let v6219 : BitVec 32 := Scalar.muli c2_i32_3110 c0_i32_3109
  let c1_i32_4027 : BitVec 32 := 1#32
  let v8111 : BitVec 32 := Scalar.addi v6219 c1_i32_4027
  let c4_i32_4028 : BitVec 32 := 4#32
  let v8112 : BitVec 32 := Scalar.muli v8111 c4_i32_4028
  let v8113 : BitVec 32 := Scalar.addi v8112 c0_i32_4029
  let c128_i32_4030 : BitVec 32 := 128#32
  let v8114 : BitVec 32 := Scalar.muli v8113 c128_i32_4030
  let v8115 : BitVec 32 := v8114
  let v8208 : Index := Scalar.indexCast v8115
  let c0_4079 : Index := 0#32
  ![2, v8208.toNat, 0]
def k0_off51 (c0_i32_4029 : BitVec 32) : Fin 3 → Nat :=
  let c3_4085 : Index := 3#32
  let c2_i32_3110 : BitVec 32 := 2#32
  let c0_i32_3109 : BitVec 32 := 0#32
  let v6219 : BitVec 32 := Scalar.muli c2_i32_3110 c0_i32_3109
  let c1_i32_4027 : BitVec 32 := 1#32
  let v8111 : BitVec 32 := Scalar.addi v6219 c1_i32_4027
  let c4_i32_4028 : BitVec 32 := 4#32
  let v8112 : BitVec 32 := Scalar.muli v8111 c4_i32_4028
  let v8113 : BitVec 32 := Scalar.addi v8112 c0_i32_4029
  let c128_i32_4030 : BitVec 32 := 128#32
  let v8114 : BitVec 32 := Scalar.muli v8113 c128_i32_4030
  let v8115 : BitVec 32 := v8114
  let v8218 : Index := Scalar.indexCast v8115
  let c0_4086 : Index := 0#32
  ![3, v8218.toNat, 0]
def k0_mult345 : BitVec 32 :=
  let c2_i32_3110 : BitVec 32 := 2#32
  let c0_i32_3109 : BitVec 32 := 0#32
  let v6219 : BitVec 32 := Scalar.muli c2_i32_3110 c0_i32_3109
  let c1_i32_4027 : BitVec 32 := 1#32
  let v8111 : BitVec 32 := Scalar.addi v6219 c1_i32_4027
  let c4_i32_4087 : BitVec 32 := 4#32
  let v8222 : BitVec 32 := Scalar.muli v8111 c4_i32_4087
  let c1_i32_4088 : BitVec 32 := 1#32
  let v8223 : BitVec 32 := Scalar.addi v8222 c1_i32_4088
  let c128_i32_4089 : BitVec 32 := 128#32
  let v8224 : BitVec 32 := Scalar.muli v8223 c128_i32_4089
  v8224
def k0_mult346 : BitVec 32 :=
  let c2_i32_3110 : BitVec 32 := 2#32
  let c0_i32_3109 : BitVec 32 := 0#32
  let v6219 : BitVec 32 := Scalar.muli c2_i32_3110 c0_i32_3109
  let c1_i32_4027 : BitVec 32 := 1#32
  let v8111 : BitVec 32 := Scalar.addi v6219 c1_i32_4027
  let c4_i32_4087 : BitVec 32 := 4#32
  let v8222 : BitVec 32 := Scalar.muli v8111 c4_i32_4087
  let c1_i32_4088 : BitVec 32 := 1#32
  let v8223 : BitVec 32 := Scalar.addi v8222 c1_i32_4088
  let c0_i32_4091 : BitVec 32 := 0#32
  let v8227 : BitVec 1 := Scalar.cmpi .sgt v8223 c0_i32_4091
  let v8228 : BitVec 32 := Scalar.extui v8227
  let c0_i32_4092 : BitVec 32 := 0#32
  let v8229 : BitVec 1 := Scalar.cmpi .slt v8223 c0_i32_4092
  let v8230 : BitVec 32 := Scalar.extui v8229
  let v8231 : BitVec 32 := Scalar.subi v8228 v8230
  let c4_i32_4090 : BitVec 32 := 4#32
  let c0_i32_4093 : BitVec 32 := 0#32
  let v8232 : BitVec 1 := Scalar.cmpi .sgt c4_i32_4090 c0_i32_4093
  let v8233 : BitVec 32 := Scalar.extui v8232
  let c0_i32_4094 : BitVec 32 := 0#32
  let v8234 : BitVec 1 := Scalar.cmpi .slt c4_i32_4090 c0_i32_4094
  let v8235 : BitVec 32 := Scalar.extui v8234
  let v8236 : BitVec 32 := Scalar.subi v8233 v8235
  let v8237 : BitVec 1 := Scalar.cmpi .ne v8231 v8236
  let v8238 : BitVec 32 := Scalar.remsi v8223 c4_i32_4090
  let c0_i32_4095 : BitVec 32 := 0#32
  let v8239 : BitVec 1 := Scalar.cmpi .ne v8238 c0_i32_4095
  let v8240 : BitVec 1 := Scalar.andi v8237 v8239
  let v8226 : BitVec 32 := Scalar.divsi v8223 c4_i32_4090
  let c1_i32_4096 : BitVec 32 := 1#32
  let v8241 : BitVec 32 := Scalar.subi v8226 c1_i32_4096
  let v8242 : BitVec 32 := Scalar.select v8240 v8241 v8226
  let c512_i32_4107 : BitVec 32 := 512#32
  let v8257 : BitVec 32 := Scalar.muli v8242 c512_i32_4107
  let c256_i32_4106 : BitVec 32 := 256#32
  let c0_i32_4105 : BitVec 32 := 0#32
  let c4_i32_4097 : BitVec 32 := 4#32
  let c0_i32_4098 : BitVec 32 := 0#32
  let v8243 : BitVec 1 := Scalar.cmpi .eq c4_i32_4097 c0_i32_4098
  let c1_i32_4099 : BitVec 32 := 1#32
  let v8244 : BitVec 32 := Scalar.select v8243 c1_i32_4099 c4_i32_4097
  let v8245 : BitVec 32 := Scalar.remsi v8223 v8244
  let c0_i32_4101 : BitVec 32 := 0#32
  let v8247 : BitVec 1 := Scalar.cmpi .slt v8245 c0_i32_4101
  let c0_i32_4102 : BitVec 32 := 0#32
  let v8248 : BitVec 1 := Scalar.cmpi .slt v8244 c0_i32_4102
  let v8249 : BitVec 1 := Scalar.xori v8247 v8248
  let c0_i32_4100 : BitVec 32 := 0#32
  let v8246 : BitVec 1 := Scalar.cmpi .ne v8245 c0_i32_4100
  let v8250 : BitVec 1 := Scalar.andi v8249 v8246
  let v8251 : BitVec 32 := Scalar.addi v8245 v8244
  let v8252 : BitVec 32 := Scalar.select v8250 v8251 v8245
  let c128_i32_4103 : BitVec 32 := 128#32
  let v8253 : BitVec 32 := Scalar.muli v8252 c128_i32_4103
  let c64_i32_4104 : BitVec 32 := 64#32
  let v8254 : BitVec 32 := Scalar.subi v8253 c64_i32_4104
  let v8255 : BitVec 32 := Scalar.maxsi c0_i32_4105 v8254
  let v8256 : BitVec 32 := Scalar.minsi c256_i32_4106 v8255
  let v8258 : BitVec 32 := Scalar.addi v8257 v8256
  v8258
def k0_mult347 : BitVec 32 :=
  let c2_i32_3110 : BitVec 32 := 2#32
  let c0_i32_3109 : BitVec 32 := 0#32
  let v6219 : BitVec 32 := Scalar.muli c2_i32_3110 c0_i32_3109
  let c1_i32_4027 : BitVec 32 := 1#32
  let v8111 : BitVec 32 := Scalar.addi v6219 c1_i32_4027
  let c4_i32_4087 : BitVec 32 := 4#32
  let v8222 : BitVec 32 := Scalar.muli v8111 c4_i32_4087
  let c1_i32_4088 : BitVec 32 := 1#32
  let v8223 : BitVec 32 := Scalar.addi v8222 c1_i32_4088
  let c0_i32_4091 : BitVec 32 := 0#32
  let v8227 : BitVec 1 := Scalar.cmpi .sgt v8223 c0_i32_4091
  let v8228 : BitVec 32 := Scalar.extui v8227
  let c0_i32_4092 : BitVec 32 := 0#32
  let v8229 : BitVec 1 := Scalar.cmpi .slt v8223 c0_i32_4092
  let v8230 : BitVec 32 := Scalar.extui v8229
  let v8231 : BitVec 32 := Scalar.subi v8228 v8230
  let c4_i32_4090 : BitVec 32 := 4#32
  let c0_i32_4093 : BitVec 32 := 0#32
  let v8232 : BitVec 1 := Scalar.cmpi .sgt c4_i32_4090 c0_i32_4093
  let v8233 : BitVec 32 := Scalar.extui v8232
  let c0_i32_4094 : BitVec 32 := 0#32
  let v8234 : BitVec 1 := Scalar.cmpi .slt c4_i32_4090 c0_i32_4094
  let v8235 : BitVec 32 := Scalar.extui v8234
  let v8236 : BitVec 32 := Scalar.subi v8233 v8235
  let v8237 : BitVec 1 := Scalar.cmpi .ne v8231 v8236
  let v8238 : BitVec 32 := Scalar.remsi v8223 c4_i32_4090
  let c0_i32_4095 : BitVec 32 := 0#32
  let v8239 : BitVec 1 := Scalar.cmpi .ne v8238 c0_i32_4095
  let v8240 : BitVec 1 := Scalar.andi v8237 v8239
  let v8226 : BitVec 32 := Scalar.divsi v8223 c4_i32_4090
  let c1_i32_4096 : BitVec 32 := 1#32
  let v8241 : BitVec 32 := Scalar.subi v8226 c1_i32_4096
  let v8242 : BitVec 32 := Scalar.select v8240 v8241 v8226
  let c512_i32_4107 : BitVec 32 := 512#32
  let v8257 : BitVec 32 := Scalar.muli v8242 c512_i32_4107
  let c256_i32_4106 : BitVec 32 := 256#32
  let c0_i32_4105 : BitVec 32 := 0#32
  let c4_i32_4097 : BitVec 32 := 4#32
  let c0_i32_4098 : BitVec 32 := 0#32
  let v8243 : BitVec 1 := Scalar.cmpi .eq c4_i32_4097 c0_i32_4098
  let c1_i32_4099 : BitVec 32 := 1#32
  let v8244 : BitVec 32 := Scalar.select v8243 c1_i32_4099 c4_i32_4097
  let v8245 : BitVec 32 := Scalar.remsi v8223 v8244
  let c0_i32_4101 : BitVec 32 := 0#32
  let v8247 : BitVec 1 := Scalar.cmpi .slt v8245 c0_i32_4101
  let c0_i32_4102 : BitVec 32 := 0#32
  let v8248 : BitVec 1 := Scalar.cmpi .slt v8244 c0_i32_4102
  let v8249 : BitVec 1 := Scalar.xori v8247 v8248
  let c0_i32_4100 : BitVec 32 := 0#32
  let v8246 : BitVec 1 := Scalar.cmpi .ne v8245 c0_i32_4100
  let v8250 : BitVec 1 := Scalar.andi v8249 v8246
  let v8251 : BitVec 32 := Scalar.addi v8245 v8244
  let v8252 : BitVec 32 := Scalar.select v8250 v8251 v8245
  let c128_i32_4103 : BitVec 32 := 128#32
  let v8253 : BitVec 32 := Scalar.muli v8252 c128_i32_4103
  let c64_i32_4104 : BitVec 32 := 64#32
  let v8254 : BitVec 32 := Scalar.subi v8253 c64_i32_4104
  let v8255 : BitVec 32 := Scalar.maxsi c0_i32_4105 v8254
  let v8256 : BitVec 32 := Scalar.minsi c256_i32_4106 v8255
  let v8258 : BitVec 32 := Scalar.addi v8257 v8256
  let v8259 : BitVec 32 := v8258
  let c0_i32_4113 : BitVec 32 := 0#32
  let v8263 : BitVec 1 := Scalar.cmpi .sgt v8259 c0_i32_4113
  let v8264 : BitVec 32 := Scalar.extui v8263
  let c0_i32_4114 : BitVec 32 := 0#32
  let v8265 : BitVec 1 := Scalar.cmpi .slt v8259 c0_i32_4114
  let v8266 : BitVec 32 := Scalar.extui v8265
  let v8267 : BitVec 32 := Scalar.subi v8264 v8266
  let c2_i32_4112 : BitVec 32 := 2#32
  let c0_i32_4115 : BitVec 32 := 0#32
  let v8268 : BitVec 1 := Scalar.cmpi .sgt c2_i32_4112 c0_i32_4115
  let v8269 : BitVec 32 := Scalar.extui v8268
  let c0_i32_4116 : BitVec 32 := 0#32
  let v8270 : BitVec 1 := Scalar.cmpi .slt c2_i32_4112 c0_i32_4116
  let v8271 : BitVec 32 := Scalar.extui v8270
  let v8272 : BitVec 32 := Scalar.subi v8269 v8271
  let v8273 : BitVec 1 := Scalar.cmpi .ne v8267 v8272
  let v8274 : BitVec 32 := Scalar.remsi v8259 c2_i32_4112
  let c0_i32_4117 : BitVec 32 := 0#32
  let v8275 : BitVec 1 := Scalar.cmpi .ne v8274 c0_i32_4117
  let v8276 : BitVec 1 := Scalar.andi v8273 v8275
  let v8262 : BitVec 32 := Scalar.divsi v8259 c2_i32_4112
  let c1_i32_4118 : BitVec 32 := 1#32
  let v8277 : BitVec 32 := Scalar.subi v8262 c1_i32_4118
  let v8278 : BitVec 32 := Scalar.select v8276 v8277 v8262
  v8278
def k0_mult348 : BitVec 32 :=
  let c2_i32_3110 : BitVec 32 := 2#32
  let c0_i32_3109 : BitVec 32 := 0#32
  let v6219 : BitVec 32 := Scalar.muli c2_i32_3110 c0_i32_3109
  let c1_i32_4027 : BitVec 32 := 1#32
  let v8111 : BitVec 32 := Scalar.addi v6219 c1_i32_4027
  let c4_i32_4087 : BitVec 32 := 4#32
  let v8222 : BitVec 32 := Scalar.muli v8111 c4_i32_4087
  let c1_i32_4088 : BitVec 32 := 1#32
  let v8223 : BitVec 32 := Scalar.addi v8222 c1_i32_4088
  let c0_i32_4091 : BitVec 32 := 0#32
  let v8227 : BitVec 1 := Scalar.cmpi .sgt v8223 c0_i32_4091
  let v8228 : BitVec 32 := Scalar.extui v8227
  let c0_i32_4092 : BitVec 32 := 0#32
  let v8229 : BitVec 1 := Scalar.cmpi .slt v8223 c0_i32_4092
  let v8230 : BitVec 32 := Scalar.extui v8229
  let v8231 : BitVec 32 := Scalar.subi v8228 v8230
  let c4_i32_4090 : BitVec 32 := 4#32
  let c0_i32_4093 : BitVec 32 := 0#32
  let v8232 : BitVec 1 := Scalar.cmpi .sgt c4_i32_4090 c0_i32_4093
  let v8233 : BitVec 32 := Scalar.extui v8232
  let c0_i32_4094 : BitVec 32 := 0#32
  let v8234 : BitVec 1 := Scalar.cmpi .slt c4_i32_4090 c0_i32_4094
  let v8235 : BitVec 32 := Scalar.extui v8234
  let v8236 : BitVec 32 := Scalar.subi v8233 v8235
  let v8237 : BitVec 1 := Scalar.cmpi .ne v8231 v8236
  let v8238 : BitVec 32 := Scalar.remsi v8223 c4_i32_4090
  let c0_i32_4095 : BitVec 32 := 0#32
  let v8239 : BitVec 1 := Scalar.cmpi .ne v8238 c0_i32_4095
  let v8240 : BitVec 1 := Scalar.andi v8237 v8239
  let v8226 : BitVec 32 := Scalar.divsi v8223 c4_i32_4090
  let c1_i32_4096 : BitVec 32 := 1#32
  let v8241 : BitVec 32 := Scalar.subi v8226 c1_i32_4096
  let v8242 : BitVec 32 := Scalar.select v8240 v8241 v8226
  let c512_i32_4107 : BitVec 32 := 512#32
  let v8257 : BitVec 32 := Scalar.muli v8242 c512_i32_4107
  let c256_i32_4106 : BitVec 32 := 256#32
  let c0_i32_4105 : BitVec 32 := 0#32
  let c4_i32_4097 : BitVec 32 := 4#32
  let c0_i32_4098 : BitVec 32 := 0#32
  let v8243 : BitVec 1 := Scalar.cmpi .eq c4_i32_4097 c0_i32_4098
  let c1_i32_4099 : BitVec 32 := 1#32
  let v8244 : BitVec 32 := Scalar.select v8243 c1_i32_4099 c4_i32_4097
  let v8245 : BitVec 32 := Scalar.remsi v8223 v8244
  let c0_i32_4101 : BitVec 32 := 0#32
  let v8247 : BitVec 1 := Scalar.cmpi .slt v8245 c0_i32_4101
  let c0_i32_4102 : BitVec 32 := 0#32
  let v8248 : BitVec 1 := Scalar.cmpi .slt v8244 c0_i32_4102
  let v8249 : BitVec 1 := Scalar.xori v8247 v8248
  let c0_i32_4100 : BitVec 32 := 0#32
  let v8246 : BitVec 1 := Scalar.cmpi .ne v8245 c0_i32_4100
  let v8250 : BitVec 1 := Scalar.andi v8249 v8246
  let v8251 : BitVec 32 := Scalar.addi v8245 v8244
  let v8252 : BitVec 32 := Scalar.select v8250 v8251 v8245
  let c128_i32_4103 : BitVec 32 := 128#32
  let v8253 : BitVec 32 := Scalar.muli v8252 c128_i32_4103
  let c64_i32_4104 : BitVec 32 := 64#32
  let v8254 : BitVec 32 := Scalar.subi v8253 c64_i32_4104
  let v8255 : BitVec 32 := Scalar.maxsi c0_i32_4105 v8254
  let v8256 : BitVec 32 := Scalar.minsi c256_i32_4106 v8255
  let v8258 : BitVec 32 := Scalar.addi v8257 v8256
  let v8259 : BitVec 32 := v8258
  let c0_i32_4127 : BitVec 32 := 0#32
  let v8288 : BitVec 1 := Scalar.cmpi .sgt v8259 c0_i32_4127
  let v8289 : BitVec 32 := Scalar.extui v8288
  let c0_i32_4128 : BitVec 32 := 0#32
  let v8290 : BitVec 1 := Scalar.cmpi .slt v8259 c0_i32_4128
  let v8291 : BitVec 32 := Scalar.extui v8290
  let v8292 : BitVec 32 := Scalar.subi v8289 v8291
  let c2_i32_4126 : BitVec 32 := 2#32
  let c0_i32_4129 : BitVec 32 := 0#32
  let v8293 : BitVec 1 := Scalar.cmpi .sgt c2_i32_4126 c0_i32_4129
  let v8294 : BitVec 32 := Scalar.extui v8293
  let c0_i32_4130 : BitVec 32 := 0#32
  let v8295 : BitVec 1 := Scalar.cmpi .slt c2_i32_4126 c0_i32_4130
  let v8296 : BitVec 32 := Scalar.extui v8295
  let v8297 : BitVec 32 := Scalar.subi v8294 v8296
  let v8298 : BitVec 1 := Scalar.cmpi .ne v8292 v8297
  let v8299 : BitVec 32 := Scalar.remsi v8259 c2_i32_4126
  let c0_i32_4131 : BitVec 32 := 0#32
  let v8300 : BitVec 1 := Scalar.cmpi .ne v8299 c0_i32_4131
  let v8301 : BitVec 1 := Scalar.andi v8298 v8300
  let v8287 : BitVec 32 := Scalar.divsi v8259 c2_i32_4126
  let c1_i32_4132 : BitVec 32 := 1#32
  let v8302 : BitVec 32 := Scalar.subi v8287 c1_i32_4132
  let v8303 : BitVec 32 := Scalar.select v8301 v8302 v8287
  v8303
def k0_mult349 : BitVec 32 :=
  let c2_i32_3110 : BitVec 32 := 2#32
  let c0_i32_3109 : BitVec 32 := 0#32
  let v6219 : BitVec 32 := Scalar.muli c2_i32_3110 c0_i32_3109
  let c1_i32_4027 : BitVec 32 := 1#32
  let v8111 : BitVec 32 := Scalar.addi v6219 c1_i32_4027
  let c4_i32_4146 : BitVec 32 := 4#32
  let v8332 : BitVec 32 := Scalar.muli v8111 c4_i32_4146
  let c2_i32_4147 : BitVec 32 := 2#32
  let v8333 : BitVec 32 := Scalar.addi v8332 c2_i32_4147
  let c128_i32_4148 : BitVec 32 := 128#32
  let v8334 : BitVec 32 := Scalar.muli v8333 c128_i32_4148
  v8334
def k0_mult350 : BitVec 32 :=
  let c2_i32_3110 : BitVec 32 := 2#32
  let c0_i32_3109 : BitVec 32 := 0#32
  let v6219 : BitVec 32 := Scalar.muli c2_i32_3110 c0_i32_3109
  let c1_i32_4027 : BitVec 32 := 1#32
  let v8111 : BitVec 32 := Scalar.addi v6219 c1_i32_4027
  let c4_i32_4146 : BitVec 32 := 4#32
  let v8332 : BitVec 32 := Scalar.muli v8111 c4_i32_4146
  let c2_i32_4147 : BitVec 32 := 2#32
  let v8333 : BitVec 32 := Scalar.addi v8332 c2_i32_4147
  let c0_i32_4150 : BitVec 32 := 0#32
  let v8337 : BitVec 1 := Scalar.cmpi .sgt v8333 c0_i32_4150
  let v8338 : BitVec 32 := Scalar.extui v8337
  let c0_i32_4151 : BitVec 32 := 0#32
  let v8339 : BitVec 1 := Scalar.cmpi .slt v8333 c0_i32_4151
  let v8340 : BitVec 32 := Scalar.extui v8339
  let v8341 : BitVec 32 := Scalar.subi v8338 v8340
  let c4_i32_4149 : BitVec 32 := 4#32
  let c0_i32_4152 : BitVec 32 := 0#32
  let v8342 : BitVec 1 := Scalar.cmpi .sgt c4_i32_4149 c0_i32_4152
  let v8343 : BitVec 32 := Scalar.extui v8342
  let c0_i32_4153 : BitVec 32 := 0#32
  let v8344 : BitVec 1 := Scalar.cmpi .slt c4_i32_4149 c0_i32_4153
  let v8345 : BitVec 32 := Scalar.extui v8344
  let v8346 : BitVec 32 := Scalar.subi v8343 v8345
  let v8347 : BitVec 1 := Scalar.cmpi .ne v8341 v8346
  let v8348 : BitVec 32 := Scalar.remsi v8333 c4_i32_4149
  let c0_i32_4154 : BitVec 32 := 0#32
  let v8349 : BitVec 1 := Scalar.cmpi .ne v8348 c0_i32_4154
  let v8350 : BitVec 1 := Scalar.andi v8347 v8349
  let v8336 : BitVec 32 := Scalar.divsi v8333 c4_i32_4149
  let c1_i32_4155 : BitVec 32 := 1#32
  let v8351 : BitVec 32 := Scalar.subi v8336 c1_i32_4155
  let v8352 : BitVec 32 := Scalar.select v8350 v8351 v8336
  let c512_i32_4166 : BitVec 32 := 512#32
  let v8367 : BitVec 32 := Scalar.muli v8352 c512_i32_4166
  let c256_i32_4165 : BitVec 32 := 256#32
  let c0_i32_4164 : BitVec 32 := 0#32
  let c4_i32_4156 : BitVec 32 := 4#32
  let c0_i32_4157 : BitVec 32 := 0#32
  let v8353 : BitVec 1 := Scalar.cmpi .eq c4_i32_4156 c0_i32_4157
  let c1_i32_4158 : BitVec 32 := 1#32
  let v8354 : BitVec 32 := Scalar.select v8353 c1_i32_4158 c4_i32_4156
  let v8355 : BitVec 32 := Scalar.remsi v8333 v8354
  let c0_i32_4160 : BitVec 32 := 0#32
  let v8357 : BitVec 1 := Scalar.cmpi .slt v8355 c0_i32_4160
  let c0_i32_4161 : BitVec 32 := 0#32
  let v8358 : BitVec 1 := Scalar.cmpi .slt v8354 c0_i32_4161
  let v8359 : BitVec 1 := Scalar.xori v8357 v8358
  let c0_i32_4159 : BitVec 32 := 0#32
  let v8356 : BitVec 1 := Scalar.cmpi .ne v8355 c0_i32_4159
  let v8360 : BitVec 1 := Scalar.andi v8359 v8356
  let v8361 : BitVec 32 := Scalar.addi v8355 v8354
  let v8362 : BitVec 32 := Scalar.select v8360 v8361 v8355
  let c128_i32_4162 : BitVec 32 := 128#32
  let v8363 : BitVec 32 := Scalar.muli v8362 c128_i32_4162
  let c64_i32_4163 : BitVec 32 := 64#32
  let v8364 : BitVec 32 := Scalar.subi v8363 c64_i32_4163
  let v8365 : BitVec 32 := Scalar.maxsi c0_i32_4164 v8364
  let v8366 : BitVec 32 := Scalar.minsi c256_i32_4165 v8365
  let v8368 : BitVec 32 := Scalar.addi v8367 v8366
  v8368
def k0_mult351 : BitVec 32 :=
  let c2_i32_3110 : BitVec 32 := 2#32
  let c0_i32_3109 : BitVec 32 := 0#32
  let v6219 : BitVec 32 := Scalar.muli c2_i32_3110 c0_i32_3109
  let c1_i32_4027 : BitVec 32 := 1#32
  let v8111 : BitVec 32 := Scalar.addi v6219 c1_i32_4027
  let c4_i32_4146 : BitVec 32 := 4#32
  let v8332 : BitVec 32 := Scalar.muli v8111 c4_i32_4146
  let c2_i32_4147 : BitVec 32 := 2#32
  let v8333 : BitVec 32 := Scalar.addi v8332 c2_i32_4147
  let c0_i32_4150 : BitVec 32 := 0#32
  let v8337 : BitVec 1 := Scalar.cmpi .sgt v8333 c0_i32_4150
  let v8338 : BitVec 32 := Scalar.extui v8337
  let c0_i32_4151 : BitVec 32 := 0#32
  let v8339 : BitVec 1 := Scalar.cmpi .slt v8333 c0_i32_4151
  let v8340 : BitVec 32 := Scalar.extui v8339
  let v8341 : BitVec 32 := Scalar.subi v8338 v8340
  let c4_i32_4149 : BitVec 32 := 4#32
  let c0_i32_4152 : BitVec 32 := 0#32
  let v8342 : BitVec 1 := Scalar.cmpi .sgt c4_i32_4149 c0_i32_4152
  let v8343 : BitVec 32 := Scalar.extui v8342
  let c0_i32_4153 : BitVec 32 := 0#32
  let v8344 : BitVec 1 := Scalar.cmpi .slt c4_i32_4149 c0_i32_4153
  let v8345 : BitVec 32 := Scalar.extui v8344
  let v8346 : BitVec 32 := Scalar.subi v8343 v8345
  let v8347 : BitVec 1 := Scalar.cmpi .ne v8341 v8346
  let v8348 : BitVec 32 := Scalar.remsi v8333 c4_i32_4149
  let c0_i32_4154 : BitVec 32 := 0#32
  let v8349 : BitVec 1 := Scalar.cmpi .ne v8348 c0_i32_4154
  let v8350 : BitVec 1 := Scalar.andi v8347 v8349
  let v8336 : BitVec 32 := Scalar.divsi v8333 c4_i32_4149
  let c1_i32_4155 : BitVec 32 := 1#32
  let v8351 : BitVec 32 := Scalar.subi v8336 c1_i32_4155
  let v8352 : BitVec 32 := Scalar.select v8350 v8351 v8336
  let c512_i32_4166 : BitVec 32 := 512#32
  let v8367 : BitVec 32 := Scalar.muli v8352 c512_i32_4166
  let c256_i32_4165 : BitVec 32 := 256#32
  let c0_i32_4164 : BitVec 32 := 0#32
  let c4_i32_4156 : BitVec 32 := 4#32
  let c0_i32_4157 : BitVec 32 := 0#32
  let v8353 : BitVec 1 := Scalar.cmpi .eq c4_i32_4156 c0_i32_4157
  let c1_i32_4158 : BitVec 32 := 1#32
  let v8354 : BitVec 32 := Scalar.select v8353 c1_i32_4158 c4_i32_4156
  let v8355 : BitVec 32 := Scalar.remsi v8333 v8354
  let c0_i32_4160 : BitVec 32 := 0#32
  let v8357 : BitVec 1 := Scalar.cmpi .slt v8355 c0_i32_4160
  let c0_i32_4161 : BitVec 32 := 0#32
  let v8358 : BitVec 1 := Scalar.cmpi .slt v8354 c0_i32_4161
  let v8359 : BitVec 1 := Scalar.xori v8357 v8358
  let c0_i32_4159 : BitVec 32 := 0#32
  let v8356 : BitVec 1 := Scalar.cmpi .ne v8355 c0_i32_4159
  let v8360 : BitVec 1 := Scalar.andi v8359 v8356
  let v8361 : BitVec 32 := Scalar.addi v8355 v8354
  let v8362 : BitVec 32 := Scalar.select v8360 v8361 v8355
  let c128_i32_4162 : BitVec 32 := 128#32
  let v8363 : BitVec 32 := Scalar.muli v8362 c128_i32_4162
  let c64_i32_4163 : BitVec 32 := 64#32
  let v8364 : BitVec 32 := Scalar.subi v8363 c64_i32_4163
  let v8365 : BitVec 32 := Scalar.maxsi c0_i32_4164 v8364
  let v8366 : BitVec 32 := Scalar.minsi c256_i32_4165 v8365
  let v8368 : BitVec 32 := Scalar.addi v8367 v8366
  let v8369 : BitVec 32 := v8368
  let c0_i32_4172 : BitVec 32 := 0#32
  let v8373 : BitVec 1 := Scalar.cmpi .sgt v8369 c0_i32_4172
  let v8374 : BitVec 32 := Scalar.extui v8373
  let c0_i32_4173 : BitVec 32 := 0#32
  let v8375 : BitVec 1 := Scalar.cmpi .slt v8369 c0_i32_4173
  let v8376 : BitVec 32 := Scalar.extui v8375
  let v8377 : BitVec 32 := Scalar.subi v8374 v8376
  let c2_i32_4171 : BitVec 32 := 2#32
  let c0_i32_4174 : BitVec 32 := 0#32
  let v8378 : BitVec 1 := Scalar.cmpi .sgt c2_i32_4171 c0_i32_4174
  let v8379 : BitVec 32 := Scalar.extui v8378
  let c0_i32_4175 : BitVec 32 := 0#32
  let v8380 : BitVec 1 := Scalar.cmpi .slt c2_i32_4171 c0_i32_4175
  let v8381 : BitVec 32 := Scalar.extui v8380
  let v8382 : BitVec 32 := Scalar.subi v8379 v8381
  let v8383 : BitVec 1 := Scalar.cmpi .ne v8377 v8382
  let v8384 : BitVec 32 := Scalar.remsi v8369 c2_i32_4171
  let c0_i32_4176 : BitVec 32 := 0#32
  let v8385 : BitVec 1 := Scalar.cmpi .ne v8384 c0_i32_4176
  let v8386 : BitVec 1 := Scalar.andi v8383 v8385
  let v8372 : BitVec 32 := Scalar.divsi v8369 c2_i32_4171
  let c1_i32_4177 : BitVec 32 := 1#32
  let v8387 : BitVec 32 := Scalar.subi v8372 c1_i32_4177
  let v8388 : BitVec 32 := Scalar.select v8386 v8387 v8372
  v8388
def k0_mult352 : BitVec 32 :=
  let c2_i32_3110 : BitVec 32 := 2#32
  let c0_i32_3109 : BitVec 32 := 0#32
  let v6219 : BitVec 32 := Scalar.muli c2_i32_3110 c0_i32_3109
  let c1_i32_4027 : BitVec 32 := 1#32
  let v8111 : BitVec 32 := Scalar.addi v6219 c1_i32_4027
  let c4_i32_4146 : BitVec 32 := 4#32
  let v8332 : BitVec 32 := Scalar.muli v8111 c4_i32_4146
  let c2_i32_4147 : BitVec 32 := 2#32
  let v8333 : BitVec 32 := Scalar.addi v8332 c2_i32_4147
  let c0_i32_4150 : BitVec 32 := 0#32
  let v8337 : BitVec 1 := Scalar.cmpi .sgt v8333 c0_i32_4150
  let v8338 : BitVec 32 := Scalar.extui v8337
  let c0_i32_4151 : BitVec 32 := 0#32
  let v8339 : BitVec 1 := Scalar.cmpi .slt v8333 c0_i32_4151
  let v8340 : BitVec 32 := Scalar.extui v8339
  let v8341 : BitVec 32 := Scalar.subi v8338 v8340
  let c4_i32_4149 : BitVec 32 := 4#32
  let c0_i32_4152 : BitVec 32 := 0#32
  let v8342 : BitVec 1 := Scalar.cmpi .sgt c4_i32_4149 c0_i32_4152
  let v8343 : BitVec 32 := Scalar.extui v8342
  let c0_i32_4153 : BitVec 32 := 0#32
  let v8344 : BitVec 1 := Scalar.cmpi .slt c4_i32_4149 c0_i32_4153
  let v8345 : BitVec 32 := Scalar.extui v8344
  let v8346 : BitVec 32 := Scalar.subi v8343 v8345
  let v8347 : BitVec 1 := Scalar.cmpi .ne v8341 v8346
  let v8348 : BitVec 32 := Scalar.remsi v8333 c4_i32_4149
  let c0_i32_4154 : BitVec 32 := 0#32
  let v8349 : BitVec 1 := Scalar.cmpi .ne v8348 c0_i32_4154
  let v8350 : BitVec 1 := Scalar.andi v8347 v8349
  let v8336 : BitVec 32 := Scalar.divsi v8333 c4_i32_4149
  let c1_i32_4155 : BitVec 32 := 1#32
  let v8351 : BitVec 32 := Scalar.subi v8336 c1_i32_4155
  let v8352 : BitVec 32 := Scalar.select v8350 v8351 v8336
  let c512_i32_4166 : BitVec 32 := 512#32
  let v8367 : BitVec 32 := Scalar.muli v8352 c512_i32_4166
  let c256_i32_4165 : BitVec 32 := 256#32
  let c0_i32_4164 : BitVec 32 := 0#32
  let c4_i32_4156 : BitVec 32 := 4#32
  let c0_i32_4157 : BitVec 32 := 0#32
  let v8353 : BitVec 1 := Scalar.cmpi .eq c4_i32_4156 c0_i32_4157
  let c1_i32_4158 : BitVec 32 := 1#32
  let v8354 : BitVec 32 := Scalar.select v8353 c1_i32_4158 c4_i32_4156
  let v8355 : BitVec 32 := Scalar.remsi v8333 v8354
  let c0_i32_4160 : BitVec 32 := 0#32
  let v8357 : BitVec 1 := Scalar.cmpi .slt v8355 c0_i32_4160
  let c0_i32_4161 : BitVec 32 := 0#32
  let v8358 : BitVec 1 := Scalar.cmpi .slt v8354 c0_i32_4161
  let v8359 : BitVec 1 := Scalar.xori v8357 v8358
  let c0_i32_4159 : BitVec 32 := 0#32
  let v8356 : BitVec 1 := Scalar.cmpi .ne v8355 c0_i32_4159
  let v8360 : BitVec 1 := Scalar.andi v8359 v8356
  let v8361 : BitVec 32 := Scalar.addi v8355 v8354
  let v8362 : BitVec 32 := Scalar.select v8360 v8361 v8355
  let c128_i32_4162 : BitVec 32 := 128#32
  let v8363 : BitVec 32 := Scalar.muli v8362 c128_i32_4162
  let c64_i32_4163 : BitVec 32 := 64#32
  let v8364 : BitVec 32 := Scalar.subi v8363 c64_i32_4163
  let v8365 : BitVec 32 := Scalar.maxsi c0_i32_4164 v8364
  let v8366 : BitVec 32 := Scalar.minsi c256_i32_4165 v8365
  let v8368 : BitVec 32 := Scalar.addi v8367 v8366
  let v8369 : BitVec 32 := v8368
  let c0_i32_4186 : BitVec 32 := 0#32
  let v8398 : BitVec 1 := Scalar.cmpi .sgt v8369 c0_i32_4186
  let v8399 : BitVec 32 := Scalar.extui v8398
  let c0_i32_4187 : BitVec 32 := 0#32
  let v8400 : BitVec 1 := Scalar.cmpi .slt v8369 c0_i32_4187
  let v8401 : BitVec 32 := Scalar.extui v8400
  let v8402 : BitVec 32 := Scalar.subi v8399 v8401
  let c2_i32_4185 : BitVec 32 := 2#32
  let c0_i32_4188 : BitVec 32 := 0#32
  let v8403 : BitVec 1 := Scalar.cmpi .sgt c2_i32_4185 c0_i32_4188
  let v8404 : BitVec 32 := Scalar.extui v8403
  let c0_i32_4189 : BitVec 32 := 0#32
  let v8405 : BitVec 1 := Scalar.cmpi .slt c2_i32_4185 c0_i32_4189
  let v8406 : BitVec 32 := Scalar.extui v8405
  let v8407 : BitVec 32 := Scalar.subi v8404 v8406
  let v8408 : BitVec 1 := Scalar.cmpi .ne v8402 v8407
  let v8409 : BitVec 32 := Scalar.remsi v8369 c2_i32_4185
  let c0_i32_4190 : BitVec 32 := 0#32
  let v8410 : BitVec 1 := Scalar.cmpi .ne v8409 c0_i32_4190
  let v8411 : BitVec 1 := Scalar.andi v8408 v8410
  let v8397 : BitVec 32 := Scalar.divsi v8369 c2_i32_4185
  let c1_i32_4191 : BitVec 32 := 1#32
  let v8412 : BitVec 32 := Scalar.subi v8397 c1_i32_4191
  let v8413 : BitVec 32 := Scalar.select v8411 v8412 v8397
  v8413
def k0_mult353 : BitVec 32 :=
  let c2_i32_3110 : BitVec 32 := 2#32
  let c0_i32_3109 : BitVec 32 := 0#32
  let v6219 : BitVec 32 := Scalar.muli c2_i32_3110 c0_i32_3109
  let c1_i32_4027 : BitVec 32 := 1#32
  let v8111 : BitVec 32 := Scalar.addi v6219 c1_i32_4027
  let c4_i32_4205 : BitVec 32 := 4#32
  let v8442 : BitVec 32 := Scalar.muli v8111 c4_i32_4205
  let c3_i32_4206 : BitVec 32 := 3#32
  let v8443 : BitVec 32 := Scalar.addi v8442 c3_i32_4206
  let c128_i32_4207 : BitVec 32 := 128#32
  let v8444 : BitVec 32 := Scalar.muli v8443 c128_i32_4207
  v8444
def k0_mult354 : BitVec 32 :=
  let c2_i32_3110 : BitVec 32 := 2#32
  let c0_i32_3109 : BitVec 32 := 0#32
  let v6219 : BitVec 32 := Scalar.muli c2_i32_3110 c0_i32_3109
  let c1_i32_4027 : BitVec 32 := 1#32
  let v8111 : BitVec 32 := Scalar.addi v6219 c1_i32_4027
  let c4_i32_4205 : BitVec 32 := 4#32
  let v8442 : BitVec 32 := Scalar.muli v8111 c4_i32_4205
  let c3_i32_4206 : BitVec 32 := 3#32
  let v8443 : BitVec 32 := Scalar.addi v8442 c3_i32_4206
  let c0_i32_4209 : BitVec 32 := 0#32
  let v8447 : BitVec 1 := Scalar.cmpi .sgt v8443 c0_i32_4209
  let v8448 : BitVec 32 := Scalar.extui v8447
  let c0_i32_4210 : BitVec 32 := 0#32
  let v8449 : BitVec 1 := Scalar.cmpi .slt v8443 c0_i32_4210
  let v8450 : BitVec 32 := Scalar.extui v8449
  let v8451 : BitVec 32 := Scalar.subi v8448 v8450
  let c4_i32_4208 : BitVec 32 := 4#32
  let c0_i32_4211 : BitVec 32 := 0#32
  let v8452 : BitVec 1 := Scalar.cmpi .sgt c4_i32_4208 c0_i32_4211
  let v8453 : BitVec 32 := Scalar.extui v8452
  let c0_i32_4212 : BitVec 32 := 0#32
  let v8454 : BitVec 1 := Scalar.cmpi .slt c4_i32_4208 c0_i32_4212
  let v8455 : BitVec 32 := Scalar.extui v8454
  let v8456 : BitVec 32 := Scalar.subi v8453 v8455
  let v8457 : BitVec 1 := Scalar.cmpi .ne v8451 v8456
  let v8458 : BitVec 32 := Scalar.remsi v8443 c4_i32_4208
  let c0_i32_4213 : BitVec 32 := 0#32
  let v8459 : BitVec 1 := Scalar.cmpi .ne v8458 c0_i32_4213
  let v8460 : BitVec 1 := Scalar.andi v8457 v8459
  let v8446 : BitVec 32 := Scalar.divsi v8443 c4_i32_4208
  let c1_i32_4214 : BitVec 32 := 1#32
  let v8461 : BitVec 32 := Scalar.subi v8446 c1_i32_4214
  let v8462 : BitVec 32 := Scalar.select v8460 v8461 v8446
  let c512_i32_4225 : BitVec 32 := 512#32
  let v8477 : BitVec 32 := Scalar.muli v8462 c512_i32_4225
  let c256_i32_4224 : BitVec 32 := 256#32
  let c0_i32_4223 : BitVec 32 := 0#32
  let c4_i32_4215 : BitVec 32 := 4#32
  let c0_i32_4216 : BitVec 32 := 0#32
  let v8463 : BitVec 1 := Scalar.cmpi .eq c4_i32_4215 c0_i32_4216
  let c1_i32_4217 : BitVec 32 := 1#32
  let v8464 : BitVec 32 := Scalar.select v8463 c1_i32_4217 c4_i32_4215
  let v8465 : BitVec 32 := Scalar.remsi v8443 v8464
  let c0_i32_4219 : BitVec 32 := 0#32
  let v8467 : BitVec 1 := Scalar.cmpi .slt v8465 c0_i32_4219
  let c0_i32_4220 : BitVec 32 := 0#32
  let v8468 : BitVec 1 := Scalar.cmpi .slt v8464 c0_i32_4220
  let v8469 : BitVec 1 := Scalar.xori v8467 v8468
  let c0_i32_4218 : BitVec 32 := 0#32
  let v8466 : BitVec 1 := Scalar.cmpi .ne v8465 c0_i32_4218
  let v8470 : BitVec 1 := Scalar.andi v8469 v8466
  let v8471 : BitVec 32 := Scalar.addi v8465 v8464
  let v8472 : BitVec 32 := Scalar.select v8470 v8471 v8465
  let c128_i32_4221 : BitVec 32 := 128#32
  let v8473 : BitVec 32 := Scalar.muli v8472 c128_i32_4221
  let c64_i32_4222 : BitVec 32 := 64#32
  let v8474 : BitVec 32 := Scalar.subi v8473 c64_i32_4222
  let v8475 : BitVec 32 := Scalar.maxsi c0_i32_4223 v8474
  let v8476 : BitVec 32 := Scalar.minsi c256_i32_4224 v8475
  let v8478 : BitVec 32 := Scalar.addi v8477 v8476
  v8478
def k0_mult355 : BitVec 32 :=
  let c2_i32_3110 : BitVec 32 := 2#32
  let c0_i32_3109 : BitVec 32 := 0#32
  let v6219 : BitVec 32 := Scalar.muli c2_i32_3110 c0_i32_3109
  let c1_i32_4027 : BitVec 32 := 1#32
  let v8111 : BitVec 32 := Scalar.addi v6219 c1_i32_4027
  let c4_i32_4205 : BitVec 32 := 4#32
  let v8442 : BitVec 32 := Scalar.muli v8111 c4_i32_4205
  let c3_i32_4206 : BitVec 32 := 3#32
  let v8443 : BitVec 32 := Scalar.addi v8442 c3_i32_4206
  let c0_i32_4209 : BitVec 32 := 0#32
  let v8447 : BitVec 1 := Scalar.cmpi .sgt v8443 c0_i32_4209
  let v8448 : BitVec 32 := Scalar.extui v8447
  let c0_i32_4210 : BitVec 32 := 0#32
  let v8449 : BitVec 1 := Scalar.cmpi .slt v8443 c0_i32_4210
  let v8450 : BitVec 32 := Scalar.extui v8449
  let v8451 : BitVec 32 := Scalar.subi v8448 v8450
  let c4_i32_4208 : BitVec 32 := 4#32
  let c0_i32_4211 : BitVec 32 := 0#32
  let v8452 : BitVec 1 := Scalar.cmpi .sgt c4_i32_4208 c0_i32_4211
  let v8453 : BitVec 32 := Scalar.extui v8452
  let c0_i32_4212 : BitVec 32 := 0#32
  let v8454 : BitVec 1 := Scalar.cmpi .slt c4_i32_4208 c0_i32_4212
  let v8455 : BitVec 32 := Scalar.extui v8454
  let v8456 : BitVec 32 := Scalar.subi v8453 v8455
  let v8457 : BitVec 1 := Scalar.cmpi .ne v8451 v8456
  let v8458 : BitVec 32 := Scalar.remsi v8443 c4_i32_4208
  let c0_i32_4213 : BitVec 32 := 0#32
  let v8459 : BitVec 1 := Scalar.cmpi .ne v8458 c0_i32_4213
  let v8460 : BitVec 1 := Scalar.andi v8457 v8459
  let v8446 : BitVec 32 := Scalar.divsi v8443 c4_i32_4208
  let c1_i32_4214 : BitVec 32 := 1#32
  let v8461 : BitVec 32 := Scalar.subi v8446 c1_i32_4214
  let v8462 : BitVec 32 := Scalar.select v8460 v8461 v8446
  let c512_i32_4225 : BitVec 32 := 512#32
  let v8477 : BitVec 32 := Scalar.muli v8462 c512_i32_4225
  let c256_i32_4224 : BitVec 32 := 256#32
  let c0_i32_4223 : BitVec 32 := 0#32
  let c4_i32_4215 : BitVec 32 := 4#32
  let c0_i32_4216 : BitVec 32 := 0#32
  let v8463 : BitVec 1 := Scalar.cmpi .eq c4_i32_4215 c0_i32_4216
  let c1_i32_4217 : BitVec 32 := 1#32
  let v8464 : BitVec 32 := Scalar.select v8463 c1_i32_4217 c4_i32_4215
  let v8465 : BitVec 32 := Scalar.remsi v8443 v8464
  let c0_i32_4219 : BitVec 32 := 0#32
  let v8467 : BitVec 1 := Scalar.cmpi .slt v8465 c0_i32_4219
  let c0_i32_4220 : BitVec 32 := 0#32
  let v8468 : BitVec 1 := Scalar.cmpi .slt v8464 c0_i32_4220
  let v8469 : BitVec 1 := Scalar.xori v8467 v8468
  let c0_i32_4218 : BitVec 32 := 0#32
  let v8466 : BitVec 1 := Scalar.cmpi .ne v8465 c0_i32_4218
  let v8470 : BitVec 1 := Scalar.andi v8469 v8466
  let v8471 : BitVec 32 := Scalar.addi v8465 v8464
  let v8472 : BitVec 32 := Scalar.select v8470 v8471 v8465
  let c128_i32_4221 : BitVec 32 := 128#32
  let v8473 : BitVec 32 := Scalar.muli v8472 c128_i32_4221
  let c64_i32_4222 : BitVec 32 := 64#32
  let v8474 : BitVec 32 := Scalar.subi v8473 c64_i32_4222
  let v8475 : BitVec 32 := Scalar.maxsi c0_i32_4223 v8474
  let v8476 : BitVec 32 := Scalar.minsi c256_i32_4224 v8475
  let v8478 : BitVec 32 := Scalar.addi v8477 v8476
  let v8479 : BitVec 32 := v8478
  let c0_i32_4231 : BitVec 32 := 0#32
  let v8483 : BitVec 1 := Scalar.cmpi .sgt v8479 c0_i32_4231
  let v8484 : BitVec 32 := Scalar.extui v8483
  let c0_i32_4232 : BitVec 32 := 0#32
  let v8485 : BitVec 1 := Scalar.cmpi .slt v8479 c0_i32_4232
  let v8486 : BitVec 32 := Scalar.extui v8485
  let v8487 : BitVec 32 := Scalar.subi v8484 v8486
  let c2_i32_4230 : BitVec 32 := 2#32
  let c0_i32_4233 : BitVec 32 := 0#32
  let v8488 : BitVec 1 := Scalar.cmpi .sgt c2_i32_4230 c0_i32_4233
  let v8489 : BitVec 32 := Scalar.extui v8488
  let c0_i32_4234 : BitVec 32 := 0#32
  let v8490 : BitVec 1 := Scalar.cmpi .slt c2_i32_4230 c0_i32_4234
  let v8491 : BitVec 32 := Scalar.extui v8490
  let v8492 : BitVec 32 := Scalar.subi v8489 v8491
  let v8493 : BitVec 1 := Scalar.cmpi .ne v8487 v8492
  let v8494 : BitVec 32 := Scalar.remsi v8479 c2_i32_4230
  let c0_i32_4235 : BitVec 32 := 0#32
  let v8495 : BitVec 1 := Scalar.cmpi .ne v8494 c0_i32_4235
  let v8496 : BitVec 1 := Scalar.andi v8493 v8495
  let v8482 : BitVec 32 := Scalar.divsi v8479 c2_i32_4230
  let c1_i32_4236 : BitVec 32 := 1#32
  let v8497 : BitVec 32 := Scalar.subi v8482 c1_i32_4236
  let v8498 : BitVec 32 := Scalar.select v8496 v8497 v8482
  v8498
def k0_mult356 : BitVec 32 :=
  let c2_i32_3110 : BitVec 32 := 2#32
  let c0_i32_3109 : BitVec 32 := 0#32
  let v6219 : BitVec 32 := Scalar.muli c2_i32_3110 c0_i32_3109
  let c1_i32_4027 : BitVec 32 := 1#32
  let v8111 : BitVec 32 := Scalar.addi v6219 c1_i32_4027
  let c4_i32_4205 : BitVec 32 := 4#32
  let v8442 : BitVec 32 := Scalar.muli v8111 c4_i32_4205
  let c3_i32_4206 : BitVec 32 := 3#32
  let v8443 : BitVec 32 := Scalar.addi v8442 c3_i32_4206
  let c0_i32_4209 : BitVec 32 := 0#32
  let v8447 : BitVec 1 := Scalar.cmpi .sgt v8443 c0_i32_4209
  let v8448 : BitVec 32 := Scalar.extui v8447
  let c0_i32_4210 : BitVec 32 := 0#32
  let v8449 : BitVec 1 := Scalar.cmpi .slt v8443 c0_i32_4210
  let v8450 : BitVec 32 := Scalar.extui v8449
  let v8451 : BitVec 32 := Scalar.subi v8448 v8450
  let c4_i32_4208 : BitVec 32 := 4#32
  let c0_i32_4211 : BitVec 32 := 0#32
  let v8452 : BitVec 1 := Scalar.cmpi .sgt c4_i32_4208 c0_i32_4211
  let v8453 : BitVec 32 := Scalar.extui v8452
  let c0_i32_4212 : BitVec 32 := 0#32
  let v8454 : BitVec 1 := Scalar.cmpi .slt c4_i32_4208 c0_i32_4212
  let v8455 : BitVec 32 := Scalar.extui v8454
  let v8456 : BitVec 32 := Scalar.subi v8453 v8455
  let v8457 : BitVec 1 := Scalar.cmpi .ne v8451 v8456
  let v8458 : BitVec 32 := Scalar.remsi v8443 c4_i32_4208
  let c0_i32_4213 : BitVec 32 := 0#32
  let v8459 : BitVec 1 := Scalar.cmpi .ne v8458 c0_i32_4213
  let v8460 : BitVec 1 := Scalar.andi v8457 v8459
  let v8446 : BitVec 32 := Scalar.divsi v8443 c4_i32_4208
  let c1_i32_4214 : BitVec 32 := 1#32
  let v8461 : BitVec 32 := Scalar.subi v8446 c1_i32_4214
  let v8462 : BitVec 32 := Scalar.select v8460 v8461 v8446
  let c512_i32_4225 : BitVec 32 := 512#32
  let v8477 : BitVec 32 := Scalar.muli v8462 c512_i32_4225
  let c256_i32_4224 : BitVec 32 := 256#32
  let c0_i32_4223 : BitVec 32 := 0#32
  let c4_i32_4215 : BitVec 32 := 4#32
  let c0_i32_4216 : BitVec 32 := 0#32
  let v8463 : BitVec 1 := Scalar.cmpi .eq c4_i32_4215 c0_i32_4216
  let c1_i32_4217 : BitVec 32 := 1#32
  let v8464 : BitVec 32 := Scalar.select v8463 c1_i32_4217 c4_i32_4215
  let v8465 : BitVec 32 := Scalar.remsi v8443 v8464
  let c0_i32_4219 : BitVec 32 := 0#32
  let v8467 : BitVec 1 := Scalar.cmpi .slt v8465 c0_i32_4219
  let c0_i32_4220 : BitVec 32 := 0#32
  let v8468 : BitVec 1 := Scalar.cmpi .slt v8464 c0_i32_4220
  let v8469 : BitVec 1 := Scalar.xori v8467 v8468
  let c0_i32_4218 : BitVec 32 := 0#32
  let v8466 : BitVec 1 := Scalar.cmpi .ne v8465 c0_i32_4218
  let v8470 : BitVec 1 := Scalar.andi v8469 v8466
  let v8471 : BitVec 32 := Scalar.addi v8465 v8464
  let v8472 : BitVec 32 := Scalar.select v8470 v8471 v8465
  let c128_i32_4221 : BitVec 32 := 128#32
  let v8473 : BitVec 32 := Scalar.muli v8472 c128_i32_4221
  let c64_i32_4222 : BitVec 32 := 64#32
  let v8474 : BitVec 32 := Scalar.subi v8473 c64_i32_4222
  let v8475 : BitVec 32 := Scalar.maxsi c0_i32_4223 v8474
  let v8476 : BitVec 32 := Scalar.minsi c256_i32_4224 v8475
  let v8478 : BitVec 32 := Scalar.addi v8477 v8476
  let v8479 : BitVec 32 := v8478
  let c0_i32_4245 : BitVec 32 := 0#32
  let v8508 : BitVec 1 := Scalar.cmpi .sgt v8479 c0_i32_4245
  let v8509 : BitVec 32 := Scalar.extui v8508
  let c0_i32_4246 : BitVec 32 := 0#32
  let v8510 : BitVec 1 := Scalar.cmpi .slt v8479 c0_i32_4246
  let v8511 : BitVec 32 := Scalar.extui v8510
  let v8512 : BitVec 32 := Scalar.subi v8509 v8511
  let c2_i32_4244 : BitVec 32 := 2#32
  let c0_i32_4247 : BitVec 32 := 0#32
  let v8513 : BitVec 1 := Scalar.cmpi .sgt c2_i32_4244 c0_i32_4247
  let v8514 : BitVec 32 := Scalar.extui v8513
  let c0_i32_4248 : BitVec 32 := 0#32
  let v8515 : BitVec 1 := Scalar.cmpi .slt c2_i32_4244 c0_i32_4248
  let v8516 : BitVec 32 := Scalar.extui v8515
  let v8517 : BitVec 32 := Scalar.subi v8514 v8516
  let v8518 : BitVec 1 := Scalar.cmpi .ne v8512 v8517
  let v8519 : BitVec 32 := Scalar.remsi v8479 c2_i32_4244
  let c0_i32_4249 : BitVec 32 := 0#32
  let v8520 : BitVec 1 := Scalar.cmpi .ne v8519 c0_i32_4249
  let v8521 : BitVec 1 := Scalar.andi v8518 v8520
  let v8507 : BitVec 32 := Scalar.divsi v8479 c2_i32_4244
  let c1_i32_4250 : BitVec 32 := 1#32
  let v8522 : BitVec 32 := Scalar.subi v8507 c1_i32_4250
  let v8523 : BitVec 32 := Scalar.select v8521 v8522 v8507
  v8523
def k0_mult357 : BitVec 32 :=
  let c2_i32_3110 : BitVec 32 := 2#32
  let c0_i32_3109 : BitVec 32 := 0#32
  let v6219 : BitVec 32 := Scalar.muli c2_i32_3110 c0_i32_3109
  let c3_i32_4352 : BitVec 32 := 3#32
  let v8680 : BitVec 32 := Scalar.addi v6219 c3_i32_4352
  let c4_i32_4353 : BitVec 32 := 4#32
  let v8681 : BitVec 32 := Scalar.muli v8680 c4_i32_4353
  let c0_i32_4354 : BitVec 32 := 0#32
  let v8682 : BitVec 32 := Scalar.addi v8681 c0_i32_4354
  let c128_i32_4355 : BitVec 32 := 128#32
  let v8683 : BitVec 32 := Scalar.muli v8682 c128_i32_4355
  v8683
def k0_mult358 : BitVec 32 :=
  let c2_i32_3110 : BitVec 32 := 2#32
  let c0_i32_3109 : BitVec 32 := 0#32
  let v6219 : BitVec 32 := Scalar.muli c2_i32_3110 c0_i32_3109
  let c3_i32_4352 : BitVec 32 := 3#32
  let v8680 : BitVec 32 := Scalar.addi v6219 c3_i32_4352
  let c4_i32_4353 : BitVec 32 := 4#32
  let v8681 : BitVec 32 := Scalar.muli v8680 c4_i32_4353
  let c0_i32_4354 : BitVec 32 := 0#32
  let v8682 : BitVec 32 := Scalar.addi v8681 c0_i32_4354
  let c0_i32_4357 : BitVec 32 := 0#32
  let v8686 : BitVec 1 := Scalar.cmpi .sgt v8682 c0_i32_4357
  let v8687 : BitVec 32 := Scalar.extui v8686
  let c0_i32_4358 : BitVec 32 := 0#32
  let v8688 : BitVec 1 := Scalar.cmpi .slt v8682 c0_i32_4358
  let v8689 : BitVec 32 := Scalar.extui v8688
  let v8690 : BitVec 32 := Scalar.subi v8687 v8689
  let c4_i32_4356 : BitVec 32 := 4#32
  let c0_i32_4359 : BitVec 32 := 0#32
  let v8691 : BitVec 1 := Scalar.cmpi .sgt c4_i32_4356 c0_i32_4359
  let v8692 : BitVec 32 := Scalar.extui v8691
  let c0_i32_4360 : BitVec 32 := 0#32
  let v8693 : BitVec 1 := Scalar.cmpi .slt c4_i32_4356 c0_i32_4360
  let v8694 : BitVec 32 := Scalar.extui v8693
  let v8695 : BitVec 32 := Scalar.subi v8692 v8694
  let v8696 : BitVec 1 := Scalar.cmpi .ne v8690 v8695
  let v8697 : BitVec 32 := Scalar.remsi v8682 c4_i32_4356
  let c0_i32_4361 : BitVec 32 := 0#32
  let v8698 : BitVec 1 := Scalar.cmpi .ne v8697 c0_i32_4361
  let v8699 : BitVec 1 := Scalar.andi v8696 v8698
  let v8685 : BitVec 32 := Scalar.divsi v8682 c4_i32_4356
  let c1_i32_4362 : BitVec 32 := 1#32
  let v8700 : BitVec 32 := Scalar.subi v8685 c1_i32_4362
  let v8701 : BitVec 32 := Scalar.select v8699 v8700 v8685
  let c512_i32_4373 : BitVec 32 := 512#32
  let v8716 : BitVec 32 := Scalar.muli v8701 c512_i32_4373
  let c256_i32_4372 : BitVec 32 := 256#32
  let c0_i32_4371 : BitVec 32 := 0#32
  let c4_i32_4363 : BitVec 32 := 4#32
  let c0_i32_4364 : BitVec 32 := 0#32
  let v8702 : BitVec 1 := Scalar.cmpi .eq c4_i32_4363 c0_i32_4364
  let c1_i32_4365 : BitVec 32 := 1#32
  let v8703 : BitVec 32 := Scalar.select v8702 c1_i32_4365 c4_i32_4363
  let v8704 : BitVec 32 := Scalar.remsi v8682 v8703
  let c0_i32_4367 : BitVec 32 := 0#32
  let v8706 : BitVec 1 := Scalar.cmpi .slt v8704 c0_i32_4367
  let c0_i32_4368 : BitVec 32 := 0#32
  let v8707 : BitVec 1 := Scalar.cmpi .slt v8703 c0_i32_4368
  let v8708 : BitVec 1 := Scalar.xori v8706 v8707
  let c0_i32_4366 : BitVec 32 := 0#32
  let v8705 : BitVec 1 := Scalar.cmpi .ne v8704 c0_i32_4366
  let v8709 : BitVec 1 := Scalar.andi v8708 v8705
  let v8710 : BitVec 32 := Scalar.addi v8704 v8703
  let v8711 : BitVec 32 := Scalar.select v8709 v8710 v8704
  let c128_i32_4369 : BitVec 32 := 128#32
  let v8712 : BitVec 32 := Scalar.muli v8711 c128_i32_4369
  let c64_i32_4370 : BitVec 32 := 64#32
  let v8713 : BitVec 32 := Scalar.subi v8712 c64_i32_4370
  let v8714 : BitVec 32 := Scalar.maxsi c0_i32_4371 v8713
  let v8715 : BitVec 32 := Scalar.minsi c256_i32_4372 v8714
  let v8717 : BitVec 32 := Scalar.addi v8716 v8715
  v8717
def k0_mult359 : BitVec 32 :=
  let c2_i32_3110 : BitVec 32 := 2#32
  let c0_i32_3109 : BitVec 32 := 0#32
  let v6219 : BitVec 32 := Scalar.muli c2_i32_3110 c0_i32_3109
  let c3_i32_4352 : BitVec 32 := 3#32
  let v8680 : BitVec 32 := Scalar.addi v6219 c3_i32_4352
  let c4_i32_4353 : BitVec 32 := 4#32
  let v8681 : BitVec 32 := Scalar.muli v8680 c4_i32_4353
  let c0_i32_4354 : BitVec 32 := 0#32
  let v8682 : BitVec 32 := Scalar.addi v8681 c0_i32_4354
  let c128_i32_4355 : BitVec 32 := 128#32
  let v8683 : BitVec 32 := Scalar.muli v8682 c128_i32_4355
  let v8684 : BitVec 32 := v8683
  let c0_i32_4384 : BitVec 32 := 0#32
  let v8741 : BitVec 1 := Scalar.cmpi .sgt v8684 c0_i32_4384
  let v8742 : BitVec 32 := Scalar.extui v8741
  let c0_i32_4385 : BitVec 32 := 0#32
  let v8743 : BitVec 1 := Scalar.cmpi .slt v8684 c0_i32_4385
  let v8744 : BitVec 32 := Scalar.extui v8743
  let v8745 : BitVec 32 := Scalar.subi v8742 v8744
  let c2_i32_4383 : BitVec 32 := 2#32
  let c0_i32_4386 : BitVec 32 := 0#32
  let v8746 : BitVec 1 := Scalar.cmpi .sgt c2_i32_4383 c0_i32_4386
  let v8747 : BitVec 32 := Scalar.extui v8746
  let c0_i32_4387 : BitVec 32 := 0#32
  let v8748 : BitVec 1 := Scalar.cmpi .slt c2_i32_4383 c0_i32_4387
  let v8749 : BitVec 32 := Scalar.extui v8748
  let v8750 : BitVec 32 := Scalar.subi v8747 v8749
  let v8751 : BitVec 1 := Scalar.cmpi .ne v8745 v8750
  let v8752 : BitVec 32 := Scalar.remsi v8684 c2_i32_4383
  let c0_i32_4388 : BitVec 32 := 0#32
  let v8753 : BitVec 1 := Scalar.cmpi .ne v8752 c0_i32_4388
  let v8754 : BitVec 1 := Scalar.andi v8751 v8753
  let v8740 : BitVec 32 := Scalar.divsi v8684 c2_i32_4383
  let c1_i32_4389 : BitVec 32 := 1#32
  let v8755 : BitVec 32 := Scalar.subi v8740 c1_i32_4389
  let v8756 : BitVec 32 := Scalar.select v8754 v8755 v8740
  v8756
def k0_mult360 : BitVec 32 :=
  let c2_i32_3110 : BitVec 32 := 2#32
  let c0_i32_3109 : BitVec 32 := 0#32
  let v6219 : BitVec 32 := Scalar.muli c2_i32_3110 c0_i32_3109
  let c3_i32_4352 : BitVec 32 := 3#32
  let v8680 : BitVec 32 := Scalar.addi v6219 c3_i32_4352
  let c4_i32_4353 : BitVec 32 := 4#32
  let v8681 : BitVec 32 := Scalar.muli v8680 c4_i32_4353
  let c0_i32_4354 : BitVec 32 := 0#32
  let v8682 : BitVec 32 := Scalar.addi v8681 c0_i32_4354
  let c128_i32_4355 : BitVec 32 := 128#32
  let v8683 : BitVec 32 := Scalar.muli v8682 c128_i32_4355
  let v8684 : BitVec 32 := v8683
  let c0_i32_4393 : BitVec 32 := 0#32
  let v8763 : BitVec 1 := Scalar.cmpi .sgt v8684 c0_i32_4393
  let v8764 : BitVec 32 := Scalar.extui v8763
  let c0_i32_4394 : BitVec 32 := 0#32
  let v8765 : BitVec 1 := Scalar.cmpi .slt v8684 c0_i32_4394
  let v8766 : BitVec 32 := Scalar.extui v8765
  let v8767 : BitVec 32 := Scalar.subi v8764 v8766
  let c2_i32_4392 : BitVec 32 := 2#32
  let c0_i32_4395 : BitVec 32 := 0#32
  let v8768 : BitVec 1 := Scalar.cmpi .sgt c2_i32_4392 c0_i32_4395
  let v8769 : BitVec 32 := Scalar.extui v8768
  let c0_i32_4396 : BitVec 32 := 0#32
  let v8770 : BitVec 1 := Scalar.cmpi .slt c2_i32_4392 c0_i32_4396
  let v8771 : BitVec 32 := Scalar.extui v8770
  let v8772 : BitVec 32 := Scalar.subi v8769 v8771
  let v8773 : BitVec 1 := Scalar.cmpi .ne v8767 v8772
  let v8774 : BitVec 32 := Scalar.remsi v8684 c2_i32_4392
  let c0_i32_4397 : BitVec 32 := 0#32
  let v8775 : BitVec 1 := Scalar.cmpi .ne v8774 c0_i32_4397
  let v8776 : BitVec 1 := Scalar.andi v8773 v8775
  let v8762 : BitVec 32 := Scalar.divsi v8684 c2_i32_4392
  let c1_i32_4398 : BitVec 32 := 1#32
  let v8777 : BitVec 32 := Scalar.subi v8762 c1_i32_4398
  let v8778 : BitVec 32 := Scalar.select v8776 v8777 v8762
  v8778
def k0_mult361 : BitVec 32 :=
  let c2_i32_3110 : BitVec 32 := 2#32
  let c0_i32_3109 : BitVec 32 := 0#32
  let v6219 : BitVec 32 := Scalar.muli c2_i32_3110 c0_i32_3109
  let c3_i32_4352 : BitVec 32 := 3#32
  let v8680 : BitVec 32 := Scalar.addi v6219 c3_i32_4352
  let c4_i32_4353 : BitVec 32 := 4#32
  let v8681 : BitVec 32 := Scalar.muli v8680 c4_i32_4353
  let c0_i32_4354 : BitVec 32 := 0#32
  let v8682 : BitVec 32 := Scalar.addi v8681 c0_i32_4354
  let c0_i32_4357 : BitVec 32 := 0#32
  let v8686 : BitVec 1 := Scalar.cmpi .sgt v8682 c0_i32_4357
  let v8687 : BitVec 32 := Scalar.extui v8686
  let c0_i32_4358 : BitVec 32 := 0#32
  let v8688 : BitVec 1 := Scalar.cmpi .slt v8682 c0_i32_4358
  let v8689 : BitVec 32 := Scalar.extui v8688
  let v8690 : BitVec 32 := Scalar.subi v8687 v8689
  let c4_i32_4356 : BitVec 32 := 4#32
  let c0_i32_4359 : BitVec 32 := 0#32
  let v8691 : BitVec 1 := Scalar.cmpi .sgt c4_i32_4356 c0_i32_4359
  let v8692 : BitVec 32 := Scalar.extui v8691
  let c0_i32_4360 : BitVec 32 := 0#32
  let v8693 : BitVec 1 := Scalar.cmpi .slt c4_i32_4356 c0_i32_4360
  let v8694 : BitVec 32 := Scalar.extui v8693
  let v8695 : BitVec 32 := Scalar.subi v8692 v8694
  let v8696 : BitVec 1 := Scalar.cmpi .ne v8690 v8695
  let v8697 : BitVec 32 := Scalar.remsi v8682 c4_i32_4356
  let c0_i32_4361 : BitVec 32 := 0#32
  let v8698 : BitVec 1 := Scalar.cmpi .ne v8697 c0_i32_4361
  let v8699 : BitVec 1 := Scalar.andi v8696 v8698
  let v8685 : BitVec 32 := Scalar.divsi v8682 c4_i32_4356
  let c1_i32_4362 : BitVec 32 := 1#32
  let v8700 : BitVec 32 := Scalar.subi v8685 c1_i32_4362
  let v8701 : BitVec 32 := Scalar.select v8699 v8700 v8685
  let c512_i32_4373 : BitVec 32 := 512#32
  let v8716 : BitVec 32 := Scalar.muli v8701 c512_i32_4373
  let c256_i32_4372 : BitVec 32 := 256#32
  let c0_i32_4371 : BitVec 32 := 0#32
  let c4_i32_4363 : BitVec 32 := 4#32
  let c0_i32_4364 : BitVec 32 := 0#32
  let v8702 : BitVec 1 := Scalar.cmpi .eq c4_i32_4363 c0_i32_4364
  let c1_i32_4365 : BitVec 32 := 1#32
  let v8703 : BitVec 32 := Scalar.select v8702 c1_i32_4365 c4_i32_4363
  let v8704 : BitVec 32 := Scalar.remsi v8682 v8703
  let c0_i32_4367 : BitVec 32 := 0#32
  let v8706 : BitVec 1 := Scalar.cmpi .slt v8704 c0_i32_4367
  let c0_i32_4368 : BitVec 32 := 0#32
  let v8707 : BitVec 1 := Scalar.cmpi .slt v8703 c0_i32_4368
  let v8708 : BitVec 1 := Scalar.xori v8706 v8707
  let c0_i32_4366 : BitVec 32 := 0#32
  let v8705 : BitVec 1 := Scalar.cmpi .ne v8704 c0_i32_4366
  let v8709 : BitVec 1 := Scalar.andi v8708 v8705
  let v8710 : BitVec 32 := Scalar.addi v8704 v8703
  let v8711 : BitVec 32 := Scalar.select v8709 v8710 v8704
  let c128_i32_4369 : BitVec 32 := 128#32
  let v8712 : BitVec 32 := Scalar.muli v8711 c128_i32_4369
  let c64_i32_4370 : BitVec 32 := 64#32
  let v8713 : BitVec 32 := Scalar.subi v8712 c64_i32_4370
  let v8714 : BitVec 32 := Scalar.maxsi c0_i32_4371 v8713
  let v8715 : BitVec 32 := Scalar.minsi c256_i32_4372 v8714
  let v8717 : BitVec 32 := Scalar.addi v8716 v8715
  let v8718 : BitVec 32 := v8717
  let c0_i32_4402 : BitVec 32 := 0#32
  let v8786 : BitVec 1 := Scalar.cmpi .sgt v8718 c0_i32_4402
  let v8787 : BitVec 32 := Scalar.extui v8786
  let c0_i32_4403 : BitVec 32 := 0#32
  let v8788 : BitVec 1 := Scalar.cmpi .slt v8718 c0_i32_4403
  let v8789 : BitVec 32 := Scalar.extui v8788
  let v8790 : BitVec 32 := Scalar.subi v8787 v8789
  let c2_i32_4401 : BitVec 32 := 2#32
  let c0_i32_4404 : BitVec 32 := 0#32
  let v8791 : BitVec 1 := Scalar.cmpi .sgt c2_i32_4401 c0_i32_4404
  let v8792 : BitVec 32 := Scalar.extui v8791
  let c0_i32_4405 : BitVec 32 := 0#32
  let v8793 : BitVec 1 := Scalar.cmpi .slt c2_i32_4401 c0_i32_4405
  let v8794 : BitVec 32 := Scalar.extui v8793
  let v8795 : BitVec 32 := Scalar.subi v8792 v8794
  let v8796 : BitVec 1 := Scalar.cmpi .ne v8790 v8795
  let v8797 : BitVec 32 := Scalar.remsi v8718 c2_i32_4401
  let c0_i32_4406 : BitVec 32 := 0#32
  let v8798 : BitVec 1 := Scalar.cmpi .ne v8797 c0_i32_4406
  let v8799 : BitVec 1 := Scalar.andi v8796 v8798
  let v8785 : BitVec 32 := Scalar.divsi v8718 c2_i32_4401
  let c1_i32_4407 : BitVec 32 := 1#32
  let v8800 : BitVec 32 := Scalar.subi v8785 c1_i32_4407
  let v8801 : BitVec 32 := Scalar.select v8799 v8800 v8785
  v8801
def k0_mult362 : BitVec 32 :=
  let c2_i32_3110 : BitVec 32 := 2#32
  let c0_i32_3109 : BitVec 32 := 0#32
  let v6219 : BitVec 32 := Scalar.muli c2_i32_3110 c0_i32_3109
  let c3_i32_4352 : BitVec 32 := 3#32
  let v8680 : BitVec 32 := Scalar.addi v6219 c3_i32_4352
  let c4_i32_4419 : BitVec 32 := 4#32
  let v8818 : BitVec 32 := Scalar.muli v8680 c4_i32_4419
  let c1_i32_4420 : BitVec 32 := 1#32
  let v8819 : BitVec 32 := Scalar.addi v8818 c1_i32_4420
  let c128_i32_4421 : BitVec 32 := 128#32
  let v8820 : BitVec 32 := Scalar.muli v8819 c128_i32_4421
  v8820
def k0_mult363 : BitVec 32 :=
  let c2_i32_3110 : BitVec 32 := 2#32
  let c0_i32_3109 : BitVec 32 := 0#32
  let v6219 : BitVec 32 := Scalar.muli c2_i32_3110 c0_i32_3109
  let c3_i32_4352 : BitVec 32 := 3#32
  let v8680 : BitVec 32 := Scalar.addi v6219 c3_i32_4352
  let c4_i32_4419 : BitVec 32 := 4#32
  let v8818 : BitVec 32 := Scalar.muli v8680 c4_i32_4419
  let c1_i32_4420 : BitVec 32 := 1#32
  let v8819 : BitVec 32 := Scalar.addi v8818 c1_i32_4420
  let c0_i32_4423 : BitVec 32 := 0#32
  let v8823 : BitVec 1 := Scalar.cmpi .sgt v8819 c0_i32_4423
  let v8824 : BitVec 32 := Scalar.extui v8823
  let c0_i32_4424 : BitVec 32 := 0#32
  let v8825 : BitVec 1 := Scalar.cmpi .slt v8819 c0_i32_4424
  let v8826 : BitVec 32 := Scalar.extui v8825
  let v8827 : BitVec 32 := Scalar.subi v8824 v8826
  let c4_i32_4422 : BitVec 32 := 4#32
  let c0_i32_4425 : BitVec 32 := 0#32
  let v8828 : BitVec 1 := Scalar.cmpi .sgt c4_i32_4422 c0_i32_4425
  let v8829 : BitVec 32 := Scalar.extui v8828
  let c0_i32_4426 : BitVec 32 := 0#32
  let v8830 : BitVec 1 := Scalar.cmpi .slt c4_i32_4422 c0_i32_4426
  let v8831 : BitVec 32 := Scalar.extui v8830
  let v8832 : BitVec 32 := Scalar.subi v8829 v8831
  let v8833 : BitVec 1 := Scalar.cmpi .ne v8827 v8832
  let v8834 : BitVec 32 := Scalar.remsi v8819 c4_i32_4422
  let c0_i32_4427 : BitVec 32 := 0#32
  let v8835 : BitVec 1 := Scalar.cmpi .ne v8834 c0_i32_4427
  let v8836 : BitVec 1 := Scalar.andi v8833 v8835
  let v8822 : BitVec 32 := Scalar.divsi v8819 c4_i32_4422
  let c1_i32_4428 : BitVec 32 := 1#32
  let v8837 : BitVec 32 := Scalar.subi v8822 c1_i32_4428
  let v8838 : BitVec 32 := Scalar.select v8836 v8837 v8822
  let c512_i32_4439 : BitVec 32 := 512#32
  let v8853 : BitVec 32 := Scalar.muli v8838 c512_i32_4439
  let c256_i32_4438 : BitVec 32 := 256#32
  let c0_i32_4437 : BitVec 32 := 0#32
  let c4_i32_4429 : BitVec 32 := 4#32
  let c0_i32_4430 : BitVec 32 := 0#32
  let v8839 : BitVec 1 := Scalar.cmpi .eq c4_i32_4429 c0_i32_4430
  let c1_i32_4431 : BitVec 32 := 1#32
  let v8840 : BitVec 32 := Scalar.select v8839 c1_i32_4431 c4_i32_4429
  let v8841 : BitVec 32 := Scalar.remsi v8819 v8840
  let c0_i32_4433 : BitVec 32 := 0#32
  let v8843 : BitVec 1 := Scalar.cmpi .slt v8841 c0_i32_4433
  let c0_i32_4434 : BitVec 32 := 0#32
  let v8844 : BitVec 1 := Scalar.cmpi .slt v8840 c0_i32_4434
  let v8845 : BitVec 1 := Scalar.xori v8843 v8844
  let c0_i32_4432 : BitVec 32 := 0#32
  let v8842 : BitVec 1 := Scalar.cmpi .ne v8841 c0_i32_4432
  let v8846 : BitVec 1 := Scalar.andi v8845 v8842
  let v8847 : BitVec 32 := Scalar.addi v8841 v8840
  let v8848 : BitVec 32 := Scalar.select v8846 v8847 v8841
  let c128_i32_4435 : BitVec 32 := 128#32
  let v8849 : BitVec 32 := Scalar.muli v8848 c128_i32_4435
  let c64_i32_4436 : BitVec 32 := 64#32
  let v8850 : BitVec 32 := Scalar.subi v8849 c64_i32_4436
  let v8851 : BitVec 32 := Scalar.maxsi c0_i32_4437 v8850
  let v8852 : BitVec 32 := Scalar.minsi c256_i32_4438 v8851
  let v8854 : BitVec 32 := Scalar.addi v8853 v8852
  v8854
def k0_mult364 : BitVec 32 :=
  let c2_i32_3110 : BitVec 32 := 2#32
  let c0_i32_3109 : BitVec 32 := 0#32
  let v6219 : BitVec 32 := Scalar.muli c2_i32_3110 c0_i32_3109
  let c3_i32_4352 : BitVec 32 := 3#32
  let v8680 : BitVec 32 := Scalar.addi v6219 c3_i32_4352
  let c4_i32_4419 : BitVec 32 := 4#32
  let v8818 : BitVec 32 := Scalar.muli v8680 c4_i32_4419
  let c1_i32_4420 : BitVec 32 := 1#32
  let v8819 : BitVec 32 := Scalar.addi v8818 c1_i32_4420
  let c128_i32_4421 : BitVec 32 := 128#32
  let v8820 : BitVec 32 := Scalar.muli v8819 c128_i32_4421
  let v8821 : BitVec 32 := v8820
  let c0_i32_4450 : BitVec 32 := 0#32
  let v8878 : BitVec 1 := Scalar.cmpi .sgt v8821 c0_i32_4450
  let v8879 : BitVec 32 := Scalar.extui v8878
  let c0_i32_4451 : BitVec 32 := 0#32
  let v8880 : BitVec 1 := Scalar.cmpi .slt v8821 c0_i32_4451
  let v8881 : BitVec 32 := Scalar.extui v8880
  let v8882 : BitVec 32 := Scalar.subi v8879 v8881
  let c2_i32_4449 : BitVec 32 := 2#32
  let c0_i32_4452 : BitVec 32 := 0#32
  let v8883 : BitVec 1 := Scalar.cmpi .sgt c2_i32_4449 c0_i32_4452
  let v8884 : BitVec 32 := Scalar.extui v8883
  let c0_i32_4453 : BitVec 32 := 0#32
  let v8885 : BitVec 1 := Scalar.cmpi .slt c2_i32_4449 c0_i32_4453
  let v8886 : BitVec 32 := Scalar.extui v8885
  let v8887 : BitVec 32 := Scalar.subi v8884 v8886
  let v8888 : BitVec 1 := Scalar.cmpi .ne v8882 v8887
  let v8889 : BitVec 32 := Scalar.remsi v8821 c2_i32_4449
  let c0_i32_4454 : BitVec 32 := 0#32
  let v8890 : BitVec 1 := Scalar.cmpi .ne v8889 c0_i32_4454
  let v8891 : BitVec 1 := Scalar.andi v8888 v8890
  let v8877 : BitVec 32 := Scalar.divsi v8821 c2_i32_4449
  let c1_i32_4455 : BitVec 32 := 1#32
  let v8892 : BitVec 32 := Scalar.subi v8877 c1_i32_4455
  let v8893 : BitVec 32 := Scalar.select v8891 v8892 v8877
  v8893
def k0_mult365 : BitVec 32 :=
  let c2_i32_3110 : BitVec 32 := 2#32
  let c0_i32_3109 : BitVec 32 := 0#32
  let v6219 : BitVec 32 := Scalar.muli c2_i32_3110 c0_i32_3109
  let c3_i32_4352 : BitVec 32 := 3#32
  let v8680 : BitVec 32 := Scalar.addi v6219 c3_i32_4352
  let c4_i32_4419 : BitVec 32 := 4#32
  let v8818 : BitVec 32 := Scalar.muli v8680 c4_i32_4419
  let c1_i32_4420 : BitVec 32 := 1#32
  let v8819 : BitVec 32 := Scalar.addi v8818 c1_i32_4420
  let c128_i32_4421 : BitVec 32 := 128#32
  let v8820 : BitVec 32 := Scalar.muli v8819 c128_i32_4421
  let v8821 : BitVec 32 := v8820
  let c0_i32_4459 : BitVec 32 := 0#32
  let v8900 : BitVec 1 := Scalar.cmpi .sgt v8821 c0_i32_4459
  let v8901 : BitVec 32 := Scalar.extui v8900
  let c0_i32_4460 : BitVec 32 := 0#32
  let v8902 : BitVec 1 := Scalar.cmpi .slt v8821 c0_i32_4460
  let v8903 : BitVec 32 := Scalar.extui v8902
  let v8904 : BitVec 32 := Scalar.subi v8901 v8903
  let c2_i32_4458 : BitVec 32 := 2#32
  let c0_i32_4461 : BitVec 32 := 0#32
  let v8905 : BitVec 1 := Scalar.cmpi .sgt c2_i32_4458 c0_i32_4461
  let v8906 : BitVec 32 := Scalar.extui v8905
  let c0_i32_4462 : BitVec 32 := 0#32
  let v8907 : BitVec 1 := Scalar.cmpi .slt c2_i32_4458 c0_i32_4462
  let v8908 : BitVec 32 := Scalar.extui v8907
  let v8909 : BitVec 32 := Scalar.subi v8906 v8908
  let v8910 : BitVec 1 := Scalar.cmpi .ne v8904 v8909
  let v8911 : BitVec 32 := Scalar.remsi v8821 c2_i32_4458
  let c0_i32_4463 : BitVec 32 := 0#32
  let v8912 : BitVec 1 := Scalar.cmpi .ne v8911 c0_i32_4463
  let v8913 : BitVec 1 := Scalar.andi v8910 v8912
  let v8899 : BitVec 32 := Scalar.divsi v8821 c2_i32_4458
  let c1_i32_4464 : BitVec 32 := 1#32
  let v8914 : BitVec 32 := Scalar.subi v8899 c1_i32_4464
  let v8915 : BitVec 32 := Scalar.select v8913 v8914 v8899
  v8915
def k0_mult366 : BitVec 32 :=
  let c2_i32_3110 : BitVec 32 := 2#32
  let c0_i32_3109 : BitVec 32 := 0#32
  let v6219 : BitVec 32 := Scalar.muli c2_i32_3110 c0_i32_3109
  let c3_i32_4352 : BitVec 32 := 3#32
  let v8680 : BitVec 32 := Scalar.addi v6219 c3_i32_4352
  let c4_i32_4419 : BitVec 32 := 4#32
  let v8818 : BitVec 32 := Scalar.muli v8680 c4_i32_4419
  let c1_i32_4420 : BitVec 32 := 1#32
  let v8819 : BitVec 32 := Scalar.addi v8818 c1_i32_4420
  let c0_i32_4423 : BitVec 32 := 0#32
  let v8823 : BitVec 1 := Scalar.cmpi .sgt v8819 c0_i32_4423
  let v8824 : BitVec 32 := Scalar.extui v8823
  let c0_i32_4424 : BitVec 32 := 0#32
  let v8825 : BitVec 1 := Scalar.cmpi .slt v8819 c0_i32_4424
  let v8826 : BitVec 32 := Scalar.extui v8825
  let v8827 : BitVec 32 := Scalar.subi v8824 v8826
  let c4_i32_4422 : BitVec 32 := 4#32
  let c0_i32_4425 : BitVec 32 := 0#32
  let v8828 : BitVec 1 := Scalar.cmpi .sgt c4_i32_4422 c0_i32_4425
  let v8829 : BitVec 32 := Scalar.extui v8828
  let c0_i32_4426 : BitVec 32 := 0#32
  let v8830 : BitVec 1 := Scalar.cmpi .slt c4_i32_4422 c0_i32_4426
  let v8831 : BitVec 32 := Scalar.extui v8830
  let v8832 : BitVec 32 := Scalar.subi v8829 v8831
  let v8833 : BitVec 1 := Scalar.cmpi .ne v8827 v8832
  let v8834 : BitVec 32 := Scalar.remsi v8819 c4_i32_4422
  let c0_i32_4427 : BitVec 32 := 0#32
  let v8835 : BitVec 1 := Scalar.cmpi .ne v8834 c0_i32_4427
  let v8836 : BitVec 1 := Scalar.andi v8833 v8835
  let v8822 : BitVec 32 := Scalar.divsi v8819 c4_i32_4422
  let c1_i32_4428 : BitVec 32 := 1#32
  let v8837 : BitVec 32 := Scalar.subi v8822 c1_i32_4428
  let v8838 : BitVec 32 := Scalar.select v8836 v8837 v8822
  let c512_i32_4439 : BitVec 32 := 512#32
  let v8853 : BitVec 32 := Scalar.muli v8838 c512_i32_4439
  let c256_i32_4438 : BitVec 32 := 256#32
  let c0_i32_4437 : BitVec 32 := 0#32
  let c4_i32_4429 : BitVec 32 := 4#32
  let c0_i32_4430 : BitVec 32 := 0#32
  let v8839 : BitVec 1 := Scalar.cmpi .eq c4_i32_4429 c0_i32_4430
  let c1_i32_4431 : BitVec 32 := 1#32
  let v8840 : BitVec 32 := Scalar.select v8839 c1_i32_4431 c4_i32_4429
  let v8841 : BitVec 32 := Scalar.remsi v8819 v8840
  let c0_i32_4433 : BitVec 32 := 0#32
  let v8843 : BitVec 1 := Scalar.cmpi .slt v8841 c0_i32_4433
  let c0_i32_4434 : BitVec 32 := 0#32
  let v8844 : BitVec 1 := Scalar.cmpi .slt v8840 c0_i32_4434
  let v8845 : BitVec 1 := Scalar.xori v8843 v8844
  let c0_i32_4432 : BitVec 32 := 0#32
  let v8842 : BitVec 1 := Scalar.cmpi .ne v8841 c0_i32_4432
  let v8846 : BitVec 1 := Scalar.andi v8845 v8842
  let v8847 : BitVec 32 := Scalar.addi v8841 v8840
  let v8848 : BitVec 32 := Scalar.select v8846 v8847 v8841
  let c128_i32_4435 : BitVec 32 := 128#32
  let v8849 : BitVec 32 := Scalar.muli v8848 c128_i32_4435
  let c64_i32_4436 : BitVec 32 := 64#32
  let v8850 : BitVec 32 := Scalar.subi v8849 c64_i32_4436
  let v8851 : BitVec 32 := Scalar.maxsi c0_i32_4437 v8850
  let v8852 : BitVec 32 := Scalar.minsi c256_i32_4438 v8851
  let v8854 : BitVec 32 := Scalar.addi v8853 v8852
  let v8855 : BitVec 32 := v8854
  let c0_i32_4468 : BitVec 32 := 0#32
  let v8923 : BitVec 1 := Scalar.cmpi .sgt v8855 c0_i32_4468
  let v8924 : BitVec 32 := Scalar.extui v8923
  let c0_i32_4469 : BitVec 32 := 0#32
  let v8925 : BitVec 1 := Scalar.cmpi .slt v8855 c0_i32_4469
  let v8926 : BitVec 32 := Scalar.extui v8925
  let v8927 : BitVec 32 := Scalar.subi v8924 v8926
  let c2_i32_4467 : BitVec 32 := 2#32
  let c0_i32_4470 : BitVec 32 := 0#32
  let v8928 : BitVec 1 := Scalar.cmpi .sgt c2_i32_4467 c0_i32_4470
  let v8929 : BitVec 32 := Scalar.extui v8928
  let c0_i32_4471 : BitVec 32 := 0#32
  let v8930 : BitVec 1 := Scalar.cmpi .slt c2_i32_4467 c0_i32_4471
  let v8931 : BitVec 32 := Scalar.extui v8930
  let v8932 : BitVec 32 := Scalar.subi v8929 v8931
  let v8933 : BitVec 1 := Scalar.cmpi .ne v8927 v8932
  let v8934 : BitVec 32 := Scalar.remsi v8855 c2_i32_4467
  let c0_i32_4472 : BitVec 32 := 0#32
  let v8935 : BitVec 1 := Scalar.cmpi .ne v8934 c0_i32_4472
  let v8936 : BitVec 1 := Scalar.andi v8933 v8935
  let v8922 : BitVec 32 := Scalar.divsi v8855 c2_i32_4467
  let c1_i32_4473 : BitVec 32 := 1#32
  let v8937 : BitVec 32 := Scalar.subi v8922 c1_i32_4473
  let v8938 : BitVec 32 := Scalar.select v8936 v8937 v8922
  v8938
def k0_mult367 : BitVec 32 :=
  let c2_i32_3110 : BitVec 32 := 2#32
  let c0_i32_3109 : BitVec 32 := 0#32
  let v6219 : BitVec 32 := Scalar.muli c2_i32_3110 c0_i32_3109
  let c3_i32_4352 : BitVec 32 := 3#32
  let v8680 : BitVec 32 := Scalar.addi v6219 c3_i32_4352
  let c4_i32_4485 : BitVec 32 := 4#32
  let v8955 : BitVec 32 := Scalar.muli v8680 c4_i32_4485
  let c2_i32_4486 : BitVec 32 := 2#32
  let v8956 : BitVec 32 := Scalar.addi v8955 c2_i32_4486
  let c128_i32_4487 : BitVec 32 := 128#32
  let v8957 : BitVec 32 := Scalar.muli v8956 c128_i32_4487
  v8957
def k0_mult368 : BitVec 32 :=
  let c2_i32_3110 : BitVec 32 := 2#32
  let c0_i32_3109 : BitVec 32 := 0#32
  let v6219 : BitVec 32 := Scalar.muli c2_i32_3110 c0_i32_3109
  let c3_i32_4352 : BitVec 32 := 3#32
  let v8680 : BitVec 32 := Scalar.addi v6219 c3_i32_4352
  let c4_i32_4485 : BitVec 32 := 4#32
  let v8955 : BitVec 32 := Scalar.muli v8680 c4_i32_4485
  let c2_i32_4486 : BitVec 32 := 2#32
  let v8956 : BitVec 32 := Scalar.addi v8955 c2_i32_4486
  let c0_i32_4489 : BitVec 32 := 0#32
  let v8960 : BitVec 1 := Scalar.cmpi .sgt v8956 c0_i32_4489
  let v8961 : BitVec 32 := Scalar.extui v8960
  let c0_i32_4490 : BitVec 32 := 0#32
  let v8962 : BitVec 1 := Scalar.cmpi .slt v8956 c0_i32_4490
  let v8963 : BitVec 32 := Scalar.extui v8962
  let v8964 : BitVec 32 := Scalar.subi v8961 v8963
  let c4_i32_4488 : BitVec 32 := 4#32
  let c0_i32_4491 : BitVec 32 := 0#32
  let v8965 : BitVec 1 := Scalar.cmpi .sgt c4_i32_4488 c0_i32_4491
  let v8966 : BitVec 32 := Scalar.extui v8965
  let c0_i32_4492 : BitVec 32 := 0#32
  let v8967 : BitVec 1 := Scalar.cmpi .slt c4_i32_4488 c0_i32_4492
  let v8968 : BitVec 32 := Scalar.extui v8967
  let v8969 : BitVec 32 := Scalar.subi v8966 v8968
  let v8970 : BitVec 1 := Scalar.cmpi .ne v8964 v8969
  let v8971 : BitVec 32 := Scalar.remsi v8956 c4_i32_4488
  let c0_i32_4493 : BitVec 32 := 0#32
  let v8972 : BitVec 1 := Scalar.cmpi .ne v8971 c0_i32_4493
  let v8973 : BitVec 1 := Scalar.andi v8970 v8972
  let v8959 : BitVec 32 := Scalar.divsi v8956 c4_i32_4488
  let c1_i32_4494 : BitVec 32 := 1#32
  let v8974 : BitVec 32 := Scalar.subi v8959 c1_i32_4494
  let v8975 : BitVec 32 := Scalar.select v8973 v8974 v8959
  let c512_i32_4505 : BitVec 32 := 512#32
  let v8990 : BitVec 32 := Scalar.muli v8975 c512_i32_4505
  let c256_i32_4504 : BitVec 32 := 256#32
  let c0_i32_4503 : BitVec 32 := 0#32
  let c4_i32_4495 : BitVec 32 := 4#32
  let c0_i32_4496 : BitVec 32 := 0#32
  let v8976 : BitVec 1 := Scalar.cmpi .eq c4_i32_4495 c0_i32_4496
  let c1_i32_4497 : BitVec 32 := 1#32
  let v8977 : BitVec 32 := Scalar.select v8976 c1_i32_4497 c4_i32_4495
  let v8978 : BitVec 32 := Scalar.remsi v8956 v8977
  let c0_i32_4499 : BitVec 32 := 0#32
  let v8980 : BitVec 1 := Scalar.cmpi .slt v8978 c0_i32_4499
  let c0_i32_4500 : BitVec 32 := 0#32
  let v8981 : BitVec 1 := Scalar.cmpi .slt v8977 c0_i32_4500
  let v8982 : BitVec 1 := Scalar.xori v8980 v8981
  let c0_i32_4498 : BitVec 32 := 0#32
  let v8979 : BitVec 1 := Scalar.cmpi .ne v8978 c0_i32_4498
  let v8983 : BitVec 1 := Scalar.andi v8982 v8979
  let v8984 : BitVec 32 := Scalar.addi v8978 v8977
  let v8985 : BitVec 32 := Scalar.select v8983 v8984 v8978
  let c128_i32_4501 : BitVec 32 := 128#32
  let v8986 : BitVec 32 := Scalar.muli v8985 c128_i32_4501
  let c64_i32_4502 : BitVec 32 := 64#32
  let v8987 : BitVec 32 := Scalar.subi v8986 c64_i32_4502
  let v8988 : BitVec 32 := Scalar.maxsi c0_i32_4503 v8987
  let v8989 : BitVec 32 := Scalar.minsi c256_i32_4504 v8988
  let v8991 : BitVec 32 := Scalar.addi v8990 v8989
  v8991
def k0_mult369 : BitVec 32 :=
  let c2_i32_3110 : BitVec 32 := 2#32
  let c0_i32_3109 : BitVec 32 := 0#32
  let v6219 : BitVec 32 := Scalar.muli c2_i32_3110 c0_i32_3109
  let c3_i32_4352 : BitVec 32 := 3#32
  let v8680 : BitVec 32 := Scalar.addi v6219 c3_i32_4352
  let c4_i32_4485 : BitVec 32 := 4#32
  let v8955 : BitVec 32 := Scalar.muli v8680 c4_i32_4485
  let c2_i32_4486 : BitVec 32 := 2#32
  let v8956 : BitVec 32 := Scalar.addi v8955 c2_i32_4486
  let c128_i32_4487 : BitVec 32 := 128#32
  let v8957 : BitVec 32 := Scalar.muli v8956 c128_i32_4487
  let v8958 : BitVec 32 := v8957
  let c0_i32_4516 : BitVec 32 := 0#32
  let v9015 : BitVec 1 := Scalar.cmpi .sgt v8958 c0_i32_4516
  let v9016 : BitVec 32 := Scalar.extui v9015
  let c0_i32_4517 : BitVec 32 := 0#32
  let v9017 : BitVec 1 := Scalar.cmpi .slt v8958 c0_i32_4517
  let v9018 : BitVec 32 := Scalar.extui v9017
  let v9019 : BitVec 32 := Scalar.subi v9016 v9018
  let c2_i32_4515 : BitVec 32 := 2#32
  let c0_i32_4518 : BitVec 32 := 0#32
  let v9020 : BitVec 1 := Scalar.cmpi .sgt c2_i32_4515 c0_i32_4518
  let v9021 : BitVec 32 := Scalar.extui v9020
  let c0_i32_4519 : BitVec 32 := 0#32
  let v9022 : BitVec 1 := Scalar.cmpi .slt c2_i32_4515 c0_i32_4519
  let v9023 : BitVec 32 := Scalar.extui v9022
  let v9024 : BitVec 32 := Scalar.subi v9021 v9023
  let v9025 : BitVec 1 := Scalar.cmpi .ne v9019 v9024
  let v9026 : BitVec 32 := Scalar.remsi v8958 c2_i32_4515
  let c0_i32_4520 : BitVec 32 := 0#32
  let v9027 : BitVec 1 := Scalar.cmpi .ne v9026 c0_i32_4520
  let v9028 : BitVec 1 := Scalar.andi v9025 v9027
  let v9014 : BitVec 32 := Scalar.divsi v8958 c2_i32_4515
  let c1_i32_4521 : BitVec 32 := 1#32
  let v9029 : BitVec 32 := Scalar.subi v9014 c1_i32_4521
  let v9030 : BitVec 32 := Scalar.select v9028 v9029 v9014
  v9030
def k0_mult370 : BitVec 32 :=
  let c2_i32_3110 : BitVec 32 := 2#32
  let c0_i32_3109 : BitVec 32 := 0#32
  let v6219 : BitVec 32 := Scalar.muli c2_i32_3110 c0_i32_3109
  let c3_i32_4352 : BitVec 32 := 3#32
  let v8680 : BitVec 32 := Scalar.addi v6219 c3_i32_4352
  let c4_i32_4485 : BitVec 32 := 4#32
  let v8955 : BitVec 32 := Scalar.muli v8680 c4_i32_4485
  let c2_i32_4486 : BitVec 32 := 2#32
  let v8956 : BitVec 32 := Scalar.addi v8955 c2_i32_4486
  let c128_i32_4487 : BitVec 32 := 128#32
  let v8957 : BitVec 32 := Scalar.muli v8956 c128_i32_4487
  let v8958 : BitVec 32 := v8957
  let c0_i32_4525 : BitVec 32 := 0#32
  let v9037 : BitVec 1 := Scalar.cmpi .sgt v8958 c0_i32_4525
  let v9038 : BitVec 32 := Scalar.extui v9037
  let c0_i32_4526 : BitVec 32 := 0#32
  let v9039 : BitVec 1 := Scalar.cmpi .slt v8958 c0_i32_4526
  let v9040 : BitVec 32 := Scalar.extui v9039
  let v9041 : BitVec 32 := Scalar.subi v9038 v9040
  let c2_i32_4524 : BitVec 32 := 2#32
  let c0_i32_4527 : BitVec 32 := 0#32
  let v9042 : BitVec 1 := Scalar.cmpi .sgt c2_i32_4524 c0_i32_4527
  let v9043 : BitVec 32 := Scalar.extui v9042
  let c0_i32_4528 : BitVec 32 := 0#32
  let v9044 : BitVec 1 := Scalar.cmpi .slt c2_i32_4524 c0_i32_4528
  let v9045 : BitVec 32 := Scalar.extui v9044
  let v9046 : BitVec 32 := Scalar.subi v9043 v9045
  let v9047 : BitVec 1 := Scalar.cmpi .ne v9041 v9046
  let v9048 : BitVec 32 := Scalar.remsi v8958 c2_i32_4524
  let c0_i32_4529 : BitVec 32 := 0#32
  let v9049 : BitVec 1 := Scalar.cmpi .ne v9048 c0_i32_4529
  let v9050 : BitVec 1 := Scalar.andi v9047 v9049
  let v9036 : BitVec 32 := Scalar.divsi v8958 c2_i32_4524
  let c1_i32_4530 : BitVec 32 := 1#32
  let v9051 : BitVec 32 := Scalar.subi v9036 c1_i32_4530
  let v9052 : BitVec 32 := Scalar.select v9050 v9051 v9036
  v9052
def k0_mult371 : BitVec 32 :=
  let c2_i32_3110 : BitVec 32 := 2#32
  let c0_i32_3109 : BitVec 32 := 0#32
  let v6219 : BitVec 32 := Scalar.muli c2_i32_3110 c0_i32_3109
  let c3_i32_4352 : BitVec 32 := 3#32
  let v8680 : BitVec 32 := Scalar.addi v6219 c3_i32_4352
  let c4_i32_4485 : BitVec 32 := 4#32
  let v8955 : BitVec 32 := Scalar.muli v8680 c4_i32_4485
  let c2_i32_4486 : BitVec 32 := 2#32
  let v8956 : BitVec 32 := Scalar.addi v8955 c2_i32_4486
  let c0_i32_4489 : BitVec 32 := 0#32
  let v8960 : BitVec 1 := Scalar.cmpi .sgt v8956 c0_i32_4489
  let v8961 : BitVec 32 := Scalar.extui v8960
  let c0_i32_4490 : BitVec 32 := 0#32
  let v8962 : BitVec 1 := Scalar.cmpi .slt v8956 c0_i32_4490
  let v8963 : BitVec 32 := Scalar.extui v8962
  let v8964 : BitVec 32 := Scalar.subi v8961 v8963
  let c4_i32_4488 : BitVec 32 := 4#32
  let c0_i32_4491 : BitVec 32 := 0#32
  let v8965 : BitVec 1 := Scalar.cmpi .sgt c4_i32_4488 c0_i32_4491
  let v8966 : BitVec 32 := Scalar.extui v8965
  let c0_i32_4492 : BitVec 32 := 0#32
  let v8967 : BitVec 1 := Scalar.cmpi .slt c4_i32_4488 c0_i32_4492
  let v8968 : BitVec 32 := Scalar.extui v8967
  let v8969 : BitVec 32 := Scalar.subi v8966 v8968
  let v8970 : BitVec 1 := Scalar.cmpi .ne v8964 v8969
  let v8971 : BitVec 32 := Scalar.remsi v8956 c4_i32_4488
  let c0_i32_4493 : BitVec 32 := 0#32
  let v8972 : BitVec 1 := Scalar.cmpi .ne v8971 c0_i32_4493
  let v8973 : BitVec 1 := Scalar.andi v8970 v8972
  let v8959 : BitVec 32 := Scalar.divsi v8956 c4_i32_4488
  let c1_i32_4494 : BitVec 32 := 1#32
  let v8974 : BitVec 32 := Scalar.subi v8959 c1_i32_4494
  let v8975 : BitVec 32 := Scalar.select v8973 v8974 v8959
  let c512_i32_4505 : BitVec 32 := 512#32
  let v8990 : BitVec 32 := Scalar.muli v8975 c512_i32_4505
  let c256_i32_4504 : BitVec 32 := 256#32
  let c0_i32_4503 : BitVec 32 := 0#32
  let c4_i32_4495 : BitVec 32 := 4#32
  let c0_i32_4496 : BitVec 32 := 0#32
  let v8976 : BitVec 1 := Scalar.cmpi .eq c4_i32_4495 c0_i32_4496
  let c1_i32_4497 : BitVec 32 := 1#32
  let v8977 : BitVec 32 := Scalar.select v8976 c1_i32_4497 c4_i32_4495
  let v8978 : BitVec 32 := Scalar.remsi v8956 v8977
  let c0_i32_4499 : BitVec 32 := 0#32
  let v8980 : BitVec 1 := Scalar.cmpi .slt v8978 c0_i32_4499
  let c0_i32_4500 : BitVec 32 := 0#32
  let v8981 : BitVec 1 := Scalar.cmpi .slt v8977 c0_i32_4500
  let v8982 : BitVec 1 := Scalar.xori v8980 v8981
  let c0_i32_4498 : BitVec 32 := 0#32
  let v8979 : BitVec 1 := Scalar.cmpi .ne v8978 c0_i32_4498
  let v8983 : BitVec 1 := Scalar.andi v8982 v8979
  let v8984 : BitVec 32 := Scalar.addi v8978 v8977
  let v8985 : BitVec 32 := Scalar.select v8983 v8984 v8978
  let c128_i32_4501 : BitVec 32 := 128#32
  let v8986 : BitVec 32 := Scalar.muli v8985 c128_i32_4501
  let c64_i32_4502 : BitVec 32 := 64#32
  let v8987 : BitVec 32 := Scalar.subi v8986 c64_i32_4502
  let v8988 : BitVec 32 := Scalar.maxsi c0_i32_4503 v8987
  let v8989 : BitVec 32 := Scalar.minsi c256_i32_4504 v8988
  let v8991 : BitVec 32 := Scalar.addi v8990 v8989
  let v8992 : BitVec 32 := v8991
  let c0_i32_4534 : BitVec 32 := 0#32
  let v9060 : BitVec 1 := Scalar.cmpi .sgt v8992 c0_i32_4534
  let v9061 : BitVec 32 := Scalar.extui v9060
  let c0_i32_4535 : BitVec 32 := 0#32
  let v9062 : BitVec 1 := Scalar.cmpi .slt v8992 c0_i32_4535
  let v9063 : BitVec 32 := Scalar.extui v9062
  let v9064 : BitVec 32 := Scalar.subi v9061 v9063
  let c2_i32_4533 : BitVec 32 := 2#32
  let c0_i32_4536 : BitVec 32 := 0#32
  let v9065 : BitVec 1 := Scalar.cmpi .sgt c2_i32_4533 c0_i32_4536
  let v9066 : BitVec 32 := Scalar.extui v9065
  let c0_i32_4537 : BitVec 32 := 0#32
  let v9067 : BitVec 1 := Scalar.cmpi .slt c2_i32_4533 c0_i32_4537
  let v9068 : BitVec 32 := Scalar.extui v9067
  let v9069 : BitVec 32 := Scalar.subi v9066 v9068
  let v9070 : BitVec 1 := Scalar.cmpi .ne v9064 v9069
  let v9071 : BitVec 32 := Scalar.remsi v8992 c2_i32_4533
  let c0_i32_4538 : BitVec 32 := 0#32
  let v9072 : BitVec 1 := Scalar.cmpi .ne v9071 c0_i32_4538
  let v9073 : BitVec 1 := Scalar.andi v9070 v9072
  let v9059 : BitVec 32 := Scalar.divsi v8992 c2_i32_4533
  let c1_i32_4539 : BitVec 32 := 1#32
  let v9074 : BitVec 32 := Scalar.subi v9059 c1_i32_4539
  let v9075 : BitVec 32 := Scalar.select v9073 v9074 v9059
  v9075
def k0_mult372 : BitVec 32 :=
  let c2_i32_3110 : BitVec 32 := 2#32
  let c0_i32_3109 : BitVec 32 := 0#32
  let v6219 : BitVec 32 := Scalar.muli c2_i32_3110 c0_i32_3109
  let c3_i32_4352 : BitVec 32 := 3#32
  let v8680 : BitVec 32 := Scalar.addi v6219 c3_i32_4352
  let c4_i32_4551 : BitVec 32 := 4#32
  let v9092 : BitVec 32 := Scalar.muli v8680 c4_i32_4551
  let c3_i32_4552 : BitVec 32 := 3#32
  let v9093 : BitVec 32 := Scalar.addi v9092 c3_i32_4552
  let c128_i32_4553 : BitVec 32 := 128#32
  let v9094 : BitVec 32 := Scalar.muli v9093 c128_i32_4553
  v9094
def k0_mult373 : BitVec 32 :=
  let c2_i32_3110 : BitVec 32 := 2#32
  let c0_i32_3109 : BitVec 32 := 0#32
  let v6219 : BitVec 32 := Scalar.muli c2_i32_3110 c0_i32_3109
  let c3_i32_4352 : BitVec 32 := 3#32
  let v8680 : BitVec 32 := Scalar.addi v6219 c3_i32_4352
  let c4_i32_4551 : BitVec 32 := 4#32
  let v9092 : BitVec 32 := Scalar.muli v8680 c4_i32_4551
  let c3_i32_4552 : BitVec 32 := 3#32
  let v9093 : BitVec 32 := Scalar.addi v9092 c3_i32_4552
  let c0_i32_4555 : BitVec 32 := 0#32
  let v9097 : BitVec 1 := Scalar.cmpi .sgt v9093 c0_i32_4555
  let v9098 : BitVec 32 := Scalar.extui v9097
  let c0_i32_4556 : BitVec 32 := 0#32
  let v9099 : BitVec 1 := Scalar.cmpi .slt v9093 c0_i32_4556
  let v9100 : BitVec 32 := Scalar.extui v9099
  let v9101 : BitVec 32 := Scalar.subi v9098 v9100
  let c4_i32_4554 : BitVec 32 := 4#32
  let c0_i32_4557 : BitVec 32 := 0#32
  let v9102 : BitVec 1 := Scalar.cmpi .sgt c4_i32_4554 c0_i32_4557
  let v9103 : BitVec 32 := Scalar.extui v9102
  let c0_i32_4558 : BitVec 32 := 0#32
  let v9104 : BitVec 1 := Scalar.cmpi .slt c4_i32_4554 c0_i32_4558
  let v9105 : BitVec 32 := Scalar.extui v9104
  let v9106 : BitVec 32 := Scalar.subi v9103 v9105
  let v9107 : BitVec 1 := Scalar.cmpi .ne v9101 v9106
  let v9108 : BitVec 32 := Scalar.remsi v9093 c4_i32_4554
  let c0_i32_4559 : BitVec 32 := 0#32
  let v9109 : BitVec 1 := Scalar.cmpi .ne v9108 c0_i32_4559
  let v9110 : BitVec 1 := Scalar.andi v9107 v9109
  let v9096 : BitVec 32 := Scalar.divsi v9093 c4_i32_4554
  let c1_i32_4560 : BitVec 32 := 1#32
  let v9111 : BitVec 32 := Scalar.subi v9096 c1_i32_4560
  let v9112 : BitVec 32 := Scalar.select v9110 v9111 v9096
  let c512_i32_4571 : BitVec 32 := 512#32
  let v9127 : BitVec 32 := Scalar.muli v9112 c512_i32_4571
  let c256_i32_4570 : BitVec 32 := 256#32
  let c0_i32_4569 : BitVec 32 := 0#32
  let c4_i32_4561 : BitVec 32 := 4#32
  let c0_i32_4562 : BitVec 32 := 0#32
  let v9113 : BitVec 1 := Scalar.cmpi .eq c4_i32_4561 c0_i32_4562
  let c1_i32_4563 : BitVec 32 := 1#32
  let v9114 : BitVec 32 := Scalar.select v9113 c1_i32_4563 c4_i32_4561
  let v9115 : BitVec 32 := Scalar.remsi v9093 v9114
  let c0_i32_4565 : BitVec 32 := 0#32
  let v9117 : BitVec 1 := Scalar.cmpi .slt v9115 c0_i32_4565
  let c0_i32_4566 : BitVec 32 := 0#32
  let v9118 : BitVec 1 := Scalar.cmpi .slt v9114 c0_i32_4566
  let v9119 : BitVec 1 := Scalar.xori v9117 v9118
  let c0_i32_4564 : BitVec 32 := 0#32
  let v9116 : BitVec 1 := Scalar.cmpi .ne v9115 c0_i32_4564
  let v9120 : BitVec 1 := Scalar.andi v9119 v9116
  let v9121 : BitVec 32 := Scalar.addi v9115 v9114
  let v9122 : BitVec 32 := Scalar.select v9120 v9121 v9115
  let c128_i32_4567 : BitVec 32 := 128#32
  let v9123 : BitVec 32 := Scalar.muli v9122 c128_i32_4567
  let c64_i32_4568 : BitVec 32 := 64#32
  let v9124 : BitVec 32 := Scalar.subi v9123 c64_i32_4568
  let v9125 : BitVec 32 := Scalar.maxsi c0_i32_4569 v9124
  let v9126 : BitVec 32 := Scalar.minsi c256_i32_4570 v9125
  let v9128 : BitVec 32 := Scalar.addi v9127 v9126
  v9128
def k0_mult374 : BitVec 32 :=
  let c2_i32_3110 : BitVec 32 := 2#32
  let c0_i32_3109 : BitVec 32 := 0#32
  let v6219 : BitVec 32 := Scalar.muli c2_i32_3110 c0_i32_3109
  let c3_i32_4352 : BitVec 32 := 3#32
  let v8680 : BitVec 32 := Scalar.addi v6219 c3_i32_4352
  let c4_i32_4551 : BitVec 32 := 4#32
  let v9092 : BitVec 32 := Scalar.muli v8680 c4_i32_4551
  let c3_i32_4552 : BitVec 32 := 3#32
  let v9093 : BitVec 32 := Scalar.addi v9092 c3_i32_4552
  let c128_i32_4553 : BitVec 32 := 128#32
  let v9094 : BitVec 32 := Scalar.muli v9093 c128_i32_4553
  let v9095 : BitVec 32 := v9094
  let c0_i32_4582 : BitVec 32 := 0#32
  let v9152 : BitVec 1 := Scalar.cmpi .sgt v9095 c0_i32_4582
  let v9153 : BitVec 32 := Scalar.extui v9152
  let c0_i32_4583 : BitVec 32 := 0#32
  let v9154 : BitVec 1 := Scalar.cmpi .slt v9095 c0_i32_4583
  let v9155 : BitVec 32 := Scalar.extui v9154
  let v9156 : BitVec 32 := Scalar.subi v9153 v9155
  let c2_i32_4581 : BitVec 32 := 2#32
  let c0_i32_4584 : BitVec 32 := 0#32
  let v9157 : BitVec 1 := Scalar.cmpi .sgt c2_i32_4581 c0_i32_4584
  let v9158 : BitVec 32 := Scalar.extui v9157
  let c0_i32_4585 : BitVec 32 := 0#32
  let v9159 : BitVec 1 := Scalar.cmpi .slt c2_i32_4581 c0_i32_4585
  let v9160 : BitVec 32 := Scalar.extui v9159
  let v9161 : BitVec 32 := Scalar.subi v9158 v9160
  let v9162 : BitVec 1 := Scalar.cmpi .ne v9156 v9161
  let v9163 : BitVec 32 := Scalar.remsi v9095 c2_i32_4581
  let c0_i32_4586 : BitVec 32 := 0#32
  let v9164 : BitVec 1 := Scalar.cmpi .ne v9163 c0_i32_4586
  let v9165 : BitVec 1 := Scalar.andi v9162 v9164
  let v9151 : BitVec 32 := Scalar.divsi v9095 c2_i32_4581
  let c1_i32_4587 : BitVec 32 := 1#32
  let v9166 : BitVec 32 := Scalar.subi v9151 c1_i32_4587
  let v9167 : BitVec 32 := Scalar.select v9165 v9166 v9151
  v9167
def k0_mult375 : BitVec 32 :=
  let c2_i32_3110 : BitVec 32 := 2#32
  let c0_i32_3109 : BitVec 32 := 0#32
  let v6219 : BitVec 32 := Scalar.muli c2_i32_3110 c0_i32_3109
  let c3_i32_4352 : BitVec 32 := 3#32
  let v8680 : BitVec 32 := Scalar.addi v6219 c3_i32_4352
  let c4_i32_4551 : BitVec 32 := 4#32
  let v9092 : BitVec 32 := Scalar.muli v8680 c4_i32_4551
  let c3_i32_4552 : BitVec 32 := 3#32
  let v9093 : BitVec 32 := Scalar.addi v9092 c3_i32_4552
  let c128_i32_4553 : BitVec 32 := 128#32
  let v9094 : BitVec 32 := Scalar.muli v9093 c128_i32_4553
  let v9095 : BitVec 32 := v9094
  let c0_i32_4591 : BitVec 32 := 0#32
  let v9174 : BitVec 1 := Scalar.cmpi .sgt v9095 c0_i32_4591
  let v9175 : BitVec 32 := Scalar.extui v9174
  let c0_i32_4592 : BitVec 32 := 0#32
  let v9176 : BitVec 1 := Scalar.cmpi .slt v9095 c0_i32_4592
  let v9177 : BitVec 32 := Scalar.extui v9176
  let v9178 : BitVec 32 := Scalar.subi v9175 v9177
  let c2_i32_4590 : BitVec 32 := 2#32
  let c0_i32_4593 : BitVec 32 := 0#32
  let v9179 : BitVec 1 := Scalar.cmpi .sgt c2_i32_4590 c0_i32_4593
  let v9180 : BitVec 32 := Scalar.extui v9179
  let c0_i32_4594 : BitVec 32 := 0#32
  let v9181 : BitVec 1 := Scalar.cmpi .slt c2_i32_4590 c0_i32_4594
  let v9182 : BitVec 32 := Scalar.extui v9181
  let v9183 : BitVec 32 := Scalar.subi v9180 v9182
  let v9184 : BitVec 1 := Scalar.cmpi .ne v9178 v9183
  let v9185 : BitVec 32 := Scalar.remsi v9095 c2_i32_4590
  let c0_i32_4595 : BitVec 32 := 0#32
  let v9186 : BitVec 1 := Scalar.cmpi .ne v9185 c0_i32_4595
  let v9187 : BitVec 1 := Scalar.andi v9184 v9186
  let v9173 : BitVec 32 := Scalar.divsi v9095 c2_i32_4590
  let c1_i32_4596 : BitVec 32 := 1#32
  let v9188 : BitVec 32 := Scalar.subi v9173 c1_i32_4596
  let v9189 : BitVec 32 := Scalar.select v9187 v9188 v9173
  v9189
def k0_mult376 : BitVec 32 :=
  let c2_i32_3110 : BitVec 32 := 2#32
  let c0_i32_3109 : BitVec 32 := 0#32
  let v6219 : BitVec 32 := Scalar.muli c2_i32_3110 c0_i32_3109
  let c3_i32_4352 : BitVec 32 := 3#32
  let v8680 : BitVec 32 := Scalar.addi v6219 c3_i32_4352
  let c4_i32_4551 : BitVec 32 := 4#32
  let v9092 : BitVec 32 := Scalar.muli v8680 c4_i32_4551
  let c3_i32_4552 : BitVec 32 := 3#32
  let v9093 : BitVec 32 := Scalar.addi v9092 c3_i32_4552
  let c0_i32_4555 : BitVec 32 := 0#32
  let v9097 : BitVec 1 := Scalar.cmpi .sgt v9093 c0_i32_4555
  let v9098 : BitVec 32 := Scalar.extui v9097
  let c0_i32_4556 : BitVec 32 := 0#32
  let v9099 : BitVec 1 := Scalar.cmpi .slt v9093 c0_i32_4556
  let v9100 : BitVec 32 := Scalar.extui v9099
  let v9101 : BitVec 32 := Scalar.subi v9098 v9100
  let c4_i32_4554 : BitVec 32 := 4#32
  let c0_i32_4557 : BitVec 32 := 0#32
  let v9102 : BitVec 1 := Scalar.cmpi .sgt c4_i32_4554 c0_i32_4557
  let v9103 : BitVec 32 := Scalar.extui v9102
  let c0_i32_4558 : BitVec 32 := 0#32
  let v9104 : BitVec 1 := Scalar.cmpi .slt c4_i32_4554 c0_i32_4558
  let v9105 : BitVec 32 := Scalar.extui v9104
  let v9106 : BitVec 32 := Scalar.subi v9103 v9105
  let v9107 : BitVec 1 := Scalar.cmpi .ne v9101 v9106
  let v9108 : BitVec 32 := Scalar.remsi v9093 c4_i32_4554
  let c0_i32_4559 : BitVec 32 := 0#32
  let v9109 : BitVec 1 := Scalar.cmpi .ne v9108 c0_i32_4559
  let v9110 : BitVec 1 := Scalar.andi v9107 v9109
  let v9096 : BitVec 32 := Scalar.divsi v9093 c4_i32_4554
  let c1_i32_4560 : BitVec 32 := 1#32
  let v9111 : BitVec 32 := Scalar.subi v9096 c1_i32_4560
  let v9112 : BitVec 32 := Scalar.select v9110 v9111 v9096
  let c512_i32_4571 : BitVec 32 := 512#32
  let v9127 : BitVec 32 := Scalar.muli v9112 c512_i32_4571
  let c256_i32_4570 : BitVec 32 := 256#32
  let c0_i32_4569 : BitVec 32 := 0#32
  let c4_i32_4561 : BitVec 32 := 4#32
  let c0_i32_4562 : BitVec 32 := 0#32
  let v9113 : BitVec 1 := Scalar.cmpi .eq c4_i32_4561 c0_i32_4562
  let c1_i32_4563 : BitVec 32 := 1#32
  let v9114 : BitVec 32 := Scalar.select v9113 c1_i32_4563 c4_i32_4561
  let v9115 : BitVec 32 := Scalar.remsi v9093 v9114
  let c0_i32_4565 : BitVec 32 := 0#32
  let v9117 : BitVec 1 := Scalar.cmpi .slt v9115 c0_i32_4565
  let c0_i32_4566 : BitVec 32 := 0#32
  let v9118 : BitVec 1 := Scalar.cmpi .slt v9114 c0_i32_4566
  let v9119 : BitVec 1 := Scalar.xori v9117 v9118
  let c0_i32_4564 : BitVec 32 := 0#32
  let v9116 : BitVec 1 := Scalar.cmpi .ne v9115 c0_i32_4564
  let v9120 : BitVec 1 := Scalar.andi v9119 v9116
  let v9121 : BitVec 32 := Scalar.addi v9115 v9114
  let v9122 : BitVec 32 := Scalar.select v9120 v9121 v9115
  let c128_i32_4567 : BitVec 32 := 128#32
  let v9123 : BitVec 32 := Scalar.muli v9122 c128_i32_4567
  let c64_i32_4568 : BitVec 32 := 64#32
  let v9124 : BitVec 32 := Scalar.subi v9123 c64_i32_4568
  let v9125 : BitVec 32 := Scalar.maxsi c0_i32_4569 v9124
  let v9126 : BitVec 32 := Scalar.minsi c256_i32_4570 v9125
  let v9128 : BitVec 32 := Scalar.addi v9127 v9126
  let v9129 : BitVec 32 := v9128
  let c0_i32_4600 : BitVec 32 := 0#32
  let v9197 : BitVec 1 := Scalar.cmpi .sgt v9129 c0_i32_4600
  let v9198 : BitVec 32 := Scalar.extui v9197
  let c0_i32_4601 : BitVec 32 := 0#32
  let v9199 : BitVec 1 := Scalar.cmpi .slt v9129 c0_i32_4601
  let v9200 : BitVec 32 := Scalar.extui v9199
  let v9201 : BitVec 32 := Scalar.subi v9198 v9200
  let c2_i32_4599 : BitVec 32 := 2#32
  let c0_i32_4602 : BitVec 32 := 0#32
  let v9202 : BitVec 1 := Scalar.cmpi .sgt c2_i32_4599 c0_i32_4602
  let v9203 : BitVec 32 := Scalar.extui v9202
  let c0_i32_4603 : BitVec 32 := 0#32
  let v9204 : BitVec 1 := Scalar.cmpi .slt c2_i32_4599 c0_i32_4603
  let v9205 : BitVec 32 := Scalar.extui v9204
  let v9206 : BitVec 32 := Scalar.subi v9203 v9205
  let v9207 : BitVec 1 := Scalar.cmpi .ne v9201 v9206
  let v9208 : BitVec 32 := Scalar.remsi v9129 c2_i32_4599
  let c0_i32_4604 : BitVec 32 := 0#32
  let v9209 : BitVec 1 := Scalar.cmpi .ne v9208 c0_i32_4604
  let v9210 : BitVec 1 := Scalar.andi v9207 v9209
  let v9196 : BitVec 32 := Scalar.divsi v9129 c2_i32_4599
  let c1_i32_4605 : BitVec 32 := 1#32
  let v9211 : BitVec 32 := Scalar.subi v9196 c1_i32_4605
  let v9212 : BitVec 32 := Scalar.select v9210 v9211 v9196
  v9212
def k0_mult377 : BitVec 32 :=
  let c1024_i32_4618 : BitVec 32 := 1024#32
  c1024_i32_4618
def k0_mult378 : BitVec 32 :=
  let c1024_i32_4622 : BitVec 32 := 1024#32
  let c256_i32_4621 : BitVec 32 := 256#32
  let c0_i32_4620 : BitVec 32 := 0#32
  let c_m64_i32_4619 : BitVec 32 := 4294967232#32
  let v9230 : BitVec 32 := Scalar.maxsi c0_i32_4620 c_m64_i32_4619
  let v9231 : BitVec 32 := Scalar.minsi c256_i32_4621 v9230
  let v9232 : BitVec 32 := Scalar.addi c1024_i32_4622 v9231
  v9232
def k0_mult379 : BitVec 32 :=
  let c1024_i32_4622 : BitVec 32 := 1024#32
  let c256_i32_4621 : BitVec 32 := 256#32
  let c0_i32_4620 : BitVec 32 := 0#32
  let c_m64_i32_4619 : BitVec 32 := 4294967232#32
  let v9230 : BitVec 32 := Scalar.maxsi c0_i32_4620 c_m64_i32_4619
  let v9231 : BitVec 32 := Scalar.minsi c256_i32_4621 v9230
  let v9232 : BitVec 32 := Scalar.addi c1024_i32_4622 v9231
  let v9233 : BitVec 32 := v9232
  let c0_i32_4628 : BitVec 32 := 0#32
  let v9237 : BitVec 1 := Scalar.cmpi .sgt v9233 c0_i32_4628
  let v9238 : BitVec 32 := Scalar.extui v9237
  let c0_i32_4629 : BitVec 32 := 0#32
  let v9239 : BitVec 1 := Scalar.cmpi .slt v9233 c0_i32_4629
  let v9240 : BitVec 32 := Scalar.extui v9239
  let v9241 : BitVec 32 := Scalar.subi v9238 v9240
  let c2_i32_4627 : BitVec 32 := 2#32
  let c0_i32_4630 : BitVec 32 := 0#32
  let v9242 : BitVec 1 := Scalar.cmpi .sgt c2_i32_4627 c0_i32_4630
  let v9243 : BitVec 32 := Scalar.extui v9242
  let c0_i32_4631 : BitVec 32 := 0#32
  let v9244 : BitVec 1 := Scalar.cmpi .slt c2_i32_4627 c0_i32_4631
  let v9245 : BitVec 32 := Scalar.extui v9244
  let v9246 : BitVec 32 := Scalar.subi v9243 v9245
  let v9247 : BitVec 1 := Scalar.cmpi .ne v9241 v9246
  let v9248 : BitVec 32 := Scalar.remsi v9233 c2_i32_4627
  let c0_i32_4632 : BitVec 32 := 0#32
  let v9249 : BitVec 1 := Scalar.cmpi .ne v9248 c0_i32_4632
  let v9250 : BitVec 1 := Scalar.andi v9247 v9249
  let v9236 : BitVec 32 := Scalar.divsi v9233 c2_i32_4627
  let c1_i32_4633 : BitVec 32 := 1#32
  let v9251 : BitVec 32 := Scalar.subi v9236 c1_i32_4633
  let v9252 : BitVec 32 := Scalar.select v9250 v9251 v9236
  v9252
def k0_off52 (c1024_i32_4622 : BitVec 32) (c_m64_i32_4619 : BitVec 32) : Fin 3 → Nat :=
  let c3_4634 : Index := 3#32
  let c256_i32_4621 : BitVec 32 := 256#32
  let c0_i32_4620 : BitVec 32 := 0#32
  let v9230 : BitVec 32 := Scalar.maxsi c0_i32_4620 c_m64_i32_4619
  let v9231 : BitVec 32 := Scalar.minsi c256_i32_4621 v9230
  let v9232 : BitVec 32 := Scalar.addi c1024_i32_4622 v9231
  let v9233 : BitVec 32 := v9232
  let c0_i32_4628 : BitVec 32 := 0#32
  let v9237 : BitVec 1 := Scalar.cmpi .sgt v9233 c0_i32_4628
  let v9238 : BitVec 32 := Scalar.extui v9237
  let c0_i32_4629 : BitVec 32 := 0#32
  let v9239 : BitVec 1 := Scalar.cmpi .slt v9233 c0_i32_4629
  let v9240 : BitVec 32 := Scalar.extui v9239
  let v9241 : BitVec 32 := Scalar.subi v9238 v9240
  let c2_i32_4627 : BitVec 32 := 2#32
  let c0_i32_4630 : BitVec 32 := 0#32
  let v9242 : BitVec 1 := Scalar.cmpi .sgt c2_i32_4627 c0_i32_4630
  let v9243 : BitVec 32 := Scalar.extui v9242
  let c0_i32_4631 : BitVec 32 := 0#32
  let v9244 : BitVec 1 := Scalar.cmpi .slt c2_i32_4627 c0_i32_4631
  let v9245 : BitVec 32 := Scalar.extui v9244
  let v9246 : BitVec 32 := Scalar.subi v9243 v9245
  let v9247 : BitVec 1 := Scalar.cmpi .ne v9241 v9246
  let v9248 : BitVec 32 := Scalar.remsi v9233 c2_i32_4627
  let c0_i32_4632 : BitVec 32 := 0#32
  let v9249 : BitVec 1 := Scalar.cmpi .ne v9248 c0_i32_4632
  let v9250 : BitVec 1 := Scalar.andi v9247 v9249
  let v9236 : BitVec 32 := Scalar.divsi v9233 c2_i32_4627
  let c1_i32_4633 : BitVec 32 := 1#32
  let v9251 : BitVec 32 := Scalar.subi v9236 c1_i32_4633
  let v9252 : BitVec 32 := Scalar.select v9250 v9251 v9236
  let v9253 : BitVec 32 := v9252
  let v9254 : Index := Scalar.indexCast v9253
  let c0_4635 : Index := 0#32
  ![3, v9254.toNat, 0]
def k0_off52_at (r : Fin 8) : BitVec 32 × BitVec 32 :=
  if r.val < 4 then
    if r.val < 2 then
      if r.val < 1 then
        (1024#32, 4294967232#32)
      else
        (1024#32, 64#32)
    else
      if r.val < 3 then
        (1024#32, 192#32)
      else
        (1024#32, 320#32)
  else
    if r.val < 6 then
      if r.val < 5 then
        (1536#32, 4294967232#32)
      else
        (1536#32, 64#32)
    else
      if r.val < 7 then
        (1536#32, 192#32)
      else
        (1536#32, 320#32)
def k0_mult380 : BitVec 32 :=
  let c1024_i32_4622 : BitVec 32 := 1024#32
  let c256_i32_4621 : BitVec 32 := 256#32
  let c0_i32_4620 : BitVec 32 := 0#32
  let c_m64_i32_4619 : BitVec 32 := 4294967232#32
  let v9230 : BitVec 32 := Scalar.maxsi c0_i32_4620 c_m64_i32_4619
  let v9231 : BitVec 32 := Scalar.minsi c256_i32_4621 v9230
  let v9232 : BitVec 32 := Scalar.addi c1024_i32_4622 v9231
  let v9233 : BitVec 32 := v9232
  let c0_i32_4642 : BitVec 32 := 0#32
  let v9262 : BitVec 1 := Scalar.cmpi .sgt v9233 c0_i32_4642
  let v9263 : BitVec 32 := Scalar.extui v9262
  let c0_i32_4643 : BitVec 32 := 0#32
  let v9264 : BitVec 1 := Scalar.cmpi .slt v9233 c0_i32_4643
  let v9265 : BitVec 32 := Scalar.extui v9264
  let v9266 : BitVec 32 := Scalar.subi v9263 v9265
  let c2_i32_4641 : BitVec 32 := 2#32
  let c0_i32_4644 : BitVec 32 := 0#32
  let v9267 : BitVec 1 := Scalar.cmpi .sgt c2_i32_4641 c0_i32_4644
  let v9268 : BitVec 32 := Scalar.extui v9267
  let c0_i32_4645 : BitVec 32 := 0#32
  let v9269 : BitVec 1 := Scalar.cmpi .slt c2_i32_4641 c0_i32_4645
  let v9270 : BitVec 32 := Scalar.extui v9269
  let v9271 : BitVec 32 := Scalar.subi v9268 v9270
  let v9272 : BitVec 1 := Scalar.cmpi .ne v9266 v9271
  let v9273 : BitVec 32 := Scalar.remsi v9233 c2_i32_4641
  let c0_i32_4646 : BitVec 32 := 0#32
  let v9274 : BitVec 1 := Scalar.cmpi .ne v9273 c0_i32_4646
  let v9275 : BitVec 1 := Scalar.andi v9272 v9274
  let v9261 : BitVec 32 := Scalar.divsi v9233 c2_i32_4641
  let c1_i32_4647 : BitVec 32 := 1#32
  let v9276 : BitVec 32 := Scalar.subi v9261 c1_i32_4647
  let v9277 : BitVec 32 := Scalar.select v9275 v9276 v9261
  v9277
def k0_off53 (c1024_i32_4622 : BitVec 32) (c_m64_i32_4619 : BitVec 32) : Fin 3 → Nat :=
  let c4_4648 : Index := 4#32
  let c256_i32_4621 : BitVec 32 := 256#32
  let c0_i32_4620 : BitVec 32 := 0#32
  let v9230 : BitVec 32 := Scalar.maxsi c0_i32_4620 c_m64_i32_4619
  let v9231 : BitVec 32 := Scalar.minsi c256_i32_4621 v9230
  let v9232 : BitVec 32 := Scalar.addi c1024_i32_4622 v9231
  let v9233 : BitVec 32 := v9232
  let c0_i32_4642 : BitVec 32 := 0#32
  let v9262 : BitVec 1 := Scalar.cmpi .sgt v9233 c0_i32_4642
  let v9263 : BitVec 32 := Scalar.extui v9262
  let c0_i32_4643 : BitVec 32 := 0#32
  let v9264 : BitVec 1 := Scalar.cmpi .slt v9233 c0_i32_4643
  let v9265 : BitVec 32 := Scalar.extui v9264
  let v9266 : BitVec 32 := Scalar.subi v9263 v9265
  let c2_i32_4641 : BitVec 32 := 2#32
  let c0_i32_4644 : BitVec 32 := 0#32
  let v9267 : BitVec 1 := Scalar.cmpi .sgt c2_i32_4641 c0_i32_4644
  let v9268 : BitVec 32 := Scalar.extui v9267
  let c0_i32_4645 : BitVec 32 := 0#32
  let v9269 : BitVec 1 := Scalar.cmpi .slt c2_i32_4641 c0_i32_4645
  let v9270 : BitVec 32 := Scalar.extui v9269
  let v9271 : BitVec 32 := Scalar.subi v9268 v9270
  let v9272 : BitVec 1 := Scalar.cmpi .ne v9266 v9271
  let v9273 : BitVec 32 := Scalar.remsi v9233 c2_i32_4641
  let c0_i32_4646 : BitVec 32 := 0#32
  let v9274 : BitVec 1 := Scalar.cmpi .ne v9273 c0_i32_4646
  let v9275 : BitVec 1 := Scalar.andi v9272 v9274
  let v9261 : BitVec 32 := Scalar.divsi v9233 c2_i32_4641
  let c1_i32_4647 : BitVec 32 := 1#32
  let v9276 : BitVec 32 := Scalar.subi v9261 c1_i32_4647
  let v9277 : BitVec 32 := Scalar.select v9275 v9276 v9261
  let v9278 : BitVec 32 := v9277
  let v9279 : Index := Scalar.indexCast v9278
  let c0_4649 : Index := 0#32
  ![4, v9279.toNat, 0]
def k0_off53_at (r : Fin 8) : BitVec 32 × BitVec 32 :=
  if r.val < 4 then
    if r.val < 2 then
      if r.val < 1 then
        (1024#32, 4294967232#32)
      else
        (1024#32, 64#32)
    else
      if r.val < 3 then
        (1024#32, 192#32)
      else
        (1024#32, 320#32)
  else
    if r.val < 6 then
      if r.val < 5 then
        (1536#32, 4294967232#32)
      else
        (1536#32, 64#32)
    else
      if r.val < 7 then
        (1536#32, 192#32)
      else
        (1536#32, 320#32)
def k0_mult381 : BitVec 32 :=
  let c1152_i32_4661 : BitVec 32 := 1152#32
  c1152_i32_4661
def k0_mult382 : BitVec 32 :=
  let c1024_i32_4665 : BitVec 32 := 1024#32
  let c256_i32_4664 : BitVec 32 := 256#32
  let c0_i32_4663 : BitVec 32 := 0#32
  let c64_i32_4662 : BitVec 32 := 64#32
  let v9307 : BitVec 32 := Scalar.maxsi c0_i32_4663 c64_i32_4662
  let v9308 : BitVec 32 := Scalar.minsi c256_i32_4664 v9307
  let v9309 : BitVec 32 := Scalar.addi c1024_i32_4665 v9308
  v9309
def k0_mult383 : BitVec 32 :=
  let c1024_i32_4665 : BitVec 32 := 1024#32
  let c256_i32_4664 : BitVec 32 := 256#32
  let c0_i32_4663 : BitVec 32 := 0#32
  let c64_i32_4662 : BitVec 32 := 64#32
  let v9307 : BitVec 32 := Scalar.maxsi c0_i32_4663 c64_i32_4662
  let v9308 : BitVec 32 := Scalar.minsi c256_i32_4664 v9307
  let v9309 : BitVec 32 := Scalar.addi c1024_i32_4665 v9308
  let v9310 : BitVec 32 := v9309
  let c0_i32_4671 : BitVec 32 := 0#32
  let v9314 : BitVec 1 := Scalar.cmpi .sgt v9310 c0_i32_4671
  let v9315 : BitVec 32 := Scalar.extui v9314
  let c0_i32_4672 : BitVec 32 := 0#32
  let v9316 : BitVec 1 := Scalar.cmpi .slt v9310 c0_i32_4672
  let v9317 : BitVec 32 := Scalar.extui v9316
  let v9318 : BitVec 32 := Scalar.subi v9315 v9317
  let c2_i32_4670 : BitVec 32 := 2#32
  let c0_i32_4673 : BitVec 32 := 0#32
  let v9319 : BitVec 1 := Scalar.cmpi .sgt c2_i32_4670 c0_i32_4673
  let v9320 : BitVec 32 := Scalar.extui v9319
  let c0_i32_4674 : BitVec 32 := 0#32
  let v9321 : BitVec 1 := Scalar.cmpi .slt c2_i32_4670 c0_i32_4674
  let v9322 : BitVec 32 := Scalar.extui v9321
  let v9323 : BitVec 32 := Scalar.subi v9320 v9322
  let v9324 : BitVec 1 := Scalar.cmpi .ne v9318 v9323
  let v9325 : BitVec 32 := Scalar.remsi v9310 c2_i32_4670
  let c0_i32_4675 : BitVec 32 := 0#32
  let v9326 : BitVec 1 := Scalar.cmpi .ne v9325 c0_i32_4675
  let v9327 : BitVec 1 := Scalar.andi v9324 v9326
  let v9313 : BitVec 32 := Scalar.divsi v9310 c2_i32_4670
  let c1_i32_4676 : BitVec 32 := 1#32
  let v9328 : BitVec 32 := Scalar.subi v9313 c1_i32_4676
  let v9329 : BitVec 32 := Scalar.select v9327 v9328 v9313
  v9329
def k0_mult384 : BitVec 32 :=
  let c1024_i32_4665 : BitVec 32 := 1024#32
  let c256_i32_4664 : BitVec 32 := 256#32
  let c0_i32_4663 : BitVec 32 := 0#32
  let c64_i32_4662 : BitVec 32 := 64#32
  let v9307 : BitVec 32 := Scalar.maxsi c0_i32_4663 c64_i32_4662
  let v9308 : BitVec 32 := Scalar.minsi c256_i32_4664 v9307
  let v9309 : BitVec 32 := Scalar.addi c1024_i32_4665 v9308
  let v9310 : BitVec 32 := v9309
  let c0_i32_4685 : BitVec 32 := 0#32
  let v9339 : BitVec 1 := Scalar.cmpi .sgt v9310 c0_i32_4685
  let v9340 : BitVec 32 := Scalar.extui v9339
  let c0_i32_4686 : BitVec 32 := 0#32
  let v9341 : BitVec 1 := Scalar.cmpi .slt v9310 c0_i32_4686
  let v9342 : BitVec 32 := Scalar.extui v9341
  let v9343 : BitVec 32 := Scalar.subi v9340 v9342
  let c2_i32_4684 : BitVec 32 := 2#32
  let c0_i32_4687 : BitVec 32 := 0#32
  let v9344 : BitVec 1 := Scalar.cmpi .sgt c2_i32_4684 c0_i32_4687
  let v9345 : BitVec 32 := Scalar.extui v9344
  let c0_i32_4688 : BitVec 32 := 0#32
  let v9346 : BitVec 1 := Scalar.cmpi .slt c2_i32_4684 c0_i32_4688
  let v9347 : BitVec 32 := Scalar.extui v9346
  let v9348 : BitVec 32 := Scalar.subi v9345 v9347
  let v9349 : BitVec 1 := Scalar.cmpi .ne v9343 v9348
  let v9350 : BitVec 32 := Scalar.remsi v9310 c2_i32_4684
  let c0_i32_4689 : BitVec 32 := 0#32
  let v9351 : BitVec 1 := Scalar.cmpi .ne v9350 c0_i32_4689
  let v9352 : BitVec 1 := Scalar.andi v9349 v9351
  let v9338 : BitVec 32 := Scalar.divsi v9310 c2_i32_4684
  let c1_i32_4690 : BitVec 32 := 1#32
  let v9353 : BitVec 32 := Scalar.subi v9338 c1_i32_4690
  let v9354 : BitVec 32 := Scalar.select v9352 v9353 v9338
  v9354
def k0_mult385 : BitVec 32 :=
  let c1280_i32_4704 : BitVec 32 := 1280#32
  c1280_i32_4704
def k0_mult386 : BitVec 32 :=
  let c1024_i32_4708 : BitVec 32 := 1024#32
  let c256_i32_4707 : BitVec 32 := 256#32
  let c0_i32_4706 : BitVec 32 := 0#32
  let c192_i32_4705 : BitVec 32 := 192#32
  let v9384 : BitVec 32 := Scalar.maxsi c0_i32_4706 c192_i32_4705
  let v9385 : BitVec 32 := Scalar.minsi c256_i32_4707 v9384
  let v9386 : BitVec 32 := Scalar.addi c1024_i32_4708 v9385
  v9386
def k0_mult387 : BitVec 32 :=
  let c1024_i32_4708 : BitVec 32 := 1024#32
  let c256_i32_4707 : BitVec 32 := 256#32
  let c0_i32_4706 : BitVec 32 := 0#32
  let c192_i32_4705 : BitVec 32 := 192#32
  let v9384 : BitVec 32 := Scalar.maxsi c0_i32_4706 c192_i32_4705
  let v9385 : BitVec 32 := Scalar.minsi c256_i32_4707 v9384
  let v9386 : BitVec 32 := Scalar.addi c1024_i32_4708 v9385
  let v9387 : BitVec 32 := v9386
  let c0_i32_4714 : BitVec 32 := 0#32
  let v9391 : BitVec 1 := Scalar.cmpi .sgt v9387 c0_i32_4714
  let v9392 : BitVec 32 := Scalar.extui v9391
  let c0_i32_4715 : BitVec 32 := 0#32
  let v9393 : BitVec 1 := Scalar.cmpi .slt v9387 c0_i32_4715
  let v9394 : BitVec 32 := Scalar.extui v9393
  let v9395 : BitVec 32 := Scalar.subi v9392 v9394
  let c2_i32_4713 : BitVec 32 := 2#32
  let c0_i32_4716 : BitVec 32 := 0#32
  let v9396 : BitVec 1 := Scalar.cmpi .sgt c2_i32_4713 c0_i32_4716
  let v9397 : BitVec 32 := Scalar.extui v9396
  let c0_i32_4717 : BitVec 32 := 0#32
  let v9398 : BitVec 1 := Scalar.cmpi .slt c2_i32_4713 c0_i32_4717
  let v9399 : BitVec 32 := Scalar.extui v9398
  let v9400 : BitVec 32 := Scalar.subi v9397 v9399
  let v9401 : BitVec 1 := Scalar.cmpi .ne v9395 v9400
  let v9402 : BitVec 32 := Scalar.remsi v9387 c2_i32_4713
  let c0_i32_4718 : BitVec 32 := 0#32
  let v9403 : BitVec 1 := Scalar.cmpi .ne v9402 c0_i32_4718
  let v9404 : BitVec 1 := Scalar.andi v9401 v9403
  let v9390 : BitVec 32 := Scalar.divsi v9387 c2_i32_4713
  let c1_i32_4719 : BitVec 32 := 1#32
  let v9405 : BitVec 32 := Scalar.subi v9390 c1_i32_4719
  let v9406 : BitVec 32 := Scalar.select v9404 v9405 v9390
  v9406
def k0_mult388 : BitVec 32 :=
  let c1024_i32_4708 : BitVec 32 := 1024#32
  let c256_i32_4707 : BitVec 32 := 256#32
  let c0_i32_4706 : BitVec 32 := 0#32
  let c192_i32_4705 : BitVec 32 := 192#32
  let v9384 : BitVec 32 := Scalar.maxsi c0_i32_4706 c192_i32_4705
  let v9385 : BitVec 32 := Scalar.minsi c256_i32_4707 v9384
  let v9386 : BitVec 32 := Scalar.addi c1024_i32_4708 v9385
  let v9387 : BitVec 32 := v9386
  let c0_i32_4728 : BitVec 32 := 0#32
  let v9416 : BitVec 1 := Scalar.cmpi .sgt v9387 c0_i32_4728
  let v9417 : BitVec 32 := Scalar.extui v9416
  let c0_i32_4729 : BitVec 32 := 0#32
  let v9418 : BitVec 1 := Scalar.cmpi .slt v9387 c0_i32_4729
  let v9419 : BitVec 32 := Scalar.extui v9418
  let v9420 : BitVec 32 := Scalar.subi v9417 v9419
  let c2_i32_4727 : BitVec 32 := 2#32
  let c0_i32_4730 : BitVec 32 := 0#32
  let v9421 : BitVec 1 := Scalar.cmpi .sgt c2_i32_4727 c0_i32_4730
  let v9422 : BitVec 32 := Scalar.extui v9421
  let c0_i32_4731 : BitVec 32 := 0#32
  let v9423 : BitVec 1 := Scalar.cmpi .slt c2_i32_4727 c0_i32_4731
  let v9424 : BitVec 32 := Scalar.extui v9423
  let v9425 : BitVec 32 := Scalar.subi v9422 v9424
  let v9426 : BitVec 1 := Scalar.cmpi .ne v9420 v9425
  let v9427 : BitVec 32 := Scalar.remsi v9387 c2_i32_4727
  let c0_i32_4732 : BitVec 32 := 0#32
  let v9428 : BitVec 1 := Scalar.cmpi .ne v9427 c0_i32_4732
  let v9429 : BitVec 1 := Scalar.andi v9426 v9428
  let v9415 : BitVec 32 := Scalar.divsi v9387 c2_i32_4727
  let c1_i32_4733 : BitVec 32 := 1#32
  let v9430 : BitVec 32 := Scalar.subi v9415 c1_i32_4733
  let v9431 : BitVec 32 := Scalar.select v9429 v9430 v9415
  v9431
def k0_mult389 : BitVec 32 :=
  let c1408_i32_4747 : BitVec 32 := 1408#32
  c1408_i32_4747
def k0_mult390 : BitVec 32 :=
  let c1024_i32_4751 : BitVec 32 := 1024#32
  let c256_i32_4750 : BitVec 32 := 256#32
  let c0_i32_4749 : BitVec 32 := 0#32
  let c320_i32_4748 : BitVec 32 := 320#32
  let v9461 : BitVec 32 := Scalar.maxsi c0_i32_4749 c320_i32_4748
  let v9462 : BitVec 32 := Scalar.minsi c256_i32_4750 v9461
  let v9463 : BitVec 32 := Scalar.addi c1024_i32_4751 v9462
  v9463
def k0_mult391 : BitVec 32 :=
  let c1024_i32_4751 : BitVec 32 := 1024#32
  let c256_i32_4750 : BitVec 32 := 256#32
  let c0_i32_4749 : BitVec 32 := 0#32
  let c320_i32_4748 : BitVec 32 := 320#32
  let v9461 : BitVec 32 := Scalar.maxsi c0_i32_4749 c320_i32_4748
  let v9462 : BitVec 32 := Scalar.minsi c256_i32_4750 v9461
  let v9463 : BitVec 32 := Scalar.addi c1024_i32_4751 v9462
  let v9464 : BitVec 32 := v9463
  let c0_i32_4757 : BitVec 32 := 0#32
  let v9468 : BitVec 1 := Scalar.cmpi .sgt v9464 c0_i32_4757
  let v9469 : BitVec 32 := Scalar.extui v9468
  let c0_i32_4758 : BitVec 32 := 0#32
  let v9470 : BitVec 1 := Scalar.cmpi .slt v9464 c0_i32_4758
  let v9471 : BitVec 32 := Scalar.extui v9470
  let v9472 : BitVec 32 := Scalar.subi v9469 v9471
  let c2_i32_4756 : BitVec 32 := 2#32
  let c0_i32_4759 : BitVec 32 := 0#32
  let v9473 : BitVec 1 := Scalar.cmpi .sgt c2_i32_4756 c0_i32_4759
  let v9474 : BitVec 32 := Scalar.extui v9473
  let c0_i32_4760 : BitVec 32 := 0#32
  let v9475 : BitVec 1 := Scalar.cmpi .slt c2_i32_4756 c0_i32_4760
  let v9476 : BitVec 32 := Scalar.extui v9475
  let v9477 : BitVec 32 := Scalar.subi v9474 v9476
  let v9478 : BitVec 1 := Scalar.cmpi .ne v9472 v9477
  let v9479 : BitVec 32 := Scalar.remsi v9464 c2_i32_4756
  let c0_i32_4761 : BitVec 32 := 0#32
  let v9480 : BitVec 1 := Scalar.cmpi .ne v9479 c0_i32_4761
  let v9481 : BitVec 1 := Scalar.andi v9478 v9480
  let v9467 : BitVec 32 := Scalar.divsi v9464 c2_i32_4756
  let c1_i32_4762 : BitVec 32 := 1#32
  let v9482 : BitVec 32 := Scalar.subi v9467 c1_i32_4762
  let v9483 : BitVec 32 := Scalar.select v9481 v9482 v9467
  v9483
def k0_mult392 : BitVec 32 :=
  let c1024_i32_4751 : BitVec 32 := 1024#32
  let c256_i32_4750 : BitVec 32 := 256#32
  let c0_i32_4749 : BitVec 32 := 0#32
  let c320_i32_4748 : BitVec 32 := 320#32
  let v9461 : BitVec 32 := Scalar.maxsi c0_i32_4749 c320_i32_4748
  let v9462 : BitVec 32 := Scalar.minsi c256_i32_4750 v9461
  let v9463 : BitVec 32 := Scalar.addi c1024_i32_4751 v9462
  let v9464 : BitVec 32 := v9463
  let c0_i32_4771 : BitVec 32 := 0#32
  let v9493 : BitVec 1 := Scalar.cmpi .sgt v9464 c0_i32_4771
  let v9494 : BitVec 32 := Scalar.extui v9493
  let c0_i32_4772 : BitVec 32 := 0#32
  let v9495 : BitVec 1 := Scalar.cmpi .slt v9464 c0_i32_4772
  let v9496 : BitVec 32 := Scalar.extui v9495
  let v9497 : BitVec 32 := Scalar.subi v9494 v9496
  let c2_i32_4770 : BitVec 32 := 2#32
  let c0_i32_4773 : BitVec 32 := 0#32
  let v9498 : BitVec 1 := Scalar.cmpi .sgt c2_i32_4770 c0_i32_4773
  let v9499 : BitVec 32 := Scalar.extui v9498
  let c0_i32_4774 : BitVec 32 := 0#32
  let v9500 : BitVec 1 := Scalar.cmpi .slt c2_i32_4770 c0_i32_4774
  let v9501 : BitVec 32 := Scalar.extui v9500
  let v9502 : BitVec 32 := Scalar.subi v9499 v9501
  let v9503 : BitVec 1 := Scalar.cmpi .ne v9497 v9502
  let v9504 : BitVec 32 := Scalar.remsi v9464 c2_i32_4770
  let c0_i32_4775 : BitVec 32 := 0#32
  let v9505 : BitVec 1 := Scalar.cmpi .ne v9504 c0_i32_4775
  let v9506 : BitVec 1 := Scalar.andi v9503 v9505
  let v9492 : BitVec 32 := Scalar.divsi v9464 c2_i32_4770
  let c1_i32_4776 : BitVec 32 := 1#32
  let v9507 : BitVec 32 := Scalar.subi v9492 c1_i32_4776
  let v9508 : BitVec 32 := Scalar.select v9506 v9507 v9492
  v9508
def k0_mult393 : BitVec 32 :=
  let c128_i32_4880 : BitVec 32 := 128#32
  c128_i32_4880
def k0_mult394 : BitVec 32 :=
  let c384_i32_4883 : BitVec 32 := 384#32
  c384_i32_4883
def k0_mult395 : BitVec 32 :=
  let c128_i32_4889 : BitVec 32 := 128#32
  c128_i32_4889
def k0_mult396 : BitVec 32 :=
  let c384_i32_4892 : BitVec 32 := 384#32
  c384_i32_4892
def k0_mult397 : BitVec 32 :=
  let c128_i32_4898 : BitVec 32 := 128#32
  c128_i32_4898
def k0_mult398 : BitVec 32 :=
  let c384_i32_4901 : BitVec 32 := 384#32
  c384_i32_4901
def k0_mult399 : BitVec 32 :=
  let c128_i32_4907 : BitVec 32 := 128#32
  c128_i32_4907
def k0_mult400 : BitVec 32 :=
  let c384_i32_4910 : BitVec 32 := 384#32
  c384_i32_4910
def k0_mult401 : BitVec 32 :=
  let c128_i32_4916 : BitVec 32 := 128#32
  c128_i32_4916
def k0_mult402 : BitVec 32 :=
  let c384_i32_4919 : BitVec 32 := 384#32
  c384_i32_4919
def k0_mult403 : BitVec 32 :=
  let c640_i32_4925 : BitVec 32 := 640#32
  c640_i32_4925
def k0_mult404 : BitVec 32 :=
  let c896_i32_4928 : BitVec 32 := 896#32
  c896_i32_4928
def k0_mult405 : BitVec 32 :=
  let c640_i32_4934 : BitVec 32 := 640#32
  c640_i32_4934
def k0_mult406 : BitVec 32 :=
  let c896_i32_4937 : BitVec 32 := 896#32
  c896_i32_4937
def k0_mult407 : BitVec 32 :=
  let c640_i32_4943 : BitVec 32 := 640#32
  c640_i32_4943
def k0_mult408 : BitVec 32 :=
  let c896_i32_4946 : BitVec 32 := 896#32
  c896_i32_4946
def k0_mult409 : BitVec 32 :=
  let c640_i32_4952 : BitVec 32 := 640#32
  c640_i32_4952
def k0_mult410 : BitVec 32 :=
  let c896_i32_4955 : BitVec 32 := 896#32
  c896_i32_4955
def k0_mult411 : BitVec 32 :=
  let c640_i32_4961 : BitVec 32 := 640#32
  c640_i32_4961
def k0_mult412 : BitVec 32 :=
  let c896_i32_4964 : BitVec 32 := 896#32
  c896_i32_4964
def k0_mult413 : BitVec 32 :=
  let c192_i32_4969 : BitVec 32 := 192#32
  c192_i32_4969
def k0_mult414 : BitVec 32 :=
  let c448_i32_4972 : BitVec 32 := 448#32
  c448_i32_4972
def k0_mult415 : BitVec 32 :=
  let c192_i32_4978 : BitVec 32 := 192#32
  c192_i32_4978
def k0_mult416 : BitVec 32 :=
  let c448_i32_4981 : BitVec 32 := 448#32
  c448_i32_4981
def k0_mult417 : BitVec 32 :=
  let c192_i32_4987 : BitVec 32 := 192#32
  c192_i32_4987
def k0_mult418 : BitVec 32 :=
  let c448_i32_4990 : BitVec 32 := 448#32
  c448_i32_4990
def k0_mult419 : BitVec 32 :=
  let c192_i32_4996 : BitVec 32 := 192#32
  c192_i32_4996
def k0_mult420 : BitVec 32 :=
  let c448_i32_4999 : BitVec 32 := 448#32
  c448_i32_4999
def k0_mult421 : BitVec 32 :=
  let c192_i32_5005 : BitVec 32 := 192#32
  c192_i32_5005
def k0_mult422 : BitVec 32 :=
  let c448_i32_5008 : BitVec 32 := 448#32
  c448_i32_5008
def k0_mult423 : BitVec 32 :=
  let c704_i32_5014 : BitVec 32 := 704#32
  c704_i32_5014
def k0_mult424 : BitVec 32 :=
  let c960_i32_5017 : BitVec 32 := 960#32
  c960_i32_5017
def k0_mult425 : BitVec 32 :=
  let c704_i32_5023 : BitVec 32 := 704#32
  c704_i32_5023
def k0_mult426 : BitVec 32 :=
  let c960_i32_5026 : BitVec 32 := 960#32
  c960_i32_5026
def k0_mult427 : BitVec 32 :=
  let c704_i32_5032 : BitVec 32 := 704#32
  c704_i32_5032
def k0_mult428 : BitVec 32 :=
  let c960_i32_5035 : BitVec 32 := 960#32
  c960_i32_5035
def k0_mult429 : BitVec 32 :=
  let c704_i32_5041 : BitVec 32 := 704#32
  c704_i32_5041
def k0_mult430 : BitVec 32 :=
  let c960_i32_5044 : BitVec 32 := 960#32
  c960_i32_5044
def k0_mult431 : BitVec 32 :=
  let c704_i32_5050 : BitVec 32 := 704#32
  c704_i32_5050
def k0_mult432 : BitVec 32 :=
  let c960_i32_5053 : BitVec 32 := 960#32
  c960_i32_5053
def k0_mult433 : BitVec 32 :=
  let c1536_i32_5056 : BitVec 32 := 1536#32
  c1536_i32_5056
def k0_mult434 : BitVec 32 :=
  let c1536_i32_5060 : BitVec 32 := 1536#32
  let c256_i32_5059 : BitVec 32 := 256#32
  let c0_i32_5058 : BitVec 32 := 0#32
  let c_m64_i32_5057 : BitVec 32 := 4294967232#32
  let v10026 : BitVec 32 := Scalar.maxsi c0_i32_5058 c_m64_i32_5057
  let v10027 : BitVec 32 := Scalar.minsi c256_i32_5059 v10026
  let v10028 : BitVec 32 := Scalar.addi c1536_i32_5060 v10027
  v10028
def k0_mult435 : BitVec 32 :=
  let c1536_i32_5060 : BitVec 32 := 1536#32
  let c256_i32_5059 : BitVec 32 := 256#32
  let c0_i32_5058 : BitVec 32 := 0#32
  let c_m64_i32_5057 : BitVec 32 := 4294967232#32
  let v10026 : BitVec 32 := Scalar.maxsi c0_i32_5058 c_m64_i32_5057
  let v10027 : BitVec 32 := Scalar.minsi c256_i32_5059 v10026
  let v10028 : BitVec 32 := Scalar.addi c1536_i32_5060 v10027
  let v10029 : BitVec 32 := v10028
  let c0_i32_5066 : BitVec 32 := 0#32
  let v10033 : BitVec 1 := Scalar.cmpi .sgt v10029 c0_i32_5066
  let v10034 : BitVec 32 := Scalar.extui v10033
  let c0_i32_5067 : BitVec 32 := 0#32
  let v10035 : BitVec 1 := Scalar.cmpi .slt v10029 c0_i32_5067
  let v10036 : BitVec 32 := Scalar.extui v10035
  let v10037 : BitVec 32 := Scalar.subi v10034 v10036
  let c2_i32_5065 : BitVec 32 := 2#32
  let c0_i32_5068 : BitVec 32 := 0#32
  let v10038 : BitVec 1 := Scalar.cmpi .sgt c2_i32_5065 c0_i32_5068
  let v10039 : BitVec 32 := Scalar.extui v10038
  let c0_i32_5069 : BitVec 32 := 0#32
  let v10040 : BitVec 1 := Scalar.cmpi .slt c2_i32_5065 c0_i32_5069
  let v10041 : BitVec 32 := Scalar.extui v10040
  let v10042 : BitVec 32 := Scalar.subi v10039 v10041
  let v10043 : BitVec 1 := Scalar.cmpi .ne v10037 v10042
  let v10044 : BitVec 32 := Scalar.remsi v10029 c2_i32_5065
  let c0_i32_5070 : BitVec 32 := 0#32
  let v10045 : BitVec 1 := Scalar.cmpi .ne v10044 c0_i32_5070
  let v10046 : BitVec 1 := Scalar.andi v10043 v10045
  let v10032 : BitVec 32 := Scalar.divsi v10029 c2_i32_5065
  let c1_i32_5071 : BitVec 32 := 1#32
  let v10047 : BitVec 32 := Scalar.subi v10032 c1_i32_5071
  let v10048 : BitVec 32 := Scalar.select v10046 v10047 v10032
  v10048
def k0_mult436 : BitVec 32 :=
  let c1536_i32_5060 : BitVec 32 := 1536#32
  let c256_i32_5059 : BitVec 32 := 256#32
  let c0_i32_5058 : BitVec 32 := 0#32
  let c_m64_i32_5057 : BitVec 32 := 4294967232#32
  let v10026 : BitVec 32 := Scalar.maxsi c0_i32_5058 c_m64_i32_5057
  let v10027 : BitVec 32 := Scalar.minsi c256_i32_5059 v10026
  let v10028 : BitVec 32 := Scalar.addi c1536_i32_5060 v10027
  let v10029 : BitVec 32 := v10028
  let c0_i32_5080 : BitVec 32 := 0#32
  let v10058 : BitVec 1 := Scalar.cmpi .sgt v10029 c0_i32_5080
  let v10059 : BitVec 32 := Scalar.extui v10058
  let c0_i32_5081 : BitVec 32 := 0#32
  let v10060 : BitVec 1 := Scalar.cmpi .slt v10029 c0_i32_5081
  let v10061 : BitVec 32 := Scalar.extui v10060
  let v10062 : BitVec 32 := Scalar.subi v10059 v10061
  let c2_i32_5079 : BitVec 32 := 2#32
  let c0_i32_5082 : BitVec 32 := 0#32
  let v10063 : BitVec 1 := Scalar.cmpi .sgt c2_i32_5079 c0_i32_5082
  let v10064 : BitVec 32 := Scalar.extui v10063
  let c0_i32_5083 : BitVec 32 := 0#32
  let v10065 : BitVec 1 := Scalar.cmpi .slt c2_i32_5079 c0_i32_5083
  let v10066 : BitVec 32 := Scalar.extui v10065
  let v10067 : BitVec 32 := Scalar.subi v10064 v10066
  let v10068 : BitVec 1 := Scalar.cmpi .ne v10062 v10067
  let v10069 : BitVec 32 := Scalar.remsi v10029 c2_i32_5079
  let c0_i32_5084 : BitVec 32 := 0#32
  let v10070 : BitVec 1 := Scalar.cmpi .ne v10069 c0_i32_5084
  let v10071 : BitVec 1 := Scalar.andi v10068 v10070
  let v10057 : BitVec 32 := Scalar.divsi v10029 c2_i32_5079
  let c1_i32_5085 : BitVec 32 := 1#32
  let v10072 : BitVec 32 := Scalar.subi v10057 c1_i32_5085
  let v10073 : BitVec 32 := Scalar.select v10071 v10072 v10057
  v10073
def k0_mult437 : BitVec 32 :=
  let c1664_i32_5099 : BitVec 32 := 1664#32
  c1664_i32_5099
def k0_mult438 : BitVec 32 :=
  let c1536_i32_5103 : BitVec 32 := 1536#32
  let c256_i32_5102 : BitVec 32 := 256#32
  let c0_i32_5101 : BitVec 32 := 0#32
  let c64_i32_5100 : BitVec 32 := 64#32
  let v10103 : BitVec 32 := Scalar.maxsi c0_i32_5101 c64_i32_5100
  let v10104 : BitVec 32 := Scalar.minsi c256_i32_5102 v10103
  let v10105 : BitVec 32 := Scalar.addi c1536_i32_5103 v10104
  v10105
def k0_mult439 : BitVec 32 :=
  let c1536_i32_5103 : BitVec 32 := 1536#32
  let c256_i32_5102 : BitVec 32 := 256#32
  let c0_i32_5101 : BitVec 32 := 0#32
  let c64_i32_5100 : BitVec 32 := 64#32
  let v10103 : BitVec 32 := Scalar.maxsi c0_i32_5101 c64_i32_5100
  let v10104 : BitVec 32 := Scalar.minsi c256_i32_5102 v10103
  let v10105 : BitVec 32 := Scalar.addi c1536_i32_5103 v10104
  let v10106 : BitVec 32 := v10105
  let c0_i32_5109 : BitVec 32 := 0#32
  let v10110 : BitVec 1 := Scalar.cmpi .sgt v10106 c0_i32_5109
  let v10111 : BitVec 32 := Scalar.extui v10110
  let c0_i32_5110 : BitVec 32 := 0#32
  let v10112 : BitVec 1 := Scalar.cmpi .slt v10106 c0_i32_5110
  let v10113 : BitVec 32 := Scalar.extui v10112
  let v10114 : BitVec 32 := Scalar.subi v10111 v10113
  let c2_i32_5108 : BitVec 32 := 2#32
  let c0_i32_5111 : BitVec 32 := 0#32
  let v10115 : BitVec 1 := Scalar.cmpi .sgt c2_i32_5108 c0_i32_5111
  let v10116 : BitVec 32 := Scalar.extui v10115
  let c0_i32_5112 : BitVec 32 := 0#32
  let v10117 : BitVec 1 := Scalar.cmpi .slt c2_i32_5108 c0_i32_5112
  let v10118 : BitVec 32 := Scalar.extui v10117
  let v10119 : BitVec 32 := Scalar.subi v10116 v10118
  let v10120 : BitVec 1 := Scalar.cmpi .ne v10114 v10119
  let v10121 : BitVec 32 := Scalar.remsi v10106 c2_i32_5108
  let c0_i32_5113 : BitVec 32 := 0#32
  let v10122 : BitVec 1 := Scalar.cmpi .ne v10121 c0_i32_5113
  let v10123 : BitVec 1 := Scalar.andi v10120 v10122
  let v10109 : BitVec 32 := Scalar.divsi v10106 c2_i32_5108
  let c1_i32_5114 : BitVec 32 := 1#32
  let v10124 : BitVec 32 := Scalar.subi v10109 c1_i32_5114
  let v10125 : BitVec 32 := Scalar.select v10123 v10124 v10109
  v10125
def k0_mult440 : BitVec 32 :=
  let c1536_i32_5103 : BitVec 32 := 1536#32
  let c256_i32_5102 : BitVec 32 := 256#32
  let c0_i32_5101 : BitVec 32 := 0#32
  let c64_i32_5100 : BitVec 32 := 64#32
  let v10103 : BitVec 32 := Scalar.maxsi c0_i32_5101 c64_i32_5100
  let v10104 : BitVec 32 := Scalar.minsi c256_i32_5102 v10103
  let v10105 : BitVec 32 := Scalar.addi c1536_i32_5103 v10104
  let v10106 : BitVec 32 := v10105
  let c0_i32_5123 : BitVec 32 := 0#32
  let v10135 : BitVec 1 := Scalar.cmpi .sgt v10106 c0_i32_5123
  let v10136 : BitVec 32 := Scalar.extui v10135
  let c0_i32_5124 : BitVec 32 := 0#32
  let v10137 : BitVec 1 := Scalar.cmpi .slt v10106 c0_i32_5124
  let v10138 : BitVec 32 := Scalar.extui v10137
  let v10139 : BitVec 32 := Scalar.subi v10136 v10138
  let c2_i32_5122 : BitVec 32 := 2#32
  let c0_i32_5125 : BitVec 32 := 0#32
  let v10140 : BitVec 1 := Scalar.cmpi .sgt c2_i32_5122 c0_i32_5125
  let v10141 : BitVec 32 := Scalar.extui v10140
  let c0_i32_5126 : BitVec 32 := 0#32
  let v10142 : BitVec 1 := Scalar.cmpi .slt c2_i32_5122 c0_i32_5126
  let v10143 : BitVec 32 := Scalar.extui v10142
  let v10144 : BitVec 32 := Scalar.subi v10141 v10143
  let v10145 : BitVec 1 := Scalar.cmpi .ne v10139 v10144
  let v10146 : BitVec 32 := Scalar.remsi v10106 c2_i32_5122
  let c0_i32_5127 : BitVec 32 := 0#32
  let v10147 : BitVec 1 := Scalar.cmpi .ne v10146 c0_i32_5127
  let v10148 : BitVec 1 := Scalar.andi v10145 v10147
  let v10134 : BitVec 32 := Scalar.divsi v10106 c2_i32_5122
  let c1_i32_5128 : BitVec 32 := 1#32
  let v10149 : BitVec 32 := Scalar.subi v10134 c1_i32_5128
  let v10150 : BitVec 32 := Scalar.select v10148 v10149 v10134
  v10150
def k0_mult441 : BitVec 32 :=
  let c1792_i32_5142 : BitVec 32 := 1792#32
  c1792_i32_5142
def k0_mult442 : BitVec 32 :=
  let c1536_i32_5146 : BitVec 32 := 1536#32
  let c256_i32_5145 : BitVec 32 := 256#32
  let c0_i32_5144 : BitVec 32 := 0#32
  let c192_i32_5143 : BitVec 32 := 192#32
  let v10180 : BitVec 32 := Scalar.maxsi c0_i32_5144 c192_i32_5143
  let v10181 : BitVec 32 := Scalar.minsi c256_i32_5145 v10180
  let v10182 : BitVec 32 := Scalar.addi c1536_i32_5146 v10181
  v10182
def k0_mult443 : BitVec 32 :=
  let c1536_i32_5146 : BitVec 32 := 1536#32
  let c256_i32_5145 : BitVec 32 := 256#32
  let c0_i32_5144 : BitVec 32 := 0#32
  let c192_i32_5143 : BitVec 32 := 192#32
  let v10180 : BitVec 32 := Scalar.maxsi c0_i32_5144 c192_i32_5143
  let v10181 : BitVec 32 := Scalar.minsi c256_i32_5145 v10180
  let v10182 : BitVec 32 := Scalar.addi c1536_i32_5146 v10181
  let v10183 : BitVec 32 := v10182
  let c0_i32_5152 : BitVec 32 := 0#32
  let v10187 : BitVec 1 := Scalar.cmpi .sgt v10183 c0_i32_5152
  let v10188 : BitVec 32 := Scalar.extui v10187
  let c0_i32_5153 : BitVec 32 := 0#32
  let v10189 : BitVec 1 := Scalar.cmpi .slt v10183 c0_i32_5153
  let v10190 : BitVec 32 := Scalar.extui v10189
  let v10191 : BitVec 32 := Scalar.subi v10188 v10190
  let c2_i32_5151 : BitVec 32 := 2#32
  let c0_i32_5154 : BitVec 32 := 0#32
  let v10192 : BitVec 1 := Scalar.cmpi .sgt c2_i32_5151 c0_i32_5154
  let v10193 : BitVec 32 := Scalar.extui v10192
  let c0_i32_5155 : BitVec 32 := 0#32
  let v10194 : BitVec 1 := Scalar.cmpi .slt c2_i32_5151 c0_i32_5155
  let v10195 : BitVec 32 := Scalar.extui v10194
  let v10196 : BitVec 32 := Scalar.subi v10193 v10195
  let v10197 : BitVec 1 := Scalar.cmpi .ne v10191 v10196
  let v10198 : BitVec 32 := Scalar.remsi v10183 c2_i32_5151
  let c0_i32_5156 : BitVec 32 := 0#32
  let v10199 : BitVec 1 := Scalar.cmpi .ne v10198 c0_i32_5156
  let v10200 : BitVec 1 := Scalar.andi v10197 v10199
  let v10186 : BitVec 32 := Scalar.divsi v10183 c2_i32_5151
  let c1_i32_5157 : BitVec 32 := 1#32
  let v10201 : BitVec 32 := Scalar.subi v10186 c1_i32_5157
  let v10202 : BitVec 32 := Scalar.select v10200 v10201 v10186
  v10202
def k0_mult444 : BitVec 32 :=
  let c1536_i32_5146 : BitVec 32 := 1536#32
  let c256_i32_5145 : BitVec 32 := 256#32
  let c0_i32_5144 : BitVec 32 := 0#32
  let c192_i32_5143 : BitVec 32 := 192#32
  let v10180 : BitVec 32 := Scalar.maxsi c0_i32_5144 c192_i32_5143
  let v10181 : BitVec 32 := Scalar.minsi c256_i32_5145 v10180
  let v10182 : BitVec 32 := Scalar.addi c1536_i32_5146 v10181
  let v10183 : BitVec 32 := v10182
  let c0_i32_5166 : BitVec 32 := 0#32
  let v10212 : BitVec 1 := Scalar.cmpi .sgt v10183 c0_i32_5166
  let v10213 : BitVec 32 := Scalar.extui v10212
  let c0_i32_5167 : BitVec 32 := 0#32
  let v10214 : BitVec 1 := Scalar.cmpi .slt v10183 c0_i32_5167
  let v10215 : BitVec 32 := Scalar.extui v10214
  let v10216 : BitVec 32 := Scalar.subi v10213 v10215
  let c2_i32_5165 : BitVec 32 := 2#32
  let c0_i32_5168 : BitVec 32 := 0#32
  let v10217 : BitVec 1 := Scalar.cmpi .sgt c2_i32_5165 c0_i32_5168
  let v10218 : BitVec 32 := Scalar.extui v10217
  let c0_i32_5169 : BitVec 32 := 0#32
  let v10219 : BitVec 1 := Scalar.cmpi .slt c2_i32_5165 c0_i32_5169
  let v10220 : BitVec 32 := Scalar.extui v10219
  let v10221 : BitVec 32 := Scalar.subi v10218 v10220
  let v10222 : BitVec 1 := Scalar.cmpi .ne v10216 v10221
  let v10223 : BitVec 32 := Scalar.remsi v10183 c2_i32_5165
  let c0_i32_5170 : BitVec 32 := 0#32
  let v10224 : BitVec 1 := Scalar.cmpi .ne v10223 c0_i32_5170
  let v10225 : BitVec 1 := Scalar.andi v10222 v10224
  let v10211 : BitVec 32 := Scalar.divsi v10183 c2_i32_5165
  let c1_i32_5171 : BitVec 32 := 1#32
  let v10226 : BitVec 32 := Scalar.subi v10211 c1_i32_5171
  let v10227 : BitVec 32 := Scalar.select v10225 v10226 v10211
  v10227
def k0_mult445 : BitVec 32 :=
  let c1920_i32_5185 : BitVec 32 := 1920#32
  c1920_i32_5185
def k0_mult446 : BitVec 32 :=
  let c1536_i32_5189 : BitVec 32 := 1536#32
  let c256_i32_5188 : BitVec 32 := 256#32
  let c0_i32_5187 : BitVec 32 := 0#32
  let c320_i32_5186 : BitVec 32 := 320#32
  let v10257 : BitVec 32 := Scalar.maxsi c0_i32_5187 c320_i32_5186
  let v10258 : BitVec 32 := Scalar.minsi c256_i32_5188 v10257
  let v10259 : BitVec 32 := Scalar.addi c1536_i32_5189 v10258
  v10259
def k0_mult447 : BitVec 32 :=
  let c1536_i32_5189 : BitVec 32 := 1536#32
  let c256_i32_5188 : BitVec 32 := 256#32
  let c0_i32_5187 : BitVec 32 := 0#32
  let c320_i32_5186 : BitVec 32 := 320#32
  let v10257 : BitVec 32 := Scalar.maxsi c0_i32_5187 c320_i32_5186
  let v10258 : BitVec 32 := Scalar.minsi c256_i32_5188 v10257
  let v10259 : BitVec 32 := Scalar.addi c1536_i32_5189 v10258
  let v10260 : BitVec 32 := v10259
  let c0_i32_5195 : BitVec 32 := 0#32
  let v10264 : BitVec 1 := Scalar.cmpi .sgt v10260 c0_i32_5195
  let v10265 : BitVec 32 := Scalar.extui v10264
  let c0_i32_5196 : BitVec 32 := 0#32
  let v10266 : BitVec 1 := Scalar.cmpi .slt v10260 c0_i32_5196
  let v10267 : BitVec 32 := Scalar.extui v10266
  let v10268 : BitVec 32 := Scalar.subi v10265 v10267
  let c2_i32_5194 : BitVec 32 := 2#32
  let c0_i32_5197 : BitVec 32 := 0#32
  let v10269 : BitVec 1 := Scalar.cmpi .sgt c2_i32_5194 c0_i32_5197
  let v10270 : BitVec 32 := Scalar.extui v10269
  let c0_i32_5198 : BitVec 32 := 0#32
  let v10271 : BitVec 1 := Scalar.cmpi .slt c2_i32_5194 c0_i32_5198
  let v10272 : BitVec 32 := Scalar.extui v10271
  let v10273 : BitVec 32 := Scalar.subi v10270 v10272
  let v10274 : BitVec 1 := Scalar.cmpi .ne v10268 v10273
  let v10275 : BitVec 32 := Scalar.remsi v10260 c2_i32_5194
  let c0_i32_5199 : BitVec 32 := 0#32
  let v10276 : BitVec 1 := Scalar.cmpi .ne v10275 c0_i32_5199
  let v10277 : BitVec 1 := Scalar.andi v10274 v10276
  let v10263 : BitVec 32 := Scalar.divsi v10260 c2_i32_5194
  let c1_i32_5200 : BitVec 32 := 1#32
  let v10278 : BitVec 32 := Scalar.subi v10263 c1_i32_5200
  let v10279 : BitVec 32 := Scalar.select v10277 v10278 v10263
  v10279
def k0_mult448 : BitVec 32 :=
  let c1536_i32_5189 : BitVec 32 := 1536#32
  let c256_i32_5188 : BitVec 32 := 256#32
  let c0_i32_5187 : BitVec 32 := 0#32
  let c320_i32_5186 : BitVec 32 := 320#32
  let v10257 : BitVec 32 := Scalar.maxsi c0_i32_5187 c320_i32_5186
  let v10258 : BitVec 32 := Scalar.minsi c256_i32_5188 v10257
  let v10259 : BitVec 32 := Scalar.addi c1536_i32_5189 v10258
  let v10260 : BitVec 32 := v10259
  let c0_i32_5209 : BitVec 32 := 0#32
  let v10289 : BitVec 1 := Scalar.cmpi .sgt v10260 c0_i32_5209
  let v10290 : BitVec 32 := Scalar.extui v10289
  let c0_i32_5210 : BitVec 32 := 0#32
  let v10291 : BitVec 1 := Scalar.cmpi .slt v10260 c0_i32_5210
  let v10292 : BitVec 32 := Scalar.extui v10291
  let v10293 : BitVec 32 := Scalar.subi v10290 v10292
  let c2_i32_5208 : BitVec 32 := 2#32
  let c0_i32_5211 : BitVec 32 := 0#32
  let v10294 : BitVec 1 := Scalar.cmpi .sgt c2_i32_5208 c0_i32_5211
  let v10295 : BitVec 32 := Scalar.extui v10294
  let c0_i32_5212 : BitVec 32 := 0#32
  let v10296 : BitVec 1 := Scalar.cmpi .slt c2_i32_5208 c0_i32_5212
  let v10297 : BitVec 32 := Scalar.extui v10296
  let v10298 : BitVec 32 := Scalar.subi v10295 v10297
  let v10299 : BitVec 1 := Scalar.cmpi .ne v10293 v10298
  let v10300 : BitVec 32 := Scalar.remsi v10260 c2_i32_5208
  let c0_i32_5213 : BitVec 32 := 0#32
  let v10301 : BitVec 1 := Scalar.cmpi .ne v10300 c0_i32_5213
  let v10302 : BitVec 1 := Scalar.andi v10299 v10301
  let v10288 : BitVec 32 := Scalar.divsi v10260 c2_i32_5208
  let c1_i32_5214 : BitVec 32 := 1#32
  let v10303 : BitVec 32 := Scalar.subi v10288 c1_i32_5214
  let v10304 : BitVec 32 := Scalar.select v10302 v10303 v10288
  v10304
def k0_mult449 : BitVec 32 :=
  let c0_i32_5228 : BitVec 32 := 0#32
  c0_i32_5228
def k0_mult450 : BitVec 32 :=
  let c0_i32_5232 : BitVec 32 := 0#32
  let c0_i32_5231 : BitVec 32 := 0#32
  let c0_i32_5230 : BitVec 32 := 0#32
  let c_m64_i32_5229 : BitVec 32 := 4294967232#32
  let v10334 : BitVec 32 := Scalar.maxsi c0_i32_5230 c_m64_i32_5229
  let v10335 : BitVec 32 := Scalar.minsi c0_i32_5231 v10334
  let v10336 : BitVec 32 := Scalar.addi c0_i32_5232 v10335
  v10336
def k0_off54 : Fin 3 → Nat :=
  let c0_i32_5233 : BitVec 32 := 0#32
  let c0_i32_5231 : BitVec 32 := 0#32
  let c0_i32_5230 : BitVec 32 := 0#32
  let c_m64_i32_5229 : BitVec 32 := 4294967232#32
  let v10334 : BitVec 32 := Scalar.maxsi c0_i32_5230 c_m64_i32_5229
  let v10335 : BitVec 32 := Scalar.minsi c0_i32_5231 v10334
  let v10338 : BitVec 32 := Scalar.subi c0_i32_5233 v10335
  let c0_i32_5235 : BitVec 32 := 0#32
  let v10340 : BitVec 1 := Scalar.cmpi .sgt v10338 c0_i32_5235
  let v10341 : BitVec 32 := Scalar.extui v10340
  let c0_i32_5236 : BitVec 32 := 0#32
  let v10342 : BitVec 1 := Scalar.cmpi .slt v10338 c0_i32_5236
  let v10343 : BitVec 32 := Scalar.extui v10342
  let v10344 : BitVec 32 := Scalar.subi v10341 v10343
  let c64_i32_5234 : BitVec 32 := 64#32
  let c0_i32_5237 : BitVec 32 := 0#32
  let v10345 : BitVec 1 := Scalar.cmpi .sgt c64_i32_5234 c0_i32_5237
  let v10346 : BitVec 32 := Scalar.extui v10345
  let c0_i32_5238 : BitVec 32 := 0#32
  let v10347 : BitVec 1 := Scalar.cmpi .slt c64_i32_5234 c0_i32_5238
  let v10348 : BitVec 32 := Scalar.extui v10347
  let v10349 : BitVec 32 := Scalar.subi v10346 v10348
  let v10350 : BitVec 1 := Scalar.cmpi .ne v10344 v10349
  let v10351 : BitVec 32 := Scalar.remsi v10338 c64_i32_5234
  let c0_i32_5239 : BitVec 32 := 0#32
  let v10352 : BitVec 1 := Scalar.cmpi .ne v10351 c0_i32_5239
  let v10353 : BitVec 1 := Scalar.andi v10350 v10352
  let v10339 : BitVec 32 := Scalar.divsi v10338 c64_i32_5234
  let c1_i32_5240 : BitVec 32 := 1#32
  let v10354 : BitVec 32 := Scalar.subi v10339 c1_i32_5240
  let v10355 : BitVec 32 := Scalar.select v10353 v10354 v10339
  let v10356 : Index := Scalar.indexCast v10355
  let c0_5241 : Index := 0#32
  let c0_5242 : Index := 0#32
  ![v10356.toNat, 0, 0]
def k0_mult451 : BitVec 32 :=
  let c0_i32_5228 : BitVec 32 := 0#32
  let v10333 : BitVec 32 := c0_i32_5228
  let c0_i32_5244 : BitVec 32 := 0#32
  let v10360 : BitVec 1 := Scalar.cmpi .sgt v10333 c0_i32_5244
  let v10361 : BitVec 32 := Scalar.extui v10360
  let c0_i32_5245 : BitVec 32 := 0#32
  let v10362 : BitVec 1 := Scalar.cmpi .slt v10333 c0_i32_5245
  let v10363 : BitVec 32 := Scalar.extui v10362
  let v10364 : BitVec 32 := Scalar.subi v10361 v10363
  let c2_i32_5243 : BitVec 32 := 2#32
  let c0_i32_5246 : BitVec 32 := 0#32
  let v10365 : BitVec 1 := Scalar.cmpi .sgt c2_i32_5243 c0_i32_5246
  let v10366 : BitVec 32 := Scalar.extui v10365
  let c0_i32_5247 : BitVec 32 := 0#32
  let v10367 : BitVec 1 := Scalar.cmpi .slt c2_i32_5243 c0_i32_5247
  let v10368 : BitVec 32 := Scalar.extui v10367
  let v10369 : BitVec 32 := Scalar.subi v10366 v10368
  let v10370 : BitVec 1 := Scalar.cmpi .ne v10364 v10369
  let v10371 : BitVec 32 := Scalar.remsi v10333 c2_i32_5243
  let c0_i32_5248 : BitVec 32 := 0#32
  let v10372 : BitVec 1 := Scalar.cmpi .ne v10371 c0_i32_5248
  let v10373 : BitVec 1 := Scalar.andi v10370 v10372
  let v10359 : BitVec 32 := Scalar.divsi v10333 c2_i32_5243
  let c1_i32_5249 : BitVec 32 := 1#32
  let v10374 : BitVec 32 := Scalar.subi v10359 c1_i32_5249
  let v10375 : BitVec 32 := Scalar.select v10373 v10374 v10359
  v10375
def k0_mult452 : BitVec 32 :=
  let c0_i32_5228 : BitVec 32 := 0#32
  let v10333 : BitVec 32 := c0_i32_5228
  let c0_i32_5253 : BitVec 32 := 0#32
  let v10382 : BitVec 1 := Scalar.cmpi .sgt v10333 c0_i32_5253
  let v10383 : BitVec 32 := Scalar.extui v10382
  let c0_i32_5254 : BitVec 32 := 0#32
  let v10384 : BitVec 1 := Scalar.cmpi .slt v10333 c0_i32_5254
  let v10385 : BitVec 32 := Scalar.extui v10384
  let v10386 : BitVec 32 := Scalar.subi v10383 v10385
  let c2_i32_5252 : BitVec 32 := 2#32
  let c0_i32_5255 : BitVec 32 := 0#32
  let v10387 : BitVec 1 := Scalar.cmpi .sgt c2_i32_5252 c0_i32_5255
  let v10388 : BitVec 32 := Scalar.extui v10387
  let c0_i32_5256 : BitVec 32 := 0#32
  let v10389 : BitVec 1 := Scalar.cmpi .slt c2_i32_5252 c0_i32_5256
  let v10390 : BitVec 32 := Scalar.extui v10389
  let v10391 : BitVec 32 := Scalar.subi v10388 v10390
  let v10392 : BitVec 1 := Scalar.cmpi .ne v10386 v10391
  let v10393 : BitVec 32 := Scalar.remsi v10333 c2_i32_5252
  let c0_i32_5257 : BitVec 32 := 0#32
  let v10394 : BitVec 1 := Scalar.cmpi .ne v10393 c0_i32_5257
  let v10395 : BitVec 1 := Scalar.andi v10392 v10394
  let v10381 : BitVec 32 := Scalar.divsi v10333 c2_i32_5252
  let c1_i32_5258 : BitVec 32 := 1#32
  let v10396 : BitVec 32 := Scalar.subi v10381 c1_i32_5258
  let v10397 : BitVec 32 := Scalar.select v10395 v10396 v10381
  v10397
def k0_mult453 : BitVec 32 :=
  let c0_i32_5232 : BitVec 32 := 0#32
  let c0_i32_5231 : BitVec 32 := 0#32
  let c0_i32_5230 : BitVec 32 := 0#32
  let c_m64_i32_5229 : BitVec 32 := 4294967232#32
  let v10334 : BitVec 32 := Scalar.maxsi c0_i32_5230 c_m64_i32_5229
  let v10335 : BitVec 32 := Scalar.minsi c0_i32_5231 v10334
  let v10336 : BitVec 32 := Scalar.addi c0_i32_5232 v10335
  let v10337 : BitVec 32 := v10336
  let c0_i32_5262 : BitVec 32 := 0#32
  let v10405 : BitVec 1 := Scalar.cmpi .sgt v10337 c0_i32_5262
  let v10406 : BitVec 32 := Scalar.extui v10405
  let c0_i32_5263 : BitVec 32 := 0#32
  let v10407 : BitVec 1 := Scalar.cmpi .slt v10337 c0_i32_5263
  let v10408 : BitVec 32 := Scalar.extui v10407
  let v10409 : BitVec 32 := Scalar.subi v10406 v10408
  let c2_i32_5261 : BitVec 32 := 2#32
  let c0_i32_5264 : BitVec 32 := 0#32
  let v10410 : BitVec 1 := Scalar.cmpi .sgt c2_i32_5261 c0_i32_5264
  let v10411 : BitVec 32 := Scalar.extui v10410
  let c0_i32_5265 : BitVec 32 := 0#32
  let v10412 : BitVec 1 := Scalar.cmpi .slt c2_i32_5261 c0_i32_5265
  let v10413 : BitVec 32 := Scalar.extui v10412
  let v10414 : BitVec 32 := Scalar.subi v10411 v10413
  let v10415 : BitVec 1 := Scalar.cmpi .ne v10409 v10414
  let v10416 : BitVec 32 := Scalar.remsi v10337 c2_i32_5261
  let c0_i32_5266 : BitVec 32 := 0#32
  let v10417 : BitVec 1 := Scalar.cmpi .ne v10416 c0_i32_5266
  let v10418 : BitVec 1 := Scalar.andi v10415 v10417
  let v10404 : BitVec 32 := Scalar.divsi v10337 c2_i32_5261
  let c1_i32_5267 : BitVec 32 := 1#32
  let v10419 : BitVec 32 := Scalar.subi v10404 c1_i32_5267
  let v10420 : BitVec 32 := Scalar.select v10418 v10419 v10404
  v10420
def k0_off55 (c0_i32_5232 : BitVec 32) : Fin 3 → Nat :=
  let c2_5268 : Index := 2#32
  let c0_i32_5231 : BitVec 32 := 0#32
  let c0_i32_5230 : BitVec 32 := 0#32
  let c_m64_i32_5229 : BitVec 32 := 4294967232#32
  let v10334 : BitVec 32 := Scalar.maxsi c0_i32_5230 c_m64_i32_5229
  let v10335 : BitVec 32 := Scalar.minsi c0_i32_5231 v10334
  let v10336 : BitVec 32 := Scalar.addi c0_i32_5232 v10335
  let v10337 : BitVec 32 := v10336
  let c0_i32_5262 : BitVec 32 := 0#32
  let v10405 : BitVec 1 := Scalar.cmpi .sgt v10337 c0_i32_5262
  let v10406 : BitVec 32 := Scalar.extui v10405
  let c0_i32_5263 : BitVec 32 := 0#32
  let v10407 : BitVec 1 := Scalar.cmpi .slt v10337 c0_i32_5263
  let v10408 : BitVec 32 := Scalar.extui v10407
  let v10409 : BitVec 32 := Scalar.subi v10406 v10408
  let c2_i32_5261 : BitVec 32 := 2#32
  let c0_i32_5264 : BitVec 32 := 0#32
  let v10410 : BitVec 1 := Scalar.cmpi .sgt c2_i32_5261 c0_i32_5264
  let v10411 : BitVec 32 := Scalar.extui v10410
  let c0_i32_5265 : BitVec 32 := 0#32
  let v10412 : BitVec 1 := Scalar.cmpi .slt c2_i32_5261 c0_i32_5265
  let v10413 : BitVec 32 := Scalar.extui v10412
  let v10414 : BitVec 32 := Scalar.subi v10411 v10413
  let v10415 : BitVec 1 := Scalar.cmpi .ne v10409 v10414
  let v10416 : BitVec 32 := Scalar.remsi v10337 c2_i32_5261
  let c0_i32_5266 : BitVec 32 := 0#32
  let v10417 : BitVec 1 := Scalar.cmpi .ne v10416 c0_i32_5266
  let v10418 : BitVec 1 := Scalar.andi v10415 v10417
  let v10404 : BitVec 32 := Scalar.divsi v10337 c2_i32_5261
  let c1_i32_5267 : BitVec 32 := 1#32
  let v10419 : BitVec 32 := Scalar.subi v10404 c1_i32_5267
  let v10420 : BitVec 32 := Scalar.select v10418 v10419 v10404
  let v10421 : BitVec 32 := v10420
  let v10422 : Index := Scalar.indexCast v10421
  let c0_5269 : Index := 0#32
  ![2, v10422.toNat, 0]
def k0_mult454 : BitVec 32 :=
  let c128_i32_5279 : BitVec 32 := 128#32
  c128_i32_5279
def k0_mult455 : BitVec 32 :=
  let c128_i32_5283 : BitVec 32 := 128#32
  let c0_i32_5282 : BitVec 32 := 0#32
  let c0_i32_5281 : BitVec 32 := 0#32
  let c_m64_i32_5280 : BitVec 32 := 4294967232#32
  let v10438 : BitVec 32 := Scalar.maxsi c0_i32_5281 c_m64_i32_5280
  let v10439 : BitVec 32 := Scalar.minsi c0_i32_5282 v10438
  let v10440 : BitVec 32 := Scalar.addi c128_i32_5283 v10439
  v10440
def k0_mult456 : BitVec 32 :=
  let c128_i32_5279 : BitVec 32 := 128#32
  let v10437 : BitVec 32 := c128_i32_5279
  let c0_i32_5295 : BitVec 32 := 0#32
  let v10464 : BitVec 1 := Scalar.cmpi .sgt v10437 c0_i32_5295
  let v10465 : BitVec 32 := Scalar.extui v10464
  let c0_i32_5296 : BitVec 32 := 0#32
  let v10466 : BitVec 1 := Scalar.cmpi .slt v10437 c0_i32_5296
  let v10467 : BitVec 32 := Scalar.extui v10466
  let v10468 : BitVec 32 := Scalar.subi v10465 v10467
  let c2_i32_5294 : BitVec 32 := 2#32
  let c0_i32_5297 : BitVec 32 := 0#32
  let v10469 : BitVec 1 := Scalar.cmpi .sgt c2_i32_5294 c0_i32_5297
  let v10470 : BitVec 32 := Scalar.extui v10469
  let c0_i32_5298 : BitVec 32 := 0#32
  let v10471 : BitVec 1 := Scalar.cmpi .slt c2_i32_5294 c0_i32_5298
  let v10472 : BitVec 32 := Scalar.extui v10471
  let v10473 : BitVec 32 := Scalar.subi v10470 v10472
  let v10474 : BitVec 1 := Scalar.cmpi .ne v10468 v10473
  let v10475 : BitVec 32 := Scalar.remsi v10437 c2_i32_5294
  let c0_i32_5299 : BitVec 32 := 0#32
  let v10476 : BitVec 1 := Scalar.cmpi .ne v10475 c0_i32_5299
  let v10477 : BitVec 1 := Scalar.andi v10474 v10476
  let v10463 : BitVec 32 := Scalar.divsi v10437 c2_i32_5294
  let c1_i32_5300 : BitVec 32 := 1#32
  let v10478 : BitVec 32 := Scalar.subi v10463 c1_i32_5300
  let v10479 : BitVec 32 := Scalar.select v10477 v10478 v10463
  v10479
def k0_mult457 : BitVec 32 :=
  let c128_i32_5279 : BitVec 32 := 128#32
  let v10437 : BitVec 32 := c128_i32_5279
  let c0_i32_5304 : BitVec 32 := 0#32
  let v10486 : BitVec 1 := Scalar.cmpi .sgt v10437 c0_i32_5304
  let v10487 : BitVec 32 := Scalar.extui v10486
  let c0_i32_5305 : BitVec 32 := 0#32
  let v10488 : BitVec 1 := Scalar.cmpi .slt v10437 c0_i32_5305
  let v10489 : BitVec 32 := Scalar.extui v10488
  let v10490 : BitVec 32 := Scalar.subi v10487 v10489
  let c2_i32_5303 : BitVec 32 := 2#32
  let c0_i32_5306 : BitVec 32 := 0#32
  let v10491 : BitVec 1 := Scalar.cmpi .sgt c2_i32_5303 c0_i32_5306
  let v10492 : BitVec 32 := Scalar.extui v10491
  let c0_i32_5307 : BitVec 32 := 0#32
  let v10493 : BitVec 1 := Scalar.cmpi .slt c2_i32_5303 c0_i32_5307
  let v10494 : BitVec 32 := Scalar.extui v10493
  let v10495 : BitVec 32 := Scalar.subi v10492 v10494
  let v10496 : BitVec 1 := Scalar.cmpi .ne v10490 v10495
  let v10497 : BitVec 32 := Scalar.remsi v10437 c2_i32_5303
  let c0_i32_5308 : BitVec 32 := 0#32
  let v10498 : BitVec 1 := Scalar.cmpi .ne v10497 c0_i32_5308
  let v10499 : BitVec 1 := Scalar.andi v10496 v10498
  let v10485 : BitVec 32 := Scalar.divsi v10437 c2_i32_5303
  let c1_i32_5309 : BitVec 32 := 1#32
  let v10500 : BitVec 32 := Scalar.subi v10485 c1_i32_5309
  let v10501 : BitVec 32 := Scalar.select v10499 v10500 v10485
  v10501
def k0_mult458 : BitVec 32 :=
  let c128_i32_5283 : BitVec 32 := 128#32
  let c0_i32_5282 : BitVec 32 := 0#32
  let c0_i32_5281 : BitVec 32 := 0#32
  let c_m64_i32_5280 : BitVec 32 := 4294967232#32
  let v10438 : BitVec 32 := Scalar.maxsi c0_i32_5281 c_m64_i32_5280
  let v10439 : BitVec 32 := Scalar.minsi c0_i32_5282 v10438
  let v10440 : BitVec 32 := Scalar.addi c128_i32_5283 v10439
  let v10441 : BitVec 32 := v10440
  let c0_i32_5313 : BitVec 32 := 0#32
  let v10509 : BitVec 1 := Scalar.cmpi .sgt v10441 c0_i32_5313
  let v10510 : BitVec 32 := Scalar.extui v10509
  let c0_i32_5314 : BitVec 32 := 0#32
  let v10511 : BitVec 1 := Scalar.cmpi .slt v10441 c0_i32_5314
  let v10512 : BitVec 32 := Scalar.extui v10511
  let v10513 : BitVec 32 := Scalar.subi v10510 v10512
  let c2_i32_5312 : BitVec 32 := 2#32
  let c0_i32_5315 : BitVec 32 := 0#32
  let v10514 : BitVec 1 := Scalar.cmpi .sgt c2_i32_5312 c0_i32_5315
  let v10515 : BitVec 32 := Scalar.extui v10514
  let c0_i32_5316 : BitVec 32 := 0#32
  let v10516 : BitVec 1 := Scalar.cmpi .slt c2_i32_5312 c0_i32_5316
  let v10517 : BitVec 32 := Scalar.extui v10516
  let v10518 : BitVec 32 := Scalar.subi v10515 v10517
  let v10519 : BitVec 1 := Scalar.cmpi .ne v10513 v10518
  let v10520 : BitVec 32 := Scalar.remsi v10441 c2_i32_5312
  let c0_i32_5317 : BitVec 32 := 0#32
  let v10521 : BitVec 1 := Scalar.cmpi .ne v10520 c0_i32_5317
  let v10522 : BitVec 1 := Scalar.andi v10519 v10521
  let v10508 : BitVec 32 := Scalar.divsi v10441 c2_i32_5312
  let c1_i32_5318 : BitVec 32 := 1#32
  let v10523 : BitVec 32 := Scalar.subi v10508 c1_i32_5318
  let v10524 : BitVec 32 := Scalar.select v10522 v10523 v10508
  v10524
def k0_mult459 : BitVec 32 :=
  let c256_i32_5330 : BitVec 32 := 256#32
  c256_i32_5330
def k0_mult460 : BitVec 32 :=
  let c256_i32_5334 : BitVec 32 := 256#32
  let c0_i32_5333 : BitVec 32 := 0#32
  let c0_i32_5332 : BitVec 32 := 0#32
  let c_m64_i32_5331 : BitVec 32 := 4294967232#32
  let v10542 : BitVec 32 := Scalar.maxsi c0_i32_5332 c_m64_i32_5331
  let v10543 : BitVec 32 := Scalar.minsi c0_i32_5333 v10542
  let v10544 : BitVec 32 := Scalar.addi c256_i32_5334 v10543
  v10544
def k0_mult461 : BitVec 32 :=
  let c256_i32_5330 : BitVec 32 := 256#32
  let v10541 : BitVec 32 := c256_i32_5330
  let c0_i32_5346 : BitVec 32 := 0#32
  let v10568 : BitVec 1 := Scalar.cmpi .sgt v10541 c0_i32_5346
  let v10569 : BitVec 32 := Scalar.extui v10568
  let c0_i32_5347 : BitVec 32 := 0#32
  let v10570 : BitVec 1 := Scalar.cmpi .slt v10541 c0_i32_5347
  let v10571 : BitVec 32 := Scalar.extui v10570
  let v10572 : BitVec 32 := Scalar.subi v10569 v10571
  let c2_i32_5345 : BitVec 32 := 2#32
  let c0_i32_5348 : BitVec 32 := 0#32
  let v10573 : BitVec 1 := Scalar.cmpi .sgt c2_i32_5345 c0_i32_5348
  let v10574 : BitVec 32 := Scalar.extui v10573
  let c0_i32_5349 : BitVec 32 := 0#32
  let v10575 : BitVec 1 := Scalar.cmpi .slt c2_i32_5345 c0_i32_5349
  let v10576 : BitVec 32 := Scalar.extui v10575
  let v10577 : BitVec 32 := Scalar.subi v10574 v10576
  let v10578 : BitVec 1 := Scalar.cmpi .ne v10572 v10577
  let v10579 : BitVec 32 := Scalar.remsi v10541 c2_i32_5345
  let c0_i32_5350 : BitVec 32 := 0#32
  let v10580 : BitVec 1 := Scalar.cmpi .ne v10579 c0_i32_5350
  let v10581 : BitVec 1 := Scalar.andi v10578 v10580
  let v10567 : BitVec 32 := Scalar.divsi v10541 c2_i32_5345
  let c1_i32_5351 : BitVec 32 := 1#32
  let v10582 : BitVec 32 := Scalar.subi v10567 c1_i32_5351
  let v10583 : BitVec 32 := Scalar.select v10581 v10582 v10567
  v10583
def k0_mult462 : BitVec 32 :=
  let c256_i32_5330 : BitVec 32 := 256#32
  let v10541 : BitVec 32 := c256_i32_5330
  let c0_i32_5355 : BitVec 32 := 0#32
  let v10590 : BitVec 1 := Scalar.cmpi .sgt v10541 c0_i32_5355
  let v10591 : BitVec 32 := Scalar.extui v10590
  let c0_i32_5356 : BitVec 32 := 0#32
  let v10592 : BitVec 1 := Scalar.cmpi .slt v10541 c0_i32_5356
  let v10593 : BitVec 32 := Scalar.extui v10592
  let v10594 : BitVec 32 := Scalar.subi v10591 v10593
  let c2_i32_5354 : BitVec 32 := 2#32
  let c0_i32_5357 : BitVec 32 := 0#32
  let v10595 : BitVec 1 := Scalar.cmpi .sgt c2_i32_5354 c0_i32_5357
  let v10596 : BitVec 32 := Scalar.extui v10595
  let c0_i32_5358 : BitVec 32 := 0#32
  let v10597 : BitVec 1 := Scalar.cmpi .slt c2_i32_5354 c0_i32_5358
  let v10598 : BitVec 32 := Scalar.extui v10597
  let v10599 : BitVec 32 := Scalar.subi v10596 v10598
  let v10600 : BitVec 1 := Scalar.cmpi .ne v10594 v10599
  let v10601 : BitVec 32 := Scalar.remsi v10541 c2_i32_5354
  let c0_i32_5359 : BitVec 32 := 0#32
  let v10602 : BitVec 1 := Scalar.cmpi .ne v10601 c0_i32_5359
  let v10603 : BitVec 1 := Scalar.andi v10600 v10602
  let v10589 : BitVec 32 := Scalar.divsi v10541 c2_i32_5354
  let c1_i32_5360 : BitVec 32 := 1#32
  let v10604 : BitVec 32 := Scalar.subi v10589 c1_i32_5360
  let v10605 : BitVec 32 := Scalar.select v10603 v10604 v10589
  v10605
def k0_mult463 : BitVec 32 :=
  let c256_i32_5334 : BitVec 32 := 256#32
  let c0_i32_5333 : BitVec 32 := 0#32
  let c0_i32_5332 : BitVec 32 := 0#32
  let c_m64_i32_5331 : BitVec 32 := 4294967232#32
  let v10542 : BitVec 32 := Scalar.maxsi c0_i32_5332 c_m64_i32_5331
  let v10543 : BitVec 32 := Scalar.minsi c0_i32_5333 v10542
  let v10544 : BitVec 32 := Scalar.addi c256_i32_5334 v10543
  let v10545 : BitVec 32 := v10544
  let c0_i32_5364 : BitVec 32 := 0#32
  let v10613 : BitVec 1 := Scalar.cmpi .sgt v10545 c0_i32_5364
  let v10614 : BitVec 32 := Scalar.extui v10613
  let c0_i32_5365 : BitVec 32 := 0#32
  let v10615 : BitVec 1 := Scalar.cmpi .slt v10545 c0_i32_5365
  let v10616 : BitVec 32 := Scalar.extui v10615
  let v10617 : BitVec 32 := Scalar.subi v10614 v10616
  let c2_i32_5363 : BitVec 32 := 2#32
  let c0_i32_5366 : BitVec 32 := 0#32
  let v10618 : BitVec 1 := Scalar.cmpi .sgt c2_i32_5363 c0_i32_5366
  let v10619 : BitVec 32 := Scalar.extui v10618
  let c0_i32_5367 : BitVec 32 := 0#32
  let v10620 : BitVec 1 := Scalar.cmpi .slt c2_i32_5363 c0_i32_5367
  let v10621 : BitVec 32 := Scalar.extui v10620
  let v10622 : BitVec 32 := Scalar.subi v10619 v10621
  let v10623 : BitVec 1 := Scalar.cmpi .ne v10617 v10622
  let v10624 : BitVec 32 := Scalar.remsi v10545 c2_i32_5363
  let c0_i32_5368 : BitVec 32 := 0#32
  let v10625 : BitVec 1 := Scalar.cmpi .ne v10624 c0_i32_5368
  let v10626 : BitVec 1 := Scalar.andi v10623 v10625
  let v10612 : BitVec 32 := Scalar.divsi v10545 c2_i32_5363
  let c1_i32_5369 : BitVec 32 := 1#32
  let v10627 : BitVec 32 := Scalar.subi v10612 c1_i32_5369
  let v10628 : BitVec 32 := Scalar.select v10626 v10627 v10612
  v10628
def k0_mult464 : BitVec 32 :=
  let c384_i32_5381 : BitVec 32 := 384#32
  c384_i32_5381
def k0_mult465 : BitVec 32 :=
  let c384_i32_5385 : BitVec 32 := 384#32
  let c0_i32_5384 : BitVec 32 := 0#32
  let c0_i32_5383 : BitVec 32 := 0#32
  let c_m64_i32_5382 : BitVec 32 := 4294967232#32
  let v10646 : BitVec 32 := Scalar.maxsi c0_i32_5383 c_m64_i32_5382
  let v10647 : BitVec 32 := Scalar.minsi c0_i32_5384 v10646
  let v10648 : BitVec 32 := Scalar.addi c384_i32_5385 v10647
  v10648
def k0_mult466 : BitVec 32 :=
  let c384_i32_5381 : BitVec 32 := 384#32
  let v10645 : BitVec 32 := c384_i32_5381
  let c0_i32_5397 : BitVec 32 := 0#32
  let v10672 : BitVec 1 := Scalar.cmpi .sgt v10645 c0_i32_5397
  let v10673 : BitVec 32 := Scalar.extui v10672
  let c0_i32_5398 : BitVec 32 := 0#32
  let v10674 : BitVec 1 := Scalar.cmpi .slt v10645 c0_i32_5398
  let v10675 : BitVec 32 := Scalar.extui v10674
  let v10676 : BitVec 32 := Scalar.subi v10673 v10675
  let c2_i32_5396 : BitVec 32 := 2#32
  let c0_i32_5399 : BitVec 32 := 0#32
  let v10677 : BitVec 1 := Scalar.cmpi .sgt c2_i32_5396 c0_i32_5399
  let v10678 : BitVec 32 := Scalar.extui v10677
  let c0_i32_5400 : BitVec 32 := 0#32
  let v10679 : BitVec 1 := Scalar.cmpi .slt c2_i32_5396 c0_i32_5400
  let v10680 : BitVec 32 := Scalar.extui v10679
  let v10681 : BitVec 32 := Scalar.subi v10678 v10680
  let v10682 : BitVec 1 := Scalar.cmpi .ne v10676 v10681
  let v10683 : BitVec 32 := Scalar.remsi v10645 c2_i32_5396
  let c0_i32_5401 : BitVec 32 := 0#32
  let v10684 : BitVec 1 := Scalar.cmpi .ne v10683 c0_i32_5401
  let v10685 : BitVec 1 := Scalar.andi v10682 v10684
  let v10671 : BitVec 32 := Scalar.divsi v10645 c2_i32_5396
  let c1_i32_5402 : BitVec 32 := 1#32
  let v10686 : BitVec 32 := Scalar.subi v10671 c1_i32_5402
  let v10687 : BitVec 32 := Scalar.select v10685 v10686 v10671
  v10687
def k0_mult467 : BitVec 32 :=
  let c384_i32_5381 : BitVec 32 := 384#32
  let v10645 : BitVec 32 := c384_i32_5381
  let c0_i32_5406 : BitVec 32 := 0#32
  let v10694 : BitVec 1 := Scalar.cmpi .sgt v10645 c0_i32_5406
  let v10695 : BitVec 32 := Scalar.extui v10694
  let c0_i32_5407 : BitVec 32 := 0#32
  let v10696 : BitVec 1 := Scalar.cmpi .slt v10645 c0_i32_5407
  let v10697 : BitVec 32 := Scalar.extui v10696
  let v10698 : BitVec 32 := Scalar.subi v10695 v10697
  let c2_i32_5405 : BitVec 32 := 2#32
  let c0_i32_5408 : BitVec 32 := 0#32
  let v10699 : BitVec 1 := Scalar.cmpi .sgt c2_i32_5405 c0_i32_5408
  let v10700 : BitVec 32 := Scalar.extui v10699
  let c0_i32_5409 : BitVec 32 := 0#32
  let v10701 : BitVec 1 := Scalar.cmpi .slt c2_i32_5405 c0_i32_5409
  let v10702 : BitVec 32 := Scalar.extui v10701
  let v10703 : BitVec 32 := Scalar.subi v10700 v10702
  let v10704 : BitVec 1 := Scalar.cmpi .ne v10698 v10703
  let v10705 : BitVec 32 := Scalar.remsi v10645 c2_i32_5405
  let c0_i32_5410 : BitVec 32 := 0#32
  let v10706 : BitVec 1 := Scalar.cmpi .ne v10705 c0_i32_5410
  let v10707 : BitVec 1 := Scalar.andi v10704 v10706
  let v10693 : BitVec 32 := Scalar.divsi v10645 c2_i32_5405
  let c1_i32_5411 : BitVec 32 := 1#32
  let v10708 : BitVec 32 := Scalar.subi v10693 c1_i32_5411
  let v10709 : BitVec 32 := Scalar.select v10707 v10708 v10693
  v10709
def k0_mult468 : BitVec 32 :=
  let c384_i32_5385 : BitVec 32 := 384#32
  let c0_i32_5384 : BitVec 32 := 0#32
  let c0_i32_5383 : BitVec 32 := 0#32
  let c_m64_i32_5382 : BitVec 32 := 4294967232#32
  let v10646 : BitVec 32 := Scalar.maxsi c0_i32_5383 c_m64_i32_5382
  let v10647 : BitVec 32 := Scalar.minsi c0_i32_5384 v10646
  let v10648 : BitVec 32 := Scalar.addi c384_i32_5385 v10647
  let v10649 : BitVec 32 := v10648
  let c0_i32_5415 : BitVec 32 := 0#32
  let v10717 : BitVec 1 := Scalar.cmpi .sgt v10649 c0_i32_5415
  let v10718 : BitVec 32 := Scalar.extui v10717
  let c0_i32_5416 : BitVec 32 := 0#32
  let v10719 : BitVec 1 := Scalar.cmpi .slt v10649 c0_i32_5416
  let v10720 : BitVec 32 := Scalar.extui v10719
  let v10721 : BitVec 32 := Scalar.subi v10718 v10720
  let c2_i32_5414 : BitVec 32 := 2#32
  let c0_i32_5417 : BitVec 32 := 0#32
  let v10722 : BitVec 1 := Scalar.cmpi .sgt c2_i32_5414 c0_i32_5417
  let v10723 : BitVec 32 := Scalar.extui v10722
  let c0_i32_5418 : BitVec 32 := 0#32
  let v10724 : BitVec 1 := Scalar.cmpi .slt c2_i32_5414 c0_i32_5418
  let v10725 : BitVec 32 := Scalar.extui v10724
  let v10726 : BitVec 32 := Scalar.subi v10723 v10725
  let v10727 : BitVec 1 := Scalar.cmpi .ne v10721 v10726
  let v10728 : BitVec 32 := Scalar.remsi v10649 c2_i32_5414
  let c0_i32_5419 : BitVec 32 := 0#32
  let v10729 : BitVec 1 := Scalar.cmpi .ne v10728 c0_i32_5419
  let v10730 : BitVec 1 := Scalar.andi v10727 v10729
  let v10716 : BitVec 32 := Scalar.divsi v10649 c2_i32_5414
  let c1_i32_5420 : BitVec 32 := 1#32
  let v10731 : BitVec 32 := Scalar.subi v10716 c1_i32_5420
  let v10732 : BitVec 32 := Scalar.select v10730 v10731 v10716
  v10732
def k0_mult469 : BitVec 32 :=
  let c512_i32_5520 : BitVec 32 := 512#32
  c512_i32_5520
def k0_mult470 : BitVec 32 :=
  let c512_i32_5524 : BitVec 32 := 512#32
  let c0_i32_5523 : BitVec 32 := 0#32
  let c0_i32_5522 : BitVec 32 := 0#32
  let c_m64_i32_5521 : BitVec 32 := 4294967232#32
  let v10878 : BitVec 32 := Scalar.maxsi c0_i32_5522 c_m64_i32_5521
  let v10879 : BitVec 32 := Scalar.minsi c0_i32_5523 v10878
  let v10880 : BitVec 32 := Scalar.addi c512_i32_5524 v10879
  v10880
def k0_mult471 : BitVec 32 :=
  let c512_i32_5520 : BitVec 32 := 512#32
  let v10877 : BitVec 32 := c512_i32_5520
  let c0_i32_5536 : BitVec 32 := 0#32
  let v10904 : BitVec 1 := Scalar.cmpi .sgt v10877 c0_i32_5536
  let v10905 : BitVec 32 := Scalar.extui v10904
  let c0_i32_5537 : BitVec 32 := 0#32
  let v10906 : BitVec 1 := Scalar.cmpi .slt v10877 c0_i32_5537
  let v10907 : BitVec 32 := Scalar.extui v10906
  let v10908 : BitVec 32 := Scalar.subi v10905 v10907
  let c2_i32_5535 : BitVec 32 := 2#32
  let c0_i32_5538 : BitVec 32 := 0#32
  let v10909 : BitVec 1 := Scalar.cmpi .sgt c2_i32_5535 c0_i32_5538
  let v10910 : BitVec 32 := Scalar.extui v10909
  let c0_i32_5539 : BitVec 32 := 0#32
  let v10911 : BitVec 1 := Scalar.cmpi .slt c2_i32_5535 c0_i32_5539
  let v10912 : BitVec 32 := Scalar.extui v10911
  let v10913 : BitVec 32 := Scalar.subi v10910 v10912
  let v10914 : BitVec 1 := Scalar.cmpi .ne v10908 v10913
  let v10915 : BitVec 32 := Scalar.remsi v10877 c2_i32_5535
  let c0_i32_5540 : BitVec 32 := 0#32
  let v10916 : BitVec 1 := Scalar.cmpi .ne v10915 c0_i32_5540
  let v10917 : BitVec 1 := Scalar.andi v10914 v10916
  let v10903 : BitVec 32 := Scalar.divsi v10877 c2_i32_5535
  let c1_i32_5541 : BitVec 32 := 1#32
  let v10918 : BitVec 32 := Scalar.subi v10903 c1_i32_5541
  let v10919 : BitVec 32 := Scalar.select v10917 v10918 v10903
  v10919
def k0_mult472 : BitVec 32 :=
  let c512_i32_5520 : BitVec 32 := 512#32
  let v10877 : BitVec 32 := c512_i32_5520
  let c0_i32_5545 : BitVec 32 := 0#32
  let v10926 : BitVec 1 := Scalar.cmpi .sgt v10877 c0_i32_5545
  let v10927 : BitVec 32 := Scalar.extui v10926
  let c0_i32_5546 : BitVec 32 := 0#32
  let v10928 : BitVec 1 := Scalar.cmpi .slt v10877 c0_i32_5546
  let v10929 : BitVec 32 := Scalar.extui v10928
  let v10930 : BitVec 32 := Scalar.subi v10927 v10929
  let c2_i32_5544 : BitVec 32 := 2#32
  let c0_i32_5547 : BitVec 32 := 0#32
  let v10931 : BitVec 1 := Scalar.cmpi .sgt c2_i32_5544 c0_i32_5547
  let v10932 : BitVec 32 := Scalar.extui v10931
  let c0_i32_5548 : BitVec 32 := 0#32
  let v10933 : BitVec 1 := Scalar.cmpi .slt c2_i32_5544 c0_i32_5548
  let v10934 : BitVec 32 := Scalar.extui v10933
  let v10935 : BitVec 32 := Scalar.subi v10932 v10934
  let v10936 : BitVec 1 := Scalar.cmpi .ne v10930 v10935
  let v10937 : BitVec 32 := Scalar.remsi v10877 c2_i32_5544
  let c0_i32_5549 : BitVec 32 := 0#32
  let v10938 : BitVec 1 := Scalar.cmpi .ne v10937 c0_i32_5549
  let v10939 : BitVec 1 := Scalar.andi v10936 v10938
  let v10925 : BitVec 32 := Scalar.divsi v10877 c2_i32_5544
  let c1_i32_5550 : BitVec 32 := 1#32
  let v10940 : BitVec 32 := Scalar.subi v10925 c1_i32_5550
  let v10941 : BitVec 32 := Scalar.select v10939 v10940 v10925
  v10941
def k0_mult473 : BitVec 32 :=
  let c512_i32_5524 : BitVec 32 := 512#32
  let c0_i32_5523 : BitVec 32 := 0#32
  let c0_i32_5522 : BitVec 32 := 0#32
  let c_m64_i32_5521 : BitVec 32 := 4294967232#32
  let v10878 : BitVec 32 := Scalar.maxsi c0_i32_5522 c_m64_i32_5521
  let v10879 : BitVec 32 := Scalar.minsi c0_i32_5523 v10878
  let v10880 : BitVec 32 := Scalar.addi c512_i32_5524 v10879
  let v10881 : BitVec 32 := v10880
  let c0_i32_5554 : BitVec 32 := 0#32
  let v10949 : BitVec 1 := Scalar.cmpi .sgt v10881 c0_i32_5554
  let v10950 : BitVec 32 := Scalar.extui v10949
  let c0_i32_5555 : BitVec 32 := 0#32
  let v10951 : BitVec 1 := Scalar.cmpi .slt v10881 c0_i32_5555
  let v10952 : BitVec 32 := Scalar.extui v10951
  let v10953 : BitVec 32 := Scalar.subi v10950 v10952
  let c2_i32_5553 : BitVec 32 := 2#32
  let c0_i32_5556 : BitVec 32 := 0#32
  let v10954 : BitVec 1 := Scalar.cmpi .sgt c2_i32_5553 c0_i32_5556
  let v10955 : BitVec 32 := Scalar.extui v10954
  let c0_i32_5557 : BitVec 32 := 0#32
  let v10956 : BitVec 1 := Scalar.cmpi .slt c2_i32_5553 c0_i32_5557
  let v10957 : BitVec 32 := Scalar.extui v10956
  let v10958 : BitVec 32 := Scalar.subi v10955 v10957
  let v10959 : BitVec 1 := Scalar.cmpi .ne v10953 v10958
  let v10960 : BitVec 32 := Scalar.remsi v10881 c2_i32_5553
  let c0_i32_5558 : BitVec 32 := 0#32
  let v10961 : BitVec 1 := Scalar.cmpi .ne v10960 c0_i32_5558
  let v10962 : BitVec 1 := Scalar.andi v10959 v10961
  let v10948 : BitVec 32 := Scalar.divsi v10881 c2_i32_5553
  let c1_i32_5559 : BitVec 32 := 1#32
  let v10963 : BitVec 32 := Scalar.subi v10948 c1_i32_5559
  let v10964 : BitVec 32 := Scalar.select v10962 v10963 v10948
  v10964
def k0_mult474 : BitVec 32 :=
  let c640_i32_5571 : BitVec 32 := 640#32
  c640_i32_5571
def k0_mult475 : BitVec 32 :=
  let c640_i32_5575 : BitVec 32 := 640#32
  let c0_i32_5574 : BitVec 32 := 0#32
  let c0_i32_5573 : BitVec 32 := 0#32
  let c_m64_i32_5572 : BitVec 32 := 4294967232#32
  let v10982 : BitVec 32 := Scalar.maxsi c0_i32_5573 c_m64_i32_5572
  let v10983 : BitVec 32 := Scalar.minsi c0_i32_5574 v10982
  let v10984 : BitVec 32 := Scalar.addi c640_i32_5575 v10983
  v10984
def k0_mult476 : BitVec 32 :=
  let c640_i32_5571 : BitVec 32 := 640#32
  let v10981 : BitVec 32 := c640_i32_5571
  let c0_i32_5587 : BitVec 32 := 0#32
  let v11008 : BitVec 1 := Scalar.cmpi .sgt v10981 c0_i32_5587
  let v11009 : BitVec 32 := Scalar.extui v11008
  let c0_i32_5588 : BitVec 32 := 0#32
  let v11010 : BitVec 1 := Scalar.cmpi .slt v10981 c0_i32_5588
  let v11011 : BitVec 32 := Scalar.extui v11010
  let v11012 : BitVec 32 := Scalar.subi v11009 v11011
  let c2_i32_5586 : BitVec 32 := 2#32
  let c0_i32_5589 : BitVec 32 := 0#32
  let v11013 : BitVec 1 := Scalar.cmpi .sgt c2_i32_5586 c0_i32_5589
  let v11014 : BitVec 32 := Scalar.extui v11013
  let c0_i32_5590 : BitVec 32 := 0#32
  let v11015 : BitVec 1 := Scalar.cmpi .slt c2_i32_5586 c0_i32_5590
  let v11016 : BitVec 32 := Scalar.extui v11015
  let v11017 : BitVec 32 := Scalar.subi v11014 v11016
  let v11018 : BitVec 1 := Scalar.cmpi .ne v11012 v11017
  let v11019 : BitVec 32 := Scalar.remsi v10981 c2_i32_5586
  let c0_i32_5591 : BitVec 32 := 0#32
  let v11020 : BitVec 1 := Scalar.cmpi .ne v11019 c0_i32_5591
  let v11021 : BitVec 1 := Scalar.andi v11018 v11020
  let v11007 : BitVec 32 := Scalar.divsi v10981 c2_i32_5586
  let c1_i32_5592 : BitVec 32 := 1#32
  let v11022 : BitVec 32 := Scalar.subi v11007 c1_i32_5592
  let v11023 : BitVec 32 := Scalar.select v11021 v11022 v11007
  v11023
def k0_mult477 : BitVec 32 :=
  let c640_i32_5571 : BitVec 32 := 640#32
  let v10981 : BitVec 32 := c640_i32_5571
  let c0_i32_5596 : BitVec 32 := 0#32
  let v11030 : BitVec 1 := Scalar.cmpi .sgt v10981 c0_i32_5596
  let v11031 : BitVec 32 := Scalar.extui v11030
  let c0_i32_5597 : BitVec 32 := 0#32
  let v11032 : BitVec 1 := Scalar.cmpi .slt v10981 c0_i32_5597
  let v11033 : BitVec 32 := Scalar.extui v11032
  let v11034 : BitVec 32 := Scalar.subi v11031 v11033
  let c2_i32_5595 : BitVec 32 := 2#32
  let c0_i32_5598 : BitVec 32 := 0#32
  let v11035 : BitVec 1 := Scalar.cmpi .sgt c2_i32_5595 c0_i32_5598
  let v11036 : BitVec 32 := Scalar.extui v11035
  let c0_i32_5599 : BitVec 32 := 0#32
  let v11037 : BitVec 1 := Scalar.cmpi .slt c2_i32_5595 c0_i32_5599
  let v11038 : BitVec 32 := Scalar.extui v11037
  let v11039 : BitVec 32 := Scalar.subi v11036 v11038
  let v11040 : BitVec 1 := Scalar.cmpi .ne v11034 v11039
  let v11041 : BitVec 32 := Scalar.remsi v10981 c2_i32_5595
  let c0_i32_5600 : BitVec 32 := 0#32
  let v11042 : BitVec 1 := Scalar.cmpi .ne v11041 c0_i32_5600
  let v11043 : BitVec 1 := Scalar.andi v11040 v11042
  let v11029 : BitVec 32 := Scalar.divsi v10981 c2_i32_5595
  let c1_i32_5601 : BitVec 32 := 1#32
  let v11044 : BitVec 32 := Scalar.subi v11029 c1_i32_5601
  let v11045 : BitVec 32 := Scalar.select v11043 v11044 v11029
  v11045
def k0_mult478 : BitVec 32 :=
  let c640_i32_5575 : BitVec 32 := 640#32
  let c0_i32_5574 : BitVec 32 := 0#32
  let c0_i32_5573 : BitVec 32 := 0#32
  let c_m64_i32_5572 : BitVec 32 := 4294967232#32
  let v10982 : BitVec 32 := Scalar.maxsi c0_i32_5573 c_m64_i32_5572
  let v10983 : BitVec 32 := Scalar.minsi c0_i32_5574 v10982
  let v10984 : BitVec 32 := Scalar.addi c640_i32_5575 v10983
  let v10985 : BitVec 32 := v10984
  let c0_i32_5605 : BitVec 32 := 0#32
  let v11053 : BitVec 1 := Scalar.cmpi .sgt v10985 c0_i32_5605
  let v11054 : BitVec 32 := Scalar.extui v11053
  let c0_i32_5606 : BitVec 32 := 0#32
  let v11055 : BitVec 1 := Scalar.cmpi .slt v10985 c0_i32_5606
  let v11056 : BitVec 32 := Scalar.extui v11055
  let v11057 : BitVec 32 := Scalar.subi v11054 v11056
  let c2_i32_5604 : BitVec 32 := 2#32
  let c0_i32_5607 : BitVec 32 := 0#32
  let v11058 : BitVec 1 := Scalar.cmpi .sgt c2_i32_5604 c0_i32_5607
  let v11059 : BitVec 32 := Scalar.extui v11058
  let c0_i32_5608 : BitVec 32 := 0#32
  let v11060 : BitVec 1 := Scalar.cmpi .slt c2_i32_5604 c0_i32_5608
  let v11061 : BitVec 32 := Scalar.extui v11060
  let v11062 : BitVec 32 := Scalar.subi v11059 v11061
  let v11063 : BitVec 1 := Scalar.cmpi .ne v11057 v11062
  let v11064 : BitVec 32 := Scalar.remsi v10985 c2_i32_5604
  let c0_i32_5609 : BitVec 32 := 0#32
  let v11065 : BitVec 1 := Scalar.cmpi .ne v11064 c0_i32_5609
  let v11066 : BitVec 1 := Scalar.andi v11063 v11065
  let v11052 : BitVec 32 := Scalar.divsi v10985 c2_i32_5604
  let c1_i32_5610 : BitVec 32 := 1#32
  let v11067 : BitVec 32 := Scalar.subi v11052 c1_i32_5610
  let v11068 : BitVec 32 := Scalar.select v11066 v11067 v11052
  v11068
def k0_mult479 : BitVec 32 :=
  let c768_i32_5622 : BitVec 32 := 768#32
  c768_i32_5622
def k0_mult480 : BitVec 32 :=
  let c768_i32_5626 : BitVec 32 := 768#32
  let c0_i32_5625 : BitVec 32 := 0#32
  let c0_i32_5624 : BitVec 32 := 0#32
  let c_m64_i32_5623 : BitVec 32 := 4294967232#32
  let v11086 : BitVec 32 := Scalar.maxsi c0_i32_5624 c_m64_i32_5623
  let v11087 : BitVec 32 := Scalar.minsi c0_i32_5625 v11086
  let v11088 : BitVec 32 := Scalar.addi c768_i32_5626 v11087
  v11088
def k0_mult481 : BitVec 32 :=
  let c768_i32_5622 : BitVec 32 := 768#32
  let v11085 : BitVec 32 := c768_i32_5622
  let c0_i32_5638 : BitVec 32 := 0#32
  let v11112 : BitVec 1 := Scalar.cmpi .sgt v11085 c0_i32_5638
  let v11113 : BitVec 32 := Scalar.extui v11112
  let c0_i32_5639 : BitVec 32 := 0#32
  let v11114 : BitVec 1 := Scalar.cmpi .slt v11085 c0_i32_5639
  let v11115 : BitVec 32 := Scalar.extui v11114
  let v11116 : BitVec 32 := Scalar.subi v11113 v11115
  let c2_i32_5637 : BitVec 32 := 2#32
  let c0_i32_5640 : BitVec 32 := 0#32
  let v11117 : BitVec 1 := Scalar.cmpi .sgt c2_i32_5637 c0_i32_5640
  let v11118 : BitVec 32 := Scalar.extui v11117
  let c0_i32_5641 : BitVec 32 := 0#32
  let v11119 : BitVec 1 := Scalar.cmpi .slt c2_i32_5637 c0_i32_5641
  let v11120 : BitVec 32 := Scalar.extui v11119
  let v11121 : BitVec 32 := Scalar.subi v11118 v11120
  let v11122 : BitVec 1 := Scalar.cmpi .ne v11116 v11121
  let v11123 : BitVec 32 := Scalar.remsi v11085 c2_i32_5637
  let c0_i32_5642 : BitVec 32 := 0#32
  let v11124 : BitVec 1 := Scalar.cmpi .ne v11123 c0_i32_5642
  let v11125 : BitVec 1 := Scalar.andi v11122 v11124
  let v11111 : BitVec 32 := Scalar.divsi v11085 c2_i32_5637
  let c1_i32_5643 : BitVec 32 := 1#32
  let v11126 : BitVec 32 := Scalar.subi v11111 c1_i32_5643
  let v11127 : BitVec 32 := Scalar.select v11125 v11126 v11111
  v11127
def k0_mult482 : BitVec 32 :=
  let c768_i32_5622 : BitVec 32 := 768#32
  let v11085 : BitVec 32 := c768_i32_5622
  let c0_i32_5647 : BitVec 32 := 0#32
  let v11134 : BitVec 1 := Scalar.cmpi .sgt v11085 c0_i32_5647
  let v11135 : BitVec 32 := Scalar.extui v11134
  let c0_i32_5648 : BitVec 32 := 0#32
  let v11136 : BitVec 1 := Scalar.cmpi .slt v11085 c0_i32_5648
  let v11137 : BitVec 32 := Scalar.extui v11136
  let v11138 : BitVec 32 := Scalar.subi v11135 v11137
  let c2_i32_5646 : BitVec 32 := 2#32
  let c0_i32_5649 : BitVec 32 := 0#32
  let v11139 : BitVec 1 := Scalar.cmpi .sgt c2_i32_5646 c0_i32_5649
  let v11140 : BitVec 32 := Scalar.extui v11139
  let c0_i32_5650 : BitVec 32 := 0#32
  let v11141 : BitVec 1 := Scalar.cmpi .slt c2_i32_5646 c0_i32_5650
  let v11142 : BitVec 32 := Scalar.extui v11141
  let v11143 : BitVec 32 := Scalar.subi v11140 v11142
  let v11144 : BitVec 1 := Scalar.cmpi .ne v11138 v11143
  let v11145 : BitVec 32 := Scalar.remsi v11085 c2_i32_5646
  let c0_i32_5651 : BitVec 32 := 0#32
  let v11146 : BitVec 1 := Scalar.cmpi .ne v11145 c0_i32_5651
  let v11147 : BitVec 1 := Scalar.andi v11144 v11146
  let v11133 : BitVec 32 := Scalar.divsi v11085 c2_i32_5646
  let c1_i32_5652 : BitVec 32 := 1#32
  let v11148 : BitVec 32 := Scalar.subi v11133 c1_i32_5652
  let v11149 : BitVec 32 := Scalar.select v11147 v11148 v11133
  v11149
def k0_mult483 : BitVec 32 :=
  let c768_i32_5626 : BitVec 32 := 768#32
  let c0_i32_5625 : BitVec 32 := 0#32
  let c0_i32_5624 : BitVec 32 := 0#32
  let c_m64_i32_5623 : BitVec 32 := 4294967232#32
  let v11086 : BitVec 32 := Scalar.maxsi c0_i32_5624 c_m64_i32_5623
  let v11087 : BitVec 32 := Scalar.minsi c0_i32_5625 v11086
  let v11088 : BitVec 32 := Scalar.addi c768_i32_5626 v11087
  let v11089 : BitVec 32 := v11088
  let c0_i32_5656 : BitVec 32 := 0#32
  let v11157 : BitVec 1 := Scalar.cmpi .sgt v11089 c0_i32_5656
  let v11158 : BitVec 32 := Scalar.extui v11157
  let c0_i32_5657 : BitVec 32 := 0#32
  let v11159 : BitVec 1 := Scalar.cmpi .slt v11089 c0_i32_5657
  let v11160 : BitVec 32 := Scalar.extui v11159
  let v11161 : BitVec 32 := Scalar.subi v11158 v11160
  let c2_i32_5655 : BitVec 32 := 2#32
  let c0_i32_5658 : BitVec 32 := 0#32
  let v11162 : BitVec 1 := Scalar.cmpi .sgt c2_i32_5655 c0_i32_5658
  let v11163 : BitVec 32 := Scalar.extui v11162
  let c0_i32_5659 : BitVec 32 := 0#32
  let v11164 : BitVec 1 := Scalar.cmpi .slt c2_i32_5655 c0_i32_5659
  let v11165 : BitVec 32 := Scalar.extui v11164
  let v11166 : BitVec 32 := Scalar.subi v11163 v11165
  let v11167 : BitVec 1 := Scalar.cmpi .ne v11161 v11166
  let v11168 : BitVec 32 := Scalar.remsi v11089 c2_i32_5655
  let c0_i32_5660 : BitVec 32 := 0#32
  let v11169 : BitVec 1 := Scalar.cmpi .ne v11168 c0_i32_5660
  let v11170 : BitVec 1 := Scalar.andi v11167 v11169
  let v11156 : BitVec 32 := Scalar.divsi v11089 c2_i32_5655
  let c1_i32_5661 : BitVec 32 := 1#32
  let v11171 : BitVec 32 := Scalar.subi v11156 c1_i32_5661
  let v11172 : BitVec 32 := Scalar.select v11170 v11171 v11156
  v11172
def k0_mult484 : BitVec 32 :=
  let c896_i32_5673 : BitVec 32 := 896#32
  c896_i32_5673
def k0_mult485 : BitVec 32 :=
  let c896_i32_5677 : BitVec 32 := 896#32
  let c0_i32_5676 : BitVec 32 := 0#32
  let c0_i32_5675 : BitVec 32 := 0#32
  let c_m64_i32_5674 : BitVec 32 := 4294967232#32
  let v11190 : BitVec 32 := Scalar.maxsi c0_i32_5675 c_m64_i32_5674
  let v11191 : BitVec 32 := Scalar.minsi c0_i32_5676 v11190
  let v11192 : BitVec 32 := Scalar.addi c896_i32_5677 v11191
  v11192
def k0_mult486 : BitVec 32 :=
  let c896_i32_5673 : BitVec 32 := 896#32
  let v11189 : BitVec 32 := c896_i32_5673
  let c0_i32_5689 : BitVec 32 := 0#32
  let v11216 : BitVec 1 := Scalar.cmpi .sgt v11189 c0_i32_5689
  let v11217 : BitVec 32 := Scalar.extui v11216
  let c0_i32_5690 : BitVec 32 := 0#32
  let v11218 : BitVec 1 := Scalar.cmpi .slt v11189 c0_i32_5690
  let v11219 : BitVec 32 := Scalar.extui v11218
  let v11220 : BitVec 32 := Scalar.subi v11217 v11219
  let c2_i32_5688 : BitVec 32 := 2#32
  let c0_i32_5691 : BitVec 32 := 0#32
  let v11221 : BitVec 1 := Scalar.cmpi .sgt c2_i32_5688 c0_i32_5691
  let v11222 : BitVec 32 := Scalar.extui v11221
  let c0_i32_5692 : BitVec 32 := 0#32
  let v11223 : BitVec 1 := Scalar.cmpi .slt c2_i32_5688 c0_i32_5692
  let v11224 : BitVec 32 := Scalar.extui v11223
  let v11225 : BitVec 32 := Scalar.subi v11222 v11224
  let v11226 : BitVec 1 := Scalar.cmpi .ne v11220 v11225
  let v11227 : BitVec 32 := Scalar.remsi v11189 c2_i32_5688
  let c0_i32_5693 : BitVec 32 := 0#32
  let v11228 : BitVec 1 := Scalar.cmpi .ne v11227 c0_i32_5693
  let v11229 : BitVec 1 := Scalar.andi v11226 v11228
  let v11215 : BitVec 32 := Scalar.divsi v11189 c2_i32_5688
  let c1_i32_5694 : BitVec 32 := 1#32
  let v11230 : BitVec 32 := Scalar.subi v11215 c1_i32_5694
  let v11231 : BitVec 32 := Scalar.select v11229 v11230 v11215
  v11231
def k0_mult487 : BitVec 32 :=
  let c896_i32_5673 : BitVec 32 := 896#32
  let v11189 : BitVec 32 := c896_i32_5673
  let c0_i32_5698 : BitVec 32 := 0#32
  let v11238 : BitVec 1 := Scalar.cmpi .sgt v11189 c0_i32_5698
  let v11239 : BitVec 32 := Scalar.extui v11238
  let c0_i32_5699 : BitVec 32 := 0#32
  let v11240 : BitVec 1 := Scalar.cmpi .slt v11189 c0_i32_5699
  let v11241 : BitVec 32 := Scalar.extui v11240
  let v11242 : BitVec 32 := Scalar.subi v11239 v11241
  let c2_i32_5697 : BitVec 32 := 2#32
  let c0_i32_5700 : BitVec 32 := 0#32
  let v11243 : BitVec 1 := Scalar.cmpi .sgt c2_i32_5697 c0_i32_5700
  let v11244 : BitVec 32 := Scalar.extui v11243
  let c0_i32_5701 : BitVec 32 := 0#32
  let v11245 : BitVec 1 := Scalar.cmpi .slt c2_i32_5697 c0_i32_5701
  let v11246 : BitVec 32 := Scalar.extui v11245
  let v11247 : BitVec 32 := Scalar.subi v11244 v11246
  let v11248 : BitVec 1 := Scalar.cmpi .ne v11242 v11247
  let v11249 : BitVec 32 := Scalar.remsi v11189 c2_i32_5697
  let c0_i32_5702 : BitVec 32 := 0#32
  let v11250 : BitVec 1 := Scalar.cmpi .ne v11249 c0_i32_5702
  let v11251 : BitVec 1 := Scalar.andi v11248 v11250
  let v11237 : BitVec 32 := Scalar.divsi v11189 c2_i32_5697
  let c1_i32_5703 : BitVec 32 := 1#32
  let v11252 : BitVec 32 := Scalar.subi v11237 c1_i32_5703
  let v11253 : BitVec 32 := Scalar.select v11251 v11252 v11237
  v11253
def k0_mult488 : BitVec 32 :=
  let c896_i32_5677 : BitVec 32 := 896#32
  let c0_i32_5676 : BitVec 32 := 0#32
  let c0_i32_5675 : BitVec 32 := 0#32
  let c_m64_i32_5674 : BitVec 32 := 4294967232#32
  let v11190 : BitVec 32 := Scalar.maxsi c0_i32_5675 c_m64_i32_5674
  let v11191 : BitVec 32 := Scalar.minsi c0_i32_5676 v11190
  let v11192 : BitVec 32 := Scalar.addi c896_i32_5677 v11191
  let v11193 : BitVec 32 := v11192
  let c0_i32_5707 : BitVec 32 := 0#32
  let v11261 : BitVec 1 := Scalar.cmpi .sgt v11193 c0_i32_5707
  let v11262 : BitVec 32 := Scalar.extui v11261
  let c0_i32_5708 : BitVec 32 := 0#32
  let v11263 : BitVec 1 := Scalar.cmpi .slt v11193 c0_i32_5708
  let v11264 : BitVec 32 := Scalar.extui v11263
  let v11265 : BitVec 32 := Scalar.subi v11262 v11264
  let c2_i32_5706 : BitVec 32 := 2#32
  let c0_i32_5709 : BitVec 32 := 0#32
  let v11266 : BitVec 1 := Scalar.cmpi .sgt c2_i32_5706 c0_i32_5709
  let v11267 : BitVec 32 := Scalar.extui v11266
  let c0_i32_5710 : BitVec 32 := 0#32
  let v11268 : BitVec 1 := Scalar.cmpi .slt c2_i32_5706 c0_i32_5710
  let v11269 : BitVec 32 := Scalar.extui v11268
  let v11270 : BitVec 32 := Scalar.subi v11267 v11269
  let v11271 : BitVec 1 := Scalar.cmpi .ne v11265 v11270
  let v11272 : BitVec 32 := Scalar.remsi v11193 c2_i32_5706
  let c0_i32_5711 : BitVec 32 := 0#32
  let v11273 : BitVec 1 := Scalar.cmpi .ne v11272 c0_i32_5711
  let v11274 : BitVec 1 := Scalar.andi v11271 v11273
  let v11260 : BitVec 32 := Scalar.divsi v11193 c2_i32_5706
  let c1_i32_5712 : BitVec 32 := 1#32
  let v11275 : BitVec 32 := Scalar.subi v11260 c1_i32_5712
  let v11276 : BitVec 32 := Scalar.select v11274 v11275 v11260
  v11276
def k0_mult489 : BitVec 32 :=
  let c2_i32_5725 : BitVec 32 := 2#32
  let c0_i32_5724 : BitVec 32 := 0#32
  let v11293 : BitVec 32 := Scalar.muli c2_i32_5725 c0_i32_5724
  let c4_i32_5726 : BitVec 32 := 4#32
  let v11294 : BitVec 32 := Scalar.muli v11293 c4_i32_5726
  let c0_i32_5727 : BitVec 32 := 0#32
  let v11295 : BitVec 32 := Scalar.addi v11294 c0_i32_5727
  let c0_i32_5729 : BitVec 32 := 0#32
  let v11297 : BitVec 1 := Scalar.cmpi .sgt v11295 c0_i32_5729
  let v11298 : BitVec 32 := Scalar.extui v11297
  let c0_i32_5730 : BitVec 32 := 0#32
  let v11299 : BitVec 1 := Scalar.cmpi .slt v11295 c0_i32_5730
  let v11300 : BitVec 32 := Scalar.extui v11299
  let v11301 : BitVec 32 := Scalar.subi v11298 v11300
  let c1_i32_5728 : BitVec 32 := 1#32
  let c0_i32_5731 : BitVec 32 := 0#32
  let v11302 : BitVec 1 := Scalar.cmpi .sgt c1_i32_5728 c0_i32_5731
  let v11303 : BitVec 32 := Scalar.extui v11302
  let c0_i32_5732 : BitVec 32 := 0#32
  let v11304 : BitVec 1 := Scalar.cmpi .slt c1_i32_5728 c0_i32_5732
  let v11305 : BitVec 32 := Scalar.extui v11304
  let v11306 : BitVec 32 := Scalar.subi v11303 v11305
  let v11307 : BitVec 1 := Scalar.cmpi .ne v11301 v11306
  let v11308 : BitVec 32 := Scalar.remsi v11295 c1_i32_5728
  let c0_i32_5733 : BitVec 32 := 0#32
  let v11309 : BitVec 1 := Scalar.cmpi .ne v11308 c0_i32_5733
  let v11310 : BitVec 1 := Scalar.andi v11307 v11309
  let v11296 : BitVec 32 := Scalar.divsi v11295 c1_i32_5728
  let c1_i32_5734 : BitVec 32 := 1#32
  let v11311 : BitVec 32 := Scalar.subi v11296 c1_i32_5734
  let v11312 : BitVec 32 := Scalar.select v11310 v11311 v11296
  let c128_i32_5745 : BitVec 32 := 128#32
  let v11327 : BitVec 32 := Scalar.muli v11312 c128_i32_5745
  let c0_i32_5744 : BitVec 32 := 0#32
  let c0_i32_5743 : BitVec 32 := 0#32
  let c1_i32_5735 : BitVec 32 := 1#32
  let c0_i32_5736 : BitVec 32 := 0#32
  let v11313 : BitVec 1 := Scalar.cmpi .eq c1_i32_5735 c0_i32_5736
  let c1_i32_5737 : BitVec 32 := 1#32
  let v11314 : BitVec 32 := Scalar.select v11313 c1_i32_5737 c1_i32_5735
  let v11315 : BitVec 32 := Scalar.remsi v11295 v11314
  let c0_i32_5739 : BitVec 32 := 0#32
  let v11317 : BitVec 1 := Scalar.cmpi .slt v11315 c0_i32_5739
  let c0_i32_5740 : BitVec 32 := 0#32
  let v11318 : BitVec 1 := Scalar.cmpi .slt v11314 c0_i32_5740
  let v11319 : BitVec 1 := Scalar.xori v11317 v11318
  let c0_i32_5738 : BitVec 32 := 0#32
  let v11316 : BitVec 1 := Scalar.cmpi .ne v11315 c0_i32_5738
  let v11320 : BitVec 1 := Scalar.andi v11319 v11316
  let v11321 : BitVec 32 := Scalar.addi v11315 v11314
  let v11322 : BitVec 32 := Scalar.select v11320 v11321 v11315
  let c128_i32_5741 : BitVec 32 := 128#32
  let v11323 : BitVec 32 := Scalar.muli v11322 c128_i32_5741
  let c64_i32_5742 : BitVec 32 := 64#32
  let v11324 : BitVec 32 := Scalar.subi v11323 c64_i32_5742
  let v11325 : BitVec 32 := Scalar.maxsi c0_i32_5743 v11324
  let v11326 : BitVec 32 := Scalar.minsi c0_i32_5744 v11325
  let v11328 : BitVec 32 := Scalar.addi v11327 v11326
  v11328
def k0_mult490 : BitVec 32 :=
  let c2_i32_5725 : BitVec 32 := 2#32
  let c0_i32_5724 : BitVec 32 := 0#32
  let v11293 : BitVec 32 := Scalar.muli c2_i32_5725 c0_i32_5724
  let c4_i32_5726 : BitVec 32 := 4#32
  let v11294 : BitVec 32 := Scalar.muli v11293 c4_i32_5726
  let c0_i32_5727 : BitVec 32 := 0#32
  let v11295 : BitVec 32 := Scalar.addi v11294 c0_i32_5727
  let c0_i32_5729 : BitVec 32 := 0#32
  let v11297 : BitVec 1 := Scalar.cmpi .sgt v11295 c0_i32_5729
  let v11298 : BitVec 32 := Scalar.extui v11297
  let c0_i32_5730 : BitVec 32 := 0#32
  let v11299 : BitVec 1 := Scalar.cmpi .slt v11295 c0_i32_5730
  let v11300 : BitVec 32 := Scalar.extui v11299
  let v11301 : BitVec 32 := Scalar.subi v11298 v11300
  let c1_i32_5728 : BitVec 32 := 1#32
  let c0_i32_5731 : BitVec 32 := 0#32
  let v11302 : BitVec 1 := Scalar.cmpi .sgt c1_i32_5728 c0_i32_5731
  let v11303 : BitVec 32 := Scalar.extui v11302
  let c0_i32_5732 : BitVec 32 := 0#32
  let v11304 : BitVec 1 := Scalar.cmpi .slt c1_i32_5728 c0_i32_5732
  let v11305 : BitVec 32 := Scalar.extui v11304
  let v11306 : BitVec 32 := Scalar.subi v11303 v11305
  let v11307 : BitVec 1 := Scalar.cmpi .ne v11301 v11306
  let v11308 : BitVec 32 := Scalar.remsi v11295 c1_i32_5728
  let c0_i32_5733 : BitVec 32 := 0#32
  let v11309 : BitVec 1 := Scalar.cmpi .ne v11308 c0_i32_5733
  let v11310 : BitVec 1 := Scalar.andi v11307 v11309
  let v11296 : BitVec 32 := Scalar.divsi v11295 c1_i32_5728
  let c1_i32_5734 : BitVec 32 := 1#32
  let v11311 : BitVec 32 := Scalar.subi v11296 c1_i32_5734
  let v11312 : BitVec 32 := Scalar.select v11310 v11311 v11296
  let c128_i32_5745 : BitVec 32 := 128#32
  let v11327 : BitVec 32 := Scalar.muli v11312 c128_i32_5745
  let c0_i32_5744 : BitVec 32 := 0#32
  let c0_i32_5743 : BitVec 32 := 0#32
  let c1_i32_5735 : BitVec 32 := 1#32
  let c0_i32_5736 : BitVec 32 := 0#32
  let v11313 : BitVec 1 := Scalar.cmpi .eq c1_i32_5735 c0_i32_5736
  let c1_i32_5737 : BitVec 32 := 1#32
  let v11314 : BitVec 32 := Scalar.select v11313 c1_i32_5737 c1_i32_5735
  let v11315 : BitVec 32 := Scalar.remsi v11295 v11314
  let c0_i32_5739 : BitVec 32 := 0#32
  let v11317 : BitVec 1 := Scalar.cmpi .slt v11315 c0_i32_5739
  let c0_i32_5740 : BitVec 32 := 0#32
  let v11318 : BitVec 1 := Scalar.cmpi .slt v11314 c0_i32_5740
  let v11319 : BitVec 1 := Scalar.xori v11317 v11318
  let c0_i32_5738 : BitVec 32 := 0#32
  let v11316 : BitVec 1 := Scalar.cmpi .ne v11315 c0_i32_5738
  let v11320 : BitVec 1 := Scalar.andi v11319 v11316
  let v11321 : BitVec 32 := Scalar.addi v11315 v11314
  let v11322 : BitVec 32 := Scalar.select v11320 v11321 v11315
  let c128_i32_5741 : BitVec 32 := 128#32
  let v11323 : BitVec 32 := Scalar.muli v11322 c128_i32_5741
  let c64_i32_5742 : BitVec 32 := 64#32
  let v11324 : BitVec 32 := Scalar.subi v11323 c64_i32_5742
  let v11325 : BitVec 32 := Scalar.maxsi c0_i32_5743 v11324
  let v11326 : BitVec 32 := Scalar.minsi c0_i32_5744 v11325
  let v11328 : BitVec 32 := Scalar.addi v11327 v11326
  let v11329 : BitVec 32 := v11328
  let c0_i32_5751 : BitVec 32 := 0#32
  let v11333 : BitVec 1 := Scalar.cmpi .sgt v11329 c0_i32_5751
  let v11334 : BitVec 32 := Scalar.extui v11333
  let c0_i32_5752 : BitVec 32 := 0#32
  let v11335 : BitVec 1 := Scalar.cmpi .slt v11329 c0_i32_5752
  let v11336 : BitVec 32 := Scalar.extui v11335
  let v11337 : BitVec 32 := Scalar.subi v11334 v11336
  let c2_i32_5750 : BitVec 32 := 2#32
  let c0_i32_5753 : BitVec 32 := 0#32
  let v11338 : BitVec 1 := Scalar.cmpi .sgt c2_i32_5750 c0_i32_5753
  let v11339 : BitVec 32 := Scalar.extui v11338
  let c0_i32_5754 : BitVec 32 := 0#32
  let v11340 : BitVec 1 := Scalar.cmpi .slt c2_i32_5750 c0_i32_5754
  let v11341 : BitVec 32 := Scalar.extui v11340
  let v11342 : BitVec 32 := Scalar.subi v11339 v11341
  let v11343 : BitVec 1 := Scalar.cmpi .ne v11337 v11342
  let v11344 : BitVec 32 := Scalar.remsi v11329 c2_i32_5750
  let c0_i32_5755 : BitVec 32 := 0#32
  let v11345 : BitVec 1 := Scalar.cmpi .ne v11344 c0_i32_5755
  let v11346 : BitVec 1 := Scalar.andi v11343 v11345
  let v11332 : BitVec 32 := Scalar.divsi v11329 c2_i32_5750
  let c1_i32_5756 : BitVec 32 := 1#32
  let v11347 : BitVec 32 := Scalar.subi v11332 c1_i32_5756
  let v11348 : BitVec 32 := Scalar.select v11346 v11347 v11332
  v11348
def k0_off56 (c0_i32_5727 : BitVec 32) : Fin 3 → Nat :=
  let c3_5757 : Index := 3#32
  let c2_i32_5725 : BitVec 32 := 2#32
  let c0_i32_5724 : BitVec 32 := 0#32
  let v11293 : BitVec 32 := Scalar.muli c2_i32_5725 c0_i32_5724
  let c4_i32_5726 : BitVec 32 := 4#32
  let v11294 : BitVec 32 := Scalar.muli v11293 c4_i32_5726
  let v11295 : BitVec 32 := Scalar.addi v11294 c0_i32_5727
  let c0_i32_5729 : BitVec 32 := 0#32
  let v11297 : BitVec 1 := Scalar.cmpi .sgt v11295 c0_i32_5729
  let v11298 : BitVec 32 := Scalar.extui v11297
  let c0_i32_5730 : BitVec 32 := 0#32
  let v11299 : BitVec 1 := Scalar.cmpi .slt v11295 c0_i32_5730
  let v11300 : BitVec 32 := Scalar.extui v11299
  let v11301 : BitVec 32 := Scalar.subi v11298 v11300
  let c1_i32_5728 : BitVec 32 := 1#32
  let c0_i32_5731 : BitVec 32 := 0#32
  let v11302 : BitVec 1 := Scalar.cmpi .sgt c1_i32_5728 c0_i32_5731
  let v11303 : BitVec 32 := Scalar.extui v11302
  let c0_i32_5732 : BitVec 32 := 0#32
  let v11304 : BitVec 1 := Scalar.cmpi .slt c1_i32_5728 c0_i32_5732
  let v11305 : BitVec 32 := Scalar.extui v11304
  let v11306 : BitVec 32 := Scalar.subi v11303 v11305
  let v11307 : BitVec 1 := Scalar.cmpi .ne v11301 v11306
  let v11308 : BitVec 32 := Scalar.remsi v11295 c1_i32_5728
  let c0_i32_5733 : BitVec 32 := 0#32
  let v11309 : BitVec 1 := Scalar.cmpi .ne v11308 c0_i32_5733
  let v11310 : BitVec 1 := Scalar.andi v11307 v11309
  let v11296 : BitVec 32 := Scalar.divsi v11295 c1_i32_5728
  let c1_i32_5734 : BitVec 32 := 1#32
  let v11311 : BitVec 32 := Scalar.subi v11296 c1_i32_5734
  let v11312 : BitVec 32 := Scalar.select v11310 v11311 v11296
  let c128_i32_5745 : BitVec 32 := 128#32
  let v11327 : BitVec 32 := Scalar.muli v11312 c128_i32_5745
  let c0_i32_5744 : BitVec 32 := 0#32
  let c0_i32_5743 : BitVec 32 := 0#32
  let c1_i32_5735 : BitVec 32 := 1#32
  let c0_i32_5736 : BitVec 32 := 0#32
  let v11313 : BitVec 1 := Scalar.cmpi .eq c1_i32_5735 c0_i32_5736
  let c1_i32_5737 : BitVec 32 := 1#32
  let v11314 : BitVec 32 := Scalar.select v11313 c1_i32_5737 c1_i32_5735
  let v11315 : BitVec 32 := Scalar.remsi v11295 v11314
  let c0_i32_5739 : BitVec 32 := 0#32
  let v11317 : BitVec 1 := Scalar.cmpi .slt v11315 c0_i32_5739
  let c0_i32_5740 : BitVec 32 := 0#32
  let v11318 : BitVec 1 := Scalar.cmpi .slt v11314 c0_i32_5740
  let v11319 : BitVec 1 := Scalar.xori v11317 v11318
  let c0_i32_5738 : BitVec 32 := 0#32
  let v11316 : BitVec 1 := Scalar.cmpi .ne v11315 c0_i32_5738
  let v11320 : BitVec 1 := Scalar.andi v11319 v11316
  let v11321 : BitVec 32 := Scalar.addi v11315 v11314
  let v11322 : BitVec 32 := Scalar.select v11320 v11321 v11315
  let c128_i32_5741 : BitVec 32 := 128#32
  let v11323 : BitVec 32 := Scalar.muli v11322 c128_i32_5741
  let c64_i32_5742 : BitVec 32 := 64#32
  let v11324 : BitVec 32 := Scalar.subi v11323 c64_i32_5742
  let v11325 : BitVec 32 := Scalar.maxsi c0_i32_5743 v11324
  let v11326 : BitVec 32 := Scalar.minsi c0_i32_5744 v11325
  let v11328 : BitVec 32 := Scalar.addi v11327 v11326
  let v11329 : BitVec 32 := v11328
  let c0_i32_5751 : BitVec 32 := 0#32
  let v11333 : BitVec 1 := Scalar.cmpi .sgt v11329 c0_i32_5751
  let v11334 : BitVec 32 := Scalar.extui v11333
  let c0_i32_5752 : BitVec 32 := 0#32
  let v11335 : BitVec 1 := Scalar.cmpi .slt v11329 c0_i32_5752
  let v11336 : BitVec 32 := Scalar.extui v11335
  let v11337 : BitVec 32 := Scalar.subi v11334 v11336
  let c2_i32_5750 : BitVec 32 := 2#32
  let c0_i32_5753 : BitVec 32 := 0#32
  let v11338 : BitVec 1 := Scalar.cmpi .sgt c2_i32_5750 c0_i32_5753
  let v11339 : BitVec 32 := Scalar.extui v11338
  let c0_i32_5754 : BitVec 32 := 0#32
  let v11340 : BitVec 1 := Scalar.cmpi .slt c2_i32_5750 c0_i32_5754
  let v11341 : BitVec 32 := Scalar.extui v11340
  let v11342 : BitVec 32 := Scalar.subi v11339 v11341
  let v11343 : BitVec 1 := Scalar.cmpi .ne v11337 v11342
  let v11344 : BitVec 32 := Scalar.remsi v11329 c2_i32_5750
  let c0_i32_5755 : BitVec 32 := 0#32
  let v11345 : BitVec 1 := Scalar.cmpi .ne v11344 c0_i32_5755
  let v11346 : BitVec 1 := Scalar.andi v11343 v11345
  let v11332 : BitVec 32 := Scalar.divsi v11329 c2_i32_5750
  let c1_i32_5756 : BitVec 32 := 1#32
  let v11347 : BitVec 32 := Scalar.subi v11332 c1_i32_5756
  let v11348 : BitVec 32 := Scalar.select v11346 v11347 v11332
  let v11349 : BitVec 32 := v11348
  let v11350 : Index := Scalar.indexCast v11349
  let c0_5758 : Index := 0#32
  ![3, v11350.toNat, 0]
def k0_mult491 : BitVec 32 :=
  let c2_i32_5725 : BitVec 32 := 2#32
  let c0_i32_5724 : BitVec 32 := 0#32
  let v11293 : BitVec 32 := Scalar.muli c2_i32_5725 c0_i32_5724
  let c4_i32_5726 : BitVec 32 := 4#32
  let v11294 : BitVec 32 := Scalar.muli v11293 c4_i32_5726
  let c0_i32_5727 : BitVec 32 := 0#32
  let v11295 : BitVec 32 := Scalar.addi v11294 c0_i32_5727
  let c0_i32_5729 : BitVec 32 := 0#32
  let v11297 : BitVec 1 := Scalar.cmpi .sgt v11295 c0_i32_5729
  let v11298 : BitVec 32 := Scalar.extui v11297
  let c0_i32_5730 : BitVec 32 := 0#32
  let v11299 : BitVec 1 := Scalar.cmpi .slt v11295 c0_i32_5730
  let v11300 : BitVec 32 := Scalar.extui v11299
  let v11301 : BitVec 32 := Scalar.subi v11298 v11300
  let c1_i32_5728 : BitVec 32 := 1#32
  let c0_i32_5731 : BitVec 32 := 0#32
  let v11302 : BitVec 1 := Scalar.cmpi .sgt c1_i32_5728 c0_i32_5731
  let v11303 : BitVec 32 := Scalar.extui v11302
  let c0_i32_5732 : BitVec 32 := 0#32
  let v11304 : BitVec 1 := Scalar.cmpi .slt c1_i32_5728 c0_i32_5732
  let v11305 : BitVec 32 := Scalar.extui v11304
  let v11306 : BitVec 32 := Scalar.subi v11303 v11305
  let v11307 : BitVec 1 := Scalar.cmpi .ne v11301 v11306
  let v11308 : BitVec 32 := Scalar.remsi v11295 c1_i32_5728
  let c0_i32_5733 : BitVec 32 := 0#32
  let v11309 : BitVec 1 := Scalar.cmpi .ne v11308 c0_i32_5733
  let v11310 : BitVec 1 := Scalar.andi v11307 v11309
  let v11296 : BitVec 32 := Scalar.divsi v11295 c1_i32_5728
  let c1_i32_5734 : BitVec 32 := 1#32
  let v11311 : BitVec 32 := Scalar.subi v11296 c1_i32_5734
  let v11312 : BitVec 32 := Scalar.select v11310 v11311 v11296
  let c128_i32_5745 : BitVec 32 := 128#32
  let v11327 : BitVec 32 := Scalar.muli v11312 c128_i32_5745
  let c0_i32_5744 : BitVec 32 := 0#32
  let c0_i32_5743 : BitVec 32 := 0#32
  let c1_i32_5735 : BitVec 32 := 1#32
  let c0_i32_5736 : BitVec 32 := 0#32
  let v11313 : BitVec 1 := Scalar.cmpi .eq c1_i32_5735 c0_i32_5736
  let c1_i32_5737 : BitVec 32 := 1#32
  let v11314 : BitVec 32 := Scalar.select v11313 c1_i32_5737 c1_i32_5735
  let v11315 : BitVec 32 := Scalar.remsi v11295 v11314
  let c0_i32_5739 : BitVec 32 := 0#32
  let v11317 : BitVec 1 := Scalar.cmpi .slt v11315 c0_i32_5739
  let c0_i32_5740 : BitVec 32 := 0#32
  let v11318 : BitVec 1 := Scalar.cmpi .slt v11314 c0_i32_5740
  let v11319 : BitVec 1 := Scalar.xori v11317 v11318
  let c0_i32_5738 : BitVec 32 := 0#32
  let v11316 : BitVec 1 := Scalar.cmpi .ne v11315 c0_i32_5738
  let v11320 : BitVec 1 := Scalar.andi v11319 v11316
  let v11321 : BitVec 32 := Scalar.addi v11315 v11314
  let v11322 : BitVec 32 := Scalar.select v11320 v11321 v11315
  let c128_i32_5741 : BitVec 32 := 128#32
  let v11323 : BitVec 32 := Scalar.muli v11322 c128_i32_5741
  let c64_i32_5742 : BitVec 32 := 64#32
  let v11324 : BitVec 32 := Scalar.subi v11323 c64_i32_5742
  let v11325 : BitVec 32 := Scalar.maxsi c0_i32_5743 v11324
  let v11326 : BitVec 32 := Scalar.minsi c0_i32_5744 v11325
  let v11328 : BitVec 32 := Scalar.addi v11327 v11326
  let v11329 : BitVec 32 := v11328
  let c0_i32_5765 : BitVec 32 := 0#32
  let v11358 : BitVec 1 := Scalar.cmpi .sgt v11329 c0_i32_5765
  let v11359 : BitVec 32 := Scalar.extui v11358
  let c0_i32_5766 : BitVec 32 := 0#32
  let v11360 : BitVec 1 := Scalar.cmpi .slt v11329 c0_i32_5766
  let v11361 : BitVec 32 := Scalar.extui v11360
  let v11362 : BitVec 32 := Scalar.subi v11359 v11361
  let c2_i32_5764 : BitVec 32 := 2#32
  let c0_i32_5767 : BitVec 32 := 0#32
  let v11363 : BitVec 1 := Scalar.cmpi .sgt c2_i32_5764 c0_i32_5767
  let v11364 : BitVec 32 := Scalar.extui v11363
  let c0_i32_5768 : BitVec 32 := 0#32
  let v11365 : BitVec 1 := Scalar.cmpi .slt c2_i32_5764 c0_i32_5768
  let v11366 : BitVec 32 := Scalar.extui v11365
  let v11367 : BitVec 32 := Scalar.subi v11364 v11366
  let v11368 : BitVec 1 := Scalar.cmpi .ne v11362 v11367
  let v11369 : BitVec 32 := Scalar.remsi v11329 c2_i32_5764
  let c0_i32_5769 : BitVec 32 := 0#32
  let v11370 : BitVec 1 := Scalar.cmpi .ne v11369 c0_i32_5769
  let v11371 : BitVec 1 := Scalar.andi v11368 v11370
  let v11357 : BitVec 32 := Scalar.divsi v11329 c2_i32_5764
  let c1_i32_5770 : BitVec 32 := 1#32
  let v11372 : BitVec 32 := Scalar.subi v11357 c1_i32_5770
  let v11373 : BitVec 32 := Scalar.select v11371 v11372 v11357
  v11373
def k0_off57 (c0_i32_5727 : BitVec 32) : Fin 3 → Nat :=
  let c4_5771 : Index := 4#32
  let c2_i32_5725 : BitVec 32 := 2#32
  let c0_i32_5724 : BitVec 32 := 0#32
  let v11293 : BitVec 32 := Scalar.muli c2_i32_5725 c0_i32_5724
  let c4_i32_5726 : BitVec 32 := 4#32
  let v11294 : BitVec 32 := Scalar.muli v11293 c4_i32_5726
  let v11295 : BitVec 32 := Scalar.addi v11294 c0_i32_5727
  let c0_i32_5729 : BitVec 32 := 0#32
  let v11297 : BitVec 1 := Scalar.cmpi .sgt v11295 c0_i32_5729
  let v11298 : BitVec 32 := Scalar.extui v11297
  let c0_i32_5730 : BitVec 32 := 0#32
  let v11299 : BitVec 1 := Scalar.cmpi .slt v11295 c0_i32_5730
  let v11300 : BitVec 32 := Scalar.extui v11299
  let v11301 : BitVec 32 := Scalar.subi v11298 v11300
  let c1_i32_5728 : BitVec 32 := 1#32
  let c0_i32_5731 : BitVec 32 := 0#32
  let v11302 : BitVec 1 := Scalar.cmpi .sgt c1_i32_5728 c0_i32_5731
  let v11303 : BitVec 32 := Scalar.extui v11302
  let c0_i32_5732 : BitVec 32 := 0#32
  let v11304 : BitVec 1 := Scalar.cmpi .slt c1_i32_5728 c0_i32_5732
  let v11305 : BitVec 32 := Scalar.extui v11304
  let v11306 : BitVec 32 := Scalar.subi v11303 v11305
  let v11307 : BitVec 1 := Scalar.cmpi .ne v11301 v11306
  let v11308 : BitVec 32 := Scalar.remsi v11295 c1_i32_5728
  let c0_i32_5733 : BitVec 32 := 0#32
  let v11309 : BitVec 1 := Scalar.cmpi .ne v11308 c0_i32_5733
  let v11310 : BitVec 1 := Scalar.andi v11307 v11309
  let v11296 : BitVec 32 := Scalar.divsi v11295 c1_i32_5728
  let c1_i32_5734 : BitVec 32 := 1#32
  let v11311 : BitVec 32 := Scalar.subi v11296 c1_i32_5734
  let v11312 : BitVec 32 := Scalar.select v11310 v11311 v11296
  let c128_i32_5745 : BitVec 32 := 128#32
  let v11327 : BitVec 32 := Scalar.muli v11312 c128_i32_5745
  let c0_i32_5744 : BitVec 32 := 0#32
  let c0_i32_5743 : BitVec 32 := 0#32
  let c1_i32_5735 : BitVec 32 := 1#32
  let c0_i32_5736 : BitVec 32 := 0#32
  let v11313 : BitVec 1 := Scalar.cmpi .eq c1_i32_5735 c0_i32_5736
  let c1_i32_5737 : BitVec 32 := 1#32
  let v11314 : BitVec 32 := Scalar.select v11313 c1_i32_5737 c1_i32_5735
  let v11315 : BitVec 32 := Scalar.remsi v11295 v11314
  let c0_i32_5739 : BitVec 32 := 0#32
  let v11317 : BitVec 1 := Scalar.cmpi .slt v11315 c0_i32_5739
  let c0_i32_5740 : BitVec 32 := 0#32
  let v11318 : BitVec 1 := Scalar.cmpi .slt v11314 c0_i32_5740
  let v11319 : BitVec 1 := Scalar.xori v11317 v11318
  let c0_i32_5738 : BitVec 32 := 0#32
  let v11316 : BitVec 1 := Scalar.cmpi .ne v11315 c0_i32_5738
  let v11320 : BitVec 1 := Scalar.andi v11319 v11316
  let v11321 : BitVec 32 := Scalar.addi v11315 v11314
  let v11322 : BitVec 32 := Scalar.select v11320 v11321 v11315
  let c128_i32_5741 : BitVec 32 := 128#32
  let v11323 : BitVec 32 := Scalar.muli v11322 c128_i32_5741
  let c64_i32_5742 : BitVec 32 := 64#32
  let v11324 : BitVec 32 := Scalar.subi v11323 c64_i32_5742
  let v11325 : BitVec 32 := Scalar.maxsi c0_i32_5743 v11324
  let v11326 : BitVec 32 := Scalar.minsi c0_i32_5744 v11325
  let v11328 : BitVec 32 := Scalar.addi v11327 v11326
  let v11329 : BitVec 32 := v11328
  let c0_i32_5765 : BitVec 32 := 0#32
  let v11358 : BitVec 1 := Scalar.cmpi .sgt v11329 c0_i32_5765
  let v11359 : BitVec 32 := Scalar.extui v11358
  let c0_i32_5766 : BitVec 32 := 0#32
  let v11360 : BitVec 1 := Scalar.cmpi .slt v11329 c0_i32_5766
  let v11361 : BitVec 32 := Scalar.extui v11360
  let v11362 : BitVec 32 := Scalar.subi v11359 v11361
  let c2_i32_5764 : BitVec 32 := 2#32
  let c0_i32_5767 : BitVec 32 := 0#32
  let v11363 : BitVec 1 := Scalar.cmpi .sgt c2_i32_5764 c0_i32_5767
  let v11364 : BitVec 32 := Scalar.extui v11363
  let c0_i32_5768 : BitVec 32 := 0#32
  let v11365 : BitVec 1 := Scalar.cmpi .slt c2_i32_5764 c0_i32_5768
  let v11366 : BitVec 32 := Scalar.extui v11365
  let v11367 : BitVec 32 := Scalar.subi v11364 v11366
  let v11368 : BitVec 1 := Scalar.cmpi .ne v11362 v11367
  let v11369 : BitVec 32 := Scalar.remsi v11329 c2_i32_5764
  let c0_i32_5769 : BitVec 32 := 0#32
  let v11370 : BitVec 1 := Scalar.cmpi .ne v11369 c0_i32_5769
  let v11371 : BitVec 1 := Scalar.andi v11368 v11370
  let v11357 : BitVec 32 := Scalar.divsi v11329 c2_i32_5764
  let c1_i32_5770 : BitVec 32 := 1#32
  let v11372 : BitVec 32 := Scalar.subi v11357 c1_i32_5770
  let v11373 : BitVec 32 := Scalar.select v11371 v11372 v11357
  let v11374 : BitVec 32 := v11373
  let v11375 : Index := Scalar.indexCast v11374
  let c0_5772 : Index := 0#32
  ![4, v11375.toNat, 0]
def k0_off58 (c0_i32_5727 : BitVec 32) : Fin 3 → Nat :=
  let c0_5790 : Index := 0#32
  let c2_i32_5725 : BitVec 32 := 2#32
  let c0_i32_5724 : BitVec 32 := 0#32
  let v11293 : BitVec 32 := Scalar.muli c2_i32_5725 c0_i32_5724
  let c4_i32_5726 : BitVec 32 := 4#32
  let v11294 : BitVec 32 := Scalar.muli v11293 c4_i32_5726
  let v11295 : BitVec 32 := Scalar.addi v11294 c0_i32_5727
  let c0_i32_5729 : BitVec 32 := 0#32
  let v11297 : BitVec 1 := Scalar.cmpi .sgt v11295 c0_i32_5729
  let v11298 : BitVec 32 := Scalar.extui v11297
  let c0_i32_5730 : BitVec 32 := 0#32
  let v11299 : BitVec 1 := Scalar.cmpi .slt v11295 c0_i32_5730
  let v11300 : BitVec 32 := Scalar.extui v11299
  let v11301 : BitVec 32 := Scalar.subi v11298 v11300
  let c1_i32_5728 : BitVec 32 := 1#32
  let c0_i32_5731 : BitVec 32 := 0#32
  let v11302 : BitVec 1 := Scalar.cmpi .sgt c1_i32_5728 c0_i32_5731
  let v11303 : BitVec 32 := Scalar.extui v11302
  let c0_i32_5732 : BitVec 32 := 0#32
  let v11304 : BitVec 1 := Scalar.cmpi .slt c1_i32_5728 c0_i32_5732
  let v11305 : BitVec 32 := Scalar.extui v11304
  let v11306 : BitVec 32 := Scalar.subi v11303 v11305
  let v11307 : BitVec 1 := Scalar.cmpi .ne v11301 v11306
  let v11308 : BitVec 32 := Scalar.remsi v11295 c1_i32_5728
  let c0_i32_5733 : BitVec 32 := 0#32
  let v11309 : BitVec 1 := Scalar.cmpi .ne v11308 c0_i32_5733
  let v11310 : BitVec 1 := Scalar.andi v11307 v11309
  let v11296 : BitVec 32 := Scalar.divsi v11295 c1_i32_5728
  let c1_i32_5734 : BitVec 32 := 1#32
  let v11311 : BitVec 32 := Scalar.subi v11296 c1_i32_5734
  let v11312 : BitVec 32 := Scalar.select v11310 v11311 v11296
  let c4_i32_5775 : BitVec 32 := 4#32
  let c0_i32_5776 : BitVec 32 := 0#32
  let v11387 : BitVec 1 := Scalar.cmpi .eq c4_i32_5775 c0_i32_5776
  let c1_i32_5777 : BitVec 32 := 1#32
  let v11388 : BitVec 32 := Scalar.select v11387 c1_i32_5777 c4_i32_5775
  let v11389 : BitVec 32 := Scalar.remsi v11312 v11388
  let c0_i32_5779 : BitVec 32 := 0#32
  let v11391 : BitVec 1 := Scalar.cmpi .slt v11389 c0_i32_5779
  let c0_i32_5780 : BitVec 32 := 0#32
  let v11392 : BitVec 1 := Scalar.cmpi .slt v11388 c0_i32_5780
  let v11393 : BitVec 1 := Scalar.xori v11391 v11392
  let c0_i32_5778 : BitVec 32 := 0#32
  let v11390 : BitVec 1 := Scalar.cmpi .ne v11389 c0_i32_5778
  let v11394 : BitVec 1 := Scalar.andi v11393 v11390
  let v11395 : BitVec 32 := Scalar.addi v11389 v11388
  let v11396 : BitVec 32 := Scalar.select v11394 v11395 v11389
  let c512_i32_5781 : BitVec 32 := 512#32
  let v11397 : BitVec 32 := Scalar.muli v11396 c512_i32_5781
  let c0_i32_5783 : BitVec 32 := 0#32
  let v11399 : BitVec 1 := Scalar.cmpi .sgt v11312 c0_i32_5783
  let v11400 : BitVec 32 := Scalar.extui v11399
  let c0_i32_5784 : BitVec 32 := 0#32
  let v11401 : BitVec 1 := Scalar.cmpi .slt v11312 c0_i32_5784
  let v11402 : BitVec 32 := Scalar.extui v11401
  let v11403 : BitVec 32 := Scalar.subi v11400 v11402
  let c4_i32_5782 : BitVec 32 := 4#32
  let c0_i32_5785 : BitVec 32 := 0#32
  let v11404 : BitVec 1 := Scalar.cmpi .sgt c4_i32_5782 c0_i32_5785
  let v11405 : BitVec 32 := Scalar.extui v11404
  let c0_i32_5786 : BitVec 32 := 0#32
  let v11406 : BitVec 1 := Scalar.cmpi .slt c4_i32_5782 c0_i32_5786
  let v11407 : BitVec 32 := Scalar.extui v11406
  let v11408 : BitVec 32 := Scalar.subi v11405 v11407
  let v11409 : BitVec 1 := Scalar.cmpi .ne v11403 v11408
  let v11410 : BitVec 32 := Scalar.remsi v11312 c4_i32_5782
  let c0_i32_5787 : BitVec 32 := 0#32
  let v11411 : BitVec 1 := Scalar.cmpi .ne v11410 c0_i32_5787
  let v11412 : BitVec 1 := Scalar.andi v11409 v11411
  let v11398 : BitVec 32 := Scalar.divsi v11312 c4_i32_5782
  let c1_i32_5788 : BitVec 32 := 1#32
  let v11413 : BitVec 32 := Scalar.subi v11398 c1_i32_5788
  let v11414 : BitVec 32 := Scalar.select v11412 v11413 v11398
  let v11415 : BitVec 32 := Scalar.addi v11397 v11414
  let c4_i32_5789 : BitVec 32 := 4#32
  let c1_i32_5735 : BitVec 32 := 1#32
  let c0_i32_5736 : BitVec 32 := 0#32
  let v11313 : BitVec 1 := Scalar.cmpi .eq c1_i32_5735 c0_i32_5736
  let c1_i32_5737 : BitVec 32 := 1#32
  let v11314 : BitVec 32 := Scalar.select v11313 c1_i32_5737 c1_i32_5735
  let v11315 : BitVec 32 := Scalar.remsi v11295 v11314
  let c0_i32_5739 : BitVec 32 := 0#32
  let v11317 : BitVec 1 := Scalar.cmpi .slt v11315 c0_i32_5739
  let c0_i32_5740 : BitVec 32 := 0#32
  let v11318 : BitVec 1 := Scalar.cmpi .slt v11314 c0_i32_5740
  let v11319 : BitVec 1 := Scalar.xori v11317 v11318
  let c0_i32_5738 : BitVec 32 := 0#32
  let v11316 : BitVec 1 := Scalar.cmpi .ne v11315 c0_i32_5738
  let v11320 : BitVec 1 := Scalar.andi v11319 v11316
  let v11321 : BitVec 32 := Scalar.addi v11315 v11314
  let v11322 : BitVec 32 := Scalar.select v11320 v11321 v11315
  let c128_i32_5741 : BitVec 32 := 128#32
  let v11323 : BitVec 32 := Scalar.muli v11322 c128_i32_5741
  let v11416 : BitVec 32 := Scalar.muli c4_i32_5789 v11323
  let v11417 : BitVec 32 := Scalar.addi v11415 v11416
  let v11419 : Index := Scalar.indexCast v11417
  let c0_5791 : Index := 0#32
  ![0, v11419.toNat, 0]
def k0_off59 (c0_i32_5727 : BitVec 32) : Fin 3 → Nat :=
  let c1_5797 : Index := 1#32
  let c2_i32_5725 : BitVec 32 := 2#32
  let c0_i32_5724 : BitVec 32 := 0#32
  let v11293 : BitVec 32 := Scalar.muli c2_i32_5725 c0_i32_5724
  let c4_i32_5726 : BitVec 32 := 4#32
  let v11294 : BitVec 32 := Scalar.muli v11293 c4_i32_5726
  let v11295 : BitVec 32 := Scalar.addi v11294 c0_i32_5727
  let c0_i32_5729 : BitVec 32 := 0#32
  let v11297 : BitVec 1 := Scalar.cmpi .sgt v11295 c0_i32_5729
  let v11298 : BitVec 32 := Scalar.extui v11297
  let c0_i32_5730 : BitVec 32 := 0#32
  let v11299 : BitVec 1 := Scalar.cmpi .slt v11295 c0_i32_5730
  let v11300 : BitVec 32 := Scalar.extui v11299
  let v11301 : BitVec 32 := Scalar.subi v11298 v11300
  let c1_i32_5728 : BitVec 32 := 1#32
  let c0_i32_5731 : BitVec 32 := 0#32
  let v11302 : BitVec 1 := Scalar.cmpi .sgt c1_i32_5728 c0_i32_5731
  let v11303 : BitVec 32 := Scalar.extui v11302
  let c0_i32_5732 : BitVec 32 := 0#32
  let v11304 : BitVec 1 := Scalar.cmpi .slt c1_i32_5728 c0_i32_5732
  let v11305 : BitVec 32 := Scalar.extui v11304
  let v11306 : BitVec 32 := Scalar.subi v11303 v11305
  let v11307 : BitVec 1 := Scalar.cmpi .ne v11301 v11306
  let v11308 : BitVec 32 := Scalar.remsi v11295 c1_i32_5728
  let c0_i32_5733 : BitVec 32 := 0#32
  let v11309 : BitVec 1 := Scalar.cmpi .ne v11308 c0_i32_5733
  let v11310 : BitVec 1 := Scalar.andi v11307 v11309
  let v11296 : BitVec 32 := Scalar.divsi v11295 c1_i32_5728
  let c1_i32_5734 : BitVec 32 := 1#32
  let v11311 : BitVec 32 := Scalar.subi v11296 c1_i32_5734
  let v11312 : BitVec 32 := Scalar.select v11310 v11311 v11296
  let c4_i32_5775 : BitVec 32 := 4#32
  let c0_i32_5776 : BitVec 32 := 0#32
  let v11387 : BitVec 1 := Scalar.cmpi .eq c4_i32_5775 c0_i32_5776
  let c1_i32_5777 : BitVec 32 := 1#32
  let v11388 : BitVec 32 := Scalar.select v11387 c1_i32_5777 c4_i32_5775
  let v11389 : BitVec 32 := Scalar.remsi v11312 v11388
  let c0_i32_5779 : BitVec 32 := 0#32
  let v11391 : BitVec 1 := Scalar.cmpi .slt v11389 c0_i32_5779
  let c0_i32_5780 : BitVec 32 := 0#32
  let v11392 : BitVec 1 := Scalar.cmpi .slt v11388 c0_i32_5780
  let v11393 : BitVec 1 := Scalar.xori v11391 v11392
  let c0_i32_5778 : BitVec 32 := 0#32
  let v11390 : BitVec 1 := Scalar.cmpi .ne v11389 c0_i32_5778
  let v11394 : BitVec 1 := Scalar.andi v11393 v11390
  let v11395 : BitVec 32 := Scalar.addi v11389 v11388
  let v11396 : BitVec 32 := Scalar.select v11394 v11395 v11389
  let c512_i32_5781 : BitVec 32 := 512#32
  let v11397 : BitVec 32 := Scalar.muli v11396 c512_i32_5781
  let c0_i32_5783 : BitVec 32 := 0#32
  let v11399 : BitVec 1 := Scalar.cmpi .sgt v11312 c0_i32_5783
  let v11400 : BitVec 32 := Scalar.extui v11399
  let c0_i32_5784 : BitVec 32 := 0#32
  let v11401 : BitVec 1 := Scalar.cmpi .slt v11312 c0_i32_5784
  let v11402 : BitVec 32 := Scalar.extui v11401
  let v11403 : BitVec 32 := Scalar.subi v11400 v11402
  let c4_i32_5782 : BitVec 32 := 4#32
  let c0_i32_5785 : BitVec 32 := 0#32
  let v11404 : BitVec 1 := Scalar.cmpi .sgt c4_i32_5782 c0_i32_5785
  let v11405 : BitVec 32 := Scalar.extui v11404
  let c0_i32_5786 : BitVec 32 := 0#32
  let v11406 : BitVec 1 := Scalar.cmpi .slt c4_i32_5782 c0_i32_5786
  let v11407 : BitVec 32 := Scalar.extui v11406
  let v11408 : BitVec 32 := Scalar.subi v11405 v11407
  let v11409 : BitVec 1 := Scalar.cmpi .ne v11403 v11408
  let v11410 : BitVec 32 := Scalar.remsi v11312 c4_i32_5782
  let c0_i32_5787 : BitVec 32 := 0#32
  let v11411 : BitVec 1 := Scalar.cmpi .ne v11410 c0_i32_5787
  let v11412 : BitVec 1 := Scalar.andi v11409 v11411
  let v11398 : BitVec 32 := Scalar.divsi v11312 c4_i32_5782
  let c1_i32_5788 : BitVec 32 := 1#32
  let v11413 : BitVec 32 := Scalar.subi v11398 c1_i32_5788
  let v11414 : BitVec 32 := Scalar.select v11412 v11413 v11398
  let v11415 : BitVec 32 := Scalar.addi v11397 v11414
  let c4_i32_5789 : BitVec 32 := 4#32
  let c1_i32_5735 : BitVec 32 := 1#32
  let c0_i32_5736 : BitVec 32 := 0#32
  let v11313 : BitVec 1 := Scalar.cmpi .eq c1_i32_5735 c0_i32_5736
  let c1_i32_5737 : BitVec 32 := 1#32
  let v11314 : BitVec 32 := Scalar.select v11313 c1_i32_5737 c1_i32_5735
  let v11315 : BitVec 32 := Scalar.remsi v11295 v11314
  let c0_i32_5739 : BitVec 32 := 0#32
  let v11317 : BitVec 1 := Scalar.cmpi .slt v11315 c0_i32_5739
  let c0_i32_5740 : BitVec 32 := 0#32
  let v11318 : BitVec 1 := Scalar.cmpi .slt v11314 c0_i32_5740
  let v11319 : BitVec 1 := Scalar.xori v11317 v11318
  let c0_i32_5738 : BitVec 32 := 0#32
  let v11316 : BitVec 1 := Scalar.cmpi .ne v11315 c0_i32_5738
  let v11320 : BitVec 1 := Scalar.andi v11319 v11316
  let v11321 : BitVec 32 := Scalar.addi v11315 v11314
  let v11322 : BitVec 32 := Scalar.select v11320 v11321 v11315
  let c128_i32_5741 : BitVec 32 := 128#32
  let v11323 : BitVec 32 := Scalar.muli v11322 c128_i32_5741
  let v11416 : BitVec 32 := Scalar.muli c4_i32_5789 v11323
  let v11417 : BitVec 32 := Scalar.addi v11415 v11416
  let v11429 : Index := Scalar.indexCast v11417
  let c0_5798 : Index := 0#32
  ![1, v11429.toNat, 0]
def k0_mult492 : BitVec 32 :=
  let c2_i32_5725 : BitVec 32 := 2#32
  let c0_i32_5724 : BitVec 32 := 0#32
  let v11293 : BitVec 32 := Scalar.muli c2_i32_5725 c0_i32_5724
  let c4_i32_5799 : BitVec 32 := 4#32
  let v11433 : BitVec 32 := Scalar.muli v11293 c4_i32_5799
  let c1_i32_5800 : BitVec 32 := 1#32
  let v11434 : BitVec 32 := Scalar.addi v11433 c1_i32_5800
  let c0_i32_5802 : BitVec 32 := 0#32
  let v11436 : BitVec 1 := Scalar.cmpi .sgt v11434 c0_i32_5802
  let v11437 : BitVec 32 := Scalar.extui v11436
  let c0_i32_5803 : BitVec 32 := 0#32
  let v11438 : BitVec 1 := Scalar.cmpi .slt v11434 c0_i32_5803
  let v11439 : BitVec 32 := Scalar.extui v11438
  let v11440 : BitVec 32 := Scalar.subi v11437 v11439
  let c1_i32_5801 : BitVec 32 := 1#32
  let c0_i32_5804 : BitVec 32 := 0#32
  let v11441 : BitVec 1 := Scalar.cmpi .sgt c1_i32_5801 c0_i32_5804
  let v11442 : BitVec 32 := Scalar.extui v11441
  let c0_i32_5805 : BitVec 32 := 0#32
  let v11443 : BitVec 1 := Scalar.cmpi .slt c1_i32_5801 c0_i32_5805
  let v11444 : BitVec 32 := Scalar.extui v11443
  let v11445 : BitVec 32 := Scalar.subi v11442 v11444
  let v11446 : BitVec 1 := Scalar.cmpi .ne v11440 v11445
  let v11447 : BitVec 32 := Scalar.remsi v11434 c1_i32_5801
  let c0_i32_5806 : BitVec 32 := 0#32
  let v11448 : BitVec 1 := Scalar.cmpi .ne v11447 c0_i32_5806
  let v11449 : BitVec 1 := Scalar.andi v11446 v11448
  let v11435 : BitVec 32 := Scalar.divsi v11434 c1_i32_5801
  let c1_i32_5807 : BitVec 32 := 1#32
  let v11450 : BitVec 32 := Scalar.subi v11435 c1_i32_5807
  let v11451 : BitVec 32 := Scalar.select v11449 v11450 v11435
  let c128_i32_5818 : BitVec 32 := 128#32
  let v11466 : BitVec 32 := Scalar.muli v11451 c128_i32_5818
  let c0_i32_5817 : BitVec 32 := 0#32
  let c0_i32_5816 : BitVec 32 := 0#32
  let c1_i32_5808 : BitVec 32 := 1#32
  let c0_i32_5809 : BitVec 32 := 0#32
  let v11452 : BitVec 1 := Scalar.cmpi .eq c1_i32_5808 c0_i32_5809
  let c1_i32_5810 : BitVec 32 := 1#32
  let v11453 : BitVec 32 := Scalar.select v11452 c1_i32_5810 c1_i32_5808
  let v11454 : BitVec 32 := Scalar.remsi v11434 v11453
  let c0_i32_5812 : BitVec 32 := 0#32
  let v11456 : BitVec 1 := Scalar.cmpi .slt v11454 c0_i32_5812
  let c0_i32_5813 : BitVec 32 := 0#32
  let v11457 : BitVec 1 := Scalar.cmpi .slt v11453 c0_i32_5813
  let v11458 : BitVec 1 := Scalar.xori v11456 v11457
  let c0_i32_5811 : BitVec 32 := 0#32
  let v11455 : BitVec 1 := Scalar.cmpi .ne v11454 c0_i32_5811
  let v11459 : BitVec 1 := Scalar.andi v11458 v11455
  let v11460 : BitVec 32 := Scalar.addi v11454 v11453
  let v11461 : BitVec 32 := Scalar.select v11459 v11460 v11454
  let c128_i32_5814 : BitVec 32 := 128#32
  let v11462 : BitVec 32 := Scalar.muli v11461 c128_i32_5814
  let c64_i32_5815 : BitVec 32 := 64#32
  let v11463 : BitVec 32 := Scalar.subi v11462 c64_i32_5815
  let v11464 : BitVec 32 := Scalar.maxsi c0_i32_5816 v11463
  let v11465 : BitVec 32 := Scalar.minsi c0_i32_5817 v11464
  let v11467 : BitVec 32 := Scalar.addi v11466 v11465
  v11467
def k0_mult493 : BitVec 32 :=
  let c2_i32_5725 : BitVec 32 := 2#32
  let c0_i32_5724 : BitVec 32 := 0#32
  let v11293 : BitVec 32 := Scalar.muli c2_i32_5725 c0_i32_5724
  let c4_i32_5799 : BitVec 32 := 4#32
  let v11433 : BitVec 32 := Scalar.muli v11293 c4_i32_5799
  let c1_i32_5800 : BitVec 32 := 1#32
  let v11434 : BitVec 32 := Scalar.addi v11433 c1_i32_5800
  let c0_i32_5802 : BitVec 32 := 0#32
  let v11436 : BitVec 1 := Scalar.cmpi .sgt v11434 c0_i32_5802
  let v11437 : BitVec 32 := Scalar.extui v11436
  let c0_i32_5803 : BitVec 32 := 0#32
  let v11438 : BitVec 1 := Scalar.cmpi .slt v11434 c0_i32_5803
  let v11439 : BitVec 32 := Scalar.extui v11438
  let v11440 : BitVec 32 := Scalar.subi v11437 v11439
  let c1_i32_5801 : BitVec 32 := 1#32
  let c0_i32_5804 : BitVec 32 := 0#32
  let v11441 : BitVec 1 := Scalar.cmpi .sgt c1_i32_5801 c0_i32_5804
  let v11442 : BitVec 32 := Scalar.extui v11441
  let c0_i32_5805 : BitVec 32 := 0#32
  let v11443 : BitVec 1 := Scalar.cmpi .slt c1_i32_5801 c0_i32_5805
  let v11444 : BitVec 32 := Scalar.extui v11443
  let v11445 : BitVec 32 := Scalar.subi v11442 v11444
  let v11446 : BitVec 1 := Scalar.cmpi .ne v11440 v11445
  let v11447 : BitVec 32 := Scalar.remsi v11434 c1_i32_5801
  let c0_i32_5806 : BitVec 32 := 0#32
  let v11448 : BitVec 1 := Scalar.cmpi .ne v11447 c0_i32_5806
  let v11449 : BitVec 1 := Scalar.andi v11446 v11448
  let v11435 : BitVec 32 := Scalar.divsi v11434 c1_i32_5801
  let c1_i32_5807 : BitVec 32 := 1#32
  let v11450 : BitVec 32 := Scalar.subi v11435 c1_i32_5807
  let v11451 : BitVec 32 := Scalar.select v11449 v11450 v11435
  let c128_i32_5818 : BitVec 32 := 128#32
  let v11466 : BitVec 32 := Scalar.muli v11451 c128_i32_5818
  let c0_i32_5817 : BitVec 32 := 0#32
  let c0_i32_5816 : BitVec 32 := 0#32
  let c1_i32_5808 : BitVec 32 := 1#32
  let c0_i32_5809 : BitVec 32 := 0#32
  let v11452 : BitVec 1 := Scalar.cmpi .eq c1_i32_5808 c0_i32_5809
  let c1_i32_5810 : BitVec 32 := 1#32
  let v11453 : BitVec 32 := Scalar.select v11452 c1_i32_5810 c1_i32_5808
  let v11454 : BitVec 32 := Scalar.remsi v11434 v11453
  let c0_i32_5812 : BitVec 32 := 0#32
  let v11456 : BitVec 1 := Scalar.cmpi .slt v11454 c0_i32_5812
  let c0_i32_5813 : BitVec 32 := 0#32
  let v11457 : BitVec 1 := Scalar.cmpi .slt v11453 c0_i32_5813
  let v11458 : BitVec 1 := Scalar.xori v11456 v11457
  let c0_i32_5811 : BitVec 32 := 0#32
  let v11455 : BitVec 1 := Scalar.cmpi .ne v11454 c0_i32_5811
  let v11459 : BitVec 1 := Scalar.andi v11458 v11455
  let v11460 : BitVec 32 := Scalar.addi v11454 v11453
  let v11461 : BitVec 32 := Scalar.select v11459 v11460 v11454
  let c128_i32_5814 : BitVec 32 := 128#32
  let v11462 : BitVec 32 := Scalar.muli v11461 c128_i32_5814
  let c64_i32_5815 : BitVec 32 := 64#32
  let v11463 : BitVec 32 := Scalar.subi v11462 c64_i32_5815
  let v11464 : BitVec 32 := Scalar.maxsi c0_i32_5816 v11463
  let v11465 : BitVec 32 := Scalar.minsi c0_i32_5817 v11464
  let v11467 : BitVec 32 := Scalar.addi v11466 v11465
  let v11468 : BitVec 32 := v11467
  let c0_i32_5824 : BitVec 32 := 0#32
  let v11472 : BitVec 1 := Scalar.cmpi .sgt v11468 c0_i32_5824
  let v11473 : BitVec 32 := Scalar.extui v11472
  let c0_i32_5825 : BitVec 32 := 0#32
  let v11474 : BitVec 1 := Scalar.cmpi .slt v11468 c0_i32_5825
  let v11475 : BitVec 32 := Scalar.extui v11474
  let v11476 : BitVec 32 := Scalar.subi v11473 v11475
  let c2_i32_5823 : BitVec 32 := 2#32
  let c0_i32_5826 : BitVec 32 := 0#32
  let v11477 : BitVec 1 := Scalar.cmpi .sgt c2_i32_5823 c0_i32_5826
  let v11478 : BitVec 32 := Scalar.extui v11477
  let c0_i32_5827 : BitVec 32 := 0#32
  let v11479 : BitVec 1 := Scalar.cmpi .slt c2_i32_5823 c0_i32_5827
  let v11480 : BitVec 32 := Scalar.extui v11479
  let v11481 : BitVec 32 := Scalar.subi v11478 v11480
  let v11482 : BitVec 1 := Scalar.cmpi .ne v11476 v11481
  let v11483 : BitVec 32 := Scalar.remsi v11468 c2_i32_5823
  let c0_i32_5828 : BitVec 32 := 0#32
  let v11484 : BitVec 1 := Scalar.cmpi .ne v11483 c0_i32_5828
  let v11485 : BitVec 1 := Scalar.andi v11482 v11484
  let v11471 : BitVec 32 := Scalar.divsi v11468 c2_i32_5823
  let c1_i32_5829 : BitVec 32 := 1#32
  let v11486 : BitVec 32 := Scalar.subi v11471 c1_i32_5829
  let v11487 : BitVec 32 := Scalar.select v11485 v11486 v11471
  v11487
def k0_mult494 : BitVec 32 :=
  let c2_i32_5725 : BitVec 32 := 2#32
  let c0_i32_5724 : BitVec 32 := 0#32
  let v11293 : BitVec 32 := Scalar.muli c2_i32_5725 c0_i32_5724
  let c4_i32_5799 : BitVec 32 := 4#32
  let v11433 : BitVec 32 := Scalar.muli v11293 c4_i32_5799
  let c1_i32_5800 : BitVec 32 := 1#32
  let v11434 : BitVec 32 := Scalar.addi v11433 c1_i32_5800
  let c0_i32_5802 : BitVec 32 := 0#32
  let v11436 : BitVec 1 := Scalar.cmpi .sgt v11434 c0_i32_5802
  let v11437 : BitVec 32 := Scalar.extui v11436
  let c0_i32_5803 : BitVec 32 := 0#32
  let v11438 : BitVec 1 := Scalar.cmpi .slt v11434 c0_i32_5803
  let v11439 : BitVec 32 := Scalar.extui v11438
  let v11440 : BitVec 32 := Scalar.subi v11437 v11439
  let c1_i32_5801 : BitVec 32 := 1#32
  let c0_i32_5804 : BitVec 32 := 0#32
  let v11441 : BitVec 1 := Scalar.cmpi .sgt c1_i32_5801 c0_i32_5804
  let v11442 : BitVec 32 := Scalar.extui v11441
  let c0_i32_5805 : BitVec 32 := 0#32
  let v11443 : BitVec 1 := Scalar.cmpi .slt c1_i32_5801 c0_i32_5805
  let v11444 : BitVec 32 := Scalar.extui v11443
  let v11445 : BitVec 32 := Scalar.subi v11442 v11444
  let v11446 : BitVec 1 := Scalar.cmpi .ne v11440 v11445
  let v11447 : BitVec 32 := Scalar.remsi v11434 c1_i32_5801
  let c0_i32_5806 : BitVec 32 := 0#32
  let v11448 : BitVec 1 := Scalar.cmpi .ne v11447 c0_i32_5806
  let v11449 : BitVec 1 := Scalar.andi v11446 v11448
  let v11435 : BitVec 32 := Scalar.divsi v11434 c1_i32_5801
  let c1_i32_5807 : BitVec 32 := 1#32
  let v11450 : BitVec 32 := Scalar.subi v11435 c1_i32_5807
  let v11451 : BitVec 32 := Scalar.select v11449 v11450 v11435
  let c128_i32_5818 : BitVec 32 := 128#32
  let v11466 : BitVec 32 := Scalar.muli v11451 c128_i32_5818
  let c0_i32_5817 : BitVec 32 := 0#32
  let c0_i32_5816 : BitVec 32 := 0#32
  let c1_i32_5808 : BitVec 32 := 1#32
  let c0_i32_5809 : BitVec 32 := 0#32
  let v11452 : BitVec 1 := Scalar.cmpi .eq c1_i32_5808 c0_i32_5809
  let c1_i32_5810 : BitVec 32 := 1#32
  let v11453 : BitVec 32 := Scalar.select v11452 c1_i32_5810 c1_i32_5808
  let v11454 : BitVec 32 := Scalar.remsi v11434 v11453
  let c0_i32_5812 : BitVec 32 := 0#32
  let v11456 : BitVec 1 := Scalar.cmpi .slt v11454 c0_i32_5812
  let c0_i32_5813 : BitVec 32 := 0#32
  let v11457 : BitVec 1 := Scalar.cmpi .slt v11453 c0_i32_5813
  let v11458 : BitVec 1 := Scalar.xori v11456 v11457
  let c0_i32_5811 : BitVec 32 := 0#32
  let v11455 : BitVec 1 := Scalar.cmpi .ne v11454 c0_i32_5811
  let v11459 : BitVec 1 := Scalar.andi v11458 v11455
  let v11460 : BitVec 32 := Scalar.addi v11454 v11453
  let v11461 : BitVec 32 := Scalar.select v11459 v11460 v11454
  let c128_i32_5814 : BitVec 32 := 128#32
  let v11462 : BitVec 32 := Scalar.muli v11461 c128_i32_5814
  let c64_i32_5815 : BitVec 32 := 64#32
  let v11463 : BitVec 32 := Scalar.subi v11462 c64_i32_5815
  let v11464 : BitVec 32 := Scalar.maxsi c0_i32_5816 v11463
  let v11465 : BitVec 32 := Scalar.minsi c0_i32_5817 v11464
  let v11467 : BitVec 32 := Scalar.addi v11466 v11465
  let v11468 : BitVec 32 := v11467
  let c0_i32_5838 : BitVec 32 := 0#32
  let v11497 : BitVec 1 := Scalar.cmpi .sgt v11468 c0_i32_5838
  let v11498 : BitVec 32 := Scalar.extui v11497
  let c0_i32_5839 : BitVec 32 := 0#32
  let v11499 : BitVec 1 := Scalar.cmpi .slt v11468 c0_i32_5839
  let v11500 : BitVec 32 := Scalar.extui v11499
  let v11501 : BitVec 32 := Scalar.subi v11498 v11500
  let c2_i32_5837 : BitVec 32 := 2#32
  let c0_i32_5840 : BitVec 32 := 0#32
  let v11502 : BitVec 1 := Scalar.cmpi .sgt c2_i32_5837 c0_i32_5840
  let v11503 : BitVec 32 := Scalar.extui v11502
  let c0_i32_5841 : BitVec 32 := 0#32
  let v11504 : BitVec 1 := Scalar.cmpi .slt c2_i32_5837 c0_i32_5841
  let v11505 : BitVec 32 := Scalar.extui v11504
  let v11506 : BitVec 32 := Scalar.subi v11503 v11505
  let v11507 : BitVec 1 := Scalar.cmpi .ne v11501 v11506
  let v11508 : BitVec 32 := Scalar.remsi v11468 c2_i32_5837
  let c0_i32_5842 : BitVec 32 := 0#32
  let v11509 : BitVec 1 := Scalar.cmpi .ne v11508 c0_i32_5842
  let v11510 : BitVec 1 := Scalar.andi v11507 v11509
  let v11496 : BitVec 32 := Scalar.divsi v11468 c2_i32_5837
  let c1_i32_5843 : BitVec 32 := 1#32
  let v11511 : BitVec 32 := Scalar.subi v11496 c1_i32_5843
  let v11512 : BitVec 32 := Scalar.select v11510 v11511 v11496
  v11512
def k0_mult495 : BitVec 32 :=
  let c2_i32_5725 : BitVec 32 := 2#32
  let c0_i32_5724 : BitVec 32 := 0#32
  let v11293 : BitVec 32 := Scalar.muli c2_i32_5725 c0_i32_5724
  let c4_i32_5872 : BitVec 32 := 4#32
  let v11572 : BitVec 32 := Scalar.muli v11293 c4_i32_5872
  let c2_i32_5873 : BitVec 32 := 2#32
  let v11573 : BitVec 32 := Scalar.addi v11572 c2_i32_5873
  let c0_i32_5875 : BitVec 32 := 0#32
  let v11575 : BitVec 1 := Scalar.cmpi .sgt v11573 c0_i32_5875
  let v11576 : BitVec 32 := Scalar.extui v11575
  let c0_i32_5876 : BitVec 32 := 0#32
  let v11577 : BitVec 1 := Scalar.cmpi .slt v11573 c0_i32_5876
  let v11578 : BitVec 32 := Scalar.extui v11577
  let v11579 : BitVec 32 := Scalar.subi v11576 v11578
  let c1_i32_5874 : BitVec 32 := 1#32
  let c0_i32_5877 : BitVec 32 := 0#32
  let v11580 : BitVec 1 := Scalar.cmpi .sgt c1_i32_5874 c0_i32_5877
  let v11581 : BitVec 32 := Scalar.extui v11580
  let c0_i32_5878 : BitVec 32 := 0#32
  let v11582 : BitVec 1 := Scalar.cmpi .slt c1_i32_5874 c0_i32_5878
  let v11583 : BitVec 32 := Scalar.extui v11582
  let v11584 : BitVec 32 := Scalar.subi v11581 v11583
  let v11585 : BitVec 1 := Scalar.cmpi .ne v11579 v11584
  let v11586 : BitVec 32 := Scalar.remsi v11573 c1_i32_5874
  let c0_i32_5879 : BitVec 32 := 0#32
  let v11587 : BitVec 1 := Scalar.cmpi .ne v11586 c0_i32_5879
  let v11588 : BitVec 1 := Scalar.andi v11585 v11587
  let v11574 : BitVec 32 := Scalar.divsi v11573 c1_i32_5874
  let c1_i32_5880 : BitVec 32 := 1#32
  let v11589 : BitVec 32 := Scalar.subi v11574 c1_i32_5880
  let v11590 : BitVec 32 := Scalar.select v11588 v11589 v11574
  let c128_i32_5891 : BitVec 32 := 128#32
  let v11605 : BitVec 32 := Scalar.muli v11590 c128_i32_5891
  let c0_i32_5890 : BitVec 32 := 0#32
  let c0_i32_5889 : BitVec 32 := 0#32
  let c1_i32_5881 : BitVec 32 := 1#32
  let c0_i32_5882 : BitVec 32 := 0#32
  let v11591 : BitVec 1 := Scalar.cmpi .eq c1_i32_5881 c0_i32_5882
  let c1_i32_5883 : BitVec 32 := 1#32
  let v11592 : BitVec 32 := Scalar.select v11591 c1_i32_5883 c1_i32_5881
  let v11593 : BitVec 32 := Scalar.remsi v11573 v11592
  let c0_i32_5885 : BitVec 32 := 0#32
  let v11595 : BitVec 1 := Scalar.cmpi .slt v11593 c0_i32_5885
  let c0_i32_5886 : BitVec 32 := 0#32
  let v11596 : BitVec 1 := Scalar.cmpi .slt v11592 c0_i32_5886
  let v11597 : BitVec 1 := Scalar.xori v11595 v11596
  let c0_i32_5884 : BitVec 32 := 0#32
  let v11594 : BitVec 1 := Scalar.cmpi .ne v11593 c0_i32_5884
  let v11598 : BitVec 1 := Scalar.andi v11597 v11594
  let v11599 : BitVec 32 := Scalar.addi v11593 v11592
  let v11600 : BitVec 32 := Scalar.select v11598 v11599 v11593
  let c128_i32_5887 : BitVec 32 := 128#32
  let v11601 : BitVec 32 := Scalar.muli v11600 c128_i32_5887
  let c64_i32_5888 : BitVec 32 := 64#32
  let v11602 : BitVec 32 := Scalar.subi v11601 c64_i32_5888
  let v11603 : BitVec 32 := Scalar.maxsi c0_i32_5889 v11602
  let v11604 : BitVec 32 := Scalar.minsi c0_i32_5890 v11603
  let v11606 : BitVec 32 := Scalar.addi v11605 v11604
  v11606
def k0_mult496 : BitVec 32 :=
  let c2_i32_5725 : BitVec 32 := 2#32
  let c0_i32_5724 : BitVec 32 := 0#32
  let v11293 : BitVec 32 := Scalar.muli c2_i32_5725 c0_i32_5724
  let c4_i32_5872 : BitVec 32 := 4#32
  let v11572 : BitVec 32 := Scalar.muli v11293 c4_i32_5872
  let c2_i32_5873 : BitVec 32 := 2#32
  let v11573 : BitVec 32 := Scalar.addi v11572 c2_i32_5873
  let c0_i32_5875 : BitVec 32 := 0#32
  let v11575 : BitVec 1 := Scalar.cmpi .sgt v11573 c0_i32_5875
  let v11576 : BitVec 32 := Scalar.extui v11575
  let c0_i32_5876 : BitVec 32 := 0#32
  let v11577 : BitVec 1 := Scalar.cmpi .slt v11573 c0_i32_5876
  let v11578 : BitVec 32 := Scalar.extui v11577
  let v11579 : BitVec 32 := Scalar.subi v11576 v11578
  let c1_i32_5874 : BitVec 32 := 1#32
  let c0_i32_5877 : BitVec 32 := 0#32
  let v11580 : BitVec 1 := Scalar.cmpi .sgt c1_i32_5874 c0_i32_5877
  let v11581 : BitVec 32 := Scalar.extui v11580
  let c0_i32_5878 : BitVec 32 := 0#32
  let v11582 : BitVec 1 := Scalar.cmpi .slt c1_i32_5874 c0_i32_5878
  let v11583 : BitVec 32 := Scalar.extui v11582
  let v11584 : BitVec 32 := Scalar.subi v11581 v11583
  let v11585 : BitVec 1 := Scalar.cmpi .ne v11579 v11584
  let v11586 : BitVec 32 := Scalar.remsi v11573 c1_i32_5874
  let c0_i32_5879 : BitVec 32 := 0#32
  let v11587 : BitVec 1 := Scalar.cmpi .ne v11586 c0_i32_5879
  let v11588 : BitVec 1 := Scalar.andi v11585 v11587
  let v11574 : BitVec 32 := Scalar.divsi v11573 c1_i32_5874
  let c1_i32_5880 : BitVec 32 := 1#32
  let v11589 : BitVec 32 := Scalar.subi v11574 c1_i32_5880
  let v11590 : BitVec 32 := Scalar.select v11588 v11589 v11574
  let c128_i32_5891 : BitVec 32 := 128#32
  let v11605 : BitVec 32 := Scalar.muli v11590 c128_i32_5891
  let c0_i32_5890 : BitVec 32 := 0#32
  let c0_i32_5889 : BitVec 32 := 0#32
  let c1_i32_5881 : BitVec 32 := 1#32
  let c0_i32_5882 : BitVec 32 := 0#32
  let v11591 : BitVec 1 := Scalar.cmpi .eq c1_i32_5881 c0_i32_5882
  let c1_i32_5883 : BitVec 32 := 1#32
  let v11592 : BitVec 32 := Scalar.select v11591 c1_i32_5883 c1_i32_5881
  let v11593 : BitVec 32 := Scalar.remsi v11573 v11592
  let c0_i32_5885 : BitVec 32 := 0#32
  let v11595 : BitVec 1 := Scalar.cmpi .slt v11593 c0_i32_5885
  let c0_i32_5886 : BitVec 32 := 0#32
  let v11596 : BitVec 1 := Scalar.cmpi .slt v11592 c0_i32_5886
  let v11597 : BitVec 1 := Scalar.xori v11595 v11596
  let c0_i32_5884 : BitVec 32 := 0#32
  let v11594 : BitVec 1 := Scalar.cmpi .ne v11593 c0_i32_5884
  let v11598 : BitVec 1 := Scalar.andi v11597 v11594
  let v11599 : BitVec 32 := Scalar.addi v11593 v11592
  let v11600 : BitVec 32 := Scalar.select v11598 v11599 v11593
  let c128_i32_5887 : BitVec 32 := 128#32
  let v11601 : BitVec 32 := Scalar.muli v11600 c128_i32_5887
  let c64_i32_5888 : BitVec 32 := 64#32
  let v11602 : BitVec 32 := Scalar.subi v11601 c64_i32_5888
  let v11603 : BitVec 32 := Scalar.maxsi c0_i32_5889 v11602
  let v11604 : BitVec 32 := Scalar.minsi c0_i32_5890 v11603
  let v11606 : BitVec 32 := Scalar.addi v11605 v11604
  let v11607 : BitVec 32 := v11606
  let c0_i32_5897 : BitVec 32 := 0#32
  let v11611 : BitVec 1 := Scalar.cmpi .sgt v11607 c0_i32_5897
  let v11612 : BitVec 32 := Scalar.extui v11611
  let c0_i32_5898 : BitVec 32 := 0#32
  let v11613 : BitVec 1 := Scalar.cmpi .slt v11607 c0_i32_5898
  let v11614 : BitVec 32 := Scalar.extui v11613
  let v11615 : BitVec 32 := Scalar.subi v11612 v11614
  let c2_i32_5896 : BitVec 32 := 2#32
  let c0_i32_5899 : BitVec 32 := 0#32
  let v11616 : BitVec 1 := Scalar.cmpi .sgt c2_i32_5896 c0_i32_5899
  let v11617 : BitVec 32 := Scalar.extui v11616
  let c0_i32_5900 : BitVec 32 := 0#32
  let v11618 : BitVec 1 := Scalar.cmpi .slt c2_i32_5896 c0_i32_5900
  let v11619 : BitVec 32 := Scalar.extui v11618
  let v11620 : BitVec 32 := Scalar.subi v11617 v11619
  let v11621 : BitVec 1 := Scalar.cmpi .ne v11615 v11620
  let v11622 : BitVec 32 := Scalar.remsi v11607 c2_i32_5896
  let c0_i32_5901 : BitVec 32 := 0#32
  let v11623 : BitVec 1 := Scalar.cmpi .ne v11622 c0_i32_5901
  let v11624 : BitVec 1 := Scalar.andi v11621 v11623
  let v11610 : BitVec 32 := Scalar.divsi v11607 c2_i32_5896
  let c1_i32_5902 : BitVec 32 := 1#32
  let v11625 : BitVec 32 := Scalar.subi v11610 c1_i32_5902
  let v11626 : BitVec 32 := Scalar.select v11624 v11625 v11610
  v11626
def k0_mult497 : BitVec 32 :=
  let c2_i32_5725 : BitVec 32 := 2#32
  let c0_i32_5724 : BitVec 32 := 0#32
  let v11293 : BitVec 32 := Scalar.muli c2_i32_5725 c0_i32_5724
  let c4_i32_5872 : BitVec 32 := 4#32
  let v11572 : BitVec 32 := Scalar.muli v11293 c4_i32_5872
  let c2_i32_5873 : BitVec 32 := 2#32
  let v11573 : BitVec 32 := Scalar.addi v11572 c2_i32_5873
  let c0_i32_5875 : BitVec 32 := 0#32
  let v11575 : BitVec 1 := Scalar.cmpi .sgt v11573 c0_i32_5875
  let v11576 : BitVec 32 := Scalar.extui v11575
  let c0_i32_5876 : BitVec 32 := 0#32
  let v11577 : BitVec 1 := Scalar.cmpi .slt v11573 c0_i32_5876
  let v11578 : BitVec 32 := Scalar.extui v11577
  let v11579 : BitVec 32 := Scalar.subi v11576 v11578
  let c1_i32_5874 : BitVec 32 := 1#32
  let c0_i32_5877 : BitVec 32 := 0#32
  let v11580 : BitVec 1 := Scalar.cmpi .sgt c1_i32_5874 c0_i32_5877
  let v11581 : BitVec 32 := Scalar.extui v11580
  let c0_i32_5878 : BitVec 32 := 0#32
  let v11582 : BitVec 1 := Scalar.cmpi .slt c1_i32_5874 c0_i32_5878
  let v11583 : BitVec 32 := Scalar.extui v11582
  let v11584 : BitVec 32 := Scalar.subi v11581 v11583
  let v11585 : BitVec 1 := Scalar.cmpi .ne v11579 v11584
  let v11586 : BitVec 32 := Scalar.remsi v11573 c1_i32_5874
  let c0_i32_5879 : BitVec 32 := 0#32
  let v11587 : BitVec 1 := Scalar.cmpi .ne v11586 c0_i32_5879
  let v11588 : BitVec 1 := Scalar.andi v11585 v11587
  let v11574 : BitVec 32 := Scalar.divsi v11573 c1_i32_5874
  let c1_i32_5880 : BitVec 32 := 1#32
  let v11589 : BitVec 32 := Scalar.subi v11574 c1_i32_5880
  let v11590 : BitVec 32 := Scalar.select v11588 v11589 v11574
  let c128_i32_5891 : BitVec 32 := 128#32
  let v11605 : BitVec 32 := Scalar.muli v11590 c128_i32_5891
  let c0_i32_5890 : BitVec 32 := 0#32
  let c0_i32_5889 : BitVec 32 := 0#32
  let c1_i32_5881 : BitVec 32 := 1#32
  let c0_i32_5882 : BitVec 32 := 0#32
  let v11591 : BitVec 1 := Scalar.cmpi .eq c1_i32_5881 c0_i32_5882
  let c1_i32_5883 : BitVec 32 := 1#32
  let v11592 : BitVec 32 := Scalar.select v11591 c1_i32_5883 c1_i32_5881
  let v11593 : BitVec 32 := Scalar.remsi v11573 v11592
  let c0_i32_5885 : BitVec 32 := 0#32
  let v11595 : BitVec 1 := Scalar.cmpi .slt v11593 c0_i32_5885
  let c0_i32_5886 : BitVec 32 := 0#32
  let v11596 : BitVec 1 := Scalar.cmpi .slt v11592 c0_i32_5886
  let v11597 : BitVec 1 := Scalar.xori v11595 v11596
  let c0_i32_5884 : BitVec 32 := 0#32
  let v11594 : BitVec 1 := Scalar.cmpi .ne v11593 c0_i32_5884
  let v11598 : BitVec 1 := Scalar.andi v11597 v11594
  let v11599 : BitVec 32 := Scalar.addi v11593 v11592
  let v11600 : BitVec 32 := Scalar.select v11598 v11599 v11593
  let c128_i32_5887 : BitVec 32 := 128#32
  let v11601 : BitVec 32 := Scalar.muli v11600 c128_i32_5887
  let c64_i32_5888 : BitVec 32 := 64#32
  let v11602 : BitVec 32 := Scalar.subi v11601 c64_i32_5888
  let v11603 : BitVec 32 := Scalar.maxsi c0_i32_5889 v11602
  let v11604 : BitVec 32 := Scalar.minsi c0_i32_5890 v11603
  let v11606 : BitVec 32 := Scalar.addi v11605 v11604
  let v11607 : BitVec 32 := v11606
  let c0_i32_5911 : BitVec 32 := 0#32
  let v11636 : BitVec 1 := Scalar.cmpi .sgt v11607 c0_i32_5911
  let v11637 : BitVec 32 := Scalar.extui v11636
  let c0_i32_5912 : BitVec 32 := 0#32
  let v11638 : BitVec 1 := Scalar.cmpi .slt v11607 c0_i32_5912
  let v11639 : BitVec 32 := Scalar.extui v11638
  let v11640 : BitVec 32 := Scalar.subi v11637 v11639
  let c2_i32_5910 : BitVec 32 := 2#32
  let c0_i32_5913 : BitVec 32 := 0#32
  let v11641 : BitVec 1 := Scalar.cmpi .sgt c2_i32_5910 c0_i32_5913
  let v11642 : BitVec 32 := Scalar.extui v11641
  let c0_i32_5914 : BitVec 32 := 0#32
  let v11643 : BitVec 1 := Scalar.cmpi .slt c2_i32_5910 c0_i32_5914
  let v11644 : BitVec 32 := Scalar.extui v11643
  let v11645 : BitVec 32 := Scalar.subi v11642 v11644
  let v11646 : BitVec 1 := Scalar.cmpi .ne v11640 v11645
  let v11647 : BitVec 32 := Scalar.remsi v11607 c2_i32_5910
  let c0_i32_5915 : BitVec 32 := 0#32
  let v11648 : BitVec 1 := Scalar.cmpi .ne v11647 c0_i32_5915
  let v11649 : BitVec 1 := Scalar.andi v11646 v11648
  let v11635 : BitVec 32 := Scalar.divsi v11607 c2_i32_5910
  let c1_i32_5916 : BitVec 32 := 1#32
  let v11650 : BitVec 32 := Scalar.subi v11635 c1_i32_5916
  let v11651 : BitVec 32 := Scalar.select v11649 v11650 v11635
  v11651
def k0_mult498 : BitVec 32 :=
  let c2_i32_5725 : BitVec 32 := 2#32
  let c0_i32_5724 : BitVec 32 := 0#32
  let v11293 : BitVec 32 := Scalar.muli c2_i32_5725 c0_i32_5724
  let c4_i32_5945 : BitVec 32 := 4#32
  let v11711 : BitVec 32 := Scalar.muli v11293 c4_i32_5945
  let c3_i32_5946 : BitVec 32 := 3#32
  let v11712 : BitVec 32 := Scalar.addi v11711 c3_i32_5946
  let c0_i32_5948 : BitVec 32 := 0#32
  let v11714 : BitVec 1 := Scalar.cmpi .sgt v11712 c0_i32_5948
  let v11715 : BitVec 32 := Scalar.extui v11714
  let c0_i32_5949 : BitVec 32 := 0#32
  let v11716 : BitVec 1 := Scalar.cmpi .slt v11712 c0_i32_5949
  let v11717 : BitVec 32 := Scalar.extui v11716
  let v11718 : BitVec 32 := Scalar.subi v11715 v11717
  let c1_i32_5947 : BitVec 32 := 1#32
  let c0_i32_5950 : BitVec 32 := 0#32
  let v11719 : BitVec 1 := Scalar.cmpi .sgt c1_i32_5947 c0_i32_5950
  let v11720 : BitVec 32 := Scalar.extui v11719
  let c0_i32_5951 : BitVec 32 := 0#32
  let v11721 : BitVec 1 := Scalar.cmpi .slt c1_i32_5947 c0_i32_5951
  let v11722 : BitVec 32 := Scalar.extui v11721
  let v11723 : BitVec 32 := Scalar.subi v11720 v11722
  let v11724 : BitVec 1 := Scalar.cmpi .ne v11718 v11723
  let v11725 : BitVec 32 := Scalar.remsi v11712 c1_i32_5947
  let c0_i32_5952 : BitVec 32 := 0#32
  let v11726 : BitVec 1 := Scalar.cmpi .ne v11725 c0_i32_5952
  let v11727 : BitVec 1 := Scalar.andi v11724 v11726
  let v11713 : BitVec 32 := Scalar.divsi v11712 c1_i32_5947
  let c1_i32_5953 : BitVec 32 := 1#32
  let v11728 : BitVec 32 := Scalar.subi v11713 c1_i32_5953
  let v11729 : BitVec 32 := Scalar.select v11727 v11728 v11713
  let c128_i32_5964 : BitVec 32 := 128#32
  let v11744 : BitVec 32 := Scalar.muli v11729 c128_i32_5964
  let c0_i32_5963 : BitVec 32 := 0#32
  let c0_i32_5962 : BitVec 32 := 0#32
  let c1_i32_5954 : BitVec 32 := 1#32
  let c0_i32_5955 : BitVec 32 := 0#32
  let v11730 : BitVec 1 := Scalar.cmpi .eq c1_i32_5954 c0_i32_5955
  let c1_i32_5956 : BitVec 32 := 1#32
  let v11731 : BitVec 32 := Scalar.select v11730 c1_i32_5956 c1_i32_5954
  let v11732 : BitVec 32 := Scalar.remsi v11712 v11731
  let c0_i32_5958 : BitVec 32 := 0#32
  let v11734 : BitVec 1 := Scalar.cmpi .slt v11732 c0_i32_5958
  let c0_i32_5959 : BitVec 32 := 0#32
  let v11735 : BitVec 1 := Scalar.cmpi .slt v11731 c0_i32_5959
  let v11736 : BitVec 1 := Scalar.xori v11734 v11735
  let c0_i32_5957 : BitVec 32 := 0#32
  let v11733 : BitVec 1 := Scalar.cmpi .ne v11732 c0_i32_5957
  let v11737 : BitVec 1 := Scalar.andi v11736 v11733
  let v11738 : BitVec 32 := Scalar.addi v11732 v11731
  let v11739 : BitVec 32 := Scalar.select v11737 v11738 v11732
  let c128_i32_5960 : BitVec 32 := 128#32
  let v11740 : BitVec 32 := Scalar.muli v11739 c128_i32_5960
  let c64_i32_5961 : BitVec 32 := 64#32
  let v11741 : BitVec 32 := Scalar.subi v11740 c64_i32_5961
  let v11742 : BitVec 32 := Scalar.maxsi c0_i32_5962 v11741
  let v11743 : BitVec 32 := Scalar.minsi c0_i32_5963 v11742
  let v11745 : BitVec 32 := Scalar.addi v11744 v11743
  v11745
def k0_mult499 : BitVec 32 :=
  let c2_i32_5725 : BitVec 32 := 2#32
  let c0_i32_5724 : BitVec 32 := 0#32
  let v11293 : BitVec 32 := Scalar.muli c2_i32_5725 c0_i32_5724
  let c4_i32_5945 : BitVec 32 := 4#32
  let v11711 : BitVec 32 := Scalar.muli v11293 c4_i32_5945
  let c3_i32_5946 : BitVec 32 := 3#32
  let v11712 : BitVec 32 := Scalar.addi v11711 c3_i32_5946
  let c0_i32_5948 : BitVec 32 := 0#32
  let v11714 : BitVec 1 := Scalar.cmpi .sgt v11712 c0_i32_5948
  let v11715 : BitVec 32 := Scalar.extui v11714
  let c0_i32_5949 : BitVec 32 := 0#32
  let v11716 : BitVec 1 := Scalar.cmpi .slt v11712 c0_i32_5949
  let v11717 : BitVec 32 := Scalar.extui v11716
  let v11718 : BitVec 32 := Scalar.subi v11715 v11717
  let c1_i32_5947 : BitVec 32 := 1#32
  let c0_i32_5950 : BitVec 32 := 0#32
  let v11719 : BitVec 1 := Scalar.cmpi .sgt c1_i32_5947 c0_i32_5950
  let v11720 : BitVec 32 := Scalar.extui v11719
  let c0_i32_5951 : BitVec 32 := 0#32
  let v11721 : BitVec 1 := Scalar.cmpi .slt c1_i32_5947 c0_i32_5951
  let v11722 : BitVec 32 := Scalar.extui v11721
  let v11723 : BitVec 32 := Scalar.subi v11720 v11722
  let v11724 : BitVec 1 := Scalar.cmpi .ne v11718 v11723
  let v11725 : BitVec 32 := Scalar.remsi v11712 c1_i32_5947
  let c0_i32_5952 : BitVec 32 := 0#32
  let v11726 : BitVec 1 := Scalar.cmpi .ne v11725 c0_i32_5952
  let v11727 : BitVec 1 := Scalar.andi v11724 v11726
  let v11713 : BitVec 32 := Scalar.divsi v11712 c1_i32_5947
  let c1_i32_5953 : BitVec 32 := 1#32
  let v11728 : BitVec 32 := Scalar.subi v11713 c1_i32_5953
  let v11729 : BitVec 32 := Scalar.select v11727 v11728 v11713
  let c128_i32_5964 : BitVec 32 := 128#32
  let v11744 : BitVec 32 := Scalar.muli v11729 c128_i32_5964
  let c0_i32_5963 : BitVec 32 := 0#32
  let c0_i32_5962 : BitVec 32 := 0#32
  let c1_i32_5954 : BitVec 32 := 1#32
  let c0_i32_5955 : BitVec 32 := 0#32
  let v11730 : BitVec 1 := Scalar.cmpi .eq c1_i32_5954 c0_i32_5955
  let c1_i32_5956 : BitVec 32 := 1#32
  let v11731 : BitVec 32 := Scalar.select v11730 c1_i32_5956 c1_i32_5954
  let v11732 : BitVec 32 := Scalar.remsi v11712 v11731
  let c0_i32_5958 : BitVec 32 := 0#32
  let v11734 : BitVec 1 := Scalar.cmpi .slt v11732 c0_i32_5958
  let c0_i32_5959 : BitVec 32 := 0#32
  let v11735 : BitVec 1 := Scalar.cmpi .slt v11731 c0_i32_5959
  let v11736 : BitVec 1 := Scalar.xori v11734 v11735
  let c0_i32_5957 : BitVec 32 := 0#32
  let v11733 : BitVec 1 := Scalar.cmpi .ne v11732 c0_i32_5957
  let v11737 : BitVec 1 := Scalar.andi v11736 v11733
  let v11738 : BitVec 32 := Scalar.addi v11732 v11731
  let v11739 : BitVec 32 := Scalar.select v11737 v11738 v11732
  let c128_i32_5960 : BitVec 32 := 128#32
  let v11740 : BitVec 32 := Scalar.muli v11739 c128_i32_5960
  let c64_i32_5961 : BitVec 32 := 64#32
  let v11741 : BitVec 32 := Scalar.subi v11740 c64_i32_5961
  let v11742 : BitVec 32 := Scalar.maxsi c0_i32_5962 v11741
  let v11743 : BitVec 32 := Scalar.minsi c0_i32_5963 v11742
  let v11745 : BitVec 32 := Scalar.addi v11744 v11743
  let v11746 : BitVec 32 := v11745
  let c0_i32_5970 : BitVec 32 := 0#32
  let v11750 : BitVec 1 := Scalar.cmpi .sgt v11746 c0_i32_5970
  let v11751 : BitVec 32 := Scalar.extui v11750
  let c0_i32_5971 : BitVec 32 := 0#32
  let v11752 : BitVec 1 := Scalar.cmpi .slt v11746 c0_i32_5971
  let v11753 : BitVec 32 := Scalar.extui v11752
  let v11754 : BitVec 32 := Scalar.subi v11751 v11753
  let c2_i32_5969 : BitVec 32 := 2#32
  let c0_i32_5972 : BitVec 32 := 0#32
  let v11755 : BitVec 1 := Scalar.cmpi .sgt c2_i32_5969 c0_i32_5972
  let v11756 : BitVec 32 := Scalar.extui v11755
  let c0_i32_5973 : BitVec 32 := 0#32
  let v11757 : BitVec 1 := Scalar.cmpi .slt c2_i32_5969 c0_i32_5973
  let v11758 : BitVec 32 := Scalar.extui v11757
  let v11759 : BitVec 32 := Scalar.subi v11756 v11758
  let v11760 : BitVec 1 := Scalar.cmpi .ne v11754 v11759
  let v11761 : BitVec 32 := Scalar.remsi v11746 c2_i32_5969
  let c0_i32_5974 : BitVec 32 := 0#32
  let v11762 : BitVec 1 := Scalar.cmpi .ne v11761 c0_i32_5974
  let v11763 : BitVec 1 := Scalar.andi v11760 v11762
  let v11749 : BitVec 32 := Scalar.divsi v11746 c2_i32_5969
  let c1_i32_5975 : BitVec 32 := 1#32
  let v11764 : BitVec 32 := Scalar.subi v11749 c1_i32_5975
  let v11765 : BitVec 32 := Scalar.select v11763 v11764 v11749
  v11765
def k0_mult500 : BitVec 32 :=
  let c2_i32_5725 : BitVec 32 := 2#32
  let c0_i32_5724 : BitVec 32 := 0#32
  let v11293 : BitVec 32 := Scalar.muli c2_i32_5725 c0_i32_5724
  let c4_i32_5945 : BitVec 32 := 4#32
  let v11711 : BitVec 32 := Scalar.muli v11293 c4_i32_5945
  let c3_i32_5946 : BitVec 32 := 3#32
  let v11712 : BitVec 32 := Scalar.addi v11711 c3_i32_5946
  let c0_i32_5948 : BitVec 32 := 0#32
  let v11714 : BitVec 1 := Scalar.cmpi .sgt v11712 c0_i32_5948
  let v11715 : BitVec 32 := Scalar.extui v11714
  let c0_i32_5949 : BitVec 32 := 0#32
  let v11716 : BitVec 1 := Scalar.cmpi .slt v11712 c0_i32_5949
  let v11717 : BitVec 32 := Scalar.extui v11716
  let v11718 : BitVec 32 := Scalar.subi v11715 v11717
  let c1_i32_5947 : BitVec 32 := 1#32
  let c0_i32_5950 : BitVec 32 := 0#32
  let v11719 : BitVec 1 := Scalar.cmpi .sgt c1_i32_5947 c0_i32_5950
  let v11720 : BitVec 32 := Scalar.extui v11719
  let c0_i32_5951 : BitVec 32 := 0#32
  let v11721 : BitVec 1 := Scalar.cmpi .slt c1_i32_5947 c0_i32_5951
  let v11722 : BitVec 32 := Scalar.extui v11721
  let v11723 : BitVec 32 := Scalar.subi v11720 v11722
  let v11724 : BitVec 1 := Scalar.cmpi .ne v11718 v11723
  let v11725 : BitVec 32 := Scalar.remsi v11712 c1_i32_5947
  let c0_i32_5952 : BitVec 32 := 0#32
  let v11726 : BitVec 1 := Scalar.cmpi .ne v11725 c0_i32_5952
  let v11727 : BitVec 1 := Scalar.andi v11724 v11726
  let v11713 : BitVec 32 := Scalar.divsi v11712 c1_i32_5947
  let c1_i32_5953 : BitVec 32 := 1#32
  let v11728 : BitVec 32 := Scalar.subi v11713 c1_i32_5953
  let v11729 : BitVec 32 := Scalar.select v11727 v11728 v11713
  let c128_i32_5964 : BitVec 32 := 128#32
  let v11744 : BitVec 32 := Scalar.muli v11729 c128_i32_5964
  let c0_i32_5963 : BitVec 32 := 0#32
  let c0_i32_5962 : BitVec 32 := 0#32
  let c1_i32_5954 : BitVec 32 := 1#32
  let c0_i32_5955 : BitVec 32 := 0#32
  let v11730 : BitVec 1 := Scalar.cmpi .eq c1_i32_5954 c0_i32_5955
  let c1_i32_5956 : BitVec 32 := 1#32
  let v11731 : BitVec 32 := Scalar.select v11730 c1_i32_5956 c1_i32_5954
  let v11732 : BitVec 32 := Scalar.remsi v11712 v11731
  let c0_i32_5958 : BitVec 32 := 0#32
  let v11734 : BitVec 1 := Scalar.cmpi .slt v11732 c0_i32_5958
  let c0_i32_5959 : BitVec 32 := 0#32
  let v11735 : BitVec 1 := Scalar.cmpi .slt v11731 c0_i32_5959
  let v11736 : BitVec 1 := Scalar.xori v11734 v11735
  let c0_i32_5957 : BitVec 32 := 0#32
  let v11733 : BitVec 1 := Scalar.cmpi .ne v11732 c0_i32_5957
  let v11737 : BitVec 1 := Scalar.andi v11736 v11733
  let v11738 : BitVec 32 := Scalar.addi v11732 v11731
  let v11739 : BitVec 32 := Scalar.select v11737 v11738 v11732
  let c128_i32_5960 : BitVec 32 := 128#32
  let v11740 : BitVec 32 := Scalar.muli v11739 c128_i32_5960
  let c64_i32_5961 : BitVec 32 := 64#32
  let v11741 : BitVec 32 := Scalar.subi v11740 c64_i32_5961
  let v11742 : BitVec 32 := Scalar.maxsi c0_i32_5962 v11741
  let v11743 : BitVec 32 := Scalar.minsi c0_i32_5963 v11742
  let v11745 : BitVec 32 := Scalar.addi v11744 v11743
  let v11746 : BitVec 32 := v11745
  let c0_i32_5984 : BitVec 32 := 0#32
  let v11775 : BitVec 1 := Scalar.cmpi .sgt v11746 c0_i32_5984
  let v11776 : BitVec 32 := Scalar.extui v11775
  let c0_i32_5985 : BitVec 32 := 0#32
  let v11777 : BitVec 1 := Scalar.cmpi .slt v11746 c0_i32_5985
  let v11778 : BitVec 32 := Scalar.extui v11777
  let v11779 : BitVec 32 := Scalar.subi v11776 v11778
  let c2_i32_5983 : BitVec 32 := 2#32
  let c0_i32_5986 : BitVec 32 := 0#32
  let v11780 : BitVec 1 := Scalar.cmpi .sgt c2_i32_5983 c0_i32_5986
  let v11781 : BitVec 32 := Scalar.extui v11780
  let c0_i32_5987 : BitVec 32 := 0#32
  let v11782 : BitVec 1 := Scalar.cmpi .slt c2_i32_5983 c0_i32_5987
  let v11783 : BitVec 32 := Scalar.extui v11782
  let v11784 : BitVec 32 := Scalar.subi v11781 v11783
  let v11785 : BitVec 1 := Scalar.cmpi .ne v11779 v11784
  let v11786 : BitVec 32 := Scalar.remsi v11746 c2_i32_5983
  let c0_i32_5988 : BitVec 32 := 0#32
  let v11787 : BitVec 1 := Scalar.cmpi .ne v11786 c0_i32_5988
  let v11788 : BitVec 1 := Scalar.andi v11785 v11787
  let v11774 : BitVec 32 := Scalar.divsi v11746 c2_i32_5983
  let c1_i32_5989 : BitVec 32 := 1#32
  let v11789 : BitVec 32 := Scalar.subi v11774 c1_i32_5989
  let v11790 : BitVec 32 := Scalar.select v11788 v11789 v11774
  v11790
def k0_mult501 : BitVec 32 :=
  let c2_i32_5725 : BitVec 32 := 2#32
  let c0_i32_5724 : BitVec 32 := 0#32
  let v11293 : BitVec 32 := Scalar.muli c2_i32_5725 c0_i32_5724
  let c2_i32_6106 : BitVec 32 := 2#32
  let v11978 : BitVec 32 := Scalar.addi v11293 c2_i32_6106
  let c4_i32_6107 : BitVec 32 := 4#32
  let v11979 : BitVec 32 := Scalar.muli v11978 c4_i32_6107
  let c0_i32_6108 : BitVec 32 := 0#32
  let v11980 : BitVec 32 := Scalar.addi v11979 c0_i32_6108
  let c128_i32_6109 : BitVec 32 := 128#32
  let v11981 : BitVec 32 := Scalar.muli v11980 c128_i32_6109
  v11981
def k0_mult502 : BitVec 32 :=
  let c2_i32_5725 : BitVec 32 := 2#32
  let c0_i32_5724 : BitVec 32 := 0#32
  let v11293 : BitVec 32 := Scalar.muli c2_i32_5725 c0_i32_5724
  let c2_i32_6106 : BitVec 32 := 2#32
  let v11978 : BitVec 32 := Scalar.addi v11293 c2_i32_6106
  let c4_i32_6107 : BitVec 32 := 4#32
  let v11979 : BitVec 32 := Scalar.muli v11978 c4_i32_6107
  let c0_i32_6108 : BitVec 32 := 0#32
  let v11980 : BitVec 32 := Scalar.addi v11979 c0_i32_6108
  let c0_i32_6111 : BitVec 32 := 0#32
  let v11984 : BitVec 1 := Scalar.cmpi .sgt v11980 c0_i32_6111
  let v11985 : BitVec 32 := Scalar.extui v11984
  let c0_i32_6112 : BitVec 32 := 0#32
  let v11986 : BitVec 1 := Scalar.cmpi .slt v11980 c0_i32_6112
  let v11987 : BitVec 32 := Scalar.extui v11986
  let v11988 : BitVec 32 := Scalar.subi v11985 v11987
  let c1_i32_6110 : BitVec 32 := 1#32
  let c0_i32_6113 : BitVec 32 := 0#32
  let v11989 : BitVec 1 := Scalar.cmpi .sgt c1_i32_6110 c0_i32_6113
  let v11990 : BitVec 32 := Scalar.extui v11989
  let c0_i32_6114 : BitVec 32 := 0#32
  let v11991 : BitVec 1 := Scalar.cmpi .slt c1_i32_6110 c0_i32_6114
  let v11992 : BitVec 32 := Scalar.extui v11991
  let v11993 : BitVec 32 := Scalar.subi v11990 v11992
  let v11994 : BitVec 1 := Scalar.cmpi .ne v11988 v11993
  let v11995 : BitVec 32 := Scalar.remsi v11980 c1_i32_6110
  let c0_i32_6115 : BitVec 32 := 0#32
  let v11996 : BitVec 1 := Scalar.cmpi .ne v11995 c0_i32_6115
  let v11997 : BitVec 1 := Scalar.andi v11994 v11996
  let v11983 : BitVec 32 := Scalar.divsi v11980 c1_i32_6110
  let c1_i32_6116 : BitVec 32 := 1#32
  let v11998 : BitVec 32 := Scalar.subi v11983 c1_i32_6116
  let v11999 : BitVec 32 := Scalar.select v11997 v11998 v11983
  let c128_i32_6127 : BitVec 32 := 128#32
  let v12014 : BitVec 32 := Scalar.muli v11999 c128_i32_6127
  let c0_i32_6126 : BitVec 32 := 0#32
  let c0_i32_6125 : BitVec 32 := 0#32
  let c1_i32_6117 : BitVec 32 := 1#32
  let c0_i32_6118 : BitVec 32 := 0#32
  let v12000 : BitVec 1 := Scalar.cmpi .eq c1_i32_6117 c0_i32_6118
  let c1_i32_6119 : BitVec 32 := 1#32
  let v12001 : BitVec 32 := Scalar.select v12000 c1_i32_6119 c1_i32_6117
  let v12002 : BitVec 32 := Scalar.remsi v11980 v12001
  let c0_i32_6121 : BitVec 32 := 0#32
  let v12004 : BitVec 1 := Scalar.cmpi .slt v12002 c0_i32_6121
  let c0_i32_6122 : BitVec 32 := 0#32
  let v12005 : BitVec 1 := Scalar.cmpi .slt v12001 c0_i32_6122
  let v12006 : BitVec 1 := Scalar.xori v12004 v12005
  let c0_i32_6120 : BitVec 32 := 0#32
  let v12003 : BitVec 1 := Scalar.cmpi .ne v12002 c0_i32_6120
  let v12007 : BitVec 1 := Scalar.andi v12006 v12003
  let v12008 : BitVec 32 := Scalar.addi v12002 v12001
  let v12009 : BitVec 32 := Scalar.select v12007 v12008 v12002
  let c128_i32_6123 : BitVec 32 := 128#32
  let v12010 : BitVec 32 := Scalar.muli v12009 c128_i32_6123
  let c64_i32_6124 : BitVec 32 := 64#32
  let v12011 : BitVec 32 := Scalar.subi v12010 c64_i32_6124
  let v12012 : BitVec 32 := Scalar.maxsi c0_i32_6125 v12011
  let v12013 : BitVec 32 := Scalar.minsi c0_i32_6126 v12012
  let v12015 : BitVec 32 := Scalar.addi v12014 v12013
  v12015
def k0_off60 (c2_i32_6106 : BitVec 32) (c0_i32_6108 : BitVec 32) : Fin 3 → Nat :=
  let c2_i32_5725 : BitVec 32 := 2#32
  let c0_i32_5724 : BitVec 32 := 0#32
  let v11293 : BitVec 32 := Scalar.muli c2_i32_5725 c0_i32_5724
  let v11978 : BitVec 32 := Scalar.addi v11293 c2_i32_6106
  let c4_i32_6107 : BitVec 32 := 4#32
  let v11979 : BitVec 32 := Scalar.muli v11978 c4_i32_6107
  let v11980 : BitVec 32 := Scalar.addi v11979 c0_i32_6108
  let c1_i32_6117 : BitVec 32 := 1#32
  let c0_i32_6118 : BitVec 32 := 0#32
  let v12000 : BitVec 1 := Scalar.cmpi .eq c1_i32_6117 c0_i32_6118
  let c1_i32_6119 : BitVec 32 := 1#32
  let v12001 : BitVec 32 := Scalar.select v12000 c1_i32_6119 c1_i32_6117
  let v12002 : BitVec 32 := Scalar.remsi v11980 v12001
  let c0_i32_6121 : BitVec 32 := 0#32
  let v12004 : BitVec 1 := Scalar.cmpi .slt v12002 c0_i32_6121
  let c0_i32_6122 : BitVec 32 := 0#32
  let v12005 : BitVec 1 := Scalar.cmpi .slt v12001 c0_i32_6122
  let v12006 : BitVec 1 := Scalar.xori v12004 v12005
  let c0_i32_6120 : BitVec 32 := 0#32
  let v12003 : BitVec 1 := Scalar.cmpi .ne v12002 c0_i32_6120
  let v12007 : BitVec 1 := Scalar.andi v12006 v12003
  let v12008 : BitVec 32 := Scalar.addi v12002 v12001
  let v12009 : BitVec 32 := Scalar.select v12007 v12008 v12002
  let c128_i32_6123 : BitVec 32 := 128#32
  let v12010 : BitVec 32 := Scalar.muli v12009 c128_i32_6123
  let c0_i32_6126 : BitVec 32 := 0#32
  let c0_i32_6125 : BitVec 32 := 0#32
  let c64_i32_6124 : BitVec 32 := 64#32
  let v12011 : BitVec 32 := Scalar.subi v12010 c64_i32_6124
  let v12012 : BitVec 32 := Scalar.maxsi c0_i32_6125 v12011
  let v12013 : BitVec 32 := Scalar.minsi c0_i32_6126 v12012
  let v12017 : BitVec 32 := Scalar.subi v12010 v12013
  let c0_i32_6129 : BitVec 32 := 0#32
  let v12019 : BitVec 1 := Scalar.cmpi .sgt v12017 c0_i32_6129
  let v12020 : BitVec 32 := Scalar.extui v12019
  let c0_i32_6130 : BitVec 32 := 0#32
  let v12021 : BitVec 1 := Scalar.cmpi .slt v12017 c0_i32_6130
  let v12022 : BitVec 32 := Scalar.extui v12021
  let v12023 : BitVec 32 := Scalar.subi v12020 v12022
  let c64_i32_6128 : BitVec 32 := 64#32
  let c0_i32_6131 : BitVec 32 := 0#32
  let v12024 : BitVec 1 := Scalar.cmpi .sgt c64_i32_6128 c0_i32_6131
  let v12025 : BitVec 32 := Scalar.extui v12024
  let c0_i32_6132 : BitVec 32 := 0#32
  let v12026 : BitVec 1 := Scalar.cmpi .slt c64_i32_6128 c0_i32_6132
  let v12027 : BitVec 32 := Scalar.extui v12026
  let v12028 : BitVec 32 := Scalar.subi v12025 v12027
  let v12029 : BitVec 1 := Scalar.cmpi .ne v12023 v12028
  let v12030 : BitVec 32 := Scalar.remsi v12017 c64_i32_6128
  let c0_i32_6133 : BitVec 32 := 0#32
  let v12031 : BitVec 1 := Scalar.cmpi .ne v12030 c0_i32_6133
  let v12032 : BitVec 1 := Scalar.andi v12029 v12031
  let v12018 : BitVec 32 := Scalar.divsi v12017 c64_i32_6128
  let c1_i32_6134 : BitVec 32 := 1#32
  let v12033 : BitVec 32 := Scalar.subi v12018 c1_i32_6134
  let v12034 : BitVec 32 := Scalar.select v12032 v12033 v12018
  let v12035 : Index := Scalar.indexCast v12034
  let c0_6135 : Index := 0#32
  let c0_6136 : Index := 0#32
  ![v12035.toNat, 0, 0]
def k0_mult503 : BitVec 32 :=
  let c2_i32_5725 : BitVec 32 := 2#32
  let c0_i32_5724 : BitVec 32 := 0#32
  let v11293 : BitVec 32 := Scalar.muli c2_i32_5725 c0_i32_5724
  let c2_i32_6106 : BitVec 32 := 2#32
  let v11978 : BitVec 32 := Scalar.addi v11293 c2_i32_6106
  let c4_i32_6107 : BitVec 32 := 4#32
  let v11979 : BitVec 32 := Scalar.muli v11978 c4_i32_6107
  let c0_i32_6108 : BitVec 32 := 0#32
  let v11980 : BitVec 32 := Scalar.addi v11979 c0_i32_6108
  let c128_i32_6109 : BitVec 32 := 128#32
  let v11981 : BitVec 32 := Scalar.muli v11980 c128_i32_6109
  let v11982 : BitVec 32 := v11981
  let c0_i32_6138 : BitVec 32 := 0#32
  let v12039 : BitVec 1 := Scalar.cmpi .sgt v11982 c0_i32_6138
  let v12040 : BitVec 32 := Scalar.extui v12039
  let c0_i32_6139 : BitVec 32 := 0#32
  let v12041 : BitVec 1 := Scalar.cmpi .slt v11982 c0_i32_6139
  let v12042 : BitVec 32 := Scalar.extui v12041
  let v12043 : BitVec 32 := Scalar.subi v12040 v12042
  let c2_i32_6137 : BitVec 32 := 2#32
  let c0_i32_6140 : BitVec 32 := 0#32
  let v12044 : BitVec 1 := Scalar.cmpi .sgt c2_i32_6137 c0_i32_6140
  let v12045 : BitVec 32 := Scalar.extui v12044
  let c0_i32_6141 : BitVec 32 := 0#32
  let v12046 : BitVec 1 := Scalar.cmpi .slt c2_i32_6137 c0_i32_6141
  let v12047 : BitVec 32 := Scalar.extui v12046
  let v12048 : BitVec 32 := Scalar.subi v12045 v12047
  let v12049 : BitVec 1 := Scalar.cmpi .ne v12043 v12048
  let v12050 : BitVec 32 := Scalar.remsi v11982 c2_i32_6137
  let c0_i32_6142 : BitVec 32 := 0#32
  let v12051 : BitVec 1 := Scalar.cmpi .ne v12050 c0_i32_6142
  let v12052 : BitVec 1 := Scalar.andi v12049 v12051
  let v12038 : BitVec 32 := Scalar.divsi v11982 c2_i32_6137
  let c1_i32_6143 : BitVec 32 := 1#32
  let v12053 : BitVec 32 := Scalar.subi v12038 c1_i32_6143
  let v12054 : BitVec 32 := Scalar.select v12052 v12053 v12038
  v12054
def k0_mult504 : BitVec 32 :=
  let c2_i32_5725 : BitVec 32 := 2#32
  let c0_i32_5724 : BitVec 32 := 0#32
  let v11293 : BitVec 32 := Scalar.muli c2_i32_5725 c0_i32_5724
  let c2_i32_6106 : BitVec 32 := 2#32
  let v11978 : BitVec 32 := Scalar.addi v11293 c2_i32_6106
  let c4_i32_6107 : BitVec 32 := 4#32
  let v11979 : BitVec 32 := Scalar.muli v11978 c4_i32_6107
  let c0_i32_6108 : BitVec 32 := 0#32
  let v11980 : BitVec 32 := Scalar.addi v11979 c0_i32_6108
  let c128_i32_6109 : BitVec 32 := 128#32
  let v11981 : BitVec 32 := Scalar.muli v11980 c128_i32_6109
  let v11982 : BitVec 32 := v11981
  let c0_i32_6147 : BitVec 32 := 0#32
  let v12061 : BitVec 1 := Scalar.cmpi .sgt v11982 c0_i32_6147
  let v12062 : BitVec 32 := Scalar.extui v12061
  let c0_i32_6148 : BitVec 32 := 0#32
  let v12063 : BitVec 1 := Scalar.cmpi .slt v11982 c0_i32_6148
  let v12064 : BitVec 32 := Scalar.extui v12063
  let v12065 : BitVec 32 := Scalar.subi v12062 v12064
  let c2_i32_6146 : BitVec 32 := 2#32
  let c0_i32_6149 : BitVec 32 := 0#32
  let v12066 : BitVec 1 := Scalar.cmpi .sgt c2_i32_6146 c0_i32_6149
  let v12067 : BitVec 32 := Scalar.extui v12066
  let c0_i32_6150 : BitVec 32 := 0#32
  let v12068 : BitVec 1 := Scalar.cmpi .slt c2_i32_6146 c0_i32_6150
  let v12069 : BitVec 32 := Scalar.extui v12068
  let v12070 : BitVec 32 := Scalar.subi v12067 v12069
  let v12071 : BitVec 1 := Scalar.cmpi .ne v12065 v12070
  let v12072 : BitVec 32 := Scalar.remsi v11982 c2_i32_6146
  let c0_i32_6151 : BitVec 32 := 0#32
  let v12073 : BitVec 1 := Scalar.cmpi .ne v12072 c0_i32_6151
  let v12074 : BitVec 1 := Scalar.andi v12071 v12073
  let v12060 : BitVec 32 := Scalar.divsi v11982 c2_i32_6146
  let c1_i32_6152 : BitVec 32 := 1#32
  let v12075 : BitVec 32 := Scalar.subi v12060 c1_i32_6152
  let v12076 : BitVec 32 := Scalar.select v12074 v12075 v12060
  v12076
def k0_mult505 : BitVec 32 :=
  let c2_i32_5725 : BitVec 32 := 2#32
  let c0_i32_5724 : BitVec 32 := 0#32
  let v11293 : BitVec 32 := Scalar.muli c2_i32_5725 c0_i32_5724
  let c2_i32_6106 : BitVec 32 := 2#32
  let v11978 : BitVec 32 := Scalar.addi v11293 c2_i32_6106
  let c4_i32_6107 : BitVec 32 := 4#32
  let v11979 : BitVec 32 := Scalar.muli v11978 c4_i32_6107
  let c0_i32_6108 : BitVec 32 := 0#32
  let v11980 : BitVec 32 := Scalar.addi v11979 c0_i32_6108
  let c0_i32_6111 : BitVec 32 := 0#32
  let v11984 : BitVec 1 := Scalar.cmpi .sgt v11980 c0_i32_6111
  let v11985 : BitVec 32 := Scalar.extui v11984
  let c0_i32_6112 : BitVec 32 := 0#32
  let v11986 : BitVec 1 := Scalar.cmpi .slt v11980 c0_i32_6112
  let v11987 : BitVec 32 := Scalar.extui v11986
  let v11988 : BitVec 32 := Scalar.subi v11985 v11987
  let c1_i32_6110 : BitVec 32 := 1#32
  let c0_i32_6113 : BitVec 32 := 0#32
  let v11989 : BitVec 1 := Scalar.cmpi .sgt c1_i32_6110 c0_i32_6113
  let v11990 : BitVec 32 := Scalar.extui v11989
  let c0_i32_6114 : BitVec 32 := 0#32
  let v11991 : BitVec 1 := Scalar.cmpi .slt c1_i32_6110 c0_i32_6114
  let v11992 : BitVec 32 := Scalar.extui v11991
  let v11993 : BitVec 32 := Scalar.subi v11990 v11992
  let v11994 : BitVec 1 := Scalar.cmpi .ne v11988 v11993
  let v11995 : BitVec 32 := Scalar.remsi v11980 c1_i32_6110
  let c0_i32_6115 : BitVec 32 := 0#32
  let v11996 : BitVec 1 := Scalar.cmpi .ne v11995 c0_i32_6115
  let v11997 : BitVec 1 := Scalar.andi v11994 v11996
  let v11983 : BitVec 32 := Scalar.divsi v11980 c1_i32_6110
  let c1_i32_6116 : BitVec 32 := 1#32
  let v11998 : BitVec 32 := Scalar.subi v11983 c1_i32_6116
  let v11999 : BitVec 32 := Scalar.select v11997 v11998 v11983
  let c128_i32_6127 : BitVec 32 := 128#32
  let v12014 : BitVec 32 := Scalar.muli v11999 c128_i32_6127
  let c0_i32_6126 : BitVec 32 := 0#32
  let c0_i32_6125 : BitVec 32 := 0#32
  let c1_i32_6117 : BitVec 32 := 1#32
  let c0_i32_6118 : BitVec 32 := 0#32
  let v12000 : BitVec 1 := Scalar.cmpi .eq c1_i32_6117 c0_i32_6118
  let c1_i32_6119 : BitVec 32 := 1#32
  let v12001 : BitVec 32 := Scalar.select v12000 c1_i32_6119 c1_i32_6117
  let v12002 : BitVec 32 := Scalar.remsi v11980 v12001
  let c0_i32_6121 : BitVec 32 := 0#32
  let v12004 : BitVec 1 := Scalar.cmpi .slt v12002 c0_i32_6121
  let c0_i32_6122 : BitVec 32 := 0#32
  let v12005 : BitVec 1 := Scalar.cmpi .slt v12001 c0_i32_6122
  let v12006 : BitVec 1 := Scalar.xori v12004 v12005
  let c0_i32_6120 : BitVec 32 := 0#32
  let v12003 : BitVec 1 := Scalar.cmpi .ne v12002 c0_i32_6120
  let v12007 : BitVec 1 := Scalar.andi v12006 v12003
  let v12008 : BitVec 32 := Scalar.addi v12002 v12001
  let v12009 : BitVec 32 := Scalar.select v12007 v12008 v12002
  let c128_i32_6123 : BitVec 32 := 128#32
  let v12010 : BitVec 32 := Scalar.muli v12009 c128_i32_6123
  let c64_i32_6124 : BitVec 32 := 64#32
  let v12011 : BitVec 32 := Scalar.subi v12010 c64_i32_6124
  let v12012 : BitVec 32 := Scalar.maxsi c0_i32_6125 v12011
  let v12013 : BitVec 32 := Scalar.minsi c0_i32_6126 v12012
  let v12015 : BitVec 32 := Scalar.addi v12014 v12013
  let v12016 : BitVec 32 := v12015
  let c0_i32_6156 : BitVec 32 := 0#32
  let v12084 : BitVec 1 := Scalar.cmpi .sgt v12016 c0_i32_6156
  let v12085 : BitVec 32 := Scalar.extui v12084
  let c0_i32_6157 : BitVec 32 := 0#32
  let v12086 : BitVec 1 := Scalar.cmpi .slt v12016 c0_i32_6157
  let v12087 : BitVec 32 := Scalar.extui v12086
  let v12088 : BitVec 32 := Scalar.subi v12085 v12087
  let c2_i32_6155 : BitVec 32 := 2#32
  let c0_i32_6158 : BitVec 32 := 0#32
  let v12089 : BitVec 1 := Scalar.cmpi .sgt c2_i32_6155 c0_i32_6158
  let v12090 : BitVec 32 := Scalar.extui v12089
  let c0_i32_6159 : BitVec 32 := 0#32
  let v12091 : BitVec 1 := Scalar.cmpi .slt c2_i32_6155 c0_i32_6159
  let v12092 : BitVec 32 := Scalar.extui v12091
  let v12093 : BitVec 32 := Scalar.subi v12090 v12092
  let v12094 : BitVec 1 := Scalar.cmpi .ne v12088 v12093
  let v12095 : BitVec 32 := Scalar.remsi v12016 c2_i32_6155
  let c0_i32_6160 : BitVec 32 := 0#32
  let v12096 : BitVec 1 := Scalar.cmpi .ne v12095 c0_i32_6160
  let v12097 : BitVec 1 := Scalar.andi v12094 v12096
  let v12083 : BitVec 32 := Scalar.divsi v12016 c2_i32_6155
  let c1_i32_6161 : BitVec 32 := 1#32
  let v12098 : BitVec 32 := Scalar.subi v12083 c1_i32_6161
  let v12099 : BitVec 32 := Scalar.select v12097 v12098 v12083
  v12099
def k0_off61 (c2_i32_6106 : BitVec 32) (c0_i32_6108 : BitVec 32) : Fin 3 → Nat :=
  let c2_6162 : Index := 2#32
  let c2_i32_5725 : BitVec 32 := 2#32
  let c0_i32_5724 : BitVec 32 := 0#32
  let v11293 : BitVec 32 := Scalar.muli c2_i32_5725 c0_i32_5724
  let v11978 : BitVec 32 := Scalar.addi v11293 c2_i32_6106
  let c4_i32_6107 : BitVec 32 := 4#32
  let v11979 : BitVec 32 := Scalar.muli v11978 c4_i32_6107
  let v11980 : BitVec 32 := Scalar.addi v11979 c0_i32_6108
  let c0_i32_6111 : BitVec 32 := 0#32
  let v11984 : BitVec 1 := Scalar.cmpi .sgt v11980 c0_i32_6111
  let v11985 : BitVec 32 := Scalar.extui v11984
  let c0_i32_6112 : BitVec 32 := 0#32
  let v11986 : BitVec 1 := Scalar.cmpi .slt v11980 c0_i32_6112
  let v11987 : BitVec 32 := Scalar.extui v11986
  let v11988 : BitVec 32 := Scalar.subi v11985 v11987
  let c1_i32_6110 : BitVec 32 := 1#32
  let c0_i32_6113 : BitVec 32 := 0#32
  let v11989 : BitVec 1 := Scalar.cmpi .sgt c1_i32_6110 c0_i32_6113
  let v11990 : BitVec 32 := Scalar.extui v11989
  let c0_i32_6114 : BitVec 32 := 0#32
  let v11991 : BitVec 1 := Scalar.cmpi .slt c1_i32_6110 c0_i32_6114
  let v11992 : BitVec 32 := Scalar.extui v11991
  let v11993 : BitVec 32 := Scalar.subi v11990 v11992
  let v11994 : BitVec 1 := Scalar.cmpi .ne v11988 v11993
  let v11995 : BitVec 32 := Scalar.remsi v11980 c1_i32_6110
  let c0_i32_6115 : BitVec 32 := 0#32
  let v11996 : BitVec 1 := Scalar.cmpi .ne v11995 c0_i32_6115
  let v11997 : BitVec 1 := Scalar.andi v11994 v11996
  let v11983 : BitVec 32 := Scalar.divsi v11980 c1_i32_6110
  let c1_i32_6116 : BitVec 32 := 1#32
  let v11998 : BitVec 32 := Scalar.subi v11983 c1_i32_6116
  let v11999 : BitVec 32 := Scalar.select v11997 v11998 v11983
  let c128_i32_6127 : BitVec 32 := 128#32
  let v12014 : BitVec 32 := Scalar.muli v11999 c128_i32_6127
  let c0_i32_6126 : BitVec 32 := 0#32
  let c0_i32_6125 : BitVec 32 := 0#32
  let c1_i32_6117 : BitVec 32 := 1#32
  let c0_i32_6118 : BitVec 32 := 0#32
  let v12000 : BitVec 1 := Scalar.cmpi .eq c1_i32_6117 c0_i32_6118
  let c1_i32_6119 : BitVec 32 := 1#32
  let v12001 : BitVec 32 := Scalar.select v12000 c1_i32_6119 c1_i32_6117
  let v12002 : BitVec 32 := Scalar.remsi v11980 v12001
  let c0_i32_6121 : BitVec 32 := 0#32
  let v12004 : BitVec 1 := Scalar.cmpi .slt v12002 c0_i32_6121
  let c0_i32_6122 : BitVec 32 := 0#32
  let v12005 : BitVec 1 := Scalar.cmpi .slt v12001 c0_i32_6122
  let v12006 : BitVec 1 := Scalar.xori v12004 v12005
  let c0_i32_6120 : BitVec 32 := 0#32
  let v12003 : BitVec 1 := Scalar.cmpi .ne v12002 c0_i32_6120
  let v12007 : BitVec 1 := Scalar.andi v12006 v12003
  let v12008 : BitVec 32 := Scalar.addi v12002 v12001
  let v12009 : BitVec 32 := Scalar.select v12007 v12008 v12002
  let c128_i32_6123 : BitVec 32 := 128#32
  let v12010 : BitVec 32 := Scalar.muli v12009 c128_i32_6123
  let c64_i32_6124 : BitVec 32 := 64#32
  let v12011 : BitVec 32 := Scalar.subi v12010 c64_i32_6124
  let v12012 : BitVec 32 := Scalar.maxsi c0_i32_6125 v12011
  let v12013 : BitVec 32 := Scalar.minsi c0_i32_6126 v12012
  let v12015 : BitVec 32 := Scalar.addi v12014 v12013
  let v12016 : BitVec 32 := v12015
  let c0_i32_6156 : BitVec 32 := 0#32
  let v12084 : BitVec 1 := Scalar.cmpi .sgt v12016 c0_i32_6156
  let v12085 : BitVec 32 := Scalar.extui v12084
  let c0_i32_6157 : BitVec 32 := 0#32
  let v12086 : BitVec 1 := Scalar.cmpi .slt v12016 c0_i32_6157
  let v12087 : BitVec 32 := Scalar.extui v12086
  let v12088 : BitVec 32 := Scalar.subi v12085 v12087
  let c2_i32_6155 : BitVec 32 := 2#32
  let c0_i32_6158 : BitVec 32 := 0#32
  let v12089 : BitVec 1 := Scalar.cmpi .sgt c2_i32_6155 c0_i32_6158
  let v12090 : BitVec 32 := Scalar.extui v12089
  let c0_i32_6159 : BitVec 32 := 0#32
  let v12091 : BitVec 1 := Scalar.cmpi .slt c2_i32_6155 c0_i32_6159
  let v12092 : BitVec 32 := Scalar.extui v12091
  let v12093 : BitVec 32 := Scalar.subi v12090 v12092
  let v12094 : BitVec 1 := Scalar.cmpi .ne v12088 v12093
  let v12095 : BitVec 32 := Scalar.remsi v12016 c2_i32_6155
  let c0_i32_6160 : BitVec 32 := 0#32
  let v12096 : BitVec 1 := Scalar.cmpi .ne v12095 c0_i32_6160
  let v12097 : BitVec 1 := Scalar.andi v12094 v12096
  let v12083 : BitVec 32 := Scalar.divsi v12016 c2_i32_6155
  let c1_i32_6161 : BitVec 32 := 1#32
  let v12098 : BitVec 32 := Scalar.subi v12083 c1_i32_6161
  let v12099 : BitVec 32 := Scalar.select v12097 v12098 v12083
  let v12100 : BitVec 32 := v12099
  let v12101 : Index := Scalar.indexCast v12100
  let c0_6163 : Index := 0#32
  ![2, v12101.toNat, 0]
def k0_mult506 : BitVec 32 :=
  let c2_i32_5725 : BitVec 32 := 2#32
  let c0_i32_5724 : BitVec 32 := 0#32
  let v11293 : BitVec 32 := Scalar.muli c2_i32_5725 c0_i32_5724
  let c2_i32_6106 : BitVec 32 := 2#32
  let v11978 : BitVec 32 := Scalar.addi v11293 c2_i32_6106
  let c4_i32_6173 : BitVec 32 := 4#32
  let v12116 : BitVec 32 := Scalar.muli v11978 c4_i32_6173
  let c1_i32_6174 : BitVec 32 := 1#32
  let v12117 : BitVec 32 := Scalar.addi v12116 c1_i32_6174
  let c128_i32_6175 : BitVec 32 := 128#32
  let v12118 : BitVec 32 := Scalar.muli v12117 c128_i32_6175
  v12118
def k0_mult507 : BitVec 32 :=
  let c2_i32_5725 : BitVec 32 := 2#32
  let c0_i32_5724 : BitVec 32 := 0#32
  let v11293 : BitVec 32 := Scalar.muli c2_i32_5725 c0_i32_5724
  let c2_i32_6106 : BitVec 32 := 2#32
  let v11978 : BitVec 32 := Scalar.addi v11293 c2_i32_6106
  let c4_i32_6173 : BitVec 32 := 4#32
  let v12116 : BitVec 32 := Scalar.muli v11978 c4_i32_6173
  let c1_i32_6174 : BitVec 32 := 1#32
  let v12117 : BitVec 32 := Scalar.addi v12116 c1_i32_6174
  let c0_i32_6177 : BitVec 32 := 0#32
  let v12121 : BitVec 1 := Scalar.cmpi .sgt v12117 c0_i32_6177
  let v12122 : BitVec 32 := Scalar.extui v12121
  let c0_i32_6178 : BitVec 32 := 0#32
  let v12123 : BitVec 1 := Scalar.cmpi .slt v12117 c0_i32_6178
  let v12124 : BitVec 32 := Scalar.extui v12123
  let v12125 : BitVec 32 := Scalar.subi v12122 v12124
  let c1_i32_6176 : BitVec 32 := 1#32
  let c0_i32_6179 : BitVec 32 := 0#32
  let v12126 : BitVec 1 := Scalar.cmpi .sgt c1_i32_6176 c0_i32_6179
  let v12127 : BitVec 32 := Scalar.extui v12126
  let c0_i32_6180 : BitVec 32 := 0#32
  let v12128 : BitVec 1 := Scalar.cmpi .slt c1_i32_6176 c0_i32_6180
  let v12129 : BitVec 32 := Scalar.extui v12128
  let v12130 : BitVec 32 := Scalar.subi v12127 v12129
  let v12131 : BitVec 1 := Scalar.cmpi .ne v12125 v12130
  let v12132 : BitVec 32 := Scalar.remsi v12117 c1_i32_6176
  let c0_i32_6181 : BitVec 32 := 0#32
  let v12133 : BitVec 1 := Scalar.cmpi .ne v12132 c0_i32_6181
  let v12134 : BitVec 1 := Scalar.andi v12131 v12133
  let v12120 : BitVec 32 := Scalar.divsi v12117 c1_i32_6176
  let c1_i32_6182 : BitVec 32 := 1#32
  let v12135 : BitVec 32 := Scalar.subi v12120 c1_i32_6182
  let v12136 : BitVec 32 := Scalar.select v12134 v12135 v12120
  let c128_i32_6193 : BitVec 32 := 128#32
  let v12151 : BitVec 32 := Scalar.muli v12136 c128_i32_6193
  let c0_i32_6192 : BitVec 32 := 0#32
  let c0_i32_6191 : BitVec 32 := 0#32
  let c1_i32_6183 : BitVec 32 := 1#32
  let c0_i32_6184 : BitVec 32 := 0#32
  let v12137 : BitVec 1 := Scalar.cmpi .eq c1_i32_6183 c0_i32_6184
  let c1_i32_6185 : BitVec 32 := 1#32
  let v12138 : BitVec 32 := Scalar.select v12137 c1_i32_6185 c1_i32_6183
  let v12139 : BitVec 32 := Scalar.remsi v12117 v12138
  let c0_i32_6187 : BitVec 32 := 0#32
  let v12141 : BitVec 1 := Scalar.cmpi .slt v12139 c0_i32_6187
  let c0_i32_6188 : BitVec 32 := 0#32
  let v12142 : BitVec 1 := Scalar.cmpi .slt v12138 c0_i32_6188
  let v12143 : BitVec 1 := Scalar.xori v12141 v12142
  let c0_i32_6186 : BitVec 32 := 0#32
  let v12140 : BitVec 1 := Scalar.cmpi .ne v12139 c0_i32_6186
  let v12144 : BitVec 1 := Scalar.andi v12143 v12140
  let v12145 : BitVec 32 := Scalar.addi v12139 v12138
  let v12146 : BitVec 32 := Scalar.select v12144 v12145 v12139
  let c128_i32_6189 : BitVec 32 := 128#32
  let v12147 : BitVec 32 := Scalar.muli v12146 c128_i32_6189
  let c64_i32_6190 : BitVec 32 := 64#32
  let v12148 : BitVec 32 := Scalar.subi v12147 c64_i32_6190
  let v12149 : BitVec 32 := Scalar.maxsi c0_i32_6191 v12148
  let v12150 : BitVec 32 := Scalar.minsi c0_i32_6192 v12149
  let v12152 : BitVec 32 := Scalar.addi v12151 v12150
  v12152
def k0_mult508 : BitVec 32 :=
  let c2_i32_5725 : BitVec 32 := 2#32
  let c0_i32_5724 : BitVec 32 := 0#32
  let v11293 : BitVec 32 := Scalar.muli c2_i32_5725 c0_i32_5724
  let c2_i32_6106 : BitVec 32 := 2#32
  let v11978 : BitVec 32 := Scalar.addi v11293 c2_i32_6106
  let c4_i32_6173 : BitVec 32 := 4#32
  let v12116 : BitVec 32 := Scalar.muli v11978 c4_i32_6173
  let c1_i32_6174 : BitVec 32 := 1#32
  let v12117 : BitVec 32 := Scalar.addi v12116 c1_i32_6174
  let c128_i32_6175 : BitVec 32 := 128#32
  let v12118 : BitVec 32 := Scalar.muli v12117 c128_i32_6175
  let v12119 : BitVec 32 := v12118
  let c0_i32_6204 : BitVec 32 := 0#32
  let v12176 : BitVec 1 := Scalar.cmpi .sgt v12119 c0_i32_6204
  let v12177 : BitVec 32 := Scalar.extui v12176
  let c0_i32_6205 : BitVec 32 := 0#32
  let v12178 : BitVec 1 := Scalar.cmpi .slt v12119 c0_i32_6205
  let v12179 : BitVec 32 := Scalar.extui v12178
  let v12180 : BitVec 32 := Scalar.subi v12177 v12179
  let c2_i32_6203 : BitVec 32 := 2#32
  let c0_i32_6206 : BitVec 32 := 0#32
  let v12181 : BitVec 1 := Scalar.cmpi .sgt c2_i32_6203 c0_i32_6206
  let v12182 : BitVec 32 := Scalar.extui v12181
  let c0_i32_6207 : BitVec 32 := 0#32
  let v12183 : BitVec 1 := Scalar.cmpi .slt c2_i32_6203 c0_i32_6207
  let v12184 : BitVec 32 := Scalar.extui v12183
  let v12185 : BitVec 32 := Scalar.subi v12182 v12184
  let v12186 : BitVec 1 := Scalar.cmpi .ne v12180 v12185
  let v12187 : BitVec 32 := Scalar.remsi v12119 c2_i32_6203
  let c0_i32_6208 : BitVec 32 := 0#32
  let v12188 : BitVec 1 := Scalar.cmpi .ne v12187 c0_i32_6208
  let v12189 : BitVec 1 := Scalar.andi v12186 v12188
  let v12175 : BitVec 32 := Scalar.divsi v12119 c2_i32_6203
  let c1_i32_6209 : BitVec 32 := 1#32
  let v12190 : BitVec 32 := Scalar.subi v12175 c1_i32_6209
  let v12191 : BitVec 32 := Scalar.select v12189 v12190 v12175
  v12191
def k0_mult509 : BitVec 32 :=
  let c2_i32_5725 : BitVec 32 := 2#32
  let c0_i32_5724 : BitVec 32 := 0#32
  let v11293 : BitVec 32 := Scalar.muli c2_i32_5725 c0_i32_5724
  let c2_i32_6106 : BitVec 32 := 2#32
  let v11978 : BitVec 32 := Scalar.addi v11293 c2_i32_6106
  let c4_i32_6173 : BitVec 32 := 4#32
  let v12116 : BitVec 32 := Scalar.muli v11978 c4_i32_6173
  let c1_i32_6174 : BitVec 32 := 1#32
  let v12117 : BitVec 32 := Scalar.addi v12116 c1_i32_6174
  let c128_i32_6175 : BitVec 32 := 128#32
  let v12118 : BitVec 32 := Scalar.muli v12117 c128_i32_6175
  let v12119 : BitVec 32 := v12118
  let c0_i32_6213 : BitVec 32 := 0#32
  let v12198 : BitVec 1 := Scalar.cmpi .sgt v12119 c0_i32_6213
  let v12199 : BitVec 32 := Scalar.extui v12198
  let c0_i32_6214 : BitVec 32 := 0#32
  let v12200 : BitVec 1 := Scalar.cmpi .slt v12119 c0_i32_6214
  let v12201 : BitVec 32 := Scalar.extui v12200
  let v12202 : BitVec 32 := Scalar.subi v12199 v12201
  let c2_i32_6212 : BitVec 32 := 2#32
  let c0_i32_6215 : BitVec 32 := 0#32
  let v12203 : BitVec 1 := Scalar.cmpi .sgt c2_i32_6212 c0_i32_6215
  let v12204 : BitVec 32 := Scalar.extui v12203
  let c0_i32_6216 : BitVec 32 := 0#32
  let v12205 : BitVec 1 := Scalar.cmpi .slt c2_i32_6212 c0_i32_6216
  let v12206 : BitVec 32 := Scalar.extui v12205
  let v12207 : BitVec 32 := Scalar.subi v12204 v12206
  let v12208 : BitVec 1 := Scalar.cmpi .ne v12202 v12207
  let v12209 : BitVec 32 := Scalar.remsi v12119 c2_i32_6212
  let c0_i32_6217 : BitVec 32 := 0#32
  let v12210 : BitVec 1 := Scalar.cmpi .ne v12209 c0_i32_6217
  let v12211 : BitVec 1 := Scalar.andi v12208 v12210
  let v12197 : BitVec 32 := Scalar.divsi v12119 c2_i32_6212
  let c1_i32_6218 : BitVec 32 := 1#32
  let v12212 : BitVec 32 := Scalar.subi v12197 c1_i32_6218
  let v12213 : BitVec 32 := Scalar.select v12211 v12212 v12197
  v12213
def k0_mult510 : BitVec 32 :=
  let c2_i32_5725 : BitVec 32 := 2#32
  let c0_i32_5724 : BitVec 32 := 0#32
  let v11293 : BitVec 32 := Scalar.muli c2_i32_5725 c0_i32_5724
  let c2_i32_6106 : BitVec 32 := 2#32
  let v11978 : BitVec 32 := Scalar.addi v11293 c2_i32_6106
  let c4_i32_6173 : BitVec 32 := 4#32
  let v12116 : BitVec 32 := Scalar.muli v11978 c4_i32_6173
  let c1_i32_6174 : BitVec 32 := 1#32
  let v12117 : BitVec 32 := Scalar.addi v12116 c1_i32_6174
  let c0_i32_6177 : BitVec 32 := 0#32
  let v12121 : BitVec 1 := Scalar.cmpi .sgt v12117 c0_i32_6177
  let v12122 : BitVec 32 := Scalar.extui v12121
  let c0_i32_6178 : BitVec 32 := 0#32
  let v12123 : BitVec 1 := Scalar.cmpi .slt v12117 c0_i32_6178
  let v12124 : BitVec 32 := Scalar.extui v12123
  let v12125 : BitVec 32 := Scalar.subi v12122 v12124
  let c1_i32_6176 : BitVec 32 := 1#32
  let c0_i32_6179 : BitVec 32 := 0#32
  let v12126 : BitVec 1 := Scalar.cmpi .sgt c1_i32_6176 c0_i32_6179
  let v12127 : BitVec 32 := Scalar.extui v12126
  let c0_i32_6180 : BitVec 32 := 0#32
  let v12128 : BitVec 1 := Scalar.cmpi .slt c1_i32_6176 c0_i32_6180
  let v12129 : BitVec 32 := Scalar.extui v12128
  let v12130 : BitVec 32 := Scalar.subi v12127 v12129
  let v12131 : BitVec 1 := Scalar.cmpi .ne v12125 v12130
  let v12132 : BitVec 32 := Scalar.remsi v12117 c1_i32_6176
  let c0_i32_6181 : BitVec 32 := 0#32
  let v12133 : BitVec 1 := Scalar.cmpi .ne v12132 c0_i32_6181
  let v12134 : BitVec 1 := Scalar.andi v12131 v12133
  let v12120 : BitVec 32 := Scalar.divsi v12117 c1_i32_6176
  let c1_i32_6182 : BitVec 32 := 1#32
  let v12135 : BitVec 32 := Scalar.subi v12120 c1_i32_6182
  let v12136 : BitVec 32 := Scalar.select v12134 v12135 v12120
  let c128_i32_6193 : BitVec 32 := 128#32
  let v12151 : BitVec 32 := Scalar.muli v12136 c128_i32_6193
  let c0_i32_6192 : BitVec 32 := 0#32
  let c0_i32_6191 : BitVec 32 := 0#32
  let c1_i32_6183 : BitVec 32 := 1#32
  let c0_i32_6184 : BitVec 32 := 0#32
  let v12137 : BitVec 1 := Scalar.cmpi .eq c1_i32_6183 c0_i32_6184
  let c1_i32_6185 : BitVec 32 := 1#32
  let v12138 : BitVec 32 := Scalar.select v12137 c1_i32_6185 c1_i32_6183
  let v12139 : BitVec 32 := Scalar.remsi v12117 v12138
  let c0_i32_6187 : BitVec 32 := 0#32
  let v12141 : BitVec 1 := Scalar.cmpi .slt v12139 c0_i32_6187
  let c0_i32_6188 : BitVec 32 := 0#32
  let v12142 : BitVec 1 := Scalar.cmpi .slt v12138 c0_i32_6188
  let v12143 : BitVec 1 := Scalar.xori v12141 v12142
  let c0_i32_6186 : BitVec 32 := 0#32
  let v12140 : BitVec 1 := Scalar.cmpi .ne v12139 c0_i32_6186
  let v12144 : BitVec 1 := Scalar.andi v12143 v12140
  let v12145 : BitVec 32 := Scalar.addi v12139 v12138
  let v12146 : BitVec 32 := Scalar.select v12144 v12145 v12139
  let c128_i32_6189 : BitVec 32 := 128#32
  let v12147 : BitVec 32 := Scalar.muli v12146 c128_i32_6189
  let c64_i32_6190 : BitVec 32 := 64#32
  let v12148 : BitVec 32 := Scalar.subi v12147 c64_i32_6190
  let v12149 : BitVec 32 := Scalar.maxsi c0_i32_6191 v12148
  let v12150 : BitVec 32 := Scalar.minsi c0_i32_6192 v12149
  let v12152 : BitVec 32 := Scalar.addi v12151 v12150
  let v12153 : BitVec 32 := v12152
  let c0_i32_6222 : BitVec 32 := 0#32
  let v12221 : BitVec 1 := Scalar.cmpi .sgt v12153 c0_i32_6222
  let v12222 : BitVec 32 := Scalar.extui v12221
  let c0_i32_6223 : BitVec 32 := 0#32
  let v12223 : BitVec 1 := Scalar.cmpi .slt v12153 c0_i32_6223
  let v12224 : BitVec 32 := Scalar.extui v12223
  let v12225 : BitVec 32 := Scalar.subi v12222 v12224
  let c2_i32_6221 : BitVec 32 := 2#32
  let c0_i32_6224 : BitVec 32 := 0#32
  let v12226 : BitVec 1 := Scalar.cmpi .sgt c2_i32_6221 c0_i32_6224
  let v12227 : BitVec 32 := Scalar.extui v12226
  let c0_i32_6225 : BitVec 32 := 0#32
  let v12228 : BitVec 1 := Scalar.cmpi .slt c2_i32_6221 c0_i32_6225
  let v12229 : BitVec 32 := Scalar.extui v12228
  let v12230 : BitVec 32 := Scalar.subi v12227 v12229
  let v12231 : BitVec 1 := Scalar.cmpi .ne v12225 v12230
  let v12232 : BitVec 32 := Scalar.remsi v12153 c2_i32_6221
  let c0_i32_6226 : BitVec 32 := 0#32
  let v12233 : BitVec 1 := Scalar.cmpi .ne v12232 c0_i32_6226
  let v12234 : BitVec 1 := Scalar.andi v12231 v12233
  let v12220 : BitVec 32 := Scalar.divsi v12153 c2_i32_6221
  let c1_i32_6227 : BitVec 32 := 1#32
  let v12235 : BitVec 32 := Scalar.subi v12220 c1_i32_6227
  let v12236 : BitVec 32 := Scalar.select v12234 v12235 v12220
  v12236
def k0_mult511 : BitVec 32 :=
  let c2_i32_5725 : BitVec 32 := 2#32
  let c0_i32_5724 : BitVec 32 := 0#32
  let v11293 : BitVec 32 := Scalar.muli c2_i32_5725 c0_i32_5724
  let c2_i32_6106 : BitVec 32 := 2#32
  let v11978 : BitVec 32 := Scalar.addi v11293 c2_i32_6106
  let c4_i32_6239 : BitVec 32 := 4#32
  let v12253 : BitVec 32 := Scalar.muli v11978 c4_i32_6239
  let c2_i32_6240 : BitVec 32 := 2#32
  let v12254 : BitVec 32 := Scalar.addi v12253 c2_i32_6240
  let c128_i32_6241 : BitVec 32 := 128#32
  let v12255 : BitVec 32 := Scalar.muli v12254 c128_i32_6241
  v12255
def k0_mult512 : BitVec 32 :=
  let c2_i32_5725 : BitVec 32 := 2#32
  let c0_i32_5724 : BitVec 32 := 0#32
  let v11293 : BitVec 32 := Scalar.muli c2_i32_5725 c0_i32_5724
  let c2_i32_6106 : BitVec 32 := 2#32
  let v11978 : BitVec 32 := Scalar.addi v11293 c2_i32_6106
  let c4_i32_6239 : BitVec 32 := 4#32
  let v12253 : BitVec 32 := Scalar.muli v11978 c4_i32_6239
  let c2_i32_6240 : BitVec 32 := 2#32
  let v12254 : BitVec 32 := Scalar.addi v12253 c2_i32_6240
  let c0_i32_6243 : BitVec 32 := 0#32
  let v12258 : BitVec 1 := Scalar.cmpi .sgt v12254 c0_i32_6243
  let v12259 : BitVec 32 := Scalar.extui v12258
  let c0_i32_6244 : BitVec 32 := 0#32
  let v12260 : BitVec 1 := Scalar.cmpi .slt v12254 c0_i32_6244
  let v12261 : BitVec 32 := Scalar.extui v12260
  let v12262 : BitVec 32 := Scalar.subi v12259 v12261
  let c1_i32_6242 : BitVec 32 := 1#32
  let c0_i32_6245 : BitVec 32 := 0#32
  let v12263 : BitVec 1 := Scalar.cmpi .sgt c1_i32_6242 c0_i32_6245
  let v12264 : BitVec 32 := Scalar.extui v12263
  let c0_i32_6246 : BitVec 32 := 0#32
  let v12265 : BitVec 1 := Scalar.cmpi .slt c1_i32_6242 c0_i32_6246
  let v12266 : BitVec 32 := Scalar.extui v12265
  let v12267 : BitVec 32 := Scalar.subi v12264 v12266
  let v12268 : BitVec 1 := Scalar.cmpi .ne v12262 v12267
  let v12269 : BitVec 32 := Scalar.remsi v12254 c1_i32_6242
  let c0_i32_6247 : BitVec 32 := 0#32
  let v12270 : BitVec 1 := Scalar.cmpi .ne v12269 c0_i32_6247
  let v12271 : BitVec 1 := Scalar.andi v12268 v12270
  let v12257 : BitVec 32 := Scalar.divsi v12254 c1_i32_6242
  let c1_i32_6248 : BitVec 32 := 1#32
  let v12272 : BitVec 32 := Scalar.subi v12257 c1_i32_6248
  let v12273 : BitVec 32 := Scalar.select v12271 v12272 v12257
  let c128_i32_6259 : BitVec 32 := 128#32
  let v12288 : BitVec 32 := Scalar.muli v12273 c128_i32_6259
  let c0_i32_6258 : BitVec 32 := 0#32
  let c0_i32_6257 : BitVec 32 := 0#32
  let c1_i32_6249 : BitVec 32 := 1#32
  let c0_i32_6250 : BitVec 32 := 0#32
  let v12274 : BitVec 1 := Scalar.cmpi .eq c1_i32_6249 c0_i32_6250
  let c1_i32_6251 : BitVec 32 := 1#32
  let v12275 : BitVec 32 := Scalar.select v12274 c1_i32_6251 c1_i32_6249
  let v12276 : BitVec 32 := Scalar.remsi v12254 v12275
  let c0_i32_6253 : BitVec 32 := 0#32
  let v12278 : BitVec 1 := Scalar.cmpi .slt v12276 c0_i32_6253
  let c0_i32_6254 : BitVec 32 := 0#32
  let v12279 : BitVec 1 := Scalar.cmpi .slt v12275 c0_i32_6254
  let v12280 : BitVec 1 := Scalar.xori v12278 v12279
  let c0_i32_6252 : BitVec 32 := 0#32
  let v12277 : BitVec 1 := Scalar.cmpi .ne v12276 c0_i32_6252
  let v12281 : BitVec 1 := Scalar.andi v12280 v12277
  let v12282 : BitVec 32 := Scalar.addi v12276 v12275
  let v12283 : BitVec 32 := Scalar.select v12281 v12282 v12276
  let c128_i32_6255 : BitVec 32 := 128#32
  let v12284 : BitVec 32 := Scalar.muli v12283 c128_i32_6255
  let c64_i32_6256 : BitVec 32 := 64#32
  let v12285 : BitVec 32 := Scalar.subi v12284 c64_i32_6256
  let v12286 : BitVec 32 := Scalar.maxsi c0_i32_6257 v12285
  let v12287 : BitVec 32 := Scalar.minsi c0_i32_6258 v12286
  let v12289 : BitVec 32 := Scalar.addi v12288 v12287
  v12289
def k0_mult513 : BitVec 32 :=
  let c2_i32_5725 : BitVec 32 := 2#32
  let c0_i32_5724 : BitVec 32 := 0#32
  let v11293 : BitVec 32 := Scalar.muli c2_i32_5725 c0_i32_5724
  let c2_i32_6106 : BitVec 32 := 2#32
  let v11978 : BitVec 32 := Scalar.addi v11293 c2_i32_6106
  let c4_i32_6239 : BitVec 32 := 4#32
  let v12253 : BitVec 32 := Scalar.muli v11978 c4_i32_6239
  let c2_i32_6240 : BitVec 32 := 2#32
  let v12254 : BitVec 32 := Scalar.addi v12253 c2_i32_6240
  let c128_i32_6241 : BitVec 32 := 128#32
  let v12255 : BitVec 32 := Scalar.muli v12254 c128_i32_6241
  let v12256 : BitVec 32 := v12255
  let c0_i32_6270 : BitVec 32 := 0#32
  let v12313 : BitVec 1 := Scalar.cmpi .sgt v12256 c0_i32_6270
  let v12314 : BitVec 32 := Scalar.extui v12313
  let c0_i32_6271 : BitVec 32 := 0#32
  let v12315 : BitVec 1 := Scalar.cmpi .slt v12256 c0_i32_6271
  let v12316 : BitVec 32 := Scalar.extui v12315
  let v12317 : BitVec 32 := Scalar.subi v12314 v12316
  let c2_i32_6269 : BitVec 32 := 2#32
  let c0_i32_6272 : BitVec 32 := 0#32
  let v12318 : BitVec 1 := Scalar.cmpi .sgt c2_i32_6269 c0_i32_6272
  let v12319 : BitVec 32 := Scalar.extui v12318
  let c0_i32_6273 : BitVec 32 := 0#32
  let v12320 : BitVec 1 := Scalar.cmpi .slt c2_i32_6269 c0_i32_6273
  let v12321 : BitVec 32 := Scalar.extui v12320
  let v12322 : BitVec 32 := Scalar.subi v12319 v12321
  let v12323 : BitVec 1 := Scalar.cmpi .ne v12317 v12322
  let v12324 : BitVec 32 := Scalar.remsi v12256 c2_i32_6269
  let c0_i32_6274 : BitVec 32 := 0#32
  let v12325 : BitVec 1 := Scalar.cmpi .ne v12324 c0_i32_6274
  let v12326 : BitVec 1 := Scalar.andi v12323 v12325
  let v12312 : BitVec 32 := Scalar.divsi v12256 c2_i32_6269
  let c1_i32_6275 : BitVec 32 := 1#32
  let v12327 : BitVec 32 := Scalar.subi v12312 c1_i32_6275
  let v12328 : BitVec 32 := Scalar.select v12326 v12327 v12312
  v12328
def k0_mult514 : BitVec 32 :=
  let c2_i32_5725 : BitVec 32 := 2#32
  let c0_i32_5724 : BitVec 32 := 0#32
  let v11293 : BitVec 32 := Scalar.muli c2_i32_5725 c0_i32_5724
  let c2_i32_6106 : BitVec 32 := 2#32
  let v11978 : BitVec 32 := Scalar.addi v11293 c2_i32_6106
  let c4_i32_6239 : BitVec 32 := 4#32
  let v12253 : BitVec 32 := Scalar.muli v11978 c4_i32_6239
  let c2_i32_6240 : BitVec 32 := 2#32
  let v12254 : BitVec 32 := Scalar.addi v12253 c2_i32_6240
  let c128_i32_6241 : BitVec 32 := 128#32
  let v12255 : BitVec 32 := Scalar.muli v12254 c128_i32_6241
  let v12256 : BitVec 32 := v12255
  let c0_i32_6279 : BitVec 32 := 0#32
  let v12335 : BitVec 1 := Scalar.cmpi .sgt v12256 c0_i32_6279
  let v12336 : BitVec 32 := Scalar.extui v12335
  let c0_i32_6280 : BitVec 32 := 0#32
  let v12337 : BitVec 1 := Scalar.cmpi .slt v12256 c0_i32_6280
  let v12338 : BitVec 32 := Scalar.extui v12337
  let v12339 : BitVec 32 := Scalar.subi v12336 v12338
  let c2_i32_6278 : BitVec 32 := 2#32
  let c0_i32_6281 : BitVec 32 := 0#32
  let v12340 : BitVec 1 := Scalar.cmpi .sgt c2_i32_6278 c0_i32_6281
  let v12341 : BitVec 32 := Scalar.extui v12340
  let c0_i32_6282 : BitVec 32 := 0#32
  let v12342 : BitVec 1 := Scalar.cmpi .slt c2_i32_6278 c0_i32_6282
  let v12343 : BitVec 32 := Scalar.extui v12342
  let v12344 : BitVec 32 := Scalar.subi v12341 v12343
  let v12345 : BitVec 1 := Scalar.cmpi .ne v12339 v12344
  let v12346 : BitVec 32 := Scalar.remsi v12256 c2_i32_6278
  let c0_i32_6283 : BitVec 32 := 0#32
  let v12347 : BitVec 1 := Scalar.cmpi .ne v12346 c0_i32_6283
  let v12348 : BitVec 1 := Scalar.andi v12345 v12347
  let v12334 : BitVec 32 := Scalar.divsi v12256 c2_i32_6278
  let c1_i32_6284 : BitVec 32 := 1#32
  let v12349 : BitVec 32 := Scalar.subi v12334 c1_i32_6284
  let v12350 : BitVec 32 := Scalar.select v12348 v12349 v12334
  v12350
def k0_mult515 : BitVec 32 :=
  let c2_i32_5725 : BitVec 32 := 2#32
  let c0_i32_5724 : BitVec 32 := 0#32
  let v11293 : BitVec 32 := Scalar.muli c2_i32_5725 c0_i32_5724
  let c2_i32_6106 : BitVec 32 := 2#32
  let v11978 : BitVec 32 := Scalar.addi v11293 c2_i32_6106
  let c4_i32_6239 : BitVec 32 := 4#32
  let v12253 : BitVec 32 := Scalar.muli v11978 c4_i32_6239
  let c2_i32_6240 : BitVec 32 := 2#32
  let v12254 : BitVec 32 := Scalar.addi v12253 c2_i32_6240
  let c0_i32_6243 : BitVec 32 := 0#32
  let v12258 : BitVec 1 := Scalar.cmpi .sgt v12254 c0_i32_6243
  let v12259 : BitVec 32 := Scalar.extui v12258
  let c0_i32_6244 : BitVec 32 := 0#32
  let v12260 : BitVec 1 := Scalar.cmpi .slt v12254 c0_i32_6244
  let v12261 : BitVec 32 := Scalar.extui v12260
  let v12262 : BitVec 32 := Scalar.subi v12259 v12261
  let c1_i32_6242 : BitVec 32 := 1#32
  let c0_i32_6245 : BitVec 32 := 0#32
  let v12263 : BitVec 1 := Scalar.cmpi .sgt c1_i32_6242 c0_i32_6245
  let v12264 : BitVec 32 := Scalar.extui v12263
  let c0_i32_6246 : BitVec 32 := 0#32
  let v12265 : BitVec 1 := Scalar.cmpi .slt c1_i32_6242 c0_i32_6246
  let v12266 : BitVec 32 := Scalar.extui v12265
  let v12267 : BitVec 32 := Scalar.subi v12264 v12266
  let v12268 : BitVec 1 := Scalar.cmpi .ne v12262 v12267
  let v12269 : BitVec 32 := Scalar.remsi v12254 c1_i32_6242
  let c0_i32_6247 : BitVec 32 := 0#32
  let v12270 : BitVec 1 := Scalar.cmpi .ne v12269 c0_i32_6247
  let v12271 : BitVec 1 := Scalar.andi v12268 v12270
  let v12257 : BitVec 32 := Scalar.divsi v12254 c1_i32_6242
  let c1_i32_6248 : BitVec 32 := 1#32
  let v12272 : BitVec 32 := Scalar.subi v12257 c1_i32_6248
  let v12273 : BitVec 32 := Scalar.select v12271 v12272 v12257
  let c128_i32_6259 : BitVec 32 := 128#32
  let v12288 : BitVec 32 := Scalar.muli v12273 c128_i32_6259
  let c0_i32_6258 : BitVec 32 := 0#32
  let c0_i32_6257 : BitVec 32 := 0#32
  let c1_i32_6249 : BitVec 32 := 1#32
  let c0_i32_6250 : BitVec 32 := 0#32
  let v12274 : BitVec 1 := Scalar.cmpi .eq c1_i32_6249 c0_i32_6250
  let c1_i32_6251 : BitVec 32 := 1#32
  let v12275 : BitVec 32 := Scalar.select v12274 c1_i32_6251 c1_i32_6249
  let v12276 : BitVec 32 := Scalar.remsi v12254 v12275
  let c0_i32_6253 : BitVec 32 := 0#32
  let v12278 : BitVec 1 := Scalar.cmpi .slt v12276 c0_i32_6253
  let c0_i32_6254 : BitVec 32 := 0#32
  let v12279 : BitVec 1 := Scalar.cmpi .slt v12275 c0_i32_6254
  let v12280 : BitVec 1 := Scalar.xori v12278 v12279
  let c0_i32_6252 : BitVec 32 := 0#32
  let v12277 : BitVec 1 := Scalar.cmpi .ne v12276 c0_i32_6252
  let v12281 : BitVec 1 := Scalar.andi v12280 v12277
  let v12282 : BitVec 32 := Scalar.addi v12276 v12275
  let v12283 : BitVec 32 := Scalar.select v12281 v12282 v12276
  let c128_i32_6255 : BitVec 32 := 128#32
  let v12284 : BitVec 32 := Scalar.muli v12283 c128_i32_6255
  let c64_i32_6256 : BitVec 32 := 64#32
  let v12285 : BitVec 32 := Scalar.subi v12284 c64_i32_6256
  let v12286 : BitVec 32 := Scalar.maxsi c0_i32_6257 v12285
  let v12287 : BitVec 32 := Scalar.minsi c0_i32_6258 v12286
  let v12289 : BitVec 32 := Scalar.addi v12288 v12287
  let v12290 : BitVec 32 := v12289
  let c0_i32_6288 : BitVec 32 := 0#32
  let v12358 : BitVec 1 := Scalar.cmpi .sgt v12290 c0_i32_6288
  let v12359 : BitVec 32 := Scalar.extui v12358
  let c0_i32_6289 : BitVec 32 := 0#32
  let v12360 : BitVec 1 := Scalar.cmpi .slt v12290 c0_i32_6289
  let v12361 : BitVec 32 := Scalar.extui v12360
  let v12362 : BitVec 32 := Scalar.subi v12359 v12361
  let c2_i32_6287 : BitVec 32 := 2#32
  let c0_i32_6290 : BitVec 32 := 0#32
  let v12363 : BitVec 1 := Scalar.cmpi .sgt c2_i32_6287 c0_i32_6290
  let v12364 : BitVec 32 := Scalar.extui v12363
  let c0_i32_6291 : BitVec 32 := 0#32
  let v12365 : BitVec 1 := Scalar.cmpi .slt c2_i32_6287 c0_i32_6291
  let v12366 : BitVec 32 := Scalar.extui v12365
  let v12367 : BitVec 32 := Scalar.subi v12364 v12366
  let v12368 : BitVec 1 := Scalar.cmpi .ne v12362 v12367
  let v12369 : BitVec 32 := Scalar.remsi v12290 c2_i32_6287
  let c0_i32_6292 : BitVec 32 := 0#32
  let v12370 : BitVec 1 := Scalar.cmpi .ne v12369 c0_i32_6292
  let v12371 : BitVec 1 := Scalar.andi v12368 v12370
  let v12357 : BitVec 32 := Scalar.divsi v12290 c2_i32_6287
  let c1_i32_6293 : BitVec 32 := 1#32
  let v12372 : BitVec 32 := Scalar.subi v12357 c1_i32_6293
  let v12373 : BitVec 32 := Scalar.select v12371 v12372 v12357
  v12373
def k0_mult516 : BitVec 32 :=
  let c2_i32_5725 : BitVec 32 := 2#32
  let c0_i32_5724 : BitVec 32 := 0#32
  let v11293 : BitVec 32 := Scalar.muli c2_i32_5725 c0_i32_5724
  let c2_i32_6106 : BitVec 32 := 2#32
  let v11978 : BitVec 32 := Scalar.addi v11293 c2_i32_6106
  let c4_i32_6305 : BitVec 32 := 4#32
  let v12390 : BitVec 32 := Scalar.muli v11978 c4_i32_6305
  let c3_i32_6306 : BitVec 32 := 3#32
  let v12391 : BitVec 32 := Scalar.addi v12390 c3_i32_6306
  let c128_i32_6307 : BitVec 32 := 128#32
  let v12392 : BitVec 32 := Scalar.muli v12391 c128_i32_6307
  v12392
def k0_mult517 : BitVec 32 :=
  let c2_i32_5725 : BitVec 32 := 2#32
  let c0_i32_5724 : BitVec 32 := 0#32
  let v11293 : BitVec 32 := Scalar.muli c2_i32_5725 c0_i32_5724
  let c2_i32_6106 : BitVec 32 := 2#32
  let v11978 : BitVec 32 := Scalar.addi v11293 c2_i32_6106
  let c4_i32_6305 : BitVec 32 := 4#32
  let v12390 : BitVec 32 := Scalar.muli v11978 c4_i32_6305
  let c3_i32_6306 : BitVec 32 := 3#32
  let v12391 : BitVec 32 := Scalar.addi v12390 c3_i32_6306
  let c0_i32_6309 : BitVec 32 := 0#32
  let v12395 : BitVec 1 := Scalar.cmpi .sgt v12391 c0_i32_6309
  let v12396 : BitVec 32 := Scalar.extui v12395
  let c0_i32_6310 : BitVec 32 := 0#32
  let v12397 : BitVec 1 := Scalar.cmpi .slt v12391 c0_i32_6310
  let v12398 : BitVec 32 := Scalar.extui v12397
  let v12399 : BitVec 32 := Scalar.subi v12396 v12398
  let c1_i32_6308 : BitVec 32 := 1#32
  let c0_i32_6311 : BitVec 32 := 0#32
  let v12400 : BitVec 1 := Scalar.cmpi .sgt c1_i32_6308 c0_i32_6311
  let v12401 : BitVec 32 := Scalar.extui v12400
  let c0_i32_6312 : BitVec 32 := 0#32
  let v12402 : BitVec 1 := Scalar.cmpi .slt c1_i32_6308 c0_i32_6312
  let v12403 : BitVec 32 := Scalar.extui v12402
  let v12404 : BitVec 32 := Scalar.subi v12401 v12403
  let v12405 : BitVec 1 := Scalar.cmpi .ne v12399 v12404
  let v12406 : BitVec 32 := Scalar.remsi v12391 c1_i32_6308
  let c0_i32_6313 : BitVec 32 := 0#32
  let v12407 : BitVec 1 := Scalar.cmpi .ne v12406 c0_i32_6313
  let v12408 : BitVec 1 := Scalar.andi v12405 v12407
  let v12394 : BitVec 32 := Scalar.divsi v12391 c1_i32_6308
  let c1_i32_6314 : BitVec 32 := 1#32
  let v12409 : BitVec 32 := Scalar.subi v12394 c1_i32_6314
  let v12410 : BitVec 32 := Scalar.select v12408 v12409 v12394
  let c128_i32_6325 : BitVec 32 := 128#32
  let v12425 : BitVec 32 := Scalar.muli v12410 c128_i32_6325
  let c0_i32_6324 : BitVec 32 := 0#32
  let c0_i32_6323 : BitVec 32 := 0#32
  let c1_i32_6315 : BitVec 32 := 1#32
  let c0_i32_6316 : BitVec 32 := 0#32
  let v12411 : BitVec 1 := Scalar.cmpi .eq c1_i32_6315 c0_i32_6316
  let c1_i32_6317 : BitVec 32 := 1#32
  let v12412 : BitVec 32 := Scalar.select v12411 c1_i32_6317 c1_i32_6315
  let v12413 : BitVec 32 := Scalar.remsi v12391 v12412
  let c0_i32_6319 : BitVec 32 := 0#32
  let v12415 : BitVec 1 := Scalar.cmpi .slt v12413 c0_i32_6319
  let c0_i32_6320 : BitVec 32 := 0#32
  let v12416 : BitVec 1 := Scalar.cmpi .slt v12412 c0_i32_6320
  let v12417 : BitVec 1 := Scalar.xori v12415 v12416
  let c0_i32_6318 : BitVec 32 := 0#32
  let v12414 : BitVec 1 := Scalar.cmpi .ne v12413 c0_i32_6318
  let v12418 : BitVec 1 := Scalar.andi v12417 v12414
  let v12419 : BitVec 32 := Scalar.addi v12413 v12412
  let v12420 : BitVec 32 := Scalar.select v12418 v12419 v12413
  let c128_i32_6321 : BitVec 32 := 128#32
  let v12421 : BitVec 32 := Scalar.muli v12420 c128_i32_6321
  let c64_i32_6322 : BitVec 32 := 64#32
  let v12422 : BitVec 32 := Scalar.subi v12421 c64_i32_6322
  let v12423 : BitVec 32 := Scalar.maxsi c0_i32_6323 v12422
  let v12424 : BitVec 32 := Scalar.minsi c0_i32_6324 v12423
  let v12426 : BitVec 32 := Scalar.addi v12425 v12424
  v12426
def k0_mult518 : BitVec 32 :=
  let c2_i32_5725 : BitVec 32 := 2#32
  let c0_i32_5724 : BitVec 32 := 0#32
  let v11293 : BitVec 32 := Scalar.muli c2_i32_5725 c0_i32_5724
  let c2_i32_6106 : BitVec 32 := 2#32
  let v11978 : BitVec 32 := Scalar.addi v11293 c2_i32_6106
  let c4_i32_6305 : BitVec 32 := 4#32
  let v12390 : BitVec 32 := Scalar.muli v11978 c4_i32_6305
  let c3_i32_6306 : BitVec 32 := 3#32
  let v12391 : BitVec 32 := Scalar.addi v12390 c3_i32_6306
  let c128_i32_6307 : BitVec 32 := 128#32
  let v12392 : BitVec 32 := Scalar.muli v12391 c128_i32_6307
  let v12393 : BitVec 32 := v12392
  let c0_i32_6336 : BitVec 32 := 0#32
  let v12450 : BitVec 1 := Scalar.cmpi .sgt v12393 c0_i32_6336
  let v12451 : BitVec 32 := Scalar.extui v12450
  let c0_i32_6337 : BitVec 32 := 0#32
  let v12452 : BitVec 1 := Scalar.cmpi .slt v12393 c0_i32_6337
  let v12453 : BitVec 32 := Scalar.extui v12452
  let v12454 : BitVec 32 := Scalar.subi v12451 v12453
  let c2_i32_6335 : BitVec 32 := 2#32
  let c0_i32_6338 : BitVec 32 := 0#32
  let v12455 : BitVec 1 := Scalar.cmpi .sgt c2_i32_6335 c0_i32_6338
  let v12456 : BitVec 32 := Scalar.extui v12455
  let c0_i32_6339 : BitVec 32 := 0#32
  let v12457 : BitVec 1 := Scalar.cmpi .slt c2_i32_6335 c0_i32_6339
  let v12458 : BitVec 32 := Scalar.extui v12457
  let v12459 : BitVec 32 := Scalar.subi v12456 v12458
  let v12460 : BitVec 1 := Scalar.cmpi .ne v12454 v12459
  let v12461 : BitVec 32 := Scalar.remsi v12393 c2_i32_6335
  let c0_i32_6340 : BitVec 32 := 0#32
  let v12462 : BitVec 1 := Scalar.cmpi .ne v12461 c0_i32_6340
  let v12463 : BitVec 1 := Scalar.andi v12460 v12462
  let v12449 : BitVec 32 := Scalar.divsi v12393 c2_i32_6335
  let c1_i32_6341 : BitVec 32 := 1#32
  let v12464 : BitVec 32 := Scalar.subi v12449 c1_i32_6341
  let v12465 : BitVec 32 := Scalar.select v12463 v12464 v12449
  v12465
def k0_mult519 : BitVec 32 :=
  let c2_i32_5725 : BitVec 32 := 2#32
  let c0_i32_5724 : BitVec 32 := 0#32
  let v11293 : BitVec 32 := Scalar.muli c2_i32_5725 c0_i32_5724
  let c2_i32_6106 : BitVec 32 := 2#32
  let v11978 : BitVec 32 := Scalar.addi v11293 c2_i32_6106
  let c4_i32_6305 : BitVec 32 := 4#32
  let v12390 : BitVec 32 := Scalar.muli v11978 c4_i32_6305
  let c3_i32_6306 : BitVec 32 := 3#32
  let v12391 : BitVec 32 := Scalar.addi v12390 c3_i32_6306
  let c128_i32_6307 : BitVec 32 := 128#32
  let v12392 : BitVec 32 := Scalar.muli v12391 c128_i32_6307
  let v12393 : BitVec 32 := v12392
  let c0_i32_6345 : BitVec 32 := 0#32
  let v12472 : BitVec 1 := Scalar.cmpi .sgt v12393 c0_i32_6345
  let v12473 : BitVec 32 := Scalar.extui v12472
  let c0_i32_6346 : BitVec 32 := 0#32
  let v12474 : BitVec 1 := Scalar.cmpi .slt v12393 c0_i32_6346
  let v12475 : BitVec 32 := Scalar.extui v12474
  let v12476 : BitVec 32 := Scalar.subi v12473 v12475
  let c2_i32_6344 : BitVec 32 := 2#32
  let c0_i32_6347 : BitVec 32 := 0#32
  let v12477 : BitVec 1 := Scalar.cmpi .sgt c2_i32_6344 c0_i32_6347
  let v12478 : BitVec 32 := Scalar.extui v12477
  let c0_i32_6348 : BitVec 32 := 0#32
  let v12479 : BitVec 1 := Scalar.cmpi .slt c2_i32_6344 c0_i32_6348
  let v12480 : BitVec 32 := Scalar.extui v12479
  let v12481 : BitVec 32 := Scalar.subi v12478 v12480
  let v12482 : BitVec 1 := Scalar.cmpi .ne v12476 v12481
  let v12483 : BitVec 32 := Scalar.remsi v12393 c2_i32_6344
  let c0_i32_6349 : BitVec 32 := 0#32
  let v12484 : BitVec 1 := Scalar.cmpi .ne v12483 c0_i32_6349
  let v12485 : BitVec 1 := Scalar.andi v12482 v12484
  let v12471 : BitVec 32 := Scalar.divsi v12393 c2_i32_6344
  let c1_i32_6350 : BitVec 32 := 1#32
  let v12486 : BitVec 32 := Scalar.subi v12471 c1_i32_6350
  let v12487 : BitVec 32 := Scalar.select v12485 v12486 v12471
  v12487
def k0_mult520 : BitVec 32 :=
  let c2_i32_5725 : BitVec 32 := 2#32
  let c0_i32_5724 : BitVec 32 := 0#32
  let v11293 : BitVec 32 := Scalar.muli c2_i32_5725 c0_i32_5724
  let c2_i32_6106 : BitVec 32 := 2#32
  let v11978 : BitVec 32 := Scalar.addi v11293 c2_i32_6106
  let c4_i32_6305 : BitVec 32 := 4#32
  let v12390 : BitVec 32 := Scalar.muli v11978 c4_i32_6305
  let c3_i32_6306 : BitVec 32 := 3#32
  let v12391 : BitVec 32 := Scalar.addi v12390 c3_i32_6306
  let c0_i32_6309 : BitVec 32 := 0#32
  let v12395 : BitVec 1 := Scalar.cmpi .sgt v12391 c0_i32_6309
  let v12396 : BitVec 32 := Scalar.extui v12395
  let c0_i32_6310 : BitVec 32 := 0#32
  let v12397 : BitVec 1 := Scalar.cmpi .slt v12391 c0_i32_6310
  let v12398 : BitVec 32 := Scalar.extui v12397
  let v12399 : BitVec 32 := Scalar.subi v12396 v12398
  let c1_i32_6308 : BitVec 32 := 1#32
  let c0_i32_6311 : BitVec 32 := 0#32
  let v12400 : BitVec 1 := Scalar.cmpi .sgt c1_i32_6308 c0_i32_6311
  let v12401 : BitVec 32 := Scalar.extui v12400
  let c0_i32_6312 : BitVec 32 := 0#32
  let v12402 : BitVec 1 := Scalar.cmpi .slt c1_i32_6308 c0_i32_6312
  let v12403 : BitVec 32 := Scalar.extui v12402
  let v12404 : BitVec 32 := Scalar.subi v12401 v12403
  let v12405 : BitVec 1 := Scalar.cmpi .ne v12399 v12404
  let v12406 : BitVec 32 := Scalar.remsi v12391 c1_i32_6308
  let c0_i32_6313 : BitVec 32 := 0#32
  let v12407 : BitVec 1 := Scalar.cmpi .ne v12406 c0_i32_6313
  let v12408 : BitVec 1 := Scalar.andi v12405 v12407
  let v12394 : BitVec 32 := Scalar.divsi v12391 c1_i32_6308
  let c1_i32_6314 : BitVec 32 := 1#32
  let v12409 : BitVec 32 := Scalar.subi v12394 c1_i32_6314
  let v12410 : BitVec 32 := Scalar.select v12408 v12409 v12394
  let c128_i32_6325 : BitVec 32 := 128#32
  let v12425 : BitVec 32 := Scalar.muli v12410 c128_i32_6325
  let c0_i32_6324 : BitVec 32 := 0#32
  let c0_i32_6323 : BitVec 32 := 0#32
  let c1_i32_6315 : BitVec 32 := 1#32
  let c0_i32_6316 : BitVec 32 := 0#32
  let v12411 : BitVec 1 := Scalar.cmpi .eq c1_i32_6315 c0_i32_6316
  let c1_i32_6317 : BitVec 32 := 1#32
  let v12412 : BitVec 32 := Scalar.select v12411 c1_i32_6317 c1_i32_6315
  let v12413 : BitVec 32 := Scalar.remsi v12391 v12412
  let c0_i32_6319 : BitVec 32 := 0#32
  let v12415 : BitVec 1 := Scalar.cmpi .slt v12413 c0_i32_6319
  let c0_i32_6320 : BitVec 32 := 0#32
  let v12416 : BitVec 1 := Scalar.cmpi .slt v12412 c0_i32_6320
  let v12417 : BitVec 1 := Scalar.xori v12415 v12416
  let c0_i32_6318 : BitVec 32 := 0#32
  let v12414 : BitVec 1 := Scalar.cmpi .ne v12413 c0_i32_6318
  let v12418 : BitVec 1 := Scalar.andi v12417 v12414
  let v12419 : BitVec 32 := Scalar.addi v12413 v12412
  let v12420 : BitVec 32 := Scalar.select v12418 v12419 v12413
  let c128_i32_6321 : BitVec 32 := 128#32
  let v12421 : BitVec 32 := Scalar.muli v12420 c128_i32_6321
  let c64_i32_6322 : BitVec 32 := 64#32
  let v12422 : BitVec 32 := Scalar.subi v12421 c64_i32_6322
  let v12423 : BitVec 32 := Scalar.maxsi c0_i32_6323 v12422
  let v12424 : BitVec 32 := Scalar.minsi c0_i32_6324 v12423
  let v12426 : BitVec 32 := Scalar.addi v12425 v12424
  let v12427 : BitVec 32 := v12426
  let c0_i32_6354 : BitVec 32 := 0#32
  let v12495 : BitVec 1 := Scalar.cmpi .sgt v12427 c0_i32_6354
  let v12496 : BitVec 32 := Scalar.extui v12495
  let c0_i32_6355 : BitVec 32 := 0#32
  let v12497 : BitVec 1 := Scalar.cmpi .slt v12427 c0_i32_6355
  let v12498 : BitVec 32 := Scalar.extui v12497
  let v12499 : BitVec 32 := Scalar.subi v12496 v12498
  let c2_i32_6353 : BitVec 32 := 2#32
  let c0_i32_6356 : BitVec 32 := 0#32
  let v12500 : BitVec 1 := Scalar.cmpi .sgt c2_i32_6353 c0_i32_6356
  let v12501 : BitVec 32 := Scalar.extui v12500
  let c0_i32_6357 : BitVec 32 := 0#32
  let v12502 : BitVec 1 := Scalar.cmpi .slt c2_i32_6353 c0_i32_6357
  let v12503 : BitVec 32 := Scalar.extui v12502
  let v12504 : BitVec 32 := Scalar.subi v12501 v12503
  let v12505 : BitVec 1 := Scalar.cmpi .ne v12499 v12504
  let v12506 : BitVec 32 := Scalar.remsi v12427 c2_i32_6353
  let c0_i32_6358 : BitVec 32 := 0#32
  let v12507 : BitVec 1 := Scalar.cmpi .ne v12506 c0_i32_6358
  let v12508 : BitVec 1 := Scalar.andi v12505 v12507
  let v12494 : BitVec 32 := Scalar.divsi v12427 c2_i32_6353
  let c1_i32_6359 : BitVec 32 := 1#32
  let v12509 : BitVec 32 := Scalar.subi v12494 c1_i32_6359
  let v12510 : BitVec 32 := Scalar.select v12508 v12509 v12494
  v12510
def k0_mult521 : BitVec 32 :=
  let c2_i32_5725 : BitVec 32 := 2#32
  let c0_i32_5724 : BitVec 32 := 0#32
  let v11293 : BitVec 32 := Scalar.muli c2_i32_5725 c0_i32_5724
  let c1_i32_6371 : BitVec 32 := 1#32
  let v12527 : BitVec 32 := Scalar.addi v11293 c1_i32_6371
  let c4_i32_6372 : BitVec 32 := 4#32
  let v12528 : BitVec 32 := Scalar.muli v12527 c4_i32_6372
  let c0_i32_6373 : BitVec 32 := 0#32
  let v12529 : BitVec 32 := Scalar.addi v12528 c0_i32_6373
  let c0_i32_6375 : BitVec 32 := 0#32
  let v12531 : BitVec 1 := Scalar.cmpi .sgt v12529 c0_i32_6375
  let v12532 : BitVec 32 := Scalar.extui v12531
  let c0_i32_6376 : BitVec 32 := 0#32
  let v12533 : BitVec 1 := Scalar.cmpi .slt v12529 c0_i32_6376
  let v12534 : BitVec 32 := Scalar.extui v12533
  let v12535 : BitVec 32 := Scalar.subi v12532 v12534
  let c1_i32_6374 : BitVec 32 := 1#32
  let c0_i32_6377 : BitVec 32 := 0#32
  let v12536 : BitVec 1 := Scalar.cmpi .sgt c1_i32_6374 c0_i32_6377
  let v12537 : BitVec 32 := Scalar.extui v12536
  let c0_i32_6378 : BitVec 32 := 0#32
  let v12538 : BitVec 1 := Scalar.cmpi .slt c1_i32_6374 c0_i32_6378
  let v12539 : BitVec 32 := Scalar.extui v12538
  let v12540 : BitVec 32 := Scalar.subi v12537 v12539
  let v12541 : BitVec 1 := Scalar.cmpi .ne v12535 v12540
  let v12542 : BitVec 32 := Scalar.remsi v12529 c1_i32_6374
  let c0_i32_6379 : BitVec 32 := 0#32
  let v12543 : BitVec 1 := Scalar.cmpi .ne v12542 c0_i32_6379
  let v12544 : BitVec 1 := Scalar.andi v12541 v12543
  let v12530 : BitVec 32 := Scalar.divsi v12529 c1_i32_6374
  let c1_i32_6380 : BitVec 32 := 1#32
  let v12545 : BitVec 32 := Scalar.subi v12530 c1_i32_6380
  let v12546 : BitVec 32 := Scalar.select v12544 v12545 v12530
  let c128_i32_6391 : BitVec 32 := 128#32
  let v12561 : BitVec 32 := Scalar.muli v12546 c128_i32_6391
  let c0_i32_6390 : BitVec 32 := 0#32
  let c0_i32_6389 : BitVec 32 := 0#32
  let c1_i32_6381 : BitVec 32 := 1#32
  let c0_i32_6382 : BitVec 32 := 0#32
  let v12547 : BitVec 1 := Scalar.cmpi .eq c1_i32_6381 c0_i32_6382
  let c1_i32_6383 : BitVec 32 := 1#32
  let v12548 : BitVec 32 := Scalar.select v12547 c1_i32_6383 c1_i32_6381
  let v12549 : BitVec 32 := Scalar.remsi v12529 v12548
  let c0_i32_6385 : BitVec 32 := 0#32
  let v12551 : BitVec 1 := Scalar.cmpi .slt v12549 c0_i32_6385
  let c0_i32_6386 : BitVec 32 := 0#32
  let v12552 : BitVec 1 := Scalar.cmpi .slt v12548 c0_i32_6386
  let v12553 : BitVec 1 := Scalar.xori v12551 v12552
  let c0_i32_6384 : BitVec 32 := 0#32
  let v12550 : BitVec 1 := Scalar.cmpi .ne v12549 c0_i32_6384
  let v12554 : BitVec 1 := Scalar.andi v12553 v12550
  let v12555 : BitVec 32 := Scalar.addi v12549 v12548
  let v12556 : BitVec 32 := Scalar.select v12554 v12555 v12549
  let c128_i32_6387 : BitVec 32 := 128#32
  let v12557 : BitVec 32 := Scalar.muli v12556 c128_i32_6387
  let c64_i32_6388 : BitVec 32 := 64#32
  let v12558 : BitVec 32 := Scalar.subi v12557 c64_i32_6388
  let v12559 : BitVec 32 := Scalar.maxsi c0_i32_6389 v12558
  let v12560 : BitVec 32 := Scalar.minsi c0_i32_6390 v12559
  let v12562 : BitVec 32 := Scalar.addi v12561 v12560
  v12562
def k0_mult522 : BitVec 32 :=
  let c2_i32_5725 : BitVec 32 := 2#32
  let c0_i32_5724 : BitVec 32 := 0#32
  let v11293 : BitVec 32 := Scalar.muli c2_i32_5725 c0_i32_5724
  let c1_i32_6371 : BitVec 32 := 1#32
  let v12527 : BitVec 32 := Scalar.addi v11293 c1_i32_6371
  let c4_i32_6372 : BitVec 32 := 4#32
  let v12528 : BitVec 32 := Scalar.muli v12527 c4_i32_6372
  let c0_i32_6373 : BitVec 32 := 0#32
  let v12529 : BitVec 32 := Scalar.addi v12528 c0_i32_6373
  let c0_i32_6375 : BitVec 32 := 0#32
  let v12531 : BitVec 1 := Scalar.cmpi .sgt v12529 c0_i32_6375
  let v12532 : BitVec 32 := Scalar.extui v12531
  let c0_i32_6376 : BitVec 32 := 0#32
  let v12533 : BitVec 1 := Scalar.cmpi .slt v12529 c0_i32_6376
  let v12534 : BitVec 32 := Scalar.extui v12533
  let v12535 : BitVec 32 := Scalar.subi v12532 v12534
  let c1_i32_6374 : BitVec 32 := 1#32
  let c0_i32_6377 : BitVec 32 := 0#32
  let v12536 : BitVec 1 := Scalar.cmpi .sgt c1_i32_6374 c0_i32_6377
  let v12537 : BitVec 32 := Scalar.extui v12536
  let c0_i32_6378 : BitVec 32 := 0#32
  let v12538 : BitVec 1 := Scalar.cmpi .slt c1_i32_6374 c0_i32_6378
  let v12539 : BitVec 32 := Scalar.extui v12538
  let v12540 : BitVec 32 := Scalar.subi v12537 v12539
  let v12541 : BitVec 1 := Scalar.cmpi .ne v12535 v12540
  let v12542 : BitVec 32 := Scalar.remsi v12529 c1_i32_6374
  let c0_i32_6379 : BitVec 32 := 0#32
  let v12543 : BitVec 1 := Scalar.cmpi .ne v12542 c0_i32_6379
  let v12544 : BitVec 1 := Scalar.andi v12541 v12543
  let v12530 : BitVec 32 := Scalar.divsi v12529 c1_i32_6374
  let c1_i32_6380 : BitVec 32 := 1#32
  let v12545 : BitVec 32 := Scalar.subi v12530 c1_i32_6380
  let v12546 : BitVec 32 := Scalar.select v12544 v12545 v12530
  let c128_i32_6391 : BitVec 32 := 128#32
  let v12561 : BitVec 32 := Scalar.muli v12546 c128_i32_6391
  let c0_i32_6390 : BitVec 32 := 0#32
  let c0_i32_6389 : BitVec 32 := 0#32
  let c1_i32_6381 : BitVec 32 := 1#32
  let c0_i32_6382 : BitVec 32 := 0#32
  let v12547 : BitVec 1 := Scalar.cmpi .eq c1_i32_6381 c0_i32_6382
  let c1_i32_6383 : BitVec 32 := 1#32
  let v12548 : BitVec 32 := Scalar.select v12547 c1_i32_6383 c1_i32_6381
  let v12549 : BitVec 32 := Scalar.remsi v12529 v12548
  let c0_i32_6385 : BitVec 32 := 0#32
  let v12551 : BitVec 1 := Scalar.cmpi .slt v12549 c0_i32_6385
  let c0_i32_6386 : BitVec 32 := 0#32
  let v12552 : BitVec 1 := Scalar.cmpi .slt v12548 c0_i32_6386
  let v12553 : BitVec 1 := Scalar.xori v12551 v12552
  let c0_i32_6384 : BitVec 32 := 0#32
  let v12550 : BitVec 1 := Scalar.cmpi .ne v12549 c0_i32_6384
  let v12554 : BitVec 1 := Scalar.andi v12553 v12550
  let v12555 : BitVec 32 := Scalar.addi v12549 v12548
  let v12556 : BitVec 32 := Scalar.select v12554 v12555 v12549
  let c128_i32_6387 : BitVec 32 := 128#32
  let v12557 : BitVec 32 := Scalar.muli v12556 c128_i32_6387
  let c64_i32_6388 : BitVec 32 := 64#32
  let v12558 : BitVec 32 := Scalar.subi v12557 c64_i32_6388
  let v12559 : BitVec 32 := Scalar.maxsi c0_i32_6389 v12558
  let v12560 : BitVec 32 := Scalar.minsi c0_i32_6390 v12559
  let v12562 : BitVec 32 := Scalar.addi v12561 v12560
  let v12563 : BitVec 32 := v12562
  let c0_i32_6397 : BitVec 32 := 0#32
  let v12567 : BitVec 1 := Scalar.cmpi .sgt v12563 c0_i32_6397
  let v12568 : BitVec 32 := Scalar.extui v12567
  let c0_i32_6398 : BitVec 32 := 0#32
  let v12569 : BitVec 1 := Scalar.cmpi .slt v12563 c0_i32_6398
  let v12570 : BitVec 32 := Scalar.extui v12569
  let v12571 : BitVec 32 := Scalar.subi v12568 v12570
  let c2_i32_6396 : BitVec 32 := 2#32
  let c0_i32_6399 : BitVec 32 := 0#32
  let v12572 : BitVec 1 := Scalar.cmpi .sgt c2_i32_6396 c0_i32_6399
  let v12573 : BitVec 32 := Scalar.extui v12572
  let c0_i32_6400 : BitVec 32 := 0#32
  let v12574 : BitVec 1 := Scalar.cmpi .slt c2_i32_6396 c0_i32_6400
  let v12575 : BitVec 32 := Scalar.extui v12574
  let v12576 : BitVec 32 := Scalar.subi v12573 v12575
  let v12577 : BitVec 1 := Scalar.cmpi .ne v12571 v12576
  let v12578 : BitVec 32 := Scalar.remsi v12563 c2_i32_6396
  let c0_i32_6401 : BitVec 32 := 0#32
  let v12579 : BitVec 1 := Scalar.cmpi .ne v12578 c0_i32_6401
  let v12580 : BitVec 1 := Scalar.andi v12577 v12579
  let v12566 : BitVec 32 := Scalar.divsi v12563 c2_i32_6396
  let c1_i32_6402 : BitVec 32 := 1#32
  let v12581 : BitVec 32 := Scalar.subi v12566 c1_i32_6402
  let v12582 : BitVec 32 := Scalar.select v12580 v12581 v12566
  v12582
def k0_off62 (c0_i32_6373 : BitVec 32) : Fin 3 → Nat :=
  let c3_6403 : Index := 3#32
  let c2_i32_5725 : BitVec 32 := 2#32
  let c0_i32_5724 : BitVec 32 := 0#32
  let v11293 : BitVec 32 := Scalar.muli c2_i32_5725 c0_i32_5724
  let c1_i32_6371 : BitVec 32 := 1#32
  let v12527 : BitVec 32 := Scalar.addi v11293 c1_i32_6371
  let c4_i32_6372 : BitVec 32 := 4#32
  let v12528 : BitVec 32 := Scalar.muli v12527 c4_i32_6372
  let v12529 : BitVec 32 := Scalar.addi v12528 c0_i32_6373
  let c0_i32_6375 : BitVec 32 := 0#32
  let v12531 : BitVec 1 := Scalar.cmpi .sgt v12529 c0_i32_6375
  let v12532 : BitVec 32 := Scalar.extui v12531
  let c0_i32_6376 : BitVec 32 := 0#32
  let v12533 : BitVec 1 := Scalar.cmpi .slt v12529 c0_i32_6376
  let v12534 : BitVec 32 := Scalar.extui v12533
  let v12535 : BitVec 32 := Scalar.subi v12532 v12534
  let c1_i32_6374 : BitVec 32 := 1#32
  let c0_i32_6377 : BitVec 32 := 0#32
  let v12536 : BitVec 1 := Scalar.cmpi .sgt c1_i32_6374 c0_i32_6377
  let v12537 : BitVec 32 := Scalar.extui v12536
  let c0_i32_6378 : BitVec 32 := 0#32
  let v12538 : BitVec 1 := Scalar.cmpi .slt c1_i32_6374 c0_i32_6378
  let v12539 : BitVec 32 := Scalar.extui v12538
  let v12540 : BitVec 32 := Scalar.subi v12537 v12539
  let v12541 : BitVec 1 := Scalar.cmpi .ne v12535 v12540
  let v12542 : BitVec 32 := Scalar.remsi v12529 c1_i32_6374
  let c0_i32_6379 : BitVec 32 := 0#32
  let v12543 : BitVec 1 := Scalar.cmpi .ne v12542 c0_i32_6379
  let v12544 : BitVec 1 := Scalar.andi v12541 v12543
  let v12530 : BitVec 32 := Scalar.divsi v12529 c1_i32_6374
  let c1_i32_6380 : BitVec 32 := 1#32
  let v12545 : BitVec 32 := Scalar.subi v12530 c1_i32_6380
  let v12546 : BitVec 32 := Scalar.select v12544 v12545 v12530
  let c128_i32_6391 : BitVec 32 := 128#32
  let v12561 : BitVec 32 := Scalar.muli v12546 c128_i32_6391
  let c0_i32_6390 : BitVec 32 := 0#32
  let c0_i32_6389 : BitVec 32 := 0#32
  let c1_i32_6381 : BitVec 32 := 1#32
  let c0_i32_6382 : BitVec 32 := 0#32
  let v12547 : BitVec 1 := Scalar.cmpi .eq c1_i32_6381 c0_i32_6382
  let c1_i32_6383 : BitVec 32 := 1#32
  let v12548 : BitVec 32 := Scalar.select v12547 c1_i32_6383 c1_i32_6381
  let v12549 : BitVec 32 := Scalar.remsi v12529 v12548
  let c0_i32_6385 : BitVec 32 := 0#32
  let v12551 : BitVec 1 := Scalar.cmpi .slt v12549 c0_i32_6385
  let c0_i32_6386 : BitVec 32 := 0#32
  let v12552 : BitVec 1 := Scalar.cmpi .slt v12548 c0_i32_6386
  let v12553 : BitVec 1 := Scalar.xori v12551 v12552
  let c0_i32_6384 : BitVec 32 := 0#32
  let v12550 : BitVec 1 := Scalar.cmpi .ne v12549 c0_i32_6384
  let v12554 : BitVec 1 := Scalar.andi v12553 v12550
  let v12555 : BitVec 32 := Scalar.addi v12549 v12548
  let v12556 : BitVec 32 := Scalar.select v12554 v12555 v12549
  let c128_i32_6387 : BitVec 32 := 128#32
  let v12557 : BitVec 32 := Scalar.muli v12556 c128_i32_6387
  let c64_i32_6388 : BitVec 32 := 64#32
  let v12558 : BitVec 32 := Scalar.subi v12557 c64_i32_6388
  let v12559 : BitVec 32 := Scalar.maxsi c0_i32_6389 v12558
  let v12560 : BitVec 32 := Scalar.minsi c0_i32_6390 v12559
  let v12562 : BitVec 32 := Scalar.addi v12561 v12560
  let v12563 : BitVec 32 := v12562
  let c0_i32_6397 : BitVec 32 := 0#32
  let v12567 : BitVec 1 := Scalar.cmpi .sgt v12563 c0_i32_6397
  let v12568 : BitVec 32 := Scalar.extui v12567
  let c0_i32_6398 : BitVec 32 := 0#32
  let v12569 : BitVec 1 := Scalar.cmpi .slt v12563 c0_i32_6398
  let v12570 : BitVec 32 := Scalar.extui v12569
  let v12571 : BitVec 32 := Scalar.subi v12568 v12570
  let c2_i32_6396 : BitVec 32 := 2#32
  let c0_i32_6399 : BitVec 32 := 0#32
  let v12572 : BitVec 1 := Scalar.cmpi .sgt c2_i32_6396 c0_i32_6399
  let v12573 : BitVec 32 := Scalar.extui v12572
  let c0_i32_6400 : BitVec 32 := 0#32
  let v12574 : BitVec 1 := Scalar.cmpi .slt c2_i32_6396 c0_i32_6400
  let v12575 : BitVec 32 := Scalar.extui v12574
  let v12576 : BitVec 32 := Scalar.subi v12573 v12575
  let v12577 : BitVec 1 := Scalar.cmpi .ne v12571 v12576
  let v12578 : BitVec 32 := Scalar.remsi v12563 c2_i32_6396
  let c0_i32_6401 : BitVec 32 := 0#32
  let v12579 : BitVec 1 := Scalar.cmpi .ne v12578 c0_i32_6401
  let v12580 : BitVec 1 := Scalar.andi v12577 v12579
  let v12566 : BitVec 32 := Scalar.divsi v12563 c2_i32_6396
  let c1_i32_6402 : BitVec 32 := 1#32
  let v12581 : BitVec 32 := Scalar.subi v12566 c1_i32_6402
  let v12582 : BitVec 32 := Scalar.select v12580 v12581 v12566
  let v12583 : BitVec 32 := v12582
  let v12584 : Index := Scalar.indexCast v12583
  let c0_6404 : Index := 0#32
  ![3, v12584.toNat, 0]
def k0_mult523 : BitVec 32 :=
  let c2_i32_5725 : BitVec 32 := 2#32
  let c0_i32_5724 : BitVec 32 := 0#32
  let v11293 : BitVec 32 := Scalar.muli c2_i32_5725 c0_i32_5724
  let c1_i32_6371 : BitVec 32 := 1#32
  let v12527 : BitVec 32 := Scalar.addi v11293 c1_i32_6371
  let c4_i32_6372 : BitVec 32 := 4#32
  let v12528 : BitVec 32 := Scalar.muli v12527 c4_i32_6372
  let c0_i32_6373 : BitVec 32 := 0#32
  let v12529 : BitVec 32 := Scalar.addi v12528 c0_i32_6373
  let c0_i32_6375 : BitVec 32 := 0#32
  let v12531 : BitVec 1 := Scalar.cmpi .sgt v12529 c0_i32_6375
  let v12532 : BitVec 32 := Scalar.extui v12531
  let c0_i32_6376 : BitVec 32 := 0#32
  let v12533 : BitVec 1 := Scalar.cmpi .slt v12529 c0_i32_6376
  let v12534 : BitVec 32 := Scalar.extui v12533
  let v12535 : BitVec 32 := Scalar.subi v12532 v12534
  let c1_i32_6374 : BitVec 32 := 1#32
  let c0_i32_6377 : BitVec 32 := 0#32
  let v12536 : BitVec 1 := Scalar.cmpi .sgt c1_i32_6374 c0_i32_6377
  let v12537 : BitVec 32 := Scalar.extui v12536
  let c0_i32_6378 : BitVec 32 := 0#32
  let v12538 : BitVec 1 := Scalar.cmpi .slt c1_i32_6374 c0_i32_6378
  let v12539 : BitVec 32 := Scalar.extui v12538
  let v12540 : BitVec 32 := Scalar.subi v12537 v12539
  let v12541 : BitVec 1 := Scalar.cmpi .ne v12535 v12540
  let v12542 : BitVec 32 := Scalar.remsi v12529 c1_i32_6374
  let c0_i32_6379 : BitVec 32 := 0#32
  let v12543 : BitVec 1 := Scalar.cmpi .ne v12542 c0_i32_6379
  let v12544 : BitVec 1 := Scalar.andi v12541 v12543
  let v12530 : BitVec 32 := Scalar.divsi v12529 c1_i32_6374
  let c1_i32_6380 : BitVec 32 := 1#32
  let v12545 : BitVec 32 := Scalar.subi v12530 c1_i32_6380
  let v12546 : BitVec 32 := Scalar.select v12544 v12545 v12530
  let c128_i32_6391 : BitVec 32 := 128#32
  let v12561 : BitVec 32 := Scalar.muli v12546 c128_i32_6391
  let c0_i32_6390 : BitVec 32 := 0#32
  let c0_i32_6389 : BitVec 32 := 0#32
  let c1_i32_6381 : BitVec 32 := 1#32
  let c0_i32_6382 : BitVec 32 := 0#32
  let v12547 : BitVec 1 := Scalar.cmpi .eq c1_i32_6381 c0_i32_6382
  let c1_i32_6383 : BitVec 32 := 1#32
  let v12548 : BitVec 32 := Scalar.select v12547 c1_i32_6383 c1_i32_6381
  let v12549 : BitVec 32 := Scalar.remsi v12529 v12548
  let c0_i32_6385 : BitVec 32 := 0#32
  let v12551 : BitVec 1 := Scalar.cmpi .slt v12549 c0_i32_6385
  let c0_i32_6386 : BitVec 32 := 0#32
  let v12552 : BitVec 1 := Scalar.cmpi .slt v12548 c0_i32_6386
  let v12553 : BitVec 1 := Scalar.xori v12551 v12552
  let c0_i32_6384 : BitVec 32 := 0#32
  let v12550 : BitVec 1 := Scalar.cmpi .ne v12549 c0_i32_6384
  let v12554 : BitVec 1 := Scalar.andi v12553 v12550
  let v12555 : BitVec 32 := Scalar.addi v12549 v12548
  let v12556 : BitVec 32 := Scalar.select v12554 v12555 v12549
  let c128_i32_6387 : BitVec 32 := 128#32
  let v12557 : BitVec 32 := Scalar.muli v12556 c128_i32_6387
  let c64_i32_6388 : BitVec 32 := 64#32
  let v12558 : BitVec 32 := Scalar.subi v12557 c64_i32_6388
  let v12559 : BitVec 32 := Scalar.maxsi c0_i32_6389 v12558
  let v12560 : BitVec 32 := Scalar.minsi c0_i32_6390 v12559
  let v12562 : BitVec 32 := Scalar.addi v12561 v12560
  let v12563 : BitVec 32 := v12562
  let c0_i32_6411 : BitVec 32 := 0#32
  let v12592 : BitVec 1 := Scalar.cmpi .sgt v12563 c0_i32_6411
  let v12593 : BitVec 32 := Scalar.extui v12592
  let c0_i32_6412 : BitVec 32 := 0#32
  let v12594 : BitVec 1 := Scalar.cmpi .slt v12563 c0_i32_6412
  let v12595 : BitVec 32 := Scalar.extui v12594
  let v12596 : BitVec 32 := Scalar.subi v12593 v12595
  let c2_i32_6410 : BitVec 32 := 2#32
  let c0_i32_6413 : BitVec 32 := 0#32
  let v12597 : BitVec 1 := Scalar.cmpi .sgt c2_i32_6410 c0_i32_6413
  let v12598 : BitVec 32 := Scalar.extui v12597
  let c0_i32_6414 : BitVec 32 := 0#32
  let v12599 : BitVec 1 := Scalar.cmpi .slt c2_i32_6410 c0_i32_6414
  let v12600 : BitVec 32 := Scalar.extui v12599
  let v12601 : BitVec 32 := Scalar.subi v12598 v12600
  let v12602 : BitVec 1 := Scalar.cmpi .ne v12596 v12601
  let v12603 : BitVec 32 := Scalar.remsi v12563 c2_i32_6410
  let c0_i32_6415 : BitVec 32 := 0#32
  let v12604 : BitVec 1 := Scalar.cmpi .ne v12603 c0_i32_6415
  let v12605 : BitVec 1 := Scalar.andi v12602 v12604
  let v12591 : BitVec 32 := Scalar.divsi v12563 c2_i32_6410
  let c1_i32_6416 : BitVec 32 := 1#32
  let v12606 : BitVec 32 := Scalar.subi v12591 c1_i32_6416
  let v12607 : BitVec 32 := Scalar.select v12605 v12606 v12591
  v12607
def k0_off63 (c0_i32_6373 : BitVec 32) : Fin 3 → Nat :=
  let c4_6417 : Index := 4#32
  let c2_i32_5725 : BitVec 32 := 2#32
  let c0_i32_5724 : BitVec 32 := 0#32
  let v11293 : BitVec 32 := Scalar.muli c2_i32_5725 c0_i32_5724
  let c1_i32_6371 : BitVec 32 := 1#32
  let v12527 : BitVec 32 := Scalar.addi v11293 c1_i32_6371
  let c4_i32_6372 : BitVec 32 := 4#32
  let v12528 : BitVec 32 := Scalar.muli v12527 c4_i32_6372
  let v12529 : BitVec 32 := Scalar.addi v12528 c0_i32_6373
  let c0_i32_6375 : BitVec 32 := 0#32
  let v12531 : BitVec 1 := Scalar.cmpi .sgt v12529 c0_i32_6375
  let v12532 : BitVec 32 := Scalar.extui v12531
  let c0_i32_6376 : BitVec 32 := 0#32
  let v12533 : BitVec 1 := Scalar.cmpi .slt v12529 c0_i32_6376
  let v12534 : BitVec 32 := Scalar.extui v12533
  let v12535 : BitVec 32 := Scalar.subi v12532 v12534
  let c1_i32_6374 : BitVec 32 := 1#32
  let c0_i32_6377 : BitVec 32 := 0#32
  let v12536 : BitVec 1 := Scalar.cmpi .sgt c1_i32_6374 c0_i32_6377
  let v12537 : BitVec 32 := Scalar.extui v12536
  let c0_i32_6378 : BitVec 32 := 0#32
  let v12538 : BitVec 1 := Scalar.cmpi .slt c1_i32_6374 c0_i32_6378
  let v12539 : BitVec 32 := Scalar.extui v12538
  let v12540 : BitVec 32 := Scalar.subi v12537 v12539
  let v12541 : BitVec 1 := Scalar.cmpi .ne v12535 v12540
  let v12542 : BitVec 32 := Scalar.remsi v12529 c1_i32_6374
  let c0_i32_6379 : BitVec 32 := 0#32
  let v12543 : BitVec 1 := Scalar.cmpi .ne v12542 c0_i32_6379
  let v12544 : BitVec 1 := Scalar.andi v12541 v12543
  let v12530 : BitVec 32 := Scalar.divsi v12529 c1_i32_6374
  let c1_i32_6380 : BitVec 32 := 1#32
  let v12545 : BitVec 32 := Scalar.subi v12530 c1_i32_6380
  let v12546 : BitVec 32 := Scalar.select v12544 v12545 v12530
  let c128_i32_6391 : BitVec 32 := 128#32
  let v12561 : BitVec 32 := Scalar.muli v12546 c128_i32_6391
  let c0_i32_6390 : BitVec 32 := 0#32
  let c0_i32_6389 : BitVec 32 := 0#32
  let c1_i32_6381 : BitVec 32 := 1#32
  let c0_i32_6382 : BitVec 32 := 0#32
  let v12547 : BitVec 1 := Scalar.cmpi .eq c1_i32_6381 c0_i32_6382
  let c1_i32_6383 : BitVec 32 := 1#32
  let v12548 : BitVec 32 := Scalar.select v12547 c1_i32_6383 c1_i32_6381
  let v12549 : BitVec 32 := Scalar.remsi v12529 v12548
  let c0_i32_6385 : BitVec 32 := 0#32
  let v12551 : BitVec 1 := Scalar.cmpi .slt v12549 c0_i32_6385
  let c0_i32_6386 : BitVec 32 := 0#32
  let v12552 : BitVec 1 := Scalar.cmpi .slt v12548 c0_i32_6386
  let v12553 : BitVec 1 := Scalar.xori v12551 v12552
  let c0_i32_6384 : BitVec 32 := 0#32
  let v12550 : BitVec 1 := Scalar.cmpi .ne v12549 c0_i32_6384
  let v12554 : BitVec 1 := Scalar.andi v12553 v12550
  let v12555 : BitVec 32 := Scalar.addi v12549 v12548
  let v12556 : BitVec 32 := Scalar.select v12554 v12555 v12549
  let c128_i32_6387 : BitVec 32 := 128#32
  let v12557 : BitVec 32 := Scalar.muli v12556 c128_i32_6387
  let c64_i32_6388 : BitVec 32 := 64#32
  let v12558 : BitVec 32 := Scalar.subi v12557 c64_i32_6388
  let v12559 : BitVec 32 := Scalar.maxsi c0_i32_6389 v12558
  let v12560 : BitVec 32 := Scalar.minsi c0_i32_6390 v12559
  let v12562 : BitVec 32 := Scalar.addi v12561 v12560
  let v12563 : BitVec 32 := v12562
  let c0_i32_6411 : BitVec 32 := 0#32
  let v12592 : BitVec 1 := Scalar.cmpi .sgt v12563 c0_i32_6411
  let v12593 : BitVec 32 := Scalar.extui v12592
  let c0_i32_6412 : BitVec 32 := 0#32
  let v12594 : BitVec 1 := Scalar.cmpi .slt v12563 c0_i32_6412
  let v12595 : BitVec 32 := Scalar.extui v12594
  let v12596 : BitVec 32 := Scalar.subi v12593 v12595
  let c2_i32_6410 : BitVec 32 := 2#32
  let c0_i32_6413 : BitVec 32 := 0#32
  let v12597 : BitVec 1 := Scalar.cmpi .sgt c2_i32_6410 c0_i32_6413
  let v12598 : BitVec 32 := Scalar.extui v12597
  let c0_i32_6414 : BitVec 32 := 0#32
  let v12599 : BitVec 1 := Scalar.cmpi .slt c2_i32_6410 c0_i32_6414
  let v12600 : BitVec 32 := Scalar.extui v12599
  let v12601 : BitVec 32 := Scalar.subi v12598 v12600
  let v12602 : BitVec 1 := Scalar.cmpi .ne v12596 v12601
  let v12603 : BitVec 32 := Scalar.remsi v12563 c2_i32_6410
  let c0_i32_6415 : BitVec 32 := 0#32
  let v12604 : BitVec 1 := Scalar.cmpi .ne v12603 c0_i32_6415
  let v12605 : BitVec 1 := Scalar.andi v12602 v12604
  let v12591 : BitVec 32 := Scalar.divsi v12563 c2_i32_6410
  let c1_i32_6416 : BitVec 32 := 1#32
  let v12606 : BitVec 32 := Scalar.subi v12591 c1_i32_6416
  let v12607 : BitVec 32 := Scalar.select v12605 v12606 v12591
  let v12608 : BitVec 32 := v12607
  let v12609 : Index := Scalar.indexCast v12608
  let c0_6418 : Index := 0#32
  ![4, v12609.toNat, 0]
def k0_off64 (c0_i32_6373 : BitVec 32) : Fin 3 → Nat :=
  let c0_6436 : Index := 0#32
  let c2_i32_5725 : BitVec 32 := 2#32
  let c0_i32_5724 : BitVec 32 := 0#32
  let v11293 : BitVec 32 := Scalar.muli c2_i32_5725 c0_i32_5724
  let c1_i32_6371 : BitVec 32 := 1#32
  let v12527 : BitVec 32 := Scalar.addi v11293 c1_i32_6371
  let c4_i32_6372 : BitVec 32 := 4#32
  let v12528 : BitVec 32 := Scalar.muli v12527 c4_i32_6372
  let v12529 : BitVec 32 := Scalar.addi v12528 c0_i32_6373
  let c0_i32_6375 : BitVec 32 := 0#32
  let v12531 : BitVec 1 := Scalar.cmpi .sgt v12529 c0_i32_6375
  let v12532 : BitVec 32 := Scalar.extui v12531
  let c0_i32_6376 : BitVec 32 := 0#32
  let v12533 : BitVec 1 := Scalar.cmpi .slt v12529 c0_i32_6376
  let v12534 : BitVec 32 := Scalar.extui v12533
  let v12535 : BitVec 32 := Scalar.subi v12532 v12534
  let c1_i32_6374 : BitVec 32 := 1#32
  let c0_i32_6377 : BitVec 32 := 0#32
  let v12536 : BitVec 1 := Scalar.cmpi .sgt c1_i32_6374 c0_i32_6377
  let v12537 : BitVec 32 := Scalar.extui v12536
  let c0_i32_6378 : BitVec 32 := 0#32
  let v12538 : BitVec 1 := Scalar.cmpi .slt c1_i32_6374 c0_i32_6378
  let v12539 : BitVec 32 := Scalar.extui v12538
  let v12540 : BitVec 32 := Scalar.subi v12537 v12539
  let v12541 : BitVec 1 := Scalar.cmpi .ne v12535 v12540
  let v12542 : BitVec 32 := Scalar.remsi v12529 c1_i32_6374
  let c0_i32_6379 : BitVec 32 := 0#32
  let v12543 : BitVec 1 := Scalar.cmpi .ne v12542 c0_i32_6379
  let v12544 : BitVec 1 := Scalar.andi v12541 v12543
  let v12530 : BitVec 32 := Scalar.divsi v12529 c1_i32_6374
  let c1_i32_6380 : BitVec 32 := 1#32
  let v12545 : BitVec 32 := Scalar.subi v12530 c1_i32_6380
  let v12546 : BitVec 32 := Scalar.select v12544 v12545 v12530
  let c4_i32_6421 : BitVec 32 := 4#32
  let c0_i32_6422 : BitVec 32 := 0#32
  let v12621 : BitVec 1 := Scalar.cmpi .eq c4_i32_6421 c0_i32_6422
  let c1_i32_6423 : BitVec 32 := 1#32
  let v12622 : BitVec 32 := Scalar.select v12621 c1_i32_6423 c4_i32_6421
  let v12623 : BitVec 32 := Scalar.remsi v12546 v12622
  let c0_i32_6425 : BitVec 32 := 0#32
  let v12625 : BitVec 1 := Scalar.cmpi .slt v12623 c0_i32_6425
  let c0_i32_6426 : BitVec 32 := 0#32
  let v12626 : BitVec 1 := Scalar.cmpi .slt v12622 c0_i32_6426
  let v12627 : BitVec 1 := Scalar.xori v12625 v12626
  let c0_i32_6424 : BitVec 32 := 0#32
  let v12624 : BitVec 1 := Scalar.cmpi .ne v12623 c0_i32_6424
  let v12628 : BitVec 1 := Scalar.andi v12627 v12624
  let v12629 : BitVec 32 := Scalar.addi v12623 v12622
  let v12630 : BitVec 32 := Scalar.select v12628 v12629 v12623
  let c512_i32_6427 : BitVec 32 := 512#32
  let v12631 : BitVec 32 := Scalar.muli v12630 c512_i32_6427
  let c0_i32_6429 : BitVec 32 := 0#32
  let v12633 : BitVec 1 := Scalar.cmpi .sgt v12546 c0_i32_6429
  let v12634 : BitVec 32 := Scalar.extui v12633
  let c0_i32_6430 : BitVec 32 := 0#32
  let v12635 : BitVec 1 := Scalar.cmpi .slt v12546 c0_i32_6430
  let v12636 : BitVec 32 := Scalar.extui v12635
  let v12637 : BitVec 32 := Scalar.subi v12634 v12636
  let c4_i32_6428 : BitVec 32 := 4#32
  let c0_i32_6431 : BitVec 32 := 0#32
  let v12638 : BitVec 1 := Scalar.cmpi .sgt c4_i32_6428 c0_i32_6431
  let v12639 : BitVec 32 := Scalar.extui v12638
  let c0_i32_6432 : BitVec 32 := 0#32
  let v12640 : BitVec 1 := Scalar.cmpi .slt c4_i32_6428 c0_i32_6432
  let v12641 : BitVec 32 := Scalar.extui v12640
  let v12642 : BitVec 32 := Scalar.subi v12639 v12641
  let v12643 : BitVec 1 := Scalar.cmpi .ne v12637 v12642
  let v12644 : BitVec 32 := Scalar.remsi v12546 c4_i32_6428
  let c0_i32_6433 : BitVec 32 := 0#32
  let v12645 : BitVec 1 := Scalar.cmpi .ne v12644 c0_i32_6433
  let v12646 : BitVec 1 := Scalar.andi v12643 v12645
  let v12632 : BitVec 32 := Scalar.divsi v12546 c4_i32_6428
  let c1_i32_6434 : BitVec 32 := 1#32
  let v12647 : BitVec 32 := Scalar.subi v12632 c1_i32_6434
  let v12648 : BitVec 32 := Scalar.select v12646 v12647 v12632
  let v12649 : BitVec 32 := Scalar.addi v12631 v12648
  let c4_i32_6435 : BitVec 32 := 4#32
  let c1_i32_6381 : BitVec 32 := 1#32
  let c0_i32_6382 : BitVec 32 := 0#32
  let v12547 : BitVec 1 := Scalar.cmpi .eq c1_i32_6381 c0_i32_6382
  let c1_i32_6383 : BitVec 32 := 1#32
  let v12548 : BitVec 32 := Scalar.select v12547 c1_i32_6383 c1_i32_6381
  let v12549 : BitVec 32 := Scalar.remsi v12529 v12548
  let c0_i32_6385 : BitVec 32 := 0#32
  let v12551 : BitVec 1 := Scalar.cmpi .slt v12549 c0_i32_6385
  let c0_i32_6386 : BitVec 32 := 0#32
  let v12552 : BitVec 1 := Scalar.cmpi .slt v12548 c0_i32_6386
  let v12553 : BitVec 1 := Scalar.xori v12551 v12552
  let c0_i32_6384 : BitVec 32 := 0#32
  let v12550 : BitVec 1 := Scalar.cmpi .ne v12549 c0_i32_6384
  let v12554 : BitVec 1 := Scalar.andi v12553 v12550
  let v12555 : BitVec 32 := Scalar.addi v12549 v12548
  let v12556 : BitVec 32 := Scalar.select v12554 v12555 v12549
  let c128_i32_6387 : BitVec 32 := 128#32
  let v12557 : BitVec 32 := Scalar.muli v12556 c128_i32_6387
  let v12650 : BitVec 32 := Scalar.muli c4_i32_6435 v12557
  let v12651 : BitVec 32 := Scalar.addi v12649 v12650
  let v12653 : Index := Scalar.indexCast v12651
  let c0_6437 : Index := 0#32
  ![0, v12653.toNat, 0]
def k0_off65 (c0_i32_6373 : BitVec 32) : Fin 3 → Nat :=
  let c1_6443 : Index := 1#32
  let c2_i32_5725 : BitVec 32 := 2#32
  let c0_i32_5724 : BitVec 32 := 0#32
  let v11293 : BitVec 32 := Scalar.muli c2_i32_5725 c0_i32_5724
  let c1_i32_6371 : BitVec 32 := 1#32
  let v12527 : BitVec 32 := Scalar.addi v11293 c1_i32_6371
  let c4_i32_6372 : BitVec 32 := 4#32
  let v12528 : BitVec 32 := Scalar.muli v12527 c4_i32_6372
  let v12529 : BitVec 32 := Scalar.addi v12528 c0_i32_6373
  let c0_i32_6375 : BitVec 32 := 0#32
  let v12531 : BitVec 1 := Scalar.cmpi .sgt v12529 c0_i32_6375
  let v12532 : BitVec 32 := Scalar.extui v12531
  let c0_i32_6376 : BitVec 32 := 0#32
  let v12533 : BitVec 1 := Scalar.cmpi .slt v12529 c0_i32_6376
  let v12534 : BitVec 32 := Scalar.extui v12533
  let v12535 : BitVec 32 := Scalar.subi v12532 v12534
  let c1_i32_6374 : BitVec 32 := 1#32
  let c0_i32_6377 : BitVec 32 := 0#32
  let v12536 : BitVec 1 := Scalar.cmpi .sgt c1_i32_6374 c0_i32_6377
  let v12537 : BitVec 32 := Scalar.extui v12536
  let c0_i32_6378 : BitVec 32 := 0#32
  let v12538 : BitVec 1 := Scalar.cmpi .slt c1_i32_6374 c0_i32_6378
  let v12539 : BitVec 32 := Scalar.extui v12538
  let v12540 : BitVec 32 := Scalar.subi v12537 v12539
  let v12541 : BitVec 1 := Scalar.cmpi .ne v12535 v12540
  let v12542 : BitVec 32 := Scalar.remsi v12529 c1_i32_6374
  let c0_i32_6379 : BitVec 32 := 0#32
  let v12543 : BitVec 1 := Scalar.cmpi .ne v12542 c0_i32_6379
  let v12544 : BitVec 1 := Scalar.andi v12541 v12543
  let v12530 : BitVec 32 := Scalar.divsi v12529 c1_i32_6374
  let c1_i32_6380 : BitVec 32 := 1#32
  let v12545 : BitVec 32 := Scalar.subi v12530 c1_i32_6380
  let v12546 : BitVec 32 := Scalar.select v12544 v12545 v12530
  let c4_i32_6421 : BitVec 32 := 4#32
  let c0_i32_6422 : BitVec 32 := 0#32
  let v12621 : BitVec 1 := Scalar.cmpi .eq c4_i32_6421 c0_i32_6422
  let c1_i32_6423 : BitVec 32 := 1#32
  let v12622 : BitVec 32 := Scalar.select v12621 c1_i32_6423 c4_i32_6421
  let v12623 : BitVec 32 := Scalar.remsi v12546 v12622
  let c0_i32_6425 : BitVec 32 := 0#32
  let v12625 : BitVec 1 := Scalar.cmpi .slt v12623 c0_i32_6425
  let c0_i32_6426 : BitVec 32 := 0#32
  let v12626 : BitVec 1 := Scalar.cmpi .slt v12622 c0_i32_6426
  let v12627 : BitVec 1 := Scalar.xori v12625 v12626
  let c0_i32_6424 : BitVec 32 := 0#32
  let v12624 : BitVec 1 := Scalar.cmpi .ne v12623 c0_i32_6424
  let v12628 : BitVec 1 := Scalar.andi v12627 v12624
  let v12629 : BitVec 32 := Scalar.addi v12623 v12622
  let v12630 : BitVec 32 := Scalar.select v12628 v12629 v12623
  let c512_i32_6427 : BitVec 32 := 512#32
  let v12631 : BitVec 32 := Scalar.muli v12630 c512_i32_6427
  let c0_i32_6429 : BitVec 32 := 0#32
  let v12633 : BitVec 1 := Scalar.cmpi .sgt v12546 c0_i32_6429
  let v12634 : BitVec 32 := Scalar.extui v12633
  let c0_i32_6430 : BitVec 32 := 0#32
  let v12635 : BitVec 1 := Scalar.cmpi .slt v12546 c0_i32_6430
  let v12636 : BitVec 32 := Scalar.extui v12635
  let v12637 : BitVec 32 := Scalar.subi v12634 v12636
  let c4_i32_6428 : BitVec 32 := 4#32
  let c0_i32_6431 : BitVec 32 := 0#32
  let v12638 : BitVec 1 := Scalar.cmpi .sgt c4_i32_6428 c0_i32_6431
  let v12639 : BitVec 32 := Scalar.extui v12638
  let c0_i32_6432 : BitVec 32 := 0#32
  let v12640 : BitVec 1 := Scalar.cmpi .slt c4_i32_6428 c0_i32_6432
  let v12641 : BitVec 32 := Scalar.extui v12640
  let v12642 : BitVec 32 := Scalar.subi v12639 v12641
  let v12643 : BitVec 1 := Scalar.cmpi .ne v12637 v12642
  let v12644 : BitVec 32 := Scalar.remsi v12546 c4_i32_6428
  let c0_i32_6433 : BitVec 32 := 0#32
  let v12645 : BitVec 1 := Scalar.cmpi .ne v12644 c0_i32_6433
  let v12646 : BitVec 1 := Scalar.andi v12643 v12645
  let v12632 : BitVec 32 := Scalar.divsi v12546 c4_i32_6428
  let c1_i32_6434 : BitVec 32 := 1#32
  let v12647 : BitVec 32 := Scalar.subi v12632 c1_i32_6434
  let v12648 : BitVec 32 := Scalar.select v12646 v12647 v12632
  let v12649 : BitVec 32 := Scalar.addi v12631 v12648
  let c4_i32_6435 : BitVec 32 := 4#32
  let c1_i32_6381 : BitVec 32 := 1#32
  let c0_i32_6382 : BitVec 32 := 0#32
  let v12547 : BitVec 1 := Scalar.cmpi .eq c1_i32_6381 c0_i32_6382
  let c1_i32_6383 : BitVec 32 := 1#32
  let v12548 : BitVec 32 := Scalar.select v12547 c1_i32_6383 c1_i32_6381
  let v12549 : BitVec 32 := Scalar.remsi v12529 v12548
  let c0_i32_6385 : BitVec 32 := 0#32
  let v12551 : BitVec 1 := Scalar.cmpi .slt v12549 c0_i32_6385
  let c0_i32_6386 : BitVec 32 := 0#32
  let v12552 : BitVec 1 := Scalar.cmpi .slt v12548 c0_i32_6386
  let v12553 : BitVec 1 := Scalar.xori v12551 v12552
  let c0_i32_6384 : BitVec 32 := 0#32
  let v12550 : BitVec 1 := Scalar.cmpi .ne v12549 c0_i32_6384
  let v12554 : BitVec 1 := Scalar.andi v12553 v12550
  let v12555 : BitVec 32 := Scalar.addi v12549 v12548
  let v12556 : BitVec 32 := Scalar.select v12554 v12555 v12549
  let c128_i32_6387 : BitVec 32 := 128#32
  let v12557 : BitVec 32 := Scalar.muli v12556 c128_i32_6387
  let v12650 : BitVec 32 := Scalar.muli c4_i32_6435 v12557
  let v12651 : BitVec 32 := Scalar.addi v12649 v12650
  let v12663 : Index := Scalar.indexCast v12651
  let c0_6444 : Index := 0#32
  ![1, v12663.toNat, 0]
def k0_mult524 : BitVec 32 :=
  let c2_i32_5725 : BitVec 32 := 2#32
  let c0_i32_5724 : BitVec 32 := 0#32
  let v11293 : BitVec 32 := Scalar.muli c2_i32_5725 c0_i32_5724
  let c1_i32_6371 : BitVec 32 := 1#32
  let v12527 : BitVec 32 := Scalar.addi v11293 c1_i32_6371
  let c4_i32_6445 : BitVec 32 := 4#32
  let v12667 : BitVec 32 := Scalar.muli v12527 c4_i32_6445
  let c1_i32_6446 : BitVec 32 := 1#32
  let v12668 : BitVec 32 := Scalar.addi v12667 c1_i32_6446
  let c0_i32_6448 : BitVec 32 := 0#32
  let v12670 : BitVec 1 := Scalar.cmpi .sgt v12668 c0_i32_6448
  let v12671 : BitVec 32 := Scalar.extui v12670
  let c0_i32_6449 : BitVec 32 := 0#32
  let v12672 : BitVec 1 := Scalar.cmpi .slt v12668 c0_i32_6449
  let v12673 : BitVec 32 := Scalar.extui v12672
  let v12674 : BitVec 32 := Scalar.subi v12671 v12673
  let c1_i32_6447 : BitVec 32 := 1#32
  let c0_i32_6450 : BitVec 32 := 0#32
  let v12675 : BitVec 1 := Scalar.cmpi .sgt c1_i32_6447 c0_i32_6450
  let v12676 : BitVec 32 := Scalar.extui v12675
  let c0_i32_6451 : BitVec 32 := 0#32
  let v12677 : BitVec 1 := Scalar.cmpi .slt c1_i32_6447 c0_i32_6451
  let v12678 : BitVec 32 := Scalar.extui v12677
  let v12679 : BitVec 32 := Scalar.subi v12676 v12678
  let v12680 : BitVec 1 := Scalar.cmpi .ne v12674 v12679
  let v12681 : BitVec 32 := Scalar.remsi v12668 c1_i32_6447
  let c0_i32_6452 : BitVec 32 := 0#32
  let v12682 : BitVec 1 := Scalar.cmpi .ne v12681 c0_i32_6452
  let v12683 : BitVec 1 := Scalar.andi v12680 v12682
  let v12669 : BitVec 32 := Scalar.divsi v12668 c1_i32_6447
  let c1_i32_6453 : BitVec 32 := 1#32
  let v12684 : BitVec 32 := Scalar.subi v12669 c1_i32_6453
  let v12685 : BitVec 32 := Scalar.select v12683 v12684 v12669
  let c128_i32_6464 : BitVec 32 := 128#32
  let v12700 : BitVec 32 := Scalar.muli v12685 c128_i32_6464
  let c0_i32_6463 : BitVec 32 := 0#32
  let c0_i32_6462 : BitVec 32 := 0#32
  let c1_i32_6454 : BitVec 32 := 1#32
  let c0_i32_6455 : BitVec 32 := 0#32
  let v12686 : BitVec 1 := Scalar.cmpi .eq c1_i32_6454 c0_i32_6455
  let c1_i32_6456 : BitVec 32 := 1#32
  let v12687 : BitVec 32 := Scalar.select v12686 c1_i32_6456 c1_i32_6454
  let v12688 : BitVec 32 := Scalar.remsi v12668 v12687
  let c0_i32_6458 : BitVec 32 := 0#32
  let v12690 : BitVec 1 := Scalar.cmpi .slt v12688 c0_i32_6458
  let c0_i32_6459 : BitVec 32 := 0#32
  let v12691 : BitVec 1 := Scalar.cmpi .slt v12687 c0_i32_6459
  let v12692 : BitVec 1 := Scalar.xori v12690 v12691
  let c0_i32_6457 : BitVec 32 := 0#32
  let v12689 : BitVec 1 := Scalar.cmpi .ne v12688 c0_i32_6457
  let v12693 : BitVec 1 := Scalar.andi v12692 v12689
  let v12694 : BitVec 32 := Scalar.addi v12688 v12687
  let v12695 : BitVec 32 := Scalar.select v12693 v12694 v12688
  let c128_i32_6460 : BitVec 32 := 128#32
  let v12696 : BitVec 32 := Scalar.muli v12695 c128_i32_6460
  let c64_i32_6461 : BitVec 32 := 64#32
  let v12697 : BitVec 32 := Scalar.subi v12696 c64_i32_6461
  let v12698 : BitVec 32 := Scalar.maxsi c0_i32_6462 v12697
  let v12699 : BitVec 32 := Scalar.minsi c0_i32_6463 v12698
  let v12701 : BitVec 32 := Scalar.addi v12700 v12699
  v12701
def k0_mult525 : BitVec 32 :=
  let c2_i32_5725 : BitVec 32 := 2#32
  let c0_i32_5724 : BitVec 32 := 0#32
  let v11293 : BitVec 32 := Scalar.muli c2_i32_5725 c0_i32_5724
  let c1_i32_6371 : BitVec 32 := 1#32
  let v12527 : BitVec 32 := Scalar.addi v11293 c1_i32_6371
  let c4_i32_6445 : BitVec 32 := 4#32
  let v12667 : BitVec 32 := Scalar.muli v12527 c4_i32_6445
  let c1_i32_6446 : BitVec 32 := 1#32
  let v12668 : BitVec 32 := Scalar.addi v12667 c1_i32_6446
  let c0_i32_6448 : BitVec 32 := 0#32
  let v12670 : BitVec 1 := Scalar.cmpi .sgt v12668 c0_i32_6448
  let v12671 : BitVec 32 := Scalar.extui v12670
  let c0_i32_6449 : BitVec 32 := 0#32
  let v12672 : BitVec 1 := Scalar.cmpi .slt v12668 c0_i32_6449
  let v12673 : BitVec 32 := Scalar.extui v12672
  let v12674 : BitVec 32 := Scalar.subi v12671 v12673
  let c1_i32_6447 : BitVec 32 := 1#32
  let c0_i32_6450 : BitVec 32 := 0#32
  let v12675 : BitVec 1 := Scalar.cmpi .sgt c1_i32_6447 c0_i32_6450
  let v12676 : BitVec 32 := Scalar.extui v12675
  let c0_i32_6451 : BitVec 32 := 0#32
  let v12677 : BitVec 1 := Scalar.cmpi .slt c1_i32_6447 c0_i32_6451
  let v12678 : BitVec 32 := Scalar.extui v12677
  let v12679 : BitVec 32 := Scalar.subi v12676 v12678
  let v12680 : BitVec 1 := Scalar.cmpi .ne v12674 v12679
  let v12681 : BitVec 32 := Scalar.remsi v12668 c1_i32_6447
  let c0_i32_6452 : BitVec 32 := 0#32
  let v12682 : BitVec 1 := Scalar.cmpi .ne v12681 c0_i32_6452
  let v12683 : BitVec 1 := Scalar.andi v12680 v12682
  let v12669 : BitVec 32 := Scalar.divsi v12668 c1_i32_6447
  let c1_i32_6453 : BitVec 32 := 1#32
  let v12684 : BitVec 32 := Scalar.subi v12669 c1_i32_6453
  let v12685 : BitVec 32 := Scalar.select v12683 v12684 v12669
  let c128_i32_6464 : BitVec 32 := 128#32
  let v12700 : BitVec 32 := Scalar.muli v12685 c128_i32_6464
  let c0_i32_6463 : BitVec 32 := 0#32
  let c0_i32_6462 : BitVec 32 := 0#32
  let c1_i32_6454 : BitVec 32 := 1#32
  let c0_i32_6455 : BitVec 32 := 0#32
  let v12686 : BitVec 1 := Scalar.cmpi .eq c1_i32_6454 c0_i32_6455
  let c1_i32_6456 : BitVec 32 := 1#32
  let v12687 : BitVec 32 := Scalar.select v12686 c1_i32_6456 c1_i32_6454
  let v12688 : BitVec 32 := Scalar.remsi v12668 v12687
  let c0_i32_6458 : BitVec 32 := 0#32
  let v12690 : BitVec 1 := Scalar.cmpi .slt v12688 c0_i32_6458
  let c0_i32_6459 : BitVec 32 := 0#32
  let v12691 : BitVec 1 := Scalar.cmpi .slt v12687 c0_i32_6459
  let v12692 : BitVec 1 := Scalar.xori v12690 v12691
  let c0_i32_6457 : BitVec 32 := 0#32
  let v12689 : BitVec 1 := Scalar.cmpi .ne v12688 c0_i32_6457
  let v12693 : BitVec 1 := Scalar.andi v12692 v12689
  let v12694 : BitVec 32 := Scalar.addi v12688 v12687
  let v12695 : BitVec 32 := Scalar.select v12693 v12694 v12688
  let c128_i32_6460 : BitVec 32 := 128#32
  let v12696 : BitVec 32 := Scalar.muli v12695 c128_i32_6460
  let c64_i32_6461 : BitVec 32 := 64#32
  let v12697 : BitVec 32 := Scalar.subi v12696 c64_i32_6461
  let v12698 : BitVec 32 := Scalar.maxsi c0_i32_6462 v12697
  let v12699 : BitVec 32 := Scalar.minsi c0_i32_6463 v12698
  let v12701 : BitVec 32 := Scalar.addi v12700 v12699
  let v12702 : BitVec 32 := v12701
  let c0_i32_6470 : BitVec 32 := 0#32
  let v12706 : BitVec 1 := Scalar.cmpi .sgt v12702 c0_i32_6470
  let v12707 : BitVec 32 := Scalar.extui v12706
  let c0_i32_6471 : BitVec 32 := 0#32
  let v12708 : BitVec 1 := Scalar.cmpi .slt v12702 c0_i32_6471
  let v12709 : BitVec 32 := Scalar.extui v12708
  let v12710 : BitVec 32 := Scalar.subi v12707 v12709
  let c2_i32_6469 : BitVec 32 := 2#32
  let c0_i32_6472 : BitVec 32 := 0#32
  let v12711 : BitVec 1 := Scalar.cmpi .sgt c2_i32_6469 c0_i32_6472
  let v12712 : BitVec 32 := Scalar.extui v12711
  let c0_i32_6473 : BitVec 32 := 0#32
  let v12713 : BitVec 1 := Scalar.cmpi .slt c2_i32_6469 c0_i32_6473
  let v12714 : BitVec 32 := Scalar.extui v12713
  let v12715 : BitVec 32 := Scalar.subi v12712 v12714
  let v12716 : BitVec 1 := Scalar.cmpi .ne v12710 v12715
  let v12717 : BitVec 32 := Scalar.remsi v12702 c2_i32_6469
  let c0_i32_6474 : BitVec 32 := 0#32
  let v12718 : BitVec 1 := Scalar.cmpi .ne v12717 c0_i32_6474
  let v12719 : BitVec 1 := Scalar.andi v12716 v12718
  let v12705 : BitVec 32 := Scalar.divsi v12702 c2_i32_6469
  let c1_i32_6475 : BitVec 32 := 1#32
  let v12720 : BitVec 32 := Scalar.subi v12705 c1_i32_6475
  let v12721 : BitVec 32 := Scalar.select v12719 v12720 v12705
  v12721
def k0_mult526 : BitVec 32 :=
  let c2_i32_5725 : BitVec 32 := 2#32
  let c0_i32_5724 : BitVec 32 := 0#32
  let v11293 : BitVec 32 := Scalar.muli c2_i32_5725 c0_i32_5724
  let c1_i32_6371 : BitVec 32 := 1#32
  let v12527 : BitVec 32 := Scalar.addi v11293 c1_i32_6371
  let c4_i32_6445 : BitVec 32 := 4#32
  let v12667 : BitVec 32 := Scalar.muli v12527 c4_i32_6445
  let c1_i32_6446 : BitVec 32 := 1#32
  let v12668 : BitVec 32 := Scalar.addi v12667 c1_i32_6446
  let c0_i32_6448 : BitVec 32 := 0#32
  let v12670 : BitVec 1 := Scalar.cmpi .sgt v12668 c0_i32_6448
  let v12671 : BitVec 32 := Scalar.extui v12670
  let c0_i32_6449 : BitVec 32 := 0#32
  let v12672 : BitVec 1 := Scalar.cmpi .slt v12668 c0_i32_6449
  let v12673 : BitVec 32 := Scalar.extui v12672
  let v12674 : BitVec 32 := Scalar.subi v12671 v12673
  let c1_i32_6447 : BitVec 32 := 1#32
  let c0_i32_6450 : BitVec 32 := 0#32
  let v12675 : BitVec 1 := Scalar.cmpi .sgt c1_i32_6447 c0_i32_6450
  let v12676 : BitVec 32 := Scalar.extui v12675
  let c0_i32_6451 : BitVec 32 := 0#32
  let v12677 : BitVec 1 := Scalar.cmpi .slt c1_i32_6447 c0_i32_6451
  let v12678 : BitVec 32 := Scalar.extui v12677
  let v12679 : BitVec 32 := Scalar.subi v12676 v12678
  let v12680 : BitVec 1 := Scalar.cmpi .ne v12674 v12679
  let v12681 : BitVec 32 := Scalar.remsi v12668 c1_i32_6447
  let c0_i32_6452 : BitVec 32 := 0#32
  let v12682 : BitVec 1 := Scalar.cmpi .ne v12681 c0_i32_6452
  let v12683 : BitVec 1 := Scalar.andi v12680 v12682
  let v12669 : BitVec 32 := Scalar.divsi v12668 c1_i32_6447
  let c1_i32_6453 : BitVec 32 := 1#32
  let v12684 : BitVec 32 := Scalar.subi v12669 c1_i32_6453
  let v12685 : BitVec 32 := Scalar.select v12683 v12684 v12669
  let c128_i32_6464 : BitVec 32 := 128#32
  let v12700 : BitVec 32 := Scalar.muli v12685 c128_i32_6464
  let c0_i32_6463 : BitVec 32 := 0#32
  let c0_i32_6462 : BitVec 32 := 0#32
  let c1_i32_6454 : BitVec 32 := 1#32
  let c0_i32_6455 : BitVec 32 := 0#32
  let v12686 : BitVec 1 := Scalar.cmpi .eq c1_i32_6454 c0_i32_6455
  let c1_i32_6456 : BitVec 32 := 1#32
  let v12687 : BitVec 32 := Scalar.select v12686 c1_i32_6456 c1_i32_6454
  let v12688 : BitVec 32 := Scalar.remsi v12668 v12687
  let c0_i32_6458 : BitVec 32 := 0#32
  let v12690 : BitVec 1 := Scalar.cmpi .slt v12688 c0_i32_6458
  let c0_i32_6459 : BitVec 32 := 0#32
  let v12691 : BitVec 1 := Scalar.cmpi .slt v12687 c0_i32_6459
  let v12692 : BitVec 1 := Scalar.xori v12690 v12691
  let c0_i32_6457 : BitVec 32 := 0#32
  let v12689 : BitVec 1 := Scalar.cmpi .ne v12688 c0_i32_6457
  let v12693 : BitVec 1 := Scalar.andi v12692 v12689
  let v12694 : BitVec 32 := Scalar.addi v12688 v12687
  let v12695 : BitVec 32 := Scalar.select v12693 v12694 v12688
  let c128_i32_6460 : BitVec 32 := 128#32
  let v12696 : BitVec 32 := Scalar.muli v12695 c128_i32_6460
  let c64_i32_6461 : BitVec 32 := 64#32
  let v12697 : BitVec 32 := Scalar.subi v12696 c64_i32_6461
  let v12698 : BitVec 32 := Scalar.maxsi c0_i32_6462 v12697
  let v12699 : BitVec 32 := Scalar.minsi c0_i32_6463 v12698
  let v12701 : BitVec 32 := Scalar.addi v12700 v12699
  let v12702 : BitVec 32 := v12701
  let c0_i32_6484 : BitVec 32 := 0#32
  let v12731 : BitVec 1 := Scalar.cmpi .sgt v12702 c0_i32_6484
  let v12732 : BitVec 32 := Scalar.extui v12731
  let c0_i32_6485 : BitVec 32 := 0#32
  let v12733 : BitVec 1 := Scalar.cmpi .slt v12702 c0_i32_6485
  let v12734 : BitVec 32 := Scalar.extui v12733
  let v12735 : BitVec 32 := Scalar.subi v12732 v12734
  let c2_i32_6483 : BitVec 32 := 2#32
  let c0_i32_6486 : BitVec 32 := 0#32
  let v12736 : BitVec 1 := Scalar.cmpi .sgt c2_i32_6483 c0_i32_6486
  let v12737 : BitVec 32 := Scalar.extui v12736
  let c0_i32_6487 : BitVec 32 := 0#32
  let v12738 : BitVec 1 := Scalar.cmpi .slt c2_i32_6483 c0_i32_6487
  let v12739 : BitVec 32 := Scalar.extui v12738
  let v12740 : BitVec 32 := Scalar.subi v12737 v12739
  let v12741 : BitVec 1 := Scalar.cmpi .ne v12735 v12740
  let v12742 : BitVec 32 := Scalar.remsi v12702 c2_i32_6483
  let c0_i32_6488 : BitVec 32 := 0#32
  let v12743 : BitVec 1 := Scalar.cmpi .ne v12742 c0_i32_6488
  let v12744 : BitVec 1 := Scalar.andi v12741 v12743
  let v12730 : BitVec 32 := Scalar.divsi v12702 c2_i32_6483
  let c1_i32_6489 : BitVec 32 := 1#32
  let v12745 : BitVec 32 := Scalar.subi v12730 c1_i32_6489
  let v12746 : BitVec 32 := Scalar.select v12744 v12745 v12730
  v12746
def k0_mult527 : BitVec 32 :=
  let c2_i32_5725 : BitVec 32 := 2#32
  let c0_i32_5724 : BitVec 32 := 0#32
  let v11293 : BitVec 32 := Scalar.muli c2_i32_5725 c0_i32_5724
  let c1_i32_6371 : BitVec 32 := 1#32
  let v12527 : BitVec 32 := Scalar.addi v11293 c1_i32_6371
  let c4_i32_6518 : BitVec 32 := 4#32
  let v12806 : BitVec 32 := Scalar.muli v12527 c4_i32_6518
  let c2_i32_6519 : BitVec 32 := 2#32
  let v12807 : BitVec 32 := Scalar.addi v12806 c2_i32_6519
  let c0_i32_6521 : BitVec 32 := 0#32
  let v12809 : BitVec 1 := Scalar.cmpi .sgt v12807 c0_i32_6521
  let v12810 : BitVec 32 := Scalar.extui v12809
  let c0_i32_6522 : BitVec 32 := 0#32
  let v12811 : BitVec 1 := Scalar.cmpi .slt v12807 c0_i32_6522
  let v12812 : BitVec 32 := Scalar.extui v12811
  let v12813 : BitVec 32 := Scalar.subi v12810 v12812
  let c1_i32_6520 : BitVec 32 := 1#32
  let c0_i32_6523 : BitVec 32 := 0#32
  let v12814 : BitVec 1 := Scalar.cmpi .sgt c1_i32_6520 c0_i32_6523
  let v12815 : BitVec 32 := Scalar.extui v12814
  let c0_i32_6524 : BitVec 32 := 0#32
  let v12816 : BitVec 1 := Scalar.cmpi .slt c1_i32_6520 c0_i32_6524
  let v12817 : BitVec 32 := Scalar.extui v12816
  let v12818 : BitVec 32 := Scalar.subi v12815 v12817
  let v12819 : BitVec 1 := Scalar.cmpi .ne v12813 v12818
  let v12820 : BitVec 32 := Scalar.remsi v12807 c1_i32_6520
  let c0_i32_6525 : BitVec 32 := 0#32
  let v12821 : BitVec 1 := Scalar.cmpi .ne v12820 c0_i32_6525
  let v12822 : BitVec 1 := Scalar.andi v12819 v12821
  let v12808 : BitVec 32 := Scalar.divsi v12807 c1_i32_6520
  let c1_i32_6526 : BitVec 32 := 1#32
  let v12823 : BitVec 32 := Scalar.subi v12808 c1_i32_6526
  let v12824 : BitVec 32 := Scalar.select v12822 v12823 v12808
  let c128_i32_6537 : BitVec 32 := 128#32
  let v12839 : BitVec 32 := Scalar.muli v12824 c128_i32_6537
  let c0_i32_6536 : BitVec 32 := 0#32
  let c0_i32_6535 : BitVec 32 := 0#32
  let c1_i32_6527 : BitVec 32 := 1#32
  let c0_i32_6528 : BitVec 32 := 0#32
  let v12825 : BitVec 1 := Scalar.cmpi .eq c1_i32_6527 c0_i32_6528
  let c1_i32_6529 : BitVec 32 := 1#32
  let v12826 : BitVec 32 := Scalar.select v12825 c1_i32_6529 c1_i32_6527
  let v12827 : BitVec 32 := Scalar.remsi v12807 v12826
  let c0_i32_6531 : BitVec 32 := 0#32
  let v12829 : BitVec 1 := Scalar.cmpi .slt v12827 c0_i32_6531
  let c0_i32_6532 : BitVec 32 := 0#32
  let v12830 : BitVec 1 := Scalar.cmpi .slt v12826 c0_i32_6532
  let v12831 : BitVec 1 := Scalar.xori v12829 v12830
  let c0_i32_6530 : BitVec 32 := 0#32
  let v12828 : BitVec 1 := Scalar.cmpi .ne v12827 c0_i32_6530
  let v12832 : BitVec 1 := Scalar.andi v12831 v12828
  let v12833 : BitVec 32 := Scalar.addi v12827 v12826
  let v12834 : BitVec 32 := Scalar.select v12832 v12833 v12827
  let c128_i32_6533 : BitVec 32 := 128#32
  let v12835 : BitVec 32 := Scalar.muli v12834 c128_i32_6533
  let c64_i32_6534 : BitVec 32 := 64#32
  let v12836 : BitVec 32 := Scalar.subi v12835 c64_i32_6534
  let v12837 : BitVec 32 := Scalar.maxsi c0_i32_6535 v12836
  let v12838 : BitVec 32 := Scalar.minsi c0_i32_6536 v12837
  let v12840 : BitVec 32 := Scalar.addi v12839 v12838
  v12840
def k0_mult528 : BitVec 32 :=
  let c2_i32_5725 : BitVec 32 := 2#32
  let c0_i32_5724 : BitVec 32 := 0#32
  let v11293 : BitVec 32 := Scalar.muli c2_i32_5725 c0_i32_5724
  let c1_i32_6371 : BitVec 32 := 1#32
  let v12527 : BitVec 32 := Scalar.addi v11293 c1_i32_6371
  let c4_i32_6518 : BitVec 32 := 4#32
  let v12806 : BitVec 32 := Scalar.muli v12527 c4_i32_6518
  let c2_i32_6519 : BitVec 32 := 2#32
  let v12807 : BitVec 32 := Scalar.addi v12806 c2_i32_6519
  let c0_i32_6521 : BitVec 32 := 0#32
  let v12809 : BitVec 1 := Scalar.cmpi .sgt v12807 c0_i32_6521
  let v12810 : BitVec 32 := Scalar.extui v12809
  let c0_i32_6522 : BitVec 32 := 0#32
  let v12811 : BitVec 1 := Scalar.cmpi .slt v12807 c0_i32_6522
  let v12812 : BitVec 32 := Scalar.extui v12811
  let v12813 : BitVec 32 := Scalar.subi v12810 v12812
  let c1_i32_6520 : BitVec 32 := 1#32
  let c0_i32_6523 : BitVec 32 := 0#32
  let v12814 : BitVec 1 := Scalar.cmpi .sgt c1_i32_6520 c0_i32_6523
  let v12815 : BitVec 32 := Scalar.extui v12814
  let c0_i32_6524 : BitVec 32 := 0#32
  let v12816 : BitVec 1 := Scalar.cmpi .slt c1_i32_6520 c0_i32_6524
  let v12817 : BitVec 32 := Scalar.extui v12816
  let v12818 : BitVec 32 := Scalar.subi v12815 v12817
  let v12819 : BitVec 1 := Scalar.cmpi .ne v12813 v12818
  let v12820 : BitVec 32 := Scalar.remsi v12807 c1_i32_6520
  let c0_i32_6525 : BitVec 32 := 0#32
  let v12821 : BitVec 1 := Scalar.cmpi .ne v12820 c0_i32_6525
  let v12822 : BitVec 1 := Scalar.andi v12819 v12821
  let v12808 : BitVec 32 := Scalar.divsi v12807 c1_i32_6520
  let c1_i32_6526 : BitVec 32 := 1#32
  let v12823 : BitVec 32 := Scalar.subi v12808 c1_i32_6526
  let v12824 : BitVec 32 := Scalar.select v12822 v12823 v12808
  let c128_i32_6537 : BitVec 32 := 128#32
  let v12839 : BitVec 32 := Scalar.muli v12824 c128_i32_6537
  let c0_i32_6536 : BitVec 32 := 0#32
  let c0_i32_6535 : BitVec 32 := 0#32
  let c1_i32_6527 : BitVec 32 := 1#32
  let c0_i32_6528 : BitVec 32 := 0#32
  let v12825 : BitVec 1 := Scalar.cmpi .eq c1_i32_6527 c0_i32_6528
  let c1_i32_6529 : BitVec 32 := 1#32
  let v12826 : BitVec 32 := Scalar.select v12825 c1_i32_6529 c1_i32_6527
  let v12827 : BitVec 32 := Scalar.remsi v12807 v12826
  let c0_i32_6531 : BitVec 32 := 0#32
  let v12829 : BitVec 1 := Scalar.cmpi .slt v12827 c0_i32_6531
  let c0_i32_6532 : BitVec 32 := 0#32
  let v12830 : BitVec 1 := Scalar.cmpi .slt v12826 c0_i32_6532
  let v12831 : BitVec 1 := Scalar.xori v12829 v12830
  let c0_i32_6530 : BitVec 32 := 0#32
  let v12828 : BitVec 1 := Scalar.cmpi .ne v12827 c0_i32_6530
  let v12832 : BitVec 1 := Scalar.andi v12831 v12828
  let v12833 : BitVec 32 := Scalar.addi v12827 v12826
  let v12834 : BitVec 32 := Scalar.select v12832 v12833 v12827
  let c128_i32_6533 : BitVec 32 := 128#32
  let v12835 : BitVec 32 := Scalar.muli v12834 c128_i32_6533
  let c64_i32_6534 : BitVec 32 := 64#32
  let v12836 : BitVec 32 := Scalar.subi v12835 c64_i32_6534
  let v12837 : BitVec 32 := Scalar.maxsi c0_i32_6535 v12836
  let v12838 : BitVec 32 := Scalar.minsi c0_i32_6536 v12837
  let v12840 : BitVec 32 := Scalar.addi v12839 v12838
  let v12841 : BitVec 32 := v12840
  let c0_i32_6543 : BitVec 32 := 0#32
  let v12845 : BitVec 1 := Scalar.cmpi .sgt v12841 c0_i32_6543
  let v12846 : BitVec 32 := Scalar.extui v12845
  let c0_i32_6544 : BitVec 32 := 0#32
  let v12847 : BitVec 1 := Scalar.cmpi .slt v12841 c0_i32_6544
  let v12848 : BitVec 32 := Scalar.extui v12847
  let v12849 : BitVec 32 := Scalar.subi v12846 v12848
  let c2_i32_6542 : BitVec 32 := 2#32
  let c0_i32_6545 : BitVec 32 := 0#32
  let v12850 : BitVec 1 := Scalar.cmpi .sgt c2_i32_6542 c0_i32_6545
  let v12851 : BitVec 32 := Scalar.extui v12850
  let c0_i32_6546 : BitVec 32 := 0#32
  let v12852 : BitVec 1 := Scalar.cmpi .slt c2_i32_6542 c0_i32_6546
  let v12853 : BitVec 32 := Scalar.extui v12852
  let v12854 : BitVec 32 := Scalar.subi v12851 v12853
  let v12855 : BitVec 1 := Scalar.cmpi .ne v12849 v12854
  let v12856 : BitVec 32 := Scalar.remsi v12841 c2_i32_6542
  let c0_i32_6547 : BitVec 32 := 0#32
  let v12857 : BitVec 1 := Scalar.cmpi .ne v12856 c0_i32_6547
  let v12858 : BitVec 1 := Scalar.andi v12855 v12857
  let v12844 : BitVec 32 := Scalar.divsi v12841 c2_i32_6542
  let c1_i32_6548 : BitVec 32 := 1#32
  let v12859 : BitVec 32 := Scalar.subi v12844 c1_i32_6548
  let v12860 : BitVec 32 := Scalar.select v12858 v12859 v12844
  v12860
def k0_mult529 : BitVec 32 :=
  let c2_i32_5725 : BitVec 32 := 2#32
  let c0_i32_5724 : BitVec 32 := 0#32
  let v11293 : BitVec 32 := Scalar.muli c2_i32_5725 c0_i32_5724
  let c1_i32_6371 : BitVec 32 := 1#32
  let v12527 : BitVec 32 := Scalar.addi v11293 c1_i32_6371
  let c4_i32_6518 : BitVec 32 := 4#32
  let v12806 : BitVec 32 := Scalar.muli v12527 c4_i32_6518
  let c2_i32_6519 : BitVec 32 := 2#32
  let v12807 : BitVec 32 := Scalar.addi v12806 c2_i32_6519
  let c0_i32_6521 : BitVec 32 := 0#32
  let v12809 : BitVec 1 := Scalar.cmpi .sgt v12807 c0_i32_6521
  let v12810 : BitVec 32 := Scalar.extui v12809
  let c0_i32_6522 : BitVec 32 := 0#32
  let v12811 : BitVec 1 := Scalar.cmpi .slt v12807 c0_i32_6522
  let v12812 : BitVec 32 := Scalar.extui v12811
  let v12813 : BitVec 32 := Scalar.subi v12810 v12812
  let c1_i32_6520 : BitVec 32 := 1#32
  let c0_i32_6523 : BitVec 32 := 0#32
  let v12814 : BitVec 1 := Scalar.cmpi .sgt c1_i32_6520 c0_i32_6523
  let v12815 : BitVec 32 := Scalar.extui v12814
  let c0_i32_6524 : BitVec 32 := 0#32
  let v12816 : BitVec 1 := Scalar.cmpi .slt c1_i32_6520 c0_i32_6524
  let v12817 : BitVec 32 := Scalar.extui v12816
  let v12818 : BitVec 32 := Scalar.subi v12815 v12817
  let v12819 : BitVec 1 := Scalar.cmpi .ne v12813 v12818
  let v12820 : BitVec 32 := Scalar.remsi v12807 c1_i32_6520
  let c0_i32_6525 : BitVec 32 := 0#32
  let v12821 : BitVec 1 := Scalar.cmpi .ne v12820 c0_i32_6525
  let v12822 : BitVec 1 := Scalar.andi v12819 v12821
  let v12808 : BitVec 32 := Scalar.divsi v12807 c1_i32_6520
  let c1_i32_6526 : BitVec 32 := 1#32
  let v12823 : BitVec 32 := Scalar.subi v12808 c1_i32_6526
  let v12824 : BitVec 32 := Scalar.select v12822 v12823 v12808
  let c128_i32_6537 : BitVec 32 := 128#32
  let v12839 : BitVec 32 := Scalar.muli v12824 c128_i32_6537
  let c0_i32_6536 : BitVec 32 := 0#32
  let c0_i32_6535 : BitVec 32 := 0#32
  let c1_i32_6527 : BitVec 32 := 1#32
  let c0_i32_6528 : BitVec 32 := 0#32
  let v12825 : BitVec 1 := Scalar.cmpi .eq c1_i32_6527 c0_i32_6528
  let c1_i32_6529 : BitVec 32 := 1#32
  let v12826 : BitVec 32 := Scalar.select v12825 c1_i32_6529 c1_i32_6527
  let v12827 : BitVec 32 := Scalar.remsi v12807 v12826
  let c0_i32_6531 : BitVec 32 := 0#32
  let v12829 : BitVec 1 := Scalar.cmpi .slt v12827 c0_i32_6531
  let c0_i32_6532 : BitVec 32 := 0#32
  let v12830 : BitVec 1 := Scalar.cmpi .slt v12826 c0_i32_6532
  let v12831 : BitVec 1 := Scalar.xori v12829 v12830
  let c0_i32_6530 : BitVec 32 := 0#32
  let v12828 : BitVec 1 := Scalar.cmpi .ne v12827 c0_i32_6530
  let v12832 : BitVec 1 := Scalar.andi v12831 v12828
  let v12833 : BitVec 32 := Scalar.addi v12827 v12826
  let v12834 : BitVec 32 := Scalar.select v12832 v12833 v12827
  let c128_i32_6533 : BitVec 32 := 128#32
  let v12835 : BitVec 32 := Scalar.muli v12834 c128_i32_6533
  let c64_i32_6534 : BitVec 32 := 64#32
  let v12836 : BitVec 32 := Scalar.subi v12835 c64_i32_6534
  let v12837 : BitVec 32 := Scalar.maxsi c0_i32_6535 v12836
  let v12838 : BitVec 32 := Scalar.minsi c0_i32_6536 v12837
  let v12840 : BitVec 32 := Scalar.addi v12839 v12838
  let v12841 : BitVec 32 := v12840
  let c0_i32_6557 : BitVec 32 := 0#32
  let v12870 : BitVec 1 := Scalar.cmpi .sgt v12841 c0_i32_6557
  let v12871 : BitVec 32 := Scalar.extui v12870
  let c0_i32_6558 : BitVec 32 := 0#32
  let v12872 : BitVec 1 := Scalar.cmpi .slt v12841 c0_i32_6558
  let v12873 : BitVec 32 := Scalar.extui v12872
  let v12874 : BitVec 32 := Scalar.subi v12871 v12873
  let c2_i32_6556 : BitVec 32 := 2#32
  let c0_i32_6559 : BitVec 32 := 0#32
  let v12875 : BitVec 1 := Scalar.cmpi .sgt c2_i32_6556 c0_i32_6559
  let v12876 : BitVec 32 := Scalar.extui v12875
  let c0_i32_6560 : BitVec 32 := 0#32
  let v12877 : BitVec 1 := Scalar.cmpi .slt c2_i32_6556 c0_i32_6560
  let v12878 : BitVec 32 := Scalar.extui v12877
  let v12879 : BitVec 32 := Scalar.subi v12876 v12878
  let v12880 : BitVec 1 := Scalar.cmpi .ne v12874 v12879
  let v12881 : BitVec 32 := Scalar.remsi v12841 c2_i32_6556
  let c0_i32_6561 : BitVec 32 := 0#32
  let v12882 : BitVec 1 := Scalar.cmpi .ne v12881 c0_i32_6561
  let v12883 : BitVec 1 := Scalar.andi v12880 v12882
  let v12869 : BitVec 32 := Scalar.divsi v12841 c2_i32_6556
  let c1_i32_6562 : BitVec 32 := 1#32
  let v12884 : BitVec 32 := Scalar.subi v12869 c1_i32_6562
  let v12885 : BitVec 32 := Scalar.select v12883 v12884 v12869
  v12885
def k0_mult530 : BitVec 32 :=
  let c2_i32_5725 : BitVec 32 := 2#32
  let c0_i32_5724 : BitVec 32 := 0#32
  let v11293 : BitVec 32 := Scalar.muli c2_i32_5725 c0_i32_5724
  let c1_i32_6371 : BitVec 32 := 1#32
  let v12527 : BitVec 32 := Scalar.addi v11293 c1_i32_6371
  let c4_i32_6591 : BitVec 32 := 4#32
  let v12945 : BitVec 32 := Scalar.muli v12527 c4_i32_6591
  let c3_i32_6592 : BitVec 32 := 3#32
  let v12946 : BitVec 32 := Scalar.addi v12945 c3_i32_6592
  let c0_i32_6594 : BitVec 32 := 0#32
  let v12948 : BitVec 1 := Scalar.cmpi .sgt v12946 c0_i32_6594
  let v12949 : BitVec 32 := Scalar.extui v12948
  let c0_i32_6595 : BitVec 32 := 0#32
  let v12950 : BitVec 1 := Scalar.cmpi .slt v12946 c0_i32_6595
  let v12951 : BitVec 32 := Scalar.extui v12950
  let v12952 : BitVec 32 := Scalar.subi v12949 v12951
  let c1_i32_6593 : BitVec 32 := 1#32
  let c0_i32_6596 : BitVec 32 := 0#32
  let v12953 : BitVec 1 := Scalar.cmpi .sgt c1_i32_6593 c0_i32_6596
  let v12954 : BitVec 32 := Scalar.extui v12953
  let c0_i32_6597 : BitVec 32 := 0#32
  let v12955 : BitVec 1 := Scalar.cmpi .slt c1_i32_6593 c0_i32_6597
  let v12956 : BitVec 32 := Scalar.extui v12955
  let v12957 : BitVec 32 := Scalar.subi v12954 v12956
  let v12958 : BitVec 1 := Scalar.cmpi .ne v12952 v12957
  let v12959 : BitVec 32 := Scalar.remsi v12946 c1_i32_6593
  let c0_i32_6598 : BitVec 32 := 0#32
  let v12960 : BitVec 1 := Scalar.cmpi .ne v12959 c0_i32_6598
  let v12961 : BitVec 1 := Scalar.andi v12958 v12960
  let v12947 : BitVec 32 := Scalar.divsi v12946 c1_i32_6593
  let c1_i32_6599 : BitVec 32 := 1#32
  let v12962 : BitVec 32 := Scalar.subi v12947 c1_i32_6599
  let v12963 : BitVec 32 := Scalar.select v12961 v12962 v12947
  let c128_i32_6610 : BitVec 32 := 128#32
  let v12978 : BitVec 32 := Scalar.muli v12963 c128_i32_6610
  let c0_i32_6609 : BitVec 32 := 0#32
  let c0_i32_6608 : BitVec 32 := 0#32
  let c1_i32_6600 : BitVec 32 := 1#32
  let c0_i32_6601 : BitVec 32 := 0#32
  let v12964 : BitVec 1 := Scalar.cmpi .eq c1_i32_6600 c0_i32_6601
  let c1_i32_6602 : BitVec 32 := 1#32
  let v12965 : BitVec 32 := Scalar.select v12964 c1_i32_6602 c1_i32_6600
  let v12966 : BitVec 32 := Scalar.remsi v12946 v12965
  let c0_i32_6604 : BitVec 32 := 0#32
  let v12968 : BitVec 1 := Scalar.cmpi .slt v12966 c0_i32_6604
  let c0_i32_6605 : BitVec 32 := 0#32
  let v12969 : BitVec 1 := Scalar.cmpi .slt v12965 c0_i32_6605
  let v12970 : BitVec 1 := Scalar.xori v12968 v12969
  let c0_i32_6603 : BitVec 32 := 0#32
  let v12967 : BitVec 1 := Scalar.cmpi .ne v12966 c0_i32_6603
  let v12971 : BitVec 1 := Scalar.andi v12970 v12967
  let v12972 : BitVec 32 := Scalar.addi v12966 v12965
  let v12973 : BitVec 32 := Scalar.select v12971 v12972 v12966
  let c128_i32_6606 : BitVec 32 := 128#32
  let v12974 : BitVec 32 := Scalar.muli v12973 c128_i32_6606
  let c64_i32_6607 : BitVec 32 := 64#32
  let v12975 : BitVec 32 := Scalar.subi v12974 c64_i32_6607
  let v12976 : BitVec 32 := Scalar.maxsi c0_i32_6608 v12975
  let v12977 : BitVec 32 := Scalar.minsi c0_i32_6609 v12976
  let v12979 : BitVec 32 := Scalar.addi v12978 v12977
  v12979
def k0_mult531 : BitVec 32 :=
  let c2_i32_5725 : BitVec 32 := 2#32
  let c0_i32_5724 : BitVec 32 := 0#32
  let v11293 : BitVec 32 := Scalar.muli c2_i32_5725 c0_i32_5724
  let c1_i32_6371 : BitVec 32 := 1#32
  let v12527 : BitVec 32 := Scalar.addi v11293 c1_i32_6371
  let c4_i32_6591 : BitVec 32 := 4#32
  let v12945 : BitVec 32 := Scalar.muli v12527 c4_i32_6591
  let c3_i32_6592 : BitVec 32 := 3#32
  let v12946 : BitVec 32 := Scalar.addi v12945 c3_i32_6592
  let c0_i32_6594 : BitVec 32 := 0#32
  let v12948 : BitVec 1 := Scalar.cmpi .sgt v12946 c0_i32_6594
  let v12949 : BitVec 32 := Scalar.extui v12948
  let c0_i32_6595 : BitVec 32 := 0#32
  let v12950 : BitVec 1 := Scalar.cmpi .slt v12946 c0_i32_6595
  let v12951 : BitVec 32 := Scalar.extui v12950
  let v12952 : BitVec 32 := Scalar.subi v12949 v12951
  let c1_i32_6593 : BitVec 32 := 1#32
  let c0_i32_6596 : BitVec 32 := 0#32
  let v12953 : BitVec 1 := Scalar.cmpi .sgt c1_i32_6593 c0_i32_6596
  let v12954 : BitVec 32 := Scalar.extui v12953
  let c0_i32_6597 : BitVec 32 := 0#32
  let v12955 : BitVec 1 := Scalar.cmpi .slt c1_i32_6593 c0_i32_6597
  let v12956 : BitVec 32 := Scalar.extui v12955
  let v12957 : BitVec 32 := Scalar.subi v12954 v12956
  let v12958 : BitVec 1 := Scalar.cmpi .ne v12952 v12957
  let v12959 : BitVec 32 := Scalar.remsi v12946 c1_i32_6593
  let c0_i32_6598 : BitVec 32 := 0#32
  let v12960 : BitVec 1 := Scalar.cmpi .ne v12959 c0_i32_6598
  let v12961 : BitVec 1 := Scalar.andi v12958 v12960
  let v12947 : BitVec 32 := Scalar.divsi v12946 c1_i32_6593
  let c1_i32_6599 : BitVec 32 := 1#32
  let v12962 : BitVec 32 := Scalar.subi v12947 c1_i32_6599
  let v12963 : BitVec 32 := Scalar.select v12961 v12962 v12947
  let c128_i32_6610 : BitVec 32 := 128#32
  let v12978 : BitVec 32 := Scalar.muli v12963 c128_i32_6610
  let c0_i32_6609 : BitVec 32 := 0#32
  let c0_i32_6608 : BitVec 32 := 0#32
  let c1_i32_6600 : BitVec 32 := 1#32
  let c0_i32_6601 : BitVec 32 := 0#32
  let v12964 : BitVec 1 := Scalar.cmpi .eq c1_i32_6600 c0_i32_6601
  let c1_i32_6602 : BitVec 32 := 1#32
  let v12965 : BitVec 32 := Scalar.select v12964 c1_i32_6602 c1_i32_6600
  let v12966 : BitVec 32 := Scalar.remsi v12946 v12965
  let c0_i32_6604 : BitVec 32 := 0#32
  let v12968 : BitVec 1 := Scalar.cmpi .slt v12966 c0_i32_6604
  let c0_i32_6605 : BitVec 32 := 0#32
  let v12969 : BitVec 1 := Scalar.cmpi .slt v12965 c0_i32_6605
  let v12970 : BitVec 1 := Scalar.xori v12968 v12969
  let c0_i32_6603 : BitVec 32 := 0#32
  let v12967 : BitVec 1 := Scalar.cmpi .ne v12966 c0_i32_6603
  let v12971 : BitVec 1 := Scalar.andi v12970 v12967
  let v12972 : BitVec 32 := Scalar.addi v12966 v12965
  let v12973 : BitVec 32 := Scalar.select v12971 v12972 v12966
  let c128_i32_6606 : BitVec 32 := 128#32
  let v12974 : BitVec 32 := Scalar.muli v12973 c128_i32_6606
  let c64_i32_6607 : BitVec 32 := 64#32
  let v12975 : BitVec 32 := Scalar.subi v12974 c64_i32_6607
  let v12976 : BitVec 32 := Scalar.maxsi c0_i32_6608 v12975
  let v12977 : BitVec 32 := Scalar.minsi c0_i32_6609 v12976
  let v12979 : BitVec 32 := Scalar.addi v12978 v12977
  let v12980 : BitVec 32 := v12979
  let c0_i32_6616 : BitVec 32 := 0#32
  let v12984 : BitVec 1 := Scalar.cmpi .sgt v12980 c0_i32_6616
  let v12985 : BitVec 32 := Scalar.extui v12984
  let c0_i32_6617 : BitVec 32 := 0#32
  let v12986 : BitVec 1 := Scalar.cmpi .slt v12980 c0_i32_6617
  let v12987 : BitVec 32 := Scalar.extui v12986
  let v12988 : BitVec 32 := Scalar.subi v12985 v12987
  let c2_i32_6615 : BitVec 32 := 2#32
  let c0_i32_6618 : BitVec 32 := 0#32
  let v12989 : BitVec 1 := Scalar.cmpi .sgt c2_i32_6615 c0_i32_6618
  let v12990 : BitVec 32 := Scalar.extui v12989
  let c0_i32_6619 : BitVec 32 := 0#32
  let v12991 : BitVec 1 := Scalar.cmpi .slt c2_i32_6615 c0_i32_6619
  let v12992 : BitVec 32 := Scalar.extui v12991
  let v12993 : BitVec 32 := Scalar.subi v12990 v12992
  let v12994 : BitVec 1 := Scalar.cmpi .ne v12988 v12993
  let v12995 : BitVec 32 := Scalar.remsi v12980 c2_i32_6615
  let c0_i32_6620 : BitVec 32 := 0#32
  let v12996 : BitVec 1 := Scalar.cmpi .ne v12995 c0_i32_6620
  let v12997 : BitVec 1 := Scalar.andi v12994 v12996
  let v12983 : BitVec 32 := Scalar.divsi v12980 c2_i32_6615
  let c1_i32_6621 : BitVec 32 := 1#32
  let v12998 : BitVec 32 := Scalar.subi v12983 c1_i32_6621
  let v12999 : BitVec 32 := Scalar.select v12997 v12998 v12983
  v12999
def k0_mult532 : BitVec 32 :=
  let c2_i32_5725 : BitVec 32 := 2#32
  let c0_i32_5724 : BitVec 32 := 0#32
  let v11293 : BitVec 32 := Scalar.muli c2_i32_5725 c0_i32_5724
  let c1_i32_6371 : BitVec 32 := 1#32
  let v12527 : BitVec 32 := Scalar.addi v11293 c1_i32_6371
  let c4_i32_6591 : BitVec 32 := 4#32
  let v12945 : BitVec 32 := Scalar.muli v12527 c4_i32_6591
  let c3_i32_6592 : BitVec 32 := 3#32
  let v12946 : BitVec 32 := Scalar.addi v12945 c3_i32_6592
  let c0_i32_6594 : BitVec 32 := 0#32
  let v12948 : BitVec 1 := Scalar.cmpi .sgt v12946 c0_i32_6594
  let v12949 : BitVec 32 := Scalar.extui v12948
  let c0_i32_6595 : BitVec 32 := 0#32
  let v12950 : BitVec 1 := Scalar.cmpi .slt v12946 c0_i32_6595
  let v12951 : BitVec 32 := Scalar.extui v12950
  let v12952 : BitVec 32 := Scalar.subi v12949 v12951
  let c1_i32_6593 : BitVec 32 := 1#32
  let c0_i32_6596 : BitVec 32 := 0#32
  let v12953 : BitVec 1 := Scalar.cmpi .sgt c1_i32_6593 c0_i32_6596
  let v12954 : BitVec 32 := Scalar.extui v12953
  let c0_i32_6597 : BitVec 32 := 0#32
  let v12955 : BitVec 1 := Scalar.cmpi .slt c1_i32_6593 c0_i32_6597
  let v12956 : BitVec 32 := Scalar.extui v12955
  let v12957 : BitVec 32 := Scalar.subi v12954 v12956
  let v12958 : BitVec 1 := Scalar.cmpi .ne v12952 v12957
  let v12959 : BitVec 32 := Scalar.remsi v12946 c1_i32_6593
  let c0_i32_6598 : BitVec 32 := 0#32
  let v12960 : BitVec 1 := Scalar.cmpi .ne v12959 c0_i32_6598
  let v12961 : BitVec 1 := Scalar.andi v12958 v12960
  let v12947 : BitVec 32 := Scalar.divsi v12946 c1_i32_6593
  let c1_i32_6599 : BitVec 32 := 1#32
  let v12962 : BitVec 32 := Scalar.subi v12947 c1_i32_6599
  let v12963 : BitVec 32 := Scalar.select v12961 v12962 v12947
  let c128_i32_6610 : BitVec 32 := 128#32
  let v12978 : BitVec 32 := Scalar.muli v12963 c128_i32_6610
  let c0_i32_6609 : BitVec 32 := 0#32
  let c0_i32_6608 : BitVec 32 := 0#32
  let c1_i32_6600 : BitVec 32 := 1#32
  let c0_i32_6601 : BitVec 32 := 0#32
  let v12964 : BitVec 1 := Scalar.cmpi .eq c1_i32_6600 c0_i32_6601
  let c1_i32_6602 : BitVec 32 := 1#32
  let v12965 : BitVec 32 := Scalar.select v12964 c1_i32_6602 c1_i32_6600
  let v12966 : BitVec 32 := Scalar.remsi v12946 v12965
  let c0_i32_6604 : BitVec 32 := 0#32
  let v12968 : BitVec 1 := Scalar.cmpi .slt v12966 c0_i32_6604
  let c0_i32_6605 : BitVec 32 := 0#32
  let v12969 : BitVec 1 := Scalar.cmpi .slt v12965 c0_i32_6605
  let v12970 : BitVec 1 := Scalar.xori v12968 v12969
  let c0_i32_6603 : BitVec 32 := 0#32
  let v12967 : BitVec 1 := Scalar.cmpi .ne v12966 c0_i32_6603
  let v12971 : BitVec 1 := Scalar.andi v12970 v12967
  let v12972 : BitVec 32 := Scalar.addi v12966 v12965
  let v12973 : BitVec 32 := Scalar.select v12971 v12972 v12966
  let c128_i32_6606 : BitVec 32 := 128#32
  let v12974 : BitVec 32 := Scalar.muli v12973 c128_i32_6606
  let c64_i32_6607 : BitVec 32 := 64#32
  let v12975 : BitVec 32 := Scalar.subi v12974 c64_i32_6607
  let v12976 : BitVec 32 := Scalar.maxsi c0_i32_6608 v12975
  let v12977 : BitVec 32 := Scalar.minsi c0_i32_6609 v12976
  let v12979 : BitVec 32 := Scalar.addi v12978 v12977
  let v12980 : BitVec 32 := v12979
  let c0_i32_6630 : BitVec 32 := 0#32
  let v13009 : BitVec 1 := Scalar.cmpi .sgt v12980 c0_i32_6630
  let v13010 : BitVec 32 := Scalar.extui v13009
  let c0_i32_6631 : BitVec 32 := 0#32
  let v13011 : BitVec 1 := Scalar.cmpi .slt v12980 c0_i32_6631
  let v13012 : BitVec 32 := Scalar.extui v13011
  let v13013 : BitVec 32 := Scalar.subi v13010 v13012
  let c2_i32_6629 : BitVec 32 := 2#32
  let c0_i32_6632 : BitVec 32 := 0#32
  let v13014 : BitVec 1 := Scalar.cmpi .sgt c2_i32_6629 c0_i32_6632
  let v13015 : BitVec 32 := Scalar.extui v13014
  let c0_i32_6633 : BitVec 32 := 0#32
  let v13016 : BitVec 1 := Scalar.cmpi .slt c2_i32_6629 c0_i32_6633
  let v13017 : BitVec 32 := Scalar.extui v13016
  let v13018 : BitVec 32 := Scalar.subi v13015 v13017
  let v13019 : BitVec 1 := Scalar.cmpi .ne v13013 v13018
  let v13020 : BitVec 32 := Scalar.remsi v12980 c2_i32_6629
  let c0_i32_6634 : BitVec 32 := 0#32
  let v13021 : BitVec 1 := Scalar.cmpi .ne v13020 c0_i32_6634
  let v13022 : BitVec 1 := Scalar.andi v13019 v13021
  let v13008 : BitVec 32 := Scalar.divsi v12980 c2_i32_6629
  let c1_i32_6635 : BitVec 32 := 1#32
  let v13023 : BitVec 32 := Scalar.subi v13008 c1_i32_6635
  let v13024 : BitVec 32 := Scalar.select v13022 v13023 v13008
  v13024
def k0_mult533 : BitVec 32 :=
  let c2_i32_5725 : BitVec 32 := 2#32
  let c0_i32_5724 : BitVec 32 := 0#32
  let v11293 : BitVec 32 := Scalar.muli c2_i32_5725 c0_i32_5724
  let c3_i32_6752 : BitVec 32 := 3#32
  let v13212 : BitVec 32 := Scalar.addi v11293 c3_i32_6752
  let c4_i32_6753 : BitVec 32 := 4#32
  let v13213 : BitVec 32 := Scalar.muli v13212 c4_i32_6753
  let c0_i32_6754 : BitVec 32 := 0#32
  let v13214 : BitVec 32 := Scalar.addi v13213 c0_i32_6754
  let c128_i32_6755 : BitVec 32 := 128#32
  let v13215 : BitVec 32 := Scalar.muli v13214 c128_i32_6755
  v13215
def k0_mult534 : BitVec 32 :=
  let c2_i32_5725 : BitVec 32 := 2#32
  let c0_i32_5724 : BitVec 32 := 0#32
  let v11293 : BitVec 32 := Scalar.muli c2_i32_5725 c0_i32_5724
  let c3_i32_6752 : BitVec 32 := 3#32
  let v13212 : BitVec 32 := Scalar.addi v11293 c3_i32_6752
  let c4_i32_6753 : BitVec 32 := 4#32
  let v13213 : BitVec 32 := Scalar.muli v13212 c4_i32_6753
  let c0_i32_6754 : BitVec 32 := 0#32
  let v13214 : BitVec 32 := Scalar.addi v13213 c0_i32_6754
  let c0_i32_6757 : BitVec 32 := 0#32
  let v13218 : BitVec 1 := Scalar.cmpi .sgt v13214 c0_i32_6757
  let v13219 : BitVec 32 := Scalar.extui v13218
  let c0_i32_6758 : BitVec 32 := 0#32
  let v13220 : BitVec 1 := Scalar.cmpi .slt v13214 c0_i32_6758
  let v13221 : BitVec 32 := Scalar.extui v13220
  let v13222 : BitVec 32 := Scalar.subi v13219 v13221
  let c1_i32_6756 : BitVec 32 := 1#32
  let c0_i32_6759 : BitVec 32 := 0#32
  let v13223 : BitVec 1 := Scalar.cmpi .sgt c1_i32_6756 c0_i32_6759
  let v13224 : BitVec 32 := Scalar.extui v13223
  let c0_i32_6760 : BitVec 32 := 0#32
  let v13225 : BitVec 1 := Scalar.cmpi .slt c1_i32_6756 c0_i32_6760
  let v13226 : BitVec 32 := Scalar.extui v13225
  let v13227 : BitVec 32 := Scalar.subi v13224 v13226
  let v13228 : BitVec 1 := Scalar.cmpi .ne v13222 v13227
  let v13229 : BitVec 32 := Scalar.remsi v13214 c1_i32_6756
  let c0_i32_6761 : BitVec 32 := 0#32
  let v13230 : BitVec 1 := Scalar.cmpi .ne v13229 c0_i32_6761
  let v13231 : BitVec 1 := Scalar.andi v13228 v13230
  let v13217 : BitVec 32 := Scalar.divsi v13214 c1_i32_6756
  let c1_i32_6762 : BitVec 32 := 1#32
  let v13232 : BitVec 32 := Scalar.subi v13217 c1_i32_6762
  let v13233 : BitVec 32 := Scalar.select v13231 v13232 v13217
  let c128_i32_6773 : BitVec 32 := 128#32
  let v13248 : BitVec 32 := Scalar.muli v13233 c128_i32_6773
  let c0_i32_6772 : BitVec 32 := 0#32
  let c0_i32_6771 : BitVec 32 := 0#32
  let c1_i32_6763 : BitVec 32 := 1#32
  let c0_i32_6764 : BitVec 32 := 0#32
  let v13234 : BitVec 1 := Scalar.cmpi .eq c1_i32_6763 c0_i32_6764
  let c1_i32_6765 : BitVec 32 := 1#32
  let v13235 : BitVec 32 := Scalar.select v13234 c1_i32_6765 c1_i32_6763
  let v13236 : BitVec 32 := Scalar.remsi v13214 v13235
  let c0_i32_6767 : BitVec 32 := 0#32
  let v13238 : BitVec 1 := Scalar.cmpi .slt v13236 c0_i32_6767
  let c0_i32_6768 : BitVec 32 := 0#32
  let v13239 : BitVec 1 := Scalar.cmpi .slt v13235 c0_i32_6768
  let v13240 : BitVec 1 := Scalar.xori v13238 v13239
  let c0_i32_6766 : BitVec 32 := 0#32
  let v13237 : BitVec 1 := Scalar.cmpi .ne v13236 c0_i32_6766
  let v13241 : BitVec 1 := Scalar.andi v13240 v13237
  let v13242 : BitVec 32 := Scalar.addi v13236 v13235
  let v13243 : BitVec 32 := Scalar.select v13241 v13242 v13236
  let c128_i32_6769 : BitVec 32 := 128#32
  let v13244 : BitVec 32 := Scalar.muli v13243 c128_i32_6769
  let c64_i32_6770 : BitVec 32 := 64#32
  let v13245 : BitVec 32 := Scalar.subi v13244 c64_i32_6770
  let v13246 : BitVec 32 := Scalar.maxsi c0_i32_6771 v13245
  let v13247 : BitVec 32 := Scalar.minsi c0_i32_6772 v13246
  let v13249 : BitVec 32 := Scalar.addi v13248 v13247
  v13249
def k0_mult535 : BitVec 32 :=
  let c2_i32_5725 : BitVec 32 := 2#32
  let c0_i32_5724 : BitVec 32 := 0#32
  let v11293 : BitVec 32 := Scalar.muli c2_i32_5725 c0_i32_5724
  let c3_i32_6752 : BitVec 32 := 3#32
  let v13212 : BitVec 32 := Scalar.addi v11293 c3_i32_6752
  let c4_i32_6753 : BitVec 32 := 4#32
  let v13213 : BitVec 32 := Scalar.muli v13212 c4_i32_6753
  let c0_i32_6754 : BitVec 32 := 0#32
  let v13214 : BitVec 32 := Scalar.addi v13213 c0_i32_6754
  let c128_i32_6755 : BitVec 32 := 128#32
  let v13215 : BitVec 32 := Scalar.muli v13214 c128_i32_6755
  let v13216 : BitVec 32 := v13215
  let c0_i32_6784 : BitVec 32 := 0#32
  let v13273 : BitVec 1 := Scalar.cmpi .sgt v13216 c0_i32_6784
  let v13274 : BitVec 32 := Scalar.extui v13273
  let c0_i32_6785 : BitVec 32 := 0#32
  let v13275 : BitVec 1 := Scalar.cmpi .slt v13216 c0_i32_6785
  let v13276 : BitVec 32 := Scalar.extui v13275
  let v13277 : BitVec 32 := Scalar.subi v13274 v13276
  let c2_i32_6783 : BitVec 32 := 2#32
  let c0_i32_6786 : BitVec 32 := 0#32
  let v13278 : BitVec 1 := Scalar.cmpi .sgt c2_i32_6783 c0_i32_6786
  let v13279 : BitVec 32 := Scalar.extui v13278
  let c0_i32_6787 : BitVec 32 := 0#32
  let v13280 : BitVec 1 := Scalar.cmpi .slt c2_i32_6783 c0_i32_6787
  let v13281 : BitVec 32 := Scalar.extui v13280
  let v13282 : BitVec 32 := Scalar.subi v13279 v13281
  let v13283 : BitVec 1 := Scalar.cmpi .ne v13277 v13282
  let v13284 : BitVec 32 := Scalar.remsi v13216 c2_i32_6783
  let c0_i32_6788 : BitVec 32 := 0#32
  let v13285 : BitVec 1 := Scalar.cmpi .ne v13284 c0_i32_6788
  let v13286 : BitVec 1 := Scalar.andi v13283 v13285
  let v13272 : BitVec 32 := Scalar.divsi v13216 c2_i32_6783
  let c1_i32_6789 : BitVec 32 := 1#32
  let v13287 : BitVec 32 := Scalar.subi v13272 c1_i32_6789
  let v13288 : BitVec 32 := Scalar.select v13286 v13287 v13272
  v13288
def k0_mult536 : BitVec 32 :=
  let c2_i32_5725 : BitVec 32 := 2#32
  let c0_i32_5724 : BitVec 32 := 0#32
  let v11293 : BitVec 32 := Scalar.muli c2_i32_5725 c0_i32_5724
  let c3_i32_6752 : BitVec 32 := 3#32
  let v13212 : BitVec 32 := Scalar.addi v11293 c3_i32_6752
  let c4_i32_6753 : BitVec 32 := 4#32
  let v13213 : BitVec 32 := Scalar.muli v13212 c4_i32_6753
  let c0_i32_6754 : BitVec 32 := 0#32
  let v13214 : BitVec 32 := Scalar.addi v13213 c0_i32_6754
  let c128_i32_6755 : BitVec 32 := 128#32
  let v13215 : BitVec 32 := Scalar.muli v13214 c128_i32_6755
  let v13216 : BitVec 32 := v13215
  let c0_i32_6793 : BitVec 32 := 0#32
  let v13295 : BitVec 1 := Scalar.cmpi .sgt v13216 c0_i32_6793
  let v13296 : BitVec 32 := Scalar.extui v13295
  let c0_i32_6794 : BitVec 32 := 0#32
  let v13297 : BitVec 1 := Scalar.cmpi .slt v13216 c0_i32_6794
  let v13298 : BitVec 32 := Scalar.extui v13297
  let v13299 : BitVec 32 := Scalar.subi v13296 v13298
  let c2_i32_6792 : BitVec 32 := 2#32
  let c0_i32_6795 : BitVec 32 := 0#32
  let v13300 : BitVec 1 := Scalar.cmpi .sgt c2_i32_6792 c0_i32_6795
  let v13301 : BitVec 32 := Scalar.extui v13300
  let c0_i32_6796 : BitVec 32 := 0#32
  let v13302 : BitVec 1 := Scalar.cmpi .slt c2_i32_6792 c0_i32_6796
  let v13303 : BitVec 32 := Scalar.extui v13302
  let v13304 : BitVec 32 := Scalar.subi v13301 v13303
  let v13305 : BitVec 1 := Scalar.cmpi .ne v13299 v13304
  let v13306 : BitVec 32 := Scalar.remsi v13216 c2_i32_6792
  let c0_i32_6797 : BitVec 32 := 0#32
  let v13307 : BitVec 1 := Scalar.cmpi .ne v13306 c0_i32_6797
  let v13308 : BitVec 1 := Scalar.andi v13305 v13307
  let v13294 : BitVec 32 := Scalar.divsi v13216 c2_i32_6792
  let c1_i32_6798 : BitVec 32 := 1#32
  let v13309 : BitVec 32 := Scalar.subi v13294 c1_i32_6798
  let v13310 : BitVec 32 := Scalar.select v13308 v13309 v13294
  v13310
def k0_mult537 : BitVec 32 :=
  let c2_i32_5725 : BitVec 32 := 2#32
  let c0_i32_5724 : BitVec 32 := 0#32
  let v11293 : BitVec 32 := Scalar.muli c2_i32_5725 c0_i32_5724
  let c3_i32_6752 : BitVec 32 := 3#32
  let v13212 : BitVec 32 := Scalar.addi v11293 c3_i32_6752
  let c4_i32_6753 : BitVec 32 := 4#32
  let v13213 : BitVec 32 := Scalar.muli v13212 c4_i32_6753
  let c0_i32_6754 : BitVec 32 := 0#32
  let v13214 : BitVec 32 := Scalar.addi v13213 c0_i32_6754
  let c0_i32_6757 : BitVec 32 := 0#32
  let v13218 : BitVec 1 := Scalar.cmpi .sgt v13214 c0_i32_6757
  let v13219 : BitVec 32 := Scalar.extui v13218
  let c0_i32_6758 : BitVec 32 := 0#32
  let v13220 : BitVec 1 := Scalar.cmpi .slt v13214 c0_i32_6758
  let v13221 : BitVec 32 := Scalar.extui v13220
  let v13222 : BitVec 32 := Scalar.subi v13219 v13221
  let c1_i32_6756 : BitVec 32 := 1#32
  let c0_i32_6759 : BitVec 32 := 0#32
  let v13223 : BitVec 1 := Scalar.cmpi .sgt c1_i32_6756 c0_i32_6759
  let v13224 : BitVec 32 := Scalar.extui v13223
  let c0_i32_6760 : BitVec 32 := 0#32
  let v13225 : BitVec 1 := Scalar.cmpi .slt c1_i32_6756 c0_i32_6760
  let v13226 : BitVec 32 := Scalar.extui v13225
  let v13227 : BitVec 32 := Scalar.subi v13224 v13226
  let v13228 : BitVec 1 := Scalar.cmpi .ne v13222 v13227
  let v13229 : BitVec 32 := Scalar.remsi v13214 c1_i32_6756
  let c0_i32_6761 : BitVec 32 := 0#32
  let v13230 : BitVec 1 := Scalar.cmpi .ne v13229 c0_i32_6761
  let v13231 : BitVec 1 := Scalar.andi v13228 v13230
  let v13217 : BitVec 32 := Scalar.divsi v13214 c1_i32_6756
  let c1_i32_6762 : BitVec 32 := 1#32
  let v13232 : BitVec 32 := Scalar.subi v13217 c1_i32_6762
  let v13233 : BitVec 32 := Scalar.select v13231 v13232 v13217
  let c128_i32_6773 : BitVec 32 := 128#32
  let v13248 : BitVec 32 := Scalar.muli v13233 c128_i32_6773
  let c0_i32_6772 : BitVec 32 := 0#32
  let c0_i32_6771 : BitVec 32 := 0#32
  let c1_i32_6763 : BitVec 32 := 1#32
  let c0_i32_6764 : BitVec 32 := 0#32
  let v13234 : BitVec 1 := Scalar.cmpi .eq c1_i32_6763 c0_i32_6764
  let c1_i32_6765 : BitVec 32 := 1#32
  let v13235 : BitVec 32 := Scalar.select v13234 c1_i32_6765 c1_i32_6763
  let v13236 : BitVec 32 := Scalar.remsi v13214 v13235
  let c0_i32_6767 : BitVec 32 := 0#32
  let v13238 : BitVec 1 := Scalar.cmpi .slt v13236 c0_i32_6767
  let c0_i32_6768 : BitVec 32 := 0#32
  let v13239 : BitVec 1 := Scalar.cmpi .slt v13235 c0_i32_6768
  let v13240 : BitVec 1 := Scalar.xori v13238 v13239
  let c0_i32_6766 : BitVec 32 := 0#32
  let v13237 : BitVec 1 := Scalar.cmpi .ne v13236 c0_i32_6766
  let v13241 : BitVec 1 := Scalar.andi v13240 v13237
  let v13242 : BitVec 32 := Scalar.addi v13236 v13235
  let v13243 : BitVec 32 := Scalar.select v13241 v13242 v13236
  let c128_i32_6769 : BitVec 32 := 128#32
  let v13244 : BitVec 32 := Scalar.muli v13243 c128_i32_6769
  let c64_i32_6770 : BitVec 32 := 64#32
  let v13245 : BitVec 32 := Scalar.subi v13244 c64_i32_6770
  let v13246 : BitVec 32 := Scalar.maxsi c0_i32_6771 v13245
  let v13247 : BitVec 32 := Scalar.minsi c0_i32_6772 v13246
  let v13249 : BitVec 32 := Scalar.addi v13248 v13247
  let v13250 : BitVec 32 := v13249
  let c0_i32_6802 : BitVec 32 := 0#32
  let v13318 : BitVec 1 := Scalar.cmpi .sgt v13250 c0_i32_6802
  let v13319 : BitVec 32 := Scalar.extui v13318
  let c0_i32_6803 : BitVec 32 := 0#32
  let v13320 : BitVec 1 := Scalar.cmpi .slt v13250 c0_i32_6803
  let v13321 : BitVec 32 := Scalar.extui v13320
  let v13322 : BitVec 32 := Scalar.subi v13319 v13321
  let c2_i32_6801 : BitVec 32 := 2#32
  let c0_i32_6804 : BitVec 32 := 0#32
  let v13323 : BitVec 1 := Scalar.cmpi .sgt c2_i32_6801 c0_i32_6804
  let v13324 : BitVec 32 := Scalar.extui v13323
  let c0_i32_6805 : BitVec 32 := 0#32
  let v13325 : BitVec 1 := Scalar.cmpi .slt c2_i32_6801 c0_i32_6805
  let v13326 : BitVec 32 := Scalar.extui v13325
  let v13327 : BitVec 32 := Scalar.subi v13324 v13326
  let v13328 : BitVec 1 := Scalar.cmpi .ne v13322 v13327
  let v13329 : BitVec 32 := Scalar.remsi v13250 c2_i32_6801
  let c0_i32_6806 : BitVec 32 := 0#32
  let v13330 : BitVec 1 := Scalar.cmpi .ne v13329 c0_i32_6806
  let v13331 : BitVec 1 := Scalar.andi v13328 v13330
  let v13317 : BitVec 32 := Scalar.divsi v13250 c2_i32_6801
  let c1_i32_6807 : BitVec 32 := 1#32
  let v13332 : BitVec 32 := Scalar.subi v13317 c1_i32_6807
  let v13333 : BitVec 32 := Scalar.select v13331 v13332 v13317
  v13333
def k0_mult538 : BitVec 32 :=
  let c2_i32_5725 : BitVec 32 := 2#32
  let c0_i32_5724 : BitVec 32 := 0#32
  let v11293 : BitVec 32 := Scalar.muli c2_i32_5725 c0_i32_5724
  let c3_i32_6752 : BitVec 32 := 3#32
  let v13212 : BitVec 32 := Scalar.addi v11293 c3_i32_6752
  let c4_i32_6819 : BitVec 32 := 4#32
  let v13350 : BitVec 32 := Scalar.muli v13212 c4_i32_6819
  let c1_i32_6820 : BitVec 32 := 1#32
  let v13351 : BitVec 32 := Scalar.addi v13350 c1_i32_6820
  let c128_i32_6821 : BitVec 32 := 128#32
  let v13352 : BitVec 32 := Scalar.muli v13351 c128_i32_6821
  v13352
def k0_mult539 : BitVec 32 :=
  let c2_i32_5725 : BitVec 32 := 2#32
  let c0_i32_5724 : BitVec 32 := 0#32
  let v11293 : BitVec 32 := Scalar.muli c2_i32_5725 c0_i32_5724
  let c3_i32_6752 : BitVec 32 := 3#32
  let v13212 : BitVec 32 := Scalar.addi v11293 c3_i32_6752
  let c4_i32_6819 : BitVec 32 := 4#32
  let v13350 : BitVec 32 := Scalar.muli v13212 c4_i32_6819
  let c1_i32_6820 : BitVec 32 := 1#32
  let v13351 : BitVec 32 := Scalar.addi v13350 c1_i32_6820
  let c0_i32_6823 : BitVec 32 := 0#32
  let v13355 : BitVec 1 := Scalar.cmpi .sgt v13351 c0_i32_6823
  let v13356 : BitVec 32 := Scalar.extui v13355
  let c0_i32_6824 : BitVec 32 := 0#32
  let v13357 : BitVec 1 := Scalar.cmpi .slt v13351 c0_i32_6824
  let v13358 : BitVec 32 := Scalar.extui v13357
  let v13359 : BitVec 32 := Scalar.subi v13356 v13358
  let c1_i32_6822 : BitVec 32 := 1#32
  let c0_i32_6825 : BitVec 32 := 0#32
  let v13360 : BitVec 1 := Scalar.cmpi .sgt c1_i32_6822 c0_i32_6825
  let v13361 : BitVec 32 := Scalar.extui v13360
  let c0_i32_6826 : BitVec 32 := 0#32
  let v13362 : BitVec 1 := Scalar.cmpi .slt c1_i32_6822 c0_i32_6826
  let v13363 : BitVec 32 := Scalar.extui v13362
  let v13364 : BitVec 32 := Scalar.subi v13361 v13363
  let v13365 : BitVec 1 := Scalar.cmpi .ne v13359 v13364
  let v13366 : BitVec 32 := Scalar.remsi v13351 c1_i32_6822
  let c0_i32_6827 : BitVec 32 := 0#32
  let v13367 : BitVec 1 := Scalar.cmpi .ne v13366 c0_i32_6827
  let v13368 : BitVec 1 := Scalar.andi v13365 v13367
  let v13354 : BitVec 32 := Scalar.divsi v13351 c1_i32_6822
  let c1_i32_6828 : BitVec 32 := 1#32
  let v13369 : BitVec 32 := Scalar.subi v13354 c1_i32_6828
  let v13370 : BitVec 32 := Scalar.select v13368 v13369 v13354
  let c128_i32_6839 : BitVec 32 := 128#32
  let v13385 : BitVec 32 := Scalar.muli v13370 c128_i32_6839
  let c0_i32_6838 : BitVec 32 := 0#32
  let c0_i32_6837 : BitVec 32 := 0#32
  let c1_i32_6829 : BitVec 32 := 1#32
  let c0_i32_6830 : BitVec 32 := 0#32
  let v13371 : BitVec 1 := Scalar.cmpi .eq c1_i32_6829 c0_i32_6830
  let c1_i32_6831 : BitVec 32 := 1#32
  let v13372 : BitVec 32 := Scalar.select v13371 c1_i32_6831 c1_i32_6829
  let v13373 : BitVec 32 := Scalar.remsi v13351 v13372
  let c0_i32_6833 : BitVec 32 := 0#32
  let v13375 : BitVec 1 := Scalar.cmpi .slt v13373 c0_i32_6833
  let c0_i32_6834 : BitVec 32 := 0#32
  let v13376 : BitVec 1 := Scalar.cmpi .slt v13372 c0_i32_6834
  let v13377 : BitVec 1 := Scalar.xori v13375 v13376
  let c0_i32_6832 : BitVec 32 := 0#32
  let v13374 : BitVec 1 := Scalar.cmpi .ne v13373 c0_i32_6832
  let v13378 : BitVec 1 := Scalar.andi v13377 v13374
  let v13379 : BitVec 32 := Scalar.addi v13373 v13372
  let v13380 : BitVec 32 := Scalar.select v13378 v13379 v13373
  let c128_i32_6835 : BitVec 32 := 128#32
  let v13381 : BitVec 32 := Scalar.muli v13380 c128_i32_6835
  let c64_i32_6836 : BitVec 32 := 64#32
  let v13382 : BitVec 32 := Scalar.subi v13381 c64_i32_6836
  let v13383 : BitVec 32 := Scalar.maxsi c0_i32_6837 v13382
  let v13384 : BitVec 32 := Scalar.minsi c0_i32_6838 v13383
  let v13386 : BitVec 32 := Scalar.addi v13385 v13384
  v13386
def k0_mult540 : BitVec 32 :=
  let c2_i32_5725 : BitVec 32 := 2#32
  let c0_i32_5724 : BitVec 32 := 0#32
  let v11293 : BitVec 32 := Scalar.muli c2_i32_5725 c0_i32_5724
  let c3_i32_6752 : BitVec 32 := 3#32
  let v13212 : BitVec 32 := Scalar.addi v11293 c3_i32_6752
  let c4_i32_6819 : BitVec 32 := 4#32
  let v13350 : BitVec 32 := Scalar.muli v13212 c4_i32_6819
  let c1_i32_6820 : BitVec 32 := 1#32
  let v13351 : BitVec 32 := Scalar.addi v13350 c1_i32_6820
  let c128_i32_6821 : BitVec 32 := 128#32
  let v13352 : BitVec 32 := Scalar.muli v13351 c128_i32_6821
  let v13353 : BitVec 32 := v13352
  let c0_i32_6850 : BitVec 32 := 0#32
  let v13410 : BitVec 1 := Scalar.cmpi .sgt v13353 c0_i32_6850
  let v13411 : BitVec 32 := Scalar.extui v13410
  let c0_i32_6851 : BitVec 32 := 0#32
  let v13412 : BitVec 1 := Scalar.cmpi .slt v13353 c0_i32_6851
  let v13413 : BitVec 32 := Scalar.extui v13412
  let v13414 : BitVec 32 := Scalar.subi v13411 v13413
  let c2_i32_6849 : BitVec 32 := 2#32
  let c0_i32_6852 : BitVec 32 := 0#32
  let v13415 : BitVec 1 := Scalar.cmpi .sgt c2_i32_6849 c0_i32_6852
  let v13416 : BitVec 32 := Scalar.extui v13415
  let c0_i32_6853 : BitVec 32 := 0#32
  let v13417 : BitVec 1 := Scalar.cmpi .slt c2_i32_6849 c0_i32_6853
  let v13418 : BitVec 32 := Scalar.extui v13417
  let v13419 : BitVec 32 := Scalar.subi v13416 v13418
  let v13420 : BitVec 1 := Scalar.cmpi .ne v13414 v13419
  let v13421 : BitVec 32 := Scalar.remsi v13353 c2_i32_6849
  let c0_i32_6854 : BitVec 32 := 0#32
  let v13422 : BitVec 1 := Scalar.cmpi .ne v13421 c0_i32_6854
  let v13423 : BitVec 1 := Scalar.andi v13420 v13422
  let v13409 : BitVec 32 := Scalar.divsi v13353 c2_i32_6849
  let c1_i32_6855 : BitVec 32 := 1#32
  let v13424 : BitVec 32 := Scalar.subi v13409 c1_i32_6855
  let v13425 : BitVec 32 := Scalar.select v13423 v13424 v13409
  v13425
def k0_mult541 : BitVec 32 :=
  let c2_i32_5725 : BitVec 32 := 2#32
  let c0_i32_5724 : BitVec 32 := 0#32
  let v11293 : BitVec 32 := Scalar.muli c2_i32_5725 c0_i32_5724
  let c3_i32_6752 : BitVec 32 := 3#32
  let v13212 : BitVec 32 := Scalar.addi v11293 c3_i32_6752
  let c4_i32_6819 : BitVec 32 := 4#32
  let v13350 : BitVec 32 := Scalar.muli v13212 c4_i32_6819
  let c1_i32_6820 : BitVec 32 := 1#32
  let v13351 : BitVec 32 := Scalar.addi v13350 c1_i32_6820
  let c128_i32_6821 : BitVec 32 := 128#32
  let v13352 : BitVec 32 := Scalar.muli v13351 c128_i32_6821
  let v13353 : BitVec 32 := v13352
  let c0_i32_6859 : BitVec 32 := 0#32
  let v13432 : BitVec 1 := Scalar.cmpi .sgt v13353 c0_i32_6859
  let v13433 : BitVec 32 := Scalar.extui v13432
  let c0_i32_6860 : BitVec 32 := 0#32
  let v13434 : BitVec 1 := Scalar.cmpi .slt v13353 c0_i32_6860
  let v13435 : BitVec 32 := Scalar.extui v13434
  let v13436 : BitVec 32 := Scalar.subi v13433 v13435
  let c2_i32_6858 : BitVec 32 := 2#32
  let c0_i32_6861 : BitVec 32 := 0#32
  let v13437 : BitVec 1 := Scalar.cmpi .sgt c2_i32_6858 c0_i32_6861
  let v13438 : BitVec 32 := Scalar.extui v13437
  let c0_i32_6862 : BitVec 32 := 0#32
  let v13439 : BitVec 1 := Scalar.cmpi .slt c2_i32_6858 c0_i32_6862
  let v13440 : BitVec 32 := Scalar.extui v13439
  let v13441 : BitVec 32 := Scalar.subi v13438 v13440
  let v13442 : BitVec 1 := Scalar.cmpi .ne v13436 v13441
  let v13443 : BitVec 32 := Scalar.remsi v13353 c2_i32_6858
  let c0_i32_6863 : BitVec 32 := 0#32
  let v13444 : BitVec 1 := Scalar.cmpi .ne v13443 c0_i32_6863
  let v13445 : BitVec 1 := Scalar.andi v13442 v13444
  let v13431 : BitVec 32 := Scalar.divsi v13353 c2_i32_6858
  let c1_i32_6864 : BitVec 32 := 1#32
  let v13446 : BitVec 32 := Scalar.subi v13431 c1_i32_6864
  let v13447 : BitVec 32 := Scalar.select v13445 v13446 v13431
  v13447
def k0_mult542 : BitVec 32 :=
  let c2_i32_5725 : BitVec 32 := 2#32
  let c0_i32_5724 : BitVec 32 := 0#32
  let v11293 : BitVec 32 := Scalar.muli c2_i32_5725 c0_i32_5724
  let c3_i32_6752 : BitVec 32 := 3#32
  let v13212 : BitVec 32 := Scalar.addi v11293 c3_i32_6752
  let c4_i32_6819 : BitVec 32 := 4#32
  let v13350 : BitVec 32 := Scalar.muli v13212 c4_i32_6819
  let c1_i32_6820 : BitVec 32 := 1#32
  let v13351 : BitVec 32 := Scalar.addi v13350 c1_i32_6820
  let c0_i32_6823 : BitVec 32 := 0#32
  let v13355 : BitVec 1 := Scalar.cmpi .sgt v13351 c0_i32_6823
  let v13356 : BitVec 32 := Scalar.extui v13355
  let c0_i32_6824 : BitVec 32 := 0#32
  let v13357 : BitVec 1 := Scalar.cmpi .slt v13351 c0_i32_6824
  let v13358 : BitVec 32 := Scalar.extui v13357
  let v13359 : BitVec 32 := Scalar.subi v13356 v13358
  let c1_i32_6822 : BitVec 32 := 1#32
  let c0_i32_6825 : BitVec 32 := 0#32
  let v13360 : BitVec 1 := Scalar.cmpi .sgt c1_i32_6822 c0_i32_6825
  let v13361 : BitVec 32 := Scalar.extui v13360
  let c0_i32_6826 : BitVec 32 := 0#32
  let v13362 : BitVec 1 := Scalar.cmpi .slt c1_i32_6822 c0_i32_6826
  let v13363 : BitVec 32 := Scalar.extui v13362
  let v13364 : BitVec 32 := Scalar.subi v13361 v13363
  let v13365 : BitVec 1 := Scalar.cmpi .ne v13359 v13364
  let v13366 : BitVec 32 := Scalar.remsi v13351 c1_i32_6822
  let c0_i32_6827 : BitVec 32 := 0#32
  let v13367 : BitVec 1 := Scalar.cmpi .ne v13366 c0_i32_6827
  let v13368 : BitVec 1 := Scalar.andi v13365 v13367
  let v13354 : BitVec 32 := Scalar.divsi v13351 c1_i32_6822
  let c1_i32_6828 : BitVec 32 := 1#32
  let v13369 : BitVec 32 := Scalar.subi v13354 c1_i32_6828
  let v13370 : BitVec 32 := Scalar.select v13368 v13369 v13354
  let c128_i32_6839 : BitVec 32 := 128#32
  let v13385 : BitVec 32 := Scalar.muli v13370 c128_i32_6839
  let c0_i32_6838 : BitVec 32 := 0#32
  let c0_i32_6837 : BitVec 32 := 0#32
  let c1_i32_6829 : BitVec 32 := 1#32
  let c0_i32_6830 : BitVec 32 := 0#32
  let v13371 : BitVec 1 := Scalar.cmpi .eq c1_i32_6829 c0_i32_6830
  let c1_i32_6831 : BitVec 32 := 1#32
  let v13372 : BitVec 32 := Scalar.select v13371 c1_i32_6831 c1_i32_6829
  let v13373 : BitVec 32 := Scalar.remsi v13351 v13372
  let c0_i32_6833 : BitVec 32 := 0#32
  let v13375 : BitVec 1 := Scalar.cmpi .slt v13373 c0_i32_6833
  let c0_i32_6834 : BitVec 32 := 0#32
  let v13376 : BitVec 1 := Scalar.cmpi .slt v13372 c0_i32_6834
  let v13377 : BitVec 1 := Scalar.xori v13375 v13376
  let c0_i32_6832 : BitVec 32 := 0#32
  let v13374 : BitVec 1 := Scalar.cmpi .ne v13373 c0_i32_6832
  let v13378 : BitVec 1 := Scalar.andi v13377 v13374
  let v13379 : BitVec 32 := Scalar.addi v13373 v13372
  let v13380 : BitVec 32 := Scalar.select v13378 v13379 v13373
  let c128_i32_6835 : BitVec 32 := 128#32
  let v13381 : BitVec 32 := Scalar.muli v13380 c128_i32_6835
  let c64_i32_6836 : BitVec 32 := 64#32
  let v13382 : BitVec 32 := Scalar.subi v13381 c64_i32_6836
  let v13383 : BitVec 32 := Scalar.maxsi c0_i32_6837 v13382
  let v13384 : BitVec 32 := Scalar.minsi c0_i32_6838 v13383
  let v13386 : BitVec 32 := Scalar.addi v13385 v13384
  let v13387 : BitVec 32 := v13386
  let c0_i32_6868 : BitVec 32 := 0#32
  let v13455 : BitVec 1 := Scalar.cmpi .sgt v13387 c0_i32_6868
  let v13456 : BitVec 32 := Scalar.extui v13455
  let c0_i32_6869 : BitVec 32 := 0#32
  let v13457 : BitVec 1 := Scalar.cmpi .slt v13387 c0_i32_6869
  let v13458 : BitVec 32 := Scalar.extui v13457
  let v13459 : BitVec 32 := Scalar.subi v13456 v13458
  let c2_i32_6867 : BitVec 32 := 2#32
  let c0_i32_6870 : BitVec 32 := 0#32
  let v13460 : BitVec 1 := Scalar.cmpi .sgt c2_i32_6867 c0_i32_6870
  let v13461 : BitVec 32 := Scalar.extui v13460
  let c0_i32_6871 : BitVec 32 := 0#32
  let v13462 : BitVec 1 := Scalar.cmpi .slt c2_i32_6867 c0_i32_6871
  let v13463 : BitVec 32 := Scalar.extui v13462
  let v13464 : BitVec 32 := Scalar.subi v13461 v13463
  let v13465 : BitVec 1 := Scalar.cmpi .ne v13459 v13464
  let v13466 : BitVec 32 := Scalar.remsi v13387 c2_i32_6867
  let c0_i32_6872 : BitVec 32 := 0#32
  let v13467 : BitVec 1 := Scalar.cmpi .ne v13466 c0_i32_6872
  let v13468 : BitVec 1 := Scalar.andi v13465 v13467
  let v13454 : BitVec 32 := Scalar.divsi v13387 c2_i32_6867
  let c1_i32_6873 : BitVec 32 := 1#32
  let v13469 : BitVec 32 := Scalar.subi v13454 c1_i32_6873
  let v13470 : BitVec 32 := Scalar.select v13468 v13469 v13454
  v13470
def k0_mult543 : BitVec 32 :=
  let c2_i32_5725 : BitVec 32 := 2#32
  let c0_i32_5724 : BitVec 32 := 0#32
  let v11293 : BitVec 32 := Scalar.muli c2_i32_5725 c0_i32_5724
  let c3_i32_6752 : BitVec 32 := 3#32
  let v13212 : BitVec 32 := Scalar.addi v11293 c3_i32_6752
  let c4_i32_6885 : BitVec 32 := 4#32
  let v13487 : BitVec 32 := Scalar.muli v13212 c4_i32_6885
  let c2_i32_6886 : BitVec 32 := 2#32
  let v13488 : BitVec 32 := Scalar.addi v13487 c2_i32_6886
  let c128_i32_6887 : BitVec 32 := 128#32
  let v13489 : BitVec 32 := Scalar.muli v13488 c128_i32_6887
  v13489
def k0_mult544 : BitVec 32 :=
  let c2_i32_5725 : BitVec 32 := 2#32
  let c0_i32_5724 : BitVec 32 := 0#32
  let v11293 : BitVec 32 := Scalar.muli c2_i32_5725 c0_i32_5724
  let c3_i32_6752 : BitVec 32 := 3#32
  let v13212 : BitVec 32 := Scalar.addi v11293 c3_i32_6752
  let c4_i32_6885 : BitVec 32 := 4#32
  let v13487 : BitVec 32 := Scalar.muli v13212 c4_i32_6885
  let c2_i32_6886 : BitVec 32 := 2#32
  let v13488 : BitVec 32 := Scalar.addi v13487 c2_i32_6886
  let c0_i32_6889 : BitVec 32 := 0#32
  let v13492 : BitVec 1 := Scalar.cmpi .sgt v13488 c0_i32_6889
  let v13493 : BitVec 32 := Scalar.extui v13492
  let c0_i32_6890 : BitVec 32 := 0#32
  let v13494 : BitVec 1 := Scalar.cmpi .slt v13488 c0_i32_6890
  let v13495 : BitVec 32 := Scalar.extui v13494
  let v13496 : BitVec 32 := Scalar.subi v13493 v13495
  let c1_i32_6888 : BitVec 32 := 1#32
  let c0_i32_6891 : BitVec 32 := 0#32
  let v13497 : BitVec 1 := Scalar.cmpi .sgt c1_i32_6888 c0_i32_6891
  let v13498 : BitVec 32 := Scalar.extui v13497
  let c0_i32_6892 : BitVec 32 := 0#32
  let v13499 : BitVec 1 := Scalar.cmpi .slt c1_i32_6888 c0_i32_6892
  let v13500 : BitVec 32 := Scalar.extui v13499
  let v13501 : BitVec 32 := Scalar.subi v13498 v13500
  let v13502 : BitVec 1 := Scalar.cmpi .ne v13496 v13501
  let v13503 : BitVec 32 := Scalar.remsi v13488 c1_i32_6888
  let c0_i32_6893 : BitVec 32 := 0#32
  let v13504 : BitVec 1 := Scalar.cmpi .ne v13503 c0_i32_6893
  let v13505 : BitVec 1 := Scalar.andi v13502 v13504
  let v13491 : BitVec 32 := Scalar.divsi v13488 c1_i32_6888
  let c1_i32_6894 : BitVec 32 := 1#32
  let v13506 : BitVec 32 := Scalar.subi v13491 c1_i32_6894
  let v13507 : BitVec 32 := Scalar.select v13505 v13506 v13491
  let c128_i32_6905 : BitVec 32 := 128#32
  let v13522 : BitVec 32 := Scalar.muli v13507 c128_i32_6905
  let c0_i32_6904 : BitVec 32 := 0#32
  let c0_i32_6903 : BitVec 32 := 0#32
  let c1_i32_6895 : BitVec 32 := 1#32
  let c0_i32_6896 : BitVec 32 := 0#32
  let v13508 : BitVec 1 := Scalar.cmpi .eq c1_i32_6895 c0_i32_6896
  let c1_i32_6897 : BitVec 32 := 1#32
  let v13509 : BitVec 32 := Scalar.select v13508 c1_i32_6897 c1_i32_6895
  let v13510 : BitVec 32 := Scalar.remsi v13488 v13509
  let c0_i32_6899 : BitVec 32 := 0#32
  let v13512 : BitVec 1 := Scalar.cmpi .slt v13510 c0_i32_6899
  let c0_i32_6900 : BitVec 32 := 0#32
  let v13513 : BitVec 1 := Scalar.cmpi .slt v13509 c0_i32_6900
  let v13514 : BitVec 1 := Scalar.xori v13512 v13513
  let c0_i32_6898 : BitVec 32 := 0#32
  let v13511 : BitVec 1 := Scalar.cmpi .ne v13510 c0_i32_6898
  let v13515 : BitVec 1 := Scalar.andi v13514 v13511
  let v13516 : BitVec 32 := Scalar.addi v13510 v13509
  let v13517 : BitVec 32 := Scalar.select v13515 v13516 v13510
  let c128_i32_6901 : BitVec 32 := 128#32
  let v13518 : BitVec 32 := Scalar.muli v13517 c128_i32_6901
  let c64_i32_6902 : BitVec 32 := 64#32
  let v13519 : BitVec 32 := Scalar.subi v13518 c64_i32_6902
  let v13520 : BitVec 32 := Scalar.maxsi c0_i32_6903 v13519
  let v13521 : BitVec 32 := Scalar.minsi c0_i32_6904 v13520
  let v13523 : BitVec 32 := Scalar.addi v13522 v13521
  v13523
def k0_mult545 : BitVec 32 :=
  let c2_i32_5725 : BitVec 32 := 2#32
  let c0_i32_5724 : BitVec 32 := 0#32
  let v11293 : BitVec 32 := Scalar.muli c2_i32_5725 c0_i32_5724
  let c3_i32_6752 : BitVec 32 := 3#32
  let v13212 : BitVec 32 := Scalar.addi v11293 c3_i32_6752
  let c4_i32_6885 : BitVec 32 := 4#32
  let v13487 : BitVec 32 := Scalar.muli v13212 c4_i32_6885
  let c2_i32_6886 : BitVec 32 := 2#32
  let v13488 : BitVec 32 := Scalar.addi v13487 c2_i32_6886
  let c128_i32_6887 : BitVec 32 := 128#32
  let v13489 : BitVec 32 := Scalar.muli v13488 c128_i32_6887
  let v13490 : BitVec 32 := v13489
  let c0_i32_6916 : BitVec 32 := 0#32
  let v13547 : BitVec 1 := Scalar.cmpi .sgt v13490 c0_i32_6916
  let v13548 : BitVec 32 := Scalar.extui v13547
  let c0_i32_6917 : BitVec 32 := 0#32
  let v13549 : BitVec 1 := Scalar.cmpi .slt v13490 c0_i32_6917
  let v13550 : BitVec 32 := Scalar.extui v13549
  let v13551 : BitVec 32 := Scalar.subi v13548 v13550
  let c2_i32_6915 : BitVec 32 := 2#32
  let c0_i32_6918 : BitVec 32 := 0#32
  let v13552 : BitVec 1 := Scalar.cmpi .sgt c2_i32_6915 c0_i32_6918
  let v13553 : BitVec 32 := Scalar.extui v13552
  let c0_i32_6919 : BitVec 32 := 0#32
  let v13554 : BitVec 1 := Scalar.cmpi .slt c2_i32_6915 c0_i32_6919
  let v13555 : BitVec 32 := Scalar.extui v13554
  let v13556 : BitVec 32 := Scalar.subi v13553 v13555
  let v13557 : BitVec 1 := Scalar.cmpi .ne v13551 v13556
  let v13558 : BitVec 32 := Scalar.remsi v13490 c2_i32_6915
  let c0_i32_6920 : BitVec 32 := 0#32
  let v13559 : BitVec 1 := Scalar.cmpi .ne v13558 c0_i32_6920
  let v13560 : BitVec 1 := Scalar.andi v13557 v13559
  let v13546 : BitVec 32 := Scalar.divsi v13490 c2_i32_6915
  let c1_i32_6921 : BitVec 32 := 1#32
  let v13561 : BitVec 32 := Scalar.subi v13546 c1_i32_6921
  let v13562 : BitVec 32 := Scalar.select v13560 v13561 v13546
  v13562
def k0_mult546 : BitVec 32 :=
  let c2_i32_5725 : BitVec 32 := 2#32
  let c0_i32_5724 : BitVec 32 := 0#32
  let v11293 : BitVec 32 := Scalar.muli c2_i32_5725 c0_i32_5724
  let c3_i32_6752 : BitVec 32 := 3#32
  let v13212 : BitVec 32 := Scalar.addi v11293 c3_i32_6752
  let c4_i32_6885 : BitVec 32 := 4#32
  let v13487 : BitVec 32 := Scalar.muli v13212 c4_i32_6885
  let c2_i32_6886 : BitVec 32 := 2#32
  let v13488 : BitVec 32 := Scalar.addi v13487 c2_i32_6886
  let c128_i32_6887 : BitVec 32 := 128#32
  let v13489 : BitVec 32 := Scalar.muli v13488 c128_i32_6887
  let v13490 : BitVec 32 := v13489
  let c0_i32_6925 : BitVec 32 := 0#32
  let v13569 : BitVec 1 := Scalar.cmpi .sgt v13490 c0_i32_6925
  let v13570 : BitVec 32 := Scalar.extui v13569
  let c0_i32_6926 : BitVec 32 := 0#32
  let v13571 : BitVec 1 := Scalar.cmpi .slt v13490 c0_i32_6926
  let v13572 : BitVec 32 := Scalar.extui v13571
  let v13573 : BitVec 32 := Scalar.subi v13570 v13572
  let c2_i32_6924 : BitVec 32 := 2#32
  let c0_i32_6927 : BitVec 32 := 0#32
  let v13574 : BitVec 1 := Scalar.cmpi .sgt c2_i32_6924 c0_i32_6927
  let v13575 : BitVec 32 := Scalar.extui v13574
  let c0_i32_6928 : BitVec 32 := 0#32
  let v13576 : BitVec 1 := Scalar.cmpi .slt c2_i32_6924 c0_i32_6928
  let v13577 : BitVec 32 := Scalar.extui v13576
  let v13578 : BitVec 32 := Scalar.subi v13575 v13577
  let v13579 : BitVec 1 := Scalar.cmpi .ne v13573 v13578
  let v13580 : BitVec 32 := Scalar.remsi v13490 c2_i32_6924
  let c0_i32_6929 : BitVec 32 := 0#32
  let v13581 : BitVec 1 := Scalar.cmpi .ne v13580 c0_i32_6929
  let v13582 : BitVec 1 := Scalar.andi v13579 v13581
  let v13568 : BitVec 32 := Scalar.divsi v13490 c2_i32_6924
  let c1_i32_6930 : BitVec 32 := 1#32
  let v13583 : BitVec 32 := Scalar.subi v13568 c1_i32_6930
  let v13584 : BitVec 32 := Scalar.select v13582 v13583 v13568
  v13584
def k0_mult547 : BitVec 32 :=
  let c2_i32_5725 : BitVec 32 := 2#32
  let c0_i32_5724 : BitVec 32 := 0#32
  let v11293 : BitVec 32 := Scalar.muli c2_i32_5725 c0_i32_5724
  let c3_i32_6752 : BitVec 32 := 3#32
  let v13212 : BitVec 32 := Scalar.addi v11293 c3_i32_6752
  let c4_i32_6885 : BitVec 32 := 4#32
  let v13487 : BitVec 32 := Scalar.muli v13212 c4_i32_6885
  let c2_i32_6886 : BitVec 32 := 2#32
  let v13488 : BitVec 32 := Scalar.addi v13487 c2_i32_6886
  let c0_i32_6889 : BitVec 32 := 0#32
  let v13492 : BitVec 1 := Scalar.cmpi .sgt v13488 c0_i32_6889
  let v13493 : BitVec 32 := Scalar.extui v13492
  let c0_i32_6890 : BitVec 32 := 0#32
  let v13494 : BitVec 1 := Scalar.cmpi .slt v13488 c0_i32_6890
  let v13495 : BitVec 32 := Scalar.extui v13494
  let v13496 : BitVec 32 := Scalar.subi v13493 v13495
  let c1_i32_6888 : BitVec 32 := 1#32
  let c0_i32_6891 : BitVec 32 := 0#32
  let v13497 : BitVec 1 := Scalar.cmpi .sgt c1_i32_6888 c0_i32_6891
  let v13498 : BitVec 32 := Scalar.extui v13497
  let c0_i32_6892 : BitVec 32 := 0#32
  let v13499 : BitVec 1 := Scalar.cmpi .slt c1_i32_6888 c0_i32_6892
  let v13500 : BitVec 32 := Scalar.extui v13499
  let v13501 : BitVec 32 := Scalar.subi v13498 v13500
  let v13502 : BitVec 1 := Scalar.cmpi .ne v13496 v13501
  let v13503 : BitVec 32 := Scalar.remsi v13488 c1_i32_6888
  let c0_i32_6893 : BitVec 32 := 0#32
  let v13504 : BitVec 1 := Scalar.cmpi .ne v13503 c0_i32_6893
  let v13505 : BitVec 1 := Scalar.andi v13502 v13504
  let v13491 : BitVec 32 := Scalar.divsi v13488 c1_i32_6888
  let c1_i32_6894 : BitVec 32 := 1#32
  let v13506 : BitVec 32 := Scalar.subi v13491 c1_i32_6894
  let v13507 : BitVec 32 := Scalar.select v13505 v13506 v13491
  let c128_i32_6905 : BitVec 32 := 128#32
  let v13522 : BitVec 32 := Scalar.muli v13507 c128_i32_6905
  let c0_i32_6904 : BitVec 32 := 0#32
  let c0_i32_6903 : BitVec 32 := 0#32
  let c1_i32_6895 : BitVec 32 := 1#32
  let c0_i32_6896 : BitVec 32 := 0#32
  let v13508 : BitVec 1 := Scalar.cmpi .eq c1_i32_6895 c0_i32_6896
  let c1_i32_6897 : BitVec 32 := 1#32
  let v13509 : BitVec 32 := Scalar.select v13508 c1_i32_6897 c1_i32_6895
  let v13510 : BitVec 32 := Scalar.remsi v13488 v13509
  let c0_i32_6899 : BitVec 32 := 0#32
  let v13512 : BitVec 1 := Scalar.cmpi .slt v13510 c0_i32_6899
  let c0_i32_6900 : BitVec 32 := 0#32
  let v13513 : BitVec 1 := Scalar.cmpi .slt v13509 c0_i32_6900
  let v13514 : BitVec 1 := Scalar.xori v13512 v13513
  let c0_i32_6898 : BitVec 32 := 0#32
  let v13511 : BitVec 1 := Scalar.cmpi .ne v13510 c0_i32_6898
  let v13515 : BitVec 1 := Scalar.andi v13514 v13511
  let v13516 : BitVec 32 := Scalar.addi v13510 v13509
  let v13517 : BitVec 32 := Scalar.select v13515 v13516 v13510
  let c128_i32_6901 : BitVec 32 := 128#32
  let v13518 : BitVec 32 := Scalar.muli v13517 c128_i32_6901
  let c64_i32_6902 : BitVec 32 := 64#32
  let v13519 : BitVec 32 := Scalar.subi v13518 c64_i32_6902
  let v13520 : BitVec 32 := Scalar.maxsi c0_i32_6903 v13519
  let v13521 : BitVec 32 := Scalar.minsi c0_i32_6904 v13520
  let v13523 : BitVec 32 := Scalar.addi v13522 v13521
  let v13524 : BitVec 32 := v13523
  let c0_i32_6934 : BitVec 32 := 0#32
  let v13592 : BitVec 1 := Scalar.cmpi .sgt v13524 c0_i32_6934
  let v13593 : BitVec 32 := Scalar.extui v13592
  let c0_i32_6935 : BitVec 32 := 0#32
  let v13594 : BitVec 1 := Scalar.cmpi .slt v13524 c0_i32_6935
  let v13595 : BitVec 32 := Scalar.extui v13594
  let v13596 : BitVec 32 := Scalar.subi v13593 v13595
  let c2_i32_6933 : BitVec 32 := 2#32
  let c0_i32_6936 : BitVec 32 := 0#32
  let v13597 : BitVec 1 := Scalar.cmpi .sgt c2_i32_6933 c0_i32_6936
  let v13598 : BitVec 32 := Scalar.extui v13597
  let c0_i32_6937 : BitVec 32 := 0#32
  let v13599 : BitVec 1 := Scalar.cmpi .slt c2_i32_6933 c0_i32_6937
  let v13600 : BitVec 32 := Scalar.extui v13599
  let v13601 : BitVec 32 := Scalar.subi v13598 v13600
  let v13602 : BitVec 1 := Scalar.cmpi .ne v13596 v13601
  let v13603 : BitVec 32 := Scalar.remsi v13524 c2_i32_6933
  let c0_i32_6938 : BitVec 32 := 0#32
  let v13604 : BitVec 1 := Scalar.cmpi .ne v13603 c0_i32_6938
  let v13605 : BitVec 1 := Scalar.andi v13602 v13604
  let v13591 : BitVec 32 := Scalar.divsi v13524 c2_i32_6933
  let c1_i32_6939 : BitVec 32 := 1#32
  let v13606 : BitVec 32 := Scalar.subi v13591 c1_i32_6939
  let v13607 : BitVec 32 := Scalar.select v13605 v13606 v13591
  v13607
def k0_mult548 : BitVec 32 :=
  let c2_i32_5725 : BitVec 32 := 2#32
  let c0_i32_5724 : BitVec 32 := 0#32
  let v11293 : BitVec 32 := Scalar.muli c2_i32_5725 c0_i32_5724
  let c3_i32_6752 : BitVec 32 := 3#32
  let v13212 : BitVec 32 := Scalar.addi v11293 c3_i32_6752
  let c4_i32_6951 : BitVec 32 := 4#32
  let v13624 : BitVec 32 := Scalar.muli v13212 c4_i32_6951
  let c3_i32_6952 : BitVec 32 := 3#32
  let v13625 : BitVec 32 := Scalar.addi v13624 c3_i32_6952
  let c128_i32_6953 : BitVec 32 := 128#32
  let v13626 : BitVec 32 := Scalar.muli v13625 c128_i32_6953
  v13626
def k0_mult549 : BitVec 32 :=
  let c2_i32_5725 : BitVec 32 := 2#32
  let c0_i32_5724 : BitVec 32 := 0#32
  let v11293 : BitVec 32 := Scalar.muli c2_i32_5725 c0_i32_5724
  let c3_i32_6752 : BitVec 32 := 3#32
  let v13212 : BitVec 32 := Scalar.addi v11293 c3_i32_6752
  let c4_i32_6951 : BitVec 32 := 4#32
  let v13624 : BitVec 32 := Scalar.muli v13212 c4_i32_6951
  let c3_i32_6952 : BitVec 32 := 3#32
  let v13625 : BitVec 32 := Scalar.addi v13624 c3_i32_6952
  let c0_i32_6955 : BitVec 32 := 0#32
  let v13629 : BitVec 1 := Scalar.cmpi .sgt v13625 c0_i32_6955
  let v13630 : BitVec 32 := Scalar.extui v13629
  let c0_i32_6956 : BitVec 32 := 0#32
  let v13631 : BitVec 1 := Scalar.cmpi .slt v13625 c0_i32_6956
  let v13632 : BitVec 32 := Scalar.extui v13631
  let v13633 : BitVec 32 := Scalar.subi v13630 v13632
  let c1_i32_6954 : BitVec 32 := 1#32
  let c0_i32_6957 : BitVec 32 := 0#32
  let v13634 : BitVec 1 := Scalar.cmpi .sgt c1_i32_6954 c0_i32_6957
  let v13635 : BitVec 32 := Scalar.extui v13634
  let c0_i32_6958 : BitVec 32 := 0#32
  let v13636 : BitVec 1 := Scalar.cmpi .slt c1_i32_6954 c0_i32_6958
  let v13637 : BitVec 32 := Scalar.extui v13636
  let v13638 : BitVec 32 := Scalar.subi v13635 v13637
  let v13639 : BitVec 1 := Scalar.cmpi .ne v13633 v13638
  let v13640 : BitVec 32 := Scalar.remsi v13625 c1_i32_6954
  let c0_i32_6959 : BitVec 32 := 0#32
  let v13641 : BitVec 1 := Scalar.cmpi .ne v13640 c0_i32_6959
  let v13642 : BitVec 1 := Scalar.andi v13639 v13641
  let v13628 : BitVec 32 := Scalar.divsi v13625 c1_i32_6954
  let c1_i32_6960 : BitVec 32 := 1#32
  let v13643 : BitVec 32 := Scalar.subi v13628 c1_i32_6960
  let v13644 : BitVec 32 := Scalar.select v13642 v13643 v13628
  let c128_i32_6971 : BitVec 32 := 128#32
  let v13659 : BitVec 32 := Scalar.muli v13644 c128_i32_6971
  let c0_i32_6970 : BitVec 32 := 0#32
  let c0_i32_6969 : BitVec 32 := 0#32
  let c1_i32_6961 : BitVec 32 := 1#32
  let c0_i32_6962 : BitVec 32 := 0#32
  let v13645 : BitVec 1 := Scalar.cmpi .eq c1_i32_6961 c0_i32_6962
  let c1_i32_6963 : BitVec 32 := 1#32
  let v13646 : BitVec 32 := Scalar.select v13645 c1_i32_6963 c1_i32_6961
  let v13647 : BitVec 32 := Scalar.remsi v13625 v13646
  let c0_i32_6965 : BitVec 32 := 0#32
  let v13649 : BitVec 1 := Scalar.cmpi .slt v13647 c0_i32_6965
  let c0_i32_6966 : BitVec 32 := 0#32
  let v13650 : BitVec 1 := Scalar.cmpi .slt v13646 c0_i32_6966
  let v13651 : BitVec 1 := Scalar.xori v13649 v13650
  let c0_i32_6964 : BitVec 32 := 0#32
  let v13648 : BitVec 1 := Scalar.cmpi .ne v13647 c0_i32_6964
  let v13652 : BitVec 1 := Scalar.andi v13651 v13648
  let v13653 : BitVec 32 := Scalar.addi v13647 v13646
  let v13654 : BitVec 32 := Scalar.select v13652 v13653 v13647
  let c128_i32_6967 : BitVec 32 := 128#32
  let v13655 : BitVec 32 := Scalar.muli v13654 c128_i32_6967
  let c64_i32_6968 : BitVec 32 := 64#32
  let v13656 : BitVec 32 := Scalar.subi v13655 c64_i32_6968
  let v13657 : BitVec 32 := Scalar.maxsi c0_i32_6969 v13656
  let v13658 : BitVec 32 := Scalar.minsi c0_i32_6970 v13657
  let v13660 : BitVec 32 := Scalar.addi v13659 v13658
  v13660
def k0_mult550 : BitVec 32 :=
  let c2_i32_5725 : BitVec 32 := 2#32
  let c0_i32_5724 : BitVec 32 := 0#32
  let v11293 : BitVec 32 := Scalar.muli c2_i32_5725 c0_i32_5724
  let c3_i32_6752 : BitVec 32 := 3#32
  let v13212 : BitVec 32 := Scalar.addi v11293 c3_i32_6752
  let c4_i32_6951 : BitVec 32 := 4#32
  let v13624 : BitVec 32 := Scalar.muli v13212 c4_i32_6951
  let c3_i32_6952 : BitVec 32 := 3#32
  let v13625 : BitVec 32 := Scalar.addi v13624 c3_i32_6952
  let c128_i32_6953 : BitVec 32 := 128#32
  let v13626 : BitVec 32 := Scalar.muli v13625 c128_i32_6953
  let v13627 : BitVec 32 := v13626
  let c0_i32_6982 : BitVec 32 := 0#32
  let v13684 : BitVec 1 := Scalar.cmpi .sgt v13627 c0_i32_6982
  let v13685 : BitVec 32 := Scalar.extui v13684
  let c0_i32_6983 : BitVec 32 := 0#32
  let v13686 : BitVec 1 := Scalar.cmpi .slt v13627 c0_i32_6983
  let v13687 : BitVec 32 := Scalar.extui v13686
  let v13688 : BitVec 32 := Scalar.subi v13685 v13687
  let c2_i32_6981 : BitVec 32 := 2#32
  let c0_i32_6984 : BitVec 32 := 0#32
  let v13689 : BitVec 1 := Scalar.cmpi .sgt c2_i32_6981 c0_i32_6984
  let v13690 : BitVec 32 := Scalar.extui v13689
  let c0_i32_6985 : BitVec 32 := 0#32
  let v13691 : BitVec 1 := Scalar.cmpi .slt c2_i32_6981 c0_i32_6985
  let v13692 : BitVec 32 := Scalar.extui v13691
  let v13693 : BitVec 32 := Scalar.subi v13690 v13692
  let v13694 : BitVec 1 := Scalar.cmpi .ne v13688 v13693
  let v13695 : BitVec 32 := Scalar.remsi v13627 c2_i32_6981
  let c0_i32_6986 : BitVec 32 := 0#32
  let v13696 : BitVec 1 := Scalar.cmpi .ne v13695 c0_i32_6986
  let v13697 : BitVec 1 := Scalar.andi v13694 v13696
  let v13683 : BitVec 32 := Scalar.divsi v13627 c2_i32_6981
  let c1_i32_6987 : BitVec 32 := 1#32
  let v13698 : BitVec 32 := Scalar.subi v13683 c1_i32_6987
  let v13699 : BitVec 32 := Scalar.select v13697 v13698 v13683
  v13699
def k0_mult551 : BitVec 32 :=
  let c2_i32_5725 : BitVec 32 := 2#32
  let c0_i32_5724 : BitVec 32 := 0#32
  let v11293 : BitVec 32 := Scalar.muli c2_i32_5725 c0_i32_5724
  let c3_i32_6752 : BitVec 32 := 3#32
  let v13212 : BitVec 32 := Scalar.addi v11293 c3_i32_6752
  let c4_i32_6951 : BitVec 32 := 4#32
  let v13624 : BitVec 32 := Scalar.muli v13212 c4_i32_6951
  let c3_i32_6952 : BitVec 32 := 3#32
  let v13625 : BitVec 32 := Scalar.addi v13624 c3_i32_6952
  let c128_i32_6953 : BitVec 32 := 128#32
  let v13626 : BitVec 32 := Scalar.muli v13625 c128_i32_6953
  let v13627 : BitVec 32 := v13626
  let c0_i32_6991 : BitVec 32 := 0#32
  let v13706 : BitVec 1 := Scalar.cmpi .sgt v13627 c0_i32_6991
  let v13707 : BitVec 32 := Scalar.extui v13706
  let c0_i32_6992 : BitVec 32 := 0#32
  let v13708 : BitVec 1 := Scalar.cmpi .slt v13627 c0_i32_6992
  let v13709 : BitVec 32 := Scalar.extui v13708
  let v13710 : BitVec 32 := Scalar.subi v13707 v13709
  let c2_i32_6990 : BitVec 32 := 2#32
  let c0_i32_6993 : BitVec 32 := 0#32
  let v13711 : BitVec 1 := Scalar.cmpi .sgt c2_i32_6990 c0_i32_6993
  let v13712 : BitVec 32 := Scalar.extui v13711
  let c0_i32_6994 : BitVec 32 := 0#32
  let v13713 : BitVec 1 := Scalar.cmpi .slt c2_i32_6990 c0_i32_6994
  let v13714 : BitVec 32 := Scalar.extui v13713
  let v13715 : BitVec 32 := Scalar.subi v13712 v13714
  let v13716 : BitVec 1 := Scalar.cmpi .ne v13710 v13715
  let v13717 : BitVec 32 := Scalar.remsi v13627 c2_i32_6990
  let c0_i32_6995 : BitVec 32 := 0#32
  let v13718 : BitVec 1 := Scalar.cmpi .ne v13717 c0_i32_6995
  let v13719 : BitVec 1 := Scalar.andi v13716 v13718
  let v13705 : BitVec 32 := Scalar.divsi v13627 c2_i32_6990
  let c1_i32_6996 : BitVec 32 := 1#32
  let v13720 : BitVec 32 := Scalar.subi v13705 c1_i32_6996
  let v13721 : BitVec 32 := Scalar.select v13719 v13720 v13705
  v13721
def k0_mult552 : BitVec 32 :=
  let c2_i32_5725 : BitVec 32 := 2#32
  let c0_i32_5724 : BitVec 32 := 0#32
  let v11293 : BitVec 32 := Scalar.muli c2_i32_5725 c0_i32_5724
  let c3_i32_6752 : BitVec 32 := 3#32
  let v13212 : BitVec 32 := Scalar.addi v11293 c3_i32_6752
  let c4_i32_6951 : BitVec 32 := 4#32
  let v13624 : BitVec 32 := Scalar.muli v13212 c4_i32_6951
  let c3_i32_6952 : BitVec 32 := 3#32
  let v13625 : BitVec 32 := Scalar.addi v13624 c3_i32_6952
  let c0_i32_6955 : BitVec 32 := 0#32
  let v13629 : BitVec 1 := Scalar.cmpi .sgt v13625 c0_i32_6955
  let v13630 : BitVec 32 := Scalar.extui v13629
  let c0_i32_6956 : BitVec 32 := 0#32
  let v13631 : BitVec 1 := Scalar.cmpi .slt v13625 c0_i32_6956
  let v13632 : BitVec 32 := Scalar.extui v13631
  let v13633 : BitVec 32 := Scalar.subi v13630 v13632
  let c1_i32_6954 : BitVec 32 := 1#32
  let c0_i32_6957 : BitVec 32 := 0#32
  let v13634 : BitVec 1 := Scalar.cmpi .sgt c1_i32_6954 c0_i32_6957
  let v13635 : BitVec 32 := Scalar.extui v13634
  let c0_i32_6958 : BitVec 32 := 0#32
  let v13636 : BitVec 1 := Scalar.cmpi .slt c1_i32_6954 c0_i32_6958
  let v13637 : BitVec 32 := Scalar.extui v13636
  let v13638 : BitVec 32 := Scalar.subi v13635 v13637
  let v13639 : BitVec 1 := Scalar.cmpi .ne v13633 v13638
  let v13640 : BitVec 32 := Scalar.remsi v13625 c1_i32_6954
  let c0_i32_6959 : BitVec 32 := 0#32
  let v13641 : BitVec 1 := Scalar.cmpi .ne v13640 c0_i32_6959
  let v13642 : BitVec 1 := Scalar.andi v13639 v13641
  let v13628 : BitVec 32 := Scalar.divsi v13625 c1_i32_6954
  let c1_i32_6960 : BitVec 32 := 1#32
  let v13643 : BitVec 32 := Scalar.subi v13628 c1_i32_6960
  let v13644 : BitVec 32 := Scalar.select v13642 v13643 v13628
  let c128_i32_6971 : BitVec 32 := 128#32
  let v13659 : BitVec 32 := Scalar.muli v13644 c128_i32_6971
  let c0_i32_6970 : BitVec 32 := 0#32
  let c0_i32_6969 : BitVec 32 := 0#32
  let c1_i32_6961 : BitVec 32 := 1#32
  let c0_i32_6962 : BitVec 32 := 0#32
  let v13645 : BitVec 1 := Scalar.cmpi .eq c1_i32_6961 c0_i32_6962
  let c1_i32_6963 : BitVec 32 := 1#32
  let v13646 : BitVec 32 := Scalar.select v13645 c1_i32_6963 c1_i32_6961
  let v13647 : BitVec 32 := Scalar.remsi v13625 v13646
  let c0_i32_6965 : BitVec 32 := 0#32
  let v13649 : BitVec 1 := Scalar.cmpi .slt v13647 c0_i32_6965
  let c0_i32_6966 : BitVec 32 := 0#32
  let v13650 : BitVec 1 := Scalar.cmpi .slt v13646 c0_i32_6966
  let v13651 : BitVec 1 := Scalar.xori v13649 v13650
  let c0_i32_6964 : BitVec 32 := 0#32
  let v13648 : BitVec 1 := Scalar.cmpi .ne v13647 c0_i32_6964
  let v13652 : BitVec 1 := Scalar.andi v13651 v13648
  let v13653 : BitVec 32 := Scalar.addi v13647 v13646
  let v13654 : BitVec 32 := Scalar.select v13652 v13653 v13647
  let c128_i32_6967 : BitVec 32 := 128#32
  let v13655 : BitVec 32 := Scalar.muli v13654 c128_i32_6967
  let c64_i32_6968 : BitVec 32 := 64#32
  let v13656 : BitVec 32 := Scalar.subi v13655 c64_i32_6968
  let v13657 : BitVec 32 := Scalar.maxsi c0_i32_6969 v13656
  let v13658 : BitVec 32 := Scalar.minsi c0_i32_6970 v13657
  let v13660 : BitVec 32 := Scalar.addi v13659 v13658
  let v13661 : BitVec 32 := v13660
  let c0_i32_7000 : BitVec 32 := 0#32
  let v13729 : BitVec 1 := Scalar.cmpi .sgt v13661 c0_i32_7000
  let v13730 : BitVec 32 := Scalar.extui v13729
  let c0_i32_7001 : BitVec 32 := 0#32
  let v13731 : BitVec 1 := Scalar.cmpi .slt v13661 c0_i32_7001
  let v13732 : BitVec 32 := Scalar.extui v13731
  let v13733 : BitVec 32 := Scalar.subi v13730 v13732
  let c2_i32_6999 : BitVec 32 := 2#32
  let c0_i32_7002 : BitVec 32 := 0#32
  let v13734 : BitVec 1 := Scalar.cmpi .sgt c2_i32_6999 c0_i32_7002
  let v13735 : BitVec 32 := Scalar.extui v13734
  let c0_i32_7003 : BitVec 32 := 0#32
  let v13736 : BitVec 1 := Scalar.cmpi .slt c2_i32_6999 c0_i32_7003
  let v13737 : BitVec 32 := Scalar.extui v13736
  let v13738 : BitVec 32 := Scalar.subi v13735 v13737
  let v13739 : BitVec 1 := Scalar.cmpi .ne v13733 v13738
  let v13740 : BitVec 32 := Scalar.remsi v13661 c2_i32_6999
  let c0_i32_7004 : BitVec 32 := 0#32
  let v13741 : BitVec 1 := Scalar.cmpi .ne v13740 c0_i32_7004
  let v13742 : BitVec 1 := Scalar.andi v13739 v13741
  let v13728 : BitVec 32 := Scalar.divsi v13661 c2_i32_6999
  let c1_i32_7005 : BitVec 32 := 1#32
  let v13743 : BitVec 32 := Scalar.subi v13728 c1_i32_7005
  let v13744 : BitVec 32 := Scalar.select v13742 v13743 v13728
  v13744
def k0_mult553 : BitVec 32 :=
  let c1024_i32_7021 : BitVec 32 := 1024#32
  let c0_i32_7020 : BitVec 32 := 0#32
  let c0_i32_7019 : BitVec 32 := 0#32
  let c_m64_i32_7018 : BitVec 32 := 4294967232#32
  let v13761 : BitVec 32 := Scalar.maxsi c0_i32_7019 c_m64_i32_7018
  let v13762 : BitVec 32 := Scalar.minsi c0_i32_7020 v13761
  let v13763 : BitVec 32 := Scalar.addi c1024_i32_7021 v13762
  v13763
def k0_mult554 : BitVec 32 :=
  let c1024_i32_7021 : BitVec 32 := 1024#32
  let c0_i32_7020 : BitVec 32 := 0#32
  let c0_i32_7019 : BitVec 32 := 0#32
  let c_m64_i32_7018 : BitVec 32 := 4294967232#32
  let v13761 : BitVec 32 := Scalar.maxsi c0_i32_7019 c_m64_i32_7018
  let v13762 : BitVec 32 := Scalar.minsi c0_i32_7020 v13761
  let v13763 : BitVec 32 := Scalar.addi c1024_i32_7021 v13762
  let v13764 : BitVec 32 := v13763
  let c0_i32_7027 : BitVec 32 := 0#32
  let v13768 : BitVec 1 := Scalar.cmpi .sgt v13764 c0_i32_7027
  let v13769 : BitVec 32 := Scalar.extui v13768
  let c0_i32_7028 : BitVec 32 := 0#32
  let v13770 : BitVec 1 := Scalar.cmpi .slt v13764 c0_i32_7028
  let v13771 : BitVec 32 := Scalar.extui v13770
  let v13772 : BitVec 32 := Scalar.subi v13769 v13771
  let c2_i32_7026 : BitVec 32 := 2#32
  let c0_i32_7029 : BitVec 32 := 0#32
  let v13773 : BitVec 1 := Scalar.cmpi .sgt c2_i32_7026 c0_i32_7029
  let v13774 : BitVec 32 := Scalar.extui v13773
  let c0_i32_7030 : BitVec 32 := 0#32
  let v13775 : BitVec 1 := Scalar.cmpi .slt c2_i32_7026 c0_i32_7030
  let v13776 : BitVec 32 := Scalar.extui v13775
  let v13777 : BitVec 32 := Scalar.subi v13774 v13776
  let v13778 : BitVec 1 := Scalar.cmpi .ne v13772 v13777
  let v13779 : BitVec 32 := Scalar.remsi v13764 c2_i32_7026
  let c0_i32_7031 : BitVec 32 := 0#32
  let v13780 : BitVec 1 := Scalar.cmpi .ne v13779 c0_i32_7031
  let v13781 : BitVec 1 := Scalar.andi v13778 v13780
  let v13767 : BitVec 32 := Scalar.divsi v13764 c2_i32_7026
  let c1_i32_7032 : BitVec 32 := 1#32
  let v13782 : BitVec 32 := Scalar.subi v13767 c1_i32_7032
  let v13783 : BitVec 32 := Scalar.select v13781 v13782 v13767
  v13783
def k0_off66 (c1024_i32_7021 : BitVec 32) : Fin 3 → Nat :=
  let c3_7033 : Index := 3#32
  let c0_i32_7020 : BitVec 32 := 0#32
  let c0_i32_7019 : BitVec 32 := 0#32
  let c_m64_i32_7018 : BitVec 32 := 4294967232#32
  let v13761 : BitVec 32 := Scalar.maxsi c0_i32_7019 c_m64_i32_7018
  let v13762 : BitVec 32 := Scalar.minsi c0_i32_7020 v13761
  let v13763 : BitVec 32 := Scalar.addi c1024_i32_7021 v13762
  let v13764 : BitVec 32 := v13763
  let c0_i32_7027 : BitVec 32 := 0#32
  let v13768 : BitVec 1 := Scalar.cmpi .sgt v13764 c0_i32_7027
  let v13769 : BitVec 32 := Scalar.extui v13768
  let c0_i32_7028 : BitVec 32 := 0#32
  let v13770 : BitVec 1 := Scalar.cmpi .slt v13764 c0_i32_7028
  let v13771 : BitVec 32 := Scalar.extui v13770
  let v13772 : BitVec 32 := Scalar.subi v13769 v13771
  let c2_i32_7026 : BitVec 32 := 2#32
  let c0_i32_7029 : BitVec 32 := 0#32
  let v13773 : BitVec 1 := Scalar.cmpi .sgt c2_i32_7026 c0_i32_7029
  let v13774 : BitVec 32 := Scalar.extui v13773
  let c0_i32_7030 : BitVec 32 := 0#32
  let v13775 : BitVec 1 := Scalar.cmpi .slt c2_i32_7026 c0_i32_7030
  let v13776 : BitVec 32 := Scalar.extui v13775
  let v13777 : BitVec 32 := Scalar.subi v13774 v13776
  let v13778 : BitVec 1 := Scalar.cmpi .ne v13772 v13777
  let v13779 : BitVec 32 := Scalar.remsi v13764 c2_i32_7026
  let c0_i32_7031 : BitVec 32 := 0#32
  let v13780 : BitVec 1 := Scalar.cmpi .ne v13779 c0_i32_7031
  let v13781 : BitVec 1 := Scalar.andi v13778 v13780
  let v13767 : BitVec 32 := Scalar.divsi v13764 c2_i32_7026
  let c1_i32_7032 : BitVec 32 := 1#32
  let v13782 : BitVec 32 := Scalar.subi v13767 c1_i32_7032
  let v13783 : BitVec 32 := Scalar.select v13781 v13782 v13767
  let v13784 : BitVec 32 := v13783
  let v13785 : Index := Scalar.indexCast v13784
  let c0_7034 : Index := 0#32
  ![3, v13785.toNat, 0]
def k0_mult555 : BitVec 32 :=
  let c1024_i32_7021 : BitVec 32 := 1024#32
  let c0_i32_7020 : BitVec 32 := 0#32
  let c0_i32_7019 : BitVec 32 := 0#32
  let c_m64_i32_7018 : BitVec 32 := 4294967232#32
  let v13761 : BitVec 32 := Scalar.maxsi c0_i32_7019 c_m64_i32_7018
  let v13762 : BitVec 32 := Scalar.minsi c0_i32_7020 v13761
  let v13763 : BitVec 32 := Scalar.addi c1024_i32_7021 v13762
  let v13764 : BitVec 32 := v13763
  let c0_i32_7041 : BitVec 32 := 0#32
  let v13793 : BitVec 1 := Scalar.cmpi .sgt v13764 c0_i32_7041
  let v13794 : BitVec 32 := Scalar.extui v13793
  let c0_i32_7042 : BitVec 32 := 0#32
  let v13795 : BitVec 1 := Scalar.cmpi .slt v13764 c0_i32_7042
  let v13796 : BitVec 32 := Scalar.extui v13795
  let v13797 : BitVec 32 := Scalar.subi v13794 v13796
  let c2_i32_7040 : BitVec 32 := 2#32
  let c0_i32_7043 : BitVec 32 := 0#32
  let v13798 : BitVec 1 := Scalar.cmpi .sgt c2_i32_7040 c0_i32_7043
  let v13799 : BitVec 32 := Scalar.extui v13798
  let c0_i32_7044 : BitVec 32 := 0#32
  let v13800 : BitVec 1 := Scalar.cmpi .slt c2_i32_7040 c0_i32_7044
  let v13801 : BitVec 32 := Scalar.extui v13800
  let v13802 : BitVec 32 := Scalar.subi v13799 v13801
  let v13803 : BitVec 1 := Scalar.cmpi .ne v13797 v13802
  let v13804 : BitVec 32 := Scalar.remsi v13764 c2_i32_7040
  let c0_i32_7045 : BitVec 32 := 0#32
  let v13805 : BitVec 1 := Scalar.cmpi .ne v13804 c0_i32_7045
  let v13806 : BitVec 1 := Scalar.andi v13803 v13805
  let v13792 : BitVec 32 := Scalar.divsi v13764 c2_i32_7040
  let c1_i32_7046 : BitVec 32 := 1#32
  let v13807 : BitVec 32 := Scalar.subi v13792 c1_i32_7046
  let v13808 : BitVec 32 := Scalar.select v13806 v13807 v13792
  v13808
def k0_off67 (c1024_i32_7021 : BitVec 32) : Fin 3 → Nat :=
  let c4_7047 : Index := 4#32
  let c0_i32_7020 : BitVec 32 := 0#32
  let c0_i32_7019 : BitVec 32 := 0#32
  let c_m64_i32_7018 : BitVec 32 := 4294967232#32
  let v13761 : BitVec 32 := Scalar.maxsi c0_i32_7019 c_m64_i32_7018
  let v13762 : BitVec 32 := Scalar.minsi c0_i32_7020 v13761
  let v13763 : BitVec 32 := Scalar.addi c1024_i32_7021 v13762
  let v13764 : BitVec 32 := v13763
  let c0_i32_7041 : BitVec 32 := 0#32
  let v13793 : BitVec 1 := Scalar.cmpi .sgt v13764 c0_i32_7041
  let v13794 : BitVec 32 := Scalar.extui v13793
  let c0_i32_7042 : BitVec 32 := 0#32
  let v13795 : BitVec 1 := Scalar.cmpi .slt v13764 c0_i32_7042
  let v13796 : BitVec 32 := Scalar.extui v13795
  let v13797 : BitVec 32 := Scalar.subi v13794 v13796
  let c2_i32_7040 : BitVec 32 := 2#32
  let c0_i32_7043 : BitVec 32 := 0#32
  let v13798 : BitVec 1 := Scalar.cmpi .sgt c2_i32_7040 c0_i32_7043
  let v13799 : BitVec 32 := Scalar.extui v13798
  let c0_i32_7044 : BitVec 32 := 0#32
  let v13800 : BitVec 1 := Scalar.cmpi .slt c2_i32_7040 c0_i32_7044
  let v13801 : BitVec 32 := Scalar.extui v13800
  let v13802 : BitVec 32 := Scalar.subi v13799 v13801
  let v13803 : BitVec 1 := Scalar.cmpi .ne v13797 v13802
  let v13804 : BitVec 32 := Scalar.remsi v13764 c2_i32_7040
  let c0_i32_7045 : BitVec 32 := 0#32
  let v13805 : BitVec 1 := Scalar.cmpi .ne v13804 c0_i32_7045
  let v13806 : BitVec 1 := Scalar.andi v13803 v13805
  let v13792 : BitVec 32 := Scalar.divsi v13764 c2_i32_7040
  let c1_i32_7046 : BitVec 32 := 1#32
  let v13807 : BitVec 32 := Scalar.subi v13792 c1_i32_7046
  let v13808 : BitVec 32 := Scalar.select v13806 v13807 v13792
  let v13809 : BitVec 32 := v13808
  let v13810 : Index := Scalar.indexCast v13809
  let c0_7048 : Index := 0#32
  ![4, v13810.toNat, 0]
def k0_mult556 : BitVec 32 :=
  let c1152_i32_7065 : BitVec 32 := 1152#32
  let c0_i32_7064 : BitVec 32 := 0#32
  let c0_i32_7063 : BitVec 32 := 0#32
  let c_m64_i32_7062 : BitVec 32 := 4294967232#32
  let v13835 : BitVec 32 := Scalar.maxsi c0_i32_7063 c_m64_i32_7062
  let v13836 : BitVec 32 := Scalar.minsi c0_i32_7064 v13835
  let v13837 : BitVec 32 := Scalar.addi c1152_i32_7065 v13836
  v13837
def k0_mult557 : BitVec 32 :=
  let c1152_i32_7065 : BitVec 32 := 1152#32
  let c0_i32_7064 : BitVec 32 := 0#32
  let c0_i32_7063 : BitVec 32 := 0#32
  let c_m64_i32_7062 : BitVec 32 := 4294967232#32
  let v13835 : BitVec 32 := Scalar.maxsi c0_i32_7063 c_m64_i32_7062
  let v13836 : BitVec 32 := Scalar.minsi c0_i32_7064 v13835
  let v13837 : BitVec 32 := Scalar.addi c1152_i32_7065 v13836
  let v13838 : BitVec 32 := v13837
  let c0_i32_7071 : BitVec 32 := 0#32
  let v13842 : BitVec 1 := Scalar.cmpi .sgt v13838 c0_i32_7071
  let v13843 : BitVec 32 := Scalar.extui v13842
  let c0_i32_7072 : BitVec 32 := 0#32
  let v13844 : BitVec 1 := Scalar.cmpi .slt v13838 c0_i32_7072
  let v13845 : BitVec 32 := Scalar.extui v13844
  let v13846 : BitVec 32 := Scalar.subi v13843 v13845
  let c2_i32_7070 : BitVec 32 := 2#32
  let c0_i32_7073 : BitVec 32 := 0#32
  let v13847 : BitVec 1 := Scalar.cmpi .sgt c2_i32_7070 c0_i32_7073
  let v13848 : BitVec 32 := Scalar.extui v13847
  let c0_i32_7074 : BitVec 32 := 0#32
  let v13849 : BitVec 1 := Scalar.cmpi .slt c2_i32_7070 c0_i32_7074
  let v13850 : BitVec 32 := Scalar.extui v13849
  let v13851 : BitVec 32 := Scalar.subi v13848 v13850
  let v13852 : BitVec 1 := Scalar.cmpi .ne v13846 v13851
  let v13853 : BitVec 32 := Scalar.remsi v13838 c2_i32_7070
  let c0_i32_7075 : BitVec 32 := 0#32
  let v13854 : BitVec 1 := Scalar.cmpi .ne v13853 c0_i32_7075
  let v13855 : BitVec 1 := Scalar.andi v13852 v13854
  let v13841 : BitVec 32 := Scalar.divsi v13838 c2_i32_7070
  let c1_i32_7076 : BitVec 32 := 1#32
  let v13856 : BitVec 32 := Scalar.subi v13841 c1_i32_7076
  let v13857 : BitVec 32 := Scalar.select v13855 v13856 v13841
  v13857
def k0_mult558 : BitVec 32 :=
  let c1152_i32_7065 : BitVec 32 := 1152#32
  let c0_i32_7064 : BitVec 32 := 0#32
  let c0_i32_7063 : BitVec 32 := 0#32
  let c_m64_i32_7062 : BitVec 32 := 4294967232#32
  let v13835 : BitVec 32 := Scalar.maxsi c0_i32_7063 c_m64_i32_7062
  let v13836 : BitVec 32 := Scalar.minsi c0_i32_7064 v13835
  let v13837 : BitVec 32 := Scalar.addi c1152_i32_7065 v13836
  let v13838 : BitVec 32 := v13837
  let c0_i32_7085 : BitVec 32 := 0#32
  let v13867 : BitVec 1 := Scalar.cmpi .sgt v13838 c0_i32_7085
  let v13868 : BitVec 32 := Scalar.extui v13867
  let c0_i32_7086 : BitVec 32 := 0#32
  let v13869 : BitVec 1 := Scalar.cmpi .slt v13838 c0_i32_7086
  let v13870 : BitVec 32 := Scalar.extui v13869
  let v13871 : BitVec 32 := Scalar.subi v13868 v13870
  let c2_i32_7084 : BitVec 32 := 2#32
  let c0_i32_7087 : BitVec 32 := 0#32
  let v13872 : BitVec 1 := Scalar.cmpi .sgt c2_i32_7084 c0_i32_7087
  let v13873 : BitVec 32 := Scalar.extui v13872
  let c0_i32_7088 : BitVec 32 := 0#32
  let v13874 : BitVec 1 := Scalar.cmpi .slt c2_i32_7084 c0_i32_7088
  let v13875 : BitVec 32 := Scalar.extui v13874
  let v13876 : BitVec 32 := Scalar.subi v13873 v13875
  let v13877 : BitVec 1 := Scalar.cmpi .ne v13871 v13876
  let v13878 : BitVec 32 := Scalar.remsi v13838 c2_i32_7084
  let c0_i32_7089 : BitVec 32 := 0#32
  let v13879 : BitVec 1 := Scalar.cmpi .ne v13878 c0_i32_7089
  let v13880 : BitVec 1 := Scalar.andi v13877 v13879
  let v13866 : BitVec 32 := Scalar.divsi v13838 c2_i32_7084
  let c1_i32_7090 : BitVec 32 := 1#32
  let v13881 : BitVec 32 := Scalar.subi v13866 c1_i32_7090
  let v13882 : BitVec 32 := Scalar.select v13880 v13881 v13866
  v13882
def k0_mult559 : BitVec 32 :=
  let c1280_i32_7108 : BitVec 32 := 1280#32
  let c0_i32_7107 : BitVec 32 := 0#32
  let c0_i32_7106 : BitVec 32 := 0#32
  let c_m64_i32_7105 : BitVec 32 := 4294967232#32
  let v13909 : BitVec 32 := Scalar.maxsi c0_i32_7106 c_m64_i32_7105
  let v13910 : BitVec 32 := Scalar.minsi c0_i32_7107 v13909
  let v13911 : BitVec 32 := Scalar.addi c1280_i32_7108 v13910
  v13911
def k0_mult560 : BitVec 32 :=
  let c1280_i32_7108 : BitVec 32 := 1280#32
  let c0_i32_7107 : BitVec 32 := 0#32
  let c0_i32_7106 : BitVec 32 := 0#32
  let c_m64_i32_7105 : BitVec 32 := 4294967232#32
  let v13909 : BitVec 32 := Scalar.maxsi c0_i32_7106 c_m64_i32_7105
  let v13910 : BitVec 32 := Scalar.minsi c0_i32_7107 v13909
  let v13911 : BitVec 32 := Scalar.addi c1280_i32_7108 v13910
  let v13912 : BitVec 32 := v13911
  let c0_i32_7114 : BitVec 32 := 0#32
  let v13916 : BitVec 1 := Scalar.cmpi .sgt v13912 c0_i32_7114
  let v13917 : BitVec 32 := Scalar.extui v13916
  let c0_i32_7115 : BitVec 32 := 0#32
  let v13918 : BitVec 1 := Scalar.cmpi .slt v13912 c0_i32_7115
  let v13919 : BitVec 32 := Scalar.extui v13918
  let v13920 : BitVec 32 := Scalar.subi v13917 v13919
  let c2_i32_7113 : BitVec 32 := 2#32
  let c0_i32_7116 : BitVec 32 := 0#32
  let v13921 : BitVec 1 := Scalar.cmpi .sgt c2_i32_7113 c0_i32_7116
  let v13922 : BitVec 32 := Scalar.extui v13921
  let c0_i32_7117 : BitVec 32 := 0#32
  let v13923 : BitVec 1 := Scalar.cmpi .slt c2_i32_7113 c0_i32_7117
  let v13924 : BitVec 32 := Scalar.extui v13923
  let v13925 : BitVec 32 := Scalar.subi v13922 v13924
  let v13926 : BitVec 1 := Scalar.cmpi .ne v13920 v13925
  let v13927 : BitVec 32 := Scalar.remsi v13912 c2_i32_7113
  let c0_i32_7118 : BitVec 32 := 0#32
  let v13928 : BitVec 1 := Scalar.cmpi .ne v13927 c0_i32_7118
  let v13929 : BitVec 1 := Scalar.andi v13926 v13928
  let v13915 : BitVec 32 := Scalar.divsi v13912 c2_i32_7113
  let c1_i32_7119 : BitVec 32 := 1#32
  let v13930 : BitVec 32 := Scalar.subi v13915 c1_i32_7119
  let v13931 : BitVec 32 := Scalar.select v13929 v13930 v13915
  v13931
def k0_mult561 : BitVec 32 :=
  let c1280_i32_7108 : BitVec 32 := 1280#32
  let c0_i32_7107 : BitVec 32 := 0#32
  let c0_i32_7106 : BitVec 32 := 0#32
  let c_m64_i32_7105 : BitVec 32 := 4294967232#32
  let v13909 : BitVec 32 := Scalar.maxsi c0_i32_7106 c_m64_i32_7105
  let v13910 : BitVec 32 := Scalar.minsi c0_i32_7107 v13909
  let v13911 : BitVec 32 := Scalar.addi c1280_i32_7108 v13910
  let v13912 : BitVec 32 := v13911
  let c0_i32_7128 : BitVec 32 := 0#32
  let v13941 : BitVec 1 := Scalar.cmpi .sgt v13912 c0_i32_7128
  let v13942 : BitVec 32 := Scalar.extui v13941
  let c0_i32_7129 : BitVec 32 := 0#32
  let v13943 : BitVec 1 := Scalar.cmpi .slt v13912 c0_i32_7129
  let v13944 : BitVec 32 := Scalar.extui v13943
  let v13945 : BitVec 32 := Scalar.subi v13942 v13944
  let c2_i32_7127 : BitVec 32 := 2#32
  let c0_i32_7130 : BitVec 32 := 0#32
  let v13946 : BitVec 1 := Scalar.cmpi .sgt c2_i32_7127 c0_i32_7130
  let v13947 : BitVec 32 := Scalar.extui v13946
  let c0_i32_7131 : BitVec 32 := 0#32
  let v13948 : BitVec 1 := Scalar.cmpi .slt c2_i32_7127 c0_i32_7131
  let v13949 : BitVec 32 := Scalar.extui v13948
  let v13950 : BitVec 32 := Scalar.subi v13947 v13949
  let v13951 : BitVec 1 := Scalar.cmpi .ne v13945 v13950
  let v13952 : BitVec 32 := Scalar.remsi v13912 c2_i32_7127
  let c0_i32_7132 : BitVec 32 := 0#32
  let v13953 : BitVec 1 := Scalar.cmpi .ne v13952 c0_i32_7132
  let v13954 : BitVec 1 := Scalar.andi v13951 v13953
  let v13940 : BitVec 32 := Scalar.divsi v13912 c2_i32_7127
  let c1_i32_7133 : BitVec 32 := 1#32
  let v13955 : BitVec 32 := Scalar.subi v13940 c1_i32_7133
  let v13956 : BitVec 32 := Scalar.select v13954 v13955 v13940
  v13956
def k0_mult562 : BitVec 32 :=
  let c1408_i32_7151 : BitVec 32 := 1408#32
  let c0_i32_7150 : BitVec 32 := 0#32
  let c0_i32_7149 : BitVec 32 := 0#32
  let c_m64_i32_7148 : BitVec 32 := 4294967232#32
  let v13983 : BitVec 32 := Scalar.maxsi c0_i32_7149 c_m64_i32_7148
  let v13984 : BitVec 32 := Scalar.minsi c0_i32_7150 v13983
  let v13985 : BitVec 32 := Scalar.addi c1408_i32_7151 v13984
  v13985
def k0_mult563 : BitVec 32 :=
  let c1408_i32_7151 : BitVec 32 := 1408#32
  let c0_i32_7150 : BitVec 32 := 0#32
  let c0_i32_7149 : BitVec 32 := 0#32
  let c_m64_i32_7148 : BitVec 32 := 4294967232#32
  let v13983 : BitVec 32 := Scalar.maxsi c0_i32_7149 c_m64_i32_7148
  let v13984 : BitVec 32 := Scalar.minsi c0_i32_7150 v13983
  let v13985 : BitVec 32 := Scalar.addi c1408_i32_7151 v13984
  let v13986 : BitVec 32 := v13985
  let c0_i32_7157 : BitVec 32 := 0#32
  let v13990 : BitVec 1 := Scalar.cmpi .sgt v13986 c0_i32_7157
  let v13991 : BitVec 32 := Scalar.extui v13990
  let c0_i32_7158 : BitVec 32 := 0#32
  let v13992 : BitVec 1 := Scalar.cmpi .slt v13986 c0_i32_7158
  let v13993 : BitVec 32 := Scalar.extui v13992
  let v13994 : BitVec 32 := Scalar.subi v13991 v13993
  let c2_i32_7156 : BitVec 32 := 2#32
  let c0_i32_7159 : BitVec 32 := 0#32
  let v13995 : BitVec 1 := Scalar.cmpi .sgt c2_i32_7156 c0_i32_7159
  let v13996 : BitVec 32 := Scalar.extui v13995
  let c0_i32_7160 : BitVec 32 := 0#32
  let v13997 : BitVec 1 := Scalar.cmpi .slt c2_i32_7156 c0_i32_7160
  let v13998 : BitVec 32 := Scalar.extui v13997
  let v13999 : BitVec 32 := Scalar.subi v13996 v13998
  let v14000 : BitVec 1 := Scalar.cmpi .ne v13994 v13999
  let v14001 : BitVec 32 := Scalar.remsi v13986 c2_i32_7156
  let c0_i32_7161 : BitVec 32 := 0#32
  let v14002 : BitVec 1 := Scalar.cmpi .ne v14001 c0_i32_7161
  let v14003 : BitVec 1 := Scalar.andi v14000 v14002
  let v13989 : BitVec 32 := Scalar.divsi v13986 c2_i32_7156
  let c1_i32_7162 : BitVec 32 := 1#32
  let v14004 : BitVec 32 := Scalar.subi v13989 c1_i32_7162
  let v14005 : BitVec 32 := Scalar.select v14003 v14004 v13989
  v14005
def k0_mult564 : BitVec 32 :=
  let c1408_i32_7151 : BitVec 32 := 1408#32
  let c0_i32_7150 : BitVec 32 := 0#32
  let c0_i32_7149 : BitVec 32 := 0#32
  let c_m64_i32_7148 : BitVec 32 := 4294967232#32
  let v13983 : BitVec 32 := Scalar.maxsi c0_i32_7149 c_m64_i32_7148
  let v13984 : BitVec 32 := Scalar.minsi c0_i32_7150 v13983
  let v13985 : BitVec 32 := Scalar.addi c1408_i32_7151 v13984
  let v13986 : BitVec 32 := v13985
  let c0_i32_7171 : BitVec 32 := 0#32
  let v14015 : BitVec 1 := Scalar.cmpi .sgt v13986 c0_i32_7171
  let v14016 : BitVec 32 := Scalar.extui v14015
  let c0_i32_7172 : BitVec 32 := 0#32
  let v14017 : BitVec 1 := Scalar.cmpi .slt v13986 c0_i32_7172
  let v14018 : BitVec 32 := Scalar.extui v14017
  let v14019 : BitVec 32 := Scalar.subi v14016 v14018
  let c2_i32_7170 : BitVec 32 := 2#32
  let c0_i32_7173 : BitVec 32 := 0#32
  let v14020 : BitVec 1 := Scalar.cmpi .sgt c2_i32_7170 c0_i32_7173
  let v14021 : BitVec 32 := Scalar.extui v14020
  let c0_i32_7174 : BitVec 32 := 0#32
  let v14022 : BitVec 1 := Scalar.cmpi .slt c2_i32_7170 c0_i32_7174
  let v14023 : BitVec 32 := Scalar.extui v14022
  let v14024 : BitVec 32 := Scalar.subi v14021 v14023
  let v14025 : BitVec 1 := Scalar.cmpi .ne v14019 v14024
  let v14026 : BitVec 32 := Scalar.remsi v13986 c2_i32_7170
  let c0_i32_7175 : BitVec 32 := 0#32
  let v14027 : BitVec 1 := Scalar.cmpi .ne v14026 c0_i32_7175
  let v14028 : BitVec 1 := Scalar.andi v14025 v14027
  let v14014 : BitVec 32 := Scalar.divsi v13986 c2_i32_7170
  let c1_i32_7176 : BitVec 32 := 1#32
  let v14029 : BitVec 32 := Scalar.subi v14014 c1_i32_7176
  let v14030 : BitVec 32 := Scalar.select v14028 v14029 v14014
  v14030
def k0_mult565 : BitVec 32 :=
  let c1536_i32_7282 : BitVec 32 := 1536#32
  let c0_i32_7281 : BitVec 32 := 0#32
  let c0_i32_7280 : BitVec 32 := 0#32
  let c_m64_i32_7279 : BitVec 32 := 4294967232#32
  let v14185 : BitVec 32 := Scalar.maxsi c0_i32_7280 c_m64_i32_7279
  let v14186 : BitVec 32 := Scalar.minsi c0_i32_7281 v14185
  let v14187 : BitVec 32 := Scalar.addi c1536_i32_7282 v14186
  v14187
def k0_mult566 : BitVec 32 :=
  let c1536_i32_7282 : BitVec 32 := 1536#32
  let c0_i32_7281 : BitVec 32 := 0#32
  let c0_i32_7280 : BitVec 32 := 0#32
  let c_m64_i32_7279 : BitVec 32 := 4294967232#32
  let v14185 : BitVec 32 := Scalar.maxsi c0_i32_7280 c_m64_i32_7279
  let v14186 : BitVec 32 := Scalar.minsi c0_i32_7281 v14185
  let v14187 : BitVec 32 := Scalar.addi c1536_i32_7282 v14186
  let v14188 : BitVec 32 := v14187
  let c0_i32_7288 : BitVec 32 := 0#32
  let v14192 : BitVec 1 := Scalar.cmpi .sgt v14188 c0_i32_7288
  let v14193 : BitVec 32 := Scalar.extui v14192
  let c0_i32_7289 : BitVec 32 := 0#32
  let v14194 : BitVec 1 := Scalar.cmpi .slt v14188 c0_i32_7289
  let v14195 : BitVec 32 := Scalar.extui v14194
  let v14196 : BitVec 32 := Scalar.subi v14193 v14195
  let c2_i32_7287 : BitVec 32 := 2#32
  let c0_i32_7290 : BitVec 32 := 0#32
  let v14197 : BitVec 1 := Scalar.cmpi .sgt c2_i32_7287 c0_i32_7290
  let v14198 : BitVec 32 := Scalar.extui v14197
  let c0_i32_7291 : BitVec 32 := 0#32
  let v14199 : BitVec 1 := Scalar.cmpi .slt c2_i32_7287 c0_i32_7291
  let v14200 : BitVec 32 := Scalar.extui v14199
  let v14201 : BitVec 32 := Scalar.subi v14198 v14200
  let v14202 : BitVec 1 := Scalar.cmpi .ne v14196 v14201
  let v14203 : BitVec 32 := Scalar.remsi v14188 c2_i32_7287
  let c0_i32_7292 : BitVec 32 := 0#32
  let v14204 : BitVec 1 := Scalar.cmpi .ne v14203 c0_i32_7292
  let v14205 : BitVec 1 := Scalar.andi v14202 v14204
  let v14191 : BitVec 32 := Scalar.divsi v14188 c2_i32_7287
  let c1_i32_7293 : BitVec 32 := 1#32
  let v14206 : BitVec 32 := Scalar.subi v14191 c1_i32_7293
  let v14207 : BitVec 32 := Scalar.select v14205 v14206 v14191
  v14207
def k0_mult567 : BitVec 32 :=
  let c1536_i32_7282 : BitVec 32 := 1536#32
  let c0_i32_7281 : BitVec 32 := 0#32
  let c0_i32_7280 : BitVec 32 := 0#32
  let c_m64_i32_7279 : BitVec 32 := 4294967232#32
  let v14185 : BitVec 32 := Scalar.maxsi c0_i32_7280 c_m64_i32_7279
  let v14186 : BitVec 32 := Scalar.minsi c0_i32_7281 v14185
  let v14187 : BitVec 32 := Scalar.addi c1536_i32_7282 v14186
  let v14188 : BitVec 32 := v14187
  let c0_i32_7302 : BitVec 32 := 0#32
  let v14217 : BitVec 1 := Scalar.cmpi .sgt v14188 c0_i32_7302
  let v14218 : BitVec 32 := Scalar.extui v14217
  let c0_i32_7303 : BitVec 32 := 0#32
  let v14219 : BitVec 1 := Scalar.cmpi .slt v14188 c0_i32_7303
  let v14220 : BitVec 32 := Scalar.extui v14219
  let v14221 : BitVec 32 := Scalar.subi v14218 v14220
  let c2_i32_7301 : BitVec 32 := 2#32
  let c0_i32_7304 : BitVec 32 := 0#32
  let v14222 : BitVec 1 := Scalar.cmpi .sgt c2_i32_7301 c0_i32_7304
  let v14223 : BitVec 32 := Scalar.extui v14222
  let c0_i32_7305 : BitVec 32 := 0#32
  let v14224 : BitVec 1 := Scalar.cmpi .slt c2_i32_7301 c0_i32_7305
  let v14225 : BitVec 32 := Scalar.extui v14224
  let v14226 : BitVec 32 := Scalar.subi v14223 v14225
  let v14227 : BitVec 1 := Scalar.cmpi .ne v14221 v14226
  let v14228 : BitVec 32 := Scalar.remsi v14188 c2_i32_7301
  let c0_i32_7306 : BitVec 32 := 0#32
  let v14229 : BitVec 1 := Scalar.cmpi .ne v14228 c0_i32_7306
  let v14230 : BitVec 1 := Scalar.andi v14227 v14229
  let v14216 : BitVec 32 := Scalar.divsi v14188 c2_i32_7301
  let c1_i32_7307 : BitVec 32 := 1#32
  let v14231 : BitVec 32 := Scalar.subi v14216 c1_i32_7307
  let v14232 : BitVec 32 := Scalar.select v14230 v14231 v14216
  v14232
def k0_mult568 : BitVec 32 :=
  let c1664_i32_7326 : BitVec 32 := 1664#32
  let c0_i32_7325 : BitVec 32 := 0#32
  let c0_i32_7324 : BitVec 32 := 0#32
  let c_m64_i32_7323 : BitVec 32 := 4294967232#32
  let v14259 : BitVec 32 := Scalar.maxsi c0_i32_7324 c_m64_i32_7323
  let v14260 : BitVec 32 := Scalar.minsi c0_i32_7325 v14259
  let v14261 : BitVec 32 := Scalar.addi c1664_i32_7326 v14260
  v14261
def k0_mult569 : BitVec 32 :=
  let c1664_i32_7326 : BitVec 32 := 1664#32
  let c0_i32_7325 : BitVec 32 := 0#32
  let c0_i32_7324 : BitVec 32 := 0#32
  let c_m64_i32_7323 : BitVec 32 := 4294967232#32
  let v14259 : BitVec 32 := Scalar.maxsi c0_i32_7324 c_m64_i32_7323
  let v14260 : BitVec 32 := Scalar.minsi c0_i32_7325 v14259
  let v14261 : BitVec 32 := Scalar.addi c1664_i32_7326 v14260
  let v14262 : BitVec 32 := v14261
  let c0_i32_7332 : BitVec 32 := 0#32
  let v14266 : BitVec 1 := Scalar.cmpi .sgt v14262 c0_i32_7332
  let v14267 : BitVec 32 := Scalar.extui v14266
  let c0_i32_7333 : BitVec 32 := 0#32
  let v14268 : BitVec 1 := Scalar.cmpi .slt v14262 c0_i32_7333
  let v14269 : BitVec 32 := Scalar.extui v14268
  let v14270 : BitVec 32 := Scalar.subi v14267 v14269
  let c2_i32_7331 : BitVec 32 := 2#32
  let c0_i32_7334 : BitVec 32 := 0#32
  let v14271 : BitVec 1 := Scalar.cmpi .sgt c2_i32_7331 c0_i32_7334
  let v14272 : BitVec 32 := Scalar.extui v14271
  let c0_i32_7335 : BitVec 32 := 0#32
  let v14273 : BitVec 1 := Scalar.cmpi .slt c2_i32_7331 c0_i32_7335
  let v14274 : BitVec 32 := Scalar.extui v14273
  let v14275 : BitVec 32 := Scalar.subi v14272 v14274
  let v14276 : BitVec 1 := Scalar.cmpi .ne v14270 v14275
  let v14277 : BitVec 32 := Scalar.remsi v14262 c2_i32_7331
  let c0_i32_7336 : BitVec 32 := 0#32
  let v14278 : BitVec 1 := Scalar.cmpi .ne v14277 c0_i32_7336
  let v14279 : BitVec 1 := Scalar.andi v14276 v14278
  let v14265 : BitVec 32 := Scalar.divsi v14262 c2_i32_7331
  let c1_i32_7337 : BitVec 32 := 1#32
  let v14280 : BitVec 32 := Scalar.subi v14265 c1_i32_7337
  let v14281 : BitVec 32 := Scalar.select v14279 v14280 v14265
  v14281
def k0_mult570 : BitVec 32 :=
  let c1664_i32_7326 : BitVec 32 := 1664#32
  let c0_i32_7325 : BitVec 32 := 0#32
  let c0_i32_7324 : BitVec 32 := 0#32
  let c_m64_i32_7323 : BitVec 32 := 4294967232#32
  let v14259 : BitVec 32 := Scalar.maxsi c0_i32_7324 c_m64_i32_7323
  let v14260 : BitVec 32 := Scalar.minsi c0_i32_7325 v14259
  let v14261 : BitVec 32 := Scalar.addi c1664_i32_7326 v14260
  let v14262 : BitVec 32 := v14261
  let c0_i32_7346 : BitVec 32 := 0#32
  let v14291 : BitVec 1 := Scalar.cmpi .sgt v14262 c0_i32_7346
  let v14292 : BitVec 32 := Scalar.extui v14291
  let c0_i32_7347 : BitVec 32 := 0#32
  let v14293 : BitVec 1 := Scalar.cmpi .slt v14262 c0_i32_7347
  let v14294 : BitVec 32 := Scalar.extui v14293
  let v14295 : BitVec 32 := Scalar.subi v14292 v14294
  let c2_i32_7345 : BitVec 32 := 2#32
  let c0_i32_7348 : BitVec 32 := 0#32
  let v14296 : BitVec 1 := Scalar.cmpi .sgt c2_i32_7345 c0_i32_7348
  let v14297 : BitVec 32 := Scalar.extui v14296
  let c0_i32_7349 : BitVec 32 := 0#32
  let v14298 : BitVec 1 := Scalar.cmpi .slt c2_i32_7345 c0_i32_7349
  let v14299 : BitVec 32 := Scalar.extui v14298
  let v14300 : BitVec 32 := Scalar.subi v14297 v14299
  let v14301 : BitVec 1 := Scalar.cmpi .ne v14295 v14300
  let v14302 : BitVec 32 := Scalar.remsi v14262 c2_i32_7345
  let c0_i32_7350 : BitVec 32 := 0#32
  let v14303 : BitVec 1 := Scalar.cmpi .ne v14302 c0_i32_7350
  let v14304 : BitVec 1 := Scalar.andi v14301 v14303
  let v14290 : BitVec 32 := Scalar.divsi v14262 c2_i32_7345
  let c1_i32_7351 : BitVec 32 := 1#32
  let v14305 : BitVec 32 := Scalar.subi v14290 c1_i32_7351
  let v14306 : BitVec 32 := Scalar.select v14304 v14305 v14290
  v14306
def k0_mult571 : BitVec 32 :=
  let c1792_i32_7369 : BitVec 32 := 1792#32
  let c0_i32_7368 : BitVec 32 := 0#32
  let c0_i32_7367 : BitVec 32 := 0#32
  let c_m64_i32_7366 : BitVec 32 := 4294967232#32
  let v14333 : BitVec 32 := Scalar.maxsi c0_i32_7367 c_m64_i32_7366
  let v14334 : BitVec 32 := Scalar.minsi c0_i32_7368 v14333
  let v14335 : BitVec 32 := Scalar.addi c1792_i32_7369 v14334
  v14335
def k0_mult572 : BitVec 32 :=
  let c1792_i32_7369 : BitVec 32 := 1792#32
  let c0_i32_7368 : BitVec 32 := 0#32
  let c0_i32_7367 : BitVec 32 := 0#32
  let c_m64_i32_7366 : BitVec 32 := 4294967232#32
  let v14333 : BitVec 32 := Scalar.maxsi c0_i32_7367 c_m64_i32_7366
  let v14334 : BitVec 32 := Scalar.minsi c0_i32_7368 v14333
  let v14335 : BitVec 32 := Scalar.addi c1792_i32_7369 v14334
  let v14336 : BitVec 32 := v14335
  let c0_i32_7375 : BitVec 32 := 0#32
  let v14340 : BitVec 1 := Scalar.cmpi .sgt v14336 c0_i32_7375
  let v14341 : BitVec 32 := Scalar.extui v14340
  let c0_i32_7376 : BitVec 32 := 0#32
  let v14342 : BitVec 1 := Scalar.cmpi .slt v14336 c0_i32_7376
  let v14343 : BitVec 32 := Scalar.extui v14342
  let v14344 : BitVec 32 := Scalar.subi v14341 v14343
  let c2_i32_7374 : BitVec 32 := 2#32
  let c0_i32_7377 : BitVec 32 := 0#32
  let v14345 : BitVec 1 := Scalar.cmpi .sgt c2_i32_7374 c0_i32_7377
  let v14346 : BitVec 32 := Scalar.extui v14345
  let c0_i32_7378 : BitVec 32 := 0#32
  let v14347 : BitVec 1 := Scalar.cmpi .slt c2_i32_7374 c0_i32_7378
  let v14348 : BitVec 32 := Scalar.extui v14347
  let v14349 : BitVec 32 := Scalar.subi v14346 v14348
  let v14350 : BitVec 1 := Scalar.cmpi .ne v14344 v14349
  let v14351 : BitVec 32 := Scalar.remsi v14336 c2_i32_7374
  let c0_i32_7379 : BitVec 32 := 0#32
  let v14352 : BitVec 1 := Scalar.cmpi .ne v14351 c0_i32_7379
  let v14353 : BitVec 1 := Scalar.andi v14350 v14352
  let v14339 : BitVec 32 := Scalar.divsi v14336 c2_i32_7374
  let c1_i32_7380 : BitVec 32 := 1#32
  let v14354 : BitVec 32 := Scalar.subi v14339 c1_i32_7380
  let v14355 : BitVec 32 := Scalar.select v14353 v14354 v14339
  v14355
def k0_mult573 : BitVec 32 :=
  let c1792_i32_7369 : BitVec 32 := 1792#32
  let c0_i32_7368 : BitVec 32 := 0#32
  let c0_i32_7367 : BitVec 32 := 0#32
  let c_m64_i32_7366 : BitVec 32 := 4294967232#32
  let v14333 : BitVec 32 := Scalar.maxsi c0_i32_7367 c_m64_i32_7366
  let v14334 : BitVec 32 := Scalar.minsi c0_i32_7368 v14333
  let v14335 : BitVec 32 := Scalar.addi c1792_i32_7369 v14334
  let v14336 : BitVec 32 := v14335
  let c0_i32_7389 : BitVec 32 := 0#32
  let v14365 : BitVec 1 := Scalar.cmpi .sgt v14336 c0_i32_7389
  let v14366 : BitVec 32 := Scalar.extui v14365
  let c0_i32_7390 : BitVec 32 := 0#32
  let v14367 : BitVec 1 := Scalar.cmpi .slt v14336 c0_i32_7390
  let v14368 : BitVec 32 := Scalar.extui v14367
  let v14369 : BitVec 32 := Scalar.subi v14366 v14368
  let c2_i32_7388 : BitVec 32 := 2#32
  let c0_i32_7391 : BitVec 32 := 0#32
  let v14370 : BitVec 1 := Scalar.cmpi .sgt c2_i32_7388 c0_i32_7391
  let v14371 : BitVec 32 := Scalar.extui v14370
  let c0_i32_7392 : BitVec 32 := 0#32
  let v14372 : BitVec 1 := Scalar.cmpi .slt c2_i32_7388 c0_i32_7392
  let v14373 : BitVec 32 := Scalar.extui v14372
  let v14374 : BitVec 32 := Scalar.subi v14371 v14373
  let v14375 : BitVec 1 := Scalar.cmpi .ne v14369 v14374
  let v14376 : BitVec 32 := Scalar.remsi v14336 c2_i32_7388
  let c0_i32_7393 : BitVec 32 := 0#32
  let v14377 : BitVec 1 := Scalar.cmpi .ne v14376 c0_i32_7393
  let v14378 : BitVec 1 := Scalar.andi v14375 v14377
  let v14364 : BitVec 32 := Scalar.divsi v14336 c2_i32_7388
  let c1_i32_7394 : BitVec 32 := 1#32
  let v14379 : BitVec 32 := Scalar.subi v14364 c1_i32_7394
  let v14380 : BitVec 32 := Scalar.select v14378 v14379 v14364
  v14380
def k0_mult574 : BitVec 32 :=
  let c1920_i32_7412 : BitVec 32 := 1920#32
  let c0_i32_7411 : BitVec 32 := 0#32
  let c0_i32_7410 : BitVec 32 := 0#32
  let c_m64_i32_7409 : BitVec 32 := 4294967232#32
  let v14407 : BitVec 32 := Scalar.maxsi c0_i32_7410 c_m64_i32_7409
  let v14408 : BitVec 32 := Scalar.minsi c0_i32_7411 v14407
  let v14409 : BitVec 32 := Scalar.addi c1920_i32_7412 v14408
  v14409
def k0_mult575 : BitVec 32 :=
  let c1920_i32_7412 : BitVec 32 := 1920#32
  let c0_i32_7411 : BitVec 32 := 0#32
  let c0_i32_7410 : BitVec 32 := 0#32
  let c_m64_i32_7409 : BitVec 32 := 4294967232#32
  let v14407 : BitVec 32 := Scalar.maxsi c0_i32_7410 c_m64_i32_7409
  let v14408 : BitVec 32 := Scalar.minsi c0_i32_7411 v14407
  let v14409 : BitVec 32 := Scalar.addi c1920_i32_7412 v14408
  let v14410 : BitVec 32 := v14409
  let c0_i32_7418 : BitVec 32 := 0#32
  let v14414 : BitVec 1 := Scalar.cmpi .sgt v14410 c0_i32_7418
  let v14415 : BitVec 32 := Scalar.extui v14414
  let c0_i32_7419 : BitVec 32 := 0#32
  let v14416 : BitVec 1 := Scalar.cmpi .slt v14410 c0_i32_7419
  let v14417 : BitVec 32 := Scalar.extui v14416
  let v14418 : BitVec 32 := Scalar.subi v14415 v14417
  let c2_i32_7417 : BitVec 32 := 2#32
  let c0_i32_7420 : BitVec 32 := 0#32
  let v14419 : BitVec 1 := Scalar.cmpi .sgt c2_i32_7417 c0_i32_7420
  let v14420 : BitVec 32 := Scalar.extui v14419
  let c0_i32_7421 : BitVec 32 := 0#32
  let v14421 : BitVec 1 := Scalar.cmpi .slt c2_i32_7417 c0_i32_7421
  let v14422 : BitVec 32 := Scalar.extui v14421
  let v14423 : BitVec 32 := Scalar.subi v14420 v14422
  let v14424 : BitVec 1 := Scalar.cmpi .ne v14418 v14423
  let v14425 : BitVec 32 := Scalar.remsi v14410 c2_i32_7417
  let c0_i32_7422 : BitVec 32 := 0#32
  let v14426 : BitVec 1 := Scalar.cmpi .ne v14425 c0_i32_7422
  let v14427 : BitVec 1 := Scalar.andi v14424 v14426
  let v14413 : BitVec 32 := Scalar.divsi v14410 c2_i32_7417
  let c1_i32_7423 : BitVec 32 := 1#32
  let v14428 : BitVec 32 := Scalar.subi v14413 c1_i32_7423
  let v14429 : BitVec 32 := Scalar.select v14427 v14428 v14413
  v14429
def k0_mult576 : BitVec 32 :=
  let c1920_i32_7412 : BitVec 32 := 1920#32
  let c0_i32_7411 : BitVec 32 := 0#32
  let c0_i32_7410 : BitVec 32 := 0#32
  let c_m64_i32_7409 : BitVec 32 := 4294967232#32
  let v14407 : BitVec 32 := Scalar.maxsi c0_i32_7410 c_m64_i32_7409
  let v14408 : BitVec 32 := Scalar.minsi c0_i32_7411 v14407
  let v14409 : BitVec 32 := Scalar.addi c1920_i32_7412 v14408
  let v14410 : BitVec 32 := v14409
  let c0_i32_7432 : BitVec 32 := 0#32
  let v14439 : BitVec 1 := Scalar.cmpi .sgt v14410 c0_i32_7432
  let v14440 : BitVec 32 := Scalar.extui v14439
  let c0_i32_7433 : BitVec 32 := 0#32
  let v14441 : BitVec 1 := Scalar.cmpi .slt v14410 c0_i32_7433
  let v14442 : BitVec 32 := Scalar.extui v14441
  let v14443 : BitVec 32 := Scalar.subi v14440 v14442
  let c2_i32_7431 : BitVec 32 := 2#32
  let c0_i32_7434 : BitVec 32 := 0#32
  let v14444 : BitVec 1 := Scalar.cmpi .sgt c2_i32_7431 c0_i32_7434
  let v14445 : BitVec 32 := Scalar.extui v14444
  let c0_i32_7435 : BitVec 32 := 0#32
  let v14446 : BitVec 1 := Scalar.cmpi .slt c2_i32_7431 c0_i32_7435
  let v14447 : BitVec 32 := Scalar.extui v14446
  let v14448 : BitVec 32 := Scalar.subi v14445 v14447
  let v14449 : BitVec 1 := Scalar.cmpi .ne v14443 v14448
  let v14450 : BitVec 32 := Scalar.remsi v14410 c2_i32_7431
  let c0_i32_7436 : BitVec 32 := 0#32
  let v14451 : BitVec 1 := Scalar.cmpi .ne v14450 c0_i32_7436
  let v14452 : BitVec 1 := Scalar.andi v14449 v14451
  let v14438 : BitVec 32 := Scalar.divsi v14410 c2_i32_7431
  let c1_i32_7437 : BitVec 32 := 1#32
  let v14453 : BitVec 32 := Scalar.subi v14438 c1_i32_7437
  let v14454 : BitVec 32 := Scalar.select v14452 v14453 v14438
  v14454
@[reducible] def k0_t1_loop : Scf.Loop 32 :=
  let c0_i32_7452 : BitVec 32 := 0#32
  let c8_i32_7453 : BitVec 32 := 8#32
  let v14481 : BitVec 32 := Scalar.addi c0_i32_7452 c8_i32_7453
  let c1_i32_7454 : BitVec 32 := 1#32
  ⟨c0_i32_7452, v14481, c1_i32_7454⟩
def k0_mult577 (k0_t1 : Fin k0_t1_loop.trips) : BitVec 32 :=
  let c2_i32_7470 : BitVec 32 := 2#32
  let c0_i32_7452 : BitVec 32 := 0#32
  let c1_i32_7454 : BitVec 32 := 1#32
  let arg15 : BitVec 32 := Scf.iv c0_i32_7452 c1_i32_7454 k0_t1
  let c0_i32_7457 : BitVec 32 := 0#32
  let v14483 : BitVec 1 := Scalar.cmpi .sgt arg15 c0_i32_7457
  let v14484 : BitVec 32 := Scalar.extui v14483
  let c0_i32_7458 : BitVec 32 := 0#32
  let v14485 : BitVec 1 := Scalar.cmpi .slt arg15 c0_i32_7458
  let v14486 : BitVec 32 := Scalar.extui v14485
  let v14487 : BitVec 32 := Scalar.subi v14484 v14486
  let c4_i32_7456 : BitVec 32 := 4#32
  let c0_i32_7459 : BitVec 32 := 0#32
  let v14488 : BitVec 1 := Scalar.cmpi .sgt c4_i32_7456 c0_i32_7459
  let v14489 : BitVec 32 := Scalar.extui v14488
  let c0_i32_7460 : BitVec 32 := 0#32
  let v14490 : BitVec 1 := Scalar.cmpi .slt c4_i32_7456 c0_i32_7460
  let v14491 : BitVec 32 := Scalar.extui v14490
  let v14492 : BitVec 32 := Scalar.subi v14489 v14491
  let v14493 : BitVec 1 := Scalar.cmpi .ne v14487 v14492
  let v14494 : BitVec 32 := Scalar.remsi arg15 c4_i32_7456
  let c0_i32_7461 : BitVec 32 := 0#32
  let v14495 : BitVec 1 := Scalar.cmpi .ne v14494 c0_i32_7461
  let v14496 : BitVec 1 := Scalar.andi v14493 v14495
  let v14482 : BitVec 32 := Scalar.divsi arg15 c4_i32_7456
  let c1_i32_7462 : BitVec 32 := 1#32
  let v14497 : BitVec 32 := Scalar.subi v14482 c1_i32_7462
  let v14498 : BitVec 32 := Scalar.select v14496 v14497 v14482
  let v14510 : BitVec 32 := Scalar.muli c2_i32_7470 v14498
  let c0_i32_7471 : BitVec 32 := 0#32
  let v14511 : BitVec 32 := Scalar.addi v14510 c0_i32_7471
  let c512_i32_7472 : BitVec 32 := 512#32
  let v14512 : BitVec 32 := Scalar.muli v14511 c512_i32_7472
  let c4_i32_7463 : BitVec 32 := 4#32
  let c0_i32_7464 : BitVec 32 := 0#32
  let v14499 : BitVec 1 := Scalar.cmpi .eq c4_i32_7463 c0_i32_7464
  let c1_i32_7465 : BitVec 32 := 1#32
  let v14500 : BitVec 32 := Scalar.select v14499 c1_i32_7465 c4_i32_7463
  let v14501 : BitVec 32 := Scalar.remsi arg15 v14500
  let c0_i32_7467 : BitVec 32 := 0#32
  let v14503 : BitVec 1 := Scalar.cmpi .slt v14501 c0_i32_7467
  let c0_i32_7468 : BitVec 32 := 0#32
  let v14504 : BitVec 1 := Scalar.cmpi .slt v14500 c0_i32_7468
  let v14505 : BitVec 1 := Scalar.xori v14503 v14504
  let c0_i32_7466 : BitVec 32 := 0#32
  let v14502 : BitVec 1 := Scalar.cmpi .ne v14501 c0_i32_7466
  let v14506 : BitVec 1 := Scalar.andi v14505 v14502
  let v14507 : BitVec 32 := Scalar.addi v14501 v14500
  let v14508 : BitVec 32 := Scalar.select v14506 v14507 v14501
  let c128_i32_7469 : BitVec 32 := 128#32
  let v14509 : BitVec 32 := Scalar.muli v14508 c128_i32_7469
  let v14513 : BitVec 32 := Scalar.addi v14512 v14509
  v14513
def k0_off68 (k0_t1 : Fin k0_t1_loop.trips) (c0_i32_7471 : BitVec 32) : Fin 3 → Nat :=
  let c1_7474 : Index := 1#32
  let c2_i32_7470 : BitVec 32 := 2#32
  let c0_i32_7452 : BitVec 32 := 0#32
  let c1_i32_7454 : BitVec 32 := 1#32
  let arg15 : BitVec 32 := Scf.iv c0_i32_7452 c1_i32_7454 k0_t1
  let c0_i32_7457 : BitVec 32 := 0#32
  let v14483 : BitVec 1 := Scalar.cmpi .sgt arg15 c0_i32_7457
  let v14484 : BitVec 32 := Scalar.extui v14483
  let c0_i32_7458 : BitVec 32 := 0#32
  let v14485 : BitVec 1 := Scalar.cmpi .slt arg15 c0_i32_7458
  let v14486 : BitVec 32 := Scalar.extui v14485
  let v14487 : BitVec 32 := Scalar.subi v14484 v14486
  let c4_i32_7456 : BitVec 32 := 4#32
  let c0_i32_7459 : BitVec 32 := 0#32
  let v14488 : BitVec 1 := Scalar.cmpi .sgt c4_i32_7456 c0_i32_7459
  let v14489 : BitVec 32 := Scalar.extui v14488
  let c0_i32_7460 : BitVec 32 := 0#32
  let v14490 : BitVec 1 := Scalar.cmpi .slt c4_i32_7456 c0_i32_7460
  let v14491 : BitVec 32 := Scalar.extui v14490
  let v14492 : BitVec 32 := Scalar.subi v14489 v14491
  let v14493 : BitVec 1 := Scalar.cmpi .ne v14487 v14492
  let v14494 : BitVec 32 := Scalar.remsi arg15 c4_i32_7456
  let c0_i32_7461 : BitVec 32 := 0#32
  let v14495 : BitVec 1 := Scalar.cmpi .ne v14494 c0_i32_7461
  let v14496 : BitVec 1 := Scalar.andi v14493 v14495
  let v14482 : BitVec 32 := Scalar.divsi arg15 c4_i32_7456
  let c1_i32_7462 : BitVec 32 := 1#32
  let v14497 : BitVec 32 := Scalar.subi v14482 c1_i32_7462
  let v14498 : BitVec 32 := Scalar.select v14496 v14497 v14482
  let v14510 : BitVec 32 := Scalar.muli c2_i32_7470 v14498
  let v14511 : BitVec 32 := Scalar.addi v14510 c0_i32_7471
  let c512_i32_7472 : BitVec 32 := 512#32
  let v14512 : BitVec 32 := Scalar.muli v14511 c512_i32_7472
  let c4_i32_7463 : BitVec 32 := 4#32
  let c0_i32_7464 : BitVec 32 := 0#32
  let v14499 : BitVec 1 := Scalar.cmpi .eq c4_i32_7463 c0_i32_7464
  let c1_i32_7465 : BitVec 32 := 1#32
  let v14500 : BitVec 32 := Scalar.select v14499 c1_i32_7465 c4_i32_7463
  let v14501 : BitVec 32 := Scalar.remsi arg15 v14500
  let c0_i32_7467 : BitVec 32 := 0#32
  let v14503 : BitVec 1 := Scalar.cmpi .slt v14501 c0_i32_7467
  let c0_i32_7468 : BitVec 32 := 0#32
  let v14504 : BitVec 1 := Scalar.cmpi .slt v14500 c0_i32_7468
  let v14505 : BitVec 1 := Scalar.xori v14503 v14504
  let c0_i32_7466 : BitVec 32 := 0#32
  let v14502 : BitVec 1 := Scalar.cmpi .ne v14501 c0_i32_7466
  let v14506 : BitVec 1 := Scalar.andi v14505 v14502
  let v14507 : BitVec 32 := Scalar.addi v14501 v14500
  let v14508 : BitVec 32 := Scalar.select v14506 v14507 v14501
  let c128_i32_7469 : BitVec 32 := 128#32
  let v14509 : BitVec 32 := Scalar.muli v14508 c128_i32_7469
  let v14513 : BitVec 32 := Scalar.addi v14512 v14509
  let v14514 : BitVec 32 := v14513
  let v14517 : Index := Scalar.indexCast v14514
  let c0_7475 : Index := 0#32
  ![1, v14517.toNat, 0]
def k0_off69 (k0_t1 : Fin k0_t1_loop.trips) (c0_i32_7471 : BitVec 32) : Fin 3 → Nat :=
  let c3_7476 : Index := 3#32
  let c2_i32_7470 : BitVec 32 := 2#32
  let c0_i32_7452 : BitVec 32 := 0#32
  let c1_i32_7454 : BitVec 32 := 1#32
  let arg15 : BitVec 32 := Scf.iv c0_i32_7452 c1_i32_7454 k0_t1
  let c0_i32_7457 : BitVec 32 := 0#32
  let v14483 : BitVec 1 := Scalar.cmpi .sgt arg15 c0_i32_7457
  let v14484 : BitVec 32 := Scalar.extui v14483
  let c0_i32_7458 : BitVec 32 := 0#32
  let v14485 : BitVec 1 := Scalar.cmpi .slt arg15 c0_i32_7458
  let v14486 : BitVec 32 := Scalar.extui v14485
  let v14487 : BitVec 32 := Scalar.subi v14484 v14486
  let c4_i32_7456 : BitVec 32 := 4#32
  let c0_i32_7459 : BitVec 32 := 0#32
  let v14488 : BitVec 1 := Scalar.cmpi .sgt c4_i32_7456 c0_i32_7459
  let v14489 : BitVec 32 := Scalar.extui v14488
  let c0_i32_7460 : BitVec 32 := 0#32
  let v14490 : BitVec 1 := Scalar.cmpi .slt c4_i32_7456 c0_i32_7460
  let v14491 : BitVec 32 := Scalar.extui v14490
  let v14492 : BitVec 32 := Scalar.subi v14489 v14491
  let v14493 : BitVec 1 := Scalar.cmpi .ne v14487 v14492
  let v14494 : BitVec 32 := Scalar.remsi arg15 c4_i32_7456
  let c0_i32_7461 : BitVec 32 := 0#32
  let v14495 : BitVec 1 := Scalar.cmpi .ne v14494 c0_i32_7461
  let v14496 : BitVec 1 := Scalar.andi v14493 v14495
  let v14482 : BitVec 32 := Scalar.divsi arg15 c4_i32_7456
  let c1_i32_7462 : BitVec 32 := 1#32
  let v14497 : BitVec 32 := Scalar.subi v14482 c1_i32_7462
  let v14498 : BitVec 32 := Scalar.select v14496 v14497 v14482
  let v14510 : BitVec 32 := Scalar.muli c2_i32_7470 v14498
  let v14511 : BitVec 32 := Scalar.addi v14510 c0_i32_7471
  let c512_i32_7472 : BitVec 32 := 512#32
  let v14512 : BitVec 32 := Scalar.muli v14511 c512_i32_7472
  let c4_i32_7463 : BitVec 32 := 4#32
  let c0_i32_7464 : BitVec 32 := 0#32
  let v14499 : BitVec 1 := Scalar.cmpi .eq c4_i32_7463 c0_i32_7464
  let c1_i32_7465 : BitVec 32 := 1#32
  let v14500 : BitVec 32 := Scalar.select v14499 c1_i32_7465 c4_i32_7463
  let v14501 : BitVec 32 := Scalar.remsi arg15 v14500
  let c0_i32_7467 : BitVec 32 := 0#32
  let v14503 : BitVec 1 := Scalar.cmpi .slt v14501 c0_i32_7467
  let c0_i32_7468 : BitVec 32 := 0#32
  let v14504 : BitVec 1 := Scalar.cmpi .slt v14500 c0_i32_7468
  let v14505 : BitVec 1 := Scalar.xori v14503 v14504
  let c0_i32_7466 : BitVec 32 := 0#32
  let v14502 : BitVec 1 := Scalar.cmpi .ne v14501 c0_i32_7466
  let v14506 : BitVec 1 := Scalar.andi v14505 v14502
  let v14507 : BitVec 32 := Scalar.addi v14501 v14500
  let v14508 : BitVec 32 := Scalar.select v14506 v14507 v14501
  let c128_i32_7469 : BitVec 32 := 128#32
  let v14509 : BitVec 32 := Scalar.muli v14508 c128_i32_7469
  let v14513 : BitVec 32 := Scalar.addi v14512 v14509
  let v14514 : BitVec 32 := v14513
  let v14520 : Index := Scalar.indexCast v14514
  let c0_7477 : Index := 0#32
  ![3, v14520.toNat, 0]
def k0_off70 (k0_t1 : Fin k0_t1_loop.trips) (c0_i32_7471 : BitVec 32) : Fin 3 → Nat :=
  let c5_7478 : Index := 5#32
  let c2_i32_7470 : BitVec 32 := 2#32
  let c0_i32_7452 : BitVec 32 := 0#32
  let c1_i32_7454 : BitVec 32 := 1#32
  let arg15 : BitVec 32 := Scf.iv c0_i32_7452 c1_i32_7454 k0_t1
  let c0_i32_7457 : BitVec 32 := 0#32
  let v14483 : BitVec 1 := Scalar.cmpi .sgt arg15 c0_i32_7457
  let v14484 : BitVec 32 := Scalar.extui v14483
  let c0_i32_7458 : BitVec 32 := 0#32
  let v14485 : BitVec 1 := Scalar.cmpi .slt arg15 c0_i32_7458
  let v14486 : BitVec 32 := Scalar.extui v14485
  let v14487 : BitVec 32 := Scalar.subi v14484 v14486
  let c4_i32_7456 : BitVec 32 := 4#32
  let c0_i32_7459 : BitVec 32 := 0#32
  let v14488 : BitVec 1 := Scalar.cmpi .sgt c4_i32_7456 c0_i32_7459
  let v14489 : BitVec 32 := Scalar.extui v14488
  let c0_i32_7460 : BitVec 32 := 0#32
  let v14490 : BitVec 1 := Scalar.cmpi .slt c4_i32_7456 c0_i32_7460
  let v14491 : BitVec 32 := Scalar.extui v14490
  let v14492 : BitVec 32 := Scalar.subi v14489 v14491
  let v14493 : BitVec 1 := Scalar.cmpi .ne v14487 v14492
  let v14494 : BitVec 32 := Scalar.remsi arg15 c4_i32_7456
  let c0_i32_7461 : BitVec 32 := 0#32
  let v14495 : BitVec 1 := Scalar.cmpi .ne v14494 c0_i32_7461
  let v14496 : BitVec 1 := Scalar.andi v14493 v14495
  let v14482 : BitVec 32 := Scalar.divsi arg15 c4_i32_7456
  let c1_i32_7462 : BitVec 32 := 1#32
  let v14497 : BitVec 32 := Scalar.subi v14482 c1_i32_7462
  let v14498 : BitVec 32 := Scalar.select v14496 v14497 v14482
  let v14510 : BitVec 32 := Scalar.muli c2_i32_7470 v14498
  let v14511 : BitVec 32 := Scalar.addi v14510 c0_i32_7471
  let c4_i32_7473 : BitVec 32 := 4#32
  let c4_i32_7463 : BitVec 32 := 4#32
  let c0_i32_7464 : BitVec 32 := 0#32
  let v14499 : BitVec 1 := Scalar.cmpi .eq c4_i32_7463 c0_i32_7464
  let c1_i32_7465 : BitVec 32 := 1#32
  let v14500 : BitVec 32 := Scalar.select v14499 c1_i32_7465 c4_i32_7463
  let v14501 : BitVec 32 := Scalar.remsi arg15 v14500
  let c0_i32_7467 : BitVec 32 := 0#32
  let v14503 : BitVec 1 := Scalar.cmpi .slt v14501 c0_i32_7467
  let c0_i32_7468 : BitVec 32 := 0#32
  let v14504 : BitVec 1 := Scalar.cmpi .slt v14500 c0_i32_7468
  let v14505 : BitVec 1 := Scalar.xori v14503 v14504
  let c0_i32_7466 : BitVec 32 := 0#32
  let v14502 : BitVec 1 := Scalar.cmpi .ne v14501 c0_i32_7466
  let v14506 : BitVec 1 := Scalar.andi v14505 v14502
  let v14507 : BitVec 32 := Scalar.addi v14501 v14500
  let v14508 : BitVec 32 := Scalar.select v14506 v14507 v14501
  let c128_i32_7469 : BitVec 32 := 128#32
  let v14509 : BitVec 32 := Scalar.muli v14508 c128_i32_7469
  let v14515 : BitVec 32 := Scalar.muli c4_i32_7473 v14509
  let v14516 : BitVec 32 := Scalar.addi v14511 v14515
  let v14523 : Index := Scalar.indexCast v14516
  let c0_7479 : Index := 0#32
  ![5, v14523.toNat, 0]
def k0_off71 (k0_t1 : Fin k0_t1_loop.trips) (c0_i32_7471 : BitVec 32) : Fin 3 → Nat :=
  let c0_7480 : Index := 0#32
  let c2_i32_7470 : BitVec 32 := 2#32
  let c0_i32_7452 : BitVec 32 := 0#32
  let c1_i32_7454 : BitVec 32 := 1#32
  let arg15 : BitVec 32 := Scf.iv c0_i32_7452 c1_i32_7454 k0_t1
  let c0_i32_7457 : BitVec 32 := 0#32
  let v14483 : BitVec 1 := Scalar.cmpi .sgt arg15 c0_i32_7457
  let v14484 : BitVec 32 := Scalar.extui v14483
  let c0_i32_7458 : BitVec 32 := 0#32
  let v14485 : BitVec 1 := Scalar.cmpi .slt arg15 c0_i32_7458
  let v14486 : BitVec 32 := Scalar.extui v14485
  let v14487 : BitVec 32 := Scalar.subi v14484 v14486
  let c4_i32_7456 : BitVec 32 := 4#32
  let c0_i32_7459 : BitVec 32 := 0#32
  let v14488 : BitVec 1 := Scalar.cmpi .sgt c4_i32_7456 c0_i32_7459
  let v14489 : BitVec 32 := Scalar.extui v14488
  let c0_i32_7460 : BitVec 32 := 0#32
  let v14490 : BitVec 1 := Scalar.cmpi .slt c4_i32_7456 c0_i32_7460
  let v14491 : BitVec 32 := Scalar.extui v14490
  let v14492 : BitVec 32 := Scalar.subi v14489 v14491
  let v14493 : BitVec 1 := Scalar.cmpi .ne v14487 v14492
  let v14494 : BitVec 32 := Scalar.remsi arg15 c4_i32_7456
  let c0_i32_7461 : BitVec 32 := 0#32
  let v14495 : BitVec 1 := Scalar.cmpi .ne v14494 c0_i32_7461
  let v14496 : BitVec 1 := Scalar.andi v14493 v14495
  let v14482 : BitVec 32 := Scalar.divsi arg15 c4_i32_7456
  let c1_i32_7462 : BitVec 32 := 1#32
  let v14497 : BitVec 32 := Scalar.subi v14482 c1_i32_7462
  let v14498 : BitVec 32 := Scalar.select v14496 v14497 v14482
  let v14510 : BitVec 32 := Scalar.muli c2_i32_7470 v14498
  let v14511 : BitVec 32 := Scalar.addi v14510 c0_i32_7471
  let c512_i32_7472 : BitVec 32 := 512#32
  let v14512 : BitVec 32 := Scalar.muli v14511 c512_i32_7472
  let c4_i32_7463 : BitVec 32 := 4#32
  let c0_i32_7464 : BitVec 32 := 0#32
  let v14499 : BitVec 1 := Scalar.cmpi .eq c4_i32_7463 c0_i32_7464
  let c1_i32_7465 : BitVec 32 := 1#32
  let v14500 : BitVec 32 := Scalar.select v14499 c1_i32_7465 c4_i32_7463
  let v14501 : BitVec 32 := Scalar.remsi arg15 v14500
  let c0_i32_7467 : BitVec 32 := 0#32
  let v14503 : BitVec 1 := Scalar.cmpi .slt v14501 c0_i32_7467
  let c0_i32_7468 : BitVec 32 := 0#32
  let v14504 : BitVec 1 := Scalar.cmpi .slt v14500 c0_i32_7468
  let v14505 : BitVec 1 := Scalar.xori v14503 v14504
  let c0_i32_7466 : BitVec 32 := 0#32
  let v14502 : BitVec 1 := Scalar.cmpi .ne v14501 c0_i32_7466
  let v14506 : BitVec 1 := Scalar.andi v14505 v14502
  let v14507 : BitVec 32 := Scalar.addi v14501 v14500
  let v14508 : BitVec 32 := Scalar.select v14506 v14507 v14501
  let c128_i32_7469 : BitVec 32 := 128#32
  let v14509 : BitVec 32 := Scalar.muli v14508 c128_i32_7469
  let v14513 : BitVec 32 := Scalar.addi v14512 v14509
  let v14514 : BitVec 32 := v14513
  let v14534 : Index := Scalar.indexCast v14514
  let c0_7481 : Index := 0#32
  ![0, v14534.toNat, 0]
def k0_off72 (k0_t1 : Fin k0_t1_loop.trips) (c0_i32_7471 : BitVec 32) : Fin 3 → Nat :=
  let c2_7483 : Index := 2#32
  let c2_i32_7470 : BitVec 32 := 2#32
  let c0_i32_7452 : BitVec 32 := 0#32
  let c1_i32_7454 : BitVec 32 := 1#32
  let arg15 : BitVec 32 := Scf.iv c0_i32_7452 c1_i32_7454 k0_t1
  let c0_i32_7457 : BitVec 32 := 0#32
  let v14483 : BitVec 1 := Scalar.cmpi .sgt arg15 c0_i32_7457
  let v14484 : BitVec 32 := Scalar.extui v14483
  let c0_i32_7458 : BitVec 32 := 0#32
  let v14485 : BitVec 1 := Scalar.cmpi .slt arg15 c0_i32_7458
  let v14486 : BitVec 32 := Scalar.extui v14485
  let v14487 : BitVec 32 := Scalar.subi v14484 v14486
  let c4_i32_7456 : BitVec 32 := 4#32
  let c0_i32_7459 : BitVec 32 := 0#32
  let v14488 : BitVec 1 := Scalar.cmpi .sgt c4_i32_7456 c0_i32_7459
  let v14489 : BitVec 32 := Scalar.extui v14488
  let c0_i32_7460 : BitVec 32 := 0#32
  let v14490 : BitVec 1 := Scalar.cmpi .slt c4_i32_7456 c0_i32_7460
  let v14491 : BitVec 32 := Scalar.extui v14490
  let v14492 : BitVec 32 := Scalar.subi v14489 v14491
  let v14493 : BitVec 1 := Scalar.cmpi .ne v14487 v14492
  let v14494 : BitVec 32 := Scalar.remsi arg15 c4_i32_7456
  let c0_i32_7461 : BitVec 32 := 0#32
  let v14495 : BitVec 1 := Scalar.cmpi .ne v14494 c0_i32_7461
  let v14496 : BitVec 1 := Scalar.andi v14493 v14495
  let v14482 : BitVec 32 := Scalar.divsi arg15 c4_i32_7456
  let c1_i32_7462 : BitVec 32 := 1#32
  let v14497 : BitVec 32 := Scalar.subi v14482 c1_i32_7462
  let v14498 : BitVec 32 := Scalar.select v14496 v14497 v14482
  let v14510 : BitVec 32 := Scalar.muli c2_i32_7470 v14498
  let v14511 : BitVec 32 := Scalar.addi v14510 c0_i32_7471
  let c512_i32_7472 : BitVec 32 := 512#32
  let v14512 : BitVec 32 := Scalar.muli v14511 c512_i32_7472
  let c4_i32_7463 : BitVec 32 := 4#32
  let c0_i32_7464 : BitVec 32 := 0#32
  let v14499 : BitVec 1 := Scalar.cmpi .eq c4_i32_7463 c0_i32_7464
  let c1_i32_7465 : BitVec 32 := 1#32
  let v14500 : BitVec 32 := Scalar.select v14499 c1_i32_7465 c4_i32_7463
  let v14501 : BitVec 32 := Scalar.remsi arg15 v14500
  let c0_i32_7467 : BitVec 32 := 0#32
  let v14503 : BitVec 1 := Scalar.cmpi .slt v14501 c0_i32_7467
  let c0_i32_7468 : BitVec 32 := 0#32
  let v14504 : BitVec 1 := Scalar.cmpi .slt v14500 c0_i32_7468
  let v14505 : BitVec 1 := Scalar.xori v14503 v14504
  let c0_i32_7466 : BitVec 32 := 0#32
  let v14502 : BitVec 1 := Scalar.cmpi .ne v14501 c0_i32_7466
  let v14506 : BitVec 1 := Scalar.andi v14505 v14502
  let v14507 : BitVec 32 := Scalar.addi v14501 v14500
  let v14508 : BitVec 32 := Scalar.select v14506 v14507 v14501
  let c128_i32_7469 : BitVec 32 := 128#32
  let v14509 : BitVec 32 := Scalar.muli v14508 c128_i32_7469
  let v14513 : BitVec 32 := Scalar.addi v14512 v14509
  let v14514 : BitVec 32 := v14513
  let v14540 : Index := Scalar.indexCast v14514
  let c0_7484 : Index := 0#32
  ![2, v14540.toNat, 0]
def k0_off73 (k0_t1 : Fin k0_t1_loop.trips) (c0_i32_7471 : BitVec 32) : Fin 3 → Nat :=
  let c4_7485 : Index := 4#32
  let c2_i32_7470 : BitVec 32 := 2#32
  let c0_i32_7452 : BitVec 32 := 0#32
  let c1_i32_7454 : BitVec 32 := 1#32
  let arg15 : BitVec 32 := Scf.iv c0_i32_7452 c1_i32_7454 k0_t1
  let c0_i32_7457 : BitVec 32 := 0#32
  let v14483 : BitVec 1 := Scalar.cmpi .sgt arg15 c0_i32_7457
  let v14484 : BitVec 32 := Scalar.extui v14483
  let c0_i32_7458 : BitVec 32 := 0#32
  let v14485 : BitVec 1 := Scalar.cmpi .slt arg15 c0_i32_7458
  let v14486 : BitVec 32 := Scalar.extui v14485
  let v14487 : BitVec 32 := Scalar.subi v14484 v14486
  let c4_i32_7456 : BitVec 32 := 4#32
  let c0_i32_7459 : BitVec 32 := 0#32
  let v14488 : BitVec 1 := Scalar.cmpi .sgt c4_i32_7456 c0_i32_7459
  let v14489 : BitVec 32 := Scalar.extui v14488
  let c0_i32_7460 : BitVec 32 := 0#32
  let v14490 : BitVec 1 := Scalar.cmpi .slt c4_i32_7456 c0_i32_7460
  let v14491 : BitVec 32 := Scalar.extui v14490
  let v14492 : BitVec 32 := Scalar.subi v14489 v14491
  let v14493 : BitVec 1 := Scalar.cmpi .ne v14487 v14492
  let v14494 : BitVec 32 := Scalar.remsi arg15 c4_i32_7456
  let c0_i32_7461 : BitVec 32 := 0#32
  let v14495 : BitVec 1 := Scalar.cmpi .ne v14494 c0_i32_7461
  let v14496 : BitVec 1 := Scalar.andi v14493 v14495
  let v14482 : BitVec 32 := Scalar.divsi arg15 c4_i32_7456
  let c1_i32_7462 : BitVec 32 := 1#32
  let v14497 : BitVec 32 := Scalar.subi v14482 c1_i32_7462
  let v14498 : BitVec 32 := Scalar.select v14496 v14497 v14482
  let v14510 : BitVec 32 := Scalar.muli c2_i32_7470 v14498
  let v14511 : BitVec 32 := Scalar.addi v14510 c0_i32_7471
  let c4_i32_7473 : BitVec 32 := 4#32
  let c4_i32_7463 : BitVec 32 := 4#32
  let c0_i32_7464 : BitVec 32 := 0#32
  let v14499 : BitVec 1 := Scalar.cmpi .eq c4_i32_7463 c0_i32_7464
  let c1_i32_7465 : BitVec 32 := 1#32
  let v14500 : BitVec 32 := Scalar.select v14499 c1_i32_7465 c4_i32_7463
  let v14501 : BitVec 32 := Scalar.remsi arg15 v14500
  let c0_i32_7467 : BitVec 32 := 0#32
  let v14503 : BitVec 1 := Scalar.cmpi .slt v14501 c0_i32_7467
  let c0_i32_7468 : BitVec 32 := 0#32
  let v14504 : BitVec 1 := Scalar.cmpi .slt v14500 c0_i32_7468
  let v14505 : BitVec 1 := Scalar.xori v14503 v14504
  let c0_i32_7466 : BitVec 32 := 0#32
  let v14502 : BitVec 1 := Scalar.cmpi .ne v14501 c0_i32_7466
  let v14506 : BitVec 1 := Scalar.andi v14505 v14502
  let v14507 : BitVec 32 := Scalar.addi v14501 v14500
  let v14508 : BitVec 32 := Scalar.select v14506 v14507 v14501
  let c128_i32_7469 : BitVec 32 := 128#32
  let v14509 : BitVec 32 := Scalar.muli v14508 c128_i32_7469
  let v14515 : BitVec 32 := Scalar.muli c4_i32_7473 v14509
  let v14516 : BitVec 32 := Scalar.addi v14511 v14515
  let v14545 : Index := Scalar.indexCast v14516
  let c0_7486 : Index := 0#32
  ![4, v14545.toNat, 0]
def k0_mult578 (k0_t1 : Fin k0_t1_loop.trips) : BitVec 32 :=
  let c2_i32_7487 : BitVec 32 := 2#32
  let c0_i32_7452 : BitVec 32 := 0#32
  let c1_i32_7454 : BitVec 32 := 1#32
  let arg15 : BitVec 32 := Scf.iv c0_i32_7452 c1_i32_7454 k0_t1
  let c0_i32_7457 : BitVec 32 := 0#32
  let v14483 : BitVec 1 := Scalar.cmpi .sgt arg15 c0_i32_7457
  let v14484 : BitVec 32 := Scalar.extui v14483
  let c0_i32_7458 : BitVec 32 := 0#32
  let v14485 : BitVec 1 := Scalar.cmpi .slt arg15 c0_i32_7458
  let v14486 : BitVec 32 := Scalar.extui v14485
  let v14487 : BitVec 32 := Scalar.subi v14484 v14486
  let c4_i32_7456 : BitVec 32 := 4#32
  let c0_i32_7459 : BitVec 32 := 0#32
  let v14488 : BitVec 1 := Scalar.cmpi .sgt c4_i32_7456 c0_i32_7459
  let v14489 : BitVec 32 := Scalar.extui v14488
  let c0_i32_7460 : BitVec 32 := 0#32
  let v14490 : BitVec 1 := Scalar.cmpi .slt c4_i32_7456 c0_i32_7460
  let v14491 : BitVec 32 := Scalar.extui v14490
  let v14492 : BitVec 32 := Scalar.subi v14489 v14491
  let v14493 : BitVec 1 := Scalar.cmpi .ne v14487 v14492
  let v14494 : BitVec 32 := Scalar.remsi arg15 c4_i32_7456
  let c0_i32_7461 : BitVec 32 := 0#32
  let v14495 : BitVec 1 := Scalar.cmpi .ne v14494 c0_i32_7461
  let v14496 : BitVec 1 := Scalar.andi v14493 v14495
  let v14482 : BitVec 32 := Scalar.divsi arg15 c4_i32_7456
  let c1_i32_7462 : BitVec 32 := 1#32
  let v14497 : BitVec 32 := Scalar.subi v14482 c1_i32_7462
  let v14498 : BitVec 32 := Scalar.select v14496 v14497 v14482
  let v14553 : BitVec 32 := Scalar.muli c2_i32_7487 v14498
  let c1_i32_7488 : BitVec 32 := 1#32
  let v14554 : BitVec 32 := Scalar.addi v14553 c1_i32_7488
  let c512_i32_7489 : BitVec 32 := 512#32
  let v14555 : BitVec 32 := Scalar.muli v14554 c512_i32_7489
  let c4_i32_7463 : BitVec 32 := 4#32
  let c0_i32_7464 : BitVec 32 := 0#32
  let v14499 : BitVec 1 := Scalar.cmpi .eq c4_i32_7463 c0_i32_7464
  let c1_i32_7465 : BitVec 32 := 1#32
  let v14500 : BitVec 32 := Scalar.select v14499 c1_i32_7465 c4_i32_7463
  let v14501 : BitVec 32 := Scalar.remsi arg15 v14500
  let c0_i32_7467 : BitVec 32 := 0#32
  let v14503 : BitVec 1 := Scalar.cmpi .slt v14501 c0_i32_7467
  let c0_i32_7468 : BitVec 32 := 0#32
  let v14504 : BitVec 1 := Scalar.cmpi .slt v14500 c0_i32_7468
  let v14505 : BitVec 1 := Scalar.xori v14503 v14504
  let c0_i32_7466 : BitVec 32 := 0#32
  let v14502 : BitVec 1 := Scalar.cmpi .ne v14501 c0_i32_7466
  let v14506 : BitVec 1 := Scalar.andi v14505 v14502
  let v14507 : BitVec 32 := Scalar.addi v14501 v14500
  let v14508 : BitVec 32 := Scalar.select v14506 v14507 v14501
  let c128_i32_7469 : BitVec 32 := 128#32
  let v14509 : BitVec 32 := Scalar.muli v14508 c128_i32_7469
  let v14556 : BitVec 32 := Scalar.addi v14555 v14509
  v14556
def k0_off74 (k0_t1 : Fin k0_t1_loop.trips) : Fin 2 → Nat :=
  let c0_i32_7452 : BitVec 32 := 0#32
  let c1_i32_7454 : BitVec 32 := 1#32
  let arg15 : BitVec 32 := Scf.iv c0_i32_7452 c1_i32_7454 k0_t1
  let c0_i32_7457 : BitVec 32 := 0#32
  let v14483 : BitVec 1 := Scalar.cmpi .sgt arg15 c0_i32_7457
  let v14484 : BitVec 32 := Scalar.extui v14483
  let c0_i32_7458 : BitVec 32 := 0#32
  let v14485 : BitVec 1 := Scalar.cmpi .slt arg15 c0_i32_7458
  let v14486 : BitVec 32 := Scalar.extui v14485
  let v14487 : BitVec 32 := Scalar.subi v14484 v14486
  let c4_i32_7456 : BitVec 32 := 4#32
  let c0_i32_7459 : BitVec 32 := 0#32
  let v14488 : BitVec 1 := Scalar.cmpi .sgt c4_i32_7456 c0_i32_7459
  let v14489 : BitVec 32 := Scalar.extui v14488
  let c0_i32_7460 : BitVec 32 := 0#32
  let v14490 : BitVec 1 := Scalar.cmpi .slt c4_i32_7456 c0_i32_7460
  let v14491 : BitVec 32 := Scalar.extui v14490
  let v14492 : BitVec 32 := Scalar.subi v14489 v14491
  let v14493 : BitVec 1 := Scalar.cmpi .ne v14487 v14492
  let v14494 : BitVec 32 := Scalar.remsi arg15 c4_i32_7456
  let c0_i32_7461 : BitVec 32 := 0#32
  let v14495 : BitVec 1 := Scalar.cmpi .ne v14494 c0_i32_7461
  let v14496 : BitVec 1 := Scalar.andi v14493 v14495
  let v14482 : BitVec 32 := Scalar.divsi arg15 c4_i32_7456
  let c1_i32_7462 : BitVec 32 := 1#32
  let v14497 : BitVec 32 := Scalar.subi v14482 c1_i32_7462
  let v14498 : BitVec 32 := Scalar.select v14496 v14497 v14482
  let c2_i32_7504 : BitVec 32 := 2#32
  let c4_i32_7463 : BitVec 32 := 4#32
  let c0_i32_7464 : BitVec 32 := 0#32
  let v14499 : BitVec 1 := Scalar.cmpi .eq c4_i32_7463 c0_i32_7464
  let c1_i32_7465 : BitVec 32 := 1#32
  let v14500 : BitVec 32 := Scalar.select v14499 c1_i32_7465 c4_i32_7463
  let v14501 : BitVec 32 := Scalar.remsi arg15 v14500
  let c0_i32_7467 : BitVec 32 := 0#32
  let v14503 : BitVec 1 := Scalar.cmpi .slt v14501 c0_i32_7467
  let c0_i32_7468 : BitVec 32 := 0#32
  let v14504 : BitVec 1 := Scalar.cmpi .slt v14500 c0_i32_7468
  let v14505 : BitVec 1 := Scalar.xori v14503 v14504
  let c0_i32_7466 : BitVec 32 := 0#32
  let v14502 : BitVec 1 := Scalar.cmpi .ne v14501 c0_i32_7466
  let v14506 : BitVec 1 := Scalar.andi v14505 v14502
  let v14507 : BitVec 32 := Scalar.addi v14501 v14500
  let v14508 : BitVec 32 := Scalar.select v14506 v14507 v14501
  let c128_i32_7469 : BitVec 32 := 128#32
  let v14509 : BitVec 32 := Scalar.muli v14508 c128_i32_7469
  let v14597 : BitVec 32 := Scalar.muli c2_i32_7504 v14509
  let v14598 : BitVec 32 := Scalar.addi v14498 v14597
  let v14599 : Index := Scalar.indexCast v14598
  let c0_7505 : Index := 0#32
  ![v14599.toNat, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Proj.lean ====
abbrev S32x2048x1024 : Shape := ⟨3, ![32, 2048, 1024]⟩
abbrev S1x1024 : Shape := ⟨2, ![1, 1024]⟩
abbrev S1x1024x4096 : Shape := ⟨3, ![1, 1024, 4096]⟩
abbrev S1x3x512 : Shape := ⟨3, ![1, 3, 512]⟩
abbrev S1x512 : Shape := ⟨2, ![1, 512]⟩
abbrev S8 : Shape := ⟨1, ![8]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S65536x1024 : Shape := ⟨2, ![65536, 1024]⟩
abbrev S1024 : Shape := ⟨1, ![1024]⟩
abbrev S1024x4096 : Shape := ⟨2, ![1024, 4096]⟩
abbrev S3x512 : Shape := ⟨2, ![3, 512]⟩
abbrev S512 : Shape := ⟨1, ![512]⟩
abbrev S32768x1024 : Shape := ⟨2, ![32768, 1024]⟩
abbrev S32768x512 : Shape := ⟨2, ![32768, 512]⟩
abbrev S65536x512 : Shape := ⟨2, ![65536, 512]⟩
abbrev S1024x1024 : Shape := ⟨2, ![1024, 1024]⟩
abbrev S8x1024 : Shape := ⟨2, ![8, 1024]⟩
abbrev S1024x128 : Shape := ⟨2, ![1024, 128]⟩
abbrev S512x1024 : Shape := ⟨2, ![512, 1024]⟩
abbrev S512x512 : Shape := ⟨2, ![512, 512]⟩
abbrev S1024x512 : Shape := ⟨2, ![1024, 512]⟩
abbrev S1024x1 : Shape := ⟨2, ![1024, 1]⟩
abbrev S1x128 : Shape := ⟨2, ![1, 128]⟩
abbrev S16x1024 : Shape := ⟨2, ![16, 1024]⟩
abbrev S16 : Shape := ⟨1, ![16]⟩
abbrev S16x1 : Shape := ⟨2, ![16, 1]⟩
abbrev S1040x1024 : Shape := ⟨2, ![1040, 1024]⟩
abbrev S1040x512 : Shape := ⟨2, ![1040, 512]⟩
abbrev S65536x4x2x128 : Shape := ⟨4, ![65536, 4, 2, 128]⟩
abbrev S65536x4x1x64 : Shape := ⟨4, ![65536, 4, 1, 64]⟩
abbrev S65536x4x64 : Shape := ⟨3, ![65536, 4, 64]⟩
abbrev S65536x4x2x64 : Shape := ⟨4, ![65536, 4, 2, 64]⟩

abbrev nBuf : Space → Nat
  | .hbm => 80
  | .vmem => 38
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x4096, .f32⟩
  | .hbm, ⟨3, _⟩ => ⟨S1x3x512, .f32⟩
  | .hbm, ⟨4, _⟩ => ⟨S1x512, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S2048, .f32⟩
  | .hbm, ⟨20, _⟩ => ⟨S2048x1, .f32⟩
  | .hbm, ⟨21, _⟩ => ⟨S1x8, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S2048x8, .f32⟩
  | .hbm, ⟨26, _⟩ => ⟨S2048x8, .f32⟩
  | .hbm, ⟨27, _⟩ => ⟨S_, .f32⟩
  | .hbm, ⟨28, _⟩ => ⟨S2048x48, .f32⟩
  | .hbm, ⟨29, _⟩ => ⟨S_, .f32⟩
  | .hbm, ⟨30, _⟩ => ⟨S2048x48, .f32⟩
  | .hbm, ⟨31, _⟩ => ⟨S_, .f32⟩
  | .hbm, ⟨32, _⟩ => ⟨S2048x8, .f32⟩
  | .hbm, ⟨33, _⟩ => ⟨S2048x64, .f32⟩
  | .hbm, ⟨34, _⟩ => ⟨S1x2048x1x64, .f32⟩
  | .hbm, ⟨35, _⟩ => ⟨S1x2048x2x64, .f32⟩
  | .hbm, ⟨36, _⟩ => ⟨S2048x128, .f32⟩
  | .hbm, ⟨37, _⟩ => ⟨S2048x8, .f32⟩
  | .hbm, ⟨38, _⟩ => ⟨S2048x64, .f32⟩
  | .hbm, ⟨39, _⟩ => ⟨S1x2048x1x64, .f32⟩
  | .hbm, ⟨40, _⟩ => ⟨S1x2048x2x64, .f32⟩
  | .hbm, ⟨41, _⟩ => ⟨S2048x128, .f32⟩
  | .hbm, ⟨42, _⟩ => ⟨S2048x64, .f32⟩
  | .hbm, ⟨43, _⟩ => ⟨S1x2048x1x64, .f32⟩
  | .hbm, ⟨44, _⟩ => ⟨S1x2048x2x64, .f32⟩
  | .hbm, ⟨45, _⟩ => ⟨S2048x128, .f32⟩
  | .hbm, ⟨46, _⟩ => ⟨S65536x1024, .f32⟩
  | .hbm, ⟨47, _⟩ => ⟨S1024, .f32⟩
  | .hbm, ⟨48, _⟩ => ⟨S1x1024, .f32⟩
  | .hbm, ⟨49, _⟩ => ⟨S1024x4096, .f32⟩
  | .hbm, ⟨50, _⟩ => ⟨S1024x4096, .bf16⟩
  | .hbm, ⟨51, _⟩ => ⟨S3x512, .f32⟩
  | .hbm, ⟨52, _⟩ => ⟨S512, .f32⟩
  | .hbm, ⟨53, _⟩ => ⟨S1x512, .f32⟩
  | .hbm, ⟨54, _⟩ => ⟨S32768x1024, .i32⟩
  | .hbm, ⟨55, _⟩ => ⟨S32768x512, .i32⟩
  | .hbm, ⟨56, _⟩ => ⟨S32768x1024, .i32⟩
  | .hbm, ⟨57, _⟩ => ⟨S65536x512, .bf16⟩
  | .hbm, ⟨58, _⟩ => ⟨S65536x512, .bf16⟩
  | .hbm, ⟨59, _⟩ => ⟨S65536x1024, .bf16⟩
  | .hbm, ⟨60, _⟩ => ⟨S65536x4x2x128, .bf16⟩
  | .hbm, ⟨61, _⟩ => ⟨S65536x4x1x64, .bf16⟩
  | .hbm, ⟨62, _⟩ => ⟨S65536x4x64, .bf16⟩
  | .hbm, ⟨63, _⟩ => ⟨S65536x4x1x64, .bf16⟩
  | .hbm, ⟨64, _⟩ => ⟨S65536x4x64, .bf16⟩
  | .hbm, ⟨65, _⟩ => ⟨S65536x4x1x64, .bf16⟩
  | .hbm, ⟨66, _⟩ => ⟨S65536x4x1x64, .bf16⟩
  | .hbm, ⟨67, _⟩ => ⟨S65536x4x2x64, .bf16⟩
  | .hbm, ⟨68, _⟩ => ⟨S65536x512, .bf16⟩
  | .hbm, ⟨69, _⟩ => ⟨S65536x512, .bf16⟩
  | .hbm, ⟨70, _⟩ => ⟨S65536x1024, .bf16⟩
  | .hbm, ⟨71, _⟩ => ⟨S65536x4x2x128, .bf16⟩
  | .hbm, ⟨72, _⟩ => ⟨S65536x4x1x64, .bf16⟩
  | .hbm, ⟨73, _⟩ => ⟨S65536x4x64, .bf16⟩
  | .hbm, ⟨74, _⟩ => ⟨S65536x4x1x64, .bf16⟩
  | .hbm, ⟨75, _⟩ => ⟨S65536x4x64, .bf16⟩
  | .hbm, ⟨76, _⟩ => ⟨S65536x4x1x64, .bf16⟩
  | .hbm, ⟨77, _⟩ => ⟨S65536x4x1x64, .bf16⟩
  | .hbm, ⟨78, _⟩ => ⟨S65536x4x2x64, .bf16⟩
  | .hbm, ⟨79, _⟩ => ⟨S65536x512, .bf16⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x4096, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S3x512, .f32⟩
  | .local _ .vmem, ⟨15, _⟩ => ⟨S1x512, .f32⟩
  | .local _ .vmem, ⟨16, _⟩ => ⟨S512x1024, .i32⟩
  | .local _ .vmem, ⟨17, _⟩ => ⟨S512x1024, .i32⟩
  | .local _ .vmem, ⟨18, _⟩ => ⟨S512x512, .i32⟩
  | .local _ .vmem, ⟨19, _⟩ => ⟨S512x512, .i32⟩
  | .local _ .vmem, ⟨20, _⟩ => ⟨S512x1024, .i32⟩
  | .local _ .vmem, ⟨21, _⟩ => ⟨S512x1024, .i32⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | .local _ .vmem, ⟨26, _⟩ => ⟨S512x1024, .i32⟩
  | .local _ .vmem, ⟨27, _⟩ => ⟨S512x1024, .i32⟩
  | .local _ .vmem, ⟨28, _⟩ => ⟨S1024x1024, .bf16⟩
  | .local _ .vmem, ⟨29, _⟩ => ⟨S1024x1024, .bf16⟩
  | .local _ .vmem, ⟨30, _⟩ => ⟨S512x512, .i32⟩
  | .local _ .vmem, ⟨31, _⟩ => ⟨S512x512, .i32⟩
  | .local _ .vmem, ⟨32, _⟩ => ⟨S1024x512, .bf16⟩
  | .local _ .vmem, ⟨33, _⟩ => ⟨S1024x512, .bf16⟩
  | .local _ .vmem, ⟨34, _⟩ => ⟨S512x1024, .i32⟩
  | .local _ .vmem, ⟨35, _⟩ => ⟨S512x1024, .i32⟩
  | .local _ .vmem, ⟨36, _⟩ => ⟨S1024x1024, .bf16⟩
  | .local _ .vmem, ⟨37, _⟩ => ⟨S1024x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42_0 : Ref sig .tc := ⟨.hbm, 54, rfl⟩
abbrev main_v42_1 : Ref sig .tc := ⟨.hbm, 55, rfl⟩
abbrev main_v42_2 : Ref sig .tc := ⟨.hbm, 56, rfl⟩
abbrev main_v42_3 : Ref sig .tc := ⟨.hbm, 57, rfl⟩
abbrev main_v42_4 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc3_sem0_0 : DmaSem sig := 34
abbrev cc3_sem0_1 : DmaSem sig := 35
abbrev cc3_sem1_0 : DmaSem sig := 36
abbrev cc3_sem1_1 : DmaSem sig := 37

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c8191_i32 : BitVec 32 := 8191#32
  let v2 : BitVec 32 := Scalar.minsi v1 c8191_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x512 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]
-- ==== ProjIdeal.lean ====
abbrev S32x2048x1024 : Shape := ⟨3, ![32, 2048, 1024]⟩
abbrev S1x1024 : Shape := ⟨2, ![1, 1024]⟩
abbrev S1x1024x4096 : Shape := ⟨3, ![1, 1024, 4096]⟩
abbrev S1x3x512 : Shape := ⟨3, ![1, 3, 512]⟩
abbrev S1x512 : Shape := ⟨2, ![1, 512]⟩
abbrev S8 : Shape := ⟨1, ![8]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S65536x1024 : Shape := ⟨2, ![65536, 1024]⟩
abbrev S1024 : Shape := ⟨1, ![1024]⟩
abbrev S1024x4096 : Shape := ⟨2, ![1024, 4096]⟩
abbrev S3x512 : Shape := ⟨2, ![3, 512]⟩
abbrev S512 : Shape := ⟨1, ![512]⟩
abbrev S32768x2x1024 : Shape := ⟨3, ![32768, 2, 1024]⟩
abbrev S32768x2x512 : Shape := ⟨3, ![32768, 2, 512]⟩
abbrev S65536x512 : Shape := ⟨2, ![65536, 512]⟩
abbrev S32768x1x1024 : Shape := ⟨3, ![32768, 1, 1024]⟩
abbrev S32768x1024 : Shape := ⟨2, ![32768, 1024]⟩
abbrev S32768x1x512 : Shape := ⟨3, ![32768, 1, 512]⟩
abbrev S32768x512 : Shape := ⟨2, ![32768, 512]⟩
abbrev S1024x1024 : Shape := ⟨2, ![1024, 1024]⟩
abbrev S8x1024 : Shape := ⟨2, ![8, 1024]⟩
abbrev S1024x128 : Shape := ⟨2, ![1024, 128]⟩
abbrev S512x1024 : Shape := ⟨2, ![512, 1024]⟩
abbrev S512x2x1024 : Shape := ⟨3, ![512, 2, 1024]⟩
abbrev S512x1x1024 : Shape := ⟨3, ![512, 1, 1024]⟩
abbrev S512x512 : Shape := ⟨2, ![512, 512]⟩
abbrev S512x2x512 : Shape := ⟨3, ![512, 2, 512]⟩
abbrev S512x1x512 : Shape := ⟨3, ![512, 1, 512]⟩
abbrev S1024x512 : Shape := ⟨2, ![1024, 512]⟩
abbrev S1024x1 : Shape := ⟨2, ![1024, 1]⟩
abbrev S1x128 : Shape := ⟨2, ![1, 128]⟩
abbrev S16x1024 : Shape := ⟨2, ![16, 1024]⟩
abbrev S16 : Shape := ⟨1, ![16]⟩
abbrev S16x1 : Shape := ⟨2, ![16, 1]⟩
abbrev S1040x1024 : Shape := ⟨2, ![1040, 1024]⟩
abbrev S1040x512 : Shape := ⟨2, ![1040, 512]⟩
abbrev S65536x4x2x128 : Shape := ⟨4, ![65536, 4, 2, 128]⟩
abbrev S65536x4x1x64 : Shape := ⟨4, ![65536, 4, 1, 64]⟩
abbrev S65536x4x64 : Shape := ⟨3, ![65536, 4, 64]⟩
abbrev S65536x4x2x64 : Shape := ⟨4, ![65536, 4, 2, 64]⟩

abbrev nBuf : Space → Nat
  | .hbm => 80
  | .vmem => 38
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x4096, .f32⟩
  | .hbm, ⟨3, _⟩ => ⟨S1x3x512, .f32⟩
  | .hbm, ⟨4, _⟩ => ⟨S1x512, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S2048, .f32⟩
  | .hbm, ⟨20, _⟩ => ⟨S2048x1, .f32⟩
  | .hbm, ⟨21, _⟩ => ⟨S1x8, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S2048x8, .f32⟩
  | .hbm, ⟨26, _⟩ => ⟨S2048x8, .f32⟩
  | .hbm, ⟨27, _⟩ => ⟨S_, .f32⟩
  | .hbm, ⟨28, _⟩ => ⟨S2048x48, .f32⟩
  | .hbm, ⟨29, _⟩ => ⟨S_, .f32⟩
  | .hbm, ⟨30, _⟩ => ⟨S2048x48, .f32⟩
  | .hbm, ⟨31, _⟩ => ⟨S_, .f32⟩
  | .hbm, ⟨32, _⟩ => ⟨S2048x8, .f32⟩
  | .hbm, ⟨33, _⟩ => ⟨S2048x64, .f32⟩
  | .hbm, ⟨34, _⟩ => ⟨S1x2048x1x64, .f32⟩
  | .hbm, ⟨35, _⟩ => ⟨S1x2048x2x64, .f32⟩
  | .hbm, ⟨36, _⟩ => ⟨S2048x128, .f32⟩
  | .hbm, ⟨37, _⟩ => ⟨S2048x8, .f32⟩
  | .hbm, ⟨38, _⟩ => ⟨S2048x64, .f32⟩
  | .hbm, ⟨39, _⟩ => ⟨S1x2048x1x64, .f32⟩
  | .hbm, ⟨40, _⟩ => ⟨S1x2048x2x64, .f32⟩
  | .hbm, ⟨41, _⟩ => ⟨S2048x128, .f32⟩
  | .hbm, ⟨42, _⟩ => ⟨S2048x64, .f32⟩
  | .hbm, ⟨43, _⟩ => ⟨S1x2048x1x64, .f32⟩
  | .hbm, ⟨44, _⟩ => ⟨S1x2048x2x64, .f32⟩
  | .hbm, ⟨45, _⟩ => ⟨S2048x128, .f32⟩
  | .hbm, ⟨46, _⟩ => ⟨S65536x1024, .f32⟩
  | .hbm, ⟨47, _⟩ => ⟨S1024, .f32⟩
  | .hbm, ⟨48, _⟩ => ⟨S1x1024, .f32⟩
  | .hbm, ⟨49, _⟩ => ⟨S1024x4096, .f32⟩
  | .hbm, ⟨50, _⟩ => ⟨S1024x4096, .bf16⟩
  | .hbm, ⟨51, _⟩ => ⟨S3x512, .f32⟩
  | .hbm, ⟨52, _⟩ => ⟨S512, .f32⟩
  | .hbm, ⟨53, _⟩ => ⟨S1x512, .f32⟩
  | .hbm, ⟨54, _⟩ => ⟨S32768x2x1024, .bf16⟩
  | .hbm, ⟨55, _⟩ => ⟨S32768x2x512, .bf16⟩
  | .hbm, ⟨56, _⟩ => ⟨S32768x2x1024, .bf16⟩
  | .hbm, ⟨57, _⟩ => ⟨S65536x512, .bf16⟩
  | .hbm, ⟨58, _⟩ => ⟨S65536x512, .bf16⟩
  | .hbm, ⟨59, _⟩ => ⟨S65536x1024, .bf16⟩
  | .hbm, ⟨60, _⟩ => ⟨S65536x4x2x128, .bf16⟩
  | .hbm, ⟨61, _⟩ => ⟨S65536x4x1x64, .bf16⟩
  | .hbm, ⟨62, _⟩ => ⟨S65536x4x64, .bf16⟩
  | .hbm, ⟨63, _⟩ => ⟨S65536x4x1x64, .bf16⟩
  | .hbm, ⟨64, _⟩ => ⟨S65536x4x64, .bf16⟩
  | .hbm, ⟨65, _⟩ => ⟨S65536x4x1x64, .bf16⟩
  | .hbm, ⟨66, _⟩ => ⟨S65536x4x1x64, .bf16⟩
  | .hbm, ⟨67, _⟩ => ⟨S65536x4x2x64, .bf16⟩
  | .hbm, ⟨68, _⟩ => ⟨S65536x512, .bf16⟩
  | .hbm, ⟨69, _⟩ => ⟨S65536x512, .bf16⟩
  | .hbm, ⟨70, _⟩ => ⟨S65536x1024, .bf16⟩
  | .hbm, ⟨71, _⟩ => ⟨S65536x4x2x128, .bf16⟩
  | .hbm, ⟨72, _⟩ => ⟨S65536x4x1x64, .bf16⟩
  | .hbm, ⟨73, _⟩ => ⟨S65536x4x64, .bf16⟩
  | .hbm, ⟨74, _⟩ => ⟨S65536x4x1x64, .bf16⟩
  | .hbm, ⟨75, _⟩ => ⟨S65536x4x64, .bf16⟩
  | .hbm, ⟨76, _⟩ => ⟨S65536x4x1x64, .bf16⟩
  | .hbm, ⟨77, _⟩ => ⟨S65536x4x1x64, .bf16⟩
  | .hbm, ⟨78, _⟩ => ⟨S65536x4x2x64, .bf16⟩
  | .hbm, ⟨79, _⟩ => ⟨S65536x512, .bf16⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x4096, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S3x512, .f32⟩
  | .local _ .vmem, ⟨15, _⟩ => ⟨S1x512, .f32⟩
  | .local _ .vmem, ⟨16, _⟩ => ⟨S512x2x1024, .bf16⟩
  | .local _ .vmem, ⟨17, _⟩ => ⟨S512x2x1024, .bf16⟩
  | .local _ .vmem, ⟨18, _⟩ => ⟨S512x2x512, .bf16⟩
  | .local _ .vmem, ⟨19, _⟩ => ⟨S512x2x512, .bf16⟩
  | .local _ .vmem, ⟨20, _⟩ => ⟨S512x2x1024, .bf16⟩
  | .local _ .vmem, ⟨21, _⟩ => ⟨S512x2x1024, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | .local _ .vmem, ⟨26, _⟩ => ⟨S512x2x1024, .bf16⟩
  | .local _ .vmem, ⟨27, _⟩ => ⟨S512x2x1024, .bf16⟩
  | .local _ .vmem, ⟨28, _⟩ => ⟨S1024x1024, .bf16⟩
  | .local _ .vmem, ⟨29, _⟩ => ⟨S1024x1024, .bf16⟩
  | .local _ .vmem, ⟨30, _⟩ => ⟨S512x2x512, .bf16⟩
  | .local _ .vmem, ⟨31, _⟩ => ⟨S512x2x512, .bf16⟩
  | .local _ .vmem, ⟨32, _⟩ => ⟨S1024x512, .bf16⟩
  | .local _ .vmem, ⟨33, _⟩ => ⟨S1024x512, .bf16⟩
  | .local _ .vmem, ⟨34, _⟩ => ⟨S512x2x1024, .bf16⟩
  | .local _ .vmem, ⟨35, _⟩ => ⟨S512x2x1024, .bf16⟩
  | .local _ .vmem, ⟨36, _⟩ => ⟨S1024x1024, .bf16⟩
  | .local _ .vmem, ⟨37, _⟩ => ⟨S1024x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42_0 : Ref sig .tc := ⟨.hbm, 54, rfl⟩
abbrev main_v42_1 : Ref sig .tc := ⟨.hbm, 55, rfl⟩
abbrev main_v42_2 : Ref sig .tc := ⟨.hbm, 56, rfl⟩
abbrev main_v42_3 : Ref sig .tc := ⟨.hbm, 57, rfl⟩
abbrev main_v42_4 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc3_sem0_0 : DmaSem sig := 34
abbrev cc3_sem0_1 : DmaSem sig := 35
abbrev cc3_sem1_0 : DmaSem sig := 36
abbrev cc3_sem1_1 : DmaSem sig := 37

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c8191_i32 : BitVec 32 := 8191#32
  let v2 : BitVec 32 := Scalar.minsi v1 c8191_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![64], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![64], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x2x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]
-- ==== ProjRefIdeal.lean ====
abbrev S32x2048x1024 : Shape := ⟨3, ![32, 2048, 1024]⟩
abbrev S1x1024 : Shape := ⟨2, ![1, 1024]⟩
abbrev S1x1024x4096 : Shape := ⟨3, ![1, 1024, 4096]⟩
abbrev S1x3x512 : Shape := ⟨3, ![1, 3, 512]⟩
abbrev S1x512 : Shape := ⟨2, ![1, 512]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x4096 : Shape := ⟨2, ![1024, 4096]⟩
abbrev S32x2048x4096 : Shape := ⟨3, ![32, 2048, 4096]⟩
abbrev S32x2048x512 : Shape := ⟨3, ![32, 2048, 512]⟩
abbrev S32x2050x512 : Shape := ⟨3, ![32, 2050, 512]⟩
abbrev S3x512 : Shape := ⟨2, ![3, 512]⟩
abbrev S512 : Shape := ⟨1, ![512]⟩
abbrev S1x1x512 : Shape := ⟨3, ![1, 1, 512]⟩
abbrev S2048 : Shape := ⟨1, ![2048]⟩
abbrev S32x2048x8x64 : Shape := ⟨4, ![32, 2048, 8, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S32x2048x8x8 : Shape := ⟨4, ![32, 2048, 8, 8]⟩
abbrev S32x2048x8x48 : Shape := ⟨4, ![32, 2048, 8, 48]⟩
abbrev S65536x512 : Shape := ⟨2, ![65536, 512]⟩

abbrev nBuf : Space → Nat
  | .hbm => 186
  | .vmem => 0
  | .smem => 0
  | _ => 0

abbrev hbmTy0_0 (i : Nat) : BufTy := match i % 128 with
  | 0 => ⟨S32x2048x1024, .f32⟩
  | 1 => ⟨S1x1024, .f32⟩
  | 2 => ⟨S1x1024x4096, .f32⟩
  | 3 => ⟨S1x3x512, .f32⟩
  | 4 => ⟨S1x512, .f32⟩
  | 5 => ⟨S1024, .f32⟩
  | 6 => ⟨S32x2048x1024, .f32⟩
  | 7 => ⟨S_, .f32⟩
  | 8 => ⟨S32x2048, .f32⟩
  | 9 => ⟨S32x2048x1, .f32⟩
  | 10 => ⟨S_, .f32⟩
  | 11 => ⟨S32x2048x1, .f32⟩
  | 12 => ⟨S32x2048x1, .f32⟩
  | 13 => ⟨S_, .f32⟩
  | 14 => ⟨S32x2048x1, .f32⟩
  | 15 => ⟨S32x2048x1, .f32⟩
  | 16 => ⟨S32x2048x1, .f32⟩
  | 17 => ⟨S32x2048x1024, .f32⟩
  | 18 => ⟨S32x2048x1024, .f32⟩
  | 19 => ⟨S1x1x1024, .f32⟩
  | 20 => ⟨S32x2048x1024, .f32⟩
  | 21 => ⟨S32x2048x1024, .f32⟩
  | 22 => ⟨S1024x4096, .f32⟩
  | 23 => ⟨S32x2048x4096, .f32⟩
  | 24 => ⟨S32x2048x512, .f32⟩
  | 25 => ⟨S32x2048x512, .f32⟩
  | 26 => ⟨S32x2048x512, .f32⟩
  | 27 => ⟨S32x2048x512, .f32⟩
  | 28 => ⟨S32x2048x512, .f32⟩
  | 29 => ⟨S32x2048x512, .f32⟩
  | 30 => ⟨S32x2048x512, .f32⟩
  | 31 => ⟨S32x2048x512, .f32⟩
  | 32 => ⟨S32x2048x512, .f32⟩
  | 33 => ⟨S_, .i32⟩
  | 34 => ⟨S_, .f32⟩
  | 35 => ⟨S32x2050x512, .f32⟩
  | 36 => ⟨S3x512, .f32⟩
  | 37 => ⟨S1x512, .f32⟩
  | 38 => ⟨S512, .f32⟩
  | 39 => ⟨S32x2048x512, .f32⟩
  | 40 => ⟨S1x1x512, .f32⟩
  | 41 => ⟨S32x2048x512, .f32⟩
  | 42 => ⟨S32x2048x512, .f32⟩
  | 43 => ⟨S1x512, .f32⟩
  | 44 => ⟨S512, .f32⟩
  | 45 => ⟨S32x2048x512, .f32⟩
  | 46 => ⟨S1x1x512, .f32⟩
  | 47 => ⟨S32x2048x512, .f32⟩
  | 48 => ⟨S32x2048x512, .f32⟩
  | 49 => ⟨S32x2048x512, .f32⟩
  | 50 => ⟨S1x512, .f32⟩
  | 51 => ⟨S512, .f32⟩
  | 52 => ⟨S32x2048x512, .f32⟩
  | 53 => ⟨S1x1x512, .f32⟩
  | 54 => ⟨S32x2048x512, .f32⟩
  | 55 => ⟨S32x2048x512, .f32⟩
  | 56 => ⟨S32x2048x512, .f32⟩
  | 57 => ⟨S32x2048x512, .f32⟩
  | 58 => ⟨S2048, .i32⟩
  | 59 => ⟨S32x2048x8x64, .f32⟩
  | 60 => ⟨S8, .f32⟩
  | 61 => ⟨S_, .f32⟩
  | 62 => ⟨S8, .f32⟩
  | 63 => ⟨S8, .f32⟩
  | 64 => ⟨S_, .f32⟩
  | 65 => ⟨S8, .f32⟩
  | 66 => ⟨S8, .f32⟩
  | 67 => ⟨S8, .f32⟩
  | 68 => ⟨S_, .f32⟩
  | 69 => ⟨S8, .f32⟩
  | 70 => ⟨S8, .f32⟩
  | 71 => ⟨S_, .f32⟩
  | 72 => ⟨S8, .f32⟩
  | 73 => ⟨S8, .f32⟩
  | 74 => ⟨S2048, .f32⟩
  | 75 => ⟨S2048x1, .f32⟩
  | 76 => ⟨S1x8, .f32⟩
  | 77 => ⟨S2048x8, .f32⟩
  | 78 => ⟨S2048x8, .f32⟩
  | 79 => ⟨S2048x8, .f32⟩
  | 80 => ⟨S2048x8, .f32⟩
  | 81 => ⟨S1x2048x1x8, .f32⟩
  | 82 => ⟨S2048x8, .f32⟩
  | 83 => ⟨S1x2048x1x8, .f32⟩
  | 84 => ⟨S32x2048x8x8, .f32⟩
  | 85 => ⟨S32x2048x8x8, .f32⟩
  | 86 => ⟨S32x2048x8x8, .f32⟩
  | 87 => ⟨S32x2048x8x8, .f32⟩
  | 88 => ⟨S32x2048x8x8, .f32⟩
  | 89 => ⟨S32x2048x8x8, .f32⟩
  | 90 => ⟨S32x2048x8x8, .f32⟩
  | 91 => ⟨S32x2048x8x8, .f32⟩
  | 92 => ⟨S32x2048x8x8, .f32⟩
  | 93 => ⟨S32x2048x8x8, .f32⟩
  | 94 => ⟨S32x2048x8x8, .f32⟩
  | 95 => ⟨S32x2048x8x8, .f32⟩
  | 96 => ⟨S32x2048x8x48, .f32⟩
  | 97 => ⟨S32x2048x8x64, .f32⟩
  | 98 => ⟨S_, .f32⟩
  | 99 => ⟨S32x2048x8x64, .f32⟩
  | 100 => ⟨S32x2048x8x64, .f32⟩
  | 101 => ⟨S32x2048x8x64, .f32⟩
  | 102 => ⟨S8, .f32⟩
  | 103 => ⟨S_, .f32⟩
  | 104 => ⟨S8, .f32⟩
  | 105 => ⟨S8, .f32⟩
  | 106 => ⟨S_, .f32⟩
  | 107 => ⟨S8, .f32⟩
  | 108 => ⟨S8, .f32⟩
  | 109 => ⟨S8, .f32⟩
  | 110 => ⟨S_, .f32⟩
  | 111 => ⟨S8, .f32⟩
  | 112 => ⟨S8, .f32⟩
  | 113 => ⟨S_, .f32⟩
  | 114 => ⟨S8, .f32⟩
  | 115 => ⟨S8, .f32⟩
  | 116 => ⟨S2048, .f32⟩
  | 117 => ⟨S2048x1, .f32⟩
  | 118 => ⟨S1x8, .f32⟩
  | 119 => ⟨S2048x8, .f32⟩
  | 120 => ⟨S2048x8, .f32⟩
  | 121 => ⟨S2048x8, .f32⟩
  | 122 => ⟨S2048x8, .f32⟩
  | 123 => ⟨S1x2048x1x8, .f32⟩
  | 124 => ⟨S2048x8, .f32⟩
  | 125 => ⟨S1x2048x1x8, .f32⟩
  | 126 => ⟨S32x2048x8x8, .f32⟩
  | 127 => ⟨S32x2048x8x8, .f32⟩
  | _ => ⟨S32x2048x1024, .f32⟩

abbrev hbmTy0_1 (i : Nat) : BufTy := match i % 128 with
  | 0 => ⟨S32x2048x8x8, .f32⟩
  | 1 => ⟨S32x2048x8x8, .f32⟩
  | 2 => ⟨S32x2048x8x8, .f32⟩
  | 3 => ⟨S32x2048x8x8, .f32⟩
  | 4 => ⟨S32x2048x8x8, .f32⟩
  | 5 => ⟨S32x2048x8x8, .f32⟩
  | 6 => ⟨S32x2048x8x8, .f32⟩
  | 7 => ⟨S32x2048x8x8, .f32⟩
  | 8 => ⟨S32x2048x8x8, .f32⟩
  | 9 => ⟨S32x2048x8x8, .f32⟩
  | 10 => ⟨S32x2048x8x48, .f32⟩
  | 11 => ⟨S32x2048x8x64, .f32⟩
  | 12 => ⟨S512, .f32⟩
  | 13 => ⟨S32x2048x512, .f32⟩
  | 14 => ⟨S_, .f32⟩
  | 15 => ⟨S32x2048, .f32⟩
  | 16 => ⟨S32x2048x1, .f32⟩
  | 17 => ⟨S_, .f32⟩
  | 18 => ⟨S32x2048x1, .f32⟩
  | 19 => ⟨S32x2048x1, .f32⟩
  | 20 => ⟨S_, .f32⟩
  | 21 => ⟨S32x2048x1, .f32⟩
  | 22 => ⟨S32x2048x1, .f32⟩
  | 23 => ⟨S32x2048x1, .f32⟩
  | 24 => ⟨S32x2048x512, .f32⟩
  | 25 => ⟨S32x2048x512, .f32⟩
  | 26 => ⟨S1x1x512, .f32⟩
  | 27 => ⟨S32x2048x512, .f32⟩
  | 28 => ⟨S32x2048x512, .f32⟩
  | 29 => ⟨S32x2048x512, .f32⟩
  | 30 => ⟨S32x2048x512, .f32⟩
  | 31 => ⟨S_, .f32⟩
  | 32 => ⟨S32x2048x512, .f32⟩
  | 33 => ⟨S32x2048x512, .f32⟩
  | 34 => ⟨S_, .f32⟩
  | 35 => ⟨S32x2048x512, .f32⟩
  | 36 => ⟨S32x2048x512, .f32⟩
  | 37 => ⟨S32x2048x512, .f32⟩
  | 38 => ⟨S32x2048x512, .f32⟩
  | 39 => ⟨S32x2048x512, .f32⟩
  | 40 => ⟨S32x2048x512, .f32⟩
  | 41 => ⟨S_, .f32⟩
  | 42 => ⟨S32x2048x512, .f32⟩
  | 43 => ⟨S32x2048x512, .f32⟩
  | 44 => ⟨S_, .f32⟩
  | 45 => ⟨S32x2048x512, .f32⟩
  | 46 => ⟨S32x2048x512, .f32⟩
  | 47 => ⟨S32x2048x512, .f32⟩
  | 48 => ⟨S65536x512, .f32⟩
  | 49 => ⟨S65536x512, .bf16⟩
  | 50 => ⟨S65536x512, .f32⟩
  | 51 => ⟨S65536x512, .bf16⟩
  | 52 => ⟨S65536x512, .f32⟩
  | 53 => ⟨S65536x512, .bf16⟩
  | 54 => ⟨S65536x512, .f32⟩
  | 55 => ⟨S65536x512, .bf16⟩
  | 56 => ⟨S65536x512, .f32⟩
  | 57 => ⟨S65536x512, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c : Ref sig .tc := ⟨.hbm, 33, rfl⟩
abbrev main_call0_v0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_2 : Ref sig .tc := ⟨.hbm, 61, rfl⟩
abbrev main_v51 : Ref sig .tc := ⟨.hbm, 62, rfl⟩
abbrev main_v52 : Ref sig .tc := ⟨.hbm, 63, rfl⟩
abbrev main_cst_3 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_4 : Ref sig .tc := ⟨.hbm, 68, rfl⟩
abbrev main_v56 : Ref sig .tc := ⟨.hbm, 69, rfl⟩
abbrev main_v57 : Ref sig .tc := ⟨.hbm, 70, rfl⟩
abbrev main_cst_5 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_cst_6 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_cst_7 : Ref sig .tc := ⟨.hbm, 103, rfl⟩
abbrev main_v88 : Ref sig .tc := ⟨.hbm, 104, rfl⟩
abbrev main_v89 : Ref sig .tc := ⟨.hbm, 105, rfl⟩
abbrev main_cst_8 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_cst_9 : Ref sig .tc := ⟨.hbm, 110, rfl⟩
abbrev main_v93 : Ref sig .tc := ⟨.hbm, 111, rfl⟩
abbrev main_v94 : Ref sig .tc := ⟨.hbm, 112, rfl⟩
abbrev main_cst_10 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_cst_11 : Ref sig .tc := ⟨.hbm, 142, rfl⟩
abbrev main_v123 : Ref sig .tc := ⟨.hbm, 143, rfl⟩
abbrev main_v124 : Ref sig .tc := ⟨.hbm, 144, rfl⟩
abbrev main_cst_12 : Ref sig .tc := ⟨.hbm, 145, rfl⟩
abbrev main_v125 : Ref sig .tc := ⟨.hbm, 146, rfl⟩
abbrev main_v126 : Ref sig .tc := ⟨.hbm, 147, rfl⟩
abbrev main_cst_13 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_call1_v0 : Ref sig .tc := ⟨.hbm, 157, rfl⟩
abbrev main_call1_v1 : Ref sig .tc := ⟨.hbm, 158, rfl⟩
abbrev main_call1_cst : Ref sig .tc := ⟨.hbm, 159, rfl⟩
abbrev main_call1_v2 : Ref sig .tc := ⟨.hbm, 160, rfl⟩
abbrev main_call1_v3 : Ref sig .tc := ⟨.hbm, 161, rfl⟩
abbrev main_call1_cst_0 : Ref sig .tc := ⟨.hbm, 162, rfl⟩
abbrev main_call1_v4 : Ref sig .tc := ⟨.hbm, 163, rfl⟩
abbrev main_call1_v5 : Ref sig .tc := ⟨.hbm, 164, rfl⟩
abbrev main_v135 : Ref sig .tc := ⟨.hbm, 165, rfl⟩
abbrev main_v136 : Ref sig .tc := ⟨.hbm, 166, rfl⟩
abbrev main_call2_v0 : Ref sig .tc := ⟨.hbm, 167, rfl⟩
abbrev main_call2_v1 : Ref sig .tc := ⟨.hbm, 168, rfl⟩
abbrev main_call2_cst : Ref sig .tc := ⟨.hbm, 169, rfl⟩
abbrev main_call2_v2 : Ref sig .tc := ⟨.hbm, 170, rfl⟩
abbrev main_call2_v3 : Ref sig .tc := ⟨.hbm, 171, rfl⟩
abbrev main_call2_cst_0 : Ref sig .tc := ⟨.hbm, 172, rfl⟩
abbrev main_call2_v4 : Ref sig .tc := ⟨.hbm, 173, rfl⟩
abbrev main_call2_v5 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩

abbrev nD : Nat := 1
abbrev τ : Topo := Topo.v7x

variable {F : FTy → Type} [FloatOps F]
-- ==== Tail.lean ====
abbrev S32x2048x1024 : Shape := ⟨3, ![32, 2048, 1024]⟩
abbrev S1x32x2048x256 : Shape := ⟨4, ![1, 32, 2048, 256]⟩
abbrev S65536x512 : Shape := ⟨2, ![65536, 512]⟩
abbrev S1x512 : Shape := ⟨2, ![1, 512]⟩
abbrev S1x1024x1024 : Shape := ⟨3, ![1, 1024, 1024]⟩
abbrev S1x1024 : Shape := ⟨2, ![1, 1024]⟩
abbrev S1x256x1024 : Shape := ⟨3, ![1, 256, 1024]⟩
abbrev S1024 : Shape := ⟨1, ![1024]⟩
abbrev S65536x1024 : Shape := ⟨2, ![65536, 1024]⟩
abbrev S32x2048x256 : Shape := ⟨3, ![32, 2048, 256]⟩
abbrev S65536x256 : Shape := ⟨2, ![65536, 256]⟩
abbrev S32768x512 : Shape := ⟨2, ![32768, 512]⟩
abbrev S1024x512 : Shape := ⟨2, ![1024, 512]⟩
abbrev S512x512 : Shape := ⟨2, ![512, 512]⟩
abbrev S512 : Shape := ⟨1, ![512]⟩
abbrev S1024x1024 : Shape := ⟨2, ![1024, 1024]⟩
abbrev S256x1024 : Shape := ⟨2, ![256, 1024]⟩
abbrev S1024x256 : Shape := ⟨2, ![1024, 256]⟩
abbrev S1024x1 : Shape := ⟨2, ![1024, 1]⟩

abbrev nBuf : Space → Nat
  | .hbm => 31
  | .vmem => 23
  | .smem => 0
  | _ => 0

abbrev bufTy : (tb : Table) → Fin (tcTables nBuf tb) → BufTy
  | .hbm, ⟨0, _⟩ => ⟨S32x2048x1024, .f32⟩
  | .hbm, ⟨1, _⟩ => ⟨S1x32x2048x256, .f32⟩
  | .hbm, ⟨2, _⟩ => ⟨S65536x512, .bf16⟩
  | .hbm, ⟨3, _⟩ => ⟨S65536x512, .bf16⟩
  | .hbm, ⟨4, _⟩ => ⟨S65536x512, .bf16⟩
  | .hbm, ⟨5, _⟩ => ⟨S1x512, .f32⟩
  | .hbm, ⟨6, _⟩ => ⟨S1x1024x1024, .f32⟩
  | .hbm, ⟨7, _⟩ => ⟨S1x1024, .f32⟩
  | .hbm, ⟨8, _⟩ => ⟨S1x1024x1024, .f32⟩
  | .hbm, ⟨9, _⟩ => ⟨S1x1024, .f32⟩
  | .hbm, ⟨10, _⟩ => ⟨S1x256x1024, .f32⟩
  | .hbm, ⟨11, _⟩ => ⟨S1024, .f32⟩
  | .hbm, ⟨12, _⟩ => ⟨S65536x1024, .f32⟩
  | .hbm, ⟨13, _⟩ => ⟨S32x2048x256, .f32⟩
  | .hbm, ⟨14, _⟩ => ⟨S65536x256, .f32⟩
  | .hbm, ⟨15, _⟩ => ⟨S32768x512, .i32⟩
  | .hbm, ⟨16, _⟩ => ⟨S512, .f32⟩
  | .hbm, ⟨17, _⟩ => ⟨S1x512, .f32⟩
  | .hbm, ⟨18, _⟩ => ⟨S1024x1024, .f32⟩
  | .hbm, ⟨19, _⟩ => ⟨S1024x1024, .bf16⟩
  | .hbm, ⟨20, _⟩ => ⟨S1024, .f32⟩
  | .hbm, ⟨21, _⟩ => ⟨S1x1024, .f32⟩
  | .hbm, ⟨22, _⟩ => ⟨S1024x1024, .f32⟩
  | .hbm, ⟨23, _⟩ => ⟨S1024x1024, .bf16⟩
  | .hbm, ⟨24, _⟩ => ⟨S1024, .f32⟩
  | .hbm, ⟨25, _⟩ => ⟨S1x1024, .f32⟩
  | .hbm, ⟨26, _⟩ => ⟨S256x1024, .f32⟩
  | .hbm, ⟨27, _⟩ => ⟨S256x1024, .bf16⟩
  | .hbm, ⟨28, _⟩ => ⟨S1x1024, .f32⟩
  | .hbm, ⟨29, _⟩ => ⟨S65536x1024, .f32⟩
  | .hbm, ⟨30, _⟩ => ⟨S32x2048x1024, .f32⟩
  | .local _ .vmem, ⟨0, _⟩ => ⟨S1024x512, .bf16⟩
  | .local _ .vmem, ⟨1, _⟩ => ⟨S1024x512, .bf16⟩
  | .local _ .vmem, ⟨2, _⟩ => ⟨S512x512, .i32⟩
  | .local _ .vmem, ⟨3, _⟩ => ⟨S512x512, .i32⟩
  | .local _ .vmem, ⟨4, _⟩ => ⟨S1024x1024, .f32⟩
  | .local _ .vmem, ⟨5, _⟩ => ⟨S1024x1024, .f32⟩
  | .local _ .vmem, ⟨6, _⟩ => ⟨S1024x256, .f32⟩
  | .local _ .vmem, ⟨7, _⟩ => ⟨S1024x256, .f32⟩
  | .local _ .vmem, ⟨8, _⟩ => ⟨S512x512, .i32⟩
  | .local _ .vmem, ⟨9, _⟩ => ⟨S512x512, .i32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1x512, .f32⟩
  | .local _ .vmem, ⟨15, _⟩ => ⟨S1024x1024, .bf16⟩
  | .local _ .vmem, ⟨16, _⟩ => ⟨S1x1024, .f32⟩
  | .local _ .vmem, ⟨17, _⟩ => ⟨S1024x1024, .bf16⟩
  | .local _ .vmem, ⟨18, _⟩ => ⟨S1x1024, .f32⟩
  | .local _ .vmem, ⟨19, _⟩ => ⟨S256x1024, .bf16⟩
  | .local _ .vmem, ⟨20, _⟩ => ⟨S1x1024, .f32⟩
  | .local _ .vmem, ⟨21, _⟩ => ⟨S1024x1024, .f32⟩
  | .local _ .vmem, ⟨22, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem12_1 : DmaSem sig := 22

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x512 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S256x1024 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1024x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]
-- ==== TailIdeal.lean ====
abbrev S32x2048x1024 : Shape := ⟨3, ![32, 2048, 1024]⟩
abbrev S1x32x2048x256 : Shape := ⟨4, ![1, 32, 2048, 256]⟩
abbrev S65536x512 : Shape := ⟨2, ![65536, 512]⟩
abbrev S1x512 : Shape := ⟨2, ![1, 512]⟩
abbrev S1x1024x1024 : Shape := ⟨3, ![1, 1024, 1024]⟩
abbrev S1x1024 : Shape := ⟨2, ![1, 1024]⟩
abbrev S1x256x1024 : Shape := ⟨3, ![1, 256, 1024]⟩
abbrev S1024 : Shape := ⟨1, ![1024]⟩
abbrev S65536x1024 : Shape := ⟨2, ![65536, 1024]⟩
abbrev S32x2048x256 : Shape := ⟨3, ![32, 2048, 256]⟩
abbrev S65536x256 : Shape := ⟨2, ![65536, 256]⟩
abbrev S32768x2x512 : Shape := ⟨3, ![32768, 2, 512]⟩
abbrev S32768x1x512 : Shape := ⟨3, ![32768, 1, 512]⟩
abbrev S32768x512 : Shape := ⟨2, ![32768, 512]⟩
abbrev S1024x512 : Shape := ⟨2, ![1024, 512]⟩
abbrev S512x512 : Shape := ⟨2, ![512, 512]⟩
abbrev S512x2x512 : Shape := ⟨3, ![512, 2, 512]⟩
abbrev S512x1x512 : Shape := ⟨3, ![512, 1, 512]⟩
abbrev S512 : Shape := ⟨1, ![512]⟩
abbrev S1024x1024 : Shape := ⟨2, ![1024, 1024]⟩
abbrev S256x1024 : Shape := ⟨2, ![256, 1024]⟩
abbrev S1024x256 : Shape := ⟨2, ![1024, 256]⟩
abbrev S1024x1 : Shape := ⟨2, ![1024, 1]⟩

abbrev nBuf : Space → Nat
  | .hbm => 31
  | .vmem => 23
  | .smem => 0
  | _ => 0

abbrev bufTy : (tb : Table) → Fin (tcTables nBuf tb) → BufTy
  | .hbm, ⟨0, _⟩ => ⟨S32x2048x1024, .f32⟩
  | .hbm, ⟨1, _⟩ => ⟨S1x32x2048x256, .f32⟩
  | .hbm, ⟨2, _⟩ => ⟨S65536x512, .bf16⟩
  | .hbm, ⟨3, _⟩ => ⟨S65536x512, .bf16⟩
  | .hbm, ⟨4, _⟩ => ⟨S65536x512, .bf16⟩
  | .hbm, ⟨5, _⟩ => ⟨S1x512, .f32⟩
  | .hbm, ⟨6, _⟩ => ⟨S1x1024x1024, .f32⟩
  | .hbm, ⟨7, _⟩ => ⟨S1x1024, .f32⟩
  | .hbm, ⟨8, _⟩ => ⟨S1x1024x1024, .f32⟩
  | .hbm, ⟨9, _⟩ => ⟨S1x1024, .f32⟩
  | .hbm, ⟨10, _⟩ => ⟨S1x256x1024, .f32⟩
  | .hbm, ⟨11, _⟩ => ⟨S1024, .f32⟩
  | .hbm, ⟨12, _⟩ => ⟨S65536x1024, .f32⟩
  | .hbm, ⟨13, _⟩ => ⟨S32x2048x256, .f32⟩
  | .hbm, ⟨14, _⟩ => ⟨S65536x256, .f32⟩
  | .hbm, ⟨15, _⟩ => ⟨S32768x2x512, .bf16⟩
  | .hbm, ⟨16, _⟩ => ⟨S512, .f32⟩
  | .hbm, ⟨17, _⟩ => ⟨S1x512, .f32⟩
  | .hbm, ⟨18, _⟩ => ⟨S1024x1024, .f32⟩
  | .hbm, ⟨19, _⟩ => ⟨S1024x1024, .bf16⟩
  | .hbm, ⟨20, _⟩ => ⟨S1024, .f32⟩
  | .hbm, ⟨21, _⟩ => ⟨S1x1024, .f32⟩
  | .hbm, ⟨22, _⟩ => ⟨S1024x1024, .f32⟩
  | .hbm, ⟨23, _⟩ => ⟨S1024x1024, .bf16⟩
  | .hbm, ⟨24, _⟩ => ⟨S1024, .f32⟩
  | .hbm, ⟨25, _⟩ => ⟨S1x1024, .f32⟩
  | .hbm, ⟨26, _⟩ => ⟨S256x1024, .f32⟩
  | .hbm, ⟨27, _⟩ => ⟨S256x1024, .bf16⟩
  | .hbm, ⟨28, _⟩ => ⟨S1x1024, .f32⟩
  | .hbm, ⟨29, _⟩ => ⟨S65536x1024, .f32⟩
  | .hbm, ⟨30, _⟩ => ⟨S32x2048x1024, .f32⟩
  | .local _ .vmem, ⟨0, _⟩ => ⟨S1024x512, .bf16⟩
  | .local _ .vmem, ⟨1, _⟩ => ⟨S1024x512, .bf16⟩
  | .local _ .vmem, ⟨2, _⟩ => ⟨S512x2x512, .bf16⟩
  | .local _ .vmem, ⟨3, _⟩ => ⟨S512x2x512, .bf16⟩
  | .local _ .vmem, ⟨4, _⟩ => ⟨S1024x1024, .f32⟩
  | .local _ .vmem, ⟨5, _⟩ => ⟨S1024x1024, .f32⟩
  | .local _ .vmem, ⟨6, _⟩ => ⟨S1024x256, .f32⟩
  | .local _ .vmem, ⟨7, _⟩ => ⟨S1024x256, .f32⟩
  | .local _ .vmem, ⟨8, _⟩ => ⟨S512x2x512, .bf16⟩
  | .local _ .vmem, ⟨9, _⟩ => ⟨S512x2x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1x512, .f32⟩
  | .local _ .vmem, ⟨15, _⟩ => ⟨S1024x1024, .bf16⟩
  | .local _ .vmem, ⟨16, _⟩ => ⟨S1x1024, .f32⟩
  | .local _ .vmem, ⟨17, _⟩ => ⟨S1024x1024, .bf16⟩
  | .local _ .vmem, ⟨18, _⟩ => ⟨S1x1024, .f32⟩
  | .local _ .vmem, ⟨19, _⟩ => ⟨S256x1024, .bf16⟩
  | .local _ .vmem, ⟨20, _⟩ => ⟨S1x1024, .f32⟩
  | .local _ .vmem, ⟨21, _⟩ => ⟨S1024x1024, .f32⟩
  | .local _ .vmem, ⟨22, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem12_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S256x1024 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1024x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]
-- ==== TailRefIdeal.lean ====
abbrev S32x2048x1024 : Shape := ⟨3, ![32, 2048, 1024]⟩
abbrev S1x32x2048x256 : Shape := ⟨4, ![1, 32, 2048, 256]⟩
abbrev S65536x512 : Shape := ⟨2, ![65536, 512]⟩
abbrev S1x512 : Shape := ⟨2, ![1, 512]⟩
abbrev S1x1024x1024 : Shape := ⟨3, ![1, 1024, 1024]⟩
abbrev S1x1024 : Shape := ⟨2, ![1, 1024]⟩
abbrev S1x256x1024 : Shape := ⟨3, ![1, 256, 1024]⟩
abbrev S1024 : Shape := ⟨1, ![1024]⟩
abbrev S32x2048x512 : Shape := ⟨3, ![32, 2048, 512]⟩
abbrev S512 : Shape := ⟨1, ![512]⟩
abbrev S_ : Shape := ⟨0, ![]⟩
abbrev S32x2048 : Shape := ⟨2, ![32, 2048]⟩
abbrev S32x2048x1 : Shape := ⟨3, ![32, 2048, 1]⟩
abbrev S1x1x512 : Shape := ⟨3, ![1, 1, 512]⟩
abbrev S1024x1024 : Shape := ⟨2, ![1024, 1024]⟩
abbrev S1x1x1024 : Shape := ⟨3, ![1, 1, 1024]⟩
abbrev S32x2048x256 : Shape := ⟨3, ![32, 2048, 256]⟩
abbrev S256x1024 : Shape := ⟨2, ![256, 1024]⟩

abbrev nBuf : Space → Nat
  | .hbm => 92
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1x32x2048x256, .f32⟩
  | .hbm, ⟨2, _⟩ => ⟨S65536x512, .bf16⟩
  | .hbm, ⟨3, _⟩ => ⟨S65536x512, .bf16⟩
  | .hbm, ⟨4, _⟩ => ⟨S65536x512, .bf16⟩
  | .hbm, ⟨5, _⟩ => ⟨S1x512, .f32⟩
  | .hbm, ⟨6, _⟩ => ⟨S1x1024x1024, .f32⟩
  | .hbm, ⟨7, _⟩ => ⟨S1x1024, .f32⟩
  | .hbm, ⟨8, _⟩ => ⟨S1x1024x1024, .f32⟩
  | .hbm, ⟨9, _⟩ => ⟨S1x1024, .f32⟩
  | .hbm, ⟨10, _⟩ => ⟨S1x256x1024, .f32⟩
  | .hbm, ⟨11, _⟩ => ⟨S1024, .f32⟩
  | .hbm, ⟨12, _⟩ => ⟨S65536x512, .f32⟩
  | .hbm, ⟨13, _⟩ => ⟨S32x2048x512, .f32⟩
  | .hbm, ⟨14, _⟩ => ⟨S65536x512, .f32⟩
  | .hbm, ⟨15, _⟩ => ⟨S32x2048x512, .f32⟩
  | .hbm, ⟨16, _⟩ => ⟨S65536x512, .f32⟩
  | .hbm, ⟨17, _⟩ => ⟨S32x2048x512, .f32⟩
  | .hbm, ⟨18, _⟩ => ⟨S512, .f32⟩
  | .hbm, ⟨19, _⟩ => ⟨S32x2048x512, .f32⟩
  | .hbm, ⟨20, _⟩ => ⟨S_, .f32⟩
  | .hbm, ⟨21, _⟩ => ⟨S32x2048, .f32⟩
  | .hbm, ⟨22, _⟩ => ⟨S32x2048x1, .f32⟩
  | .hbm, ⟨23, _⟩ => ⟨S_, .f32⟩
  | .hbm, ⟨24, _⟩ => ⟨S32x2048x1, .f32⟩
  | .hbm, ⟨25, _⟩ => ⟨S32x2048x1, .f32⟩
  | .hbm, ⟨26, _⟩ => ⟨S_, .f32⟩
  | .hbm, ⟨27, _⟩ => ⟨S32x2048x1, .f32⟩
  | .hbm, ⟨28, _⟩ => ⟨S32x2048x1, .f32⟩
  | .hbm, ⟨29, _⟩ => ⟨S32x2048x1, .f32⟩
  | .hbm, ⟨30, _⟩ => ⟨S32x2048x512, .f32⟩
  | .hbm, ⟨31, _⟩ => ⟨S32x2048x512, .f32⟩
  | .hbm, ⟨32, _⟩ => ⟨S1x1x512, .f32⟩
  | .hbm, ⟨33, _⟩ => ⟨S32x2048x512, .f32⟩
  | .hbm, ⟨34, _⟩ => ⟨S32x2048x512, .f32⟩
  | .hbm, ⟨35, _⟩ => ⟨S32x2048x512, .f32⟩
  | .hbm, ⟨36, _⟩ => ⟨S32x2048x1024, .f32⟩
  | .hbm, ⟨37, _⟩ => ⟨S1024x1024, .f32⟩
  | .hbm, ⟨38, _⟩ => ⟨S32x2048x1024, .f32⟩
  | .hbm, ⟨39, _⟩ => ⟨S32x2048x1024, .f32⟩
  | .hbm, ⟨40, _⟩ => ⟨S1024, .f32⟩
  | .hbm, ⟨41, _⟩ => ⟨S32x2048x1024, .f32⟩
  | .hbm, ⟨42, _⟩ => ⟨S_, .f32⟩
  | .hbm, ⟨43, _⟩ => ⟨S32x2048, .f32⟩
  | .hbm, ⟨44, _⟩ => ⟨S32x2048x1, .f32⟩
  | .hbm, ⟨45, _⟩ => ⟨S_, .f32⟩
  | .hbm, ⟨46, _⟩ => ⟨S32x2048x1, .f32⟩
  | .hbm, ⟨47, _⟩ => ⟨S32x2048x1, .f32⟩
  | .hbm, ⟨48, _⟩ => ⟨S_, .f32⟩
  | .hbm, ⟨49, _⟩ => ⟨S32x2048x1, .f32⟩
  | .hbm, ⟨50, _⟩ => ⟨S32x2048x1, .f32⟩
  | .hbm, ⟨51, _⟩ => ⟨S32x2048x1, .f32⟩
  | .hbm, ⟨52, _⟩ => ⟨S32x2048x1024, .f32⟩
  | .hbm, ⟨53, _⟩ => ⟨S32x2048x1024, .f32⟩
  | .hbm, ⟨54, _⟩ => ⟨S1x1x1024, .f32⟩
  | .hbm, ⟨55, _⟩ => ⟨S32x2048x1024, .f32⟩
  | .hbm, ⟨56, _⟩ => ⟨S32x2048x1024, .f32⟩
  | .hbm, ⟨57, _⟩ => ⟨S1024x1024, .f32⟩
  | .hbm, ⟨58, _⟩ => ⟨S32x2048x1024, .f32⟩
  | .hbm, ⟨59, _⟩ => ⟨S1024, .f32⟩
  | .hbm, ⟨60, _⟩ => ⟨S1x1x1024, .f32⟩
  | .hbm, ⟨61, _⟩ => ⟨S32x2048x1024, .f32⟩
  | .hbm, ⟨62, _⟩ => ⟨S32x2048x1024, .f32⟩
  | .hbm, ⟨63, _⟩ => ⟨S32x2048x1024, .f32⟩
  | .hbm, ⟨64, _⟩ => ⟨S32x2048x1024, .f32⟩
  | .hbm, ⟨65, _⟩ => ⟨S_, .f32⟩
  | .hbm, ⟨66, _⟩ => ⟨S32x2048x1024, .f32⟩
  | .hbm, ⟨67, _⟩ => ⟨S32x2048x1024, .f32⟩
  | .hbm, ⟨68, _⟩ => ⟨S_, .f32⟩
  | .hbm, ⟨69, _⟩ => ⟨S32x2048x1024, .f32⟩
  | .hbm, ⟨70, _⟩ => ⟨S32x2048x1024, .f32⟩
  | .hbm, ⟨71, _⟩ => ⟨S32x2048x256, .f32⟩
  | .hbm, ⟨72, _⟩ => ⟨S256x1024, .f32⟩
  | .hbm, ⟨73, _⟩ => ⟨S32x2048x1024, .f32⟩
  | .hbm, ⟨74, _⟩ => ⟨S32x2048x1024, .f32⟩
  | .hbm, ⟨75, _⟩ => ⟨S32x2048x1024, .f32⟩
  | .hbm, ⟨76, _⟩ => ⟨S32x2048x1024, .f32⟩
  | .hbm, ⟨77, _⟩ => ⟨S_, .f32⟩
  | .hbm, ⟨78, _⟩ => ⟨S32x2048, .f32⟩
  | .hbm, ⟨79, _⟩ => ⟨S32x2048x1, .f32⟩
  | .hbm, ⟨80, _⟩ => ⟨S_, .f32⟩
  | .hbm, ⟨81, _⟩ => ⟨S32x2048x1, .f32⟩
  | .hbm, ⟨82, _⟩ => ⟨S32x2048x1, .f32⟩
  | .hbm, ⟨83, _⟩ => ⟨S_, .f32⟩
  | .hbm, ⟨84, _⟩ => ⟨S32x2048x1, .f32⟩
  | .hbm, ⟨85, _⟩ => ⟨S32x2048x1, .f32⟩
  | .hbm, ⟨86, _⟩ => ⟨S32x2048x1, .f32⟩
  | .hbm, ⟨87, _⟩ => ⟨S32x2048x1024, .f32⟩
  | .hbm, ⟨88, _⟩ => ⟨S32x2048x1024, .f32⟩
  | .hbm, ⟨89, _⟩ => ⟨S1x1x1024, .f32⟩
  | .hbm, ⟨90, _⟩ => ⟨S32x2048x1024, .f32⟩
  | .hbm, ⟨91, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_5 : Ref sig .tc := ⟨.hbm, 65, rfl⟩
abbrev main_v47 : Ref sig .tc := ⟨.hbm, 66, rfl⟩
abbrev main_v48 : Ref sig .tc := ⟨.hbm, 67, rfl⟩
abbrev main_cst_6 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_7 : Ref sig .tc := ⟨.hbm, 77, rfl⟩
abbrev main_v57 : Ref sig .tc := ⟨.hbm, 78, rfl⟩
abbrev main_v58 : Ref sig .tc := ⟨.hbm, 79, rfl⟩
abbrev main_cst_8 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]
-- ==== Proof.Body.lean ====
/-
  The attention body, run once over any float values: from its staging and scratch buffers held whole at any contents it
  runs to its return, without a fault, and hands back the five input blocks as they were and every other buffer at some
  contents.
-/
module

public import proofs.«01_k».proof.Proof.Gen.Kernel.Loops
public import Idealize.ShloMosaic.Lib.Tactic

@[expose] public section

noncomputable section

namespace Cert.Proof.Kernel

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [BitOps F]

abbrev UU (nD : Nat) (τ : Topo) : Type := UR sig nD τ
abbrev 𝒱₀ : Variants := Variants.none

local notation "𝕄" => MT nD τ sig Unit (Elt F) ℕ (UU nD τ) ℕ

/-- The type of the contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦{fullShare} f

set_option warn.classDefReducibility false in
/-- Before and after each trip of the merge loop the output block and the buffer of partial results are held whole, at some contents: one trip
    reads the second and writes a part of the first. -/
@[sl_loop] def loopInv_k0_t1 (c : Dev nD) (i : grid0.Coords)
    (arg2 : Memref sig .tc .vmem S1024x128 .i32) (harg2 : arg2.IsWhole)
    (arg3 : Memref sig .tc .vmem S1024x128 .i32) (harg3 : arg3.IsWhole)
    (arg4 : Memref sig .tc .vmem S1024x128 .i32) (harg4 : arg4.IsWhole)
    (arg5 : Memref sig .tc .vmem S1024x128 .i32) (harg5 : arg5.IsWhole)
    (arg6 : Memref sig .tc .vmem S1024x128 .i32) (harg6 : arg6.IsWhole)
    (arg7 : Memref sig .tc .vmem S1024x128 .i32) (harg7 : arg7.IsWhole)
    (arg8 : Memref sig .tc .vmem S6x2048x128 .f32) (harg8 : arg8.IsWhole)
    (arg9 : Memref sig .tc .vmem S5x1024x128 .i32) (harg9 : arg9.IsWhole)
    (arg10 : Memref sig .tc .vmem S5x1024x128 .i32) (harg10 : arg10.IsWhole)
    (arg11 : Memref sig .tc .vmem S3x128x256 .f32) (harg11 : arg11.IsWhole)
    (arg12 : Memref sig .tc .vmem S2x8x128x256 .f32) (harg12 : arg12.IsWhole)
    (arg13 : Memref sig .tc .vmem S2x8x128x256 .bf16) (harg13 : arg13.IsWhole)
    (arg14 : Memref sig .tc .vmem S2x4x128x128 .f32) (harg14 : arg14.IsWhole)
    (v2 : IVec S1x128 1) (v14410 : BitVec 32) (v14435 : FVec F S128x128 .f32) (v14437 : FVec F S128x128 .bf16) (c2_i32_7431 : BitVec 32) (v14438 : BitVec 32)
    (v14443 : BitVec 32) (v14445 : BitVec 32) (c0_i32_7435 : BitVec 32) :
    LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 v2 v14410 v14435 v14437 c2_i32_7431 v14438 v14443 v14445 c0_i32_7435 where
  inv := fun _ _ => iprop((∃ f, pt c arg7 f) ∗ (∃ f, pt c arg8 f))
  step := fun k acc => by
    unfold k0_t1_body
    iintro ⟨⟨%f7, H7⟩, ⟨%f8, H8⟩⟩
    sl_exec
    sl_step
    isplitl [H7]
    · iexists _; iexact H7
    · iexists _; iexact H8

/-- The body's run: whatever the thirteen buffers hold, it reaches its return with the five input blocks unchanged. -/
theorem body_run (c : Dev nD) (i : grid0.Coords)
    (arg2 : Memref sig .tc .vmem S1024x128 .i32) (harg2 : arg2.IsWhole)
    (arg3 : Memref sig .tc .vmem S1024x128 .i32) (harg3 : arg3.IsWhole)
    (arg4 : Memref sig .tc .vmem S1024x128 .i32) (harg4 : arg4.IsWhole)
    (arg5 : Memref sig .tc .vmem S1024x128 .i32) (harg5 : arg5.IsWhole)
    (arg6 : Memref sig .tc .vmem S1024x128 .i32) (harg6 : arg6.IsWhole)
    (arg7 : Memref sig .tc .vmem S1024x128 .i32) (harg7 : arg7.IsWhole)
    (arg8 : Memref sig .tc .vmem S6x2048x128 .f32) (harg8 : arg8.IsWhole)
    (arg9 : Memref sig .tc .vmem S5x1024x128 .i32) (harg9 : arg9.IsWhole)
    (arg10 : Memref sig .tc .vmem S5x1024x128 .i32) (harg10 : arg10.IsWhole)
    (arg11 : Memref sig .tc .vmem S3x128x256 .f32) (harg11 : arg11.IsWhole)
    (arg12 : Memref sig .tc .vmem S2x8x128x256 .f32) (harg12 : arg12.IsWhole)
    (arg13 : Memref sig .tc .vmem S2x8x128x256 .bf16) (harg13 : arg13.IsWhole)
    (arg14 : Memref sig .tc .vmem S2x4x128x128 .f32) (harg14 : arg14.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14)
    (Q : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14
      ∗ (iprop(pt c arg2 f2 ∗ pt c arg3 f3 ∗ pt c arg4 f4 ∗ pt c arg5 f5 ∗ pt c arg6 f6 ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f) ∗ (∃ f, pt c arg14 f)) -∗ Q ⟨⟩))
    ⊢ wp frame (wpE (defs₀ (F := F)) 𝒱₀ c none) Set.univ (cc0_dil_attn i arg2 harg2 arg3 harg3 arg4 harg4 arg5 harg5 arg6 harg6 arg7 harg7 arg8 harg8 arg9 harg9 arg10 harg10 arg11 harg11 arg12 harg12 arg13 harg13 arg14 harg14) Q := by
  iintro ⟨H2, H3, H4, H5, H6, H7, H8, H9, H10, H11, H12, H13, H14, Hk⟩
  sl_exec_parts!
  sl_step
  iapply Hk
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

end Cert.Proof.Kernel

end
-- ==== Proof.Run.lean ====
/-
  The frame of the attention program: its 128 grid points run one after the other, each by the body's run, over any float
  values. Nothing is said here of what the result holds.
-/
module

public import proofs.«01_k».proof.Proof.Body
public import proofs.«01_k».proof.Proof.Gen.Kernel.Frame

@[expose] public section

noncomputable section

namespace Cert.Proof.Kernel

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [BitOps F]

local notation "𝕄" => MT nD τ sig Unit (Elt F) ℕ (UU nD τ) ℕ

variable (m : (ℓ : Loc nD τ sig) → Buf (Elt F) ℓ) (ρ : Dev nD → PrngReg)

/-- A whole memref owned at `X` is its buffer held at some contents that read as `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns pt; rw [h.set_eq_univ]

/-- The proof data: every array at its launch contents, each input block as fetched after the body, the result unconstrained. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fun _ => Classical.arbitrary _
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]

/-- The result's window alone is left unconstrained. -/
def fgt (w : Fin cfg0.W) : Bool := decide (w = 5)

theorem before_0 (c : Dev nD) (t : Fin cfg0.N) (d) : (dats m 0 c).before 0 t d = iblk m c 0 t := before0_0_of m (dats m 0 c) (A_eq m c 0) (fun _ => rfl) t d
theorem before_1 (c : Dev nD) (t : Fin cfg0.N) (d) : (dats m 0 c).before 1 t d = iblk m c 1 t := before0_1_of m (dats m 0 c) (A_eq m c 1) (fun _ => rfl) t d
theorem before_2 (c : Dev nD) (t : Fin cfg0.N) (d) : (dats m 0 c).before 2 t d = iblk m c 2 t := before0_2_of m (dats m 0 c) (A_eq m c 2) (fun _ => rfl) t d
theorem before_3 (c : Dev nD) (t : Fin cfg0.N) (d) : (dats m 0 c).before 3 t d = iblk m c 3 t := before0_3_of m (dats m 0 c) (A_eq m c 3) (fun _ => rfl) t d
theorem before_4 (c : Dev nD) (t : Fin cfg0.N) (d) : (dats m 0 c).before 4 t d = iblk m c 4 t := before0_4_of m (dats m 0 c) (A_eq m c 4) (fun _ => rfl) t d

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

/-- What the body gives back at a point. -/
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ (∃ X, owns (c : Thread nD τ) (st0_5 t) fullShare X))

/-- One grid point: the body runs from its blocks and hands the input blocks back unchanged. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before_0, before_1, before_2, before_3, before_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA; rw [scopedRest0_eq]
  have e0 (X) := owns_pt (F := F) c (st0_0 t) (hstage0_0 ((cfg0.slots t 0).cast nbuf0_0)) X
  have e1 (X) := owns_pt (F := F) c (st0_1 t) (hstage0_1 ((cfg0.slots t 1).cast nbuf0_1)) X
  have e2 (X) := owns_pt (F := F) c (st0_2 t) (hstage0_2 ((cfg0.slots t 2).cast nbuf0_2)) X
  have e3 (X) := owns_pt (F := F) c (st0_3 t) (hstage0_3 ((cfg0.slots t 3).cast nbuf0_3)) X
  have e4 (X) := owns_pt (F := F) c (st0_4 t) (hstage0_4 ((cfg0.slots t 4).cast nbuf0_4)) X
  have e5 (X) := owns_pt (F := F) c (st0_5 t) (hstage0_5 ((cfg0.slots t 5).cast nbuf0_5)) X
  simp only [e0, e1, e2, e3, e4, e5]
  iintro ⟨⟨⟨⟨%f8, H8⟩, ⟨%f9, H9⟩, ⟨%f10, H10⟩, ⟨%f11, H11⟩, ⟨%f12, H12⟩, ⟨%f13, H13⟩, ⟨%f14, H14⟩⟩, Hg⟩, Howes,
    ⟨%d2, %f2, %h2, H2⟩, ⟨%d3, %f3, %h3, H3⟩, ⟨%d4, %f4, %h4, H4⟩, ⟨%d5, %f5, %h5, H5⟩, ⟨%d6, %f6, %h6, H6⟩, ⟨%X7, %f7, -, H7⟩⟩
  iapply (body_run c (grid0.coords t) (st0_0 t) _ (st0_1 t) _ (st0_2 t) _ (st0_3 t) _ (st0_4 t) _ (st0_5 t) _
    (Memref.whole cc0_scratch0) _ (Memref.whole cc0_scratch1) _ (Memref.whole cc0_scratch2) _ (Memref.whole cc0_scratch3) _
    (Memref.whole cc0_scratch4) _ (Memref.whole cc0_scratch5) _ (Memref.whole cc0_scratch6) _ f2 f3 f4 f5 f6 f7 f8 f9 f10 f11 f12 f13 f14)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H2, H3, H4, H5, H6, ⟨%f7', H7⟩, H8, H9, H10, H11, H12, H13, H14⟩
  isplitl [H8 H9 H10 H11 H12 H13 H14 Hg]
  · isplitr [Hg]
    · isplitl [H8]; · iexact H8
      isplitl [H9]; · iexact H9
      isplitl [H10]; · iexact H10
      isplitl [H11]; · iexact H11
      isplitl [H12]; · iexact H12
      isplitl [H13]; · iexact H13
      iexact H14
    · iexact Hg
  isplitl [Howes]; · iexact Howes
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]; · iexists f6; isplitr; · ipureintro; exact h6
                  iexact H6
  iexists _; iexists f7'; isplitr; · ipureintro; rfl
  iexact H7

/-- The body's label runs the body on the point's buffers. -/
theorem defs₀_row (t : Fin cfg0.N) : defs₀ (F := F) .tc cfg0.body (cfg0.bodyArgs t (cfg0.slots t)) = bodyAt0 t := by
  unfold defs₀; rw [Defs.onTc_tc]

/-- The pipeline's obligation at every point. -/
theorem body_obligation (c : Dev nD) : BodyObligationLoose (dats (F := F) m 0 c) (defs₀ (F := F)) 𝒱₀ () Set.univ fgt := fun t => by
  rw [bigSep_W0, bigSep_W0, defs₀_row]
  exact triple_restated (sound_body m c t) rfl .rfl fun _ => .rfl

set_option backward.isDefEq.respectTransparency.types false in
/-- The whole program runs, its inputs end unchanged and every semaphore counter ends at zero. -/
theorem run_main : θ_run defs (onTc (τ := τ) (main (F := F))) (s₀ m ρ)
    (fun r => RDat.FramePost cfg0 (fun c => (dats m 0 c).toRForget fgt) (V m) r ∧ r.2.sem = fun _ => 0) :=
  Pipeline.θ_run_frame_forget_shared (Q' := _) cfgs (dats m) (0 : Fin 1) launch₀0 defs₀ 𝒱₀ fgt m ρ main
    (hbody := body_obligation m) (hq := fun _ _ _ => rfl) (howed := fun _ _ => rfl) (V := V m) (hmain := hmain m 𝒱₀) (hA := A_eq m)
    (hΦ := fun _ _ => rfl) (hQ' := fun _ h => h)

/-- The frame claim, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨h.1.arr_in c 1 rfl, h.1.arr_in c 2 rfl, h.1.arr_in c 4 rfl⟩, h.2⟩) (run_main m ρ)

end Cert.Proof.Kernel

end
-- ==== Proof.ProjRun.lean ====
/- The run of the projections with their results kept (hand-written): the launch over the generated segments, whose last
   thread state holds every buffer at the last boundary's contents, read at the results and at each argument. -/
module

public import proofs.«01_k».proof.Proof.Gen.ProjIdeal.Frame

@[expose] public section

set_option maxRecDepth 16384

noncomputable section

namespace Cert.Proof.Proj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution ends with the results at the last boundary's contents and the arguments unchanged. -/
theorem run : θ_run defs (onTc (τ := τ) (main (F := F))) ⟨m, fun _ => 0, ρ⟩ (fun r => ∀ c : Dev nD,
      r.2.mem ((c.tc : Thread nD τ).loc main_v52) = W7 m ρ c (Proc.devRef .tc main_v52)
      ∧ r.2.mem ((c.tc : Thread nD τ).loc main_v53) = W7 m ρ c (Proc.devRef .tc main_v53)
      ∧ r.2.mem ((c.tc : Thread nD τ).loc main_v63) = W7 m ρ c (Proc.devRef .tc main_v63)
      ∧ r.2.mem ((c.tc : Thread nD τ).loc main_v42_3) = W7 m ρ c (Proc.devRef .tc main_v42_3)
      ∧ r.2.mem ((c.tc : Thread nD τ).loc main_v42_4) = W7 m ρ c (Proc.devRef .tc main_v42_4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨h c _ (mem_uc main_v52 (by decide)),
       h c _ (mem_uc main_v53 (by decide)),
       h c _ (mem_uc main_v63 (by decide)),
       h c _ (mem_uc main_v42_3 (by decide)),
       h c _ (mem_uc main_v42_4 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.Proof.Proj
-- ==== Proof.TailStages.lean ====
/- The last kernel's block, one row at a time (hand-written). A row of the block depends on that row of each array and on the
   weights alone, so each stage is stated as a function of rows: `scaleOf` is the reciprocal root mean square, `mergedRow` the
   gated attention beside the convolution, `sumRow` the residual row after the output projection, `gatedRow` that row
   after the gated projection, `lastRow` the row returned. -/
module

public import proofs.«01_k».proof.Proof.Gen.TailIdeal.Frame
public import Idealize.ShloMosaic.Lib.Pipeline.ValueKit

@[expose] public section

set_option maxRecDepth 16384

noncomputable section

open Idealize.ShloMosaic Idealize.SL.Sem

namespace Cert.Proof.Tail

/-- The reciprocal of the root of the mean square of a row of `n` entries, `d` the f32 that holds `n`. -/
def scaleOf {n : ℕ} (d : EReal) (z : Fin n → EReal) : EReal :=
  Ideal.rsqrt (Ideal.div (∑ k, z k * z k) d + Ideal.ofBits .f32 0x358637BD#32)

/-- A row of the merged branches: the normalised and gated attention in the first 512 lanes, the convolution in the others. -/
def mergedRow (a s v na : Fin 512 → EReal) (k : Fin 1024) : EReal :=
  if h : k.val < 512 then
    a ⟨k.val, h⟩ * scaleOf (Ideal.ofBits .f32 0x44000000#32) a * na ⟨k.val, h⟩ * s ⟨k.val, h⟩
  else v ⟨k.val - 512, by omega⟩

/-- The residual row after the output projection. -/
def sumRow (x : Fin 1024 → EReal) (g : Fin 1024 → EReal) (w : Fin 1024 → Fin 1024 → EReal) (j : Fin 1024) : EReal :=
  x j + ∑ k, g k * w k j

/-- The residual row `z` after the gated projection of the row `p`. -/
def gatedRow (z np b : Fin 1024 → EReal) (wg : Fin 1024 → Fin 1024 → EReal) (p : Fin 256 → EReal)
    (wp : Fin 256 → Fin 1024 → EReal) (j : Fin 1024) : EReal :=
  z j + (∑ k, p k * wp k j) *
    Ideal.logistic ((∑ k, z k * scaleOf (Ideal.ofBits .f32 0x44800000#32) z * np k * wg k j) + b j)

/-- The row returned: `z` normalised. -/
def lastRow (z nf : Fin 1024 → EReal) (j : Fin 1024) : EReal :=
  z j * scaleOf (Ideal.ofBits .f32 0x44800000#32) z * nf j

open Cert.TailIdeal Cert.TailIdeal.Gen

theorem pay1_at (v0 : Vec Ideal S512x2x512 .bf16) (v14 : Vec Ideal S1x512 .f32) (v18 v22 : Vec Ideal S1024x512 .bf16)
    (v24 : Vec Ideal S1024x1024 .f32) (v26 : Vec Ideal S1024x1024 .bf16) (r j : Fin 1024) :
    k1_pay1 v0 v14 v18 v22 v24 v26 (ix2 r j) =
      sumRow (fun k => v24 (ix2 r k))
        (mergedRow (fun k => v0 (ix3 (⟨r.val / 2, by omega⟩ : Fin 512) (⟨r.val % 2, by omega⟩ : Fin 2) k)) (fun k => v18 (ix2 r k))
          (fun k => v22 (ix2 r k)) (fun k => v14 (ix2 (0 : Fin 1) k)))
        (fun k i => v26 (ix2 k i)) j := by
  pointwise [k1_pay1, sumRow, mergedRow, scaleOf]
  have e (k : Fin 512) : (if r.val % 2 = 0 then v0 (ix3 (⟨r.val / 2, by omega⟩ : Fin 512) (0 : Fin 2) k)
      else v0 (ix3 (⟨r.val / 2, by omega⟩ : Fin 512) (1 : Fin 2) k)) =
      v0 (ix3 (⟨r.val / 2, by omega⟩ : Fin 512) (⟨r.val % 2, by omega⟩ : Fin 2) k) := by
    rcases Nat.mod_two_eq_zero_or_one r.val with h | h
    · rw [if_pos h]; congr 2; exact Fin.ext h.symm
    · rw [if_neg (by omega)]; congr 2; exact Fin.ext h.symm
  simp only [e]

theorem pay2_at (v0 : Vec Ideal S512x2x512 .bf16) (v14 : Vec Ideal S1x512 .f32) (v18 v22 : Vec Ideal S1024x512 .bf16)
    (v24 : Vec Ideal S1024x1024 .f32) (v26 : Vec Ideal S1024x1024 .bf16) (r : Fin 1024) :
    Ideal.rsqrt (k1_pay2 v0 v14 v18 v22 v24 v26 (ix2 r (0 : Fin 1))) =
      scaleOf (Ideal.ofBits .f32 0x44800000#32) (fun k : Fin 1024 => k1_pay1 v0 v14 v18 v22 v24 v26 (ix2 r k)) := by
  unfold k1_pay2
  generalize k1_pay1 v0 v14 v18 v22 v24 v26 = z
  pointwise [scaleOf]

theorem pay3_at (v29 : FVec Ideal S1024x1024 .f32) (v36 : FVec Ideal S1024x1 .f32) (v40 : Vec Ideal S1x1024 .f32)
    (v45 : Vec Ideal S1024x1024 .bf16) (v48 : Vec Ideal S1x1024 .f32) (v53 : Vec Ideal S1024x256 .f32)
    (v56 : Vec Ideal S256x1024 .bf16) (v71 : Vec Ideal S1x1024 .f32) (r j : Fin 1024)
    (h : Ideal.rsqrt (v36 (ix2 r (0 : Fin 1))) = scaleOf (Ideal.ofBits .f32 0x44800000#32) (fun k : Fin 1024 => v29 (ix2 r k))) :
    k1_pay3 v29 v36 v40 v45 v48 v53 v56 v71 (ix2 r j) =
      lastRow (gatedRow (fun k => v29 (ix2 r k)) (fun k => v40 (ix2 (0 : Fin 1) k)) (fun k => v48 (ix2 (0 : Fin 1) k))
        (fun k i => v45 (ix2 k i)) (fun k => v53 (ix2 r k)) (fun k i => v56 (ix2 k i))) (fun k => v71 (ix2 (0 : Fin 1) k)) j := by
  have e : scaleOf (Ideal.ofBits .f32 0x44800000#32) (fun k : Fin 1024 => v29 (ix2 r k)) = Ideal.rsqrt (v36 (ix2 r (0 : Fin 1))) := h.symm
  unfold lastRow gatedRow
  rw [e]
  pointwise [k1_pay3, scaleOf]

/-- One row of the result from that row of every array. -/
def outRow (x : Fin 1024 → EReal) (p : Fin 256 → EReal) (a s v na : Fin 512 → EReal) (w : Fin 1024 → Fin 1024 → EReal)
    (np : Fin 1024 → EReal) (wg : Fin 1024 → Fin 1024 → EReal) (b : Fin 1024 → EReal) (wp : Fin 256 → Fin 1024 → EReal)
    (nf : Fin 1024 → EReal) : Fin 1024 → EReal :=
  lastRow (gatedRow (sumRow x (mergedRow a s v na) w) np b wg p wp) nf

/-- The block that the kernel stores, at a row and a lane. -/
theorem out_at (x0 : Vec Ideal S1024x1024 .f32) (x1 : Vec Ideal S1024x256 .f32) (x2 : Vec Ideal S512x2x512 .bf16)
    (x3 x4 : Vec Ideal S1024x512 .bf16) (x5 : Vec Ideal S1x512 .f32) (x6 : Vec Ideal S1024x1024 .bf16)
    (x7 : Vec Ideal S1x1024 .f32) (x8 : Vec Ideal S1024x1024 .bf16) (x9 : Vec Ideal S1x1024 .f32)
    (x10 : Vec Ideal S256x1024 .bf16) (x11 : Vec Ideal S1x1024 .f32) (r j : Fin 1024) :
    k1_pay3 (k1_pay1 x2 x5 x3 x4 x0 x6) (k1_pay2 x2 x5 x3 x4 x0 x6) x7 x8 x9 x1 x10 x11 (ix2 r j) =
      outRow (fun k => x0 (ix2 r k)) (fun k => x1 (ix2 r k))
        (fun k => x2 (ix3 (⟨r.val / 2, by omega⟩ : Fin 512) (⟨r.val % 2, by omega⟩ : Fin 2) k)) (fun k => x3 (ix2 r k))
        (fun k => x4 (ix2 r k)) (fun k => x5 (ix2 (0 : Fin 1) k)) (fun k i => x6 (ix2 k i)) (fun k => x7 (ix2 (0 : Fin 1) k))
        (fun k i => x8 (ix2 k i)) (fun k => x9 (ix2 (0 : Fin 1) k)) (fun k i => x10 (ix2 k i)) (fun k => x11 (ix2 (0 : Fin 1) k)) j := by
  rw [pay3_at _ _ _ _ _ _ _ _ r j (pay2_at ..)]
  simp only [pay1_at]
  rfl

end Cert.Proof.Tail
-- ==== Proof.ProjStages.lean ====
/- The first kernel's block, one row at a time (hand-written). -/
module

public import proofs.«01_k».proof.Proof.TailStages
public import proofs.«01_k».proof.Proof.Gen.ProjIdeal.Frame

@[expose] public section

set_option maxRecDepth 16384

noncomputable section

open Idealize.ShloMosaic Idealize.SL.Sem

namespace Cert.Proof.Proj

open Cert.Proof.Tail (scaleOf lastRow)

/-- A row times a matrix. -/
def dotRow {n p : ℕ} (h : Fin n → EReal) (w : Fin n → Fin p → EReal) (j : Fin p) : EReal := ∑ k, h k * w k j

/-- The gate's nonlinearity. -/
def silu (y : EReal) : EReal := y * Ideal.logistic y

/-- The convolution's input row: the products of the two halves of 1024 projected lanes. -/
def gateRow {n : ℕ} (h : Fin n → EReal) (w : Fin n → Fin 1024 → EReal) (j : Fin 512) : EReal :=
  dotRow h w ⟨j.val, by omega⟩ * dotRow h w ⟨512 + j.val, by omega⟩

/-- The convolution over the row before, the row and the row after. -/
def convRow (w : Fin 3 → Fin 512 → EReal) (a b d : Fin 512 → EReal) (j : Fin 512) : EReal :=
  w 0 j * a j + w 1 j * b j + w 2 j * d j

/-- A row of 512 lanes normalised. -/
def normRow (z g : Fin 512 → EReal) (j : Fin 512) : EReal := z j * scaleOf (Ideal.ofBits .f32 0x44000000#32) z * g j

open Cert.ProjIdeal Cert.ProjIdeal.Gen

theorem pay1_at (v0 : Vec Ideal S1024x1024 .f32) (v12 : Vec Ideal S1x1024 .f32) (r k : Fin 1024) :
    k0_pay1 v0 v12 (ix2 r k) = lastRow (fun i => v0 (ix2 r i)) (fun i => v12 (ix2 (0 : Fin 1) i)) k := by
  pointwise [k0_pay1, lastRow, scaleOf]

theorem pay45_at (h : FVec Ideal S1024x1024 .bf16) (w : Vec Ideal S1024x512 .bf16) (r : Fin 1024) (j : Fin 512) :
    k0_pay45 h w (ix2 r j) = silu (dotRow (fun k => h (ix2 r k)) (fun k i => w (ix2 k i)) j) := by
  pointwise [k0_pay45, silu, dotRow]

theorem pay34_at (h : FVec Ideal S1024x1024 .bf16) (w : Vec Ideal S1024x512 .bf16) (r : Fin 1024) (j : Fin 512) :
    k0_pay34 h w (ix2 r j) = dotRow (fun k => h (ix2 r k)) (fun k i => w (ix2 k i)) j := by
  pointwise [k0_pay34, dotRow]

/-- A load of some of the weight's columns. -/
theorem ld_at {n : ℕ} (o : ℕ) (inb) (w : Vec Ideal S1024x4096 .bf16) (k : Fin 1024) (j : Fin n) (h : o + n ≤ 4096) :
    View.ld w (Rect.unit (s := S1024x4096) ![0, o] ![1024, n] inb) (ix2 k j) = w (ix2 k (⟨o + j.val, by omega⟩ : Fin 4096)) := by
  unfold View.ld
  blk_ext
  · exact (Rect.idx_unit_val (s := S1024x4096) ![0, o] ![1024, n] inb (ix2 k j) 0).trans (Nat.zero_add _)
  · exact Rect.idx_unit_val (s := S1024x4096) ![0, o] ![1024, n] inb (ix2 k j) 1

theorem mask_at {α : Type} (n : ℕ) (h : n < 128) (a b : α) :
    Scalar.select (IntOp.cmpi .slt (BitVec.ofNat 32 n) 64#32) a b = if n < 64 then a else b := by
  interval_cases n <;> rfl

/-- A row of 512 lanes with the rotary tables `c`, `s` and `u` of its 128-lane chunks: each lane, the lane 8 above it and
    the lane 8 below it in the chunk. -/
def ropeAt (c s u : Fin 128 → EReal) (f : Fin 512 → EReal) (j : Fin 512) : EReal :=
  f j * c ⟨j.val % 128, by omega⟩ + f ⟨j.val / 128 * 128 + (j.val % 128 + 8) % 128, by omega⟩ * s ⟨j.val % 128, by omega⟩ +
    f ⟨j.val / 128 * 128 + (j.val % 128 + 120) % 128, by omega⟩ * u ⟨j.val % 128, by omega⟩

/-- A row of 512 lanes with each head of 64 in a chunk of its own: the lanes of an even head lie in the first half of
    its chunk, those of an odd head in the second half, and `e` in the other half. -/
def padAt (e : EReal) (f : Fin 512 → EReal) (j : Fin 1024) : EReal :=
  if (j.val % 128 < 64 ↔ j.val / 128 % 2 = 0) then f ⟨j.val / 256 * 128 + j.val % 128, by omega⟩ else e

theorem ix2_eq {a b : ℕ} (r : Fin a) {x y : ℕ} (hx : x < b) (hy : y < b) (h : x = y) :
    ix2 r (⟨x, hx⟩ : Fin b) = ix2 r (⟨y, hy⟩ : Fin b) := by subst h; rfl

/-- The halves of the eight chunks as the kernel selects them, lane by lane. -/
theorem pad_eq (e : EReal) (f : Fin 512 → EReal) (j : Fin 1024) :
    (if h0 : j.val < 128 then Scalar.select (IntOp.cmpi .slt (BitVec.ofNat 32 (j.val)) 64#32) (f ⟨j.val, by omega⟩) e else
      (if h1 : j.val - 128 < 128 then Scalar.select (IntOp.cmpi .slt (BitVec.ofNat 32 (j.val - 128)) 64#32) e (f ⟨j.val - 128, by omega⟩) else
      (if h2 : j.val - 128 - 128 < 128 then Scalar.select (IntOp.cmpi .slt (BitVec.ofNat 32 (j.val - 128 - 128)) 64#32) (f ⟨128 + (j.val - 128 - 128), by omega⟩) e else
      (if h3 : j.val - 128 - 128 - 128 < 128 then Scalar.select (IntOp.cmpi .slt (BitVec.ofNat 32 (j.val - 128 - 128 - 128)) 64#32) e (f ⟨128 + (j.val - 128 - 128 - 128), by omega⟩) else
      (if h4 : j.val - 128 - 128 - 128 - 128 < 128 then Scalar.select (IntOp.cmpi .slt (BitVec.ofNat 32 (j.val - 128 - 128 - 128 - 128)) 64#32) (f ⟨256 + (j.val - 128 - 128 - 128 - 128), by omega⟩) e else
      (if h5 : j.val - 128 - 128 - 128 - 128 - 128 < 128 then Scalar.select (IntOp.cmpi .slt (BitVec.ofNat 32 (j.val - 128 - 128 - 128 - 128 - 128)) 64#32) e (f ⟨256 + (j.val - 128 - 128 - 128 - 128 - 128), by omega⟩) else
      (if h6 : j.val - 128 - 128 - 128 - 128 - 128 - 128 < 128 then Scalar.select (IntOp.cmpi .slt (BitVec.ofNat 32 (j.val - 128 - 128 - 128 - 128 - 128 - 128)) 64#32) (f ⟨384 + (j.val - 128 - 128 - 128 - 128 - 128 - 128), by omega⟩) e else
      Scalar.select (IntOp.cmpi .slt (BitVec.ofNat 32 (j.val - 128 - 128 - 128 - 128 - 128 - 128 - 128)) 64#32) e (f ⟨384 + (j.val - 128 - 128 - 128 - 128 - 128 - 128 - 128), by omega⟩)))))))) = padAt e f j := by
  generalize hR : padAt e f j = R
  have t {x y : ℕ} (hx : x < 512) (hy : y < 512) (h : x = y) : f ⟨x, hx⟩ = f ⟨y, hy⟩ := by subst h; rfl
  split_ifs <;> rw [mask_at _ (by omega)] <;> split_ifs <;> rw [← hR] <;> unfold padAt <;>
    first
    | (rw [if_neg (by omega)])
    | (rw [if_pos (by omega)]; exact t _ _ (by omega))

theorem pay16_at (c s u : FVec Ideal S1024x128 .f32) (h : FVec Ideal S1024x1024 .bf16) (w : Vec Ideal S1024x512 .bf16)
    (r : Fin 1024) (j : Fin 512) :
    k0_pay16 c s u (k0_pay12 h w) (k0_pay13 h w) (k0_pay14 h w) (k0_pay15 h w) (ix2 r j) =
      ropeAt (fun l => c (ix2 r l)) (fun l => s (ix2 r l)) (fun l => u (ix2 r l))
        (dotRow (fun k => h (ix2 r k)) (fun k i => w (ix2 k i))) j * Ideal.ofBits .f32 0x3E38AA3B#32 := by
  have e : dotRow (fun k => h (ix2 r k)) (fun k i => w (ix2 k i)) = fun i => k0_pay12 h w (ix2 r i) := by
    funext i; pointwise [k0_pay12, dotRow]
  unfold k0_pay14 k0_pay15 k0_pay13
  rw [e]
  generalize k0_pay12 h w = z
  pointwise [k0_pay16]
  congr 1
  unfold ropeAt
  split_ifs <;>
    refine congrArg₂ _ (congrArg₂ _ (congrArg₂ _ ?_ ?_) (congrArg₂ _ ?_ ?_)) (congrArg₂ _ ?_ ?_) <;>
    exact congrArg _ (ix2_eq r _ _ (by omega))

theorem pay43_at (h : FVec Ideal S1024x1024 .bf16) (w : Vec Ideal S1024x512 .bf16) (p : Fin 512) (i : Fin 2) (j : Fin 1024) :
    k0_pay43 (F := Ideal) k0_pay5 (k0_pay34 h w) (k0_pay36 h k0_pay5 w) (k0_pay37 h k0_pay5 w) (k0_pay39 h k0_pay5 w)
        (k0_pay40 h k0_pay5 w) (k0_pay41 h w) (Scalar.ofBits .f32 0x3F800000#32) (k0_pay42 k0_pay5) (ix3 p i j) =
      padAt 1 (dotRow (fun k => h (ix2 (⟨2 * p.val + i.val, by omega⟩ : Fin 1024) k)) (fun k i => w (ix2 k i))) j := by
  have e (r : Fin 1024) : dotRow (fun k => h (ix2 r k)) (fun k i => w (ix2 k i)) = fun i => k0_pay34 h w (ix2 r i) := by
    funext i; rw [pay34_at]
  rw [e]
  unfold k0_pay36 k0_pay37 k0_pay39 k0_pay40 k0_pay41 k0_pay35 k0_pay38
  generalize k0_pay34 h w = z
  pointwise [k0_pay43, k0_pay42, k0_pay5]
  have hi : i = 0 ∨ i = 1 := by omega
  rcases hi with rfl | rfl
  · rw [if_pos (show ((0 : Fin 2) : ℕ) % 2 = 0 from rfl)]
    exact pad_eq 1 (fun k => z (ix2 (⟨2 * p.val, by omega⟩ : Fin 1024) k)) j
  · rw [if_neg (show ¬((1 : Fin 2) : ℕ) % 2 = 0 by decide)]
    exact pad_eq 1 (fun k => z (ix2 (⟨2 * p.val + 1, by omega⟩ : Fin 1024) k)) j

/-- The queries' block: the rotated rows, scaled, each head in a chunk of its own. -/
theorem pay24_at (z : FVec Ideal S1024x512 .f32) (p : Fin 512) (i : Fin 2) (j : Fin 1024) :
    k0_pay24 (F := Ideal) k0_pay5 z
        (select (k0_pay22 k0_pay5) (extractStridedSlice S1024x128 ![0, 0] z slices_S1024x512_o0_0_S1024x128) k0_pay23)
        (select (k0_pay22 k0_pay5) k0_pay23 (extractStridedSlice S1024x128 ![0, 0] z slices_S1024x512_o0_0_S1024x128))
        (extractStridedSlice S1024x128 ![0, 128] z slices_S1024x512_o0_128_S1024x128)
        (select (k0_pay22 k0_pay5) (extractStridedSlice S1024x128 ![0, 128] z slices_S1024x512_o0_128_S1024x128) k0_pay23)
        (k0_pay22 k0_pay5) k0_pay23 (ix3 p i j) =
      padAt 0 (fun k => z (ix2 (⟨2 * p.val + i.val, by omega⟩ : Fin 1024) k)) j := by
  pointwise [k0_pay24, k0_pay22, k0_pay23, k0_pay5]
  have hi : i = 0 ∨ i = 1 := by omega
  rcases hi with rfl | rfl
  · rw [if_pos (show ((0 : Fin 2) : ℕ) % 2 = 0 from rfl)]
    exact pad_eq 0 (fun k => z (ix2 (⟨2 * p.val, by omega⟩ : Fin 1024) k)) j
  · rw [if_neg (show ¬((1 : Fin 2) : ℕ) % 2 = 0 by decide)]
    exact pad_eq 0 (fun k => z (ix2 (⟨2 * p.val + 1, by omega⟩ : Fin 1024) k)) j

/-- The keys' block: the rotated rows, in pairs. -/
theorem pay32_at (c s u : FVec Ideal S1024x128 .f32) (h : FVec Ideal S1024x1024 .bf16) (w : Vec Ideal S1024x512 .bf16)
    (p : Fin 512) (i : Fin 2) (j : Fin 512) :
    k0_pay32 (k0_pay30 h c s u w) (k0_pay31 h c s u w) (ix3 p i j) = k0_pay29 h c s u w (ix2 (⟨2 * p.val + i.val, by omega⟩ : Fin 1024) j) := by
  unfold k0_pay30 k0_pay31
  generalize k0_pay29 h c s u w = z
  pointwise [k0_pay32]
  have hi : i = 0 ∨ i = 1 := by omega
  rcases hi with rfl | rfl <;> rfl

theorem pay29_at (c s u : FVec Ideal S1024x128 .f32) (h : FVec Ideal S1024x1024 .bf16) (w : Vec Ideal S1024x512 .bf16)
    (r : Fin 1024) (j : Fin 512) :
    k0_pay29 h c s u w (ix2 r j) =
      ropeAt (fun l => c (ix2 r l)) (fun l => s (ix2 r l)) (fun l => u (ix2 r l))
        (dotRow (fun k => h (ix2 r k)) (fun k i => w (ix2 k i))) j := by
  have e : dotRow (fun k => h (ix2 r k)) (fun k i => w (ix2 k i)) = fun i => k0_pay12 h w (ix2 r i) := by
    funext i; pointwise [k0_pay12, dotRow]
  unfold k0_pay29
  rw [e]
  show _ = ropeAt _ _ _ (fun i => matmul dot_S1024x1024_S1024x512_S1024x512_1_0_0_1_n_n none h (shapeCast S1024x512 w shapeCasts_S1024x512_S1024x512) (constant S1024x512 .f32 0x00000000#32) (ix2 r i)) j
  generalize matmul dot_S1024x1024_S1024x512_S1024x512_1_0_0_1_n_n none h (shapeCast S1024x512 w shapeCasts_S1024x512_S1024x512) (constant S1024x512 .f32 0x00000000#32) = z
  pointwise []
  unfold ropeAt
  split_ifs <;>
    refine congrArg₂ _ (congrArg₂ _ (congrArg₂ _ ?_ ?_) (congrArg₂ _ ?_ ?_)) (congrArg₂ _ ?_ ?_) <;>
    exact congrArg _ (ix2_eq r _ _ (by omega))

theorem pay9_at (h : FVec Ideal S1024x1024 .bf16) (a b : Vec Ideal S8x1024 .f32) (g : Vec Ideal S1x1024 .f32)
    (w : Vec Ideal S1024x1024 .bf16) (r : Fin 1024) (j : Fin 512) :
    k0_pay9 h (k0_pay6 a b) (k0_pay7 a b) g w (ix2 r j) = gateRow (fun k => h (ix2 r k)) (fun k i => w (ix2 k i)) j := by
  pointwise [k0_pay9, k0_pay8, gateRow, dotRow]

/-- Whether a word counts to a number. -/
theorem eq_at {α : Type} (n k : ℕ) (hn : n < 1024) (hk : k < 1024) (a b : α) :
    Scalar.select (IntOp.cmpi .eq (BitVec.ofNat 32 n) (BitVec.ofNat 32 k)) a b = if n = k then a else b := by
  rw [WordCmp.cmpi_eq_eq_toNat, BitVec.toNat_ofNat, BitVec.toNat_ofNat, Nat.mod_eq_of_lt (by omega), Nat.mod_eq_of_lt (by omega)]
  by_cases h : n = k
  · rw [if_pos h, decide_eq_true h]; rfl
  · rw [if_neg h, decide_eq_false h]; rfl

/-- A tile's place in its sequence of two tiles, as the kernel computes it. -/
def place (t : BitVec 32) : BitVec 32 :=
  let n := Scalar.select (Scalar.cmpi .eq 2#32 0#32) 1#32 2#32
  let r := Scalar.remsi t n
  Scalar.select (Scalar.andi (Scalar.xori (Scalar.cmpi .slt r 0#32) (Scalar.cmpi .slt n 0#32)) (Scalar.cmpi .ne r 0#32)) (Scalar.addi r n) r

theorem place_eq : ∀ t : Fin 64, place (BitVec.ofNat 32 t.val) = BitVec.ofNat 32 (t.val % 2) := by decide +kernel

theorem pay10_at (t : Fin 64) (h : FVec Ideal S1024x1024 .bf16) (a b : Vec Ideal S8x1024 .f32) (g : Vec Ideal S1x1024 .f32)
    (w : Vec Ideal S1024x1024 .bf16) (j : Fin 512) :
    k0_pay10 (BitVec.ofNat 32 t.val) h (k0_pay6 a b) (k0_pay7 a b) g w (ix2 (0 : Fin 1) j) =
      if t.val % 2 = 0 then 0 else gateRow (lastRow (fun k => a (ix2 (7 : Fin 8) k)) (fun k => g (ix2 (0 : Fin 1) k)))
        (fun k i => w (ix2 k i)) j := by
  pointwise [k0_pay10, k0_pay8, k0_pay7, k0_pay6, gateRow, dotRow, lastRow, scaleOf]
  have e := place_eq t
  unfold place at e
  dsimp only at e
  rw [e]
  exact eq_at (t.val % 2) 0 (by omega) (by omega) _ _

theorem pay11_at (t : Fin 64) (h : FVec Ideal S1024x1024 .bf16) (a b : Vec Ideal S8x1024 .f32) (g : Vec Ideal S1x1024 .f32)
    (w : Vec Ideal S1024x1024 .bf16) (j : Fin 512) :
    k0_pay11 (BitVec.ofNat 32 t.val) h (k0_pay6 a b) (k0_pay7 a b) g w (ix2 (0 : Fin 1) j) =
      if t.val % 2 = 1 then 0 else gateRow (lastRow (fun k => b (ix2 (0 : Fin 8) k)) (fun k => g (ix2 (0 : Fin 1) k)))
        (fun k i => w (ix2 k i)) j := by
  pointwise [k0_pay11, k0_pay8, k0_pay7, k0_pay6, gateRow, dotRow, lastRow, scaleOf]
  have e := place_eq t
  unfold place at e
  dsimp only at e
  rw [e]
  exact eq_at (t.val % 2) 1 (by omega) (by omega) _ _

theorem conv_at (u : FVec Ideal S1024x512 .f32) (a b : FVec Ideal S1x512 .f32) (w : Vec Ideal S3x512 .f32) (r : Fin 1024) (j : Fin 512) :
    k0_pay28 u (k0_pay25 u b) (k0_pay26 w) (k0_pay27 u a w) (ix2 r j) =
      convRow (fun i k => w (ix2 i k))
        (fun k => if h : r.val = 0 then a (ix2 (0 : Fin 1) k) else u (ix2 (⟨r.val - 1, by omega⟩ : Fin 1024) k))
        (fun k => u (ix2 r k))
        (fun k => if h : r.val = 1023 then b (ix2 (0 : Fin 1) k) else u (ix2 (⟨r.val + 1, by omega⟩ : Fin 1024) k)) j := by
  pointwise [k0_pay28, k0_pay25, k0_pay26, k0_pay27, convRow]
  have e0 := eq_at (α := EReal) r.val 0 (by omega) (by omega)
  have e1 := eq_at (α := EReal) r.val 1023 (by omega) (by omega)
  rw [e0, e1]
  have t {x y : ℕ} (hx : x < 1024) (hy : y < 1024) (h : x = y) :
      u (ix2 (⟨x, hx⟩ : Fin 1024) j) = u (ix2 (⟨y, hy⟩ : Fin 1024) j) := by subst h; rfl
  refine congrArg₂ _ (congrArg₂ _ (congrArg _ ?_) rfl) (congrArg _ ?_) <;> split_ifs <;>
    first
    | rfl
    | exact t _ _ (by omega)

theorem pay44_at (h : FVec Ideal S1024x1024 .bf16) (v : FVec Ideal S1024x512 .f32) (w1 w2 : Vec Ideal S1024x512 .bf16)
    (g : Vec Ideal S1x512 .f32) (r : Fin 1024) (j : Fin 512) :
    k0_pay44 h (k0_pay33 h v w1 g) w2 (ix2 r j) =
      normRow (fun k => dotRow (fun k => h (ix2 r k)) (fun k i => w1 (ix2 k i)) k * v (ix2 r k)) (fun k => g (ix2 (0 : Fin 1) k)) j *
        silu (dotRow (fun k => h (ix2 r k)) (fun k i => w2 (ix2 k i)) j) := by
  pointwise [k0_pay44, k0_pay33, normRow, scaleOf, dotRow, silu]

end Cert.Proof.Proj
-- ==== Proof.ProjBlocks.lean ====
/- What the first kernel leaves in each of its five blocks, of the rows of the blocks that it reads (hand-written). -/
module

public import proofs.«01_k».proof.Proof.ProjStages
public import Idealize.ShloMosaic.Lib.Bf16PairInverse

@[expose] public section

set_option maxRecDepth 16384

noncomputable section

namespace Cert.Proof.Proj

open Cert.Proof.Tail (scaleOf lastRow)
open Cert.ProjIdeal Cert.ProjIdeal.Gen
open Idealize.ShloMosaic Idealize.ShloMosaic.TcCoe Idealize.SL.Sem

/-- The columns of the weight from the `o`-th on. -/
def cols {n : ℕ} (o : ℕ) (h : o + n ≤ 4096) (w : Fin 1024 → Fin 4096 → EReal) (k : Fin 1024) (i : Fin n) : EReal :=
  w k ⟨o + i.val, by omega⟩

section Tile
variable (i : grid0.Coords) (x0 : Vec Ideal S1024x1024 .f32) (x1 x2 : Vec Ideal S8x1024 .f32) (x3 : Vec Ideal S1x1024 .f32)
  (x4 : Vec Ideal S1024x4096 .bf16) (x5 x6 x7 : Vec Ideal S1024x128 .f32) (x8 : Vec Ideal S3x512 .f32) (x9 : Vec Ideal S1x512 .f32)

theorem pay46_at (r k : Fin 1024) : k0_pay46 i x0 x1 x2 x3 x4 x5 x6 x7 x8 x9 (ix2 r k) =
    lastRow (fun a => x0 (ix2 r a)) (fun a => x3 (ix2 (0 : Fin 1) a)) k := by
  unfold k0_pay46
  rw [View.ld_unit_lit _ x0 (by decide), View.ld_unit_lit _ x3 (by decide), pay1_at]

theorem pay47_at (r : Fin 1024) (l : Fin 128) : k0_pay47 i x0 x1 x2 x3 x4 x5 x6 x7 x8 x9 (ix2 r l) = x5 (ix2 r l) := by
  unfold k0_pay47
  rw [View.ld_unit_lit _ x5 (by decide)]
  pointwise [k0_pay2]
theorem pay48_at (r : Fin 1024) (l : Fin 128) : k0_pay48 i x0 x1 x2 x3 x4 x5 x6 x7 x8 x9 (ix2 r l) = x6 (ix2 r l) := by
  unfold k0_pay48
  rw [View.ld_unit_lit _ x6 (by decide)]
  pointwise [k0_pay3]
theorem pay49_at (r : Fin 1024) (l : Fin 128) : k0_pay49 i x0 x1 x2 x3 x4 x5 x6 x7 x8 x9 (ix2 r l) = x7 (ix2 r l) := by
  unfold k0_pay49
  rw [View.ld_unit_lit _ x7 (by decide)]
  pointwise [k0_pay4]

/-- The weight's columns that each product takes. -/
theorem w_at (k : Fin 1024) (j : Fin 512) :
    View.ld x4 r0_5 (ix2 k j) = cols 0 (by decide) (fun a b => x4 (ix2 a b)) k j ∧
    View.ld x4 r0_8 (ix2 k j) = cols 512 (by decide) (fun a b => x4 (ix2 a b)) k j ∧
    View.ld x4 r0_12 (ix2 k j) = cols 1024 (by decide) (fun a b => x4 (ix2 a b)) k j ∧
    View.ld x4 r0_15 (ix2 k j) = cols 1536 (by decide) (fun a b => x4 (ix2 a b)) k j ∧
    View.ld x4 r0_10 (ix2 k j) = cols 2048 (by decide) (fun a b => x4 (ix2 a b)) k j ∧
    View.ld x4 r0_13 (ix2 k j) = cols 3584 (by decide) (fun a b => x4 (ix2 a b)) k j :=
  ⟨ld_at 0 _ x4 k j (by decide), ld_at 512 _ x4 k j (by decide), ld_at 1024 _ x4 k j (by decide), ld_at 1536 _ x4 k j (by decide),
    ld_at 2048 _ x4 k j (by decide), ld_at 3584 _ x4 k j (by decide)⟩
theorem w4_at (k j : Fin 1024) : View.ld x4 r0_4 (ix2 k j) = cols 2560 (by decide) (fun a b => x4 (ix2 a b)) k j :=
  ld_at 2560 _ x4 k j (by decide)

/-- The normalised row of the tile. -/
def tileRow (r : Fin 1024) : Fin 1024 → EReal := lastRow (fun a => x0 (ix2 r a)) (fun a => x3 (ix2 (0 : Fin 1) a))

theorem out13_at (r : Fin 1024) (j : Fin 512) : out0_13 i x0 x1 x2 x3 x4 x5 x6 x7 x8 x9 (ix2 r j) =
    silu (dotRow (tileRow x0 x3 r) (cols 1536 (by decide) (fun a b => x4 (ix2 a b))) j) := by
  unfold out0_13
  rw [View.canon_cons_unit_lit _ _ _ (by decide), pay45_at]
  simp only [pay46_at, (w_at x4 _ _).2.2.2.1]
  rfl

theorem out12_at (p : Fin 512) (h : Fin 2) (j : Fin 1024) : out0_12 i x0 x1 x2 x3 x4 x5 x6 x7 x8 x9 (ix3 p h j) =
    padAt 1 (dotRow (tileRow x0 x3 ⟨2 * p.val + h.val, by omega⟩) (cols 1024 (by decide) (fun a b => x4 (ix2 a b)))) j := by
  unfold out0_12
  rw [View.canon_cons_unit_lit _ _ _ (by decide)]
  refine (pay43_at _ _ p h j).trans ?_
  simp only [pay46_at, (w_at x4 _ _).2.2.1]
  rfl

theorem out11_at (p : Fin 512) (h : Fin 2) (j : Fin 512) : out0_11 i x0 x1 x2 x3 x4 x5 x6 x7 x8 x9 (ix3 p h j) =
    ropeAt (fun l => x5 (ix2 (⟨2 * p.val + h.val, by omega⟩ : Fin 1024) l)) (fun l => x6 (ix2 (⟨2 * p.val + h.val, by omega⟩ : Fin 1024) l))
      (fun l => x7 (ix2 (⟨2 * p.val + h.val, by omega⟩ : Fin 1024) l))
      (dotRow (tileRow x0 x3 ⟨2 * p.val + h.val, by omega⟩) (cols 512 (by decide) (fun a b => x4 (ix2 a b)))) j := by
  unfold out0_11
  rw [View.canon_cons_unit_lit _ _ _ (by decide), pay32_at, pay29_at]
  simp only [pay46_at, pay47_at, pay48_at, pay49_at, (w_at x4 _ _).2.1]
  rfl

theorem out10_at (p : Fin 512) (h : Fin 2) (j : Fin 1024) : out0_10 i x0 x1 x2 x3 x4 x5 x6 x7 x8 x9 (ix3 p h j) =
    padAt 0 (fun k => ropeAt (fun l => x5 (ix2 (⟨2 * p.val + h.val, by omega⟩ : Fin 1024) l))
      (fun l => x6 (ix2 (⟨2 * p.val + h.val, by omega⟩ : Fin 1024) l)) (fun l => x7 (ix2 (⟨2 * p.val + h.val, by omega⟩ : Fin 1024) l))
      (dotRow (tileRow x0 x3 ⟨2 * p.val + h.val, by omega⟩) (cols 0 (by decide) (fun a b => x4 (ix2 a b)))) k *
        Ideal.ofBits .f32 0x3E38AA3B#32) j := by
  unfold out0_10
  rw [View.canon_cons_unit_lit _ _ _ (by decide)]
  refine (pay24_at _ p h j).trans ?_
  congr 1
  funext k
  refine (pay16_at _ _ _ _ _ _ k).trans ?_
  simp only [pay46_at, pay47_at, pay48_at, pay49_at, (w_at x4 _ _).1]
  rfl

/-- The row of the convolution's input, of a row. -/
def inRow (x : Fin 1024 → EReal) : Fin 512 → EReal :=
  gateRow (lastRow x (fun a => x3 (ix2 (0 : Fin 1) a))) (cols 2560 (by decide) (fun a b => x4 (ix2 a b)))

theorem out14_at (t : Fin 64) (hi : (i 0).val = t.val) (r : Fin 1024) (j : Fin 512) : out0_14 i x0 x1 x2 x3 x4 x5 x6 x7 x8 x9 (ix2 r j) =
    normRow (fun k => dotRow (tileRow x0 x3 r) (cols 2048 (by decide) (fun a b => x4 (ix2 a b))) k *
        convRow (fun a b => x8 (ix2 a b))
          (fun k => if h : r.val = 0 then if t.val % 2 = 0 then 0 else inRow x3 x4 (fun a => x1 (ix2 (7 : Fin 8) a)) k
            else inRow x3 x4 (fun a => x0 (ix2 (⟨r.val - 1, by omega⟩ : Fin 1024) a)) k)
          (inRow x3 x4 (fun a => x0 (ix2 r a)))
          (fun k => if h : r.val = 1023 then if t.val % 2 = 1 then 0 else inRow x3 x4 (fun a => x2 (ix2 (0 : Fin 8) a)) k
            else inRow x3 x4 (fun a => x0 (ix2 (⟨r.val + 1, by omega⟩ : Fin 1024) a)) k) k)
      (fun k => x9 (ix2 (0 : Fin 1) k)) j * silu (dotRow (tileRow x0 x3 r) (cols 3584 (by decide) (fun a b => x4 (ix2 a b))) j) := by
  unfold out0_14 k0_pay53 k0_pay52 k0_pay51
  rw [View.canon_cons_unit_lit _ _ _ (by decide), pay44_at, hi, View.ld_unit_lit _ x1 (by decide), View.ld_unit_lit _ x2 (by decide),
    View.ld_unit_lit _ x3 (by decide), View.ld_unit_lit _ x8 (by decide), View.ld_unit_lit _ x9 (by decide)]
  simp only [conv_at, pay9_at, pay10_at, pay11_at, pay46_at, (w_at x4 _ _).2.2.2.2.1, (w_at x4 _ _).2.2.2.2.2]
  have e : cols 2560 (by decide) (fun a b => x4 (ix2 a b)) = fun k j : Fin 1024 => View.ld x4 r0_4 (ix2 k j) :=
    funext fun k => funext fun j => (w4_at x4 k j).symm
  unfold inRow
  rw [e]
  rfl

end Tile

end Cert.Proof.Proj
-- ==== Proof.ProjValue.lean ====
/- The arrays that the first kernel leaves, at an index (hand-written): the blocks it reads, and its five results from
   their blocks. -/
module

public import proofs.«01_k».proof.Proof.ProjBlocks

@[expose] public section

set_option maxRecDepth 16384

noncomputable section

namespace Cert.Proof.Proj

open Cert.Proof.Tail (scaleOf lastRow)
open Cert.ProjIdeal Cert.ProjIdeal.Gen
open Idealize.ShloMosaic Idealize.ShloMosaic.TcCoe Idealize.SL.Sem

variable (c : Dev nD)

/-- The blocks of the call: at point `t` of 64, 1024 rows, the eight rows before them and the eight after, the weights whole,
    and the tables' rows of the tile's place in its sequence. -/
theorem idx0 : ∀ t : Fin cfg0.N, win0_0.index t = ![t.val, 0] ∧ win0_1.index t = ![t.val * 128 - 1, 0] ∧
    win0_2.index t = ![min (t.val * 128 + 128) 8191, 0] ∧ win0_3.index t = ![0, 0] ∧ win0_4.index t = ![0, 0] ∧
    win0_5.index t = ![t.val % 2, 0] ∧ win0_6.index t = ![t.val % 2, 0] ∧ win0_7.index t = ![t.val % 2, 0] ∧
    win0_8.index t = ![0, 0] ∧ win0_9.index t = ![0, 0] ∧ win0_10.index t = ![t.val, 0, 0] ∧ win0_11.index t = ![t.val, 0, 0] ∧
    win0_12.index t = ![t.val, 0, 0] ∧ win0_13.index t = ![t.val, 0] ∧ win0_14.index t = ![t.val, 0] :=
  (by decide +kernel : ∀ t : Fin grid0.N, _)

theorem coords0 : ∀ t : Fin cfg0.N, ((cfg0.grid.coords t) 0).val = t.val := (by decide +kernel : ∀ t : Fin grid0.N, _)

/-- Row `r` of the tile at point `t`, in the array. -/
def rowOf (t : Fin cfg0.N) (r : Fin 1024) : Fin 65536 := ⟨t.val * 1024 + r.val, by have h : t.val < 64 := t.isLt; omega⟩
/-- Pair `p` of the tile at point `t`, in the array of pairs. -/
def pairOf (t : Fin cfg0.N) (p : Fin 512) : Fin 32768 := ⟨t.val * 512 + p.val, by have h : t.val < 64 := t.isLt; omega⟩
/-- A row's place in its sequence. -/
def posOf (n : Fin 65536) : Fin 2048 := ⟨n.val % 2048, by omega⟩
/-- Row `h` of pair `p`. -/
def rowIn (p : Fin 32768) (h : Fin 2) : Fin 65536 := ⟨2 * p.val + h.val, by omega⟩

section Blocks
variable (V : (c : Dev nD) → (b : Ref sig .tc) → Buf (Elt Ideal) ((c : Thread nD τ).loc b)) (t : Fin cfg0.N)

theorem blk0 (r k : Fin 1024) : iblk0 V c 0 t (ix2 r k) = V c main_v34 (ix2 (rowOf t r) k) := by
  have e := idx0 t
  blk_simp [iblk0, rowOf, e]
  blk_ext [e]
theorem blk1 (h : t.val % 2 ≠ 0) (k : Fin 1024) : iblk0 V c 1 t (ix2 (7 : Fin 8) k) =
    V c main_v34 (ix2 (⟨t.val * 1024 - 1, by have h : t.val < 64 := t.isLt; omega⟩ : Fin 65536) k) := by
  have e := idx0 t
  blk_simp [iblk0, e]
  blk_ext [e]
theorem blk2 (h : t.val % 2 ≠ 1) (k : Fin 1024) : iblk0 V c 2 t (ix2 (0 : Fin 8) k) =
    V c main_v34 (ix2 (⟨t.val * 1024 + 1024, by have h : t.val < 64 := t.isLt; omega⟩ : Fin 65536) k) := by
  have e := idx0 t
  have : t.val < 64 := t.isLt
  blk_simp [iblk0, e]
  blk_ext [e]
theorem blk3 : (iblk0 V c 3 t : Vec Ideal S1x1024 .f32) = V c main_v36 := by
  have e := idx0 t
  funext y
  idx_vars y
  blk_simp [iblk0, e]
  blk_ext [e]
theorem blk4 : (iblk0 V c 4 t : Vec Ideal S1024x4096 .bf16) = V c main_v38 := by
  have e := idx0 t
  funext y
  idx_vars y
  blk_simp [iblk0, e]
  blk_ext [e]
theorem blk5 (r : Fin 1024) (k : Fin 128) : iblk0 V c 5 t (ix2 r k) = V c main_v24 (ix2 (posOf (rowOf t r)) k) := by
  have e := idx0 t
  blk_simp [iblk0, posOf, rowOf, e]
  blk_ext [e]
theorem blk6 (r : Fin 1024) (k : Fin 128) : iblk0 V c 6 t (ix2 r k) = V c main_v29 (ix2 (posOf (rowOf t r)) k) := by
  have e := idx0 t
  blk_simp [iblk0, posOf, rowOf, e]
  blk_ext [e]
theorem blk7 (r : Fin 1024) (k : Fin 128) : iblk0 V c 7 t (ix2 r k) = V c main_v33 (ix2 (posOf (rowOf t r)) k) := by
  have e := idx0 t
  blk_simp [iblk0, posOf, rowOf, e]
  blk_ext [e]
theorem blk8 : (iblk0 V c 8 t : Vec Ideal S3x512 .f32) = V c main_v39 := by
  have e := idx0 t
  funext y
  idx_vars y
  blk_simp [iblk0, e]
  blk_ext [e]
theorem blk9 : (iblk0 V c 9 t : Vec Ideal S1x512 .f32) = V c main_v41 := by
  have e := idx0 t
  funext y
  idx_vars y
  blk_simp [iblk0, e]
  blk_ext [e]

/-- The blocks of the results, in their arrays. -/
theorem emb10 (p : Fin 512) (h : Fin 2) (k : Fin 1024) : ((cfg0.win 10).blk t).view.emb (ix3 p h k) = ix3 (pairOf t p) h k := by
  have e := idx0 t
  blk_simp [pairOf, e]
  blk_ext [e]
theorem emb11 (p : Fin 512) (h : Fin 2) (k : Fin 512) : ((cfg0.win 11).blk t).view.emb (ix3 p h k) = ix3 (pairOf t p) h k := by
  have e := idx0 t
  blk_simp [pairOf, e]
  blk_ext [e]
theorem emb12 (p : Fin 512) (h : Fin 2) (k : Fin 1024) : ((cfg0.win 12).blk t).view.emb (ix3 p h k) = ix3 (pairOf t p) h k := by
  have e := idx0 t
  blk_simp [pairOf, e]
  blk_ext [e]
theorem emb13 (r : Fin 1024) (k : Fin 512) : ((cfg0.win 13).blk t).view.emb (ix2 r k) = ix2 (rowOf t r) k := by
  have e := idx0 t
  blk_simp [rowOf, e]
  blk_ext [e]
theorem emb14 (r : Fin 1024) (k : Fin 512) : ((cfg0.win 14).blk t).view.emb (ix2 r k) = ix2 (rowOf t r) k := by
  have e := idx0 t
  blk_simp [rowOf, e]
  blk_ext [e]

/-- The first row of a pair's tile, as a row of the array. -/
theorem row_pair (p : Fin 512) (h : Fin 2) : rowOf t ⟨2 * p.val + h.val, by omega⟩ = rowIn (pairOf t p) h := by
  apply Fin.ext
  simp only [rowOf, rowIn, pairOf]
  omega

end Blocks

/-! The five results, of the arrays that the call reads. -/
section Arrays
variable (x : Vec Ideal S65536x1024 .f32) (g : Vec Ideal S1x1024 .f32) (w : Vec Ideal S1024x4096 .bf16)
  (co sl sh : Vec Ideal S2048x128 .f32) (cw : Vec Ideal S3x512 .f32) (nc : Vec Ideal S1x512 .f32)

/-- The normalised row. -/
def hRow (n : Fin 65536) : Fin 1024 → EReal := lastRow (fun a => x (ix2 n a)) (fun a => g (ix2 (0 : Fin 1) a))
/-- A row times 512 of the weight's columns. -/
def proj (o : ℕ) (h : o + 512 ≤ 4096) (n : Fin 65536) : Fin 512 → EReal := dotRow (hRow x g n) (cols o h (fun a b => w (ix2 a b)))
/-- A row times 512 of the columns, turned by the tables. -/
def turned (o : ℕ) (h : o + 512 ≤ 4096) (n : Fin 65536) : Fin 512 → EReal :=
  ropeAt (fun l => co (ix2 (posOf n) l)) (fun l => sl (ix2 (posOf n) l)) (fun l => sh (ix2 (posOf n) l)) (proj x g w o h n)
def qRow (n : Fin 65536) (j : Fin 512) : EReal := turned x g w co sl sh 0 (by decide) n j * Ideal.ofBits .f32 0x3E38AA3B#32
/-- The convolution's input. -/
def uRow (n : Fin 65536) : Fin 512 → EReal := inRow g w (fun a => x (ix2 n a))
/-- The rows before and after, zero at the ends of a sequence. -/
def uPrev (n : Fin 65536) (k : Fin 512) : EReal := if n.val % 2048 = 0 then 0 else uRow x g w ⟨n.val - 1, by omega⟩ k
def uNext (n : Fin 65536) (k : Fin 512) : EReal := if h : n.val % 2048 = 2047 then 0 else uRow x g w ⟨n.val + 1, by omega⟩ k
def sgaRow (n : Fin 65536) (j : Fin 512) : EReal := silu (proj x g w 1536 (by decide) n j)
def convOut (n : Fin 65536) (j : Fin 512) : EReal :=
  normRow (fun k => proj x g w 2048 (by decide) n k *
    convRow (fun a b => cw (ix2 a b)) (uPrev x g w n) (uRow x g w n) (uNext x g w n) k) (fun k => nc (ix2 (0 : Fin 1) k)) j *
      silu (proj x g w 3584 (by decide) n j)

def qArr : Vec Ideal S32768x2x1024 .bf16 := fun y => padAt 0 (qRow x g w co sl sh (rowIn (y 0) (y 1))) (y 2)
def kArr : Vec Ideal S32768x2x512 .bf16 := fun y => turned x g w co sl sh 512 (by decide) (rowIn (y 0) (y 1)) (y 2)
def vArr : Vec Ideal S32768x2x1024 .bf16 := fun y => padAt 1 (proj x g w 1024 (by decide) (rowIn (y 0) (y 1))) (y 2)
def sArr : Vec Ideal S65536x512 .bf16 := fun y => sgaRow x g w (y 0) (y 1)
def cArr : Vec Ideal S65536x512 .bf16 := fun y => convOut x g w cw nc (y 0) (y 1)

end Arrays

section Region
variable (V : (c : Dev nD) → (b : Ref sig .tc) → Buf (Elt Ideal) ((c : Thread nD τ).loc b))

theorem arr13 : (dat0 V c).arrAt 13 cfg0.N = sArr (V c main_v34) (V c main_v36) (V c main_v38) := by
  refine (dat0 V c).arrAt_eq_of_covers 13 _ (by decide +kernel) fun t hf y => ?_
  blk_simp
  rw [after0_13]
  idx_vars y
  refine ((out13_at _ _ _ _ _ _ _ _ _ _ _ y0 y1).trans ?_).trans
    (congrArg (sArr (V c main_v34) (V c main_v36) (V c main_v38)) (emb13 t y0 y1)).symm
  unfold tileRow
  simp only [blk0, blk3, blk4]
  rfl

theorem arr12 : (dat0 V c).arrAt 12 cfg0.N = vArr (V c main_v34) (V c main_v36) (V c main_v38) := by
  refine (dat0 V c).arrAt_eq_of_covers 12 _ (by decide +kernel) fun t hf y => ?_
  blk_simp
  rw [after0_12]
  idx_vars y
  refine ((out12_at _ _ _ _ _ _ _ _ _ _ _ y0 y1 y2).trans ?_).trans
    (congrArg (vArr (V c main_v34) (V c main_v36) (V c main_v38)) (emb12 t y0 y1 y2)).symm
  unfold tileRow
  simp only [blk0, blk3, blk4, row_pair]
  rfl

theorem arr11 : (dat0 V c).arrAt 11 cfg0.N =
    kArr (V c main_v34) (V c main_v36) (V c main_v38) (V c main_v24) (V c main_v29) (V c main_v33) := by
  refine (dat0 V c).arrAt_eq_of_covers 11 _ (by decide +kernel) fun t hf y => ?_
  blk_simp
  rw [after0_11]
  idx_vars y
  refine ((out11_at _ _ _ _ _ _ _ _ _ _ _ y0 y1 y2).trans ?_).trans
    (congrArg (kArr (V c main_v34) (V c main_v36) (V c main_v38) (V c main_v24) (V c main_v29) (V c main_v33)) (emb11 t y0 y1 y2)).symm
  unfold tileRow
  simp only [blk0, blk3, blk4, blk5, blk6, blk7, row_pair]
  rfl

theorem arr10 : (dat0 V c).arrAt 10 cfg0.N =
    qArr (V c main_v34) (V c main_v36) (V c main_v38) (V c main_v24) (V c main_v29) (V c main_v33) := by
  refine (dat0 V c).arrAt_eq_of_covers 10 _ (by decide +kernel) fun t hf y => ?_
  blk_simp
  rw [after0_10]
  idx_vars y
  refine ((out10_at _ _ _ _ _ _ _ _ _ _ _ y0 y1 y2).trans ?_).trans
    (congrArg (qArr (V c main_v34) (V c main_v36) (V c main_v38) (V c main_v24) (V c main_v29) (V c main_v33)) (emb10 t y0 y1 y2)).symm
  unfold tileRow
  simp only [blk0, blk3, blk4, blk5, blk6, blk7, row_pair]
  rfl

/-- The row before and the row after a row of the tile. -/
theorem prev_at (t : Fin cfg0.N) (r : Fin 1024) (k : Fin 512) :
    (if h : r.val = 0 then if t.val % 2 = 0 then 0 else
        inRow (V c main_v36) (V c main_v38) (fun a => iblk0 V c 1 t (ix2 (7 : Fin 8) a)) k
      else inRow (V c main_v36) (V c main_v38) (fun a => iblk0 V c 0 t (ix2 (⟨r.val - 1, by omega⟩ : Fin 1024) a)) k) =
      uPrev (V c main_v34) (V c main_v36) (V c main_v38) (rowOf t r) k := by
  have hn : (rowOf t r).val = t.val * 1024 + r.val := rfl
  unfold uPrev uRow
  by_cases h : r.val = 0
  · rw [dif_pos h]
    by_cases ht : t.val % 2 = 0
    · rw [if_pos ht, if_pos (by omega)]
    · rw [if_neg ht, if_neg (by omega)]
      simp only [blk1 c V t ht]
      have e : (⟨t.val * 1024 - 1, by have h : t.val < 64 := t.isLt; omega⟩ : Fin 65536) = ⟨(rowOf t r).val - 1, by omega⟩ :=
        Fin.ext (show t.val * 1024 - 1 = (rowOf t r).val - 1 by omega)
      rw [e]
  · rw [dif_neg h, if_neg (by omega)]
    simp only [blk0]
    have e : rowOf t ⟨r.val - 1, by omega⟩ = ⟨(rowOf t r).val - 1, by omega⟩ :=
      Fin.ext (show t.val * 1024 + (r.val - 1) = (rowOf t r).val - 1 by omega)
    rw [e]
theorem next_at (t : Fin cfg0.N) (r : Fin 1024) (k : Fin 512) :
    (if h : r.val = 1023 then if t.val % 2 = 1 then 0 else
        inRow (V c main_v36) (V c main_v38) (fun a => iblk0 V c 2 t (ix2 (0 : Fin 8) a)) k
      else inRow (V c main_v36) (V c main_v38) (fun a => iblk0 V c 0 t (ix2 (⟨r.val + 1, by omega⟩ : Fin 1024) a)) k) =
      uNext (V c main_v34) (V c main_v36) (V c main_v38) (rowOf t r) k := by
  have hn : (rowOf t r).val = t.val * 1024 + r.val := rfl
  unfold uNext uRow
  by_cases h : r.val = 1023
  · rw [dif_pos h]
    by_cases ht : t.val % 2 = 1
    · rw [if_pos ht, dif_pos (by omega)]
    · rw [if_neg ht, dif_neg (by omega)]
      simp only [blk2 c V t ht]
      have e : (⟨t.val * 1024 + 1024, by have h : t.val < 64 := t.isLt; omega⟩ : Fin 65536) = ⟨(rowOf t r).val + 1, by omega⟩ :=
        Fin.ext (show t.val * 1024 + 1024 = (rowOf t r).val + 1 by omega)
      rw [e]
  · rw [dif_neg h, dif_neg (by omega)]
    simp only [blk0]
    have e : rowOf t ⟨r.val + 1, by omega⟩ = ⟨(rowOf t r).val + 1, by omega⟩ :=
      Fin.ext (show t.val * 1024 + (r.val + 1) = (rowOf t r).val + 1 by omega)
    rw [e]

theorem arr14 : (dat0 V c).arrAt 14 cfg0.N =
    cArr (V c main_v34) (V c main_v36) (V c main_v38) (V c main_v39) (V c main_v41) := by
  refine (dat0 V c).arrAt_eq_of_covers 14 _ (by decide +kernel) fun t hf y => ?_
  blk_simp
  rw [after0_14]
  idx_vars y
  refine ((out14_at _ _ _ _ _ _ _ _ _ _ _ t (coords0 t) y0 y1).trans ?_).trans
    (congrArg (cArr (V c main_v34) (V c main_v36) (V c main_v38) (V c main_v39) (V c main_v41)) (emb14 t y0 y1)).symm
  simp only [blk3, blk4, blk8, blk9, prev_at, next_at]
  unfold tileRow
  simp only [blk0]
  rfl

end Region

end Cert.Proof.Proj
-- ==== Proof.ProjSpec.lean ====
/- What the projections compute, at an index of the arguments (hand-written): what both sides are led to. -/
module

public import proofs.«01_k».proof.Proof.ProjBlocks

@[expose] public section

noncomputable section

namespace Cert.Proof.Proj

open Cert.Proof.Tail (scaleOf lastRow)
open Idealize.ShloMosaic

/-- The angle of a place in the sequence and a frequency: the place times 500000 to the power `-2 d / 16`. -/
def angleAt (s : Fin 2048) (d : Fin 8) : EReal :=
  FloatOps.sitofp (F := Ideal) FTy.f32 (BitVec.ofNat 32 s.val) *
    Ideal.pow (Ideal.ofBits .f32 0x48F42400#32)
      (Ideal.div (-(Ideal.ofBits .f32 0x40000000#32 * FloatOps.sitofp (F := Ideal) FTy.f32 (BitVec.ofNat 32 d.val))) (Ideal.ofBits .f32 0x41800000#32))

/-- The partial rotation of a row of eight heads: the first sixteen columns of a head turn, the others stay. -/
def ropeOf (s : Fin 2048) (f : Fin 512 → EReal) (j : Fin 512) : EReal :=
  if h : j.val % 64 < 8 then
    f j * Ideal.cos (angleAt s ⟨j.val % 64, h⟩) - f ⟨j.val + 8, by omega⟩ * Ideal.sin (angleAt s ⟨j.val % 64, h⟩)
  else if h : j.val % 64 - 8 < 8 then
    f j * Ideal.cos (angleAt s ⟨j.val % 64 - 8, h⟩) + f ⟨j.val - 8, by omega⟩ * Ideal.sin (angleAt s ⟨j.val % 64 - 8, h⟩)
  else f j

section
variable (x : Fin 32 → Fin 2048 → Fin 1024 → EReal) (g : Fin 1024 → EReal) (w : Fin 1024 → Fin 4096 → EReal)
  (cw : Fin 3 → Fin 512 → EReal) (nc : Fin 512 → EReal) (b : Fin 32) (s : Fin 2048)

/-- A row of the projections: the normalised row times 512 of the weight's columns. -/
def rowProj (o : ℕ) (h : o + 512 ≤ 4096) : Fin 512 → EReal := dotRow (lastRow (x b s) g) (cols o h w)
/-- The queries, the keys, the values and the gate of the attention. -/
def rowQ (j : Fin 512) : EReal := ropeOf s (rowProj x g w b s 0 (by decide)) j * Ideal.ofBits .f32 0x3E38AA3B#32
def rowK : Fin 512 → EReal := ropeOf s (rowProj x g w b s 512 (by decide))
def rowV : Fin 512 → EReal := rowProj x g w b s 1024 (by decide)
def rowS (j : Fin 512) : EReal := silu (rowProj x g w b s 1536 (by decide) j)
/-- The convolution's input, and the convolution's gated, normalised result. -/
def rowU : Fin 512 → EReal := gateRow (lastRow (x b s) g) (cols 2560 (by decide) w)
def rowC (j : Fin 512) : EReal :=
  normRow (fun k => rowProj x g w b s 2048 (by decide) k *
    convRow cw (fun k => if s.val = 0 then 0 else rowU x g w b ⟨s.val - 1, by omega⟩ k) (rowU x g w b s)
      (fun k => if h : s.val = 2047 then 0 else rowU x g w b ⟨s.val + 1, by omega⟩ k) k) nc j *
    silu (rowProj x g w b s 3584 (by decide) j)
end

end Cert.Proof.Proj
-- ==== Proof.ProjHost.lean ====
/- The projections' five results at an index of the arguments (hand-written): the operands as the first kernel finds them,
   the packed words read back as rows, and the heads taken out of the padded columns. -/
module

public import proofs.«01_k».proof.Proof.ProjValue
public import proofs.«01_k».proof.Proof.ProjSpec

@[expose] public section

set_option maxRecDepth 16384

noncomputable section

namespace Cert.Proof.Proj

open Cert.Proof.Tail (scaleOf lastRow)
open Cert.ProjIdeal Cert.ProjIdeal.Gen
open Idealize.ShloMosaic Idealize.ShloMosaic.TcCoe Idealize.SL.Sem

variable (m : (ℓ : Loc nD τ sig) → Buf (Elt Ideal) ℓ) (ρ : Dev nD → PrngReg) (c : Dev nD)

/-! The tables of the rotation. -/

/-- The frequencies and the angles, as the operations compute them. -/
def freqs : FVec Ideal S8 .f32 := Host.powf (broadcastInDim S8 ![] bcast_S_S8 (constant (F := Ideal) S_ .f32 0x48F42400#32))
  (Host.divf (Host.negf (addf (broadcastInDim S8 ![] bcast_S_S8 (constant (F := Ideal) S_ .f32 0x00000000#32))
    (mulf (broadcastInDim S8 ![] bcast_S_S8 (constant (F := Ideal) S_ .f32 0x40000000#32)) (sitofp .f32 (iotaInDim S8 32 0)))))
    (broadcastInDim S8 ![] bcast_S_S8 (constant (F := Ideal) S_ .f32 0x41800000#32)))
def angles : FVec Ideal S2048x8 .f32 := mulf
  (broadcastInDim S2048x8 ![0, 1] bcast_S2048x1_S2048x8_0_1 (broadcastInDim S2048x1 ![0] bcast_S2048_S2048x1_0
    (sitofp (F := Ideal) .f32 (iotaInDim S2048 32 0))))
  (broadcastInDim S2048x8 ![0, 1] bcast_S1x8_S2048x8_0_1 (broadcastInDim S1x8 ![1] bcast_S8_S1x8_1 freqs))
theorem angles_at (s : Fin 2048) (d : Fin 8) : angles (ix2 s d) = angleAt s d := by
  pointwise [angles, freqs, angleAt]

def fill48 (b : BitVec 32) : FVec Ideal S2048x48 .f32 := broadcastInDim S2048x48 ![] bcast_S_S2048x48 (constant (F := Ideal) S_ .f32 b)
def fill8 (b : BitVec 32) : FVec Ideal S2048x8 .f32 := broadcastInDim S2048x8 ![] bcast_S_S2048x8 (constant (F := Ideal) S_ .f32 b)
/-- A table of a head's columns, for two heads side by side. -/
def table (a b : FVec Ideal S2048x8 .f32) (e : FVec Ideal S2048x48 .f32) : FVec Ideal S2048x128 .f32 :=
  shapeCast S2048x128 (broadcastInDim S1x2048x2x64 ![0, 1, 2, 3] bcast_S1x2048x1x64_S1x2048x2x64_0_1_2_3
    (shapeCast S1x2048x1x64 (concatenate S2048x64 1 [⟨S2048x8, a⟩, ⟨S2048x8, b⟩, ⟨S2048x48, e⟩] concatenates_S2048x8_S2048x8_S2048x48_S2048x64_d1)
      shapeCasts_S2048x64_S1x2048x1x64)) shapeCasts_S1x2048x2x64_S2048x128
theorem table_at (a b : FVec Ideal S2048x8 .f32) (e : FVec Ideal S2048x48 .f32) (s : Fin 2048) (l : Fin 128) :
    table a b e (ix2 s l) = if h : l.val % 64 < 8 then a (ix2 s ⟨l.val % 64, h⟩) else
      if h : l.val % 64 - 8 < 8 then b (ix2 s ⟨l.val % 64 - 8, h⟩) else e (ix2 s ⟨l.val % 64 - 8 - 8, by omega⟩) := by
  pointwise [table]

def cosTable : FVec Ideal S2048x128 .f32 := table (Host.cos angles) (Host.cos angles) (fill48 0x3F800000#32)
def loTable : FVec Ideal S2048x128 .f32 := table (Host.negf (Host.sin angles)) (fill8 0x00000000#32) (fill48 0x00000000#32)
def hiTable : FVec Ideal S2048x128 .f32 := table (fill8 0x00000000#32) (Host.sin angles) (fill48 0x00000000#32)

theorem cosTable_at (s : Fin 2048) (l : Fin 128) : cosTable (ix2 s l) =
    if h : l.val % 64 < 8 then Ideal.cos (angleAt s ⟨l.val % 64, h⟩) else
      if h : l.val % 64 - 8 < 8 then Ideal.cos (angleAt s ⟨l.val % 64 - 8, h⟩) else 1 := by
  have hc (d : Fin 8) : Host.cos angles (ix2 s d) = Ideal.cos (angleAt s d) := congrArg Ideal.cos (angles_at s d)
  have h1 (d : Fin 48) : fill48 0x3F800000#32 (ix2 s d) = 1 := by
    pointwise [fill48]
  unfold cosTable
  rw [table_at]
  simp only [hc, h1]
theorem zero48 (s : Fin 2048) (d : Fin 48) : fill48 0x00000000#32 (ix2 s d) = 0 := by
  pointwise [fill48]
theorem zero8 (s : Fin 2048) (d : Fin 8) : fill8 0x00000000#32 (ix2 s d) = 0 := by
  pointwise [fill8]
theorem loTable_at (s : Fin 2048) (l : Fin 128) : loTable (ix2 s l) =
    if h : l.val % 64 < 8 then -Ideal.sin (angleAt s ⟨l.val % 64, h⟩) else 0 := by
  have hs (d : Fin 8) : Host.negf (Host.sin angles) (ix2 s d) = -Ideal.sin (angleAt s d) :=
    congrArg (fun z => -Ideal.sin z) (angles_at s d)
  unfold loTable
  rw [table_at]
  simp only [hs, zero8, zero48]
  split_ifs <;> rfl
theorem hiTable_at (s : Fin 2048) (l : Fin 128) : hiTable (ix2 s l) =
    if h : l.val % 64 < 8 then 0 else if h : l.val % 64 - 8 < 8 then Ideal.sin (angleAt s ⟨l.val % 64 - 8, h⟩) else 0 := by
  have hs (d : Fin 8) : Host.sin angles (ix2 s d) = Ideal.sin (angleAt s d) := congrArg Ideal.sin (angles_at s d)
  unfold hiTable
  rw [table_at]
  simp only [hs, zero8, zero48]

/-- A row turned by the tables is the row turned. -/
theorem rope_tables (s : Fin 2048) (f : Fin 512 → EReal) (j : Fin 512) :
    ropeAt (fun l => cosTable (ix2 s l)) (fun l => loTable (ix2 s l)) (fun l => hiTable (ix2 s l)) f j = ropeOf s f j := by
  have hj : j.val % 128 % 64 = j.val % 64 := by omega
  unfold ropeAt ropeOf
  simp only [cosTable_at, loTable_at, hiTable_at, hj]
  by_cases h : j.val % 64 < 8
  · have e : (⟨j.val / 128 * 128 + (j.val % 128 + 8) % 128, by omega⟩ : Fin 512) = ⟨j.val + 8, by omega⟩ :=
      Fin.ext (show j.val / 128 * 128 + (j.val % 128 + 8) % 128 = j.val + 8 by omega)
    simp only [dif_pos h, mul_zero, add_zero, e, mul_neg, sub_eq_add_neg]
  · by_cases h' : j.val % 64 - 8 < 8
    · have e : (⟨j.val / 128 * 128 + (j.val % 128 + 120) % 128, by omega⟩ : Fin 512) = ⟨j.val - 8, by omega⟩ :=
        Fin.ext (show j.val / 128 * 128 + (j.val % 128 + 120) % 128 = j.val - 8 by omega)
      simp only [dif_neg h, dif_pos h', mul_zero, add_zero, e]
    · simp only [dif_neg h, dif_neg h', mul_zero, add_zero, mul_one]

/-! The operands as the first kernel finds them. -/

theorem v24_eq : (V1 m ρ c main_v24 : FVec Ideal S2048x128 .f32) = cosTable := by
  show StableHlo.after hostOps0 (W0 m ρ c) main_v24 = _
  after_results_simp
  rfl
theorem v29_eq : (V1 m ρ c main_v29 : FVec Ideal S2048x128 .f32) = loTable := by
  show StableHlo.after hostOps0 (W0 m ρ c) main_v29 = _
  after_results_simp
  rfl
theorem v33_eq : (V1 m ρ c main_v33 : FVec Ideal S2048x128 .f32) = hiTable := by
  show StableHlo.after hostOps0 (W0 m ρ c) main_v33 = _
  after_results_simp
  rfl
theorem v34_eq : (V1 m ρ c main_v34 : FVec Ideal S65536x1024 .f32) = shapeCast S65536x1024 (m ((c : Thread nD τ).loc main_arg0) : FVec Ideal S32x2048x1024 .f32) shapeCasts_S32x2048x1024_S65536x1024 := by
  show StableHlo.after hostOps0 (W0 m ρ c) main_v34 = _
  after_results_simp
  rfl
theorem v36_eq : (V1 m ρ c main_v36 : FVec Ideal S1x1024 .f32) = broadcastInDim S1x1024 ![1] bcast_S1024_S1x1024_1 (shapeCast S1024 (m ((c : Thread nD τ).loc main_arg1) : FVec Ideal S1x1024 .f32) shapeCasts_S1x1024_S1024) := by
  show StableHlo.after hostOps0 (W0 m ρ c) main_v36 = _
  after_results_simp
  rfl
theorem v38_eq : (V1 m ρ c main_v38 : FVec Ideal S1024x4096 .bf16) = truncf (F := Ideal) .bf16 (shapeCast S1024x4096 (m ((c : Thread nD τ).loc main_arg2) : FVec Ideal S1x1024x4096 .f32) shapeCasts_S1x1024x4096_S1024x4096) bitsLt_bf16_f32 := by
  show StableHlo.after hostOps0 (W0 m ρ c) main_v38 = _
  after_results_simp
  rfl
theorem v39_eq : (V1 m ρ c main_v39 : FVec Ideal S3x512 .f32) = shapeCast S3x512 (m ((c : Thread nD τ).loc main_arg3) : FVec Ideal S1x3x512 .f32) shapeCasts_S1x3x512_S3x512 := by
  show StableHlo.after hostOps0 (W0 m ρ c) main_v39 = _
  after_results_simp
  rfl
theorem v41_eq : (V1 m ρ c main_v41 : FVec Ideal S1x512 .f32) = broadcastInDim S1x512 ![1] bcast_S512_S1x512_1 (shapeCast S512 (m ((c : Thread nD τ).loc main_arg4) : FVec Ideal S1x512 .f32) shapeCasts_S1x512_S512) := by
  show StableHlo.after hostOps0 (W0 m ρ c) main_v41 = _
  after_results_simp
  rfl

/-! The results' rows, of the arguments. -/
section Args
variable (x : FVec Ideal S32x2048x1024 .f32) (g : FVec Ideal S1x1024 .f32) (w : FVec Ideal S1x1024x4096 .f32)
  (cw : FVec Ideal S1x3x512 .f32) (nc : FVec Ideal S1x512 .f32) (b : Fin 32) (s : Fin 2048)

/-- The row of a place of a sequence. -/
def rowAt : Fin 65536 := ⟨b.val * 2048 + s.val, by omega⟩

/-- The operands that the host's operations leave. -/
def xOp : FVec Ideal S65536x1024 .f32 := shapeCast S65536x1024 x shapeCasts_S32x2048x1024_S65536x1024
def gOp : FVec Ideal S1x1024 .f32 := broadcastInDim S1x1024 ![1] bcast_S1024_S1x1024_1 (shapeCast S1024 g shapeCasts_S1x1024_S1024)
def wOp : FVec Ideal S1024x4096 .bf16 := truncf (F := Ideal) .bf16 (shapeCast S1024x4096 w shapeCasts_S1x1024x4096_S1024x4096) bitsLt_bf16_f32
def cwOp : FVec Ideal S3x512 .f32 := shapeCast S3x512 cw shapeCasts_S1x3x512_S3x512
def ncOp : FVec Ideal S1x512 .f32 := broadcastInDim S1x512 ![1] bcast_S512_S1x512_1 (shapeCast S512 nc shapeCasts_S1x512_S512)

theorem x_at (k : Fin 1024) : xOp x (ix2 (rowAt b s) k) = x (ix3 b s k) := by
  unfold rowAt
  pointwise [xOp]
theorem g_at (k : Fin 1024) : gOp g (ix2 (0 : Fin 1) k) = g (ix2 (0 : Fin 1) k) := by pointwise [gOp]
theorem wt_at (k : Fin 1024) (i : Fin 4096) : wOp w (ix2 k i) = w (ix3 (0 : Fin 1) k i) := by pointwise [wOp]
theorem cw_at (a : Fin 3) (k : Fin 512) : cwOp cw (ix2 a k) = cw (ix3 (0 : Fin 1) a k) := by pointwise [cwOp]
theorem nc_at (k : Fin 512) : ncOp nc (ix2 (0 : Fin 1) k) = nc (ix2 (0 : Fin 1) k) := by pointwise [ncOp]

theorem proj_at (o : ℕ) (h : o + 512 ≤ 4096) : proj (xOp x) (gOp g) (wOp w) o h (rowAt b s) =
    rowProj (fun b s k => x (ix3 b s k)) (fun k => g (ix2 (0 : Fin 1) k)) (fun k i => w (ix3 (0 : Fin 1) k i)) b s o h := by
  unfold proj hRow rowProj
  simp only [x_at, g_at, wt_at]
theorem u_at : uRow (xOp x) (gOp g) (wOp w) (rowAt b s) =
    rowU (fun b s k => x (ix3 b s k)) (fun k => g (ix2 (0 : Fin 1) k)) (fun k i => w (ix3 (0 : Fin 1) k i)) b s := by
  unfold uRow inRow rowU
  simp only [x_at, g_at, wt_at]
theorem pos_at : posOf (rowAt b s) = s := Fin.ext (show (b.val * 2048 + s.val) % 2048 = s.val by omega)
theorem turned_at (o : ℕ) (h : o + 512 ≤ 4096) : turned (xOp x) (gOp g) (wOp w) cosTable loTable hiTable o h (rowAt b s) =
    ropeOf s (rowProj (fun b s k => x (ix3 b s k)) (fun k => g (ix2 (0 : Fin 1) k)) (fun k i => w (ix3 (0 : Fin 1) k i)) b s o h) := by
  funext j
  unfold turned
  rw [proj_at, pos_at, rope_tables]
theorem q_at (j : Fin 512) : qRow (xOp x) (gOp g) (wOp w) cosTable loTable hiTable (rowAt b s) j =
    rowQ (fun b s k => x (ix3 b s k)) (fun k => g (ix2 (0 : Fin 1) k)) (fun k i => w (ix3 (0 : Fin 1) k i)) b s j := by
  unfold qRow rowQ
  rw [turned_at]
theorem sga_at (j : Fin 512) : sgaRow (xOp x) (gOp g) (wOp w) (rowAt b s) j =
    rowS (fun b s k => x (ix3 b s k)) (fun k => g (ix2 (0 : Fin 1) k)) (fun k i => w (ix3 (0 : Fin 1) k i)) b s j := by
  unfold sgaRow rowS
  rw [proj_at]
theorem prev_row (k : Fin 512) : uPrev (xOp x) (gOp g) (wOp w) (rowAt b s) k = if s.val = 0 then 0 else
    rowU (fun b s k => x (ix3 b s k)) (fun k => g (ix2 (0 : Fin 1) k)) (fun k i => w (ix3 (0 : Fin 1) k i)) b ⟨s.val - 1, by omega⟩ k := by
  have hn : (rowAt b s).val = b.val * 2048 + s.val := rfl
  unfold uPrev
  by_cases h : s.val = 0
  · rw [if_pos h, if_pos (by omega)]
  · rw [if_neg h, if_neg (by omega), ← u_at]
    have e : (⟨(rowAt b s).val - 1, by omega⟩ : Fin 65536) = rowAt b ⟨s.val - 1, by omega⟩ :=
      Fin.ext (show (rowAt b s).val - 1 = b.val * 2048 + (s.val - 1) by omega)
    rw [e]
theorem next_row (k : Fin 512) : uNext (xOp x) (gOp g) (wOp w) (rowAt b s) k = if h : s.val = 2047 then 0 else
    rowU (fun b s k => x (ix3 b s k)) (fun k => g (ix2 (0 : Fin 1) k)) (fun k i => w (ix3 (0 : Fin 1) k i)) b ⟨s.val + 1, by omega⟩ k := by
  have hn : (rowAt b s).val = b.val * 2048 + s.val := rfl
  unfold uNext
  by_cases h : s.val = 2047
  · rw [dif_pos h, dif_pos (by omega)]
  · rw [dif_neg h, dif_neg (by omega), ← u_at]
    have e : (⟨(rowAt b s).val + 1, by omega⟩ : Fin 65536) = rowAt b ⟨s.val + 1, by omega⟩ :=
      Fin.ext (show (rowAt b s).val + 1 = b.val * 2048 + (s.val + 1) by omega)
    rw [e]
theorem c_at (j : Fin 512) : convOut (xOp x) (gOp g) (wOp w) (cwOp cw) (ncOp nc) (rowAt b s) j =
    rowC (fun b s k => x (ix3 b s k)) (fun k => g (ix2 (0 : Fin 1) k)) (fun k i => w (ix3 (0 : Fin 1) k i))
      (fun a k => cw (ix3 (0 : Fin 1) a k)) (fun k => nc (ix2 (0 : Fin 1) k)) b s j := by
  have hp := funext (prev_row x g w b s)
  have hx := funext (next_row x g w b s)
  unfold convOut rowC
  simp only [proj_at, u_at, hp, hx, cw_at, nc_at]

end Args

/-! The packed words read back as rows. -/

/-- Pairs of rows, as rows. -/
def rows {n : ℕ} (a : Fin 32768 → Fin 2 → Fin n → EReal) (i : Fin 65536) (j : Fin n) : EReal :=
  a ⟨i.val / 2, by omega⟩ ⟨i.val % 2, by omega⟩ j

theorem unpack1_at (a : Vec Ideal S512x2x1024 .bf16) (r k : Fin 1024) :
    k1_pay1 a (ix2 r k) = a (ix3 (⟨r.val / 2, by omega⟩ : Fin 512) (⟨r.val % 2, by omega⟩ : Fin 2) k) := by
  pointwise [k1_pay1]
  by_cases h : r.val % 2 = 0
  · rw [if_pos h]
    exact congrArg (fun i => a (ix3 _ i k)) (Fin.ext h.symm)
  · rw [if_neg h]
    exact congrArg (fun i => a (ix3 _ i k)) (Fin.ext (show 1 = r.val % 2 by omega))
theorem unpack2_at (a : Vec Ideal S512x2x512 .bf16) (r : Fin 1024) (k : Fin 512) :
    k2_pay1 a (ix2 r k) = a (ix3 (⟨r.val / 2, by omega⟩ : Fin 512) (⟨r.val % 2, by omega⟩ : Fin 2) k) := by
  pointwise [k2_pay1]
  by_cases h : r.val % 2 = 0
  · rw [if_pos h]
    exact congrArg (fun i => a (ix3 _ i k)) (Fin.ext h.symm)
  · rw [if_neg h]
    exact congrArg (fun i => a (ix3 _ i k)) (Fin.ext (show 1 = r.val % 2 by omega))

theorem idx1 : ∀ t : Fin cfg1.N, win1_0.index t = ![t.val, 0, 0] ∧ win1_1.index t = ![t.val, 0] :=
  (by decide +kernel : ∀ t : Fin grid1.N, _)
theorem idx2 : ∀ t : Fin cfg2.N, win2_0.index t = ![t.val, 0, 0] ∧ win2_1.index t = ![t.val, 0] :=
  (by decide +kernel : ∀ t : Fin grid2.N, _)
theorem idx3 : ∀ t : Fin cfg3.N, win3_0.index t = ![t.val, 0, 0] ∧ win3_1.index t = ![t.val, 0] :=
  (by decide +kernel : ∀ t : Fin grid3.N, _)

/-- An array of pairs of rows as rows, for the two widths. -/
def rowsWide (a : Vec Ideal S32768x2x1024 .bf16) : Vec Ideal S65536x1024 .bf16 := fun y =>
  rows (fun p h k => a (ix3 p h k)) (y 0) (y 1)
def rowsThin (a : Vec Ideal S32768x2x512 .bf16) : Vec Ideal S65536x512 .bf16 := fun y =>
  rows (fun p h k => a (ix3 p h k)) (y 0) (y 1)

/-- A row of a tile, of the tile's pairs. -/
theorem rows_tile {n : ℕ} (a : Fin 32768 → Fin 2 → Fin n → EReal) (t : Fin 64) (r : Fin 1024) (k : Fin n) :
    a ⟨t.val * 512 + r.val / 2, by omega⟩ ⟨r.val % 2, by omega⟩ k = rows a ⟨t.val * 1024 + r.val, by omega⟩ k := by
  have h1 : (⟨t.val * 512 + r.val / 2, by omega⟩ : Fin 32768) = ⟨(t.val * 1024 + r.val) / 2, by omega⟩ := Fin.ext (by dsimp only; omega)
  have h2 : (⟨r.val % 2, by omega⟩ : Fin 2) = ⟨(t.val * 1024 + r.val) % 2, by omega⟩ := Fin.ext (by dsimp only; omega)
  rw [h1, h2]
  rfl
theorem rowsWide_tile (a : Vec Ideal S32768x2x1024 .bf16) (t : Fin 64) (r k : Fin 1024) :
    a (ix3 (⟨t.val * 512 + r.val / 2, by omega⟩ : Fin 32768) (⟨r.val % 2, by omega⟩ : Fin 2) k) =
      rowsWide a (ix2 (⟨t.val * 1024 + r.val, by omega⟩ : Fin 65536) k) := rows_tile (fun p h k => a (ix3 p h k)) t r k
theorem rowsThin_tile (a : Vec Ideal S32768x2x512 .bf16) (t : Fin 64) (r : Fin 1024) (k : Fin 512) :
    a (ix3 (⟨t.val * 512 + r.val / 2, by omega⟩ : Fin 32768) (⟨r.val % 2, by omega⟩ : Fin 2) k) =
      rowsThin a (ix2 (⟨t.val * 1024 + r.val, by omega⟩ : Fin 65536) k) := rows_tile (fun p h k => a (ix3 p h k)) t r k

theorem cell1 (V : (c : Dev nD) → (b : Ref sig .tc) → Buf (Elt Ideal) ((c : Thread nD τ).loc b)) (t : Fin cfg1.N) (p : Fin 512)
    (h : Fin 2) (k : Fin 1024) : iblk1 V c 0 t (ix3 p h k) =
      V c main_v42_0 (ix3 (⟨t.val * 512 + p.val, by have h : t.val < 64 := t.isLt; omega⟩ : Fin 32768) h k) := by
  obtain ⟨e, -⟩ := idx1 t
  blk_simp [iblk1, e]
  blk_ext [e]
theorem put1 (t : Fin cfg1.N) (r : Fin 1024) (k : Fin 1024) : ((cfg1.win 1).blk t).view.emb (ix2 r k) =
    ix2 (⟨t.val * 1024 + r.val, by have h : t.val < 64 := t.isLt; omega⟩ : Fin 65536) k := by
  obtain ⟨-, e⟩ := idx1 t
  blk_simp [e]
  blk_ext [e]
theorem unpacked1 (V : (c : Dev nD) → (b : Ref sig .tc) → Buf (Elt Ideal) ((c : Thread nD τ).loc b)) :
    (dat1 V c).arrAt 1 cfg1.N = rowsWide (V c main_v42_0) := by
  refine (dat1 V c).arrAt_eq_of_covers 1 _ (by decide +kernel) fun t hf y => ?_
  blk_simp
  rw [after1_1]
  frame_out
  idx_vars y
  refine (((unpack1_at _ y0 y1).trans (cell1 c V t _ _ y1)).trans ?_).trans (congrArg (rowsWide (V c main_v42_0)) (put1 t y0 y1)).symm
  exact rowsWide_tile (V c main_v42_0) ⟨t.val, t.isLt⟩ y0 y1

theorem cell2 (V : (c : Dev nD) → (b : Ref sig .tc) → Buf (Elt Ideal) ((c : Thread nD τ).loc b)) (t : Fin cfg2.N) (p : Fin 512)
    (h : Fin 2) (k : Fin 512) : iblk2 V c 0 t (ix3 p h k) =
      V c main_v42_1 (ix3 (⟨t.val * 512 + p.val, by have h : t.val < 64 := t.isLt; omega⟩ : Fin 32768) h k) := by
  obtain ⟨e, -⟩ := idx2 t
  blk_simp [iblk2, e]
  blk_ext [e]
theorem put2 (t : Fin cfg2.N) (r : Fin 1024) (k : Fin 512) : ((cfg2.win 1).blk t).view.emb (ix2 r k) =
    ix2 (⟨t.val * 1024 + r.val, by have h : t.val < 64 := t.isLt; omega⟩ : Fin 65536) k := by
  obtain ⟨-, e⟩ := idx2 t
  blk_simp [e]
  blk_ext [e]
theorem unpacked2 (V : (c : Dev nD) → (b : Ref sig .tc) → Buf (Elt Ideal) ((c : Thread nD τ).loc b)) :
    (dat2 V c).arrAt 1 cfg2.N = rowsThin (V c main_v42_1) := by
  refine (dat2 V c).arrAt_eq_of_covers 1 _ (by decide +kernel) fun t hf y => ?_
  blk_simp
  rw [after2_1]
  frame_out
  idx_vars y
  refine (((unpack2_at _ y0 y1).trans (cell2 c V t _ _ y1)).trans ?_).trans (congrArg (rowsThin (V c main_v42_1)) (put2 t y0 y1)).symm
  exact rowsThin_tile (V c main_v42_1) ⟨t.val, t.isLt⟩ y0 y1

theorem cell3 (V : (c : Dev nD) → (b : Ref sig .tc) → Buf (Elt Ideal) ((c : Thread nD τ).loc b)) (t : Fin cfg3.N) (p : Fin 512)
    (h : Fin 2) (k : Fin 1024) : iblk3 V c 0 t (ix3 p h k) =
      V c main_v42_2 (ix3 (⟨t.val * 512 + p.val, by have h : t.val < 64 := t.isLt; omega⟩ : Fin 32768) h k) := by
  obtain ⟨e, -⟩ := idx3 t
  blk_simp [iblk3, e]
  blk_ext [e]
theorem put3 (t : Fin cfg3.N) (r : Fin 1024) (k : Fin 1024) : ((cfg3.win 1).blk t).view.emb (ix2 r k) =
    ix2 (⟨t.val * 1024 + r.val, by have h : t.val < 64 := t.isLt; omega⟩ : Fin 65536) k := by
  obtain ⟨-, e⟩ := idx3 t
  blk_simp [e]
  blk_ext [e]
theorem unpacked3 (V : (c : Dev nD) → (b : Ref sig .tc) → Buf (Elt Ideal) ((c : Thread nD τ).loc b)) :
    (dat3 V c).arrAt 1 cfg3.N = rowsWide (V c main_v42_2) := by
  refine (dat3 V c).arrAt_eq_of_covers 1 _ (by decide +kernel) fun t hf y => ?_
  blk_simp
  rw [after3_1]
  frame_out
  idx_vars y
  refine (((unpack1_at _ y0 y1).trans (cell3 c V t _ _ y1)).trans ?_).trans (congrArg (rowsWide (V c main_v42_2)) (put3 t y0 y1)).symm
  exact rowsWide_tile (V c main_v42_2) ⟨t.val, t.isLt⟩ y0 y1

/-! The heads out of the padded columns. -/

/-- The host's operations on the padded columns. -/
def heads (t : FVec Ideal S65536x1024 .bf16) : FVec Ideal S65536x512 .bf16 :=
  let u := shapeCast S65536x4x2x128 t shapeCasts_S65536x1024_S65536x4x2x128
  shapeCast S65536x512 (concatenate S65536x4x2x64 2
    [⟨S65536x4x1x64, broadcastInDim S65536x4x1x64 ![0, 1, 3] bcast_S65536x4x64_S65536x4x1x64_0_1_3
      (shapeCast S65536x4x64 (extractStridedSlice S65536x4x1x64 ![0, 0, 0, 0] u slices_S65536x4x2x128_S65536x4x1x64_0_0_0_0)
        shapeCasts_S65536x4x1x64_S65536x4x64)⟩,
     ⟨S65536x4x1x64, broadcastInDim S65536x4x1x64 ![0, 1, 3] bcast_S65536x4x64_S65536x4x1x64_0_1_3
      (shapeCast S65536x4x64 (extractStridedSlice S65536x4x1x64 ![0, 0, 1, 64] u slices_S65536x4x2x128_S65536x4x1x64_0_0_1_64)
        shapeCasts_S65536x4x1x64_S65536x4x64)⟩]
    concatenates_S65536x4x1x64_S65536x4x1x64_S65536x4x2x64_d2) shapeCasts_S65536x4x2x64_S65536x512

theorem heads_at (t : FVec Ideal S65536x1024 .bf16) (n : Fin 65536) (j : Fin 512) :
    heads t (ix2 n j) = if h : j.val / 64 % 2 < 1 then t (ix2 n ⟨j.val / 128 * 256 + j.val % 64, by omega⟩)
      else t (ix2 n ⟨j.val / 128 * 256 + 128 + (64 + j.val % 64), by omega⟩) := by
  pointwise [heads]

/-- The heads of padded rows are the rows. -/
theorem heads_pad (e : EReal) (f : Fin 65536 → Fin 512 → EReal) (n : Fin 65536) (j : Fin 512) :
    heads (rowsWide fun y => padAt e (f (rowIn (y 0) (y 1))) (y 2)) (ix2 n j) = f n j := by
  have hr (k : Fin 1024) : rowsWide (fun y => padAt e (f (rowIn (y 0) (y 1))) (y 2)) (ix2 n k) = padAt e (f n) k := by
    have hn : rowIn ⟨n.val / 2, by omega⟩ ⟨n.val % 2, by omega⟩ = n := Fin.ext (Nat.div_add_mod n.val 2)
    show padAt e (f (rowIn ⟨n.val / 2, by omega⟩ ⟨n.val % 2, by omega⟩)) k = _
    rw [hn]
  have ha (i : Fin 512) (h : i.val = j.val) : f n i = f n j := congrArg (f n) (Fin.ext h)
  rw [heads_at]
  by_cases h : j.val / 64 % 2 < 1
  · rw [dif_pos h, hr]
    unfold padAt
    dsimp only
    rw [if_pos (by omega)]
    exact ha _ (by dsimp only; omega)
  · rw [dif_neg h, hr]
    unfold padAt
    dsimp only
    rw [if_pos (by omega)]
    exact ha _ (by dsimp only; omega)

/-! The results. -/

theorem v52_eq : (W7 m ρ c (Proc.devRef .tc main_v52) : FVec Ideal S65536x512 .bf16) = heads (rowsWide (qArr (V1 m ρ c main_v34) (V1 m ρ c main_v36) (V1 m ρ c main_v38) (V1 m ρ c main_v24) (V1 m ρ c main_v29) (V1 m ρ c main_v33))) := by
  refine (W7_of m ρ c main_v52 (by decide)).trans ((W6_of m ρ c main_v52 (by decide)).trans ((W5_of m ρ c main_v52 (by decide)).trans ?_))
  have e : (W4 m ρ c (Proc.devRef .tc main_v52) : FVec Ideal S65536x512 .bf16) = heads (W3 m ρ c (Proc.devRef .tc main_v43)) := by
    show StableHlo.after hostOps2 (W3 m ρ c) main_v52 = _
    after_results_simp
    rfl
  refine e.trans (congrArg heads ((W3_arr m ρ c 1).trans ((unpacked1 c (V2 m ρ)).trans (congrArg rowsWide ?_))))
  exact (W2_arr m ρ c 10).trans (arr10 c (V1 m ρ))
theorem v53_eq : (W7 m ρ c (Proc.devRef .tc main_v53) : FVec Ideal S65536x512 .bf16) = rowsThin (kArr (V1 m ρ c main_v34) (V1 m ρ c main_v36) (V1 m ρ c main_v38) (V1 m ρ c main_v24) (V1 m ρ c main_v29) (V1 m ρ c main_v33)) := by
  refine (W7_of m ρ c main_v53 (by decide)).trans ((W6_of m ρ c main_v53 (by decide)).trans ?_)
  refine (W5_arr m ρ c 1).trans ((unpacked2 c (V4 m ρ)).trans (congrArg rowsThin ?_))
  exact (W4_of m ρ c main_v42_1 (by decide)).trans ((W3_of m ρ c main_v42_1 (by decide)).trans ((W2_arr m ρ c 11).trans (arr11 c (V1 m ρ))))
theorem v63_eq : (W7 m ρ c (Proc.devRef .tc main_v63) : FVec Ideal S65536x512 .bf16) = heads (rowsWide (vArr (V1 m ρ c main_v34) (V1 m ρ c main_v36) (V1 m ρ c main_v38))) := by
  have e : (W7 m ρ c (Proc.devRef .tc main_v63) : FVec Ideal S65536x512 .bf16) = heads (W6 m ρ c (Proc.devRef .tc main_v54)) := by
    show StableHlo.after hostOps4 (W6 m ρ c) main_v63 = _
    after_results_simp
    rfl
  refine e.trans (congrArg heads ((W6_arr m ρ c 1).trans ((unpacked3 c (V5 m ρ)).trans (congrArg rowsWide ?_))))
  exact (W5_of m ρ c main_v42_2 (by decide)).trans ((W4_of m ρ c main_v42_2 (by decide)).trans ((W3_of m ρ c main_v42_2 (by decide)).trans
    ((W2_arr m ρ c 12).trans (arr12 c (V1 m ρ)))))
theorem v42_3_eq : (W7 m ρ c (Proc.devRef .tc main_v42_3) : FVec Ideal S65536x512 .bf16) = sArr (V1 m ρ c main_v34) (V1 m ρ c main_v36) (V1 m ρ c main_v38) :=
  (W7_of m ρ c main_v42_3 (by decide)).trans ((W6_of m ρ c main_v42_3 (by decide)).trans ((W5_of m ρ c main_v42_3 (by decide)).trans
    ((W4_of m ρ c main_v42_3 (by decide)).trans ((W3_of m ρ c main_v42_3 (by decide)).trans ((W2_arr m ρ c 13).trans (arr13 c (V1 m ρ)))))))
theorem v42_4_eq : (W7 m ρ c (Proc.devRef .tc main_v42_4) : FVec Ideal S65536x512 .bf16) = cArr (V1 m ρ c main_v34) (V1 m ρ c main_v36) (V1 m ρ c main_v38) (V1 m ρ c main_v39) (V1 m ρ c main_v41) :=
  (W7_of m ρ c main_v42_4 (by decide)).trans ((W6_of m ρ c main_v42_4 (by decide)).trans ((W5_of m ρ c main_v42_4 (by decide)).trans
    ((W4_of m ρ c main_v42_4 (by decide)).trans ((W3_of m ρ c main_v42_4 (by decide)).trans ((W2_arr m ρ c 14).trans (arr14 c (V1 m ρ)))))))

/-! The five results at an index, of rows of the arguments' rows. -/
section Values
variable (b : Fin 32) (s : Fin 2048) (j : Fin 512)

/-- The arguments, as the results read them. -/
def argX : Fin 32 → Fin 2048 → Fin 1024 → EReal := fun b s k => (m ((c : Thread nD τ).loc main_arg0) : FVec Ideal S32x2048x1024 .f32) (ix3 b s k)
def argG : Fin 1024 → EReal := fun k => (m ((c : Thread nD τ).loc main_arg1) : FVec Ideal S1x1024 .f32) (ix2 (0 : Fin 1) k)
def argW : Fin 1024 → Fin 4096 → EReal := fun k i => (m ((c : Thread nD τ).loc main_arg2) : FVec Ideal S1x1024x4096 .f32) (ix3 (0 : Fin 1) k i)
def argC : Fin 3 → Fin 512 → EReal := fun a k => (m ((c : Thread nD τ).loc main_arg3) : FVec Ideal S1x3x512 .f32) (ix3 (0 : Fin 1) a k)
def argN : Fin 512 → EReal := fun k => (m ((c : Thread nD τ).loc main_arg4) : FVec Ideal S1x512 .f32) (ix2 (0 : Fin 1) k)

theorem value_q : (W7 m ρ c (Proc.devRef .tc main_v52) : FVec Ideal S65536x512 .bf16) (ix2 (rowAt b s) j) =
    rowQ (argX m c) (argG m c) (argW m c) b s j := by
  rw [v52_eq, v34_eq, v36_eq, v38_eq, v24_eq, v29_eq, v33_eq]
  exact (heads_pad _ _ _ _).trans (q_at _ _ _ b s j)
theorem value_k : (W7 m ρ c (Proc.devRef .tc main_v53) : FVec Ideal S65536x512 .bf16) (ix2 (rowAt b s) j) =
    rowK (argX m c) (argG m c) (argW m c) b s j := by
  rw [v53_eq, v34_eq, v36_eq, v38_eq, v24_eq, v29_eq, v33_eq]
  have hn : rowIn ⟨(rowAt b s).val / 2, by omega⟩ ⟨(rowAt b s).val % 2, by omega⟩ = rowAt b s := Fin.ext (Nat.div_add_mod (rowAt b s).val 2)
  refine Eq.trans ?_ (congrFun (turned_at _ _ _ b s 512 (by decide)) j)
  unfold rowsThin rows kArr
  exact congrArg (fun n => turned _ _ _ _ _ _ _ _ n j) hn
theorem value_v : (W7 m ρ c (Proc.devRef .tc main_v63) : FVec Ideal S65536x512 .bf16) (ix2 (rowAt b s) j) =
    rowV (argX m c) (argG m c) (argW m c) b s j := by
  rw [v63_eq, v34_eq, v36_eq, v38_eq]
  exact (heads_pad _ _ _ _).trans (congrFun (proj_at _ _ _ b s 1024 (by decide)) j)
theorem value_s : (W7 m ρ c (Proc.devRef .tc main_v42_3) : FVec Ideal S65536x512 .bf16) (ix2 (rowAt b s) j) =
    rowS (argX m c) (argG m c) (argW m c) b s j := by
  rw [v42_3_eq, v34_eq, v36_eq, v38_eq]
  exact sga_at _ _ _ b s j
theorem value_c : (W7 m ρ c (Proc.devRef .tc main_v42_4) : FVec Ideal S65536x512 .bf16) (ix2 (rowAt b s) j) =
    rowC (argX m c) (argG m c) (argW m c) (argC m c) (argN m c) b s j := by
  rw [v42_4_eq, v34_eq, v36_eq, v38_eq, v39_eq, v41_eq]
  exact c_at _ _ _ _ _ b s j
end Values

end Cert.Proof.Proj
-- ==== Proof.ProjRef.lean ====
/- The reference of the projections, in the same rows (hand-written): its text in stages, each read at an index. -/
module

public import proofs.«01_k».proof.Proof.ProjSpec
public import proofs.«01_k».proof.Proof.Gen.ProjRefIdeal.Run

@[expose] public section

set_option maxRecDepth 16384

noncomputable section

open Idealize.ShloMosaic Idealize.SL.Sem

namespace Cert.Proof.Proj

open Cert.Proof.Tail (scaleOf lastRow)
open Cert.ProjRefIdeal Cert.ProjRefIdeal.Gen Cert.ProjRefIdeal.Value Idealize.ShloMosaic.TcCoe

/-! The stages, as the reference writes them. -/

/-- The normalised rows. -/
def refNorm (z : FVec Ideal S32x2048x1024 .f32) (g : FVec Ideal S1024 .f32) : FVec Ideal S32x2048x1024 .f32 :=
  mulf (mulf z (broadcastInDim S32x2048x1024 ![0, 1, 2] bcast_S32x2048x1_S32x2048x1024_0_1_2
      (Host.rsqrt (addf (Host.divf (broadcastInDim S32x2048x1 ![0, 1] bcast_S32x2048_S32x2048x1_0_1
          (Host.reduceAdd (mulf z z) (constant S_ .f32 0x00000000#32) reducesTo_S32x2048x1024_S32x2048_d2 h_S_))
        (broadcastInDim S32x2048x1 ![] bcast_S_S32x2048x1 (constant S_ .f32 0x44800000#32)))
        (broadcastInDim S32x2048x1 ![] bcast_S_S32x2048x1 (constant S_ .f32 0x358637BD#32))))))
    (broadcastInDim S32x2048x1024 ![0, 1, 2] bcast_S1x1x1024_S32x2048x1024_0_1_2
      (broadcastInDim S1x1x1024 ![2] bcast_S1024_S1x1x1024_2 g))
/-- The same for rows of 512. -/
def refNorm512 (z : FVec Ideal S32x2048x512 .f32) (g : FVec Ideal S512 .f32) : FVec Ideal S32x2048x512 .f32 :=
  mulf (mulf z (broadcastInDim S32x2048x512 ![0, 1, 2] bcast_S32x2048x1_S32x2048x512_0_1_2
      (Host.rsqrt (addf (Host.divf (broadcastInDim S32x2048x1 ![0, 1] bcast_S32x2048_S32x2048x1_0_1
          (Host.reduceAdd (mulf z z) (constant S_ .f32 0x00000000#32) reducesTo_S32x2048x512_S32x2048_d2 h_S_))
        (broadcastInDim S32x2048x1 ![] bcast_S_S32x2048x1 (constant S_ .f32 0x44000000#32)))
        (broadcastInDim S32x2048x1 ![] bcast_S_S32x2048x1 (constant S_ .f32 0x358637BD#32))))))
    (broadcastInDim S32x2048x512 ![0, 1, 2] bcast_S1x1x512_S32x2048x512_0_1_2
      (broadcastInDim S1x1x512 ![2] bcast_S512_S1x1x512_2 g))
/-- All 4096 columns of the projections. -/
def refAll (x : FVec Ideal S32x2048x1024 .f32) (g : FVec Ideal S1024 .f32) (w : FVec Ideal S1024x4096 .f32) : FVec Ideal S32x2048x4096 .f32 :=
  Host.dotGeneral dot_S32x2048x1024_S1024x4096_S32x2048x4096_2_0_01_1_n_n none (refNorm x g) w
/-- The convolution's input. -/
def refU (a : FVec Ideal S32x2048x4096 .f32) : FVec Ideal S32x2048x512 .f32 :=
  mulf (extractStridedSlice S32x2048x512 ![0, 0, 2560] a slices_S32x2048x4096_S32x2048x512_0_0_2560)
    (extractStridedSlice S32x2048x512 ![0, 0, 3072] a slices_S32x2048x4096_S32x2048x512_0_0_3072)
/-- A row of zeros before and after each sequence. -/
def refPad (u : FVec Ideal S32x2048x512 .f32) : FVec Ideal S32x2050x512 .f32 :=
  pad S32x2050x512 ![0, 1, 0] ![0, 1, 0] ![0, 0, 0] u (sitofp .f32 (constantI S_ 32 0#32)) pads_S32x2048x512_S32x2050x512_000_110_000 h_S_
/-- A tap's weights, for every row. -/
def refTap (w : FVec Ideal S1x512 .f32) : FVec Ideal S32x2048x512 .f32 :=
  broadcastInDim S32x2048x512 ![0, 1, 2] bcast_S1x1x512_S32x2048x512_0_1_2
    (broadcastInDim S1x1x512 ![2] bcast_S512_S1x1x512_2 (shapeCast S512 w shapeCasts_S1x512_S512))
/-- The convolution of three taps. -/
def refConv (w : FVec Ideal S3x512 .f32) (u : FVec Ideal S32x2050x512 .f32) : FVec Ideal S32x2048x512 .f32 :=
  addf (addf
    (mulf (refTap (extractStridedSlice S1x512 ![0, 0] w slices_S3x512_S1x512_0_0))
      (extractStridedSlice S32x2048x512 ![0, 0, 0] u slices_S32x2050x512_S32x2048x512_0_0_0))
    (mulf (refTap (extractStridedSlice S1x512 ![1, 0] w slices_S3x512_S1x512_1_0))
      (extractStridedSlice S32x2048x512 ![0, 1, 0] u slices_S32x2050x512_S32x2048x512_0_1_0)))
    (mulf (refTap (extractStridedSlice S1x512 ![2, 0] w slices_S3x512_S1x512_2_0))
      (extractStridedSlice S32x2048x512 ![0, 2, 0] u slices_S32x2050x512_S32x2048x512_0_2_0))
/-- The angles of the rotation. -/
def refAngles : FVec Ideal S2048x8 .f32 := mulf
  (broadcastInDim S2048x8 ![0, 1] bcast_S2048x1_S2048x8_0_1 (broadcastInDim S2048x1 ![0] bcast_S2048_S2048x1_0
    (sitofp (F := Ideal) .f32 (iotaInDim S2048 32 0))))
  (broadcastInDim S2048x8 ![0, 1] bcast_S1x8_S2048x8_0_1 (broadcastInDim S1x8 ![1] bcast_S8_S1x8_1
    (Host.powf (broadcastInDim S8 ![] bcast_S_S8 (constant (F := Ideal) S_ .f32 0x48F42400#32))
      (Host.divf (Host.negf (addf (broadcastInDim S8 ![] bcast_S_S8 (constant (F := Ideal) S_ .f32 0x00000000#32))
        (mulf (broadcastInDim S8 ![] bcast_S_S8 (constant (F := Ideal) S_ .f32 0x40000000#32)) (sitofp .f32 (iotaInDim S8 32 0)))))
        (broadcastInDim S8 ![] bcast_S_S8 (constant (F := Ideal) S_ .f32 0x41800000#32))))))
/-- A table of the rotation for every head of every row. -/
def refTable (t : FVec Ideal S2048x8 .f32) : FVec Ideal S32x2048x8x8 .f32 :=
  broadcastInDim S32x2048x8x8 ![0, 1, 2, 3] bcast_S1x2048x1x8_S32x2048x8x8_0_1_2_3
    (broadcastInDim S1x2048x1x8 ![1, 3] bcast_S2048x8_S1x2048x1x8_1_3 t)
/-- The rotation of the first sixteen columns of each head. -/
def refRope (z : FVec Ideal S32x2048x512 .f32) : FVec Ideal S32x2048x8x64 .f32 :=
  let y := shapeCast S32x2048x8x64 z shapeCasts_S32x2048x512_S32x2048x8x64
  let a := extractStridedSlice S32x2048x8x8 ![0, 0, 0, 0] y slices_S32x2048x8x64_S32x2048x8x8_0_0_0_0
  let b := extractStridedSlice S32x2048x8x8 ![0, 0, 0, 8] y slices_S32x2048x8x64_S32x2048x8x8_0_0_0_8
  concatenate S32x2048x8x64 3
    [⟨S32x2048x8x8, subf (mulf a (refTable (Host.cos refAngles))) (mulf b (refTable (Host.sin refAngles)))⟩,
     ⟨S32x2048x8x8, addf (mulf b (refTable (Host.cos refAngles))) (mulf a (refTable (Host.sin refAngles)))⟩,
     ⟨S32x2048x8x48, extractStridedSlice S32x2048x8x48 ![0, 0, 0, 16] y slices_S32x2048x8x64_S32x2048x8x48_0_0_0_16⟩]
    concatenates_S32x2048x8x8_S32x2048x8x8_S32x2048x8x48_S32x2048x8x64_d3
/-- A row times its logistic function. -/
def refSilu (z : FVec Ideal S32x2048x512 .f32) : FVec Ideal S32x2048x512 .f32 :=
  mulf z (Host.divf (broadcastInDim S32x2048x512 ![] bcast_S_S32x2048x512 (constant S_ .f32 0x3F800000#32))
    (addf (broadcastInDim S32x2048x512 ![] bcast_S_S32x2048x512 (constant S_ .f32 0x3F800000#32)) (Host.exp (Host.negf z))))
/-- The convolution's result, gated. -/
def refGated (a : FVec Ideal S32x2048x4096 .f32) (w : FVec Ideal S3x512 .f32) (g : FVec Ideal S512 .f32) : FVec Ideal S32x2048x512 .f32 :=
  mulf (refNorm512 (mulf (extractStridedSlice S32x2048x512 ![0, 0, 2048] a slices_S32x2048x4096_S32x2048x512_0_0_2048)
      (refConv w (refPad (refU a)))) g)
    (refSilu (extractStridedSlice S32x2048x512 ![0, 0, 3584] a slices_S32x2048x4096_S32x2048x512_0_0_3584))

/-! The stages at an index. -/

theorem refNorm_at (z : FVec Ideal S32x2048x1024 .f32) (g : FVec Ideal S1024 .f32) (p : Fin 32) (q : Fin 2048) (j : Fin 1024) :
    refNorm z g (ix3 p q j) = lastRow (fun k => z (ix3 p q k)) (fun k => g (ix1 k)) j := by
  pointwise [refNorm, lastRow, scaleOf]
theorem refNorm512_at (z : FVec Ideal S32x2048x512 .f32) (g : FVec Ideal S512 .f32) (p : Fin 32) (q : Fin 2048) (j : Fin 512) :
    refNorm512 z g (ix3 p q j) = normRow (fun k => z (ix3 p q k)) (fun k => g (ix1 k)) j := by
  pointwise [refNorm512, normRow, scaleOf]
theorem refAll_at (x : FVec Ideal S32x2048x1024 .f32) (g : FVec Ideal S1024 .f32) (w : FVec Ideal S1024x4096 .f32) (p : Fin 32) (q : Fin 2048)
    (j : Fin 4096) : refAll x g w (ix3 p q j) = ∑ k, lastRow (fun k => x (ix3 p q k)) (fun k => g (ix1 k)) k * w (ix2 k j) := by
  pointwise [refAll]
  simp only [refNorm_at]
theorem refPad_at (u : FVec Ideal S32x2048x512 .f32) (p : Fin 32) (q : Fin 2050) (j : Fin 512) :
    refPad u (ix3 p q j) = if h : 1 ≤ q.val ∧ q.val < 2049 then u (ix3 p ⟨q.val - 1, by omega⟩ j) else 0 := by
  have h0 : FloatOps.sitofp (F := Ideal) FTy.f32 0#32 = 0 := by simp [FloatOps.sitofp]
  pointwise [refPad]
  rw [h0]
  by_cases h : 1 ≤ q.val ∧ q.val < 2049
  · rw [dif_pos h, dif_pos ⟨h.1, by omega⟩]
  · rw [dif_neg h, dif_neg (by omega)]
theorem refTap_at (w : FVec Ideal S1x512 .f32) (p : Fin 32) (q : Fin 2048) (j : Fin 512) :
    refTap w (ix3 p q j) = w (ix2 (0 : Fin 1) j) := by
  pointwise [refTap]
theorem refConv_at (w : FVec Ideal S3x512 .f32) (u : FVec Ideal S32x2050x512 .f32) (p : Fin 32) (q : Fin 2048) (j : Fin 512) :
    refConv w u (ix3 p q j) = convRow (fun a k => w (ix2 a k)) (fun k => u (ix3 p ⟨q.val, by omega⟩ k)) (fun k => u (ix3 p ⟨1 + q.val, by omega⟩ k))
      (fun k => u (ix3 p ⟨2 + q.val, by omega⟩ k)) j := by
  pointwise [refConv, refTap, convRow]
theorem refAngles_at (s : Fin 2048) (d : Fin 8) : refAngles (ix2 s d) = angleAt s d := by
  pointwise [refAngles, angleAt]
theorem refTable_at (t : FVec Ideal S2048x8 .f32) (p : Fin 32) (s : Fin 2048) (h d : Fin 8) : refTable t (ix4 p s h d) = t (ix2 s d) := by
  pointwise [refTable]
theorem refRope_at (z : FVec Ideal S32x2048x512 .f32) (p : Fin 32) (s : Fin 2048) (j : Fin 512) :
    refRope z (ix4 p s (⟨j.val / 64, by omega⟩ : Fin 8) (⟨j.val % 64, by omega⟩ : Fin 64)) = ropeOf s (fun k => z (ix3 p s k)) j := by
  have hc (d : Fin 8) : Host.cos refAngles (ix2 s d) = Ideal.cos (angleAt s d) := congrArg Ideal.cos (refAngles_at s d)
  have hs (d : Fin 8) : Host.sin refAngles (ix2 s d) = Ideal.sin (angleAt s d) := congrArg Ideal.sin (refAngles_at s d)
  have hz (i k : Fin 512) (h : i.val = k.val) : z (ix3 p s i) = z (ix3 p s k) := congrArg (fun i => z (ix3 p s i)) (Fin.ext h)
  pointwise [refRope]
  simp only [refTable_at, hc, hs]
  unfold ropeOf
  by_cases h : j.val % 64 < 8
  · rw [dif_pos h, dif_pos h, hz ⟨j.val / 64 * 64 + (8 + j.val % 64), by omega⟩ ⟨j.val + 8, by omega⟩ (by dsimp only; omega)]
  · rw [dif_neg h, dif_neg h]
    by_cases h' : j.val % 64 - 8 < 8
    · rw [dif_pos h', dif_pos h', hz ⟨j.val / 64 * 64 + (8 + (j.val % 64 - 8)), by omega⟩ j (by dsimp only; omega),
        hz ⟨j.val / 64 * 64 + (j.val % 64 - 8), by omega⟩ ⟨j.val - 8, by omega⟩ (by dsimp only; omega)]
    · rw [dif_neg h', dif_neg h', hz ⟨j.val / 64 * 64 + (16 + (j.val % 64 - 8 - 8)), by omega⟩ j (by dsimp only; omega)]
theorem refSilu_at (z : FVec Ideal S32x2048x512 .f32) (p : Fin 32) (s : Fin 2048) (j : Fin 512) :
    refSilu z (ix3 p s j) = silu (z (ix3 p s j)) := by
  pointwise [refSilu, silu, Ideal.ofBits_one_f32, Ideal.logistic]

/-! The results, of the arguments as they come. -/
section Args
variable (x : FVec Ideal S32x2048x1024 .f32) (g : FVec Ideal S1x1024 .f32) (w : FVec Ideal S1x1024x4096 .f32)
  (cw : FVec Ideal S1x3x512 .f32) (nc : FVec Ideal S1x512 .f32) (b : Fin 32) (s : Fin 2048)

/-- The projections' columns. -/
def refArgs : FVec Ideal S32x2048x4096 .f32 :=
  refAll x (shapeCast S1024 g shapeCasts_S1x1024_S1024) (shapeCast S1024x4096 w shapeCasts_S1x1024x4096_S1024x4096)
/-- The results. -/
def refQ : FVec Ideal S65536x512 .bf16 :=
  truncf .bf16 (shapeCast S65536x512 (mulf (refRope (extractStridedSlice S32x2048x512 ![0, 0, 0] (refArgs x g w)
    slices_S32x2048x4096_S32x2048x512_0_0_0)) (broadcastInDim S32x2048x8x64 ![] bcast_S_S32x2048x8x64 (constant S_ .f32 0x3E38AA3B#32)))
    shapeCasts_S32x2048x8x64_S65536x512) bitsLt_bf16_f32
def refK : FVec Ideal S65536x512 .bf16 :=
  truncf .bf16 (shapeCast S65536x512 (refRope (extractStridedSlice S32x2048x512 ![0, 0, 512] (refArgs x g w)
    slices_S32x2048x4096_S32x2048x512_0_0_512)) shapeCasts_S32x2048x8x64_S65536x512) bitsLt_bf16_f32
def refV : FVec Ideal S65536x512 .bf16 :=
  truncf .bf16 (shapeCast S65536x512 (extractStridedSlice S32x2048x512 ![0, 0, 1024] (refArgs x g w)
    slices_S32x2048x4096_S32x2048x512_0_0_1024) shapeCasts_S32x2048x512_S65536x512) bitsLt_bf16_f32
def refS : FVec Ideal S65536x512 .bf16 :=
  truncf .bf16 (shapeCast S65536x512 (refSilu (extractStridedSlice S32x2048x512 ![0, 0, 1536] (refArgs x g w)
    slices_S32x2048x4096_S32x2048x512_0_0_1536)) shapeCasts_S32x2048x512_S65536x512) bitsLt_bf16_f32
def refC : FVec Ideal S65536x512 .bf16 :=
  truncf .bf16 (shapeCast S65536x512 (refGated (refArgs x g w) (shapeCast S3x512 cw shapeCasts_S1x3x512_S3x512)
    (shapeCast S512 nc shapeCasts_S1x512_S512)) shapeCasts_S32x2048x512_S65536x512) bitsLt_bf16_f32

theorem flat4_at (t : FVec Ideal S32x2048x8x64 .f32) (j : Fin 512) :
    truncf .bf16 (shapeCast S65536x512 t shapeCasts_S32x2048x8x64_S65536x512) bitsLt_bf16_f32
      (ix2 (⟨b.val * 2048 + s.val, by omega⟩ : Fin 65536) j) = t (ix4 b s (⟨j.val / 64, by omega⟩ : Fin 8) (⟨j.val % 64, by omega⟩ : Fin 64)) := by
  pointwise
theorem flat3_at (t : FVec Ideal S32x2048x512 .f32) (j : Fin 512) :
    truncf .bf16 (shapeCast S65536x512 t shapeCasts_S32x2048x512_S65536x512) bitsLt_bf16_f32
      (ix2 (⟨b.val * 2048 + s.val, by omega⟩ : Fin 65536) j) = t (ix3 b s j) := by
  pointwise
theorem vecWide_at (k : Fin 1024) : shapeCast S1024 g shapeCasts_S1x1024_S1024 (ix1 k) = g (ix2 (0 : Fin 1) k) := by pointwise
theorem vecThin_at (k : Fin 512) : shapeCast S512 nc shapeCasts_S1x512_S512 (ix1 k) = nc (ix2 (0 : Fin 1) k) := by pointwise
theorem mat_at (k : Fin 1024) (i : Fin 4096) : shapeCast S1024x4096 w shapeCasts_S1x1024x4096_S1024x4096 (ix2 k i) = w (ix3 (0 : Fin 1) k i) := by pointwise
theorem taps_at (a : Fin 3) (k : Fin 512) : shapeCast S3x512 cw shapeCasts_S1x3x512_S3x512 (ix2 a k) = cw (ix3 (0 : Fin 1) a k) := by pointwise

/-- A column of the projections. -/
theorem col_at (o : ℕ) (h : o + 512 ≤ 4096) (j : Fin 512) : refArgs x g w (ix3 b s ⟨o + j.val, by omega⟩) =
    rowProj (fun b s k => x (ix3 b s k)) (fun k => g (ix2 (0 : Fin 1) k)) (fun k i => w (ix3 (0 : Fin 1) k i)) b s o h j := by
  unfold refArgs
  rw [refAll_at]
  simp only [vecWide_at, mat_at]
  rfl
/-- The slices of the columns. -/
theorem slices_at (a : FVec Ideal S32x2048x4096 .f32) (j : Fin 512) :
    extractStridedSlice S32x2048x512 ![0, 0, 0] a slices_S32x2048x4096_S32x2048x512_0_0_0 (ix3 b s j) = a (ix3 b s ⟨0 + j.val, by omega⟩) ∧
    extractStridedSlice S32x2048x512 ![0, 0, 512] a slices_S32x2048x4096_S32x2048x512_0_0_512 (ix3 b s j) = a (ix3 b s ⟨512 + j.val, by omega⟩) ∧
    extractStridedSlice S32x2048x512 ![0, 0, 1024] a slices_S32x2048x4096_S32x2048x512_0_0_1024 (ix3 b s j) = a (ix3 b s ⟨1024 + j.val, by omega⟩) ∧
    extractStridedSlice S32x2048x512 ![0, 0, 1536] a slices_S32x2048x4096_S32x2048x512_0_0_1536 (ix3 b s j) = a (ix3 b s ⟨1536 + j.val, by omega⟩) ∧
    extractStridedSlice S32x2048x512 ![0, 0, 2048] a slices_S32x2048x4096_S32x2048x512_0_0_2048 (ix3 b s j) = a (ix3 b s ⟨2048 + j.val, by omega⟩) ∧
    extractStridedSlice S32x2048x512 ![0, 0, 3584] a slices_S32x2048x4096_S32x2048x512_0_0_3584 (ix3 b s j) = a (ix3 b s ⟨3584 + j.val, by omega⟩) := by
  refine ⟨?_, ?_, ?_, ?_, ?_, ?_⟩ <;> pointwise <;> first | rfl | (congr 2; exact Fin.ext (by simp))
theorem refU_at (a : FVec Ideal S32x2048x4096 .f32) (j : Fin 512) :
    refU a (ix3 b s j) = a (ix3 b s ⟨2560 + j.val, by omega⟩) * a (ix3 b s ⟨3072 + j.val, by omega⟩) := by
  pointwise [refU]

theorem uCol_at (j : Fin 512) : refU (refArgs x g w) (ix3 b s j) =
    rowU (fun b s k => x (ix3 b s k)) (fun k => g (ix2 (0 : Fin 1) k)) (fun k i => w (ix3 (0 : Fin 1) k i)) b s j := by
  rw [refU_at, col_at x g w b s 2560 (by decide), col_at x g w b s 3072 (by decide)]
  unfold rowU gateRow rowProj dotRow cols
  simp only [← Nat.add_assoc]

theorem refQ_at (j : Fin 512) : refQ x g w (ix2 (⟨b.val * 2048 + s.val, by omega⟩ : Fin 65536) j) =
    rowQ (fun b s k => x (ix3 b s k)) (fun k => g (ix2 (0 : Fin 1) k)) (fun k i => w (ix3 (0 : Fin 1) k i)) b s j := by
  unfold refQ
  rw [flat4_at]
  show refRope _ (ix4 b s _ _) * Ideal.ofBits .f32 0x3E38AA3B#32 = _
  rw [refRope_at]
  simp only [(slices_at b s _ _).1, col_at x g w b s 0 (by decide)]
  rfl
theorem refK_at (j : Fin 512) : refK x g w (ix2 (⟨b.val * 2048 + s.val, by omega⟩ : Fin 65536) j) =
    rowK (fun b s k => x (ix3 b s k)) (fun k => g (ix2 (0 : Fin 1) k)) (fun k i => w (ix3 (0 : Fin 1) k i)) b s j := by
  unfold refK
  rw [flat4_at, refRope_at]
  simp only [(slices_at b s _ _).2.1, col_at x g w b s 512 (by decide)]
  rfl
theorem refV_at (j : Fin 512) : refV x g w (ix2 (⟨b.val * 2048 + s.val, by omega⟩ : Fin 65536) j) =
    rowV (fun b s k => x (ix3 b s k)) (fun k => g (ix2 (0 : Fin 1) k)) (fun k i => w (ix3 (0 : Fin 1) k i)) b s j := by
  unfold refV
  rw [flat3_at, (slices_at b s _ j).2.2.1, col_at x g w b s 1024 (by decide)]
  rfl
theorem refS_at (j : Fin 512) : refS x g w (ix2 (⟨b.val * 2048 + s.val, by omega⟩ : Fin 65536) j) =
    rowS (fun b s k => x (ix3 b s k)) (fun k => g (ix2 (0 : Fin 1) k)) (fun k i => w (ix3 (0 : Fin 1) k i)) b s j := by
  unfold refS
  rw [flat3_at, refSilu_at, (slices_at b s _ j).2.2.2.1, col_at x g w b s 1536 (by decide)]
  rfl
theorem refC_at (j : Fin 512) : refC x g w cw nc (ix2 (⟨b.val * 2048 + s.val, by omega⟩ : Fin 65536) j) =
    rowC (fun b s k => x (ix3 b s k)) (fun k => g (ix2 (0 : Fin 1) k)) (fun k i => w (ix3 (0 : Fin 1) k i))
      (fun a k => cw (ix3 (0 : Fin 1) a k)) (fun k => nc (ix2 (0 : Fin 1) k)) b s j := by
  have hp (k : Fin 512) : refPad (refU (refArgs x g w)) (ix3 b ⟨s.val, by omega⟩ k) = if s.val = 0 then 0 else
      rowU (fun b s k => x (ix3 b s k)) (fun k => g (ix2 (0 : Fin 1) k)) (fun k i => w (ix3 (0 : Fin 1) k i)) b ⟨s.val - 1, by omega⟩ k := by
    rw [refPad_at]
    by_cases h : s.val = 0
    · rw [if_pos h, dif_neg (by dsimp only; omega)]
    · rw [if_neg h, dif_pos (by dsimp only; omega), uCol_at]
  have hm (k : Fin 512) : refPad (refU (refArgs x g w)) (ix3 b ⟨1 + s.val, by omega⟩ k) =
      rowU (fun b s k => x (ix3 b s k)) (fun k => g (ix2 (0 : Fin 1) k)) (fun k i => w (ix3 (0 : Fin 1) k i)) b s k := by
    rw [refPad_at, dif_pos (by dsimp only; omega), uCol_at]
    have e : (⟨1 + s.val - 1, by omega⟩ : Fin 2048) = s := Fin.ext (by dsimp only; omega)
    exact congrArg (fun s => rowU _ _ _ b s k) e
  have hx (k : Fin 512) : refPad (refU (refArgs x g w)) (ix3 b ⟨2 + s.val, by omega⟩ k) = if h : s.val = 2047 then 0 else
      rowU (fun b s k => x (ix3 b s k)) (fun k => g (ix2 (0 : Fin 1) k)) (fun k i => w (ix3 (0 : Fin 1) k i)) b ⟨s.val + 1, by omega⟩ k := by
    rw [refPad_at]
    by_cases h : s.val = 2047
    · rw [dif_pos h, dif_neg (by dsimp only; omega)]
    · rw [dif_neg h, dif_pos (by dsimp only; omega), uCol_at]
      have e : (⟨2 + s.val - 1, by omega⟩ : Fin 2048) = ⟨s.val + 1, by omega⟩ := Fin.ext (by dsimp only; omega)
      exact congrArg (fun s => rowU _ _ _ b s k) e
  unfold refC
  rw [flat3_at]
  show refNorm512 _ _ (ix3 b s j) * refSilu _ (ix3 b s j) = _
  rw [refNorm512_at, refSilu_at, (slices_at b s _ j).2.2.2.2.2, col_at x g w b s 3584 (by decide)]
  have hk (k : Fin 512) : mulf (extractStridedSlice S32x2048x512 ![0, 0, 2048] (refArgs x g w) slices_S32x2048x4096_S32x2048x512_0_0_2048)
      (refConv (shapeCast S3x512 cw shapeCasts_S1x3x512_S3x512) (refPad (refU (refArgs x g w)))) (ix3 b s k) =
      rowProj (fun b s k => x (ix3 b s k)) (fun k => g (ix2 (0 : Fin 1) k)) (fun k i => w (ix3 (0 : Fin 1) k i)) b s 2048 (by decide) k *
        convRow (fun a k => cw (ix3 (0 : Fin 1) a k)) (fun k => if s.val = 0 then 0 else
          rowU (fun b s k => x (ix3 b s k)) (fun k => g (ix2 (0 : Fin 1) k)) (fun k i => w (ix3 (0 : Fin 1) k i)) b ⟨s.val - 1, by omega⟩ k)
          (rowU (fun b s k => x (ix3 b s k)) (fun k => g (ix2 (0 : Fin 1) k)) (fun k i => w (ix3 (0 : Fin 1) k i)) b s)
          (fun k => if h : s.val = 2047 then 0 else
            rowU (fun b s k => x (ix3 b s k)) (fun k => g (ix2 (0 : Fin 1) k)) (fun k i => w (ix3 (0 : Fin 1) k i)) b ⟨s.val + 1, by omega⟩ k) k := by
    show extractStridedSlice _ _ _ _ (ix3 b s k) * refConv _ _ (ix3 b s k) = _
    rw [(slices_at b s _ k).2.2.2.2.1, col_at x g w b s 2048 (by decide), refConv_at]
    simp only [hp, hm, hx, taps_at]
  simp only [hk, vecThin_at]
  rfl
end Args

/-- The reference's run, with its results as the stages composed. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v139) =
        refQ (m ((c.tc : Thread nD τ).loc main_arg0)) (m ((c.tc : Thread nD τ).loc main_arg1)) (m ((c.tc : Thread nD τ).loc main_arg2))
      ∧ r.2.mem ((c.tc : Thread nD τ).loc main_v141) =
        refK (m ((c.tc : Thread nD τ).loc main_arg0)) (m ((c.tc : Thread nD τ).loc main_arg1)) (m ((c.tc : Thread nD τ).loc main_arg2))
      ∧ r.2.mem ((c.tc : Thread nD τ).loc main_v143) =
        refV (m ((c.tc : Thread nD τ).loc main_arg0)) (m ((c.tc : Thread nD τ).loc main_arg1)) (m ((c.tc : Thread nD τ).loc main_arg2))
      ∧ r.2.mem ((c.tc : Thread nD τ).loc main_v145) =
        refS (m ((c.tc : Thread nD τ).loc main_arg0)) (m ((c.tc : Thread nD τ).loc main_arg1)) (m ((c.tc : Thread nD τ).loc main_arg2))
      ∧ r.2.mem ((c.tc : Thread nD τ).loc main_v147) =
        refC (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2.1.trans rfl, (h c).2.2.1.trans rfl, (h c).2.2.2.1.trans rfl,
    (h c).2.2.2.2.1.trans rfl, (h c).2.2.2.2.2⟩) (Cert.ProjRefIdeal.Value.run (F := Ideal) m ρ)

end Cert.Proof.Proj
-- ==== Proof.ProjClaim.lean ====
/- The value claim of the projections (hand-written): both runs end with the same five arrays. -/
module

public import proofs.«01_k».proof.Defs
public import proofs.«01_k».proof.Proof.ProjRun
public import proofs.«01_k».proof.Proof.ProjHost
public import proofs.«01_k».proof.Proof.ProjRef
public import Idealize.ShloMosaic.Lib.Claim

@[expose] public section

set_option maxRecDepth 16384

noncomputable section

open Idealize.ShloMosaic Idealize.ShloMosaic.TcCoe Idealize.SL.Sem

namespace Cert.Proof.Proj

/-- Two arrays of 65536 rows agree when they do at each position of each sequence. -/
theorem rows_ext {y z : FVec Ideal Cert.ProjIdeal.S65536x512 .bf16}
    (h : ∀ (b : Fin 32) (s : Fin 2048) (j : Fin 512), y (ix2 (rowAt b s) j) = z (ix2 (rowAt b s) j)) : y = z := by
  funext j
  idx_vars j
  have e : j0 = rowAt ⟨j0.val / 2048, by omega⟩ ⟨j0.val % 2048, by omega⟩ :=
    Fin.ext (show j0.val = j0.val / 2048 * 2048 + j0.val % 2048 by omega)
  rw [e]
  exact h _ _ _

/-- The projections and their reference return the same arrays from the same arguments. -/
theorem algebraic : Cert.algebraic_ProjIdeal_ProjRefIdeal := by
  pair_intro
  · run_from run m g
  · run_from refRun m' g'
    · exact rows_ext fun b s j => (refQ_at _ _ _ b s j).trans (value_q m g c b s j).symm
    · exact rows_ext fun b s j => (refK_at _ _ _ b s j).trans (value_k m g c b s j).symm
    · exact rows_ext fun b s j => (refV_at _ _ _ b s j).trans (value_v m g c b s j).symm
    · exact rows_ext fun b s j => (refS_at _ _ _ b s j).trans (value_s m g c b s j).symm
    · exact rows_ext fun b s j => (refC_at _ _ _ _ _ b s j).trans (value_c m g c b s j).symm

end Cert.Proof.Proj
-- ==== Proof.TailRun.lean ====
/- The run of the last part with its result kept (hand-written): the launch over the generated segments, whose last
   thread state holds every buffer at the last boundary's contents, read at the result and at each argument. -/
module

public import proofs.«01_k».proof.Proof.Gen.TailIdeal.Frame

@[expose] public section

set_option maxRecDepth 16384

noncomputable section

namespace Cert.Proof.Tail

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution ends with the result at the last boundary's contents and the arguments unchanged. -/
theorem run : θ_run defs (onTc (τ := τ) (main (F := F))) ⟨m, fun _ => 0, ρ⟩ (fun r => ∀ c : Dev nD,
      r.2.mem ((c.tc : Thread nD τ).loc main_v18) = W5 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v18 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c)⟩)

end Cert.Proof.Tail
-- ==== Proof.TailValue.lean ====
/- The last part's result at an index (hand-written): the packed words read back as rows, the operands as the region
   finds them, and the result array from its blocks. -/
module

public import proofs.«01_k».proof.Proof.TailStages
public import Idealize.ShloMosaic.Lib.Bf16PairInverse

@[expose] public section

set_option maxRecDepth 16384

noncomputable section

namespace Cert.Proof.Tail

open Cert.TailIdeal Cert.TailIdeal.Gen
open Idealize.ShloMosaic Idealize.ShloMosaic.TcCoe Idealize.SL.Sem

variable (m : (ℓ : Loc nD τ sig) → Buf (Elt Ideal) ℓ) (ρ : Dev nD → PrngReg) (c : Dev nD)

/-- The blocks of the packing call: at point `t`, 1024 rows and the 512 pairs they make. -/
theorem idx0 : ∀ t : Fin cfg0.N, win0_0.index t = ![t.val, 0] ∧ win0_1.index t = ![t.val, 0, 0] :=
  (by decide +kernel : ∀ t : Fin grid0.N, _)

/-- The packing call's block: row `h` of pair `p` is row `2 p + h`. -/
theorem pack_at (x : Vec Ideal S1024x512 .bf16) (p : Fin 512) (h : Fin 2) (k : Fin 512) :
    k0_pay1 x (ix3 p h k) = x (ix2 (⟨2 * p.val + h.val, by omega⟩ : Fin 1024) k) := by
  pointwise [k0_pay1]
  obtain ⟨h, hh⟩ := h
  interval_cases h <;> rfl

/-- An array of rows as pairs of rows. -/
def pairs (x : Vec Ideal S65536x512 .bf16) : Vec Ideal S32768x2x512 .bf16 := fun y =>
  x (ix2 (⟨2 * (y 0).val + (y 1).val, by have h0 := (y 0).isLt; have h1 := (y 1).isLt; simp at h0 h1; omega⟩ : Fin 65536)
    (⟨(y 2).val, by have h := (y 2).isLt; simp at h; omega⟩ : Fin 512))

/-- The array of packed words, as pairs of rows. -/
theorem words : (dat0 (V1 m ρ) c).arrAt 1 cfg0.N = pairs (V1 m ρ c main_arg2) := by
  refine (dat0 (V1 m ρ) c).arrAt_eq_of_covers 1 _ (by decide +kernel) fun t hf y => ?_
  blk_simp
  rw [after0_1]
  frame_out
  obtain ⟨e0, e1⟩ := idx0 t
  idx_vars y
  rw [pack_at]
  unfold pairs
  blk_simp [iblk0, e0, e1]
  blk_ext [e0, e1]

/-- The blocks of the last call: at point `t`, 1024 rows, the 512 pairs of packed words, and the weights whole. -/
theorem idx1 : ∀ t : Fin cfg1.N, win1_0.index t = ![t.val, 0] ∧ win1_1.index t = ![t.val, 0] ∧ win1_2.index t = ![t.val, 0, 0] ∧
    win1_3.index t = ![t.val, 0] ∧ win1_4.index t = ![t.val, 0] ∧ win1_5.index t = ![0, 0] ∧ win1_6.index t = ![0, 0] ∧
    win1_7.index t = ![0, 0] ∧ win1_8.index t = ![0, 0] ∧ win1_9.index t = ![0, 0] ∧ win1_10.index t = ![0, 0] ∧
    win1_11.index t = ![0, 0] ∧ win1_12.index t = ![t.val, 0] :=
  (by decide +kernel : ∀ t : Fin grid1.N, _)

/-- The result array's rows, of the rows of the arrays that the last call takes. -/
def outArr (x : Vec Ideal S65536x1024 .f32) (p : Vec Ideal S65536x256 .f32) (a : Vec Ideal S32768x2x512 .bf16)
    (s v : Vec Ideal S65536x512 .bf16) (na : Vec Ideal S1x512 .f32) (w : Vec Ideal S1024x1024 .bf16) (np : Vec Ideal S1x1024 .f32)
    (wg : Vec Ideal S1024x1024 .bf16) (b : Vec Ideal S1x1024 .f32) (wp : Vec Ideal S256x1024 .bf16) (nf : Vec Ideal S1x1024 .f32)
    (n : Fin 65536) (j : Fin 1024) : EReal :=
  outRow (fun k => x (ix2 n k)) (fun k => p (ix2 n k))
    (fun k => a (ix3 (⟨n.val / 2, by omega⟩ : Fin 32768) (⟨n.val % 2, by omega⟩ : Fin 2) k)) (fun k => s (ix2 n k))
    (fun k => v (ix2 n k)) (fun k => na (ix2 (0 : Fin 1) k)) (fun k i => w (ix2 k i)) (fun k => np (ix2 (0 : Fin 1) k))
    (fun k i => wg (ix2 k i)) (fun k => b (ix2 (0 : Fin 1) k)) (fun k i => wp (ix2 k i)) (fun k => nf (ix2 (0 : Fin 1) k)) j

/-- Row `r` of the block at point `t`, in the array. -/
def rowOf (t : Fin cfg1.N) (r : Fin 1024) : Fin 65536 := ⟨t.val * 1024 + r.val, by have h : t.val < 64 := t.isLt; omega⟩

section Blocks
variable (V : (c : Dev nD) → (b : Ref sig .tc) → Buf (Elt Ideal) ((c : Thread nD τ).loc b)) (t : Fin cfg1.N)

theorem blk0 (r : Fin 1024) (k : Fin 1024) : iblk1 V c 0 t (ix2 r k) = V c main_v0 (ix2 (rowOf t r) k) := by
  have e := idx1 t
  blk_simp [iblk1, rowOf, e]
  blk_ext [e]
theorem blk1 (r : Fin 1024) (k : Fin 256) : iblk1 V c 1 t (ix2 r k) = V c main_v2 (ix2 (rowOf t r) k) := by
  have e := idx1 t
  blk_simp [iblk1, rowOf, e]
  blk_ext [e]
theorem blk3 (r : Fin 1024) (k : Fin 512) : iblk1 V c 3 t (ix2 r k) = V c main_arg3 (ix2 (rowOf t r) k) := by
  have e := idx1 t
  blk_simp [iblk1, rowOf, e]
  blk_ext [e]
theorem blk4 (r : Fin 1024) (k : Fin 512) : iblk1 V c 4 t (ix2 r k) = V c main_arg4 (ix2 (rowOf t r) k) := by
  have e := idx1 t
  blk_simp [iblk1, rowOf, e]
  blk_ext [e]
theorem blk2 (r : Fin 1024) (k : Fin 512) :
    iblk1 V c 2 t (ix3 (⟨r.val / 2, by omega⟩ : Fin 512) (⟨r.val % 2, by omega⟩ : Fin 2) k) =
      V c main_v3 (ix3 (⟨(rowOf t r).val / 2, by omega⟩ : Fin 32768) (⟨(rowOf t r).val % 2, by omega⟩ : Fin 2) k) := by
  have e := idx1 t
  blk_simp [iblk1, rowOf, e]
  blk_ext [e]
theorem blk5 (r : Fin 1) (k : Fin 512) : iblk1 V c 5 t (ix2 r k) = V c main_v5 (ix2 r k) := by
  have e := idx1 t
  blk_simp [iblk1, e]
  blk_ext [e]
theorem blk6 (r : Fin 1024) (k : Fin 1024) : iblk1 V c 6 t (ix2 r k) = V c main_v7 (ix2 r k) := by
  have e := idx1 t
  blk_simp [iblk1, e]
  blk_ext [e]
theorem blk7 (r : Fin 1) (k : Fin 1024) : iblk1 V c 7 t (ix2 r k) = V c main_v9 (ix2 r k) := by
  have e := idx1 t
  blk_simp [iblk1, e]
  blk_ext [e]
theorem blk8 (r : Fin 1024) (k : Fin 1024) : iblk1 V c 8 t (ix2 r k) = V c main_v11 (ix2 r k) := by
  have e := idx1 t
  blk_simp [iblk1, e]
  blk_ext [e]
theorem blk9 (r : Fin 1) (k : Fin 1024) : iblk1 V c 9 t (ix2 r k) = V c main_v13 (ix2 r k) := by
  have e := idx1 t
  blk_simp [iblk1, e]
  blk_ext [e]
theorem blk10 (r : Fin 256) (k : Fin 1024) : iblk1 V c 10 t (ix2 r k) = V c main_v15 (ix2 r k) := by
  have e := idx1 t
  blk_simp [iblk1, e]
  blk_ext [e]
theorem blk11 (r : Fin 1) (k : Fin 1024) : iblk1 V c 11 t (ix2 r k) = V c main_v16 (ix2 r k) := by
  have e := idx1 t
  blk_simp [iblk1, e]
  blk_ext [e]
/-- The block of the result, in its array. -/
theorem emb12 (r k : Fin 1024) : ((cfg1.win 12).blk t).view.emb (ix2 r k) = ix2 (rowOf t r) k := by
  have e := idx1 t
  blk_simp [rowOf, e]
  blk_ext [e]

end Blocks

/-- The result array of the last call, of the buffers that it finds. -/
def outOf (V : (c : Dev nD) → (b : Ref sig .tc) → Buf (Elt Ideal) ((c : Thread nD τ).loc b)) : Vec Ideal S65536x1024 .f32 := fun y =>
  outArr (V c main_v0) (V c main_v2) (V c main_v3) (V c main_arg3) (V c main_arg4) (V c main_v5)
    (V c main_v7) (V c main_v9) (V c main_v11) (V c main_v13) (V c main_v15) (V c main_v16) (y 0) (y 1)

/-- The array that the last call writes. -/
theorem result : (dat1 (V3 m ρ) c).arrAt 12 cfg1.N = outOf c (V3 m ρ) := by
  refine (dat1 (V3 m ρ) c).arrAt_eq_of_covers 12 _ (by decide +kernel) fun t hf y => ?_
  blk_simp
  rw [after1_12]
  frame_out
  idx_vars y
  refine ((out_at _ _ _ _ _ _ _ _ _ _ _ _ y0 y1).trans ?_).trans (congrArg (outOf c (V3 m ρ)) (emb12 t y0 y1)).symm
  simp only [blk0, blk1, blk2, blk3, blk4, blk5, blk6, blk7, blk8, blk9, blk10, blk11]
  rfl

/-! The operands as the last call finds them. -/

theorem v0_eq : (V3 m ρ c main_v0 : FVec Ideal S65536x1024 .f32) = shapeCast S65536x1024 (m ((c : Thread nD τ).loc main_arg0) : FVec Ideal S32x2048x1024 .f32) shapeCasts_S32x2048x1024_S65536x1024 := by
  refine (W3_of m ρ c main_v0 (by decide)).trans ((W2_of m ρ c main_v0 (by decide)).trans ?_)
  show StableHlo.after hostOps0 (W0 m ρ c) main_v0 = _
  after_results_simp
  rfl
theorem v2_eq : (V3 m ρ c main_v2 : FVec Ideal S65536x256 .f32) = shapeCast S65536x256 (shapeCast S32x2048x256 (m ((c : Thread nD τ).loc main_arg1) : FVec Ideal S1x32x2048x256 .f32) shapeCasts_S1x32x2048x256_S32x2048x256) shapeCasts_S32x2048x256_S65536x256 := by
  refine (W3_of m ρ c main_v2 (by decide)).trans ((W2_of m ρ c main_v2 (by decide)).trans ?_)
  show StableHlo.after hostOps0 (W0 m ρ c) main_v2 = _
  after_results_simp
  rfl
theorem v3_eq : (V3 m ρ c main_v3 : FVec Ideal S32768x2x512 .bf16) = pairs (m ((c : Thread nD τ).loc main_arg2)) := by
  refine (W3_of m ρ c main_v3 (by decide)).trans ((W2_arr m ρ c 1).trans ((words m ρ c).trans ?_))
  exact congrArg pairs (W1_args m ρ c main_arg2 (by decide))
theorem arg3_eq : V3 m ρ c main_arg3 = m ((c : Thread nD τ).loc main_arg3) := W3_args m ρ c main_arg3 (by decide)
theorem arg4_eq : V3 m ρ c main_arg4 = m ((c : Thread nD τ).loc main_arg4) := W3_args m ρ c main_arg4 (by decide)
theorem v5_eq : (V3 m ρ c main_v5 : FVec Ideal S1x512 .f32) = broadcastInDim S1x512 ![1] bcast_S512_S1x512_1 (shapeCast S512 (m ((c : Thread nD τ).loc main_arg5) : FVec Ideal S1x512 .f32) shapeCasts_S1x512_S512) := by
  show StableHlo.after hostOps1 (W2 m ρ c) main_v5 = _
  after_results_simp
  rw [W2_args m ρ c main_arg5 (by decide)]
  rfl
theorem v7_eq : (V3 m ρ c main_v7 : FVec Ideal S1024x1024 .bf16) = truncf (F := Ideal) .bf16 (shapeCast S1024x1024 (m ((c : Thread nD τ).loc main_arg6) : FVec Ideal S1x1024x1024 .f32) shapeCasts_S1x1024x1024_S1024x1024) bitsLt_bf16_f32 := by
  show StableHlo.after hostOps1 (W2 m ρ c) main_v7 = _
  after_results_simp
  rw [W2_args m ρ c main_arg6 (by decide)]
  rfl
theorem v9_eq : (V3 m ρ c main_v9 : FVec Ideal S1x1024 .f32) = broadcastInDim S1x1024 ![1] bcast_S1024_S1x1024_1 (shapeCast S1024 (m ((c : Thread nD τ).loc main_arg7) : FVec Ideal S1x1024 .f32) shapeCasts_S1x1024_S1024) := by
  show StableHlo.after hostOps1 (W2 m ρ c) main_v9 = _
  after_results_simp
  rw [W2_args m ρ c main_arg7 (by decide)]
  rfl
theorem v11_eq : (V3 m ρ c main_v11 : FVec Ideal S1024x1024 .bf16) = truncf (F := Ideal) .bf16 (shapeCast S1024x1024 (m ((c : Thread nD τ).loc main_arg8) : FVec Ideal S1x1024x1024 .f32) shapeCasts_S1x1024x1024_S1024x1024) bitsLt_bf16_f32 := by
  show StableHlo.after hostOps1 (W2 m ρ c) main_v11 = _
  after_results_simp
  rw [W2_args m ρ c main_arg8 (by decide)]
  rfl
theorem v13_eq : (V3 m ρ c main_v13 : FVec Ideal S1x1024 .f32) = broadcastInDim S1x1024 ![1] bcast_S1024_S1x1024_1 (shapeCast S1024 (m ((c : Thread nD τ).loc main_arg9) : FVec Ideal S1x1024 .f32) shapeCasts_S1x1024_S1024) := by
  show StableHlo.after hostOps1 (W2 m ρ c) main_v13 = _
  after_results_simp
  rw [W2_args m ρ c main_arg9 (by decide)]
  rfl
theorem v15_eq : (V3 m ρ c main_v15 : FVec Ideal S256x1024 .bf16) = truncf (F := Ideal) .bf16 (shapeCast S256x1024 (m ((c : Thread nD τ).loc main_arg10) : FVec Ideal S1x256x1024 .f32) shapeCasts_S1x256x1024_S256x1024) bitsLt_bf16_f32 := by
  show StableHlo.after hostOps1 (W2 m ρ c) main_v15 = _
  after_results_simp
  rw [W2_args m ρ c main_arg10 (by decide)]
  rfl
theorem v16_eq : (V3 m ρ c main_v16 : FVec Ideal S1x1024 .f32) = broadcastInDim S1x1024 ![1] bcast_S1024_S1x1024_1 (m ((c : Thread nD τ).loc main_arg11) : FVec Ideal S1024 .f32) := by
  show StableHlo.after hostOps1 (W2 m ρ c) main_v16 = _
  after_results_simp
  rw [W2_args m ρ c main_arg11 (by decide)]

/-- The last call's result, of the arguments as they come: every operand read at an index. -/
theorem outArr_args (x : FVec Ideal S32x2048x1024 .f32) (e : FVec Ideal S1x32x2048x256 .f32) (a s v : FVec Ideal S65536x512 .bf16)
    (na : FVec Ideal S1x512 .f32) (w : FVec Ideal S1x1024x1024 .f32) (np : FVec Ideal S1x1024 .f32) (wg : FVec Ideal S1x1024x1024 .f32)
    (b : FVec Ideal S1x1024 .f32) (wp : FVec Ideal S1x256x1024 .f32) (nf : FVec Ideal S1024 .f32)
    (p : Fin 32) (q : Fin 2048) (j : Fin 1024) :
    outArr (shapeCast S65536x1024 x shapeCasts_S32x2048x1024_S65536x1024)
        (shapeCast S65536x256 (shapeCast S32x2048x256 e shapeCasts_S1x32x2048x256_S32x2048x256) shapeCasts_S32x2048x256_S65536x256)
        (pairs a) s v (broadcastInDim S1x512 ![1] bcast_S512_S1x512_1 (shapeCast S512 na shapeCasts_S1x512_S512))
        (truncf (F := Ideal) .bf16 (shapeCast S1024x1024 w shapeCasts_S1x1024x1024_S1024x1024) bitsLt_bf16_f32)
        (broadcastInDim S1x1024 ![1] bcast_S1024_S1x1024_1 (shapeCast S1024 np shapeCasts_S1x1024_S1024))
        (truncf (F := Ideal) .bf16 (shapeCast S1024x1024 wg shapeCasts_S1x1024x1024_S1024x1024) bitsLt_bf16_f32)
        (broadcastInDim S1x1024 ![1] bcast_S1024_S1x1024_1 (shapeCast S1024 b shapeCasts_S1x1024_S1024))
        (truncf (F := Ideal) .bf16 (shapeCast S256x1024 wp shapeCasts_S1x256x1024_S256x1024) bitsLt_bf16_f32)
        (broadcastInDim S1x1024 ![1] bcast_S1024_S1x1024_1 nf) (⟨p.val * 2048 + q.val, by omega⟩ : Fin 65536) j =
      outRow (fun k => x (ix3 p q k)) (fun k => e (ix4 (0 : Fin 1) p q k))
        (fun k => a (ix2 (⟨p.val * 2048 + q.val, by omega⟩ : Fin 65536) k))
        (fun k => s (ix2 (⟨p.val * 2048 + q.val, by omega⟩ : Fin 65536) k))
        (fun k => v (ix2 (⟨p.val * 2048 + q.val, by omega⟩ : Fin 65536) k))
        (fun k => na (ix2 (0 : Fin 1) k)) (fun k i => w (ix3 (0 : Fin 1) k i)) (fun k => np (ix2 (0 : Fin 1) k))
        (fun k i => wg (ix3 (0 : Fin 1) k i)) (fun k => b (ix2 (0 : Fin 1) k)) (fun k i => wp (ix3 (0 : Fin 1) k i))
        (fun k => nf (ix1 k)) j := by
  have ha (k : Fin 512) :
      pairs a (ix3 (⟨(p.val * 2048 + q.val) / 2, by omega⟩ : Fin 32768) (⟨(p.val * 2048 + q.val) % 2, by omega⟩ : Fin 2) k) =
        a (ix2 (⟨p.val * 2048 + q.val, by omega⟩ : Fin 65536) k) := by
    unfold pairs
    exact congrArg (fun i => a (ix2 i k)) (Fin.ext (Nat.div_add_mod (p.val * 2048 + q.val) 2))
  have hx (k : Fin 1024) : shapeCast S65536x1024 x shapeCasts_S32x2048x1024_S65536x1024
      (ix2 (⟨p.val * 2048 + q.val, by omega⟩ : Fin 65536) k) = x (ix3 p q k) := by pointwise
  have he (k : Fin 256) : shapeCast S65536x256 (shapeCast S32x2048x256 e shapeCasts_S1x32x2048x256_S32x2048x256)
      shapeCasts_S32x2048x256_S65536x256 (ix2 (⟨p.val * 2048 + q.val, by omega⟩ : Fin 65536) k) = e (ix4 (0 : Fin 1) p q k) := by
    pointwise
  have h5 (g : FVec Ideal S1x512 .f32) (k : Fin 512) : broadcastInDim S1x512 ![1] bcast_S512_S1x512_1
      (shapeCast S512 g shapeCasts_S1x512_S512) (ix2 (0 : Fin 1) k) = g (ix2 (0 : Fin 1) k) := by pointwise
  have h1 (g : FVec Ideal S1x1024 .f32) (k : Fin 1024) : broadcastInDim S1x1024 ![1] bcast_S1024_S1x1024_1
      (shapeCast S1024 g shapeCasts_S1x1024_S1024) (ix2 (0 : Fin 1) k) = g (ix2 (0 : Fin 1) k) := by pointwise
  have h0 (g : FVec Ideal S1024 .f32) (k : Fin 1024) : broadcastInDim S1x1024 ![1] bcast_S1024_S1x1024_1 g (ix2 (0 : Fin 1) k) =
      g (ix1 k) := by pointwise
  have hw (g : FVec Ideal S1x1024x1024 .f32) (k i : Fin 1024) : truncf (F := Ideal) .bf16
      (shapeCast S1024x1024 g shapeCasts_S1x1024x1024_S1024x1024) bitsLt_bf16_f32 (ix2 k i) = g (ix3 (0 : Fin 1) k i) := by pointwise
  have hp (k : Fin 256) (i : Fin 1024) : truncf (F := Ideal) .bf16
      (shapeCast S256x1024 wp shapeCasts_S1x256x1024_S256x1024) bitsLt_bf16_f32 (ix2 k i) = wp (ix3 (0 : Fin 1) k i) := by pointwise
  unfold outArr
  simp only [ha, hx, he, h5, h1, h0, hw, hp]

/-- The result of the last part at an index, as a row of the arguments' rows. -/
theorem value (p : Fin 32) (q : Fin 2048) (j : Fin 1024) :
    (W5 m ρ c (Proc.devRef .tc main_v18) : FVec Ideal S32x2048x1024 .f32) (ix3 p q j) =
      outRow (fun k => (m ((c : Thread nD τ).loc main_arg0) : FVec Ideal S32x2048x1024 .f32) (ix3 p q k))
        (fun k => (m ((c : Thread nD τ).loc main_arg1) : FVec Ideal S1x32x2048x256 .f32) (ix4 (0 : Fin 1) p q k))
        (fun k => (m ((c : Thread nD τ).loc main_arg2) : FVec Ideal S65536x512 .bf16) (ix2 (⟨p.val * 2048 + q.val, by omega⟩ : Fin 65536) k))
        (fun k => (m ((c : Thread nD τ).loc main_arg3) : FVec Ideal S65536x512 .bf16) (ix2 (⟨p.val * 2048 + q.val, by omega⟩ : Fin 65536) k))
        (fun k => (m ((c : Thread nD τ).loc main_arg4) : FVec Ideal S65536x512 .bf16) (ix2 (⟨p.val * 2048 + q.val, by omega⟩ : Fin 65536) k))
        (fun k => (m ((c : Thread nD τ).loc main_arg5) : FVec Ideal S1x512 .f32) (ix2 (0 : Fin 1) k))
        (fun k i => (m ((c : Thread nD τ).loc main_arg6) : FVec Ideal S1x1024x1024 .f32) (ix3 (0 : Fin 1) k i))
        (fun k => (m ((c : Thread nD τ).loc main_arg7) : FVec Ideal S1x1024 .f32) (ix2 (0 : Fin 1) k))
        (fun k i => (m ((c : Thread nD τ).loc main_arg8) : FVec Ideal S1x1024x1024 .f32) (ix3 (0 : Fin 1) k i))
        (fun k => (m ((c : Thread nD τ).loc main_arg9) : FVec Ideal S1x1024 .f32) (ix2 (0 : Fin 1) k))
        (fun k i => (m ((c : Thread nD τ).loc main_arg10) : FVec Ideal S1x256x1024 .f32) (ix3 (0 : Fin 1) k i))
        (fun k => (m ((c : Thread nD τ).loc main_arg11) : FVec Ideal S1024 .f32) (ix1 k)) j := by
  have e : (W5 m ρ c (Proc.devRef .tc main_v18) : FVec Ideal S32x2048x1024 .f32) =
      shapeCast S32x2048x1024 (outOf c (V3 m ρ)) shapeCasts_S65536x1024_S32x2048x1024 := by
    show StableHlo.after hostOps2 (W4 m ρ c) main_v18 = _
    after_results_simp
    exact congrArg (fun z : FVec Ideal S65536x1024 .f32 => shapeCast S32x2048x1024 z shapeCasts_S65536x1024_S32x2048x1024)
      ((W4_arr m ρ c 12).trans (result m ρ c))
  have r : shapeCast S32x2048x1024 (outOf c (V3 m ρ)) shapeCasts_S65536x1024_S32x2048x1024 (ix3 p q j) =
      outOf c (V3 m ρ) (ix2 (⟨p.val * 2048 + q.val, by omega⟩ : Fin 65536) j) := by
    generalize outOf c (V3 m ρ) = z
    pointwise
  rw [e, r]
  show outArr (V3 m ρ c main_v0) (V3 m ρ c main_v2) (V3 m ρ c main_v3) (V3 m ρ c main_arg3) (V3 m ρ c main_arg4) (V3 m ρ c main_v5)
    (V3 m ρ c main_v7) (V3 m ρ c main_v9) (V3 m ρ c main_v11) (V3 m ρ c main_v13) (V3 m ρ c main_v15) (V3 m ρ c main_v16) _ _ = _
  rw [v0_eq, v2_eq, v3_eq, arg3_eq, arg4_eq, v5_eq, v7_eq, v9_eq, v11_eq, v13_eq, v15_eq, v16_eq]
  exact outArr_args _ _ _ _ _ _ _ _ _ _ _ _ p q j

end Cert.Proof.Tail
-- ==== Proof.TailRef.lean ====
/- The reference of the last part, in the same rows (hand-written): its text in three stages, each read at an index. -/
module

public import proofs.«01_k».proof.Proof.TailStages
public import proofs.«01_k».proof.Proof.Gen.TailRefIdeal.Run

@[expose] public section

set_option maxRecDepth 16384

noncomputable section

open Idealize.ShloMosaic Idealize.SL.Sem

namespace Cert.Proof.Tail

open Cert.TailRefIdeal Cert.TailRefIdeal.Gen Cert.TailRefIdeal.Value Idealize.ShloMosaic.TcCoe

/-- The root-mean-square factor of the rows of 1024, as the reference computes it. -/
def refScale (z : FVec Ideal S32x2048x1024 .f32) : FVec Ideal S32x2048x1 .f32 :=
  Host.rsqrt (addf (Host.divf (broadcastInDim S32x2048x1 ![0, 1] bcast_S32x2048_S32x2048x1_0_1
      (Host.reduceAdd (mulf z z) (constant S_ .f32 0x00000000#32) reducesTo_S32x2048x1024_S32x2048_d2 h_S_))
    (broadcastInDim S32x2048x1 ![] bcast_S_S32x2048x1 (constant S_ .f32 0x44800000#32)))
    (broadcastInDim S32x2048x1 ![] bcast_S_S32x2048x1 (constant S_ .f32 0x358637BD#32)))

/-- The rows times their factor, times the norm's weight. -/
def refNorm (z : FVec Ideal S32x2048x1024 .f32) (g : FVec Ideal S1024 .f32) : FVec Ideal S32x2048x1024 .f32 :=
  mulf (mulf z (broadcastInDim S32x2048x1024 ![0, 1, 2] bcast_S32x2048x1_S32x2048x1024_0_1_2 (refScale z)))
    (broadcastInDim S32x2048x1024 ![0, 1, 2] bcast_S1x1x1024_S32x2048x1024_0_1_2
      (broadcastInDim S1x1x1024 ![2] bcast_S1024_S1x1x1024_2 g))

/-- The merged branches. -/
def refMerged (a s v : FVec Ideal S32x2048x512 .f32) (na : FVec Ideal S512 .f32) : FVec Ideal S32x2048x1024 .f32 :=
  concatenate S32x2048x1024 2
    [⟨S32x2048x512, mulf (mulf (mulf a (broadcastInDim S32x2048x512 ![0, 1, 2] bcast_S32x2048x1_S32x2048x512_0_1_2
        (Host.rsqrt (addf (Host.divf (broadcastInDim S32x2048x1 ![0, 1] bcast_S32x2048_S32x2048x1_0_1
            (Host.reduceAdd (mulf a a) (constant S_ .f32 0x00000000#32) reducesTo_S32x2048x512_S32x2048_d2 h_S_))
          (broadcastInDim S32x2048x1 ![] bcast_S_S32x2048x1 (constant S_ .f32 0x44000000#32)))
          (broadcastInDim S32x2048x1 ![] bcast_S_S32x2048x1 (constant S_ .f32 0x358637BD#32))))))
        (broadcastInDim S32x2048x512 ![0, 1, 2] bcast_S1x1x512_S32x2048x512_0_1_2
          (broadcastInDim S1x1x512 ![2] bcast_S512_S1x1x512_2 na))) s⟩,
     ⟨S32x2048x512, v⟩] concatenates_S32x2048x512_S32x2048x512_S32x2048x1024_d2

/-- The residual after the output projection. -/
def refSum (x g : FVec Ideal S32x2048x1024 .f32) (w : FVec Ideal S1024x1024 .f32) : FVec Ideal S32x2048x1024 .f32 :=
  addf x (Host.dotGeneral dot_S32x2048x1024_S1024x1024_S32x2048x1024_2_0_01_1_n_n none g w)

/-- The residual after the gated projection. -/
def refGated (z : FVec Ideal S32x2048x1024 .f32) (np : FVec Ideal S1024 .f32) (wg : FVec Ideal S1024x1024 .f32) (b : FVec Ideal S1024 .f32)
    (p : FVec Ideal S32x2048x256 .f32) (wp : FVec Ideal S256x1024 .f32) : FVec Ideal S32x2048x1024 .f32 :=
  addf z (mulf (Host.dotGeneral dot_S32x2048x256_S256x1024_S32x2048x1024_2_0_01_1_n_n none p wp)
    (Host.divf (broadcastInDim S32x2048x1024 ![] bcast_S_S32x2048x1024 (constant S_ .f32 0x3F800000#32))
      (addf (broadcastInDim S32x2048x1024 ![] bcast_S_S32x2048x1024 (constant S_ .f32 0x3F800000#32))
        (Host.exp (Host.negf (addf (Host.dotGeneral dot_S32x2048x1024_S1024x1024_S32x2048x1024_2_0_01_1_n_n none (refNorm z np) wg)
          (broadcastInDim S32x2048x1024 ![0, 1, 2] bcast_S1x1x1024_S32x2048x1024_0_1_2
            (broadcastInDim S1x1x1024 ![2] bcast_S1024_S1x1x1024_2 b))))))))

theorem refMerged_at (a s v : FVec Ideal S32x2048x512 .f32) (na : FVec Ideal S512 .f32) (p : Fin 32) (q : Fin 2048) (j : Fin 1024) :
    refMerged a s v na (ix3 p q j) =
      mergedRow (fun k => a (ix3 p q k)) (fun k => s (ix3 p q k)) (fun k => v (ix3 p q k)) (fun k => na (ix1 k)) j := by
  pointwise [refMerged, mergedRow, scaleOf]

theorem refSum_at (x g : FVec Ideal S32x2048x1024 .f32) (w : FVec Ideal S1024x1024 .f32) (p : Fin 32) (q : Fin 2048) (j : Fin 1024) :
    refSum x g w (ix3 p q j) = sumRow (fun k => x (ix3 p q k)) (fun k => g (ix3 p q k)) (fun k i => w (ix2 k i)) j := by
  pointwise [refSum, sumRow]

theorem refNorm_at (z : FVec Ideal S32x2048x1024 .f32) (g : FVec Ideal S1024 .f32) (p : Fin 32) (q : Fin 2048) (j : Fin 1024) :
    refNorm z g (ix3 p q j) = lastRow (fun k => z (ix3 p q k)) (fun k => g (ix1 k)) j := by
  pointwise [refNorm, refScale, lastRow, scaleOf]

theorem refGated_at (z : FVec Ideal S32x2048x1024 .f32) (np : FVec Ideal S1024 .f32) (wg : FVec Ideal S1024x1024 .f32)
    (b : FVec Ideal S1024 .f32) (x : FVec Ideal S32x2048x256 .f32) (wp : FVec Ideal S256x1024 .f32) (p : Fin 32) (q : Fin 2048)
    (j : Fin 1024) :
    refGated z np wg b x wp (ix3 p q j) =
      gatedRow (fun k => z (ix3 p q k)) (fun k => np (ix1 k)) (fun k => b (ix1 k)) (fun k i => wg (ix2 k i)) (fun k => x (ix3 p q k))
        (fun k i => wp (ix2 k i)) j := by
  pointwise [refGated, gatedRow, Ideal.ofBits_one_f32, Ideal.logistic]
  simp only [refNorm_at, lastRow]

/-- The reference's result is its stages composed. -/
theorem res_eq (m : (ℓ : Loc nD τ sig) → Buf (Elt Ideal) ℓ) (c : Dev nD) :
    res_main_v68 m c =
      refNorm (refGated (refSum (m ((c.tc : Thread nD τ).loc main_arg0))
          (refMerged (shapeCast _ (extf .f32 (m ((c.tc : Thread nD τ).loc main_arg2)) bitsLt_bf16_f32) shapeCasts_S65536x512_S32x2048x512)
            (shapeCast _ (extf .f32 (m ((c.tc : Thread nD τ).loc main_arg3)) bitsLt_bf16_f32) shapeCasts_S65536x512_S32x2048x512)
            (shapeCast _ (extf .f32 (m ((c.tc : Thread nD τ).loc main_arg4)) bitsLt_bf16_f32) shapeCasts_S65536x512_S32x2048x512)
            (shapeCast _ (m ((c.tc : Thread nD τ).loc main_arg5)) shapeCasts_S1x512_S512))
          (shapeCast _ (m ((c.tc : Thread nD τ).loc main_arg6)) shapeCasts_S1x1024x1024_S1024x1024))
        (shapeCast _ (m ((c.tc : Thread nD τ).loc main_arg7)) shapeCasts_S1x1024_S1024)
        (shapeCast _ (m ((c.tc : Thread nD τ).loc main_arg8)) shapeCasts_S1x1024x1024_S1024x1024)
        (shapeCast _ (m ((c.tc : Thread nD τ).loc main_arg9)) shapeCasts_S1x1024_S1024)
        (shapeCast _ (m ((c.tc : Thread nD τ).loc main_arg1)) shapeCasts_S1x32x2048x256_S32x2048x256)
        (shapeCast _ (m ((c.tc : Thread nD τ).loc main_arg10)) shapeCasts_S1x256x1024_S256x1024))
      (m ((c.tc : Thread nD τ).loc main_arg11)) := rfl

/-- The stages composed, at an index. -/
theorem refOut_at (x : FVec Ideal S32x2048x1024 .f32) (a s v : FVec Ideal S32x2048x512 .f32) (na : FVec Ideal S512 .f32)
    (w : FVec Ideal S1024x1024 .f32) (np : FVec Ideal S1024 .f32) (wg : FVec Ideal S1024x1024 .f32) (b : FVec Ideal S1024 .f32)
    (e : FVec Ideal S32x2048x256 .f32) (wp : FVec Ideal S256x1024 .f32) (nf : FVec Ideal S1024 .f32)
    (p : Fin 32) (q : Fin 2048) (j : Fin 1024) :
    refNorm (refGated (refSum x (refMerged a s v na) w) np wg b e wp) nf (ix3 p q j) =
      outRow (fun k => x (ix3 p q k)) (fun k => e (ix3 p q k)) (fun k => a (ix3 p q k)) (fun k => s (ix3 p q k))
        (fun k => v (ix3 p q k)) (fun k => na (ix1 k)) (fun k i => w (ix2 k i)) (fun k => np (ix1 k)) (fun k i => wg (ix2 k i))
        (fun k => b (ix1 k)) (fun k i => wp (ix2 k i)) (fun k => nf (ix1 k)) j := by
  rw [refNorm_at]
  simp only [refGated_at, refSum_at, refMerged_at]
  rfl

/-- A row of the reference's attention, gate or convolution, of the argument's row. -/
theorem branch_at (x : FVec Ideal S65536x512 .bf16) (p : Fin 32) (q : Fin 2048) (k : Fin 512) :
    shapeCast S32x2048x512 (extf .f32 x bitsLt_bf16_f32) shapeCasts_S65536x512_S32x2048x512 (ix3 p q k) =
      x (ix2 (⟨p.val * 2048 + q.val, by omega⟩ : Fin 65536) k) := by pointwise
theorem vec512_at (x : FVec Ideal S1x512 .f32) (k : Fin 512) :
    shapeCast S512 x shapeCasts_S1x512_S512 (ix1 k) = x (ix2 (0 : Fin 1) k) := by pointwise
theorem vec1024_at (x : FVec Ideal S1x1024 .f32) (k : Fin 1024) :
    shapeCast S1024 x shapeCasts_S1x1024_S1024 (ix1 k) = x (ix2 (0 : Fin 1) k) := by pointwise
theorem mat1024_at (x : FVec Ideal S1x1024x1024 .f32) (k i : Fin 1024) :
    shapeCast S1024x1024 x shapeCasts_S1x1024x1024_S1024x1024 (ix2 k i) = x (ix3 (0 : Fin 1) k i) := by pointwise
theorem mat256_at (x : FVec Ideal S1x256x1024 .f32) (k : Fin 256) (i : Fin 1024) :
    shapeCast S256x1024 x shapeCasts_S1x256x1024_S256x1024 (ix2 k i) = x (ix3 (0 : Fin 1) k i) := by pointwise
theorem side_at (x : FVec Ideal S1x32x2048x256 .f32) (p : Fin 32) (q : Fin 2048) (k : Fin 256) :
    shapeCast S32x2048x256 x shapeCasts_S1x32x2048x256_S32x2048x256 (ix3 p q k) = x (ix4 (0 : Fin 1) p q k) := by pointwise

/-- The reference's composed stages of the arguments as they come, at an index: a row of the arguments' rows. -/
theorem refArgs_at (x : FVec Ideal S32x2048x1024 .f32) (e : FVec Ideal S1x32x2048x256 .f32) (a s v : FVec Ideal S65536x512 .bf16)
    (na : FVec Ideal S1x512 .f32) (w : FVec Ideal S1x1024x1024 .f32) (np : FVec Ideal S1x1024 .f32) (wg : FVec Ideal S1x1024x1024 .f32)
    (b : FVec Ideal S1x1024 .f32) (wp : FVec Ideal S1x256x1024 .f32) (nf : FVec Ideal S1024 .f32)
    (p : Fin 32) (q : Fin 2048) (j : Fin 1024) :
    refNorm (refGated (refSum x
          (refMerged (shapeCast _ (extf .f32 a bitsLt_bf16_f32) shapeCasts_S65536x512_S32x2048x512)
            (shapeCast _ (extf .f32 s bitsLt_bf16_f32) shapeCasts_S65536x512_S32x2048x512)
            (shapeCast _ (extf .f32 v bitsLt_bf16_f32) shapeCasts_S65536x512_S32x2048x512)
            (shapeCast _ na shapeCasts_S1x512_S512))
          (shapeCast _ w shapeCasts_S1x1024x1024_S1024x1024))
        (shapeCast _ np shapeCasts_S1x1024_S1024) (shapeCast _ wg shapeCasts_S1x1024x1024_S1024x1024)
        (shapeCast _ b shapeCasts_S1x1024_S1024) (shapeCast _ e shapeCasts_S1x32x2048x256_S32x2048x256)
        (shapeCast _ wp shapeCasts_S1x256x1024_S256x1024)) nf (ix3 p q j) =
      outRow (fun k => x (ix3 p q k)) (fun k => e (ix4 (0 : Fin 1) p q k))
        (fun k => a (ix2 (⟨p.val * 2048 + q.val, by omega⟩ : Fin 65536) k))
        (fun k => s (ix2 (⟨p.val * 2048 + q.val, by omega⟩ : Fin 65536) k))
        (fun k => v (ix2 (⟨p.val * 2048 + q.val, by omega⟩ : Fin 65536) k))
        (fun k => na (ix2 (0 : Fin 1) k)) (fun k i => w (ix3 (0 : Fin 1) k i)) (fun k => np (ix2 (0 : Fin 1) k))
        (fun k i => wg (ix3 (0 : Fin 1) k i)) (fun k => b (ix2 (0 : Fin 1) k)) (fun k i => wp (ix3 (0 : Fin 1) k i))
        (fun k => nf (ix1 k)) j := by
  rw [refOut_at]
  simp only [branch_at, vec512_at, vec1024_at, mat1024_at, mat256_at, side_at]

/-- The reference's result at an index, as a row of the arguments' rows. -/
theorem res_at (m : (ℓ : Loc nD τ sig) → Buf (Elt Ideal) ℓ) (c : Dev nD) (p : Fin 32) (q : Fin 2048) (j : Fin 1024) :
    res_main_v68 m c (ix3 p q j) =
      outRow (fun k => m ((c.tc : Thread nD τ).loc main_arg0) (ix3 p q k))
        (fun k => m ((c.tc : Thread nD τ).loc main_arg1) (ix4 (0 : Fin 1) p q k))
        (fun k => m ((c.tc : Thread nD τ).loc main_arg2) (ix2 (⟨p.val * 2048 + q.val, by omega⟩ : Fin 65536) k))
        (fun k => m ((c.tc : Thread nD τ).loc main_arg3) (ix2 (⟨p.val * 2048 + q.val, by omega⟩ : Fin 65536) k))
        (fun k => m ((c.tc : Thread nD τ).loc main_arg4) (ix2 (⟨p.val * 2048 + q.val, by omega⟩ : Fin 65536) k))
        (fun k => m ((c.tc : Thread nD τ).loc main_arg5) (ix2 (0 : Fin 1) k))
        (fun k i => m ((c.tc : Thread nD τ).loc main_arg6) (ix3 (0 : Fin 1) k i))
        (fun k => m ((c.tc : Thread nD τ).loc main_arg7) (ix2 (0 : Fin 1) k))
        (fun k i => m ((c.tc : Thread nD τ).loc main_arg8) (ix3 (0 : Fin 1) k i))
        (fun k => m ((c.tc : Thread nD τ).loc main_arg9) (ix2 (0 : Fin 1) k))
        (fun k i => m ((c.tc : Thread nD τ).loc main_arg10) (ix3 (0 : Fin 1) k i))
        (fun k => m ((c.tc : Thread nD τ).loc main_arg11) (ix1 k)) j := by
  rw [res_eq]
  exact refArgs_at _ _ _ _ _ _ _ _ _ _ _ _ p q j

end Cert.Proof.Tail
-- ==== Proof.TailClaim.lean ====
/- The value claim of the last part (hand-written): both runs end with the same rows. -/
module

public import proofs.«01_k».proof.Defs
public import proofs.«01_k».proof.Proof.TailRun
public import proofs.«01_k».proof.Proof.TailValue
public import proofs.«01_k».proof.Proof.TailRef
public import Idealize.ShloMosaic.Lib.Claim

@[expose] public section

set_option maxRecDepth 16384

noncomputable section

open Idealize.ShloMosaic Idealize.ShloMosaic.TcCoe Idealize.SL.Sem

namespace Cert.Proof.Tail

/-- The last part and its reference return the same array from the same arguments. -/
theorem algebraic : Cert.algebraic_TailIdeal_TailRefIdeal := by
  pair_intro
  · run_from run m g
  · run_from Cert.TailRefIdeal.Value.run m' g'
    funext j
    idx_vars j
    refine (res_at m' c j0 j1 j2).trans (Eq.trans ?_ (value m g c j0 j1 j2).symm)
    obtain ⟨a0, a1, a2, a3, a4, a5, a6, a7, a8, a9, a10, a11⟩ := hagree c
    rw [a0, a1, a2, a3, a4, a5, a6, a7, a8, a9, a10, a11]

end Cert.Proof.Tail
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailRefIdeal
public import Idealize.ShloMosaic.Lib.Bf16PairInverse
public import Idealize.ShloMosaic.Lib.Quiescent
public import proofs.«01_k».proof.Proof.Run
public import proofs.«01_k».proof.Proof.ProjClaim
public import proofs.«01_k».proof.Proof.TailClaim
public import proofs.«01_k».proof.Proof.Gen.ProjRefIdeal.Run
public import proofs.«01_k».proof.Proof.Gen.TailRefIdeal.Run
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.Proj.Gen.facts, Cert.ProjIdeal.Gen.facts, Cert.ProjRefIdeal.Gen.facts, Cert.Tail.Gen.facts,
    Cert.TailIdeal.Gen.facts, Cert.TailRefIdeal.Gen.facts,
    fun m ρ _ => Cert.Proof.Kernel.frame m ρ,
    fun m ρ _ => Cert.Proj.Gen.frame m ρ,
    fun m ρ _ => Cert.ProjIdeal.Gen.frame m ρ,
    fun m ρ _ => (Idealize.ShloMosaic.θ_run Cert.ProjRefIdeal.defs _ _).mono (fun r h => ⟨fun c => (h c).2.2.2.2.2,
        Idealize.ShloMosaic.sem_eq_zero_of_no_sems (by decide) r.2⟩) (Cert.ProjRefIdeal.Value.run (F := Idealize.ShloMosaic.Ideal) m ρ),
    fun m ρ _ => Cert.Tail.Gen.frame m ρ,
    fun m ρ _ => Cert.TailIdeal.Gen.frame m ρ,
    fun m ρ _ => (Idealize.ShloMosaic.θ_run Cert.TailRefIdeal.defs _ _).mono (fun r h => ⟨fun c => (h c).2,
        Idealize.ShloMosaic.sem_eq_zero_of_no_sems (by decide) r.2⟩) (Cert.TailRefIdeal.Value.run (F := Idealize.ShloMosaic.Ideal) m ρ),
    ⟨Idealize.ShloMosaic.IdealRules.bf16_pair.bufferStatement _ _, Idealize.ShloMosaic.IdealRules.bf16_pair.bufferStatement _ _,
      Idealize.ShloMosaic.IdealRules.bf16_pair.bufferStatement _ _, Idealize.ShloMosaic.IdealRules.bf16_pair.bufferStatement _ _,
      Idealize.ShloMosaic.IdealRules.bf16_pair.statement _ _, Idealize.ShloMosaic.IdealRules.bf16_pair.statement _ _,
      Idealize.ShloMosaic.IdealRules.bf16_pair.statement _ _, Idealize.ShloMosaic.IdealRules.bf16_pair.statement _ _⟩,
    Cert.Proof.Proj.algebraic,
    ⟨Idealize.ShloMosaic.IdealRules.bf16_pair.bufferStatement _ _, Idealize.ShloMosaic.IdealRules.bf16_pair.bufferStatement _ _,
      Idealize.ShloMosaic.IdealRules.bf16_pair.statement _ _, Idealize.ShloMosaic.IdealRules.bf16_pair.statement _ _⟩,
    Cert.Proof.Tail.algebraic⟩

end Cert.Proof

end
